-- ==== Defs.lean ====
def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Ln (m : (ℓ : Loc Cert.Ln.nD Cert.Ln.τ Cert.Ln.sig) → Buf (Elt Bits) ℓ) : Prop :=
  True

def Pre_LnIdeal (m : (ℓ : Loc Cert.LnIdeal.nD Cert.LnIdeal.τ Cert.LnIdeal.sig) → Buf (Elt Ideal) ℓ) : Prop :=
  True

def Pre_LnIdeal_ln_finite [hPre_ln_finite : Cert.Pre_ln_finite.Facts] (m : (ℓ : Loc Cert.LnIdeal.nD Cert.LnIdeal.τ Cert.LnIdeal.sig) → Buf (Elt Ideal) ℓ) : Prop :=
  ∀ c : Dev Cert.LnIdeal.nD,
    (Cert.Pre_ln_finite.fn (F := Ideal) (m ((c.tc : Thread Cert.LnIdeal.nD Cert.LnIdeal.τ).loc Cert.LnIdeal.main_arg0)) (m ((c.tc : Thread Cert.LnIdeal.nD Cert.LnIdeal.τ).loc Cert.LnIdeal.main_arg1)) (m ((c.tc : Thread Cert.LnIdeal.nD Cert.LnIdeal.τ).loc Cert.LnIdeal.main_arg2)) (m ((c.tc : Thread Cert.LnIdeal.nD Cert.LnIdeal.τ).loc Cert.LnIdeal.main_arg3))).1 = (fun _ => 1#1)
    ∧ (Cert.Pre_ln_finite.fn (F := Ideal) (m ((c.tc : Thread Cert.LnIdeal.nD Cert.LnIdeal.τ).loc Cert.LnIdeal.main_arg0)) (m ((c.tc : Thread Cert.LnIdeal.nD Cert.LnIdeal.τ).loc Cert.LnIdeal.main_arg1)) (m ((c.tc : Thread Cert.LnIdeal.nD Cert.LnIdeal.τ).loc Cert.LnIdeal.main_arg2)) (m ((c.tc : Thread Cert.LnIdeal.nD Cert.LnIdeal.τ).loc Cert.LnIdeal.main_arg3))).2.1 = (fun _ => 1#1)
    ∧ (Cert.Pre_ln_finite.fn (F := Ideal) (m ((c.tc : Thread Cert.LnIdeal.nD Cert.LnIdeal.τ).loc Cert.LnIdeal.main_arg0)) (m ((c.tc : Thread Cert.LnIdeal.nD Cert.LnIdeal.τ).loc Cert.LnIdeal.main_arg1)) (m ((c.tc : Thread Cert.LnIdeal.nD Cert.LnIdeal.τ).loc Cert.LnIdeal.main_arg2)) (m ((c.tc : Thread Cert.LnIdeal.nD Cert.LnIdeal.τ).loc Cert.LnIdeal.main_arg3))).2.2 = (fun _ => 1#1)

def Pre_LnRefIdeal (m : (ℓ : Loc Cert.LnRefIdeal.nD Cert.LnRefIdeal.τ Cert.LnRefIdeal.sig) → Buf (Elt Ideal) ℓ) : Prop :=
  True

def Pre_LnRefIdeal_ln_finite [hPre_ln_finite : Cert.Pre_ln_finite.Facts] (m : (ℓ : Loc Cert.LnRefIdeal.nD Cert.LnRefIdeal.τ Cert.LnRefIdeal.sig) → Buf (Elt Ideal) ℓ) : Prop :=
  ∀ c : Dev Cert.LnRefIdeal.nD,
    (Cert.Pre_ln_finite.fn (F := Ideal) (m ((c.tc : Thread Cert.LnRefIdeal.nD Cert.LnRefIdeal.τ).loc Cert.LnRefIdeal.main_arg0)) (m ((c.tc : Thread Cert.LnRefIdeal.nD Cert.LnRefIdeal.τ).loc Cert.LnRefIdeal.main_arg1)) (m ((c.tc : Thread Cert.LnRefIdeal.nD Cert.LnRefIdeal.τ).loc Cert.LnRefIdeal.main_arg2)) (m ((c.tc : Thread Cert.LnRefIdeal.nD Cert.LnRefIdeal.τ).loc Cert.LnRefIdeal.main_arg3))).1 = (fun _ => 1#1)
    ∧ (Cert.Pre_ln_finite.fn (F := Ideal) (m ((c.tc : Thread Cert.LnRefIdeal.nD Cert.LnRefIdeal.τ).loc Cert.LnRefIdeal.main_arg0)) (m ((c.tc : Thread Cert.LnRefIdeal.nD Cert.LnRefIdeal.τ).loc Cert.LnRefIdeal.main_arg1)) (m ((c.tc : Thread Cert.LnRefIdeal.nD Cert.LnRefIdeal.τ).loc Cert.LnRefIdeal.main_arg2)) (m ((c.tc : Thread Cert.LnRefIdeal.nD Cert.LnRefIdeal.τ).loc Cert.LnRefIdeal.main_arg3))).2.1 = (fun _ => 1#1)
    ∧ (Cert.Pre_ln_finite.fn (F := Ideal) (m ((c.tc : Thread Cert.LnRefIdeal.nD Cert.LnRefIdeal.τ).loc Cert.LnRefIdeal.main_arg0)) (m ((c.tc : Thread Cert.LnRefIdeal.nD Cert.LnRefIdeal.τ).loc Cert.LnRefIdeal.main_arg1)) (m ((c.tc : Thread Cert.LnRefIdeal.nD Cert.LnRefIdeal.τ).loc Cert.LnRefIdeal.main_arg2)) (m ((c.tc : Thread Cert.LnRefIdeal.nD Cert.LnRefIdeal.τ).loc Cert.LnRefIdeal.main_arg3))).2.2 = (fun _ => 1#1)

def Pre_Ln2 (m : (ℓ : Loc Cert.Ln2.nD Cert.Ln2.τ Cert.Ln2.sig) → Buf (Elt Bits) ℓ) : Prop :=
  True

def Pre_Ln2Ideal (m : (ℓ : Loc Cert.Ln2Ideal.nD Cert.Ln2Ideal.τ Cert.Ln2Ideal.sig) → Buf (Elt Ideal) ℓ) : Prop :=
  True

def Pre_Ln2Ideal_ln2_finite [hPre_ln2_finite : Cert.Pre_ln2_finite.Facts] (m : (ℓ : Loc Cert.Ln2Ideal.nD Cert.Ln2Ideal.τ Cert.Ln2Ideal.sig) → Buf (Elt Ideal) ℓ) : Prop :=
  ∀ c : Dev Cert.Ln2Ideal.nD,
    (Cert.Pre_ln2_finite.fn (F := Ideal) (m ((c.tc : Thread Cert.Ln2Ideal.nD Cert.Ln2Ideal.τ).loc Cert.Ln2Ideal.main_arg0)) (m ((c.tc : Thread Cert.Ln2Ideal.nD Cert.Ln2Ideal.τ).loc Cert.Ln2Ideal.main_arg1)) (m ((c.tc : Thread Cert.Ln2Ideal.nD Cert.Ln2Ideal.τ).loc Cert.Ln2Ideal.main_arg2)) (m ((c.tc : Thread Cert.Ln2Ideal.nD Cert.Ln2Ideal.τ).loc Cert.Ln2Ideal.main_arg3)) (m ((c.tc : Thread Cert.Ln2Ideal.nD Cert.Ln2Ideal.τ).loc Cert.Ln2Ideal.main_arg4)) (m ((c.tc : Thread Cert.Ln2Ideal.nD Cert.Ln2Ideal.τ).loc Cert.Ln2Ideal.main_arg5)) (m ((c.tc : Thread Cert.Ln2Ideal.nD Cert.Ln2Ideal.τ).loc Cert.Ln2Ideal.main_arg6))).1 = (fun _ => 1#1)
    ∧ (Cert.Pre_ln2_finite.fn (F := Ideal) (m ((c.tc : Thread Cert.Ln2Ideal.nD Cert.Ln2Ideal.τ).loc Cert.Ln2Ideal.main_arg0)) (m ((c.tc : Thread Cert.Ln2Ideal.nD Cert.Ln2Ideal.τ).loc Cert.Ln2Ideal.main_arg1)) (m ((c.tc : Thread Cert.Ln2Ideal.nD Cert.Ln2Ideal.τ).loc Cert.Ln2Ideal.main_arg2)) (m ((c.tc : Thread Cert.Ln2Ideal.nD Cert.Ln2Ideal.τ).loc Cert.Ln2Ideal.main_arg3)) (m ((c.tc : Thread Cert.Ln2Ideal.nD Cert.Ln2Ideal.τ).loc Cert.Ln2Ideal.main_arg4)) (m ((c.tc : Thread Cert.Ln2Ideal.nD Cert.Ln2Ideal.τ).loc Cert.Ln2Ideal.main_arg5)) (m ((c.tc : Thread Cert.Ln2Ideal.nD Cert.Ln2Ideal.τ).loc Cert.Ln2Ideal.main_arg6))).2.1 = (fun _ => 1#1)
    ∧ (Cert.Pre_ln2_finite.fn (F := Ideal) (m ((c.tc : Thread Cert.Ln2Ideal.nD Cert.Ln2Ideal.τ).loc Cert.Ln2Ideal.main_arg0)) (m ((c.tc : Thread Cert.Ln2Ideal.nD Cert.Ln2Ideal.τ).loc Cert.Ln2Ideal.main_arg1)) (m ((c.tc : Thread Cert.Ln2Ideal.nD Cert.Ln2Ideal.τ).loc Cert.Ln2Ideal.main_arg2)) (m ((c.tc : Thread Cert.Ln2Ideal.nD Cert.Ln2Ideal.τ).loc Cert.Ln2Ideal.main_arg3)) (m ((c.tc : Thread Cert.Ln2Ideal.nD Cert.Ln2Ideal.τ).loc Cert.Ln2Ideal.main_arg4)) (m ((c.tc : Thread Cert.Ln2Ideal.nD Cert.Ln2Ideal.τ).loc Cert.Ln2Ideal.main_arg5)) (m ((c.tc : Thread Cert.Ln2Ideal.nD Cert.Ln2Ideal.τ).loc Cert.Ln2Ideal.main_arg6))).2.2.1 = (fun _ => 1#1)
    ∧ (Cert.Pre_ln2_finite.fn (F := Ideal) (m ((c.tc : Thread Cert.Ln2Ideal.nD Cert.Ln2Ideal.τ).loc Cert.Ln2Ideal.main_arg0)) (m ((c.tc : Thread Cert.Ln2Ideal.nD Cert.Ln2Ideal.τ).loc Cert.Ln2Ideal.main_arg1)) (m ((c.tc : Thread Cert.Ln2Ideal.nD Cert.Ln2Ideal.τ).loc Cert.Ln2Ideal.main_arg2)) (m ((c.tc : Thread Cert.Ln2Ideal.nD Cert.Ln2Ideal.τ).loc Cert.Ln2Ideal.main_arg3)) (m ((c.tc : Thread Cert.Ln2Ideal.nD Cert.Ln2Ideal.τ).loc Cert.Ln2Ideal.main_arg4)) (m ((c.tc : Thread Cert.Ln2Ideal.nD Cert.Ln2Ideal.τ).loc Cert.Ln2Ideal.main_arg5)) (m ((c.tc : Thread Cert.Ln2Ideal.nD Cert.Ln2Ideal.τ).loc Cert.Ln2Ideal.main_arg6))).2.2.2.1 = (fun _ => 1#1)
    ∧ (Cert.Pre_ln2_finite.fn (F := Ideal) (m ((c.tc : Thread Cert.Ln2Ideal.nD Cert.Ln2Ideal.τ).loc Cert.Ln2Ideal.main_arg0)) (m ((c.tc : Thread Cert.Ln2Ideal.nD Cert.Ln2Ideal.τ).loc Cert.Ln2Ideal.main_arg1)) (m ((c.tc : Thread Cert.Ln2Ideal.nD Cert.Ln2Ideal.τ).loc Cert.Ln2Ideal.main_arg2)) (m ((c.tc : Thread Cert.Ln2Ideal.nD Cert.Ln2Ideal.τ).loc Cert.Ln2Ideal.main_arg3)) (m ((c.tc : Thread Cert.Ln2Ideal.nD Cert.Ln2Ideal.τ).loc Cert.Ln2Ideal.main_arg4)) (m ((c.tc : Thread Cert.Ln2Ideal.nD Cert.Ln2Ideal.τ).loc Cert.Ln2Ideal.main_arg5)) (m ((c.tc : Thread Cert.Ln2Ideal.nD Cert.Ln2Ideal.τ).loc Cert.Ln2Ideal.main_arg6))).2.2.2.2.1 = (fun _ => 1#1)
    ∧ (Cert.Pre_ln2_finite.fn (F := Ideal) (m ((c.tc : Thread Cert.Ln2Ideal.nD Cert.Ln2Ideal.τ).loc Cert.Ln2Ideal.main_arg0)) (m ((c.tc : Thread Cert.Ln2Ideal.nD Cert.Ln2Ideal.τ).loc Cert.Ln2Ideal.main_arg1)) (m ((c.tc : Thread Cert.Ln2Ideal.nD Cert.Ln2Ideal.τ).loc Cert.Ln2Ideal.main_arg2)) (m ((c.tc : Thread Cert.Ln2Ideal.nD Cert.Ln2Ideal.τ).loc Cert.Ln2Ideal.main_arg3)) (m ((c.tc : Thread Cert.Ln2Ideal.nD Cert.Ln2Ideal.τ).loc Cert.Ln2Ideal.main_arg4)) (m ((c.tc : Thread Cert.Ln2Ideal.nD Cert.Ln2Ideal.τ).loc Cert.Ln2Ideal.main_arg5)) (m ((c.tc : Thread Cert.Ln2Ideal.nD Cert.Ln2Ideal.τ).loc Cert.Ln2Ideal.main_arg6))).2.2.2.2.2 = (fun _ => 1#1)

def Pre_Ln2RefIdeal (m : (ℓ : Loc Cert.Ln2RefIdeal.nD Cert.Ln2RefIdeal.τ Cert.Ln2RefIdeal.sig) → Buf (Elt Ideal) ℓ) : Prop :=
  True

def Pre_Ln2RefIdeal_ln2_finite [hPre_ln2_finite : Cert.Pre_ln2_finite.Facts] (m : (ℓ : Loc Cert.Ln2RefIdeal.nD Cert.Ln2RefIdeal.τ Cert.Ln2RefIdeal.sig) → Buf (Elt Ideal) ℓ) : Prop :=
  ∀ c : Dev Cert.Ln2RefIdeal.nD,
    (Cert.Pre_ln2_finite.fn (F := Ideal) (m ((c.tc : Thread Cert.Ln2RefIdeal.nD Cert.Ln2RefIdeal.τ).loc Cert.Ln2RefIdeal.main_arg0)) (m ((c.tc : Thread Cert.Ln2RefIdeal.nD Cert.Ln2RefIdeal.τ).loc Cert.Ln2RefIdeal.main_arg1)) (m ((c.tc : Thread Cert.Ln2RefIdeal.nD Cert.Ln2RefIdeal.τ).loc Cert.Ln2RefIdeal.main_arg2)) (m ((c.tc : Thread Cert.Ln2RefIdeal.nD Cert.Ln2RefIdeal.τ).loc Cert.Ln2RefIdeal.main_arg3)) (m ((c.tc : Thread Cert.Ln2RefIdeal.nD Cert.Ln2RefIdeal.τ).loc Cert.Ln2RefIdeal.main_arg4)) (m ((c.tc : Thread Cert.Ln2RefIdeal.nD Cert.Ln2RefIdeal.τ).loc Cert.Ln2RefIdeal.main_arg5)) (m ((c.tc : Thread Cert.Ln2RefIdeal.nD Cert.Ln2RefIdeal.τ).loc Cert.Ln2RefIdeal.main_arg6))).1 = (fun _ => 1#1)
    ∧ (Cert.Pre_ln2_finite.fn (F := Ideal) (m ((c.tc : Thread Cert.Ln2RefIdeal.nD Cert.Ln2RefIdeal.τ).loc Cert.Ln2RefIdeal.main_arg0)) (m ((c.tc : Thread Cert.Ln2RefIdeal.nD Cert.Ln2RefIdeal.τ).loc Cert.Ln2RefIdeal.main_arg1)) (m ((c.tc : Thread Cert.Ln2RefIdeal.nD Cert.Ln2RefIdeal.τ).loc Cert.Ln2RefIdeal.main_arg2)) (m ((c.tc : Thread Cert.Ln2RefIdeal.nD Cert.Ln2RefIdeal.τ).loc Cert.Ln2RefIdeal.main_arg3)) (m ((c.tc : Thread Cert.Ln2RefIdeal.nD Cert.Ln2RefIdeal.τ).loc Cert.Ln2RefIdeal.main_arg4)) (m ((c.tc : Thread Cert.Ln2RefIdeal.nD Cert.Ln2RefIdeal.τ).loc Cert.Ln2RefIdeal.main_arg5)) (m ((c.tc : Thread Cert.Ln2RefIdeal.nD Cert.Ln2RefIdeal.τ).loc Cert.Ln2RefIdeal.main_arg6))).2.1 = (fun _ => 1#1)
    ∧ (Cert.Pre_ln2_finite.fn (F := Ideal) (m ((c.tc : Thread Cert.Ln2RefIdeal.nD Cert.Ln2RefIdeal.τ).loc Cert.Ln2RefIdeal.main_arg0)) (m ((c.tc : Thread Cert.Ln2RefIdeal.nD Cert.Ln2RefIdeal.τ).loc Cert.Ln2RefIdeal.main_arg1)) (m ((c.tc : Thread Cert.Ln2RefIdeal.nD Cert.Ln2RefIdeal.τ).loc Cert.Ln2RefIdeal.main_arg2)) (m ((c.tc : Thread Cert.Ln2RefIdeal.nD Cert.Ln2RefIdeal.τ).loc Cert.Ln2RefIdeal.main_arg3)) (m ((c.tc : Thread Cert.Ln2RefIdeal.nD Cert.Ln2RefIdeal.τ).loc Cert.Ln2RefIdeal.main_arg4)) (m ((c.tc : Thread Cert.Ln2RefIdeal.nD Cert.Ln2RefIdeal.τ).loc Cert.Ln2RefIdeal.main_arg5)) (m ((c.tc : Thread Cert.Ln2RefIdeal.nD Cert.Ln2RefIdeal.τ).loc Cert.Ln2RefIdeal.main_arg6))).2.2.1 = (fun _ => 1#1)
    ∧ (Cert.Pre_ln2_finite.fn (F := Ideal) (m ((c.tc : Thread Cert.Ln2RefIdeal.nD Cert.Ln2RefIdeal.τ).loc Cert.Ln2RefIdeal.main_arg0)) (m ((c.tc : Thread Cert.Ln2RefIdeal.nD Cert.Ln2RefIdeal.τ).loc Cert.Ln2RefIdeal.main_arg1)) (m ((c.tc : Thread Cert.Ln2RefIdeal.nD Cert.Ln2RefIdeal.τ).loc Cert.Ln2RefIdeal.main_arg2)) (m ((c.tc : Thread Cert.Ln2RefIdeal.nD Cert.Ln2RefIdeal.τ).loc Cert.Ln2RefIdeal.main_arg3)) (m ((c.tc : Thread Cert.Ln2RefIdeal.nD Cert.Ln2RefIdeal.τ).loc Cert.Ln2RefIdeal.main_arg4)) (m ((c.tc : Thread Cert.Ln2RefIdeal.nD Cert.Ln2RefIdeal.τ).loc Cert.Ln2RefIdeal.main_arg5)) (m ((c.tc : Thread Cert.Ln2RefIdeal.nD Cert.Ln2RefIdeal.τ).loc Cert.Ln2RefIdeal.main_arg6))).2.2.2.1 = (fun _ => 1#1)
    ∧ (Cert.Pre_ln2_finite.fn (F := Ideal) (m ((c.tc : Thread Cert.Ln2RefIdeal.nD Cert.Ln2RefIdeal.τ).loc Cert.Ln2RefIdeal.main_arg0)) (m ((c.tc : Thread Cert.Ln2RefIdeal.nD Cert.Ln2RefIdeal.τ).loc Cert.Ln2RefIdeal.main_arg1)) (m ((c.tc : Thread Cert.Ln2RefIdeal.nD Cert.Ln2RefIdeal.τ).loc Cert.Ln2RefIdeal.main_arg2)) (m ((c.tc : Thread Cert.Ln2RefIdeal.nD Cert.Ln2RefIdeal.τ).loc Cert.Ln2RefIdeal.main_arg3)) (m ((c.tc : Thread Cert.Ln2RefIdeal.nD Cert.Ln2RefIdeal.τ).loc Cert.Ln2RefIdeal.main_arg4)) (m ((c.tc : Thread Cert.Ln2RefIdeal.nD Cert.Ln2RefIdeal.τ).loc Cert.Ln2RefIdeal.main_arg5)) (m ((c.tc : Thread Cert.Ln2RefIdeal.nD Cert.Ln2RefIdeal.τ).loc Cert.Ln2RefIdeal.main_arg6))).2.2.2.2.1 = (fun _ => 1#1)
    ∧ (Cert.Pre_ln2_finite.fn (F := Ideal) (m ((c.tc : Thread Cert.Ln2RefIdeal.nD Cert.Ln2RefIdeal.τ).loc Cert.Ln2RefIdeal.main_arg0)) (m ((c.tc : Thread Cert.Ln2RefIdeal.nD Cert.Ln2RefIdeal.τ).loc Cert.Ln2RefIdeal.main_arg1)) (m ((c.tc : Thread Cert.Ln2RefIdeal.nD Cert.Ln2RefIdeal.τ).loc Cert.Ln2RefIdeal.main_arg2)) (m ((c.tc : Thread Cert.Ln2RefIdeal.nD Cert.Ln2RefIdeal.τ).loc Cert.Ln2RefIdeal.main_arg3)) (m ((c.tc : Thread Cert.Ln2RefIdeal.nD Cert.Ln2RefIdeal.τ).loc Cert.Ln2RefIdeal.main_arg4)) (m ((c.tc : Thread Cert.Ln2RefIdeal.nD Cert.Ln2RefIdeal.τ).loc Cert.Ln2RefIdeal.main_arg5)) (m ((c.tc : Thread Cert.Ln2RefIdeal.nD Cert.Ln2RefIdeal.τ).loc Cert.Ln2RefIdeal.main_arg6))).2.2.2.2.2 = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Dh1 (m : (ℓ : Loc Cert.Dh1.nD Cert.Dh1.τ Cert.Dh1.sig) → Buf (Elt Bits) ℓ) : Prop :=
  True

def Pre_Dh1Ideal (m : (ℓ : Loc Cert.Dh1Ideal.nD Cert.Dh1Ideal.τ Cert.Dh1Ideal.sig) → Buf (Elt Ideal) ℓ) : Prop :=
  True

def Pre_Dh1Ideal_dh1_finite [hPre_dh1_finite : Cert.Pre_dh1_finite.Facts] (m : (ℓ : Loc Cert.Dh1Ideal.nD Cert.Dh1Ideal.τ Cert.Dh1Ideal.sig) → Buf (Elt Ideal) ℓ) : Prop :=
  ∀ c : Dev Cert.Dh1Ideal.nD,
    (Cert.Pre_dh1_finite.fn (F := Ideal) (m ((c.tc : Thread Cert.Dh1Ideal.nD Cert.Dh1Ideal.τ).loc Cert.Dh1Ideal.main_arg0)) (m ((c.tc : Thread Cert.Dh1Ideal.nD Cert.Dh1Ideal.τ).loc Cert.Dh1Ideal.main_arg1)) (m ((c.tc : Thread Cert.Dh1Ideal.nD Cert.Dh1Ideal.τ).loc Cert.Dh1Ideal.main_arg2)) (m ((c.tc : Thread Cert.Dh1Ideal.nD Cert.Dh1Ideal.τ).loc Cert.Dh1Ideal.main_arg3)) (m ((c.tc : Thread Cert.Dh1Ideal.nD Cert.Dh1Ideal.τ).loc Cert.Dh1Ideal.main_arg4)) (m ((c.tc : Thread Cert.Dh1Ideal.nD Cert.Dh1Ideal.τ).loc Cert.Dh1Ideal.main_arg5)) (m ((c.tc : Thread Cert.Dh1Ideal.nD Cert.Dh1Ideal.τ).loc Cert.Dh1Ideal.main_arg6)) (m ((c.tc : Thread Cert.Dh1Ideal.nD Cert.Dh1Ideal.τ).loc Cert.Dh1Ideal.main_arg7)) (m ((c.tc : Thread Cert.Dh1Ideal.nD Cert.Dh1Ideal.τ).loc Cert.Dh1Ideal.main_arg8)) (m ((c.tc : Thread Cert.Dh1Ideal.nD Cert.Dh1Ideal.τ).loc Cert.Dh1Ideal.main_arg9))).1 = (fun _ => 1#1)
    ∧ (Cert.Pre_dh1_finite.fn (F := Ideal) (m ((c.tc : Thread Cert.Dh1Ideal.nD Cert.Dh1Ideal.τ).loc Cert.Dh1Ideal.main_arg0)) (m ((c.tc : Thread Cert.Dh1Ideal.nD Cert.Dh1Ideal.τ).loc Cert.Dh1Ideal.main_arg1)) (m ((c.tc : Thread Cert.Dh1Ideal.nD Cert.Dh1Ideal.τ).loc Cert.Dh1Ideal.main_arg2)) (m ((c.tc : Thread Cert.Dh1Ideal.nD Cert.Dh1Ideal.τ).loc Cert.Dh1Ideal.main_arg3)) (m ((c.tc : Thread Cert.Dh1Ideal.nD Cert.Dh1Ideal.τ).loc Cert.Dh1Ideal.main_arg4)) (m ((c.tc : Thread Cert.Dh1Ideal.nD Cert.Dh1Ideal.τ).loc Cert.Dh1Ideal.main_arg5)) (m ((c.tc : Thread Cert.Dh1Ideal.nD Cert.Dh1Ideal.τ).loc Cert.Dh1Ideal.main_arg6)) (m ((c.tc : Thread Cert.Dh1Ideal.nD Cert.Dh1Ideal.τ).loc Cert.Dh1Ideal.main_arg7)) (m ((c.tc : Thread Cert.Dh1Ideal.nD Cert.Dh1Ideal.τ).loc Cert.Dh1Ideal.main_arg8)) (m ((c.tc : Thread Cert.Dh1Ideal.nD Cert.Dh1Ideal.τ).loc Cert.Dh1Ideal.main_arg9))).2.1 = (fun _ => 1#1)
    ∧ (Cert.Pre_dh1_finite.fn (F := Ideal) (m ((c.tc : Thread Cert.Dh1Ideal.nD Cert.Dh1Ideal.τ).loc Cert.Dh1Ideal.main_arg0)) (m ((c.tc : Thread Cert.Dh1Ideal.nD Cert.Dh1Ideal.τ).loc Cert.Dh1Ideal.main_arg1)) (m ((c.tc : Thread Cert.Dh1Ideal.nD Cert.Dh1Ideal.τ).loc Cert.Dh1Ideal.main_arg2)) (m ((c.tc : Thread Cert.Dh1Ideal.nD Cert.Dh1Ideal.τ).loc Cert.Dh1Ideal.main_arg3)) (m ((c.tc : Thread Cert.Dh1Ideal.nD Cert.Dh1Ideal.τ).loc Cert.Dh1Ideal.main_arg4)) (m ((c.tc : Thread Cert.Dh1Ideal.nD Cert.Dh1Ideal.τ).loc Cert.Dh1Ideal.main_arg5)) (m ((c.tc : Thread Cert.Dh1Ideal.nD Cert.Dh1Ideal.τ).loc Cert.Dh1Ideal.main_arg6)) (m ((c.tc : Thread Cert.Dh1Ideal.nD Cert.Dh1Ideal.τ).loc Cert.Dh1Ideal.main_arg7)) (m ((c.tc : Thread Cert.Dh1Ideal.nD Cert.Dh1Ideal.τ).loc Cert.Dh1Ideal.main_arg8)) (m ((c.tc : Thread Cert.Dh1Ideal.nD Cert.Dh1Ideal.τ).loc Cert.Dh1Ideal.main_arg9))).2.2.1 = (fun _ => 1#1)
    ∧ (Cert.Pre_dh1_finite.fn (F := Ideal) (m ((c.tc : Thread Cert.Dh1Ideal.nD Cert.Dh1Ideal.τ).loc Cert.Dh1Ideal.main_arg0)) (m ((c.tc : Thread Cert.Dh1Ideal.nD Cert.Dh1Ideal.τ).loc Cert.Dh1Ideal.main_arg1)) (m ((c.tc : Thread Cert.Dh1Ideal.nD Cert.Dh1Ideal.τ).loc Cert.Dh1Ideal.main_arg2)) (m ((c.tc : Thread Cert.Dh1Ideal.nD Cert.Dh1Ideal.τ).loc Cert.Dh1Ideal.main_arg3)) (m ((c.tc : Thread Cert.Dh1Ideal.nD Cert.Dh1Ideal.τ).loc Cert.Dh1Ideal.main_arg4)) (m ((c.tc : Thread Cert.Dh1Ideal.nD Cert.Dh1Ideal.τ).loc Cert.Dh1Ideal.main_arg5)) (m ((c.tc : Thread Cert.Dh1Ideal.nD Cert.Dh1Ideal.τ).loc Cert.Dh1Ideal.main_arg6)) (m ((c.tc : Thread Cert.Dh1Ideal.nD Cert.Dh1Ideal.τ).loc Cert.Dh1Ideal.main_arg7)) (m ((c.tc : Thread Cert.Dh1Ideal.nD Cert.Dh1Ideal.τ).loc Cert.Dh1Ideal.main_arg8)) (m ((c.tc : Thread Cert.Dh1Ideal.nD Cert.Dh1Ideal.τ).loc Cert.Dh1Ideal.main_arg9))).2.2.2.1 = (fun _ => 1#1)
    ∧ (Cert.Pre_dh1_finite.fn (F := Ideal) (m ((c.tc : Thread Cert.Dh1Ideal.nD Cert.Dh1Ideal.τ).loc Cert.Dh1Ideal.main_arg0)) (m ((c.tc : Thread Cert.Dh1Ideal.nD Cert.Dh1Ideal.τ).loc Cert.Dh1Ideal.main_arg1)) (m ((c.tc : Thread Cert.Dh1Ideal.nD Cert.Dh1Ideal.τ).loc Cert.Dh1Ideal.main_arg2)) (m ((c.tc : Thread Cert.Dh1Ideal.nD Cert.Dh1Ideal.τ).loc Cert.Dh1Ideal.main_arg3)) (m ((c.tc : Thread Cert.Dh1Ideal.nD Cert.Dh1Ideal.τ).loc Cert.Dh1Ideal.main_arg4)) (m ((c.tc : Thread Cert.Dh1Ideal.nD Cert.Dh1Ideal.τ).loc Cert.Dh1Ideal.main_arg5)) (m ((c.tc : Thread Cert.Dh1Ideal.nD Cert.Dh1Ideal.τ).loc Cert.Dh1Ideal.main_arg6)) (m ((c.tc : Thread Cert.Dh1Ideal.nD Cert.Dh1Ideal.τ).loc Cert.Dh1Ideal.main_arg7)) (m ((c.tc : Thread Cert.Dh1Ideal.nD Cert.Dh1Ideal.τ).loc Cert.Dh1Ideal.main_arg8)) (m ((c.tc : Thread Cert.Dh1Ideal.nD Cert.Dh1Ideal.τ).loc Cert.Dh1Ideal.main_arg9))).2.2.2.2.1 = (fun _ => 1#1)
    ∧ (Cert.Pre_dh1_finite.fn (F := Ideal) (m ((c.tc : Thread Cert.Dh1Ideal.nD Cert.Dh1Ideal.τ).loc Cert.Dh1Ideal.main_arg0)) (m ((c.tc : Thread Cert.Dh1Ideal.nD Cert.Dh1Ideal.τ).loc Cert.Dh1Ideal.main_arg1)) (m ((c.tc : Thread Cert.Dh1Ideal.nD Cert.Dh1Ideal.τ).loc Cert.Dh1Ideal.main_arg2)) (m ((c.tc : Thread Cert.Dh1Ideal.nD Cert.Dh1Ideal.τ).loc Cert.Dh1Ideal.main_arg3)) (m ((c.tc : Thread Cert.Dh1Ideal.nD Cert.Dh1Ideal.τ).loc Cert.Dh1Ideal.main_arg4)) (m ((c.tc : Thread Cert.Dh1Ideal.nD Cert.Dh1Ideal.τ).loc Cert.Dh1Ideal.main_arg5)) (m ((c.tc : Thread Cert.Dh1Ideal.nD Cert.Dh1Ideal.τ).loc Cert.Dh1Ideal.main_arg6)) (m ((c.tc : Thread Cert.Dh1Ideal.nD Cert.Dh1Ideal.τ).loc Cert.Dh1Ideal.main_arg7)) (m ((c.tc : Thread Cert.Dh1Ideal.nD Cert.Dh1Ideal.τ).loc Cert.Dh1Ideal.main_arg8)) (m ((c.tc : Thread Cert.Dh1Ideal.nD Cert.Dh1Ideal.τ).loc Cert.Dh1Ideal.main_arg9))).2.2.2.2.2.1 = (fun _ => 1#1)
    ∧ (Cert.Pre_dh1_finite.fn (F := Ideal) (m ((c.tc : Thread Cert.Dh1Ideal.nD Cert.Dh1Ideal.τ).loc Cert.Dh1Ideal.main_arg0)) (m ((c.tc : Thread Cert.Dh1Ideal.nD Cert.Dh1Ideal.τ).loc Cert.Dh1Ideal.main_arg1)) (m ((c.tc : Thread Cert.Dh1Ideal.nD Cert.Dh1Ideal.τ).loc Cert.Dh1Ideal.main_arg2)) (m ((c.tc : Thread Cert.Dh1Ideal.nD Cert.Dh1Ideal.τ).loc Cert.Dh1Ideal.main_arg3)) (m ((c.tc : Thread Cert.Dh1Ideal.nD Cert.Dh1Ideal.τ).loc Cert.Dh1Ideal.main_arg4)) (m ((c.tc : Thread Cert.Dh1Ideal.nD Cert.Dh1Ideal.τ).loc Cert.Dh1Ideal.main_arg5)) (m ((c.tc : Thread Cert.Dh1Ideal.nD Cert.Dh1Ideal.τ).loc Cert.Dh1Ideal.main_arg6)) (m ((c.tc : Thread Cert.Dh1Ideal.nD Cert.Dh1Ideal.τ).loc Cert.Dh1Ideal.main_arg7)) (m ((c.tc : Thread Cert.Dh1Ideal.nD Cert.Dh1Ideal.τ).loc Cert.Dh1Ideal.main_arg8)) (m ((c.tc : Thread Cert.Dh1Ideal.nD Cert.Dh1Ideal.τ).loc Cert.Dh1Ideal.main_arg9))).2.2.2.2.2.2.1 = (fun _ => 1#1)
    ∧ (Cert.Pre_dh1_finite.fn (F := Ideal) (m ((c.tc : Thread Cert.Dh1Ideal.nD Cert.Dh1Ideal.τ).loc Cert.Dh1Ideal.main_arg0)) (m ((c.tc : Thread Cert.Dh1Ideal.nD Cert.Dh1Ideal.τ).loc Cert.Dh1Ideal.main_arg1)) (m ((c.tc : Thread Cert.Dh1Ideal.nD Cert.Dh1Ideal.τ).loc Cert.Dh1Ideal.main_arg2)) (m ((c.tc : Thread Cert.Dh1Ideal.nD Cert.Dh1Ideal.τ).loc Cert.Dh1Ideal.main_arg3)) (m ((c.tc : Thread Cert.Dh1Ideal.nD Cert.Dh1Ideal.τ).loc Cert.Dh1Ideal.main_arg4)) (m ((c.tc : Thread Cert.Dh1Ideal.nD Cert.Dh1Ideal.τ).loc Cert.Dh1Ideal.main_arg5)) (m ((c.tc : Thread Cert.Dh1Ideal.nD Cert.Dh1Ideal.τ).loc Cert.Dh1Ideal.main_arg6)) (m ((c.tc : Thread Cert.Dh1Ideal.nD Cert.Dh1Ideal.τ).loc Cert.Dh1Ideal.main_arg7)) (m ((c.tc : Thread Cert.Dh1Ideal.nD Cert.Dh1Ideal.τ).loc Cert.Dh1Ideal.main_arg8)) (m ((c.tc : Thread Cert.Dh1Ideal.nD Cert.Dh1Ideal.τ).loc Cert.Dh1Ideal.main_arg9))).2.2.2.2.2.2.2.1 = (fun _ => 1#1)
    ∧ (Cert.Pre_dh1_finite.fn (F := Ideal) (m ((c.tc : Thread Cert.Dh1Ideal.nD Cert.Dh1Ideal.τ).loc Cert.Dh1Ideal.main_arg0)) (m ((c.tc : Thread Cert.Dh1Ideal.nD Cert.Dh1Ideal.τ).loc Cert.Dh1Ideal.main_arg1)) (m ((c.tc : Thread Cert.Dh1Ideal.nD Cert.Dh1Ideal.τ).loc Cert.Dh1Ideal.main_arg2)) (m ((c.tc : Thread Cert.Dh1Ideal.nD Cert.Dh1Ideal.τ).loc Cert.Dh1Ideal.main_arg3)) (m ((c.tc : Thread Cert.Dh1Ideal.nD Cert.Dh1Ideal.τ).loc Cert.Dh1Ideal.main_arg4)) (m ((c.tc : Thread Cert.Dh1Ideal.nD Cert.Dh1Ideal.τ).loc Cert.Dh1Ideal.main_arg5)) (m ((c.tc : Thread Cert.Dh1Ideal.nD Cert.Dh1Ideal.τ).loc Cert.Dh1Ideal.main_arg6)) (m ((c.tc : Thread Cert.Dh1Ideal.nD Cert.Dh1Ideal.τ).loc Cert.Dh1Ideal.main_arg7)) (m ((c.tc : Thread Cert.Dh1Ideal.nD Cert.Dh1Ideal.τ).loc Cert.Dh1Ideal.main_arg8)) (m ((c.tc : Thread Cert.Dh1Ideal.nD Cert.Dh1Ideal.τ).loc Cert.Dh1Ideal.main_arg9))).2.2.2.2.2.2.2.2 = (fun _ => 1#1)

def Pre_Dh1RefIdeal (m : (ℓ : Loc Cert.Dh1RefIdeal.nD Cert.Dh1RefIdeal.τ Cert.Dh1RefIdeal.sig) → Buf (Elt Ideal) ℓ) : Prop :=
  True

def Pre_Dh1RefIdeal_dh1_finite [hPre_dh1_finite : Cert.Pre_dh1_finite.Facts] (m : (ℓ : Loc Cert.Dh1RefIdeal.nD Cert.Dh1RefIdeal.τ Cert.Dh1RefIdeal.sig) → Buf (Elt Ideal) ℓ) : Prop :=
  ∀ c : Dev Cert.Dh1RefIdeal.nD,
    (Cert.Pre_dh1_finite.fn (F := Ideal) (m ((c.tc : Thread Cert.Dh1RefIdeal.nD Cert.Dh1RefIdeal.τ).loc Cert.Dh1RefIdeal.main_arg0)) (m ((c.tc : Thread Cert.Dh1RefIdeal.nD Cert.Dh1RefIdeal.τ).loc Cert.Dh1RefIdeal.main_arg1)) (m ((c.tc : Thread Cert.Dh1RefIdeal.nD Cert.Dh1RefIdeal.τ).loc Cert.Dh1RefIdeal.main_arg2)) (m ((c.tc : Thread Cert.Dh1RefIdeal.nD Cert.Dh1RefIdeal.τ).loc Cert.Dh1RefIdeal.main_arg3)) (m ((c.tc : Thread Cert.Dh1RefIdeal.nD Cert.Dh1RefIdeal.τ).loc Cert.Dh1RefIdeal.main_arg4)) (m ((c.tc : Thread Cert.Dh1RefIdeal.nD Cert.Dh1RefIdeal.τ).loc Cert.Dh1RefIdeal.main_arg5)) (m ((c.tc : Thread Cert.Dh1RefIdeal.nD Cert.Dh1RefIdeal.τ).loc Cert.Dh1RefIdeal.main_arg6)) (m ((c.tc : Thread Cert.Dh1RefIdeal.nD Cert.Dh1RefIdeal.τ).loc Cert.Dh1RefIdeal.main_arg7)) (m ((c.tc : Thread Cert.Dh1RefIdeal.nD Cert.Dh1RefIdeal.τ).loc Cert.Dh1RefIdeal.main_arg8)) (m ((c.tc : Thread Cert.Dh1RefIdeal.nD Cert.Dh1RefIdeal.τ).loc Cert.Dh1RefIdeal.main_arg9))).1 = (fun _ => 1#1)
    ∧ (Cert.Pre_dh1_finite.fn (F := Ideal) (m ((c.tc : Thread Cert.Dh1RefIdeal.nD Cert.Dh1RefIdeal.τ).loc Cert.Dh1RefIdeal.main_arg0)) (m ((c.tc : Thread Cert.Dh1RefIdeal.nD Cert.Dh1RefIdeal.τ).loc Cert.Dh1RefIdeal.main_arg1)) (m ((c.tc : Thread Cert.Dh1RefIdeal.nD Cert.Dh1RefIdeal.τ).loc Cert.Dh1RefIdeal.main_arg2)) (m ((c.tc : Thread Cert.Dh1RefIdeal.nD Cert.Dh1RefIdeal.τ).loc Cert.Dh1RefIdeal.main_arg3)) (m ((c.tc : Thread Cert.Dh1RefIdeal.nD Cert.Dh1RefIdeal.τ).loc Cert.Dh1RefIdeal.main_arg4)) (m ((c.tc : Thread Cert.Dh1RefIdeal.nD Cert.Dh1RefIdeal.τ).loc Cert.Dh1RefIdeal.main_arg5)) (m ((c.tc : Thread Cert.Dh1RefIdeal.nD Cert.Dh1RefIdeal.τ).loc Cert.Dh1RefIdeal.main_arg6)) (m ((c.tc : Thread Cert.Dh1RefIdeal.nD Cert.Dh1RefIdeal.τ).loc Cert.Dh1RefIdeal.main_arg7)) (m ((c.tc : Thread Cert.Dh1RefIdeal.nD Cert.Dh1RefIdeal.τ).loc Cert.Dh1RefIdeal.main_arg8)) (m ((c.tc : Thread Cert.Dh1RefIdeal.nD Cert.Dh1RefIdeal.τ).loc Cert.Dh1RefIdeal.main_arg9))).2.1 = (fun _ => 1#1)
    ∧ (Cert.Pre_dh1_finite.fn (F := Ideal) (m ((c.tc : Thread Cert.Dh1RefIdeal.nD Cert.Dh1RefIdeal.τ).loc Cert.Dh1RefIdeal.main_arg0)) (m ((c.tc : Thread Cert.Dh1RefIdeal.nD Cert.Dh1RefIdeal.τ).loc Cert.Dh1RefIdeal.main_arg1)) (m ((c.tc : Thread Cert.Dh1RefIdeal.nD Cert.Dh1RefIdeal.τ).loc Cert.Dh1RefIdeal.main_arg2)) (m ((c.tc : Thread Cert.Dh1RefIdeal.nD Cert.Dh1RefIdeal.τ).loc Cert.Dh1RefIdeal.main_arg3)) (m ((c.tc : Thread Cert.Dh1RefIdeal.nD Cert.Dh1RefIdeal.τ).loc Cert.Dh1RefIdeal.main_arg4)) (m ((c.tc : Thread Cert.Dh1RefIdeal.nD Cert.Dh1RefIdeal.τ).loc Cert.Dh1RefIdeal.main_arg5)) (m ((c.tc : Thread Cert.Dh1RefIdeal.nD Cert.Dh1RefIdeal.τ).loc Cert.Dh1RefIdeal.main_arg6)) (m ((c.tc : Thread Cert.Dh1RefIdeal.nD Cert.Dh1RefIdeal.τ).loc Cert.Dh1RefIdeal.main_arg7)) (m ((c.tc : Thread Cert.Dh1RefIdeal.nD Cert.Dh1RefIdeal.τ).loc Cert.Dh1RefIdeal.main_arg8)) (m ((c.tc : Thread Cert.Dh1RefIdeal.nD Cert.Dh1RefIdeal.τ).loc Cert.Dh1RefIdeal.main_arg9))).2.2.1 = (fun _ => 1#1)
    ∧ (Cert.Pre_dh1_finite.fn (F := Ideal) (m ((c.tc : Thread Cert.Dh1RefIdeal.nD Cert.Dh1RefIdeal.τ).loc Cert.Dh1RefIdeal.main_arg0)) (m ((c.tc : Thread Cert.Dh1RefIdeal.nD Cert.Dh1RefIdeal.τ).loc Cert.Dh1RefIdeal.main_arg1)) (m ((c.tc : Thread Cert.Dh1RefIdeal.nD Cert.Dh1RefIdeal.τ).loc Cert.Dh1RefIdeal.main_arg2)) (m ((c.tc : Thread Cert.Dh1RefIdeal.nD Cert.Dh1RefIdeal.τ).loc Cert.Dh1RefIdeal.main_arg3)) (m ((c.tc : Thread Cert.Dh1RefIdeal.nD Cert.Dh1RefIdeal.τ).loc Cert.Dh1RefIdeal.main_arg4)) (m ((c.tc : Thread Cert.Dh1RefIdeal.nD Cert.Dh1RefIdeal.τ).loc Cert.Dh1RefIdeal.main_arg5)) (m ((c.tc : Thread Cert.Dh1RefIdeal.nD Cert.Dh1RefIdeal.τ).loc Cert.Dh1RefIdeal.main_arg6)) (m ((c.tc : Thread Cert.Dh1RefIdeal.nD Cert.Dh1RefIdeal.τ).loc Cert.Dh1RefIdeal.main_arg7)) (m ((c.tc : Thread Cert.Dh1RefIdeal.nD Cert.Dh1RefIdeal.τ).loc Cert.Dh1RefIdeal.main_arg8)) (m ((c.tc : Thread Cert.Dh1RefIdeal.nD Cert.Dh1RefIdeal.τ).loc Cert.Dh1RefIdeal.main_arg9))).2.2.2.1 = (fun _ => 1#1)
    ∧ (Cert.Pre_dh1_finite.fn (F := Ideal) (m ((c.tc : Thread Cert.Dh1RefIdeal.nD Cert.Dh1RefIdeal.τ).loc Cert.Dh1RefIdeal.main_arg0)) (m ((c.tc : Thread Cert.Dh1RefIdeal.nD Cert.Dh1RefIdeal.τ).loc Cert.Dh1RefIdeal.main_arg1)) (m ((c.tc : Thread Cert.Dh1RefIdeal.nD Cert.Dh1RefIdeal.τ).loc Cert.Dh1RefIdeal.main_arg2)) (m ((c.tc : Thread Cert.Dh1RefIdeal.nD Cert.Dh1RefIdeal.τ).loc Cert.Dh1RefIdeal.main_arg3)) (m ((c.tc : Thread Cert.Dh1RefIdeal.nD Cert.Dh1RefIdeal.τ).loc Cert.Dh1RefIdeal.main_arg4)) (m ((c.tc : Thread Cert.Dh1RefIdeal.nD Cert.Dh1RefIdeal.τ).loc Cert.Dh1RefIdeal.main_arg5)) (m ((c.tc : Thread Cert.Dh1RefIdeal.nD Cert.Dh1RefIdeal.τ).loc Cert.Dh1RefIdeal.main_arg6)) (m ((c.tc : Thread Cert.Dh1RefIdeal.nD Cert.Dh1RefIdeal.τ).loc Cert.Dh1RefIdeal.main_arg7)) (m ((c.tc : Thread Cert.Dh1RefIdeal.nD Cert.Dh1RefIdeal.τ).loc Cert.Dh1RefIdeal.main_arg8)) (m ((c.tc : Thread Cert.Dh1RefIdeal.nD Cert.Dh1RefIdeal.τ).loc Cert.Dh1RefIdeal.main_arg9))).2.2.2.2.1 = (fun _ => 1#1)
    ∧ (Cert.Pre_dh1_finite.fn (F := Ideal) (m ((c.tc : Thread Cert.Dh1RefIdeal.nD Cert.Dh1RefIdeal.τ).loc Cert.Dh1RefIdeal.main_arg0)) (m ((c.tc : Thread Cert.Dh1RefIdeal.nD Cert.Dh1RefIdeal.τ).loc Cert.Dh1RefIdeal.main_arg1)) (m ((c.tc : Thread Cert.Dh1RefIdeal.nD Cert.Dh1RefIdeal.τ).loc Cert.Dh1RefIdeal.main_arg2)) (m ((c.tc : Thread Cert.Dh1RefIdeal.nD Cert.Dh1RefIdeal.τ).loc Cert.Dh1RefIdeal.main_arg3)) (m ((c.tc : Thread Cert.Dh1RefIdeal.nD Cert.Dh1RefIdeal.τ).loc Cert.Dh1RefIdeal.main_arg4)) (m ((c.tc : Thread Cert.Dh1RefIdeal.nD Cert.Dh1RefIdeal.τ).loc Cert.Dh1RefIdeal.main_arg5)) (m ((c.tc : Thread Cert.Dh1RefIdeal.nD Cert.Dh1RefIdeal.τ).loc Cert.Dh1RefIdeal.main_arg6)) (m ((c.tc : Thread Cert.Dh1RefIdeal.nD Cert.Dh1RefIdeal.τ).loc Cert.Dh1RefIdeal.main_arg7)) (m ((c.tc : Thread Cert.Dh1RefIdeal.nD Cert.Dh1RefIdeal.τ).loc Cert.Dh1RefIdeal.main_arg8)) (m ((c.tc : Thread Cert.Dh1RefIdeal.nD Cert.Dh1RefIdeal.τ).loc Cert.Dh1RefIdeal.main_arg9))).2.2.2.2.2.1 = (fun _ => 1#1)
    ∧ (Cert.Pre_dh1_finite.fn (F := Ideal) (m ((c.tc : Thread Cert.Dh1RefIdeal.nD Cert.Dh1RefIdeal.τ).loc Cert.Dh1RefIdeal.main_arg0)) (m ((c.tc : Thread Cert.Dh1RefIdeal.nD Cert.Dh1RefIdeal.τ).loc Cert.Dh1RefIdeal.main_arg1)) (m ((c.tc : Thread Cert.Dh1RefIdeal.nD Cert.Dh1RefIdeal.τ).loc Cert.Dh1RefIdeal.main_arg2)) (m ((c.tc : Thread Cert.Dh1RefIdeal.nD Cert.Dh1RefIdeal.τ).loc Cert.Dh1RefIdeal.main_arg3)) (m ((c.tc : Thread Cert.Dh1RefIdeal.nD Cert.Dh1RefIdeal.τ).loc Cert.Dh1RefIdeal.main_arg4)) (m ((c.tc : Thread Cert.Dh1RefIdeal.nD Cert.Dh1RefIdeal.τ).loc Cert.Dh1RefIdeal.main_arg5)) (m ((c.tc : Thread Cert.Dh1RefIdeal.nD Cert.Dh1RefIdeal.τ).loc Cert.Dh1RefIdeal.main_arg6)) (m ((c.tc : Thread Cert.Dh1RefIdeal.nD Cert.Dh1RefIdeal.τ).loc Cert.Dh1RefIdeal.main_arg7)) (m ((c.tc : Thread Cert.Dh1RefIdeal.nD Cert.Dh1RefIdeal.τ).loc Cert.Dh1RefIdeal.main_arg8)) (m ((c.tc : Thread Cert.Dh1RefIdeal.nD Cert.Dh1RefIdeal.τ).loc Cert.Dh1RefIdeal.main_arg9))).2.2.2.2.2.2.1 = (fun _ => 1#1)
    ∧ (Cert.Pre_dh1_finite.fn (F := Ideal) (m ((c.tc : Thread Cert.Dh1RefIdeal.nD Cert.Dh1RefIdeal.τ).loc Cert.Dh1RefIdeal.main_arg0)) (m ((c.tc : Thread Cert.Dh1RefIdeal.nD Cert.Dh1RefIdeal.τ).loc Cert.Dh1RefIdeal.main_arg1)) (m ((c.tc : Thread Cert.Dh1RefIdeal.nD Cert.Dh1RefIdeal.τ).loc Cert.Dh1RefIdeal.main_arg2)) (m ((c.tc : Thread Cert.Dh1RefIdeal.nD Cert.Dh1RefIdeal.τ).loc Cert.Dh1RefIdeal.main_arg3)) (m ((c.tc : Thread Cert.Dh1RefIdeal.nD Cert.Dh1RefIdeal.τ).loc Cert.Dh1RefIdeal.main_arg4)) (m ((c.tc : Thread Cert.Dh1RefIdeal.nD Cert.Dh1RefIdeal.τ).loc Cert.Dh1RefIdeal.main_arg5)) (m ((c.tc : Thread Cert.Dh1RefIdeal.nD Cert.Dh1RefIdeal.τ).loc Cert.Dh1RefIdeal.main_arg6)) (m ((c.tc : Thread Cert.Dh1RefIdeal.nD Cert.Dh1RefIdeal.τ).loc Cert.Dh1RefIdeal.main_arg7)) (m ((c.tc : Thread Cert.Dh1RefIdeal.nD Cert.Dh1RefIdeal.τ).loc Cert.Dh1RefIdeal.main_arg8)) (m ((c.tc : Thread Cert.Dh1RefIdeal.nD Cert.Dh1RefIdeal.τ).loc Cert.Dh1RefIdeal.main_arg9))).2.2.2.2.2.2.2.1 = (fun _ => 1#1)
    ∧ (Cert.Pre_dh1_finite.fn (F := Ideal) (m ((c.tc : Thread Cert.Dh1RefIdeal.nD Cert.Dh1RefIdeal.τ).loc Cert.Dh1RefIdeal.main_arg0)) (m ((c.tc : Thread Cert.Dh1RefIdeal.nD Cert.Dh1RefIdeal.τ).loc Cert.Dh1RefIdeal.main_arg1)) (m ((c.tc : Thread Cert.Dh1RefIdeal.nD Cert.Dh1RefIdeal.τ).loc Cert.Dh1RefIdeal.main_arg2)) (m ((c.tc : Thread Cert.Dh1RefIdeal.nD Cert.Dh1RefIdeal.τ).loc Cert.Dh1RefIdeal.main_arg3)) (m ((c.tc : Thread Cert.Dh1RefIdeal.nD Cert.Dh1RefIdeal.τ).loc Cert.Dh1RefIdeal.main_arg4)) (m ((c.tc : Thread Cert.Dh1RefIdeal.nD Cert.Dh1RefIdeal.τ).loc Cert.Dh1RefIdeal.main_arg5)) (m ((c.tc : Thread Cert.Dh1RefIdeal.nD Cert.Dh1RefIdeal.τ).loc Cert.Dh1RefIdeal.main_arg6)) (m ((c.tc : Thread Cert.Dh1RefIdeal.nD Cert.Dh1RefIdeal.τ).loc Cert.Dh1RefIdeal.main_arg7)) (m ((c.tc : Thread Cert.Dh1RefIdeal.nD Cert.Dh1RefIdeal.τ).loc Cert.Dh1RefIdeal.main_arg8)) (m ((c.tc : Thread Cert.Dh1RefIdeal.nD Cert.Dh1RefIdeal.τ).loc Cert.Dh1RefIdeal.main_arg9))).2.2.2.2.2.2.2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_ffn_finite [hPre_ffn_finite : Cert.Pre_ffn_finite.Facts] (m : (ℓ : Loc Cert.FfnIdeal.nD Cert.FfnIdeal.τ Cert.FfnIdeal.sig) → Buf (Elt Ideal) ℓ) : Prop :=
  ∀ c : Dev Cert.FfnIdeal.nD,
    (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))).1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))).2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))).2.2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))).2.2.2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))).2.2.2.2 = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_ffn_finite [hPre_ffn_finite : Cert.Pre_ffn_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))).1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))).2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))).2.2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))).2.2.2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))).2.2.2.2 = (fun _ => 1#1)

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolIdeal_pool_finite [hPre_pool_finite : Cert.Pre_pool_finite.Facts] (m : (ℓ : Loc Cert.PoolIdeal.nD Cert.PoolIdeal.τ Cert.PoolIdeal.sig) → Buf (Elt Ideal) ℓ) : Prop :=
  ∀ c : Dev Cert.PoolIdeal.nD,
    (Cert.Pre_pool_finite.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3)) (m ((c.tc : Thread Cert.PoolIdeal.nD Cert.PoolIdeal.τ).loc Cert.PoolIdeal.main_arg4))).1 = (fun _ => 1#1)
    ∧ (Cert.Pre_pool_finite.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3)) (m ((c.tc : Thread Cert.PoolIdeal.nD Cert.PoolIdeal.τ).loc Cert.PoolIdeal.main_arg4))).2.1 = (fun _ => 1#1)
    ∧ (Cert.Pre_pool_finite.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3)) (m ((c.tc : Thread Cert.PoolIdeal.nD Cert.PoolIdeal.τ).loc Cert.PoolIdeal.main_arg4))).2.2.1 = (fun _ => 1#1)
    ∧ (Cert.Pre_pool_finite.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3)) (m ((c.tc : Thread Cert.PoolIdeal.nD Cert.PoolIdeal.τ).loc Cert.PoolIdeal.main_arg4))).2.2.2 = (fun _ => 1#1)

def Pre_PoolRefIdeal (m : (ℓ : Loc Cert.PoolRefIdeal.nD Cert.PoolRefIdeal.τ Cert.PoolRefIdeal.sig) → Buf (Elt Ideal) ℓ) : Prop :=
  True

def Pre_PoolRefIdeal_pool_finite [hPre_pool_finite : Cert.Pre_pool_finite.Facts] (m : (ℓ : Loc Cert.PoolRefIdeal.nD Cert.PoolRefIdeal.τ Cert.PoolRefIdeal.sig) → Buf (Elt Ideal) ℓ) : Prop :=
  ∀ c : Dev Cert.PoolRefIdeal.nD,
    (Cert.Pre_pool_finite.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3)) (m ((c.tc : Thread Cert.PoolRefIdeal.nD Cert.PoolRefIdeal.τ).loc Cert.PoolRefIdeal.main_arg4))).1 = (fun _ => 1#1)
    ∧ (Cert.Pre_pool_finite.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3)) (m ((c.tc : Thread Cert.PoolRefIdeal.nD Cert.PoolRefIdeal.τ).loc Cert.PoolRefIdeal.main_arg4))).2.1 = (fun _ => 1#1)
    ∧ (Cert.Pre_pool_finite.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3)) (m ((c.tc : Thread Cert.PoolRefIdeal.nD Cert.PoolRefIdeal.τ).loc Cert.PoolRefIdeal.main_arg4))).2.2.1 = (fun _ => 1#1)
    ∧ (Cert.Pre_pool_finite.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3)) (m ((c.tc : Thread Cert.PoolRefIdeal.nD Cert.PoolRefIdeal.τ).loc Cert.PoolRefIdeal.main_arg4))).2.2.2 = (fun _ => 1#1)

def Pre_LnFwd (m : (ℓ : Loc Cert.LnFwd.nD Cert.LnFwd.τ Cert.LnFwd.sig) → Buf (Elt Bits) ℓ) : Prop :=
  True

def Pre_LnFwdIdeal (m : (ℓ : Loc Cert.LnFwdIdeal.nD Cert.LnFwdIdeal.τ Cert.LnFwdIdeal.sig) → Buf (Elt Ideal) ℓ) : Prop :=
  True

def Pre_LnFwdRefIdeal (m : (ℓ : Loc Cert.LnFwdRefIdeal.nD Cert.LnFwdRefIdeal.τ Cert.LnFwdRefIdeal.sig) → Buf (Elt Ideal) ℓ) : Prop :=
  True

def Pre_MixFwd (m : (ℓ : Loc Cert.MixFwd.nD Cert.MixFwd.τ Cert.MixFwd.sig) → Buf (Elt Bits) ℓ) : Prop :=
  True

def Pre_MixFwdIdeal (m : (ℓ : Loc Cert.MixFwdIdeal.nD Cert.MixFwdIdeal.τ Cert.MixFwdIdeal.sig) → Buf (Elt Ideal) ℓ) : Prop :=
  True

def Pre_MixFwdRefIdeal (m : (ℓ : Loc Cert.MixFwdRefIdeal.nD Cert.MixFwdRefIdeal.τ Cert.MixFwdRefIdeal.sig) → Buf (Elt Ideal) ℓ) : Prop :=
  True

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdRefIdeal (m : (ℓ : Loc Cert.MergeFwdRefIdeal.nD Cert.MergeFwdRefIdeal.τ Cert.MergeFwdRefIdeal.sig) → Buf (Elt Ideal) ℓ) : Prop :=
  True

def Pre_DownFwd (m : (ℓ : Loc Cert.DownFwd.nD Cert.DownFwd.τ Cert.DownFwd.sig) → Buf (Elt Bits) ℓ) : Prop :=
  True

def Pre_DownFwdIdeal (m : (ℓ : Loc Cert.DownFwdIdeal.nD Cert.DownFwdIdeal.τ Cert.DownFwdIdeal.sig) → Buf (Elt Ideal) ℓ) : Prop :=
  True

def Pre_DownFwdRefIdeal (m : (ℓ : Loc Cert.DownFwdRefIdeal.nD Cert.DownFwdRefIdeal.τ Cert.DownFwdRefIdeal.sig) → Buf (Elt Ideal) ℓ) : Prop :=
  True

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdRefIdeal (m : (ℓ : Loc Cert.FfnFwdRefIdeal.nD Cert.FfnFwdRefIdeal.τ Cert.FfnFwdRefIdeal.sig) → Buf (Elt Ideal) ℓ) : Prop :=
  True

def Pre_PoolFwd (m : (ℓ : Loc Cert.PoolFwd.nD Cert.PoolFwd.τ Cert.PoolFwd.sig) → Buf (Elt Bits) ℓ) : Prop :=
  True

def Pre_PoolFwdIdeal (m : (ℓ : Loc Cert.PoolFwdIdeal.nD Cert.PoolFwdIdeal.τ Cert.PoolFwdIdeal.sig) → Buf (Elt Ideal) ℓ) : Prop :=
  True

def Pre_PoolFwdIdeal_poolf_finite [hPre_poolf_finite : Cert.Pre_poolf_finite.Facts] (m : (ℓ : Loc Cert.PoolFwdIdeal.nD Cert.PoolFwdIdeal.τ Cert.PoolFwdIdeal.sig) → Buf (Elt Ideal) ℓ) : Prop :=
  ∀ c : Dev Cert.PoolFwdIdeal.nD,
    (Cert.Pre_poolf_finite.fn (F := Ideal) (m ((c.tc : Thread Cert.PoolFwdIdeal.nD Cert.PoolFwdIdeal.τ).loc Cert.PoolFwdIdeal.main_arg0)) (m ((c.tc : Thread Cert.PoolFwdIdeal.nD Cert.PoolFwdIdeal.τ).loc Cert.PoolFwdIdeal.main_arg1)) (m ((c.tc : Thread Cert.PoolFwdIdeal.nD Cert.PoolFwdIdeal.τ).loc Cert.PoolFwdIdeal.main_arg2))) = (fun _ => 1#1)

def Pre_PoolFwdRefIdeal (m : (ℓ : Loc Cert.PoolFwdRefIdeal.nD Cert.PoolFwdRefIdeal.τ Cert.PoolFwdRefIdeal.sig) → Buf (Elt Ideal) ℓ) : Prop :=
  True

def Pre_PoolFwdRefIdeal_poolf_finite [hPre_poolf_finite : Cert.Pre_poolf_finite.Facts] (m : (ℓ : Loc Cert.PoolFwdRefIdeal.nD Cert.PoolFwdRefIdeal.τ Cert.PoolFwdRefIdeal.sig) → Buf (Elt Ideal) ℓ) : Prop :=
  ∀ c : Dev Cert.PoolFwdRefIdeal.nD,
    (Cert.Pre_poolf_finite.fn (F := Ideal) (m ((c.tc : Thread Cert.PoolFwdRefIdeal.nD Cert.PoolFwdRefIdeal.τ).loc Cert.PoolFwdRefIdeal.main_arg0)) (m ((c.tc : Thread Cert.PoolFwdRefIdeal.nD Cert.PoolFwdRefIdeal.τ).loc Cert.PoolFwdRefIdeal.main_arg1)) (m ((c.tc : Thread Cert.PoolFwdRefIdeal.nD Cert.PoolFwdRefIdeal.τ).loc Cert.PoolFwdRefIdeal.main_arg2))) = (fun _ => 1#1)

def Pre_Wdown (m : (ℓ : Loc Cert.Wdown.nD Cert.Wdown.τ Cert.Wdown.sig) → Buf (Elt Bits) ℓ) : Prop :=
  True

def Pre_WdownIdeal (m : (ℓ : Loc Cert.WdownIdeal.nD Cert.WdownIdeal.τ Cert.WdownIdeal.sig) → Buf (Elt Ideal) ℓ) : Prop :=
  True

def Pre_WdownRefIdeal (m : (ℓ : Loc Cert.WdownRefIdeal.nD Cert.WdownRefIdeal.τ Cert.WdownRefIdeal.sig) → Buf (Elt Ideal) ℓ) : Prop :=
  True

def Pre_Wup (m : (ℓ : Loc Cert.Wup.nD Cert.Wup.τ Cert.Wup.sig) → Buf (Elt Bits) ℓ) : Prop :=
  True

def Pre_WupIdeal (m : (ℓ : Loc Cert.WupIdeal.nD Cert.WupIdeal.τ Cert.WupIdeal.sig) → Buf (Elt Ideal) ℓ) : Prop :=
  True

def Pre_WupRefIdeal (m : (ℓ : Loc Cert.WupRefIdeal.nD Cert.WupRefIdeal.τ Cert.WupRefIdeal.sig) → Buf (Elt Ideal) ℓ) : Prop :=
  True

def Pre_Win (m : (ℓ : Loc Cert.Win.nD Cert.Win.τ Cert.Win.sig) → Buf (Elt Bits) ℓ) : Prop :=
  True

def Pre_WinIdeal (m : (ℓ : Loc Cert.WinIdeal.nD Cert.WinIdeal.τ Cert.WinIdeal.sig) → Buf (Elt Ideal) ℓ) : Prop :=
  True

def Pre_WinRefIdeal (m : (ℓ : Loc Cert.WinRefIdeal.nD Cert.WinRefIdeal.τ Cert.WinRefIdeal.sig) → Buf (Elt Ideal) ℓ) : Prop :=
  True

def Pre_Wout (m : (ℓ : Loc Cert.Wout.nD Cert.Wout.τ Cert.Wout.sig) → Buf (Elt Bits) ℓ) : Prop :=
  True

def Pre_WoutIdeal (m : (ℓ : Loc Cert.WoutIdeal.nD Cert.WoutIdeal.τ Cert.WoutIdeal.sig) → Buf (Elt Ideal) ℓ) : Prop :=
  True

def Pre_WoutRefIdeal (m : (ℓ : Loc Cert.WoutRefIdeal.nD Cert.WoutRefIdeal.τ Cert.WoutRefIdeal.sig) → Buf (Elt Ideal) ℓ) : Prop :=
  True

def Pre_Da (m : (ℓ : Loc Cert.Da.nD Cert.Da.τ Cert.Da.sig) → Buf (Elt Bits) ℓ) : Prop :=
  True

def Pre_DaIdeal (m : (ℓ : Loc Cert.DaIdeal.nD Cert.DaIdeal.τ Cert.DaIdeal.sig) → Buf (Elt Ideal) ℓ) : Prop :=
  True

def Pre_DaRefIdeal (m : (ℓ : Loc Cert.DaRefIdeal.nD Cert.DaRefIdeal.τ Cert.DaRefIdeal.sig) → Buf (Elt Ideal) ℓ) : Prop :=
  True

def Pre_Dh0 (m : (ℓ : Loc Cert.Dh0.nD Cert.Dh0.τ Cert.Dh0.sig) → Buf (Elt Bits) ℓ) : Prop :=
  True

def Pre_Dh0Ideal (m : (ℓ : Loc Cert.Dh0Ideal.nD Cert.Dh0Ideal.τ Cert.Dh0Ideal.sig) → Buf (Elt Ideal) ℓ) : Prop :=
  True

def Pre_Dh0RefIdeal (m : (ℓ : Loc Cert.Dh0RefIdeal.nD Cert.Dh0RefIdeal.τ Cert.Dh0RefIdeal.sig) → Buf (Elt Ideal) ℓ) : Prop :=
  True

def Pre_UpFwd (m : (ℓ : Loc Cert.UpFwd.nD Cert.UpFwd.τ Cert.UpFwd.sig) → Buf (Elt Bits) ℓ) : Prop :=
  True

def Pre_UpFwdIdeal (m : (ℓ : Loc Cert.UpFwdIdeal.nD Cert.UpFwdIdeal.τ Cert.UpFwdIdeal.sig) → Buf (Elt Ideal) ℓ) : Prop :=
  True

def Pre_UpFwdRefIdeal (m : (ℓ : Loc Cert.UpFwdRefIdeal.nD Cert.UpFwdRefIdeal.τ Cert.UpFwdRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_Partials (m : (ℓ : Loc Cert.Partials.nD Cert.Partials.τ Cert.Partials.sig) → Buf (Elt Bits) ℓ) : Prop :=
  True

def Pre_PartialsIdeal (m : (ℓ : Loc Cert.PartialsIdeal.nD Cert.PartialsIdeal.τ Cert.PartialsIdeal.sig) → Buf (Elt Ideal) ℓ) : Prop :=
  True

def Pre_PartialsRefIdeal (m : (ℓ : Loc Cert.PartialsRefIdeal.nD Cert.PartialsRefIdeal.τ Cert.PartialsRefIdeal.sig) → Buf (Elt Ideal) ℓ) : Prop :=
  True

def Pre_AdamShard (m : (ℓ : Loc Cert.AdamShard.nD Cert.AdamShard.τ Cert.AdamShard.sig) → Buf (Elt Bits) ℓ) : Prop :=
  True

def Pre_AdamShardIdeal (m : (ℓ : Loc Cert.AdamShardIdeal.nD Cert.AdamShardIdeal.τ Cert.AdamShardIdeal.sig) → Buf (Elt Ideal) ℓ) : Prop :=
  True

def Pre_AdamShardRefIdeal (m : (ℓ : Loc Cert.AdamShardRefIdeal.nD Cert.AdamShardRefIdeal.τ Cert.AdamShardRefIdeal.sig) → Buf (Elt Ideal) ℓ) : Prop :=
  True

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_Ln [hLn : Cert.Ln.Facts] : Prop :=
  ∀ (m : (ℓ : Loc Cert.Ln.nD Cert.Ln.τ Cert.Ln.sig) → Buf (Elt Bits) ℓ) (g : Dev Cert.Ln.nD → PrngReg), Pre_Ln m →
    θ_run (Cert.Ln.defs (F := Bits)) (onTc (τ := Cert.Ln.τ) (Cert.Ln.main (F := Bits))) ⟨m, fun _ => 0, g⟩ (fun r => (∀ c : Dev Cert.Ln.nD,
      r.2.mem ((c.tc : Thread Cert.Ln.nD Cert.Ln.τ).loc Cert.Ln.main_arg0) = m ((c.tc : Thread Cert.Ln.nD Cert.Ln.τ).loc Cert.Ln.main_arg0)
      ∧ r.2.mem ((c.tc : Thread Cert.Ln.nD Cert.Ln.τ).loc Cert.Ln.main_arg1) = m ((c.tc : Thread Cert.Ln.nD Cert.Ln.τ).loc Cert.Ln.main_arg1)
      ∧ r.2.mem ((c.tc : Thread Cert.Ln.nD Cert.Ln.τ).loc Cert.Ln.main_arg2) = m ((c.tc : Thread Cert.Ln.nD Cert.Ln.τ).loc Cert.Ln.main_arg2)
      ∧ r.2.mem ((c.tc : Thread Cert.Ln.nD Cert.Ln.τ).loc Cert.Ln.main_arg3) = m ((c.tc : Thread Cert.Ln.nD Cert.Ln.τ).loc Cert.Ln.main_arg3))
      ∧ r.2.sem = fun _ => 0)

def quiescent_LnIdeal [hLnIdeal : Cert.LnIdeal.Facts] : Prop :=
  ∀ (m : (ℓ : Loc Cert.LnIdeal.nD Cert.LnIdeal.τ Cert.LnIdeal.sig) → Buf (Elt Ideal) ℓ) (g : Dev Cert.LnIdeal.nD → PrngReg), Pre_LnIdeal m →
    θ_run (Cert.LnIdeal.defs (F := Ideal)) (onTc (τ := Cert.LnIdeal.τ) (Cert.LnIdeal.main (F := Ideal))) ⟨m, fun _ => 0, g⟩ (fun r => (∀ c : Dev Cert.LnIdeal.nD,
      r.2.mem ((c.tc : Thread Cert.LnIdeal.nD Cert.LnIdeal.τ).loc Cert.LnIdeal.main_arg0) = m ((c.tc : Thread Cert.LnIdeal.nD Cert.LnIdeal.τ).loc Cert.LnIdeal.main_arg0)
      ∧ r.2.mem ((c.tc : Thread Cert.LnIdeal.nD Cert.LnIdeal.τ).loc Cert.LnIdeal.main_arg1) = m ((c.tc : Thread Cert.LnIdeal.nD Cert.LnIdeal.τ).loc Cert.LnIdeal.main_arg1)
      ∧ r.2.mem ((c.tc : Thread Cert.LnIdeal.nD Cert.LnIdeal.τ).loc Cert.LnIdeal.main_arg2) = m ((c.tc : Thread Cert.LnIdeal.nD Cert.LnIdeal.τ).loc Cert.LnIdeal.main_arg2)
      ∧ r.2.mem ((c.tc : Thread Cert.LnIdeal.nD Cert.LnIdeal.τ).loc Cert.LnIdeal.main_arg3) = m ((c.tc : Thread Cert.LnIdeal.nD Cert.LnIdeal.τ).loc Cert.LnIdeal.main_arg3))
      ∧ r.2.sem = fun _ => 0)

def quiescent_LnIdeal_pre_ln_finite [hLnIdeal : Cert.LnIdeal.Facts] [hPre_ln_finite : Cert.Pre_ln_finite.Facts] : Prop :=
  ∀ (m : (ℓ : Loc Cert.LnIdeal.nD Cert.LnIdeal.τ Cert.LnIdeal.sig) → Buf (Elt Ideal) ℓ) (g : Dev Cert.LnIdeal.nD → PrngReg), Pre_LnIdeal_ln_finite m →
    θ_run (Cert.LnIdeal.defs (F := Ideal)) (onTc (τ := Cert.LnIdeal.τ) (Cert.LnIdeal.main (F := Ideal))) ⟨m, fun _ => 0, g⟩ (fun r => (∀ c : Dev Cert.LnIdeal.nD,
      r.2.mem ((c.tc : Thread Cert.LnIdeal.nD Cert.LnIdeal.τ).loc Cert.LnIdeal.main_arg0) = m ((c.tc : Thread Cert.LnIdeal.nD Cert.LnIdeal.τ).loc Cert.LnIdeal.main_arg0)
      ∧ r.2.mem ((c.tc : Thread Cert.LnIdeal.nD Cert.LnIdeal.τ).loc Cert.LnIdeal.main_arg1) = m ((c.tc : Thread Cert.LnIdeal.nD Cert.LnIdeal.τ).loc Cert.LnIdeal.main_arg1)
      ∧ r.2.mem ((c.tc : Thread Cert.LnIdeal.nD Cert.LnIdeal.τ).loc Cert.LnIdeal.main_arg2) = m ((c.tc : Thread Cert.LnIdeal.nD Cert.LnIdeal.τ).loc Cert.LnIdeal.main_arg2)
      ∧ r.2.mem ((c.tc : Thread Cert.LnIdeal.nD Cert.LnIdeal.τ).loc Cert.LnIdeal.main_arg3) = m ((c.tc : Thread Cert.LnIdeal.nD Cert.LnIdeal.τ).loc Cert.LnIdeal.main_arg3))
      ∧ r.2.sem = fun _ => 0)

def quiescent_LnRefIdeal [hLnRefIdeal : Cert.LnRefIdeal.Facts] : Prop :=
  ∀ (m : (ℓ : Loc Cert.LnRefIdeal.nD Cert.LnRefIdeal.τ Cert.LnRefIdeal.sig) → Buf (Elt Ideal) ℓ) (g : Dev Cert.LnRefIdeal.nD → PrngReg), Pre_LnRefIdeal m →
    θ_run (Cert.LnRefIdeal.defs (F := Ideal)) (onTc (τ := Cert.LnRefIdeal.τ) (Cert.LnRefIdeal.main (F := Ideal))) ⟨m, fun _ => 0, g⟩ (fun r => (∀ c : Dev Cert.LnRefIdeal.nD,
      r.2.mem ((c.tc : Thread Cert.LnRefIdeal.nD Cert.LnRefIdeal.τ).loc Cert.LnRefIdeal.main_arg0) = m ((c.tc : Thread Cert.LnRefIdeal.nD Cert.LnRefIdeal.τ).loc Cert.LnRefIdeal.main_arg0)
      ∧ r.2.mem ((c.tc : Thread Cert.LnRefIdeal.nD Cert.LnRefIdeal.τ).loc Cert.LnRefIdeal.main_arg1) = m ((c.tc : Thread Cert.LnRefIdeal.nD Cert.LnRefIdeal.τ).loc Cert.LnRefIdeal.main_arg1)
      ∧ r.2.mem ((c.tc : Thread Cert.LnRefIdeal.nD Cert.LnRefIdeal.τ).loc Cert.LnRefIdeal.main_arg2) = m ((c.tc : Thread Cert.LnRefIdeal.nD Cert.LnRefIdeal.τ).loc Cert.LnRefIdeal.main_arg2)
      ∧ r.2.mem ((c.tc : Thread Cert.LnRefIdeal.nD Cert.LnRefIdeal.τ).loc Cert.LnRefIdeal.main_arg3) = m ((c.tc : Thread Cert.LnRefIdeal.nD Cert.LnRefIdeal.τ).loc Cert.LnRefIdeal.main_arg3))
      ∧ r.2.sem = fun _ => 0)

def quiescent_LnRefIdeal_pre_ln_finite [hLnRefIdeal : Cert.LnRefIdeal.Facts] [hPre_ln_finite : Cert.Pre_ln_finite.Facts] : Prop :=
  ∀ (m : (ℓ : Loc Cert.LnRefIdeal.nD Cert.LnRefIdeal.τ Cert.LnRefIdeal.sig) → Buf (Elt Ideal) ℓ) (g : Dev Cert.LnRefIdeal.nD → PrngReg), Pre_LnRefIdeal_ln_finite m →
    θ_run (Cert.LnRefIdeal.defs (F := Ideal)) (onTc (τ := Cert.LnRefIdeal.τ) (Cert.LnRefIdeal.main (F := Ideal))) ⟨m, fun _ => 0, g⟩ (fun r => (∀ c : Dev Cert.LnRefIdeal.nD,
      r.2.mem ((c.tc : Thread Cert.LnRefIdeal.nD Cert.LnRefIdeal.τ).loc Cert.LnRefIdeal.main_arg0) = m ((c.tc : Thread Cert.LnRefIdeal.nD Cert.LnRefIdeal.τ).loc Cert.LnRefIdeal.main_arg0)
      ∧ r.2.mem ((c.tc : Thread Cert.LnRefIdeal.nD Cert.LnRefIdeal.τ).loc Cert.LnRefIdeal.main_arg1) = m ((c.tc : Thread Cert.LnRefIdeal.nD Cert.LnRefIdeal.τ).loc Cert.LnRefIdeal.main_arg1)
      ∧ r.2.mem ((c.tc : Thread Cert.LnRefIdeal.nD Cert.LnRefIdeal.τ).loc Cert.LnRefIdeal.main_arg2) = m ((c.tc : Thread Cert.LnRefIdeal.nD Cert.LnRefIdeal.τ).loc Cert.LnRefIdeal.main_arg2)
      ∧ r.2.mem ((c.tc : Thread Cert.LnRefIdeal.nD Cert.LnRefIdeal.τ).loc Cert.LnRefIdeal.main_arg3) = m ((c.tc : Thread Cert.LnRefIdeal.nD Cert.LnRefIdeal.τ).loc Cert.LnRefIdeal.main_arg3))
      ∧ r.2.sem = fun _ => 0)

def quiescent_Ln2 [hLn2 : Cert.Ln2.Facts] : Prop :=
  ∀ (m : (ℓ : Loc Cert.Ln2.nD Cert.Ln2.τ Cert.Ln2.sig) → Buf (Elt Bits) ℓ) (g : Dev Cert.Ln2.nD → PrngReg), Pre_Ln2 m →
    θ_run (Cert.Ln2.defs (F := Bits)) (onTc (τ := Cert.Ln2.τ) (Cert.Ln2.main (F := Bits))) ⟨m, fun _ => 0, g⟩ (fun r => (∀ c : Dev Cert.Ln2.nD,
      r.2.mem ((c.tc : Thread Cert.Ln2.nD Cert.Ln2.τ).loc Cert.Ln2.main_arg0) = m ((c.tc : Thread Cert.Ln2.nD Cert.Ln2.τ).loc Cert.Ln2.main_arg0)
      ∧ r.2.mem ((c.tc : Thread Cert.Ln2.nD Cert.Ln2.τ).loc Cert.Ln2.main_arg1) = m ((c.tc : Thread Cert.Ln2.nD Cert.Ln2.τ).loc Cert.Ln2.main_arg1)
      ∧ r.2.mem ((c.tc : Thread Cert.Ln2.nD Cert.Ln2.τ).loc Cert.Ln2.main_arg2) = m ((c.tc : Thread Cert.Ln2.nD Cert.Ln2.τ).loc Cert.Ln2.main_arg2)
      ∧ r.2.mem ((c.tc : Thread Cert.Ln2.nD Cert.Ln2.τ).loc Cert.Ln2.main_arg3) = m ((c.tc : Thread Cert.Ln2.nD Cert.Ln2.τ).loc Cert.Ln2.main_arg3)
      ∧ r.2.mem ((c.tc : Thread Cert.Ln2.nD Cert.Ln2.τ).loc Cert.Ln2.main_arg4) = m ((c.tc : Thread Cert.Ln2.nD Cert.Ln2.τ).loc Cert.Ln2.main_arg4)
      ∧ r.2.mem ((c.tc : Thread Cert.Ln2.nD Cert.Ln2.τ).loc Cert.Ln2.main_arg5) = m ((c.tc : Thread Cert.Ln2.nD Cert.Ln2.τ).loc Cert.Ln2.main_arg5)
      ∧ r.2.mem ((c.tc : Thread Cert.Ln2.nD Cert.Ln2.τ).loc Cert.Ln2.main_arg6) = m ((c.tc : Thread Cert.Ln2.nD Cert.Ln2.τ).loc Cert.Ln2.main_arg6))
      ∧ r.2.sem = fun _ => 0)

def quiescent_Ln2Ideal [hLn2Ideal : Cert.Ln2Ideal.Facts] : Prop :=
  ∀ (m : (ℓ : Loc Cert.Ln2Ideal.nD Cert.Ln2Ideal.τ Cert.Ln2Ideal.sig) → Buf (Elt Ideal) ℓ) (g : Dev Cert.Ln2Ideal.nD → PrngReg), Pre_Ln2Ideal m →
    θ_run (Cert.Ln2Ideal.defs (F := Ideal)) (onTc (τ := Cert.Ln2Ideal.τ) (Cert.Ln2Ideal.main (F := Ideal))) ⟨m, fun _ => 0, g⟩ (fun r => (∀ c : Dev Cert.Ln2Ideal.nD,
      r.2.mem ((c.tc : Thread Cert.Ln2Ideal.nD Cert.Ln2Ideal.τ).loc Cert.Ln2Ideal.main_arg0) = m ((c.tc : Thread Cert.Ln2Ideal.nD Cert.Ln2Ideal.τ).loc Cert.Ln2Ideal.main_arg0)
      ∧ r.2.mem ((c.tc : Thread Cert.Ln2Ideal.nD Cert.Ln2Ideal.τ).loc Cert.Ln2Ideal.main_arg1) = m ((c.tc : Thread Cert.Ln2Ideal.nD Cert.Ln2Ideal.τ).loc Cert.Ln2Ideal.main_arg1)
      ∧ r.2.mem ((c.tc : Thread Cert.Ln2Ideal.nD Cert.Ln2Ideal.τ).loc Cert.Ln2Ideal.main_arg2) = m ((c.tc : Thread Cert.Ln2Ideal.nD Cert.Ln2Ideal.τ).loc Cert.Ln2Ideal.main_arg2)
      ∧ r.2.mem ((c.tc : Thread Cert.Ln2Ideal.nD Cert.Ln2Ideal.τ).loc Cert.Ln2Ideal.main_arg3) = m ((c.tc : Thread Cert.Ln2Ideal.nD Cert.Ln2Ideal.τ).loc Cert.Ln2Ideal.main_arg3)
      ∧ r.2.mem ((c.tc : Thread Cert.Ln2Ideal.nD Cert.Ln2Ideal.τ).loc Cert.Ln2Ideal.main_arg4) = m ((c.tc : Thread Cert.Ln2Ideal.nD Cert.Ln2Ideal.τ).loc Cert.Ln2Ideal.main_arg4)
      ∧ r.2.mem ((c.tc : Thread Cert.Ln2Ideal.nD Cert.Ln2Ideal.τ).loc Cert.Ln2Ideal.main_arg5) = m ((c.tc : Thread Cert.Ln2Ideal.nD Cert.Ln2Ideal.τ).loc Cert.Ln2Ideal.main_arg5)
      ∧ r.2.mem ((c.tc : Thread Cert.Ln2Ideal.nD Cert.Ln2Ideal.τ).loc Cert.Ln2Ideal.main_arg6) = m ((c.tc : Thread Cert.Ln2Ideal.nD Cert.Ln2Ideal.τ).loc Cert.Ln2Ideal.main_arg6))
      ∧ r.2.sem = fun _ => 0)

def quiescent_Ln2Ideal_pre_ln2_finite [hLn2Ideal : Cert.Ln2Ideal.Facts] [hPre_ln2_finite : Cert.Pre_ln2_finite.Facts] : Prop :=
  ∀ (m : (ℓ : Loc Cert.Ln2Ideal.nD Cert.Ln2Ideal.τ Cert.Ln2Ideal.sig) → Buf (Elt Ideal) ℓ) (g : Dev Cert.Ln2Ideal.nD → PrngReg), Pre_Ln2Ideal_ln2_finite m →
    θ_run (Cert.Ln2Ideal.defs (F := Ideal)) (onTc (τ := Cert.Ln2Ideal.τ) (Cert.Ln2Ideal.main (F := Ideal))) ⟨m, fun _ => 0, g⟩ (fun r => (∀ c : Dev Cert.Ln2Ideal.nD,
      r.2.mem ((c.tc : Thread Cert.Ln2Ideal.nD Cert.Ln2Ideal.τ).loc Cert.Ln2Ideal.main_arg0) = m ((c.tc : Thread Cert.Ln2Ideal.nD Cert.Ln2Ideal.τ).loc Cert.Ln2Ideal.main_arg0)
      ∧ r.2.mem ((c.tc : Thread Cert.Ln2Ideal.nD Cert.Ln2Ideal.τ).loc Cert.Ln2Ideal.main_arg1) = m ((c.tc : Thread Cert.Ln2Ideal.nD Cert.Ln2Ideal.τ).loc Cert.Ln2Ideal.main_arg1)
      ∧ r.2.mem ((c.tc : Thread Cert.Ln2Ideal.nD Cert.Ln2Ideal.τ).loc Cert.Ln2Ideal.main_arg2) = m ((c.tc : Thread Cert.Ln2Ideal.nD Cert.Ln2Ideal.τ).loc Cert.Ln2Ideal.main_arg2)
      ∧ r.2.mem ((c.tc : Thread Cert.Ln2Ideal.nD Cert.Ln2Ideal.τ).loc Cert.Ln2Ideal.main_arg3) = m ((c.tc : Thread Cert.Ln2Ideal.nD Cert.Ln2Ideal.τ).loc Cert.Ln2Ideal.main_arg3)
      ∧ r.2.mem ((c.tc : Thread Cert.Ln2Ideal.nD Cert.Ln2Ideal.τ).loc Cert.Ln2Ideal.main_arg4) = m ((c.tc : Thread Cert.Ln2Ideal.nD Cert.Ln2Ideal.τ).loc Cert.Ln2Ideal.main_arg4)
      ∧ r.2.mem ((c.tc : Thread Cert.Ln2Ideal.nD Cert.Ln2Ideal.τ).loc Cert.Ln2Ideal.main_arg5) = m ((c.tc : Thread Cert.Ln2Ideal.nD Cert.Ln2Ideal.τ).loc Cert.Ln2Ideal.main_arg5)
      ∧ r.2.mem ((c.tc : Thread Cert.Ln2Ideal.nD Cert.Ln2Ideal.τ).loc Cert.Ln2Ideal.main_arg6) = m ((c.tc : Thread Cert.Ln2Ideal.nD Cert.Ln2Ideal.τ).loc Cert.Ln2Ideal.main_arg6))
      ∧ r.2.sem = fun _ => 0)

def quiescent_Ln2RefIdeal [hLn2RefIdeal : Cert.Ln2RefIdeal.Facts] : Prop :=
  ∀ (m : (ℓ : Loc Cert.Ln2RefIdeal.nD Cert.Ln2RefIdeal.τ Cert.Ln2RefIdeal.sig) → Buf (Elt Ideal) ℓ) (g : Dev Cert.Ln2RefIdeal.nD → PrngReg), Pre_Ln2RefIdeal m →
    θ_run (Cert.Ln2RefIdeal.defs (F := Ideal)) (onTc (τ := Cert.Ln2RefIdeal.τ) (Cert.Ln2RefIdeal.main (F := Ideal))) ⟨m, fun _ => 0, g⟩ (fun r => (∀ c : Dev Cert.Ln2RefIdeal.nD,
      r.2.mem ((c.tc : Thread Cert.Ln2RefIdeal.nD Cert.Ln2RefIdeal.τ).loc Cert.Ln2RefIdeal.main_arg0) = m ((c.tc : Thread Cert.Ln2RefIdeal.nD Cert.Ln2RefIdeal.τ).loc Cert.Ln2RefIdeal.main_arg0)
      ∧ r.2.mem ((c.tc : Thread Cert.Ln2RefIdeal.nD Cert.Ln2RefIdeal.τ).loc Cert.Ln2RefIdeal.main_arg1) = m ((c.tc : Thread Cert.Ln2RefIdeal.nD Cert.Ln2RefIdeal.τ).loc Cert.Ln2RefIdeal.main_arg1)
      ∧ r.2.mem ((c.tc : Thread Cert.Ln2RefIdeal.nD Cert.Ln2RefIdeal.τ).loc Cert.Ln2RefIdeal.main_arg2) = m ((c.tc : Thread Cert.Ln2RefIdeal.nD Cert.Ln2RefIdeal.τ).loc Cert.Ln2RefIdeal.main_arg2)
      ∧ r.2.mem ((c.tc : Thread Cert.Ln2RefIdeal.nD Cert.Ln2RefIdeal.τ).loc Cert.Ln2RefIdeal.main_arg3) = m ((c.tc : Thread Cert.Ln2RefIdeal.nD Cert.Ln2RefIdeal.τ).loc Cert.Ln2RefIdeal.main_arg3)
      ∧ r.2.mem ((c.tc : Thread Cert.Ln2RefIdeal.nD Cert.Ln2RefIdeal.τ).loc Cert.Ln2RefIdeal.main_arg4) = m ((c.tc : Thread Cert.Ln2RefIdeal.nD Cert.Ln2RefIdeal.τ).loc Cert.Ln2RefIdeal.main_arg4)
      ∧ r.2.mem ((c.tc : Thread Cert.Ln2RefIdeal.nD Cert.Ln2RefIdeal.τ).loc Cert.Ln2RefIdeal.main_arg5) = m ((c.tc : Thread Cert.Ln2RefIdeal.nD Cert.Ln2RefIdeal.τ).loc Cert.Ln2RefIdeal.main_arg5)
      ∧ r.2.mem ((c.tc : Thread Cert.Ln2RefIdeal.nD Cert.Ln2RefIdeal.τ).loc Cert.Ln2RefIdeal.main_arg6) = m ((c.tc : Thread Cert.Ln2RefIdeal.nD Cert.Ln2RefIdeal.τ).loc Cert.Ln2RefIdeal.main_arg6))
      ∧ r.2.sem = fun _ => 0)

def quiescent_Ln2RefIdeal_pre_ln2_finite [hLn2RefIdeal : Cert.Ln2RefIdeal.Facts] [hPre_ln2_finite : Cert.Pre_ln2_finite.Facts] : Prop :=
  ∀ (m : (ℓ : Loc Cert.Ln2RefIdeal.nD Cert.Ln2RefIdeal.τ Cert.Ln2RefIdeal.sig) → Buf (Elt Ideal) ℓ) (g : Dev Cert.Ln2RefIdeal.nD → PrngReg), Pre_Ln2RefIdeal_ln2_finite m →
    θ_run (Cert.Ln2RefIdeal.defs (F := Ideal)) (onTc (τ := Cert.Ln2RefIdeal.τ) (Cert.Ln2RefIdeal.main (F := Ideal))) ⟨m, fun _ => 0, g⟩ (fun r => (∀ c : Dev Cert.Ln2RefIdeal.nD,
      r.2.mem ((c.tc : Thread Cert.Ln2RefIdeal.nD Cert.Ln2RefIdeal.τ).loc Cert.Ln2RefIdeal.main_arg0) = m ((c.tc : Thread Cert.Ln2RefIdeal.nD Cert.Ln2RefIdeal.τ).loc Cert.Ln2RefIdeal.main_arg0)
      ∧ r.2.mem ((c.tc : Thread Cert.Ln2RefIdeal.nD Cert.Ln2RefIdeal.τ).loc Cert.Ln2RefIdeal.main_arg1) = m ((c.tc : Thread Cert.Ln2RefIdeal.nD Cert.Ln2RefIdeal.τ).loc Cert.Ln2RefIdeal.main_arg1)
      ∧ r.2.mem ((c.tc : Thread Cert.Ln2RefIdeal.nD Cert.Ln2RefIdeal.τ).loc Cert.Ln2RefIdeal.main_arg2) = m ((c.tc : Thread Cert.Ln2RefIdeal.nD Cert.Ln2RefIdeal.τ).loc Cert.Ln2RefIdeal.main_arg2)
      ∧ r.2.mem ((c.tc : Thread Cert.Ln2RefIdeal.nD Cert.Ln2RefIdeal.τ).loc Cert.Ln2RefIdeal.main_arg3) = m ((c.tc : Thread Cert.Ln2RefIdeal.nD Cert.Ln2RefIdeal.τ).loc Cert.Ln2RefIdeal.main_arg3)
      ∧ r.2.mem ((c.tc : Thread Cert.Ln2RefIdeal.nD Cert.Ln2RefIdeal.τ).loc Cert.Ln2RefIdeal.main_arg4) = m ((c.tc : Thread Cert.Ln2RefIdeal.nD Cert.Ln2RefIdeal.τ).loc Cert.Ln2RefIdeal.main_arg4)
      ∧ r.2.mem ((c.tc : Thread Cert.Ln2RefIdeal.nD Cert.Ln2RefIdeal.τ).loc Cert.Ln2RefIdeal.main_arg5) = m ((c.tc : Thread Cert.Ln2RefIdeal.nD Cert.Ln2RefIdeal.τ).loc Cert.Ln2RefIdeal.main_arg5)
      ∧ r.2.mem ((c.tc : Thread Cert.Ln2RefIdeal.nD Cert.Ln2RefIdeal.τ).loc Cert.Ln2RefIdeal.main_arg6) = m ((c.tc : Thread Cert.Ln2RefIdeal.nD Cert.Ln2RefIdeal.τ).loc Cert.Ln2RefIdeal.main_arg6))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_Dh1 [hDh1 : Cert.Dh1.Facts] : Prop :=
  ∀ (m : (ℓ : Loc Cert.Dh1.nD Cert.Dh1.τ Cert.Dh1.sig) → Buf (Elt Bits) ℓ) (g : Dev Cert.Dh1.nD → PrngReg), Pre_Dh1 m →
    θ_run (Cert.Dh1.defs (F := Bits)) (onTc (τ := Cert.Dh1.τ) (Cert.Dh1.main (F := Bits))) ⟨m, fun _ => 0, g⟩ (fun r => (∀ c : Dev Cert.Dh1.nD,
      r.2.mem ((c.tc : Thread Cert.Dh1.nD Cert.Dh1.τ).loc Cert.Dh1.main_arg0) = m ((c.tc : Thread Cert.Dh1.nD Cert.Dh1.τ).loc Cert.Dh1.main_arg0)
      ∧ r.2.mem ((c.tc : Thread Cert.Dh1.nD Cert.Dh1.τ).loc Cert.Dh1.main_arg1) = m ((c.tc : Thread Cert.Dh1.nD Cert.Dh1.τ).loc Cert.Dh1.main_arg1)
      ∧ r.2.mem ((c.tc : Thread Cert.Dh1.nD Cert.Dh1.τ).loc Cert.Dh1.main_arg2) = m ((c.tc : Thread Cert.Dh1.nD Cert.Dh1.τ).loc Cert.Dh1.main_arg2)
      ∧ r.2.mem ((c.tc : Thread Cert.Dh1.nD Cert.Dh1.τ).loc Cert.Dh1.main_arg3) = m ((c.tc : Thread Cert.Dh1.nD Cert.Dh1.τ).loc Cert.Dh1.main_arg3)
      ∧ r.2.mem ((c.tc : Thread Cert.Dh1.nD Cert.Dh1.τ).loc Cert.Dh1.main_arg4) = m ((c.tc : Thread Cert.Dh1.nD Cert.Dh1.τ).loc Cert.Dh1.main_arg4)
      ∧ r.2.mem ((c.tc : Thread Cert.Dh1.nD Cert.Dh1.τ).loc Cert.Dh1.main_arg5) = m ((c.tc : Thread Cert.Dh1.nD Cert.Dh1.τ).loc Cert.Dh1.main_arg5)
      ∧ r.2.mem ((c.tc : Thread Cert.Dh1.nD Cert.Dh1.τ).loc Cert.Dh1.main_arg6) = m ((c.tc : Thread Cert.Dh1.nD Cert.Dh1.τ).loc Cert.Dh1.main_arg6)
      ∧ r.2.mem ((c.tc : Thread Cert.Dh1.nD Cert.Dh1.τ).loc Cert.Dh1.main_arg7) = m ((c.tc : Thread Cert.Dh1.nD Cert.Dh1.τ).loc Cert.Dh1.main_arg7)
      ∧ r.2.mem ((c.tc : Thread Cert.Dh1.nD Cert.Dh1.τ).loc Cert.Dh1.main_arg8) = m ((c.tc : Thread Cert.Dh1.nD Cert.Dh1.τ).loc Cert.Dh1.main_arg8)
      ∧ r.2.mem ((c.tc : Thread Cert.Dh1.nD Cert.Dh1.τ).loc Cert.Dh1.main_arg9) = m ((c.tc : Thread Cert.Dh1.nD Cert.Dh1.τ).loc Cert.Dh1.main_arg9))
      ∧ r.2.sem = fun _ => 0)

def quiescent_Dh1Ideal [hDh1Ideal : Cert.Dh1Ideal.Facts] : Prop :=
  ∀ (m : (ℓ : Loc Cert.Dh1Ideal.nD Cert.Dh1Ideal.τ Cert.Dh1Ideal.sig) → Buf (Elt Ideal) ℓ) (g : Dev Cert.Dh1Ideal.nD → PrngReg), Pre_Dh1Ideal m →
    θ_run (Cert.Dh1Ideal.defs (F := Ideal)) (onTc (τ := Cert.Dh1Ideal.τ) (Cert.Dh1Ideal.main (F := Ideal))) ⟨m, fun _ => 0, g⟩ (fun r => (∀ c : Dev Cert.Dh1Ideal.nD,
      r.2.mem ((c.tc : Thread Cert.Dh1Ideal.nD Cert.Dh1Ideal.τ).loc Cert.Dh1Ideal.main_arg0) = m ((c.tc : Thread Cert.Dh1Ideal.nD Cert.Dh1Ideal.τ).loc Cert.Dh1Ideal.main_arg0)
      ∧ r.2.mem ((c.tc : Thread Cert.Dh1Ideal.nD Cert.Dh1Ideal.τ).loc Cert.Dh1Ideal.main_arg1) = m ((c.tc : Thread Cert.Dh1Ideal.nD Cert.Dh1Ideal.τ).loc Cert.Dh1Ideal.main_arg1)
      ∧ r.2.mem ((c.tc : Thread Cert.Dh1Ideal.nD Cert.Dh1Ideal.τ).loc Cert.Dh1Ideal.main_arg2) = m ((c.tc : Thread Cert.Dh1Ideal.nD Cert.Dh1Ideal.τ).loc Cert.Dh1Ideal.main_arg2)
      ∧ r.2.mem ((c.tc : Thread Cert.Dh1Ideal.nD Cert.Dh1Ideal.τ).loc Cert.Dh1Ideal.main_arg3) = m ((c.tc : Thread Cert.Dh1Ideal.nD Cert.Dh1Ideal.τ).loc Cert.Dh1Ideal.main_arg3)
      ∧ r.2.mem ((c.tc : Thread Cert.Dh1Ideal.nD Cert.Dh1Ideal.τ).loc Cert.Dh1Ideal.main_arg4) = m ((c.tc : Thread Cert.Dh1Ideal.nD Cert.Dh1Ideal.τ).loc Cert.Dh1Ideal.main_arg4)
      ∧ r.2.mem ((c.tc : Thread Cert.Dh1Ideal.nD Cert.Dh1Ideal.τ).loc Cert.Dh1Ideal.main_arg5) = m ((c.tc : Thread Cert.Dh1Ideal.nD Cert.Dh1Ideal.τ).loc Cert.Dh1Ideal.main_arg5)
      ∧ r.2.mem ((c.tc : Thread Cert.Dh1Ideal.nD Cert.Dh1Ideal.τ).loc Cert.Dh1Ideal.main_arg6) = m ((c.tc : Thread Cert.Dh1Ideal.nD Cert.Dh1Ideal.τ).loc Cert.Dh1Ideal.main_arg6)
      ∧ r.2.mem ((c.tc : Thread Cert.Dh1Ideal.nD Cert.Dh1Ideal.τ).loc Cert.Dh1Ideal.main_arg7) = m ((c.tc : Thread Cert.Dh1Ideal.nD Cert.Dh1Ideal.τ).loc Cert.Dh1Ideal.main_arg7)
      ∧ r.2.mem ((c.tc : Thread Cert.Dh1Ideal.nD Cert.Dh1Ideal.τ).loc Cert.Dh1Ideal.main_arg8) = m ((c.tc : Thread Cert.Dh1Ideal.nD Cert.Dh1Ideal.τ).loc Cert.Dh1Ideal.main_arg8)
      ∧ r.2.mem ((c.tc : Thread Cert.Dh1Ideal.nD Cert.Dh1Ideal.τ).loc Cert.Dh1Ideal.main_arg9) = m ((c.tc : Thread Cert.Dh1Ideal.nD Cert.Dh1Ideal.τ).loc Cert.Dh1Ideal.main_arg9))
      ∧ r.2.sem = fun _ => 0)

def quiescent_Dh1Ideal_pre_dh1_finite [hDh1Ideal : Cert.Dh1Ideal.Facts] [hPre_dh1_finite : Cert.Pre_dh1_finite.Facts] : Prop :=
  ∀ (m : (ℓ : Loc Cert.Dh1Ideal.nD Cert.Dh1Ideal.τ Cert.Dh1Ideal.sig) → Buf (Elt Ideal) ℓ) (g : Dev Cert.Dh1Ideal.nD → PrngReg), Pre_Dh1Ideal_dh1_finite m →
    θ_run (Cert.Dh1Ideal.defs (F := Ideal)) (onTc (τ := Cert.Dh1Ideal.τ) (Cert.Dh1Ideal.main (F := Ideal))) ⟨m, fun _ => 0, g⟩ (fun r => (∀ c : Dev Cert.Dh1Ideal.nD,
      r.2.mem ((c.tc : Thread Cert.Dh1Ideal.nD Cert.Dh1Ideal.τ).loc Cert.Dh1Ideal.main_arg0) = m ((c.tc : Thread Cert.Dh1Ideal.nD Cert.Dh1Ideal.τ).loc Cert.Dh1Ideal.main_arg0)
      ∧ r.2.mem ((c.tc : Thread Cert.Dh1Ideal.nD Cert.Dh1Ideal.τ).loc Cert.Dh1Ideal.main_arg1) = m ((c.tc : Thread Cert.Dh1Ideal.nD Cert.Dh1Ideal.τ).loc Cert.Dh1Ideal.main_arg1)
      ∧ r.2.mem ((c.tc : Thread Cert.Dh1Ideal.nD Cert.Dh1Ideal.τ).loc Cert.Dh1Ideal.main_arg2) = m ((c.tc : Thread Cert.Dh1Ideal.nD Cert.Dh1Ideal.τ).loc Cert.Dh1Ideal.main_arg2)
      ∧ r.2.mem ((c.tc : Thread Cert.Dh1Ideal.nD Cert.Dh1Ideal.τ).loc Cert.Dh1Ideal.main_arg3) = m ((c.tc : Thread Cert.Dh1Ideal.nD Cert.Dh1Ideal.τ).loc Cert.Dh1Ideal.main_arg3)
      ∧ r.2.mem ((c.tc : Thread Cert.Dh1Ideal.nD Cert.Dh1Ideal.τ).loc Cert.Dh1Ideal.main_arg4) = m ((c.tc : Thread Cert.Dh1Ideal.nD Cert.Dh1Ideal.τ).loc Cert.Dh1Ideal.main_arg4)
      ∧ r.2.mem ((c.tc : Thread Cert.Dh1Ideal.nD Cert.Dh1Ideal.τ).loc Cert.Dh1Ideal.main_arg5) = m ((c.tc : Thread Cert.Dh1Ideal.nD Cert.Dh1Ideal.τ).loc Cert.Dh1Ideal.main_arg5)
      ∧ r.2.mem ((c.tc : Thread Cert.Dh1Ideal.nD Cert.Dh1Ideal.τ).loc Cert.Dh1Ideal.main_arg6) = m ((c.tc : Thread Cert.Dh1Ideal.nD Cert.Dh1Ideal.τ).loc Cert.Dh1Ideal.main_arg6)
      ∧ r.2.mem ((c.tc : Thread Cert.Dh1Ideal.nD Cert.Dh1Ideal.τ).loc Cert.Dh1Ideal.main_arg7) = m ((c.tc : Thread Cert.Dh1Ideal.nD Cert.Dh1Ideal.τ).loc Cert.Dh1Ideal.main_arg7)
      ∧ r.2.mem ((c.tc : Thread Cert.Dh1Ideal.nD Cert.Dh1Ideal.τ).loc Cert.Dh1Ideal.main_arg8) = m ((c.tc : Thread Cert.Dh1Ideal.nD Cert.Dh1Ideal.τ).loc Cert.Dh1Ideal.main_arg8)
      ∧ r.2.mem ((c.tc : Thread Cert.Dh1Ideal.nD Cert.Dh1Ideal.τ).loc Cert.Dh1Ideal.main_arg9) = m ((c.tc : Thread Cert.Dh1Ideal.nD Cert.Dh1Ideal.τ).loc Cert.Dh1Ideal.main_arg9))
      ∧ r.2.sem = fun _ => 0)

def quiescent_Dh1RefIdeal [hDh1RefIdeal : Cert.Dh1RefIdeal.Facts] : Prop :=
  ∀ (m : (ℓ : Loc Cert.Dh1RefIdeal.nD Cert.Dh1RefIdeal.τ Cert.Dh1RefIdeal.sig) → Buf (Elt Ideal) ℓ) (g : Dev Cert.Dh1RefIdeal.nD → PrngReg), Pre_Dh1RefIdeal m →
    θ_run (Cert.Dh1RefIdeal.defs (F := Ideal)) (onTc (τ := Cert.Dh1RefIdeal.τ) (Cert.Dh1RefIdeal.main (F := Ideal))) ⟨m, fun _ => 0, g⟩ (fun r => (∀ c : Dev Cert.Dh1RefIdeal.nD,
      r.2.mem ((c.tc : Thread Cert.Dh1RefIdeal.nD Cert.Dh1RefIdeal.τ).loc Cert.Dh1RefIdeal.main_arg0) = m ((c.tc : Thread Cert.Dh1RefIdeal.nD Cert.Dh1RefIdeal.τ).loc Cert.Dh1RefIdeal.main_arg0)
      ∧ r.2.mem ((c.tc : Thread Cert.Dh1RefIdeal.nD Cert.Dh1RefIdeal.τ).loc Cert.Dh1RefIdeal.main_arg1) = m ((c.tc : Thread Cert.Dh1RefIdeal.nD Cert.Dh1RefIdeal.τ).loc Cert.Dh1RefIdeal.main_arg1)
      ∧ r.2.mem ((c.tc : Thread Cert.Dh1RefIdeal.nD Cert.Dh1RefIdeal.τ).loc Cert.Dh1RefIdeal.main_arg2) = m ((c.tc : Thread Cert.Dh1RefIdeal.nD Cert.Dh1RefIdeal.τ).loc Cert.Dh1RefIdeal.main_arg2)
      ∧ r.2.mem ((c.tc : Thread Cert.Dh1RefIdeal.nD Cert.Dh1RefIdeal.τ).loc Cert.Dh1RefIdeal.main_arg3) = m ((c.tc : Thread Cert.Dh1RefIdeal.nD Cert.Dh1RefIdeal.τ).loc Cert.Dh1RefIdeal.main_arg3)
      ∧ r.2.mem ((c.tc : Thread Cert.Dh1RefIdeal.nD Cert.Dh1RefIdeal.τ).loc Cert.Dh1RefIdeal.main_arg4) = m ((c.tc : Thread Cert.Dh1RefIdeal.nD Cert.Dh1RefIdeal.τ).loc Cert.Dh1RefIdeal.main_arg4)
      ∧ r.2.mem ((c.tc : Thread Cert.Dh1RefIdeal.nD Cert.Dh1RefIdeal.τ).loc Cert.Dh1RefIdeal.main_arg5) = m ((c.tc : Thread Cert.Dh1RefIdeal.nD Cert.Dh1RefIdeal.τ).loc Cert.Dh1RefIdeal.main_arg5)
      ∧ r.2.mem ((c.tc : Thread Cert.Dh1RefIdeal.nD Cert.Dh1RefIdeal.τ).loc Cert.Dh1RefIdeal.main_arg6) = m ((c.tc : Thread Cert.Dh1RefIdeal.nD Cert.Dh1RefIdeal.τ).loc Cert.Dh1RefIdeal.main_arg6)
      ∧ r.2.mem ((c.tc : Thread Cert.Dh1RefIdeal.nD Cert.Dh1RefIdeal.τ).loc Cert.Dh1RefIdeal.main_arg7) = m ((c.tc : Thread Cert.Dh1RefIdeal.nD Cert.Dh1RefIdeal.τ).loc Cert.Dh1RefIdeal.main_arg7)
      ∧ r.2.mem ((c.tc : Thread Cert.Dh1RefIdeal.nD Cert.Dh1RefIdeal.τ).loc Cert.Dh1RefIdeal.main_arg8) = m ((c.tc : Thread Cert.Dh1RefIdeal.nD Cert.Dh1RefIdeal.τ).loc Cert.Dh1RefIdeal.main_arg8)
      ∧ r.2.mem ((c.tc : Thread Cert.Dh1RefIdeal.nD Cert.Dh1RefIdeal.τ).loc Cert.Dh1RefIdeal.main_arg9) = m ((c.tc : Thread Cert.Dh1RefIdeal.nD Cert.Dh1RefIdeal.τ).loc Cert.Dh1RefIdeal.main_arg9))
      ∧ r.2.sem = fun _ => 0)

def quiescent_Dh1RefIdeal_pre_dh1_finite [hDh1RefIdeal : Cert.Dh1RefIdeal.Facts] [hPre_dh1_finite : Cert.Pre_dh1_finite.Facts] : Prop :=
  ∀ (m : (ℓ : Loc Cert.Dh1RefIdeal.nD Cert.Dh1RefIdeal.τ Cert.Dh1RefIdeal.sig) → Buf (Elt Ideal) ℓ) (g : Dev Cert.Dh1RefIdeal.nD → PrngReg), Pre_Dh1RefIdeal_dh1_finite m →
    θ_run (Cert.Dh1RefIdeal.defs (F := Ideal)) (onTc (τ := Cert.Dh1RefIdeal.τ) (Cert.Dh1RefIdeal.main (F := Ideal))) ⟨m, fun _ => 0, g⟩ (fun r => (∀ c : Dev Cert.Dh1RefIdeal.nD,
      r.2.mem ((c.tc : Thread Cert.Dh1RefIdeal.nD Cert.Dh1RefIdeal.τ).loc Cert.Dh1RefIdeal.main_arg0) = m ((c.tc : Thread Cert.Dh1RefIdeal.nD Cert.Dh1RefIdeal.τ).loc Cert.Dh1RefIdeal.main_arg0)
      ∧ r.2.mem ((c.tc : Thread Cert.Dh1RefIdeal.nD Cert.Dh1RefIdeal.τ).loc Cert.Dh1RefIdeal.main_arg1) = m ((c.tc : Thread Cert.Dh1RefIdeal.nD Cert.Dh1RefIdeal.τ).loc Cert.Dh1RefIdeal.main_arg1)
      ∧ r.2.mem ((c.tc : Thread Cert.Dh1RefIdeal.nD Cert.Dh1RefIdeal.τ).loc Cert.Dh1RefIdeal.main_arg2) = m ((c.tc : Thread Cert.Dh1RefIdeal.nD Cert.Dh1RefIdeal.τ).loc Cert.Dh1RefIdeal.main_arg2)
      ∧ r.2.mem ((c.tc : Thread Cert.Dh1RefIdeal.nD Cert.Dh1RefIdeal.τ).loc Cert.Dh1RefIdeal.main_arg3) = m ((c.tc : Thread Cert.Dh1RefIdeal.nD Cert.Dh1RefIdeal.τ).loc Cert.Dh1RefIdeal.main_arg3)
      ∧ r.2.mem ((c.tc : Thread Cert.Dh1RefIdeal.nD Cert.Dh1RefIdeal.τ).loc Cert.Dh1RefIdeal.main_arg4) = m ((c.tc : Thread Cert.Dh1RefIdeal.nD Cert.Dh1RefIdeal.τ).loc Cert.Dh1RefIdeal.main_arg4)
      ∧ r.2.mem ((c.tc : Thread Cert.Dh1RefIdeal.nD Cert.Dh1RefIdeal.τ).loc Cert.Dh1RefIdeal.main_arg5) = m ((c.tc : Thread Cert.Dh1RefIdeal.nD Cert.Dh1RefIdeal.τ).loc Cert.Dh1RefIdeal.main_arg5)
      ∧ r.2.mem ((c.tc : Thread Cert.Dh1RefIdeal.nD Cert.Dh1RefIdeal.τ).loc Cert.Dh1RefIdeal.main_arg6) = m ((c.tc : Thread Cert.Dh1RefIdeal.nD Cert.Dh1RefIdeal.τ).loc Cert.Dh1RefIdeal.main_arg6)
      ∧ r.2.mem ((c.tc : Thread Cert.Dh1RefIdeal.nD Cert.Dh1RefIdeal.τ).loc Cert.Dh1RefIdeal.main_arg7) = m ((c.tc : Thread Cert.Dh1RefIdeal.nD Cert.Dh1RefIdeal.τ).loc Cert.Dh1RefIdeal.main_arg7)
      ∧ r.2.mem ((c.tc : Thread Cert.Dh1RefIdeal.nD Cert.Dh1RefIdeal.τ).loc Cert.Dh1RefIdeal.main_arg8) = m ((c.tc : Thread Cert.Dh1RefIdeal.nD Cert.Dh1RefIdeal.τ).loc Cert.Dh1RefIdeal.main_arg8)
      ∧ r.2.mem ((c.tc : Thread Cert.Dh1RefIdeal.nD Cert.Dh1RefIdeal.τ).loc Cert.Dh1RefIdeal.main_arg9) = m ((c.tc : Thread Cert.Dh1RefIdeal.nD Cert.Dh1RefIdeal.τ).loc Cert.Dh1RefIdeal.main_arg9))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnIdeal_pre_ffn_finite [hFfnIdeal : Cert.FfnIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_ffn_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_FfnRefIdeal_pre_ffn_finite [hFfnRefIdeal : Cert.FfnRefIdeal.Facts] [hPre_ffn_finite : Cert.Pre_ffn_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_ffn_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2)
      ∧ r.2.mem ((c.tc : Thread Cert.Pool.nD Cert.Pool.τ).loc Cert.Pool.main_arg3) = m ((c.tc : Thread Cert.Pool.nD Cert.Pool.τ).loc Cert.Pool.main_arg3)
      ∧ r.2.mem ((c.tc : Thread Cert.Pool.nD Cert.Pool.τ).loc Cert.Pool.main_arg4) = m ((c.tc : Thread Cert.Pool.nD Cert.Pool.τ).loc Cert.Pool.main_arg4))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
      ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4))
      ∧ r.2.sem = fun _ => 0)

def quiescent_PoolIdeal_pre_pool_finite [hPoolIdeal : Cert.PoolIdeal.Facts] [hPre_pool_finite : Cert.Pre_pool_finite.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal_pool_finite m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
      ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3)
      ∧ r.2.mem ((c.tc : Thread Cert.PoolRefIdeal.nD Cert.PoolRefIdeal.τ).loc Cert.PoolRefIdeal.main_arg4) = m ((c.tc : Thread Cert.PoolRefIdeal.nD Cert.PoolRefIdeal.τ).loc Cert.PoolRefIdeal.main_arg4))
      ∧ r.2.sem = fun _ => 0)

def quiescent_PoolRefIdeal_pre_pool_finite [hPoolRefIdeal : Cert.PoolRefIdeal.Facts] [hPre_pool_finite : Cert.Pre_pool_finite.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal_pool_finite m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3)
      ∧ r.2.mem ((c.tc : Thread Cert.PoolRefIdeal.nD Cert.PoolRefIdeal.τ).loc Cert.PoolRefIdeal.main_arg4) = m ((c.tc : Thread Cert.PoolRefIdeal.nD Cert.PoolRefIdeal.τ).loc Cert.PoolRefIdeal.main_arg4))
      ∧ r.2.sem = fun _ => 0)

def quiescent_LnFwd [hLnFwd : Cert.LnFwd.Facts] : Prop :=
  ∀ (m : (ℓ : Loc Cert.LnFwd.nD Cert.LnFwd.τ Cert.LnFwd.sig) → Buf (Elt Bits) ℓ) (g : Dev Cert.LnFwd.nD → PrngReg), Pre_LnFwd m →
    θ_run (Cert.LnFwd.defs (F := Bits)) (onTc (τ := Cert.LnFwd.τ) (Cert.LnFwd.main (F := Bits))) ⟨m, fun _ => 0, g⟩ (fun r => (∀ c : Dev Cert.LnFwd.nD,
      r.2.mem ((c.tc : Thread Cert.LnFwd.nD Cert.LnFwd.τ).loc Cert.LnFwd.main_arg0) = m ((c.tc : Thread Cert.LnFwd.nD Cert.LnFwd.τ).loc Cert.LnFwd.main_arg0)
      ∧ r.2.mem ((c.tc : Thread Cert.LnFwd.nD Cert.LnFwd.τ).loc Cert.LnFwd.main_arg1) = m ((c.tc : Thread Cert.LnFwd.nD Cert.LnFwd.τ).loc Cert.LnFwd.main_arg1)
      ∧ r.2.mem ((c.tc : Thread Cert.LnFwd.nD Cert.LnFwd.τ).loc Cert.LnFwd.main_arg2) = m ((c.tc : Thread Cert.LnFwd.nD Cert.LnFwd.τ).loc Cert.LnFwd.main_arg2))
      ∧ r.2.sem = fun _ => 0)

def quiescent_LnFwdIdeal [hLnFwdIdeal : Cert.LnFwdIdeal.Facts] : Prop :=
  ∀ (m : (ℓ : Loc Cert.LnFwdIdeal.nD Cert.LnFwdIdeal.τ Cert.LnFwdIdeal.sig) → Buf (Elt Ideal) ℓ) (g : Dev Cert.LnFwdIdeal.nD → PrngReg), Pre_LnFwdIdeal m →
    θ_run (Cert.LnFwdIdeal.defs (F := Ideal)) (onTc (τ := Cert.LnFwdIdeal.τ) (Cert.LnFwdIdeal.main (F := Ideal))) ⟨m, fun _ => 0, g⟩ (fun r => (∀ c : Dev Cert.LnFwdIdeal.nD,
      r.2.mem ((c.tc : Thread Cert.LnFwdIdeal.nD Cert.LnFwdIdeal.τ).loc Cert.LnFwdIdeal.main_arg0) = m ((c.tc : Thread Cert.LnFwdIdeal.nD Cert.LnFwdIdeal.τ).loc Cert.LnFwdIdeal.main_arg0)
      ∧ r.2.mem ((c.tc : Thread Cert.LnFwdIdeal.nD Cert.LnFwdIdeal.τ).loc Cert.LnFwdIdeal.main_arg1) = m ((c.tc : Thread Cert.LnFwdIdeal.nD Cert.LnFwdIdeal.τ).loc Cert.LnFwdIdeal.main_arg1)
      ∧ r.2.mem ((c.tc : Thread Cert.LnFwdIdeal.nD Cert.LnFwdIdeal.τ).loc Cert.LnFwdIdeal.main_arg2) = m ((c.tc : Thread Cert.LnFwdIdeal.nD Cert.LnFwdIdeal.τ).loc Cert.LnFwdIdeal.main_arg2))
      ∧ r.2.sem = fun _ => 0)

def quiescent_LnFwdRefIdeal [hLnFwdRefIdeal : Cert.LnFwdRefIdeal.Facts] : Prop :=
  ∀ (m : (ℓ : Loc Cert.LnFwdRefIdeal.nD Cert.LnFwdRefIdeal.τ Cert.LnFwdRefIdeal.sig) → Buf (Elt Ideal) ℓ) (g : Dev Cert.LnFwdRefIdeal.nD → PrngReg), Pre_LnFwdRefIdeal m →
    θ_run (Cert.LnFwdRefIdeal.defs (F := Ideal)) (onTc (τ := Cert.LnFwdRefIdeal.τ) (Cert.LnFwdRefIdeal.main (F := Ideal))) ⟨m, fun _ => 0, g⟩ (fun r => (∀ c : Dev Cert.LnFwdRefIdeal.nD,
      r.2.mem ((c.tc : Thread Cert.LnFwdRefIdeal.nD Cert.LnFwdRefIdeal.τ).loc Cert.LnFwdRefIdeal.main_arg0) = m ((c.tc : Thread Cert.LnFwdRefIdeal.nD Cert.LnFwdRefIdeal.τ).loc Cert.LnFwdRefIdeal.main_arg0)
      ∧ r.2.mem ((c.tc : Thread Cert.LnFwdRefIdeal.nD Cert.LnFwdRefIdeal.τ).loc Cert.LnFwdRefIdeal.main_arg1) = m ((c.tc : Thread Cert.LnFwdRefIdeal.nD Cert.LnFwdRefIdeal.τ).loc Cert.LnFwdRefIdeal.main_arg1)
      ∧ r.2.mem ((c.tc : Thread Cert.LnFwdRefIdeal.nD Cert.LnFwdRefIdeal.τ).loc Cert.LnFwdRefIdeal.main_arg2) = m ((c.tc : Thread Cert.LnFwdRefIdeal.nD Cert.LnFwdRefIdeal.τ).loc Cert.LnFwdRefIdeal.main_arg2))
      ∧ r.2.sem = fun _ => 0)

def quiescent_MixFwd [hMixFwd : Cert.MixFwd.Facts] : Prop :=
  ∀ (m : (ℓ : Loc Cert.MixFwd.nD Cert.MixFwd.τ Cert.MixFwd.sig) → Buf (Elt Bits) ℓ) (g : Dev Cert.MixFwd.nD → PrngReg), Pre_MixFwd m →
    θ_run (Cert.MixFwd.defs (F := Bits)) (onTc (τ := Cert.MixFwd.τ) (Cert.MixFwd.main (F := Bits))) ⟨m, fun _ => 0, g⟩ (fun r => (∀ c : Dev Cert.MixFwd.nD,
      r.2.mem ((c.tc : Thread Cert.MixFwd.nD Cert.MixFwd.τ).loc Cert.MixFwd.main_arg0) = m ((c.tc : Thread Cert.MixFwd.nD Cert.MixFwd.τ).loc Cert.MixFwd.main_arg0)
      ∧ r.2.mem ((c.tc : Thread Cert.MixFwd.nD Cert.MixFwd.τ).loc Cert.MixFwd.main_arg1) = m ((c.tc : Thread Cert.MixFwd.nD Cert.MixFwd.τ).loc Cert.MixFwd.main_arg1)
      ∧ r.2.mem ((c.tc : Thread Cert.MixFwd.nD Cert.MixFwd.τ).loc Cert.MixFwd.main_arg2) = m ((c.tc : Thread Cert.MixFwd.nD Cert.MixFwd.τ).loc Cert.MixFwd.main_arg2)
      ∧ r.2.mem ((c.tc : Thread Cert.MixFwd.nD Cert.MixFwd.τ).loc Cert.MixFwd.main_arg3) = m ((c.tc : Thread Cert.MixFwd.nD Cert.MixFwd.τ).loc Cert.MixFwd.main_arg3)
      ∧ r.2.mem ((c.tc : Thread Cert.MixFwd.nD Cert.MixFwd.τ).loc Cert.MixFwd.main_arg4) = m ((c.tc : Thread Cert.MixFwd.nD Cert.MixFwd.τ).loc Cert.MixFwd.main_arg4))
      ∧ r.2.sem = fun _ => 0)

def quiescent_MixFwdIdeal [hMixFwdIdeal : Cert.MixFwdIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg), Pre_MixFwdIdeal m →
    θ_run (Cert.MixFwdIdeal.defs (F := Ideal)) (onTc (τ := Cert.MixFwdIdeal.τ) (Cert.MixFwdIdeal.main (F := Ideal))) ⟨m, fun _ => 0, g⟩ (fun r => (∀ c : Dev Cert.MixFwdIdeal.nD,
      r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
      ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
      ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
      ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
      ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4))
      ∧ r.2.sem = fun _ => 0)

def quiescent_MixFwdRefIdeal [hMixFwdRefIdeal : Cert.MixFwdRefIdeal.Facts] : Prop :=
  ∀ (m : (ℓ : Loc Cert.MixFwdRefIdeal.nD Cert.MixFwdRefIdeal.τ Cert.MixFwdRefIdeal.sig) → Buf (Elt Ideal) ℓ) (g : Dev Cert.MixFwdRefIdeal.nD → PrngReg), Pre_MixFwdRefIdeal m →
    θ_run (Cert.MixFwdRefIdeal.defs (F := Ideal)) (onTc (τ := Cert.MixFwdRefIdeal.τ) (Cert.MixFwdRefIdeal.main (F := Ideal))) ⟨m, fun _ => 0, g⟩ (fun r => (∀ c : Dev Cert.MixFwdRefIdeal.nD,
      r.2.mem ((c.tc : Thread Cert.MixFwdRefIdeal.nD Cert.MixFwdRefIdeal.τ).loc Cert.MixFwdRefIdeal.main_arg0) = m ((c.tc : Thread Cert.MixFwdRefIdeal.nD Cert.MixFwdRefIdeal.τ).loc Cert.MixFwdRefIdeal.main_arg0)
      ∧ r.2.mem ((c.tc : Thread Cert.MixFwdRefIdeal.nD Cert.MixFwdRefIdeal.τ).loc Cert.MixFwdRefIdeal.main_arg1) = m ((c.tc : Thread Cert.MixFwdRefIdeal.nD Cert.MixFwdRefIdeal.τ).loc Cert.MixFwdRefIdeal.main_arg1)
      ∧ r.2.mem ((c.tc : Thread Cert.MixFwdRefIdeal.nD Cert.MixFwdRefIdeal.τ).loc Cert.MixFwdRefIdeal.main_arg2) = m ((c.tc : Thread Cert.MixFwdRefIdeal.nD Cert.MixFwdRefIdeal.τ).loc Cert.MixFwdRefIdeal.main_arg2)
      ∧ r.2.mem ((c.tc : Thread Cert.MixFwdRefIdeal.nD Cert.MixFwdRefIdeal.τ).loc Cert.MixFwdRefIdeal.main_arg3) = m ((c.tc : Thread Cert.MixFwdRefIdeal.nD Cert.MixFwdRefIdeal.τ).loc Cert.MixFwdRefIdeal.main_arg3)
      ∧ r.2.mem ((c.tc : Thread Cert.MixFwdRefIdeal.nD Cert.MixFwdRefIdeal.τ).loc Cert.MixFwdRefIdeal.main_arg4) = m ((c.tc : Thread Cert.MixFwdRefIdeal.nD Cert.MixFwdRefIdeal.τ).loc Cert.MixFwdRefIdeal.main_arg4))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2)
      ∧ r.2.mem ((c.tc : Thread Cert.MergeFwd.nD Cert.MergeFwd.τ).loc Cert.MergeFwd.main_arg3) = m ((c.tc : Thread Cert.MergeFwd.nD Cert.MergeFwd.τ).loc Cert.MergeFwd.main_arg3)
      ∧ r.2.mem ((c.tc : Thread Cert.MergeFwd.nD Cert.MergeFwd.τ).loc Cert.MergeFwd.main_arg4) = m ((c.tc : Thread Cert.MergeFwd.nD Cert.MergeFwd.τ).loc Cert.MergeFwd.main_arg4))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
      ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
      ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4))
      ∧ r.2.sem = fun _ => 0)

def quiescent_MergeFwdRefIdeal [hMergeFwdRefIdeal : Cert.MergeFwdRefIdeal.Facts] : Prop :=
  ∀ (m : (ℓ : Loc Cert.MergeFwdRefIdeal.nD Cert.MergeFwdRefIdeal.τ Cert.MergeFwdRefIdeal.sig) → Buf (Elt Ideal) ℓ) (g : Dev Cert.MergeFwdRefIdeal.nD → PrngReg), Pre_MergeFwdRefIdeal m →
    θ_run (Cert.MergeFwdRefIdeal.defs (F := Ideal)) (onTc (τ := Cert.MergeFwdRefIdeal.τ) (Cert.MergeFwdRefIdeal.main (F := Ideal))) ⟨m, fun _ => 0, g⟩ (fun r => (∀ c : Dev Cert.MergeFwdRefIdeal.nD,
      r.2.mem ((c.tc : Thread Cert.MergeFwdRefIdeal.nD Cert.MergeFwdRefIdeal.τ).loc Cert.MergeFwdRefIdeal.main_arg0) = m ((c.tc : Thread Cert.MergeFwdRefIdeal.nD Cert.MergeFwdRefIdeal.τ).loc Cert.MergeFwdRefIdeal.main_arg0)
      ∧ r.2.mem ((c.tc : Thread Cert.MergeFwdRefIdeal.nD Cert.MergeFwdRefIdeal.τ).loc Cert.MergeFwdRefIdeal.main_arg1) = m ((c.tc : Thread Cert.MergeFwdRefIdeal.nD Cert.MergeFwdRefIdeal.τ).loc Cert.MergeFwdRefIdeal.main_arg1)
      ∧ r.2.mem ((c.tc : Thread Cert.MergeFwdRefIdeal.nD Cert.MergeFwdRefIdeal.τ).loc Cert.MergeFwdRefIdeal.main_arg2) = m ((c.tc : Thread Cert.MergeFwdRefIdeal.nD Cert.MergeFwdRefIdeal.τ).loc Cert.MergeFwdRefIdeal.main_arg2)
      ∧ r.2.mem ((c.tc : Thread Cert.MergeFwdRefIdeal.nD Cert.MergeFwdRefIdeal.τ).loc Cert.MergeFwdRefIdeal.main_arg3) = m ((c.tc : Thread Cert.MergeFwdRefIdeal.nD Cert.MergeFwdRefIdeal.τ).loc Cert.MergeFwdRefIdeal.main_arg3)
      ∧ r.2.mem ((c.tc : Thread Cert.MergeFwdRefIdeal.nD Cert.MergeFwdRefIdeal.τ).loc Cert.MergeFwdRefIdeal.main_arg4) = m ((c.tc : Thread Cert.MergeFwdRefIdeal.nD Cert.MergeFwdRefIdeal.τ).loc Cert.MergeFwdRefIdeal.main_arg4))
      ∧ r.2.sem = fun _ => 0)

def quiescent_DownFwd [hDownFwd : Cert.DownFwd.Facts] : Prop :=
  ∀ (m : (ℓ : Loc Cert.DownFwd.nD Cert.DownFwd.τ Cert.DownFwd.sig) → Buf (Elt Bits) ℓ) (g : Dev Cert.DownFwd.nD → PrngReg), Pre_DownFwd m →
    θ_run (Cert.DownFwd.defs (F := Bits)) (onTc (τ := Cert.DownFwd.τ) (Cert.DownFwd.main (F := Bits))) ⟨m, fun _ => 0, g⟩ (fun r => (∀ c : Dev Cert.DownFwd.nD,
      r.2.mem ((c.tc : Thread Cert.DownFwd.nD Cert.DownFwd.τ).loc Cert.DownFwd.main_arg0) = m ((c.tc : Thread Cert.DownFwd.nD Cert.DownFwd.τ).loc Cert.DownFwd.main_arg0)
      ∧ r.2.mem ((c.tc : Thread Cert.DownFwd.nD Cert.DownFwd.τ).loc Cert.DownFwd.main_arg1) = m ((c.tc : Thread Cert.DownFwd.nD Cert.DownFwd.τ).loc Cert.DownFwd.main_arg1)
      ∧ r.2.mem ((c.tc : Thread Cert.DownFwd.nD Cert.DownFwd.τ).loc Cert.DownFwd.main_arg2) = m ((c.tc : Thread Cert.DownFwd.nD Cert.DownFwd.τ).loc Cert.DownFwd.main_arg2)
      ∧ r.2.mem ((c.tc : Thread Cert.DownFwd.nD Cert.DownFwd.τ).loc Cert.DownFwd.main_arg3) = m ((c.tc : Thread Cert.DownFwd.nD Cert.DownFwd.τ).loc Cert.DownFwd.main_arg3)
      ∧ r.2.mem ((c.tc : Thread Cert.DownFwd.nD Cert.DownFwd.τ).loc Cert.DownFwd.main_arg4) = m ((c.tc : Thread Cert.DownFwd.nD Cert.DownFwd.τ).loc Cert.DownFwd.main_arg4)
      ∧ r.2.mem ((c.tc : Thread Cert.DownFwd.nD Cert.DownFwd.τ).loc Cert.DownFwd.main_arg5) = m ((c.tc : Thread Cert.DownFwd.nD Cert.DownFwd.τ).loc Cert.DownFwd.main_arg5)
      ∧ r.2.mem ((c.tc : Thread Cert.DownFwd.nD Cert.DownFwd.τ).loc Cert.DownFwd.main_arg6) = m ((c.tc : Thread Cert.DownFwd.nD Cert.DownFwd.τ).loc Cert.DownFwd.main_arg6)
      ∧ r.2.mem ((c.tc : Thread Cert.DownFwd.nD Cert.DownFwd.τ).loc Cert.DownFwd.main_arg7) = m ((c.tc : Thread Cert.DownFwd.nD Cert.DownFwd.τ).loc Cert.DownFwd.main_arg7))
      ∧ r.2.sem = fun _ => 0)

def quiescent_DownFwdIdeal [hDownFwdIdeal : Cert.DownFwdIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg), Pre_DownFwdIdeal m →
    θ_run (Cert.DownFwdIdeal.defs (F := Ideal)) (onTc (τ := Cert.DownFwdIdeal.τ) (Cert.DownFwdIdeal.main (F := Ideal))) ⟨m, fun _ => 0, g⟩ (fun r => (∀ c : Dev Cert.DownFwdIdeal.nD,
      r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
      ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1)
      ∧ r.2.mem ((c.tc : Thread Cert.DownFwdIdeal.nD Cert.DownFwdIdeal.τ).loc Cert.DownFwdIdeal.main_arg2) = m ((c.tc : Thread Cert.DownFwdIdeal.nD Cert.DownFwdIdeal.τ).loc Cert.DownFwdIdeal.main_arg2)
      ∧ r.2.mem ((c.tc : Thread Cert.DownFwdIdeal.nD Cert.DownFwdIdeal.τ).loc Cert.DownFwdIdeal.main_arg3) = m ((c.tc : Thread Cert.DownFwdIdeal.nD Cert.DownFwdIdeal.τ).loc Cert.DownFwdIdeal.main_arg3)
      ∧ r.2.mem ((c.tc : Thread Cert.DownFwdIdeal.nD Cert.DownFwdIdeal.τ).loc Cert.DownFwdIdeal.main_arg4) = m ((c.tc : Thread Cert.DownFwdIdeal.nD Cert.DownFwdIdeal.τ).loc Cert.DownFwdIdeal.main_arg4)
      ∧ r.2.mem ((c.tc : Thread Cert.DownFwdIdeal.nD Cert.DownFwdIdeal.τ).loc Cert.DownFwdIdeal.main_arg5) = m ((c.tc : Thread Cert.DownFwdIdeal.nD Cert.DownFwdIdeal.τ).loc Cert.DownFwdIdeal.main_arg5)
      ∧ r.2.mem ((c.tc : Thread Cert.DownFwdIdeal.nD Cert.DownFwdIdeal.τ).loc Cert.DownFwdIdeal.main_arg6) = m ((c.tc : Thread Cert.DownFwdIdeal.nD Cert.DownFwdIdeal.τ).loc Cert.DownFwdIdeal.main_arg6)
      ∧ r.2.mem ((c.tc : Thread Cert.DownFwdIdeal.nD Cert.DownFwdIdeal.τ).loc Cert.DownFwdIdeal.main_arg7) = m ((c.tc : Thread Cert.DownFwdIdeal.nD Cert.DownFwdIdeal.τ).loc Cert.DownFwdIdeal.main_arg7))
      ∧ r.2.sem = fun _ => 0)

def quiescent_DownFwdRefIdeal [hDownFwdRefIdeal : Cert.DownFwdRefIdeal.Facts] : Prop :=
  ∀ (m : (ℓ : Loc Cert.DownFwdRefIdeal.nD Cert.DownFwdRefIdeal.τ Cert.DownFwdRefIdeal.sig) → Buf (Elt Ideal) ℓ) (g : Dev Cert.DownFwdRefIdeal.nD → PrngReg), Pre_DownFwdRefIdeal m →
    θ_run (Cert.DownFwdRefIdeal.defs (F := Ideal)) (onTc (τ := Cert.DownFwdRefIdeal.τ) (Cert.DownFwdRefIdeal.main (F := Ideal))) ⟨m, fun _ => 0, g⟩ (fun r => (∀ c : Dev Cert.DownFwdRefIdeal.nD,
      r.2.mem ((c.tc : Thread Cert.DownFwdRefIdeal.nD Cert.DownFwdRefIdeal.τ).loc Cert.DownFwdRefIdeal.main_arg0) = m ((c.tc : Thread Cert.DownFwdRefIdeal.nD Cert.DownFwdRefIdeal.τ).loc Cert.DownFwdRefIdeal.main_arg0)
      ∧ r.2.mem ((c.tc : Thread Cert.DownFwdRefIdeal.nD Cert.DownFwdRefIdeal.τ).loc Cert.DownFwdRefIdeal.main_arg1) = m ((c.tc : Thread Cert.DownFwdRefIdeal.nD Cert.DownFwdRefIdeal.τ).loc Cert.DownFwdRefIdeal.main_arg1)
      ∧ r.2.mem ((c.tc : Thread Cert.DownFwdRefIdeal.nD Cert.DownFwdRefIdeal.τ).loc Cert.DownFwdRefIdeal.main_arg2) = m ((c.tc : Thread Cert.DownFwdRefIdeal.nD Cert.DownFwdRefIdeal.τ).loc Cert.DownFwdRefIdeal.main_arg2)
      ∧ r.2.mem ((c.tc : Thread Cert.DownFwdRefIdeal.nD Cert.DownFwdRefIdeal.τ).loc Cert.DownFwdRefIdeal.main_arg3) = m ((c.tc : Thread Cert.DownFwdRefIdeal.nD Cert.DownFwdRefIdeal.τ).loc Cert.DownFwdRefIdeal.main_arg3)
      ∧ r.2.mem ((c.tc : Thread Cert.DownFwdRefIdeal.nD Cert.DownFwdRefIdeal.τ).loc Cert.DownFwdRefIdeal.main_arg4) = m ((c.tc : Thread Cert.DownFwdRefIdeal.nD Cert.DownFwdRefIdeal.τ).loc Cert.DownFwdRefIdeal.main_arg4)
      ∧ r.2.mem ((c.tc : Thread Cert.DownFwdRefIdeal.nD Cert.DownFwdRefIdeal.τ).loc Cert.DownFwdRefIdeal.main_arg5) = m ((c.tc : Thread Cert.DownFwdRefIdeal.nD Cert.DownFwdRefIdeal.τ).loc Cert.DownFwdRefIdeal.main_arg5)
      ∧ r.2.mem ((c.tc : Thread Cert.DownFwdRefIdeal.nD Cert.DownFwdRefIdeal.τ).loc Cert.DownFwdRefIdeal.main_arg6) = m ((c.tc : Thread Cert.DownFwdRefIdeal.nD Cert.DownFwdRefIdeal.τ).loc Cert.DownFwdRefIdeal.main_arg6)
      ∧ r.2.mem ((c.tc : Thread Cert.DownFwdRefIdeal.nD Cert.DownFwdRefIdeal.τ).loc Cert.DownFwdRefIdeal.main_arg7) = m ((c.tc : Thread Cert.DownFwdRefIdeal.nD Cert.DownFwdRefIdeal.τ).loc Cert.DownFwdRefIdeal.main_arg7))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2))
      ∧ r.2.sem = fun _ => 0)

def quiescent_PoolFwd [hPoolFwd : Cert.PoolFwd.Facts] : Prop :=
  ∀ (m : (ℓ : Loc Cert.PoolFwd.nD Cert.PoolFwd.τ Cert.PoolFwd.sig) → Buf (Elt Bits) ℓ) (g : Dev Cert.PoolFwd.nD → PrngReg), Pre_PoolFwd m →
    θ_run (Cert.PoolFwd.defs (F := Bits)) (onTc (τ := Cert.PoolFwd.τ) (Cert.PoolFwd.main (F := Bits))) ⟨m, fun _ => 0, g⟩ (fun r => (∀ c : Dev Cert.PoolFwd.nD,
      r.2.mem ((c.tc : Thread Cert.PoolFwd.nD Cert.PoolFwd.τ).loc Cert.PoolFwd.main_arg0) = m ((c.tc : Thread Cert.PoolFwd.nD Cert.PoolFwd.τ).loc Cert.PoolFwd.main_arg0)
      ∧ r.2.mem ((c.tc : Thread Cert.PoolFwd.nD Cert.PoolFwd.τ).loc Cert.PoolFwd.main_arg1) = m ((c.tc : Thread Cert.PoolFwd.nD Cert.PoolFwd.τ).loc Cert.PoolFwd.main_arg1)
      ∧ r.2.mem ((c.tc : Thread Cert.PoolFwd.nD Cert.PoolFwd.τ).loc Cert.PoolFwd.main_arg2) = m ((c.tc : Thread Cert.PoolFwd.nD Cert.PoolFwd.τ).loc Cert.PoolFwd.main_arg2))
      ∧ r.2.sem = fun _ => 0)

def quiescent_PoolFwdIdeal [hPoolFwdIdeal : Cert.PoolFwdIdeal.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg), Pre_PoolFwdIdeal m →
    θ_run (Cert.PoolFwdIdeal.defs (F := Ideal)) (onTc (τ := Cert.PoolFwdIdeal.τ) (Cert.PoolFwdIdeal.main (F := Ideal))) ⟨m, fun _ => 0, g⟩ (fun r => (∀ c : Dev Cert.PoolFwdIdeal.nD,
      r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0)
      ∧ r.2.mem ((c.tc : Thread Cert.PoolFwdIdeal.nD Cert.PoolFwdIdeal.τ).loc Cert.PoolFwdIdeal.main_arg1) = m ((c.tc : Thread Cert.PoolFwdIdeal.nD Cert.PoolFwdIdeal.τ).loc Cert.PoolFwdIdeal.main_arg1)
      ∧ r.2.mem ((c.tc : Thread Cert.PoolFwdIdeal.nD Cert.PoolFwdIdeal.τ).loc Cert.PoolFwdIdeal.main_arg2) = m ((c.tc : Thread Cert.PoolFwdIdeal.nD Cert.PoolFwdIdeal.τ).loc Cert.PoolFwdIdeal.main_arg2))
      ∧ r.2.sem = fun _ => 0)

def quiescent_PoolFwdIdeal_pre_poolf_finite [hPoolFwdIdeal : Cert.PoolFwdIdeal.Facts] [hPre_poolf_finite : Cert.Pre_poolf_finite.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg), Pre_PoolFwdIdeal_poolf_finite m →
    θ_run (Cert.PoolFwdIdeal.defs (F := Ideal)) (onTc (τ := Cert.PoolFwdIdeal.τ) (Cert.PoolFwdIdeal.main (F := Ideal))) ⟨m, fun _ => 0, g⟩ (fun r => (∀ c : Dev Cert.PoolFwdIdeal.nD,
      r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0)
      ∧ r.2.mem ((c.tc : Thread Cert.PoolFwdIdeal.nD Cert.PoolFwdIdeal.τ).loc Cert.PoolFwdIdeal.main_arg1) = m ((c.tc : Thread Cert.PoolFwdIdeal.nD Cert.PoolFwdIdeal.τ).loc Cert.PoolFwdIdeal.main_arg1)
      ∧ r.2.mem ((c.tc : Thread Cert.PoolFwdIdeal.nD Cert.PoolFwdIdeal.τ).loc Cert.PoolFwdIdeal.main_arg2) = m ((c.tc : Thread Cert.PoolFwdIdeal.nD Cert.PoolFwdIdeal.τ).loc Cert.PoolFwdIdeal.main_arg2))
      ∧ r.2.sem = fun _ => 0)

def quiescent_PoolFwdRefIdeal [hPoolFwdRefIdeal : Cert.PoolFwdRefIdeal.Facts] : Prop :=
  ∀ (m : (ℓ : Loc Cert.PoolFwdRefIdeal.nD Cert.PoolFwdRefIdeal.τ Cert.PoolFwdRefIdeal.sig) → Buf (Elt Ideal) ℓ) (g : Dev Cert.PoolFwdRefIdeal.nD → PrngReg), Pre_PoolFwdRefIdeal m →
    θ_run (Cert.PoolFwdRefIdeal.defs (F := Ideal)) (onTc (τ := Cert.PoolFwdRefIdeal.τ) (Cert.PoolFwdRefIdeal.main (F := Ideal))) ⟨m, fun _ => 0, g⟩ (fun r => (∀ c : Dev Cert.PoolFwdRefIdeal.nD,
      r.2.mem ((c.tc : Thread Cert.PoolFwdRefIdeal.nD Cert.PoolFwdRefIdeal.τ).loc Cert.PoolFwdRefIdeal.main_arg0) = m ((c.tc : Thread Cert.PoolFwdRefIdeal.nD Cert.PoolFwdRefIdeal.τ).loc Cert.PoolFwdRefIdeal.main_arg0)
      ∧ r.2.mem ((c.tc : Thread Cert.PoolFwdRefIdeal.nD Cert.PoolFwdRefIdeal.τ).loc Cert.PoolFwdRefIdeal.main_arg1) = m ((c.tc : Thread Cert.PoolFwdRefIdeal.nD Cert.PoolFwdRefIdeal.τ).loc Cert.PoolFwdRefIdeal.main_arg1)
      ∧ r.2.mem ((c.tc : Thread Cert.PoolFwdRefIdeal.nD Cert.PoolFwdRefIdeal.τ).loc Cert.PoolFwdRefIdeal.main_arg2) = m ((c.tc : Thread Cert.PoolFwdRefIdeal.nD Cert.PoolFwdRefIdeal.τ).loc Cert.PoolFwdRefIdeal.main_arg2))
      ∧ r.2.sem = fun _ => 0)

def quiescent_PoolFwdRefIdeal_pre_poolf_finite [hPoolFwdRefIdeal : Cert.PoolFwdRefIdeal.Facts] [hPre_poolf_finite : Cert.Pre_poolf_finite.Facts] : Prop :=
  ∀ (m : (ℓ : Loc Cert.PoolFwdRefIdeal.nD Cert.PoolFwdRefIdeal.τ Cert.PoolFwdRefIdeal.sig) → Buf (Elt Ideal) ℓ) (g : Dev Cert.PoolFwdRefIdeal.nD → PrngReg), Pre_PoolFwdRefIdeal_poolf_finite m →
    θ_run (Cert.PoolFwdRefIdeal.defs (F := Ideal)) (onTc (τ := Cert.PoolFwdRefIdeal.τ) (Cert.PoolFwdRefIdeal.main (F := Ideal))) ⟨m, fun _ => 0, g⟩ (fun r => (∀ c : Dev Cert.PoolFwdRefIdeal.nD,
      r.2.mem ((c.tc : Thread Cert.PoolFwdRefIdeal.nD Cert.PoolFwdRefIdeal.τ).loc Cert.PoolFwdRefIdeal.main_arg0) = m ((c.tc : Thread Cert.PoolFwdRefIdeal.nD Cert.PoolFwdRefIdeal.τ).loc Cert.PoolFwdRefIdeal.main_arg0)
      ∧ r.2.mem ((c.tc : Thread Cert.PoolFwdRefIdeal.nD Cert.PoolFwdRefIdeal.τ).loc Cert.PoolFwdRefIdeal.main_arg1) = m ((c.tc : Thread Cert.PoolFwdRefIdeal.nD Cert.PoolFwdRefIdeal.τ).loc Cert.PoolFwdRefIdeal.main_arg1)
      ∧ r.2.mem ((c.tc : Thread Cert.PoolFwdRefIdeal.nD Cert.PoolFwdRefIdeal.τ).loc Cert.PoolFwdRefIdeal.main_arg2) = m ((c.tc : Thread Cert.PoolFwdRefIdeal.nD Cert.PoolFwdRefIdeal.τ).loc Cert.PoolFwdRefIdeal.main_arg2))
      ∧ r.2.sem = fun _ => 0)

def quiescent_Wdown [hWdown : Cert.Wdown.Facts] : Prop :=
  ∀ (m : (ℓ : Loc Cert.Wdown.nD Cert.Wdown.τ Cert.Wdown.sig) → Buf (Elt Bits) ℓ) (g : Dev Cert.Wdown.nD → PrngReg), Pre_Wdown m →
    θ_run (Cert.Wdown.defs (F := Bits)) (onTc (τ := Cert.Wdown.τ) (Cert.Wdown.main (F := Bits))) ⟨m, fun _ => 0, g⟩ (fun r => (∀ c : Dev Cert.Wdown.nD,
      r.2.mem ((c.tc : Thread Cert.Wdown.nD Cert.Wdown.τ).loc Cert.Wdown.main_arg0) = m ((c.tc : Thread Cert.Wdown.nD Cert.Wdown.τ).loc Cert.Wdown.main_arg0)
      ∧ r.2.mem ((c.tc : Thread Cert.Wdown.nD Cert.Wdown.τ).loc Cert.Wdown.main_arg1) = m ((c.tc : Thread Cert.Wdown.nD Cert.Wdown.τ).loc Cert.Wdown.main_arg1)
      ∧ r.2.mem ((c.tc : Thread Cert.Wdown.nD Cert.Wdown.τ).loc Cert.Wdown.main_arg2) = m ((c.tc : Thread Cert.Wdown.nD Cert.Wdown.τ).loc Cert.Wdown.main_arg2))
      ∧ r.2.sem = fun _ => 0)

def quiescent_WdownIdeal [hWdownIdeal : Cert.WdownIdeal.Facts] : Prop :=
  ∀ (m : (ℓ : Loc Cert.WdownIdeal.nD Cert.WdownIdeal.τ Cert.WdownIdeal.sig) → Buf (Elt Ideal) ℓ) (g : Dev Cert.WdownIdeal.nD → PrngReg), Pre_WdownIdeal m →
    θ_run (Cert.WdownIdeal.defs (F := Ideal)) (onTc (τ := Cert.WdownIdeal.τ) (Cert.WdownIdeal.main (F := Ideal))) ⟨m, fun _ => 0, g⟩ (fun r => (∀ c : Dev Cert.WdownIdeal.nD,
      r.2.mem ((c.tc : Thread Cert.WdownIdeal.nD Cert.WdownIdeal.τ).loc Cert.WdownIdeal.main_arg0) = m ((c.tc : Thread Cert.WdownIdeal.nD Cert.WdownIdeal.τ).loc Cert.WdownIdeal.main_arg0)
      ∧ r.2.mem ((c.tc : Thread Cert.WdownIdeal.nD Cert.WdownIdeal.τ).loc Cert.WdownIdeal.main_arg1) = m ((c.tc : Thread Cert.WdownIdeal.nD Cert.WdownIdeal.τ).loc Cert.WdownIdeal.main_arg1)
      ∧ r.2.mem ((c.tc : Thread Cert.WdownIdeal.nD Cert.WdownIdeal.τ).loc Cert.WdownIdeal.main_arg2) = m ((c.tc : Thread Cert.WdownIdeal.nD Cert.WdownIdeal.τ).loc Cert.WdownIdeal.main_arg2))
      ∧ r.2.sem = fun _ => 0)

def quiescent_WdownRefIdeal [hWdownRefIdeal : Cert.WdownRefIdeal.Facts] : Prop :=
  ∀ (m : (ℓ : Loc Cert.WdownRefIdeal.nD Cert.WdownRefIdeal.τ Cert.WdownRefIdeal.sig) → Buf (Elt Ideal) ℓ) (g : Dev Cert.WdownRefIdeal.nD → PrngReg), Pre_WdownRefIdeal m →
    θ_run (Cert.WdownRefIdeal.defs (F := Ideal)) (onTc (τ := Cert.WdownRefIdeal.τ) (Cert.WdownRefIdeal.main (F := Ideal))) ⟨m, fun _ => 0, g⟩ (fun r => (∀ c : Dev Cert.WdownRefIdeal.nD,
      r.2.mem ((c.tc : Thread Cert.WdownRefIdeal.nD Cert.WdownRefIdeal.τ).loc Cert.WdownRefIdeal.main_arg0) = m ((c.tc : Thread Cert.WdownRefIdeal.nD Cert.WdownRefIdeal.τ).loc Cert.WdownRefIdeal.main_arg0)
      ∧ r.2.mem ((c.tc : Thread Cert.WdownRefIdeal.nD Cert.WdownRefIdeal.τ).loc Cert.WdownRefIdeal.main_arg1) = m ((c.tc : Thread Cert.WdownRefIdeal.nD Cert.WdownRefIdeal.τ).loc Cert.WdownRefIdeal.main_arg1)
      ∧ r.2.mem ((c.tc : Thread Cert.WdownRefIdeal.nD Cert.WdownRefIdeal.τ).loc Cert.WdownRefIdeal.main_arg2) = m ((c.tc : Thread Cert.WdownRefIdeal.nD Cert.WdownRefIdeal.τ).loc Cert.WdownRefIdeal.main_arg2))
      ∧ r.2.sem = fun _ => 0)

def quiescent_Wup [hWup : Cert.Wup.Facts] : Prop :=
  ∀ (m : (ℓ : Loc Cert.Wup.nD Cert.Wup.τ Cert.Wup.sig) → Buf (Elt Bits) ℓ) (g : Dev Cert.Wup.nD → PrngReg), Pre_Wup m →
    θ_run (Cert.Wup.defs (F := Bits)) (onTc (τ := Cert.Wup.τ) (Cert.Wup.main (F := Bits))) ⟨m, fun _ => 0, g⟩ (fun r => (∀ c : Dev Cert.Wup.nD,
      r.2.mem ((c.tc : Thread Cert.Wup.nD Cert.Wup.τ).loc Cert.Wup.main_arg0) = m ((c.tc : Thread Cert.Wup.nD Cert.Wup.τ).loc Cert.Wup.main_arg0)
      ∧ r.2.mem ((c.tc : Thread Cert.Wup.nD Cert.Wup.τ).loc Cert.Wup.main_arg1) = m ((c.tc : Thread Cert.Wup.nD Cert.Wup.τ).loc Cert.Wup.main_arg1)
      ∧ r.2.mem ((c.tc : Thread Cert.Wup.nD Cert.Wup.τ).loc Cert.Wup.main_arg2) = m ((c.tc : Thread Cert.Wup.nD Cert.Wup.τ).loc Cert.Wup.main_arg2)
      ∧ r.2.mem ((c.tc : Thread Cert.Wup.nD Cert.Wup.τ).loc Cert.Wup.main_arg3) = m ((c.tc : Thread Cert.Wup.nD Cert.Wup.τ).loc Cert.Wup.main_arg3))
      ∧ r.2.sem = fun _ => 0)

def quiescent_WupIdeal [hWupIdeal : Cert.WupIdeal.Facts] : Prop :=
  ∀ (m : (ℓ : Loc Cert.WupIdeal.nD Cert.WupIdeal.τ Cert.WupIdeal.sig) → Buf (Elt Ideal) ℓ) (g : Dev Cert.WupIdeal.nD → PrngReg), Pre_WupIdeal m →
    θ_run (Cert.WupIdeal.defs (F := Ideal)) (onTc (τ := Cert.WupIdeal.τ) (Cert.WupIdeal.main (F := Ideal))) ⟨m, fun _ => 0, g⟩ (fun r => (∀ c : Dev Cert.WupIdeal.nD,
      r.2.mem ((c.tc : Thread Cert.WupIdeal.nD Cert.WupIdeal.τ).loc Cert.WupIdeal.main_arg0) = m ((c.tc : Thread Cert.WupIdeal.nD Cert.WupIdeal.τ).loc Cert.WupIdeal.main_arg0)
      ∧ r.2.mem ((c.tc : Thread Cert.WupIdeal.nD Cert.WupIdeal.τ).loc Cert.WupIdeal.main_arg1) = m ((c.tc : Thread Cert.WupIdeal.nD Cert.WupIdeal.τ).loc Cert.WupIdeal.main_arg1)
      ∧ r.2.mem ((c.tc : Thread Cert.WupIdeal.nD Cert.WupIdeal.τ).loc Cert.WupIdeal.main_arg2) = m ((c.tc : Thread Cert.WupIdeal.nD Cert.WupIdeal.τ).loc Cert.WupIdeal.main_arg2)
      ∧ r.2.mem ((c.tc : Thread Cert.WupIdeal.nD Cert.WupIdeal.τ).loc Cert.WupIdeal.main_arg3) = m ((c.tc : Thread Cert.WupIdeal.nD Cert.WupIdeal.τ).loc Cert.WupIdeal.main_arg3))
      ∧ r.2.sem = fun _ => 0)

def quiescent_WupRefIdeal [hWupRefIdeal : Cert.WupRefIdeal.Facts] : Prop :=
  ∀ (m : (ℓ : Loc Cert.WupRefIdeal.nD Cert.WupRefIdeal.τ Cert.WupRefIdeal.sig) → Buf (Elt Ideal) ℓ) (g : Dev Cert.WupRefIdeal.nD → PrngReg), Pre_WupRefIdeal m →
    θ_run (Cert.WupRefIdeal.defs (F := Ideal)) (onTc (τ := Cert.WupRefIdeal.τ) (Cert.WupRefIdeal.main (F := Ideal))) ⟨m, fun _ => 0, g⟩ (fun r => (∀ c : Dev Cert.WupRefIdeal.nD,
      r.2.mem ((c.tc : Thread Cert.WupRefIdeal.nD Cert.WupRefIdeal.τ).loc Cert.WupRefIdeal.main_arg0) = m ((c.tc : Thread Cert.WupRefIdeal.nD Cert.WupRefIdeal.τ).loc Cert.WupRefIdeal.main_arg0)
      ∧ r.2.mem ((c.tc : Thread Cert.WupRefIdeal.nD Cert.WupRefIdeal.τ).loc Cert.WupRefIdeal.main_arg1) = m ((c.tc : Thread Cert.WupRefIdeal.nD Cert.WupRefIdeal.τ).loc Cert.WupRefIdeal.main_arg1)
      ∧ r.2.mem ((c.tc : Thread Cert.WupRefIdeal.nD Cert.WupRefIdeal.τ).loc Cert.WupRefIdeal.main_arg2) = m ((c.tc : Thread Cert.WupRefIdeal.nD Cert.WupRefIdeal.τ).loc Cert.WupRefIdeal.main_arg2)
      ∧ r.2.mem ((c.tc : Thread Cert.WupRefIdeal.nD Cert.WupRefIdeal.τ).loc Cert.WupRefIdeal.main_arg3) = m ((c.tc : Thread Cert.WupRefIdeal.nD Cert.WupRefIdeal.τ).loc Cert.WupRefIdeal.main_arg3))
      ∧ r.2.sem = fun _ => 0)

def quiescent_Win [hWin : Cert.Win.Facts] : Prop :=
  ∀ (m : (ℓ : Loc Cert.Win.nD Cert.Win.τ Cert.Win.sig) → Buf (Elt Bits) ℓ) (g : Dev Cert.Win.nD → PrngReg), Pre_Win m →
    θ_run (Cert.Win.defs (F := Bits)) (onTc (τ := Cert.Win.τ) (Cert.Win.main (F := Bits))) ⟨m, fun _ => 0, g⟩ (fun r => (∀ c : Dev Cert.Win.nD,
      r.2.mem ((c.tc : Thread Cert.Win.nD Cert.Win.τ).loc Cert.Win.main_arg0) = m ((c.tc : Thread Cert.Win.nD Cert.Win.τ).loc Cert.Win.main_arg0)
      ∧ r.2.mem ((c.tc : Thread Cert.Win.nD Cert.Win.τ).loc Cert.Win.main_arg1) = m ((c.tc : Thread Cert.Win.nD Cert.Win.τ).loc Cert.Win.main_arg1)
      ∧ r.2.mem ((c.tc : Thread Cert.Win.nD Cert.Win.τ).loc Cert.Win.main_arg2) = m ((c.tc : Thread Cert.Win.nD Cert.Win.τ).loc Cert.Win.main_arg2)
      ∧ r.2.mem ((c.tc : Thread Cert.Win.nD Cert.Win.τ).loc Cert.Win.main_arg3) = m ((c.tc : Thread Cert.Win.nD Cert.Win.τ).loc Cert.Win.main_arg3)
      ∧ r.2.mem ((c.tc : Thread Cert.Win.nD Cert.Win.τ).loc Cert.Win.main_arg4) = m ((c.tc : Thread Cert.Win.nD Cert.Win.τ).loc Cert.Win.main_arg4)
      ∧ r.2.mem ((c.tc : Thread Cert.Win.nD Cert.Win.τ).loc Cert.Win.main_arg5) = m ((c.tc : Thread Cert.Win.nD Cert.Win.τ).loc Cert.Win.main_arg5)
      ∧ r.2.mem ((c.tc : Thread Cert.Win.nD Cert.Win.τ).loc Cert.Win.main_arg6) = m ((c.tc : Thread Cert.Win.nD Cert.Win.τ).loc Cert.Win.main_arg6)
      ∧ r.2.mem ((c.tc : Thread Cert.Win.nD Cert.Win.τ).loc Cert.Win.main_arg7) = m ((c.tc : Thread Cert.Win.nD Cert.Win.τ).loc Cert.Win.main_arg7)
      ∧ r.2.mem ((c.tc : Thread Cert.Win.nD Cert.Win.τ).loc Cert.Win.main_arg8) = m ((c.tc : Thread Cert.Win.nD Cert.Win.τ).loc Cert.Win.main_arg8))
      ∧ r.2.sem = fun _ => 0)

def quiescent_WinIdeal [hWinIdeal : Cert.WinIdeal.Facts] : Prop :=
  ∀ (m : (ℓ : Loc Cert.WinIdeal.nD Cert.WinIdeal.τ Cert.WinIdeal.sig) → Buf (Elt Ideal) ℓ) (g : Dev Cert.WinIdeal.nD → PrngReg), Pre_WinIdeal m →
    θ_run (Cert.WinIdeal.defs (F := Ideal)) (onTc (τ := Cert.WinIdeal.τ) (Cert.WinIdeal.main (F := Ideal))) ⟨m, fun _ => 0, g⟩ (fun r => (∀ c : Dev Cert.WinIdeal.nD,
      r.2.mem ((c.tc : Thread Cert.WinIdeal.nD Cert.WinIdeal.τ).loc Cert.WinIdeal.main_arg0) = m ((c.tc : Thread Cert.WinIdeal.nD Cert.WinIdeal.τ).loc Cert.WinIdeal.main_arg0)
      ∧ r.2.mem ((c.tc : Thread Cert.WinIdeal.nD Cert.WinIdeal.τ).loc Cert.WinIdeal.main_arg1) = m ((c.tc : Thread Cert.WinIdeal.nD Cert.WinIdeal.τ).loc Cert.WinIdeal.main_arg1)
      ∧ r.2.mem ((c.tc : Thread Cert.WinIdeal.nD Cert.WinIdeal.τ).loc Cert.WinIdeal.main_arg2) = m ((c.tc : Thread Cert.WinIdeal.nD Cert.WinIdeal.τ).loc Cert.WinIdeal.main_arg2)
      ∧ r.2.mem ((c.tc : Thread Cert.WinIdeal.nD Cert.WinIdeal.τ).loc Cert.WinIdeal.main_arg3) = m ((c.tc : Thread Cert.WinIdeal.nD Cert.WinIdeal.τ).loc Cert.WinIdeal.main_arg3)
      ∧ r.2.mem ((c.tc : Thread Cert.WinIdeal.nD Cert.WinIdeal.τ).loc Cert.WinIdeal.main_arg4) = m ((c.tc : Thread Cert.WinIdeal.nD Cert.WinIdeal.τ).loc Cert.WinIdeal.main_arg4)
      ∧ r.2.mem ((c.tc : Thread Cert.WinIdeal.nD Cert.WinIdeal.τ).loc Cert.WinIdeal.main_arg5) = m ((c.tc : Thread Cert.WinIdeal.nD Cert.WinIdeal.τ).loc Cert.WinIdeal.main_arg5)
      ∧ r.2.mem ((c.tc : Thread Cert.WinIdeal.nD Cert.WinIdeal.τ).loc Cert.WinIdeal.main_arg6) = m ((c.tc : Thread Cert.WinIdeal.nD Cert.WinIdeal.τ).loc Cert.WinIdeal.main_arg6)
      ∧ r.2.mem ((c.tc : Thread Cert.WinIdeal.nD Cert.WinIdeal.τ).loc Cert.WinIdeal.main_arg7) = m ((c.tc : Thread Cert.WinIdeal.nD Cert.WinIdeal.τ).loc Cert.WinIdeal.main_arg7)
      ∧ r.2.mem ((c.tc : Thread Cert.WinIdeal.nD Cert.WinIdeal.τ).loc Cert.WinIdeal.main_arg8) = m ((c.tc : Thread Cert.WinIdeal.nD Cert.WinIdeal.τ).loc Cert.WinIdeal.main_arg8))
      ∧ r.2.sem = fun _ => 0)

def quiescent_WinRefIdeal [hWinRefIdeal : Cert.WinRefIdeal.Facts] : Prop :=
  ∀ (m : (ℓ : Loc Cert.WinRefIdeal.nD Cert.WinRefIdeal.τ Cert.WinRefIdeal.sig) → Buf (Elt Ideal) ℓ) (g : Dev Cert.WinRefIdeal.nD → PrngReg), Pre_WinRefIdeal m →
    θ_run (Cert.WinRefIdeal.defs (F := Ideal)) (onTc (τ := Cert.WinRefIdeal.τ) (Cert.WinRefIdeal.main (F := Ideal))) ⟨m, fun _ => 0, g⟩ (fun r => (∀ c : Dev Cert.WinRefIdeal.nD,
      r.2.mem ((c.tc : Thread Cert.WinRefIdeal.nD Cert.WinRefIdeal.τ).loc Cert.WinRefIdeal.main_arg0) = m ((c.tc : Thread Cert.WinRefIdeal.nD Cert.WinRefIdeal.τ).loc Cert.WinRefIdeal.main_arg0)
      ∧ r.2.mem ((c.tc : Thread Cert.WinRefIdeal.nD Cert.WinRefIdeal.τ).loc Cert.WinRefIdeal.main_arg1) = m ((c.tc : Thread Cert.WinRefIdeal.nD Cert.WinRefIdeal.τ).loc Cert.WinRefIdeal.main_arg1)
      ∧ r.2.mem ((c.tc : Thread Cert.WinRefIdeal.nD Cert.WinRefIdeal.τ).loc Cert.WinRefIdeal.main_arg2) = m ((c.tc : Thread Cert.WinRefIdeal.nD Cert.WinRefIdeal.τ).loc Cert.WinRefIdeal.main_arg2)
      ∧ r.2.mem ((c.tc : Thread Cert.WinRefIdeal.nD Cert.WinRefIdeal.τ).loc Cert.WinRefIdeal.main_arg3) = m ((c.tc : Thread Cert.WinRefIdeal.nD Cert.WinRefIdeal.τ).loc Cert.WinRefIdeal.main_arg3)
      ∧ r.2.mem ((c.tc : Thread Cert.WinRefIdeal.nD Cert.WinRefIdeal.τ).loc Cert.WinRefIdeal.main_arg4) = m ((c.tc : Thread Cert.WinRefIdeal.nD Cert.WinRefIdeal.τ).loc Cert.WinRefIdeal.main_arg4)
      ∧ r.2.mem ((c.tc : Thread Cert.WinRefIdeal.nD Cert.WinRefIdeal.τ).loc Cert.WinRefIdeal.main_arg5) = m ((c.tc : Thread Cert.WinRefIdeal.nD Cert.WinRefIdeal.τ).loc Cert.WinRefIdeal.main_arg5)
      ∧ r.2.mem ((c.tc : Thread Cert.WinRefIdeal.nD Cert.WinRefIdeal.τ).loc Cert.WinRefIdeal.main_arg6) = m ((c.tc : Thread Cert.WinRefIdeal.nD Cert.WinRefIdeal.τ).loc Cert.WinRefIdeal.main_arg6)
      ∧ r.2.mem ((c.tc : Thread Cert.WinRefIdeal.nD Cert.WinRefIdeal.τ).loc Cert.WinRefIdeal.main_arg7) = m ((c.tc : Thread Cert.WinRefIdeal.nD Cert.WinRefIdeal.τ).loc Cert.WinRefIdeal.main_arg7)
      ∧ r.2.mem ((c.tc : Thread Cert.WinRefIdeal.nD Cert.WinRefIdeal.τ).loc Cert.WinRefIdeal.main_arg8) = m ((c.tc : Thread Cert.WinRefIdeal.nD Cert.WinRefIdeal.τ).loc Cert.WinRefIdeal.main_arg8))
      ∧ r.2.sem = fun _ => 0)

def quiescent_Wout [hWout : Cert.Wout.Facts] : Prop :=
  ∀ (m : (ℓ : Loc Cert.Wout.nD Cert.Wout.τ Cert.Wout.sig) → Buf (Elt Bits) ℓ) (g : Dev Cert.Wout.nD → PrngReg), Pre_Wout m →
    θ_run (Cert.Wout.defs (F := Bits)) (onTc (τ := Cert.Wout.τ) (Cert.Wout.main (F := Bits))) ⟨m, fun _ => 0, g⟩ (fun r => (∀ c : Dev Cert.Wout.nD,
      r.2.mem ((c.tc : Thread Cert.Wout.nD Cert.Wout.τ).loc Cert.Wout.main_arg0) = m ((c.tc : Thread Cert.Wout.nD Cert.Wout.τ).loc Cert.Wout.main_arg0)
      ∧ r.2.mem ((c.tc : Thread Cert.Wout.nD Cert.Wout.τ).loc Cert.Wout.main_arg1) = m ((c.tc : Thread Cert.Wout.nD Cert.Wout.τ).loc Cert.Wout.main_arg1)
      ∧ r.2.mem ((c.tc : Thread Cert.Wout.nD Cert.Wout.τ).loc Cert.Wout.main_arg2) = m ((c.tc : Thread Cert.Wout.nD Cert.Wout.τ).loc Cert.Wout.main_arg2)
      ∧ r.2.mem ((c.tc : Thread Cert.Wout.nD Cert.Wout.τ).loc Cert.Wout.main_arg3) = m ((c.tc : Thread Cert.Wout.nD Cert.Wout.τ).loc Cert.Wout.main_arg3)
      ∧ r.2.mem ((c.tc : Thread Cert.Wout.nD Cert.Wout.τ).loc Cert.Wout.main_arg4) = m ((c.tc : Thread Cert.Wout.nD Cert.Wout.τ).loc Cert.Wout.main_arg4)
      ∧ r.2.mem ((c.tc : Thread Cert.Wout.nD Cert.Wout.τ).loc Cert.Wout.main_arg5) = m ((c.tc : Thread Cert.Wout.nD Cert.Wout.τ).loc Cert.Wout.main_arg5)
      ∧ r.2.mem ((c.tc : Thread Cert.Wout.nD Cert.Wout.τ).loc Cert.Wout.main_arg6) = m ((c.tc : Thread Cert.Wout.nD Cert.Wout.τ).loc Cert.Wout.main_arg6)
      ∧ r.2.mem ((c.tc : Thread Cert.Wout.nD Cert.Wout.τ).loc Cert.Wout.main_arg7) = m ((c.tc : Thread Cert.Wout.nD Cert.Wout.τ).loc Cert.Wout.main_arg7)
      ∧ r.2.mem ((c.tc : Thread Cert.Wout.nD Cert.Wout.τ).loc Cert.Wout.main_arg8) = m ((c.tc : Thread Cert.Wout.nD Cert.Wout.τ).loc Cert.Wout.main_arg8))
      ∧ r.2.sem = fun _ => 0)

def quiescent_WoutIdeal [hWoutIdeal : Cert.WoutIdeal.Facts] : Prop :=
  ∀ (m : (ℓ : Loc Cert.WoutIdeal.nD Cert.WoutIdeal.τ Cert.WoutIdeal.sig) → Buf (Elt Ideal) ℓ) (g : Dev Cert.WoutIdeal.nD → PrngReg), Pre_WoutIdeal m →
    θ_run (Cert.WoutIdeal.defs (F := Ideal)) (onTc (τ := Cert.WoutIdeal.τ) (Cert.WoutIdeal.main (F := Ideal))) ⟨m, fun _ => 0, g⟩ (fun r => (∀ c : Dev Cert.WoutIdeal.nD,
      r.2.mem ((c.tc : Thread Cert.WoutIdeal.nD Cert.WoutIdeal.τ).loc Cert.WoutIdeal.main_arg0) = m ((c.tc : Thread Cert.WoutIdeal.nD Cert.WoutIdeal.τ).loc Cert.WoutIdeal.main_arg0)
      ∧ r.2.mem ((c.tc : Thread Cert.WoutIdeal.nD Cert.WoutIdeal.τ).loc Cert.WoutIdeal.main_arg1) = m ((c.tc : Thread Cert.WoutIdeal.nD Cert.WoutIdeal.τ).loc Cert.WoutIdeal.main_arg1)
      ∧ r.2.mem ((c.tc : Thread Cert.WoutIdeal.nD Cert.WoutIdeal.τ).loc Cert.WoutIdeal.main_arg2) = m ((c.tc : Thread Cert.WoutIdeal.nD Cert.WoutIdeal.τ).loc Cert.WoutIdeal.main_arg2)
      ∧ r.2.mem ((c.tc : Thread Cert.WoutIdeal.nD Cert.WoutIdeal.τ).loc Cert.WoutIdeal.main_arg3) = m ((c.tc : Thread Cert.WoutIdeal.nD Cert.WoutIdeal.τ).loc Cert.WoutIdeal.main_arg3)
      ∧ r.2.mem ((c.tc : Thread Cert.WoutIdeal.nD Cert.WoutIdeal.τ).loc Cert.WoutIdeal.main_arg4) = m ((c.tc : Thread Cert.WoutIdeal.nD Cert.WoutIdeal.τ).loc Cert.WoutIdeal.main_arg4)
      ∧ r.2.mem ((c.tc : Thread Cert.WoutIdeal.nD Cert.WoutIdeal.τ).loc Cert.WoutIdeal.main_arg5) = m ((c.tc : Thread Cert.WoutIdeal.nD Cert.WoutIdeal.τ).loc Cert.WoutIdeal.main_arg5)
      ∧ r.2.mem ((c.tc : Thread Cert.WoutIdeal.nD Cert.WoutIdeal.τ).loc Cert.WoutIdeal.main_arg6) = m ((c.tc : Thread Cert.WoutIdeal.nD Cert.WoutIdeal.τ).loc Cert.WoutIdeal.main_arg6)
      ∧ r.2.mem ((c.tc : Thread Cert.WoutIdeal.nD Cert.WoutIdeal.τ).loc Cert.WoutIdeal.main_arg7) = m ((c.tc : Thread Cert.WoutIdeal.nD Cert.WoutIdeal.τ).loc Cert.WoutIdeal.main_arg7)
      ∧ r.2.mem ((c.tc : Thread Cert.WoutIdeal.nD Cert.WoutIdeal.τ).loc Cert.WoutIdeal.main_arg8) = m ((c.tc : Thread Cert.WoutIdeal.nD Cert.WoutIdeal.τ).loc Cert.WoutIdeal.main_arg8))
      ∧ r.2.sem = fun _ => 0)

def quiescent_WoutRefIdeal [hWoutRefIdeal : Cert.WoutRefIdeal.Facts] : Prop :=
  ∀ (m : (ℓ : Loc Cert.WoutRefIdeal.nD Cert.WoutRefIdeal.τ Cert.WoutRefIdeal.sig) → Buf (Elt Ideal) ℓ) (g : Dev Cert.WoutRefIdeal.nD → PrngReg), Pre_WoutRefIdeal m →
    θ_run (Cert.WoutRefIdeal.defs (F := Ideal)) (onTc (τ := Cert.WoutRefIdeal.τ) (Cert.WoutRefIdeal.main (F := Ideal))) ⟨m, fun _ => 0, g⟩ (fun r => (∀ c : Dev Cert.WoutRefIdeal.nD,
      r.2.mem ((c.tc : Thread Cert.WoutRefIdeal.nD Cert.WoutRefIdeal.τ).loc Cert.WoutRefIdeal.main_arg0) = m ((c.tc : Thread Cert.WoutRefIdeal.nD Cert.WoutRefIdeal.τ).loc Cert.WoutRefIdeal.main_arg0)
      ∧ r.2.mem ((c.tc : Thread Cert.WoutRefIdeal.nD Cert.WoutRefIdeal.τ).loc Cert.WoutRefIdeal.main_arg1) = m ((c.tc : Thread Cert.WoutRefIdeal.nD Cert.WoutRefIdeal.τ).loc Cert.WoutRefIdeal.main_arg1)
      ∧ r.2.mem ((c.tc : Thread Cert.WoutRefIdeal.nD Cert.WoutRefIdeal.τ).loc Cert.WoutRefIdeal.main_arg2) = m ((c.tc : Thread Cert.WoutRefIdeal.nD Cert.WoutRefIdeal.τ).loc Cert.WoutRefIdeal.main_arg2)
      ∧ r.2.mem ((c.tc : Thread Cert.WoutRefIdeal.nD Cert.WoutRefIdeal.τ).loc Cert.WoutRefIdeal.main_arg3) = m ((c.tc : Thread Cert.WoutRefIdeal.nD Cert.WoutRefIdeal.τ).loc Cert.WoutRefIdeal.main_arg3)
      ∧ r.2.mem ((c.tc : Thread Cert.WoutRefIdeal.nD Cert.WoutRefIdeal.τ).loc Cert.WoutRefIdeal.main_arg4) = m ((c.tc : Thread Cert.WoutRefIdeal.nD Cert.WoutRefIdeal.τ).loc Cert.WoutRefIdeal.main_arg4)
      ∧ r.2.mem ((c.tc : Thread Cert.WoutRefIdeal.nD Cert.WoutRefIdeal.τ).loc Cert.WoutRefIdeal.main_arg5) = m ((c.tc : Thread Cert.WoutRefIdeal.nD Cert.WoutRefIdeal.τ).loc Cert.WoutRefIdeal.main_arg5)
      ∧ r.2.mem ((c.tc : Thread Cert.WoutRefIdeal.nD Cert.WoutRefIdeal.τ).loc Cert.WoutRefIdeal.main_arg6) = m ((c.tc : Thread Cert.WoutRefIdeal.nD Cert.WoutRefIdeal.τ).loc Cert.WoutRefIdeal.main_arg6)
      ∧ r.2.mem ((c.tc : Thread Cert.WoutRefIdeal.nD Cert.WoutRefIdeal.τ).loc Cert.WoutRefIdeal.main_arg7) = m ((c.tc : Thread Cert.WoutRefIdeal.nD Cert.WoutRefIdeal.τ).loc Cert.WoutRefIdeal.main_arg7)
      ∧ r.2.mem ((c.tc : Thread Cert.WoutRefIdeal.nD Cert.WoutRefIdeal.τ).loc Cert.WoutRefIdeal.main_arg8) = m ((c.tc : Thread Cert.WoutRefIdeal.nD Cert.WoutRefIdeal.τ).loc Cert.WoutRefIdeal.main_arg8))
      ∧ r.2.sem = fun _ => 0)

def quiescent_Da [hDa : Cert.Da.Facts] : Prop :=
  ∀ (m : (ℓ : Loc Cert.Da.nD Cert.Da.τ Cert.Da.sig) → Buf (Elt Bits) ℓ) (g : Dev Cert.Da.nD → PrngReg), Pre_Da m →
    θ_run (Cert.Da.defs (F := Bits)) (onTc (τ := Cert.Da.τ) (Cert.Da.main (F := Bits))) ⟨m, fun _ => 0, g⟩ (fun r => (∀ c : Dev Cert.Da.nD,
      r.2.mem ((c.tc : Thread Cert.Da.nD Cert.Da.τ).loc Cert.Da.main_arg0) = m ((c.tc : Thread Cert.Da.nD Cert.Da.τ).loc Cert.Da.main_arg0)
      ∧ r.2.mem ((c.tc : Thread Cert.Da.nD Cert.Da.τ).loc Cert.Da.main_arg1) = m ((c.tc : Thread Cert.Da.nD Cert.Da.τ).loc Cert.Da.main_arg1)
      ∧ r.2.mem ((c.tc : Thread Cert.Da.nD Cert.Da.τ).loc Cert.Da.main_arg2) = m ((c.tc : Thread Cert.Da.nD Cert.Da.τ).loc Cert.Da.main_arg2))
      ∧ r.2.sem = fun _ => 0)

def quiescent_DaIdeal [hDaIdeal : Cert.DaIdeal.Facts] : Prop :=
  ∀ (m : (ℓ : Loc Cert.DaIdeal.nD Cert.DaIdeal.τ Cert.DaIdeal.sig) → Buf (Elt Ideal) ℓ) (g : Dev Cert.DaIdeal.nD → PrngReg), Pre_DaIdeal m →
    θ_run (Cert.DaIdeal.defs (F := Ideal)) (onTc (τ := Cert.DaIdeal.τ) (Cert.DaIdeal.main (F := Ideal))) ⟨m, fun _ => 0, g⟩ (fun r => (∀ c : Dev Cert.DaIdeal.nD,
      r.2.mem ((c.tc : Thread Cert.DaIdeal.nD Cert.DaIdeal.τ).loc Cert.DaIdeal.main_arg0) = m ((c.tc : Thread Cert.DaIdeal.nD Cert.DaIdeal.τ).loc Cert.DaIdeal.main_arg0)
      ∧ r.2.mem ((c.tc : Thread Cert.DaIdeal.nD Cert.DaIdeal.τ).loc Cert.DaIdeal.main_arg1) = m ((c.tc : Thread Cert.DaIdeal.nD Cert.DaIdeal.τ).loc Cert.DaIdeal.main_arg1)
      ∧ r.2.mem ((c.tc : Thread Cert.DaIdeal.nD Cert.DaIdeal.τ).loc Cert.DaIdeal.main_arg2) = m ((c.tc : Thread Cert.DaIdeal.nD Cert.DaIdeal.τ).loc Cert.DaIdeal.main_arg2))
      ∧ r.2.sem = fun _ => 0)

def quiescent_DaRefIdeal [hDaRefIdeal : Cert.DaRefIdeal.Facts] : Prop :=
  ∀ (m : (ℓ : Loc Cert.DaRefIdeal.nD Cert.DaRefIdeal.τ Cert.DaRefIdeal.sig) → Buf (Elt Ideal) ℓ) (g : Dev Cert.DaRefIdeal.nD → PrngReg), Pre_DaRefIdeal m →
    θ_run (Cert.DaRefIdeal.defs (F := Ideal)) (onTc (τ := Cert.DaRefIdeal.τ) (Cert.DaRefIdeal.main (F := Ideal))) ⟨m, fun _ => 0, g⟩ (fun r => (∀ c : Dev Cert.DaRefIdeal.nD,
      r.2.mem ((c.tc : Thread Cert.DaRefIdeal.nD Cert.DaRefIdeal.τ).loc Cert.DaRefIdeal.main_arg0) = m ((c.tc : Thread Cert.DaRefIdeal.nD Cert.DaRefIdeal.τ).loc Cert.DaRefIdeal.main_arg0)
      ∧ r.2.mem ((c.tc : Thread Cert.DaRefIdeal.nD Cert.DaRefIdeal.τ).loc Cert.DaRefIdeal.main_arg1) = m ((c.tc : Thread Cert.DaRefIdeal.nD Cert.DaRefIdeal.τ).loc Cert.DaRefIdeal.main_arg1)
      ∧ r.2.mem ((c.tc : Thread Cert.DaRefIdeal.nD Cert.DaRefIdeal.τ).loc Cert.DaRefIdeal.main_arg2) = m ((c.tc : Thread Cert.DaRefIdeal.nD Cert.DaRefIdeal.τ).loc Cert.DaRefIdeal.main_arg2))
      ∧ r.2.sem = fun _ => 0)

def quiescent_Dh0 [hDh0 : Cert.Dh0.Facts] : Prop :=
  ∀ (m : (ℓ : Loc Cert.Dh0.nD Cert.Dh0.τ Cert.Dh0.sig) → Buf (Elt Bits) ℓ) (g : Dev Cert.Dh0.nD → PrngReg), Pre_Dh0 m →
    θ_run (Cert.Dh0.defs (F := Bits)) (onTc (τ := Cert.Dh0.τ) (Cert.Dh0.main (F := Bits))) ⟨m, fun _ => 0, g⟩ (fun r => (∀ c : Dev Cert.Dh0.nD,
      r.2.mem ((c.tc : Thread Cert.Dh0.nD Cert.Dh0.τ).loc Cert.Dh0.main_arg0) = m ((c.tc : Thread Cert.Dh0.nD Cert.Dh0.τ).loc Cert.Dh0.main_arg0)
      ∧ r.2.mem ((c.tc : Thread Cert.Dh0.nD Cert.Dh0.τ).loc Cert.Dh0.main_arg1) = m ((c.tc : Thread Cert.Dh0.nD Cert.Dh0.τ).loc Cert.Dh0.main_arg1)
      ∧ r.2.mem ((c.tc : Thread Cert.Dh0.nD Cert.Dh0.τ).loc Cert.Dh0.main_arg2) = m ((c.tc : Thread Cert.Dh0.nD Cert.Dh0.τ).loc Cert.Dh0.main_arg2)
      ∧ r.2.mem ((c.tc : Thread Cert.Dh0.nD Cert.Dh0.τ).loc Cert.Dh0.main_arg3) = m ((c.tc : Thread Cert.Dh0.nD Cert.Dh0.τ).loc Cert.Dh0.main_arg3)
      ∧ r.2.mem ((c.tc : Thread Cert.Dh0.nD Cert.Dh0.τ).loc Cert.Dh0.main_arg4) = m ((c.tc : Thread Cert.Dh0.nD Cert.Dh0.τ).loc Cert.Dh0.main_arg4)
      ∧ r.2.mem ((c.tc : Thread Cert.Dh0.nD Cert.Dh0.τ).loc Cert.Dh0.main_arg5) = m ((c.tc : Thread Cert.Dh0.nD Cert.Dh0.τ).loc Cert.Dh0.main_arg5)
      ∧ r.2.mem ((c.tc : Thread Cert.Dh0.nD Cert.Dh0.τ).loc Cert.Dh0.main_arg6) = m ((c.tc : Thread Cert.Dh0.nD Cert.Dh0.τ).loc Cert.Dh0.main_arg6)
      ∧ r.2.mem ((c.tc : Thread Cert.Dh0.nD Cert.Dh0.τ).loc Cert.Dh0.main_arg7) = m ((c.tc : Thread Cert.Dh0.nD Cert.Dh0.τ).loc Cert.Dh0.main_arg7)
      ∧ r.2.mem ((c.tc : Thread Cert.Dh0.nD Cert.Dh0.τ).loc Cert.Dh0.main_arg8) = m ((c.tc : Thread Cert.Dh0.nD Cert.Dh0.τ).loc Cert.Dh0.main_arg8)
      ∧ r.2.mem ((c.tc : Thread Cert.Dh0.nD Cert.Dh0.τ).loc Cert.Dh0.main_arg9) = m ((c.tc : Thread Cert.Dh0.nD Cert.Dh0.τ).loc Cert.Dh0.main_arg9))
      ∧ r.2.sem = fun _ => 0)

def quiescent_Dh0Ideal [hDh0Ideal : Cert.Dh0Ideal.Facts] : Prop :=
  ∀ (m : (ℓ : Loc Cert.Dh0Ideal.nD Cert.Dh0Ideal.τ Cert.Dh0Ideal.sig) → Buf (Elt Ideal) ℓ) (g : Dev Cert.Dh0Ideal.nD → PrngReg), Pre_Dh0Ideal m →
    θ_run (Cert.Dh0Ideal.defs (F := Ideal)) (onTc (τ := Cert.Dh0Ideal.τ) (Cert.Dh0Ideal.main (F := Ideal))) ⟨m, fun _ => 0, g⟩ (fun r => (∀ c : Dev Cert.Dh0Ideal.nD,
      r.2.mem ((c.tc : Thread Cert.Dh0Ideal.nD Cert.Dh0Ideal.τ).loc Cert.Dh0Ideal.main_arg0) = m ((c.tc : Thread Cert.Dh0Ideal.nD Cert.Dh0Ideal.τ).loc Cert.Dh0Ideal.main_arg0)
      ∧ r.2.mem ((c.tc : Thread Cert.Dh0Ideal.nD Cert.Dh0Ideal.τ).loc Cert.Dh0Ideal.main_arg1) = m ((c.tc : Thread Cert.Dh0Ideal.nD Cert.Dh0Ideal.τ).loc Cert.Dh0Ideal.main_arg1)
      ∧ r.2.mem ((c.tc : Thread Cert.Dh0Ideal.nD Cert.Dh0Ideal.τ).loc Cert.Dh0Ideal.main_arg2) = m ((c.tc : Thread Cert.Dh0Ideal.nD Cert.Dh0Ideal.τ).loc Cert.Dh0Ideal.main_arg2)
      ∧ r.2.mem ((c.tc : Thread Cert.Dh0Ideal.nD Cert.Dh0Ideal.τ).loc Cert.Dh0Ideal.main_arg3) = m ((c.tc : Thread Cert.Dh0Ideal.nD Cert.Dh0Ideal.τ).loc Cert.Dh0Ideal.main_arg3)
      ∧ r.2.mem ((c.tc : Thread Cert.Dh0Ideal.nD Cert.Dh0Ideal.τ).loc Cert.Dh0Ideal.main_arg4) = m ((c.tc : Thread Cert.Dh0Ideal.nD Cert.Dh0Ideal.τ).loc Cert.Dh0Ideal.main_arg4)
      ∧ r.2.mem ((c.tc : Thread Cert.Dh0Ideal.nD Cert.Dh0Ideal.τ).loc Cert.Dh0Ideal.main_arg5) = m ((c.tc : Thread Cert.Dh0Ideal.nD Cert.Dh0Ideal.τ).loc Cert.Dh0Ideal.main_arg5)
      ∧ r.2.mem ((c.tc : Thread Cert.Dh0Ideal.nD Cert.Dh0Ideal.τ).loc Cert.Dh0Ideal.main_arg6) = m ((c.tc : Thread Cert.Dh0Ideal.nD Cert.Dh0Ideal.τ).loc Cert.Dh0Ideal.main_arg6)
      ∧ r.2.mem ((c.tc : Thread Cert.Dh0Ideal.nD Cert.Dh0Ideal.τ).loc Cert.Dh0Ideal.main_arg7) = m ((c.tc : Thread Cert.Dh0Ideal.nD Cert.Dh0Ideal.τ).loc Cert.Dh0Ideal.main_arg7)
      ∧ r.2.mem ((c.tc : Thread Cert.Dh0Ideal.nD Cert.Dh0Ideal.τ).loc Cert.Dh0Ideal.main_arg8) = m ((c.tc : Thread Cert.Dh0Ideal.nD Cert.Dh0Ideal.τ).loc Cert.Dh0Ideal.main_arg8)
      ∧ r.2.mem ((c.tc : Thread Cert.Dh0Ideal.nD Cert.Dh0Ideal.τ).loc Cert.Dh0Ideal.main_arg9) = m ((c.tc : Thread Cert.Dh0Ideal.nD Cert.Dh0Ideal.τ).loc Cert.Dh0Ideal.main_arg9))
      ∧ r.2.sem = fun _ => 0)

def quiescent_Dh0RefIdeal [hDh0RefIdeal : Cert.Dh0RefIdeal.Facts] : Prop :=
  ∀ (m : (ℓ : Loc Cert.Dh0RefIdeal.nD Cert.Dh0RefIdeal.τ Cert.Dh0RefIdeal.sig) → Buf (Elt Ideal) ℓ) (g : Dev Cert.Dh0RefIdeal.nD → PrngReg), Pre_Dh0RefIdeal m →
    θ_run (Cert.Dh0RefIdeal.defs (F := Ideal)) (onTc (τ := Cert.Dh0RefIdeal.τ) (Cert.Dh0RefIdeal.main (F := Ideal))) ⟨m, fun _ => 0, g⟩ (fun r => (∀ c : Dev Cert.Dh0RefIdeal.nD,
      r.2.mem ((c.tc : Thread Cert.Dh0RefIdeal.nD Cert.Dh0RefIdeal.τ).loc Cert.Dh0RefIdeal.main_arg0) = m ((c.tc : Thread Cert.Dh0RefIdeal.nD Cert.Dh0RefIdeal.τ).loc Cert.Dh0RefIdeal.main_arg0)
      ∧ r.2.mem ((c.tc : Thread Cert.Dh0RefIdeal.nD Cert.Dh0RefIdeal.τ).loc Cert.Dh0RefIdeal.main_arg1) = m ((c.tc : Thread Cert.Dh0RefIdeal.nD Cert.Dh0RefIdeal.τ).loc Cert.Dh0RefIdeal.main_arg1)
      ∧ r.2.mem ((c.tc : Thread Cert.Dh0RefIdeal.nD Cert.Dh0RefIdeal.τ).loc Cert.Dh0RefIdeal.main_arg2) = m ((c.tc : Thread Cert.Dh0RefIdeal.nD Cert.Dh0RefIdeal.τ).loc Cert.Dh0RefIdeal.main_arg2)
      ∧ r.2.mem ((c.tc : Thread Cert.Dh0RefIdeal.nD Cert.Dh0RefIdeal.τ).loc Cert.Dh0RefIdeal.main_arg3) = m ((c.tc : Thread Cert.Dh0RefIdeal.nD Cert.Dh0RefIdeal.τ).loc Cert.Dh0RefIdeal.main_arg3)
      ∧ r.2.mem ((c.tc : Thread Cert.Dh0RefIdeal.nD Cert.Dh0RefIdeal.τ).loc Cert.Dh0RefIdeal.main_arg4) = m ((c.tc : Thread Cert.Dh0RefIdeal.nD Cert.Dh0RefIdeal.τ).loc Cert.Dh0RefIdeal.main_arg4)
      ∧ r.2.mem ((c.tc : Thread Cert.Dh0RefIdeal.nD Cert.Dh0RefIdeal.τ).loc Cert.Dh0RefIdeal.main_arg5) = m ((c.tc : Thread Cert.Dh0RefIdeal.nD Cert.Dh0RefIdeal.τ).loc Cert.Dh0RefIdeal.main_arg5)
      ∧ r.2.mem ((c.tc : Thread Cert.Dh0RefIdeal.nD Cert.Dh0RefIdeal.τ).loc Cert.Dh0RefIdeal.main_arg6) = m ((c.tc : Thread Cert.Dh0RefIdeal.nD Cert.Dh0RefIdeal.τ).loc Cert.Dh0RefIdeal.main_arg6)
      ∧ r.2.mem ((c.tc : Thread Cert.Dh0RefIdeal.nD Cert.Dh0RefIdeal.τ).loc Cert.Dh0RefIdeal.main_arg7) = m ((c.tc : Thread Cert.Dh0RefIdeal.nD Cert.Dh0RefIdeal.τ).loc Cert.Dh0RefIdeal.main_arg7)
      ∧ r.2.mem ((c.tc : Thread Cert.Dh0RefIdeal.nD Cert.Dh0RefIdeal.τ).loc Cert.Dh0RefIdeal.main_arg8) = m ((c.tc : Thread Cert.Dh0RefIdeal.nD Cert.Dh0RefIdeal.τ).loc Cert.Dh0RefIdeal.main_arg8)
      ∧ r.2.mem ((c.tc : Thread Cert.Dh0RefIdeal.nD Cert.Dh0RefIdeal.τ).loc Cert.Dh0RefIdeal.main_arg9) = m ((c.tc : Thread Cert.Dh0RefIdeal.nD Cert.Dh0RefIdeal.τ).loc Cert.Dh0RefIdeal.main_arg9))
      ∧ r.2.sem = fun _ => 0)

def quiescent_UpFwd [hUpFwd : Cert.UpFwd.Facts] : Prop :=
  ∀ (m : (ℓ : Loc Cert.UpFwd.nD Cert.UpFwd.τ Cert.UpFwd.sig) → Buf (Elt Bits) ℓ) (g : Dev Cert.UpFwd.nD → PrngReg), Pre_UpFwd m →
    θ_run (Cert.UpFwd.defs (F := Bits)) (onTc (τ := Cert.UpFwd.τ) (Cert.UpFwd.main (F := Bits))) ⟨m, fun _ => 0, g⟩ (fun r => (∀ c : Dev Cert.UpFwd.nD,
      r.2.mem ((c.tc : Thread Cert.UpFwd.nD Cert.UpFwd.τ).loc Cert.UpFwd.main_arg0) = m ((c.tc : Thread Cert.UpFwd.nD Cert.UpFwd.τ).loc Cert.UpFwd.main_arg0)
      ∧ r.2.mem ((c.tc : Thread Cert.UpFwd.nD Cert.UpFwd.τ).loc Cert.UpFwd.main_arg1) = m ((c.tc : Thread Cert.UpFwd.nD Cert.UpFwd.τ).loc Cert.UpFwd.main_arg1))
      ∧ r.2.sem = fun _ => 0)

def quiescent_UpFwdIdeal [hUpFwdIdeal : Cert.UpFwdIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg), Pre_UpFwdIdeal m →
    θ_run (Cert.UpFwdIdeal.defs (F := Ideal)) (onTc (τ := Cert.UpFwdIdeal.τ) (Cert.UpFwdIdeal.main (F := Ideal))) ⟨m, fun _ => 0, g⟩ (fun r => (∀ c : Dev Cert.UpFwdIdeal.nD,
      r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
      ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1))
      ∧ r.2.sem = fun _ => 0)

def quiescent_UpFwdRefIdeal [hUpFwdRefIdeal : Cert.UpFwdRefIdeal.Facts] : Prop :=
  ∀ (m : (ℓ : Loc Cert.UpFwdRefIdeal.nD Cert.UpFwdRefIdeal.τ Cert.UpFwdRefIdeal.sig) → Buf (Elt Ideal) ℓ) (g : Dev Cert.UpFwdRefIdeal.nD → PrngReg), Pre_UpFwdRefIdeal m →
    θ_run (Cert.UpFwdRefIdeal.defs (F := Ideal)) (onTc (τ := Cert.UpFwdRefIdeal.τ) (Cert.UpFwdRefIdeal.main (F := Ideal))) ⟨m, fun _ => 0, g⟩ (fun r => (∀ c : Dev Cert.UpFwdRefIdeal.nD,
      r.2.mem ((c.tc : Thread Cert.UpFwdRefIdeal.nD Cert.UpFwdRefIdeal.τ).loc Cert.UpFwdRefIdeal.main_arg0) = m ((c.tc : Thread Cert.UpFwdRefIdeal.nD Cert.UpFwdRefIdeal.τ).loc Cert.UpFwdRefIdeal.main_arg0)
      ∧ r.2.mem ((c.tc : Thread Cert.UpFwdRefIdeal.nD Cert.UpFwdRefIdeal.τ).loc Cert.UpFwdRefIdeal.main_arg1) = m ((c.tc : Thread Cert.UpFwdRefIdeal.nD Cert.UpFwdRefIdeal.τ).loc Cert.UpFwdRefIdeal.main_arg1))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def quiescent_Partials [hPartials : Cert.Partials.Facts] : Prop :=
  ∀ (m : (ℓ : Loc Cert.Partials.nD Cert.Partials.τ Cert.Partials.sig) → Buf (Elt Bits) ℓ) (g : Dev Cert.Partials.nD → PrngReg), Pre_Partials m →
    θ_run (Cert.Partials.defs (F := Bits)) (onTc (τ := Cert.Partials.τ) (Cert.Partials.main (F := Bits))) ⟨m, fun _ => 0, g⟩ (fun r => (∀ c : Dev Cert.Partials.nD,
      r.2.mem ((c.tc : Thread Cert.Partials.nD Cert.Partials.τ).loc Cert.Partials.main_arg0) = m ((c.tc : Thread Cert.Partials.nD Cert.Partials.τ).loc Cert.Partials.main_arg0))
      ∧ r.2.sem = fun _ => 0)

def quiescent_PartialsIdeal [hPartialsIdeal : Cert.PartialsIdeal.Facts] : Prop :=
  ∀ (m : (ℓ : Loc Cert.PartialsIdeal.nD Cert.PartialsIdeal.τ Cert.PartialsIdeal.sig) → Buf (Elt Ideal) ℓ) (g : Dev Cert.PartialsIdeal.nD → PrngReg), Pre_PartialsIdeal m →
    θ_run (Cert.PartialsIdeal.defs (F := Ideal)) (onTc (τ := Cert.PartialsIdeal.τ) (Cert.PartialsIdeal.main (F := Ideal))) ⟨m, fun _ => 0, g⟩ (fun r => (∀ c : Dev Cert.PartialsIdeal.nD,
      r.2.mem ((c.tc : Thread Cert.PartialsIdeal.nD Cert.PartialsIdeal.τ).loc Cert.PartialsIdeal.main_arg0) = m ((c.tc : Thread Cert.PartialsIdeal.nD Cert.PartialsIdeal.τ).loc Cert.PartialsIdeal.main_arg0))
      ∧ r.2.sem = fun _ => 0)

def quiescent_PartialsRefIdeal [hPartialsRefIdeal : Cert.PartialsRefIdeal.Facts] : Prop :=
  ∀ (m : (ℓ : Loc Cert.PartialsRefIdeal.nD Cert.PartialsRefIdeal.τ Cert.PartialsRefIdeal.sig) → Buf (Elt Ideal) ℓ) (g : Dev Cert.PartialsRefIdeal.nD → PrngReg), Pre_PartialsRefIdeal m →
    θ_run (Cert.PartialsRefIdeal.defs (F := Ideal)) (onTc (τ := Cert.PartialsRefIdeal.τ) (Cert.PartialsRefIdeal.main (F := Ideal))) ⟨m, fun _ => 0, g⟩ (fun r => (∀ c : Dev Cert.PartialsRefIdeal.nD,
      r.2.mem ((c.tc : Thread Cert.PartialsRefIdeal.nD Cert.PartialsRefIdeal.τ).loc Cert.PartialsRefIdeal.main_arg0) = m ((c.tc : Thread Cert.PartialsRefIdeal.nD Cert.PartialsRefIdeal.τ).loc Cert.PartialsRefIdeal.main_arg0))
      ∧ r.2.sem = fun _ => 0)

def quiescent_AdamShard [hAdamShard : Cert.AdamShard.Facts] : Prop :=
  ∀ (m : (ℓ : Loc Cert.AdamShard.nD Cert.AdamShard.τ Cert.AdamShard.sig) → Buf (Elt Bits) ℓ) (g : Dev Cert.AdamShard.nD → PrngReg), Pre_AdamShard m →
    θ_run (Cert.AdamShard.defs (F := Bits)) (onTc (τ := Cert.AdamShard.τ) (Cert.AdamShard.main (F := Bits))) ⟨m, fun _ => 0, g⟩ (fun r => (∀ c : Dev Cert.AdamShard.nD,
      r.2.mem ((c.tc : Thread Cert.AdamShard.nD Cert.AdamShard.τ).loc Cert.AdamShard.main_arg0) = m ((c.tc : Thread Cert.AdamShard.nD Cert.AdamShard.τ).loc Cert.AdamShard.main_arg0)
      ∧ r.2.mem ((c.tc : Thread Cert.AdamShard.nD Cert.AdamShard.τ).loc Cert.AdamShard.main_arg1) = m ((c.tc : Thread Cert.AdamShard.nD Cert.AdamShard.τ).loc Cert.AdamShard.main_arg1)
      ∧ r.2.mem ((c.tc : Thread Cert.AdamShard.nD Cert.AdamShard.τ).loc Cert.AdamShard.main_arg2) = m ((c.tc : Thread Cert.AdamShard.nD Cert.AdamShard.τ).loc Cert.AdamShard.main_arg2)
      ∧ r.2.mem ((c.tc : Thread Cert.AdamShard.nD Cert.AdamShard.τ).loc Cert.AdamShard.main_arg3) = m ((c.tc : Thread Cert.AdamShard.nD Cert.AdamShard.τ).loc Cert.AdamShard.main_arg3)
      ∧ r.2.mem ((c.tc : Thread Cert.AdamShard.nD Cert.AdamShard.τ).loc Cert.AdamShard.main_arg4) = m ((c.tc : Thread Cert.AdamShard.nD Cert.AdamShard.τ).loc Cert.AdamShard.main_arg4)
      ∧ r.2.mem ((c.tc : Thread Cert.AdamShard.nD Cert.AdamShard.τ).loc Cert.AdamShard.main_arg5) = m ((c.tc : Thread Cert.AdamShard.nD Cert.AdamShard.τ).loc Cert.AdamShard.main_arg5)
      ∧ r.2.mem ((c.tc : Thread Cert.AdamShard.nD Cert.AdamShard.τ).loc Cert.AdamShard.main_arg6) = m ((c.tc : Thread Cert.AdamShard.nD Cert.AdamShard.τ).loc Cert.AdamShard.main_arg6)
      ∧ r.2.mem ((c.tc : Thread Cert.AdamShard.nD Cert.AdamShard.τ).loc Cert.AdamShard.main_arg7) = m ((c.tc : Thread Cert.AdamShard.nD Cert.AdamShard.τ).loc Cert.AdamShard.main_arg7)
      ∧ r.2.mem ((c.tc : Thread Cert.AdamShard.nD Cert.AdamShard.τ).loc Cert.AdamShard.main_arg8) = m ((c.tc : Thread Cert.AdamShard.nD Cert.AdamShard.τ).loc Cert.AdamShard.main_arg8))
      ∧ r.2.sem = fun _ => 0)

def quiescent_AdamShardIdeal [hAdamShardIdeal : Cert.AdamShardIdeal.Facts] : Prop :=
  ∀ (m : (ℓ : Loc Cert.AdamShardIdeal.nD Cert.AdamShardIdeal.τ Cert.AdamShardIdeal.sig) → Buf (Elt Ideal) ℓ) (g : Dev Cert.AdamShardIdeal.nD → PrngReg), Pre_AdamShardIdeal m →
    θ_run (Cert.AdamShardIdeal.defs (F := Ideal)) (onTc (τ := Cert.AdamShardIdeal.τ) (Cert.AdamShardIdeal.main (F := Ideal))) ⟨m, fun _ => 0, g⟩ (fun r => (∀ c : Dev Cert.AdamShardIdeal.nD,
      r.2.mem ((c.tc : Thread Cert.AdamShardIdeal.nD Cert.AdamShardIdeal.τ).loc Cert.AdamShardIdeal.main_arg0) = m ((c.tc : Thread Cert.AdamShardIdeal.nD Cert.AdamShardIdeal.τ).loc Cert.AdamShardIdeal.main_arg0)
      ∧ r.2.mem ((c.tc : Thread Cert.AdamShardIdeal.nD Cert.AdamShardIdeal.τ).loc Cert.AdamShardIdeal.main_arg1) = m ((c.tc : Thread Cert.AdamShardIdeal.nD Cert.AdamShardIdeal.τ).loc Cert.AdamShardIdeal.main_arg1)
      ∧ r.2.mem ((c.tc : Thread Cert.AdamShardIdeal.nD Cert.AdamShardIdeal.τ).loc Cert.AdamShardIdeal.main_arg2) = m ((c.tc : Thread Cert.AdamShardIdeal.nD Cert.AdamShardIdeal.τ).loc Cert.AdamShardIdeal.main_arg2)
      ∧ r.2.mem ((c.tc : Thread Cert.AdamShardIdeal.nD Cert.AdamShardIdeal.τ).loc Cert.AdamShardIdeal.main_arg3) = m ((c.tc : Thread Cert.AdamShardIdeal.nD Cert.AdamShardIdeal.τ).loc Cert.AdamShardIdeal.main_arg3)
      ∧ r.2.mem ((c.tc : Thread Cert.AdamShardIdeal.nD Cert.AdamShardIdeal.τ).loc Cert.AdamShardIdeal.main_arg4) = m ((c.tc : Thread Cert.AdamShardIdeal.nD Cert.AdamShardIdeal.τ).loc Cert.AdamShardIdeal.main_arg4)
      ∧ r.2.mem ((c.tc : Thread Cert.AdamShardIdeal.nD Cert.AdamShardIdeal.τ).loc Cert.AdamShardIdeal.main_arg5) = m ((c.tc : Thread Cert.AdamShardIdeal.nD Cert.AdamShardIdeal.τ).loc Cert.AdamShardIdeal.main_arg5)
      ∧ r.2.mem ((c.tc : Thread Cert.AdamShardIdeal.nD Cert.AdamShardIdeal.τ).loc Cert.AdamShardIdeal.main_arg6) = m ((c.tc : Thread Cert.AdamShardIdeal.nD Cert.AdamShardIdeal.τ).loc Cert.AdamShardIdeal.main_arg6)
      ∧ r.2.mem ((c.tc : Thread Cert.AdamShardIdeal.nD Cert.AdamShardIdeal.τ).loc Cert.AdamShardIdeal.main_arg7) = m ((c.tc : Thread Cert.AdamShardIdeal.nD Cert.AdamShardIdeal.τ).loc Cert.AdamShardIdeal.main_arg7)
      ∧ r.2.mem ((c.tc : Thread Cert.AdamShardIdeal.nD Cert.AdamShardIdeal.τ).loc Cert.AdamShardIdeal.main_arg8) = m ((c.tc : Thread Cert.AdamShardIdeal.nD Cert.AdamShardIdeal.τ).loc Cert.AdamShardIdeal.main_arg8))
      ∧ r.2.sem = fun _ => 0)

def quiescent_AdamShardRefIdeal [hAdamShardRefIdeal : Cert.AdamShardRefIdeal.Facts] : Prop :=
  ∀ (m : (ℓ : Loc Cert.AdamShardRefIdeal.nD Cert.AdamShardRefIdeal.τ Cert.AdamShardRefIdeal.sig) → Buf (Elt Ideal) ℓ) (g : Dev Cert.AdamShardRefIdeal.nD → PrngReg), Pre_AdamShardRefIdeal m →
    θ_run (Cert.AdamShardRefIdeal.defs (F := Ideal)) (onTc (τ := Cert.AdamShardRefIdeal.τ) (Cert.AdamShardRefIdeal.main (F := Ideal))) ⟨m, fun _ => 0, g⟩ (fun r => (∀ c : Dev Cert.AdamShardRefIdeal.nD,
      r.2.mem ((c.tc : Thread Cert.AdamShardRefIdeal.nD Cert.AdamShardRefIdeal.τ).loc Cert.AdamShardRefIdeal.main_arg0) = m ((c.tc : Thread Cert.AdamShardRefIdeal.nD Cert.AdamShardRefIdeal.τ).loc Cert.AdamShardRefIdeal.main_arg0)
      ∧ r.2.mem ((c.tc : Thread Cert.AdamShardRefIdeal.nD Cert.AdamShardRefIdeal.τ).loc Cert.AdamShardRefIdeal.main_arg1) = m ((c.tc : Thread Cert.AdamShardRefIdeal.nD Cert.AdamShardRefIdeal.τ).loc Cert.AdamShardRefIdeal.main_arg1)
      ∧ r.2.mem ((c.tc : Thread Cert.AdamShardRefIdeal.nD Cert.AdamShardRefIdeal.τ).loc Cert.AdamShardRefIdeal.main_arg2) = m ((c.tc : Thread Cert.AdamShardRefIdeal.nD Cert.AdamShardRefIdeal.τ).loc Cert.AdamShardRefIdeal.main_arg2)
      ∧ r.2.mem ((c.tc : Thread Cert.AdamShardRefIdeal.nD Cert.AdamShardRefIdeal.τ).loc Cert.AdamShardRefIdeal.main_arg3) = m ((c.tc : Thread Cert.AdamShardRefIdeal.nD Cert.AdamShardRefIdeal.τ).loc Cert.AdamShardRefIdeal.main_arg3)
      ∧ r.2.mem ((c.tc : Thread Cert.AdamShardRefIdeal.nD Cert.AdamShardRefIdeal.τ).loc Cert.AdamShardRefIdeal.main_arg4) = m ((c.tc : Thread Cert.AdamShardRefIdeal.nD Cert.AdamShardRefIdeal.τ).loc Cert.AdamShardRefIdeal.main_arg4)
      ∧ r.2.mem ((c.tc : Thread Cert.AdamShardRefIdeal.nD Cert.AdamShardRefIdeal.τ).loc Cert.AdamShardRefIdeal.main_arg5) = m ((c.tc : Thread Cert.AdamShardRefIdeal.nD Cert.AdamShardRefIdeal.τ).loc Cert.AdamShardRefIdeal.main_arg5)
      ∧ r.2.mem ((c.tc : Thread Cert.AdamShardRefIdeal.nD Cert.AdamShardRefIdeal.τ).loc Cert.AdamShardRefIdeal.main_arg6) = m ((c.tc : Thread Cert.AdamShardRefIdeal.nD Cert.AdamShardRefIdeal.τ).loc Cert.AdamShardRefIdeal.main_arg6)
      ∧ r.2.mem ((c.tc : Thread Cert.AdamShardRefIdeal.nD Cert.AdamShardRefIdeal.τ).loc Cert.AdamShardRefIdeal.main_arg7) = m ((c.tc : Thread Cert.AdamShardRefIdeal.nD Cert.AdamShardRefIdeal.τ).loc Cert.AdamShardRefIdeal.main_arg7)
      ∧ r.2.mem ((c.tc : Thread Cert.AdamShardRefIdeal.nD Cert.AdamShardRefIdeal.τ).loc Cert.AdamShardRefIdeal.main_arg8) = m ((c.tc : Thread Cert.AdamShardRefIdeal.nD Cert.AdamShardRefIdeal.τ).loc Cert.AdamShardRefIdeal.main_arg8))
      ∧ r.2.sem = fun _ => 0)

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v14) = v0 c
          ∧ r.2.mem ((c.tc : Thread Cert.LossRefIdeal.nD Cert.LossRefIdeal.τ).loc Cert.LossRefIdeal.main_v15) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def preserves_Ln_LnIdeal : Prop :=
  True

def algebraic_LnIdeal_LnRefIdeal_pre_ln_finite [hLnIdeal : Cert.LnIdeal.Facts] [hLnRefIdeal : Cert.LnRefIdeal.Facts] [hPre_ln_finite : Cert.Pre_ln_finite.Facts] : Prop :=
  ∀ (m : (ℓ : Loc Cert.LnIdeal.nD Cert.LnIdeal.τ Cert.LnIdeal.sig) → Buf (Elt Ideal) ℓ) (g : Dev Cert.LnIdeal.nD → PrngReg)
    (m' : (ℓ : Loc Cert.LnRefIdeal.nD Cert.LnRefIdeal.τ Cert.LnRefIdeal.sig) → Buf (Elt Ideal) ℓ) (g' : Dev Cert.LnRefIdeal.nD → PrngReg), Pre_LnIdeal_ln_finite m →
    (∀ c : Dev Cert.LnIdeal.nD,
      m' ((c.tc : Thread Cert.LnRefIdeal.nD Cert.LnRefIdeal.τ).loc Cert.LnRefIdeal.main_arg0) = m ((c.tc : Thread Cert.LnIdeal.nD Cert.LnIdeal.τ).loc Cert.LnIdeal.main_arg0)
      ∧ m' ((c.tc : Thread Cert.LnRefIdeal.nD Cert.LnRefIdeal.τ).loc Cert.LnRefIdeal.main_arg1) = m ((c.tc : Thread Cert.LnIdeal.nD Cert.LnIdeal.τ).loc Cert.LnIdeal.main_arg1)
      ∧ m' ((c.tc : Thread Cert.LnRefIdeal.nD Cert.LnRefIdeal.τ).loc Cert.LnRefIdeal.main_arg2) = m ((c.tc : Thread Cert.LnIdeal.nD Cert.LnIdeal.τ).loc Cert.LnIdeal.main_arg2)
      ∧ m' ((c.tc : Thread Cert.LnRefIdeal.nD Cert.LnRefIdeal.τ).loc Cert.LnRefIdeal.main_arg3) = m ((c.tc : Thread Cert.LnIdeal.nD Cert.LnIdeal.τ).loc Cert.LnIdeal.main_arg3)) →
    ∃ (v0 : (c : Dev Cert.LnIdeal.nD) → Buf (Elt Ideal) ((c.tc : Thread Cert.LnIdeal.nD Cert.LnIdeal.τ).loc Cert.LnIdeal.main_v1_0)) (v1 : (c : Dev Cert.LnIdeal.nD) → Buf (Elt Ideal) ((c.tc : Thread Cert.LnIdeal.nD Cert.LnIdeal.τ).loc Cert.LnIdeal.main_v1_1)) (v2 : (c : Dev Cert.LnIdeal.nD) → Buf (Elt Ideal) ((c.tc : Thread Cert.LnIdeal.nD Cert.LnIdeal.τ).loc Cert.LnIdeal.main_v1_2)),
      θ_run (Cert.LnIdeal.defs (F := Ideal)) (onTc (τ := Cert.LnIdeal.τ) (Cert.LnIdeal.main (F := Ideal))) ⟨m, fun _ => 0, g⟩ (fun r => ∀ c : Dev Cert.LnIdeal.nD,
          r.2.mem ((c.tc : Thread Cert.LnIdeal.nD Cert.LnIdeal.τ).loc Cert.LnIdeal.main_v1_0) = v0 c
          ∧ r.2.mem ((c.tc : Thread Cert.LnIdeal.nD Cert.LnIdeal.τ).loc Cert.LnIdeal.main_v1_1) = v1 c
          ∧ r.2.mem ((c.tc : Thread Cert.LnIdeal.nD Cert.LnIdeal.τ).loc Cert.LnIdeal.main_v1_2) = v2 c
          ∧ r.2.mem ((c.tc : Thread Cert.LnIdeal.nD Cert.LnIdeal.τ).loc Cert.LnIdeal.main_arg0) = m ((c.tc : Thread Cert.LnIdeal.nD Cert.LnIdeal.τ).loc Cert.LnIdeal.main_arg0)
          ∧ r.2.mem ((c.tc : Thread Cert.LnIdeal.nD Cert.LnIdeal.τ).loc Cert.LnIdeal.main_arg1) = m ((c.tc : Thread Cert.LnIdeal.nD Cert.LnIdeal.τ).loc Cert.LnIdeal.main_arg1)
          ∧ r.2.mem ((c.tc : Thread Cert.LnIdeal.nD Cert.LnIdeal.τ).loc Cert.LnIdeal.main_arg2) = m ((c.tc : Thread Cert.LnIdeal.nD Cert.LnIdeal.τ).loc Cert.LnIdeal.main_arg2)
          ∧ r.2.mem ((c.tc : Thread Cert.LnIdeal.nD Cert.LnIdeal.τ).loc Cert.LnIdeal.main_arg3) = m ((c.tc : Thread Cert.LnIdeal.nD Cert.LnIdeal.τ).loc Cert.LnIdeal.main_arg3))
      ∧ θ_run (Cert.LnRefIdeal.defs (F := Ideal)) (onTc (τ := Cert.LnRefIdeal.τ) (Cert.LnRefIdeal.main (F := Ideal))) ⟨m', fun _ => 0, g'⟩ (fun r => ∀ c : Dev Cert.LnRefIdeal.nD,
          r.2.mem ((c.tc : Thread Cert.LnRefIdeal.nD Cert.LnRefIdeal.τ).loc Cert.LnRefIdeal.main_v56) = v0 c
          ∧ r.2.mem ((c.tc : Thread Cert.LnRefIdeal.nD Cert.LnRefIdeal.τ).loc Cert.LnRefIdeal.main_v57) = v1 c
          ∧ r.2.mem ((c.tc : Thread Cert.LnRefIdeal.nD Cert.LnRefIdeal.τ).loc Cert.LnRefIdeal.main_v58) = v2 c
          ∧ r.2.mem ((c.tc : Thread Cert.LnRefIdeal.nD Cert.LnRefIdeal.τ).loc Cert.LnRefIdeal.main_arg0) = m' ((c.tc : Thread Cert.LnRefIdeal.nD Cert.LnRefIdeal.τ).loc Cert.LnRefIdeal.main_arg0)
          ∧ r.2.mem ((c.tc : Thread Cert.LnRefIdeal.nD Cert.LnRefIdeal.τ).loc Cert.LnRefIdeal.main_arg1) = m' ((c.tc : Thread Cert.LnRefIdeal.nD Cert.LnRefIdeal.τ).loc Cert.LnRefIdeal.main_arg1)
          ∧ r.2.mem ((c.tc : Thread Cert.LnRefIdeal.nD Cert.LnRefIdeal.τ).loc Cert.LnRefIdeal.main_arg2) = m' ((c.tc : Thread Cert.LnRefIdeal.nD Cert.LnRefIdeal.τ).loc Cert.LnRefIdeal.main_arg2)
          ∧ r.2.mem ((c.tc : Thread Cert.LnRefIdeal.nD Cert.LnRefIdeal.τ).loc Cert.LnRefIdeal.main_arg3) = m' ((c.tc : Thread Cert.LnRefIdeal.nD Cert.LnRefIdeal.τ).loc Cert.LnRefIdeal.main_arg3))

def preserves_Ln2_Ln2Ideal : Prop :=
  True

def algebraic_Ln2Ideal_Ln2RefIdeal_pre_ln2_finite [hLn2Ideal : Cert.Ln2Ideal.Facts] [hLn2RefIdeal : Cert.Ln2RefIdeal.Facts] [hPre_ln2_finite : Cert.Pre_ln2_finite.Facts] : Prop :=
  ∀ (m : (ℓ : Loc Cert.Ln2Ideal.nD Cert.Ln2Ideal.τ Cert.Ln2Ideal.sig) → Buf (Elt Ideal) ℓ) (g : Dev Cert.Ln2Ideal.nD → PrngReg)
    (m' : (ℓ : Loc Cert.Ln2RefIdeal.nD Cert.Ln2RefIdeal.τ Cert.Ln2RefIdeal.sig) → Buf (Elt Ideal) ℓ) (g' : Dev Cert.Ln2RefIdeal.nD → PrngReg), Pre_Ln2Ideal_ln2_finite m →
    (∀ c : Dev Cert.Ln2Ideal.nD,
      m' ((c.tc : Thread Cert.Ln2RefIdeal.nD Cert.Ln2RefIdeal.τ).loc Cert.Ln2RefIdeal.main_arg0) = m ((c.tc : Thread Cert.Ln2Ideal.nD Cert.Ln2Ideal.τ).loc Cert.Ln2Ideal.main_arg0)
      ∧ m' ((c.tc : Thread Cert.Ln2RefIdeal.nD Cert.Ln2RefIdeal.τ).loc Cert.Ln2RefIdeal.main_arg1) = m ((c.tc : Thread Cert.Ln2Ideal.nD Cert.Ln2Ideal.τ).loc Cert.Ln2Ideal.main_arg1)
      ∧ m' ((c.tc : Thread Cert.Ln2RefIdeal.nD Cert.Ln2RefIdeal.τ).loc Cert.Ln2RefIdeal.main_arg2) = m ((c.tc : Thread Cert.Ln2Ideal.nD Cert.Ln2Ideal.τ).loc Cert.Ln2Ideal.main_arg2)
      ∧ m' ((c.tc : Thread Cert.Ln2RefIdeal.nD Cert.Ln2RefIdeal.τ).loc Cert.Ln2RefIdeal.main_arg3) = m ((c.tc : Thread Cert.Ln2Ideal.nD Cert.Ln2Ideal.τ).loc Cert.Ln2Ideal.main_arg3)
      ∧ m' ((c.tc : Thread Cert.Ln2RefIdeal.nD Cert.Ln2RefIdeal.τ).loc Cert.Ln2RefIdeal.main_arg4) = m ((c.tc : Thread Cert.Ln2Ideal.nD Cert.Ln2Ideal.τ).loc Cert.Ln2Ideal.main_arg4)
      ∧ m' ((c.tc : Thread Cert.Ln2RefIdeal.nD Cert.Ln2RefIdeal.τ).loc Cert.Ln2RefIdeal.main_arg5) = m ((c.tc : Thread Cert.Ln2Ideal.nD Cert.Ln2Ideal.τ).loc Cert.Ln2Ideal.main_arg5)
      ∧ m' ((c.tc : Thread Cert.Ln2RefIdeal.nD Cert.Ln2RefIdeal.τ).loc Cert.Ln2RefIdeal.main_arg6) = m ((c.tc : Thread Cert.Ln2Ideal.nD Cert.Ln2Ideal.τ).loc Cert.Ln2Ideal.main_arg6)) →
    ∃ (v0 : (c : Dev Cert.Ln2Ideal.nD) → Buf (Elt Ideal) ((c.tc : Thread Cert.Ln2Ideal.nD Cert.Ln2Ideal.τ).loc Cert.Ln2Ideal.main_v14_0)) (v1 : (c : Dev Cert.Ln2Ideal.nD) → Buf (Elt Ideal) ((c.tc : Thread Cert.Ln2Ideal.nD Cert.Ln2Ideal.τ).loc Cert.Ln2Ideal.main_v14_1)) (v2 : (c : Dev Cert.Ln2Ideal.nD) → Buf (Elt Ideal) ((c.tc : Thread Cert.Ln2Ideal.nD Cert.Ln2Ideal.τ).loc Cert.Ln2Ideal.main_v14_2)) (v3 : (c : Dev Cert.Ln2Ideal.nD) → Buf (Elt Ideal) ((c.tc : Thread Cert.Ln2Ideal.nD Cert.Ln2Ideal.τ).loc Cert.Ln2Ideal.main_v14_3)) (v4 : (c : Dev Cert.Ln2Ideal.nD) → Buf (Elt Ideal) ((c.tc : Thread Cert.Ln2Ideal.nD Cert.Ln2Ideal.τ).loc Cert.Ln2Ideal.main_v14_4)) (v5 : (c : Dev Cert.Ln2Ideal.nD) → Buf (Elt Ideal) ((c.tc : Thread Cert.Ln2Ideal.nD Cert.Ln2Ideal.τ).loc Cert.Ln2Ideal.main_v14_5)),
      θ_run (Cert.Ln2Ideal.defs (F := Ideal)) (onTc (τ := Cert.Ln2Ideal.τ) (Cert.Ln2Ideal.main (F := Ideal))) ⟨m, fun _ => 0, g⟩ (fun r => ∀ c : Dev Cert.Ln2Ideal.nD,
          r.2.mem ((c.tc : Thread Cert.Ln2Ideal.nD Cert.Ln2Ideal.τ).loc Cert.Ln2Ideal.main_v14_0) = v0 c
          ∧ r.2.mem ((c.tc : Thread Cert.Ln2Ideal.nD Cert.Ln2Ideal.τ).loc Cert.Ln2Ideal.main_v14_1) = v1 c
          ∧ r.2.mem ((c.tc : Thread Cert.Ln2Ideal.nD Cert.Ln2Ideal.τ).loc Cert.Ln2Ideal.main_v14_2) = v2 c
          ∧ r.2.mem ((c.tc : Thread Cert.Ln2Ideal.nD Cert.Ln2Ideal.τ).loc Cert.Ln2Ideal.main_v14_3) = v3 c
          ∧ r.2.mem ((c.tc : Thread Cert.Ln2Ideal.nD Cert.Ln2Ideal.τ).loc Cert.Ln2Ideal.main_v14_4) = v4 c
          ∧ r.2.mem ((c.tc : Thread Cert.Ln2Ideal.nD Cert.Ln2Ideal.τ).loc Cert.Ln2Ideal.main_v14_5) = v5 c
          ∧ r.2.mem ((c.tc : Thread Cert.Ln2Ideal.nD Cert.Ln2Ideal.τ).loc Cert.Ln2Ideal.main_arg0) = m ((c.tc : Thread Cert.Ln2Ideal.nD Cert.Ln2Ideal.τ).loc Cert.Ln2Ideal.main_arg0)
          ∧ r.2.mem ((c.tc : Thread Cert.Ln2Ideal.nD Cert.Ln2Ideal.τ).loc Cert.Ln2Ideal.main_arg1) = m ((c.tc : Thread Cert.Ln2Ideal.nD Cert.Ln2Ideal.τ).loc Cert.Ln2Ideal.main_arg1)
          ∧ r.2.mem ((c.tc : Thread Cert.Ln2Ideal.nD Cert.Ln2Ideal.τ).loc Cert.Ln2Ideal.main_arg2) = m ((c.tc : Thread Cert.Ln2Ideal.nD Cert.Ln2Ideal.τ).loc Cert.Ln2Ideal.main_arg2)
          ∧ r.2.mem ((c.tc : Thread Cert.Ln2Ideal.nD Cert.Ln2Ideal.τ).loc Cert.Ln2Ideal.main_arg3) = m ((c.tc : Thread Cert.Ln2Ideal.nD Cert.Ln2Ideal.τ).loc Cert.Ln2Ideal.main_arg3)
          ∧ r.2.mem ((c.tc : Thread Cert.Ln2Ideal.nD Cert.Ln2Ideal.τ).loc Cert.Ln2Ideal.main_arg4) = m ((c.tc : Thread Cert.Ln2Ideal.nD Cert.Ln2Ideal.τ).loc Cert.Ln2Ideal.main_arg4)
          ∧ r.2.mem ((c.tc : Thread Cert.Ln2Ideal.nD Cert.Ln2Ideal.τ).loc Cert.Ln2Ideal.main_arg5) = m ((c.tc : Thread Cert.Ln2Ideal.nD Cert.Ln2Ideal.τ).loc Cert.Ln2Ideal.main_arg5)
          ∧ r.2.mem ((c.tc : Thread Cert.Ln2Ideal.nD Cert.Ln2Ideal.τ).loc Cert.Ln2Ideal.main_arg6) = m ((c.tc : Thread Cert.Ln2Ideal.nD Cert.Ln2Ideal.τ).loc Cert.Ln2Ideal.main_arg6))
      ∧ θ_run (Cert.Ln2RefIdeal.defs (F := Ideal)) (onTc (τ := Cert.Ln2RefIdeal.τ) (Cert.Ln2RefIdeal.main (F := Ideal))) ⟨m', fun _ => 0, g'⟩ (fun r => ∀ c : Dev Cert.Ln2RefIdeal.nD,
          r.2.mem ((c.tc : Thread Cert.Ln2RefIdeal.nD Cert.Ln2RefIdeal.τ).loc Cert.Ln2RefIdeal.main_v70) = v0 c
          ∧ r.2.mem ((c.tc : Thread Cert.Ln2RefIdeal.nD Cert.Ln2RefIdeal.τ).loc Cert.Ln2RefIdeal.main_v74) = v1 c
          ∧ r.2.mem ((c.tc : Thread Cert.Ln2RefIdeal.nD Cert.Ln2RefIdeal.τ).loc Cert.Ln2RefIdeal.main_v75) = v2 c
          ∧ r.2.mem ((c.tc : Thread Cert.Ln2RefIdeal.nD Cert.Ln2RefIdeal.τ).loc Cert.Ln2RefIdeal.main_v76) = v3 c
          ∧ r.2.mem ((c.tc : Thread Cert.Ln2RefIdeal.nD Cert.Ln2RefIdeal.τ).loc Cert.Ln2RefIdeal.main_v77) = v4 c
          ∧ r.2.mem ((c.tc : Thread Cert.Ln2RefIdeal.nD Cert.Ln2RefIdeal.τ).loc Cert.Ln2RefIdeal.main_v78) = v5 c
          ∧ r.2.mem ((c.tc : Thread Cert.Ln2RefIdeal.nD Cert.Ln2RefIdeal.τ).loc Cert.Ln2RefIdeal.main_arg0) = m' ((c.tc : Thread Cert.Ln2RefIdeal.nD Cert.Ln2RefIdeal.τ).loc Cert.Ln2RefIdeal.main_arg0)
          ∧ r.2.mem ((c.tc : Thread Cert.Ln2RefIdeal.nD Cert.Ln2RefIdeal.τ).loc Cert.Ln2RefIdeal.main_arg1) = m' ((c.tc : Thread Cert.Ln2RefIdeal.nD Cert.Ln2RefIdeal.τ).loc Cert.Ln2RefIdeal.main_arg1)
          ∧ r.2.mem ((c.tc : Thread Cert.Ln2RefIdeal.nD Cert.Ln2RefIdeal.τ).loc Cert.Ln2RefIdeal.main_arg2) = m' ((c.tc : Thread Cert.Ln2RefIdeal.nD Cert.Ln2RefIdeal.τ).loc Cert.Ln2RefIdeal.main_arg2)
          ∧ r.2.mem ((c.tc : Thread Cert.Ln2RefIdeal.nD Cert.Ln2RefIdeal.τ).loc Cert.Ln2RefIdeal.main_arg3) = m' ((c.tc : Thread Cert.Ln2RefIdeal.nD Cert.Ln2RefIdeal.τ).loc Cert.Ln2RefIdeal.main_arg3)
          ∧ r.2.mem ((c.tc : Thread Cert.Ln2RefIdeal.nD Cert.Ln2RefIdeal.τ).loc Cert.Ln2RefIdeal.main_arg4) = m' ((c.tc : Thread Cert.Ln2RefIdeal.nD Cert.Ln2RefIdeal.τ).loc Cert.Ln2RefIdeal.main_arg4)
          ∧ r.2.mem ((c.tc : Thread Cert.Ln2RefIdeal.nD Cert.Ln2RefIdeal.τ).loc Cert.Ln2RefIdeal.main_arg5) = m' ((c.tc : Thread Cert.Ln2RefIdeal.nD Cert.Ln2RefIdeal.τ).loc Cert.Ln2RefIdeal.main_arg5)
          ∧ r.2.mem ((c.tc : Thread Cert.Ln2RefIdeal.nD Cert.Ln2RefIdeal.τ).loc Cert.Ln2RefIdeal.main_arg6) = m' ((c.tc : Thread Cert.Ln2RefIdeal.nD Cert.Ln2RefIdeal.τ).loc Cert.Ln2RefIdeal.main_arg6))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v6_0)) (v1 : (c : Dev Cert.MergeIdeal.nD) → Buf (Elt Ideal) ((c.tc : Thread Cert.MergeIdeal.nD Cert.MergeIdeal.τ).loc Cert.MergeIdeal.main_v6_1)) (v2 : (c : Dev Cert.MergeIdeal.nD) → Buf (Elt Ideal) ((c.tc : Thread Cert.MergeIdeal.nD Cert.MergeIdeal.τ).loc Cert.MergeIdeal.main_v6_2)) (v3 : (c : Dev Cert.MergeIdeal.nD) → Buf (Elt Ideal) ((c.tc : Thread Cert.MergeIdeal.nD Cert.MergeIdeal.τ).loc Cert.MergeIdeal.main_v6_3)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v6_0) = v0 c
          ∧ r.2.mem ((c.tc : Thread Cert.MergeIdeal.nD Cert.MergeIdeal.τ).loc Cert.MergeIdeal.main_v6_1) = v1 c
          ∧ r.2.mem ((c.tc : Thread Cert.MergeIdeal.nD Cert.MergeIdeal.τ).loc Cert.MergeIdeal.main_v6_2) = v2 c
          ∧ r.2.mem ((c.tc : Thread Cert.MergeIdeal.nD Cert.MergeIdeal.τ).loc Cert.MergeIdeal.main_v6_3) = v3 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v31) = v0 c
          ∧ r.2.mem ((c.tc : Thread Cert.MergeRefIdeal.nD Cert.MergeRefIdeal.τ).loc Cert.MergeRefIdeal.main_v32) = v1 c
          ∧ r.2.mem ((c.tc : Thread Cert.MergeRefIdeal.nD Cert.MergeRefIdeal.τ).loc Cert.MergeRefIdeal.main_v33) = v2 c
          ∧ r.2.mem ((c.tc : Thread Cert.MergeRefIdeal.nD Cert.MergeRefIdeal.τ).loc Cert.MergeRefIdeal.main_v34) = v3 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_Dh1_Dh1Ideal : Prop :=
  True

def algebraic_Dh1Ideal_Dh1RefIdeal_pre_dh1_finite [hDh1Ideal : Cert.Dh1Ideal.Facts] [hDh1RefIdeal : Cert.Dh1RefIdeal.Facts] [hPre_dh1_finite : Cert.Pre_dh1_finite.Facts] : Prop :=
  ∀ (m : (ℓ : Loc Cert.Dh1Ideal.nD Cert.Dh1Ideal.τ Cert.Dh1Ideal.sig) → Buf (Elt Ideal) ℓ) (g : Dev Cert.Dh1Ideal.nD → PrngReg)
    (m' : (ℓ : Loc Cert.Dh1RefIdeal.nD Cert.Dh1RefIdeal.τ Cert.Dh1RefIdeal.sig) → Buf (Elt Ideal) ℓ) (g' : Dev Cert.Dh1RefIdeal.nD → PrngReg), Pre_Dh1Ideal_dh1_finite m →
    (∀ c : Dev Cert.Dh1Ideal.nD,
      m' ((c.tc : Thread Cert.Dh1RefIdeal.nD Cert.Dh1RefIdeal.τ).loc Cert.Dh1RefIdeal.main_arg0) = m ((c.tc : Thread Cert.Dh1Ideal.nD Cert.Dh1Ideal.τ).loc Cert.Dh1Ideal.main_arg0)
      ∧ m' ((c.tc : Thread Cert.Dh1RefIdeal.nD Cert.Dh1RefIdeal.τ).loc Cert.Dh1RefIdeal.main_arg1) = m ((c.tc : Thread Cert.Dh1Ideal.nD Cert.Dh1Ideal.τ).loc Cert.Dh1Ideal.main_arg1)
      ∧ m' ((c.tc : Thread Cert.Dh1RefIdeal.nD Cert.Dh1RefIdeal.τ).loc Cert.Dh1RefIdeal.main_arg2) = m ((c.tc : Thread Cert.Dh1Ideal.nD Cert.Dh1Ideal.τ).loc Cert.Dh1Ideal.main_arg2)
      ∧ m' ((c.tc : Thread Cert.Dh1RefIdeal.nD Cert.Dh1RefIdeal.τ).loc Cert.Dh1RefIdeal.main_arg3) = m ((c.tc : Thread Cert.Dh1Ideal.nD Cert.Dh1Ideal.τ).loc Cert.Dh1Ideal.main_arg3)
      ∧ m' ((c.tc : Thread Cert.Dh1RefIdeal.nD Cert.Dh1RefIdeal.τ).loc Cert.Dh1RefIdeal.main_arg4) = m ((c.tc : Thread Cert.Dh1Ideal.nD Cert.Dh1Ideal.τ).loc Cert.Dh1Ideal.main_arg4)
      ∧ m' ((c.tc : Thread Cert.Dh1RefIdeal.nD Cert.Dh1RefIdeal.τ).loc Cert.Dh1RefIdeal.main_arg5) = m ((c.tc : Thread Cert.Dh1Ideal.nD Cert.Dh1Ideal.τ).loc Cert.Dh1Ideal.main_arg5)
      ∧ m' ((c.tc : Thread Cert.Dh1RefIdeal.nD Cert.Dh1RefIdeal.τ).loc Cert.Dh1RefIdeal.main_arg6) = m ((c.tc : Thread Cert.Dh1Ideal.nD Cert.Dh1Ideal.τ).loc Cert.Dh1Ideal.main_arg6)
      ∧ m' ((c.tc : Thread Cert.Dh1RefIdeal.nD Cert.Dh1RefIdeal.τ).loc Cert.Dh1RefIdeal.main_arg7) = m ((c.tc : Thread Cert.Dh1Ideal.nD Cert.Dh1Ideal.τ).loc Cert.Dh1Ideal.main_arg7)
      ∧ m' ((c.tc : Thread Cert.Dh1RefIdeal.nD Cert.Dh1RefIdeal.τ).loc Cert.Dh1RefIdeal.main_arg8) = m ((c.tc : Thread Cert.Dh1Ideal.nD Cert.Dh1Ideal.τ).loc Cert.Dh1Ideal.main_arg8)
      ∧ m' ((c.tc : Thread Cert.Dh1RefIdeal.nD Cert.Dh1RefIdeal.τ).loc Cert.Dh1RefIdeal.main_arg9) = m ((c.tc : Thread Cert.Dh1Ideal.nD Cert.Dh1Ideal.τ).loc Cert.Dh1Ideal.main_arg9)) →
    ∃ (v0 : (c : Dev Cert.Dh1Ideal.nD) → Buf (Elt Ideal) ((c.tc : Thread Cert.Dh1Ideal.nD Cert.Dh1Ideal.τ).loc Cert.Dh1Ideal.main_v16_0)) (v1 : (c : Dev Cert.Dh1Ideal.nD) → Buf (Elt Ideal) ((c.tc : Thread Cert.Dh1Ideal.nD Cert.Dh1Ideal.τ).loc Cert.Dh1Ideal.main_v16_1)) (v2 : (c : Dev Cert.Dh1Ideal.nD) → Buf (Elt Ideal) ((c.tc : Thread Cert.Dh1Ideal.nD Cert.Dh1Ideal.τ).loc Cert.Dh1Ideal.main_v16_2)) (v3 : (c : Dev Cert.Dh1Ideal.nD) → Buf (Elt Ideal) ((c.tc : Thread Cert.Dh1Ideal.nD Cert.Dh1Ideal.τ).loc Cert.Dh1Ideal.main_v16_3)),
      θ_run (Cert.Dh1Ideal.defs (F := Ideal)) (onTc (τ := Cert.Dh1Ideal.τ) (Cert.Dh1Ideal.main (F := Ideal))) ⟨m, fun _ => 0, g⟩ (fun r => ∀ c : Dev Cert.Dh1Ideal.nD,
          r.2.mem ((c.tc : Thread Cert.Dh1Ideal.nD Cert.Dh1Ideal.τ).loc Cert.Dh1Ideal.main_v16_0) = v0 c
          ∧ r.2.mem ((c.tc : Thread Cert.Dh1Ideal.nD Cert.Dh1Ideal.τ).loc Cert.Dh1Ideal.main_v16_1) = v1 c
          ∧ r.2.mem ((c.tc : Thread Cert.Dh1Ideal.nD Cert.Dh1Ideal.τ).loc Cert.Dh1Ideal.main_v16_2) = v2 c
          ∧ r.2.mem ((c.tc : Thread Cert.Dh1Ideal.nD Cert.Dh1Ideal.τ).loc Cert.Dh1Ideal.main_v16_3) = v3 c
          ∧ r.2.mem ((c.tc : Thread Cert.Dh1Ideal.nD Cert.Dh1Ideal.τ).loc Cert.Dh1Ideal.main_arg0) = m ((c.tc : Thread Cert.Dh1Ideal.nD Cert.Dh1Ideal.τ).loc Cert.Dh1Ideal.main_arg0)
          ∧ r.2.mem ((c.tc : Thread Cert.Dh1Ideal.nD Cert.Dh1Ideal.τ).loc Cert.Dh1Ideal.main_arg1) = m ((c.tc : Thread Cert.Dh1Ideal.nD Cert.Dh1Ideal.τ).loc Cert.Dh1Ideal.main_arg1)
          ∧ r.2.mem ((c.tc : Thread Cert.Dh1Ideal.nD Cert.Dh1Ideal.τ).loc Cert.Dh1Ideal.main_arg2) = m ((c.tc : Thread Cert.Dh1Ideal.nD Cert.Dh1Ideal.τ).loc Cert.Dh1Ideal.main_arg2)
          ∧ r.2.mem ((c.tc : Thread Cert.Dh1Ideal.nD Cert.Dh1Ideal.τ).loc Cert.Dh1Ideal.main_arg3) = m ((c.tc : Thread Cert.Dh1Ideal.nD Cert.Dh1Ideal.τ).loc Cert.Dh1Ideal.main_arg3)
          ∧ r.2.mem ((c.tc : Thread Cert.Dh1Ideal.nD Cert.Dh1Ideal.τ).loc Cert.Dh1Ideal.main_arg4) = m ((c.tc : Thread Cert.Dh1Ideal.nD Cert.Dh1Ideal.τ).loc Cert.Dh1Ideal.main_arg4)
          ∧ r.2.mem ((c.tc : Thread Cert.Dh1Ideal.nD Cert.Dh1Ideal.τ).loc Cert.Dh1Ideal.main_arg5) = m ((c.tc : Thread Cert.Dh1Ideal.nD Cert.Dh1Ideal.τ).loc Cert.Dh1Ideal.main_arg5)
          ∧ r.2.mem ((c.tc : Thread Cert.Dh1Ideal.nD Cert.Dh1Ideal.τ).loc Cert.Dh1Ideal.main_arg6) = m ((c.tc : Thread Cert.Dh1Ideal.nD Cert.Dh1Ideal.τ).loc Cert.Dh1Ideal.main_arg6)
          ∧ r.2.mem ((c.tc : Thread Cert.Dh1Ideal.nD Cert.Dh1Ideal.τ).loc Cert.Dh1Ideal.main_arg7) = m ((c.tc : Thread Cert.Dh1Ideal.nD Cert.Dh1Ideal.τ).loc Cert.Dh1Ideal.main_arg7)
          ∧ r.2.mem ((c.tc : Thread Cert.Dh1Ideal.nD Cert.Dh1Ideal.τ).loc Cert.Dh1Ideal.main_arg8) = m ((c.tc : Thread Cert.Dh1Ideal.nD Cert.Dh1Ideal.τ).loc Cert.Dh1Ideal.main_arg8)
          ∧ r.2.mem ((c.tc : Thread Cert.Dh1Ideal.nD Cert.Dh1Ideal.τ).loc Cert.Dh1Ideal.main_arg9) = m ((c.tc : Thread Cert.Dh1Ideal.nD Cert.Dh1Ideal.τ).loc Cert.Dh1Ideal.main_arg9))
      ∧ θ_run (Cert.Dh1RefIdeal.defs (F := Ideal)) (onTc (τ := Cert.Dh1RefIdeal.τ) (Cert.Dh1RefIdeal.main (F := Ideal))) ⟨m', fun _ => 0, g'⟩ (fun r => ∀ c : Dev Cert.Dh1RefIdeal.nD,
          r.2.mem ((c.tc : Thread Cert.Dh1RefIdeal.nD Cert.Dh1RefIdeal.τ).loc Cert.Dh1RefIdeal.main_v71) = v0 c
          ∧ r.2.mem ((c.tc : Thread Cert.Dh1RefIdeal.nD Cert.Dh1RefIdeal.τ).loc Cert.Dh1RefIdeal.main_v72) = v1 c
          ∧ r.2.mem ((c.tc : Thread Cert.Dh1RefIdeal.nD Cert.Dh1RefIdeal.τ).loc Cert.Dh1RefIdeal.main_v73) = v2 c
          ∧ r.2.mem ((c.tc : Thread Cert.Dh1RefIdeal.nD Cert.Dh1RefIdeal.τ).loc Cert.Dh1RefIdeal.main_v74) = v3 c
          ∧ r.2.mem ((c.tc : Thread Cert.Dh1RefIdeal.nD Cert.Dh1RefIdeal.τ).loc Cert.Dh1RefIdeal.main_arg0) = m' ((c.tc : Thread Cert.Dh1RefIdeal.nD Cert.Dh1RefIdeal.τ).loc Cert.Dh1RefIdeal.main_arg0)
          ∧ r.2.mem ((c.tc : Thread Cert.Dh1RefIdeal.nD Cert.Dh1RefIdeal.τ).loc Cert.Dh1RefIdeal.main_arg1) = m' ((c.tc : Thread Cert.Dh1RefIdeal.nD Cert.Dh1RefIdeal.τ).loc Cert.Dh1RefIdeal.main_arg1)
          ∧ r.2.mem ((c.tc : Thread Cert.Dh1RefIdeal.nD Cert.Dh1RefIdeal.τ).loc Cert.Dh1RefIdeal.main_arg2) = m' ((c.tc : Thread Cert.Dh1RefIdeal.nD Cert.Dh1RefIdeal.τ).loc Cert.Dh1RefIdeal.main_arg2)
          ∧ r.2.mem ((c.tc : Thread Cert.Dh1RefIdeal.nD Cert.Dh1RefIdeal.τ).loc Cert.Dh1RefIdeal.main_arg3) = m' ((c.tc : Thread Cert.Dh1RefIdeal.nD Cert.Dh1RefIdeal.τ).loc Cert.Dh1RefIdeal.main_arg3)
          ∧ r.2.mem ((c.tc : Thread Cert.Dh1RefIdeal.nD Cert.Dh1RefIdeal.τ).loc Cert.Dh1RefIdeal.main_arg4) = m' ((c.tc : Thread Cert.Dh1RefIdeal.nD Cert.Dh1RefIdeal.τ).loc Cert.Dh1RefIdeal.main_arg4)
          ∧ r.2.mem ((c.tc : Thread Cert.Dh1RefIdeal.nD Cert.Dh1RefIdeal.τ).loc Cert.Dh1RefIdeal.main_arg5) = m' ((c.tc : Thread Cert.Dh1RefIdeal.nD Cert.Dh1RefIdeal.τ).loc Cert.Dh1RefIdeal.main_arg5)
          ∧ r.2.mem ((c.tc : Thread Cert.Dh1RefIdeal.nD Cert.Dh1RefIdeal.τ).loc Cert.Dh1RefIdeal.main_arg6) = m' ((c.tc : Thread Cert.Dh1RefIdeal.nD Cert.Dh1RefIdeal.τ).loc Cert.Dh1RefIdeal.main_arg6)
          ∧ r.2.mem ((c.tc : Thread Cert.Dh1RefIdeal.nD Cert.Dh1RefIdeal.τ).loc Cert.Dh1RefIdeal.main_arg7) = m' ((c.tc : Thread Cert.Dh1RefIdeal.nD Cert.Dh1RefIdeal.τ).loc Cert.Dh1RefIdeal.main_arg7)
          ∧ r.2.mem ((c.tc : Thread Cert.Dh1RefIdeal.nD Cert.Dh1RefIdeal.τ).loc Cert.Dh1RefIdeal.main_arg8) = m' ((c.tc : Thread Cert.Dh1RefIdeal.nD Cert.Dh1RefIdeal.τ).loc Cert.Dh1RefIdeal.main_arg8)
          ∧ r.2.mem ((c.tc : Thread Cert.Dh1RefIdeal.nD Cert.Dh1RefIdeal.τ).loc Cert.Dh1RefIdeal.main_arg9) = m' ((c.tc : Thread Cert.Dh1RefIdeal.nD Cert.Dh1RefIdeal.τ).loc Cert.Dh1RefIdeal.main_arg9))

def preserves_Ffn_FfnIdeal : Prop :=
  IdealRules.named_const.Statement Cert.FfnIdeal.κ "sqrt_half" .f32 0x3F3504F3#32 (((Real.sqrt 2)⁻¹ : ℝ) : EReal)
  ∧ IdealRules.named_const.Statement Cert.FfnIdeal.κ "inv_sqrt_2pi" .f32 0x3ECC422A#32 (((Real.sqrt (2 * Real.pi))⁻¹ : ℝ) : EReal)

def algebraic_FfnIdeal_FfnRefIdeal_pre_ffn_finite [hFfnIdeal : Cert.FfnIdeal.Facts] [hFfnRefIdeal : Cert.FfnRefIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_ffn_finite m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v9_0)) (v1 : (c : Dev Cert.FfnIdeal.nD) → Buf (Elt Ideal) ((c.tc : Thread Cert.FfnIdeal.nD Cert.FfnIdeal.τ).loc Cert.FfnIdeal.main_v9_1)) (v2 : (c : Dev Cert.FfnIdeal.nD) → Buf (Elt Ideal) ((c.tc : Thread Cert.FfnIdeal.nD Cert.FfnIdeal.τ).loc Cert.FfnIdeal.main_v9_2)) (v3 : (c : Dev Cert.FfnIdeal.nD) → Buf (Elt Ideal) ((c.tc : Thread Cert.FfnIdeal.nD Cert.FfnIdeal.τ).loc Cert.FfnIdeal.main_v9_3)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v9_0) = v0 c
          ∧ r.2.mem ((c.tc : Thread Cert.FfnIdeal.nD Cert.FfnIdeal.τ).loc Cert.FfnIdeal.main_v9_1) = v1 c
          ∧ r.2.mem ((c.tc : Thread Cert.FfnIdeal.nD Cert.FfnIdeal.τ).loc Cert.FfnIdeal.main_v9_2) = v2 c
          ∧ r.2.mem ((c.tc : Thread Cert.FfnIdeal.nD Cert.FfnIdeal.τ).loc Cert.FfnIdeal.main_v9_3) = v3 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v1_0) = v0 c
          ∧ r.2.mem ((c.tc : Thread Cert.FfnRefIdeal.nD Cert.FfnRefIdeal.τ).loc Cert.FfnRefIdeal.main_v1_1) = v1 c
          ∧ r.2.mem ((c.tc : Thread Cert.FfnRefIdeal.nD Cert.FfnRefIdeal.τ).loc Cert.FfnRefIdeal.main_v1_2) = v2 c
          ∧ r.2.mem ((c.tc : Thread Cert.FfnRefIdeal.nD Cert.FfnRefIdeal.τ).loc Cert.FfnRefIdeal.main_v1_3) = v3 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Pool_PoolIdeal : Prop :=
  True

def algebraic_PoolIdeal_PoolRefIdeal_pre_pool_finite [hPoolIdeal : Cert.PoolIdeal.Facts] [hPoolRefIdeal : Cert.PoolRefIdeal.Facts] [hPre_pool_finite : Cert.Pre_pool_finite.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal_pool_finite m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)
      ∧ m' ((c.tc : Thread Cert.PoolRefIdeal.nD Cert.PoolRefIdeal.τ).loc Cert.PoolRefIdeal.main_arg1) = m ((c.tc : Thread Cert.PoolIdeal.nD Cert.PoolIdeal.τ).loc Cert.PoolIdeal.main_arg1)
      ∧ m' ((c.tc : Thread Cert.PoolRefIdeal.nD Cert.PoolRefIdeal.τ).loc Cert.PoolRefIdeal.main_arg2) = m ((c.tc : Thread Cert.PoolIdeal.nD Cert.PoolIdeal.τ).loc Cert.PoolIdeal.main_arg2)
      ∧ m' ((c.tc : Thread Cert.PoolRefIdeal.nD Cert.PoolRefIdeal.τ).loc Cert.PoolRefIdeal.main_arg3) = m ((c.tc : Thread Cert.PoolIdeal.nD Cert.PoolIdeal.τ).loc Cert.PoolIdeal.main_arg3)
      ∧ m' ((c.tc : Thread Cert.PoolRefIdeal.nD Cert.PoolRefIdeal.τ).loc Cert.PoolRefIdeal.main_arg4) = m ((c.tc : Thread Cert.PoolIdeal.nD Cert.PoolIdeal.τ).loc Cert.PoolIdeal.main_arg4)) →
    ∃ (v0 : (c : Dev Cert.PoolIdeal.nD) → Buf (Elt Ideal) ((c.tc : Thread Cert.PoolIdeal.nD Cert.PoolIdeal.τ).loc Cert.PoolIdeal.main_v130_0)) (v1 : (c : Dev Cert.PoolIdeal.nD) → Buf (Elt Ideal) ((c.tc : Thread Cert.PoolIdeal.nD Cert.PoolIdeal.τ).loc Cert.PoolIdeal.main_v130_1)) (v2 : (c : Dev Cert.PoolIdeal.nD) → Buf (Elt Ideal) ((c.tc : Thread Cert.PoolIdeal.nD Cert.PoolIdeal.τ).loc Cert.PoolIdeal.main_v130_2)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v130_0) = v0 c
          ∧ r.2.mem ((c.tc : Thread Cert.PoolIdeal.nD Cert.PoolIdeal.τ).loc Cert.PoolIdeal.main_v130_1) = v1 c
          ∧ r.2.mem ((c.tc : Thread Cert.PoolIdeal.nD Cert.PoolIdeal.τ).loc Cert.PoolIdeal.main_v130_2) = v2 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
          ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
          ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v206) = v0 c
          ∧ r.2.mem ((c.tc : Thread Cert.PoolRefIdeal.nD Cert.PoolRefIdeal.τ).loc Cert.PoolRefIdeal.main_v145) = v1 c
          ∧ r.2.mem ((c.tc : Thread Cert.PoolRefIdeal.nD Cert.PoolRefIdeal.τ).loc Cert.PoolRefIdeal.main_v207) = v2 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1)
          ∧ r.2.mem ((c.tc : Thread Cert.PoolRefIdeal.nD Cert.PoolRefIdeal.τ).loc Cert.PoolRefIdeal.main_arg2) = m' ((c.tc : Thread Cert.PoolRefIdeal.nD Cert.PoolRefIdeal.τ).loc Cert.PoolRefIdeal.main_arg2)
          ∧ r.2.mem ((c.tc : Thread Cert.PoolRefIdeal.nD Cert.PoolRefIdeal.τ).loc Cert.PoolRefIdeal.main_arg3) = m' ((c.tc : Thread Cert.PoolRefIdeal.nD Cert.PoolRefIdeal.τ).loc Cert.PoolRefIdeal.main_arg3)
          ∧ r.2.mem ((c.tc : Thread Cert.PoolRefIdeal.nD Cert.PoolRefIdeal.τ).loc Cert.PoolRefIdeal.main_arg4) = m' ((c.tc : Thread Cert.PoolRefIdeal.nD Cert.PoolRefIdeal.τ).loc Cert.PoolRefIdeal.main_arg4))

def preserves_LnFwd_LnFwdIdeal : Prop :=
  True

def algebraic_LnFwdIdeal_LnFwdRefIdeal [hLnFwdIdeal : Cert.LnFwdIdeal.Facts] [hLnFwdRefIdeal : Cert.LnFwdRefIdeal.Facts] : Prop :=
  ∀ (m : (ℓ : Loc Cert.LnFwdIdeal.nD Cert.LnFwdIdeal.τ Cert.LnFwdIdeal.sig) → Buf (Elt Ideal) ℓ) (g : Dev Cert.LnFwdIdeal.nD → PrngReg)
    (m' : (ℓ : Loc Cert.LnFwdRefIdeal.nD Cert.LnFwdRefIdeal.τ Cert.LnFwdRefIdeal.sig) → Buf (Elt Ideal) ℓ) (g' : Dev Cert.LnFwdRefIdeal.nD → PrngReg), Pre_LnFwdIdeal m →
    (∀ c : Dev Cert.LnFwdIdeal.nD,
      m' ((c.tc : Thread Cert.LnFwdRefIdeal.nD Cert.LnFwdRefIdeal.τ).loc Cert.LnFwdRefIdeal.main_arg0) = m ((c.tc : Thread Cert.LnFwdIdeal.nD Cert.LnFwdIdeal.τ).loc Cert.LnFwdIdeal.main_arg0)
      ∧ m' ((c.tc : Thread Cert.LnFwdRefIdeal.nD Cert.LnFwdRefIdeal.τ).loc Cert.LnFwdRefIdeal.main_arg1) = m ((c.tc : Thread Cert.LnFwdIdeal.nD Cert.LnFwdIdeal.τ).loc Cert.LnFwdIdeal.main_arg1)
      ∧ m' ((c.tc : Thread Cert.LnFwdRefIdeal.nD Cert.LnFwdRefIdeal.τ).loc Cert.LnFwdRefIdeal.main_arg2) = m ((c.tc : Thread Cert.LnFwdIdeal.nD Cert.LnFwdIdeal.τ).loc Cert.LnFwdIdeal.main_arg2)) →
    ∃ (v0 : (c : Dev Cert.LnFwdIdeal.nD) → Buf (Elt Ideal) ((c.tc : Thread Cert.LnFwdIdeal.nD Cert.LnFwdIdeal.τ).loc Cert.LnFwdIdeal.main_v2_0)) (v1 : (c : Dev Cert.LnFwdIdeal.nD) → Buf (Elt Ideal) ((c.tc : Thread Cert.LnFwdIdeal.nD Cert.LnFwdIdeal.τ).loc Cert.LnFwdIdeal.main_v2_1)),
      θ_run (Cert.LnFwdIdeal.defs (F := Ideal)) (onTc (τ := Cert.LnFwdIdeal.τ) (Cert.LnFwdIdeal.main (F := Ideal))) ⟨m, fun _ => 0, g⟩ (fun r => ∀ c : Dev Cert.LnFwdIdeal.nD,
          r.2.mem ((c.tc : Thread Cert.LnFwdIdeal.nD Cert.LnFwdIdeal.τ).loc Cert.LnFwdIdeal.main_v2_0) = v0 c
          ∧ r.2.mem ((c.tc : Thread Cert.LnFwdIdeal.nD Cert.LnFwdIdeal.τ).loc Cert.LnFwdIdeal.main_v2_1) = v1 c
          ∧ r.2.mem ((c.tc : Thread Cert.LnFwdIdeal.nD Cert.LnFwdIdeal.τ).loc Cert.LnFwdIdeal.main_arg0) = m ((c.tc : Thread Cert.LnFwdIdeal.nD Cert.LnFwdIdeal.τ).loc Cert.LnFwdIdeal.main_arg0)
          ∧ r.2.mem ((c.tc : Thread Cert.LnFwdIdeal.nD Cert.LnFwdIdeal.τ).loc Cert.LnFwdIdeal.main_arg1) = m ((c.tc : Thread Cert.LnFwdIdeal.nD Cert.LnFwdIdeal.τ).loc Cert.LnFwdIdeal.main_arg1)
          ∧ r.2.mem ((c.tc : Thread Cert.LnFwdIdeal.nD Cert.LnFwdIdeal.τ).loc Cert.LnFwdIdeal.main_arg2) = m ((c.tc : Thread Cert.LnFwdIdeal.nD Cert.LnFwdIdeal.τ).loc Cert.LnFwdIdeal.main_arg2))
      ∧ θ_run (Cert.LnFwdRefIdeal.defs (F := Ideal)) (onTc (τ := Cert.LnFwdRefIdeal.τ) (Cert.LnFwdRefIdeal.main (F := Ideal))) ⟨m', fun _ => 0, g'⟩ (fun r => ∀ c : Dev Cert.LnFwdRefIdeal.nD,
          r.2.mem ((c.tc : Thread Cert.LnFwdRefIdeal.nD Cert.LnFwdRefIdeal.τ).loc Cert.LnFwdRefIdeal.main_v21) = v0 c
          ∧ r.2.mem ((c.tc : Thread Cert.LnFwdRefIdeal.nD Cert.LnFwdRefIdeal.τ).loc Cert.LnFwdRefIdeal.main_v22) = v1 c
          ∧ r.2.mem ((c.tc : Thread Cert.LnFwdRefIdeal.nD Cert.LnFwdRefIdeal.τ).loc Cert.LnFwdRefIdeal.main_arg0) = m' ((c.tc : Thread Cert.LnFwdRefIdeal.nD Cert.LnFwdRefIdeal.τ).loc Cert.LnFwdRefIdeal.main_arg0)
          ∧ r.2.mem ((c.tc : Thread Cert.LnFwdRefIdeal.nD Cert.LnFwdRefIdeal.τ).loc Cert.LnFwdRefIdeal.main_arg1) = m' ((c.tc : Thread Cert.LnFwdRefIdeal.nD Cert.LnFwdRefIdeal.τ).loc Cert.LnFwdRefIdeal.main_arg1)
          ∧ r.2.mem ((c.tc : Thread Cert.LnFwdRefIdeal.nD Cert.LnFwdRefIdeal.τ).loc Cert.LnFwdRefIdeal.main_arg2) = m' ((c.tc : Thread Cert.LnFwdRefIdeal.nD Cert.LnFwdRefIdeal.τ).loc Cert.LnFwdRefIdeal.main_arg2))

def preserves_MixFwd_MixFwdIdeal : Prop :=
  True

def algebraic_MixFwdIdeal_MixFwdRefIdeal [hMixFwdIdeal : Cert.MixFwdIdeal.Facts] [hMixFwdRefIdeal : Cert.MixFwdRefIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg)
    (m' : (ℓ : Loc Cert.MixFwdRefIdeal.nD Cert.MixFwdRefIdeal.τ Cert.MixFwdRefIdeal.sig) → Buf (Elt Ideal) ℓ) (g' : Dev Cert.MixFwdRefIdeal.nD → PrngReg), Pre_MixFwdIdeal m →
    (∀ c : Dev Cert.MixFwdIdeal.nD,
      m' ((c.tc : Thread Cert.MixFwdRefIdeal.nD Cert.MixFwdRefIdeal.τ).loc Cert.MixFwdRefIdeal.main_arg0) = m ((c.tc : Thread Cert.MixFwdIdeal.nD Cert.MixFwdIdeal.τ).loc Cert.MixFwdIdeal.main_arg0)
      ∧ m' ((c.tc : Thread Cert.MixFwdRefIdeal.nD Cert.MixFwdRefIdeal.τ).loc Cert.MixFwdRefIdeal.main_arg1) = m ((c.tc : Thread Cert.MixFwdIdeal.nD Cert.MixFwdIdeal.τ).loc Cert.MixFwdIdeal.main_arg1)
      ∧ m' ((c.tc : Thread Cert.MixFwdRefIdeal.nD Cert.MixFwdRefIdeal.τ).loc Cert.MixFwdRefIdeal.main_arg2) = m ((c.tc : Thread Cert.MixFwdIdeal.nD Cert.MixFwdIdeal.τ).loc Cert.MixFwdIdeal.main_arg2)
      ∧ m' ((c.tc : Thread Cert.MixFwdRefIdeal.nD Cert.MixFwdRefIdeal.τ).loc Cert.MixFwdRefIdeal.main_arg3) = m ((c.tc : Thread Cert.MixFwdIdeal.nD Cert.MixFwdIdeal.τ).loc Cert.MixFwdIdeal.main_arg3)
      ∧ m' ((c.tc : Thread Cert.MixFwdRefIdeal.nD Cert.MixFwdRefIdeal.τ).loc Cert.MixFwdRefIdeal.main_arg4) = m ((c.tc : Thread Cert.MixFwdIdeal.nD Cert.MixFwdIdeal.τ).loc Cert.MixFwdIdeal.main_arg4)) →
    ∃ (v0 : (c : Dev Cert.MixFwdIdeal.nD) → Buf (Elt Ideal) ((c.tc : Thread Cert.MixFwdIdeal.nD Cert.MixFwdIdeal.τ).loc Cert.MixFwdIdeal.main_v5_0)) (v1 : (c : Dev Cert.MixFwdIdeal.nD) → Buf (Elt Ideal) ((c.tc : Thread Cert.MixFwdIdeal.nD Cert.MixFwdIdeal.τ).loc Cert.MixFwdIdeal.main_v5_1)) (v2 : (c : Dev Cert.MixFwdIdeal.nD) → Buf (Elt Ideal) ((c.tc : Thread Cert.MixFwdIdeal.nD Cert.MixFwdIdeal.τ).loc Cert.MixFwdIdeal.main_v5_2)),
      θ_run (Cert.MixFwdIdeal.defs (F := Ideal)) (onTc (τ := Cert.MixFwdIdeal.τ) (Cert.MixFwdIdeal.main (F := Ideal))) ⟨m, fun _ => 0, g⟩ (fun r => ∀ c : Dev Cert.MixFwdIdeal.nD,
          r.2.mem ((c.tc : Thread Cert.MixFwdIdeal.nD Cert.MixFwdIdeal.τ).loc Cert.MixFwdIdeal.main_v5_0) = v0 c
          ∧ r.2.mem ((c.tc : Thread Cert.MixFwdIdeal.nD Cert.MixFwdIdeal.τ).loc Cert.MixFwdIdeal.main_v5_1) = v1 c
          ∧ r.2.mem ((c.tc : Thread Cert.MixFwdIdeal.nD Cert.MixFwdIdeal.τ).loc Cert.MixFwdIdeal.main_v5_2) = v2 c
          ∧ r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
          ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
          ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
          ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
          ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4))
      ∧ θ_run (Cert.MixFwdRefIdeal.defs (F := Ideal)) (onTc (τ := Cert.MixFwdRefIdeal.τ) (Cert.MixFwdRefIdeal.main (F := Ideal))) ⟨m', fun _ => 0, g'⟩ (fun r => ∀ c : Dev Cert.MixFwdRefIdeal.nD,
          r.2.mem ((c.tc : Thread Cert.MixFwdRefIdeal.nD Cert.MixFwdRefIdeal.τ).loc Cert.MixFwdRefIdeal.main_v3) = v0 c
          ∧ r.2.mem ((c.tc : Thread Cert.MixFwdRefIdeal.nD Cert.MixFwdRefIdeal.τ).loc Cert.MixFwdRefIdeal.main_v25) = v1 c
          ∧ r.2.mem ((c.tc : Thread Cert.MixFwdRefIdeal.nD Cert.MixFwdRefIdeal.τ).loc Cert.MixFwdRefIdeal.main_v26) = v2 c
          ∧ r.2.mem ((c.tc : Thread Cert.MixFwdRefIdeal.nD Cert.MixFwdRefIdeal.τ).loc Cert.MixFwdRefIdeal.main_arg0) = m' ((c.tc : Thread Cert.MixFwdRefIdeal.nD Cert.MixFwdRefIdeal.τ).loc Cert.MixFwdRefIdeal.main_arg0)
          ∧ r.2.mem ((c.tc : Thread Cert.MixFwdRefIdeal.nD Cert.MixFwdRefIdeal.τ).loc Cert.MixFwdRefIdeal.main_arg1) = m' ((c.tc : Thread Cert.MixFwdRefIdeal.nD Cert.MixFwdRefIdeal.τ).loc Cert.MixFwdRefIdeal.main_arg1)
          ∧ r.2.mem ((c.tc : Thread Cert.MixFwdRefIdeal.nD Cert.MixFwdRefIdeal.τ).loc Cert.MixFwdRefIdeal.main_arg2) = m' ((c.tc : Thread Cert.MixFwdRefIdeal.nD Cert.MixFwdRefIdeal.τ).loc Cert.MixFwdRefIdeal.main_arg2)
          ∧ r.2.mem ((c.tc : Thread Cert.MixFwdRefIdeal.nD Cert.MixFwdRefIdeal.τ).loc Cert.MixFwdRefIdeal.main_arg3) = m' ((c.tc : Thread Cert.MixFwdRefIdeal.nD Cert.MixFwdRefIdeal.τ).loc Cert.MixFwdRefIdeal.main_arg3)
          ∧ r.2.mem ((c.tc : Thread Cert.MixFwdRefIdeal.nD Cert.MixFwdRefIdeal.τ).loc Cert.MixFwdRefIdeal.main_arg4) = m' ((c.tc : Thread Cert.MixFwdRefIdeal.nD Cert.MixFwdRefIdeal.τ).loc Cert.MixFwdRefIdeal.main_arg4))

def preserves_MergeFwd_MergeFwdIdeal : Prop :=
  True

def algebraic_MergeFwdIdeal_MergeFwdRefIdeal [hMergeFwdIdeal : Cert.MergeFwdIdeal.Facts] [hMergeFwdRefIdeal : Cert.MergeFwdRefIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdRefIdeal.nD Cert.MergeFwdRefIdeal.τ Cert.MergeFwdRefIdeal.sig) → Buf (Elt Ideal) ℓ) (g' : Dev Cert.MergeFwdRefIdeal.nD → PrngReg), Pre_MergeFwdIdeal m →
    (∀ c : Dev Cert.MergeFwdIdeal.nD,
      m' ((c.tc : Thread Cert.MergeFwdRefIdeal.nD Cert.MergeFwdRefIdeal.τ).loc Cert.MergeFwdRefIdeal.main_arg0) = m ((c.tc : Thread Cert.MergeFwdIdeal.nD Cert.MergeFwdIdeal.τ).loc Cert.MergeFwdIdeal.main_arg0)
      ∧ m' ((c.tc : Thread Cert.MergeFwdRefIdeal.nD Cert.MergeFwdRefIdeal.τ).loc Cert.MergeFwdRefIdeal.main_arg1) = m ((c.tc : Thread Cert.MergeFwdIdeal.nD Cert.MergeFwdIdeal.τ).loc Cert.MergeFwdIdeal.main_arg1)
      ∧ m' ((c.tc : Thread Cert.MergeFwdRefIdeal.nD Cert.MergeFwdRefIdeal.τ).loc Cert.MergeFwdRefIdeal.main_arg2) = m ((c.tc : Thread Cert.MergeFwdIdeal.nD Cert.MergeFwdIdeal.τ).loc Cert.MergeFwdIdeal.main_arg2)
      ∧ m' ((c.tc : Thread Cert.MergeFwdRefIdeal.nD Cert.MergeFwdRefIdeal.τ).loc Cert.MergeFwdRefIdeal.main_arg3) = m ((c.tc : Thread Cert.MergeFwdIdeal.nD Cert.MergeFwdIdeal.τ).loc Cert.MergeFwdIdeal.main_arg3)
      ∧ m' ((c.tc : Thread Cert.MergeFwdRefIdeal.nD Cert.MergeFwdRefIdeal.τ).loc Cert.MergeFwdRefIdeal.main_arg4) = m ((c.tc : Thread Cert.MergeFwdIdeal.nD Cert.MergeFwdIdeal.τ).loc Cert.MergeFwdIdeal.main_arg4)) →
    ∃ (v0 : (c : Dev Cert.MergeFwdIdeal.nD) → Buf (Elt Ideal) ((c.tc : Thread Cert.MergeFwdIdeal.nD Cert.MergeFwdIdeal.τ).loc Cert.MergeFwdIdeal.main_v9_0)) (v1 : (c : Dev Cert.MergeFwdIdeal.nD) → Buf (Elt Ideal) ((c.tc : Thread Cert.MergeFwdIdeal.nD Cert.MergeFwdIdeal.τ).loc Cert.MergeFwdIdeal.main_v9_1)) (v2 : (c : Dev Cert.MergeFwdIdeal.nD) → Buf (Elt Ideal) ((c.tc : Thread Cert.MergeFwdIdeal.nD Cert.MergeFwdIdeal.τ).loc Cert.MergeFwdIdeal.main_v9_2)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v9_0) = v0 c
          ∧ r.2.mem ((c.tc : Thread Cert.MergeFwdIdeal.nD Cert.MergeFwdIdeal.τ).loc Cert.MergeFwdIdeal.main_v9_1) = v1 c
          ∧ r.2.mem ((c.tc : Thread Cert.MergeFwdIdeal.nD Cert.MergeFwdIdeal.τ).loc Cert.MergeFwdIdeal.main_v9_2) = v2 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
          ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
          ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4))
      ∧ θ_run (Cert.MergeFwdRefIdeal.defs (F := Ideal)) (onTc (τ := Cert.MergeFwdRefIdeal.τ) (Cert.MergeFwdRefIdeal.main (F := Ideal))) ⟨m', fun _ => 0, g'⟩ (fun r => ∀ c : Dev Cert.MergeFwdRefIdeal.nD,
          r.2.mem ((c.tc : Thread Cert.MergeFwdRefIdeal.nD Cert.MergeFwdRefIdeal.τ).loc Cert.MergeFwdRefIdeal.main_v19) = v0 c
          ∧ r.2.mem ((c.tc : Thread Cert.MergeFwdRefIdeal.nD Cert.MergeFwdRefIdeal.τ).loc Cert.MergeFwdRefIdeal.main_v20) = v1 c
          ∧ r.2.mem ((c.tc : Thread Cert.MergeFwdRefIdeal.nD Cert.MergeFwdRefIdeal.τ).loc Cert.MergeFwdRefIdeal.main_v21) = v2 c
          ∧ r.2.mem ((c.tc : Thread Cert.MergeFwdRefIdeal.nD Cert.MergeFwdRefIdeal.τ).loc Cert.MergeFwdRefIdeal.main_arg0) = m' ((c.tc : Thread Cert.MergeFwdRefIdeal.nD Cert.MergeFwdRefIdeal.τ).loc Cert.MergeFwdRefIdeal.main_arg0)
          ∧ r.2.mem ((c.tc : Thread Cert.MergeFwdRefIdeal.nD Cert.MergeFwdRefIdeal.τ).loc Cert.MergeFwdRefIdeal.main_arg1) = m' ((c.tc : Thread Cert.MergeFwdRefIdeal.nD Cert.MergeFwdRefIdeal.τ).loc Cert.MergeFwdRefIdeal.main_arg1)
          ∧ r.2.mem ((c.tc : Thread Cert.MergeFwdRefIdeal.nD Cert.MergeFwdRefIdeal.τ).loc Cert.MergeFwdRefIdeal.main_arg2) = m' ((c.tc : Thread Cert.MergeFwdRefIdeal.nD Cert.MergeFwdRefIdeal.τ).loc Cert.MergeFwdRefIdeal.main_arg2)
          ∧ r.2.mem ((c.tc : Thread Cert.MergeFwdRefIdeal.nD Cert.MergeFwdRefIdeal.τ).loc Cert.MergeFwdRefIdeal.main_arg3) = m' ((c.tc : Thread Cert.MergeFwdRefIdeal.nD Cert.MergeFwdRefIdeal.τ).loc Cert.MergeFwdRefIdeal.main_arg3)
          ∧ r.2.mem ((c.tc : Thread Cert.MergeFwdRefIdeal.nD Cert.MergeFwdRefIdeal.τ).loc Cert.MergeFwdRefIdeal.main_arg4) = m' ((c.tc : Thread Cert.MergeFwdRefIdeal.nD Cert.MergeFwdRefIdeal.τ).loc Cert.MergeFwdRefIdeal.main_arg4))

def preserves_DownFwd_DownFwdIdeal : Prop :=
  True

def algebraic_DownFwdIdeal_DownFwdRefIdeal [hDownFwdIdeal : Cert.DownFwdIdeal.Facts] [hDownFwdRefIdeal : Cert.DownFwdRefIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg)
    (m' : (ℓ : Loc Cert.DownFwdRefIdeal.nD Cert.DownFwdRefIdeal.τ Cert.DownFwdRefIdeal.sig) → Buf (Elt Ideal) ℓ) (g' : Dev Cert.DownFwdRefIdeal.nD → PrngReg), Pre_DownFwdIdeal m →
    (∀ c : Dev Cert.DownFwdIdeal.nD,
      m' ((c.tc : Thread Cert.DownFwdRefIdeal.nD Cert.DownFwdRefIdeal.τ).loc Cert.DownFwdRefIdeal.main_arg0) = m ((c.tc : Thread Cert.DownFwdIdeal.nD Cert.DownFwdIdeal.τ).loc Cert.DownFwdIdeal.main_arg0)
      ∧ m' ((c.tc : Thread Cert.DownFwdRefIdeal.nD Cert.DownFwdRefIdeal.τ).loc Cert.DownFwdRefIdeal.main_arg1) = m ((c.tc : Thread Cert.DownFwdIdeal.nD Cert.DownFwdIdeal.τ).loc Cert.DownFwdIdeal.main_arg1)
      ∧ m' ((c.tc : Thread Cert.DownFwdRefIdeal.nD Cert.DownFwdRefIdeal.τ).loc Cert.DownFwdRefIdeal.main_arg2) = m ((c.tc : Thread Cert.DownFwdIdeal.nD Cert.DownFwdIdeal.τ).loc Cert.DownFwdIdeal.main_arg2)
      ∧ m' ((c.tc : Thread Cert.DownFwdRefIdeal.nD Cert.DownFwdRefIdeal.τ).loc Cert.DownFwdRefIdeal.main_arg3) = m ((c.tc : Thread Cert.DownFwdIdeal.nD Cert.DownFwdIdeal.τ).loc Cert.DownFwdIdeal.main_arg3)
      ∧ m' ((c.tc : Thread Cert.DownFwdRefIdeal.nD Cert.DownFwdRefIdeal.τ).loc Cert.DownFwdRefIdeal.main_arg4) = m ((c.tc : Thread Cert.DownFwdIdeal.nD Cert.DownFwdIdeal.τ).loc Cert.DownFwdIdeal.main_arg4)
      ∧ m' ((c.tc : Thread Cert.DownFwdRefIdeal.nD Cert.DownFwdRefIdeal.τ).loc Cert.DownFwdRefIdeal.main_arg5) = m ((c.tc : Thread Cert.DownFwdIdeal.nD Cert.DownFwdIdeal.τ).loc Cert.DownFwdIdeal.main_arg5)
      ∧ m' ((c.tc : Thread Cert.DownFwdRefIdeal.nD Cert.DownFwdRefIdeal.τ).loc Cert.DownFwdRefIdeal.main_arg6) = m ((c.tc : Thread Cert.DownFwdIdeal.nD Cert.DownFwdIdeal.τ).loc Cert.DownFwdIdeal.main_arg6)
      ∧ m' ((c.tc : Thread Cert.DownFwdRefIdeal.nD Cert.DownFwdRefIdeal.τ).loc Cert.DownFwdRefIdeal.main_arg7) = m ((c.tc : Thread Cert.DownFwdIdeal.nD Cert.DownFwdIdeal.τ).loc Cert.DownFwdIdeal.main_arg7)) →
    ∃ (v0 : (c : Dev Cert.DownFwdIdeal.nD) → Buf (Elt Ideal) ((c.tc : Thread Cert.DownFwdIdeal.nD Cert.DownFwdIdeal.τ).loc Cert.DownFwdIdeal.main_v14_0)) (v1 : (c : Dev Cert.DownFwdIdeal.nD) → Buf (Elt Ideal) ((c.tc : Thread Cert.DownFwdIdeal.nD Cert.DownFwdIdeal.τ).loc Cert.DownFwdIdeal.main_v14_1)) (v2 : (c : Dev Cert.DownFwdIdeal.nD) → Buf (Elt Ideal) ((c.tc : Thread Cert.DownFwdIdeal.nD Cert.DownFwdIdeal.τ).loc Cert.DownFwdIdeal.main_v14_2)) (v3 : (c : Dev Cert.DownFwdIdeal.nD) → Buf (Elt Ideal) ((c.tc : Thread Cert.DownFwdIdeal.nD Cert.DownFwdIdeal.τ).loc Cert.DownFwdIdeal.main_v14_3)) (v4 : (c : Dev Cert.DownFwdIdeal.nD) → Buf (Elt Ideal) ((c.tc : Thread Cert.DownFwdIdeal.nD Cert.DownFwdIdeal.τ).loc Cert.DownFwdIdeal.main_v14_4)),
      θ_run (Cert.DownFwdIdeal.defs (F := Ideal)) (onTc (τ := Cert.DownFwdIdeal.τ) (Cert.DownFwdIdeal.main (F := Ideal))) ⟨m, fun _ => 0, g⟩ (fun r => ∀ c : Dev Cert.DownFwdIdeal.nD,
          r.2.mem ((c.tc : Thread Cert.DownFwdIdeal.nD Cert.DownFwdIdeal.τ).loc Cert.DownFwdIdeal.main_v14_0) = v0 c
          ∧ r.2.mem ((c.tc : Thread Cert.DownFwdIdeal.nD Cert.DownFwdIdeal.τ).loc Cert.DownFwdIdeal.main_v14_1) = v1 c
          ∧ r.2.mem ((c.tc : Thread Cert.DownFwdIdeal.nD Cert.DownFwdIdeal.τ).loc Cert.DownFwdIdeal.main_v14_2) = v2 c
          ∧ r.2.mem ((c.tc : Thread Cert.DownFwdIdeal.nD Cert.DownFwdIdeal.τ).loc Cert.DownFwdIdeal.main_v14_3) = v3 c
          ∧ r.2.mem ((c.tc : Thread Cert.DownFwdIdeal.nD Cert.DownFwdIdeal.τ).loc Cert.DownFwdIdeal.main_v14_4) = v4 c
          ∧ r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
          ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1)
          ∧ r.2.mem ((c.tc : Thread Cert.DownFwdIdeal.nD Cert.DownFwdIdeal.τ).loc Cert.DownFwdIdeal.main_arg2) = m ((c.tc : Thread Cert.DownFwdIdeal.nD Cert.DownFwdIdeal.τ).loc Cert.DownFwdIdeal.main_arg2)
          ∧ r.2.mem ((c.tc : Thread Cert.DownFwdIdeal.nD Cert.DownFwdIdeal.τ).loc Cert.DownFwdIdeal.main_arg3) = m ((c.tc : Thread Cert.DownFwdIdeal.nD Cert.DownFwdIdeal.τ).loc Cert.DownFwdIdeal.main_arg3)
          ∧ r.2.mem ((c.tc : Thread Cert.DownFwdIdeal.nD Cert.DownFwdIdeal.τ).loc Cert.DownFwdIdeal.main_arg4) = m ((c.tc : Thread Cert.DownFwdIdeal.nD Cert.DownFwdIdeal.τ).loc Cert.DownFwdIdeal.main_arg4)
          ∧ r.2.mem ((c.tc : Thread Cert.DownFwdIdeal.nD Cert.DownFwdIdeal.τ).loc Cert.DownFwdIdeal.main_arg5) = m ((c.tc : Thread Cert.DownFwdIdeal.nD Cert.DownFwdIdeal.τ).loc Cert.DownFwdIdeal.main_arg5)
          ∧ r.2.mem ((c.tc : Thread Cert.DownFwdIdeal.nD Cert.DownFwdIdeal.τ).loc Cert.DownFwdIdeal.main_arg6) = m ((c.tc : Thread Cert.DownFwdIdeal.nD Cert.DownFwdIdeal.τ).loc Cert.DownFwdIdeal.main_arg6)
          ∧ r.2.mem ((c.tc : Thread Cert.DownFwdIdeal.nD Cert.DownFwdIdeal.τ).loc Cert.DownFwdIdeal.main_arg7) = m ((c.tc : Thread Cert.DownFwdIdeal.nD Cert.DownFwdIdeal.τ).loc Cert.DownFwdIdeal.main_arg7))
      ∧ θ_run (Cert.DownFwdRefIdeal.defs (F := Ideal)) (onTc (τ := Cert.DownFwdRefIdeal.τ) (Cert.DownFwdRefIdeal.main (F := Ideal))) ⟨m', fun _ => 0, g'⟩ (fun r => ∀ c : Dev Cert.DownFwdRefIdeal.nD,
          r.2.mem ((c.tc : Thread Cert.DownFwdRefIdeal.nD Cert.DownFwdRefIdeal.τ).loc Cert.DownFwdRefIdeal.main_v13) = v0 c
          ∧ r.2.mem ((c.tc : Thread Cert.DownFwdRefIdeal.nD Cert.DownFwdRefIdeal.τ).loc Cert.DownFwdRefIdeal.main_v35) = v1 c
          ∧ r.2.mem ((c.tc : Thread Cert.DownFwdRefIdeal.nD Cert.DownFwdRefIdeal.τ).loc Cert.DownFwdRefIdeal.main_v36) = v2 c
          ∧ r.2.mem ((c.tc : Thread Cert.DownFwdRefIdeal.nD Cert.DownFwdRefIdeal.τ).loc Cert.DownFwdRefIdeal.main_v37) = v3 c
          ∧ r.2.mem ((c.tc : Thread Cert.DownFwdRefIdeal.nD Cert.DownFwdRefIdeal.τ).loc Cert.DownFwdRefIdeal.main_v38) = v4 c
          ∧ r.2.mem ((c.tc : Thread Cert.DownFwdRefIdeal.nD Cert.DownFwdRefIdeal.τ).loc Cert.DownFwdRefIdeal.main_arg0) = m' ((c.tc : Thread Cert.DownFwdRefIdeal.nD Cert.DownFwdRefIdeal.τ).loc Cert.DownFwdRefIdeal.main_arg0)
          ∧ r.2.mem ((c.tc : Thread Cert.DownFwdRefIdeal.nD Cert.DownFwdRefIdeal.τ).loc Cert.DownFwdRefIdeal.main_arg1) = m' ((c.tc : Thread Cert.DownFwdRefIdeal.nD Cert.DownFwdRefIdeal.τ).loc Cert.DownFwdRefIdeal.main_arg1)
          ∧ r.2.mem ((c.tc : Thread Cert.DownFwdRefIdeal.nD Cert.DownFwdRefIdeal.τ).loc Cert.DownFwdRefIdeal.main_arg2) = m' ((c.tc : Thread Cert.DownFwdRefIdeal.nD Cert.DownFwdRefIdeal.τ).loc Cert.DownFwdRefIdeal.main_arg2)
          ∧ r.2.mem ((c.tc : Thread Cert.DownFwdRefIdeal.nD Cert.DownFwdRefIdeal.τ).loc Cert.DownFwdRefIdeal.main_arg3) = m' ((c.tc : Thread Cert.DownFwdRefIdeal.nD Cert.DownFwdRefIdeal.τ).loc Cert.DownFwdRefIdeal.main_arg3)
          ∧ r.2.mem ((c.tc : Thread Cert.DownFwdRefIdeal.nD Cert.DownFwdRefIdeal.τ).loc Cert.DownFwdRefIdeal.main_arg4) = m' ((c.tc : Thread Cert.DownFwdRefIdeal.nD Cert.DownFwdRefIdeal.τ).loc Cert.DownFwdRefIdeal.main_arg4)
          ∧ r.2.mem ((c.tc : Thread Cert.DownFwdRefIdeal.nD Cert.DownFwdRefIdeal.τ).loc Cert.DownFwdRefIdeal.main_arg5) = m' ((c.tc : Thread Cert.DownFwdRefIdeal.nD Cert.DownFwdRefIdeal.τ).loc Cert.DownFwdRefIdeal.main_arg5)
          ∧ r.2.mem ((c.tc : Thread Cert.DownFwdRefIdeal.nD Cert.DownFwdRefIdeal.τ).loc Cert.DownFwdRefIdeal.main_arg6) = m' ((c.tc : Thread Cert.DownFwdRefIdeal.nD Cert.DownFwdRefIdeal.τ).loc Cert.DownFwdRefIdeal.main_arg6)
          ∧ r.2.mem ((c.tc : Thread Cert.DownFwdRefIdeal.nD Cert.DownFwdRefIdeal.τ).loc Cert.DownFwdRefIdeal.main_arg7) = m' ((c.tc : Thread Cert.DownFwdRefIdeal.nD Cert.DownFwdRefIdeal.τ).loc Cert.DownFwdRefIdeal.main_arg7))

def preserves_FfnFwd_FfnFwdIdeal : Prop :=
  True

def algebraic_FfnFwdIdeal_FfnFwdRefIdeal [hFfnFwdIdeal : Cert.FfnFwdIdeal.Facts] [hFfnFwdRefIdeal : Cert.FfnFwdRefIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)) →
    ∃ (v0 : (c : Dev Cert.FfnFwdIdeal.nD) → Buf (Elt Ideal) ((c.tc : Thread Cert.FfnFwdIdeal.nD Cert.FfnFwdIdeal.τ).loc Cert.FfnFwdIdeal.main_v6)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v6) = v0 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v37) = v0 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2))

def preserves_PoolFwd_PoolFwdIdeal : Prop :=
  True

def algebraic_PoolFwdIdeal_PoolFwdRefIdeal_pre_poolf_finite [hPoolFwdIdeal : Cert.PoolFwdIdeal.Facts] [hPoolFwdRefIdeal : Cert.PoolFwdRefIdeal.Facts] [hPre_poolf_finite : Cert.Pre_poolf_finite.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg)
    (m' : (ℓ : Loc Cert.PoolFwdRefIdeal.nD Cert.PoolFwdRefIdeal.τ Cert.PoolFwdRefIdeal.sig) → Buf (Elt Ideal) ℓ) (g' : Dev Cert.PoolFwdRefIdeal.nD → PrngReg), Pre_PoolFwdIdeal_poolf_finite m →
    (∀ c : Dev Cert.PoolFwdIdeal.nD,
      m' ((c.tc : Thread Cert.PoolFwdRefIdeal.nD Cert.PoolFwdRefIdeal.τ).loc Cert.PoolFwdRefIdeal.main_arg0) = m ((c.tc : Thread Cert.PoolFwdIdeal.nD Cert.PoolFwdIdeal.τ).loc Cert.PoolFwdIdeal.main_arg0)
      ∧ m' ((c.tc : Thread Cert.PoolFwdRefIdeal.nD Cert.PoolFwdRefIdeal.τ).loc Cert.PoolFwdRefIdeal.main_arg1) = m ((c.tc : Thread Cert.PoolFwdIdeal.nD Cert.PoolFwdIdeal.τ).loc Cert.PoolFwdIdeal.main_arg1)
      ∧ m' ((c.tc : Thread Cert.PoolFwdRefIdeal.nD Cert.PoolFwdRefIdeal.τ).loc Cert.PoolFwdRefIdeal.main_arg2) = m ((c.tc : Thread Cert.PoolFwdIdeal.nD Cert.PoolFwdIdeal.τ).loc Cert.PoolFwdIdeal.main_arg2)) →
    ∃ (v0 : (c : Dev Cert.PoolFwdIdeal.nD) → Buf (Elt Ideal) ((c.tc : Thread Cert.PoolFwdIdeal.nD Cert.PoolFwdIdeal.τ).loc Cert.PoolFwdIdeal.main_v2_0)) (v1 : (c : Dev Cert.PoolFwdIdeal.nD) → Buf (Elt Ideal) ((c.tc : Thread Cert.PoolFwdIdeal.nD Cert.PoolFwdIdeal.τ).loc Cert.PoolFwdIdeal.main_v2_1)),
      θ_run (Cert.PoolFwdIdeal.defs (F := Ideal)) (onTc (τ := Cert.PoolFwdIdeal.τ) (Cert.PoolFwdIdeal.main (F := Ideal))) ⟨m, fun _ => 0, g⟩ (fun r => ∀ c : Dev Cert.PoolFwdIdeal.nD,
          r.2.mem ((c.tc : Thread Cert.PoolFwdIdeal.nD Cert.PoolFwdIdeal.τ).loc Cert.PoolFwdIdeal.main_v2_0) = v0 c
          ∧ r.2.mem ((c.tc : Thread Cert.PoolFwdIdeal.nD Cert.PoolFwdIdeal.τ).loc Cert.PoolFwdIdeal.main_v2_1) = v1 c
          ∧ r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0)
          ∧ r.2.mem ((c.tc : Thread Cert.PoolFwdIdeal.nD Cert.PoolFwdIdeal.τ).loc Cert.PoolFwdIdeal.main_arg1) = m ((c.tc : Thread Cert.PoolFwdIdeal.nD Cert.PoolFwdIdeal.τ).loc Cert.PoolFwdIdeal.main_arg1)
          ∧ r.2.mem ((c.tc : Thread Cert.PoolFwdIdeal.nD Cert.PoolFwdIdeal.τ).loc Cert.PoolFwdIdeal.main_arg2) = m ((c.tc : Thread Cert.PoolFwdIdeal.nD Cert.PoolFwdIdeal.τ).loc Cert.PoolFwdIdeal.main_arg2))
      ∧ θ_run (Cert.PoolFwdRefIdeal.defs (F := Ideal)) (onTc (τ := Cert.PoolFwdRefIdeal.τ) (Cert.PoolFwdRefIdeal.main (F := Ideal))) ⟨m', fun _ => 0, g'⟩ (fun r => ∀ c : Dev Cert.PoolFwdRefIdeal.nD,
          r.2.mem ((c.tc : Thread Cert.PoolFwdRefIdeal.nD Cert.PoolFwdRefIdeal.τ).loc Cert.PoolFwdRefIdeal.main_v130) = v0 c
          ∧ r.2.mem ((c.tc : Thread Cert.PoolFwdRefIdeal.nD Cert.PoolFwdRefIdeal.τ).loc Cert.PoolFwdRefIdeal.main_v132) = v1 c
          ∧ r.2.mem ((c.tc : Thread Cert.PoolFwdRefIdeal.nD Cert.PoolFwdRefIdeal.τ).loc Cert.PoolFwdRefIdeal.main_arg0) = m' ((c.tc : Thread Cert.PoolFwdRefIdeal.nD Cert.PoolFwdRefIdeal.τ).loc Cert.PoolFwdRefIdeal.main_arg0)
          ∧ r.2.mem ((c.tc : Thread Cert.PoolFwdRefIdeal.nD Cert.PoolFwdRefIdeal.τ).loc Cert.PoolFwdRefIdeal.main_arg1) = m' ((c.tc : Thread Cert.PoolFwdRefIdeal.nD Cert.PoolFwdRefIdeal.τ).loc Cert.PoolFwdRefIdeal.main_arg1)
          ∧ r.2.mem ((c.tc : Thread Cert.PoolFwdRefIdeal.nD Cert.PoolFwdRefIdeal.τ).loc Cert.PoolFwdRefIdeal.main_arg2) = m' ((c.tc : Thread Cert.PoolFwdRefIdeal.nD Cert.PoolFwdRefIdeal.τ).loc Cert.PoolFwdRefIdeal.main_arg2))

def preserves_Wdown_WdownIdeal : Prop :=
  True

def algebraic_WdownIdeal_WdownRefIdeal [hWdownIdeal : Cert.WdownIdeal.Facts] [hWdownRefIdeal : Cert.WdownRefIdeal.Facts] : Prop :=
  ∀ (m : (ℓ : Loc Cert.WdownIdeal.nD Cert.WdownIdeal.τ Cert.WdownIdeal.sig) → Buf (Elt Ideal) ℓ) (g : Dev Cert.WdownIdeal.nD → PrngReg)
    (m' : (ℓ : Loc Cert.WdownRefIdeal.nD Cert.WdownRefIdeal.τ Cert.WdownRefIdeal.sig) → Buf (Elt Ideal) ℓ) (g' : Dev Cert.WdownRefIdeal.nD → PrngReg), Pre_WdownIdeal m →
    (∀ c : Dev Cert.WdownIdeal.nD,
      m' ((c.tc : Thread Cert.WdownRefIdeal.nD Cert.WdownRefIdeal.τ).loc Cert.WdownRefIdeal.main_arg0) = m ((c.tc : Thread Cert.WdownIdeal.nD Cert.WdownIdeal.τ).loc Cert.WdownIdeal.main_arg0)
      ∧ m' ((c.tc : Thread Cert.WdownRefIdeal.nD Cert.WdownRefIdeal.τ).loc Cert.WdownRefIdeal.main_arg1) = m ((c.tc : Thread Cert.WdownIdeal.nD Cert.WdownIdeal.τ).loc Cert.WdownIdeal.main_arg1)
      ∧ m' ((c.tc : Thread Cert.WdownRefIdeal.nD Cert.WdownRefIdeal.τ).loc Cert.WdownRefIdeal.main_arg2) = m ((c.tc : Thread Cert.WdownIdeal.nD Cert.WdownIdeal.τ).loc Cert.WdownIdeal.main_arg2)) →
    ∃ (v0 : (c : Dev Cert.WdownIdeal.nD) → Buf (Elt Ideal) ((c.tc : Thread Cert.WdownIdeal.nD Cert.WdownIdeal.τ).loc Cert.WdownIdeal.main_v4)),
      θ_run (Cert.WdownIdeal.defs (F := Ideal)) (onTc (τ := Cert.WdownIdeal.τ) (Cert.WdownIdeal.main (F := Ideal))) ⟨m, fun _ => 0, g⟩ (fun r => ∀ c : Dev Cert.WdownIdeal.nD,
          r.2.mem ((c.tc : Thread Cert.WdownIdeal.nD Cert.WdownIdeal.τ).loc Cert.WdownIdeal.main_v4) = v0 c
          ∧ r.2.mem ((c.tc : Thread Cert.WdownIdeal.nD Cert.WdownIdeal.τ).loc Cert.WdownIdeal.main_arg0) = m ((c.tc : Thread Cert.WdownIdeal.nD Cert.WdownIdeal.τ).loc Cert.WdownIdeal.main_arg0)
          ∧ r.2.mem ((c.tc : Thread Cert.WdownIdeal.nD Cert.WdownIdeal.τ).loc Cert.WdownIdeal.main_arg1) = m ((c.tc : Thread Cert.WdownIdeal.nD Cert.WdownIdeal.τ).loc Cert.WdownIdeal.main_arg1)
          ∧ r.2.mem ((c.tc : Thread Cert.WdownIdeal.nD Cert.WdownIdeal.τ).loc Cert.WdownIdeal.main_arg2) = m ((c.tc : Thread Cert.WdownIdeal.nD Cert.WdownIdeal.τ).loc Cert.WdownIdeal.main_arg2))
      ∧ θ_run (Cert.WdownRefIdeal.defs (F := Ideal)) (onTc (τ := Cert.WdownRefIdeal.τ) (Cert.WdownRefIdeal.main (F := Ideal))) ⟨m', fun _ => 0, g'⟩ (fun r => ∀ c : Dev Cert.WdownRefIdeal.nD,
          r.2.mem ((c.tc : Thread Cert.WdownRefIdeal.nD Cert.WdownRefIdeal.τ).loc Cert.WdownRefIdeal.main_v4) = v0 c
          ∧ r.2.mem ((c.tc : Thread Cert.WdownRefIdeal.nD Cert.WdownRefIdeal.τ).loc Cert.WdownRefIdeal.main_arg0) = m' ((c.tc : Thread Cert.WdownRefIdeal.nD Cert.WdownRefIdeal.τ).loc Cert.WdownRefIdeal.main_arg0)
          ∧ r.2.mem ((c.tc : Thread Cert.WdownRefIdeal.nD Cert.WdownRefIdeal.τ).loc Cert.WdownRefIdeal.main_arg1) = m' ((c.tc : Thread Cert.WdownRefIdeal.nD Cert.WdownRefIdeal.τ).loc Cert.WdownRefIdeal.main_arg1)
          ∧ r.2.mem ((c.tc : Thread Cert.WdownRefIdeal.nD Cert.WdownRefIdeal.τ).loc Cert.WdownRefIdeal.main_arg2) = m' ((c.tc : Thread Cert.WdownRefIdeal.nD Cert.WdownRefIdeal.τ).loc Cert.WdownRefIdeal.main_arg2))

def preserves_Wup_WupIdeal : Prop :=
  True

def algebraic_WupIdeal_WupRefIdeal [hWupIdeal : Cert.WupIdeal.Facts] [hWupRefIdeal : Cert.WupRefIdeal.Facts] : Prop :=
  ∀ (m : (ℓ : Loc Cert.WupIdeal.nD Cert.WupIdeal.τ Cert.WupIdeal.sig) → Buf (Elt Ideal) ℓ) (g : Dev Cert.WupIdeal.nD → PrngReg)
    (m' : (ℓ : Loc Cert.WupRefIdeal.nD Cert.WupRefIdeal.τ Cert.WupRefIdeal.sig) → Buf (Elt Ideal) ℓ) (g' : Dev Cert.WupRefIdeal.nD → PrngReg), Pre_WupIdeal m →
    (∀ c : Dev Cert.WupIdeal.nD,
      m' ((c.tc : Thread Cert.WupRefIdeal.nD Cert.WupRefIdeal.τ).loc Cert.WupRefIdeal.main_arg0) = m ((c.tc : Thread Cert.WupIdeal.nD Cert.WupIdeal.τ).loc Cert.WupIdeal.main_arg0)
      ∧ m' ((c.tc : Thread Cert.WupRefIdeal.nD Cert.WupRefIdeal.τ).loc Cert.WupRefIdeal.main_arg1) = m ((c.tc : Thread Cert.WupIdeal.nD Cert.WupIdeal.τ).loc Cert.WupIdeal.main_arg1)
      ∧ m' ((c.tc : Thread Cert.WupRefIdeal.nD Cert.WupRefIdeal.τ).loc Cert.WupRefIdeal.main_arg2) = m ((c.tc : Thread Cert.WupIdeal.nD Cert.WupIdeal.τ).loc Cert.WupIdeal.main_arg2)
      ∧ m' ((c.tc : Thread Cert.WupRefIdeal.nD Cert.WupRefIdeal.τ).loc Cert.WupRefIdeal.main_arg3) = m ((c.tc : Thread Cert.WupIdeal.nD Cert.WupIdeal.τ).loc Cert.WupIdeal.main_arg3)) →
    ∃ (v0 : (c : Dev Cert.WupIdeal.nD) → Buf (Elt Ideal) ((c.tc : Thread Cert.WupIdeal.nD Cert.WupIdeal.τ).loc Cert.WupIdeal.main_v7)),
      θ_run (Cert.WupIdeal.defs (F := Ideal)) (onTc (τ := Cert.WupIdeal.τ) (Cert.WupIdeal.main (F := Ideal))) ⟨m, fun _ => 0, g⟩ (fun r => ∀ c : Dev Cert.WupIdeal.nD,
          r.2.mem ((c.tc : Thread Cert.WupIdeal.nD Cert.WupIdeal.τ).loc Cert.WupIdeal.main_v7) = v0 c
          ∧ r.2.mem ((c.tc : Thread Cert.WupIdeal.nD Cert.WupIdeal.τ).loc Cert.WupIdeal.main_arg0) = m ((c.tc : Thread Cert.WupIdeal.nD Cert.WupIdeal.τ).loc Cert.WupIdeal.main_arg0)
          ∧ r.2.mem ((c.tc : Thread Cert.WupIdeal.nD Cert.WupIdeal.τ).loc Cert.WupIdeal.main_arg1) = m ((c.tc : Thread Cert.WupIdeal.nD Cert.WupIdeal.τ).loc Cert.WupIdeal.main_arg1)
          ∧ r.2.mem ((c.tc : Thread Cert.WupIdeal.nD Cert.WupIdeal.τ).loc Cert.WupIdeal.main_arg2) = m ((c.tc : Thread Cert.WupIdeal.nD Cert.WupIdeal.τ).loc Cert.WupIdeal.main_arg2)
          ∧ r.2.mem ((c.tc : Thread Cert.WupIdeal.nD Cert.WupIdeal.τ).loc Cert.WupIdeal.main_arg3) = m ((c.tc : Thread Cert.WupIdeal.nD Cert.WupIdeal.τ).loc Cert.WupIdeal.main_arg3))
      ∧ θ_run (Cert.WupRefIdeal.defs (F := Ideal)) (onTc (τ := Cert.WupRefIdeal.τ) (Cert.WupRefIdeal.main (F := Ideal))) ⟨m', fun _ => 0, g'⟩ (fun r => ∀ c : Dev Cert.WupRefIdeal.nD,
          r.2.mem ((c.tc : Thread Cert.WupRefIdeal.nD Cert.WupRefIdeal.τ).loc Cert.WupRefIdeal.main_v8) = v0 c
          ∧ r.2.mem ((c.tc : Thread Cert.WupRefIdeal.nD Cert.WupRefIdeal.τ).loc Cert.WupRefIdeal.main_arg0) = m' ((c.tc : Thread Cert.WupRefIdeal.nD Cert.WupRefIdeal.τ).loc Cert.WupRefIdeal.main_arg0)
          ∧ r.2.mem ((c.tc : Thread Cert.WupRefIdeal.nD Cert.WupRefIdeal.τ).loc Cert.WupRefIdeal.main_arg1) = m' ((c.tc : Thread Cert.WupRefIdeal.nD Cert.WupRefIdeal.τ).loc Cert.WupRefIdeal.main_arg1)
          ∧ r.2.mem ((c.tc : Thread Cert.WupRefIdeal.nD Cert.WupRefIdeal.τ).loc Cert.WupRefIdeal.main_arg2) = m' ((c.tc : Thread Cert.WupRefIdeal.nD Cert.WupRefIdeal.τ).loc Cert.WupRefIdeal.main_arg2)
          ∧ r.2.mem ((c.tc : Thread Cert.WupRefIdeal.nD Cert.WupRefIdeal.τ).loc Cert.WupRefIdeal.main_arg3) = m' ((c.tc : Thread Cert.WupRefIdeal.nD Cert.WupRefIdeal.τ).loc Cert.WupRefIdeal.main_arg3))

def preserves_Win_WinIdeal : Prop :=
  True

def algebraic_WinIdeal_WinRefIdeal [hWinIdeal : Cert.WinIdeal.Facts] [hWinRefIdeal : Cert.WinRefIdeal.Facts] : Prop :=
  ∀ (m : (ℓ : Loc Cert.WinIdeal.nD Cert.WinIdeal.τ Cert.WinIdeal.sig) → Buf (Elt Ideal) ℓ) (g : Dev Cert.WinIdeal.nD → PrngReg)
    (m' : (ℓ : Loc Cert.WinRefIdeal.nD Cert.WinRefIdeal.τ Cert.WinRefIdeal.sig) → Buf (Elt Ideal) ℓ) (g' : Dev Cert.WinRefIdeal.nD → PrngReg), Pre_WinIdeal m →
    (∀ c : Dev Cert.WinIdeal.nD,
      m' ((c.tc : Thread Cert.WinRefIdeal.nD Cert.WinRefIdeal.τ).loc Cert.WinRefIdeal.main_arg0) = m ((c.tc : Thread Cert.WinIdeal.nD Cert.WinIdeal.τ).loc Cert.WinIdeal.main_arg0)
      ∧ m' ((c.tc : Thread Cert.WinRefIdeal.nD Cert.WinRefIdeal.τ).loc Cert.WinRefIdeal.main_arg1) = m ((c.tc : Thread Cert.WinIdeal.nD Cert.WinIdeal.τ).loc Cert.WinIdeal.main_arg1)
      ∧ m' ((c.tc : Thread Cert.WinRefIdeal.nD Cert.WinRefIdeal.τ).loc Cert.WinRefIdeal.main_arg2) = m ((c.tc : Thread Cert.WinIdeal.nD Cert.WinIdeal.τ).loc Cert.WinIdeal.main_arg2)
      ∧ m' ((c.tc : Thread Cert.WinRefIdeal.nD Cert.WinRefIdeal.τ).loc Cert.WinRefIdeal.main_arg3) = m ((c.tc : Thread Cert.WinIdeal.nD Cert.WinIdeal.τ).loc Cert.WinIdeal.main_arg3)
      ∧ m' ((c.tc : Thread Cert.WinRefIdeal.nD Cert.WinRefIdeal.τ).loc Cert.WinRefIdeal.main_arg4) = m ((c.tc : Thread Cert.WinIdeal.nD Cert.WinIdeal.τ).loc Cert.WinIdeal.main_arg4)
      ∧ m' ((c.tc : Thread Cert.WinRefIdeal.nD Cert.WinRefIdeal.τ).loc Cert.WinRefIdeal.main_arg5) = m ((c.tc : Thread Cert.WinIdeal.nD Cert.WinIdeal.τ).loc Cert.WinIdeal.main_arg5)
      ∧ m' ((c.tc : Thread Cert.WinRefIdeal.nD Cert.WinRefIdeal.τ).loc Cert.WinRefIdeal.main_arg6) = m ((c.tc : Thread Cert.WinIdeal.nD Cert.WinIdeal.τ).loc Cert.WinIdeal.main_arg6)
      ∧ m' ((c.tc : Thread Cert.WinRefIdeal.nD Cert.WinRefIdeal.τ).loc Cert.WinRefIdeal.main_arg7) = m ((c.tc : Thread Cert.WinIdeal.nD Cert.WinIdeal.τ).loc Cert.WinIdeal.main_arg7)
      ∧ m' ((c.tc : Thread Cert.WinRefIdeal.nD Cert.WinRefIdeal.τ).loc Cert.WinRefIdeal.main_arg8) = m ((c.tc : Thread Cert.WinIdeal.nD Cert.WinIdeal.τ).loc Cert.WinIdeal.main_arg8)) →
    ∃ (v0 : (c : Dev Cert.WinIdeal.nD) → Buf (Elt Ideal) ((c.tc : Thread Cert.WinIdeal.nD Cert.WinIdeal.τ).loc Cert.WinIdeal.main_v7_0)) (v1 : (c : Dev Cert.WinIdeal.nD) → Buf (Elt Ideal) ((c.tc : Thread Cert.WinIdeal.nD Cert.WinIdeal.τ).loc Cert.WinIdeal.main_v7_1)),
      θ_run (Cert.WinIdeal.defs (F := Ideal)) (onTc (τ := Cert.WinIdeal.τ) (Cert.WinIdeal.main (F := Ideal))) ⟨m, fun _ => 0, g⟩ (fun r => ∀ c : Dev Cert.WinIdeal.nD,
          r.2.mem ((c.tc : Thread Cert.WinIdeal.nD Cert.WinIdeal.τ).loc Cert.WinIdeal.main_v7_0) = v0 c
          ∧ r.2.mem ((c.tc : Thread Cert.WinIdeal.nD Cert.WinIdeal.τ).loc Cert.WinIdeal.main_v7_1) = v1 c
          ∧ r.2.mem ((c.tc : Thread Cert.WinIdeal.nD Cert.WinIdeal.τ).loc Cert.WinIdeal.main_arg0) = m ((c.tc : Thread Cert.WinIdeal.nD Cert.WinIdeal.τ).loc Cert.WinIdeal.main_arg0)
          ∧ r.2.mem ((c.tc : Thread Cert.WinIdeal.nD Cert.WinIdeal.τ).loc Cert.WinIdeal.main_arg1) = m ((c.tc : Thread Cert.WinIdeal.nD Cert.WinIdeal.τ).loc Cert.WinIdeal.main_arg1)
          ∧ r.2.mem ((c.tc : Thread Cert.WinIdeal.nD Cert.WinIdeal.τ).loc Cert.WinIdeal.main_arg2) = m ((c.tc : Thread Cert.WinIdeal.nD Cert.WinIdeal.τ).loc Cert.WinIdeal.main_arg2)
          ∧ r.2.mem ((c.tc : Thread Cert.WinIdeal.nD Cert.WinIdeal.τ).loc Cert.WinIdeal.main_arg3) = m ((c.tc : Thread Cert.WinIdeal.nD Cert.WinIdeal.τ).loc Cert.WinIdeal.main_arg3)
          ∧ r.2.mem ((c.tc : Thread Cert.WinIdeal.nD Cert.WinIdeal.τ).loc Cert.WinIdeal.main_arg4) = m ((c.tc : Thread Cert.WinIdeal.nD Cert.WinIdeal.τ).loc Cert.WinIdeal.main_arg4)
          ∧ r.2.mem ((c.tc : Thread Cert.WinIdeal.nD Cert.WinIdeal.τ).loc Cert.WinIdeal.main_arg5) = m ((c.tc : Thread Cert.WinIdeal.nD Cert.WinIdeal.τ).loc Cert.WinIdeal.main_arg5)
          ∧ r.2.mem ((c.tc : Thread Cert.WinIdeal.nD Cert.WinIdeal.τ).loc Cert.WinIdeal.main_arg6) = m ((c.tc : Thread Cert.WinIdeal.nD Cert.WinIdeal.τ).loc Cert.WinIdeal.main_arg6)
          ∧ r.2.mem ((c.tc : Thread Cert.WinIdeal.nD Cert.WinIdeal.τ).loc Cert.WinIdeal.main_arg7) = m ((c.tc : Thread Cert.WinIdeal.nD Cert.WinIdeal.τ).loc Cert.WinIdeal.main_arg7)
          ∧ r.2.mem ((c.tc : Thread Cert.WinIdeal.nD Cert.WinIdeal.τ).loc Cert.WinIdeal.main_arg8) = m ((c.tc : Thread Cert.WinIdeal.nD Cert.WinIdeal.τ).loc Cert.WinIdeal.main_arg8))
      ∧ θ_run (Cert.WinRefIdeal.defs (F := Ideal)) (onTc (τ := Cert.WinRefIdeal.τ) (Cert.WinRefIdeal.main (F := Ideal))) ⟨m', fun _ => 0, g'⟩ (fun r => ∀ c : Dev Cert.WinRefIdeal.nD,
          r.2.mem ((c.tc : Thread Cert.WinRefIdeal.nD Cert.WinRefIdeal.τ).loc Cert.WinRefIdeal.main_v18) = v0 c
          ∧ r.2.mem ((c.tc : Thread Cert.WinRefIdeal.nD Cert.WinRefIdeal.τ).loc Cert.WinRefIdeal.main_v19) = v1 c
          ∧ r.2.mem ((c.tc : Thread Cert.WinRefIdeal.nD Cert.WinRefIdeal.τ).loc Cert.WinRefIdeal.main_arg0) = m' ((c.tc : Thread Cert.WinRefIdeal.nD Cert.WinRefIdeal.τ).loc Cert.WinRefIdeal.main_arg0)
          ∧ r.2.mem ((c.tc : Thread Cert.WinRefIdeal.nD Cert.WinRefIdeal.τ).loc Cert.WinRefIdeal.main_arg1) = m' ((c.tc : Thread Cert.WinRefIdeal.nD Cert.WinRefIdeal.τ).loc Cert.WinRefIdeal.main_arg1)
          ∧ r.2.mem ((c.tc : Thread Cert.WinRefIdeal.nD Cert.WinRefIdeal.τ).loc Cert.WinRefIdeal.main_arg2) = m' ((c.tc : Thread Cert.WinRefIdeal.nD Cert.WinRefIdeal.τ).loc Cert.WinRefIdeal.main_arg2)
          ∧ r.2.mem ((c.tc : Thread Cert.WinRefIdeal.nD Cert.WinRefIdeal.τ).loc Cert.WinRefIdeal.main_arg3) = m' ((c.tc : Thread Cert.WinRefIdeal.nD Cert.WinRefIdeal.τ).loc Cert.WinRefIdeal.main_arg3)
          ∧ r.2.mem ((c.tc : Thread Cert.WinRefIdeal.nD Cert.WinRefIdeal.τ).loc Cert.WinRefIdeal.main_arg4) = m' ((c.tc : Thread Cert.WinRefIdeal.nD Cert.WinRefIdeal.τ).loc Cert.WinRefIdeal.main_arg4)
          ∧ r.2.mem ((c.tc : Thread Cert.WinRefIdeal.nD Cert.WinRefIdeal.τ).loc Cert.WinRefIdeal.main_arg5) = m' ((c.tc : Thread Cert.WinRefIdeal.nD Cert.WinRefIdeal.τ).loc Cert.WinRefIdeal.main_arg5)
          ∧ r.2.mem ((c.tc : Thread Cert.WinRefIdeal.nD Cert.WinRefIdeal.τ).loc Cert.WinRefIdeal.main_arg6) = m' ((c.tc : Thread Cert.WinRefIdeal.nD Cert.WinRefIdeal.τ).loc Cert.WinRefIdeal.main_arg6)
          ∧ r.2.mem ((c.tc : Thread Cert.WinRefIdeal.nD Cert.WinRefIdeal.τ).loc Cert.WinRefIdeal.main_arg7) = m' ((c.tc : Thread Cert.WinRefIdeal.nD Cert.WinRefIdeal.τ).loc Cert.WinRefIdeal.main_arg7)
          ∧ r.2.mem ((c.tc : Thread Cert.WinRefIdeal.nD Cert.WinRefIdeal.τ).loc Cert.WinRefIdeal.main_arg8) = m' ((c.tc : Thread Cert.WinRefIdeal.nD Cert.WinRefIdeal.τ).loc Cert.WinRefIdeal.main_arg8))

def preserves_Wout_WoutIdeal : Prop :=
  True

def algebraic_WoutIdeal_WoutRefIdeal [hWoutIdeal : Cert.WoutIdeal.Facts] [hWoutRefIdeal : Cert.WoutRefIdeal.Facts] : Prop :=
  ∀ (m : (ℓ : Loc Cert.WoutIdeal.nD Cert.WoutIdeal.τ Cert.WoutIdeal.sig) → Buf (Elt Ideal) ℓ) (g : Dev Cert.WoutIdeal.nD → PrngReg)
    (m' : (ℓ : Loc Cert.WoutRefIdeal.nD Cert.WoutRefIdeal.τ Cert.WoutRefIdeal.sig) → Buf (Elt Ideal) ℓ) (g' : Dev Cert.WoutRefIdeal.nD → PrngReg), Pre_WoutIdeal m →
    (∀ c : Dev Cert.WoutIdeal.nD,
      m' ((c.tc : Thread Cert.WoutRefIdeal.nD Cert.WoutRefIdeal.τ).loc Cert.WoutRefIdeal.main_arg0) = m ((c.tc : Thread Cert.WoutIdeal.nD Cert.WoutIdeal.τ).loc Cert.WoutIdeal.main_arg0)
      ∧ m' ((c.tc : Thread Cert.WoutRefIdeal.nD Cert.WoutRefIdeal.τ).loc Cert.WoutRefIdeal.main_arg1) = m ((c.tc : Thread Cert.WoutIdeal.nD Cert.WoutIdeal.τ).loc Cert.WoutIdeal.main_arg1)
      ∧ m' ((c.tc : Thread Cert.WoutRefIdeal.nD Cert.WoutRefIdeal.τ).loc Cert.WoutRefIdeal.main_arg2) = m ((c.tc : Thread Cert.WoutIdeal.nD Cert.WoutIdeal.τ).loc Cert.WoutIdeal.main_arg2)
      ∧ m' ((c.tc : Thread Cert.WoutRefIdeal.nD Cert.WoutRefIdeal.τ).loc Cert.WoutRefIdeal.main_arg3) = m ((c.tc : Thread Cert.WoutIdeal.nD Cert.WoutIdeal.τ).loc Cert.WoutIdeal.main_arg3)
      ∧ m' ((c.tc : Thread Cert.WoutRefIdeal.nD Cert.WoutRefIdeal.τ).loc Cert.WoutRefIdeal.main_arg4) = m ((c.tc : Thread Cert.WoutIdeal.nD Cert.WoutIdeal.τ).loc Cert.WoutIdeal.main_arg4)
      ∧ m' ((c.tc : Thread Cert.WoutRefIdeal.nD Cert.WoutRefIdeal.τ).loc Cert.WoutRefIdeal.main_arg5) = m ((c.tc : Thread Cert.WoutIdeal.nD Cert.WoutIdeal.τ).loc Cert.WoutIdeal.main_arg5)
      ∧ m' ((c.tc : Thread Cert.WoutRefIdeal.nD Cert.WoutRefIdeal.τ).loc Cert.WoutRefIdeal.main_arg6) = m ((c.tc : Thread Cert.WoutIdeal.nD Cert.WoutIdeal.τ).loc Cert.WoutIdeal.main_arg6)
      ∧ m' ((c.tc : Thread Cert.WoutRefIdeal.nD Cert.WoutRefIdeal.τ).loc Cert.WoutRefIdeal.main_arg7) = m ((c.tc : Thread Cert.WoutIdeal.nD Cert.WoutIdeal.τ).loc Cert.WoutIdeal.main_arg7)
      ∧ m' ((c.tc : Thread Cert.WoutRefIdeal.nD Cert.WoutRefIdeal.τ).loc Cert.WoutRefIdeal.main_arg8) = m ((c.tc : Thread Cert.WoutIdeal.nD Cert.WoutIdeal.τ).loc Cert.WoutIdeal.main_arg8)) →
    ∃ (v0 : (c : Dev Cert.WoutIdeal.nD) → Buf (Elt Ideal) ((c.tc : Thread Cert.WoutIdeal.nD Cert.WoutIdeal.τ).loc Cert.WoutIdeal.main_v6_0)) (v1 : (c : Dev Cert.WoutIdeal.nD) → Buf (Elt Ideal) ((c.tc : Thread Cert.WoutIdeal.nD Cert.WoutIdeal.τ).loc Cert.WoutIdeal.main_v6_1)) (v2 : (c : Dev Cert.WoutIdeal.nD) → Buf (Elt Ideal) ((c.tc : Thread Cert.WoutIdeal.nD Cert.WoutIdeal.τ).loc Cert.WoutIdeal.main_v6_2)),
      θ_run (Cert.WoutIdeal.defs (F := Ideal)) (onTc (τ := Cert.WoutIdeal.τ) (Cert.WoutIdeal.main (F := Ideal))) ⟨m, fun _ => 0, g⟩ (fun r => ∀ c : Dev Cert.WoutIdeal.nD,
          r.2.mem ((c.tc : Thread Cert.WoutIdeal.nD Cert.WoutIdeal.τ).loc Cert.WoutIdeal.main_v6_0) = v0 c
          ∧ r.2.mem ((c.tc : Thread Cert.WoutIdeal.nD Cert.WoutIdeal.τ).loc Cert.WoutIdeal.main_v6_1) = v1 c
          ∧ r.2.mem ((c.tc : Thread Cert.WoutIdeal.nD Cert.WoutIdeal.τ).loc Cert.WoutIdeal.main_v6_2) = v2 c
          ∧ r.2.mem ((c.tc : Thread Cert.WoutIdeal.nD Cert.WoutIdeal.τ).loc Cert.WoutIdeal.main_arg0) = m ((c.tc : Thread Cert.WoutIdeal.nD Cert.WoutIdeal.τ).loc Cert.WoutIdeal.main_arg0)
          ∧ r.2.mem ((c.tc : Thread Cert.WoutIdeal.nD Cert.WoutIdeal.τ).loc Cert.WoutIdeal.main_arg1) = m ((c.tc : Thread Cert.WoutIdeal.nD Cert.WoutIdeal.τ).loc Cert.WoutIdeal.main_arg1)
          ∧ r.2.mem ((c.tc : Thread Cert.WoutIdeal.nD Cert.WoutIdeal.τ).loc Cert.WoutIdeal.main_arg2) = m ((c.tc : Thread Cert.WoutIdeal.nD Cert.WoutIdeal.τ).loc Cert.WoutIdeal.main_arg2)
          ∧ r.2.mem ((c.tc : Thread Cert.WoutIdeal.nD Cert.WoutIdeal.τ).loc Cert.WoutIdeal.main_arg3) = m ((c.tc : Thread Cert.WoutIdeal.nD Cert.WoutIdeal.τ).loc Cert.WoutIdeal.main_arg3)
          ∧ r.2.mem ((c.tc : Thread Cert.WoutIdeal.nD Cert.WoutIdeal.τ).loc Cert.WoutIdeal.main_arg4) = m ((c.tc : Thread Cert.WoutIdeal.nD Cert.WoutIdeal.τ).loc Cert.WoutIdeal.main_arg4)
          ∧ r.2.mem ((c.tc : Thread Cert.WoutIdeal.nD Cert.WoutIdeal.τ).loc Cert.WoutIdeal.main_arg5) = m ((c.tc : Thread Cert.WoutIdeal.nD Cert.WoutIdeal.τ).loc Cert.WoutIdeal.main_arg5)
          ∧ r.2.mem ((c.tc : Thread Cert.WoutIdeal.nD Cert.WoutIdeal.τ).loc Cert.WoutIdeal.main_arg6) = m ((c.tc : Thread Cert.WoutIdeal.nD Cert.WoutIdeal.τ).loc Cert.WoutIdeal.main_arg6)
          ∧ r.2.mem ((c.tc : Thread Cert.WoutIdeal.nD Cert.WoutIdeal.τ).loc Cert.WoutIdeal.main_arg7) = m ((c.tc : Thread Cert.WoutIdeal.nD Cert.WoutIdeal.τ).loc Cert.WoutIdeal.main_arg7)
          ∧ r.2.mem ((c.tc : Thread Cert.WoutIdeal.nD Cert.WoutIdeal.τ).loc Cert.WoutIdeal.main_arg8) = m ((c.tc : Thread Cert.WoutIdeal.nD Cert.WoutIdeal.τ).loc Cert.WoutIdeal.main_arg8))
      ∧ θ_run (Cert.WoutRefIdeal.defs (F := Ideal)) (onTc (τ := Cert.WoutRefIdeal.τ) (Cert.WoutRefIdeal.main (F := Ideal))) ⟨m', fun _ => 0, g'⟩ (fun r => ∀ c : Dev Cert.WoutRefIdeal.nD,
          r.2.mem ((c.tc : Thread Cert.WoutRefIdeal.nD Cert.WoutRefIdeal.τ).loc Cert.WoutRefIdeal.main_v10) = v0 c
          ∧ r.2.mem ((c.tc : Thread Cert.WoutRefIdeal.nD Cert.WoutRefIdeal.τ).loc Cert.WoutRefIdeal.main_v13) = v1 c
          ∧ r.2.mem ((c.tc : Thread Cert.WoutRefIdeal.nD Cert.WoutRefIdeal.τ).loc Cert.WoutRefIdeal.main_v16) = v2 c
          ∧ r.2.mem ((c.tc : Thread Cert.WoutRefIdeal.nD Cert.WoutRefIdeal.τ).loc Cert.WoutRefIdeal.main_arg0) = m' ((c.tc : Thread Cert.WoutRefIdeal.nD Cert.WoutRefIdeal.τ).loc Cert.WoutRefIdeal.main_arg0)
          ∧ r.2.mem ((c.tc : Thread Cert.WoutRefIdeal.nD Cert.WoutRefIdeal.τ).loc Cert.WoutRefIdeal.main_arg1) = m' ((c.tc : Thread Cert.WoutRefIdeal.nD Cert.WoutRefIdeal.τ).loc Cert.WoutRefIdeal.main_arg1)
          ∧ r.2.mem ((c.tc : Thread Cert.WoutRefIdeal.nD Cert.WoutRefIdeal.τ).loc Cert.WoutRefIdeal.main_arg2) = m' ((c.tc : Thread Cert.WoutRefIdeal.nD Cert.WoutRefIdeal.τ).loc Cert.WoutRefIdeal.main_arg2)
          ∧ r.2.mem ((c.tc : Thread Cert.WoutRefIdeal.nD Cert.WoutRefIdeal.τ).loc Cert.WoutRefIdeal.main_arg3) = m' ((c.tc : Thread Cert.WoutRefIdeal.nD Cert.WoutRefIdeal.τ).loc Cert.WoutRefIdeal.main_arg3)
          ∧ r.2.mem ((c.tc : Thread Cert.WoutRefIdeal.nD Cert.WoutRefIdeal.τ).loc Cert.WoutRefIdeal.main_arg4) = m' ((c.tc : Thread Cert.WoutRefIdeal.nD Cert.WoutRefIdeal.τ).loc Cert.WoutRefIdeal.main_arg4)
          ∧ r.2.mem ((c.tc : Thread Cert.WoutRefIdeal.nD Cert.WoutRefIdeal.τ).loc Cert.WoutRefIdeal.main_arg5) = m' ((c.tc : Thread Cert.WoutRefIdeal.nD Cert.WoutRefIdeal.τ).loc Cert.WoutRefIdeal.main_arg5)
          ∧ r.2.mem ((c.tc : Thread Cert.WoutRefIdeal.nD Cert.WoutRefIdeal.τ).loc Cert.WoutRefIdeal.main_arg6) = m' ((c.tc : Thread Cert.WoutRefIdeal.nD Cert.WoutRefIdeal.τ).loc Cert.WoutRefIdeal.main_arg6)
          ∧ r.2.mem ((c.tc : Thread Cert.WoutRefIdeal.nD Cert.WoutRefIdeal.τ).loc Cert.WoutRefIdeal.main_arg7) = m' ((c.tc : Thread Cert.WoutRefIdeal.nD Cert.WoutRefIdeal.τ).loc Cert.WoutRefIdeal.main_arg7)
          ∧ r.2.mem ((c.tc : Thread Cert.WoutRefIdeal.nD Cert.WoutRefIdeal.τ).loc Cert.WoutRefIdeal.main_arg8) = m' ((c.tc : Thread Cert.WoutRefIdeal.nD Cert.WoutRefIdeal.τ).loc Cert.WoutRefIdeal.main_arg8))

def preserves_Da_DaIdeal : Prop :=
  True

def algebraic_DaIdeal_DaRefIdeal [hDaIdeal : Cert.DaIdeal.Facts] [hDaRefIdeal : Cert.DaRefIdeal.Facts] : Prop :=
  ∀ (m : (ℓ : Loc Cert.DaIdeal.nD Cert.DaIdeal.τ Cert.DaIdeal.sig) → Buf (Elt Ideal) ℓ) (g : Dev Cert.DaIdeal.nD → PrngReg)
    (m' : (ℓ : Loc Cert.DaRefIdeal.nD Cert.DaRefIdeal.τ Cert.DaRefIdeal.sig) → Buf (Elt Ideal) ℓ) (g' : Dev Cert.DaRefIdeal.nD → PrngReg), Pre_DaIdeal m →
    (∀ c : Dev Cert.DaIdeal.nD,
      m' ((c.tc : Thread Cert.DaRefIdeal.nD Cert.DaRefIdeal.τ).loc Cert.DaRefIdeal.main_arg0) = m ((c.tc : Thread Cert.DaIdeal.nD Cert.DaIdeal.τ).loc Cert.DaIdeal.main_arg0)
      ∧ m' ((c.tc : Thread Cert.DaRefIdeal.nD Cert.DaRefIdeal.τ).loc Cert.DaRefIdeal.main_arg1) = m ((c.tc : Thread Cert.DaIdeal.nD Cert.DaIdeal.τ).loc Cert.DaIdeal.main_arg1)
      ∧ m' ((c.tc : Thread Cert.DaRefIdeal.nD Cert.DaRefIdeal.τ).loc Cert.DaRefIdeal.main_arg2) = m ((c.tc : Thread Cert.DaIdeal.nD Cert.DaIdeal.τ).loc Cert.DaIdeal.main_arg2)) →
    ∃ (v0 : (c : Dev Cert.DaIdeal.nD) → Buf (Elt Ideal) ((c.tc : Thread Cert.DaIdeal.nD Cert.DaIdeal.τ).loc Cert.DaIdeal.main_v4)),
      θ_run (Cert.DaIdeal.defs (F := Ideal)) (onTc (τ := Cert.DaIdeal.τ) (Cert.DaIdeal.main (F := Ideal))) ⟨m, fun _ => 0, g⟩ (fun r => ∀ c : Dev Cert.DaIdeal.nD,
          r.2.mem ((c.tc : Thread Cert.DaIdeal.nD Cert.DaIdeal.τ).loc Cert.DaIdeal.main_v4) = v0 c
          ∧ r.2.mem ((c.tc : Thread Cert.DaIdeal.nD Cert.DaIdeal.τ).loc Cert.DaIdeal.main_arg0) = m ((c.tc : Thread Cert.DaIdeal.nD Cert.DaIdeal.τ).loc Cert.DaIdeal.main_arg0)
          ∧ r.2.mem ((c.tc : Thread Cert.DaIdeal.nD Cert.DaIdeal.τ).loc Cert.DaIdeal.main_arg1) = m ((c.tc : Thread Cert.DaIdeal.nD Cert.DaIdeal.τ).loc Cert.DaIdeal.main_arg1)
          ∧ r.2.mem ((c.tc : Thread Cert.DaIdeal.nD Cert.DaIdeal.τ).loc Cert.DaIdeal.main_arg2) = m ((c.tc : Thread Cert.DaIdeal.nD Cert.DaIdeal.τ).loc Cert.DaIdeal.main_arg2))
      ∧ θ_run (Cert.DaRefIdeal.defs (F := Ideal)) (onTc (τ := Cert.DaRefIdeal.τ) (Cert.DaRefIdeal.main (F := Ideal))) ⟨m', fun _ => 0, g'⟩ (fun r => ∀ c : Dev Cert.DaRefIdeal.nD,
          r.2.mem ((c.tc : Thread Cert.DaRefIdeal.nD Cert.DaRefIdeal.τ).loc Cert.DaRefIdeal.main_v2) = v0 c
          ∧ r.2.mem ((c.tc : Thread Cert.DaRefIdeal.nD Cert.DaRefIdeal.τ).loc Cert.DaRefIdeal.main_arg0) = m' ((c.tc : Thread Cert.DaRefIdeal.nD Cert.DaRefIdeal.τ).loc Cert.DaRefIdeal.main_arg0)
          ∧ r.2.mem ((c.tc : Thread Cert.DaRefIdeal.nD Cert.DaRefIdeal.τ).loc Cert.DaRefIdeal.main_arg1) = m' ((c.tc : Thread Cert.DaRefIdeal.nD Cert.DaRefIdeal.τ).loc Cert.DaRefIdeal.main_arg1)
          ∧ r.2.mem ((c.tc : Thread Cert.DaRefIdeal.nD Cert.DaRefIdeal.τ).loc Cert.DaRefIdeal.main_arg2) = m' ((c.tc : Thread Cert.DaRefIdeal.nD Cert.DaRefIdeal.τ).loc Cert.DaRefIdeal.main_arg2))

def preserves_Dh0_Dh0Ideal : Prop :=
  True

def algebraic_Dh0Ideal_Dh0RefIdeal [hDh0Ideal : Cert.Dh0Ideal.Facts] [hDh0RefIdeal : Cert.Dh0RefIdeal.Facts] : Prop :=
  ∀ (m : (ℓ : Loc Cert.Dh0Ideal.nD Cert.Dh0Ideal.τ Cert.Dh0Ideal.sig) → Buf (Elt Ideal) ℓ) (g : Dev Cert.Dh0Ideal.nD → PrngReg)
    (m' : (ℓ : Loc Cert.Dh0RefIdeal.nD Cert.Dh0RefIdeal.τ Cert.Dh0RefIdeal.sig) → Buf (Elt Ideal) ℓ) (g' : Dev Cert.Dh0RefIdeal.nD → PrngReg), Pre_Dh0Ideal m →
    (∀ c : Dev Cert.Dh0Ideal.nD,
      m' ((c.tc : Thread Cert.Dh0RefIdeal.nD Cert.Dh0RefIdeal.τ).loc Cert.Dh0RefIdeal.main_arg0) = m ((c.tc : Thread Cert.Dh0Ideal.nD Cert.Dh0Ideal.τ).loc Cert.Dh0Ideal.main_arg0)
      ∧ m' ((c.tc : Thread Cert.Dh0RefIdeal.nD Cert.Dh0RefIdeal.τ).loc Cert.Dh0RefIdeal.main_arg1) = m ((c.tc : Thread Cert.Dh0Ideal.nD Cert.Dh0Ideal.τ).loc Cert.Dh0Ideal.main_arg1)
      ∧ m' ((c.tc : Thread Cert.Dh0RefIdeal.nD Cert.Dh0RefIdeal.τ).loc Cert.Dh0RefIdeal.main_arg2) = m ((c.tc : Thread Cert.Dh0Ideal.nD Cert.Dh0Ideal.τ).loc Cert.Dh0Ideal.main_arg2)
      ∧ m' ((c.tc : Thread Cert.Dh0RefIdeal.nD Cert.Dh0RefIdeal.τ).loc Cert.Dh0RefIdeal.main_arg3) = m ((c.tc : Thread Cert.Dh0Ideal.nD Cert.Dh0Ideal.τ).loc Cert.Dh0Ideal.main_arg3)
      ∧ m' ((c.tc : Thread Cert.Dh0RefIdeal.nD Cert.Dh0RefIdeal.τ).loc Cert.Dh0RefIdeal.main_arg4) = m ((c.tc : Thread Cert.Dh0Ideal.nD Cert.Dh0Ideal.τ).loc Cert.Dh0Ideal.main_arg4)
      ∧ m' ((c.tc : Thread Cert.Dh0RefIdeal.nD Cert.Dh0RefIdeal.τ).loc Cert.Dh0RefIdeal.main_arg5) = m ((c.tc : Thread Cert.Dh0Ideal.nD Cert.Dh0Ideal.τ).loc Cert.Dh0Ideal.main_arg5)
      ∧ m' ((c.tc : Thread Cert.Dh0RefIdeal.nD Cert.Dh0RefIdeal.τ).loc Cert.Dh0RefIdeal.main_arg6) = m ((c.tc : Thread Cert.Dh0Ideal.nD Cert.Dh0Ideal.τ).loc Cert.Dh0Ideal.main_arg6)
      ∧ m' ((c.tc : Thread Cert.Dh0RefIdeal.nD Cert.Dh0RefIdeal.τ).loc Cert.Dh0RefIdeal.main_arg7) = m ((c.tc : Thread Cert.Dh0Ideal.nD Cert.Dh0Ideal.τ).loc Cert.Dh0Ideal.main_arg7)
      ∧ m' ((c.tc : Thread Cert.Dh0RefIdeal.nD Cert.Dh0RefIdeal.τ).loc Cert.Dh0RefIdeal.main_arg8) = m ((c.tc : Thread Cert.Dh0Ideal.nD Cert.Dh0Ideal.τ).loc Cert.Dh0Ideal.main_arg8)
      ∧ m' ((c.tc : Thread Cert.Dh0RefIdeal.nD Cert.Dh0RefIdeal.τ).loc Cert.Dh0RefIdeal.main_arg9) = m ((c.tc : Thread Cert.Dh0Ideal.nD Cert.Dh0Ideal.τ).loc Cert.Dh0Ideal.main_arg9)) →
    ∃ (v0 : (c : Dev Cert.Dh0Ideal.nD) → Buf (Elt Ideal) ((c.tc : Thread Cert.Dh0Ideal.nD Cert.Dh0Ideal.τ).loc Cert.Dh0Ideal.main_v9)),
      θ_run (Cert.Dh0Ideal.defs (F := Ideal)) (onTc (τ := Cert.Dh0Ideal.τ) (Cert.Dh0Ideal.main (F := Ideal))) ⟨m, fun _ => 0, g⟩ (fun r => ∀ c : Dev Cert.Dh0Ideal.nD,
          r.2.mem ((c.tc : Thread Cert.Dh0Ideal.nD Cert.Dh0Ideal.τ).loc Cert.Dh0Ideal.main_v9) = v0 c
          ∧ r.2.mem ((c.tc : Thread Cert.Dh0Ideal.nD Cert.Dh0Ideal.τ).loc Cert.Dh0Ideal.main_arg0) = m ((c.tc : Thread Cert.Dh0Ideal.nD Cert.Dh0Ideal.τ).loc Cert.Dh0Ideal.main_arg0)
          ∧ r.2.mem ((c.tc : Thread Cert.Dh0Ideal.nD Cert.Dh0Ideal.τ).loc Cert.Dh0Ideal.main_arg1) = m ((c.tc : Thread Cert.Dh0Ideal.nD Cert.Dh0Ideal.τ).loc Cert.Dh0Ideal.main_arg1)
          ∧ r.2.mem ((c.tc : Thread Cert.Dh0Ideal.nD Cert.Dh0Ideal.τ).loc Cert.Dh0Ideal.main_arg2) = m ((c.tc : Thread Cert.Dh0Ideal.nD Cert.Dh0Ideal.τ).loc Cert.Dh0Ideal.main_arg2)
          ∧ r.2.mem ((c.tc : Thread Cert.Dh0Ideal.nD Cert.Dh0Ideal.τ).loc Cert.Dh0Ideal.main_arg3) = m ((c.tc : Thread Cert.Dh0Ideal.nD Cert.Dh0Ideal.τ).loc Cert.Dh0Ideal.main_arg3)
          ∧ r.2.mem ((c.tc : Thread Cert.Dh0Ideal.nD Cert.Dh0Ideal.τ).loc Cert.Dh0Ideal.main_arg4) = m ((c.tc : Thread Cert.Dh0Ideal.nD Cert.Dh0Ideal.τ).loc Cert.Dh0Ideal.main_arg4)
          ∧ r.2.mem ((c.tc : Thread Cert.Dh0Ideal.nD Cert.Dh0Ideal.τ).loc Cert.Dh0Ideal.main_arg5) = m ((c.tc : Thread Cert.Dh0Ideal.nD Cert.Dh0Ideal.τ).loc Cert.Dh0Ideal.main_arg5)
          ∧ r.2.mem ((c.tc : Thread Cert.Dh0Ideal.nD Cert.Dh0Ideal.τ).loc Cert.Dh0Ideal.main_arg6) = m ((c.tc : Thread Cert.Dh0Ideal.nD Cert.Dh0Ideal.τ).loc Cert.Dh0Ideal.main_arg6)
          ∧ r.2.mem ((c.tc : Thread Cert.Dh0Ideal.nD Cert.Dh0Ideal.τ).loc Cert.Dh0Ideal.main_arg7) = m ((c.tc : Thread Cert.Dh0Ideal.nD Cert.Dh0Ideal.τ).loc Cert.Dh0Ideal.main_arg7)
          ∧ r.2.mem ((c.tc : Thread Cert.Dh0Ideal.nD Cert.Dh0Ideal.τ).loc Cert.Dh0Ideal.main_arg8) = m ((c.tc : Thread Cert.Dh0Ideal.nD Cert.Dh0Ideal.τ).loc Cert.Dh0Ideal.main_arg8)
          ∧ r.2.mem ((c.tc : Thread Cert.Dh0Ideal.nD Cert.Dh0Ideal.τ).loc Cert.Dh0Ideal.main_arg9) = m ((c.tc : Thread Cert.Dh0Ideal.nD Cert.Dh0Ideal.τ).loc Cert.Dh0Ideal.main_arg9))
      ∧ θ_run (Cert.Dh0RefIdeal.defs (F := Ideal)) (onTc (τ := Cert.Dh0RefIdeal.τ) (Cert.Dh0RefIdeal.main (F := Ideal))) ⟨m', fun _ => 0, g'⟩ (fun r => ∀ c : Dev Cert.Dh0RefIdeal.nD,
          r.2.mem ((c.tc : Thread Cert.Dh0RefIdeal.nD Cert.Dh0RefIdeal.τ).loc Cert.Dh0RefIdeal.main_v16) = v0 c
          ∧ r.2.mem ((c.tc : Thread Cert.Dh0RefIdeal.nD Cert.Dh0RefIdeal.τ).loc Cert.Dh0RefIdeal.main_arg0) = m' ((c.tc : Thread Cert.Dh0RefIdeal.nD Cert.Dh0RefIdeal.τ).loc Cert.Dh0RefIdeal.main_arg0)
          ∧ r.2.mem ((c.tc : Thread Cert.Dh0RefIdeal.nD Cert.Dh0RefIdeal.τ).loc Cert.Dh0RefIdeal.main_arg1) = m' ((c.tc : Thread Cert.Dh0RefIdeal.nD Cert.Dh0RefIdeal.τ).loc Cert.Dh0RefIdeal.main_arg1)
          ∧ r.2.mem ((c.tc : Thread Cert.Dh0RefIdeal.nD Cert.Dh0RefIdeal.τ).loc Cert.Dh0RefIdeal.main_arg2) = m' ((c.tc : Thread Cert.Dh0RefIdeal.nD Cert.Dh0RefIdeal.τ).loc Cert.Dh0RefIdeal.main_arg2)
          ∧ r.2.mem ((c.tc : Thread Cert.Dh0RefIdeal.nD Cert.Dh0RefIdeal.τ).loc Cert.Dh0RefIdeal.main_arg3) = m' ((c.tc : Thread Cert.Dh0RefIdeal.nD Cert.Dh0RefIdeal.τ).loc Cert.Dh0RefIdeal.main_arg3)
          ∧ r.2.mem ((c.tc : Thread Cert.Dh0RefIdeal.nD Cert.Dh0RefIdeal.τ).loc Cert.Dh0RefIdeal.main_arg4) = m' ((c.tc : Thread Cert.Dh0RefIdeal.nD Cert.Dh0RefIdeal.τ).loc Cert.Dh0RefIdeal.main_arg4)
          ∧ r.2.mem ((c.tc : Thread Cert.Dh0RefIdeal.nD Cert.Dh0RefIdeal.τ).loc Cert.Dh0RefIdeal.main_arg5) = m' ((c.tc : Thread Cert.Dh0RefIdeal.nD Cert.Dh0RefIdeal.τ).loc Cert.Dh0RefIdeal.main_arg5)
          ∧ r.2.mem ((c.tc : Thread Cert.Dh0RefIdeal.nD Cert.Dh0RefIdeal.τ).loc Cert.Dh0RefIdeal.main_arg6) = m' ((c.tc : Thread Cert.Dh0RefIdeal.nD Cert.Dh0RefIdeal.τ).loc Cert.Dh0RefIdeal.main_arg6)
          ∧ r.2.mem ((c.tc : Thread Cert.Dh0RefIdeal.nD Cert.Dh0RefIdeal.τ).loc Cert.Dh0RefIdeal.main_arg7) = m' ((c.tc : Thread Cert.Dh0RefIdeal.nD Cert.Dh0RefIdeal.τ).loc Cert.Dh0RefIdeal.main_arg7)
          ∧ r.2.mem ((c.tc : Thread Cert.Dh0RefIdeal.nD Cert.Dh0RefIdeal.τ).loc Cert.Dh0RefIdeal.main_arg8) = m' ((c.tc : Thread Cert.Dh0RefIdeal.nD Cert.Dh0RefIdeal.τ).loc Cert.Dh0RefIdeal.main_arg8)
          ∧ r.2.mem ((c.tc : Thread Cert.Dh0RefIdeal.nD Cert.Dh0RefIdeal.τ).loc Cert.Dh0RefIdeal.main_arg9) = m' ((c.tc : Thread Cert.Dh0RefIdeal.nD Cert.Dh0RefIdeal.τ).loc Cert.Dh0RefIdeal.main_arg9))

def preserves_UpFwd_UpFwdIdeal : Prop :=
  True

def algebraic_UpFwdIdeal_UpFwdRefIdeal [hUpFwdIdeal : Cert.UpFwdIdeal.Facts] [hUpFwdRefIdeal : Cert.UpFwdRefIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg)
    (m' : (ℓ : Loc Cert.UpFwdRefIdeal.nD Cert.UpFwdRefIdeal.τ Cert.UpFwdRefIdeal.sig) → Buf (Elt Ideal) ℓ) (g' : Dev Cert.UpFwdRefIdeal.nD → PrngReg), Pre_UpFwdIdeal m →
    (∀ c : Dev Cert.UpFwdIdeal.nD,
      m' ((c.tc : Thread Cert.UpFwdRefIdeal.nD Cert.UpFwdRefIdeal.τ).loc Cert.UpFwdRefIdeal.main_arg0) = m ((c.tc : Thread Cert.UpFwdIdeal.nD Cert.UpFwdIdeal.τ).loc Cert.UpFwdIdeal.main_arg0)
      ∧ m' ((c.tc : Thread Cert.UpFwdRefIdeal.nD Cert.UpFwdRefIdeal.τ).loc Cert.UpFwdRefIdeal.main_arg1) = m ((c.tc : Thread Cert.UpFwdIdeal.nD Cert.UpFwdIdeal.τ).loc Cert.UpFwdIdeal.main_arg1)) →
    ∃ (v0 : (c : Dev Cert.UpFwdIdeal.nD) → Buf (Elt Ideal) ((c.tc : Thread Cert.UpFwdIdeal.nD Cert.UpFwdIdeal.τ).loc Cert.UpFwdIdeal.main_v4)),
      θ_run (Cert.UpFwdIdeal.defs (F := Ideal)) (onTc (τ := Cert.UpFwdIdeal.τ) (Cert.UpFwdIdeal.main (F := Ideal))) ⟨m, fun _ => 0, g⟩ (fun r => ∀ c : Dev Cert.UpFwdIdeal.nD,
          r.2.mem ((c.tc : Thread Cert.UpFwdIdeal.nD Cert.UpFwdIdeal.τ).loc Cert.UpFwdIdeal.main_v4) = v0 c
          ∧ r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
          ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1))
      ∧ θ_run (Cert.UpFwdRefIdeal.defs (F := Ideal)) (onTc (τ := Cert.UpFwdRefIdeal.τ) (Cert.UpFwdRefIdeal.main (F := Ideal))) ⟨m', fun _ => 0, g'⟩ (fun r => ∀ c : Dev Cert.UpFwdRefIdeal.nD,
          r.2.mem ((c.tc : Thread Cert.UpFwdRefIdeal.nD Cert.UpFwdRefIdeal.τ).loc Cert.UpFwdRefIdeal.main_v3) = v0 c
          ∧ r.2.mem ((c.tc : Thread Cert.UpFwdRefIdeal.nD Cert.UpFwdRefIdeal.τ).loc Cert.UpFwdRefIdeal.main_arg0) = m' ((c.tc : Thread Cert.UpFwdRefIdeal.nD Cert.UpFwdRefIdeal.τ).loc Cert.UpFwdRefIdeal.main_arg0)
          ∧ r.2.mem ((c.tc : Thread Cert.UpFwdRefIdeal.nD Cert.UpFwdRefIdeal.τ).loc Cert.UpFwdRefIdeal.main_arg1) = m' ((c.tc : Thread Cert.UpFwdRefIdeal.nD Cert.UpFwdRefIdeal.τ).loc Cert.UpFwdRefIdeal.main_arg1))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v0_0)) (v1 : (c : Dev Cert.AdamIdeal.nD) → Buf (Elt Ideal) ((c.tc : Thread Cert.AdamIdeal.nD Cert.AdamIdeal.τ).loc Cert.AdamIdeal.main_v0_1)) (v2 : (c : Dev Cert.AdamIdeal.nD) → Buf (Elt Ideal) ((c.tc : Thread Cert.AdamIdeal.nD Cert.AdamIdeal.τ).loc Cert.AdamIdeal.main_v0_2)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v0_0) = v0 c
          ∧ r.2.mem ((c.tc : Thread Cert.AdamIdeal.nD Cert.AdamIdeal.τ).loc Cert.AdamIdeal.main_v0_1) = v1 c
          ∧ r.2.mem ((c.tc : Thread Cert.AdamIdeal.nD Cert.AdamIdeal.τ).loc Cert.AdamIdeal.main_v0_2) = v2 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v23) = v0 c
          ∧ r.2.mem ((c.tc : Thread Cert.AdamRefIdeal.nD Cert.AdamRefIdeal.τ).loc Cert.AdamRefIdeal.main_v4) = v1 c
          ∧ r.2.mem ((c.tc : Thread Cert.AdamRefIdeal.nD Cert.AdamRefIdeal.τ).loc Cert.AdamRefIdeal.main_v10) = v2 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def preserves_Partials_PartialsIdeal : Prop :=
  True

def algebraic_PartialsIdeal_PartialsRefIdeal [hPartialsIdeal : Cert.PartialsIdeal.Facts] [hPartialsRefIdeal : Cert.PartialsRefIdeal.Facts] : Prop :=
  ∀ (m : (ℓ : Loc Cert.PartialsIdeal.nD Cert.PartialsIdeal.τ Cert.PartialsIdeal.sig) → Buf (Elt Ideal) ℓ) (g : Dev Cert.PartialsIdeal.nD → PrngReg)
    (m' : (ℓ : Loc Cert.PartialsRefIdeal.nD Cert.PartialsRefIdeal.τ Cert.PartialsRefIdeal.sig) → Buf (Elt Ideal) ℓ) (g' : Dev Cert.PartialsRefIdeal.nD → PrngReg), Pre_PartialsIdeal m →
    (∀ c : Dev Cert.PartialsIdeal.nD,
      m' ((c.tc : Thread Cert.PartialsRefIdeal.nD Cert.PartialsRefIdeal.τ).loc Cert.PartialsRefIdeal.main_arg0) = m ((c.tc : Thread Cert.PartialsIdeal.nD Cert.PartialsIdeal.τ).loc Cert.PartialsIdeal.main_arg0)) →
    ∃ (v0 : (c : Dev Cert.PartialsIdeal.nD) → Buf (Elt Ideal) ((c.tc : Thread Cert.PartialsIdeal.nD Cert.PartialsIdeal.τ).loc Cert.PartialsIdeal.main_v0)),
      θ_run (Cert.PartialsIdeal.defs (F := Ideal)) (onTc (τ := Cert.PartialsIdeal.τ) (Cert.PartialsIdeal.main (F := Ideal))) ⟨m, fun _ => 0, g⟩ (fun r => ∀ c : Dev Cert.PartialsIdeal.nD,
          r.2.mem ((c.tc : Thread Cert.PartialsIdeal.nD Cert.PartialsIdeal.τ).loc Cert.PartialsIdeal.main_v0) = v0 c
          ∧ r.2.mem ((c.tc : Thread Cert.PartialsIdeal.nD Cert.PartialsIdeal.τ).loc Cert.PartialsIdeal.main_arg0) = m ((c.tc : Thread Cert.PartialsIdeal.nD Cert.PartialsIdeal.τ).loc Cert.PartialsIdeal.main_arg0))
      ∧ θ_run (Cert.PartialsRefIdeal.defs (F := Ideal)) (onTc (τ := Cert.PartialsRefIdeal.τ) (Cert.PartialsRefIdeal.main (F := Ideal))) ⟨m', fun _ => 0, g'⟩ (fun r => ∀ c : Dev Cert.PartialsRefIdeal.nD,
          r.2.mem ((c.tc : Thread Cert.PartialsRefIdeal.nD Cert.PartialsRefIdeal.τ).loc Cert.PartialsRefIdeal.main_v0) = v0 c
          ∧ r.2.mem ((c.tc : Thread Cert.PartialsRefIdeal.nD Cert.PartialsRefIdeal.τ).loc Cert.PartialsRefIdeal.main_arg0) = m' ((c.tc : Thread Cert.PartialsRefIdeal.nD Cert.PartialsRefIdeal.τ).loc Cert.PartialsRefIdeal.main_arg0))

def preserves_AdamShard_AdamShardIdeal : Prop :=
  True

def algebraic_AdamShardIdeal_AdamShardRefIdeal [hAdamShardIdeal : Cert.AdamShardIdeal.Facts] [hAdamShardRefIdeal : Cert.AdamShardRefIdeal.Facts] : Prop :=
  ∀ (m : (ℓ : Loc Cert.AdamShardIdeal.nD Cert.AdamShardIdeal.τ Cert.AdamShardIdeal.sig) → Buf (Elt Ideal) ℓ) (g : Dev Cert.AdamShardIdeal.nD → PrngReg)
    (m' : (ℓ : Loc Cert.AdamShardRefIdeal.nD Cert.AdamShardRefIdeal.τ Cert.AdamShardRefIdeal.sig) → Buf (Elt Ideal) ℓ) (g' : Dev Cert.AdamShardRefIdeal.nD → PrngReg), Pre_AdamShardIdeal m →
    (∀ c : Dev Cert.AdamShardIdeal.nD,
      m' ((c.tc : Thread Cert.AdamShardRefIdeal.nD Cert.AdamShardRefIdeal.τ).loc Cert.AdamShardRefIdeal.main_arg0) = m ((c.tc : Thread Cert.AdamShardIdeal.nD Cert.AdamShardIdeal.τ).loc Cert.AdamShardIdeal.main_arg0)
      ∧ m' ((c.tc : Thread Cert.AdamShardRefIdeal.nD Cert.AdamShardRefIdeal.τ).loc Cert.AdamShardRefIdeal.main_arg1) = m ((c.tc : Thread Cert.AdamShardIdeal.nD Cert.AdamShardIdeal.τ).loc Cert.AdamShardIdeal.main_arg1)
      ∧ m' ((c.tc : Thread Cert.AdamShardRefIdeal.nD Cert.AdamShardRefIdeal.τ).loc Cert.AdamShardRefIdeal.main_arg2) = m ((c.tc : Thread Cert.AdamShardIdeal.nD Cert.AdamShardIdeal.τ).loc Cert.AdamShardIdeal.main_arg2)
      ∧ m' ((c.tc : Thread Cert.AdamShardRefIdeal.nD Cert.AdamShardRefIdeal.τ).loc Cert.AdamShardRefIdeal.main_arg3) = m ((c.tc : Thread Cert.AdamShardIdeal.nD Cert.AdamShardIdeal.τ).loc Cert.AdamShardIdeal.main_arg3)
      ∧ m' ((c.tc : Thread Cert.AdamShardRefIdeal.nD Cert.AdamShardRefIdeal.τ).loc Cert.AdamShardRefIdeal.main_arg4) = m ((c.tc : Thread Cert.AdamShardIdeal.nD Cert.AdamShardIdeal.τ).loc Cert.AdamShardIdeal.main_arg4)
      ∧ m' ((c.tc : Thread Cert.AdamShardRefIdeal.nD Cert.AdamShardRefIdeal.τ).loc Cert.AdamShardRefIdeal.main_arg5) = m ((c.tc : Thread Cert.AdamShardIdeal.nD Cert.AdamShardIdeal.τ).loc Cert.AdamShardIdeal.main_arg5)
      ∧ m' ((c.tc : Thread Cert.AdamShardRefIdeal.nD Cert.AdamShardRefIdeal.τ).loc Cert.AdamShardRefIdeal.main_arg6) = m ((c.tc : Thread Cert.AdamShardIdeal.nD Cert.AdamShardIdeal.τ).loc Cert.AdamShardIdeal.main_arg6)
      ∧ m' ((c.tc : Thread Cert.AdamShardRefIdeal.nD Cert.AdamShardRefIdeal.τ).loc Cert.AdamShardRefIdeal.main_arg7) = m ((c.tc : Thread Cert.AdamShardIdeal.nD Cert.AdamShardIdeal.τ).loc Cert.AdamShardIdeal.main_arg7)
      ∧ m' ((c.tc : Thread Cert.AdamShardRefIdeal.nD Cert.AdamShardRefIdeal.τ).loc Cert.AdamShardRefIdeal.main_arg8) = m ((c.tc : Thread Cert.AdamShardIdeal.nD Cert.AdamShardIdeal.τ).loc Cert.AdamShardIdeal.main_arg8)) →
    ∃ (v0 : (c : Dev Cert.AdamShardIdeal.nD) → Buf (Elt Ideal) ((c.tc : Thread Cert.AdamShardIdeal.nD Cert.AdamShardIdeal.τ).loc Cert.AdamShardIdeal.main_v1_0)) (v1 : (c : Dev Cert.AdamShardIdeal.nD) → Buf (Elt Ideal) ((c.tc : Thread Cert.AdamShardIdeal.nD Cert.AdamShardIdeal.τ).loc Cert.AdamShardIdeal.main_v1_1)) (v2 : (c : Dev Cert.AdamShardIdeal.nD) → Buf (Elt Ideal) ((c.tc : Thread Cert.AdamShardIdeal.nD Cert.AdamShardIdeal.τ).loc Cert.AdamShardIdeal.main_v1_2)) (v3 : (c : Dev Cert.AdamShardIdeal.nD) → Buf (Elt Ideal) ((c.tc : Thread Cert.AdamShardIdeal.nD Cert.AdamShardIdeal.τ).loc Cert.AdamShardIdeal.main_v1_3)),
      θ_run (Cert.AdamShardIdeal.defs (F := Ideal)) (onTc (τ := Cert.AdamShardIdeal.τ) (Cert.AdamShardIdeal.main (F := Ideal))) ⟨m, fun _ => 0, g⟩ (fun r => ∀ c : Dev Cert.AdamShardIdeal.nD,
          r.2.mem ((c.tc : Thread Cert.AdamShardIdeal.nD Cert.AdamShardIdeal.τ).loc Cert.AdamShardIdeal.main_v1_0) = v0 c
          ∧ r.2.mem ((c.tc : Thread Cert.AdamShardIdeal.nD Cert.AdamShardIdeal.τ).loc Cert.AdamShardIdeal.main_v1_1) = v1 c
          ∧ r.2.mem ((c.tc : Thread Cert.AdamShardIdeal.nD Cert.AdamShardIdeal.τ).loc Cert.AdamShardIdeal.main_v1_2) = v2 c
          ∧ r.2.mem ((c.tc : Thread Cert.AdamShardIdeal.nD Cert.AdamShardIdeal.τ).loc Cert.AdamShardIdeal.main_v1_3) = v3 c
          ∧ r.2.mem ((c.tc : Thread Cert.AdamShardIdeal.nD Cert.AdamShardIdeal.τ).loc Cert.AdamShardIdeal.main_arg0) = m ((c.tc : Thread Cert.AdamShardIdeal.nD Cert.AdamShardIdeal.τ).loc Cert.AdamShardIdeal.main_arg0)
          ∧ r.2.mem ((c.tc : Thread Cert.AdamShardIdeal.nD Cert.AdamShardIdeal.τ).loc Cert.AdamShardIdeal.main_arg1) = m ((c.tc : Thread Cert.AdamShardIdeal.nD Cert.AdamShardIdeal.τ).loc Cert.AdamShardIdeal.main_arg1)
          ∧ r.2.mem ((c.tc : Thread Cert.AdamShardIdeal.nD Cert.AdamShardIdeal.τ).loc Cert.AdamShardIdeal.main_arg2) = m ((c.tc : Thread Cert.AdamShardIdeal.nD Cert.AdamShardIdeal.τ).loc Cert.AdamShardIdeal.main_arg2)
          ∧ r.2.mem ((c.tc : Thread Cert.AdamShardIdeal.nD Cert.AdamShardIdeal.τ).loc Cert.AdamShardIdeal.main_arg3) = m ((c.tc : Thread Cert.AdamShardIdeal.nD Cert.AdamShardIdeal.τ).loc Cert.AdamShardIdeal.main_arg3)
          ∧ r.2.mem ((c.tc : Thread Cert.AdamShardIdeal.nD Cert.AdamShardIdeal.τ).loc Cert.AdamShardIdeal.main_arg4) = m ((c.tc : Thread Cert.AdamShardIdeal.nD Cert.AdamShardIdeal.τ).loc Cert.AdamShardIdeal.main_arg4)
          ∧ r.2.mem ((c.tc : Thread Cert.AdamShardIdeal.nD Cert.AdamShardIdeal.τ).loc Cert.AdamShardIdeal.main_arg5) = m ((c.tc : Thread Cert.AdamShardIdeal.nD Cert.AdamShardIdeal.τ).loc Cert.AdamShardIdeal.main_arg5)
          ∧ r.2.mem ((c.tc : Thread Cert.AdamShardIdeal.nD Cert.AdamShardIdeal.τ).loc Cert.AdamShardIdeal.main_arg6) = m ((c.tc : Thread Cert.AdamShardIdeal.nD Cert.AdamShardIdeal.τ).loc Cert.AdamShardIdeal.main_arg6)
          ∧ r.2.mem ((c.tc : Thread Cert.AdamShardIdeal.nD Cert.AdamShardIdeal.τ).loc Cert.AdamShardIdeal.main_arg7) = m ((c.tc : Thread Cert.AdamShardIdeal.nD Cert.AdamShardIdeal.τ).loc Cert.AdamShardIdeal.main_arg7)
          ∧ r.2.mem ((c.tc : Thread Cert.AdamShardIdeal.nD Cert.AdamShardIdeal.τ).loc Cert.AdamShardIdeal.main_arg8) = m ((c.tc : Thread Cert.AdamShardIdeal.nD Cert.AdamShardIdeal.τ).loc Cert.AdamShardIdeal.main_arg8))
      ∧ θ_run (Cert.AdamShardRefIdeal.defs (F := Ideal)) (onTc (τ := Cert.AdamShardRefIdeal.τ) (Cert.AdamShardRefIdeal.main (F := Ideal))) ⟨m', fun _ => 0, g'⟩ (fun r => ∀ c : Dev Cert.AdamShardRefIdeal.nD,
          r.2.mem ((c.tc : Thread Cert.AdamShardRefIdeal.nD Cert.AdamShardRefIdeal.τ).loc Cert.AdamShardRefIdeal.main_v34) = v0 c
          ∧ r.2.mem ((c.tc : Thread Cert.AdamShardRefIdeal.nD Cert.AdamShardRefIdeal.τ).loc Cert.AdamShardRefIdeal.main_v37) = v1 c
          ∧ r.2.mem ((c.tc : Thread Cert.AdamShardRefIdeal.nD Cert.AdamShardRefIdeal.τ).loc Cert.AdamShardRefIdeal.main_v40) = v2 c
          ∧ r.2.mem ((c.tc : Thread Cert.AdamShardRefIdeal.nD Cert.AdamShardRefIdeal.τ).loc Cert.AdamShardRefIdeal.main_v43) = v3 c
          ∧ r.2.mem ((c.tc : Thread Cert.AdamShardRefIdeal.nD Cert.AdamShardRefIdeal.τ).loc Cert.AdamShardRefIdeal.main_arg0) = m' ((c.tc : Thread Cert.AdamShardRefIdeal.nD Cert.AdamShardRefIdeal.τ).loc Cert.AdamShardRefIdeal.main_arg0)
          ∧ r.2.mem ((c.tc : Thread Cert.AdamShardRefIdeal.nD Cert.AdamShardRefIdeal.τ).loc Cert.AdamShardRefIdeal.main_arg1) = m' ((c.tc : Thread Cert.AdamShardRefIdeal.nD Cert.AdamShardRefIdeal.τ).loc Cert.AdamShardRefIdeal.main_arg1)
          ∧ r.2.mem ((c.tc : Thread Cert.AdamShardRefIdeal.nD Cert.AdamShardRefIdeal.τ).loc Cert.AdamShardRefIdeal.main_arg2) = m' ((c.tc : Thread Cert.AdamShardRefIdeal.nD Cert.AdamShardRefIdeal.τ).loc Cert.AdamShardRefIdeal.main_arg2)
          ∧ r.2.mem ((c.tc : Thread Cert.AdamShardRefIdeal.nD Cert.AdamShardRefIdeal.τ).loc Cert.AdamShardRefIdeal.main_arg3) = m' ((c.tc : Thread Cert.AdamShardRefIdeal.nD Cert.AdamShardRefIdeal.τ).loc Cert.AdamShardRefIdeal.main_arg3)
          ∧ r.2.mem ((c.tc : Thread Cert.AdamShardRefIdeal.nD Cert.AdamShardRefIdeal.τ).loc Cert.AdamShardRefIdeal.main_arg4) = m' ((c.tc : Thread Cert.AdamShardRefIdeal.nD Cert.AdamShardRefIdeal.τ).loc Cert.AdamShardRefIdeal.main_arg4)
          ∧ r.2.mem ((c.tc : Thread Cert.AdamShardRefIdeal.nD Cert.AdamShardRefIdeal.τ).loc Cert.AdamShardRefIdeal.main_arg5) = m' ((c.tc : Thread Cert.AdamShardRefIdeal.nD Cert.AdamShardRefIdeal.τ).loc Cert.AdamShardRefIdeal.main_arg5)
          ∧ r.2.mem ((c.tc : Thread Cert.AdamShardRefIdeal.nD Cert.AdamShardRefIdeal.τ).loc Cert.AdamShardRefIdeal.main_arg6) = m' ((c.tc : Thread Cert.AdamShardRefIdeal.nD Cert.AdamShardRefIdeal.τ).loc Cert.AdamShardRefIdeal.main_arg6)
          ∧ r.2.mem ((c.tc : Thread Cert.AdamShardRefIdeal.nD Cert.AdamShardRefIdeal.τ).loc Cert.AdamShardRefIdeal.main_arg7) = m' ((c.tc : Thread Cert.AdamShardRefIdeal.nD Cert.AdamShardRefIdeal.τ).loc Cert.AdamShardRefIdeal.main_arg7)
          ∧ r.2.mem ((c.tc : Thread Cert.AdamShardRefIdeal.nD Cert.AdamShardRefIdeal.τ).loc Cert.AdamShardRefIdeal.main_arg8) = m' ((c.tc : Thread Cert.AdamShardRefIdeal.nD Cert.AdamShardRefIdeal.τ).loc Cert.AdamShardRefIdeal.main_arg8))

def Claim : Prop :=
  ∃ (hLoss : Cert.Loss.Facts) (hLossIdeal : Cert.LossIdeal.Facts) (hLossRefIdeal : Cert.LossRefIdeal.Facts) (hLn : Cert.Ln.Facts) (hLnIdeal : Cert.LnIdeal.Facts) (hLnRefIdeal : Cert.LnRefIdeal.Facts) (hLn2 : Cert.Ln2.Facts) (hLn2Ideal : Cert.Ln2Ideal.Facts) (hLn2RefIdeal : Cert.Ln2RefIdeal.Facts) (hMerge : Cert.Merge.Facts) (hMergeIdeal : Cert.MergeIdeal.Facts) (hMergeRefIdeal : Cert.MergeRefIdeal.Facts) (hDh1 : Cert.Dh1.Facts) (hDh1Ideal : Cert.Dh1Ideal.Facts) (hDh1RefIdeal : Cert.Dh1RefIdeal.Facts) (hFfn : Cert.Ffn.Facts) (hFfnIdeal : Cert.FfnIdeal.Facts) (hFfnRefIdeal : Cert.FfnRefIdeal.Facts) (hPool : Cert.Pool.Facts) (hPoolIdeal : Cert.PoolIdeal.Facts) (hPoolRefIdeal : Cert.PoolRefIdeal.Facts) (hLnFwd : Cert.LnFwd.Facts) (hLnFwdIdeal : Cert.LnFwdIdeal.Facts) (hLnFwdRefIdeal : Cert.LnFwdRefIdeal.Facts) (hMixFwd : Cert.MixFwd.Facts) (hMixFwdIdeal : Cert.MixFwdIdeal.Facts) (hMixFwdRefIdeal : Cert.MixFwdRefIdeal.Facts) (hMergeFwd : Cert.MergeFwd.Facts) (hMergeFwdIdeal : Cert.MergeFwdIdeal.Facts) (hMergeFwdRefIdeal : Cert.MergeFwdRefIdeal.Facts) (hDownFwd : Cert.DownFwd.Facts) (hDownFwdIdeal : Cert.DownFwdIdeal.Facts) (hDownFwdRefIdeal : Cert.DownFwdRefIdeal.Facts) (hFfnFwd : Cert.FfnFwd.Facts) (hFfnFwdIdeal : Cert.FfnFwdIdeal.Facts) (hFfnFwdRefIdeal : Cert.FfnFwdRefIdeal.Facts) (hPoolFwd : Cert.PoolFwd.Facts) (hPoolFwdIdeal : Cert.PoolFwdIdeal.Facts) (hPoolFwdRefIdeal : Cert.PoolFwdRefIdeal.Facts) (hWdown : Cert.Wdown.Facts) (hWdownIdeal : Cert.WdownIdeal.Facts) (hWdownRefIdeal : Cert.WdownRefIdeal.Facts) (hWup : Cert.Wup.Facts) (hWupIdeal : Cert.WupIdeal.Facts) (hWupRefIdeal : Cert.WupRefIdeal.Facts) (hWin : Cert.Win.Facts) (hWinIdeal : Cert.WinIdeal.Facts) (hWinRefIdeal : Cert.WinRefIdeal.Facts) (hWout : Cert.Wout.Facts) (hWoutIdeal : Cert.WoutIdeal.Facts) (hWoutRefIdeal : Cert.WoutRefIdeal.Facts) (hDa : Cert.Da.Facts) (hDaIdeal : Cert.DaIdeal.Facts) (hDaRefIdeal : Cert.DaRefIdeal.Facts) (hDh0 : Cert.Dh0.Facts) (hDh0Ideal : Cert.Dh0Ideal.Facts) (hDh0RefIdeal : Cert.Dh0RefIdeal.Facts) (hUpFwd : Cert.UpFwd.Facts) (hUpFwdIdeal : Cert.UpFwdIdeal.Facts) (hUpFwdRefIdeal : Cert.UpFwdRefIdeal.Facts) (hAdam : Cert.Adam.Facts) (hAdamIdeal : Cert.AdamIdeal.Facts) (hAdamRefIdeal : Cert.AdamRefIdeal.Facts) (hPartials : Cert.Partials.Facts) (hPartialsIdeal : Cert.PartialsIdeal.Facts) (hPartialsRefIdeal : Cert.PartialsRefIdeal.Facts) (hAdamShard : Cert.AdamShard.Facts) (hAdamShardIdeal : Cert.AdamShardIdeal.Facts) (hAdamShardRefIdeal : Cert.AdamShardRefIdeal.Facts) (hPre_ln_finite : Cert.Pre_ln_finite.Facts) (hPre_ln2_finite : Cert.Pre_ln2_finite.Facts) (hPre_dh1_finite : Cert.Pre_dh1_finite.Facts) (hPre_ffn_finite : Cert.Pre_ffn_finite.Facts) (hPre_pool_finite : Cert.Pre_pool_finite.Facts) (hPre_poolf_finite : Cert.Pre_poolf_finite.Facts),
    quiescent_Loss (hLoss := hLoss)
    ∧ quiescent_LossIdeal (hLossIdeal := hLossIdeal)
    ∧ quiescent_LossRefIdeal (hLossRefIdeal := hLossRefIdeal)
    ∧ quiescent_Ln (hLn := hLn)
    ∧ quiescent_LnIdeal (hLnIdeal := hLnIdeal)
    ∧ quiescent_LnIdeal_pre_ln_finite (hLnIdeal := hLnIdeal) (hPre_ln_finite := hPre_ln_finite)
    ∧ quiescent_LnRefIdeal (hLnRefIdeal := hLnRefIdeal)
    ∧ quiescent_LnRefIdeal_pre_ln_finite (hLnRefIdeal := hLnRefIdeal) (hPre_ln_finite := hPre_ln_finite)
    ∧ quiescent_Ln2 (hLn2 := hLn2)
    ∧ quiescent_Ln2Ideal (hLn2Ideal := hLn2Ideal)
    ∧ quiescent_Ln2Ideal_pre_ln2_finite (hLn2Ideal := hLn2Ideal) (hPre_ln2_finite := hPre_ln2_finite)
    ∧ quiescent_Ln2RefIdeal (hLn2RefIdeal := hLn2RefIdeal)
    ∧ quiescent_Ln2RefIdeal_pre_ln2_finite (hLn2RefIdeal := hLn2RefIdeal) (hPre_ln2_finite := hPre_ln2_finite)
    ∧ quiescent_Merge (hMerge := hMerge)
    ∧ quiescent_MergeIdeal (hMergeIdeal := hMergeIdeal)
    ∧ quiescent_MergeRefIdeal (hMergeRefIdeal := hMergeRefIdeal)
    ∧ quiescent_Dh1 (hDh1 := hDh1)
    ∧ quiescent_Dh1Ideal (hDh1Ideal := hDh1Ideal)
    ∧ quiescent_Dh1Ideal_pre_dh1_finite (hDh1Ideal := hDh1Ideal) (hPre_dh1_finite := hPre_dh1_finite)
    ∧ quiescent_Dh1RefIdeal (hDh1RefIdeal := hDh1RefIdeal)
    ∧ quiescent_Dh1RefIdeal_pre_dh1_finite (hDh1RefIdeal := hDh1RefIdeal) (hPre_dh1_finite := hPre_dh1_finite)
    ∧ quiescent_Ffn (hFfn := hFfn)
    ∧ quiescent_FfnIdeal (hFfnIdeal := hFfnIdeal)
    ∧ quiescent_FfnIdeal_pre_ffn_finite (hFfnIdeal := hFfnIdeal) (hPre_ffn_finite := hPre_ffn_finite)
    ∧ quiescent_FfnRefIdeal (hFfnRefIdeal := hFfnRefIdeal)
    ∧ quiescent_FfnRefIdeal_pre_ffn_finite (hFfnRefIdeal := hFfnRefIdeal) (hPre_ffn_finite := hPre_ffn_finite)
    ∧ quiescent_Pool (hPool := hPool)
    ∧ quiescent_PoolIdeal (hPoolIdeal := hPoolIdeal)
    ∧ quiescent_PoolIdeal_pre_pool_finite (hPoolIdeal := hPoolIdeal) (hPre_pool_finite := hPre_pool_finite)
    ∧ quiescent_PoolRefIdeal (hPoolRefIdeal := hPoolRefIdeal)
    ∧ quiescent_PoolRefIdeal_pre_pool_finite (hPoolRefIdeal := hPoolRefIdeal) (hPre_pool_finite := hPre_pool_finite)
    ∧ quiescent_LnFwd (hLnFwd := hLnFwd)
    ∧ quiescent_LnFwdIdeal (hLnFwdIdeal := hLnFwdIdeal)
    ∧ quiescent_LnFwdRefIdeal (hLnFwdRefIdeal := hLnFwdRefIdeal)
    ∧ quiescent_MixFwd (hMixFwd := hMixFwd)
    ∧ quiescent_MixFwdIdeal (hMixFwdIdeal := hMixFwdIdeal)
    ∧ quiescent_MixFwdRefIdeal (hMixFwdRefIdeal := hMixFwdRefIdeal)
    ∧ quiescent_MergeFwd (hMergeFwd := hMergeFwd)
    ∧ quiescent_MergeFwdIdeal (hMergeFwdIdeal := hMergeFwdIdeal)
    ∧ quiescent_MergeFwdRefIdeal (hMergeFwdRefIdeal := hMergeFwdRefIdeal)
    ∧ quiescent_DownFwd (hDownFwd := hDownFwd)
    ∧ quiescent_DownFwdIdeal (hDownFwdIdeal := hDownFwdIdeal)
    ∧ quiescent_DownFwdRefIdeal (hDownFwdRefIdeal := hDownFwdRefIdeal)
    ∧ quiescent_FfnFwd (hFfnFwd := hFfnFwd)
    ∧ quiescent_FfnFwdIdeal (hFfnFwdIdeal := hFfnFwdIdeal)
    ∧ quiescent_FfnFwdRefIdeal (hFfnFwdRefIdeal := hFfnFwdRefIdeal)
    ∧ quiescent_PoolFwd (hPoolFwd := hPoolFwd)
    ∧ quiescent_PoolFwdIdeal (hPoolFwdIdeal := hPoolFwdIdeal)
    ∧ quiescent_PoolFwdIdeal_pre_poolf_finite (hPoolFwdIdeal := hPoolFwdIdeal) (hPre_poolf_finite := hPre_poolf_finite)
    ∧ quiescent_PoolFwdRefIdeal (hPoolFwdRefIdeal := hPoolFwdRefIdeal)
    ∧ quiescent_PoolFwdRefIdeal_pre_poolf_finite (hPoolFwdRefIdeal := hPoolFwdRefIdeal) (hPre_poolf_finite := hPre_poolf_finite)
    ∧ quiescent_Wdown (hWdown := hWdown)
    ∧ quiescent_WdownIdeal (hWdownIdeal := hWdownIdeal)
    ∧ quiescent_WdownRefIdeal (hWdownRefIdeal := hWdownRefIdeal)
    ∧ quiescent_Wup (hWup := hWup)
    ∧ quiescent_WupIdeal (hWupIdeal := hWupIdeal)
    ∧ quiescent_WupRefIdeal (hWupRefIdeal := hWupRefIdeal)
    ∧ quiescent_Win (hWin := hWin)
    ∧ quiescent_WinIdeal (hWinIdeal := hWinIdeal)
    ∧ quiescent_WinRefIdeal (hWinRefIdeal := hWinRefIdeal)
    ∧ quiescent_Wout (hWout := hWout)
    ∧ quiescent_WoutIdeal (hWoutIdeal := hWoutIdeal)
    ∧ quiescent_WoutRefIdeal (hWoutRefIdeal := hWoutRefIdeal)
    ∧ quiescent_Da (hDa := hDa)
    ∧ quiescent_DaIdeal (hDaIdeal := hDaIdeal)
    ∧ quiescent_DaRefIdeal (hDaRefIdeal := hDaRefIdeal)
    ∧ quiescent_Dh0 (hDh0 := hDh0)
    ∧ quiescent_Dh0Ideal (hDh0Ideal := hDh0Ideal)
    ∧ quiescent_Dh0RefIdeal (hDh0RefIdeal := hDh0RefIdeal)
    ∧ quiescent_UpFwd (hUpFwd := hUpFwd)
    ∧ quiescent_UpFwdIdeal (hUpFwdIdeal := hUpFwdIdeal)
    ∧ quiescent_UpFwdRefIdeal (hUpFwdRefIdeal := hUpFwdRefIdeal)
    ∧ quiescent_Adam (hAdam := hAdam)
    ∧ quiescent_AdamIdeal (hAdamIdeal := hAdamIdeal)
    ∧ quiescent_AdamRefIdeal (hAdamRefIdeal := hAdamRefIdeal)
    ∧ quiescent_Partials (hPartials := hPartials)
    ∧ quiescent_PartialsIdeal (hPartialsIdeal := hPartialsIdeal)
    ∧ quiescent_PartialsRefIdeal (hPartialsRefIdeal := hPartialsRefIdeal)
    ∧ quiescent_AdamShard (hAdamShard := hAdamShard)
    ∧ quiescent_AdamShardIdeal (hAdamShardIdeal := hAdamShardIdeal)
    ∧ quiescent_AdamShardRefIdeal (hAdamShardRefIdeal := hAdamShardRefIdeal)
    ∧ preserves_Loss_LossIdeal
    ∧ algebraic_LossIdeal_LossRefIdeal (hLossIdeal := hLossIdeal) (hLossRefIdeal := hLossRefIdeal)
    ∧ preserves_Ln_LnIdeal
    ∧ algebraic_LnIdeal_LnRefIdeal_pre_ln_finite (hLnIdeal := hLnIdeal) (hLnRefIdeal := hLnRefIdeal) (hPre_ln_finite := hPre_ln_finite)
    ∧ preserves_Ln2_Ln2Ideal
    ∧ algebraic_Ln2Ideal_Ln2RefIdeal_pre_ln2_finite (hLn2Ideal := hLn2Ideal) (hLn2RefIdeal := hLn2RefIdeal) (hPre_ln2_finite := hPre_ln2_finite)
    ∧ preserves_Merge_MergeIdeal
    ∧ algebraic_MergeIdeal_MergeRefIdeal (hMergeIdeal := hMergeIdeal) (hMergeRefIdeal := hMergeRefIdeal)
    ∧ preserves_Dh1_Dh1Ideal
    ∧ algebraic_Dh1Ideal_Dh1RefIdeal_pre_dh1_finite (hDh1Ideal := hDh1Ideal) (hDh1RefIdeal := hDh1RefIdeal) (hPre_dh1_finite := hPre_dh1_finite)
    ∧ preserves_Ffn_FfnIdeal
    ∧ algebraic_FfnIdeal_FfnRefIdeal_pre_ffn_finite (hFfnIdeal := hFfnIdeal) (hFfnRefIdeal := hFfnRefIdeal) (hPre_ffn_finite := hPre_ffn_finite)
    ∧ preserves_Pool_PoolIdeal
    ∧ algebraic_PoolIdeal_PoolRefIdeal_pre_pool_finite (hPoolIdeal := hPoolIdeal) (hPoolRefIdeal := hPoolRefIdeal) (hPre_pool_finite := hPre_pool_finite)
    ∧ preserves_LnFwd_LnFwdIdeal
    ∧ algebraic_LnFwdIdeal_LnFwdRefIdeal (hLnFwdIdeal := hLnFwdIdeal) (hLnFwdRefIdeal := hLnFwdRefIdeal)
    ∧ preserves_MixFwd_MixFwdIdeal
    ∧ algebraic_MixFwdIdeal_MixFwdRefIdeal (hMixFwdIdeal := hMixFwdIdeal) (hMixFwdRefIdeal := hMixFwdRefIdeal)
    ∧ preserves_MergeFwd_MergeFwdIdeal
    ∧ algebraic_MergeFwdIdeal_MergeFwdRefIdeal (hMergeFwdIdeal := hMergeFwdIdeal) (hMergeFwdRefIdeal := hMergeFwdRefIdeal)
    ∧ preserves_DownFwd_DownFwdIdeal
    ∧ algebraic_DownFwdIdeal_DownFwdRefIdeal (hDownFwdIdeal := hDownFwdIdeal) (hDownFwdRefIdeal := hDownFwdRefIdeal)
    ∧ preserves_FfnFwd_FfnFwdIdeal
    ∧ algebraic_FfnFwdIdeal_FfnFwdRefIdeal (hFfnFwdIdeal := hFfnFwdIdeal) (hFfnFwdRefIdeal := hFfnFwdRefIdeal)
    ∧ preserves_PoolFwd_PoolFwdIdeal
    ∧ algebraic_PoolFwdIdeal_PoolFwdRefIdeal_pre_poolf_finite (hPoolFwdIdeal := hPoolFwdIdeal) (hPoolFwdRefIdeal := hPoolFwdRefIdeal) (hPre_poolf_finite := hPre_poolf_finite)
    ∧ preserves_Wdown_WdownIdeal
    ∧ algebraic_WdownIdeal_WdownRefIdeal (hWdownIdeal := hWdownIdeal) (hWdownRefIdeal := hWdownRefIdeal)
    ∧ preserves_Wup_WupIdeal
    ∧ algebraic_WupIdeal_WupRefIdeal (hWupIdeal := hWupIdeal) (hWupRefIdeal := hWupRefIdeal)
    ∧ preserves_Win_WinIdeal
    ∧ algebraic_WinIdeal_WinRefIdeal (hWinIdeal := hWinIdeal) (hWinRefIdeal := hWinRefIdeal)
    ∧ preserves_Wout_WoutIdeal
    ∧ algebraic_WoutIdeal_WoutRefIdeal (hWoutIdeal := hWoutIdeal) (hWoutRefIdeal := hWoutRefIdeal)
    ∧ preserves_Da_DaIdeal
    ∧ algebraic_DaIdeal_DaRefIdeal (hDaIdeal := hDaIdeal) (hDaRefIdeal := hDaRefIdeal)
    ∧ preserves_Dh0_Dh0Ideal
    ∧ algebraic_Dh0Ideal_Dh0RefIdeal (hDh0Ideal := hDh0Ideal) (hDh0RefIdeal := hDh0RefIdeal)
    ∧ preserves_UpFwd_UpFwdIdeal
    ∧ algebraic_UpFwdIdeal_UpFwdRefIdeal (hUpFwdIdeal := hUpFwdIdeal) (hUpFwdRefIdeal := hUpFwdRefIdeal)
    ∧ preserves_Adam_AdamIdeal
    ∧ algebraic_AdamIdeal_AdamRefIdeal (hAdamIdeal := hAdamIdeal) (hAdamRefIdeal := hAdamRefIdeal)
    ∧ preserves_Partials_PartialsIdeal
    ∧ algebraic_PartialsIdeal_PartialsRefIdeal (hPartialsIdeal := hPartialsIdeal) (hPartialsRefIdeal := hPartialsRefIdeal)
    ∧ preserves_AdamShard_AdamShardIdeal
    ∧ algebraic_AdamShardIdeal_AdamShardRefIdeal (hAdamShardIdeal := hAdamShardIdeal) (hAdamShardRefIdeal := hAdamShardRefIdeal)
-- ==== Pre_dh1_finite.lean ====
abbrev S2048x1024 : Shape := ⟨2, ![2048, 1024]⟩
abbrev S1024 : Shape := ⟨1, ![1024]⟩
abbrev S1024x1024 : Shape := ⟨2, ![1024, 1024]⟩
abbrev S1024x5632 : Shape := ⟨2, ![1024, 5632]⟩
abbrev S2048x2816 : Shape := ⟨2, ![2048, 2816]⟩
abbrev S_ : Shape := ⟨0, ![]⟩

class Facts : Prop where
  bcast_S_S2048x1024 : S_.BroadcastsInDim S2048x1024 (![] : Fin 0 → Fin S2048x1024.rank)
  bcast_S_S1024 : S_.BroadcastsInDim S1024 (![] : Fin 0 → Fin S1024.rank)
  bcast_S_S1024x1024 : S_.BroadcastsInDim S1024x1024 (![] : Fin 0 → Fin S1024x1024.rank)
  bcast_S_S1024x5632 : S_.BroadcastsInDim S1024x5632 (![] : Fin 0 → Fin S1024x5632.rank)
  bcast_S_S2048x2816 : S_.BroadcastsInDim S2048x2816 (![] : Fin 0 → Fin S2048x2816.rank)

variable [Facts]

def fn_part1 {F : FTy → Type} [FloatOps F] (main_arg7 : FVec F S2048x1024 .f32) (main_arg8 : FVec F S2048x2816 .f32) (main_arg9 : FVec F S2048x2816 .f32) (main_v2 : IVec S2048x1024 1) (main_v5 : IVec S2048x1024 1) (main_v8 : IVec S1024 1) (main_v11 : IVec S1024x1024 1) (main_v14 : IVec S1024x5632 1) (main_v17 : IVec S2048x1024 1) : IVec S2048x1024 1 × IVec S2048x1024 1 × IVec S1024 1 × IVec S1024x1024 1 × IVec S1024x5632 1 × IVec S2048x1024 1 × IVec S2048x1024 1 × IVec S2048x2816 1 × IVec S2048x2816 1 :=
  let main_v18 : FVec F S2048x1024 .f32 := Host.absf main_arg7
  let main_cst_5 : FVec F S_ .f32 := constant S_ .f32 0x7F800000#32
  let main_v19 : FVec F S2048x1024 .f32 := broadcastInDim S2048x1024 ![] bcast_S_S2048x1024 main_cst_5
  let main_v20 : IVec S2048x1024 1 := cmpf .olt main_v18 main_v19
  let main_v21 : FVec F S2048x2816 .f32 := Host.absf main_arg8
  let main_cst_6 : FVec F S_ .f32 := constant S_ .f32 0x7F800000#32
  let main_v22 : FVec F S2048x2816 .f32 := broadcastInDim S2048x2816 ![] bcast_S_S2048x2816 main_cst_6
  let main_v23 : IVec S2048x2816 1 := cmpf .olt main_v21 main_v22
  let main_v24 : FVec F S2048x2816 .f32 := Host.absf main_arg9
  let main_cst_7 : FVec F S_ .f32 := constant S_ .f32 0x7F800000#32
  let main_v25 : FVec F S2048x2816 .f32 := broadcastInDim S2048x2816 ![] bcast_S_S2048x2816 main_cst_7
  let main_v26 : IVec S2048x2816 1 := cmpf .olt main_v24 main_v25
  (main_v2, main_v5, main_v8, main_v11, main_v14, main_v17, main_v20, main_v23, main_v26)

def fn {F : FTy → Type} [FloatOps F] (main_arg0 : FVec F S2048x1024 .f32) (main_arg1 : FVec F S2048x1024 .f32) (main_arg2 : FVec F S1024 .f32) (main_arg3 : FVec F S1024 .f32) (main_arg4 : FVec F S1024x1024 .f32) (main_arg5 : FVec F S1024x5632 .f32) (main_arg6 : FVec F S2048x1024 .f32) (main_arg7 : FVec F S2048x1024 .f32) (main_arg8 : FVec F S2048x2816 .f32) (main_arg9 : FVec F S2048x2816 .f32) : IVec S2048x1024 1 × IVec S2048x1024 1 × IVec S1024 1 × IVec S1024x1024 1 × IVec S1024x5632 1 × IVec S2048x1024 1 × IVec S2048x1024 1 × IVec S2048x2816 1 × IVec S2048x2816 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S2048x1024 .f32 := Host.absf main_arg1
  let main_cst_0 : FVec F S_ .f32 := constant S_ .f32 0x7F800000#32
  let main_v4 : FVec F S2048x1024 .f32 := broadcastInDim S2048x1024 ![] bcast_S_S2048x1024 main_cst_0
  let main_v5 : IVec S2048x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024x1024 .f32 := Host.absf main_arg4
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_v12 : FVec F S1024x5632 .f32 := Host.absf main_arg5
  let main_cst_3 : FVec F S_ .f32 := constant S_ .f32 0x7F800000#32
  let main_v13 : FVec F S1024x5632 .f32 := broadcastInDim S1024x5632 ![] bcast_S_S1024x5632 main_cst_3
  let main_v14 : IVec S1024x5632 1 := cmpf .olt main_v12 main_v13
  let main_v15 : FVec F S2048x1024 .f32 := Host.absf main_arg6
  let main_cst_4 : FVec F S_ .f32 := constant S_ .f32 0x7F800000#32
  let main_v16 : FVec F S2048x1024 .f32 := broadcastInDim S2048x1024 ![] bcast_S_S2048x1024 main_cst_4
  let main_v17 : IVec S2048x1024 1 := cmpf .olt main_v15 main_v16
  fn_part1 (F := F) main_arg7 main_arg8 main_arg9 main_v2 main_v5 main_v8 main_v11 main_v14 main_v17
-- ==== Pre_ffn_finite.lean ====
abbrev S2048x5632 : Shape := ⟨2, ![2048, 5632]⟩
abbrev S3x2816 : Shape := ⟨2, ![3, 2816]⟩
abbrev S2816 : Shape := ⟨1, ![2816]⟩
abbrev S2816x1024 : Shape := ⟨2, ![2816, 1024]⟩
abbrev S2048x1024 : Shape := ⟨2, ![2048, 1024]⟩
abbrev S_ : Shape := ⟨0, ![]⟩

class Facts : Prop where
  bcast_S_S2048x5632 : S_.BroadcastsInDim S2048x5632 (![] : Fin 0 → Fin S2048x5632.rank)
  bcast_S_S3x2816 : S_.BroadcastsInDim S3x2816 (![] : Fin 0 → Fin S3x2816.rank)
  bcast_S_S2816 : S_.BroadcastsInDim S2816 (![] : Fin 0 → Fin S2816.rank)
  bcast_S_S2816x1024 : S_.BroadcastsInDim S2816x1024 (![] : Fin 0 → Fin S2816x1024.rank)
  bcast_S_S2048x1024 : S_.BroadcastsInDim S2048x1024 (![] : Fin 0 → Fin S2048x1024.rank)

variable [Facts]

def fn {F : FTy → Type} [FloatOps F] (main_arg0 : FVec F S2048x5632 .f32) (main_arg1 : FVec F S3x2816 .f32) (main_arg2 : FVec F S2816 .f32) (main_arg3 : FVec F S2816x1024 .f32) (main_arg4 : FVec F S2048x1024 .f32) : IVec S2048x5632 1 × IVec S3x2816 1 × IVec S2816 1 × IVec S2816x1024 1 × IVec S2048x1024 1 :=
  let main_v0 : FVec F S2048x5632 .f32 := Host.absf main_arg0
  let main_cst : FVec F S_ .f32 := constant S_ .f32 0x7F800000#32
  let main_v1 : FVec F S2048x5632 .f32 := broadcastInDim S2048x5632 ![] bcast_S_S2048x5632 main_cst
  let main_v2 : IVec S2048x5632 1 := cmpf .olt main_v0 main_v1
  let main_v3 : FVec F S3x2816 .f32 := Host.absf main_arg1
  let main_cst_0 : FVec F S_ .f32 := constant S_ .f32 0x7F800000#32
  let main_v4 : FVec F S3x2816 .f32 := broadcastInDim S3x2816 ![] bcast_S_S3x2816 main_cst_0
  let main_v5 : IVec S3x2816 1 := cmpf .olt main_v3 main_v4
  let main_v6 : FVec F S2816 .f32 := Host.absf main_arg2
  let main_cst_1 : FVec F S_ .f32 := constant S_ .f32 0x7F800000#32
  let main_v7 : FVec F S2816 .f32 := broadcastInDim S2816 ![] bcast_S_S2816 main_cst_1
  let main_v8 : IVec S2816 1 := cmpf .olt main_v6 main_v7
  let main_v9 : FVec F S2816x1024 .f32 := Host.absf main_arg3
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_v12 : FVec F S2048x1024 .f32 := Host.absf main_arg4
  let main_cst_3 : FVec F S_ .f32 := constant S_ .f32 0x7F800000#32
  let main_v13 : FVec F S2048x1024 .f32 := broadcastInDim S2048x1024 ![] bcast_S_S2048x1024 main_cst_3
  let main_v14 : IVec S2048x1024 1 := cmpf .olt main_v12 main_v13
  (main_v2, main_v5, main_v8, main_v11, main_v14)
-- ==== Pre_ln2_finite.lean ====
abbrev S2048x1024 : Shape := ⟨2, ![2048, 1024]⟩
abbrev S1024 : Shape := ⟨1, ![1024]⟩
abbrev S_ : Shape := ⟨0, ![]⟩

class Facts : Prop where
  bcast_S_S2048x1024 : S_.BroadcastsInDim S2048x1024 (![] : Fin 0 → Fin S2048x1024.rank)
  bcast_S_S1024 : S_.BroadcastsInDim S1024 (![] : Fin 0 → Fin S1024.rank)

variable [Facts]

def fn {F : FTy → Type} [FloatOps F] (main_arg0 : FVec F S2048x1024 .f32) (main_arg1 : FVec F S2048x1024 .f32) (main_arg2 : FVec F S2048x1024 .f32) (main_arg3 : FVec F S2048x1024 .f32) (main_arg4 : FVec F S1024 .f32) (main_arg5 : FVec F S1024 .f32) (main_arg6 : FVec F S2048x1024 .f32) : IVec S2048x1024 1 × IVec S2048x1024 1 × IVec S2048x1024 1 × IVec S2048x1024 1 × IVec S1024 1 × IVec S2048x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S2048x1024 .f32 := Host.absf main_arg1
  let main_cst_0 : FVec F S_ .f32 := constant S_ .f32 0x7F800000#32
  let main_v4 : FVec F S2048x1024 .f32 := broadcastInDim S2048x1024 ![] bcast_S_S2048x1024 main_cst_0
  let main_v5 : IVec S2048x1024 1 := cmpf .olt main_v3 main_v4
  let main_v6 : FVec F S2048x1024 .f32 := Host.absf main_arg2
  let main_cst_1 : FVec F S_ .f32 := constant S_ .f32 0x7F800000#32
  let main_v7 : FVec F S2048x1024 .f32 := broadcastInDim S2048x1024 ![] bcast_S_S2048x1024 main_cst_1
  let main_v8 : IVec S2048x1024 1 := cmpf .olt main_v6 main_v7
  let main_v9 : FVec F S2048x1024 .f32 := Host.absf main_arg3
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_v12 : FVec F S1024 .f32 := Host.absf main_arg4
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  let main_v15 : FVec F S2048x1024 .f32 := Host.absf main_arg6
  let main_cst_4 : FVec F S_ .f32 := constant S_ .f32 0x7F800000#32
  let main_v16 : FVec F S2048x1024 .f32 := broadcastInDim S2048x1024 ![] bcast_S_S2048x1024 main_cst_4
  let main_v17 : IVec S2048x1024 1 := cmpf .olt main_v15 main_v16
  (main_v2, main_v5, main_v8, main_v11, main_v14, main_v17)
-- ==== Pre_ln_finite.lean ====
abbrev S2048x1024 : Shape := ⟨2, ![2048, 1024]⟩
abbrev S1024 : Shape := ⟨1, ![1024]⟩
abbrev S_ : Shape := ⟨0, ![]⟩

class Facts : Prop where
  bcast_S_S2048x1024 : S_.BroadcastsInDim S2048x1024 (![] : Fin 0 → Fin S2048x1024.rank)
  bcast_S_S1024 : S_.BroadcastsInDim S1024 (![] : Fin 0 → Fin S1024.rank)

variable [Facts]

def fn {F : FTy → Type} [FloatOps F] (main_arg0 : FVec F S2048x1024 .f32) (main_arg1 : FVec F S1024 .f32) (main_arg2 : FVec F S1024 .f32) (main_arg3 : FVec F S2048x1024 .f32) : IVec S2048x1024 1 × IVec S1024 1 × IVec S2048x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S2048x1024 .f32 := Host.absf main_arg3
  let main_cst_1 : FVec F S_ .f32 := constant S_ .f32 0x7F800000#32
  let main_v7 : FVec F S2048x1024 .f32 := broadcastInDim S2048x1024 ![] bcast_S_S2048x1024 main_cst_1
  let main_v8 : IVec S2048x1024 1 := cmpf .olt main_v6 main_v7
  (main_v2, main_v5, main_v8)
-- ==== Pre_pool_finite.lean ====
abbrev S2048x512 : Shape := ⟨2, ![2048, 512]⟩
abbrev S4x128x128 : Shape := ⟨3, ![4, 128, 128]⟩
abbrev S512 : Shape := ⟨1, ![512]⟩
abbrev S512x1024 : Shape := ⟨2, ![512, 1024]⟩
abbrev S2048x1024 : Shape := ⟨2, ![2048, 1024]⟩
abbrev S_ : Shape := ⟨0, ![]⟩

class Facts : Prop where
  bcast_S_S4x128x128 : S_.BroadcastsInDim S4x128x128 (![] : Fin 0 → Fin S4x128x128.rank)
  bcast_S_S512 : S_.BroadcastsInDim S512 (![] : Fin 0 → Fin S512.rank)
  bcast_S_S512x1024 : S_.BroadcastsInDim S512x1024 (![] : Fin 0 → Fin S512x1024.rank)
  bcast_S_S2048x1024 : S_.BroadcastsInDim S2048x1024 (![] : Fin 0 → Fin S2048x1024.rank)

variable [Facts]

def fn {F : FTy → Type} [FloatOps F] (main_arg0 : FVec F S2048x512 .f32) (main_arg1 : FVec F S4x128x128 .f32) (main_arg2 : FVec F S512 .f32) (main_arg3 : FVec F S512x1024 .f32) (main_arg4 : FVec F S2048x1024 .f32) : IVec S4x128x128 1 × IVec S512 1 × IVec S512x1024 1 × IVec S2048x1024 1 :=
  let main_v0 : FVec F S4x128x128 .f32 := Host.absf main_arg1
  let main_cst : FVec F S_ .f32 := constant S_ .f32 0x7F800000#32
  let main_v1 : FVec F S4x128x128 .f32 := broadcastInDim S4x128x128 ![] bcast_S_S4x128x128 main_cst
  let main_v2 : IVec S4x128x128 1 := cmpf .olt main_v0 main_v1
  let main_v3 : FVec F S512 .f32 := Host.absf main_arg2
  let main_cst_0 : FVec F S_ .f32 := constant S_ .f32 0x7F800000#32
  let main_v4 : FVec F S512 .f32 := broadcastInDim S512 ![] bcast_S_S512 main_cst_0
  let main_v5 : IVec S512 1 := cmpf .olt main_v3 main_v4
  let main_v6 : FVec F S512x1024 .f32 := Host.absf main_arg3
  let main_cst_1 : FVec F S_ .f32 := constant S_ .f32 0x7F800000#32
  let main_v7 : FVec F S512x1024 .f32 := broadcastInDim S512x1024 ![] bcast_S_S512x1024 main_cst_1
  let main_v8 : IVec S512x1024 1 := cmpf .olt main_v6 main_v7
  let main_v9 : FVec F S2048x1024 .f32 := Host.absf main_arg4
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  (main_v2, main_v5, main_v8, main_v11)
-- ==== Pre_poolf_finite.lean ====
abbrev S2048x512 : Shape := ⟨2, ![2048, 512]⟩
abbrev S4x128x128 : Shape := ⟨3, ![4, 128, 128]⟩
abbrev S512 : Shape := ⟨1, ![512]⟩
abbrev S_ : Shape := ⟨0, ![]⟩

class Facts : Prop where
  bcast_S_S2048x512 : S_.BroadcastsInDim S2048x512 (![] : Fin 0 → Fin S2048x512.rank)

variable [Facts]

def fn {F : FTy → Type} [FloatOps F] (main_arg0 : FVec F S2048x512 .f32) (main_arg1 : FVec F S4x128x128 .f32) (main_arg2 : FVec F S512 .f32) : IVec S2048x512 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  main_v2
-- ==== Loss.lean ====
abbrev S2048x1024 : Shape := ⟨2, ![2048, 1024]⟩
abbrev S1x1 : Shape := ⟨2, ![1, 1]⟩
abbrev S512x1024 : Shape := ⟨2, ![512, 1024]⟩
abbrev S512 : Shape := ⟨1, ![512]⟩
abbrev S512x1 : Shape := ⟨2, ![512, 1]⟩
abbrev S1 : Shape := ⟨1, ![1]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S1x1, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossRefIdeal.lean ====
abbrev S2048x1024 : Shape := ⟨2, ![2048, 1024]⟩
abbrev S_ : Shape := ⟨0, ![]⟩
abbrev S2048 : Shape := ⟨1, ![2048]⟩
abbrev S1x1 : Shape := ⟨2, ![1, 1]⟩

abbrev nBuf : Space → Nat
  | .hbm => 26
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S_, .f32⟩
  | .hbm, ⟨10, _⟩ => ⟨S2048, .f32⟩
  | .hbm, ⟨11, _⟩ => ⟨S2048, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S2048, .f32⟩
  | .hbm, ⟨20, _⟩ => ⟨S_, .f32⟩
  | .hbm, ⟨21, _⟩ => ⟨S2048, .f32⟩
  | .hbm, ⟨22, _⟩ => ⟨S2048, .f32⟩
  | .hbm, ⟨23, _⟩ => ⟨S2048x1024, .f32⟩
  | .hbm, ⟨24, _⟩ => ⟨S2048x1024, .f32⟩
  | .hbm, ⟨25, _⟩ => ⟨S1x1, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Ln.lean ====
abbrev S2048x1024 : Shape := ⟨2, ![2048, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024, .f32⟩
  | .hbm, ⟨3, _⟩ => ⟨S2048x1024, .f32⟩
  | .hbm, ⟨4, _⟩ => ⟨S1x1024, .f32⟩
  | .hbm, ⟨5, _⟩ => ⟨S2048x1024, .f32⟩
  | .hbm, ⟨6, _⟩ => ⟨S1x1024, .f32⟩
  | .hbm, ⟨7, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LnRefIdeal.lean ====
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 79
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S_, .f32⟩
  | .hbm, ⟨14, _⟩ => ⟨S2048, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S2048x1024, .f32⟩
  | .hbm, ⟨28, _⟩ => ⟨S2048x1024, .f32⟩
  | .hbm, ⟨29, _⟩ => ⟨S1x1024, .f32⟩
  | .hbm, ⟨30, _⟩ => ⟨S2048x1024, .f32⟩
  | .hbm, ⟨31, _⟩ => ⟨S2048x1024, .f32⟩
  | .hbm, ⟨32, _⟩ => ⟨S1x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S_, .f32⟩
  | .hbm, ⟨40, _⟩ => ⟨S1024, .f32⟩
  | .hbm, ⟨41, _⟩ => ⟨S2048x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S2048x1024, .f32⟩
  | .hbm, ⟨46, _⟩ => ⟨S2048x1024, .f32⟩
  | .hbm, ⟨47, _⟩ => ⟨S_, .f32⟩
  | .hbm, ⟨48, _⟩ => ⟨S1024, .f32⟩
  | .hbm, ⟨49, _⟩ => ⟨S2048x1024, .f32⟩
  | .hbm, ⟨50, _⟩ => ⟨S_, .f32⟩
  | .hbm, ⟨51, _⟩ => ⟨S2048, .f32⟩
  | .hbm, ⟨52, _⟩ => ⟨S2048x1, .f32⟩
  | .hbm, ⟨53, _⟩ => ⟨S2048x1024, .f32⟩
  | .hbm, ⟨54, _⟩ => ⟨S2048x1024, .f32⟩
  | .hbm, ⟨55, _⟩ => ⟨S2048x1, .f32⟩
  | .hbm, ⟨56, _⟩ => ⟨S_, .f32⟩
  | .hbm, ⟨57, _⟩ => ⟨S2048x1, .f32⟩
  | .hbm, ⟨58, _⟩ => ⟨S2048x1, .f32⟩
  | .hbm, ⟨59, _⟩ => ⟨S_, .f32⟩
  | .hbm, ⟨60, _⟩ => ⟨S2048, .f32⟩
  | .hbm, ⟨61, _⟩ => ⟨S2048x1024, .f32⟩
  | .hbm, ⟨62, _⟩ => ⟨S2048x1024, .f32⟩
  | .hbm, ⟨63, _⟩ => ⟨S2048x1024, .f32⟩
  | .hbm, ⟨64, _⟩ => ⟨S2048x1024, .f32⟩
  | .hbm, ⟨65, _⟩ => ⟨S2048x1024, .f32⟩
  | .hbm, ⟨66, _⟩ => ⟨S2048x1024, .f32⟩
  | .hbm, ⟨67, _⟩ => ⟨S_, .f32⟩
  | .hbm, ⟨68, _⟩ => ⟨S2048, .f32⟩
  | .hbm, ⟨69, _⟩ => ⟨S2048x1, .f32⟩
  | .hbm, ⟨70, _⟩ => ⟨S_, .f32⟩
  | .hbm, ⟨71, _⟩ => ⟨S2048x1, .f32⟩
  | .hbm, ⟨72, _⟩ => ⟨S2048x1, .f32⟩
  | .hbm, ⟨73, _⟩ => ⟨S_, .f32⟩
  | .hbm, ⟨74, _⟩ => ⟨S2048, .f32⟩
  | .hbm, ⟨75, _⟩ => ⟨S2048x1024, .f32⟩
  | .hbm, ⟨76, _⟩ => ⟨S2048x1024, .f32⟩
  | .hbm, ⟨77, _⟩ => ⟨S1x1024, .f32⟩
  | .hbm, ⟨78, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_8 : Ref sig .tc := ⟨.hbm, 47, rfl⟩
abbrev main_v34 : Ref sig .tc := ⟨.hbm, 48, rfl⟩
abbrev main_v35 : Ref sig .tc := ⟨.hbm, 49, rfl⟩
abbrev main_cst_9 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_10 : Ref sig .tc := ⟨.hbm, 56, rfl⟩
abbrev main_v41 : Ref sig .tc := ⟨.hbm, 57, rfl⟩
abbrev main_v42 : Ref sig .tc := ⟨.hbm, 58, rfl⟩
abbrev main_cst_11 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_12 : Ref sig .tc := ⟨.hbm, 67, rfl⟩
abbrev main_v50 : Ref sig .tc := ⟨.hbm, 68, rfl⟩
abbrev main_v51 : Ref sig .tc := ⟨.hbm, 69, rfl⟩
abbrev main_cst_13 : Ref sig .tc := ⟨.hbm, 70, rfl⟩
abbrev main_v52 : Ref sig .tc := ⟨.hbm, 71, rfl⟩
abbrev main_v53 : Ref sig .tc := ⟨.hbm, 72, rfl⟩
abbrev main_cst_14 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩

abbrev nD : Nat := 1
abbrev τ : Topo := Topo.v7x

variable {F : FTy → Type} [FloatOps F]
-- ==== Ln2.lean ====
abbrev S2048x1024 : Shape := ⟨2, ![2048, 1024]⟩
abbrev S1024 : Shape := ⟨1, ![1024]⟩
abbrev S_ : Shape := ⟨0, ![]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 30
  | .vmem => 19
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S1024, .f32⟩
  | .hbm, ⟨5, _⟩ => ⟨S1024, .f32⟩
  | .hbm, ⟨6, _⟩ => ⟨S2048x1024, .f32⟩
  | .hbm, ⟨7, _⟩ => ⟨S_, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S_, .f32⟩
  | .hbm, ⟨14, _⟩ => ⟨S2048x1024, .f32⟩
  | .hbm, ⟨15, _⟩ => ⟨S2048x1024, .f32⟩
  | .hbm, ⟨16, _⟩ => ⟨S_, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S1x1024, .f32⟩
  | .hbm, ⟨22, _⟩ => ⟨S2048x1024, .bf16⟩
  | .hbm, ⟨23, _⟩ => ⟨S2048x1024, .bf16⟩
  | .hbm, ⟨24, _⟩ => ⟨S2048x1024, .f32⟩
  | .hbm, ⟨25, _⟩ => ⟨S2048x1024, .bf16⟩
  | .hbm, ⟨26, _⟩ => ⟨S2048x1024, .bf16⟩
  | .hbm, ⟨27, _⟩ => ⟨S2048x1024, .bf16⟩
  | .hbm, ⟨28, _⟩ => ⟨S1x1024, .f32⟩
  | .hbm, ⟨29, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S1x1024, .f32⟩
  | .local _ .vmem, ⟨18, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14_0 : Ref sig .tc := ⟨.hbm, 24, rfl⟩
abbrev main_v14_1 : Ref sig .tc := ⟨.hbm, 25, rfl⟩
abbrev main_v14_2 : Ref sig .tc := ⟨.hbm, 26, rfl⟩
abbrev main_v14_3 : Ref sig .tc := ⟨.hbm, 27, rfl⟩
abbrev main_v14_4 : Ref sig .tc := ⟨.hbm, 28, rfl⟩
abbrev main_v14_5 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Ln2RefIdeal.lean ====
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 106
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S1024, .f32⟩
  | .hbm, ⟨5, _⟩ => ⟨S1024, .f32⟩
  | .hbm, ⟨6, _⟩ => ⟨S2048x1024, .f32⟩
  | .hbm, ⟨7, _⟩ => ⟨S_, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S_, .f32⟩
  | .hbm, ⟨14, _⟩ => ⟨S2048x1024, .f32⟩
  | .hbm, ⟨15, _⟩ => ⟨S2048x1024, .f32⟩
  | .hbm, ⟨16, _⟩ => ⟨S_, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048, .f32⟩
  | .hbm, ⟨27, _⟩ => ⟨S2048x1, .f32⟩
  | .hbm, ⟨28, _⟩ => ⟨S_, .f32⟩
  | .hbm, ⟨29, _⟩ => ⟨S2048x1, .f32⟩
  | .hbm, ⟨30, _⟩ => ⟨S2048x1, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S2048, .f32⟩
  | .hbm, ⟨36, _⟩ => ⟨S2048x1, .f32⟩
  | .hbm, ⟨37, _⟩ => ⟨S_, .f32⟩
  | .hbm, ⟨38, _⟩ => ⟨S2048x1, .f32⟩
  | .hbm, ⟨39, _⟩ => ⟨S2048x1, .f32⟩
  | .hbm, ⟨40, _⟩ => ⟨S_, .f32⟩
  | .hbm, ⟨41, _⟩ => ⟨S2048x1, .f32⟩
  | .hbm, ⟨42, _⟩ => ⟨S2048x1, .f32⟩
  | .hbm, ⟨43, _⟩ => ⟨S2048x1, .f32⟩
  | .hbm, ⟨44, _⟩ => ⟨S2048x1, .f32⟩
  | .hbm, ⟨45, _⟩ => ⟨S_, .f32⟩
  | .hbm, ⟨46, _⟩ => ⟨S2048x1, .f32⟩
  | .hbm, ⟨47, _⟩ => ⟨S2048x1, .f32⟩
  | .hbm, ⟨48, _⟩ => ⟨S2048x1024, .f32⟩
  | .hbm, ⟨49, _⟩ => ⟨S2048x1024, .f32⟩
  | .hbm, ⟨50, _⟩ => ⟨S1x1024, .f32⟩
  | .hbm, ⟨51, _⟩ => ⟨S2048x1024, .f32⟩
  | .hbm, ⟨52, _⟩ => ⟨S2048x1024, .f32⟩
  | .hbm, ⟨53, _⟩ => ⟨S1x1024, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S_, .f32⟩
  | .hbm, ⟨61, _⟩ => ⟨S1024, .f32⟩
  | .hbm, ⟨62, _⟩ => ⟨S2048x1024, .f32⟩
  | .hbm, ⟨63, _⟩ => ⟨S_, .f32⟩
  | .hbm, ⟨64, _⟩ => ⟨S1024, .f32⟩
  | .hbm, ⟨65, _⟩ => ⟨S1x1024, .f32⟩
  | .hbm, ⟨66, _⟩ => ⟨S2048x1024, .f32⟩
  | .hbm, ⟨67, _⟩ => ⟨S2048x1024, .f32⟩
  | .hbm, ⟨68, _⟩ => ⟨S_, .f32⟩
  | .hbm, ⟨69, _⟩ => ⟨S1024, .f32⟩
  | .hbm, ⟨70, _⟩ => ⟨S2048x1024, .f32⟩
  | .hbm, ⟨71, _⟩ => ⟨S_, .f32⟩
  | .hbm, ⟨72, _⟩ => ⟨S2048, .f32⟩
  | .hbm, ⟨73, _⟩ => ⟨S2048x1, .f32⟩
  | .hbm, ⟨74, _⟩ => ⟨S2048x1024, .f32⟩
  | .hbm, ⟨75, _⟩ => ⟨S2048x1024, .f32⟩
  | .hbm, ⟨76, _⟩ => ⟨S2048x1, .f32⟩
  | .hbm, ⟨77, _⟩ => ⟨S_, .f32⟩
  | .hbm, ⟨78, _⟩ => ⟨S2048x1, .f32⟩
  | .hbm, ⟨79, _⟩ => ⟨S2048x1, .f32⟩
  | .hbm, ⟨80, _⟩ => ⟨S_, .f32⟩
  | .hbm, ⟨81, _⟩ => ⟨S2048, .f32⟩
  | .hbm, ⟨82, _⟩ => ⟨S2048x1024, .f32⟩
  | .hbm, ⟨83, _⟩ => ⟨S2048x1024, .f32⟩
  | .hbm, ⟨84, _⟩ => ⟨S2048x1024, .f32⟩
  | .hbm, ⟨85, _⟩ => ⟨S2048x1024, .f32⟩
  | .hbm, ⟨86, _⟩ => ⟨S2048x1024, .f32⟩
  | .hbm, ⟨87, _⟩ => ⟨S2048x1024, .f32⟩
  | .hbm, ⟨88, _⟩ => ⟨S_, .f32⟩
  | .hbm, ⟨89, _⟩ => ⟨S2048, .f32⟩
  | .hbm, ⟨90, _⟩ => ⟨S2048x1, .f32⟩
  | .hbm, ⟨91, _⟩ => ⟨S_, .f32⟩
  | .hbm, ⟨92, _⟩ => ⟨S2048x1, .f32⟩
  | .hbm, ⟨93, _⟩ => ⟨S2048x1, .f32⟩
  | .hbm, ⟨94, _⟩ => ⟨S_, .f32⟩
  | .hbm, ⟨95, _⟩ => ⟨S2048, .f32⟩
  | .hbm, ⟨96, _⟩ => ⟨S2048x1024, .f32⟩
  | .hbm, ⟨97, _⟩ => ⟨S2048x1024, .f32⟩
  | .hbm, ⟨98, _⟩ => ⟨S2048x1024, .f32⟩
  | .hbm, ⟨99, _⟩ => ⟨S2048x1024, .f32⟩
  | .hbm, ⟨100, _⟩ => ⟨S2048x1024, .f32⟩
  | .hbm, ⟨101, _⟩ => ⟨S2048x1024, .bf16⟩
  | .hbm, ⟨102, _⟩ => ⟨S2048x1024, .bf16⟩
  | .hbm, ⟨103, _⟩ => ⟨S2048x1024, .bf16⟩
  | .hbm, ⟨104, _⟩ => ⟨S1x1024, .f32⟩
  | .hbm, ⟨105, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_cst_7 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_9 : Ref sig .tc := ⟨.hbm, 57, rfl⟩
abbrev main_v40 : Ref sig .tc := ⟨.hbm, 58, rfl⟩
abbrev main_v41 : Ref sig .tc := ⟨.hbm, 59, rfl⟩
abbrev main_cst_10 : Ref sig .tc := ⟨.hbm, 60, rfl⟩
abbrev main_v42 : Ref sig .tc := ⟨.hbm, 61, rfl⟩
abbrev main_v43 : Ref sig .tc := ⟨.hbm, 62, rfl⟩
abbrev main_cst_11 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_12 : Ref sig .tc := ⟨.hbm, 68, rfl⟩
abbrev main_v48 : Ref sig .tc := ⟨.hbm, 69, rfl⟩
abbrev main_v49 : Ref sig .tc := ⟨.hbm, 70, rfl⟩
abbrev main_cst_13 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_14 : Ref sig .tc := ⟨.hbm, 77, rfl⟩
abbrev main_v55 : Ref sig .tc := ⟨.hbm, 78, rfl⟩
abbrev main_v56 : Ref sig .tc := ⟨.hbm, 79, rfl⟩
abbrev main_cst_15 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_16 : Ref sig .tc := ⟨.hbm, 88, rfl⟩
abbrev main_v64 : Ref sig .tc := ⟨.hbm, 89, rfl⟩
abbrev main_v65 : Ref sig .tc := ⟨.hbm, 90, rfl⟩
abbrev main_cst_17 : Ref sig .tc := ⟨.hbm, 91, rfl⟩
abbrev main_v66 : Ref sig .tc := ⟨.hbm, 92, rfl⟩
abbrev main_v67 : Ref sig .tc := ⟨.hbm, 93, rfl⟩
abbrev main_cst_18 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩

abbrev nD : Nat := 1
abbrev τ : Topo := Topo.v7x

variable {F : FTy → Type} [FloatOps F]
-- ==== Merge.lean ====
abbrev S2048x4096 : Shape := ⟨2, ![2048, 4096]⟩
abbrev S2048x1024 : Shape := ⟨2, ![2048, 1024]⟩
abbrev S1024x1024 : Shape := ⟨2, ![1024, 1024]⟩
abbrev S8x128x1024 : Shape := ⟨3, ![8, 128, 1024]⟩
abbrev S4x128x1024 : Shape := ⟨3, ![4, 128, 1024]⟩
abbrev S1024x512 : Shape := ⟨2, ![1024, 512]⟩
abbrev S512x1024 : Shape := ⟨2, ![512, 1024]⟩

abbrev nBuf : Space → Nat
  | .hbm => 15
  | .vmem => 20
  | .smem => 0
  | _ => 0

abbrev bufTy : (tb : Table) → Fin (tcTables nBuf tb) → BufTy
  | .hbm, ⟨0, _⟩ => ⟨S2048x4096, .f32⟩
  | .hbm, ⟨1, _⟩ => ⟨S2048x1024, .f32⟩
  | .hbm, ⟨2, _⟩ => ⟨S2048x1024, .f32⟩
  | .hbm, ⟨3, _⟩ => ⟨S1024x1024, .f32⟩
  | .hbm, ⟨4, _⟩ => ⟨S2048x1024, .f32⟩
  | .hbm, ⟨5, _⟩ => ⟨S2048x1024, .bf16⟩
  | .hbm, ⟨6, _⟩ => ⟨S1024x1024, .bf16⟩
  | .hbm, ⟨7, _⟩ => ⟨S8x128x1024, .bf16⟩
  | .hbm, ⟨8, _⟩ => ⟨S2048x4096, .bf16⟩
  | .hbm, ⟨9, _⟩ => ⟨S2048x1024, .bf16⟩
  | .hbm, ⟨10, _⟩ => ⟨S2048x1024, .bf16⟩
  | .hbm, ⟨11, _⟩ => ⟨S2048x1024, .bf16⟩
  | .hbm, ⟨12, _⟩ => ⟨S2048x1024, .bf16⟩
  | .hbm, ⟨13, _⟩ => ⟨S2048x1024, .bf16⟩
  | .hbm, ⟨14, _⟩ => ⟨S2048x1024, .bf16⟩
  | .local _ .vmem, ⟨0, _⟩ => ⟨S1024x1024, .bf16⟩
  | .local _ .vmem, ⟨1, _⟩ => ⟨S1024x1024, .bf16⟩
  | .local _ .vmem, ⟨2, _⟩ => ⟨S4x128x1024, .bf16⟩
  | .local _ .vmem, ⟨3, _⟩ => ⟨S4x128x1024, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== MergeRefIdeal.lean ====
abbrev S2048x4096 : Shape := ⟨2, ![2048, 4096]⟩
abbrev S2048x1024 : Shape := ⟨2, ![2048, 1024]⟩
abbrev S1024x1024 : Shape := ⟨2, ![1024, 1024]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S2048x1024, .f32⟩
  | .hbm, ⟨2, _⟩ => ⟨S2048x1024, .f32⟩
  | .hbm, ⟨3, _⟩ => ⟨S1024x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1024, .bf16⟩
  | .hbm, ⟨43, _⟩ => ⟨S2048x1024, .bf16⟩
  | .hbm, ⟨44, _⟩ => ⟨S2048x1024, .bf16⟩
  | .hbm, ⟨45, _⟩ => ⟨S2048x1024, .bf16⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Dh1.lean ====
abbrev S2048x1024 : Shape := ⟨2, ![2048, 1024]⟩
abbrev S1024 : Shape := ⟨1, ![1024]⟩
abbrev S1024x1024 : Shape := ⟨2, ![1024, 1024]⟩
abbrev S1024x5632 : Shape := ⟨2, ![1024, 5632]⟩
abbrev S2048x2816 : Shape := ⟨2, ![2048, 2816]⟩
abbrev S_ : Shape := ⟨0, ![]⟩
abbrev S8x128x1024 : Shape := ⟨3, ![8, 128, 1024]⟩
abbrev S2048x4x704 : Shape := ⟨3, ![2048, 4, 704]⟩
abbrev S4x2048x704 : Shape := ⟨3, ![4, 2048, 704]⟩
abbrev S5632x1024 : Shape := ⟨2, ![5632, 1024]⟩
abbrev S8x704x1024 : Shape := ⟨3, ![8, 704, 1024]⟩
abbrev S1x1024 : Shape := ⟨2, ![1, 1024]⟩
abbrev S256x1024 : Shape := ⟨2, ![256, 1024]⟩
abbrev S4x256x704 : Shape := ⟨3, ![4, 256, 704]⟩
abbrev S1x256x704 : Shape := ⟨3, ![1, 256, 704]⟩
abbrev S256x704 : Shape := ⟨2, ![256, 704]⟩
abbrev S1x704x1024 : Shape := ⟨3, ![1, 704, 1024]⟩
abbrev S704x1024 : Shape := ⟨2, ![704, 1024]⟩
abbrev S256 : Shape := ⟨1, ![256]⟩
abbrev S256x1 : Shape := ⟨2, ![256, 1]⟩

abbrev nBuf : Space → Nat
  | .hbm => 31
  | .vmem => 19
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024, .f32⟩
  | .hbm, ⟨3, _⟩ => ⟨S1024, .f32⟩
  | .hbm, ⟨4, _⟩ => ⟨S1024x1024, .f32⟩
  | .hbm, ⟨5, _⟩ => ⟨S1024x5632, .f32⟩
  | .hbm, ⟨6, _⟩ => ⟨S2048x1024, .f32⟩
  | .hbm, ⟨7, _⟩ => ⟨S2048x1024, .f32⟩
  | .hbm, ⟨8, _⟩ => ⟨S2048x2816, .f32⟩
  | .hbm, ⟨9, _⟩ => ⟨S2048x2816, .f32⟩
  | .hbm, ⟨10, _⟩ => ⟨S_, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S2048x1024, .bf16⟩
  | .hbm, ⟨15, _⟩ => ⟨S1024x1024, .bf16⟩
  | .hbm, ⟨16, _⟩ => ⟨S8x128x1024, .bf16⟩
  | .hbm, ⟨17, _⟩ => ⟨S2048x2816, .bf16⟩
  | .hbm, ⟨18, _⟩ => ⟨S2048x4x704, .bf16⟩
  | .hbm, ⟨19, _⟩ => ⟨S4x2048x704, .bf16⟩
  | .hbm, ⟨20, _⟩ => ⟨S2048x2816, .bf16⟩
  | .hbm, ⟨21, _⟩ => ⟨S2048x4x704, .bf16⟩
  | .hbm, ⟨22, _⟩ => ⟨S4x2048x704, .bf16⟩
  | .hbm, ⟨23, _⟩ => ⟨S1024x5632, .bf16⟩
  | .hbm, ⟨24, _⟩ => ⟨S5632x1024, .bf16⟩
  | .hbm, ⟨25, _⟩ => ⟨S8x704x1024, .bf16⟩
  | .hbm, ⟨26, _⟩ => ⟨S1x1024, .f32⟩
  | .hbm, ⟨27, _⟩ => ⟨S2048x1024, .f32⟩
  | .hbm, ⟨28, _⟩ => ⟨S2048x1024, .bf16⟩
  | .hbm, ⟨29, _⟩ => ⟨S1x1024, .f32⟩
  | .hbm, ⟨30, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S8x128x1024, .bf16⟩
  | .local _ .vmem, ⟨5, _⟩ => ⟨S4x256x704, .bf16⟩
  | .local _ .vmem, ⟨6, _⟩ => ⟨S4x256x704, .bf16⟩
  | .local _ .vmem, ⟨7, _⟩ => ⟨S4x256x704, .bf16⟩
  | .local _ .vmem, ⟨8, _⟩ => ⟨S4x256x704, .bf16⟩
  | .local _ .vmem, ⟨9, _⟩ => ⟨S8x704x1024, .bf16⟩
  | .local _ .vmem, ⟨10, _⟩ => ⟨S256x1024, .f32⟩
  | .local _ .vmem, ⟨11, _⟩ => ⟨S256x1024, .f32⟩
  | .local _ .vmem, ⟨12, _⟩ => ⟨S1x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .bf16⟩
  | .local _ .vmem, ⟨16, _⟩ => ⟨S256x1024, .bf16⟩
  | .local _ .vmem, ⟨17, _⟩ => ⟨S1x1024, .f32⟩
  | .local _ .vmem, ⟨18, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16_0 : Ref sig .tc := ⟨.hbm, 27, rfl⟩
abbrev main_v16_1 : Ref sig .tc := ⟨.hbm, 28, rfl⟩
abbrev main_v16_2 : Ref sig .tc := ⟨.hbm, 29, rfl⟩
abbrev main_v16_3 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x256x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x256x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x704x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Dh1RefIdeal.lean ====
abbrev S2048x1024 : Shape := ⟨2, ![2048, 1024]⟩
abbrev S1024 : Shape := ⟨1, ![1024]⟩
abbrev S1024x1024 : Shape := ⟨2, ![1024, 1024]⟩
abbrev S1024x5632 : Shape := ⟨2, ![1024, 5632]⟩
abbrev S2048x2816 : Shape := ⟨2, ![2048, 2816]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x5632 : Shape := ⟨2, ![2048, 5632]⟩

abbrev nBuf : Space → Nat
  | .hbm => 104
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024, .f32⟩
  | .hbm, ⟨3, _⟩ => ⟨S1024, .f32⟩
  | .hbm, ⟨4, _⟩ => ⟨S1024x1024, .f32⟩
  | .hbm, ⟨5, _⟩ => ⟨S1024x5632, .f32⟩
  | .hbm, ⟨6, _⟩ => ⟨S2048x1024, .f32⟩
  | .hbm, ⟨7, _⟩ => ⟨S2048x1024, .f32⟩
  | .hbm, ⟨8, _⟩ => ⟨S2048x2816, .f32⟩
  | .hbm, ⟨9, _⟩ => ⟨S2048x2816, .f32⟩
  | .hbm, ⟨10, _⟩ => ⟨S_, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S_, .f32⟩
  | .hbm, ⟨15, _⟩ => ⟨S2048, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S_, .f32⟩
  | .hbm, ⟨24, _⟩ => ⟨S2048, .f32⟩
  | .hbm, ⟨25, _⟩ => ⟨S2048x1, .f32⟩
  | .hbm, ⟨26, _⟩ => ⟨S_, .f32⟩
  | .hbm, ⟨27, _⟩ => ⟨S2048x1, .f32⟩
  | .hbm, ⟨28, _⟩ => ⟨S2048x1, .f32⟩
  | .hbm, ⟨29, _⟩ => ⟨S_, .f32⟩
  | .hbm, ⟨30, _⟩ => ⟨S2048x1, .f32⟩
  | .hbm, ⟨31, _⟩ => ⟨S2048x1, .f32⟩
  | .hbm, ⟨32, _⟩ => ⟨S2048x1, .f32⟩
  | .hbm, ⟨33, _⟩ => ⟨S2048x1, .f32⟩
  | .hbm, ⟨34, _⟩ => ⟨S_, .f32⟩
  | .hbm, ⟨35, _⟩ => ⟨S2048x1, .f32⟩
  | .hbm, ⟨36, _⟩ => ⟨S2048x1, .f32⟩
  | .hbm, ⟨37, _⟩ => ⟨S2048x1024, .f32⟩
  | .hbm, ⟨38, _⟩ => ⟨S2048x1024, .f32⟩
  | .hbm, ⟨39, _⟩ => ⟨S1x1024, .f32⟩
  | .hbm, ⟨40, _⟩ => ⟨S2048x1024, .f32⟩
  | .hbm, ⟨41, _⟩ => ⟨S2048x1024, .f32⟩
  | .hbm, ⟨42, _⟩ => ⟨S1x1024, .f32⟩
  | .hbm, ⟨43, _⟩ => ⟨S2048x1024, .f32⟩
  | .hbm, ⟨44, _⟩ => ⟨S2048x1024, .f32⟩
  | .hbm, ⟨45, _⟩ => ⟨S2048x5632, .f32⟩
  | .hbm, ⟨46, _⟩ => ⟨S2048x2816, .f32⟩
  | .hbm, ⟨47, _⟩ => ⟨S2048x2816, .f32⟩
  | .hbm, ⟨48, _⟩ => ⟨S_, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S_, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S2048x5632, .f32⟩
  | .hbm, ⟨58, _⟩ => ⟨S2048x1024, .f32⟩
  | .hbm, ⟨59, _⟩ => ⟨S2048x1024, .f32⟩
  | .hbm, ⟨60, _⟩ => ⟨S_, .f32⟩
  | .hbm, ⟨61, _⟩ => ⟨S1024, .f32⟩
  | .hbm, ⟨62, _⟩ => ⟨S1x1024, .f32⟩
  | .hbm, ⟨63, _⟩ => ⟨S_, .f32⟩
  | .hbm, ⟨64, _⟩ => ⟨S1024, .f32⟩
  | .hbm, ⟨65, _⟩ => ⟨S2048x1024, .f32⟩
  | .hbm, ⟨66, _⟩ => ⟨S_, .f32⟩
  | .hbm, ⟨67, _⟩ => ⟨S1024, .f32⟩
  | .hbm, ⟨68, _⟩ => ⟨S1x1024, .f32⟩
  | .hbm, ⟨69, _⟩ => ⟨S2048x1024, .f32⟩
  | .hbm, ⟨70, _⟩ => ⟨S2048x1024, .f32⟩
  | .hbm, ⟨71, _⟩ => ⟨S_, .f32⟩
  | .hbm, ⟨72, _⟩ => ⟨S1024, .f32⟩
  | .hbm, ⟨73, _⟩ => ⟨S2048x1024, .f32⟩
  | .hbm, ⟨74, _⟩ => ⟨S_, .f32⟩
  | .hbm, ⟨75, _⟩ => ⟨S2048, .f32⟩
  | .hbm, ⟨76, _⟩ => ⟨S2048x1, .f32⟩
  | .hbm, ⟨77, _⟩ => ⟨S2048x1024, .f32⟩
  | .hbm, ⟨78, _⟩ => ⟨S2048x1024, .f32⟩
  | .hbm, ⟨79, _⟩ => ⟨S2048x1, .f32⟩
  | .hbm, ⟨80, _⟩ => ⟨S_, .f32⟩
  | .hbm, ⟨81, _⟩ => ⟨S2048x1, .f32⟩
  | .hbm, ⟨82, _⟩ => ⟨S2048x1, .f32⟩
  | .hbm, ⟨83, _⟩ => ⟨S_, .f32⟩
  | .hbm, ⟨84, _⟩ => ⟨S2048, .f32⟩
  | .hbm, ⟨85, _⟩ => ⟨S2048x1024, .f32⟩
  | .hbm, ⟨86, _⟩ => ⟨S2048x1024, .f32⟩
  | .hbm, ⟨87, _⟩ => ⟨S2048x1024, .f32⟩
  | .hbm, ⟨88, _⟩ => ⟨S2048x1024, .f32⟩
  | .hbm, ⟨89, _⟩ => ⟨S2048x1024, .f32⟩
  | .hbm, ⟨90, _⟩ => ⟨S2048x1024, .f32⟩
  | .hbm, ⟨91, _⟩ => ⟨S_, .f32⟩
  | .hbm, ⟨92, _⟩ => ⟨S2048, .f32⟩
  | .hbm, ⟨93, _⟩ => ⟨S2048x1, .f32⟩
  | .hbm, ⟨94, _⟩ => ⟨S_, .f32⟩
  | .hbm, ⟨95, _⟩ => ⟨S2048x1, .f32⟩
  | .hbm, ⟨96, _⟩ => ⟨S2048x1, .f32⟩
  | .hbm, ⟨97, _⟩ => ⟨S_, .f32⟩
  | .hbm, ⟨98, _⟩ => ⟨S2048, .f32⟩
  | .hbm, ⟨99, _⟩ => ⟨S2048x1024, .f32⟩
  | .hbm, ⟨100, _⟩ => ⟨S2048x1024, .f32⟩
  | .hbm, ⟨101, _⟩ => ⟨S2048x1024, .bf16⟩
  | .hbm, ⟨102, _⟩ => ⟨S1x1024, .f32⟩
  | .hbm, ⟨103, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_cst_3 : Ref sig .tc := ⟨.hbm, 26, rfl⟩
abbrev main_v12 : Ref sig .tc := ⟨.hbm, 27, rfl⟩
abbrev main_v13 : Ref sig .tc := ⟨.hbm, 28, rfl⟩
abbrev main_cst_4 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_6 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩
abbrev main_v44 : Ref sig .tc := ⟨.hbm, 65, rfl⟩
abbrev main_cst_10 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_11 : Ref sig .tc := ⟨.hbm, 71, rfl⟩
abbrev main_v49 : Ref sig .tc := ⟨.hbm, 72, rfl⟩
abbrev main_v50 : Ref sig .tc := ⟨.hbm, 73, rfl⟩
abbrev main_cst_12 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_13 : Ref sig .tc := ⟨.hbm, 80, rfl⟩
abbrev main_v56 : Ref sig .tc := ⟨.hbm, 81, rfl⟩
abbrev main_v57 : Ref sig .tc := ⟨.hbm, 82, rfl⟩
abbrev main_cst_14 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_15 : Ref sig .tc := ⟨.hbm, 91, rfl⟩
abbrev main_v65 : Ref sig .tc := ⟨.hbm, 92, rfl⟩
abbrev main_v66 : Ref sig .tc := ⟨.hbm, 93, rfl⟩
abbrev main_cst_16 : Ref sig .tc := ⟨.hbm, 94, rfl⟩
abbrev main_v67 : Ref sig .tc := ⟨.hbm, 95, rfl⟩
abbrev main_v68 : Ref sig .tc := ⟨.hbm, 96, rfl⟩
abbrev main_cst_17 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩

abbrev nD : Nat := 1
abbrev τ : Topo := Topo.v7x

variable {F : FTy → Type} [FloatOps F]
-- ==== Ffn.lean ====
abbrev S2048x5632 : Shape := ⟨2, ![2048, 5632]⟩
abbrev S3x2816 : Shape := ⟨2, ![3, 2816]⟩
abbrev S2816 : Shape := ⟨1, ![2816]⟩
abbrev S2816x1024 : Shape := ⟨2, ![2816, 1024]⟩
abbrev S2048x1024 : Shape := ⟨2, ![2048, 1024]⟩
abbrev S2048x8x704 : Shape := ⟨3, ![2048, 8, 704]⟩
abbrev S8x2048x704 : Shape := ⟨3, ![8, 2048, 704]⟩
abbrev S8x352x1024 : Shape := ⟨3, ![8, 352, 1024]⟩
abbrev S3x4x704 : Shape := ⟨3, ![3, 4, 704]⟩
abbrev S4x3x704 : Shape := ⟨3, ![4, 3, 704]⟩
abbrev S4x1x704 : Shape := ⟨3, ![4, 1, 704]⟩
abbrev S4x2048x704 : Shape := ⟨3, ![4, 2048, 704]⟩
abbrev S512x1024 : Shape := ⟨2, ![512, 1024]⟩
abbrev S16x1024 : Shape := ⟨2, ![16, 1024]⟩
abbrev S2x352x1024 : Shape := ⟨3, ![2, 352, 1024]⟩
abbrev S1x512x704 : Shape := ⟨3, ![1, 512, 704]⟩
abbrev S1x16x704 : Shape := ⟨3, ![1, 16, 704]⟩
abbrev S1x3x704 : Shape := ⟨3, ![1, 3, 704]⟩
abbrev S1x1x704 : Shape := ⟨3, ![1, 1, 704]⟩
abbrev S3x704 : Shape := ⟨2, ![3, 704]⟩
abbrev S1x704 : Shape := ⟨2, ![1, 704]⟩
abbrev S704x1024 : Shape := ⟨2, ![704, 1024]⟩
abbrev S512x704 : Shape := ⟨2, ![512, 704]⟩
abbrev S16x704 : Shape := ⟨2, ![16, 704]⟩
abbrev S512x1 : Shape := ⟨2, ![512, 1]⟩
abbrev S16x1 : Shape := ⟨2, ![16, 1]⟩
abbrev S704 : Shape := ⟨1, ![704]⟩

abbrev nBuf : Space → Nat
  | .hbm => 18
  | .vmem => 32
  | .smem => 0
  | _ => 0

abbrev bufTy : (tb : Table) → Fin (tcTables nBuf tb) → BufTy
  | .hbm, ⟨0, _⟩ => ⟨S2048x5632, .f32⟩
  | .hbm, ⟨1, _⟩ => ⟨S3x2816, .f32⟩
  | .hbm, ⟨2, _⟩ => ⟨S2816, .f32⟩
  | .hbm, ⟨3, _⟩ => ⟨S2816x1024, .f32⟩
  | .hbm, ⟨4, _⟩ => ⟨S2048x1024, .f32⟩
  | .hbm, ⟨5, _⟩ => ⟨S2048x5632, .bf16⟩
  | .hbm, ⟨6, _⟩ => ⟨S2048x8x704, .bf16⟩
  | .hbm, ⟨7, _⟩ => ⟨S8x2048x704, .bf16⟩
  | .hbm, ⟨8, _⟩ => ⟨S2048x1024, .bf16⟩
  | .hbm, ⟨9, _⟩ => ⟨S2816x1024, .bf16⟩
  | .hbm, ⟨10, _⟩ => ⟨S8x352x1024, .bf16⟩
  | .hbm, ⟨11, _⟩ => ⟨S3x4x704, .f32⟩
  | .hbm, ⟨12, _⟩ => ⟨S4x3x704, .f32⟩
  | .hbm, ⟨13, _⟩ => ⟨S4x1x704, .f32⟩
  | .hbm, ⟨14, _⟩ => ⟨S4x2048x704, .bf16⟩
  | .hbm, ⟨15, _⟩ => ⟨S4x2048x704, .bf16⟩
  | .hbm, ⟨16, _⟩ => ⟨S4x3x704, .f32⟩
  | .hbm, ⟨17, _⟩ => ⟨S4x1x704, .f32⟩
  | .local _ .vmem, ⟨0, _⟩ => ⟨S512x1024, .bf16⟩
  | .local _ .vmem, ⟨1, _⟩ => ⟨S512x1024, .bf16⟩
  | .local _ .vmem, ⟨2, _⟩ => ⟨S16x1024, .bf16⟩
  | .local _ .vmem, ⟨3, _⟩ => ⟨S16x1024, .bf16⟩
  | .local _ .vmem, ⟨4, _⟩ => ⟨S16x1024, .bf16⟩
  | .local _ .vmem, ⟨5, _⟩ => ⟨S16x1024, .bf16⟩
  | .local _ .vmem, ⟨6, _⟩ => ⟨S2x352x1024, .bf16⟩
  | .local _ .vmem, ⟨7, _⟩ => ⟨S2x352x1024, .bf16⟩
  | .local _ .vmem, ⟨8, _⟩ => ⟨S1x512x704, .bf16⟩
  | .local _ .vmem, ⟨9, _⟩ => ⟨S1x512x704, .bf16⟩
  | .local _ .vmem, ⟨10, _⟩ => ⟨S1x16x704, .bf16⟩
  | .local _ .vmem, ⟨11, _⟩ => ⟨S1x16x704, .bf16⟩
  | .local _ .vmem, ⟨12, _⟩ => ⟨S1x16x704, .bf16⟩
  | .local _ .vmem, ⟨13, _⟩ => ⟨S1x16x704, .bf16⟩
  | .local _ .vmem, ⟨14, _⟩ => ⟨S1x512x704, .bf16⟩
  | .local _ .vmem, ⟨15, _⟩ => ⟨S1x512x704, .bf16⟩
  | .local _ .vmem, ⟨16, _⟩ => ⟨S1x16x704, .bf16⟩
  | .local _ .vmem, ⟨17, _⟩ => ⟨S1x16x704, .bf16⟩
  | .local _ .vmem, ⟨18, _⟩ => ⟨S1x16x704, .bf16⟩
  | .local _ .vmem, ⟨19, _⟩ => ⟨S1x16x704, .bf16⟩
  | .local _ .vmem, ⟨20, _⟩ => ⟨S1x3x704, .f32⟩
  | .local _ .vmem, ⟨21, _⟩ => ⟨S1x3x704, .f32⟩
  | .local _ .vmem, ⟨22, _⟩ => ⟨S1x1x704, .f32⟩
  | .local _ .vmem, ⟨23, _⟩ => ⟨S1x1x704, .f32⟩
  | .local _ .vmem, ⟨24, _⟩ => ⟨S1x512x704, .bf16⟩
  | .local _ .vmem, ⟨25, _⟩ => ⟨S1x512x704, .bf16⟩
  | .local _ .vmem, ⟨26, _⟩ => ⟨S1x512x704, .bf16⟩
  | .local _ .vmem, ⟨27, _⟩ => ⟨S1x512x704, .bf16⟩
  | .local _ .vmem, ⟨28, _⟩ => ⟨S1x3x704, .f32⟩
  | .local _ .vmem, ⟨29, _⟩ => ⟨S1x3x704, .f32⟩
  | .local _ .vmem, ⟨30, _⟩ => ⟨S1x1x704, .f32⟩
  | .local _ .vmem, ⟨31, _⟩ => ⟨S1x1x704, .f32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev main_v9_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c127_i32 : BitVec 32 := 127#32
  let v2 : BitVec 32 := Scalar.minsi v1 c127_i32
  let c0_i32 : BitVec 32 := 0#32
  let c0_i32_0 : BitVec 32 := 0#32
  ![arg0.toNat, v2.toNat, c0_i32.toNat]

def cc0_transform_7 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![v0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c32_i32 : BitVec 32 := 32#32
  let v1 : BitVec 32 := Scalar.muli arg1 c32_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v0.toNat, v3.toNat, c0_i32_0.toNat]

def cc0_transform_9 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c1_i32 : BitVec 32 := 1#32
  let v1 : BitVec 32 := Scalar.addi arg1 c1_i32
  let c32_i32 : BitVec 32 := 32#32
  let v2 : BitVec 32 := Scalar.muli v1 c32_i32
  let c127_i32 : BitVec 32 := 127#32
  let v3 : BitVec 32 := Scalar.minsi v2 c127_i32
  let c0_i32 : BitVec 32 := 0#32
  let c0_i32_0 : BitVec 32 := 0#32
  ![v0.toNat, v3.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2x352x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x16x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x16x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x3x704 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1x704 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x512x704 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x704 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x3x704 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x1x704 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]
-- ==== FfnIdeal.lean ====
variable {F : FTy → Type} [FloatOps F] [Named F]
def κ : String → Option EReal := fun
  | "inv_sqrt_2pi" => some (((Real.sqrt (2 * Real.pi))⁻¹ : ℝ) : EReal)
  | "sqrt_half" => some (((Real.sqrt 2)⁻¹ : ℝ) : EReal)
  | "two_inv_sqrt_pi" => some ((2 * (Real.sqrt Real.pi)⁻¹ : ℝ) : EReal)
  | _ => none
-- ==== FfnRefIdeal.lean ====
abbrev S2048x5632 : Shape := ⟨2, ![2048, 5632]⟩
abbrev S3x2816 : Shape := ⟨2, ![3, 2816]⟩
abbrev S2816 : Shape := ⟨1, ![2816]⟩
abbrev S2816x1024 : Shape := ⟨2, ![2816, 1024]⟩
abbrev S2048x1024 : Shape := ⟨2, ![2048, 1024]⟩
abbrev S1x2816 : Shape := ⟨2, ![1, 2816]⟩
abbrev S4x2048x704 : Shape := ⟨3, ![4, 2048, 704]⟩
abbrev S4x3x704 : Shape := ⟨3, ![4, 3, 704]⟩
abbrev S4x1x704 : Shape := ⟨3, ![4, 1, 704]⟩
abbrev S2048x2816 : Shape := ⟨2, ![2048, 2816]⟩
abbrev S2050x2816 : Shape := ⟨2, ![2050, 2816]⟩
abbrev S2x2816 : Shape := ⟨2, ![2, 2816]⟩
abbrev S2049x2816 : Shape := ⟨2, ![2049, 2816]⟩
abbrev S2048x704 : Shape := ⟨2, ![2048, 704]⟩
abbrev S1x2048x704 : Shape := ⟨3, ![1, 2048, 704]⟩
abbrev S3x704 : Shape := ⟨2, ![3, 704]⟩
abbrev S1x3x704 : Shape := ⟨3, ![1, 3, 704]⟩
abbrev S1x704 : Shape := ⟨2, ![1, 704]⟩
abbrev S1x1x704 : Shape := ⟨3, ![1, 1, 704]⟩

abbrev nBuf : Space → Nat
  | .hbm => 10
  | .vmem => 9
  | .smem => 0
  | _ => 0

abbrev bufTy : (tb : Table) → Fin (tcTables nBuf tb) → BufTy
  | .hbm, ⟨0, _⟩ => ⟨S2048x5632, .f32⟩
  | .hbm, ⟨1, _⟩ => ⟨S3x2816, .f32⟩
  | .hbm, ⟨2, _⟩ => ⟨S2816, .f32⟩
  | .hbm, ⟨3, _⟩ => ⟨S2816x1024, .f32⟩
  | .hbm, ⟨4, _⟩ => ⟨S2048x1024, .f32⟩
  | .hbm, ⟨5, _⟩ => ⟨S1x2816, .f32⟩
  | .hbm, ⟨6, _⟩ => ⟨S4x2048x704, .bf16⟩
  | .hbm, ⟨7, _⟩ => ⟨S4x2048x704, .bf16⟩
  | .hbm, ⟨8, _⟩ => ⟨S4x3x704, .f32⟩
  | .hbm, ⟨9, _⟩ => ⟨S4x1x704, .f32⟩
  | .local _ .vmem, ⟨0, _⟩ => ⟨S2048x5632, .f32⟩
  | .local _ .vmem, ⟨1, _⟩ => ⟨S3x2816, .f32⟩
  | .local _ .vmem, ⟨2, _⟩ => ⟨S1x2816, .f32⟩
  | .local _ .vmem, ⟨3, _⟩ => ⟨S2816x1024, .f32⟩
  | .local _ .vmem, ⟨4, _⟩ => ⟨S2048x1024, .f32⟩
  | .local _ .vmem, ⟨5, _⟩ => ⟨S4x2048x704, .bf16⟩
  | .local _ .vmem, ⟨6, _⟩ => ⟨S4x2048x704, .bf16⟩
  | .local _ .vmem, ⟨7, _⟩ => ⟨S4x3x704, .f32⟩
  | .local _ .vmem, ⟨8, _⟩ => ⟨S4x1x704, .f32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F] [Named F]

def κ : String → Option EReal := fun
  | "inv_sqrt_2pi" => some (((Real.sqrt (2 * Real.pi))⁻¹ : ℝ) : EReal)
  | "sqrt_half" => some (((Real.sqrt 2)⁻¹ : ℝ) : EReal)
  | "two_inv_sqrt_pi" => some ((2 * (Real.sqrt Real.pi)⁻¹ : ℝ) : EReal)
  | _ => none

abbrev grid0 : Pipeline.Grid := .none

abbrev stage0_0 : Fin 1 → Memref sig .tc .vmem S2048x5632 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x2816 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2816x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x2048x704 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x2048x704 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x3x704 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x1x704 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Pool.lean ====
abbrev S2048x512 : Shape := ⟨2, ![2048, 512]⟩
abbrev S4x128x128 : Shape := ⟨3, ![4, 128, 128]⟩
abbrev S512 : Shape := ⟨1, ![512]⟩
abbrev S512x1024 : Shape := ⟨2, ![512, 1024]⟩
abbrev S2048x1024 : Shape := ⟨2, ![2048, 1024]⟩
abbrev S1x2048x512 : Shape := ⟨3, ![1, 2048, 512]⟩
abbrev S_ : Shape := ⟨0, ![]⟩
abbrev S1x1x512 : Shape := ⟨3, ![1, 1, 512]⟩
abbrev S1x2049x512 : Shape := ⟨3, ![1, 2049, 512]⟩
abbrev S2048 : Shape := ⟨1, ![2048]⟩
abbrev S1x2049x128 : Shape := ⟨3, ![1, 2049, 128]⟩
abbrev S2048x1 : Shape := ⟨2, ![2048, 1]⟩
abbrev S1x2048x128 : Shape := ⟨3, ![1, 2048, 128]⟩
abbrev S1x2048x1 : Shape := ⟨3, ![1, 2048, 1]⟩
abbrev S512x8x128 : Shape := ⟨3, ![512, 8, 128]⟩
abbrev S8x512x128 : Shape := ⟨3, ![8, 512, 128]⟩
abbrev S1x512 : Shape := ⟨2, ![1, 512]⟩
abbrev S1x512x128 : Shape := ⟨3, ![1, 512, 128]⟩
abbrev S512x128 : Shape := ⟨2, ![512, 128]⟩
abbrev S128x1024 : Shape := ⟨2, ![128, 1024]⟩
abbrev S2048x128 : Shape := ⟨2, ![2048, 128]⟩
abbrev S1x128x128 : Shape := ⟨3, ![1, 128, 128]⟩
abbrev S128x128 : Shape := ⟨2, ![128, 128]⟩
abbrev S128 : Shape := ⟨1, ![128]⟩
abbrev S1x128 : Shape := ⟨2, ![1, 128]⟩
abbrev S8x128 : Shape := ⟨2, ![8, 128]⟩
abbrev S2064x128 : Shape := ⟨2, ![2064, 128]⟩

abbrev nBuf : Space → Nat
  | .hbm => 221
  | .vmem => 8
  | .smem => 0
  | _ => 0

abbrev hbmTy0_0 (i : Nat) : BufTy := match i % 128 with
  | 0 => ⟨S2048x512, .f32⟩
  | 1 => ⟨S4x128x128, .f32⟩
  | 2 => ⟨S512, .f32⟩
  | 3 => ⟨S512x1024, .f32⟩
  | 4 => ⟨S2048x1024, .f32⟩
  | 5 => ⟨S1x2048x512, .f32⟩
  | 6 => ⟨S_, .f32⟩
  | 7 => ⟨S1x1x512, .f32⟩
  | 8 => ⟨S_, .f32⟩
  | 9 => ⟨S_, .f32⟩
  | 10 => ⟨S1x2048x512, .f32⟩
  | 11 => ⟨S1x2049x512, .f32⟩
  | 12 => ⟨S2048, .i32⟩
  | 13 => ⟨S_, .i32⟩
  | 14 => ⟨S2048, .i32⟩
  | 15 => ⟨S2048, .i32⟩
  | 16 => ⟨S_, .i32⟩
  | 17 => ⟨S_, .i32⟩
  | 18 => ⟨S_, .i32⟩
  | 19 => ⟨S2048, .i32⟩
  | 20 => ⟨S2048, .i32⟩
  | 21 => ⟨S_, .i32⟩
  | 22 => ⟨S2048, .i32⟩
  | 23 => ⟨S2048, .i32⟩
  | 24 => ⟨S_, .i32⟩
  | 25 => ⟨S2048, .i32⟩
  | 26 => ⟨S2048, .i32⟩
  | 27 => ⟨S_, .i32⟩
  | 28 => ⟨S_, .i32⟩
  | 29 => ⟨S_, .i32⟩
  | 30 => ⟨S2048, .i32⟩
  | 31 => ⟨S2048, .i32⟩
  | 32 => ⟨S_, .i32⟩
  | 33 => ⟨S2048, .i32⟩
  | 34 => ⟨S2048, .i32⟩
  | 35 => ⟨S2048, .i32⟩
  | 36 => ⟨S2048, .f32⟩
  | 37 => ⟨S1x2049x128, .f32⟩
  | 38 => ⟨S_, .i32⟩
  | 39 => ⟨S2048, .i32⟩
  | 40 => ⟨S2048, .i1⟩
  | 41 => ⟨S_, .i32⟩
  | 42 => ⟨S2048, .i32⟩
  | 43 => ⟨S2048, .i32⟩
  | 44 => ⟨S2048, .i32⟩
  | 45 => ⟨S2048x1, .i32⟩
  | 46 => ⟨S1x2048x128, .f32⟩
  | 47 => ⟨S_, .i32⟩
  | 48 => ⟨S2048, .i32⟩
  | 49 => ⟨S2048, .i1⟩
  | 50 => ⟨S_, .i32⟩
  | 51 => ⟨S2048, .i32⟩
  | 52 => ⟨S2048, .i32⟩
  | 53 => ⟨S2048, .i32⟩
  | 54 => ⟨S2048x1, .i32⟩
  | 55 => ⟨S1x2048x128, .f32⟩
  | 56 => ⟨S1x2048x128, .f32⟩
  | 57 => ⟨S1x2048x1, .f32⟩
  | 58 => ⟨S1x2048x128, .f32⟩
  | 59 => ⟨S1x2048x128, .f32⟩
  | 60 => ⟨S1x2048x128, .f32⟩
  | 61 => ⟨S1x2048x128, .f32⟩
  | 62 => ⟨S_, .i32⟩
  | 63 => ⟨S2048, .i32⟩
  | 64 => ⟨S2048, .i32⟩
  | 65 => ⟨S_, .i32⟩
  | 66 => ⟨S_, .i32⟩
  | 67 => ⟨S_, .i32⟩
  | 68 => ⟨S2048, .i32⟩
  | 69 => ⟨S2048, .i32⟩
  | 70 => ⟨S_, .i32⟩
  | 71 => ⟨S2048, .i32⟩
  | 72 => ⟨S2048, .i32⟩
  | 73 => ⟨S_, .i32⟩
  | 74 => ⟨S2048, .i32⟩
  | 75 => ⟨S2048, .i32⟩
  | 76 => ⟨S_, .i32⟩
  | 77 => ⟨S_, .i32⟩
  | 78 => ⟨S_, .i32⟩
  | 79 => ⟨S2048, .i32⟩
  | 80 => ⟨S2048, .i32⟩
  | 81 => ⟨S_, .i32⟩
  | 82 => ⟨S2048, .i32⟩
  | 83 => ⟨S2048, .i32⟩
  | 84 => ⟨S2048, .i32⟩
  | 85 => ⟨S2048, .f32⟩
  | 86 => ⟨S1x2049x128, .f32⟩
  | 87 => ⟨S_, .i32⟩
  | 88 => ⟨S2048, .i32⟩
  | 89 => ⟨S2048, .i1⟩
  | 90 => ⟨S_, .i32⟩
  | 91 => ⟨S2048, .i32⟩
  | 92 => ⟨S2048, .i32⟩
  | 93 => ⟨S2048, .i32⟩
  | 94 => ⟨S2048x1, .i32⟩
  | 95 => ⟨S1x2048x128, .f32⟩
  | 96 => ⟨S_, .i32⟩
  | 97 => ⟨S2048, .i32⟩
  | 98 => ⟨S2048, .i1⟩
  | 99 => ⟨S_, .i32⟩
  | 100 => ⟨S2048, .i32⟩
  | 101 => ⟨S2048, .i32⟩
  | 102 => ⟨S2048, .i32⟩
  | 103 => ⟨S2048x1, .i32⟩
  | 104 => ⟨S1x2048x128, .f32⟩
  | 105 => ⟨S1x2048x128, .f32⟩
  | 106 => ⟨S1x2048x1, .f32⟩
  | 107 => ⟨S1x2048x128, .f32⟩
  | 108 => ⟨S1x2048x128, .f32⟩
  | 109 => ⟨S1x2048x128, .f32⟩
  | 110 => ⟨S1x2048x128, .f32⟩
  | 111 => ⟨S_, .i32⟩
  | 112 => ⟨S2048, .i32⟩
  | 113 => ⟨S2048, .i32⟩
  | 114 => ⟨S_, .i32⟩
  | 115 => ⟨S_, .i32⟩
  | 116 => ⟨S_, .i32⟩
  | 117 => ⟨S2048, .i32⟩
  | 118 => ⟨S2048, .i32⟩
  | 119 => ⟨S_, .i32⟩
  | 120 => ⟨S2048, .i32⟩
  | 121 => ⟨S2048, .i32⟩
  | 122 => ⟨S_, .i32⟩
  | 123 => ⟨S2048, .i32⟩
  | 124 => ⟨S2048, .i32⟩
  | 125 => ⟨S_, .i32⟩
  | 126 => ⟨S_, .i32⟩
  | 127 => ⟨S_, .i32⟩
  | _ => ⟨S2048x512, .f32⟩

abbrev hbmTy0_1 (i : Nat) : BufTy := match i % 128 with
  | 0 => ⟨S2048, .i32⟩
  | 1 => ⟨S2048, .i32⟩
  | 2 => ⟨S_, .i32⟩
  | 3 => ⟨S2048, .i32⟩
  | 4 => ⟨S2048, .i32⟩
  | 5 => ⟨S2048, .i32⟩
  | 6 => ⟨S2048, .f32⟩
  | 7 => ⟨S1x2049x128, .f32⟩
  | 8 => ⟨S_, .i32⟩
  | 9 => ⟨S2048, .i32⟩
  | 10 => ⟨S2048, .i1⟩
  | 11 => ⟨S_, .i32⟩
  | 12 => ⟨S2048, .i32⟩
  | 13 => ⟨S2048, .i32⟩
  | 14 => ⟨S2048, .i32⟩
  | 15 => ⟨S2048x1, .i32⟩
  | 16 => ⟨S1x2048x128, .f32⟩
  | 17 => ⟨S_, .i32⟩
  | 18 => ⟨S2048, .i32⟩
  | 19 => ⟨S2048, .i1⟩
  | 20 => ⟨S_, .i32⟩
  | 21 => ⟨S2048, .i32⟩
  | 22 => ⟨S2048, .i32⟩
  | 23 => ⟨S2048, .i32⟩
  | 24 => ⟨S2048x1, .i32⟩
  | 25 => ⟨S1x2048x128, .f32⟩
  | 26 => ⟨S1x2048x128, .f32⟩
  | 27 => ⟨S1x2048x1, .f32⟩
  | 28 => ⟨S1x2048x128, .f32⟩
  | 29 => ⟨S1x2048x128, .f32⟩
  | 30 => ⟨S1x2048x128, .f32⟩
  | 31 => ⟨S1x2048x128, .f32⟩
  | 32 => ⟨S_, .i32⟩
  | 33 => ⟨S2048, .i32⟩
  | 34 => ⟨S2048, .i32⟩
  | 35 => ⟨S_, .i32⟩
  | 36 => ⟨S_, .i32⟩
  | 37 => ⟨S_, .i32⟩
  | 38 => ⟨S2048, .i32⟩
  | 39 => ⟨S2048, .i32⟩
  | 40 => ⟨S_, .i32⟩
  | 41 => ⟨S2048, .i32⟩
  | 42 => ⟨S2048, .i32⟩
  | 43 => ⟨S_, .i32⟩
  | 44 => ⟨S2048, .i32⟩
  | 45 => ⟨S2048, .i32⟩
  | 46 => ⟨S_, .i32⟩
  | 47 => ⟨S_, .i32⟩
  | 48 => ⟨S_, .i32⟩
  | 49 => ⟨S2048, .i32⟩
  | 50 => ⟨S2048, .i32⟩
  | 51 => ⟨S_, .i32⟩
  | 52 => ⟨S2048, .i32⟩
  | 53 => ⟨S2048, .i32⟩
  | 54 => ⟨S2048, .i32⟩
  | 55 => ⟨S2048, .f32⟩
  | 56 => ⟨S1x2049x128, .f32⟩
  | 57 => ⟨S_, .i32⟩
  | 58 => ⟨S2048, .i32⟩
  | 59 => ⟨S2048, .i1⟩
  | 60 => ⟨S_, .i32⟩
  | 61 => ⟨S2048, .i32⟩
  | 62 => ⟨S2048, .i32⟩
  | 63 => ⟨S2048, .i32⟩
  | 64 => ⟨S2048x1, .i32⟩
  | 65 => ⟨S1x2048x128, .f32⟩
  | 66 => ⟨S_, .i32⟩
  | 67 => ⟨S2048, .i32⟩
  | 68 => ⟨S2048, .i1⟩
  | 69 => ⟨S_, .i32⟩
  | 70 => ⟨S2048, .i32⟩
  | 71 => ⟨S2048, .i32⟩
  | 72 => ⟨S2048, .i32⟩
  | 73 => ⟨S2048x1, .i32⟩
  | 74 => ⟨S1x2048x128, .f32⟩
  | 75 => ⟨S1x2048x128, .f32⟩
  | 76 => ⟨S1x2048x1, .f32⟩
  | 77 => ⟨S1x2048x128, .f32⟩
  | 78 => ⟨S1x2048x128, .f32⟩
  | 79 => ⟨S1x2048x128, .f32⟩
  | 80 => ⟨S1x2048x128, .f32⟩
  | 81 => ⟨S1x2048x512, .f32⟩
  | 82 => ⟨S2048x512, .f32⟩
  | 83 => ⟨S2048x512, .bf16⟩
  | 84 => ⟨S2048x1024, .bf16⟩
  | 85 => ⟨S512x1024, .bf16⟩
  | 86 => ⟨S512x8x128, .bf16⟩
  | 87 => ⟨S8x512x128, .bf16⟩
  | 88 => ⟨S4x128x128, .bf16⟩
  | 89 => ⟨S1x512, .f32⟩
  | 90 => ⟨S2048x512, .bf16⟩
  | 91 => ⟨S4x128x128, .f32⟩
  | 92 => ⟨S1x512, .f32⟩
  | _ => ⟨S2048x512, .f32⟩

abbrev hbmTy (i : Nat) : BufTy := match i / 128 with
  | 0 => hbmTy0_0 i
  | 1 => hbmTy0_1 i
  | _ => ⟨S2048x512, .f32⟩

abbrev bufTy : (tb : Table) → Fin (tcTables nBuf tb) → BufTy
  | .hbm, ⟨i, _⟩ => hbmTy i
  | .local _ .vmem, ⟨0, _⟩ => ⟨S2048x1024, .bf16⟩
  | .local _ .vmem, ⟨1, _⟩ => ⟨S8x512x128, .bf16⟩
  | .local _ .vmem, ⟨2, _⟩ => ⟨S2048x512, .bf16⟩
  | .local _ .vmem, ⟨3, _⟩ => ⟨S4x128x128, .bf16⟩
  | .local _ .vmem, ⟨4, _⟩ => ⟨S1x512, .f32⟩
  | .local _ .vmem, ⟨5, _⟩ => ⟨S2048x512, .bf16⟩
  | .local _ .vmem, ⟨6, _⟩ => ⟨S4x128x128, .f32⟩
  | .local _ .vmem, ⟨7, _⟩ => ⟨S1x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_call0_call0_cst : Ref sig .tc := ⟨.hbm, 8, rfl⟩
abbrev main_call0_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_c_1 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v7 : Ref sig .tc := ⟨.hbm, 23, rfl⟩
abbrev main_c_2 : Ref sig .tc := ⟨.hbm, 24, rfl⟩
abbrev main_v8 : Ref sig .tc := ⟨.hbm, 25, rfl⟩
abbrev main_v9 : Ref sig .tc := ⟨.hbm, 26, rfl⟩
abbrev main_c_3 : Ref sig .tc := ⟨.hbm, 27, rfl⟩
abbrev main_c_4 : Ref sig .tc := ⟨.hbm, 28, rfl⟩
abbrev main_call2_v0 : Ref sig .tc := ⟨.hbm, 29, rfl⟩
abbrev main_call2_v1 : Ref sig .tc := ⟨.hbm, 30, rfl⟩
abbrev main_call2_v2 : Ref sig .tc := ⟨.hbm, 31, rfl⟩
abbrev main_call2_v3 : Ref sig .tc := ⟨.hbm, 32, rfl⟩
abbrev main_call2_v4 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_c_5 : Ref sig .tc := ⟨.hbm, 38, rfl⟩
abbrev main_v14 : Ref sig .tc := ⟨.hbm, 39, rfl⟩
abbrev main_v15 : Ref sig .tc := ⟨.hbm, 40, rfl⟩
abbrev main_c_6 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_c_7 : Ref sig .tc := ⟨.hbm, 47, rfl⟩
abbrev main_v21 : Ref sig .tc := ⟨.hbm, 48, rfl⟩
abbrev main_v22 : Ref sig .tc := ⟨.hbm, 49, rfl⟩
abbrev main_c_8 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_c_9 : Ref sig .tc := ⟨.hbm, 62, rfl⟩
abbrev main_v34 : Ref sig .tc := ⟨.hbm, 63, rfl⟩
abbrev main_v35 : Ref sig .tc := ⟨.hbm, 64, rfl⟩
abbrev main_c_10 : Ref sig .tc := ⟨.hbm, 65, rfl⟩
abbrev main_c_11 : Ref sig .tc := ⟨.hbm, 66, rfl⟩
abbrev main_call3_v0 : Ref sig .tc := ⟨.hbm, 67, rfl⟩
abbrev main_call3_v1 : Ref sig .tc := ⟨.hbm, 68, rfl⟩
abbrev main_call3_v2 : Ref sig .tc := ⟨.hbm, 69, rfl⟩
abbrev main_call3_v3 : Ref sig .tc := ⟨.hbm, 70, rfl⟩
abbrev main_call3_v4 : Ref sig .tc := ⟨.hbm, 71, rfl⟩
abbrev main_v36 : Ref sig .tc := ⟨.hbm, 72, rfl⟩
abbrev main_c_12 : Ref sig .tc := ⟨.hbm, 73, rfl⟩
abbrev main_v37 : Ref sig .tc := ⟨.hbm, 74, rfl⟩
abbrev main_v38 : Ref sig .tc := ⟨.hbm, 75, rfl⟩
abbrev main_c_13 : Ref sig .tc := ⟨.hbm, 76, rfl⟩
abbrev main_c_14 : Ref sig .tc := ⟨.hbm, 77, rfl⟩
abbrev main_call4_v0 : Ref sig .tc := ⟨.hbm, 78, rfl⟩
abbrev main_call4_v1 : Ref sig .tc := ⟨.hbm, 79, rfl⟩
abbrev main_call4_v2 : Ref sig .tc := ⟨.hbm, 80, rfl⟩
abbrev main_call4_v3 : Ref sig .tc := ⟨.hbm, 81, rfl⟩
abbrev main_call4_v4 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_c_15 : Ref sig .tc := ⟨.hbm, 87, rfl⟩
abbrev main_v43 : Ref sig .tc := ⟨.hbm, 88, rfl⟩
abbrev main_v44 : Ref sig .tc := ⟨.hbm, 89, rfl⟩
abbrev main_c_16 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_c_17 : Ref sig .tc := ⟨.hbm, 96, rfl⟩
abbrev main_v50 : Ref sig .tc := ⟨.hbm, 97, rfl⟩
abbrev main_v51 : Ref sig .tc := ⟨.hbm, 98, rfl⟩
abbrev main_c_18 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_c_19 : Ref sig .tc := ⟨.hbm, 111, rfl⟩
abbrev main_v63 : Ref sig .tc := ⟨.hbm, 112, rfl⟩
abbrev main_v64 : Ref sig .tc := ⟨.hbm, 113, rfl⟩
abbrev main_c_20 : Ref sig .tc := ⟨.hbm, 114, rfl⟩
abbrev main_c_21 : Ref sig .tc := ⟨.hbm, 115, rfl⟩
abbrev main_call5_v0 : Ref sig .tc := ⟨.hbm, 116, rfl⟩
abbrev main_call5_v1 : Ref sig .tc := ⟨.hbm, 117, rfl⟩
abbrev main_call5_v2 : Ref sig .tc := ⟨.hbm, 118, rfl⟩
abbrev main_call5_v3 : Ref sig .tc := ⟨.hbm, 119, rfl⟩
abbrev main_call5_v4 : Ref sig .tc := ⟨.hbm, 120, rfl⟩
abbrev main_v65 : Ref sig .tc := ⟨.hbm, 121, rfl⟩
abbrev main_c_22 : Ref sig .tc := ⟨.hbm, 122, rfl⟩
abbrev main_v66 : Ref sig .tc := ⟨.hbm, 123, rfl⟩
abbrev main_v67 : Ref sig .tc := ⟨.hbm, 124, rfl⟩
abbrev main_c_23 : Ref sig .tc := ⟨.hbm, 125, rfl⟩
abbrev main_c_24 : Ref sig .tc := ⟨.hbm, 126, rfl⟩
abbrev main_call6_v0 : Ref sig .tc := ⟨.hbm, 127, rfl⟩
abbrev main_call6_v1 : Ref sig .tc := ⟨.hbm, 128, rfl⟩
abbrev main_call6_v2 : Ref sig .tc := ⟨.hbm, 129, rfl⟩
abbrev main_call6_v3 : Ref sig .tc := ⟨.hbm, 130, rfl⟩
abbrev main_call6_v4 : Ref sig .tc := ⟨.hbm, 131, rfl⟩
abbrev main_v68 : Ref sig .tc := ⟨.hbm, 132, rfl⟩
abbrev main_v69 : Ref sig .tc := ⟨.hbm, 133, rfl⟩
abbrev main_v70 : Ref sig .tc := ⟨.hbm, 134, rfl⟩
abbrev main_v71 : Ref sig .tc := ⟨.hbm, 135, rfl⟩
abbrev main_c_25 : Ref sig .tc := ⟨.hbm, 136, rfl⟩
abbrev main_v72 : Ref sig .tc := ⟨.hbm, 137, rfl⟩
abbrev main_v73 : Ref sig .tc := ⟨.hbm, 138, rfl⟩
abbrev main_c_26 : Ref sig .tc := ⟨.hbm, 139, rfl⟩
abbrev main_v74 : Ref sig .tc := ⟨.hbm, 140, rfl⟩
abbrev main_v75 : Ref sig .tc := ⟨.hbm, 141, rfl⟩
abbrev main_v76 : Ref sig .tc := ⟨.hbm, 142, rfl⟩
abbrev main_v77 : Ref sig .tc := ⟨.hbm, 143, rfl⟩
abbrev main_v78 : Ref sig .tc := ⟨.hbm, 144, rfl⟩
abbrev main_c_27 : Ref sig .tc := ⟨.hbm, 145, rfl⟩
abbrev main_v79 : Ref sig .tc := ⟨.hbm, 146, rfl⟩
abbrev main_v80 : Ref sig .tc := ⟨.hbm, 147, rfl⟩
abbrev main_c_28 : Ref sig .tc := ⟨.hbm, 148, rfl⟩
abbrev main_v81 : Ref sig .tc := ⟨.hbm, 149, rfl⟩
abbrev main_v82 : Ref sig .tc := ⟨.hbm, 150, rfl⟩
abbrev main_v83 : Ref sig .tc := ⟨.hbm, 151, rfl⟩
abbrev main_v84 : Ref sig .tc := ⟨.hbm, 152, rfl⟩
abbrev main_v85 : Ref sig .tc := ⟨.hbm, 153, rfl⟩
abbrev main_v86 : Ref sig .tc := ⟨.hbm, 154, rfl⟩
abbrev main_v87 : Ref sig .tc := ⟨.hbm, 155, rfl⟩
abbrev main_v88 : Ref sig .tc := ⟨.hbm, 156, rfl⟩
abbrev main_v89 : Ref sig .tc := ⟨.hbm, 157, rfl⟩
abbrev main_v90 : Ref sig .tc := ⟨.hbm, 158, rfl⟩
abbrev main_v91 : Ref sig .tc := ⟨.hbm, 159, rfl⟩
abbrev main_c_29 : Ref sig .tc := ⟨.hbm, 160, rfl⟩
abbrev main_v92 : Ref sig .tc := ⟨.hbm, 161, rfl⟩
abbrev main_v93 : Ref sig .tc := ⟨.hbm, 162, rfl⟩
abbrev main_c_30 : Ref sig .tc := ⟨.hbm, 163, rfl⟩
abbrev main_c_31 : Ref sig .tc := ⟨.hbm, 164, rfl⟩
abbrev main_call7_v0 : Ref sig .tc := ⟨.hbm, 165, rfl⟩
abbrev main_call7_v1 : Ref sig .tc := ⟨.hbm, 166, rfl⟩
abbrev main_call7_v2 : Ref sig .tc := ⟨.hbm, 167, rfl⟩
abbrev main_call7_v3 : Ref sig .tc := ⟨.hbm, 168, rfl⟩
abbrev main_call7_v4 : Ref sig .tc := ⟨.hbm, 169, rfl⟩
abbrev main_v94 : Ref sig .tc := ⟨.hbm, 170, rfl⟩
abbrev main_c_32 : Ref sig .tc := ⟨.hbm, 171, rfl⟩
abbrev main_v95 : Ref sig .tc := ⟨.hbm, 172, rfl⟩
abbrev main_v96 : Ref sig .tc := ⟨.hbm, 173, rfl⟩
abbrev main_c_33 : Ref sig .tc := ⟨.hbm, 174, rfl⟩
abbrev main_c_34 : Ref sig .tc := ⟨.hbm, 175, rfl⟩
abbrev main_call8_v0 : Ref sig .tc := ⟨.hbm, 176, rfl⟩
abbrev main_call8_v1 : Ref sig .tc := ⟨.hbm, 177, rfl⟩
abbrev main_call8_v2 : Ref sig .tc := ⟨.hbm, 178, rfl⟩
abbrev main_call8_v3 : Ref sig .tc := ⟨.hbm, 179, rfl⟩
abbrev main_call8_v4 : Ref sig .tc := ⟨.hbm, 180, rfl⟩
abbrev main_v97 : Ref sig .tc := ⟨.hbm, 181, rfl⟩
abbrev main_v98 : Ref sig .tc := ⟨.hbm, 182, rfl⟩
abbrev main_v99 : Ref sig .tc := ⟨.hbm, 183, rfl⟩
abbrev main_v100 : Ref sig .tc := ⟨.hbm, 184, rfl⟩
abbrev main_c_35 : Ref sig .tc := ⟨.hbm, 185, rfl⟩
abbrev main_v101 : Ref sig .tc := ⟨.hbm, 186, rfl⟩
abbrev main_v102 : Ref sig .tc := ⟨.hbm, 187, rfl⟩
abbrev main_c_36 : Ref sig .tc := ⟨.hbm, 188, rfl⟩
abbrev main_v103 : Ref sig .tc := ⟨.hbm, 189, rfl⟩
abbrev main_v104 : Ref sig .tc := ⟨.hbm, 190, rfl⟩
abbrev main_v105 : Ref sig .tc := ⟨.hbm, 191, rfl⟩
abbrev main_v106 : Ref sig .tc := ⟨.hbm, 192, rfl⟩
abbrev main_v107 : Ref sig .tc := ⟨.hbm, 193, rfl⟩
abbrev main_c_37 : Ref sig .tc := ⟨.hbm, 194, rfl⟩
abbrev main_v108 : Ref sig .tc := ⟨.hbm, 195, rfl⟩
abbrev main_v109 : Ref sig .tc := ⟨.hbm, 196, rfl⟩
abbrev main_c_38 : Ref sig .tc := ⟨.hbm, 197, rfl⟩
abbrev main_v110 : Ref sig .tc := ⟨.hbm, 198, rfl⟩
abbrev main_v111 : Ref sig .tc := ⟨.hbm, 199, rfl⟩
abbrev main_v112 : Ref sig .tc := ⟨.hbm, 200, rfl⟩
abbrev main_v113 : Ref sig .tc := ⟨.hbm, 201, rfl⟩
abbrev main_v114 : Ref sig .tc := ⟨.hbm, 202, rfl⟩
abbrev main_v115 : Ref sig .tc := ⟨.hbm, 203, rfl⟩
abbrev main_v116 : Ref sig .tc := ⟨.hbm, 204, rfl⟩
abbrev main_v117 : Ref sig .tc := ⟨.hbm, 205, rfl⟩
abbrev main_v118 : Ref sig .tc := ⟨.hbm, 206, rfl⟩
abbrev main_v119 : Ref sig .tc := ⟨.hbm, 207, rfl⟩
abbrev main_v120 : Ref sig .tc := ⟨.hbm, 208, rfl⟩
abbrev main_v121 : Ref sig .tc := ⟨.hbm, 209, rfl⟩
abbrev main_v122 : Ref sig .tc := ⟨.hbm, 210, rfl⟩
abbrev main_v123 : Ref sig .tc := ⟨.hbm, 211, rfl⟩
abbrev main_v124 : Ref sig .tc := ⟨.hbm, 212, rfl⟩
abbrev main_v125 : Ref sig .tc := ⟨.hbm, 213, rfl⟩
abbrev main_v126 : Ref sig .tc := ⟨.hbm, 214, rfl⟩
abbrev main_v127 : Ref sig .tc := ⟨.hbm, 215, rfl⟩
abbrev main_v128 : Ref sig .tc := ⟨.hbm, 216, rfl⟩
abbrev main_v129 : Ref sig .tc := ⟨.hbm, 217, rfl⟩
abbrev main_v130_0 : Ref sig .tc := ⟨.hbm, 218, rfl⟩
abbrev main_v130_1 : Ref sig .tc := ⟨.hbm, 219, rfl⟩
abbrev main_v130_2 : Ref sig .tc := ⟨.hbm, 220, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x512x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== PoolRefIdeal.lean ====
abbrev S2048x512 : Shape := ⟨2, ![2048, 512]⟩
abbrev S4x128x128 : Shape := ⟨3, ![4, 128, 128]⟩
abbrev S512 : Shape := ⟨1, ![512]⟩
abbrev S512x1024 : Shape := ⟨2, ![512, 1024]⟩
abbrev S2048x1024 : Shape := ⟨2, ![2048, 1024]⟩
abbrev S1x2048x512 : Shape := ⟨3, ![1, 2048, 512]⟩
abbrev S_ : Shape := ⟨0, ![]⟩
abbrev S1x1x512 : Shape := ⟨3, ![1, 1, 512]⟩
abbrev S1x2049x512 : Shape := ⟨3, ![1, 2049, 512]⟩
abbrev S2048 : Shape := ⟨1, ![2048]⟩
abbrev S1x2049x128 : Shape := ⟨3, ![1, 2049, 128]⟩
abbrev S2048x1 : Shape := ⟨2, ![2048, 1]⟩
abbrev S1x2048x128 : Shape := ⟨3, ![1, 2048, 128]⟩
abbrev S1x2048x1 : Shape := ⟨3, ![1, 2048, 1]⟩
abbrev S1x2048x4x128 : Shape := ⟨4, ![1, 2048, 4, 128]⟩
abbrev S4x128x1x2048 : Shape := ⟨4, ![4, 128, 1, 2048]⟩
abbrev S1x2048x1024 : Shape := ⟨3, ![1, 2048, 1024]⟩
abbrev S1x512 : Shape := ⟨2, ![1, 512]⟩
abbrev S4x1x2048x128 : Shape := ⟨4, ![4, 1, 2048, 128]⟩

abbrev nBuf : Space → Nat
  | .hbm => 318
  | .vmem => 0
  | .smem => 0
  | _ => 0

abbrev hbmTy0_0 (i : Nat) : BufTy := match i % 128 with
  | 0 => ⟨S2048x512, .f32⟩
  | 1 => ⟨S4x128x128, .f32⟩
  | 2 => ⟨S512, .f32⟩
  | 3 => ⟨S512x1024, .f32⟩
  | 4 => ⟨S2048x1024, .f32⟩
  | 5 => ⟨S1x2048x512, .f32⟩
  | 6 => ⟨S_, .f32⟩
  | 7 => ⟨S1x1x512, .f32⟩
  | 8 => ⟨S_, .f32⟩
  | 9 => ⟨S_, .f32⟩
  | 10 => ⟨S1x2048x512, .f32⟩
  | 11 => ⟨S1x2049x512, .f32⟩
  | 12 => ⟨S_, .f32⟩
  | 13 => ⟨S1x1x512, .f32⟩
  | 14 => ⟨S2048, .i32⟩
  | 15 => ⟨S_, .i32⟩
  | 16 => ⟨S2048, .i32⟩
  | 17 => ⟨S2048, .i32⟩
  | 18 => ⟨S_, .i32⟩
  | 19 => ⟨S_, .i32⟩
  | 20 => ⟨S_, .i32⟩
  | 21 => ⟨S2048, .i32⟩
  | 22 => ⟨S2048, .i32⟩
  | 23 => ⟨S_, .i32⟩
  | 24 => ⟨S2048, .i32⟩
  | 25 => ⟨S2048, .i32⟩
  | 26 => ⟨S_, .i32⟩
  | 27 => ⟨S2048, .i32⟩
  | 28 => ⟨S2048, .i32⟩
  | 29 => ⟨S_, .i32⟩
  | 30 => ⟨S_, .i32⟩
  | 31 => ⟨S_, .i32⟩
  | 32 => ⟨S2048, .i32⟩
  | 33 => ⟨S2048, .i32⟩
  | 34 => ⟨S_, .i32⟩
  | 35 => ⟨S2048, .i32⟩
  | 36 => ⟨S2048, .i32⟩
  | 37 => ⟨S2048, .i32⟩
  | 38 => ⟨S2048, .f32⟩
  | 39 => ⟨S1x2049x128, .f32⟩
  | 40 => ⟨S_, .i32⟩
  | 41 => ⟨S2048, .i32⟩
  | 42 => ⟨S2048, .i1⟩
  | 43 => ⟨S_, .i32⟩
  | 44 => ⟨S2048, .i32⟩
  | 45 => ⟨S2048, .i32⟩
  | 46 => ⟨S2048, .i32⟩
  | 47 => ⟨S2048x1, .i32⟩
  | 48 => ⟨S1x2048x128, .f32⟩
  | 49 => ⟨S_, .i32⟩
  | 50 => ⟨S2048, .i32⟩
  | 51 => ⟨S2048, .i1⟩
  | 52 => ⟨S_, .i32⟩
  | 53 => ⟨S2048, .i32⟩
  | 54 => ⟨S2048, .i32⟩
  | 55 => ⟨S2048, .i32⟩
  | 56 => ⟨S2048x1, .i32⟩
  | 57 => ⟨S1x2048x128, .f32⟩
  | 58 => ⟨S1x2048x128, .f32⟩
  | 59 => ⟨S1x2048x1, .f32⟩
  | 60 => ⟨S1x2048x128, .f32⟩
  | 61 => ⟨S1x2048x128, .f32⟩
  | 62 => ⟨S1x2048x128, .f32⟩
  | 63 => ⟨S1x2048x128, .f32⟩
  | 64 => ⟨S_, .i32⟩
  | 65 => ⟨S2048, .i32⟩
  | 66 => ⟨S2048, .i32⟩
  | 67 => ⟨S_, .i32⟩
  | 68 => ⟨S_, .i32⟩
  | 69 => ⟨S_, .i32⟩
  | 70 => ⟨S2048, .i32⟩
  | 71 => ⟨S2048, .i32⟩
  | 72 => ⟨S_, .i32⟩
  | 73 => ⟨S2048, .i32⟩
  | 74 => ⟨S2048, .i32⟩
  | 75 => ⟨S_, .i32⟩
  | 76 => ⟨S2048, .i32⟩
  | 77 => ⟨S2048, .i32⟩
  | 78 => ⟨S_, .i32⟩
  | 79 => ⟨S_, .i32⟩
  | 80 => ⟨S_, .i32⟩
  | 81 => ⟨S2048, .i32⟩
  | 82 => ⟨S2048, .i32⟩
  | 83 => ⟨S_, .i32⟩
  | 84 => ⟨S2048, .i32⟩
  | 85 => ⟨S2048, .i32⟩
  | 86 => ⟨S2048, .i32⟩
  | 87 => ⟨S2048, .f32⟩
  | 88 => ⟨S1x2049x128, .f32⟩
  | 89 => ⟨S_, .i32⟩
  | 90 => ⟨S2048, .i32⟩
  | 91 => ⟨S2048, .i1⟩
  | 92 => ⟨S_, .i32⟩
  | 93 => ⟨S2048, .i32⟩
  | 94 => ⟨S2048, .i32⟩
  | 95 => ⟨S2048, .i32⟩
  | 96 => ⟨S2048x1, .i32⟩
  | 97 => ⟨S1x2048x128, .f32⟩
  | 98 => ⟨S_, .i32⟩
  | 99 => ⟨S2048, .i32⟩
  | 100 => ⟨S2048, .i1⟩
  | 101 => ⟨S_, .i32⟩
  | 102 => ⟨S2048, .i32⟩
  | 103 => ⟨S2048, .i32⟩
  | 104 => ⟨S2048, .i32⟩
  | 105 => ⟨S2048x1, .i32⟩
  | 106 => ⟨S1x2048x128, .f32⟩
  | 107 => ⟨S1x2048x128, .f32⟩
  | 108 => ⟨S1x2048x1, .f32⟩
  | 109 => ⟨S1x2048x128, .f32⟩
  | 110 => ⟨S1x2048x128, .f32⟩
  | 111 => ⟨S1x2048x128, .f32⟩
  | 112 => ⟨S1x2048x128, .f32⟩
  | 113 => ⟨S_, .i32⟩
  | 114 => ⟨S2048, .i32⟩
  | 115 => ⟨S2048, .i32⟩
  | 116 => ⟨S_, .i32⟩
  | 117 => ⟨S_, .i32⟩
  | 118 => ⟨S_, .i32⟩
  | 119 => ⟨S2048, .i32⟩
  | 120 => ⟨S2048, .i32⟩
  | 121 => ⟨S_, .i32⟩
  | 122 => ⟨S2048, .i32⟩
  | 123 => ⟨S2048, .i32⟩
  | 124 => ⟨S_, .i32⟩
  | 125 => ⟨S2048, .i32⟩
  | 126 => ⟨S2048, .i32⟩
  | 127 => ⟨S_, .i32⟩
  | _ => ⟨S2048x512, .f32⟩

abbrev hbmTy0_1 (i : Nat) : BufTy := match i % 128 with
  | 0 => ⟨S_, .i32⟩
  | 1 => ⟨S_, .i32⟩
  | 2 => ⟨S2048, .i32⟩
  | 3 => ⟨S2048, .i32⟩
  | 4 => ⟨S_, .i32⟩
  | 5 => ⟨S2048, .i32⟩
  | 6 => ⟨S2048, .i32⟩
  | 7 => ⟨S2048, .i32⟩
  | 8 => ⟨S2048, .f32⟩
  | 9 => ⟨S1x2049x128, .f32⟩
  | 10 => ⟨S_, .i32⟩
  | 11 => ⟨S2048, .i32⟩
  | 12 => ⟨S2048, .i1⟩
  | 13 => ⟨S_, .i32⟩
  | 14 => ⟨S2048, .i32⟩
  | 15 => ⟨S2048, .i32⟩
  | 16 => ⟨S2048, .i32⟩
  | 17 => ⟨S2048x1, .i32⟩
  | 18 => ⟨S1x2048x128, .f32⟩
  | 19 => ⟨S_, .i32⟩
  | 20 => ⟨S2048, .i32⟩
  | 21 => ⟨S2048, .i1⟩
  | 22 => ⟨S_, .i32⟩
  | 23 => ⟨S2048, .i32⟩
  | 24 => ⟨S2048, .i32⟩
  | 25 => ⟨S2048, .i32⟩
  | 26 => ⟨S2048x1, .i32⟩
  | 27 => ⟨S1x2048x128, .f32⟩
  | 28 => ⟨S1x2048x128, .f32⟩
  | 29 => ⟨S1x2048x1, .f32⟩
  | 30 => ⟨S1x2048x128, .f32⟩
  | 31 => ⟨S1x2048x128, .f32⟩
  | 32 => ⟨S1x2048x128, .f32⟩
  | 33 => ⟨S1x2048x128, .f32⟩
  | 34 => ⟨S_, .i32⟩
  | 35 => ⟨S2048, .i32⟩
  | 36 => ⟨S2048, .i32⟩
  | 37 => ⟨S_, .i32⟩
  | 38 => ⟨S_, .i32⟩
  | 39 => ⟨S_, .i32⟩
  | 40 => ⟨S2048, .i32⟩
  | 41 => ⟨S2048, .i32⟩
  | 42 => ⟨S_, .i32⟩
  | 43 => ⟨S2048, .i32⟩
  | 44 => ⟨S2048, .i32⟩
  | 45 => ⟨S_, .i32⟩
  | 46 => ⟨S2048, .i32⟩
  | 47 => ⟨S2048, .i32⟩
  | 48 => ⟨S_, .i32⟩
  | 49 => ⟨S_, .i32⟩
  | 50 => ⟨S_, .i32⟩
  | 51 => ⟨S2048, .i32⟩
  | 52 => ⟨S2048, .i32⟩
  | 53 => ⟨S_, .i32⟩
  | 54 => ⟨S2048, .i32⟩
  | 55 => ⟨S2048, .i32⟩
  | 56 => ⟨S2048, .i32⟩
  | 57 => ⟨S2048, .f32⟩
  | 58 => ⟨S1x2049x128, .f32⟩
  | 59 => ⟨S_, .i32⟩
  | 60 => ⟨S2048, .i32⟩
  | 61 => ⟨S2048, .i1⟩
  | 62 => ⟨S_, .i32⟩
  | 63 => ⟨S2048, .i32⟩
  | 64 => ⟨S2048, .i32⟩
  | 65 => ⟨S2048, .i32⟩
  | 66 => ⟨S2048x1, .i32⟩
  | 67 => ⟨S1x2048x128, .f32⟩
  | 68 => ⟨S_, .i32⟩
  | 69 => ⟨S2048, .i32⟩
  | 70 => ⟨S2048, .i1⟩
  | 71 => ⟨S_, .i32⟩
  | 72 => ⟨S2048, .i32⟩
  | 73 => ⟨S2048, .i32⟩
  | 74 => ⟨S2048, .i32⟩
  | 75 => ⟨S2048x1, .i32⟩
  | 76 => ⟨S1x2048x128, .f32⟩
  | 77 => ⟨S1x2048x128, .f32⟩
  | 78 => ⟨S1x2048x1, .f32⟩
  | 79 => ⟨S1x2048x128, .f32⟩
  | 80 => ⟨S1x2048x128, .f32⟩
  | 81 => ⟨S1x2048x128, .f32⟩
  | 82 => ⟨S1x2048x128, .f32⟩
  | 83 => ⟨S1x2048x512, .f32⟩
  | 84 => ⟨S1x2048x4x128, .f32⟩
  | 85 => ⟨S4x128x1x2048, .f32⟩
  | 86 => ⟨S1x2048x4x128, .f32⟩
  | 87 => ⟨S1x2048x512, .f32⟩
  | 88 => ⟨S1x1x512, .f32⟩
  | 89 => ⟨S1x2048x512, .f32⟩
  | 90 => ⟨S1x2048x512, .f32⟩
  | 91 => ⟨S1x2048x1024, .f32⟩
  | 92 => ⟨S2048x1024, .f32⟩
  | 93 => ⟨S1x2048x1024, .f32⟩
  | 94 => ⟨S1x2048x512, .f32⟩
  | 95 => ⟨S1x2048x512, .f32⟩
  | 96 => ⟨S_, .f32⟩
  | 97 => ⟨S1x512, .f32⟩
  | 98 => ⟨S1x1x512, .f32⟩
  | 99 => ⟨S1x2048x512, .f32⟩
  | 100 => ⟨S1x2048x512, .f32⟩
  | 101 => ⟨S_, .f32⟩
  | 102 => ⟨S512, .f32⟩
  | 103 => ⟨S1x2048x4x128, .f32⟩
  | 104 => ⟨S4x128x1x2048, .f32⟩
  | 105 => ⟨S4x1x2048x128, .f32⟩
  | 106 => ⟨S1x2048x4x128, .f32⟩
  | 107 => ⟨S4x128x128, .f32⟩
  | 108 => ⟨S4x128x128, .f32⟩
  | 109 => ⟨S1x2048x512, .f32⟩
  | 110 => ⟨S1x2048x128, .f32⟩
  | 111 => ⟨S1x2048x128, .f32⟩
  | 112 => ⟨S1x2048x128, .f32⟩
  | 113 => ⟨S1x2048x128, .f32⟩
  | 114 => ⟨S1x2048x128, .f32⟩
  | 115 => ⟨S_, .f32⟩
  | 116 => ⟨S1x2048x512, .f32⟩
  | 117 => ⟨S1x2048x128, .f32⟩
  | 118 => ⟨S1x2048x128, .f32⟩
  | 119 => ⟨S1x2048x128, .f32⟩
  | 120 => ⟨S_, .f32⟩
  | 121 => ⟨S1x2049x128, .f32⟩
  | 122 => ⟨S1x2049x128, .f32⟩
  | 123 => ⟨S_, .f32⟩
  | 124 => ⟨S1x2049x128, .f32⟩
  | 125 => ⟨S1x2049x128, .f32⟩
  | 126 => ⟨S1x2049x128, .f32⟩
  | 127 => ⟨S_, .f32⟩
  | _ => ⟨S2048x512, .f32⟩

abbrev hbmTy0_2 (i : Nat) : BufTy := match i % 128 with
  | 0 => ⟨S1x2049x512, .f32⟩
  | 1 => ⟨S1x2048x128, .f32⟩
  | 2 => ⟨S_, .f32⟩
  | 3 => ⟨S1x2048x512, .f32⟩
  | 4 => ⟨S1x2048x512, .f32⟩
  | 5 => ⟨S1x2048x128, .f32⟩
  | 6 => ⟨S1x2048x128, .f32⟩
  | 7 => ⟨S1x2048x128, .f32⟩
  | 8 => ⟨S_, .f32⟩
  | 9 => ⟨S1x2049x128, .f32⟩
  | 10 => ⟨S1x2049x128, .f32⟩
  | 11 => ⟨S_, .f32⟩
  | 12 => ⟨S1x2049x128, .f32⟩
  | 13 => ⟨S1x2049x128, .f32⟩
  | 14 => ⟨S1x2049x128, .f32⟩
  | 15 => ⟨S_, .f32⟩
  | 16 => ⟨S1x2049x512, .f32⟩
  | 17 => ⟨S1x2049x512, .f32⟩
  | 18 => ⟨S1x2048x128, .f32⟩
  | 19 => ⟨S_, .f32⟩
  | 20 => ⟨S1x2048x512, .f32⟩
  | 21 => ⟨S1x2048x512, .f32⟩
  | 22 => ⟨S1x2048x128, .f32⟩
  | 23 => ⟨S1x2048x128, .f32⟩
  | 24 => ⟨S1x2048x128, .f32⟩
  | 25 => ⟨S_, .f32⟩
  | 26 => ⟨S1x2049x128, .f32⟩
  | 27 => ⟨S1x2049x128, .f32⟩
  | 28 => ⟨S_, .f32⟩
  | 29 => ⟨S1x2049x128, .f32⟩
  | 30 => ⟨S1x2049x128, .f32⟩
  | 31 => ⟨S1x2049x128, .f32⟩
  | 32 => ⟨S_, .f32⟩
  | 33 => ⟨S1x2049x512, .f32⟩
  | 34 => ⟨S1x2049x512, .f32⟩
  | 35 => ⟨S1x2048x128, .f32⟩
  | 36 => ⟨S_, .f32⟩
  | 37 => ⟨S1x2048x512, .f32⟩
  | 38 => ⟨S1x2048x512, .f32⟩
  | 39 => ⟨S1x2048x128, .f32⟩
  | 40 => ⟨S1x2048x128, .f32⟩
  | 41 => ⟨S1x2048x128, .f32⟩
  | 42 => ⟨S_, .f32⟩
  | 43 => ⟨S1x2049x128, .f32⟩
  | 44 => ⟨S1x2049x128, .f32⟩
  | 45 => ⟨S_, .f32⟩
  | 46 => ⟨S1x2049x128, .f32⟩
  | 47 => ⟨S1x2049x128, .f32⟩
  | 48 => ⟨S1x2049x128, .f32⟩
  | 49 => ⟨S_, .f32⟩
  | 50 => ⟨S1x2049x512, .f32⟩
  | 51 => ⟨S1x2049x512, .f32⟩
  | 52 => ⟨S1x1x512, .f32⟩
  | 53 => ⟨S1x2048x512, .f32⟩
  | 54 => ⟨S_, .f32⟩
  | 55 => ⟨S_, .f32⟩
  | 56 => ⟨S1x2048x512, .f32⟩
  | 57 => ⟨S1x2048x512, .f32⟩
  | 58 => ⟨S_, .f32⟩
  | 59 => ⟨S2048x512, .f32⟩
  | 60 => ⟨S2048x512, .bf16⟩
  | 61 => ⟨S1x512, .f32⟩
  | _ => ⟨S2048x512, .f32⟩

abbrev hbmTy (i : Nat) : BufTy := match i / 128 with
  | 0 => hbmTy0_0 i
  | 1 => hbmTy0_1 i
  | 2 => hbmTy0_2 i
  | _ => ⟨S2048x512, .f32⟩

abbrev bufTy : (tb : Table) → Fin (tcTables nBuf tb) → BufTy
  | .hbm, ⟨i, _⟩ => hbmTy i
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_call0_call0_cst : Ref sig .tc := ⟨.hbm, 8, rfl⟩
abbrev main_call0_call0_v0 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_c_2 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_v8 : Ref sig .tc := ⟨.hbm, 25, rfl⟩
abbrev main_c_3 : Ref sig .tc := ⟨.hbm, 26, rfl⟩
abbrev main_v9 : Ref sig .tc := ⟨.hbm, 27, rfl⟩
abbrev main_v10 : Ref sig .tc := ⟨.hbm, 28, rfl⟩
abbrev main_c_4 : Ref sig .tc := ⟨.hbm, 29, rfl⟩
abbrev main_c_5 : Ref sig .tc := ⟨.hbm, 30, rfl⟩
abbrev main_call2_v0 : Ref sig .tc := ⟨.hbm, 31, rfl⟩
abbrev main_call2_v1 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_c_6 : Ref sig .tc := ⟨.hbm, 40, rfl⟩
abbrev main_v15 : Ref sig .tc := ⟨.hbm, 41, rfl⟩
abbrev main_v16 : Ref sig .tc := ⟨.hbm, 42, rfl⟩
abbrev main_c_7 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_c_8 : Ref sig .tc := ⟨.hbm, 49, rfl⟩
abbrev main_v22 : Ref sig .tc := ⟨.hbm, 50, rfl⟩
abbrev main_v23 : Ref sig .tc := ⟨.hbm, 51, rfl⟩
abbrev main_c_9 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_c_10 : Ref sig .tc := ⟨.hbm, 64, rfl⟩
abbrev main_v35 : Ref sig .tc := ⟨.hbm, 65, rfl⟩
abbrev main_v36 : Ref sig .tc := ⟨.hbm, 66, rfl⟩
abbrev main_c_11 : Ref sig .tc := ⟨.hbm, 67, rfl⟩
abbrev main_c_12 : Ref sig .tc := ⟨.hbm, 68, rfl⟩
abbrev main_call3_v0 : Ref sig .tc := ⟨.hbm, 69, rfl⟩
abbrev main_call3_v1 : Ref sig .tc := ⟨.hbm, 70, rfl⟩
abbrev main_call3_v2 : Ref sig .tc := ⟨.hbm, 71, rfl⟩
abbrev main_call3_v3 : Ref sig .tc := ⟨.hbm, 72, rfl⟩
abbrev main_call3_v4 : Ref sig .tc := ⟨.hbm, 73, rfl⟩
abbrev main_v37 : Ref sig .tc := ⟨.hbm, 74, rfl⟩
abbrev main_c_13 : Ref sig .tc := ⟨.hbm, 75, rfl⟩
abbrev main_v38 : Ref sig .tc := ⟨.hbm, 76, rfl⟩
abbrev main_v39 : Ref sig .tc := ⟨.hbm, 77, rfl⟩
abbrev main_c_14 : Ref sig .tc := ⟨.hbm, 78, rfl⟩
abbrev main_c_15 : Ref sig .tc := ⟨.hbm, 79, rfl⟩
abbrev main_call4_v0 : Ref sig .tc := ⟨.hbm, 80, rfl⟩
abbrev main_call4_v1 : Ref sig .tc := ⟨.hbm, 81, rfl⟩
abbrev main_call4_v2 : Ref sig .tc := ⟨.hbm, 82, rfl⟩
abbrev main_call4_v3 : Ref sig .tc := ⟨.hbm, 83, rfl⟩
abbrev main_call4_v4 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_c_16 : Ref sig .tc := ⟨.hbm, 89, rfl⟩
abbrev main_v44 : Ref sig .tc := ⟨.hbm, 90, rfl⟩
abbrev main_v45 : Ref sig .tc := ⟨.hbm, 91, rfl⟩
abbrev main_c_17 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_c_18 : Ref sig .tc := ⟨.hbm, 98, rfl⟩
abbrev main_v51 : Ref sig .tc := ⟨.hbm, 99, rfl⟩
abbrev main_v52 : Ref sig .tc := ⟨.hbm, 100, rfl⟩
abbrev main_c_19 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_c_20 : Ref sig .tc := ⟨.hbm, 113, rfl⟩
abbrev main_v64 : Ref sig .tc := ⟨.hbm, 114, rfl⟩
abbrev main_v65 : Ref sig .tc := ⟨.hbm, 115, rfl⟩
abbrev main_c_21 : Ref sig .tc := ⟨.hbm, 116, rfl⟩
abbrev main_c_22 : Ref sig .tc := ⟨.hbm, 117, rfl⟩
abbrev main_call5_v0 : Ref sig .tc := ⟨.hbm, 118, rfl⟩
abbrev main_call5_v1 : Ref sig .tc := ⟨.hbm, 119, rfl⟩
abbrev main_call5_v2 : Ref sig .tc := ⟨.hbm, 120, rfl⟩
abbrev main_call5_v3 : Ref sig .tc := ⟨.hbm, 121, rfl⟩
abbrev main_call5_v4 : Ref sig .tc := ⟨.hbm, 122, rfl⟩
abbrev main_v66 : Ref sig .tc := ⟨.hbm, 123, rfl⟩
abbrev main_c_23 : Ref sig .tc := ⟨.hbm, 124, rfl⟩
abbrev main_v67 : Ref sig .tc := ⟨.hbm, 125, rfl⟩
abbrev main_v68 : Ref sig .tc := ⟨.hbm, 126, rfl⟩
abbrev main_c_24 : Ref sig .tc := ⟨.hbm, 127, rfl⟩
abbrev main_c_25 : Ref sig .tc := ⟨.hbm, 128, rfl⟩
abbrev main_call6_v0 : Ref sig .tc := ⟨.hbm, 129, rfl⟩
abbrev main_call6_v1 : Ref sig .tc := ⟨.hbm, 130, rfl⟩
abbrev main_call6_v2 : Ref sig .tc := ⟨.hbm, 131, rfl⟩
abbrev main_call6_v3 : Ref sig .tc := ⟨.hbm, 132, rfl⟩
abbrev main_call6_v4 : Ref sig .tc := ⟨.hbm, 133, rfl⟩
abbrev main_v69 : Ref sig .tc := ⟨.hbm, 134, rfl⟩
abbrev main_v70 : Ref sig .tc := ⟨.hbm, 135, rfl⟩
abbrev main_v71 : Ref sig .tc := ⟨.hbm, 136, rfl⟩
abbrev main_v72 : Ref sig .tc := ⟨.hbm, 137, rfl⟩
abbrev main_c_26 : Ref sig .tc := ⟨.hbm, 138, rfl⟩
abbrev main_v73 : Ref sig .tc := ⟨.hbm, 139, rfl⟩
abbrev main_v74 : Ref sig .tc := ⟨.hbm, 140, rfl⟩
abbrev main_c_27 : Ref sig .tc := ⟨.hbm, 141, rfl⟩
abbrev main_v75 : Ref sig .tc := ⟨.hbm, 142, rfl⟩
abbrev main_v76 : Ref sig .tc := ⟨.hbm, 143, rfl⟩
abbrev main_v77 : Ref sig .tc := ⟨.hbm, 144, rfl⟩
abbrev main_v78 : Ref sig .tc := ⟨.hbm, 145, rfl⟩
abbrev main_v79 : Ref sig .tc := ⟨.hbm, 146, rfl⟩
abbrev main_c_28 : Ref sig .tc := ⟨.hbm, 147, rfl⟩
abbrev main_v80 : Ref sig .tc := ⟨.hbm, 148, rfl⟩
abbrev main_v81 : Ref sig .tc := ⟨.hbm, 149, rfl⟩
abbrev main_c_29 : Ref sig .tc := ⟨.hbm, 150, rfl⟩
abbrev main_v82 : Ref sig .tc := ⟨.hbm, 151, rfl⟩
abbrev main_v83 : Ref sig .tc := ⟨.hbm, 152, rfl⟩
abbrev main_v84 : Ref sig .tc := ⟨.hbm, 153, rfl⟩
abbrev main_v85 : Ref sig .tc := ⟨.hbm, 154, rfl⟩
abbrev main_v86 : Ref sig .tc := ⟨.hbm, 155, rfl⟩
abbrev main_v87 : Ref sig .tc := ⟨.hbm, 156, rfl⟩
abbrev main_v88 : Ref sig .tc := ⟨.hbm, 157, rfl⟩
abbrev main_v89 : Ref sig .tc := ⟨.hbm, 158, rfl⟩
abbrev main_v90 : Ref sig .tc := ⟨.hbm, 159, rfl⟩
abbrev main_v91 : Ref sig .tc := ⟨.hbm, 160, rfl⟩
abbrev main_v92 : Ref sig .tc := ⟨.hbm, 161, rfl⟩
abbrev main_c_30 : Ref sig .tc := ⟨.hbm, 162, rfl⟩
abbrev main_v93 : Ref sig .tc := ⟨.hbm, 163, rfl⟩
abbrev main_v94 : Ref sig .tc := ⟨.hbm, 164, rfl⟩
abbrev main_c_31 : Ref sig .tc := ⟨.hbm, 165, rfl⟩
abbrev main_c_32 : Ref sig .tc := ⟨.hbm, 166, rfl⟩
abbrev main_call7_v0 : Ref sig .tc := ⟨.hbm, 167, rfl⟩
abbrev main_call7_v1 : Ref sig .tc := ⟨.hbm, 168, rfl⟩
abbrev main_call7_v2 : Ref sig .tc := ⟨.hbm, 169, rfl⟩
abbrev main_call7_v3 : Ref sig .tc := ⟨.hbm, 170, rfl⟩
abbrev main_call7_v4 : Ref sig .tc := ⟨.hbm, 171, rfl⟩
abbrev main_v95 : Ref sig .tc := ⟨.hbm, 172, rfl⟩
abbrev main_c_33 : Ref sig .tc := ⟨.hbm, 173, rfl⟩
abbrev main_v96 : Ref sig .tc := ⟨.hbm, 174, rfl⟩
abbrev main_v97 : Ref sig .tc := ⟨.hbm, 175, rfl⟩
abbrev main_c_34 : Ref sig .tc := ⟨.hbm, 176, rfl⟩
abbrev main_c_35 : Ref sig .tc := ⟨.hbm, 177, rfl⟩
abbrev main_call8_v0 : Ref sig .tc := ⟨.hbm, 178, rfl⟩
abbrev main_call8_v1 : Ref sig .tc := ⟨.hbm, 179, rfl⟩
abbrev main_call8_v2 : Ref sig .tc := ⟨.hbm, 180, rfl⟩
abbrev main_call8_v3 : Ref sig .tc := ⟨.hbm, 181, rfl⟩
abbrev main_call8_v4 : Ref sig .tc := ⟨.hbm, 182, rfl⟩
abbrev main_v98 : Ref sig .tc := ⟨.hbm, 183, rfl⟩
abbrev main_v99 : Ref sig .tc := ⟨.hbm, 184, rfl⟩
abbrev main_v100 : Ref sig .tc := ⟨.hbm, 185, rfl⟩
abbrev main_v101 : Ref sig .tc := ⟨.hbm, 186, rfl⟩
abbrev main_c_36 : Ref sig .tc := ⟨.hbm, 187, rfl⟩
abbrev main_v102 : Ref sig .tc := ⟨.hbm, 188, rfl⟩
abbrev main_v103 : Ref sig .tc := ⟨.hbm, 189, rfl⟩
abbrev main_c_37 : Ref sig .tc := ⟨.hbm, 190, rfl⟩
abbrev main_v104 : Ref sig .tc := ⟨.hbm, 191, rfl⟩
abbrev main_v105 : Ref sig .tc := ⟨.hbm, 192, rfl⟩
abbrev main_v106 : Ref sig .tc := ⟨.hbm, 193, rfl⟩
abbrev main_v107 : Ref sig .tc := ⟨.hbm, 194, rfl⟩
abbrev main_v108 : Ref sig .tc := ⟨.hbm, 195, rfl⟩
abbrev main_c_38 : Ref sig .tc := ⟨.hbm, 196, rfl⟩
abbrev main_v109 : Ref sig .tc := ⟨.hbm, 197, rfl⟩
abbrev main_v110 : Ref sig .tc := ⟨.hbm, 198, rfl⟩
abbrev main_c_39 : Ref sig .tc := ⟨.hbm, 199, rfl⟩
abbrev main_v111 : Ref sig .tc := ⟨.hbm, 200, rfl⟩
abbrev main_v112 : Ref sig .tc := ⟨.hbm, 201, rfl⟩
abbrev main_v113 : Ref sig .tc := ⟨.hbm, 202, rfl⟩
abbrev main_v114 : Ref sig .tc := ⟨.hbm, 203, rfl⟩
abbrev main_v115 : Ref sig .tc := ⟨.hbm, 204, rfl⟩
abbrev main_v116 : Ref sig .tc := ⟨.hbm, 205, rfl⟩
abbrev main_v117 : Ref sig .tc := ⟨.hbm, 206, rfl⟩
abbrev main_v118 : Ref sig .tc := ⟨.hbm, 207, rfl⟩
abbrev main_v119 : Ref sig .tc := ⟨.hbm, 208, rfl⟩
abbrev main_v120 : Ref sig .tc := ⟨.hbm, 209, rfl⟩
abbrev main_v121 : Ref sig .tc := ⟨.hbm, 210, rfl⟩
abbrev main_v122 : Ref sig .tc := ⟨.hbm, 211, rfl⟩
abbrev main_v123 : Ref sig .tc := ⟨.hbm, 212, rfl⟩
abbrev main_v124 : Ref sig .tc := ⟨.hbm, 213, rfl⟩
abbrev main_v125 : Ref sig .tc := ⟨.hbm, 214, rfl⟩
abbrev main_v126 : Ref sig .tc := ⟨.hbm, 215, rfl⟩
abbrev main_v127 : Ref sig .tc := ⟨.hbm, 216, rfl⟩
abbrev main_v128 : Ref sig .tc := ⟨.hbm, 217, rfl⟩
abbrev main_v129 : Ref sig .tc := ⟨.hbm, 218, rfl⟩
abbrev main_v130 : Ref sig .tc := ⟨.hbm, 219, rfl⟩
abbrev main_v131 : Ref sig .tc := ⟨.hbm, 220, rfl⟩
abbrev main_v132 : Ref sig .tc := ⟨.hbm, 221, rfl⟩
abbrev main_v133 : Ref sig .tc := ⟨.hbm, 222, rfl⟩
abbrev main_v134 : Ref sig .tc := ⟨.hbm, 223, rfl⟩
abbrev main_cst_40 : Ref sig .tc := ⟨.hbm, 224, rfl⟩
abbrev main_v135 : Ref sig .tc := ⟨.hbm, 225, rfl⟩
abbrev main_v136 : Ref sig .tc := ⟨.hbm, 226, rfl⟩
abbrev main_v137 : Ref sig .tc := ⟨.hbm, 227, rfl⟩
abbrev main_v138 : Ref sig .tc := ⟨.hbm, 228, rfl⟩
abbrev main_cst_41 : Ref sig .tc := ⟨.hbm, 229, rfl⟩
abbrev main_v139 : Ref sig .tc := ⟨.hbm, 230, rfl⟩
abbrev main_v140 : Ref sig .tc := ⟨.hbm, 231, rfl⟩
abbrev main_v141 : Ref sig .tc := ⟨.hbm, 232, rfl⟩
abbrev main_v142 : Ref sig .tc := ⟨.hbm, 233, rfl⟩
abbrev main_v143 : Ref sig .tc := ⟨.hbm, 234, rfl⟩
abbrev main_v144 : Ref sig .tc := ⟨.hbm, 235, rfl⟩
abbrev main_v145 : Ref sig .tc := ⟨.hbm, 236, rfl⟩
abbrev main_v146 : Ref sig .tc := ⟨.hbm, 237, rfl⟩
abbrev main_v147 : Ref sig .tc := ⟨.hbm, 238, rfl⟩
abbrev main_v148 : Ref sig .tc := ⟨.hbm, 239, rfl⟩
abbrev main_v149 : Ref sig .tc := ⟨.hbm, 240, rfl⟩
abbrev main_v150 : Ref sig .tc := ⟨.hbm, 241, rfl⟩
abbrev main_v151 : Ref sig .tc := ⟨.hbm, 242, rfl⟩
abbrev main_cst_42 : Ref sig .tc := ⟨.hbm, 243, rfl⟩
abbrev main_v152 : Ref sig .tc := ⟨.hbm, 244, rfl⟩
abbrev main_v153 : Ref sig .tc := ⟨.hbm, 245, rfl⟩
abbrev main_v154 : Ref sig .tc := ⟨.hbm, 246, rfl⟩
abbrev main_v155 : Ref sig .tc := ⟨.hbm, 247, rfl⟩
abbrev main_cst_43 : Ref sig .tc := ⟨.hbm, 248, rfl⟩
abbrev main_v156 : Ref sig .tc := ⟨.hbm, 249, rfl⟩
abbrev main_v157 : Ref sig .tc := ⟨.hbm, 250, rfl⟩
abbrev main_cst_44 : Ref sig .tc := ⟨.hbm, 251, rfl⟩
abbrev main_v158 : Ref sig .tc := ⟨.hbm, 252, rfl⟩
abbrev main_v159 : Ref sig .tc := ⟨.hbm, 253, rfl⟩
abbrev main_v160 : Ref sig .tc := ⟨.hbm, 254, rfl⟩
abbrev main_cst_45 : Ref sig .tc := ⟨.hbm, 255, rfl⟩
abbrev main_v161 : Ref sig .tc := ⟨.hbm, 256, rfl⟩
abbrev main_v162 : Ref sig .tc := ⟨.hbm, 257, rfl⟩
abbrev main_cst_46 : Ref sig .tc := ⟨.hbm, 258, rfl⟩
abbrev main_v163 : Ref sig .tc := ⟨.hbm, 259, rfl⟩
abbrev main_v164 : Ref sig .tc := ⟨.hbm, 260, rfl⟩
abbrev main_v165 : Ref sig .tc := ⟨.hbm, 261, rfl⟩
abbrev main_v166 : Ref sig .tc := ⟨.hbm, 262, rfl⟩
abbrev main_v167 : Ref sig .tc := ⟨.hbm, 263, rfl⟩
abbrev main_cst_47 : Ref sig .tc := ⟨.hbm, 264, rfl⟩
abbrev main_v168 : Ref sig .tc := ⟨.hbm, 265, rfl⟩
abbrev main_v169 : Ref sig .tc := ⟨.hbm, 266, rfl⟩
abbrev main_cst_48 : Ref sig .tc := ⟨.hbm, 267, rfl⟩
abbrev main_v170 : Ref sig .tc := ⟨.hbm, 268, rfl⟩
abbrev main_v171 : Ref sig .tc := ⟨.hbm, 269, rfl⟩
abbrev main_v172 : Ref sig .tc := ⟨.hbm, 270, rfl⟩
abbrev main_cst_49 : Ref sig .tc := ⟨.hbm, 271, rfl⟩
abbrev main_v173 : Ref sig .tc := ⟨.hbm, 272, rfl⟩
abbrev main_v174 : Ref sig .tc := ⟨.hbm, 273, rfl⟩
abbrev main_v175 : Ref sig .tc := ⟨.hbm, 274, rfl⟩
abbrev main_cst_50 : Ref sig .tc := ⟨.hbm, 275, rfl⟩
abbrev main_v176 : Ref sig .tc := ⟨.hbm, 276, rfl⟩
abbrev main_v177 : Ref sig .tc := ⟨.hbm, 277, rfl⟩
abbrev main_v178 : Ref sig .tc := ⟨.hbm, 278, rfl⟩
abbrev main_v179 : Ref sig .tc := ⟨.hbm, 279, rfl⟩
abbrev main_v180 : Ref sig .tc := ⟨.hbm, 280, rfl⟩
abbrev main_cst_51 : Ref sig .tc := ⟨.hbm, 281, rfl⟩
abbrev main_v181 : Ref sig .tc := ⟨.hbm, 282, rfl⟩
abbrev main_v182 : Ref sig .tc := ⟨.hbm, 283, rfl⟩
abbrev main_cst_52 : Ref sig .tc := ⟨.hbm, 284, rfl⟩
abbrev main_v183 : Ref sig .tc := ⟨.hbm, 285, rfl⟩
abbrev main_v184 : Ref sig .tc := ⟨.hbm, 286, rfl⟩
abbrev main_v185 : Ref sig .tc := ⟨.hbm, 287, rfl⟩
abbrev main_cst_53 : Ref sig .tc := ⟨.hbm, 288, rfl⟩
abbrev main_v186 : Ref sig .tc := ⟨.hbm, 289, rfl⟩
abbrev main_v187 : Ref sig .tc := ⟨.hbm, 290, rfl⟩
abbrev main_v188 : Ref sig .tc := ⟨.hbm, 291, rfl⟩
abbrev main_cst_54 : Ref sig .tc := ⟨.hbm, 292, rfl⟩
abbrev main_v189 : Ref sig .tc := ⟨.hbm, 293, rfl⟩
abbrev main_v190 : Ref sig .tc := ⟨.hbm, 294, rfl⟩
abbrev main_v191 : Ref sig .tc := ⟨.hbm, 295, rfl⟩
abbrev main_v192 : Ref sig .tc := ⟨.hbm, 296, rfl⟩
abbrev main_v193 : Ref sig .tc := ⟨.hbm, 297, rfl⟩
abbrev main_cst_55 : Ref sig .tc := ⟨.hbm, 298, rfl⟩
abbrev main_v194 : Ref sig .tc := ⟨.hbm, 299, rfl⟩
abbrev main_v195 : Ref sig .tc := ⟨.hbm, 300, rfl⟩
abbrev main_cst_56 : Ref sig .tc := ⟨.hbm, 301, rfl⟩
abbrev main_v196 : Ref sig .tc := ⟨.hbm, 302, rfl⟩
abbrev main_v197 : Ref sig .tc := ⟨.hbm, 303, rfl⟩
abbrev main_v198 : Ref sig .tc := ⟨.hbm, 304, rfl⟩
abbrev main_cst_57 : Ref sig .tc := ⟨.hbm, 305, rfl⟩
abbrev main_v199 : Ref sig .tc := ⟨.hbm, 306, rfl⟩
abbrev main_v200 : Ref sig .tc := ⟨.hbm, 307, rfl⟩
abbrev main_v201 : Ref sig .tc := ⟨.hbm, 308, rfl⟩
abbrev main_v202 : Ref sig .tc := ⟨.hbm, 309, rfl⟩
abbrev main_call9_call0_cst : Ref sig .tc := ⟨.hbm, 310, rfl⟩
abbrev main_call9_call0_v0 : Ref sig .tc := ⟨.hbm, 311, rfl⟩
abbrev main_v203 : Ref sig .tc := ⟨.hbm, 312, rfl⟩
abbrev main_v204 : Ref sig .tc := ⟨.hbm, 313, rfl⟩
abbrev main_cst_58 : Ref sig .tc := ⟨.hbm, 314, rfl⟩
abbrev main_v205 : Ref sig .tc := ⟨.hbm, 315, rfl⟩
abbrev main_v206 : Ref sig .tc := ⟨.hbm, 316, rfl⟩
abbrev main_v207 : Ref sig .tc := ⟨.hbm, 317, rfl⟩

abbrev nD : Nat := 1
abbrev τ : Topo := Topo.v7x

variable {F : FTy → Type} [FloatOps F]
-- ==== LnFwd.lean ====
abbrev S2048x1024 : Shape := ⟨2, ![2048, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024, .f32⟩
  | .hbm, ⟨3, _⟩ => ⟨S1x1024, .f32⟩
  | .hbm, ⟨4, _⟩ => ⟨S1x1024, .f32⟩
  | .hbm, ⟨5, _⟩ => ⟨S2048x1024, .f32⟩
  | .hbm, ⟨6, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== LnFwdRefIdeal.lean ====
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 31
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1, .f32⟩
  | .hbm, ⟨22, _⟩ => ⟨S2048x1024, .f32⟩
  | .hbm, ⟨23, _⟩ => ⟨S2048x1024, .f32⟩
  | .hbm, ⟨24, _⟩ => ⟨S1x1024, .f32⟩
  | .hbm, ⟨25, _⟩ => ⟨S2048x1024, .f32⟩
  | .hbm, ⟨26, _⟩ => ⟨S2048x1024, .f32⟩
  | .hbm, ⟨27, _⟩ => ⟨S1x1024, .f32⟩
  | .hbm, ⟨28, _⟩ => ⟨S2048x1024, .f32⟩
  | .hbm, ⟨29, _⟩ => ⟨S2048x1024, .f32⟩
  | .hbm, ⟨30, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== MixFwd.lean ====
abbrev S2048x1024 : Shape := ⟨2, ![2048, 1024]⟩
abbrev S1024x1024 : Shape := ⟨2, ![1024, 1024]⟩
abbrev S1024 : Shape := ⟨1, ![1024]⟩
abbrev S8x128x1024 : Shape := ⟨3, ![8, 128, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 13
  | .vmem => 13
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S1024, .f32⟩
  | .hbm, ⟨4, _⟩ => ⟨S1024, .f32⟩
  | .hbm, ⟨5, _⟩ => ⟨S2048x1024, .bf16⟩
  | .hbm, ⟨6, _⟩ => ⟨S1024x1024, .bf16⟩
  | .hbm, ⟨7, _⟩ => ⟨S8x128x1024, .bf16⟩
  | .hbm, ⟨8, _⟩ => ⟨S1x1024, .f32⟩
  | .hbm, ⟨9, _⟩ => ⟨S1x1024, .f32⟩
  | .hbm, ⟨10, _⟩ => ⟨S2048x1024, .f32⟩
  | .hbm, ⟨11, _⟩ => ⟨S2048x1024, .f32⟩
  | .hbm, ⟨12, _⟩ => ⟨S2048x1024, .bf16⟩
  | .local _ .vmem, ⟨0, _⟩ => ⟨S512x1024, .bf16⟩
  | .local _ .vmem, ⟨1, _⟩ => ⟨S512x1024, .bf16⟩
  | .local _ .vmem, ⟨2, _⟩ => ⟨S8x128x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MixFwdRefIdeal.lean ====
abbrev S2048x1024 : Shape := ⟨2, ![2048, 1024]⟩
abbrev S1024x1024 : Shape := ⟨2, ![1024, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 38
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048, .f32⟩
  | .hbm, ⟨21, _⟩ => ⟨S2048x1, .f32⟩
  | .hbm, ⟨22, _⟩ => ⟨S_, .f32⟩
  | .hbm, ⟨23, _⟩ => ⟨S2048x1, .f32⟩
  | .hbm, ⟨24, _⟩ => ⟨S2048x1, .f32⟩
  | .hbm, ⟨25, _⟩ => ⟨S_, .f32⟩
  | .hbm, ⟨26, _⟩ => ⟨S2048x1, .f32⟩
  | .hbm, ⟨27, _⟩ => ⟨S2048x1, .f32⟩
  | .hbm, ⟨28, _⟩ => ⟨S2048x1, .f32⟩
  | .hbm, ⟨29, _⟩ => ⟨S2048x1024, .f32⟩
  | .hbm, ⟨30, _⟩ => ⟨S2048x1024, .f32⟩
  | .hbm, ⟨31, _⟩ => ⟨S1x1024, .f32⟩
  | .hbm, ⟨32, _⟩ => ⟨S2048x1024, .f32⟩
  | .hbm, ⟨33, _⟩ => ⟨S2048x1024, .f32⟩
  | .hbm, ⟨34, _⟩ => ⟨S1x1024, .f32⟩
  | .hbm, ⟨35, _⟩ => ⟨S2048x1024, .f32⟩
  | .hbm, ⟨36, _⟩ => ⟨S2048x1024, .f32⟩
  | .hbm, ⟨37, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]
-- ==== MergeFwd.lean ====
abbrev S2048x512 : Shape := ⟨2, ![2048, 512]⟩
abbrev S512x1024 : Shape := ⟨2, ![512, 1024]⟩
abbrev S2048x4096 : Shape := ⟨2, ![2048, 4096]⟩
abbrev S512x8x128 : Shape := ⟨3, ![512, 8, 128]⟩
abbrev S8x512x128 : Shape := ⟨3, ![8, 512, 128]⟩
abbrev S2048x1024 : Shape := ⟨2, ![2048, 1024]⟩
abbrev S1024x512 : Shape := ⟨2, ![1024, 512]⟩
abbrev S4x512x128 : Shape := ⟨3, ![4, 512, 128]⟩
abbrev S1x512x128 : Shape := ⟨3, ![1, 512, 128]⟩
abbrev S512x128 : Shape := ⟨2, ![512, 128]⟩
abbrev S512x512 : Shape := ⟨2, ![512, 512]⟩

abbrev nBuf : Space → Nat
  | .hbm => 17
  | .vmem => 18
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S512x1024, .f32⟩
  | .hbm, ⟨3, _⟩ => ⟨S512x1024, .f32⟩
  | .hbm, ⟨4, _⟩ => ⟨S2048x4096, .f32⟩
  | .hbm, ⟨5, _⟩ => ⟨S2048x512, .bf16⟩
  | .hbm, ⟨6, _⟩ => ⟨S2048x512, .bf16⟩
  | .hbm, ⟨7, _⟩ => ⟨S512x1024, .bf16⟩
  | .hbm, ⟨8, _⟩ => ⟨S512x8x128, .bf16⟩
  | .hbm, ⟨9, _⟩ => ⟨S8x512x128, .bf16⟩
  | .hbm, ⟨10, _⟩ => ⟨S512x1024, .bf16⟩
  | .hbm, ⟨11, _⟩ => ⟨S512x8x128, .bf16⟩
  | .hbm, ⟨12, _⟩ => ⟨S8x512x128, .bf16⟩
  | .hbm, ⟨13, _⟩ => ⟨S2048x4096, .bf16⟩
  | .hbm, ⟨14, _⟩ => ⟨S2048x1024, .bf16⟩
  | .hbm, ⟨15, _⟩ => ⟨S2048x1024, .bf16⟩
  | .hbm, ⟨16, _⟩ => ⟨S2048x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S4x512x128, .bf16⟩
  | .local _ .vmem, ⟨5, _⟩ => ⟨S4x512x128, .bf16⟩
  | .local _ .vmem, ⟨6, _⟩ => ⟨S4x512x128, .bf16⟩
  | .local _ .vmem, ⟨7, _⟩ => ⟨S4x512x128, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MergeFwdRefIdeal.lean ====
abbrev S2048x512 : Shape := ⟨2, ![2048, 512]⟩
abbrev S512x1024 : Shape := ⟨2, ![512, 1024]⟩
abbrev S2048x4096 : Shape := ⟨2, ![2048, 4096]⟩
abbrev S2048x1024 : Shape := ⟨2, ![2048, 1024]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S512x1024, .f32⟩
  | .hbm, ⟨3, _⟩ => ⟨S512x1024, .f32⟩
  | .hbm, ⟨4, _⟩ => ⟨S2048x4096, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S_, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S_, .f32⟩
  | .hbm, ⟨21, _⟩ => ⟨S2048x1024, .f32⟩
  | .hbm, ⟨22, _⟩ => ⟨S2048x1024, .f32⟩
  | .hbm, ⟨23, _⟩ => ⟨S_, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .bf16⟩
  | .hbm, ⟨29, _⟩ => ⟨S2048x1024, .bf16⟩
  | .hbm, ⟨30, _⟩ => ⟨S2048x1024, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== DownFwd.lean ====
abbrev S2048x2816 : Shape := ⟨2, ![2048, 2816]⟩
abbrev S2816x1024 : Shape := ⟨2, ![2816, 1024]⟩
abbrev S2048x1024 : Shape := ⟨2, ![2048, 1024]⟩
abbrev S1024x1024 : Shape := ⟨2, ![1024, 1024]⟩
abbrev S2048x256 : Shape := ⟨2, ![2048, 256]⟩
abbrev S256x1024 : Shape := ⟨2, ![256, 1024]⟩
abbrev S1024 : Shape := ⟨1, ![1024]⟩
abbrev S2048x4x704 : Shape := ⟨3, ![2048, 4, 704]⟩
abbrev S4x2048x704 : Shape := ⟨3, ![4, 2048, 704]⟩
abbrev S8x352x1024 : Shape := ⟨3, ![8, 352, 1024]⟩
abbrev S8x128x1024 : Shape := ⟨3, ![8, 128, 1024]⟩
abbrev S256x8x128 : Shape := ⟨3, ![256, 8, 128]⟩
abbrev S8x256x128 : Shape := ⟨3, ![8, 256, 128]⟩
abbrev S1x1024 : Shape := ⟨2, ![1, 1024]⟩
abbrev S4x256x704 : Shape := ⟨3, ![4, 256, 704]⟩
abbrev S256x256 : Shape := ⟨2, ![256, 256]⟩
abbrev S1x256x704 : Shape := ⟨3, ![1, 256, 704]⟩
abbrev S256x704 : Shape := ⟨2, ![256, 704]⟩
abbrev S704x1024 : Shape := ⟨2, ![704, 1024]⟩
abbrev S1x256x128 : Shape := ⟨3, ![1, 256, 128]⟩
abbrev S256x128 : Shape := ⟨2, ![256, 128]⟩
abbrev S256 : Shape := ⟨1, ![256]⟩
abbrev S256x1 : Shape := ⟨2, ![256, 1]⟩

abbrev nBuf : Space → Nat
  | .hbm => 27
  | .vmem => 23
  | .smem => 0
  | _ => 0

abbrev bufTy : (tb : Table) → Fin (tcTables nBuf tb) → BufTy
  | .hbm, ⟨0, _⟩ => ⟨S2048x2816, .f32⟩
  | .hbm, ⟨1, _⟩ => ⟨S2816x1024, .f32⟩
  | .hbm, ⟨2, _⟩ => ⟨S2048x1024, .f32⟩
  | .hbm, ⟨3, _⟩ => ⟨S1024x1024, .f32⟩
  | .hbm, ⟨4, _⟩ => ⟨S2048x256, .f32⟩
  | .hbm, ⟨5, _⟩ => ⟨S256x1024, .f32⟩
  | .hbm, ⟨6, _⟩ => ⟨S1024, .f32⟩
  | .hbm, ⟨7, _⟩ => ⟨S1024, .f32⟩
  | .hbm, ⟨8, _⟩ => ⟨S2048x2816, .bf16⟩
  | .hbm, ⟨9, _⟩ => ⟨S2048x4x704, .bf16⟩
  | .hbm, ⟨10, _⟩ => ⟨S4x2048x704, .bf16⟩
  | .hbm, ⟨11, _⟩ => ⟨S2816x1024, .bf16⟩
  | .hbm, ⟨12, _⟩ => ⟨S8x352x1024, .bf16⟩
  | .hbm, ⟨13, _⟩ => ⟨S2048x1024, .bf16⟩
  | .hbm, ⟨14, _⟩ => ⟨S1024x1024, .bf16⟩
  | .hbm, ⟨15, _⟩ => ⟨S8x128x1024, .bf16⟩
  | .hbm, ⟨16, _⟩ => ⟨S2048x256, .bf16⟩
  | .hbm, ⟨17, _⟩ => ⟨S256x1024, .bf16⟩
  | .hbm, ⟨18, _⟩ => ⟨S256x8x128, .bf16⟩
  | .hbm, ⟨19, _⟩ => ⟨S8x256x128, .bf16⟩
  | .hbm, ⟨20, _⟩ => ⟨S1x1024, .f32⟩
  | .hbm, ⟨21, _⟩ => ⟨S1x1024, .f32⟩
  | .hbm, ⟨22, _⟩ => ⟨S2048x1024, .f32⟩
  | .hbm, ⟨23, _⟩ => ⟨S2048x1024, .f32⟩
  | .hbm, ⟨24, _⟩ => ⟨S2048x1024, .bf16⟩
  | .hbm, ⟨25, _⟩ => ⟨S2048x1024, .bf16⟩
  | .hbm, ⟨26, _⟩ => ⟨S2048x1024, .bf16⟩
  | .local _ .vmem, ⟨0, _⟩ => ⟨S4x256x704, .bf16⟩
  | .local _ .vmem, ⟨1, _⟩ => ⟨S4x256x704, .bf16⟩
  | .local _ .vmem, ⟨2, _⟩ => ⟨S8x352x1024, .bf16⟩
  | .local _ .vmem, ⟨3, _⟩ => ⟨S256x1024, .bf16⟩
  | .local _ .vmem, ⟨4, _⟩ => ⟨S256x1024, .bf16⟩
  | .local _ .vmem, ⟨5, _⟩ => ⟨S8x128x1024, .bf16⟩
  | .local _ .vmem, ⟨6, _⟩ => ⟨S256x256, .bf16⟩
  | .local _ .vmem, ⟨7, _⟩ => ⟨S256x256, .bf16⟩
  | .local _ .vmem, ⟨8, _⟩ => ⟨S8x256x128, .bf16⟩
  | .local _ .vmem, ⟨9, _⟩ => ⟨S256x1024, .f32⟩
  | .local _ .vmem, ⟨10, _⟩ => ⟨S256x1024, .f32⟩
  | .local _ .vmem, ⟨11, _⟩ => ⟨S1x1024, .f32⟩
  | .local _ .vmem, ⟨12, _⟩ => ⟨S1x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14_0 : Ref sig .tc := ⟨.hbm, 22, rfl⟩
abbrev main_v14_1 : Ref sig .tc := ⟨.hbm, 23, rfl⟩
abbrev main_v14_2 : Ref sig .tc := ⟨.hbm, 24, rfl⟩
abbrev main_v14_3 : Ref sig .tc := ⟨.hbm, 25, rfl⟩
abbrev main_v14_4 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x352x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x256x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== DownFwdRefIdeal.lean ====
abbrev S2048x2816 : Shape := ⟨2, ![2048, 2816]⟩
abbrev S2816x1024 : Shape := ⟨2, ![2816, 1024]⟩
abbrev S2048x1024 : Shape := ⟨2, ![2048, 1024]⟩
abbrev S1024x1024 : Shape := ⟨2, ![1024, 1024]⟩
abbrev S2048x256 : Shape := ⟨2, ![2048, 256]⟩
abbrev S256x1024 : Shape := ⟨2, ![256, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2816x1024, .f32⟩
  | .hbm, ⟨2, _⟩ => ⟨S2048x1024, .f32⟩
  | .hbm, ⟨3, _⟩ => ⟨S1024x1024, .f32⟩
  | .hbm, ⟨4, _⟩ => ⟨S2048x256, .f32⟩
  | .hbm, ⟨5, _⟩ => ⟨S256x1024, .f32⟩
  | .hbm, ⟨6, _⟩ => ⟨S1024, .f32⟩
  | .hbm, ⟨7, _⟩ => ⟨S1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S_, .f32⟩
  | .hbm, ⟨14, _⟩ => ⟨S2048x1024, .f32⟩
  | .hbm, ⟨15, _⟩ => ⟨S2048x1024, .f32⟩
  | .hbm, ⟨16, _⟩ => ⟨S_, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S_, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048, .f32⟩
  | .hbm, ⟨27, _⟩ => ⟨S2048x1, .f32⟩
  | .hbm, ⟨28, _⟩ => ⟨S_, .f32⟩
  | .hbm, ⟨29, _⟩ => ⟨S2048x1, .f32⟩
  | .hbm, ⟨30, _⟩ => ⟨S2048x1, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S2048, .f32⟩
  | .hbm, ⟨36, _⟩ => ⟨S2048x1, .f32⟩
  | .hbm, ⟨37, _⟩ => ⟨S_, .f32⟩
  | .hbm, ⟨38, _⟩ => ⟨S2048x1, .f32⟩
  | .hbm, ⟨39, _⟩ => ⟨S2048x1, .f32⟩
  | .hbm, ⟨40, _⟩ => ⟨S_, .f32⟩
  | .hbm, ⟨41, _⟩ => ⟨S2048x1, .f32⟩
  | .hbm, ⟨42, _⟩ => ⟨S2048x1, .f32⟩
  | .hbm, ⟨43, _⟩ => ⟨S2048x1, .f32⟩
  | .hbm, ⟨44, _⟩ => ⟨S2048x1024, .f32⟩
  | .hbm, ⟨45, _⟩ => ⟨S2048x1024, .f32⟩
  | .hbm, ⟨46, _⟩ => ⟨S1x1024, .f32⟩
  | .hbm, ⟨47, _⟩ => ⟨S2048x1024, .f32⟩
  | .hbm, ⟨48, _⟩ => ⟨S2048x1024, .f32⟩
  | .hbm, ⟨49, _⟩ => ⟨S1x1024, .f32⟩
  | .hbm, ⟨50, _⟩ => ⟨S2048x1024, .f32⟩
  | .hbm, ⟨51, _⟩ => ⟨S2048x1024, .f32⟩
  | .hbm, ⟨52, _⟩ => ⟨S2048x1024, .bf16⟩
  | .hbm, ⟨53, _⟩ => ⟨S2048x1024, .bf16⟩
  | .hbm, ⟨54, _⟩ => ⟨S2048x1024, .bf16⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩

abbrev nD : Nat := 1
abbrev τ : Topo := Topo.v7x

variable {F : FTy → Type} [FloatOps F]
-- ==== FfnFwd.lean ====
abbrev S2048x5632 : Shape := ⟨2, ![2048, 5632]⟩
abbrev S3x2816 : Shape := ⟨2, ![3, 2816]⟩
abbrev S2816 : Shape := ⟨1, ![2816]⟩
abbrev S2048x8x704 : Shape := ⟨3, ![2048, 8, 704]⟩
abbrev S8x2048x704 : Shape := ⟨3, ![8, 2048, 704]⟩
abbrev S3x4x704 : Shape := ⟨3, ![3, 4, 704]⟩
abbrev S4x3x704 : Shape := ⟨3, ![4, 3, 704]⟩
abbrev S4x1x704 : Shape := ⟨3, ![4, 1, 704]⟩
abbrev S4x2048x704 : Shape := ⟨3, ![4, 2048, 704]⟩
abbrev S1x1024x704 : Shape := ⟨3, ![1, 1024, 704]⟩
abbrev S1x16x704 : Shape := ⟨3, ![1, 16, 704]⟩
abbrev S1x3x704 : Shape := ⟨3, ![1, 3, 704]⟩
abbrev S1x1x704 : Shape := ⟨3, ![1, 1, 704]⟩
abbrev S1024x704 : Shape := ⟨2, ![1024, 704]⟩
abbrev S16x704 : Shape := ⟨2, ![16, 704]⟩
abbrev S1x704 : Shape := ⟨2, ![1, 704]⟩
abbrev S1024x1 : Shape := ⟨2, ![1024, 1]⟩

abbrev nBuf : Space → Nat
  | .hbm => 10
  | .vmem => 14
  | .smem => 0
  | _ => 0

abbrev bufTy : (tb : Table) → Fin (tcTables nBuf tb) → BufTy
  | .hbm, ⟨0, _⟩ => ⟨S2048x5632, .f32⟩
  | .hbm, ⟨1, _⟩ => ⟨S3x2816, .f32⟩
  | .hbm, ⟨2, _⟩ => ⟨S2816, .f32⟩
  | .hbm, ⟨3, _⟩ => ⟨S2048x5632, .bf16⟩
  | .hbm, ⟨4, _⟩ => ⟨S2048x8x704, .bf16⟩
  | .hbm, ⟨5, _⟩ => ⟨S8x2048x704, .bf16⟩
  | .hbm, ⟨6, _⟩ => ⟨S3x4x704, .f32⟩
  | .hbm, ⟨7, _⟩ => ⟨S4x3x704, .f32⟩
  | .hbm, ⟨8, _⟩ => ⟨S4x1x704, .f32⟩
  | .hbm, ⟨9, _⟩ => ⟨S4x2048x704, .bf16⟩
  | .local _ .vmem, ⟨0, _⟩ => ⟨S1x1024x704, .bf16⟩
  | .local _ .vmem, ⟨1, _⟩ => ⟨S1x1024x704, .bf16⟩
  | .local _ .vmem, ⟨2, _⟩ => ⟨S1x1024x704, .bf16⟩
  | .local _ .vmem, ⟨3, _⟩ => ⟨S1x1024x704, .bf16⟩
  | .local _ .vmem, ⟨4, _⟩ => ⟨S1x16x704, .bf16⟩
  | .local _ .vmem, ⟨5, _⟩ => ⟨S1x16x704, .bf16⟩
  | .local _ .vmem, ⟨6, _⟩ => ⟨S1x16x704, .bf16⟩
  | .local _ .vmem, ⟨7, _⟩ => ⟨S1x16x704, .bf16⟩
  | .local _ .vmem, ⟨8, _⟩ => ⟨S1x3x704, .f32⟩
  | .local _ .vmem, ⟨9, _⟩ => ⟨S1x3x704, .f32⟩
  | .local _ .vmem, ⟨10, _⟩ => ⟨S1x1x704, .f32⟩
  | .local _ .vmem, ⟨11, _⟩ => ⟨S1x1x704, .f32⟩
  | .local _ .vmem, ⟨12, _⟩ => ⟨S1x1024x704, .bf16⟩
  | .local _ .vmem, ⟨13, _⟩ => ⟨S1x1024x704, .bf16⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![v0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c64_i32 : BitVec 32 := 64#32
  let v1 : BitVec 32 := Scalar.muli arg1 c64_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v0.toNat, v3.toNat, c0_i32_0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c1_i32 : BitVec 32 := 1#32
  let v1 : BitVec 32 := Scalar.addi arg1 c1_i32
  let c64_i32 : BitVec 32 := 64#32
  let v2 : BitVec 32 := Scalar.muli v1 c64_i32
  let c127_i32 : BitVec 32 := 127#32
  let v3 : BitVec 32 := Scalar.minsi v2 c127_i32
  let c0_i32 : BitVec 32 := 0#32
  let c0_i32_0 : BitVec 32 := 0#32
  ![v0.toNat, v3.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x3x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1024x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FfnFwdRefIdeal.lean ====
abbrev S2048x5632 : Shape := ⟨2, ![2048, 5632]⟩
abbrev S3x2816 : Shape := ⟨2, ![3, 2816]⟩
abbrev S2816 : Shape := ⟨1, ![2816]⟩
abbrev S2048x2816 : Shape := ⟨2, ![2048, 2816]⟩
abbrev S_ : Shape := ⟨0, ![]⟩
abbrev S2050x2816 : Shape := ⟨2, ![2050, 2816]⟩
abbrev S1x2816 : Shape := ⟨2, ![1, 2816]⟩
abbrev S2048x4x704 : Shape := ⟨3, ![2048, 4, 704]⟩
abbrev S4x2048x704 : Shape := ⟨3, ![4, 2048, 704]⟩

abbrev nBuf : Space → Nat
  | .hbm => 46
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S3x2816, .f32⟩
  | .hbm, ⟨2, _⟩ => ⟨S2816, .f32⟩
  | .hbm, ⟨3, _⟩ => ⟨S2048x2816, .f32⟩
  | .hbm, ⟨4, _⟩ => ⟨S2048x2816, .f32⟩
  | .hbm, ⟨5, _⟩ => ⟨S_, .i32⟩
  | .hbm, ⟨6, _⟩ => ⟨S_, .f32⟩
  | .hbm, ⟨7, _⟩ => ⟨S2050x2816, .f32⟩
  | .hbm, ⟨8, _⟩ => ⟨S2048x2816, .f32⟩
  | .hbm, ⟨9, _⟩ => ⟨S1x2816, .f32⟩
  | .hbm, ⟨10, _⟩ => ⟨S2816, .f32⟩
  | .hbm, ⟨11, _⟩ => ⟨S1x2816, .f32⟩
  | .hbm, ⟨12, _⟩ => ⟨S2048x2816, .f32⟩
  | .hbm, ⟨13, _⟩ => ⟨S2048x2816, .f32⟩
  | .hbm, ⟨14, _⟩ => ⟨S2048x2816, .f32⟩
  | .hbm, ⟨15, _⟩ => ⟨S1x2816, .f32⟩
  | .hbm, ⟨16, _⟩ => ⟨S2816, .f32⟩
  | .hbm, ⟨17, _⟩ => ⟨S1x2816, .f32⟩
  | .hbm, ⟨18, _⟩ => ⟨S2048x2816, .f32⟩
  | .hbm, ⟨19, _⟩ => ⟨S2048x2816, .f32⟩
  | .hbm, ⟨20, _⟩ => ⟨S2048x2816, .f32⟩
  | .hbm, ⟨21, _⟩ => ⟨S2048x2816, .f32⟩
  | .hbm, ⟨22, _⟩ => ⟨S1x2816, .f32⟩
  | .hbm, ⟨23, _⟩ => ⟨S2816, .f32⟩
  | .hbm, ⟨24, _⟩ => ⟨S1x2816, .f32⟩
  | .hbm, ⟨25, _⟩ => ⟨S2048x2816, .f32⟩
  | .hbm, ⟨26, _⟩ => ⟨S2048x2816, .f32⟩
  | .hbm, ⟨27, _⟩ => ⟨S2048x2816, .f32⟩
  | .hbm, ⟨28, _⟩ => ⟨S1x2816, .f32⟩
  | .hbm, ⟨29, _⟩ => ⟨S2048x2816, .f32⟩
  | .hbm, ⟨30, _⟩ => ⟨S2048x2816, .f32⟩
  | .hbm, ⟨31, _⟩ => ⟨S_, .f32⟩
  | .hbm, ⟨32, _⟩ => ⟨S2048x2816, .f32⟩
  | .hbm, ⟨33, _⟩ => ⟨S2048x2816, .f32⟩
  | .hbm, ⟨34, _⟩ => ⟨S_, .f32⟩
  | .hbm, ⟨35, _⟩ => ⟨S2048x2816, .f32⟩
  | .hbm, ⟨36, _⟩ => ⟨S2048x2816, .f32⟩
  | .hbm, ⟨37, _⟩ => ⟨S2048x2816, .f32⟩
  | .hbm, ⟨38, _⟩ => ⟨S_, .f32⟩
  | .hbm, ⟨39, _⟩ => ⟨S2048x2816, .f32⟩
  | .hbm, ⟨40, _⟩ => ⟨S2048x2816, .f32⟩
  | .hbm, ⟨41, _⟩ => ⟨S2048x2816, .f32⟩
  | .hbm, ⟨42, _⟩ => ⟨S2048x2816, .f32⟩
  | .hbm, ⟨43, _⟩ => ⟨S2048x2816, .bf16⟩
  | .hbm, ⟨44, _⟩ => ⟨S2048x4x704, .bf16⟩
  | .hbm, ⟨45, _⟩ => ⟨S4x2048x704, .bf16⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_cst : Ref sig .tc := ⟨.hbm, 31, rfl⟩
abbrev main_v26 : Ref sig .tc := ⟨.hbm, 32, rfl⟩
abbrev main_v27 : Ref sig .tc := ⟨.hbm, 33, rfl⟩
abbrev main_cst_0 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_1 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩

abbrev nD : Nat := 1
abbrev τ : Topo := Topo.v7x

variable {F : FTy → Type} [FloatOps F]
-- ==== PoolFwd.lean ====
abbrev S2048x512 : Shape := ⟨2, ![2048, 512]⟩
abbrev S4x128x128 : Shape := ⟨3, ![4, 128, 128]⟩
abbrev S512 : Shape := ⟨1, ![512]⟩
abbrev S1x512 : Shape := ⟨2, ![1, 512]⟩
abbrev S2048x128 : Shape := ⟨2, ![2048, 128]⟩
abbrev S8x128 : Shape := ⟨2, ![8, 128]⟩
abbrev S2064x128 : Shape := ⟨2, ![2064, 128]⟩
abbrev S2048x1 : Shape := ⟨2, ![2048, 1]⟩
abbrev S1x128x128 : Shape := ⟨3, ![1, 128, 128]⟩
abbrev S128x128 : Shape := ⟨2, ![128, 128]⟩
abbrev S1x128 : Shape := ⟨2, ![1, 128]⟩

abbrev nBuf : Space → Nat
  | .hbm => 7
  | .vmem => 5
  | .smem => 0
  | _ => 0

abbrev bufTy : (tb : Table) → Fin (tcTables nBuf tb) → BufTy
  | .hbm, ⟨0, _⟩ => ⟨S2048x512, .f32⟩
  | .hbm, ⟨1, _⟩ => ⟨S4x128x128, .f32⟩
  | .hbm, ⟨2, _⟩ => ⟨S512, .f32⟩
  | .hbm, ⟨3, _⟩ => ⟨S4x128x128, .bf16⟩
  | .hbm, ⟨4, _⟩ => ⟨S1x512, .f32⟩
  | .hbm, ⟨5, _⟩ => ⟨S2048x512, .bf16⟩
  | .hbm, ⟨6, _⟩ => ⟨S2048x512, .bf16⟩
  | .local _ .vmem, ⟨0, _⟩ => ⟨S2048x512, .f32⟩
  | .local _ .vmem, ⟨1, _⟩ => ⟨S4x128x128, .bf16⟩
  | .local _ .vmem, ⟨2, _⟩ => ⟨S1x512, .f32⟩
  | .local _ .vmem, ⟨3, _⟩ => ⟨S2048x512, .bf16⟩
  | .local _ .vmem, ⟨4, _⟩ => ⟨S2048x512, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4x128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== PoolFwdRefIdeal.lean ====
abbrev S2048x512 : Shape := ⟨2, ![2048, 512]⟩
abbrev S4x128x128 : Shape := ⟨3, ![4, 128, 128]⟩
abbrev S512 : Shape := ⟨1, ![512]⟩
abbrev S1x2048x512 : Shape := ⟨3, ![1, 2048, 512]⟩
abbrev S_ : Shape := ⟨0, ![]⟩
abbrev S1x1x512 : Shape := ⟨3, ![1, 1, 512]⟩
abbrev S1x2049x512 : Shape := ⟨3, ![1, 2049, 512]⟩
abbrev S2048 : Shape := ⟨1, ![2048]⟩
abbrev S1x2049x128 : Shape := ⟨3, ![1, 2049, 128]⟩
abbrev S2048x1 : Shape := ⟨2, ![2048, 1]⟩
abbrev S1x2048x128 : Shape := ⟨3, ![1, 2048, 128]⟩
abbrev S1x2048x1 : Shape := ⟨3, ![1, 2048, 1]⟩
abbrev S1x2048x4x128 : Shape := ⟨4, ![1, 2048, 4, 128]⟩
abbrev S4x128x1x2048 : Shape := ⟨4, ![4, 128, 1, 2048]⟩

abbrev nBuf : Space → Nat
  | .hbm => 219
  | .vmem => 0
  | .smem => 0
  | _ => 0

abbrev hbmTy0_0 (i : Nat) : BufTy := match i % 128 with
  | 0 => ⟨S2048x512, .f32⟩
  | 1 => ⟨S4x128x128, .f32⟩
  | 2 => ⟨S512, .f32⟩
  | 3 => ⟨S1x2048x512, .f32⟩
  | 4 => ⟨S_, .f32⟩
  | 5 => ⟨S1x1x512, .f32⟩
  | 6 => ⟨S_, .f32⟩
  | 7 => ⟨S_, .f32⟩
  | 8 => ⟨S1x2048x512, .f32⟩
  | 9 => ⟨S1x2049x512, .f32⟩
  | 10 => ⟨S2048, .i32⟩
  | 11 => ⟨S_, .i32⟩
  | 12 => ⟨S2048, .i32⟩
  | 13 => ⟨S2048, .i32⟩
  | 14 => ⟨S_, .i32⟩
  | 15 => ⟨S_, .i32⟩
  | 16 => ⟨S_, .i32⟩
  | 17 => ⟨S2048, .i32⟩
  | 18 => ⟨S2048, .i32⟩
  | 19 => ⟨S_, .i32⟩
  | 20 => ⟨S2048, .i32⟩
  | 21 => ⟨S2048, .i32⟩
  | 22 => ⟨S_, .i32⟩
  | 23 => ⟨S2048, .i32⟩
  | 24 => ⟨S2048, .i32⟩
  | 25 => ⟨S_, .i32⟩
  | 26 => ⟨S_, .i32⟩
  | 27 => ⟨S_, .i32⟩
  | 28 => ⟨S2048, .i32⟩
  | 29 => ⟨S2048, .i32⟩
  | 30 => ⟨S_, .i32⟩
  | 31 => ⟨S2048, .i32⟩
  | 32 => ⟨S2048, .i32⟩
  | 33 => ⟨S2048, .i32⟩
  | 34 => ⟨S2048, .f32⟩
  | 35 => ⟨S1x2049x128, .f32⟩
  | 36 => ⟨S_, .i32⟩
  | 37 => ⟨S2048, .i32⟩
  | 38 => ⟨S2048, .i1⟩
  | 39 => ⟨S_, .i32⟩
  | 40 => ⟨S2048, .i32⟩
  | 41 => ⟨S2048, .i32⟩
  | 42 => ⟨S2048, .i32⟩
  | 43 => ⟨S2048x1, .i32⟩
  | 44 => ⟨S1x2048x128, .f32⟩
  | 45 => ⟨S_, .i32⟩
  | 46 => ⟨S2048, .i32⟩
  | 47 => ⟨S2048, .i1⟩
  | 48 => ⟨S_, .i32⟩
  | 49 => ⟨S2048, .i32⟩
  | 50 => ⟨S2048, .i32⟩
  | 51 => ⟨S2048, .i32⟩
  | 52 => ⟨S2048x1, .i32⟩
  | 53 => ⟨S1x2048x128, .f32⟩
  | 54 => ⟨S1x2048x128, .f32⟩
  | 55 => ⟨S1x2048x1, .f32⟩
  | 56 => ⟨S1x2048x128, .f32⟩
  | 57 => ⟨S1x2048x128, .f32⟩
  | 58 => ⟨S1x2048x128, .f32⟩
  | 59 => ⟨S1x2048x128, .f32⟩
  | 60 => ⟨S_, .i32⟩
  | 61 => ⟨S2048, .i32⟩
  | 62 => ⟨S2048, .i32⟩
  | 63 => ⟨S_, .i32⟩
  | 64 => ⟨S_, .i32⟩
  | 65 => ⟨S_, .i32⟩
  | 66 => ⟨S2048, .i32⟩
  | 67 => ⟨S2048, .i32⟩
  | 68 => ⟨S_, .i32⟩
  | 69 => ⟨S2048, .i32⟩
  | 70 => ⟨S2048, .i32⟩
  | 71 => ⟨S_, .i32⟩
  | 72 => ⟨S2048, .i32⟩
  | 73 => ⟨S2048, .i32⟩
  | 74 => ⟨S_, .i32⟩
  | 75 => ⟨S_, .i32⟩
  | 76 => ⟨S_, .i32⟩
  | 77 => ⟨S2048, .i32⟩
  | 78 => ⟨S2048, .i32⟩
  | 79 => ⟨S_, .i32⟩
  | 80 => ⟨S2048, .i32⟩
  | 81 => ⟨S2048, .i32⟩
  | 82 => ⟨S2048, .i32⟩
  | 83 => ⟨S2048, .f32⟩
  | 84 => ⟨S1x2049x128, .f32⟩
  | 85 => ⟨S_, .i32⟩
  | 86 => ⟨S2048, .i32⟩
  | 87 => ⟨S2048, .i1⟩
  | 88 => ⟨S_, .i32⟩
  | 89 => ⟨S2048, .i32⟩
  | 90 => ⟨S2048, .i32⟩
  | 91 => ⟨S2048, .i32⟩
  | 92 => ⟨S2048x1, .i32⟩
  | 93 => ⟨S1x2048x128, .f32⟩
  | 94 => ⟨S_, .i32⟩
  | 95 => ⟨S2048, .i32⟩
  | 96 => ⟨S2048, .i1⟩
  | 97 => ⟨S_, .i32⟩
  | 98 => ⟨S2048, .i32⟩
  | 99 => ⟨S2048, .i32⟩
  | 100 => ⟨S2048, .i32⟩
  | 101 => ⟨S2048x1, .i32⟩
  | 102 => ⟨S1x2048x128, .f32⟩
  | 103 => ⟨S1x2048x128, .f32⟩
  | 104 => ⟨S1x2048x1, .f32⟩
  | 105 => ⟨S1x2048x128, .f32⟩
  | 106 => ⟨S1x2048x128, .f32⟩
  | 107 => ⟨S1x2048x128, .f32⟩
  | 108 => ⟨S1x2048x128, .f32⟩
  | 109 => ⟨S_, .i32⟩
  | 110 => ⟨S2048, .i32⟩
  | 111 => ⟨S2048, .i32⟩
  | 112 => ⟨S_, .i32⟩
  | 113 => ⟨S_, .i32⟩
  | 114 => ⟨S_, .i32⟩
  | 115 => ⟨S2048, .i32⟩
  | 116 => ⟨S2048, .i32⟩
  | 117 => ⟨S_, .i32⟩
  | 118 => ⟨S2048, .i32⟩
  | 119 => ⟨S2048, .i32⟩
  | 120 => ⟨S_, .i32⟩
  | 121 => ⟨S2048, .i32⟩
  | 122 => ⟨S2048, .i32⟩
  | 123 => ⟨S_, .i32⟩
  | 124 => ⟨S_, .i32⟩
  | 125 => ⟨S_, .i32⟩
  | 126 => ⟨S2048, .i32⟩
  | 127 => ⟨S2048, .i32⟩
  | _ => ⟨S2048x512, .f32⟩

abbrev hbmTy0_1 (i : Nat) : BufTy := match i % 128 with
  | 0 => ⟨S_, .i32⟩
  | 1 => ⟨S2048, .i32⟩
  | 2 => ⟨S2048, .i32⟩
  | 3 => ⟨S2048, .i32⟩
  | 4 => ⟨S2048, .f32⟩
  | 5 => ⟨S1x2049x128, .f32⟩
  | 6 => ⟨S_, .i32⟩
  | 7 => ⟨S2048, .i32⟩
  | 8 => ⟨S2048, .i1⟩
  | 9 => ⟨S_, .i32⟩
  | 10 => ⟨S2048, .i32⟩
  | 11 => ⟨S2048, .i32⟩
  | 12 => ⟨S2048, .i32⟩
  | 13 => ⟨S2048x1, .i32⟩
  | 14 => ⟨S1x2048x128, .f32⟩
  | 15 => ⟨S_, .i32⟩
  | 16 => ⟨S2048, .i32⟩
  | 17 => ⟨S2048, .i1⟩
  | 18 => ⟨S_, .i32⟩
  | 19 => ⟨S2048, .i32⟩
  | 20 => ⟨S2048, .i32⟩
  | 21 => ⟨S2048, .i32⟩
  | 22 => ⟨S2048x1, .i32⟩
  | 23 => ⟨S1x2048x128, .f32⟩
  | 24 => ⟨S1x2048x128, .f32⟩
  | 25 => ⟨S1x2048x1, .f32⟩
  | 26 => ⟨S1x2048x128, .f32⟩
  | 27 => ⟨S1x2048x128, .f32⟩
  | 28 => ⟨S1x2048x128, .f32⟩
  | 29 => ⟨S1x2048x128, .f32⟩
  | 30 => ⟨S_, .i32⟩
  | 31 => ⟨S2048, .i32⟩
  | 32 => ⟨S2048, .i32⟩
  | 33 => ⟨S_, .i32⟩
  | 34 => ⟨S_, .i32⟩
  | 35 => ⟨S_, .i32⟩
  | 36 => ⟨S2048, .i32⟩
  | 37 => ⟨S2048, .i32⟩
  | 38 => ⟨S_, .i32⟩
  | 39 => ⟨S2048, .i32⟩
  | 40 => ⟨S2048, .i32⟩
  | 41 => ⟨S_, .i32⟩
  | 42 => ⟨S2048, .i32⟩
  | 43 => ⟨S2048, .i32⟩
  | 44 => ⟨S_, .i32⟩
  | 45 => ⟨S_, .i32⟩
  | 46 => ⟨S_, .i32⟩
  | 47 => ⟨S2048, .i32⟩
  | 48 => ⟨S2048, .i32⟩
  | 49 => ⟨S_, .i32⟩
  | 50 => ⟨S2048, .i32⟩
  | 51 => ⟨S2048, .i32⟩
  | 52 => ⟨S2048, .i32⟩
  | 53 => ⟨S2048, .f32⟩
  | 54 => ⟨S1x2049x128, .f32⟩
  | 55 => ⟨S_, .i32⟩
  | 56 => ⟨S2048, .i32⟩
  | 57 => ⟨S2048, .i1⟩
  | 58 => ⟨S_, .i32⟩
  | 59 => ⟨S2048, .i32⟩
  | 60 => ⟨S2048, .i32⟩
  | 61 => ⟨S2048, .i32⟩
  | 62 => ⟨S2048x1, .i32⟩
  | 63 => ⟨S1x2048x128, .f32⟩
  | 64 => ⟨S_, .i32⟩
  | 65 => ⟨S2048, .i32⟩
  | 66 => ⟨S2048, .i1⟩
  | 67 => ⟨S_, .i32⟩
  | 68 => ⟨S2048, .i32⟩
  | 69 => ⟨S2048, .i32⟩
  | 70 => ⟨S2048, .i32⟩
  | 71 => ⟨S2048x1, .i32⟩
  | 72 => ⟨S1x2048x128, .f32⟩
  | 73 => ⟨S1x2048x128, .f32⟩
  | 74 => ⟨S1x2048x1, .f32⟩
  | 75 => ⟨S1x2048x128, .f32⟩
  | 76 => ⟨S1x2048x128, .f32⟩
  | 77 => ⟨S1x2048x128, .f32⟩
  | 78 => ⟨S1x2048x128, .f32⟩
  | 79 => ⟨S1x2048x512, .f32⟩
  | 80 => ⟨S1x2048x4x128, .f32⟩
  | 81 => ⟨S4x128x1x2048, .f32⟩
  | 82 => ⟨S1x2048x4x128, .f32⟩
  | 83 => ⟨S1x2048x512, .f32⟩
  | 84 => ⟨S1x1x512, .f32⟩
  | 85 => ⟨S1x2048x512, .f32⟩
  | 86 => ⟨S1x2048x512, .f32⟩
  | 87 => ⟨S2048x512, .f32⟩
  | 88 => ⟨S2048x512, .bf16⟩
  | 89 => ⟨S2048x512, .f32⟩
  | 90 => ⟨S2048x512, .bf16⟩
  | _ => ⟨S2048x512, .f32⟩

abbrev hbmTy (i : Nat) : BufTy := match i / 128 with
  | 0 => hbmTy0_0 i
  | 1 => hbmTy0_1 i
  | _ => ⟨S2048x512, .f32⟩

abbrev bufTy : (tb : Table) → Fin (tcTables nBuf tb) → BufTy
  | .hbm, ⟨i, _⟩ => hbmTy i
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_call0_call0_cst : Ref sig .tc := ⟨.hbm, 6, rfl⟩
abbrev main_call0_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_c_1 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v7 : Ref sig .tc := ⟨.hbm, 21, rfl⟩
abbrev main_c_2 : Ref sig .tc := ⟨.hbm, 22, rfl⟩
abbrev main_v8 : Ref sig .tc := ⟨.hbm, 23, rfl⟩
abbrev main_v9 : Ref sig .tc := ⟨.hbm, 24, rfl⟩
abbrev main_c_3 : Ref sig .tc := ⟨.hbm, 25, rfl⟩
abbrev main_c_4 : Ref sig .tc := ⟨.hbm, 26, rfl⟩
abbrev main_call2_v0 : Ref sig .tc := ⟨.hbm, 27, rfl⟩
abbrev main_call2_v1 : Ref sig .tc := ⟨.hbm, 28, rfl⟩
abbrev main_call2_v2 : Ref sig .tc := ⟨.hbm, 29, rfl⟩
abbrev main_call2_v3 : Ref sig .tc := ⟨.hbm, 30, rfl⟩
abbrev main_call2_v4 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_c_5 : Ref sig .tc := ⟨.hbm, 36, rfl⟩
abbrev main_v14 : Ref sig .tc := ⟨.hbm, 37, rfl⟩
abbrev main_v15 : Ref sig .tc := ⟨.hbm, 38, rfl⟩
abbrev main_c_6 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_c_7 : Ref sig .tc := ⟨.hbm, 45, rfl⟩
abbrev main_v21 : Ref sig .tc := ⟨.hbm, 46, rfl⟩
abbrev main_v22 : Ref sig .tc := ⟨.hbm, 47, rfl⟩
abbrev main_c_8 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_c_9 : Ref sig .tc := ⟨.hbm, 60, rfl⟩
abbrev main_v34 : Ref sig .tc := ⟨.hbm, 61, rfl⟩
abbrev main_v35 : Ref sig .tc := ⟨.hbm, 62, rfl⟩
abbrev main_c_10 : Ref sig .tc := ⟨.hbm, 63, rfl⟩
abbrev main_c_11 : Ref sig .tc := ⟨.hbm, 64, rfl⟩
abbrev main_call3_v0 : Ref sig .tc := ⟨.hbm, 65, rfl⟩
abbrev main_call3_v1 : Ref sig .tc := ⟨.hbm, 66, rfl⟩
abbrev main_call3_v2 : Ref sig .tc := ⟨.hbm, 67, rfl⟩
abbrev main_call3_v3 : Ref sig .tc := ⟨.hbm, 68, rfl⟩
abbrev main_call3_v4 : Ref sig .tc := ⟨.hbm, 69, rfl⟩
abbrev main_v36 : Ref sig .tc := ⟨.hbm, 70, rfl⟩
abbrev main_c_12 : Ref sig .tc := ⟨.hbm, 71, rfl⟩
abbrev main_v37 : Ref sig .tc := ⟨.hbm, 72, rfl⟩
abbrev main_v38 : Ref sig .tc := ⟨.hbm, 73, rfl⟩
abbrev main_c_13 : Ref sig .tc := ⟨.hbm, 74, rfl⟩
abbrev main_c_14 : Ref sig .tc := ⟨.hbm, 75, rfl⟩
abbrev main_call4_v0 : Ref sig .tc := ⟨.hbm, 76, rfl⟩
abbrev main_call4_v1 : Ref sig .tc := ⟨.hbm, 77, rfl⟩
abbrev main_call4_v2 : Ref sig .tc := ⟨.hbm, 78, rfl⟩
abbrev main_call4_v3 : Ref sig .tc := ⟨.hbm, 79, rfl⟩
abbrev main_call4_v4 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_c_15 : Ref sig .tc := ⟨.hbm, 85, rfl⟩
abbrev main_v43 : Ref sig .tc := ⟨.hbm, 86, rfl⟩
abbrev main_v44 : Ref sig .tc := ⟨.hbm, 87, rfl⟩
abbrev main_c_16 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_c_17 : Ref sig .tc := ⟨.hbm, 94, rfl⟩
abbrev main_v50 : Ref sig .tc := ⟨.hbm, 95, rfl⟩
abbrev main_v51 : Ref sig .tc := ⟨.hbm, 96, rfl⟩
abbrev main_c_18 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_c_19 : Ref sig .tc := ⟨.hbm, 109, rfl⟩
abbrev main_v63 : Ref sig .tc := ⟨.hbm, 110, rfl⟩
abbrev main_v64 : Ref sig .tc := ⟨.hbm, 111, rfl⟩
abbrev main_c_20 : Ref sig .tc := ⟨.hbm, 112, rfl⟩
abbrev main_c_21 : Ref sig .tc := ⟨.hbm, 113, rfl⟩
abbrev main_call5_v0 : Ref sig .tc := ⟨.hbm, 114, rfl⟩
abbrev main_call5_v1 : Ref sig .tc := ⟨.hbm, 115, rfl⟩
abbrev main_call5_v2 : Ref sig .tc := ⟨.hbm, 116, rfl⟩
abbrev main_call5_v3 : Ref sig .tc := ⟨.hbm, 117, rfl⟩
abbrev main_call5_v4 : Ref sig .tc := ⟨.hbm, 118, rfl⟩
abbrev main_v65 : Ref sig .tc := ⟨.hbm, 119, rfl⟩
abbrev main_c_22 : Ref sig .tc := ⟨.hbm, 120, rfl⟩
abbrev main_v66 : Ref sig .tc := ⟨.hbm, 121, rfl⟩
abbrev main_v67 : Ref sig .tc := ⟨.hbm, 122, rfl⟩
abbrev main_c_23 : Ref sig .tc := ⟨.hbm, 123, rfl⟩
abbrev main_c_24 : Ref sig .tc := ⟨.hbm, 124, rfl⟩
abbrev main_call6_v0 : Ref sig .tc := ⟨.hbm, 125, rfl⟩
abbrev main_call6_v1 : Ref sig .tc := ⟨.hbm, 126, rfl⟩
abbrev main_call6_v2 : Ref sig .tc := ⟨.hbm, 127, rfl⟩
abbrev main_call6_v3 : Ref sig .tc := ⟨.hbm, 128, rfl⟩
abbrev main_call6_v4 : Ref sig .tc := ⟨.hbm, 129, rfl⟩
abbrev main_v68 : Ref sig .tc := ⟨.hbm, 130, rfl⟩
abbrev main_v69 : Ref sig .tc := ⟨.hbm, 131, rfl⟩
abbrev main_v70 : Ref sig .tc := ⟨.hbm, 132, rfl⟩
abbrev main_v71 : Ref sig .tc := ⟨.hbm, 133, rfl⟩
abbrev main_c_25 : Ref sig .tc := ⟨.hbm, 134, rfl⟩
abbrev main_v72 : Ref sig .tc := ⟨.hbm, 135, rfl⟩
abbrev main_v73 : Ref sig .tc := ⟨.hbm, 136, rfl⟩
abbrev main_c_26 : Ref sig .tc := ⟨.hbm, 137, rfl⟩
abbrev main_v74 : Ref sig .tc := ⟨.hbm, 138, rfl⟩
abbrev main_v75 : Ref sig .tc := ⟨.hbm, 139, rfl⟩
abbrev main_v76 : Ref sig .tc := ⟨.hbm, 140, rfl⟩
abbrev main_v77 : Ref sig .tc := ⟨.hbm, 141, rfl⟩
abbrev main_v78 : Ref sig .tc := ⟨.hbm, 142, rfl⟩
abbrev main_c_27 : Ref sig .tc := ⟨.hbm, 143, rfl⟩
abbrev main_v79 : Ref sig .tc := ⟨.hbm, 144, rfl⟩
abbrev main_v80 : Ref sig .tc := ⟨.hbm, 145, rfl⟩
abbrev main_c_28 : Ref sig .tc := ⟨.hbm, 146, rfl⟩
abbrev main_v81 : Ref sig .tc := ⟨.hbm, 147, rfl⟩
abbrev main_v82 : Ref sig .tc := ⟨.hbm, 148, rfl⟩
abbrev main_v83 : Ref sig .tc := ⟨.hbm, 149, rfl⟩
abbrev main_v84 : Ref sig .tc := ⟨.hbm, 150, rfl⟩
abbrev main_v85 : Ref sig .tc := ⟨.hbm, 151, rfl⟩
abbrev main_v86 : Ref sig .tc := ⟨.hbm, 152, rfl⟩
abbrev main_v87 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_v91 : Ref sig .tc := ⟨.hbm, 157, rfl⟩
abbrev main_c_29 : Ref sig .tc := ⟨.hbm, 158, rfl⟩
abbrev main_v92 : Ref sig .tc := ⟨.hbm, 159, rfl⟩
abbrev main_v93 : Ref sig .tc := ⟨.hbm, 160, rfl⟩
abbrev main_c_30 : Ref sig .tc := ⟨.hbm, 161, rfl⟩
abbrev main_c_31 : Ref sig .tc := ⟨.hbm, 162, rfl⟩
abbrev main_call7_v0 : Ref sig .tc := ⟨.hbm, 163, rfl⟩
abbrev main_call7_v1 : Ref sig .tc := ⟨.hbm, 164, rfl⟩
abbrev main_call7_v2 : Ref sig .tc := ⟨.hbm, 165, rfl⟩
abbrev main_call7_v3 : Ref sig .tc := ⟨.hbm, 166, rfl⟩
abbrev main_call7_v4 : Ref sig .tc := ⟨.hbm, 167, rfl⟩
abbrev main_v94 : Ref sig .tc := ⟨.hbm, 168, rfl⟩
abbrev main_c_32 : Ref sig .tc := ⟨.hbm, 169, rfl⟩
abbrev main_v95 : Ref sig .tc := ⟨.hbm, 170, rfl⟩
abbrev main_v96 : Ref sig .tc := ⟨.hbm, 171, rfl⟩
abbrev main_c_33 : Ref sig .tc := ⟨.hbm, 172, rfl⟩
abbrev main_c_34 : Ref sig .tc := ⟨.hbm, 173, rfl⟩
abbrev main_call8_v0 : Ref sig .tc := ⟨.hbm, 174, rfl⟩
abbrev main_call8_v1 : Ref sig .tc := ⟨.hbm, 175, rfl⟩
abbrev main_call8_v2 : Ref sig .tc := ⟨.hbm, 176, rfl⟩
abbrev main_call8_v3 : Ref sig .tc := ⟨.hbm, 177, rfl⟩
abbrev main_call8_v4 : Ref sig .tc := ⟨.hbm, 178, rfl⟩
abbrev main_v97 : Ref sig .tc := ⟨.hbm, 179, rfl⟩
abbrev main_v98 : Ref sig .tc := ⟨.hbm, 180, rfl⟩
abbrev main_v99 : Ref sig .tc := ⟨.hbm, 181, rfl⟩
abbrev main_v100 : Ref sig .tc := ⟨.hbm, 182, rfl⟩
abbrev main_c_35 : Ref sig .tc := ⟨.hbm, 183, rfl⟩
abbrev main_v101 : Ref sig .tc := ⟨.hbm, 184, rfl⟩
abbrev main_v102 : Ref sig .tc := ⟨.hbm, 185, rfl⟩
abbrev main_c_36 : Ref sig .tc := ⟨.hbm, 186, rfl⟩
abbrev main_v103 : Ref sig .tc := ⟨.hbm, 187, rfl⟩
abbrev main_v104 : Ref sig .tc := ⟨.hbm, 188, rfl⟩
abbrev main_v105 : Ref sig .tc := ⟨.hbm, 189, rfl⟩
abbrev main_v106 : Ref sig .tc := ⟨.hbm, 190, rfl⟩
abbrev main_v107 : Ref sig .tc := ⟨.hbm, 191, rfl⟩
abbrev main_c_37 : Ref sig .tc := ⟨.hbm, 192, rfl⟩
abbrev main_v108 : Ref sig .tc := ⟨.hbm, 193, rfl⟩
abbrev main_v109 : Ref sig .tc := ⟨.hbm, 194, rfl⟩
abbrev main_c_38 : Ref sig .tc := ⟨.hbm, 195, rfl⟩
abbrev main_v110 : Ref sig .tc := ⟨.hbm, 196, rfl⟩
abbrev main_v111 : Ref sig .tc := ⟨.hbm, 197, rfl⟩
abbrev main_v112 : Ref sig .tc := ⟨.hbm, 198, rfl⟩
abbrev main_v113 : Ref sig .tc := ⟨.hbm, 199, rfl⟩
abbrev main_v114 : Ref sig .tc := ⟨.hbm, 200, rfl⟩
abbrev main_v115 : Ref sig .tc := ⟨.hbm, 201, rfl⟩
abbrev main_v116 : Ref sig .tc := ⟨.hbm, 202, rfl⟩
abbrev main_v117 : Ref sig .tc := ⟨.hbm, 203, rfl⟩
abbrev main_v118 : Ref sig .tc := ⟨.hbm, 204, rfl⟩
abbrev main_v119 : Ref sig .tc := ⟨.hbm, 205, rfl⟩
abbrev main_v120 : Ref sig .tc := ⟨.hbm, 206, rfl⟩
abbrev main_v121 : Ref sig .tc := ⟨.hbm, 207, rfl⟩
abbrev main_v122 : Ref sig .tc := ⟨.hbm, 208, rfl⟩
abbrev main_v123 : Ref sig .tc := ⟨.hbm, 209, rfl⟩
abbrev main_v124 : Ref sig .tc := ⟨.hbm, 210, rfl⟩
abbrev main_v125 : Ref sig .tc := ⟨.hbm, 211, rfl⟩
abbrev main_v126 : Ref sig .tc := ⟨.hbm, 212, rfl⟩
abbrev main_v127 : Ref sig .tc := ⟨.hbm, 213, rfl⟩
abbrev main_v128 : Ref sig .tc := ⟨.hbm, 214, rfl⟩
abbrev main_v129 : Ref sig .tc := ⟨.hbm, 215, rfl⟩
abbrev main_v130 : Ref sig .tc := ⟨.hbm, 216, rfl⟩
abbrev main_v131 : Ref sig .tc := ⟨.hbm, 217, rfl⟩
abbrev main_v132 : Ref sig .tc := ⟨.hbm, 218, rfl⟩

abbrev nD : Nat := 1
abbrev τ : Topo := Topo.v7x

variable {F : FTy → Type} [FloatOps F]
-- ==== Wdown.lean ====
abbrev S2048x2816 : Shape := ⟨2, ![2048, 2816]⟩
abbrev S2816x1024 : Shape := ⟨2, ![2816, 1024]⟩
abbrev S2048x1024 : Shape := ⟨2, ![2048, 1024]⟩
abbrev S2048x4x704 : Shape := ⟨3, ![2048, 4, 704]⟩
abbrev S4x2048x704 : Shape := ⟨3, ![4, 2048, 704]⟩
abbrev S4x704x1024 : Shape := ⟨3, ![4, 704, 1024]⟩
abbrev S1x2048x704 : Shape := ⟨3, ![1, 2048, 704]⟩
abbrev S1x704x1024 : Shape := ⟨3, ![1, 704, 1024]⟩
abbrev S2048x704 : Shape := ⟨2, ![2048, 704]⟩
abbrev S704x1024 : Shape := ⟨2, ![704, 1024]⟩

abbrev nBuf : Space → Nat
  | .hbm => 8
  | .vmem => 5
  | .smem => 0
  | _ => 0

abbrev bufTy : (tb : Table) → Fin (tcTables nBuf tb) → BufTy
  | .hbm, ⟨0, _⟩ => ⟨S2048x2816, .f32⟩
  | .hbm, ⟨1, _⟩ => ⟨S2816x1024, .f32⟩
  | .hbm, ⟨2, _⟩ => ⟨S2048x1024, .f32⟩
  | .hbm, ⟨3, _⟩ => ⟨S2048x2816, .bf16⟩
  | .hbm, ⟨4, _⟩ => ⟨S2048x4x704, .bf16⟩
  | .hbm, ⟨5, _⟩ => ⟨S4x2048x704, .bf16⟩
  | .hbm, ⟨6, _⟩ => ⟨S2048x1024, .bf16⟩
  | .hbm, ⟨7, _⟩ => ⟨S4x704x1024, .bf16⟩
  | .local _ .vmem, ⟨0, _⟩ => ⟨S1x2048x704, .bf16⟩
  | .local _ .vmem, ⟨1, _⟩ => ⟨S1x2048x704, .bf16⟩
  | .local _ .vmem, ⟨2, _⟩ => ⟨S2048x1024, .bf16⟩
  | .local _ .vmem, ⟨3, _⟩ => ⟨S1x704x1024, .bf16⟩
  | .local _ .vmem, ⟨4, _⟩ => ⟨S1x704x1024, .bf16⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== WdownRefIdeal.lean ====
abbrev S2048x2816 : Shape := ⟨2, ![2048, 2816]⟩
abbrev S2816x1024 : Shape := ⟨2, ![2816, 1024]⟩
abbrev S2048x1024 : Shape := ⟨2, ![2048, 1024]⟩
abbrev S1024x2816 : Shape := ⟨2, ![1024, 2816]⟩
abbrev S4x704x1024 : Shape := ⟨3, ![4, 704, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2816x1024, .f32⟩
  | .hbm, ⟨2, _⟩ => ⟨S2048x1024, .f32⟩
  | .hbm, ⟨3, _⟩ => ⟨S2048x1024, .f32⟩
  | .hbm, ⟨4, _⟩ => ⟨S1024x2816, .f32⟩
  | .hbm, ⟨5, _⟩ => ⟨S2816x1024, .f32⟩
  | .hbm, ⟨6, _⟩ => ⟨S2816x1024, .bf16⟩
  | .hbm, ⟨7, _⟩ => ⟨S4x704x1024, .bf16⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Wup.lean ====
abbrev S2048x1024 : Shape := ⟨2, ![2048, 1024]⟩
abbrev S1024x5632 : Shape := ⟨2, ![1024, 5632]⟩
abbrev S2048x2816 : Shape := ⟨2, ![2048, 2816]⟩
abbrev S2048x4x704 : Shape := ⟨3, ![2048, 4, 704]⟩
abbrev S4x2048x704 : Shape := ⟨3, ![4, 2048, 704]⟩
abbrev S8x704x1024 : Shape := ⟨3, ![8, 704, 1024]⟩
abbrev S1x2048x704 : Shape := ⟨3, ![1, 2048, 704]⟩
abbrev S1x704x1024 : Shape := ⟨3, ![1, 704, 1024]⟩
abbrev S2048x704 : Shape := ⟨2, ![2048, 704]⟩
abbrev S704x1024 : Shape := ⟨2, ![704, 1024]⟩

abbrev nBuf : Space → Nat
  | .hbm => 12
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1024x5632, .f32⟩
  | .hbm, ⟨2, _⟩ => ⟨S2048x2816, .f32⟩
  | .hbm, ⟨3, _⟩ => ⟨S2048x2816, .f32⟩
  | .hbm, ⟨4, _⟩ => ⟨S2048x1024, .bf16⟩
  | .hbm, ⟨5, _⟩ => ⟨S2048x2816, .bf16⟩
  | .hbm, ⟨6, _⟩ => ⟨S2048x4x704, .bf16⟩
  | .hbm, ⟨7, _⟩ => ⟨S4x2048x704, .bf16⟩
  | .hbm, ⟨8, _⟩ => ⟨S2048x2816, .bf16⟩
  | .hbm, ⟨9, _⟩ => ⟨S2048x4x704, .bf16⟩
  | .hbm, ⟨10, _⟩ => ⟨S4x2048x704, .bf16⟩
  | .hbm, ⟨11, _⟩ => ⟨S8x704x1024, .bf16⟩
  | .local _ .vmem, ⟨0, _⟩ => ⟨S2048x1024, .bf16⟩
  | .local _ .vmem, ⟨1, _⟩ => ⟨S1x2048x704, .bf16⟩
  | .local _ .vmem, ⟨2, _⟩ => ⟨S1x2048x704, .bf16⟩
  | .local _ .vmem, ⟨3, _⟩ => ⟨S1x2048x704, .bf16⟩
  | .local _ .vmem, ⟨4, _⟩ => ⟨S1x2048x704, .bf16⟩
  | .local _ .vmem, ⟨5, _⟩ => ⟨S1x704x1024, .bf16⟩
  | .local _ .vmem, ⟨6, _⟩ => ⟨S1x704x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c4_i32 : BitVec 32 := 4#32
  let v0 : BitVec 1 := Scalar.cmpi .slt arg0 c4_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c4_i32_0 : BitVec 32 := 4#32
  let v3 : BitVec 1 := Scalar.cmpi .sge arg0 c4_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 3 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== WupRefIdeal.lean ====
abbrev S2048x1024 : Shape := ⟨2, ![2048, 1024]⟩
abbrev S1024x5632 : Shape := ⟨2, ![1024, 5632]⟩
abbrev S2048x2816 : Shape := ⟨2, ![2048, 2816]⟩
abbrev S2048x5632 : Shape := ⟨2, ![2048, 5632]⟩
abbrev S5632x1024 : Shape := ⟨2, ![5632, 1024]⟩
abbrev S8x704x1024 : Shape := ⟨3, ![8, 704, 1024]⟩

abbrev nBuf : Space → Nat
  | .hbm => 13
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x5632, .f32⟩
  | .hbm, ⟨2, _⟩ => ⟨S2048x2816, .f32⟩
  | .hbm, ⟨3, _⟩ => ⟨S2048x2816, .f32⟩
  | .hbm, ⟨4, _⟩ => ⟨S2048x5632, .f32⟩
  | .hbm, ⟨5, _⟩ => ⟨S2048x2816, .f32⟩
  | .hbm, ⟨6, _⟩ => ⟨S2048x2816, .f32⟩
  | .hbm, ⟨7, _⟩ => ⟨S2048x5632, .f32⟩
  | .hbm, ⟨8, _⟩ => ⟨S5632x1024, .f32⟩
  | .hbm, ⟨9, _⟩ => ⟨S1024x5632, .f32⟩
  | .hbm, ⟨10, _⟩ => ⟨S1024x5632, .bf16⟩
  | .hbm, ⟨11, _⟩ => ⟨S5632x1024, .bf16⟩
  | .hbm, ⟨12, _⟩ => ⟨S8x704x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Win.lean ====
abbrev S2048x1024 : Shape := ⟨2, ![2048, 1024]⟩
abbrev S1024x4096 : Shape := ⟨2, ![1024, 4096]⟩
abbrev S4096 : Shape := ⟨1, ![4096]⟩
abbrev S2048x512 : Shape := ⟨2, ![2048, 512]⟩
abbrev S8x1024x512 : Shape := ⟨3, ![8, 1024, 512]⟩
abbrev S1x4096 : Shape := ⟨2, ![1, 4096]⟩
abbrev S1x1024x512 : Shape := ⟨3, ![1, 1024, 512]⟩
abbrev S1x512 : Shape := ⟨2, ![1, 512]⟩
abbrev S1024x512 : Shape := ⟨2, ![1024, 512]⟩
abbrev S512 : Shape := ⟨1, ![512]⟩

abbrev nBuf : Space → Nat
  | .hbm => 18
  | .vmem => 13
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S4096, .f32⟩
  | .hbm, ⟨3, _⟩ => ⟨S2048x512, .f32⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S2048x1024, .f32⟩
  | .hbm, ⟨8, _⟩ => ⟨S2048x1024, .f32⟩
  | .hbm, ⟨9, _⟩ => ⟨S2048x1024, .bf16⟩
  | .hbm, ⟨10, _⟩ => ⟨S2048x512, .bf16⟩
  | .hbm, ⟨11, _⟩ => ⟨S2048x512, .bf16⟩
  | .hbm, ⟨12, _⟩ => ⟨S2048x512, .bf16⟩
  | .hbm, ⟨13, _⟩ => ⟨S2048x512, .bf16⟩
  | .hbm, ⟨14, _⟩ => ⟨S2048x1024, .bf16⟩
  | .hbm, ⟨15, _⟩ => ⟨S2048x1024, .bf16⟩
  | .hbm, ⟨16, _⟩ => ⟨S8x1024x512, .bf16⟩
  | .hbm, ⟨17, _⟩ => ⟨S1x4096, .f32⟩
  | .local _ .vmem, ⟨0, _⟩ => ⟨S2048x1024, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S1x1024x512, .bf16⟩
  | .local _ .vmem, ⟨10, _⟩ => ⟨S1x1024x512, .bf16⟩
  | .local _ .vmem, ⟨11, _⟩ => ⟨S1x512, .f32⟩
  | .local _ .vmem, ⟨12, _⟩ => ⟨S1x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def k0_cond5 (i : grid0.Coords) : BitVec 1 :=
  let arg0 : BitVec 32 := BitVec.ofNat 32 (i 0).val
  let c4_i32 : BitVec 32 := 4#32
  let v12 : BitVec 1 := Scalar.cmpi .sge arg0 c4_i32
  let c6_i32 : BitVec 32 := 6#32
  let v13 : BitVec 1 := Scalar.cmpi .slt arg0 c6_i32
  let v14 : BitVec 1 := Scalar.andi v12 v13
  let v15 : BitVec 32 := Scalar.extui v14
  let c0_i32_4 : BitVec 32 := 0#32
  let v16 : BitVec 1 := Scalar.cmpi .ne v15 c0_i32_4
  v16

def k0_cond6 (i : grid0.Coords) : BitVec 1 :=
  let arg0 : BitVec 32 := BitVec.ofNat 32 (i 0).val
  let c6_i32_5 : BitVec 32 := 6#32
  let v17 : BitVec 1 := Scalar.cmpi .sge arg0 c6_i32_5
  let v18 : BitVec 32 := Scalar.extui v17
  let c0_i32_6 : BitVec 32 := 0#32
  let v19 : BitVec 1 := Scalar.cmpi .ne v18 c0_i32_6
  v19

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

def cc0_transform_6 (i : grid0.Coords) : Fin 2 → Nat :=
  let arg0 : BitVec 32 := BitVec.ofNat 32 (i 0).val
  let c4_i32 : BitVec 32 := 4#32
  let v0 : BitVec 32 := Scalar.subi arg0 c4_i32
  let c2_i32 : BitVec 32 := 2#32
  let v1 : BitVec 32 := Scalar.subi v0 c2_i32
  let c0_i32 : BitVec 32 := 0#32
  let c1_i32 : BitVec 32 := 1#32
  let v2 : BitVec 32 := Scalar.maxsi c0_i32 v1
  let v3 : BitVec 32 := Scalar.minsi c1_i32 v2
  let c0_i32_0 : BitVec 32 := 0#32
  let c0_i32_1 : BitVec 32 := 0#32
  ![c0_i32_0.toNat, v3.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== WinRefIdeal.lean ====
abbrev S2048x1024 : Shape := ⟨2, ![2048, 1024]⟩
abbrev S1024x4096 : Shape := ⟨2, ![1024, 4096]⟩
abbrev S4096 : Shape := ⟨1, ![4096]⟩
abbrev S2048x512 : Shape := ⟨2, ![2048, 512]⟩
abbrev S2048x4096 : Shape := ⟨2, ![2048, 4096]⟩
abbrev S1x4096 : Shape := ⟨2, ![1, 4096]⟩
abbrev S_ : Shape := ⟨0, ![]⟩
abbrev S4096x1024 : Shape := ⟨2, ![4096, 1024]⟩
abbrev S1024x8x512 : Shape := ⟨3, ![1024, 8, 512]⟩
abbrev S8x1024x512 : Shape := ⟨3, ![8, 1024, 512]⟩

abbrev nBuf : Space → Nat
  | .hbm => 31
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S4096, .f32⟩
  | .hbm, ⟨3, _⟩ => ⟨S2048x512, .f32⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S2048x1024, .f32⟩
  | .hbm, ⟨8, _⟩ => ⟨S2048x1024, .f32⟩
  | .hbm, ⟨9, _⟩ => ⟨S2048x4096, .f32⟩
  | .hbm, ⟨10, _⟩ => ⟨S1x4096, .f32⟩
  | .hbm, ⟨11, _⟩ => ⟨S2048x4096, .f32⟩
  | .hbm, ⟨12, _⟩ => ⟨S2048x4096, .f32⟩
  | .hbm, ⟨13, _⟩ => ⟨S2048x512, .f32⟩
  | .hbm, ⟨14, _⟩ => ⟨S2048x512, .f32⟩
  | .hbm, ⟨15, _⟩ => ⟨S2048x512, .f32⟩
  | .hbm, ⟨16, _⟩ => ⟨S2048x512, .f32⟩
  | .hbm, ⟨17, _⟩ => ⟨S2048x1024, .f32⟩
  | .hbm, ⟨18, _⟩ => ⟨S2048x1024, .f32⟩
  | .hbm, ⟨19, _⟩ => ⟨S2048x4096, .f32⟩
  | .hbm, ⟨20, _⟩ => ⟨S_, .f32⟩
  | .hbm, ⟨21, _⟩ => ⟨S4096, .f32⟩
  | .hbm, ⟨22, _⟩ => ⟨S1x4096, .f32⟩
  | .hbm, ⟨23, _⟩ => ⟨S_, .f32⟩
  | .hbm, ⟨24, _⟩ => ⟨S4096, .f32⟩
  | .hbm, ⟨25, _⟩ => ⟨S4096x1024, .f32⟩
  | .hbm, ⟨26, _⟩ => ⟨S1024x4096, .f32⟩
  | .hbm, ⟨27, _⟩ => ⟨S1024x4096, .bf16⟩
  | .hbm, ⟨28, _⟩ => ⟨S1024x8x512, .bf16⟩
  | .hbm, ⟨29, _⟩ => ⟨S8x1024x512, .bf16⟩
  | .hbm, ⟨30, _⟩ => ⟨S1x4096, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== Wout.lean ====
abbrev S2048x1024 : Shape := ⟨2, ![2048, 1024]⟩
abbrev S2048x512 : Shape := ⟨2, ![2048, 512]⟩
abbrev S1024x1024 : Shape := ⟨2, ![1024, 1024]⟩
abbrev S512x1024 : Shape := ⟨2, ![512, 1024]⟩
abbrev S8x128x1024 : Shape := ⟨3, ![8, 128, 1024]⟩
abbrev S8x512x128 : Shape := ⟨3, ![8, 512, 128]⟩
abbrev S2048x128 : Shape := ⟨2, ![2048, 128]⟩
abbrev S1x128x1024 : Shape := ⟨3, ![1, 128, 1024]⟩
abbrev S1x512x128 : Shape := ⟨3, ![1, 512, 128]⟩
abbrev S128x1024 : Shape := ⟨2, ![128, 1024]⟩
abbrev S512x128 : Shape := ⟨2, ![512, 128]⟩

abbrev nBuf : Space → Nat
  | .hbm => 18
  | .vmem => 15
  | .smem => 0
  | _ => 0

abbrev bufTy : (tb : Table) → Fin (tcTables nBuf tb) → BufTy
  | .hbm, ⟨0, _⟩ => ⟨S2048x1024, .f32⟩
  | .hbm, ⟨1, _⟩ => ⟨S2048x512, .f32⟩
  | .hbm, ⟨2, _⟩ => ⟨S2048x512, .f32⟩
  | .hbm, ⟨3, _⟩ => ⟨S1024x1024, .f32⟩
  | .hbm, ⟨4, _⟩ => ⟨S512x1024, .f32⟩
  | .hbm, ⟨5, _⟩ => ⟨S512x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .bf16⟩
  | .hbm, ⟨10, _⟩ => ⟨S2048x1024, .bf16⟩
  | .hbm, ⟨11, _⟩ => ⟨S2048x512, .bf16⟩
  | .hbm, ⟨12, _⟩ => ⟨S2048x1024, .bf16⟩
  | .hbm, ⟨13, _⟩ => ⟨S2048x512, .bf16⟩
  | .hbm, ⟨14, _⟩ => ⟨S2048x1024, .bf16⟩
  | .hbm, ⟨15, _⟩ => ⟨S8x128x1024, .bf16⟩
  | .hbm, ⟨16, _⟩ => ⟨S8x512x128, .bf16⟩
  | .hbm, ⟨17, _⟩ => ⟨S8x512x128, .bf16⟩
  | .local _ .vmem, ⟨0, _⟩ => ⟨S2048x128, .bf16⟩
  | .local _ .vmem, ⟨1, _⟩ => ⟨S2048x128, .bf16⟩
  | .local _ .vmem, ⟨2, _⟩ => ⟨S2048x1024, .bf16⟩
  | .local _ .vmem, ⟨3, _⟩ => ⟨S2048x512, .bf16⟩
  | .local _ .vmem, ⟨4, _⟩ => ⟨S2048x128, .bf16⟩
  | .local _ .vmem, ⟨5, _⟩ => ⟨S2048x128, .bf16⟩
  | .local _ .vmem, ⟨6, _⟩ => ⟨S2048x512, .bf16⟩
  | .local _ .vmem, ⟨7, _⟩ => ⟨S2048x128, .bf16⟩
  | .local _ .vmem, ⟨8, _⟩ => ⟨S2048x128, .bf16⟩
  | .local _ .vmem, ⟨9, _⟩ => ⟨S1x128x1024, .bf16⟩
  | .local _ .vmem, ⟨10, _⟩ => ⟨S1x128x1024, .bf16⟩
  | .local _ .vmem, ⟨11, _⟩ => ⟨S1x512x128, .bf16⟩
  | .local _ .vmem, ⟨12, _⟩ => ⟨S1x512x128, .bf16⟩
  | .local _ .vmem, ⟨13, _⟩ => ⟨S1x512x128, .bf16⟩
  | .local _ .vmem, ⟨14, _⟩ => ⟨S1x512x128, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== WoutRefIdeal.lean ====
abbrev S2048x1024 : Shape := ⟨2, ![2048, 1024]⟩
abbrev S2048x512 : Shape := ⟨2, ![2048, 512]⟩
abbrev S1024x1024 : Shape := ⟨2, ![1024, 1024]⟩
abbrev S512x1024 : Shape := ⟨2, ![512, 1024]⟩
abbrev S1024x512 : Shape := ⟨2, ![1024, 512]⟩
abbrev S8x128x1024 : Shape := ⟨3, ![8, 128, 1024]⟩
abbrev S512x8x128 : Shape := ⟨3, ![512, 8, 128]⟩
abbrev S8x512x128 : Shape := ⟨3, ![8, 512, 128]⟩

abbrev nBuf : Space → Nat
  | .hbm => 26
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x512, .f32⟩
  | .hbm, ⟨2, _⟩ => ⟨S2048x512, .f32⟩
  | .hbm, ⟨3, _⟩ => ⟨S1024x1024, .f32⟩
  | .hbm, ⟨4, _⟩ => ⟨S512x1024, .f32⟩
  | .hbm, ⟨5, _⟩ => ⟨S512x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S1024x512, .f32⟩
  | .hbm, ⟨13, _⟩ => ⟨S512x1024, .f32⟩
  | .hbm, ⟨14, _⟩ => ⟨S1024x512, .f32⟩
  | .hbm, ⟨15, _⟩ => ⟨S512x1024, .f32⟩
  | .hbm, ⟨16, _⟩ => ⟨S1024x1024, .f32⟩
  | .hbm, ⟨17, _⟩ => ⟨S1024x1024, .f32⟩
  | .hbm, ⟨18, _⟩ => ⟨S1024x1024, .bf16⟩
  | .hbm, ⟨19, _⟩ => ⟨S8x128x1024, .bf16⟩
  | .hbm, ⟨20, _⟩ => ⟨S512x1024, .bf16⟩
  | .hbm, ⟨21, _⟩ => ⟨S512x8x128, .bf16⟩
  | .hbm, ⟨22, _⟩ => ⟨S8x512x128, .bf16⟩
  | .hbm, ⟨23, _⟩ => ⟨S512x1024, .bf16⟩
  | .hbm, ⟨24, _⟩ => ⟨S512x8x128, .bf16⟩
  | .hbm, ⟨25, _⟩ => ⟨S8x512x128, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]
-- ==== Da.lean ====
abbrev S2048x512 : Shape := ⟨2, ![2048, 512]⟩
abbrev S512x1024 : Shape := ⟨2, ![512, 1024]⟩
abbrev S2048x1024 : Shape := ⟨2, ![2048, 1024]⟩
abbrev S512x8x128 : Shape := ⟨3, ![512, 8, 128]⟩
abbrev S8x512x128 : Shape := ⟨3, ![8, 512, 128]⟩
abbrev S1024x1024 : Shape := ⟨2, ![1024, 1024]⟩
abbrev S1024x512 : Shape := ⟨2, ![1024, 512]⟩
abbrev S1x512x128 : Shape := ⟨3, ![1, 512, 128]⟩
abbrev S512x128 : Shape := ⟨2, ![512, 128]⟩

abbrev nBuf : Space → Nat
  | .hbm => 8
  | .vmem => 5
  | .smem => 0
  | _ => 0

abbrev bufTy : (tb : Table) → Fin (tcTables nBuf tb) → BufTy
  | .hbm, ⟨0, _⟩ => ⟨S2048x512, .f32⟩
  | .hbm, ⟨1, _⟩ => ⟨S512x1024, .f32⟩
  | .hbm, ⟨2, _⟩ => ⟨S2048x1024, .f32⟩
  | .hbm, ⟨3, _⟩ => ⟨S2048x1024, .bf16⟩
  | .hbm, ⟨4, _⟩ => ⟨S512x1024, .bf16⟩
  | .hbm, ⟨5, _⟩ => ⟨S512x8x128, .bf16⟩
  | .hbm, ⟨6, _⟩ => ⟨S8x512x128, .bf16⟩
  | .hbm, ⟨7, _⟩ => ⟨S2048x512, .bf16⟩
  | .local _ .vmem, ⟨0, _⟩ => ⟨S1024x1024, .bf16⟩
  | .local _ .vmem, ⟨1, _⟩ => ⟨S1024x1024, .bf16⟩
  | .local _ .vmem, ⟨2, _⟩ => ⟨S8x512x128, .bf16⟩
  | .local _ .vmem, ⟨3, _⟩ => ⟨S1024x512, .bf16⟩
  | .local _ .vmem, ⟨4, _⟩ => ⟨S1024x512, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x512x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DaRefIdeal.lean ====
abbrev S2048x512 : Shape := ⟨2, ![2048, 512]⟩
abbrev S512x1024 : Shape := ⟨2, ![512, 1024]⟩
abbrev S2048x1024 : Shape := ⟨2, ![2048, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S512x1024, .f32⟩
  | .hbm, ⟨2, _⟩ => ⟨S2048x1024, .f32⟩
  | .hbm, ⟨3, _⟩ => ⟨S2048x1024, .f32⟩
  | .hbm, ⟨4, _⟩ => ⟨S2048x512, .f32⟩
  | .hbm, ⟨5, _⟩ => ⟨S2048x512, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Dh0.lean ====
abbrev S2048x1024 : Shape := ⟨2, ![2048, 1024]⟩
abbrev S1024x4096 : Shape := ⟨2, ![1024, 4096]⟩
abbrev S4096 : Shape := ⟨1, ![4096]⟩
abbrev S2048x512 : Shape := ⟨2, ![2048, 512]⟩
abbrev S1024x8x512 : Shape := ⟨3, ![1024, 8, 512]⟩
abbrev S8x1024x512 : Shape := ⟨3, ![8, 1024, 512]⟩
abbrev S512x1024 : Shape := ⟨2, ![512, 1024]⟩
abbrev S512x512 : Shape := ⟨2, ![512, 512]⟩
abbrev S1x1024x512 : Shape := ⟨3, ![1, 1024, 512]⟩
abbrev S1024x512 : Shape := ⟨2, ![1024, 512]⟩

abbrev nBuf : Space → Nat
  | .hbm => 20
  | .vmem => 17
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S4096, .f32⟩
  | .hbm, ⟨3, _⟩ => ⟨S2048x1024, .f32⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S2048x512, .f32⟩
  | .hbm, ⟨8, _⟩ => ⟨S2048x1024, .f32⟩
  | .hbm, ⟨9, _⟩ => ⟨S2048x1024, .f32⟩
  | .hbm, ⟨10, _⟩ => ⟨S2048x512, .bf16⟩
  | .hbm, ⟨11, _⟩ => ⟨S2048x512, .bf16⟩
  | .hbm, ⟨12, _⟩ => ⟨S2048x512, .bf16⟩
  | .hbm, ⟨13, _⟩ => ⟨S2048x512, .bf16⟩
  | .hbm, ⟨14, _⟩ => ⟨S2048x1024, .bf16⟩
  | .hbm, ⟨15, _⟩ => ⟨S2048x1024, .bf16⟩
  | .hbm, ⟨16, _⟩ => ⟨S1024x4096, .bf16⟩
  | .hbm, ⟨17, _⟩ => ⟨S1024x8x512, .bf16⟩
  | .hbm, ⟨18, _⟩ => ⟨S8x1024x512, .bf16⟩
  | .hbm, ⟨19, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S8x1024x512, .bf16⟩
  | .local _ .vmem, ⟨15, _⟩ => ⟨S512x1024, .f32⟩
  | .local _ .vmem, ⟨16, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Dh0RefIdeal.lean ====
abbrev S2048x1024 : Shape := ⟨2, ![2048, 1024]⟩
abbrev S1024x4096 : Shape := ⟨2, ![1024, 4096]⟩
abbrev S4096 : Shape := ⟨1, ![4096]⟩
abbrev S2048x512 : Shape := ⟨2, ![2048, 512]⟩
abbrev S2048x4096 : Shape := ⟨2, ![2048, 4096]⟩
abbrev S1x4096 : Shape := ⟨2, ![1, 4096]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S4096, .f32⟩
  | .hbm, ⟨3, _⟩ => ⟨S2048x1024, .f32⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S2048x512, .f32⟩
  | .hbm, ⟨8, _⟩ => ⟨S2048x1024, .f32⟩
  | .hbm, ⟨9, _⟩ => ⟨S2048x1024, .f32⟩
  | .hbm, ⟨10, _⟩ => ⟨S2048x4096, .f32⟩
  | .hbm, ⟨11, _⟩ => ⟨S1x4096, .f32⟩
  | .hbm, ⟨12, _⟩ => ⟨S2048x4096, .f32⟩
  | .hbm, ⟨13, _⟩ => ⟨S2048x4096, .f32⟩
  | .hbm, ⟨14, _⟩ => ⟨S_, .f32⟩
  | .hbm, ⟨15, _⟩ => ⟨S2048x1024, .f32⟩
  | .hbm, ⟨16, _⟩ => ⟨S2048x1024, .f32⟩
  | .hbm, ⟨17, _⟩ => ⟨S2048x512, .f32⟩
  | .hbm, ⟨18, _⟩ => ⟨S2048x512, .f32⟩
  | .hbm, ⟨19, _⟩ => ⟨S2048x512, .f32⟩
  | .hbm, ⟨20, _⟩ => ⟨S2048x512, .f32⟩
  | .hbm, ⟨21, _⟩ => ⟨S2048x1024, .f32⟩
  | .hbm, ⟨22, _⟩ => ⟨S2048x1024, .f32⟩
  | .hbm, ⟨23, _⟩ => ⟨S2048x4096, .f32⟩
  | .hbm, ⟨24, _⟩ => ⟨S_, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩

abbrev nD : Nat := 1
abbrev τ : Topo := Topo.v7x

variable {F : FTy → Type} [FloatOps F]
-- ==== UpFwd.lean ====
abbrev S2048x1024 : Shape := ⟨2, ![2048, 1024]⟩
abbrev S1024x5632 : Shape := ⟨2, ![1024, 5632]⟩
abbrev S5632x1024 : Shape := ⟨2, ![5632, 1024]⟩
abbrev S8x704x1024 : Shape := ⟨3, ![8, 704, 1024]⟩
abbrev S8x2048x704 : Shape := ⟨3, ![8, 2048, 704]⟩
abbrev S1x704x1024 : Shape := ⟨3, ![1, 704, 1024]⟩
abbrev S1x2048x704 : Shape := ⟨3, ![1, 2048, 704]⟩
abbrev S704x1024 : Shape := ⟨2, ![704, 1024]⟩
abbrev S2048x704 : Shape := ⟨2, ![2048, 704]⟩

abbrev nBuf : Space → Nat
  | .hbm => 7
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x5632, .f32⟩
  | .hbm, ⟨2, _⟩ => ⟨S2048x1024, .bf16⟩
  | .hbm, ⟨3, _⟩ => ⟨S1024x5632, .bf16⟩
  | .hbm, ⟨4, _⟩ => ⟨S5632x1024, .bf16⟩
  | .hbm, ⟨5, _⟩ => ⟨S8x704x1024, .bf16⟩
  | .hbm, ⟨6, _⟩ => ⟨S8x2048x704, .bf16⟩
  | .local _ .vmem, ⟨0, _⟩ => ⟨S2048x1024, .bf16⟩
  | .local _ .vmem, ⟨1, _⟩ => ⟨S1x704x1024, .bf16⟩
  | .local _ .vmem, ⟨2, _⟩ => ⟨S1x704x1024, .bf16⟩
  | .local _ .vmem, ⟨3, _⟩ => ⟨S1x2048x704, .bf16⟩
  | .local _ .vmem, ⟨4, _⟩ => ⟨S1x2048x704, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== UpFwdRefIdeal.lean ====
abbrev S2048x1024 : Shape := ⟨2, ![2048, 1024]⟩
abbrev S1024x5632 : Shape := ⟨2, ![1024, 5632]⟩
abbrev S2048x5632 : Shape := ⟨2, ![2048, 5632]⟩
abbrev S2048x8x704 : Shape := ⟨3, ![2048, 8, 704]⟩
abbrev S8x2048x704 : Shape := ⟨3, ![8, 2048, 704]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x5632, .f32⟩
  | .hbm, ⟨2, _⟩ => ⟨S2048x5632, .f32⟩
  | .hbm, ⟨3, _⟩ => ⟨S2048x5632, .bf16⟩
  | .hbm, ⟨4, _⟩ => ⟨S2048x8x704, .bf16⟩
  | .hbm, ⟨5, _⟩ => ⟨S8x2048x704, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Adam.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdamRefIdeal.lean ====
abbrev S4x1024 : Shape := ⟨2, ![4, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S_, .f32⟩
  | .hbm, ⟨5, _⟩ => ⟨S4x1024, .f32⟩
  | .hbm, ⟨6, _⟩ => ⟨S4x1024, .f32⟩
  | .hbm, ⟨7, _⟩ => ⟨S_, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S_, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S_, .f32⟩
  | .hbm, ⟨16, _⟩ => ⟨S4x1024, .f32⟩
  | .hbm, ⟨17, _⟩ => ⟨S4x1024, .f32⟩
  | .hbm, ⟨18, _⟩ => ⟨S4x1024, .f32⟩
  | .hbm, ⟨19, _⟩ => ⟨S_, .f32⟩
  | .hbm, ⟨20, _⟩ => ⟨S4x1024, .f32⟩
  | .hbm, ⟨21, _⟩ => ⟨S4x1024, .f32⟩
  | .hbm, ⟨22, _⟩ => ⟨S_, .f32⟩
  | .hbm, ⟨23, _⟩ => ⟨S4x1024, .f32⟩
  | .hbm, ⟨24, _⟩ => ⟨S4x1024, .f32⟩
  | .hbm, ⟨25, _⟩ => ⟨S4x1024, .f32⟩
  | .hbm, ⟨26, _⟩ => ⟨S_, .f32⟩
  | .hbm, ⟨27, _⟩ => ⟨S4x1024, .f32⟩
  | .hbm, ⟨28, _⟩ => ⟨S4x1024, .f32⟩
  | .hbm, ⟨29, _⟩ => ⟨S4x1024, .f32⟩
  | .hbm, ⟨30, _⟩ => ⟨S_, .f32⟩
  | .hbm, ⟨31, _⟩ => ⟨S4x1024, .f32⟩
  | .hbm, ⟨32, _⟩ => ⟨S4x1024, .f32⟩
  | .hbm, ⟨33, _⟩ => ⟨S4x1024, .f32⟩
  | .hbm, ⟨34, _⟩ => ⟨S_, .f32⟩
  | .hbm, ⟨35, _⟩ => ⟨S4x1024, .f32⟩
  | .hbm, ⟨36, _⟩ => ⟨S4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Partials.lean ====
abbrev S8x264x1024 : Shape := ⟨3, ![8, 264, 1024]⟩
abbrev S264x1024 : Shape := ⟨2, ![264, 1024]⟩
abbrev S8x88x1024 : Shape := ⟨3, ![8, 88, 1024]⟩
abbrev S88x1024 : Shape := ⟨2, ![88, 1024]⟩
abbrev S1x88x1024 : Shape := ⟨3, ![1, 88, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8x264x1024, .f32⟩
  | .hbm, ⟨1, _⟩ => ⟨S264x1024, .f32⟩
  | .local _ .vmem, ⟨0, _⟩ => ⟨S8x88x1024, .f32⟩
  | .local _ .vmem, ⟨1, _⟩ => ⟨S8x88x1024, .f32⟩
  | .local _ .vmem, ⟨2, _⟩ => ⟨S88x1024, .f32⟩
  | .local _ .vmem, ⟨3, _⟩ => ⟨S88x1024, .f32⟩
  | _, _ => ⟨S8x264x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![3], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x88x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S88x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== PartialsRefIdeal.lean ====
abbrev S8x264x1024 : Shape := ⟨3, ![8, 264, 1024]⟩
abbrev S_ : Shape := ⟨0, ![]⟩
abbrev S264x1024 : Shape := ⟨2, ![264, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x264x1024, .f32⟩
  | .hbm, ⟨1, _⟩ => ⟨S_, .f32⟩
  | .hbm, ⟨2, _⟩ => ⟨S264x1024, .f32⟩
  | _, _ => ⟨S8x264x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== AdamShard.lean ====
abbrev S704x1024 : Shape := ⟨2, ![704, 1024]⟩
abbrev S3x704x1024 : Shape := ⟨3, ![3, 704, 1024]⟩
abbrev S4x704x1024 : Shape := ⟨3, ![4, 704, 1024]⟩
abbrev S352x1024 : Shape := ⟨2, ![352, 1024]⟩
abbrev S3x352x1024 : Shape := ⟨3, ![3, 352, 1024]⟩
abbrev S1x352x1024 : Shape := ⟨3, ![1, 352, 1024]⟩

abbrev nBuf : Space → Nat
  | .hbm => 14
  | .vmem => 18
  | .smem => 0
  | _ => 0

abbrev bufTy : (tb : Table) → Fin (tcTables nBuf tb) → BufTy
  | .hbm, ⟨0, _⟩ => ⟨S704x1024, .f32⟩
  | .hbm, ⟨1, _⟩ => ⟨S3x704x1024, .f32⟩
  | .hbm, ⟨2, _⟩ => ⟨S4x704x1024, .f32⟩
  | .hbm, ⟨3, _⟩ => ⟨S4x704x1024, .f32⟩
  | .hbm, ⟨4, _⟩ => ⟨S4x704x1024, .f32⟩
  | .hbm, ⟨5, _⟩ => ⟨S4x704x1024, .f32⟩
  | .hbm, ⟨6, _⟩ => ⟨S4x704x1024, .f32⟩
  | .hbm, ⟨7, _⟩ => ⟨S4x704x1024, .f32⟩
  | .hbm, ⟨8, _⟩ => ⟨S4x704x1024, .f32⟩
  | .hbm, ⟨9, _⟩ => ⟨S3x704x1024, .bf16⟩
  | .hbm, ⟨10, _⟩ => ⟨S4x704x1024, .f32⟩
  | .hbm, ⟨11, _⟩ => ⟨S4x704x1024, .f32⟩
  | .hbm, ⟨12, _⟩ => ⟨S4x704x1024, .f32⟩
  | .hbm, ⟨13, _⟩ => ⟨S4x704x1024, .f32⟩
  | .local _ .vmem, ⟨0, _⟩ => ⟨S352x1024, .f32⟩
  | .local _ .vmem, ⟨1, _⟩ => ⟨S352x1024, .f32⟩
  | .local _ .vmem, ⟨2, _⟩ => ⟨S3x352x1024, .bf16⟩
  | .local _ .vmem, ⟨3, _⟩ => ⟨S3x352x1024, .bf16⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | .local _ .vmem, ⟨14, _⟩ => ⟨S1x352x1024, .f32⟩
  | .local _ .vmem, ⟨15, _⟩ => ⟨S1x352x1024, .f32⟩
  | .local _ .vmem, ⟨16, _⟩ => ⟨S1x352x1024, .f32⟩
  | .local _ .vmem, ⟨17, _⟩ => ⟨S1x352x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_9 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_10 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_11 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_12 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x352x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamShardRefIdeal.lean ====
abbrev S704x1024 : Shape := ⟨2, ![704, 1024]⟩
abbrev S3x704x1024 : Shape := ⟨3, ![3, 704, 1024]⟩
abbrev S4x704x1024 : Shape := ⟨3, ![4, 704, 1024]⟩
abbrev S_ : Shape := ⟨0, ![]⟩
abbrev S1x704x1024 : Shape := ⟨3, ![1, 704, 1024]⟩

abbrev nBuf : Space → Nat
  | .hbm => 63
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S3x704x1024, .f32⟩
  | .hbm, ⟨2, _⟩ => ⟨S4x704x1024, .f32⟩
  | .hbm, ⟨3, _⟩ => ⟨S4x704x1024, .f32⟩
  | .hbm, ⟨4, _⟩ => ⟨S4x704x1024, .f32⟩
  | .hbm, ⟨5, _⟩ => ⟨S4x704x1024, .f32⟩
  | .hbm, ⟨6, _⟩ => ⟨S4x704x1024, .f32⟩
  | .hbm, ⟨7, _⟩ => ⟨S4x704x1024, .f32⟩
  | .hbm, ⟨8, _⟩ => ⟨S4x704x1024, .f32⟩
  | .hbm, ⟨9, _⟩ => ⟨S_, .f32⟩
  | .hbm, ⟨10, _⟩ => ⟨S704x1024, .f32⟩
  | .hbm, ⟨11, _⟩ => ⟨S704x1024, .f32⟩
  | .hbm, ⟨12, _⟩ => ⟨S1x704x1024, .f32⟩
  | .hbm, ⟨13, _⟩ => ⟨S704x1024, .f32⟩
  | .hbm, ⟨14, _⟩ => ⟨S_, .f32⟩
  | .hbm, ⟨15, _⟩ => ⟨S704x1024, .f32⟩
  | .hbm, ⟨16, _⟩ => ⟨S704x1024, .f32⟩
  | .hbm, ⟨17, _⟩ => ⟨S_, .f32⟩
  | .hbm, ⟨18, _⟩ => ⟨S704x1024, .f32⟩
  | .hbm, ⟨19, _⟩ => ⟨S704x1024, .f32⟩
  | .hbm, ⟨20, _⟩ => ⟨S704x1024, .f32⟩
  | .hbm, ⟨21, _⟩ => ⟨S1x704x1024, .f32⟩
  | .hbm, ⟨22, _⟩ => ⟨S704x1024, .f32⟩
  | .hbm, ⟨23, _⟩ => ⟨S_, .f32⟩
  | .hbm, ⟨24, _⟩ => ⟨S704x1024, .f32⟩
  | .hbm, ⟨25, _⟩ => ⟨S704x1024, .f32⟩
  | .hbm, ⟨26, _⟩ => ⟨S704x1024, .f32⟩
  | .hbm, ⟨27, _⟩ => ⟨S_, .f32⟩
  | .hbm, ⟨28, _⟩ => ⟨S704x1024, .f32⟩
  | .hbm, ⟨29, _⟩ => ⟨S704x1024, .f32⟩
  | .hbm, ⟨30, _⟩ => ⟨S704x1024, .f32⟩
  | .hbm, ⟨31, _⟩ => ⟨S_, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | .hbm, ⟨37, _⟩ => ⟨S704x1024, .f32⟩
  | .hbm, ⟨38, _⟩ => ⟨S_, .f32⟩
  | .hbm, ⟨39, _⟩ => ⟨S704x1024, .f32⟩
  | .hbm, ⟨40, _⟩ => ⟨S704x1024, .f32⟩
  | .hbm, ⟨41, _⟩ => ⟨S704x1024, .f32⟩
  | .hbm, ⟨42, _⟩ => ⟨S1x704x1024, .f32⟩
  | .hbm, ⟨43, _⟩ => ⟨S704x1024, .f32⟩
  | .hbm, ⟨44, _⟩ => ⟨S_, .f32⟩
  | .hbm, ⟨45, _⟩ => ⟨S704x1024, .f32⟩
  | .hbm, ⟨46, _⟩ => ⟨S704x1024, .f32⟩
  | .hbm, ⟨47, _⟩ => ⟨S704x1024, .f32⟩
  | .hbm, ⟨48, _⟩ => ⟨S_, .f32⟩
  | .hbm, ⟨49, _⟩ => ⟨S704x1024, .f32⟩
  | .hbm, ⟨50, _⟩ => ⟨S704x1024, .f32⟩
  | .hbm, ⟨51, _⟩ => ⟨S3x704x1024, .f32⟩
  | .hbm, ⟨52, _⟩ => ⟨S1x704x1024, .f32⟩
  | .hbm, ⟨53, _⟩ => ⟨S4x704x1024, .f32⟩
  | .hbm, ⟨54, _⟩ => ⟨S3x704x1024, .f32⟩
  | .hbm, ⟨55, _⟩ => ⟨S1x704x1024, .f32⟩
  | .hbm, ⟨56, _⟩ => ⟨S4x704x1024, .f32⟩
  | .hbm, ⟨57, _⟩ => ⟨S3x704x1024, .f32⟩
  | .hbm, ⟨58, _⟩ => ⟨S1x704x1024, .f32⟩
  | .hbm, ⟨59, _⟩ => ⟨S4x704x1024, .f32⟩
  | .hbm, ⟨60, _⟩ => ⟨S3x704x1024, .f32⟩
  | .hbm, ⟨61, _⟩ => ⟨S1x704x1024, .f32⟩
  | .hbm, ⟨62, _⟩ => ⟨S4x704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_4 : Ref sig .tc := ⟨.hbm, 31, rfl⟩
abbrev main_v17 : Ref sig .tc := ⟨.hbm, 32, rfl⟩
abbrev main_v18 : Ref sig .tc := ⟨.hbm, 33, rfl⟩
abbrev main_cst_5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_7 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_8 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩

abbrev nD : Nat := 1
abbrev τ : Topo := Topo.v7x

variable {F : FTy → Type} [FloatOps F]
-- ==== Proof.Consts.lean ====
/-
  What the value proofs of this certificate share: the reals the printed float constants denote, and a few facts of
  the extended reals (a factor moved into a sum of nonnegative terms; sums cut into blocks of rows).
-/
module

public import Idealize.ShloMosaic.Lib.Pointwise
public import Idealize.ShloMosaic.Lib.Pipeline.Value
public import Idealize.ShloMosaic.PureOps.Ideal.Laws

@[expose] public section

noncomputable section

namespace Cert.Step

open Idealize.ShloMosaic

theorem hz2 : (![0, 0] : Fin 2 → Nat) = fun _ => 0 := funext fun a => by fin_cases a <;> rfl

theorem hz3 : (![0, 0, 0] : Fin 3 → Nat) = fun _ => 0 := funext fun a => by fin_cases a <;> rfl

theorem bits_zero : Ideal.ofBits .f32 0x00000000#32 = 0 := by
  simp [Ideal.ofBits, Ideal.ieee, -EReal.coe_mul]
theorem bits_half : Ideal.ofBits .f32 0x3F000000#32 = ((1 / 2 : ℝ) : EReal) := by
  simp [Ideal.ofBits, Ideal.ieee, -EReal.coe_mul]; norm_num
theorem bits_one : Ideal.ofBits .f32 0x3F800000#32 = ((1 : ℝ) : EReal) := by
  simp [Ideal.ofBits, Ideal.ieee, -EReal.coe_mul]; norm_num
theorem bits_two : Ideal.ofBits .f32 0x40000000#32 = ((2 : ℝ) : EReal) := by
  simp [Ideal.ofBits, Ideal.ieee, -EReal.coe_mul]; norm_num
theorem bits_1024 : Ideal.ofBits .f32 0x44800000#32 = ((1024 : ℝ) : EReal) := by
  simp [Ideal.ofBits, Ideal.ieee, -EReal.coe_mul]; norm_num
theorem bits_inv1024 : Ideal.ofBits .f32 0x3A800000#32 = ((1 / 1024 : ℝ) : EReal) := by
  simp [Ideal.ofBits, Ideal.ieee, -EReal.coe_mul]; norm_num

/-- A real factor that is not negative goes into any sum of two extended reals. -/
theorem coe_mul_add {a : ℝ} (ha : 0 ≤ a) (x y : EReal) : (a : EReal) * (x + y) = a * x + a * y :=
  EReal.left_distrib_of_nonneg_of_ne_top (EReal.coe_nonneg.mpr ha) (EReal.coe_ne_top a) x y

/-- … and into any finite sum. -/
theorem coe_mul_sum {a : ℝ} (ha : 0 ≤ a) {ι : Type*} (s : Finset ι) (f : ι → EReal) :
    (a : EReal) * ∑ i ∈ s, f i = ∑ i ∈ s, (a : EReal) * f i := by
  classical
  induction s using Finset.induction_on with
  | empty => simp
  | insert i s hi ih => rw [Finset.sum_insert hi, Finset.sum_insert hi, coe_mul_add ha, ih]

/-- A sum over `a * b` rows, block of `b` rows after block. -/
theorem sum_blocks (a b : ℕ) (f : ℕ → EReal) :
    ∑ k : Fin (a * b), f k.val = ∑ t : Fin a, ∑ r : Fin b, f (t.val * b + r.val) := by
  rw [← Equiv.sum_comp finProdFinEquiv, Fintype.sum_prod_type]
  refine Finset.sum_congr rfl fun t _ => Finset.sum_congr rfl fun r _ => congrArg f ?_
  show r.val + b * t.val = _
  rw [Nat.mul_comm, Nat.add_comm]

/-- The sum over the first `n + 1` blocks, one more block at a time. -/
theorem sum_first_succ (f : ℕ → EReal) (n : ℕ) :
    ∑ t ∈ Finset.range (n + 1 + 1), f t = (∑ t ∈ Finset.range (n + 1), f t) + f (n + 1) := Finset.sum_range_succ f (n + 1)

end Cert.Step

end
-- ==== Proof.Loss.lean ====
/-
  The loss gradient: what the row-blocked kernel leaves in its two result arrays — `(h - t) / 1024` block by block, and
  half the sum over the rows of the mean square, accumulated over the grid — is the reference's gradient and loss.
-/
module

public import proofs.«01_k».proof.Proof.Consts
public import proofs.«01_k».proof.Defs
public import proofs.«01_k».proof.Proof.Gen.LossIdeal.Value
public import proofs.«01_k».proof.Proof.Gen.LossRefIdeal.Read
public import proofs.«01_k».proof.Proof.Gen.LossRefIdeal.Run

@[expose] public section

set_option maxRecDepth 16384

noncomputable section

open Idealize.ShloMosaic Idealize.ShloMosaic.TcCoe Idealize.SL.Sem
open Idealize.ShloMosaic.Pipeline (Dat)

namespace Cert.LossIdeal.Value

open Cert.LossIdeal Cert.LossIdeal.Gen Cert.Step

section anyF
variable {F : FTy → Type} [FloatOps F]

/-- Both cases leave the scaled difference in the gradient's block. -/
theorem grad_A (c : Dev nD) (i : grid0.Coords) (a1 : Memref sig .tc .vmem S512x1024 .f32) (h1 : a1.IsWhole) (a2 : Memref sig .tc .vmem S512x1024 .f32) (h2 : a2.IsWhole)
    (a3 : Memref sig .tc .vmem S512x1024 .f32) (h3 : a3.IsWhole) (a4 : Memref sig .tc .vmem S1x1 .f32) (h4 : a4.IsWhole) (hc : cond0_0 i) (x y : Vec F S512x1024 .f32) :
    out0_A_2 c i a1 h1 a2 h2 a3 h3 a4 h4 hc x y = k0_pay3 x y := by
  unfold out0_A_2
  rw [View.read_writes_eq_canon _ _ _ (cover0_A_2 c i a1 h1 a2 h2 a3 h3 a4 h4 hc x y)]
  unfold kernelRun0_A
  dsimp only
  sl_unfold_words
  rw [View.canon_unit_zero hz2]
  simp only [View.readAt_eq_ld, h1.read_unread, h2.read_unread, View.ld_unit_zero (S := S512x1024) hz2]

theorem grad_B (c : Dev nD) (i : grid0.Coords) (a1 : Memref sig .tc .vmem S512x1024 .f32) (h1 : a1.IsWhole) (a2 : Memref sig .tc .vmem S512x1024 .f32) (h2 : a2.IsWhole)
    (a3 : Memref sig .tc .vmem S512x1024 .f32) (h3 : a3.IsWhole) (a4 : Memref sig .tc .vmem S1x1 .f32) (h4 : a4.IsWhole) (hc : ¬cond0_0 i) (x y : Vec F S512x1024 .f32) (xo : Vec F S1x1 .f32) :
    out0_B_2 c i a1 h1 a2 h2 a3 h3 a4 h4 hc x y xo = k0_pay3 x y := by
  unfold out0_B_2
  rw [View.read_writes_eq_canon _ _ _ (cover0_B_2 c i a1 h1 a2 h2 a3 h3 a4 h4 hc x y xo)]
  unfold kernelRun0_B
  dsimp only
  sl_unfold_words
  rw [View.canon_unit_zero hz2]
  simp only [View.readAt_eq_ld, h1.read_unread, h2.read_unread, View.ld_unit_zero (S := S512x1024) hz2]

/-- The loss's block: reset and added to at the first point, added to after. -/
theorem sum_A (c : Dev nD) (i : grid0.Coords) (a1 : Memref sig .tc .vmem S512x1024 .f32) (h1 : a1.IsWhole) (a2 : Memref sig .tc .vmem S512x1024 .f32) (h2 : a2.IsWhole)
    (a3 : Memref sig .tc .vmem S512x1024 .f32) (h3 : a3.IsWhole) (a4 : Memref sig .tc .vmem S1x1 .f32) (h4 : a4.IsWhole) (hc : cond0_0 i) (x y : Vec F S512x1024 .f32) :
    out0_A_3 c i a1 h1 a2 h2 a3 h3 a4 h4 hc x y = k0_pay4 x y k0_pay1 := by
  unfold out0_A_3
  rw [View.read_writes_eq_canon _ _ _ (cover0_A_3 c i a1 h1 a2 h2 a3 h3 a4 h4 hc x y)]
  unfold kernelRun0_A
  dsimp only
  sl_unfold_words
  rw [View.canon_cons_unit_zero (S := S1x1) hz2, View.readCov_unit_zero (S := S1x1) _ hz2]
  simp only [View.readAt_eq_ld, h1.read_unread, h2.read_unread, View.ld_unit_zero (S := S512x1024) hz2]

theorem sum_B (c : Dev nD) (i : grid0.Coords) (a1 : Memref sig .tc .vmem S512x1024 .f32) (h1 : a1.IsWhole) (a2 : Memref sig .tc .vmem S512x1024 .f32) (h2 : a2.IsWhole)
    (a3 : Memref sig .tc .vmem S512x1024 .f32) (h3 : a3.IsWhole) (a4 : Memref sig .tc .vmem S1x1 .f32) (h4 : a4.IsWhole) (hc : ¬cond0_0 i) (x y : Vec F S512x1024 .f32) (xo : Vec F S1x1 .f32) :
    out0_B_3 c i a1 h1 a2 h2 a3 h3 a4 h4 hc x y xo = k0_pay4 x y xo := by
  unfold out0_B_3
  rw [View.read_writes_eq_canon _ _ _ (cover0_B_3 c i a1 h1 a2 h2 a3 h3 a4 h4 hc x y xo)]
  unfold kernelRun0_B
  dsimp only
  sl_unfold_words
  rw [View.canon_unit_zero hz2]
  simp only [View.readAt_eq_ld, h1.read_unread, h2.read_unread, h4.read_unread, View.ld_unit_zero (S := S512x1024) hz2, View.ld_unit_zero (S := S1x1) hz2]

end anyF

variable (m : (ℓ : Loc nD τ sig) → Buf (Elt Ideal) ℓ) (ρ : Dev nD → PrngReg)

/-- The two arguments as arrays, and the squared error summed along a row. -/
abbrev argH (c : Dev nD) : S2048x1024.Idx → EReal := m ((c : Thread nD τ).loc main_arg0)
abbrev argT (c : Dev nD) : S2048x1024.Idx → EReal := m ((c : Thread nD τ).loc main_arg1)

theorem row_lt (t : Fin cfg0.N) (r : Fin 512) : t.val * 512 + r.val < 2048 := by
  have := lt_of_lt_of_eq t.isLt (show cfg0.N = 4 from N_0); omega

theorem index_row : ∀ t : Fin grid0.N, (win0_0.index t 0 = t.val ∧ win0_0.index t 1 = 0) ∧ (win0_1.index t 0 = t.val ∧ win0_1.index t 1 = 0)
    ∧ win0_2.index t 0 = t.val ∧ win0_2.index t 1 = 0 := by decide +kernel

/-- A row block of an argument holds the argument's rows from `512 t` on. -/
theorem blkH (c : Dev nD) (t : Fin cfg0.N) (r : Fin 512) (l : Fin 1024) :
    (iblk m c 0 t : Vec Ideal S512x1024 .f32) (ix2 r l) = argH m c (ix2 ⟨t.val * 512 + r.val, row_lt t r⟩ l) := by
  unfold iblk
  rw [View.read_apply]
  show V m c main_arg0 _ = m (c.tc.loc main_arg0) _
  unfold V
  congr 1
  funext a
  apply Fin.ext
  match a with
  | ⟨0, _⟩ => show win0_0.index t 0 * 512 + 1 * r.val = t.val * 512 + r.val; rw [(index_row t).1.1, Nat.one_mul]
  | ⟨1, _⟩ => show win0_0.index t 1 * 1024 + 1 * l.val = l.val; rw [(index_row t).1.2]; omega

theorem blkT (c : Dev nD) (t : Fin cfg0.N) (r : Fin 512) (l : Fin 1024) :
    (iblk m c 1 t : Vec Ideal S512x1024 .f32) (ix2 r l) = argT m c (ix2 ⟨t.val * 512 + r.val, row_lt t r⟩ l) := by
  unfold iblk
  rw [View.read_apply]
  show V m c main_arg1 _ = m (c.tc.loc main_arg1) _
  unfold V
  congr 1
  funext a
  apply Fin.ext
  match a with
  | ⟨0, _⟩ => show win0_1.index t 0 * 512 + 1 * r.val = t.val * 512 + r.val; rw [(index_row t).2.1.1, Nat.one_mul]
  | ⟨1, _⟩ => show win0_1.index t 1 * 1024 + 1 * l.val = l.val; rw [(index_row t).2.1.2]; omega

/-- Half the mean square of row `k`. -/
def rowLoss (c : Dev nD) (k : ℕ) : EReal :=
  if h : k < 2048 then ((1 / 2 : ℝ) : EReal) * Ideal.div (∑ l : Fin 1024, (argH m c (ix2 ⟨k, h⟩ l) - argT m c (ix2 ⟨k, h⟩ l)) * (argH m c (ix2 ⟨k, h⟩ l) - argT m c (ix2 ⟨k, h⟩ l))) ((1024 : ℝ) : EReal) else 0

/-- The gradient and the loss. -/
def gradG (c : Dev nD) : Vec Ideal S2048x1024 .f32 := fun j => (argH m c j - argT m c j) * ((1 / 1024 : ℝ) : EReal)
def lossV (c : Dev nD) : EReal := ∑ k : Fin 2048, rowLoss m c k.val
theorem lossV_eq (c : Dev nD) : lossV m c = ∑ k : Fin 2048, ((1 / 2 : ℝ) : EReal)
    * Ideal.div (∑ l : Fin 1024, (argH m c (ix2 k l) - argT m c (ix2 k l)) * (argH m c (ix2 k l) - argT m c (ix2 k l))) ((1024 : ℝ) : EReal) :=
  Finset.sum_congr rfl fun k _ => by rw [rowLoss, dif_pos k.isLt]
def lossG (c : Dev nD) : Vec Ideal S1x1 .f32 := fun _ => lossV m c

theorem pay4_at (c : Dev nD) (t : Fin cfg0.N) (xo : Vec Ideal S1x1 .f32) (j : S1x1.Idx) :
    k0_pay4 (iblk m c 0 t) (iblk m c 1 t) xo j = xo (ix2 0 0) + ∑ r : Fin 512, rowLoss m c (t.val * 512 + r.val) := by
  generalize hx : (iblk m c 0 t : Vec Ideal S512x1024 .f32) = x
  generalize hy : (iblk m c 1 t : Vec Ideal S512x1024 .f32) = y
  idx_vars j
  pointwise [k0_pay4, k0_pay2]
  obtain rfl : j0 = 0 := Subsingleton.elim (α := Fin 1) _ _
  obtain rfl : j1 = 0 := Subsingleton.elim (α := Fin 1) _ _
  simp only [bits_half, bits_1024]
  rw [coe_mul_sum (by norm_num)]
  have hs : ∀ f g : Fin 512 → EReal, (∀ r, f r = g r) → xo (ix2 0 0) + ∑ r, f r = xo (ix2 0 0) + ∑ r, g r := fun f g h => by rw [funext h]
  refine hs _ _ fun r => ?_
  rw [rowLoss, dif_pos (row_lt t r)]
  refine congrArg (((1 / 2 : ℝ) : EReal) * Ideal.div · ((1024 : ℝ) : EReal)) (Finset.sum_congr rfl fun l _ => ?_)
  rw [← hx, ← hy, blkH, blkT]

theorem acc_eq (c : Dev nD) : ∀ (n : ℕ) (h : n < cfg0.N), (outsAt0 m c n h).2
    = fun _ => ∑ t ∈ Finset.range (n + 1), ∑ r : Fin 512, rowLoss m c (t * 512 + r.val)
  | 0, h => by
    rw [outsAt0_A m c ⟨0, h⟩ rfl]
    dsimp only
    rw [sum_A]
    funext j
    rw [pay4_at]
    pointwise [k0_pay1]
    simp [bits_zero]
  | n + 1, h => by
    have hN : cfg0.N = 4 := N_0
    have hB : ¬(⟨n + 1, h⟩ : Fin cfg0.N).val % 4 = 0 := by dsimp only; omega
    rw [outsAt0_B m c ⟨n + 1, h⟩ hB]
    dsimp only
    rw [sum_B]
    funext j
    rw [pay4_at, Finset.sum_range_succ]
    show (outsAt0 m c n _).2 _ + _ = _
    rw [acc_eq c n]

theorem loss_last (c : Dev nD) (t : Fin cfg0.N) (h : t.val = 3) : (outsAt0 m c t.val t.isLt).2 = lossG m c := by
  rw [acc_eq]
  funext _
  rw [lossG, lossV, sum_blocks 4 512, h, Finset.sum_range]

/-- A row block of the gradient's array, read through its window. -/
theorem blkG (c : Dev nD) (t : Fin cfg0.N) (G : S2048x1024.Idx → EReal) (r : Fin 512) (l : Fin 1024) :
    (((cfg0.win 2).blk t).view.read (Elt Ideal) G : Vec Ideal S512x1024 .f32) (ix2 r l) = G (ix2 ⟨t.val * 512 + r.val, row_lt t r⟩ l) := by
  rw [View.read_apply]
  refine congrArg G (funext fun a => Fin.ext ?_)
  match a with
  | ⟨0, _⟩ => show win0_2.index t 0 * 512 + 1 * r.val = t.val * 512 + r.val; rw [(index_row t).2.2.1, Nat.one_mul]
  | ⟨1, _⟩ => show win0_2.index t 1 * 1024 + 1 * l.val = l.val; rw [(index_row t).2.2.2]; omega

theorem outsAt_grad (c : Dev nD) (t : Fin cfg0.N) :
    (outsAt0 m c t.val t.isLt).1 = k0_pay3 (F := Ideal) (iblk m c 0 t) (iblk m c 1 t) := by
  by_cases h0 : t.val % 4 = 0
  · rw [outsAt0_A m c t h0]; dsimp only; rw [grad_A]
  · rw [outsAt0_B m c t h0]; dsimp only; rw [grad_B]

theorem pay3_at (c : Dev nD) (t : Fin cfg0.N) (r : Fin 512) (l : Fin 1024) :
    k0_pay3 (F := Ideal) (iblk m c 0 t) (iblk m c 1 t) (ix2 r l) = gradG m c (ix2 ⟨t.val * 512 + r.val, row_lt t r⟩ l) := by
  rw [gradG, ← blkH, ← blkT]
  pointwise [k0_pay3, k0_pay2]
  rw [bits_inv1024]

/-- After the run, the gradient's array. -/
theorem final2 (c : Dev nD) : (dats m 0 c).arrAt 2 cfg0.N = gradG m c :=
  (dats m 0 c).arrAt_eq_of_cover 2 (gradG m c)
    (fun t _ => by
      rw [flushed2, outsAt_grad]
      refine funext fun (j : S512x1024.Idx) => ?_
      obtain ⟨r, l, rfl⟩ : ∃ (r : Fin 512) (l : Fin 1024), j = ix2 r l := ⟨j 0, j 1, eq_ix2 j⟩
      exact (pay3_at m c t r l).trans (blkG c t (gradG m c) r l).symm)
    fun (i : S2048x1024.Idx) => by
      have hN : cfg0.N = 4 := N_0
      have h0 : (i 0 : Nat) < 2048 := (i 0).isLt
      have h1 : (i 1 : Nat) < 1024 := (i 1).isLt
      refine ⟨⟨(i 0).val / 512, by omega⟩, flush0_2 _, ?_⟩
      generalize ht : (⟨(i 0).val / 512, _⟩ : Fin cfg0.N) = t
      have htv : t.val = (i 0).val / 512 := by rw [← ht]
      show i ∈ ((View.whole main_v0_0).slice (win0_2.rect t)).set
      rw [View.set_slice_whole, Rect.mem_set_unit]
      intro a
      match a with
      | ⟨0, _⟩ =>
        show win0_2.index t 0 * 512 ≤ (i 0 : Nat) ∧ (i 0 : Nat) < win0_2.index t 0 * 512 + 512
        rw [(index_row t).2.2.1]; omega
      | ⟨1, _⟩ =>
        show win0_2.index t 1 * 1024 ≤ (i 1 : Nat) ∧ (i 1 : Nat) < win0_2.index t 1 * 1024 + 1024
        rw [(index_row t).2.2.2]; omega

/-- After the run, the loss. -/
theorem final3 (c : Dev nD) : (dats m 0 c).arrAt 3 cfg0.N = lossG m c :=
  (dats m 0 c).arrAt_eq_of_cover 3 (lossG m c)
    (fun t hf => by
      have hN : cfg0.N = 4 := N_0
      have h3 : t.val = 3 := by have := (flush0_3 t).mp hf; have := t.isLt; omega
      rw [flushed3, loss_last m c t h3]
      rfl)
    fun (i : S1x1.Idx) => ⟨t0_3, (flush0_3 t0_3).mpr rfl, by
      have h0 : (i 0 : Nat) < 1 := (i 0).isLt
      have h1 : (i 1 : Nat) < 1 := (i 1).isLt
      show i ∈ ((View.whole main_v0_1).slice (win0_3.rect t0_3)).set
      rw [View.set_slice_whole, Rect.mem_set_unit]
      intro a
      match a with
      | ⟨0, _⟩ =>
        show win0_3.index t0_3 0 * win0_3.size 0 ≤ (i 0 : Nat) ∧ (i 0 : Nat) < win0_3.index t0_3 0 * win0_3.size 0 + win0_3.xsize (grid0.coords t0_3) 0
        rw [show win0_3.index t0_3 0 * win0_3.size 0 = 0 from by decide +kernel, show win0_3.xsize (grid0.coords t0_3) 0 = 1 from by decide +kernel]; omega
      | ⟨1, _⟩ =>
        show win0_3.index t0_3 1 * win0_3.size 1 ≤ (i 1 : Nat) ∧ (i 1 : Nat) < win0_3.index t0_3 1 * win0_3.size 1 + win0_3.xsize (grid0.coords t0_3) 1
        rw [show win0_3.index t0_3 1 * win0_3.size 1 = 0 from by decide +kernel, show win0_3.xsize (grid0.coords t0_3) 1 = 1 from by decide +kernel]; omega⟩

end Cert.LossIdeal.Value

namespace Cert.LossRefIdeal.Value

open Cert.LossRefIdeal Cert.LossRefIdeal.Gen Cert.LossRefIdeal.Read Cert.Step

variable (m : (ℓ : Loc nD τ sig) → Buf (Elt Ideal) ℓ) (ρ : Dev nD → PrngReg)

/-- The reference's gradient at an index. -/
theorem grad_at (x y : S2048x1024.Idx → EReal) (i : S2048x1024.Idx) :
    val_main_v14 (F := Ideal) x y i = (x i - y i) * ((1 / 1024 : ℝ) : EReal) := by
  simp only [val_main_v14_apply, val_main_v13_apply, val_main_v12_apply, val_main_v10_apply, val_main_v9_apply, val_main_v11_apply, val_main_v3_apply,
    val_main_v2_apply, val_main_v0_apply, val_main_cst_apply, val_main_cst_4_apply, val_main_cst_5_apply, val_main_cst_6_apply,
    Ideal.mulf_def, Ideal.subf_def, Ideal.hostDivf_def, Ideal.ofBits_def, bits_half, bits_one, bits_1024, bits_two]
  rw [Ideal.div_coe (by norm_num), ← EReal.coe_mul, ← EReal.coe_mul, ← mul_assoc, ← EReal.coe_mul, mul_comm]
  norm_num

/-- The reference's loss. -/
theorem loss_at (x y : S2048x1024.Idx → EReal) (i : S1x1.Idx) :
    val_main_v15 (F := Ideal) x y i
      = ∑ k : Fin 2048, ((1 / 2 : ℝ) : EReal) * Ideal.div (∑ l : Fin 1024, (x (ix2 k l) - y (ix2 k l)) * (x (ix2 k l) - y (ix2 k l))) ((1024 : ℝ) : EReal) := by
  have h8 : ∀ j, val_main_v8 (F := Ideal) x y j = ∑ k : Fin 2048, ((1 / 2 : ℝ) : EReal) * Ideal.div (∑ l : Fin 1024, (x (ix2 k l) - y (ix2 k l)) * (x (ix2 k l) - y (ix2 k l))) ((1024 : ℝ) : EReal) := by
    intro j
    simp only [val_main_v8_apply, val_main_v7_apply, val_main_v6_apply, val_main_v5_apply, val_main_v4_apply, val_main_v1_apply, val_main_v0_apply,
      val_main_cst_0_apply, val_main_cst_1_apply, val_main_cst_2_apply, val_main_cst_3_apply,
      Ideal.mulf_def, Ideal.subf_def, Ideal.hostDivf_def, Ideal.ofBits_def, bits_half, bits_1024, bits_zero, zero_add]
    rw [coe_mul_sum (by norm_num)]
    exact (sum_idx1 _).trans (Finset.sum_congr rfl fun k _ => congrArg _ (congrArg (Ideal.div · _) (Finset.sum_congr rfl fun l _ => by
      rw [show idx_main_v4 (ix1 k) l = ix2 k l from eq_ix2 _])))
  exact h8 _

end Cert.LossRefIdeal.Value

namespace Cert.Step.Loss

theorem claim : algebraic_LossIdeal_LossRefIdeal := fun m ρ m' ρ' _ hag =>
  ⟨fun c => Cert.LossIdeal.Value.gradG m c, fun c => Cert.LossIdeal.Value.lossG m c,
    (θ_run _ _ _).mono (fun _ h c => ⟨(h c).1.trans (Cert.LossIdeal.Value.final2 m c), (h c).2.1.trans (Cert.LossIdeal.Value.final3 m c), (h c).2.2⟩)
      (Cert.LossIdeal.Value.run_blocks m ρ),
    (θ_run _ _ _).mono (fun _ h c => ⟨(h c).1.trans (by
        rw [(hag c).1, (hag c).2]
        exact funext fun i => Cert.LossRefIdeal.Value.grad_at _ _ i), (h c).2.1.trans (by
        rw [(hag c).1, (hag c).2]
        exact funext fun i => (Cert.LossRefIdeal.Value.loss_at _ _ i).trans (Cert.LossIdeal.Value.lossV_eq m c).symm), (h c).2.2⟩)
      (Cert.LossRefIdeal.Value.run m' ρ')⟩

end Cert.Step.Loss

end
-- ==== Proof.Norm.lean ====
/-
  The gradient of a row's normalisation, over the reals: the form with the two row means taken out of the scaled
  cotangent, and the form in which the variance and the mean are differentiated one after the other, are equal.
-/
module

public import proofs.«01_k».proof.Proof.Consts

@[expose] public section

noncomputable section

namespace Cert.Step

open Idealize.ShloMosaic

/-- The real the printed `1e-5` denotes. -/
def eps : ℝ := 10995116 / 2 ^ 40

theorem bits_eps : Ideal.ofBits .f32 0x3727C5AC#32 = ((eps : ℝ) : EReal) := by
  simp [Ideal.ofBits, Ideal.ieee, eps, -EReal.coe_mul]; norm_num
theorem bits_neg_half : Ideal.ofBits .f32 0xBF000000#32 = ((-(1 / 2) : ℝ) : EReal) := by
  simp [Ideal.ofBits, Ideal.ieee, -EReal.coe_mul]; norm_num

theorem eps_pos : 0 < eps := by unfold eps; norm_num

/-- A finite sum of reals is one in the extended reals. -/
theorem sum_coe {ι : Type*} (s : Finset ι) (f : ι → ℝ) : ∑ k ∈ s, ((f k : ℝ) : EReal) = ((∑ k ∈ s, f k : ℝ) : EReal) := by
  classical
  induction s using Finset.induction_on with
  | empty => simp
  | insert i s hi ih => rw [Finset.sum_insert hi, Finset.sum_insert hi, ih, EReal.coe_add]

theorem div_1024 (a : ℝ) : Ideal.div (a : EReal) ((1024 : ℝ) : EReal) = ((a / 1024 : ℝ) : EReal) := by
  rw [Ideal.div_coe (by norm_num), ← EReal.coe_mul, mul_one_div]

/-- A sum over `a * b` rows, block of `b` rows after block. -/
theorem sum_blocks_real (a b : ℕ) (f : ℕ → ℝ) :
    ∑ k : Fin (a * b), f k.val = ∑ t : Fin a, ∑ r : Fin b, f (t.val * b + r.val) := by
  rw [← Equiv.sum_comp finProdFinEquiv, Fintype.sum_prod_type]
  refine Finset.sum_congr rfl fun t _ => Finset.sum_congr rfl fun r _ => congrArg f ?_
  show r.val + b * t.val = _
  rw [Nat.mul_comm, Nat.add_comm]

/-- A row's mean; the row less its mean; its variance plus `eps`; the scale; the normalised row. -/
def mean (f : Fin 1024 → ℝ) : ℝ := (∑ k, f k) / 1024
def ctr (z : Fin 1024 → ℝ) (k : Fin 1024) : ℝ := z k - mean z
def vr (z : Fin 1024 → ℝ) : ℝ := mean (fun k => ctr z k * ctr z k) + eps
def rs (z : Fin 1024 → ℝ) : ℝ := (Real.sqrt (vr z))⁻¹
def hat (z : Fin 1024 → ℝ) (k : Fin 1024) : ℝ := ctr z k * rs z
/-- The gradient of the normalised row, `d` its cotangent. -/
def dnorm (z d : Fin 1024 → ℝ) (k : Fin 1024) : ℝ := rs z * (d k - mean d - hat z k * mean (fun j => d j * hat z j))

theorem vr_pos (z : Fin 1024 → ℝ) : 0 < vr z :=
  add_pos_of_nonneg_of_pos (div_nonneg (Finset.sum_nonneg fun _ _ => mul_self_nonneg _) (by norm_num)) eps_pos

theorem rsqrt_vr (z : Fin 1024 → ℝ) : Ideal.rsqrt ((vr z : ℝ) : EReal) = ((rs z : ℝ) : EReal) := by
  rw [Ideal.rsqrt_coe, if_neg (not_lt.mpr (vr_pos z).le), if_neg (vr_pos z).ne', rs]

theorem rs_sq (z : Fin 1024 → ℝ) : rs z * rs z = 1 / vr z := by
  rw [rs, ← mul_inv, Real.mul_self_sqrt (vr_pos z).le, one_div]

theorem mean_ctr (z : Fin 1024 → ℝ) : mean (ctr z) = 0 := by
  simp only [mean, ctr, Finset.sum_sub_distrib, Finset.sum_const, Finset.card_univ, Fintype.card_fin, nsmul_eq_mul]
  push_cast; ring

theorem mean_add (f g : Fin 1024 → ℝ) : mean (fun k => f k + g k) = mean f + mean g := by
  simp only [mean, Finset.sum_add_distrib]; ring
theorem mean_mul (f : Fin 1024 → ℝ) (a : ℝ) : mean (fun k => f k * a) = mean f * a := by
  simp only [mean, ← Finset.sum_mul]; ring
theorem mean_neg (f : Fin 1024 → ℝ) : mean (fun k => -f k) = -mean f := by
  simp only [mean, Finset.sum_neg_distrib]; ring

/-- What the derivative of the variance contributes, per entry of the row less its mean. -/
def dvar (z d : Fin 1024 → ℝ) : ℝ := (∑ j, ctr z j * d j) * (-(1 / 2) * (rs z / vr z)) / 1024
/-- The cotangent of the row less its mean, and with the mean's own part the gradient of the row. -/
def dctr (z d : Fin 1024 → ℝ) (k : Fin 1024) : ℝ := d k * rs z + ctr z k * dvar z d + dvar z d * ctr z k

theorem dctr_mean (z d : Fin 1024 → ℝ) (k : Fin 1024) : dctr z d k + mean (fun j => -dctr z d j) = dnorm z d k := by
  have h1 : mean (fun j => -dctr z d j) = -(mean d * rs z) := by
    have : (fun j => -dctr z d j) = fun j => -(d j * rs z + ctr z j * (2 * dvar z d)) := funext fun j => by unfold dctr; ring
    rw [this, mean_neg, mean_add, mean_mul d, mean_mul (ctr z), mean_ctr]; ring
  have h2 : mean (fun j => d j * hat z j) = mean (fun j => ctr z j * d j) * rs z := by
    rw [← mean_mul]; congr 1; funext j; unfold hat; ring
  rw [h1, dnorm, h2, dctr, dvar, hat]
  have h3 : rs z / vr z = rs z * (rs z * rs z) := by rw [rs_sq]; ring
  rw [h3]
  unfold mean
  ring

theorem bits_inf : Ideal.ofBits .f32 0x7F800000#32 = (⊤ : EReal) := by
  simp [Ideal.ofBits, Ideal.ieee]

/-- An array whose absolute values all compare below infinity is an array of reals. -/
theorem exists_real {s : Shape} {x inf : FVec Ideal s .f32} (hinf : ∀ i, inf i = Ideal.ofBits .f32 0x7F800000#32)
    (h : cmpf .olt (Host.absf x) inf = fun _ => 1#1) : ∃ X : s.Idx → ℝ, ∀ i, x i = ((X i : ℝ) : EReal) := by
  refine ⟨fun i => (x i : EReal).toReal, fun i => (EReal.coe_toReal ?_ ?_).symm⟩ <;> intro hx <;>
    have hi : Ideal.cmp .olt (max (x i) (-x i)) (inf i) = 1#1 := congrFun h i <;> rw [hinf, bits_inf, hx] at hi <;> simp [Ideal.cmp] at hi

/-- Its values by coordinates. -/
theorem at2 {a b : ℕ} {x : (⟨2, ![a, b]⟩ : Shape).Idx → EReal} {X : (⟨2, ![a, b]⟩ : Shape).Idx → ℝ} (h : ∀ i, x i = ((X i : ℝ) : EReal)) (i) :
    x i = ((X (ix2 (i 0) (i 1)) : ℝ) : EReal) := (h i).trans (congrArg (fun j => ((X j : ℝ) : EReal)) (eq_ix2 i))
theorem at1 {a : ℕ} {x : (⟨1, ![a]⟩ : Shape).Idx → EReal} {X : (⟨1, ![a]⟩ : Shape).Idx → ℝ} (h : ∀ i, x i = ((X i : ℝ) : EReal)) (i) :
    x i = ((X (ix1 (i 0)) : ℝ) : EReal) := (h i).trans (congrArg (fun j => ((X j : ℝ) : EReal)) (eq_ix1 i))

end Cert.Step

end
-- ==== Proof.Ln.lean ====
/-
  The gradient of a row normalisation: what the row-blocked kernel leaves in its three result arrays — the rows' gradient
  block by block, the gains' and the biases' gradients added up over the grid — is what the reference's differentiation of
  the normalisation gives, at finite rows, gains and cotangents.
-/
module

public import proofs.«01_k».proof.Proof.Norm
public import proofs.«01_k».proof.Defs
public import proofs.«01_k».proof.Proof.Gen.LnIdeal.Value
public import proofs.«01_k».proof.Proof.Gen.LnRefIdeal.Read
public import proofs.«01_k».proof.Proof.Gen.LnRefIdeal.Run

@[expose] public section

set_option maxRecDepth 16384

noncomputable section

open Idealize.ShloMosaic Idealize.ShloMosaic.TcCoe Idealize.SL.Sem
open Idealize.ShloMosaic.Pipeline (Dat)

namespace Cert.LnIdeal.Value

open Cert.LnIdeal Cert.LnIdeal.Gen Cert.Step

variable (m : (ℓ : Loc nD τ sig) → Buf (Elt Ideal) ℓ) (ρ : Dev nD → PrngReg)

/-- What a point leaves in the three result blocks: the first over zeros, the later ones over what the point before left. -/
theorem outs_A (c : Dev nD) (t : Fin cfg0.N) (h0 : t.val % 4 = 0) :
    outsAt0 m c t.val t.isLt = (k0_pay8 (F := Ideal) (iblk m c 0 t) (iblk m c 1 t) (iblk m c 2 t),
      k0_pay1 (F := Ideal) (iblk m c 0 t) (k0_pay7 (iblk m c 1 t)) (k0_pay3 (F := Ideal)), k0_pay2 (F := Ideal) (iblk m c 0 t) (k0_pay4 (F := Ideal))) := by
  rw [outsAt0_A m c t h0]
  refine Prod.ext ?_ (Prod.ext ?_ ?_) <;> dsimp only
  · unfold out0_A_3
    rw [View.read_writes_eq_canon _ _ _ (cover0_A_3 _ _ _ _ _ _ _ _ _ _ _ _ _ _ _ _ _ _)]
    unfold kernelRun0_A
    dsimp only
    sl_unfold_words
    rw [View.canon_unit_zero hz2]
    simp only [View.readAt_eq_ld, (hs0_0 t).read_unread, (hs0_1 t).read_unread, (hs0_2 t).read_unread, View.ld_unit_zero (S := S512x1024) hz2, View.ld_unit_zero (S := S1x1024) hz2]
  · unfold out0_A_4
    rw [View.read_writes_eq_canon _ _ _ (cover0_A_4 _ _ _ _ _ _ _ _ _ _ _ _ _ _ _ _ _ _)]
    unfold kernelRun0_A
    dsimp only
    sl_unfold_words
    rw [View.canon_cons_unit_zero (S := S1x1024) hz2, View.readCov_unit_zero (S := S1x1024) _ hz2]
    simp only [View.readAt_eq_ld, (hs0_0 t).read_unread, (hs0_1 t).read_unread, View.ld_unit_zero (S := S512x1024) hz2]
  · unfold out0_A_5
    rw [View.read_writes_eq_canon _ _ _ (cover0_A_5 _ _ _ _ _ _ _ _ _ _ _ _ _ _ _ _ _ _)]
    unfold kernelRun0_A
    dsimp only
    sl_unfold_words
    rw [View.canon_cons_unit_zero (S := S1x1024) hz2, View.readCov_unit_zero (S := S1x1024) _ hz2]
    simp only [View.readAt_eq_ld, (hs0_0 t).read_unread, View.ld_unit_zero (S := S512x1024) hz2]

theorem outs_B (c : Dev nD) (t : Fin cfg0.N) (h0 : ¬t.val % 4 = 0) :
    outsAt0 m c t.val t.isLt = (k0_pay8 (F := Ideal) (iblk m c 0 t) (iblk m c 1 t) (iblk m c 2 t),
      k0_pay1 (F := Ideal) (iblk m c 0 t) (k0_pay7 (iblk m c 1 t)) (outsAt0 m c (t.val - 1) (Nat.lt_of_le_of_lt (Nat.sub_le _ _) t.isLt)).2.1,
      k0_pay2 (F := Ideal) (iblk m c 0 t) (outsAt0 m c (t.val - 1) (Nat.lt_of_le_of_lt (Nat.sub_le _ _) t.isLt)).2.2) := by
  rw [outsAt0_B m c t h0]
  refine Prod.ext ?_ (Prod.ext ?_ ?_) <;> dsimp only
  · unfold out0_B_3
    rw [View.read_writes_eq_canon _ _ _ (cover0_B_3 _ _ _ _ _ _ _ _ _ _ _ _ _ _ _ _ _ _ _ _)]
    unfold kernelRun0_B
    dsimp only
    sl_unfold_words
    rw [View.canon_unit_zero hz2]
    simp only [View.readAt_eq_ld, (hs0_0 t).read_unread, (hs0_1 t).read_unread, (hs0_2 t).read_unread, View.ld_unit_zero (S := S512x1024) hz2, View.ld_unit_zero (S := S1x1024) hz2]
  · unfold out0_B_4
    rw [View.read_writes_eq_canon _ _ _ (cover0_B_4 _ _ _ _ _ _ _ _ _ _ _ _ _ _ _ _ _ _ _ _)]
    unfold kernelRun0_B
    dsimp only
    sl_unfold_words
    rw [View.canon_unit_zero hz2]
    simp only [View.readAt_eq_ld, (hs0_0 t).read_unread, (hs0_1 t).read_unread, (hs0_4 t).read_unread, View.ld_unit_zero (S := S512x1024) hz2, View.ld_unit_zero (S := S1x1024) hz2]
  · unfold out0_B_5
    rw [View.read_writes_eq_canon _ _ _ (cover0_B_5 _ _ _ _ _ _ _ _ _ _ _ _ _ _ _ _ _ _ _ _)]
    unfold kernelRun0_B
    dsimp only
    sl_unfold_words
    rw [View.canon_unit_zero hz2]
    simp only [View.readAt_eq_ld, (hs0_0 t).read_unread, (hs0_5 t).read_unread, View.ld_unit_zero (S := S512x1024) hz2, View.ld_unit_zero (S := S1x1024) hz2]

/-! The payloads at an index, of blocks of reals. -/
section reals
variable (x y : Vec Ideal S512x1024 .f32) (g : Vec Ideal S1x1024 .f32) (C Z : Fin 512 → Fin 1024 → ℝ) (G : Fin 1024 → ℝ)
  (hx : ∀ r l, x (ix2 r l) = ((C r l : ℝ) : EReal)) (hy : ∀ r l, y (ix2 r l) = ((Z r l : ℝ) : EReal)) (hg : ∀ l, g (ix2 0 l) = ((G l : ℝ) : EReal))

include hy in
theorem pay5_at (r : Fin 512) (l : Fin 1024) : k0_pay5 y (ix2 r l) = ((ctr (Z r) l : ℝ) : EReal) := by
  pointwise [k0_pay5]
  simp only [bits_1024, hy, sum_coe, div_1024, ← EReal.coe_sub]
  rfl

include hy in
theorem pay6_at (r : Fin 512) : k0_pay6 y (ix2 r 0) = ((rs (Z r) : ℝ) : EReal) := by
  have h5 := pay5_at y Z hy
  generalize hw : k0_pay5 y = w at h5
  unfold k0_pay6
  rw [hw]
  pointwise []
  simp only [bits_1024, bits_eps, h5, ← EReal.coe_mul, sum_coe, div_1024, ← EReal.coe_add]
  exact rsqrt_vr (Z r)

include hy in
theorem pay7_at (r : Fin 512) (l : Fin 1024) : k0_pay7 y (ix2 r l) = ((hat (Z r) l : ℝ) : EReal) := by
  have h5 := pay5_at y Z hy
  have h6 := pay6_at y Z hy
  unfold k0_pay7
  generalize k0_pay5 y = w at h5
  generalize k0_pay6 y = u at h6
  pointwise []
  rw [h5, h6, ← EReal.coe_mul]
  rfl

include hx hy hg in
theorem pay8_at (r : Fin 512) (l : Fin 1024) : k0_pay8 x y g (ix2 r l) = ((dnorm (Z r) (fun k => C r k * G k) l : ℝ) : EReal) := by
  have h6 := pay6_at y Z hy
  have h7 := pay7_at y Z hy
  unfold k0_pay8
  generalize k0_pay6 y = u at h6
  generalize k0_pay7 y = w at h7
  pointwise []
  simp only [bits_1024, hx, hg, h6, h7, ← EReal.coe_mul, sum_coe, div_1024, ← EReal.coe_sub]
  rfl

include hx hy in
theorem pay1_at (a : Vec Ideal S1x1024 .f32) (l : Fin 1024) :
    k0_pay1 x (k0_pay7 y) a (ix2 0 l) = a (ix2 0 l) + ((∑ r, C r l * hat (Z r) l : ℝ) : EReal) := by
  have h7 := pay7_at y Z hy
  unfold k0_pay1
  generalize k0_pay7 y = w at h7
  pointwise []
  simp only [hx, h7, ← EReal.coe_mul, sum_coe]

include hx in
theorem pay2_at (a : Vec Ideal S1x1024 .f32) (l : Fin 1024) :
    k0_pay2 x a (ix2 0 l) = a (ix2 0 l) + ((∑ r, C r l : ℝ) : EReal) := by
  pointwise [k0_pay2]
  simp only [hx, sum_coe]

end reals

/-- The arguments as arrays. -/
abbrev argX (c : Dev nD) : S2048x1024.Idx → EReal := m ((c : Thread nD τ).loc main_arg0)
abbrev argG (c : Dev nD) : S1024.Idx → EReal := m ((c : Thread nD τ).loc main_arg1)
abbrev argC (c : Dev nD) : S2048x1024.Idx → EReal := m ((c : Thread nD τ).loc main_arg3)

theorem row_lt (t : Fin cfg0.N) (r : Fin 512) : t.val * 512 + r.val < 2048 := by
  have := lt_of_lt_of_eq t.isLt (show cfg0.N = 4 from N_0); omega

theorem index_row : ∀ t : Fin grid0.N, (win0_0.index t 0 = t.val ∧ win0_0.index t 1 = 0) ∧ (win0_1.index t 0 = t.val ∧ win0_1.index t 1 = 0)
    ∧ (win0_2.index t 0 = 0 ∧ win0_2.index t 1 = 0) ∧ win0_3.index t 0 = t.val ∧ win0_3.index t 1 = 0 := by decide +kernel

/-- A row block of an argument holds the argument's rows from `512 t` on; the gains' block all of them. -/
theorem blkC (c : Dev nD) (t : Fin cfg0.N) (r : Fin 512) (l : Fin 1024) :
    (iblk m c 0 t : Vec Ideal S512x1024 .f32) (ix2 r l) = argC m c (ix2 ⟨t.val * 512 + r.val, row_lt t r⟩ l) := by
  unfold iblk
  rw [View.read_apply]
  show V m c main_arg3 _ = _
  rw [V_main_arg3]
  refine congrArg (argC m c) (funext fun a => Fin.ext ?_)
  match a with
  | ⟨0, _⟩ => show win0_0.index t 0 * 512 + 1 * r.val = t.val * 512 + r.val; rw [(index_row t).1.1, Nat.one_mul]
  | ⟨1, _⟩ => show win0_0.index t 1 * 1024 + 1 * l.val = l.val; rw [(index_row t).1.2]; omega

theorem blkX (c : Dev nD) (t : Fin cfg0.N) (r : Fin 512) (l : Fin 1024) :
    (iblk m c 1 t : Vec Ideal S512x1024 .f32) (ix2 r l) = argX m c (ix2 ⟨t.val * 512 + r.val, row_lt t r⟩ l) := by
  unfold iblk
  rw [View.read_apply]
  show V m c main_arg0 _ = _
  rw [V_main_arg0]
  refine congrArg (argX m c) (funext fun a => Fin.ext ?_)
  match a with
  | ⟨0, _⟩ => show win0_1.index t 0 * 512 + 1 * r.val = t.val * 512 + r.val; rw [(index_row t).2.1.1, Nat.one_mul]
  | ⟨1, _⟩ => show win0_1.index t 1 * 1024 + 1 * l.val = l.val; rw [(index_row t).2.1.2]; omega

theorem V_gain (c : Dev nD) (l : Fin 1024) : (V m c main_v0 : S1x1024.Idx → EReal) (ix2 0 l) = argG m c (ix1 l) := by
  have h : V m c main_v0 = shapeCast S1x1024 (argG m c) shapeCasts_S1024_S1x1024 := by
    unfold V hostOps0
    after_results <;> rfl
  rw [h]
  pointwise []

theorem blkGain (c : Dev nD) (t : Fin cfg0.N) (l : Fin 1024) :
    (iblk m c 2 t : Vec Ideal S1x1024 .f32) (ix2 0 l) = argG m c (ix1 l) := by
  unfold iblk
  rw [View.read_apply]
  rw [← V_gain]
  show V m c main_v0 _ = V m c main_v0 _
  refine congrArg (V m c main_v0 : S1x1024.Idx → EReal) (funext fun a => Fin.ext ?_)
  match a with
  | ⟨0, _⟩ => show win0_2.index t 0 * 1 + 1 * 0 = 0; rw [(index_row t).2.2.1.1]
  | ⟨1, _⟩ => show win0_2.index t 1 * 1024 + 1 * l.val = l.val; rw [(index_row t).2.2.1.2]; omega

/-- A row block of the first result's array, and the one block of the others', read through the window. -/
theorem blkOut (c : Dev nD) (t : Fin cfg0.N) (A : S2048x1024.Idx → EReal) (r : Fin 512) (l : Fin 1024) :
    (((cfg0.win 3).blk t).view.read (Elt Ideal) A : Vec Ideal S512x1024 .f32) (ix2 r l) = A (ix2 ⟨t.val * 512 + r.val, row_lt t r⟩ l) := by
  rw [View.read_apply]
  refine congrArg A (funext fun a => Fin.ext ?_)
  match a with
  | ⟨0, _⟩ => show win0_3.index t 0 * 512 + 1 * r.val = t.val * 512 + r.val; rw [(index_row t).2.2.2.1, Nat.one_mul]
  | ⟨1, _⟩ => show win0_3.index t 1 * 1024 + 1 * l.val = l.val; rw [(index_row t).2.2.2.2]; omega

theorem blkSum4 (t : Fin cfg0.N) (A : S1x1024.Idx → EReal) :
    (((cfg0.win 4).blk t).view.read (Elt Ideal) A : Vec Ideal S1x1024 .f32) = A :=
  funext fun (j : S1x1024.Idx) => (View.read_apply ..).trans (congrArg A (funext fun a => Fin.ext (match a with
    | ⟨0, _⟩ => by show 0 * 1 + 1 * (j 0).val = (j 0).val; omega
    | ⟨1, _⟩ => by show 0 * 1024 + 1 * (j 1).val = (j 1).val; omega)))

theorem blkSum5 (t : Fin cfg0.N) (A : S1x1024.Idx → EReal) :
    (((cfg0.win 5).blk t).view.read (Elt Ideal) A : Vec Ideal S1x1024 .f32) = A :=
  funext fun (j : S1x1024.Idx) => (View.read_apply ..).trans (congrArg A (funext fun a => Fin.ext (match a with
    | ⟨0, _⟩ => by show 0 * 1 + 1 * (j 0).val = (j 0).val; omega
    | ⟨1, _⟩ => by show 0 * 1024 + 1 * (j 1).val = (j 1).val; omega)))

section arrays
variable (c : Dev nD) (X C : Fin 2048 → Fin 1024 → ℝ) (G : Fin 1024 → ℝ)
  (hX : ∀ r l, argX m c (ix2 r l) = ((X r l : ℝ) : EReal)) (hC : ∀ r l, argC m c (ix2 r l) = ((C r l : ℝ) : EReal)) (hG : ∀ l, argG m c (ix1 l) = ((G l : ℝ) : EReal))

/-- The results: the rows' gradient, and the gains' and biases'. -/
def gradX : Vec Ideal S2048x1024 .f32 := fun j => ((dnorm (X (j 0)) (fun k => C (j 0) k * G k) (j 1) : ℝ) : EReal)
def gradG : Vec Ideal S1x1024 .f32 := fun j => ((∑ r, C r (j 1) * hat (X r) (j 1) : ℝ) : EReal)
def gradB : Vec Ideal S1x1024 .f32 := fun j => ((∑ r, C r (j 1) : ℝ) : EReal)

/-- Row `k`'s part of a sum over the rows. -/
def part (f : Fin 2048 → ℝ) (k : ℕ) : ℝ := if h : k < 2048 then f ⟨k, h⟩ else 0

include hX hC in
theorem acc_eq : ∀ (n : ℕ) (h : n < cfg0.N) (l : Fin 1024),
    (outsAt0 m c n h).2.1 (ix2 0 l) = ((∑ t ∈ Finset.range (n + 1), ∑ r : Fin 512, part (fun r => C r l * hat (X r) l) (t * 512 + r.val) : ℝ) : EReal)
    ∧ (outsAt0 m c n h).2.2 (ix2 0 l) = ((∑ t ∈ Finset.range (n + 1), ∑ r : Fin 512, part (fun r => C r l) (t * 512 + r.val) : ℝ) : EReal)
  | 0, h, l => by
    rw [outs_A m c ⟨0, h⟩ rfl]
    dsimp only
    rw [pay1_at _ _ _ _ (fun r l => (blkC m c _ r l).trans (hC _ l)) (fun r l => (blkX m c _ r l).trans (hX _ l)), pay2_at _ _ (fun r l => (blkC m c _ r l).trans (hC _ l))]
    pointwise [k0_pay3, k0_pay4]
    simp only [bits_zero, zero_add, Finset.sum_range_one]
    refine ⟨congrArg _ (Finset.sum_congr rfl fun r _ => ?_), congrArg _ (Finset.sum_congr rfl fun r _ => ?_)⟩ <;> rw [part, dif_pos (row_lt ⟨0, h⟩ r)] <;>
      simp only [Nat.zero_mul, Nat.zero_add]
  | n + 1, h, l => by
    have hN : cfg0.N = 4 := N_0
    have hB : ¬(⟨n + 1, h⟩ : Fin cfg0.N).val % 4 = 0 := by dsimp only; omega
    have ih := acc_eq n (Nat.lt_of_succ_lt h) l
    rw [outs_B m c ⟨n + 1, h⟩ hB]
    dsimp only
    rw [pay1_at _ _ _ _ (fun r l => (blkC m c _ r l).trans (hC _ l)) (fun r l => (blkX m c _ r l).trans (hX _ l)), pay2_at _ _ (fun r l => (blkC m c _ r l).trans (hC _ l))]
    rw [Finset.sum_range_succ _ (n + 1), Finset.sum_range_succ _ (n + 1), EReal.coe_add, EReal.coe_add]
    refine ⟨congrArg₂ _ ih.1 (congrArg _ (Finset.sum_congr rfl fun r _ => ?_)), congrArg₂ _ ih.2 (congrArg _ (Finset.sum_congr rfl fun r _ => ?_))⟩ <;>
      rw [part, dif_pos (row_lt ⟨n + 1, h⟩ r)]

theorem sum_part (f : Fin 2048 → ℝ) : (∑ t ∈ Finset.range 4, ∑ r : Fin 512, part f (t * 512 + r.val)) = ∑ r, f r := by
  have h := sum_blocks_real 4 512 (part f)
  rw [Finset.sum_range, ← h]
  exact Finset.sum_congr rfl fun r _ => by rw [part, dif_pos r.isLt]

include hX hC hG in
/-- After the run, the rows' gradient. -/
theorem final3 : (dats m 0 c).arrAt 3 cfg0.N = gradX X C G :=
  (dats m 0 c).arrAt_eq_of_cover 3 (gradX X C G)
    (fun t _ => by
      have ho : (outsAt0 m c t.val t.isLt).1 = k0_pay8 (F := Ideal) (iblk m c 0 t) (iblk m c 1 t) (iblk m c 2 t) := by
        by_cases h0 : t.val % 4 = 0
        · rw [outs_A m c t h0]
        · rw [outs_B m c t h0]
      rw [flushed3, ho]
      refine funext fun (j : S512x1024.Idx) => ?_
      obtain ⟨r, l, rfl⟩ : ∃ (r : Fin 512) (l : Fin 1024), j = ix2 r l := ⟨j 0, j 1, eq_ix2 j⟩
      exact (pay8_at _ _ _ _ _ G (fun r l => (blkC m c t r l).trans (hC _ l)) (fun r l => (blkX m c t r l).trans (hX _ l)) (fun l => (blkGain m c t l).trans (hG l)) r l).trans
        (blkOut c t (gradX X C G) r l).symm)
    fun (i : S2048x1024.Idx) => by
      have hN : cfg0.N = 4 := N_0
      have h0 : (i 0 : Nat) < 2048 := (i 0).isLt
      have h1 : (i 1 : Nat) < 1024 := (i 1).isLt
      refine ⟨⟨(i 0).val / 512, by omega⟩, flush0_3 _, ?_⟩
      generalize ht : (⟨(i 0).val / 512, _⟩ : Fin cfg0.N) = t
      have htv : t.val = (i 0).val / 512 := by rw [← ht]
      show i ∈ ((View.whole main_v1_0).slice (win0_3.rect t)).set
      rw [View.set_slice_whole, Rect.mem_set_unit]
      intro a
      match a with
      | ⟨0, _⟩ =>
        show win0_3.index t 0 * 512 ≤ (i 0 : Nat) ∧ (i 0 : Nat) < win0_3.index t 0 * 512 + 512
        rw [(index_row t).2.2.2.1]; omega
      | ⟨1, _⟩ =>
        show win0_3.index t 1 * 1024 ≤ (i 1 : Nat) ∧ (i 1 : Nat) < win0_3.index t 1 * 1024 + 1024
        rw [(index_row t).2.2.2.2]; omega

include hX hC in
theorem last_eq (t : Fin cfg0.N) (h3 : t.val = 3) : (outsAt0 m c t.val t.isLt).2 = (gradG X C, gradB C) := by
  obtain ⟨n, hn⟩ := t
  obtain rfl : n = 3 := h3
  refine Prod.ext (funext fun j => ?_) (funext fun j => ?_) <;>
    obtain ⟨z, l, rfl⟩ : ∃ (z : Fin 1) (l : Fin 1024), j = ix2 z l := ⟨j 0, j 1, eq_ix2 j⟩ <;>
    obtain rfl : z = 0 := Subsingleton.elim _ _
  · exact ((acc_eq m c X C hX hC 3 hn l).1).trans (congrArg _ (sum_part _))
  · exact ((acc_eq m c X C hX hC 3 hn l).2).trans (congrArg _ (sum_part _))

include hX hC in
theorem final4 : (dats m 0 c).arrAt 4 cfg0.N = gradG X C :=
  (dats m 0 c).arrAt_eq_of_cover 4 (gradG X C)
    (fun t hf => by
      have hN : cfg0.N = 4 := N_0
      have h3 : t.val = 3 := by have := (flush0_4 t).mp hf; have := t.isLt; omega
      rw [flushed4, last_eq m c X C hX hC t h3]
      exact (blkSum4 t (gradG X C)).symm)
    fun (i : S1x1024.Idx) => ⟨t0_3, (flush0_4 t0_3).mpr rfl, by
      have h0 : (i 0 : Nat) < 1 := (i 0).isLt
      have h1 : (i 1 : Nat) < 1024 := (i 1).isLt
      show i ∈ ((View.whole main_v1_1).slice (win0_4.rect t0_3)).set
      rw [View.set_slice_whole, Rect.mem_set_unit]
      intro a
      match a with
      | ⟨0, _⟩ => show 0 ≤ (i 0 : Nat) ∧ (i 0 : Nat) < 0 + 1; omega
      | ⟨1, _⟩ => show 0 ≤ (i 1 : Nat) ∧ (i 1 : Nat) < 0 + 1024; omega⟩

include hX hC in
theorem final5 : (dats m 0 c).arrAt 5 cfg0.N = gradB C :=
  (dats m 0 c).arrAt_eq_of_cover 5 (gradB C)
    (fun t hf => by
      have hN : cfg0.N = 4 := N_0
      have h3 : t.val = 3 := by have := (flush0_5 t).mp hf; have := t.isLt; omega
      rw [flushed5, last_eq m c X C hX hC t h3]
      exact (blkSum5 t (gradB C)).symm)
    fun (i : S1x1024.Idx) => ⟨t0_3, (flush0_5 t0_3).mpr rfl, by
      have h0 : (i 0 : Nat) < 1 := (i 0).isLt
      have h1 : (i 1 : Nat) < 1024 := (i 1).isLt
      show i ∈ ((View.whole main_v1_2).slice (win0_5.rect t0_3)).set
      rw [View.set_slice_whole, Rect.mem_set_unit]
      intro a
      match a with
      | ⟨0, _⟩ => show 0 ≤ (i 0 : Nat) ∧ (i 0 : Nat) < 0 + 1; omega
      | ⟨1, _⟩ => show 0 ≤ (i 1 : Nat) ∧ (i 1 : Nat) < 0 + 1024; omega⟩

end arrays

end Cert.LnIdeal.Value

namespace Cert.LnRefIdeal.Value

open Cert.LnRefIdeal Cert.LnRefIdeal.Gen Cert.LnRefIdeal.Read Cert.Step

section
variable (x ct : S2048x1024.Idx → EReal) (g : S1024.Idx → EReal) (X C : Fin 2048 → Fin 1024 → ℝ) (G : Fin 1024 → ℝ)
  (hX : ∀ i, x i = ((X (i 0) (i 1) : ℝ) : EReal)) (hC : ∀ i, ct i = ((C (i 0) (i 1) : ℝ) : EReal)) (hG : ∀ i, g i = ((G (i 0) : ℝ) : EReal))

include hX in
theorem v5_at (i : S2048x1024.Idx) : val_main_v5 (F := Ideal) x i = ((ctr (X (i 0)) (i 1) : ℝ) : EReal) := by
  simp only [val_main_v5_apply, val_main_v4_apply, val_main_v3_apply, val_main_v2_apply, val_main_v1_apply, val_main_v0_apply, val_main_cst_apply, val_main_cst_0_apply,
    Ideal.subf_def, Ideal.hostDivf_def, Ideal.ofBits_def, bits_zero, bits_1024, zero_add, hX, sum_coe, div_1024, ← EReal.coe_sub]
  rfl

include hX in
theorem v12_at (i : S2048x1.Idx) : val_main_v12 (F := Ideal) x i = ((vr (X (i 0)) : ℝ) : EReal) := by
  simp only [val_main_v12_apply, val_main_v11_apply, val_main_v10_apply, val_main_v9_apply, val_main_v8_apply, val_main_v7_apply, val_main_v6_apply,
    val_main_cst_1_apply, val_main_cst_2_apply, val_main_cst_3_apply, v5_at x X hX,
    Ideal.mulf_def, Ideal.addf_def, Ideal.hostDivf_def, Ideal.ofBits_def, bits_zero, bits_1024, bits_eps, zero_add, ← EReal.coe_mul, sum_coe, div_1024, ← EReal.coe_add]
  rfl

include hX in
theorem v13_at (i : S2048x1.Idx) : val_main_v13 (F := Ideal) x i = ((rs (X (i 0)) : ℝ) : EReal) := by
  rw [val_main_v13_apply, v12_at x X hX, Ideal.hostUnary_rsqrt_def, rsqrt_vr]

include hX in
theorem v16_at (i : S2048x1.Idx) : val_main_v16 (F := Ideal) x i = ((-(1 / 2) * (rs (X (i 0)) / vr (X (i 0))) : ℝ) : EReal) := by
  rw [val_main_v16_apply, val_main_v14_apply, val_main_v15_apply, val_main_cst_4_apply, v12_at x X hX, v13_at x X hX, Ideal.mulf_def, Ideal.hostDivf_def,
    Ideal.ofBits_def, bits_neg_half, Ideal.div_coe (vr_pos _).ne', ← EReal.coe_mul, ← EReal.coe_mul, mul_one_div]

include hX in
theorem v18_at (i : S2048x1024.Idx) : val_main_v18 (F := Ideal) x i = ((hat (X (i 0)) (i 1) : ℝ) : EReal) := by
  rw [val_main_v18_apply, val_main_v17_apply, v13_at x X hX, v5_at x X hX, Ideal.mulf_def, ← EReal.coe_mul]
  rfl

/-- The reshapes' indices. -/
theorem idx25 (i : S2048x1024.Idx) : idx_main_v25 i = i := by
  have h0 : (i 0).val < 2048 := (i 0).isLt
  have h1 : (i 1).val < 1024 := (i 1).isLt
  refine funext fun a => Fin.ext ?_
  match a with
  | ⟨0, _⟩ => show ((i 0).val * 1024 + (i 1).val) / 1024 = (i 0).val; omega
  | ⟨1, _⟩ => show ((i 0).val * 1024 + (i 1).val) % 1024 = (i 1).val; omega
theorem idx37 (i : S2048x1.Idx) : idx_main_v37 i = ix1 (i 0) := by
  have h1 : (i 1).val < 1 := (i 1).isLt
  refine funext fun a => Fin.ext ?_
  match a with
  | ⟨0, _⟩ => show (i 0).val * 1 + (i 1).val = (i 0).val; omega
theorem idx57 (i : S1x1024.Idx) : idx_main_v57 i = ix1 (i 1) := by
  have h0 : (i 0).val < 1 := (i 0).isLt
  refine funext fun a => Fin.ext ?_
  match a with
  | ⟨0, _⟩ => show (i 0).val * 1024 + (i 1).val = (i 1).val; omega

include hC hG in
theorem v33_at (i : S2048x1024.Idx) : val_main_v33 (F := Ideal) g ct i = ((C (i 0) (i 1) * G (i 1) : ℝ) : EReal) := by
  rw [val_main_v33_apply, val_main_v25_apply, idx25, val_main_v32_apply, val_main_v19_apply, hC, hG, Ideal.mulf_def, ← EReal.coe_mul]
  rfl

include hX hC hG in
theorem v43_at (i : S2048.Idx) : val_main_v43 (F := Ideal) x g ct i = ((dvar (X (i 0)) (fun k => C (i 0) k * G k) : ℝ) : EReal) := by
  simp only [val_main_v43_apply, val_main_v42_apply, val_main_v41_apply, val_main_v40_apply, val_main_v37_apply, val_main_v36_apply, val_main_v35_apply,
    val_main_cst_9_apply, val_main_cst_10_apply, val_main_cst_11_apply, v5_at x X hX, v33_at ct g C G hC hG, v16_at x X hX, Fin.sum_univ_one,
    Ideal.mulf_def, Ideal.hostDivf_def, Ideal.ofBits_def, bits_zero, bits_1024, zero_add, ← EReal.coe_mul, sum_coe, div_1024]
  simp only [idx37]
  rfl

include hX hC hG in
theorem v48_at (i : S2048x1024.Idx) : val_main_v48 (F := Ideal) x g ct i = ((dctr (X (i 0)) (fun k => C (i 0) k * G k) (i 1) : ℝ) : EReal) := by
  simp only [val_main_v48_apply, val_main_v47_apply, val_main_v46_apply, val_main_v45_apply, val_main_v44_apply, val_main_v39_apply, val_main_v38_apply,
    v43_at x ct g X C G hX hC hG, v5_at x X hX, v33_at ct g C G hC hG, v13_at x X hX, Ideal.mulf_def, Ideal.addf_def, ← EReal.coe_mul, ← EReal.coe_add]
  rfl

include hX hC hG in
theorem v56_at (i : S2048x1024.Idx) : val_main_v56 (F := Ideal) x g ct i = ((dnorm (X (i 0)) (fun k => C (i 0) k * G k) (i 1) : ℝ) : EReal) := by
  simp only [val_main_v56_apply, val_main_v55_apply, val_main_v54_apply, val_main_v53_apply, val_main_v52_apply, val_main_v51_apply, val_main_v50_apply, val_main_v49_apply,
    val_main_cst_12_apply, val_main_cst_13_apply, val_main_cst_14_apply, v48_at x ct g X C G hX hC hG, Fin.sum_univ_one, Ideal.hostNegf_def, Ideal.negf_def,
    Ideal.addf_def, Ideal.hostDivf_def, Ideal.ofBits_def, bits_zero, bits_1024, zero_add, ← EReal.coe_neg, sum_coe, div_1024, ← EReal.coe_add]
  simp only [show idx_main_v51 = idx_main_v37 from rfl, idx37]
  exact congrArg _ (dctr_mean _ _ _)

include hX hC in
theorem v57_at (i : S1x1024.Idx) : val_main_v57 (F := Ideal) x ct i = ((∑ r, C r (i 1) * hat (X r) (i 1) : ℝ) : EReal) := by
  simp only [val_main_v57_apply, val_main_v34_apply, val_main_v31_apply, val_main_v30_apply, val_main_v29_apply, val_main_v25_apply, idx25,
    val_main_cst_7_apply, val_main_cst_8_apply, v18_at x X hX, hC, Fin.sum_univ_one, Ideal.mulf_def, Ideal.ofBits_def, bits_zero, zero_add, ← EReal.coe_mul, sum_coe]
  simp only [show idx_main_v31 = idx_main_v57 from rfl, idx57]
  exact congrArg _ (Finset.sum_congr rfl fun r _ => mul_comm (G := ℝ) _ _)

include hC in
theorem v58_at (i : S1x1024.Idx) : val_main_v58 (F := Ideal) ct i = ((∑ r, C r (i 1) : ℝ) : EReal) := by
  simp only [val_main_v58_apply, val_main_v28_apply, val_main_v27_apply, val_main_v26_apply,
    val_main_cst_5_apply, val_main_cst_6_apply, hC, Fin.sum_univ_one, Ideal.ofBits_def, bits_zero, zero_add, sum_coe]
  simp only [show idx_main_v27 = idx_main_v57 from rfl, show idx_main_v58 = idx_main_v57 from rfl, idx57]
  rfl

end

variable (m : (ℓ : Loc nD τ sig) → Buf (Elt Ideal) ℓ) (ρ : Dev nD → PrngReg)

/-- The run's results by the stages above. -/
theorem ends : θ_run defs (onTc (τ := τ) main) ⟨m, fun _ => 0, ρ⟩ fun r => (∀ c : Dev nD,
      r.2.mem ((c.tc : Thread nD τ).loc main_v56)
        = val_main_v56 (F := Ideal) (m ((c.tc : Thread nD τ).loc main_arg0)) (m ((c.tc : Thread nD τ).loc main_arg1)) (m ((c.tc : Thread nD τ).loc main_arg3))
      ∧ r.2.mem ((c.tc : Thread nD τ).loc main_v57) = val_main_v57 (F := Ideal) (m ((c.tc : Thread nD τ).loc main_arg0)) (m ((c.tc : Thread nD τ).loc main_arg3))
      ∧ r.2.mem ((c.tc : Thread nD τ).loc main_v58) = val_main_v58 (F := Ideal) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run _ _ _).mono (fun _ h c => ⟨(h c).1.trans (val_main_v56_eq m c), (h c).2.1.trans (val_main_v57_eq _ _), (h c).2.2.1.trans (val_main_v58_eq _), (h c).2.2.2⟩) (run m ρ)

end Cert.LnRefIdeal.Value

namespace Cert.Step.Ln

open Cert.LnIdeal.Value (argX argG argC gradX gradG gradB final3 final4 final5)
open Cert.LnRefIdeal.Value (v56_at v57_at v58_at)

theorem claim [hP : Cert.Pre_ln_finite.Facts] : algebraic_LnIdeal_LnRefIdeal_pre_ln_finite := fun m ρ m' ρ' hfin hag => by
  choose X hX using fun c => exists_real (fun _ => rfl) (hfin c).1
  choose G hG using fun c => exists_real (fun _ => rfl) (hfin c).2.1
  choose C hC using fun c => exists_real (fun _ => rfl) (hfin c).2.2
  have e3 := fun c => final3 m c (fun r l => X c (ix2 r l)) (fun r l => C c (ix2 r l)) (fun l => G c (ix1 l)) (fun _ _ => hX c _) (fun _ _ => hC c _) (fun _ => hG c _)
  have e4 := fun c => final4 m c (fun r l => X c (ix2 r l)) (fun r l => C c (ix2 r l)) (fun _ _ => hX c _) (fun _ _ => hC c _)
  have e5 := fun c => final5 m c (fun r l => X c (ix2 r l)) (fun r l => C c (ix2 r l)) (fun _ _ => hX c _) (fun _ _ => hC c _)
  have r3 := fun c => funext (v56_at (argX m c) (argC m c) (argG m c) (fun r l => X c (ix2 r l)) (fun r l => C c (ix2 r l)) (fun l => G c (ix1 l)) (at2 (hX c)) (at2 (hC c)) (at1 (hG c)))
  have r4 := fun c => funext (v57_at (argX m c) (argC m c) (fun r l => X c (ix2 r l)) (fun r l => C c (ix2 r l)) (at2 (hX c)) (at2 (hC c)))
  have r5 := fun c => funext (v58_at (argC m c) (fun r l => C c (ix2 r l)) (at2 (hC c)))
  refine ⟨fun c => gradX (fun r l => X c (ix2 r l)) (fun r l => C c (ix2 r l)) (fun l => G c (ix1 l)),
    fun c => gradG (fun r l => X c (ix2 r l)) (fun r l => C c (ix2 r l)), fun c => gradB (fun r l => C c (ix2 r l)),
    (θ_run _ _ _).mono (fun _ h c => ⟨(h c).1.trans (e3 c), (h c).2.1.trans (e4 c), (h c).2.2.1.trans (e5 c), (h c).2.2.2⟩) (Cert.LnIdeal.Value.run_blocks m ρ),
    (θ_run _ _ _).mono (fun _ h c => ⟨(h c).1.trans ?_, (h c).2.1.trans ?_, (h c).2.2.1.trans ?_, (h c).2.2.2⟩) (Cert.LnRefIdeal.Value.ends m' ρ')⟩
  · rw [(hag c).1, (hag c).2.1, (hag c).2.2.2]; exact r3 c
  · rw [(hag c).1, (hag c).2.2.2]; exact r4 c
  · rw [(hag c).2.2.2]; exact r5 c

end Cert.Step.Ln

end
-- ==== Proof.Ln2.lean ====
/-
  The gradient of the second normalisation together with the input embedding's gate: what the row-blocked kernel leaves in
  its six result arrays is what the reference's differentiation of the normalised sum gives, at finite arguments.
-/
module

public import proofs.«01_k».proof.Proof.Ln
public import proofs.«01_k».proof.Proof.Gen.Ln2Ideal.Value
public import proofs.«01_k».proof.Proof.Gen.Ln2RefIdeal.Read
public import proofs.«01_k».proof.Proof.Gen.Ln2RefIdeal.Run

@[expose] public section

set_option maxRecDepth 16384

noncomputable section

open Idealize.ShloMosaic Idealize.ShloMosaic.TcCoe Idealize.SL.Sem
open Idealize.ShloMosaic.Pipeline (Dat)

namespace Cert.Step.Ln2

/-- The residual scale's constant. -/
def alpha : ℝ := 14107901 / 8388608
theorem bits_alpha : Ideal.ofBits .f32 0x3FD744FD#32 = ((alpha : ℝ) : EReal) := by
  simp [Ideal.ofBits, Ideal.ieee, alpha, -EReal.coe_mul]; norm_num

/-- The logistic function, and at the extended reals as both programs spell it. -/
def sr (x : ℝ) : ℝ := 1 / (1 + Real.exp (-x))
theorem div_sr (x : ℝ) : Ideal.div 1 (1 + ((Real.exp (-x) : ℝ) : EReal)) = ((sr x : ℝ) : EReal) := by
  have h : (1 + Real.exp (-x)) ≠ 0 := by positivity
  rw [← EReal.coe_one, ← EReal.coe_add, Ideal.div_coe h, ← EReal.coe_mul, one_mul]
  rfl

end Cert.Step.Ln2

namespace Cert.Ln2Ideal.Value

open Cert.Ln2Ideal Cert.Ln2Ideal.Gen Cert.Step Cert.Step.Ln2

variable (m : (ℓ : Loc nD τ sig) → Buf (Elt Ideal) ℓ) (ρ : Dev nD → PrngReg)

/-- What a point leaves in the six result blocks: the first over zeros, the later ones over what the point before left. -/
theorem outs_A (c : Dev nD) (t : Fin cfg0.N) (h0 : t.val % 4 = 0) :
    outsAt0 m c t.val t.isLt = (k0_pay9 (k0_pay7 (F := Ideal) (iblk m c 0 t) (iblk m c 1 t) (iblk m c 2 t)) (k0_pay8 (iblk m c 1 t)), k0_pay11 (k0_pay7 (F := Ideal) (iblk m c 0 t) (iblk m c 1 t) (iblk m c 2 t)) (k0_pay8 (iblk m c 1 t)), k0_pay12 (k0_pay7 (F := Ideal) (iblk m c 0 t) (iblk m c 1 t) (iblk m c 2 t)) (k0_pay8 (iblk m c 1 t)) (iblk m c 3 t) (iblk m c 4 t), k0_pay13 (k0_pay7 (F := Ideal) (iblk m c 0 t) (iblk m c 1 t) (iblk m c 2 t)) (k0_pay8 (iblk m c 1 t)) (iblk m c 3 t),
      k0_pay14 (F := Ideal) (iblk m c 0 t) (k0_pay6 (iblk m c 1 t)) (k0_pay2 (F := Ideal)), k0_pay1 (F := Ideal) (iblk m c 0 t) (k0_pay3 (F := Ideal))) := by
  rw [outsAt0_A m c t h0]
  refine Prod.ext ?_ (Prod.ext ?_ (Prod.ext ?_ (Prod.ext ?_ (Prod.ext ?_ ?_)))) <;> dsimp only
  · unfold out0_A_5
    rw [View.read_writes_eq_canon _ _ _ (cover0_A_5 _ _ _ _ _ _ _ _ _ _ _ _ _ _ _ _ _ _ _ _ _ _ _ _ _ _ _ _ _ _)]
    unfold kernelRun0_A
    dsimp only
    sl_unfold_words
    rw [View.canon_unit_zero hz2]
    simp only [View.readAt_eq_ld, (hs0_0 t).read_unread, (hs0_1 t).read_unread, (hs0_2 t).read_unread, (hs0_3 t).read_unread, (hs0_4 t).read_unread, View.ld_unit_zero (S := S512x1024) hz2, View.ld_unit_zero (S := S1x1024) hz2]
  · unfold out0_A_6
    rw [View.read_writes_eq_canon _ _ _ (cover0_A_6 _ _ _ _ _ _ _ _ _ _ _ _ _ _ _ _ _ _ _ _ _ _ _ _ _ _ _ _ _ _)]
    unfold kernelRun0_A
    dsimp only
    sl_unfold_words
    rw [View.canon_unit_zero hz2]
    simp only [View.readAt_eq_ld, (hs0_0 t).read_unread, (hs0_1 t).read_unread, (hs0_2 t).read_unread, (hs0_3 t).read_unread, (hs0_4 t).read_unread, View.ld_unit_zero (S := S512x1024) hz2, View.ld_unit_zero (S := S1x1024) hz2]
  · unfold out0_A_7
    rw [View.read_writes_eq_canon _ _ _ (cover0_A_7 _ _ _ _ _ _ _ _ _ _ _ _ _ _ _ _ _ _ _ _ _ _ _ _ _ _ _ _ _ _)]
    unfold kernelRun0_A
    dsimp only
    sl_unfold_words
    rw [View.canon_unit_zero hz2]
    simp only [View.readAt_eq_ld, (hs0_0 t).read_unread, (hs0_1 t).read_unread, (hs0_2 t).read_unread, (hs0_3 t).read_unread, (hs0_4 t).read_unread, View.ld_unit_zero (S := S512x1024) hz2, View.ld_unit_zero (S := S1x1024) hz2]
  · unfold out0_A_8
    rw [View.read_writes_eq_canon _ _ _ (cover0_A_8 _ _ _ _ _ _ _ _ _ _ _ _ _ _ _ _ _ _ _ _ _ _ _ _ _ _ _ _ _ _)]
    unfold kernelRun0_A
    dsimp only
    sl_unfold_words
    rw [View.canon_unit_zero hz2]
    simp only [View.readAt_eq_ld, (hs0_0 t).read_unread, (hs0_1 t).read_unread, (hs0_2 t).read_unread, (hs0_3 t).read_unread, (hs0_4 t).read_unread, View.ld_unit_zero (S := S512x1024) hz2, View.ld_unit_zero (S := S1x1024) hz2]
  · unfold out0_A_9
    rw [View.read_writes_eq_canon _ _ _ (cover0_A_9 _ _ _ _ _ _ _ _ _ _ _ _ _ _ _ _ _ _ _ _ _ _ _ _ _ _ _ _ _ _)]
    unfold kernelRun0_A
    dsimp only
    sl_unfold_words
    rw [View.canon_cons_unit_zero (S := S1x1024) hz2, View.readCov_unit_zero (S := S1x1024) _ hz2]
    simp only [View.readAt_eq_ld, (hs0_0 t).read_unread, (hs0_1 t).read_unread, View.ld_unit_zero (S := S512x1024) hz2, View.ld_unit_zero (S := S1x1024) hz2]
  · unfold out0_A_10
    rw [View.read_writes_eq_canon _ _ _ (cover0_A_10 _ _ _ _ _ _ _ _ _ _ _ _ _ _ _ _ _ _ _ _ _ _ _ _ _ _ _ _ _ _)]
    unfold kernelRun0_A
    dsimp only
    sl_unfold_words
    rw [View.canon_cons_unit_zero (S := S1x1024) hz2, View.readCov_unit_zero (S := S1x1024) _ hz2]
    simp only [View.readAt_eq_ld, (hs0_0 t).read_unread, (hs0_1 t).read_unread, View.ld_unit_zero (S := S512x1024) hz2, View.ld_unit_zero (S := S1x1024) hz2]

theorem outs_B (c : Dev nD) (t : Fin cfg0.N) (h0 : ¬t.val % 4 = 0) :
    outsAt0 m c t.val t.isLt = (k0_pay9 (k0_pay7 (F := Ideal) (iblk m c 0 t) (iblk m c 1 t) (iblk m c 2 t)) (k0_pay8 (iblk m c 1 t)), k0_pay11 (k0_pay7 (F := Ideal) (iblk m c 0 t) (iblk m c 1 t) (iblk m c 2 t)) (k0_pay8 (iblk m c 1 t)), k0_pay12 (k0_pay7 (F := Ideal) (iblk m c 0 t) (iblk m c 1 t) (iblk m c 2 t)) (k0_pay8 (iblk m c 1 t)) (iblk m c 3 t) (iblk m c 4 t), k0_pay13 (k0_pay7 (F := Ideal) (iblk m c 0 t) (iblk m c 1 t) (iblk m c 2 t)) (k0_pay8 (iblk m c 1 t)) (iblk m c 3 t),
      k0_pay14 (F := Ideal) (iblk m c 0 t) (k0_pay6 (iblk m c 1 t)) (outsAt0 m c (t.val - 1) (Nat.lt_of_le_of_lt (Nat.sub_le _ _) t.isLt)).2.2.2.2.1, k0_pay1 (F := Ideal) (iblk m c 0 t) (outsAt0 m c (t.val - 1) (Nat.lt_of_le_of_lt (Nat.sub_le _ _) t.isLt)).2.2.2.2.2) := by
  rw [outsAt0_B m c t h0]
  refine Prod.ext ?_ (Prod.ext ?_ (Prod.ext ?_ (Prod.ext ?_ (Prod.ext ?_ ?_)))) <;> dsimp only
  · unfold out0_B_5
    rw [View.read_writes_eq_canon _ _ _ (cover0_B_5 _ _ _ _ _ _ _ _ _ _ _ _ _ _ _ _ _ _ _ _ _ _ _ _ _ _ _ _ _ _ _ _)]
    unfold kernelRun0_B
    dsimp only
    sl_unfold_words
    rw [View.canon_unit_zero hz2]
    simp only [View.readAt_eq_ld, (hs0_0 t).read_unread, (hs0_1 t).read_unread, (hs0_2 t).read_unread, (hs0_3 t).read_unread, (hs0_4 t).read_unread, View.ld_unit_zero (S := S512x1024) hz2, View.ld_unit_zero (S := S1x1024) hz2]
  · unfold out0_B_6
    rw [View.read_writes_eq_canon _ _ _ (cover0_B_6 _ _ _ _ _ _ _ _ _ _ _ _ _ _ _ _ _ _ _ _ _ _ _ _ _ _ _ _ _ _ _ _)]
    unfold kernelRun0_B
    dsimp only
    sl_unfold_words
    rw [View.canon_unit_zero hz2]
    simp only [View.readAt_eq_ld, (hs0_0 t).read_unread, (hs0_1 t).read_unread, (hs0_2 t).read_unread, (hs0_3 t).read_unread, (hs0_4 t).read_unread, View.ld_unit_zero (S := S512x1024) hz2, View.ld_unit_zero (S := S1x1024) hz2]
  · unfold out0_B_7
    rw [View.read_writes_eq_canon _ _ _ (cover0_B_7 _ _ _ _ _ _ _ _ _ _ _ _ _ _ _ _ _ _ _ _ _ _ _ _ _ _ _ _ _ _ _ _)]
    unfold kernelRun0_B
    dsimp only
    sl_unfold_words
    rw [View.canon_unit_zero hz2]
    simp only [View.readAt_eq_ld, (hs0_0 t).read_unread, (hs0_1 t).read_unread, (hs0_2 t).read_unread, (hs0_3 t).read_unread, (hs0_4 t).read_unread, View.ld_unit_zero (S := S512x1024) hz2, View.ld_unit_zero (S := S1x1024) hz2]
  · unfold out0_B_8
    rw [View.read_writes_eq_canon _ _ _ (cover0_B_8 _ _ _ _ _ _ _ _ _ _ _ _ _ _ _ _ _ _ _ _ _ _ _ _ _ _ _ _ _ _ _ _)]
    unfold kernelRun0_B
    dsimp only
    sl_unfold_words
    rw [View.canon_unit_zero hz2]
    simp only [View.readAt_eq_ld, (hs0_0 t).read_unread, (hs0_1 t).read_unread, (hs0_2 t).read_unread, (hs0_3 t).read_unread, (hs0_4 t).read_unread, View.ld_unit_zero (S := S512x1024) hz2, View.ld_unit_zero (S := S1x1024) hz2]
  · unfold out0_B_9
    rw [View.read_writes_eq_canon _ _ _ (cover0_B_9 _ _ _ _ _ _ _ _ _ _ _ _ _ _ _ _ _ _ _ _ _ _ _ _ _ _ _ _ _ _ _ _)]
    unfold kernelRun0_B
    dsimp only
    sl_unfold_words
    rw [View.canon_unit_zero hz2]
    simp only [View.readAt_eq_ld, (hs0_0 t).read_unread, (hs0_1 t).read_unread, (hs0_9 t).read_unread, View.ld_unit_zero (S := S512x1024) hz2, View.ld_unit_zero (S := S1x1024) hz2]
  · unfold out0_B_10
    rw [View.read_writes_eq_canon _ _ _ (cover0_B_10 _ _ _ _ _ _ _ _ _ _ _ _ _ _ _ _ _ _ _ _ _ _ _ _ _ _ _ _ _ _ _ _)]
    unfold kernelRun0_B
    dsimp only
    sl_unfold_words
    rw [View.canon_unit_zero hz2]
    simp only [View.readAt_eq_ld, (hs0_0 t).read_unread, (hs0_1 t).read_unread, (hs0_10 t).read_unread, View.ld_unit_zero (S := S512x1024) hz2, View.ld_unit_zero (S := S1x1024) hz2]

/-! The normalisation's payloads are those of the call that has the normalisation alone. -/
section same
variable (x z : Vec Ideal S512x1024 .f32) (g a : Vec Ideal S1x1024 .f32)

theorem ctr_same : k0_pay4 z = Cert.LnIdeal.Gen.k0_pay5 z := by
  unfold k0_pay4 Cert.LnIdeal.Gen.k0_pay5
  simp only [shapeCast_id]
theorem rs_same : k0_pay5 z = Cert.LnIdeal.Gen.k0_pay6 z := by
  unfold k0_pay5 Cert.LnIdeal.Gen.k0_pay6
  rw [ctr_same]
theorem hat_same : k0_pay6 z = Cert.LnIdeal.Gen.k0_pay7 z := by
  unfold k0_pay6 Cert.LnIdeal.Gen.k0_pay7
  rw [ctr_same, rs_same]
theorem row_same : k0_pay9 (k0_pay7 x z g) (k0_pay8 z) = Cert.LnIdeal.Gen.k0_pay8 x z g := by
  unfold k0_pay9 k0_pay7 k0_pay8 Cert.LnIdeal.Gen.k0_pay8
  simp only [shapeCast_id, rs_same, hat_same]
theorem gain_same : k0_pay14 x (k0_pay6 z) a = Cert.LnIdeal.Gen.k0_pay1 x (Cert.LnIdeal.Gen.k0_pay7 z) a := by
  unfold k0_pay14 Cert.LnIdeal.Gen.k0_pay1
  simp only [shapeCast_id, hat_same]
theorem bias_same : k0_pay1 x a = Cert.LnIdeal.Gen.k0_pay2 x a := by
  unfold k0_pay1 Cert.LnIdeal.Gen.k0_pay2
  simp only [shapeCast_id]

end same

section reals
variable (x y : Vec Ideal S512x1024 .f32) (g : Vec Ideal S1x1024 .f32) (p q : Vec Ideal S512x1024 .bf16) (C Z P Q : Fin 512 → Fin 1024 → ℝ) (G : Fin 1024 → ℝ)
  (hx : ∀ r l, x (ix2 r l) = ((C r l : ℝ) : EReal)) (hy : ∀ r l, y (ix2 r l) = ((Z r l : ℝ) : EReal)) (hg : ∀ l, g (ix2 0 l) = ((G l : ℝ) : EReal))
  (hp : ∀ r l, p (ix2 r l) = ((P r l : ℝ) : EReal)) (hq : ∀ r l, q (ix2 r l) = ((Q r l : ℝ) : EReal))

include hx hy hg in
theorem row_at (r : Fin 512) (l : Fin 1024) : k0_pay9 (k0_pay7 x y g) (k0_pay8 y) (ix2 r l) = ((dnorm (Z r) (fun k => C r k * G k) l : ℝ) : EReal) := by
  rw [row_same]
  exact Cert.LnIdeal.Value.pay8_at x y g C Z G hx hy hg r l

include hx hy hg in
theorem rowb_at (r : Fin 512) (l : Fin 1024) : k0_pay11 (k0_pay7 x y g) (k0_pay8 y) (ix2 r l) = ((dnorm (Z r) (fun k => C r k * G k) l : ℝ) : EReal) :=
  row_at x y g C Z G hx hy hg r l

include hp in
theorem gate_at (r : Fin 512) (l : Fin 1024) : k0_pay10 p (ix2 r l) = ((sr (P r l) : ℝ) : EReal) := by
  pointwise [k0_pay10]
  rw [hp, zero_sub, ← EReal.coe_neg, Ideal.exp_coe]
  exact div_sr _

include hx hy hg hp hq in
theorem dgate_at (r : Fin 512) (l : Fin 1024) : k0_pay12 (k0_pay7 x y g) (k0_pay8 y) p q (ix2 r l)
    = ((dnorm (Z r) (fun k => C r k * G k) l * Q r l * sr (P r l) * (1 - sr (P r l)) : ℝ) : EReal) := by
  have hd := row_at x y g C Z G hx hy hg r l
  have hs := gate_at p P hp r l
  unfold k0_pay12
  generalize k0_pay9 (k0_pay7 x y g) (k0_pay8 y) = d at hd
  generalize k0_pay10 p = s at hs
  pointwise []
  rw [hd, hs, hq, ← EReal.coe_one, ← EReal.coe_sub, ← EReal.coe_mul, ← EReal.coe_mul, ← EReal.coe_mul]

include hx hy hg hp in
theorem demb_at (r : Fin 512) (l : Fin 1024) : k0_pay13 (k0_pay7 x y g) (k0_pay8 y) p (ix2 r l)
    = ((dnorm (Z r) (fun k => C r k * G k) l * sr (P r l) : ℝ) : EReal) := by
  have hd := row_at x y g C Z G hx hy hg r l
  have hs := gate_at p P hp r l
  unfold k0_pay13
  generalize k0_pay9 (k0_pay7 x y g) (k0_pay8 y) = d at hd
  generalize k0_pay10 p = s at hs
  pointwise []
  rw [hd, hs, ← EReal.coe_mul]

end reals

/-- The arguments as arrays. -/
abbrev argH (c : Dev nD) : S2048x1024.Idx → EReal := m ((c : Thread nD τ).loc main_arg0)
abbrev argY (c : Dev nD) : S2048x1024.Idx → EReal := m ((c : Thread nD τ).loc main_arg1)
abbrev argP (c : Dev nD) : S2048x1024.Idx → EReal := m ((c : Thread nD τ).loc main_arg2)
abbrev argQ (c : Dev nD) : S2048x1024.Idx → EReal := m ((c : Thread nD τ).loc main_arg3)
abbrev argG (c : Dev nD) : S1024.Idx → EReal := m ((c : Thread nD τ).loc main_arg4)
abbrev argC (c : Dev nD) : S2048x1024.Idx → EReal := m ((c : Thread nD τ).loc main_arg6)

/-- What the program prepares before the kernel: the sum the reference normalises, and the other arguments themselves. -/
theorem V_sum (c : Dev nD) : V m c main_v10 = Cert.Ln2RefIdeal.Read.val_main_v13 (F := Ideal) (argH m c) (argY m c) (argP m c) (argQ m c) := by
  unfold V hostOps0
  after_results <;> rfl
theorem V_gate (c : Dev nD) : V m c main_v12 = argP m c := by
  unfold V hostOps0
  after_results <;> rfl
theorem V_emb (c : Dev nD) : V m c main_v13 = argQ m c := by
  unfold V hostOps0
  after_results <;> rfl
theorem V_gain (c : Dev nD) (l : Fin 1024) : (V m c main_v11 : S1x1024.Idx → EReal) (ix2 0 l) = argG m c (ix1 l) := by
  have h : V m c main_v11 = shapeCast S1x1024 (argG m c) shapeCasts_S1024_S1x1024 := by
    unfold V hostOps0
    after_results <;> rfl
  rw [h]
  pointwise []

theorem row_lt (t : Fin cfg0.N) (r : Fin 512) : t.val * 512 + r.val < 2048 := by
  have := lt_of_lt_of_eq t.isLt (show cfg0.N = 4 from N_0); omega

theorem index_in : ∀ t : Fin grid0.N, (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = t.val ∧ win0_3.index t 1 = 0) ∧ win0_4.index t 0 = t.val ∧ win0_4.index t 1 = 0 := by decide +kernel
theorem index_out : ∀ t : Fin grid0.N, (win0_5.index t 0 = t.val ∧ win0_5.index t 1 = 0) ∧ (win0_6.index t 0 = t.val ∧ win0_6.index t 1 = 0)
    ∧ (win0_7.index t 0 = t.val ∧ win0_7.index t 1 = 0) ∧ win0_8.index t 0 = t.val ∧ win0_8.index t 1 = 0 := by decide +kernel

/-- The input blocks, of any array the windows read. -/
theorem blk0 (c : Dev nD) (t : Fin cfg0.N) (r : Fin 512) (l : Fin 1024) :
    (iblk m c 0 t : Vec Ideal S512x1024 .f32) (ix2 r l) = (argC m c : S2048x1024.Idx → EReal) (ix2 ⟨t.val * 512 + r.val, row_lt t r⟩ l) := by
  unfold iblk
  rw [View.read_apply]
  show (V m c main_arg6 : S2048x1024.Idx → EReal) _ = _
  rw [V_main_arg6]
  refine congrArg (argC m c : S2048x1024.Idx → EReal) (funext fun a => Fin.ext ?_)
  match a with
  | ⟨0, _⟩ => show win0_0.index t 0 * 512 + 1 * r.val = t.val * 512 + r.val; rw [(index_in t).1.1, Nat.one_mul]
  | ⟨1, _⟩ => show win0_0.index t 1 * 1024 + 1 * l.val = l.val; rw [(index_in t).1.2]; omega

theorem blk1 (c : Dev nD) (t : Fin cfg0.N) (r : Fin 512) (l : Fin 1024) :
    (iblk m c 1 t : Vec Ideal S512x1024 .f32) (ix2 r l) = (Cert.Ln2RefIdeal.Read.val_main_v13 (F := Ideal) (argH m c) (argY m c) (argP m c) (argQ m c) : S2048x1024.Idx → EReal) (ix2 ⟨t.val * 512 + r.val, row_lt t r⟩ l) := by
  unfold iblk
  rw [View.read_apply]
  show (V m c main_v10 : S2048x1024.Idx → EReal) _ = _
  rw [V_sum]
  refine congrArg (Cert.Ln2RefIdeal.Read.val_main_v13 (F := Ideal) (argH m c) (argY m c) (argP m c) (argQ m c) : S2048x1024.Idx → EReal) (funext fun a => Fin.ext ?_)
  match a with
  | ⟨0, _⟩ => show win0_1.index t 0 * 512 + 1 * r.val = t.val * 512 + r.val; rw [(index_in t).2.1.1, Nat.one_mul]
  | ⟨1, _⟩ => show win0_1.index t 1 * 1024 + 1 * l.val = l.val; rw [(index_in t).2.1.2]; omega

theorem blk3 (c : Dev nD) (t : Fin cfg0.N) (r : Fin 512) (l : Fin 1024) :
    (iblk m c 3 t : Vec Ideal S512x1024 .bf16) (ix2 r l) = (argP m c : S2048x1024.Idx → EReal) (ix2 ⟨t.val * 512 + r.val, row_lt t r⟩ l) := by
  unfold iblk
  rw [View.read_apply]
  show (V m c main_v12 : S2048x1024.Idx → EReal) _ = _
  rw [V_gate]
  refine congrArg (argP m c : S2048x1024.Idx → EReal) (funext fun a => Fin.ext ?_)
  match a with
  | ⟨0, _⟩ => show win0_3.index t 0 * 512 + 1 * r.val = t.val * 512 + r.val; rw [(index_in t).2.2.2.1.1, Nat.one_mul]
  | ⟨1, _⟩ => show win0_3.index t 1 * 1024 + 1 * l.val = l.val; rw [(index_in t).2.2.2.1.2]; omega

theorem blk4 (c : Dev nD) (t : Fin cfg0.N) (r : Fin 512) (l : Fin 1024) :
    (iblk m c 4 t : Vec Ideal S512x1024 .bf16) (ix2 r l) = (argQ m c : S2048x1024.Idx → EReal) (ix2 ⟨t.val * 512 + r.val, row_lt t r⟩ l) := by
  unfold iblk
  rw [View.read_apply]
  show (V m c main_v13 : S2048x1024.Idx → EReal) _ = _
  rw [V_emb]
  refine congrArg (argQ m c : S2048x1024.Idx → EReal) (funext fun a => Fin.ext ?_)
  match a with
  | ⟨0, _⟩ => show win0_4.index t 0 * 512 + 1 * r.val = t.val * 512 + r.val; rw [(index_in t).2.2.2.2.1, Nat.one_mul]
  | ⟨1, _⟩ => show win0_4.index t 1 * 1024 + 1 * l.val = l.val; rw [(index_in t).2.2.2.2.2]; omega

theorem blkGain (c : Dev nD) (t : Fin cfg0.N) (l : Fin 1024) :
    (iblk m c 2 t : Vec Ideal S1x1024 .f32) (ix2 0 l) = argG m c (ix1 l) := by
  unfold iblk
  rw [View.read_apply, ← V_gain]
  show V m c main_v11 _ = V m c main_v11 _
  refine congrArg (V m c main_v11 : S1x1024.Idx → EReal) (funext fun a => Fin.ext ?_)
  match a with
  | ⟨0, _⟩ => show win0_2.index t 0 * 1 + 1 * 0 = 0; rw [(index_in t).2.2.1.1]
  | ⟨1, _⟩ => show win0_2.index t 1 * 1024 + 1 * l.val = l.val; rw [(index_in t).2.2.1.2]; omega

/-- A result array's block read through its window, and the cells of the windows. -/
theorem blkOut5 (t : Fin cfg0.N) (A : S2048x1024.Idx → EReal) (r : Fin 512) (l : Fin 1024) :
    (((cfg0.win 5).blk t).view.read (Elt Ideal) A : Vec Ideal S512x1024 .f32) (ix2 r l) = A (ix2 ⟨t.val * 512 + r.val, row_lt t r⟩ l) := by
  rw [View.read_apply]
  refine congrArg A (funext fun a => Fin.ext ?_)
  match a with
  | ⟨0, _⟩ => show win0_5.index t 0 * 512 + 1 * r.val = t.val * 512 + r.val; rw [(index_out t).1.1, Nat.one_mul]
  | ⟨1, _⟩ => show win0_5.index t 1 * 1024 + 1 * l.val = l.val; rw [(index_out t).1.2]; omega

theorem cover5 (i : S2048x1024.Idx) : ∃ t : Fin cfg0.N, (cfg0.win 5).flush t = true ∧ i ∈ ((cfg0.win 5).blk t).view.set := by
  have hN : cfg0.N = 4 := N_0
  have h0 : (i 0 : Nat) < 2048 := (i 0).isLt
  have h1 : (i 1 : Nat) < 1024 := (i 1).isLt
  refine ⟨⟨(i 0).val / 512, by omega⟩, flush0_5 _, ?_⟩
  generalize ht : (⟨(i 0).val / 512, _⟩ : Fin cfg0.N) = t
  have htv : t.val = (i 0).val / 512 := by rw [← ht]
  show i ∈ ((View.whole main_v14_0).slice (win0_5.rect t)).set
  rw [View.set_slice_whole, Rect.mem_set_unit]
  intro a
  match a with
  | ⟨0, _⟩ =>
    show win0_5.index t 0 * 512 ≤ (i 0 : Nat) ∧ (i 0 : Nat) < win0_5.index t 0 * 512 + 512
    rw [(index_out t).1.1]; omega
  | ⟨1, _⟩ =>
    show win0_5.index t 1 * 1024 ≤ (i 1 : Nat) ∧ (i 1 : Nat) < win0_5.index t 1 * 1024 + 1024
    rw [(index_out t).1.2]; omega

theorem blkOut6 (t : Fin cfg0.N) (A : S2048x1024.Idx → EReal) (r : Fin 512) (l : Fin 1024) :
    (((cfg0.win 6).blk t).view.read (Elt Ideal) A : Vec Ideal S512x1024 .bf16) (ix2 r l) = A (ix2 ⟨t.val * 512 + r.val, row_lt t r⟩ l) := by
  rw [View.read_apply]
  refine congrArg A (funext fun a => Fin.ext ?_)
  match a with
  | ⟨0, _⟩ => show win0_6.index t 0 * 512 + 1 * r.val = t.val * 512 + r.val; rw [(index_out t).2.1.1, Nat.one_mul]
  | ⟨1, _⟩ => show win0_6.index t 1 * 1024 + 1 * l.val = l.val; rw [(index_out t).2.1.2]; omega

theorem cover6 (i : S2048x1024.Idx) : ∃ t : Fin cfg0.N, (cfg0.win 6).flush t = true ∧ i ∈ ((cfg0.win 6).blk t).view.set := by
  have hN : cfg0.N = 4 := N_0
  have h0 : (i 0 : Nat) < 2048 := (i 0).isLt
  have h1 : (i 1 : Nat) < 1024 := (i 1).isLt
  refine ⟨⟨(i 0).val / 512, by omega⟩, flush0_6 _, ?_⟩
  generalize ht : (⟨(i 0).val / 512, _⟩ : Fin cfg0.N) = t
  have htv : t.val = (i 0).val / 512 := by rw [← ht]
  show i ∈ ((View.whole main_v14_1).slice (win0_6.rect t)).set
  rw [View.set_slice_whole, Rect.mem_set_unit]
  intro a
  match a with
  | ⟨0, _⟩ =>
    show win0_6.index t 0 * 512 ≤ (i 0 : Nat) ∧ (i 0 : Nat) < win0_6.index t 0 * 512 + 512
    rw [(index_out t).2.1.1]; omega
  | ⟨1, _⟩ =>
    show win0_6.index t 1 * 1024 ≤ (i 1 : Nat) ∧ (i 1 : Nat) < win0_6.index t 1 * 1024 + 1024
    rw [(index_out t).2.1.2]; omega

theorem blkOut7 (t : Fin cfg0.N) (A : S2048x1024.Idx → EReal) (r : Fin 512) (l : Fin 1024) :
    (((cfg0.win 7).blk t).view.read (Elt Ideal) A : Vec Ideal S512x1024 .bf16) (ix2 r l) = A (ix2 ⟨t.val * 512 + r.val, row_lt t r⟩ l) := by
  rw [View.read_apply]
  refine congrArg A (funext fun a => Fin.ext ?_)
  match a with
  | ⟨0, _⟩ => show win0_7.index t 0 * 512 + 1 * r.val = t.val * 512 + r.val; rw [(index_out t).2.2.1.1, Nat.one_mul]
  | ⟨1, _⟩ => show win0_7.index t 1 * 1024 + 1 * l.val = l.val; rw [(index_out t).2.2.1.2]; omega

theorem cover7 (i : S2048x1024.Idx) : ∃ t : Fin cfg0.N, (cfg0.win 7).flush t = true ∧ i ∈ ((cfg0.win 7).blk t).view.set := by
  have hN : cfg0.N = 4 := N_0
  have h0 : (i 0 : Nat) < 2048 := (i 0).isLt
  have h1 : (i 1 : Nat) < 1024 := (i 1).isLt
  refine ⟨⟨(i 0).val / 512, by omega⟩, flush0_7 _, ?_⟩
  generalize ht : (⟨(i 0).val / 512, _⟩ : Fin cfg0.N) = t
  have htv : t.val = (i 0).val / 512 := by rw [← ht]
  show i ∈ ((View.whole main_v14_2).slice (win0_7.rect t)).set
  rw [View.set_slice_whole, Rect.mem_set_unit]
  intro a
  match a with
  | ⟨0, _⟩ =>
    show win0_7.index t 0 * 512 ≤ (i 0 : Nat) ∧ (i 0 : Nat) < win0_7.index t 0 * 512 + 512
    rw [(index_out t).2.2.1.1]; omega
  | ⟨1, _⟩ =>
    show win0_7.index t 1 * 1024 ≤ (i 1 : Nat) ∧ (i 1 : Nat) < win0_7.index t 1 * 1024 + 1024
    rw [(index_out t).2.2.1.2]; omega

theorem blkOut8 (t : Fin cfg0.N) (A : S2048x1024.Idx → EReal) (r : Fin 512) (l : Fin 1024) :
    (((cfg0.win 8).blk t).view.read (Elt Ideal) A : Vec Ideal S512x1024 .bf16) (ix2 r l) = A (ix2 ⟨t.val * 512 + r.val, row_lt t r⟩ l) := by
  rw [View.read_apply]
  refine congrArg A (funext fun a => Fin.ext ?_)
  match a with
  | ⟨0, _⟩ => show win0_8.index t 0 * 512 + 1 * r.val = t.val * 512 + r.val; rw [(index_out t).2.2.2.1, Nat.one_mul]
  | ⟨1, _⟩ => show win0_8.index t 1 * 1024 + 1 * l.val = l.val; rw [(index_out t).2.2.2.2]; omega

theorem cover8 (i : S2048x1024.Idx) : ∃ t : Fin cfg0.N, (cfg0.win 8).flush t = true ∧ i ∈ ((cfg0.win 8).blk t).view.set := by
  have hN : cfg0.N = 4 := N_0
  have h0 : (i 0 : Nat) < 2048 := (i 0).isLt
  have h1 : (i 1 : Nat) < 1024 := (i 1).isLt
  refine ⟨⟨(i 0).val / 512, by omega⟩, flush0_8 _, ?_⟩
  generalize ht : (⟨(i 0).val / 512, _⟩ : Fin cfg0.N) = t
  have htv : t.val = (i 0).val / 512 := by rw [← ht]
  show i ∈ ((View.whole main_v14_3).slice (win0_8.rect t)).set
  rw [View.set_slice_whole, Rect.mem_set_unit]
  intro a
  match a with
  | ⟨0, _⟩ =>
    show win0_8.index t 0 * 512 ≤ (i 0 : Nat) ∧ (i 0 : Nat) < win0_8.index t 0 * 512 + 512
    rw [(index_out t).2.2.2.1]; omega
  | ⟨1, _⟩ =>
    show win0_8.index t 1 * 1024 ≤ (i 1 : Nat) ∧ (i 1 : Nat) < win0_8.index t 1 * 1024 + 1024
    rw [(index_out t).2.2.2.2]; omega

theorem blkSum9 (t : Fin cfg0.N) (A : S1x1024.Idx → EReal) :
    (((cfg0.win 9).blk t).view.read (Elt Ideal) A : Vec Ideal S1x1024 .f32) = A :=
  funext fun (j : S1x1024.Idx) => (View.read_apply ..).trans (congrArg A (funext fun a => Fin.ext (match a with
    | ⟨0, _⟩ => by show 0 * 1 + 1 * (j 0).val = (j 0).val; omega
    | ⟨1, _⟩ => by show 0 * 1024 + 1 * (j 1).val = (j 1).val; omega)))

theorem cover9 (i : S1x1024.Idx) : ∃ t : Fin cfg0.N, (cfg0.win 9).flush t = true ∧ i ∈ ((cfg0.win 9).blk t).view.set :=
  ⟨t0_3, (flush0_9 t0_3).mpr rfl, by
    have h0 : (i 0 : Nat) < 1 := (i 0).isLt
    have h1 : (i 1 : Nat) < 1024 := (i 1).isLt
    show i ∈ ((View.whole main_v14_4).slice (win0_9.rect t0_3)).set
    rw [View.set_slice_whole, Rect.mem_set_unit]
    intro a
    match a with
    | ⟨0, _⟩ => show 0 ≤ (i 0 : Nat) ∧ (i 0 : Nat) < 0 + 1; omega
    | ⟨1, _⟩ => show 0 ≤ (i 1 : Nat) ∧ (i 1 : Nat) < 0 + 1024; omega⟩

theorem blkSum10 (t : Fin cfg0.N) (A : S1x1024.Idx → EReal) :
    (((cfg0.win 10).blk t).view.read (Elt Ideal) A : Vec Ideal S1x1024 .f32) = A :=
  funext fun (j : S1x1024.Idx) => (View.read_apply ..).trans (congrArg A (funext fun a => Fin.ext (match a with
    | ⟨0, _⟩ => by show 0 * 1 + 1 * (j 0).val = (j 0).val; omega
    | ⟨1, _⟩ => by show 0 * 1024 + 1 * (j 1).val = (j 1).val; omega)))

theorem cover10 (i : S1x1024.Idx) : ∃ t : Fin cfg0.N, (cfg0.win 10).flush t = true ∧ i ∈ ((cfg0.win 10).blk t).view.set :=
  ⟨t0_3, (flush0_10 t0_3).mpr rfl, by
    have h0 : (i 0 : Nat) < 1 := (i 0).isLt
    have h1 : (i 1 : Nat) < 1024 := (i 1).isLt
    show i ∈ ((View.whole main_v14_5).slice (win0_10.rect t0_3)).set
    rw [View.set_slice_whole, Rect.mem_set_unit]
    intro a
    match a with
    | ⟨0, _⟩ => show 0 ≤ (i 0 : Nat) ∧ (i 0 : Nat) < 0 + 1; omega
    | ⟨1, _⟩ => show 0 ≤ (i 1 : Nat) ∧ (i 1 : Nat) < 0 + 1024; omega⟩

section arrays
variable (c : Dev nD) (Z C P Q : Fin 2048 → Fin 1024 → ℝ) (G : Fin 1024 → ℝ)
  (hZ : ∀ r l, Cert.Ln2RefIdeal.Read.val_main_v13 (F := Ideal) (argH m c) (argY m c) (argP m c) (argQ m c) (ix2 r l) = ((Z r l : ℝ) : EReal))
  (hC : ∀ r l, argC m c (ix2 r l) = ((C r l : ℝ) : EReal)) (hP : ∀ r l, argP m c (ix2 r l) = ((P r l : ℝ) : EReal))
  (hQ : ∀ r l, argQ m c (ix2 r l) = ((Q r l : ℝ) : EReal)) (hG : ∀ l, argG m c (ix1 l) = ((G l : ℝ) : EReal))

/-- The results: the rows' gradient, the gate's and the embedding's, and the gains' and biases'. -/
def gradZ : S2048x1024.Idx → EReal := fun j => ((dnorm (Z (j 0)) (fun k => C (j 0) k * G k) (j 1) : ℝ) : EReal)
def gradP : S2048x1024.Idx → EReal := fun j =>
  ((dnorm (Z (j 0)) (fun k => C (j 0) k * G k) (j 1) * Q (j 0) (j 1) * sr (P (j 0) (j 1)) * (1 - sr (P (j 0) (j 1))) : ℝ) : EReal)
def gradQ : S2048x1024.Idx → EReal := fun j => ((dnorm (Z (j 0)) (fun k => C (j 0) k * G k) (j 1) * sr (P (j 0) (j 1)) : ℝ) : EReal)
def gradG : Vec Ideal S1x1024 .f32 := fun j => ((∑ r, C r (j 1) * hat (Z r) (j 1) : ℝ) : EReal)
def gradB : Vec Ideal S1x1024 .f32 := fun j => ((∑ r, C r (j 1) : ℝ) : EReal)

open Cert.LnIdeal.Value (part sum_part)

include hZ hC in
theorem acc_eq : ∀ (n : ℕ) (h : n < cfg0.N) (l : Fin 1024),
    (outsAt0 m c n h).2.2.2.2.1 (ix2 0 l) = ((∑ t ∈ Finset.range (n + 1), ∑ r : Fin 512, part (fun r => C r l * hat (Z r) l) (t * 512 + r.val) : ℝ) : EReal)
    ∧ (outsAt0 m c n h).2.2.2.2.2 (ix2 0 l) = ((∑ t ∈ Finset.range (n + 1), ∑ r : Fin 512, part (fun r => C r l) (t * 512 + r.val) : ℝ) : EReal)
  | 0, h, l => by
    rw [outs_A m c ⟨0, h⟩ rfl]
    dsimp only
    rw [gain_same, bias_same, Cert.LnIdeal.Value.pay1_at _ _ _ _ (fun r l => (blk0 m c _ r l).trans (hC _ l)) (fun r l => (blk1 m c _ r l).trans (hZ _ l)),
      Cert.LnIdeal.Value.pay2_at _ _ (fun r l => (blk0 m c _ r l).trans (hC _ l))]
    pointwise [k0_pay2, k0_pay3]
    simp only [bits_zero, zero_add, Finset.sum_range_one]
    refine ⟨congrArg _ (Finset.sum_congr rfl fun r _ => ?_), congrArg _ (Finset.sum_congr rfl fun r _ => ?_)⟩ <;> rw [part, dif_pos (row_lt ⟨0, h⟩ r)] <;>
      simp only [Nat.zero_mul, Nat.zero_add]
  | n + 1, h, l => by
    have hN : cfg0.N = 4 := N_0
    have hB : ¬(⟨n + 1, h⟩ : Fin cfg0.N).val % 4 = 0 := by dsimp only; omega
    have ih := acc_eq n (Nat.lt_of_succ_lt h) l
    rw [outs_B m c ⟨n + 1, h⟩ hB]
    dsimp only
    rw [gain_same, bias_same, Cert.LnIdeal.Value.pay1_at _ _ _ _ (fun r l => (blk0 m c _ r l).trans (hC _ l)) (fun r l => (blk1 m c _ r l).trans (hZ _ l)),
      Cert.LnIdeal.Value.pay2_at _ _ (fun r l => (blk0 m c _ r l).trans (hC _ l))]
    rw [Finset.sum_range_succ _ (n + 1), Finset.sum_range_succ _ (n + 1), EReal.coe_add, EReal.coe_add]
    refine ⟨congrArg₂ _ ih.1 (congrArg _ (Finset.sum_congr rfl fun r _ => ?_)), congrArg₂ _ ih.2 (congrArg _ (Finset.sum_congr rfl fun r _ => ?_))⟩ <;>
      rw [part, dif_pos (row_lt ⟨n + 1, h⟩ r)]

include hZ hC in
theorem last_eq (t : Fin cfg0.N) (h3 : t.val = 3) : (outsAt0 m c t.val t.isLt).2.2.2.2 = (gradG Z C, gradB C) := by
  obtain ⟨n, hn⟩ := t
  obtain rfl : n = 3 := h3
  refine Prod.ext (funext fun j => ?_) (funext fun j => ?_) <;>
    obtain ⟨z, l, rfl⟩ : ∃ (z : Fin 1) (l : Fin 1024), j = ix2 z l := ⟨j 0, j 1, eq_ix2 j⟩ <;>
    obtain rfl : z = 0 := Subsingleton.elim _ _
  · exact ((acc_eq m c Z C hZ hC 3 hn l).1).trans (congrArg _ (sum_part _))
  · exact ((acc_eq m c Z C hZ hC 3 hn l).2).trans (congrArg _ (sum_part _))

theorem rows_eq (t : Fin cfg0.N) : (outsAt0 m c t.val t.isLt).1 = k0_pay9 (k0_pay7 (F := Ideal) (iblk m c 0 t) (iblk m c 1 t) (iblk m c 2 t)) (k0_pay8 (iblk m c 1 t))
    ∧ (outsAt0 m c t.val t.isLt).2.1 = k0_pay11 (k0_pay7 (F := Ideal) (iblk m c 0 t) (iblk m c 1 t) (iblk m c 2 t)) (k0_pay8 (iblk m c 1 t))
    ∧ (outsAt0 m c t.val t.isLt).2.2.1 = k0_pay12 (k0_pay7 (F := Ideal) (iblk m c 0 t) (iblk m c 1 t) (iblk m c 2 t)) (k0_pay8 (iblk m c 1 t)) (iblk m c 3 t) (iblk m c 4 t)
    ∧ (outsAt0 m c t.val t.isLt).2.2.2.1 = k0_pay13 (k0_pay7 (F := Ideal) (iblk m c 0 t) (iblk m c 1 t) (iblk m c 2 t)) (k0_pay8 (iblk m c 1 t)) (iblk m c 3 t) := by
  by_cases h0 : t.val % 4 = 0
  · rw [outs_A m c t h0]; exact ⟨rfl, rfl, rfl, rfl⟩
  · rw [outs_B m c t h0]; exact ⟨rfl, rfl, rfl, rfl⟩

include hZ hC hG in
theorem final5 : (dats m 0 c).arrAt 5 cfg0.N = gradZ Z C G :=
  (dats m 0 c).arrAt_eq_of_cover 5 (gradZ Z C G)
    (fun t _ => by
      rw [flushed5, (rows_eq m c t).1]
      refine funext fun (j : S512x1024.Idx) => ?_
      obtain ⟨r, l, rfl⟩ : ∃ (r : Fin 512) (l : Fin 1024), j = ix2 r l := ⟨j 0, j 1, eq_ix2 j⟩
      exact (row_at _ _ _ _ _ G (fun r l => (blk0 m c t r l).trans (hC _ l)) (fun r l => (blk1 m c t r l).trans (hZ _ l)) (fun l => (blkGain m c t l).trans (hG l)) r l).trans (blkOut5 t (gradZ Z C G) r l).symm)
    cover5

include hZ hC hG in
theorem final6 : (dats m 0 c).arrAt 6 cfg0.N = gradZ Z C G :=
  (dats m 0 c).arrAt_eq_of_cover 6 (gradZ Z C G)
    (fun t _ => by
      rw [flushed6, (rows_eq m c t).2.1]
      refine funext fun (j : S512x1024.Idx) => ?_
      obtain ⟨r, l, rfl⟩ : ∃ (r : Fin 512) (l : Fin 1024), j = ix2 r l := ⟨j 0, j 1, eq_ix2 j⟩
      exact (rowb_at _ _ _ _ _ G (fun r l => (blk0 m c t r l).trans (hC _ l)) (fun r l => (blk1 m c t r l).trans (hZ _ l)) (fun l => (blkGain m c t l).trans (hG l)) r l).trans (blkOut6 t (gradZ Z C G) r l).symm)
    cover6

include hZ hC hG hP hQ in
theorem final7 : (dats m 0 c).arrAt 7 cfg0.N = gradP Z C P Q G :=
  (dats m 0 c).arrAt_eq_of_cover 7 (gradP Z C P Q G)
    (fun t _ => by
      rw [flushed7, (rows_eq m c t).2.2.1]
      refine funext fun (j : S512x1024.Idx) => ?_
      obtain ⟨r, l, rfl⟩ : ∃ (r : Fin 512) (l : Fin 1024), j = ix2 r l := ⟨j 0, j 1, eq_ix2 j⟩
      exact (dgate_at _ _ _ _ _ _ _ _ _ G (fun r l => (blk0 m c t r l).trans (hC _ l)) (fun r l => (blk1 m c t r l).trans (hZ _ l)) (fun l => (blkGain m c t l).trans (hG l)) (fun r l => (blk3 m c t r l).trans (hP _ l)) (fun r l => (blk4 m c t r l).trans (hQ _ l)) r l).trans (blkOut7 t (gradP Z C P Q G) r l).symm)
    cover7

include hZ hC hG hP in
theorem final8 : (dats m 0 c).arrAt 8 cfg0.N = gradQ Z C P G :=
  (dats m 0 c).arrAt_eq_of_cover 8 (gradQ Z C P G)
    (fun t _ => by
      rw [flushed8, (rows_eq m c t).2.2.2]
      refine funext fun (j : S512x1024.Idx) => ?_
      obtain ⟨r, l, rfl⟩ : ∃ (r : Fin 512) (l : Fin 1024), j = ix2 r l := ⟨j 0, j 1, eq_ix2 j⟩
      exact (demb_at _ _ _ _ _ _ _ G (fun r l => (blk0 m c t r l).trans (hC _ l)) (fun r l => (blk1 m c t r l).trans (hZ _ l)) (fun l => (blkGain m c t l).trans (hG l)) (fun r l => (blk3 m c t r l).trans (hP _ l)) r l).trans (blkOut8 t (gradQ Z C P G) r l).symm)
    cover8

include hZ hC in
theorem final9 : (dats m 0 c).arrAt 9 cfg0.N = gradG Z C :=
  (dats m 0 c).arrAt_eq_of_cover 9 (gradG Z C)
    (fun t hf => by
      have hN : cfg0.N = 4 := N_0
      have h3 : t.val = 3 := by have := (flush0_9 t).mp hf; have := t.isLt; omega
      rw [flushed9, last_eq m c Z C hZ hC t h3]
      exact (blkSum9 t (gradG Z C)).symm)
    cover9

include hZ hC in
theorem final10 : (dats m 0 c).arrAt 10 cfg0.N = gradB C :=
  (dats m 0 c).arrAt_eq_of_cover 10 (gradB C)
    (fun t hf => by
      have hN : cfg0.N = 4 := N_0
      have h3 : t.val = 3 := by have := (flush0_10 t).mp hf; have := t.isLt; omega
      rw [flushed10, last_eq m c Z C hZ hC t h3]
      exact (blkSum10 t (gradB C)).symm)
    cover10

end arrays

end Cert.Ln2Ideal.Value

namespace Cert.Ln2RefIdeal.Value

open Cert.Ln2RefIdeal Cert.Ln2RefIdeal.Gen Cert.Ln2RefIdeal.Read Cert.Step Cert.Step.Ln2

section
variable (h y p q ct : S2048x1024.Idx → EReal) (g : S1024.Idx → EReal) (X Y P Q C Z : Fin 2048 → Fin 1024 → ℝ) (G : Fin 1024 → ℝ)

/-- The differentiated normalisation is the one of the call that has it alone, of the sum. -/
theorem v70_same : val_main_v70 (F := Ideal) h y p q g ct = Cert.LnRefIdeal.Read.val_main_v56 (F := Ideal) (val_main_v13 (F := Ideal) h y p q) g ct := rfl
theorem v77_same : val_main_v77 (F := Ideal) h y p q ct = Cert.LnRefIdeal.Read.val_main_v57 (F := Ideal) (val_main_v13 (F := Ideal) h y p q) ct := rfl
theorem v78_same : val_main_v78 (F := Ideal) ct = Cert.LnRefIdeal.Read.val_main_v58 (F := Ideal) ct := rfl

variable (hH : ∀ i, h i = ((X (i 0) (i 1) : ℝ) : EReal)) (hY : ∀ i, y i = ((Y (i 0) (i 1) : ℝ) : EReal))
  (hP : ∀ i, p i = ((P (i 0) (i 1) : ℝ) : EReal)) (hQ : ∀ i, q i = ((Q (i 0) (i 1) : ℝ) : EReal))

include hP in
theorem v8_at (i : S2048x1024.Idx) : val_main_v8 (F := Ideal) p i = ((sr (P (i 0) (i 1)) : ℝ) : EReal) := by
  simp only [val_main_v8_apply, val_main_v7_apply, val_main_v6_apply, val_main_v5_apply, val_main_v4_apply, val_main_v3_apply,
    val_main_cst_0_apply, val_main_cst_1_apply, hP, Ideal.hostDivf_def, Ideal.addf_def, Ideal.hostNegf_def, Ideal.negf_def, Ideal.hostUnary_exp_def, Ideal.ofBits_def, bits_one,
    ← EReal.coe_neg, Ideal.exp_coe, EReal.coe_one]
  exact div_sr _

include hH hY hP hQ in
/-- The sum is finite. -/
theorem v13_at (i : S2048x1024.Idx) :
    val_main_v13 (F := Ideal) h y p q i = ((alpha * X (i 0) (i 1) + Y (i 0) (i 1) + sr (P (i 0) (i 1)) * Q (i 0) (i 1) : ℝ) : EReal) := by
  rw [val_main_v13_apply, val_main_v12_apply, v8_at p P hP, val_main_v2_apply, val_main_v1_apply, val_main_v0_apply, val_main_cst_apply, hH, hY, hQ]
  simp only [Ideal.addf_def, Ideal.mulf_def, Ideal.ofBits_def, bits_alpha, ← EReal.coe_mul, ← EReal.coe_add]

include hP in
theorem v11_at (i : S2048x1024.Idx) : val_main_v11 (F := Ideal) p i = ((sr (P (i 0) (i 1)) * (1 - sr (P (i 0) (i 1))) : ℝ) : EReal) := by
  rw [val_main_v11_apply, val_main_v10_apply, val_main_v9_apply, val_main_cst_2_apply, v8_at p P hP]
  simp only [Ideal.mulf_def, Ideal.subf_def, Ideal.ofBits_def, bits_one, ← EReal.coe_sub, ← EReal.coe_mul]

variable (hZ : ∀ i, val_main_v13 (F := Ideal) h y p q i = ((Z (i 0) (i 1) : ℝ) : EReal))
  (hC : ∀ i, ct i = ((C (i 0) (i 1) : ℝ) : EReal)) (hG : ∀ i, g i = ((G (i 0) : ℝ) : EReal))

open Cert.Ln2Ideal.Value (gradZ gradP gradQ gradG gradB)

include hZ hC hG in
theorem v70_at : val_main_v70 (F := Ideal) h y p q g ct = gradZ Z C G := by
  rw [v70_same]
  exact funext (Cert.LnRefIdeal.Value.v56_at _ ct g Z C G hZ hC hG)

include hZ hC hG hP hQ in
theorem v75_at : val_main_v75 (F := Ideal) h y p q g ct = gradP Z C P Q G := funext fun i => by
  rw [val_main_v75_apply, val_main_v73_apply, val_main_v72_apply, v70_at h y p q ct g C Z G hZ hC hG, v11_at p P hP, hQ]
  simp only [Ideal.truncf_def, Ideal.mulf_def, gradZ, gradP, ← EReal.coe_mul, mul_assoc]

include hZ hC hG hP in
theorem v76_at : val_main_v76 (F := Ideal) h y p q g ct = gradQ Z C P G := funext fun i => by
  rw [val_main_v76_apply, val_main_v71_apply, v70_at h y p q ct g C Z G hZ hC hG, v8_at p P hP]
  simp only [Ideal.truncf_def, Ideal.mulf_def, gradZ, gradQ, ← EReal.coe_mul]
  exact congrArg _ (mul_comm (G := ℝ) _ _)

include hZ hC in
theorem v77_at : val_main_v77 (F := Ideal) h y p q ct = gradG Z C := by
  rw [v77_same]
  exact funext (Cert.LnRefIdeal.Value.v57_at _ ct Z C hZ hC)

include hC in
theorem v78_at : val_main_v78 (F := Ideal) ct = gradB C := by
  rw [v78_same]
  exact funext (Cert.LnRefIdeal.Value.v58_at ct C hC)

end

variable (m : (ℓ : Loc nD τ sig) → Buf (Elt Ideal) ℓ) (ρ : Dev nD → PrngReg)

/-- The run's results by the stages above. -/
theorem ends : θ_run defs (onTc (τ := τ) main) ⟨m, fun _ => 0, ρ⟩ fun r => (∀ c : Dev nD,
      r.2.mem ((c.tc : Thread nD τ).loc main_v70) = val_main_v70 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6))
      ∧ r.2.mem ((c.tc : Thread nD τ).loc main_v74) = val_main_v74 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6))
      ∧ r.2.mem ((c.tc : Thread nD τ).loc main_v75) = val_main_v75 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6))
      ∧ r.2.mem ((c.tc : Thread nD τ).loc main_v76) = val_main_v76 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6))
      ∧ r.2.mem ((c.tc : Thread nD τ).loc main_v77) = val_main_v77 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6))
      ∧ r.2.mem ((c.tc : Thread nD τ).loc main_v78) = val_main_v78 (F := Ideal) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run _ _ _).mono (fun _ h c => ⟨(h c).1.trans (val_main_v70_eq m c), (h c).2.1.trans (val_main_v74_eq m c), (h c).2.2.1.trans (val_main_v75_eq m c),
    (h c).2.2.2.1.trans (val_main_v76_eq m c), (h c).2.2.2.2.1.trans (val_main_v77_eq m c), (h c).2.2.2.2.2.1.trans (val_main_v78_eq _), (h c).2.2.2.2.2.2⟩) (run m ρ)

end Cert.Ln2RefIdeal.Value

namespace Cert.Step.Ln2

open Cert.Ln2Ideal.Value (argH argY argP argQ argG argC gradZ gradP gradQ gradG gradB final5 final6 final7 final8 final9 final10)
open Cert.Ln2RefIdeal.Value (v13_at v70_at v75_at v76_at v77_at v78_at)

theorem claim [hP : Cert.Pre_ln2_finite.Facts] : algebraic_Ln2Ideal_Ln2RefIdeal_pre_ln2_finite := fun m ρ m' ρ' hfin hag => by
  choose X hX using fun c => exists_real (fun _ => rfl) (hfin c).1
  choose Y hY using fun c => exists_real (fun _ => rfl) (hfin c).2.1
  choose P hP using fun c => exists_real (fun _ => rfl) (hfin c).2.2.1
  choose Q hQ using fun c => exists_real (fun _ => rfl) (hfin c).2.2.2.1
  choose G hG using fun c => exists_real (fun _ => rfl) (hfin c).2.2.2.2.1
  choose C hC using fun c => exists_real (fun _ => rfl) (hfin c).2.2.2.2.2
  have hZ := fun c => v13_at (argH m c) (argY m c) (argP m c) (argQ m c) (fun r l => X c (ix2 r l)) (fun r l => Y c (ix2 r l)) (fun r l => P c (ix2 r l)) (fun r l => Q c (ix2 r l))
    (at2 (hX c)) (at2 (hY c)) (at2 (hP c)) (at2 (hQ c))
  let Z : Dev Cert.Ln2Ideal.nD → Fin 2048 → Fin 1024 → ℝ := fun c r l => alpha * X c (ix2 r l) + Y c (ix2 r l) + sr (P c (ix2 r l)) * Q c (ix2 r l)
  let C2 : Dev Cert.Ln2Ideal.nD → Fin 2048 → Fin 1024 → ℝ := fun c r l => C c (ix2 r l)
  let P2 : Dev Cert.Ln2Ideal.nD → Fin 2048 → Fin 1024 → ℝ := fun c r l => P c (ix2 r l)
  let Q2 : Dev Cert.Ln2Ideal.nD → Fin 2048 → Fin 1024 → ℝ := fun c r l => Q c (ix2 r l)
  let G1 : Dev Cert.Ln2Ideal.nD → Fin 1024 → ℝ := fun c l => G c (ix1 l)
  have e5 := fun c => final5 m c (Z c) (C2 c) (G1 c) (fun r l => hZ c (ix2 r l)) (fun r l => hC c (ix2 r l)) (fun l => hG c (ix1 l))
  have e6 := fun c => final6 m c (Z c) (C2 c) (G1 c) (fun r l => hZ c (ix2 r l)) (fun r l => hC c (ix2 r l)) (fun l => hG c (ix1 l))
  have e7 := fun c => final7 m c (Z c) (C2 c) (P2 c) (Q2 c) (G1 c) (fun r l => hZ c (ix2 r l)) (fun r l => hC c (ix2 r l)) (fun r l => hP c (ix2 r l)) (fun r l => hQ c (ix2 r l)) (fun l => hG c (ix1 l))
  have e8 := fun c => final8 m c (Z c) (C2 c) (P2 c) (G1 c) (fun r l => hZ c (ix2 r l)) (fun r l => hC c (ix2 r l)) (fun r l => hP c (ix2 r l)) (fun l => hG c (ix1 l))
  have e9 := fun c => final9 m c (Z c) (C2 c) (fun r l => hZ c (ix2 r l)) (fun r l => hC c (ix2 r l))
  have e10 := fun c => final10 m c (Z c) (C2 c) (fun r l => hZ c (ix2 r l)) (fun r l => hC c (ix2 r l))
  have r5 := fun c => v70_at (argH m c) (argY m c) (argP m c) (argQ m c) (argC m c) (argG m c) (C2 c) (Z c) (G1 c) (hZ c) (at2 (hC c)) (at1 (hG c))
  have r7 := fun c => v75_at (argH m c) (argY m c) (argP m c) (argQ m c) (argC m c) (argG m c) (P2 c) (Q2 c) (C2 c) (Z c) (G1 c) (at2 (hP c)) (at2 (hQ c)) (hZ c) (at2 (hC c)) (at1 (hG c))
  have r8 := fun c => v76_at (argH m c) (argY m c) (argP m c) (argQ m c) (argC m c) (argG m c) (P2 c) (C2 c) (Z c) (G1 c) (at2 (hP c)) (hZ c) (at2 (hC c)) (at1 (hG c))
  have r9 := fun c => v77_at (argH m c) (argY m c) (argP m c) (argQ m c) (argC m c) (C2 c) (Z c) (hZ c) (at2 (hC c))
  have r10 := fun c => v78_at (argC m c) (C2 c) (at2 (hC c))
  refine ⟨fun c => gradZ (Z c) (C2 c) (G1 c), fun c => gradZ (Z c) (C2 c) (G1 c), fun c => gradP (Z c) (C2 c) (P2 c) (Q2 c) (G1 c), fun c => gradQ (Z c) (C2 c) (P2 c) (G1 c),
    fun c => gradG (Z c) (C2 c), fun c => gradB (C2 c),
    (θ_run _ _ _).mono (fun _ h c => ⟨(h c).1.trans (e5 c), (h c).2.1.trans (e6 c), (h c).2.2.1.trans (e7 c), (h c).2.2.2.1.trans (e8 c), (h c).2.2.2.2.1.trans (e9 c),
      (h c).2.2.2.2.2.1.trans (e10 c), (h c).2.2.2.2.2.2⟩) (Cert.Ln2Ideal.Value.run_blocks m ρ),
    (θ_run _ _ _).mono (fun _ h c => ⟨(h c).1.trans ?_, (h c).2.1.trans ?_, (h c).2.2.1.trans ?_, (h c).2.2.2.1.trans ?_, (h c).2.2.2.2.1.trans ?_,
      (h c).2.2.2.2.2.1.trans ?_, (h c).2.2.2.2.2.2⟩) (Cert.Ln2RefIdeal.Value.ends m' ρ')⟩
  · rw [(hag c).1, (hag c).2.1, (hag c).2.2.1, (hag c).2.2.2.1, (hag c).2.2.2.2.1, (hag c).2.2.2.2.2.2]; exact r5 c
  · rw [(hag c).1, (hag c).2.1, (hag c).2.2.1, (hag c).2.2.2.1, (hag c).2.2.2.2.1, (hag c).2.2.2.2.2.2]; exact r5 c
  · rw [(hag c).1, (hag c).2.1, (hag c).2.2.1, (hag c).2.2.2.1, (hag c).2.2.2.2.1, (hag c).2.2.2.2.2.2]; exact r7 c
  · rw [(hag c).1, (hag c).2.1, (hag c).2.2.1, (hag c).2.2.2.1, (hag c).2.2.2.2.1, (hag c).2.2.2.2.2.2]; exact r8 c
  · rw [(hag c).1, (hag c).2.1, (hag c).2.2.1, (hag c).2.2.2.1, (hag c).2.2.2.2.2.2]; exact r9 c
  · rw [(hag c).2.2.2.2.2.2]; exact r10 c

end Cert.Step.Ln2

end
-- ==== Proof.Merge.lean ====
/-
  The gradient of the gated merge: from the cotangent of the merged rows times the output matrix, the kernel computes tile by
  tile the gradients with respect to the two branches and to their two gates; each tile is the reference's gradient there.
-/
module

public import proofs.«01_k».proof.Proof.Norm
public import proofs.«01_k».proof.Defs
public import proofs.«01_k».proof.Proof.Gen.MergeIdeal.Value
public import proofs.«01_k».proof.Proof.Gen.MergeRefIdeal.Read
public import proofs.«01_k».proof.Proof.Gen.MergeRefIdeal.Run

@[expose] public section

set_option maxRecDepth 16384

noncomputable section

open Idealize.ShloMosaic Idealize.ShloMosaic.TcCoe Idealize.SL.Sem
open Idealize.ShloMosaic.Pipeline (Dat)

namespace Cert.Step.Merge

/-- The logistic function as both programs spell it. -/
def sg (x : EReal) : EReal := Ideal.div 1 (1 + Ideal.exp (-x))

section results
variable (P : (⟨2, ![2048, 4096]⟩ : Shape).Idx → EReal) (Y C : (⟨2, ![2048, 1024]⟩ : Shape).Idx → EReal) (W : (⟨2, ![1024, 1024]⟩ : Shape).Idx → EReal)

/-- The cotangent of the merged rows. -/
def dm (r : Fin 2048) (l : Fin 1024) : EReal := ∑ k : Fin 1024, C (ix2 r k) * W (ix2 l k)
/-- A branch's gradient, its gate read from column `o` on. -/
def dBranch (o : ℕ) (ho : o + 1024 ≤ 4096) : (⟨2, ![2048, 1024]⟩ : Shape).Idx → EReal := fun j =>
  dm C W (j 0) (j 1) * sg (P (ix2 (j 0) ⟨o + (j 1).val, by have := (j 1).isLt; change (j 1).val < 1024 at this; omega⟩))
/-- A gate's gradient. -/
def dGate (o : ℕ) (ho : o + 1024 ≤ 4096) : (⟨2, ![2048, 1024]⟩ : Shape).Idx → EReal := fun j =>
  dm C W (j 0) (j 1) * Y j * sg (P (ix2 (j 0) ⟨o + (j 1).val, by have := (j 1).isLt; change (j 1).val < 1024 at this; omega⟩))
    * (1 - sg (P (ix2 (j 0) ⟨o + (j 1).val, by have := (j 1).isLt; change (j 1).val < 1024 at this; omega⟩)))
end results

end Cert.Step.Merge

namespace Cert.MergeIdeal.Value

open Cert.MergeIdeal Cert.MergeIdeal.Gen Cert.Step Cert.Step.Merge

variable (m : (ℓ : Loc nD τ sig) → Buf (Elt Ideal) ℓ) (ρ : Dev nD → PrngReg)

/-! The payloads at an index. -/
theorem pay3_at (x : Vec Ideal S1024x1024 .bf16) (w : Vec Ideal S4x128x1024 .bf16) (r : Fin 1024) (l : Fin 512) :
    k0_pay3 x w (ix2 r l) = ∑ k : Fin 1024, x (ix2 r k) * w (ix3 ⟨l.val / 128, by omega⟩ ⟨l.val % 128, by omega⟩ k) := by
  pointwise [k0_pay3]

theorem pay4_at (x : Vec Ideal S1024x512 .bf16) (r : Fin 1024) (l : Fin 512) : k0_pay4 x (ix2 r l) = sg (x (ix2 r l)) := by
  pointwise [k0_pay4]
  rw [sg, zero_sub]

theorem pay5_at (x : Vec Ideal S1024x512 .bf16) (r : Fin 1024) (l : Fin 512) : k0_pay5 x (ix2 r l) = sg (x (ix2 r l)) := pay4_at x r l

theorem pay1_at (d s : FVec Ideal S1024x512 .f32) (y : Vec Ideal S1024x512 .bf16) (r : Fin 1024) (l : Fin 512) :
    k0_pay1 d s (k0_pay8 y) (ix2 r l) = d (ix2 r l) * y (ix2 r l) * s (ix2 r l) * (1 - s (ix2 r l)) := by
  pointwise [k0_pay1, k0_pay8]

theorem pay2_at (d s : FVec Ideal S1024x512 .f32) (y : Vec Ideal S1024x512 .bf16) (r : Fin 1024) (l : Fin 512) :
    k0_pay2 d s y (ix2 r l) = d (ix2 r l) * y (ix2 r l) * s (ix2 r l) * (1 - s (ix2 r l)) := by
  pointwise [k0_pay2]

/-- The arguments as arrays. -/
abbrev argP (c : Dev nD) : S2048x4096.Idx → EReal := m ((c : Thread nD τ).loc main_arg0)
abbrev argA (c : Dev nD) : S2048x1024.Idx → EReal := m ((c : Thread nD τ).loc main_arg1)
abbrev argB (c : Dev nD) : S2048x1024.Idx → EReal := m ((c : Thread nD τ).loc main_arg2)
abbrev argW (c : Dev nD) : S1024x1024.Idx → EReal := m ((c : Thread nD τ).loc main_arg3)
abbrev argC (c : Dev nD) : S2048x1024.Idx → EReal := m ((c : Thread nD τ).loc main_arg4)

/-- What the program prepares before the kernel: the arguments themselves, the output matrix cut into eight parts of rows. -/
theorem V_v0 (c : Dev nD) : V m c main_v0 = argC m c := by
  unfold V hostOps0
  after_results <;> rfl
theorem V_v3 (c : Dev nD) : V m c main_v3 = argP m c := by
  unfold V hostOps0
  after_results <;> rfl
theorem V_v4 (c : Dev nD) : V m c main_v4 = argA m c := by
  unfold V hostOps0
  after_results <;> rfl
theorem V_v5 (c : Dev nD) : V m c main_v5 = argB m c := by
  unfold V hostOps0
  after_results <;> rfl
theorem V_v2 (c : Dev nD) (p : Fin 8) (q : Fin 128) (k : Fin 1024) :
    (V m c main_v2 : S8x128x1024.Idx → EReal) (ix3 p q k) = argW m c (ix2 ⟨p.val * 128 + q.val, by omega⟩ k) := by
  have h : V m c main_v2 = shapeCast S8x128x1024 (argW m c) shapeCasts_S1024x1024_S8x128x1024 := by
    unfold V hostOps0
    after_results <;> rfl
  rw [h]
  pointwise []

theorem row_lt (t : Fin cfg0.N) (r : Fin 1024) : t.val / 2 * 1024 + r.val < 2048 := by
  have := lt_of_lt_of_eq t.isLt (show cfg0.N = 4 from N_0); omega
theorem col_lt (t : Fin cfg0.N) (l : Fin 512) : t.val % 2 * 512 + l.val < 1024 := by omega

theorem index_in : ∀ t : Fin grid0.N, (win0_0.index t 0 = t.val / 2 ∧ win0_0.index t 1 = 0)
    ∧ (win0_1.index t 0 = t.val % 2 ∧ win0_1.index t 1 = 0 ∧ win0_1.index t 2 = 0)
    ∧ (win0_2.index t 0 = t.val / 2 ∧ win0_2.index t 1 = 4 + t.val % 2) ∧ (win0_3.index t 0 = t.val / 2 ∧ win0_3.index t 1 = 6 + t.val % 2)
    ∧ (win0_4.index t 0 = t.val / 2 ∧ win0_4.index t 1 = t.val % 2) ∧ win0_5.index t 0 = t.val / 2 ∧ win0_5.index t 1 = t.val % 2 := by decide +kernel
theorem index_out : ∀ t : Fin grid0.N, (win0_6.index t 0 = t.val / 2 ∧ win0_6.index t 1 = t.val % 2)
    ∧ (win0_7.index t 0 = t.val / 2 ∧ win0_7.index t 1 = t.val % 2)
    ∧ (win0_8.index t 0 = t.val / 2 ∧ win0_8.index t 1 = t.val % 2) ∧ win0_9.index t 0 = t.val / 2 ∧ win0_9.index t 1 = t.val % 2 := by decide +kernel

/-- The input blocks. -/
theorem blkC (c : Dev nD) (t : Fin cfg0.N) (r : Fin 1024) (l : Fin 1024) :
    (iblk m c 0 t : Vec Ideal S1024x1024 .bf16) (ix2 r l) = argC m c (ix2 ⟨t.val / 2 * 1024 + r.val, row_lt t r⟩ l) := by
  unfold iblk
  rw [View.read_apply]
  show (V m c main_v0 : S2048x1024.Idx → EReal) _ = _
  rw [V_v0]
  refine congrArg (argC m c) (funext fun a => Fin.ext ?_)
  match a with
  | ⟨0, _⟩ => show win0_0.index t 0 * 1024 + 1 * r.val = t.val / 2 * 1024 + r.val; rw [(index_in t).1.1, Nat.one_mul]
  | ⟨1, _⟩ => show win0_0.index t 1 * 1024 + 1 * l.val = l.val; rw [(index_in t).1.2]; omega

theorem blkGa (c : Dev nD) (t : Fin cfg0.N) (r : Fin 1024) (l : Fin 512) :
    (iblk m c 2 t : Vec Ideal S1024x512 .bf16) (ix2 r l) = argP m c (ix2 ⟨t.val / 2 * 1024 + r.val, row_lt t r⟩ ⟨2048 + (t.val % 2 * 512 + l.val), by omega⟩) := by
  unfold iblk
  rw [View.read_apply]
  show (V m c main_v3 : S2048x4096.Idx → EReal) _ = _
  rw [V_v3]
  refine congrArg (argP m c) (funext fun a => Fin.ext ?_)
  match a with
  | ⟨0, _⟩ => show win0_2.index t 0 * 1024 + 1 * r.val = t.val / 2 * 1024 + r.val; rw [(index_in t).2.2.1.1, Nat.one_mul]
  | ⟨1, _⟩ => show win0_2.index t 1 * 512 + 1 * l.val = 2048 + (t.val % 2 * 512 + l.val); rw [(index_in t).2.2.1.2]; omega

theorem blkGb (c : Dev nD) (t : Fin cfg0.N) (r : Fin 1024) (l : Fin 512) :
    (iblk m c 3 t : Vec Ideal S1024x512 .bf16) (ix2 r l) = argP m c (ix2 ⟨t.val / 2 * 1024 + r.val, row_lt t r⟩ ⟨3072 + (t.val % 2 * 512 + l.val), by omega⟩) := by
  unfold iblk
  rw [View.read_apply]
  show (V m c main_v3 : S2048x4096.Idx → EReal) _ = _
  rw [V_v3]
  refine congrArg (argP m c) (funext fun a => Fin.ext ?_)
  match a with
  | ⟨0, _⟩ => show win0_3.index t 0 * 1024 + 1 * r.val = t.val / 2 * 1024 + r.val; rw [(index_in t).2.2.2.1.1, Nat.one_mul]
  | ⟨1, _⟩ => show win0_3.index t 1 * 512 + 1 * l.val = 3072 + (t.val % 2 * 512 + l.val); rw [(index_in t).2.2.2.1.2]; omega

theorem blkA (c : Dev nD) (t : Fin cfg0.N) (r : Fin 1024) (l : Fin 512) :
    (iblk m c 4 t : Vec Ideal S1024x512 .bf16) (ix2 r l) = argA m c (ix2 ⟨t.val / 2 * 1024 + r.val, row_lt t r⟩ ⟨t.val % 2 * 512 + l.val, col_lt t l⟩) := by
  unfold iblk
  rw [View.read_apply]
  show (V m c main_v4 : S2048x1024.Idx → EReal) _ = _
  rw [V_v4]
  refine congrArg (argA m c) (funext fun a => Fin.ext ?_)
  match a with
  | ⟨0, _⟩ => show win0_4.index t 0 * 1024 + 1 * r.val = t.val / 2 * 1024 + r.val; rw [(index_in t).2.2.2.2.1.1, Nat.one_mul]
  | ⟨1, _⟩ => show win0_4.index t 1 * 512 + 1 * l.val = t.val % 2 * 512 + l.val; rw [(index_in t).2.2.2.2.1.2]; omega

theorem blkB (c : Dev nD) (t : Fin cfg0.N) (r : Fin 1024) (l : Fin 512) :
    (iblk m c 5 t : Vec Ideal S1024x512 .bf16) (ix2 r l) = argB m c (ix2 ⟨t.val / 2 * 1024 + r.val, row_lt t r⟩ ⟨t.val % 2 * 512 + l.val, col_lt t l⟩) := by
  unfold iblk
  rw [View.read_apply]
  show (V m c main_v5 : S2048x1024.Idx → EReal) _ = _
  rw [V_v5]
  refine congrArg (argB m c) (funext fun a => Fin.ext ?_)
  match a with
  | ⟨0, _⟩ => show win0_5.index t 0 * 1024 + 1 * r.val = t.val / 2 * 1024 + r.val; rw [(index_in t).2.2.2.2.2.1, Nat.one_mul]
  | ⟨1, _⟩ => show win0_5.index t 1 * 512 + 1 * l.val = t.val % 2 * 512 + l.val; rw [(index_in t).2.2.2.2.2.2]; omega

theorem blkW (c : Dev nD) (t : Fin cfg0.N) (p : Fin 4) (q : Fin 128) (k : Fin 1024) :
    (iblk m c 1 t : Vec Ideal S4x128x1024 .bf16) (ix3 p q k) = argW m c (ix2 ⟨t.val % 2 * 512 + p.val * 128 + q.val, by omega⟩ k) := by
  unfold iblk
  rw [View.read_apply]
  have hq := V_v2 m c ⟨t.val % 2 * 4 + p.val, by omega⟩ q k
  refine Eq.trans ?_ (hq.trans (congrArg (argW m c) (congrArg (ix2 · k) (Fin.ext (by show (t.val % 2 * 4 + p.val) * 128 + q.val = t.val % 2 * 512 + p.val * 128 + q.val; omega)))))
  show (V m c main_v2 : S8x128x1024.Idx → EReal) _ = _
  refine congrArg (V m c main_v2 : S8x128x1024.Idx → EReal) (funext fun a => Fin.ext ?_)
  match a with
  | ⟨0, _⟩ => show win0_1.index t 0 * 4 + 1 * p.val = t.val % 2 * 4 + p.val; rw [(index_in t).2.1.1, Nat.one_mul]
  | ⟨1, _⟩ => show win0_1.index t 1 * 128 + 1 * q.val = q.val; rw [(index_in t).2.1.2.1]; omega
  | ⟨2, _⟩ => show win0_1.index t 2 * 1024 + 1 * k.val = k.val; rw [(index_in t).2.1.2.2]; omega

/-- The tile of the merged rows' cotangent. -/
theorem dm_at (c : Dev nD) (t : Fin cfg0.N) (r : Fin 1024) (l : Fin 512) :
    k0_pay3 (F := Ideal) (iblk m c 0 t) (iblk m c 1 t) (ix2 r l)
      = dm (argC m c) (argW m c) ⟨t.val / 2 * 1024 + r.val, row_lt t r⟩ ⟨t.val % 2 * 512 + l.val, col_lt t l⟩ := by
  refine (pay3_at _ _ r l).trans (Finset.sum_congr rfl fun k _ => ?_)
  rw [blkC, blkW]
  exact congrArg (_ * argW m c ·) (congrArg (ix2 · k) (Fin.ext (by show t.val % 2 * 512 + l.val / 128 * 128 + l.val % 128 = t.val % 2 * 512 + l.val; omega)))

theorem out6 (c : Dev nD) (t : Fin cfg0.N) :
    out0_6 (F := Ideal) (iblk m c 0 t) (iblk m c 1 t) (iblk m c 2 t) (iblk m c 3 t) (iblk m c 4 t) (iblk m c 5 t) = k0_pay6 (F := Ideal) (iblk m c 0 t) (iblk m c 1 t) (iblk m c 2 t) := by
  unfold out0_6
  rw [View.canon_unit_zero hz2]
  simp only [View.ld_unit_zero (S := S1024x1024) hz2, View.ld_unit_zero (S := S1024x512) hz2, View.ld_unit_zero (S := S4x128x1024) hz3]

theorem blkOut6 (t : Fin cfg0.N) (A : S2048x1024.Idx → EReal) (r : Fin 1024) (l : Fin 512) :
    (((cfg0.win 6).blk t).view.read (Elt Ideal) A : Vec Ideal S1024x512 .bf16) (ix2 r l) = A (ix2 ⟨t.val / 2 * 1024 + r.val, row_lt t r⟩ ⟨t.val % 2 * 512 + l.val, col_lt t l⟩) := by
  rw [View.read_apply]
  refine congrArg A (funext fun a => Fin.ext ?_)
  match a with
  | ⟨0, _⟩ => show win0_6.index t 0 * 1024 + 1 * r.val = t.val / 2 * 1024 + r.val; rw [(index_out t).1.1, Nat.one_mul]
  | ⟨1, _⟩ => show win0_6.index t 1 * 512 + 1 * l.val = t.val % 2 * 512 + l.val; rw [(index_out t).1.2, Nat.one_mul]

theorem tile6 (c : Dev nD) (t : Fin cfg0.N) (r : Fin 1024) (l : Fin 512) :
    (k0_pay6 (F := Ideal) (iblk m c 0 t) (iblk m c 1 t) (iblk m c 2 t) : Vec Ideal S1024x512 .bf16) (ix2 r l)
      = dBranch (argP m c) (argC m c) (argW m c) 2048 (by decide) (ix2 ⟨t.val / 2 * 1024 + r.val, row_lt t r⟩ ⟨t.val % 2 * 512 + l.val, col_lt t l⟩) := by
  have hd := dm_at m c t r l
  unfold k0_pay6
  generalize k0_pay3 (F := Ideal) (iblk m c 0 t) (iblk m c 1 t) = d at hd
  generalize hs : k0_pay4 (F := Ideal) (iblk m c 2 t) = s
  pointwise []
  rw [← hs, pay4_at, hd, blkGa]
  rfl

theorem final6 (c : Dev nD) : (dats m 0 c).arrAt 6 cfg0.N = dBranch (argP m c) (argC m c) (argW m c) 2048 (by decide) :=
  (dats m 0 c).arrAt_eq_of_cover 6 (dBranch (argP m c) (argC m c) (argW m c) 2048 (by decide))
    (fun t _ => by
      rw [flushed6, out6]
      refine funext fun (j : S1024x512.Idx) => ?_
      obtain ⟨r, l, rfl⟩ : ∃ (r : Fin 1024) (l : Fin 512), j = ix2 r l := ⟨j 0, j 1, eq_ix2 j⟩
      exact (tile6 m c t r l).trans (blkOut6 t (dBranch (argP m c) (argC m c) (argW m c) 2048 (by decide)) r l).symm)
    fun (i : S2048x1024.Idx) => by
      have hN : cfg0.N = 4 := N_0
      have h0 : (i 0 : Nat) < 2048 := (i 0).isLt
      have h1 : (i 1 : Nat) < 1024 := (i 1).isLt
      refine ⟨⟨(i 0).val / 1024 * 2 + (i 1).val / 512, by omega⟩, flush0_6 _, ?_⟩
      generalize ht : (⟨(i 0).val / 1024 * 2 + (i 1).val / 512, _⟩ : Fin cfg0.N) = t
      have htv : t.val = (i 0).val / 1024 * 2 + (i 1).val / 512 := by rw [← ht]
      show i ∈ ((View.whole main_v6_0).slice (win0_6.rect t)).set
      rw [View.set_slice_whole, Rect.mem_set_unit]
      intro a
      match a with
      | ⟨0, _⟩ =>
        show win0_6.index t 0 * 1024 ≤ (i 0 : Nat) ∧ (i 0 : Nat) < win0_6.index t 0 * 1024 + 1024
        rw [(index_out t).1.1]; omega
      | ⟨1, _⟩ =>
        show win0_6.index t 1 * 512 ≤ (i 1 : Nat) ∧ (i 1 : Nat) < win0_6.index t 1 * 512 + 512
        rw [(index_out t).1.2]; omega

theorem out7 (c : Dev nD) (t : Fin cfg0.N) :
    out0_7 (F := Ideal) (iblk m c 0 t) (iblk m c 1 t) (iblk m c 2 t) (iblk m c 3 t) (iblk m c 4 t) (iblk m c 5 t) = k0_pay7 (F := Ideal) (iblk m c 0 t) (iblk m c 1 t) (iblk m c 3 t) := by
  unfold out0_7
  rw [View.canon_unit_zero hz2]
  simp only [View.ld_unit_zero (S := S1024x1024) hz2, View.ld_unit_zero (S := S1024x512) hz2, View.ld_unit_zero (S := S4x128x1024) hz3]

theorem blkOut7 (t : Fin cfg0.N) (A : S2048x1024.Idx → EReal) (r : Fin 1024) (l : Fin 512) :
    (((cfg0.win 7).blk t).view.read (Elt Ideal) A : Vec Ideal S1024x512 .bf16) (ix2 r l) = A (ix2 ⟨t.val / 2 * 1024 + r.val, row_lt t r⟩ ⟨t.val % 2 * 512 + l.val, col_lt t l⟩) := by
  rw [View.read_apply]
  refine congrArg A (funext fun a => Fin.ext ?_)
  match a with
  | ⟨0, _⟩ => show win0_7.index t 0 * 1024 + 1 * r.val = t.val / 2 * 1024 + r.val; rw [(index_out t).2.1.1, Nat.one_mul]
  | ⟨1, _⟩ => show win0_7.index t 1 * 512 + 1 * l.val = t.val % 2 * 512 + l.val; rw [(index_out t).2.1.2, Nat.one_mul]

theorem tile7 (c : Dev nD) (t : Fin cfg0.N) (r : Fin 1024) (l : Fin 512) :
    (k0_pay7 (F := Ideal) (iblk m c 0 t) (iblk m c 1 t) (iblk m c 3 t) : Vec Ideal S1024x512 .bf16) (ix2 r l)
      = dBranch (argP m c) (argC m c) (argW m c) 3072 (by decide) (ix2 ⟨t.val / 2 * 1024 + r.val, row_lt t r⟩ ⟨t.val % 2 * 512 + l.val, col_lt t l⟩) := by
  have hd := dm_at m c t r l
  unfold k0_pay7
  generalize k0_pay3 (F := Ideal) (iblk m c 0 t) (iblk m c 1 t) = d at hd
  generalize hs : k0_pay5 (F := Ideal) (iblk m c 3 t) = s
  pointwise []
  rw [← hs, pay5_at, hd, blkGb]
  rfl

theorem final7 (c : Dev nD) : (dats m 0 c).arrAt 7 cfg0.N = dBranch (argP m c) (argC m c) (argW m c) 3072 (by decide) :=
  (dats m 0 c).arrAt_eq_of_cover 7 (dBranch (argP m c) (argC m c) (argW m c) 3072 (by decide))
    (fun t _ => by
      rw [flushed7, out7]
      refine funext fun (j : S1024x512.Idx) => ?_
      obtain ⟨r, l, rfl⟩ : ∃ (r : Fin 1024) (l : Fin 512), j = ix2 r l := ⟨j 0, j 1, eq_ix2 j⟩
      exact (tile7 m c t r l).trans (blkOut7 t (dBranch (argP m c) (argC m c) (argW m c) 3072 (by decide)) r l).symm)
    fun (i : S2048x1024.Idx) => by
      have hN : cfg0.N = 4 := N_0
      have h0 : (i 0 : Nat) < 2048 := (i 0).isLt
      have h1 : (i 1 : Nat) < 1024 := (i 1).isLt
      refine ⟨⟨(i 0).val / 1024 * 2 + (i 1).val / 512, by omega⟩, flush0_7 _, ?_⟩
      generalize ht : (⟨(i 0).val / 1024 * 2 + (i 1).val / 512, _⟩ : Fin cfg0.N) = t
      have htv : t.val = (i 0).val / 1024 * 2 + (i 1).val / 512 := by rw [← ht]
      show i ∈ ((View.whole main_v6_1).slice (win0_7.rect t)).set
      rw [View.set_slice_whole, Rect.mem_set_unit]
      intro a
      match a with
      | ⟨0, _⟩ =>
        show win0_7.index t 0 * 1024 ≤ (i 0 : Nat) ∧ (i 0 : Nat) < win0_7.index t 0 * 1024 + 1024
        rw [(index_out t).2.1.1]; omega
      | ⟨1, _⟩ =>
        show win0_7.index t 1 * 512 ≤ (i 1 : Nat) ∧ (i 1 : Nat) < win0_7.index t 1 * 512 + 512
        rw [(index_out t).2.1.2]; omega

theorem out8 (c : Dev nD) (t : Fin cfg0.N) :
    out0_8 (F := Ideal) (iblk m c 0 t) (iblk m c 1 t) (iblk m c 2 t) (iblk m c 3 t) (iblk m c 4 t) (iblk m c 5 t) = k0_pay1 (k0_pay3 (F := Ideal) (iblk m c 0 t) (iblk m c 1 t)) (k0_pay4 (iblk m c 2 t)) (k0_pay8 (iblk m c 4 t)) := by
  unfold out0_8 k0_pay9
  rw [View.canon_unit_zero hz2]
  simp only [View.ld_unit_zero (S := S1024x1024) hz2, View.ld_unit_zero (S := S1024x512) hz2, View.ld_unit_zero (S := S4x128x1024) hz3]

theorem blkOut8 (t : Fin cfg0.N) (A : S2048x1024.Idx → EReal) (r : Fin 1024) (l : Fin 512) :
    (((cfg0.win 8).blk t).view.read (Elt Ideal) A : Vec Ideal S1024x512 .bf16) (ix2 r l) = A (ix2 ⟨t.val / 2 * 1024 + r.val, row_lt t r⟩ ⟨t.val % 2 * 512 + l.val, col_lt t l⟩) := by
  rw [View.read_apply]
  refine congrArg A (funext fun a => Fin.ext ?_)
  match a with
  | ⟨0, _⟩ => show win0_8.index t 0 * 1024 + 1 * r.val = t.val / 2 * 1024 + r.val; rw [(index_out t).2.2.1.1, Nat.one_mul]
  | ⟨1, _⟩ => show win0_8.index t 1 * 512 + 1 * l.val = t.val % 2 * 512 + l.val; rw [(index_out t).2.2.1.2, Nat.one_mul]

theorem tile8 (c : Dev nD) (t : Fin cfg0.N) (r : Fin 1024) (l : Fin 512) :
    (k0_pay1 (k0_pay3 (F := Ideal) (iblk m c 0 t) (iblk m c 1 t)) (k0_pay4 (iblk m c 2 t)) (k0_pay8 (iblk m c 4 t)) : Vec Ideal S1024x512 .bf16) (ix2 r l)
      = dGate (argP m c) (argA m c) (argC m c) (argW m c) 2048 (by decide) (ix2 ⟨t.val / 2 * 1024 + r.val, row_lt t r⟩ ⟨t.val % 2 * 512 + l.val, col_lt t l⟩) := by
  have hd := dm_at m c t r l
  rw [pay1_at, hd, pay4_at, blkA, blkGa]
  rfl

theorem final8 (c : Dev nD) : (dats m 0 c).arrAt 8 cfg0.N = dGate (argP m c) (argA m c) (argC m c) (argW m c) 2048 (by decide) :=
  (dats m 0 c).arrAt_eq_of_cover 8 (dGate (argP m c) (argA m c) (argC m c) (argW m c) 2048 (by decide))
    (fun t _ => by
      rw [flushed8, out8]
      refine funext fun (j : S1024x512.Idx) => ?_
      obtain ⟨r, l, rfl⟩ : ∃ (r : Fin 1024) (l : Fin 512), j = ix2 r l := ⟨j 0, j 1, eq_ix2 j⟩
      exact (tile8 m c t r l).trans (blkOut8 t (dGate (argP m c) (argA m c) (argC m c) (argW m c) 2048 (by decide)) r l).symm)
    fun (i : S2048x1024.Idx) => by
      have hN : cfg0.N = 4 := N_0
      have h0 : (i 0 : Nat) < 2048 := (i 0).isLt
      have h1 : (i 1 : Nat) < 1024 := (i 1).isLt
      refine ⟨⟨(i 0).val / 1024 * 2 + (i 1).val / 512, by omega⟩, flush0_8 _, ?_⟩
      generalize ht : (⟨(i 0).val / 1024 * 2 + (i 1).val / 512, _⟩ : Fin cfg0.N) = t
      have htv : t.val = (i 0).val / 1024 * 2 + (i 1).val / 512 := by rw [← ht]
      show i ∈ ((View.whole main_v6_2).slice (win0_8.rect t)).set
      rw [View.set_slice_whole, Rect.mem_set_unit]
      intro a
      match a with
      | ⟨0, _⟩ =>
        show win0_8.index t 0 * 1024 ≤ (i 0 : Nat) ∧ (i 0 : Nat) < win0_8.index t 0 * 1024 + 1024
        rw [(index_out t).2.2.1.1]; omega
      | ⟨1, _⟩ =>
        show win0_8.index t 1 * 512 ≤ (i 1 : Nat) ∧ (i 1 : Nat) < win0_8.index t 1 * 512 + 512
        rw [(index_out t).2.2.1.2]; omega

theorem out9 (c : Dev nD) (t : Fin cfg0.N) :
    out0_9 (F := Ideal) (iblk m c 0 t) (iblk m c 1 t) (iblk m c 2 t) (iblk m c 3 t) (iblk m c 4 t) (iblk m c 5 t) = k0_pay2 (k0_pay3 (F := Ideal) (iblk m c 0 t) (iblk m c 1 t)) (k0_pay5 (iblk m c 3 t)) (iblk m c 5 t) := by
  unfold out0_9 k0_pay9
  rw [View.canon_unit_zero hz2]
  simp only [View.ld_unit_zero (S := S1024x1024) hz2, View.ld_unit_zero (S := S1024x512) hz2, View.ld_unit_zero (S := S4x128x1024) hz3]

theorem blkOut9 (t : Fin cfg0.N) (A : S2048x1024.Idx → EReal) (r : Fin 1024) (l : Fin 512) :
    (((cfg0.win 9).blk t).view.read (Elt Ideal) A : Vec Ideal S1024x512 .bf16) (ix2 r l) = A (ix2 ⟨t.val / 2 * 1024 + r.val, row_lt t r⟩ ⟨t.val % 2 * 512 + l.val, col_lt t l⟩) := by
  rw [View.read_apply]
  refine congrArg A (funext fun a => Fin.ext ?_)
  match a with
  | ⟨0, _⟩ => show win0_9.index t 0 * 1024 + 1 * r.val = t.val / 2 * 1024 + r.val; rw [(index_out t).2.2.2.1, Nat.one_mul]
  | ⟨1, _⟩ => show win0_9.index t 1 * 512 + 1 * l.val = t.val % 2 * 512 + l.val; rw [(index_out t).2.2.2.2, Nat.one_mul]

theorem tile9 (c : Dev nD) (t : Fin cfg0.N) (r : Fin 1024) (l : Fin 512) :
    (k0_pay2 (k0_pay3 (F := Ideal) (iblk m c 0 t) (iblk m c 1 t)) (k0_pay5 (iblk m c 3 t)) (iblk m c 5 t) : Vec Ideal S1024x512 .bf16) (ix2 r l)
      = dGate (argP m c) (argB m c) (argC m c) (argW m c) 3072 (by decide) (ix2 ⟨t.val / 2 * 1024 + r.val, row_lt t r⟩ ⟨t.val % 2 * 512 + l.val, col_lt t l⟩) := by
  have hd := dm_at m c t r l
  rw [pay2_at, hd, pay5_at, blkB, blkGb]
  rfl

theorem final9 (c : Dev nD) : (dats m 0 c).arrAt 9 cfg0.N = dGate (argP m c) (argB m c) (argC m c) (argW m c) 3072 (by decide) :=
  (dats m 0 c).arrAt_eq_of_cover 9 (dGate (argP m c) (argB m c) (argC m c) (argW m c) 3072 (by decide))
    (fun t _ => by
      rw [flushed9, out9]
      refine funext fun (j : S1024x512.Idx) => ?_
      obtain ⟨r, l, rfl⟩ : ∃ (r : Fin 1024) (l : Fin 512), j = ix2 r l := ⟨j 0, j 1, eq_ix2 j⟩
      exact (tile9 m c t r l).trans (blkOut9 t (dGate (argP m c) (argB m c) (argC m c) (argW m c) 3072 (by decide)) r l).symm)
    fun (i : S2048x1024.Idx) => by
      have hN : cfg0.N = 4 := N_0
      have h0 : (i 0 : Nat) < 2048 := (i 0).isLt
      have h1 : (i 1 : Nat) < 1024 := (i 1).isLt
      refine ⟨⟨(i 0).val / 1024 * 2 + (i 1).val / 512, by omega⟩, flush0_9 _, ?_⟩
      generalize ht : (⟨(i 0).val / 1024 * 2 + (i 1).val / 512, _⟩ : Fin cfg0.N) = t
      have htv : t.val = (i 0).val / 1024 * 2 + (i 1).val / 512 := by rw [← ht]
      show i ∈ ((View.whole main_v6_3).slice (win0_9.rect t)).set
      rw [View.set_slice_whole, Rect.mem_set_unit]
      intro a
      match a with
      | ⟨0, _⟩ =>
        show win0_9.index t 0 * 1024 ≤ (i 0 : Nat) ∧ (i 0 : Nat) < win0_9.index t 0 * 1024 + 1024
        rw [(index_out t).2.2.2.1]; omega
      | ⟨1, _⟩ =>
        show win0_9.index t 1 * 512 ≤ (i 1 : Nat) ∧ (i 1 : Nat) < win0_9.index t 1 * 512 + 512
        rw [(index_out t).2.2.2.2]; omega

end Cert.MergeIdeal.Value

namespace Cert.MergeRefIdeal.Value

open Cert.MergeRefIdeal Cert.MergeRefIdeal.Gen Cert.MergeRefIdeal.Read Cert.Step Cert.Step.Merge

variable (p : S2048x4096.Idx → EReal) (a b ct : S2048x1024.Idx → EReal) (w : S1024x1024.Idx → EReal)

/-- A gate's index in the projections. -/
theorem idx_gate (i : S2048x1024.Idx) : idx_main_v0 i = ix2 (i 0) ⟨2048 + (i 1).val, (idx_main_v0 i 1).isLt⟩ := eq_ix2 _
theorem idx_gate' (i : S2048x1024.Idx) : idx_main_v1 i = ix2 (i 0) ⟨3072 + (i 1).val, (idx_main_v1 i 1).isLt⟩ := eq_ix2 _

theorem v7_at (i : S2048x1024.Idx) : val_main_v7 (F := Ideal) p i = sg (p (idx_main_v0 i)) := by
  simp only [val_main_v7_apply, val_main_v6_apply, val_main_v5_apply, val_main_v4_apply, val_main_v3_apply, val_main_v2_apply, val_main_v0_apply,
    val_main_cst_apply, val_main_cst_0_apply, Ideal.hostDivf_def, Ideal.addf_def, Ideal.hostNegf_def, Ideal.negf_def, Ideal.hostUnary_exp_def, Ideal.ofBits_def, bits_one, EReal.coe_one]
  rfl
theorem v17_at (i : S2048x1024.Idx) : val_main_v17 (F := Ideal) p i = sg (p (idx_main_v1 i)) := by
  simp only [val_main_v17_apply, val_main_v16_apply, val_main_v15_apply, val_main_v14_apply, val_main_v13_apply, val_main_v12_apply, val_main_v1_apply,
    val_main_cst_2_apply, val_main_cst_3_apply, Ideal.hostDivf_def, Ideal.addf_def, Ideal.hostNegf_def, Ideal.negf_def, Ideal.hostUnary_exp_def, Ideal.ofBits_def, bits_one, EReal.coe_one]
  rfl
theorem v24_at (i : S2048x1024.Idx) : val_main_v24 (F := Ideal) w ct i = dm ct w (i 0) (i 1) :=
  (val_main_v24_apply w ct i).trans (Finset.sum_congr rfl fun k _ => congrArg₂ (· * ·) (congrArg ct (eq_ix2 _)) (congrArg w (eq_ix2 _)))

theorem v31_at : val_main_v31 (F := Ideal) p w ct = dBranch p ct w 2048 (by decide) := funext fun i => by
  simp only [val_main_v31_apply, val_main_v28_apply, v7_at, v24_at, Ideal.truncf_def, Ideal.mulf_def]
  rw [mul_comm, idx_gate]
  rfl
theorem v32_at : val_main_v32 (F := Ideal) p w ct = dBranch p ct w 3072 (by decide) := funext fun i => by
  simp only [val_main_v32_apply, val_main_v25_apply, v17_at, v24_at, Ideal.truncf_def, Ideal.mulf_def]
  rw [mul_comm, idx_gate']
  rfl
theorem v33_at : val_main_v33 (F := Ideal) p a w ct = dGate p a ct w 2048 (by decide) := funext fun i => by
  simp only [val_main_v33_apply, val_main_v30_apply, val_main_v29_apply, val_main_v10_apply, val_main_v9_apply, val_main_v8_apply, val_main_cst_1_apply, v7_at, v24_at,
    Ideal.truncf_def, Ideal.mulf_def, Ideal.subf_def, Ideal.ofBits_def, bits_one, EReal.coe_one]
  rw [← mul_assoc, idx_gate]
  rfl
theorem v34_at : val_main_v34 (F := Ideal) p b w ct = dGate p b ct w 3072 (by decide) := funext fun i => by
  simp only [val_main_v34_apply, val_main_v27_apply, val_main_v26_apply, val_main_v20_apply, val_main_v19_apply, val_main_v18_apply, val_main_cst_4_apply, v17_at, v24_at,
    Ideal.truncf_def, Ideal.mulf_def, Ideal.subf_def, Ideal.ofBits_def, bits_one, EReal.coe_one]
  rw [← mul_assoc, idx_gate']
  rfl

end Cert.MergeRefIdeal.Value

namespace Cert.Step.Merge

open Cert.MergeIdeal.Value (argP argA argB argW argC)
open Cert.MergeRefIdeal.Value Cert.MergeRefIdeal.Read

theorem claim : algebraic_MergeIdeal_MergeRefIdeal := fun m ρ m' ρ' _ hag => by
  have r0 := fun c => v31_at (argP m c) (argC m c) (argW m c)
  have r1 := fun c => v32_at (argP m c) (argC m c) (argW m c)
  have r2 := fun c => v33_at (argP m c) (argA m c) (argC m c) (argW m c)
  have r3 := fun c => v34_at (argP m c) (argB m c) (argC m c) (argW m c)
  refine ⟨fun c => dBranch (argP m c) (argC m c) (argW m c) 2048 (by decide), fun c => dBranch (argP m c) (argC m c) (argW m c) 3072 (by decide),
    fun c => dGate (argP m c) (argA m c) (argC m c) (argW m c) 2048 (by decide), fun c => dGate (argP m c) (argB m c) (argC m c) (argW m c) 3072 (by decide),
    (θ_run _ _ _).mono (fun _ h c => ⟨(h c).1.trans (Cert.MergeIdeal.Value.final6 m c), (h c).2.1.trans (Cert.MergeIdeal.Value.final7 m c),
      (h c).2.2.1.trans (Cert.MergeIdeal.Value.final8 m c), (h c).2.2.2.1.trans (Cert.MergeIdeal.Value.final9 m c), (h c).2.2.2.2⟩) (Cert.MergeIdeal.Value.run_blocks m ρ),
    (θ_run _ _ _).mono (fun _ h c => ⟨(h c).1.trans ((val_main_v31_eq _ _ _).trans ?_), (h c).2.1.trans ((val_main_v32_eq _ _ _).trans ?_),
      (h c).2.2.1.trans ((val_main_v33_eq _ _ _ _).trans ?_), (h c).2.2.2.1.trans ((val_main_v34_eq _ _ _ _).trans ?_), (h c).2.2.2.2⟩) (run m' ρ')⟩
  · rw [(hag c).1, (hag c).2.2.2.1, (hag c).2.2.2.2]; exact r0 c
  · rw [(hag c).1, (hag c).2.2.2.1, (hag c).2.2.2.2]; exact r1 c
  · rw [(hag c).1, (hag c).2.1, (hag c).2.2.2.1, (hag c).2.2.2.2]; exact r2 c
  · rw [(hag c).1, (hag c).2.2.1, (hag c).2.2.2.1, (hag c).2.2.2.2]; exact r3 c

end Cert.Step.Merge

end
-- ==== Proof.Dh1.lean ====
/-
  The gradient of a layer's first normalisation, its cotangent collected from the residual, the embedding's gate and the two
  halves of the up product: what the row-blocked kernel leaves in its four result arrays is what the reference's
  differentiation gives, at finite arguments.
-/
module

public import proofs.«01_k».proof.Proof.Ln2
public import proofs.«01_k».proof.Proof.Gen.Dh1Ideal.Value
public import proofs.«01_k».proof.Proof.Gen.Dh1RefIdeal.Read
public import proofs.«01_k».proof.Proof.Gen.Dh1RefIdeal.Run

@[expose] public section

set_option maxRecDepth 16384

noncomputable section

open Idealize.ShloMosaic Idealize.ShloMosaic.TcCoe Idealize.SL.Sem
open Idealize.ShloMosaic.Pipeline (Dat)

namespace Cert.Step.Dh1

/-- Reals among the extended reals. -/
def IsReal (x : EReal) : Prop := ∃ r : ℝ, x = (r : EReal)
theorem IsReal.add {x y : EReal} (hx : IsReal x) (hy : IsReal y) : IsReal (x + y) := by
  obtain ⟨a, rfl⟩ := hx
  obtain ⟨b, rfl⟩ := hy
  exact ⟨a + b, (EReal.coe_add a b).symm⟩
theorem IsReal.mul {x y : EReal} (hx : IsReal x) (hy : IsReal y) : IsReal (x * y) := by
  obtain ⟨a, rfl⟩ := hx
  obtain ⟨b, rfl⟩ := hy
  exact ⟨a * b, (EReal.coe_mul a b).symm⟩
theorem arrange (a s x₀ x₁ x₂ x₃ y₀ y₁ y₂ y₃ : EReal) :
    a + s + x₀ + y₀ + x₁ + y₁ + x₂ + y₂ + x₃ + y₃ = s + a + ((x₀ + x₁ + x₂ + x₃) + (y₀ + y₁ + y₂ + y₃)) := by abel
theorem IsReal.sum {ι : Type*} (s : Finset ι) {f : ι → EReal} (hf : ∀ k, IsReal (f k)) : IsReal (∑ k ∈ s, f k) := by
  choose g hg using hf
  exact ⟨∑ k ∈ s, g k, by simp only [hg, sum_coe]⟩

end Cert.Step.Dh1

namespace Cert.Dh1Ideal.Value

open Cert.Dh1Ideal Cert.Dh1Ideal.Gen Cert.Step Cert.Step.Dh1

variable (m : (ℓ : Loc nD τ sig) → Buf (Elt Ideal) ℓ) (ρ : Dev nD → PrngReg)

section
variable (x0 : Vec Ideal S256x1024 .f32) (x1 : Vec Ideal S256x1024 .bf16) (x2 : Vec Ideal S8x128x1024 .bf16) (x3 x4 : Vec Ideal S4x256x704 .bf16)
  (x5 : Vec Ideal S8x704x1024 .bf16)

/-- Column slab 0 of a half. -/
def slab0 (x : Vec Ideal S4x256x704 .bf16) : Vec Ideal S1x256x704 .bf16 :=
  View.ld x (Rect.unit (s := S4x256x704) ![0, 0, 0] S1x256x704.size inb_S4x256x704_S1x256x704_0_0_0)
def slab1 (x : Vec Ideal S4x256x704 .bf16) : Vec Ideal S1x256x704 .bf16 :=
  View.ld x (Rect.unit (s := S4x256x704) ![1, 0, 0] S1x256x704.size inb_S4x256x704_S1x256x704_1_0_0)
def slab2 (x : Vec Ideal S4x256x704 .bf16) : Vec Ideal S1x256x704 .bf16 :=
  View.ld x (Rect.unit (s := S4x256x704) ![2, 0, 0] S1x256x704.size inb_S4x256x704_S1x256x704_2_0_0)
def slab3 (x : Vec Ideal S4x256x704 .bf16) : Vec Ideal S1x256x704 .bf16 :=
  View.ld x (Rect.unit (s := S4x256x704) ![3, 0, 0] S1x256x704.size inb_S4x256x704_S1x256x704_3_0_0)
/-- The weight's rows for a slab. -/
def rows0 (x : Vec Ideal S8x704x1024 .bf16) : Vec Ideal S1x704x1024 .bf16 :=
  View.ld x (Rect.unit (s := S8x704x1024) ![0, 0, 0] S1x704x1024.size inb_S8x704x1024_S1x704x1024_0_0_0)
def rows1 (x : Vec Ideal S8x704x1024 .bf16) : Vec Ideal S1x704x1024 .bf16 :=
  View.ld x (Rect.unit (s := S8x704x1024) ![1, 0, 0] S1x704x1024.size inb_S8x704x1024_S1x704x1024_1_0_0)
def rows2 (x : Vec Ideal S8x704x1024 .bf16) : Vec Ideal S1x704x1024 .bf16 :=
  View.ld x (Rect.unit (s := S8x704x1024) ![2, 0, 0] S1x704x1024.size inb_S8x704x1024_S1x704x1024_2_0_0)
def rows3 (x : Vec Ideal S8x704x1024 .bf16) : Vec Ideal S1x704x1024 .bf16 :=
  View.ld x (Rect.unit (s := S8x704x1024) ![3, 0, 0] S1x704x1024.size inb_S8x704x1024_S1x704x1024_3_0_0)
def rows4 (x : Vec Ideal S8x704x1024 .bf16) : Vec Ideal S1x704x1024 .bf16 :=
  View.ld x (Rect.unit (s := S8x704x1024) ![4, 0, 0] S1x704x1024.size inb_S8x704x1024_S1x704x1024_4_0_0)
def rows5 (x : Vec Ideal S8x704x1024 .bf16) : Vec Ideal S1x704x1024 .bf16 :=
  View.ld x (Rect.unit (s := S8x704x1024) ![5, 0, 0] S1x704x1024.size inb_S8x704x1024_S1x704x1024_5_0_0)
def rows6 (x : Vec Ideal S8x704x1024 .bf16) : Vec Ideal S1x704x1024 .bf16 :=
  View.ld x (Rect.unit (s := S8x704x1024) ![6, 0, 0] S1x704x1024.size inb_S8x704x1024_S1x704x1024_6_0_0)
def rows7 (x : Vec Ideal S8x704x1024 .bf16) : Vec Ideal S1x704x1024 .bf16 :=
  View.ld x (Rect.unit (s := S8x704x1024) ![7, 0, 0] S1x704x1024.size inb_S8x704x1024_S1x704x1024_7_0_0)

/-- The block's cotangent before its last slab, and with it. -/
def most : FVec Ideal S256x1024 .f32 :=
  k0_pay9 (k0_pay7 x0 x1 x2 (slab0 x3) (rows0 x5) (slab0 x4) (rows4 x5)) (k0_pay8 (slab1 x3)) (rows1 x5) (slab1 x4) (rows5 x5)
    (slab2 x3) (rows2 x5) (slab2 x4) (rows6 x5) (slab3 x3) (rows3 x5)
def cot : FVec Ideal S256x1024 .f32 := k0_pay10 (most x0 x1 x2 x3 x4 x5) (slab3 x4) (rows7 x5)

theorem slab0_at (x : Vec Ideal S4x256x704 .bf16) (r : Fin 256) (k : Fin 704) : slab0 x (ix3 0 r k) = x (ix3 0 r k) :=
  congrArg x (funext fun a => Fin.ext (match a with
    | ⟨0, _⟩ => by show 0 + 1 * 0 = 0; omega
    | ⟨1, _⟩ => by show 0 + 1 * r.val = r.val; omega
    | ⟨2, _⟩ => by show 0 + 1 * k.val = k.val; omega))
theorem slab1_at (x : Vec Ideal S4x256x704 .bf16) (r : Fin 256) (k : Fin 704) : slab1 x (ix3 0 r k) = x (ix3 1 r k) :=
  congrArg x (funext fun a => Fin.ext (match a with
    | ⟨0, _⟩ => by show 1 + 1 * 0 = 1; omega
    | ⟨1, _⟩ => by show 0 + 1 * r.val = r.val; omega
    | ⟨2, _⟩ => by show 0 + 1 * k.val = k.val; omega))
theorem slab2_at (x : Vec Ideal S4x256x704 .bf16) (r : Fin 256) (k : Fin 704) : slab2 x (ix3 0 r k) = x (ix3 2 r k) :=
  congrArg x (funext fun a => Fin.ext (match a with
    | ⟨0, _⟩ => by show 2 + 1 * 0 = 2; omega
    | ⟨1, _⟩ => by show 0 + 1 * r.val = r.val; omega
    | ⟨2, _⟩ => by show 0 + 1 * k.val = k.val; omega))
theorem slab3_at (x : Vec Ideal S4x256x704 .bf16) (r : Fin 256) (k : Fin 704) : slab3 x (ix3 0 r k) = x (ix3 3 r k) :=
  congrArg x (funext fun a => Fin.ext (match a with
    | ⟨0, _⟩ => by show 3 + 1 * 0 = 3; omega
    | ⟨1, _⟩ => by show 0 + 1 * r.val = r.val; omega
    | ⟨2, _⟩ => by show 0 + 1 * k.val = k.val; omega))
theorem rows0_at (x : Vec Ideal S8x704x1024 .bf16) (k : Fin 704) (l : Fin 1024) : rows0 x (ix3 0 k l) = x (ix3 0 k l) :=
  congrArg x (funext fun a => Fin.ext (match a with
    | ⟨0, _⟩ => by show 0 + 1 * 0 = 0; omega
    | ⟨1, _⟩ => by show 0 + 1 * k.val = k.val; omega
    | ⟨2, _⟩ => by show 0 + 1 * l.val = l.val; omega))
theorem rows1_at (x : Vec Ideal S8x704x1024 .bf16) (k : Fin 704) (l : Fin 1024) : rows1 x (ix3 0 k l) = x (ix3 1 k l) :=
  congrArg x (funext fun a => Fin.ext (match a with
    | ⟨0, _⟩ => by show 1 + 1 * 0 = 1; omega
    | ⟨1, _⟩ => by show 0 + 1 * k.val = k.val; omega
    | ⟨2, _⟩ => by show 0 + 1 * l.val = l.val; omega))
theorem rows2_at (x : Vec Ideal S8x704x1024 .bf16) (k : Fin 704) (l : Fin 1024) : rows2 x (ix3 0 k l) = x (ix3 2 k l) :=
  congrArg x (funext fun a => Fin.ext (match a with
    | ⟨0, _⟩ => by show 2 + 1 * 0 = 2; omega
    | ⟨1, _⟩ => by show 0 + 1 * k.val = k.val; omega
    | ⟨2, _⟩ => by show 0 + 1 * l.val = l.val; omega))
theorem rows3_at (x : Vec Ideal S8x704x1024 .bf16) (k : Fin 704) (l : Fin 1024) : rows3 x (ix3 0 k l) = x (ix3 3 k l) :=
  congrArg x (funext fun a => Fin.ext (match a with
    | ⟨0, _⟩ => by show 3 + 1 * 0 = 3; omega
    | ⟨1, _⟩ => by show 0 + 1 * k.val = k.val; omega
    | ⟨2, _⟩ => by show 0 + 1 * l.val = l.val; omega))
theorem rows4_at (x : Vec Ideal S8x704x1024 .bf16) (k : Fin 704) (l : Fin 1024) : rows4 x (ix3 0 k l) = x (ix3 4 k l) :=
  congrArg x (funext fun a => Fin.ext (match a with
    | ⟨0, _⟩ => by show 4 + 1 * 0 = 4; omega
    | ⟨1, _⟩ => by show 0 + 1 * k.val = k.val; omega
    | ⟨2, _⟩ => by show 0 + 1 * l.val = l.val; omega))
theorem rows5_at (x : Vec Ideal S8x704x1024 .bf16) (k : Fin 704) (l : Fin 1024) : rows5 x (ix3 0 k l) = x (ix3 5 k l) :=
  congrArg x (funext fun a => Fin.ext (match a with
    | ⟨0, _⟩ => by show 5 + 1 * 0 = 5; omega
    | ⟨1, _⟩ => by show 0 + 1 * k.val = k.val; omega
    | ⟨2, _⟩ => by show 0 + 1 * l.val = l.val; omega))
theorem rows6_at (x : Vec Ideal S8x704x1024 .bf16) (k : Fin 704) (l : Fin 1024) : rows6 x (ix3 0 k l) = x (ix3 6 k l) :=
  congrArg x (funext fun a => Fin.ext (match a with
    | ⟨0, _⟩ => by show 6 + 1 * 0 = 6; omega
    | ⟨1, _⟩ => by show 0 + 1 * k.val = k.val; omega
    | ⟨2, _⟩ => by show 0 + 1 * l.val = l.val; omega))
theorem rows7_at (x : Vec Ideal S8x704x1024 .bf16) (k : Fin 704) (l : Fin 1024) : rows7 x (ix3 0 k l) = x (ix3 7 k l) :=
  congrArg x (funext fun a => Fin.ext (match a with
    | ⟨0, _⟩ => by show 7 + 1 * 0 = 7; omega
    | ⟨1, _⟩ => by show 0 + 1 * k.val = k.val; omega
    | ⟨2, _⟩ => by show 0 + 1 * l.val = l.val; omega))

theorem pay7_at (a0 b0 : Vec Ideal S1x256x704 .bf16) (w0 w4 : Vec Ideal S1x704x1024 .bf16) (r : Fin 256) (l : Fin 1024) :
    k0_pay7 x0 x1 x2 a0 w0 b0 w4 (ix2 r l) = Ideal.ofBits .f32 0x3FD744FD#32 * x0 (ix2 r l) + (∑ k : Fin 1024, x1 (ix2 r k) * x2 (ix3 ⟨l.val / 128, by omega⟩ ⟨l.val % 128, by omega⟩ k))
      + (∑ k : Fin 704, a0 (ix3 0 r k) * w0 (ix3 0 k l)) + (∑ k : Fin 704, b0 (ix3 0 r k) * w4 (ix3 0 k l)) := by
  pointwise [k0_pay7]

theorem pay9_at (d : FVec Ideal S256x1024 .f32) (a1 b1 a2 b2 a3 : Vec Ideal S1x256x704 .bf16) (w1 w5 w2 w6 w3 : Vec Ideal S1x704x1024 .bf16) (r : Fin 256) (l : Fin 1024) :
    k0_pay9 d (k0_pay8 a1) w1 b1 w5 a2 w2 b2 w6 a3 w3 (ix2 r l) = d (ix2 r l)
      + (∑ k : Fin 704, a1 (ix3 0 r k) * w1 (ix3 0 k l)) + (∑ k : Fin 704, b1 (ix3 0 r k) * w5 (ix3 0 k l))
      + (∑ k : Fin 704, a2 (ix3 0 r k) * w2 (ix3 0 k l)) + (∑ k : Fin 704, b2 (ix3 0 r k) * w6 (ix3 0 k l))
      + (∑ k : Fin 704, a3 (ix3 0 r k) * w3 (ix3 0 k l)) := by
  pointwise [k0_pay9, k0_pay8]

theorem pay10_at (d : FVec Ideal S256x1024 .f32) (b3 : Vec Ideal S1x256x704 .bf16) (w7 : Vec Ideal S1x704x1024 .bf16) (r : Fin 256) (l : Fin 1024) :
    k0_pay10 d b3 w7 (ix2 r l) = d (ix2 r l) + (∑ k : Fin 704, b3 (ix3 0 r k) * w7 (ix3 0 k l)) := by
  pointwise [k0_pay10]

theorem cot_at (r : Fin 256) (l : Fin 1024) : cot x0 x1 x2 x3 x4 x5 (ix2 r l) = Ideal.ofBits .f32 0x3FD744FD#32 * x0 (ix2 r l) + (∑ k : Fin 1024, x1 (ix2 r k) * x2 (ix3 ⟨l.val / 128, by omega⟩ ⟨l.val % 128, by omega⟩ k))
      + (∑ k : Fin 704, x3 (ix3 0 r k) * x5 (ix3 0 k l))
      + (∑ k : Fin 704, x4 (ix3 0 r k) * x5 (ix3 4 k l))
      + (∑ k : Fin 704, x3 (ix3 1 r k) * x5 (ix3 1 k l))
      + (∑ k : Fin 704, x4 (ix3 1 r k) * x5 (ix3 5 k l))
      + (∑ k : Fin 704, x3 (ix3 2 r k) * x5 (ix3 2 k l))
      + (∑ k : Fin 704, x4 (ix3 2 r k) * x5 (ix3 6 k l))
      + (∑ k : Fin 704, x3 (ix3 3 r k) * x5 (ix3 3 k l))
      + (∑ k : Fin 704, x4 (ix3 3 r k) * x5 (ix3 7 k l)) := by
  rw [cot, pay10_at, most, pay9_at, pay7_at]
  simp only [slab0_at, slab1_at, slab2_at, slab3_at, rows0_at, rows1_at, rows2_at, rows3_at, rows4_at, rows5_at, rows6_at, rows7_at]

end

/-- What a point leaves in the four result blocks: the first over zeros, the later ones over what the point before left. -/
theorem outs_A (c : Dev nD) (t : Fin cfg0.N) (h0 : t.val % 8 = 0) :
    outsAt0 m c t.val t.isLt = (k0_pay1 (k0_pay14 (most (iblk m c 0 t) (iblk m c 1 t) (iblk m c 2 t) (iblk m c 3 t) (iblk m c 4 t) (iblk m c 5 t)) (slab3 (iblk m c 4 t)) (rows7 (iblk m c 5 t)) (iblk m c 6 t) (iblk m c 7 t)) (k0_pay15 (iblk m c 6 t)), k0_pay2 (k0_pay14 (most (iblk m c 0 t) (iblk m c 1 t) (iblk m c 2 t) (iblk m c 3 t) (iblk m c 4 t) (iblk m c 5 t)) (slab3 (iblk m c 4 t)) (rows7 (iblk m c 5 t)) (iblk m c 6 t) (iblk m c 7 t)) (k0_pay15 (iblk m c 6 t)),
      k0_pay3 (F := Ideal) (cot (iblk m c 0 t) (iblk m c 1 t) (iblk m c 2 t) (iblk m c 3 t) (iblk m c 4 t) (iblk m c 5 t)) (k0_pay13 (iblk m c 6 t)) (k0_pay5 (F := Ideal)), k0_pay4 (F := Ideal) (cot (iblk m c 0 t) (iblk m c 1 t) (iblk m c 2 t) (iblk m c 3 t) (iblk m c 4 t) (iblk m c 5 t)) (k0_pay6 (F := Ideal))) := by
  rw [outsAt0_A m c t h0]
  refine Prod.ext ?_ (Prod.ext ?_ (Prod.ext ?_ ?_)) <;> dsimp only [cot, most, slab0, slab1, slab2, slab3, rows0, rows1, rows2, rows3, rows4, rows5, rows6, rows7]
  · unfold out0_A_8
    rw [View.read_writes_eq_canon _ _ _ (cover0_A_8 _ _ _ _ _ _ _ _ _ _ _ _ _ _ _ _ _ _ _ _ _ _ _ _ _ _ _ _ _ _ _ _ _ _ _)]
    unfold kernelRun0_A
    dsimp only
    sl_unfold_words
    rw [View.canon_unit_zero hz2]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S256x1024) hz2, View.ld_unit_zero (S := S1x1024) hz2, View.ld_unit_zero (S := S8x128x1024) hz3]
  · unfold out0_A_9
    rw [View.read_writes_eq_canon _ _ _ (cover0_A_9 _ _ _ _ _ _ _ _ _ _ _ _ _ _ _ _ _ _ _ _ _ _ _ _ _ _ _ _ _ _ _ _ _ _ _)]
    unfold kernelRun0_A
    dsimp only
    sl_unfold_words
    rw [View.canon_unit_zero hz2]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S256x1024) hz2, View.ld_unit_zero (S := S1x1024) hz2, View.ld_unit_zero (S := S8x128x1024) hz3]
  · unfold out0_A_10
    rw [View.read_writes_eq_canon _ _ _ (cover0_A_10 _ _ _ _ _ _ _ _ _ _ _ _ _ _ _ _ _ _ _ _ _ _ _ _ _ _ _ _ _ _ _ _ _ _ _)]
    unfold kernelRun0_A
    dsimp only
    sl_unfold_words
    rw [View.canon_cons_unit_zero (S := S1x1024) hz2, View.readCov_unit_zero (S := S1x1024) _ hz2]
    simp only [View.readAt_eq_ld, (hs0_0 t).read_unread, (hs0_1 t).read_unread, (hs0_2 t).read_unread, (hs0_3 t).read_unread, (hs0_4 t).read_unread, (hs0_5 t).read_unread, (hs0_6 t).read_unread, View.ld_unit_zero (S := S256x1024) hz2, View.ld_unit_zero (S := S1x1024) hz2, View.ld_unit_zero (S := S8x128x1024) hz3]
  · unfold out0_A_11
    rw [View.read_writes_eq_canon _ _ _ (cover0_A_11 _ _ _ _ _ _ _ _ _ _ _ _ _ _ _ _ _ _ _ _ _ _ _ _ _ _ _ _ _ _ _ _ _ _ _)]
    unfold kernelRun0_A
    dsimp only
    sl_unfold_words
    rw [View.canon_cons_unit_zero (S := S1x1024) hz2, View.readCov_unit_zero (S := S1x1024) _ hz2]
    simp only [View.readAt_eq_ld, (hs0_0 t).read_unread, (hs0_1 t).read_unread, (hs0_2 t).read_unread, (hs0_3 t).read_unread, (hs0_4 t).read_unread, (hs0_5 t).read_unread, View.ld_unit_zero (S := S256x1024) hz2, View.ld_unit_zero (S := S1x1024) hz2, View.ld_unit_zero (S := S8x128x1024) hz3]

theorem outs_B (c : Dev nD) (t : Fin cfg0.N) (h0 : ¬t.val % 8 = 0) :
    outsAt0 m c t.val t.isLt = (k0_pay1 (k0_pay14 (most (iblk m c 0 t) (iblk m c 1 t) (iblk m c 2 t) (iblk m c 3 t) (iblk m c 4 t) (iblk m c 5 t)) (slab3 (iblk m c 4 t)) (rows7 (iblk m c 5 t)) (iblk m c 6 t) (iblk m c 7 t)) (k0_pay15 (iblk m c 6 t)), k0_pay2 (k0_pay14 (most (iblk m c 0 t) (iblk m c 1 t) (iblk m c 2 t) (iblk m c 3 t) (iblk m c 4 t) (iblk m c 5 t)) (slab3 (iblk m c 4 t)) (rows7 (iblk m c 5 t)) (iblk m c 6 t) (iblk m c 7 t)) (k0_pay15 (iblk m c 6 t)),
      k0_pay3 (F := Ideal) (cot (iblk m c 0 t) (iblk m c 1 t) (iblk m c 2 t) (iblk m c 3 t) (iblk m c 4 t) (iblk m c 5 t)) (k0_pay13 (iblk m c 6 t)) (outsAt0 m c (t.val - 1) (Nat.lt_of_le_of_lt (Nat.sub_le _ _) t.isLt)).2.2.1, k0_pay4 (F := Ideal) (cot (iblk m c 0 t) (iblk m c 1 t) (iblk m c 2 t) (iblk m c 3 t) (iblk m c 4 t) (iblk m c 5 t)) (outsAt0 m c (t.val - 1) (Nat.lt_of_le_of_lt (Nat.sub_le _ _) t.isLt)).2.2.2) := by
  rw [outsAt0_B m c t h0]
  refine Prod.ext ?_ (Prod.ext ?_ (Prod.ext ?_ ?_)) <;> dsimp only [cot, most, slab0, slab1, slab2, slab3, rows0, rows1, rows2, rows3, rows4, rows5, rows6, rows7]
  · unfold out0_B_8
    rw [View.read_writes_eq_canon _ _ _ (cover0_B_8 _ _ _ _ _ _ _ _ _ _ _ _ _ _ _ _ _ _ _ _ _ _ _ _ _ _ _ _ _ _ _ _ _ _ _ _ _)]
    unfold kernelRun0_B
    dsimp only
    sl_unfold_words
    rw [View.canon_unit_zero hz2]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S256x1024) hz2, View.ld_unit_zero (S := S1x1024) hz2, View.ld_unit_zero (S := S8x128x1024) hz3]
  · unfold out0_B_9
    rw [View.read_writes_eq_canon _ _ _ (cover0_B_9 _ _ _ _ _ _ _ _ _ _ _ _ _ _ _ _ _ _ _ _ _ _ _ _ _ _ _ _ _ _ _ _ _ _ _ _ _)]
    unfold kernelRun0_B
    dsimp only
    sl_unfold_words
    rw [View.canon_unit_zero hz2]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S256x1024) hz2, View.ld_unit_zero (S := S1x1024) hz2, View.ld_unit_zero (S := S8x128x1024) hz3]
  · unfold out0_B_10
    rw [View.read_writes_eq_canon _ _ _ (cover0_B_10 _ _ _ _ _ _ _ _ _ _ _ _ _ _ _ _ _ _ _ _ _ _ _ _ _ _ _ _ _ _ _ _ _ _ _ _ _)]
    unfold kernelRun0_B
    dsimp only
    sl_unfold_words
    rw [View.canon_unit_zero hz2]
    simp only [View.readAt_eq_ld, (hs0_0 t).read_unread, (hs0_1 t).read_unread, (hs0_2 t).read_unread, (hs0_3 t).read_unread, (hs0_4 t).read_unread, (hs0_5 t).read_unread, (hs0_6 t).read_unread, (hs0_10 t).read_unread, View.ld_unit_zero (S := S256x1024) hz2, View.ld_unit_zero (S := S1x1024) hz2, View.ld_unit_zero (S := S8x128x1024) hz3]
  · unfold out0_B_11
    rw [View.read_writes_eq_canon _ _ _ (cover0_B_11 _ _ _ _ _ _ _ _ _ _ _ _ _ _ _ _ _ _ _ _ _ _ _ _ _ _ _ _ _ _ _ _ _ _ _ _ _)]
    unfold kernelRun0_B
    dsimp only
    sl_unfold_words
    rw [View.canon_unit_zero hz2]
    simp only [View.readAt_eq_ld, (hs0_0 t).read_unread, (hs0_1 t).read_unread, (hs0_2 t).read_unread, (hs0_3 t).read_unread, (hs0_4 t).read_unread, (hs0_5 t).read_unread, (hs0_11 t).read_unread, View.ld_unit_zero (S := S256x1024) hz2, View.ld_unit_zero (S := S1x1024) hz2, View.ld_unit_zero (S := S8x128x1024) hz3]

/-! The normalisation's payloads at an index, of blocks of reals. -/
section reals
variable (y : Vec Ideal S256x1024 .f32) (g : Vec Ideal S1x1024 .f32) (C Z : Fin 256 → Fin 1024 → ℝ) (G : Fin 1024 → ℝ)
  (d : FVec Ideal S256x1024 .f32) (b3 : Vec Ideal S1x256x704 .bf16) (w7 : Vec Ideal S1x704x1024 .bf16)
  (hx : ∀ r l, k0_pay10 d b3 w7 (ix2 r l) = ((C r l : ℝ) : EReal)) (hy : ∀ r l, y (ix2 r l) = ((Z r l : ℝ) : EReal)) (hg : ∀ l, g (ix2 0 l) = ((G l : ℝ) : EReal))

include hy in
theorem pay11_at (r : Fin 256) (l : Fin 1024) : k0_pay11 y (ix2 r l) = ((ctr (Z r) l : ℝ) : EReal) := by
  pointwise [k0_pay11]
  simp only [bits_1024, hy, sum_coe, div_1024, ← EReal.coe_sub]
  rfl

include hy in
theorem pay12_at (r : Fin 256) : k0_pay12 y (ix2 r 0) = ((rs (Z r) : ℝ) : EReal) := by
  have h5 := pay11_at y Z hy
  generalize hw : k0_pay11 y = w at h5
  unfold k0_pay12
  rw [hw]
  pointwise []
  simp only [bits_1024, bits_eps, h5, ← EReal.coe_mul, sum_coe, div_1024, ← EReal.coe_add]
  exact rsqrt_vr (Z r)

include hy in
theorem pay13_at (r : Fin 256) (l : Fin 1024) : k0_pay13 y (ix2 r l) = ((hat (Z r) l : ℝ) : EReal) := by
  have h5 := pay11_at y Z hy
  have h6 := pay12_at y Z hy
  unfold k0_pay13
  generalize k0_pay11 y = w at h5
  generalize k0_pay12 y = u at h6
  pointwise []
  rw [h5, h6, ← EReal.coe_mul]
  rfl

include hx hy hg in
theorem row_at (r : Fin 256) (l : Fin 1024) :
    k0_pay1 (k0_pay14 d b3 w7 y g) (k0_pay15 y) (ix2 r l) = ((dnorm (Z r) (fun k => C r k * G k) l : ℝ) : EReal) := by
  have h6 := pay12_at y Z hy
  have h7 := pay13_at y Z hy
  unfold k0_pay1 k0_pay14 k0_pay15
  generalize k0_pay12 y = u at h6
  generalize k0_pay13 y = w at h7
  generalize k0_pay10 d b3 w7 = x at hx
  pointwise []
  simp only [bits_1024, hx, hg, h6, h7, ← EReal.coe_mul, sum_coe, div_1024, ← EReal.coe_sub]
  rfl

include hx hy hg in
theorem rowb_at (r : Fin 256) (l : Fin 1024) :
    k0_pay2 (k0_pay14 d b3 w7 y g) (k0_pay15 y) (ix2 r l) = ((dnorm (Z r) (fun k => C r k * G k) l : ℝ) : EReal) :=
  row_at y g C Z G d b3 w7 hx hy hg r l

end reals

theorem gain_at (x w : FVec Ideal S256x1024 .f32) (C W : Fin 256 → Fin 1024 → ℝ) (hx : ∀ r l, x (ix2 r l) = ((C r l : ℝ) : EReal))
    (hw : ∀ r l, w (ix2 r l) = ((W r l : ℝ) : EReal)) (a : Vec Ideal S1x1024 .f32) (l : Fin 1024) :
    k0_pay3 x w a (ix2 0 l) = a (ix2 0 l) + ((∑ r, C r l * W r l : ℝ) : EReal) := by
  pointwise [k0_pay3]
  simp only [hx, hw, ← EReal.coe_mul, sum_coe]

theorem bias_at (x : FVec Ideal S256x1024 .f32) (C : Fin 256 → Fin 1024 → ℝ) (hx : ∀ r l, x (ix2 r l) = ((C r l : ℝ) : EReal))
    (a : Vec Ideal S1x1024 .f32) (l : Fin 1024) : k0_pay4 x a (ix2 0 l) = a (ix2 0 l) + ((∑ r, C r l : ℝ) : EReal) := by
  pointwise [k0_pay4]
  simp only [hx, sum_coe]

/-- The arguments as arrays. -/
abbrev argH (c : Dev nD) : S2048x1024.Idx → EReal := m ((c : Thread nD τ).loc main_arg0)
abbrev argY (c : Dev nD) : S2048x1024.Idx → EReal := m ((c : Thread nD τ).loc main_arg1)
abbrev argG (c : Dev nD) : S1024.Idx → EReal := m ((c : Thread nD τ).loc main_arg2)
abbrev argP (c : Dev nD) : S1024x1024.Idx → EReal := m ((c : Thread nD τ).loc main_arg4)
abbrev argU (c : Dev nD) : S1024x5632.Idx → EReal := m ((c : Thread nD τ).loc main_arg5)
abbrev argC (c : Dev nD) : S2048x1024.Idx → EReal := m ((c : Thread nD τ).loc main_arg6)
abbrev argD (c : Dev nD) : S2048x1024.Idx → EReal := m ((c : Thread nD τ).loc main_arg7)
abbrev argA (c : Dev nD) : S2048x2816.Idx → EReal := m ((c : Thread nD τ).loc main_arg8)
abbrev argB (c : Dev nD) : S2048x2816.Idx → EReal := m ((c : Thread nD τ).loc main_arg9)

/-- What the program prepares before the kernel: the sum the reference normalises, the halves' cotangents in column slabs, the weights in
    blocks of rows. -/
theorem V_sum (c : Dev nD) : V m c main_v2 = Cert.Dh1RefIdeal.Read.val_main_v2 (F := Ideal) (argH m c) (argY m c) := by
  unfold V hostOps0
  after_results <;> rfl
theorem V_gate (c : Dev nD) : V m c main_v3 = argD m c := by
  unfold V hostOps0
  after_results <;> rfl
theorem V_gain (c : Dev nD) (l : Fin 1024) : (V m c main_v15 : S1x1024.Idx → EReal) (ix2 0 l) = argG m c (ix1 l) := by
  have h : V m c main_v15 = shapeCast S1x1024 (argG m c) shapeCasts_S1024_S1x1024 := by
    unfold V hostOps0
    after_results <;> rfl
  rw [h]
  pointwise []
theorem V_gmat (c : Dev nD) (p : Fin 8) (q : Fin 128) (k : Fin 1024) :
    (V m c main_v5 : S8x128x1024.Idx → EReal) (ix3 p q k) = argP m c (ix2 ⟨p.val * 128 + q.val, by omega⟩ k) := by
  have h : V m c main_v5 = shapeCast S8x128x1024 (argP m c) shapeCasts_S1024x1024_S8x128x1024 := by
    unfold V hostOps0
    after_results <;> rfl
  rw [h]
  pointwise []
theorem V_up (c : Dev nD) (p : Fin 8) (k : Fin 704) (l : Fin 1024) :
    (V m c main_v14 : S8x704x1024.Idx → EReal) (ix3 p k l) = argU m c (ix2 l ⟨p.val * 704 + k.val, by omega⟩) := by
  have h : V m c main_v14 = shapeCast S8x704x1024 (transpose S5632x1024 [1, 0] (argU m c) transposes_S1024x5632_S5632x1024_1_0) shapeCasts_S5632x1024_S8x704x1024 := by
    unfold V hostOps0
    after_results <;> rfl
  rw [h]
  pointwise []
theorem V_left (c : Dev nD) (p : Fin 4) (r : Fin 2048) (k : Fin 704) :
    (V m c main_v8 : S4x2048x704.Idx → EReal) (ix3 p r k) = argA m c (ix2 r ⟨p.val * 704 + k.val, by omega⟩) := by
  have h : V m c main_v8 = transpose S4x2048x704 [1, 0, 2] (shapeCast S2048x4x704 (argA m c) shapeCasts_S2048x2816_S2048x4x704) transposes_S2048x4x704_S4x2048x704_1_0_2 := by
    unfold V hostOps0
    after_results <;> rfl
  rw [h]
  pointwise []
theorem V_right (c : Dev nD) (p : Fin 4) (r : Fin 2048) (k : Fin 704) :
    (V m c main_v11 : S4x2048x704.Idx → EReal) (ix3 p r k) = argB m c (ix2 r ⟨p.val * 704 + k.val, by omega⟩) := by
  have h : V m c main_v11 = transpose S4x2048x704 [1, 0, 2] (shapeCast S2048x4x704 (argB m c) shapeCasts_S2048x2816_S2048x4x704) transposes_S2048x4x704_S4x2048x704_1_0_2 := by
    unfold V hostOps0
    after_results <;> rfl
  rw [h]
  pointwise []

theorem row_lt (t : Fin cfg0.N) (r : Fin 256) : t.val * 256 + r.val < 2048 := by
  have := lt_of_lt_of_eq t.isLt (show cfg0.N = 8 from N_0); omega

theorem index_in : ∀ t : Fin grid0.N, (win0_0.index t 0 = t.val ∧ win0_0.index t 1 = 0) ∧ (win0_1.index t 0 = t.val ∧ win0_1.index t 1 = 0)
    ∧ (win0_6.index t 0 = t.val ∧ win0_6.index t 1 = 0) ∧ win0_7.index t 0 = 0 ∧ win0_7.index t 1 = 0 := by decide +kernel
theorem index_mat : ∀ t : Fin grid0.N, (win0_2.index t 0 = 0 ∧ win0_2.index t 1 = 0 ∧ win0_2.index t 2 = 0) ∧ (win0_3.index t 0 = 0 ∧ win0_3.index t 1 = t.val ∧ win0_3.index t 2 = 0)
    ∧ (win0_4.index t 0 = 0 ∧ win0_4.index t 1 = t.val ∧ win0_4.index t 2 = 0) ∧ win0_5.index t 0 = 0 ∧ win0_5.index t 1 = 0 ∧ win0_5.index t 2 = 0 := by decide +kernel
theorem index_out : ∀ t : Fin grid0.N, (win0_8.index t 0 = t.val ∧ win0_8.index t 1 = 0) ∧ win0_9.index t 0 = t.val ∧ win0_9.index t 1 = 0 := by decide +kernel

/-- The input blocks. -/
theorem blk0 (c : Dev nD) (t : Fin cfg0.N) (r : Fin 256) (l : Fin 1024) :
    (iblk m c 0 t : Vec Ideal S256x1024 .f32) (ix2 r l) = (argC m c : S2048x1024.Idx → EReal) (ix2 ⟨t.val * 256 + r.val, row_lt t r⟩ l) := by
  unfold iblk
  rw [View.read_apply]
  show (V m c main_arg6 : S2048x1024.Idx → EReal) _ = _
  rw [V_main_arg6]
  refine congrArg (argC m c : S2048x1024.Idx → EReal) (funext fun a => Fin.ext ?_)
  match a with
  | ⟨0, _⟩ => show win0_0.index t 0 * 256 + 1 * r.val = t.val * 256 + r.val; rw [(index_in t).1.1, Nat.one_mul]
  | ⟨1, _⟩ => show win0_0.index t 1 * 1024 + 1 * l.val = l.val; rw [(index_in t).1.2]; omega

theorem blk1 (c : Dev nD) (t : Fin cfg0.N) (r : Fin 256) (l : Fin 1024) :
    (iblk m c 1 t : Vec Ideal S256x1024 .bf16) (ix2 r l) = (argD m c : S2048x1024.Idx → EReal) (ix2 ⟨t.val * 256 + r.val, row_lt t r⟩ l) := by
  unfold iblk
  rw [View.read_apply]
  show (V m c main_v3 : S2048x1024.Idx → EReal) _ = _
  rw [V_gate]
  refine congrArg (argD m c : S2048x1024.Idx → EReal) (funext fun a => Fin.ext ?_)
  match a with
  | ⟨0, _⟩ => show win0_1.index t 0 * 256 + 1 * r.val = t.val * 256 + r.val; rw [(index_in t).2.1.1, Nat.one_mul]
  | ⟨1, _⟩ => show win0_1.index t 1 * 1024 + 1 * l.val = l.val; rw [(index_in t).2.1.2]; omega

theorem blk6 (c : Dev nD) (t : Fin cfg0.N) (r : Fin 256) (l : Fin 1024) :
    (iblk m c 6 t : Vec Ideal S256x1024 .f32) (ix2 r l) = (Cert.Dh1RefIdeal.Read.val_main_v2 (F := Ideal) (argH m c) (argY m c) : S2048x1024.Idx → EReal) (ix2 ⟨t.val * 256 + r.val, row_lt t r⟩ l) := by
  unfold iblk
  rw [View.read_apply]
  show (V m c main_v2 : S2048x1024.Idx → EReal) _ = _
  rw [V_sum]
  refine congrArg (Cert.Dh1RefIdeal.Read.val_main_v2 (F := Ideal) (argH m c) (argY m c) : S2048x1024.Idx → EReal) (funext fun a => Fin.ext ?_)
  match a with
  | ⟨0, _⟩ => show win0_6.index t 0 * 256 + 1 * r.val = t.val * 256 + r.val; rw [(index_in t).2.2.1.1, Nat.one_mul]
  | ⟨1, _⟩ => show win0_6.index t 1 * 1024 + 1 * l.val = l.val; rw [(index_in t).2.2.1.2]; omega

theorem blkGain (c : Dev nD) (t : Fin cfg0.N) (l : Fin 1024) :
    (iblk m c 7 t : Vec Ideal S1x1024 .f32) (ix2 0 l) = argG m c (ix1 l) := by
  unfold iblk
  rw [View.read_apply, ← V_gain]
  show V m c main_v15 _ = V m c main_v15 _
  refine congrArg (V m c main_v15 : S1x1024.Idx → EReal) (funext fun a => Fin.ext ?_)
  match a with
  | ⟨0, _⟩ => show win0_7.index t 0 * 1 + 1 * 0 = 0; rw [(index_in t).2.2.2.1]
  | ⟨1, _⟩ => show win0_7.index t 1 * 1024 + 1 * l.val = l.val; rw [(index_in t).2.2.2.2]; omega

theorem blk2 (c : Dev nD) (t : Fin cfg0.N) (p : Fin 8) (q : Fin 128) (k : Fin 1024) :
    (iblk m c 2 t : Vec Ideal S8x128x1024 .bf16) (ix3 p q k) = argP m c (ix2 ⟨p.val * 128 + q.val, by omega⟩ k) := by
  unfold iblk
  rw [View.read_apply, ← V_gmat m c p q k]
  show (V m c main_v5 : S8x128x1024.Idx → EReal) _ = _
  refine congrArg (V m c main_v5 : S8x128x1024.Idx → EReal) (funext fun a => Fin.ext ?_)
  match a with
  | ⟨0, _⟩ => show win0_2.index t 0 * 8 + 1 * p.val = p.val; rw [(index_mat t).1.1]; omega
  | ⟨1, _⟩ => show win0_2.index t 1 * 128 + 1 * q.val = q.val; rw [(index_mat t).1.2.1]; omega
  | ⟨2, _⟩ => show win0_2.index t 2 * 1024 + 1 * k.val = k.val; rw [(index_mat t).1.2.2]; omega

theorem blk5 (c : Dev nD) (t : Fin cfg0.N) (p : Fin 8) (q : Fin 704) (k : Fin 1024) :
    (iblk m c 5 t : Vec Ideal S8x704x1024 .bf16) (ix3 p q k) = argU m c (ix2 k ⟨p.val * 704 + q.val, by omega⟩) := by
  unfold iblk
  rw [View.read_apply, ← V_up m c p q k]
  show (V m c main_v14 : S8x704x1024.Idx → EReal) _ = _
  refine congrArg (V m c main_v14 : S8x704x1024.Idx → EReal) (funext fun a => Fin.ext ?_)
  match a with
  | ⟨0, _⟩ => show win0_5.index t 0 * 8 + 1 * p.val = p.val; rw [(index_mat t).2.2.2.1]; omega
  | ⟨1, _⟩ => show win0_5.index t 1 * 704 + 1 * q.val = q.val; rw [(index_mat t).2.2.2.2.1]; omega
  | ⟨2, _⟩ => show win0_5.index t 2 * 1024 + 1 * k.val = k.val; rw [(index_mat t).2.2.2.2.2]; omega

theorem blk3 (c : Dev nD) (t : Fin cfg0.N) (p : Fin 4) (q : Fin 256) (k : Fin 704) :
    (iblk m c 3 t : Vec Ideal S4x256x704 .bf16) (ix3 p q k) = argA m c (ix2 ⟨t.val * 256 + q.val, row_lt t q⟩ ⟨p.val * 704 + k.val, by omega⟩) := by
  unfold iblk
  rw [View.read_apply, ← V_left m c p ⟨t.val * 256 + q.val, row_lt t q⟩ k]
  show (V m c main_v8 : S4x2048x704.Idx → EReal) _ = _
  refine congrArg (V m c main_v8 : S4x2048x704.Idx → EReal) (funext fun a => Fin.ext ?_)
  match a with
  | ⟨0, _⟩ => show win0_3.index t 0 * 4 + 1 * p.val = p.val; rw [(index_mat t).2.1.1]; omega
  | ⟨1, _⟩ => show win0_3.index t 1 * 256 + 1 * q.val = t.val * 256 + q.val; rw [(index_mat t).2.1.2.1]; omega
  | ⟨2, _⟩ => show win0_3.index t 2 * 704 + 1 * k.val = k.val; rw [(index_mat t).2.1.2.2]; omega

theorem blk4 (c : Dev nD) (t : Fin cfg0.N) (p : Fin 4) (q : Fin 256) (k : Fin 704) :
    (iblk m c 4 t : Vec Ideal S4x256x704 .bf16) (ix3 p q k) = argB m c (ix2 ⟨t.val * 256 + q.val, row_lt t q⟩ ⟨p.val * 704 + k.val, by omega⟩) := by
  unfold iblk
  rw [View.read_apply, ← V_right m c p ⟨t.val * 256 + q.val, row_lt t q⟩ k]
  show (V m c main_v11 : S4x2048x704.Idx → EReal) _ = _
  refine congrArg (V m c main_v11 : S4x2048x704.Idx → EReal) (funext fun a => Fin.ext ?_)
  match a with
  | ⟨0, _⟩ => show win0_4.index t 0 * 4 + 1 * p.val = p.val; rw [(index_mat t).2.2.1.1]; omega
  | ⟨1, _⟩ => show win0_4.index t 1 * 256 + 1 * q.val = t.val * 256 + q.val; rw [(index_mat t).2.2.1.2.1]; omega
  | ⟨2, _⟩ => show win0_4.index t 2 * 704 + 1 * k.val = k.val; rw [(index_mat t).2.2.1.2.2]; omega

/-- A result array's block read through its window, and the cells of the windows. -/
theorem blkOut8 (t : Fin cfg0.N) (A : S2048x1024.Idx → EReal) (r : Fin 256) (l : Fin 1024) :
    (((cfg0.win 8).blk t).view.read (Elt Ideal) A : Vec Ideal S256x1024 .f32) (ix2 r l) = A (ix2 ⟨t.val * 256 + r.val, row_lt t r⟩ l) := by
  rw [View.read_apply]
  refine congrArg A (funext fun a => Fin.ext ?_)
  match a with
  | ⟨0, _⟩ => show win0_8.index t 0 * 256 + 1 * r.val = t.val * 256 + r.val; rw [(index_out t).1.1, Nat.one_mul]
  | ⟨1, _⟩ => show win0_8.index t 1 * 1024 + 1 * l.val = l.val; rw [(index_out t).1.2]; omega

theorem cover8 (i : S2048x1024.Idx) : ∃ t : Fin cfg0.N, (cfg0.win 8).flush t = true ∧ i ∈ ((cfg0.win 8).blk t).view.set := by
  have hN : cfg0.N = 8 := N_0
  have h0 : (i 0 : Nat) < 2048 := (i 0).isLt
  have h1 : (i 1 : Nat) < 1024 := (i 1).isLt
  refine ⟨⟨(i 0).val / 256, by omega⟩, flush0_8 _, ?_⟩
  generalize ht : (⟨(i 0).val / 256, _⟩ : Fin cfg0.N) = t
  have htv : t.val = (i 0).val / 256 := by rw [← ht]
  show i ∈ ((View.whole main_v16_0).slice (win0_8.rect t)).set
  rw [View.set_slice_whole, Rect.mem_set_unit]
  intro a
  match a with
  | ⟨0, _⟩ =>
    show win0_8.index t 0 * 256 ≤ (i 0 : Nat) ∧ (i 0 : Nat) < win0_8.index t 0 * 256 + 256
    rw [(index_out t).1.1]; omega
  | ⟨1, _⟩ =>
    show win0_8.index t 1 * 1024 ≤ (i 1 : Nat) ∧ (i 1 : Nat) < win0_8.index t 1 * 1024 + 1024
    rw [(index_out t).1.2]; omega

theorem blkOut9 (t : Fin cfg0.N) (A : S2048x1024.Idx → EReal) (r : Fin 256) (l : Fin 1024) :
    (((cfg0.win 9).blk t).view.read (Elt Ideal) A : Vec Ideal S256x1024 .bf16) (ix2 r l) = A (ix2 ⟨t.val * 256 + r.val, row_lt t r⟩ l) := by
  rw [View.read_apply]
  refine congrArg A (funext fun a => Fin.ext ?_)
  match a with
  | ⟨0, _⟩ => show win0_9.index t 0 * 256 + 1 * r.val = t.val * 256 + r.val; rw [(index_out t).2.1, Nat.one_mul]
  | ⟨1, _⟩ => show win0_9.index t 1 * 1024 + 1 * l.val = l.val; rw [(index_out t).2.2]; omega

theorem cover9 (i : S2048x1024.Idx) : ∃ t : Fin cfg0.N, (cfg0.win 9).flush t = true ∧ i ∈ ((cfg0.win 9).blk t).view.set := by
  have hN : cfg0.N = 8 := N_0
  have h0 : (i 0 : Nat) < 2048 := (i 0).isLt
  have h1 : (i 1 : Nat) < 1024 := (i 1).isLt
  refine ⟨⟨(i 0).val / 256, by omega⟩, flush0_9 _, ?_⟩
  generalize ht : (⟨(i 0).val / 256, _⟩ : Fin cfg0.N) = t
  have htv : t.val = (i 0).val / 256 := by rw [← ht]
  show i ∈ ((View.whole main_v16_1).slice (win0_9.rect t)).set
  rw [View.set_slice_whole, Rect.mem_set_unit]
  intro a
  match a with
  | ⟨0, _⟩ =>
    show win0_9.index t 0 * 256 ≤ (i 0 : Nat) ∧ (i 0 : Nat) < win0_9.index t 0 * 256 + 256
    rw [(index_out t).2.1]; omega
  | ⟨1, _⟩ =>
    show win0_9.index t 1 * 1024 ≤ (i 1 : Nat) ∧ (i 1 : Nat) < win0_9.index t 1 * 1024 + 1024
    rw [(index_out t).2.2]; omega

theorem blkSum10 (t : Fin cfg0.N) (A : S1x1024.Idx → EReal) :
    (((cfg0.win 10).blk t).view.read (Elt Ideal) A : Vec Ideal S1x1024 .f32) = A :=
  funext fun (j : S1x1024.Idx) => (View.read_apply ..).trans (congrArg A (funext fun a => Fin.ext (match a with
    | ⟨0, _⟩ => by show 0 * 1 + 1 * (j 0).val = (j 0).val; omega
    | ⟨1, _⟩ => by show 0 * 1024 + 1 * (j 1).val = (j 1).val; omega)))

theorem cover10 (i : S1x1024.Idx) : ∃ t : Fin cfg0.N, (cfg0.win 10).flush t = true ∧ i ∈ ((cfg0.win 10).blk t).view.set :=
  ⟨t0_7, (flush0_10 t0_7).mpr rfl, by
    have h0 : (i 0 : Nat) < 1 := (i 0).isLt
    have h1 : (i 1 : Nat) < 1024 := (i 1).isLt
    show i ∈ ((View.whole main_v16_2).slice (win0_10.rect t0_7)).set
    rw [View.set_slice_whole, Rect.mem_set_unit]
    intro a
    match a with
    | ⟨0, _⟩ => show 0 ≤ (i 0 : Nat) ∧ (i 0 : Nat) < 0 + 1; omega
    | ⟨1, _⟩ => show 0 ≤ (i 1 : Nat) ∧ (i 1 : Nat) < 0 + 1024; omega⟩

theorem blkSum11 (t : Fin cfg0.N) (A : S1x1024.Idx → EReal) :
    (((cfg0.win 11).blk t).view.read (Elt Ideal) A : Vec Ideal S1x1024 .f32) = A :=
  funext fun (j : S1x1024.Idx) => (View.read_apply ..).trans (congrArg A (funext fun a => Fin.ext (match a with
    | ⟨0, _⟩ => by show 0 * 1 + 1 * (j 0).val = (j 0).val; omega
    | ⟨1, _⟩ => by show 0 * 1024 + 1 * (j 1).val = (j 1).val; omega)))

theorem cover11 (i : S1x1024.Idx) : ∃ t : Fin cfg0.N, (cfg0.win 11).flush t = true ∧ i ∈ ((cfg0.win 11).blk t).view.set :=
  ⟨t0_7, (flush0_11 t0_7).mpr rfl, by
    have h0 : (i 0 : Nat) < 1 := (i 0).isLt
    have h1 : (i 1 : Nat) < 1024 := (i 1).isLt
    show i ∈ ((View.whole main_v16_3).slice (win0_11.rect t0_7)).set
    rw [View.set_slice_whole, Rect.mem_set_unit]
    intro a
    match a with
    | ⟨0, _⟩ => show 0 ≤ (i 0 : Nat) ∧ (i 0 : Nat) < 0 + 1; omega
    | ⟨1, _⟩ => show 0 ≤ (i 1 : Nat) ∧ (i 1 : Nat) < 0 + 1024; omega⟩

end Cert.Dh1Ideal.Value

namespace Cert.Dh1RefIdeal.Value

open Cert.Dh1RefIdeal Cert.Dh1RefIdeal.Gen Cert.Dh1RefIdeal.Read Cert.Step Cert.Step.Dh1

section
variable (w4 : S1024x1024.Idx → EReal) (w5 : S1024x5632.Idx → EReal) (c6 c7 : S2048x1024.Idx → EReal) (c8 c9 : S2048x2816.Idx → EReal)

/-- The two halves' cotangents side by side. -/
theorem v38_left (r : Fin 2048) (k : Fin 5632) (h : k.val < 2816) : val_main_v38 (F := Ideal) c8 c9 (ix2 r k) = c8 (ix2 r ⟨k.val, h⟩) :=
  concatenate_pair_apply_left (t := S2048x5632) 1 c8 c9 concatenates_S2048x2816_S2048x2816_S2048x5632_d1 (ix2 r k) rfl (ix2 r ⟨k.val, h⟩) fun a => match a with
    | ⟨0, _⟩ => rfl
    | ⟨1, _⟩ => rfl
theorem v38_right (r : Fin 2048) (k : Fin 2816) : val_main_v38 (F := Ideal) c8 c9 (ix2 r ⟨2816 + k.val, by omega⟩) = c9 (ix2 r k) :=
  concatenate_pair_apply_right (t := S2048x5632) 1 c8 c9 concatenates_S2048x2816_S2048x2816_S2048x5632_d1 (ix2 r ⟨2816 + k.val, by omega⟩) rfl rfl (ix2 r k) (fun a h => match a with
    | ⟨0, _⟩ => rfl
    | ⟨1, _⟩ => absurd rfl h) (by show k.val + 2816 = 2816 + k.val; omega)

/-- A column of the product with the up matrix, by slabs of columns. -/
theorem v39_at (r : Fin 2048) (l : Fin 1024) : val_main_v39 (F := Ideal) w5 c8 c9 (ix2 r l)
    = (∑ p : Fin 4, ∑ k : Fin 704, c8 (ix2 r ⟨p.val * 704 + k.val, by omega⟩) * w5 (ix2 l ⟨p.val * 704 + k.val, by omega⟩))
      + ∑ p : Fin 4, ∑ k : Fin 704, c9 (ix2 r ⟨p.val * 704 + k.val, by omega⟩) * w5 (ix2 l ⟨(4 + p.val) * 704 + k.val, by omega⟩) := by
  rw [val_main_v39_apply]
  have h := sum_blocks 8 704 fun k => if h : k < 5632 then val_main_v38 (F := Ideal) c8 c9 (ix2 r ⟨k, h⟩) * w5 (ix2 l ⟨k, h⟩) else 0
  have e : (∑ k : Fin 5632, val_main_v38 (F := Ideal) c8 c9 (lidx_main_v39 (ix2 r l) k) * w5 (ridx_main_v39 (ix2 r l) k))
      = ∑ k : Fin (8 * 704), if h : k.val < 5632 then val_main_v38 (F := Ideal) c8 c9 (ix2 r ⟨k.val, h⟩) * w5 (ix2 l ⟨k.val, h⟩) else 0 :=
    Finset.sum_congr rfl fun k _ => by
      rw [dif_pos k.isLt]
      refine congrArg₂ (· * ·) (congrArg _ (funext fun a => ?_)) (congrArg _ (funext fun a => ?_)) <;> exact match a with
        | ⟨0, _⟩ => rfl
        | ⟨1, _⟩ => rfl
  rw [e, h, Fin.sum_univ_add (a := 4) (b := 4)]
  refine congrArg₂ (· + ·) (Finset.sum_congr rfl fun p _ => Finset.sum_congr rfl fun k _ => ?_) (Finset.sum_congr rfl fun p _ => Finset.sum_congr rfl fun k _ => ?_)
  · have hk : (Fin.castAdd 4 p).val * 704 + k.val < 2816 := by show p.val * 704 + k.val < 2816; omega
    rw [dif_pos (by omega), v38_left c8 c9 r _ hk]
    rfl
  · have hk : (Fin.natAdd 4 p).val * 704 + k.val = 2816 + (p.val * 704 + k.val) := by show (4 + p.val) * 704 + k.val = _; omega
    rw [dif_pos (by omega)]
    refine congrArg₂ (· * ·) ((congrArg _ (congrArg (ix2 r) (Fin.ext hk))).trans (v38_right c8 c9 r ⟨p.val * 704 + k.val, by omega⟩)) rfl

theorem v40_at (r : Fin 2048) (l : Fin 1024) : val_main_v40 (F := Ideal) w4 w5 c6 c7 c8 c9 (ix2 r l)
    = (∑ k : Fin 1024, c7 (ix2 r k) * w4 (ix2 l k)) + Ideal.ofBits .f32 0x3FD744FD#32 * c6 (ix2 r l)
      + val_main_v39 (F := Ideal) w5 c8 c9 (ix2 r l) := by
  rw [val_main_v40_apply, val_main_v37_apply, val_main_v34_apply, val_main_v36_apply, val_main_v35_apply, val_main_cst_7_apply]
  refine congrArg₂ (· + ·) (congrArg₂ (· + ·) (Finset.sum_congr rfl fun k _ => ?_) rfl) rfl
  refine congrArg₂ (· * ·) (congrArg _ (funext fun a => ?_)) (congrArg _ (funext fun a => ?_)) <;> exact match a with
    | ⟨0, _⟩ => rfl
    | ⟨1, _⟩ => rfl

/-- The collected cotangent is finite. -/
theorem v40_real (h4 : ∀ i, IsReal (w4 i)) (h5 : ∀ i, IsReal (w5 i)) (h6 : ∀ i, IsReal (c6 i)) (h7 : ∀ i, IsReal (c7 i)) (h8 : ∀ i, IsReal (c8 i)) (h9 : ∀ i, IsReal (c9 i))
    (i : S2048x1024.Idx) : IsReal (val_main_v40 (F := Ideal) w4 w5 c6 c7 c8 c9 i) := by
  obtain ⟨r, l, rfl⟩ : ∃ (r : Fin 2048) (l : Fin 1024), i = ix2 r l := ⟨i 0, i 1, eq_ix2 i⟩
  rw [v40_at, v39_at, Ln2.bits_alpha]
  exact ((IsReal.sum _ fun k => (h7 _).mul (h4 _)).add (IsReal.mul ⟨_, rfl⟩ (h6 _))).add
    ((IsReal.sum _ fun p => IsReal.sum _ fun k => (h8 _).mul (h5 _)).add (IsReal.sum _ fun p => IsReal.sum _ fun k => (h9 _).mul (h5 _)))

theorem v2_real (h y : S2048x1024.Idx → EReal) (hh : ∀ i, IsReal (h i)) (hy : ∀ i, IsReal (y i)) (i : S2048x1024.Idx) : IsReal (val_main_v2 (F := Ideal) h y i) := by
  rw [val_main_v2_apply, val_main_v1_apply, val_main_v0_apply, val_main_cst_apply]
  simp only [Ideal.addf_def, Ideal.mulf_def, Ideal.ofBits_def, Ln2.bits_alpha]
  exact (IsReal.mul ⟨_, rfl⟩ (hh _)).add (hy _)

end

end Cert.Dh1RefIdeal.Value

namespace Cert.Dh1Ideal.Value

open Cert.Dh1Ideal Cert.Dh1Ideal.Gen Cert.Step Cert.Step.Dh1

variable (m : (ℓ : Loc nD τ sig) → Buf (Elt Ideal) ℓ) (ρ : Dev nD → PrngReg)

/-- The block's cotangent is the reference's, on the block's rows. -/
theorem cot_eq (c : Dev nD) (t : Fin cfg0.N) (r : Fin 256) (l : Fin 1024) :
    cot (iblk m c 0 t) (iblk m c 1 t) (iblk m c 2 t) (iblk m c 3 t) (iblk m c 4 t) (iblk m c 5 t) (ix2 r l) = Cert.Dh1RefIdeal.Read.val_main_v40 (F := Ideal) (argP m c) (argU m c) (argC m c) (argD m c) (argA m c) (argB m c) (ix2 ⟨t.val * 256 + r.val, row_lt t r⟩ l) := by
  have hl : (⟨(⟨l.val / 128, by omega⟩ : Fin 8).val * 128 + (⟨l.val % 128, by omega⟩ : Fin 128).val, by dsimp only; omega⟩ : Fin 1024) = l := Fin.ext (by dsimp only; omega)
  rw [Cert.Dh1RefIdeal.Value.v40_at, Cert.Dh1RefIdeal.Value.v39_at, cot_at]
  simp only [Fin.sum_univ_four]
  simp only [blk0, blk1, blk2, blk3, blk4, blk5, hl]
  exact arrange _ _ _ _ _ _ _ _ _ _

section arrays
variable (c : Dev nD) (Z C : Fin 2048 → Fin 1024 → ℝ) (G : Fin 1024 → ℝ)
  (hZ : ∀ r l, Cert.Dh1RefIdeal.Read.val_main_v2 (F := Ideal) (argH m c) (argY m c) (ix2 r l) = ((Z r l : ℝ) : EReal))
  (hC : ∀ r l, Cert.Dh1RefIdeal.Read.val_main_v40 (F := Ideal) (argP m c) (argU m c) (argC m c) (argD m c) (argA m c) (argB m c) (ix2 r l) = ((C r l : ℝ) : EReal))
  (hG : ∀ l, argG m c (ix1 l) = ((G l : ℝ) : EReal))

/-- The results: the rows' gradient, and the gains' and biases'. -/
def gradZ : S2048x1024.Idx → EReal := fun j => ((dnorm (Z (j 0)) (fun k => C (j 0) k * G k) (j 1) : ℝ) : EReal)
def gradG : Vec Ideal S1x1024 .f32 := fun j => ((∑ r, C r (j 1) * hat (Z r) (j 1) : ℝ) : EReal)
def gradB : Vec Ideal S1x1024 .f32 := fun j => ((∑ r, C r (j 1) : ℝ) : EReal)

open Cert.LnIdeal.Value (part)

theorem sum_part (f : Fin 2048 → ℝ) : (∑ t ∈ Finset.range 8, ∑ r : Fin 256, part f (t * 256 + r.val)) = ∑ r, f r := by
  have h := sum_blocks_real 8 256 (part f)
  rw [Finset.sum_range, ← h]
  exact Finset.sum_congr rfl fun r _ => by rw [part, dif_pos r.isLt]

include hZ hC in
theorem acc_eq : ∀ (n : ℕ) (h : n < cfg0.N) (l : Fin 1024),
    (outsAt0 m c n h).2.2.1 (ix2 0 l) = ((∑ t ∈ Finset.range (n + 1), ∑ r : Fin 256, part (fun r => C r l * hat (Z r) l) (t * 256 + r.val) : ℝ) : EReal)
    ∧ (outsAt0 m c n h).2.2.2 (ix2 0 l) = ((∑ t ∈ Finset.range (n + 1), ∑ r : Fin 256, part (fun r => C r l) (t * 256 + r.val) : ℝ) : EReal)
  | 0, h, l => by
    rw [outs_A m c ⟨0, h⟩ rfl]
    dsimp only
    rw [gain_at _ _ _ _ (fun r l => (cot_eq m c _ r l).trans (hC _ l)) (pay13_at _ _ (fun r l => (blk6 m c _ r l).trans (hZ _ l))),
      bias_at _ _ (fun r l => (cot_eq m c _ r l).trans (hC _ l))]
    pointwise [k0_pay5, k0_pay6]
    simp only [bits_zero, zero_add, Finset.sum_range_one]
    refine ⟨congrArg _ (Finset.sum_congr rfl fun r _ => ?_), congrArg _ (Finset.sum_congr rfl fun r _ => ?_)⟩ <;> rw [part, dif_pos (row_lt ⟨0, h⟩ r)] <;>
      simp only [Nat.zero_mul, Nat.zero_add]
  | n + 1, h, l => by
    have hN : cfg0.N = 8 := N_0
    have hB : ¬(⟨n + 1, h⟩ : Fin cfg0.N).val % 8 = 0 := by dsimp only; omega
    have ih := acc_eq n (Nat.lt_of_succ_lt h) l
    rw [outs_B m c ⟨n + 1, h⟩ hB]
    dsimp only
    rw [gain_at _ _ _ _ (fun r l => (cot_eq m c _ r l).trans (hC _ l)) (pay13_at _ _ (fun r l => (blk6 m c _ r l).trans (hZ _ l))),
      bias_at _ _ (fun r l => (cot_eq m c _ r l).trans (hC _ l))]
    rw [Finset.sum_range_succ _ (n + 1), Finset.sum_range_succ _ (n + 1), EReal.coe_add, EReal.coe_add]
    refine ⟨congrArg₂ _ ih.1 (congrArg _ (Finset.sum_congr rfl fun r _ => ?_)), congrArg₂ _ ih.2 (congrArg _ (Finset.sum_congr rfl fun r _ => ?_))⟩ <;>
      rw [part, dif_pos (row_lt ⟨n + 1, h⟩ r)]

include hZ hC in
theorem last_eq (t : Fin cfg0.N) (h7 : t.val = 7) : (outsAt0 m c t.val t.isLt).2.2 = (gradG Z C, gradB C) := by
  have all : ∀ f : Fin 2048 → ℝ, (∑ s ∈ Finset.range (t.val + 1), ∑ r : Fin 256, part f (s * 256 + r.val)) = ∑ r, f r := fun f => by
    rw [h7]
    exact sum_part f
  have h := fun l => acc_eq m c Z C hZ hC t.val t.isLt l
  generalize outsAt0 m c t.val t.isLt = o at h ⊢
  refine Prod.ext (funext fun j => ?_) (funext fun j => ?_) <;>
    obtain ⟨z, l, rfl⟩ : ∃ (z : Fin 1) (l : Fin 1024), j = ix2 z l := ⟨j 0, j 1, eq_ix2 j⟩ <;>
    obtain rfl : z = 0 := Subsingleton.elim _ _
  · exact (h l).1.trans (congrArg (fun x : ℝ => (x : EReal)) (all fun r => C r l * hat (Z r) l))
  · exact (h l).2.trans (congrArg (fun x : ℝ => (x : EReal)) (all fun r => C r l))

theorem rows_eq (t : Fin cfg0.N) : (outsAt0 m c t.val t.isLt).1 = k0_pay1 (k0_pay14 (most (iblk m c 0 t) (iblk m c 1 t) (iblk m c 2 t) (iblk m c 3 t) (iblk m c 4 t) (iblk m c 5 t)) (slab3 (iblk m c 4 t)) (rows7 (iblk m c 5 t)) (iblk m c 6 t) (iblk m c 7 t)) (k0_pay15 (iblk m c 6 t))
    ∧ (outsAt0 m c t.val t.isLt).2.1 = k0_pay2 (k0_pay14 (most (iblk m c 0 t) (iblk m c 1 t) (iblk m c 2 t) (iblk m c 3 t) (iblk m c 4 t) (iblk m c 5 t)) (slab3 (iblk m c 4 t)) (rows7 (iblk m c 5 t)) (iblk m c 6 t) (iblk m c 7 t)) (k0_pay15 (iblk m c 6 t)) := by
  by_cases h0 : t.val % 8 = 0
  · rw [outs_A m c t h0]; exact ⟨rfl, rfl⟩
  · rw [outs_B m c t h0]; exact ⟨rfl, rfl⟩

include hZ hC hG in
theorem final8 : (dats m 0 c).arrAt 8 cfg0.N = gradZ Z C G :=
  (dats m 0 c).arrAt_eq_of_cover 8 (gradZ Z C G)
    (fun t _ => by
      rw [flushed8, (rows_eq m c t).1]
      refine funext fun (j : S256x1024.Idx) => ?_
      obtain ⟨r, l, rfl⟩ : ∃ (r : Fin 256) (l : Fin 1024), j = ix2 r l := ⟨j 0, j 1, eq_ix2 j⟩
      exact (row_at _ _ _ _ G _ _ _ (fun r l => (cot_eq m c t r l).trans (hC _ l)) (fun r l => (blk6 m c t r l).trans (hZ _ l)) (fun l => (blkGain m c t l).trans (hG l)) r l).trans (blkOut8 t (gradZ Z C G) r l).symm)
    cover8

include hZ hC hG in
theorem final9 : (dats m 0 c).arrAt 9 cfg0.N = gradZ Z C G :=
  (dats m 0 c).arrAt_eq_of_cover 9 (gradZ Z C G)
    (fun t _ => by
      rw [flushed9, (rows_eq m c t).2]
      refine funext fun (j : S256x1024.Idx) => ?_
      obtain ⟨r, l, rfl⟩ : ∃ (r : Fin 256) (l : Fin 1024), j = ix2 r l := ⟨j 0, j 1, eq_ix2 j⟩
      exact (rowb_at _ _ _ _ G _ _ _ (fun r l => (cot_eq m c t r l).trans (hC _ l)) (fun r l => (blk6 m c t r l).trans (hZ _ l)) (fun l => (blkGain m c t l).trans (hG l)) r l).trans (blkOut9 t (gradZ Z C G) r l).symm)
    cover9

include hZ hC in
theorem final10 : (dats m 0 c).arrAt 10 cfg0.N = gradG Z C :=
  (dats m 0 c).arrAt_eq_of_cover 10 (gradG Z C)
    (fun t hf => by
      have hN : cfg0.N = 8 := N_0
      have h7 : t.val = 7 := by have := (flush0_10 t).mp hf; have := t.isLt; omega
      rw [flushed10, last_eq m c Z C hZ hC t h7]
      exact (blkSum10 t (gradG Z C)).symm)
    cover10

include hZ hC in
theorem final11 : (dats m 0 c).arrAt 11 cfg0.N = gradB C :=
  (dats m 0 c).arrAt_eq_of_cover 11 (gradB C)
    (fun t hf => by
      have hN : cfg0.N = 8 := N_0
      have h7 : t.val = 7 := by have := (flush0_11 t).mp hf; have := t.isLt; omega
      rw [flushed11, last_eq m c Z C hZ hC t h7]
      exact (blkSum11 t (gradB C)).symm)
    cover11

end arrays

end Cert.Dh1Ideal.Value

namespace Cert.Dh1RefIdeal.Value

open Cert.Dh1RefIdeal Cert.Dh1RefIdeal.Gen Cert.Dh1RefIdeal.Read Cert.Step Cert.Step.Dh1

section
variable (h y : S2048x1024.Idx → EReal) (g : S1024.Idx → EReal) (w4 : S1024x1024.Idx → EReal) (w5 : S1024x5632.Idx → EReal) (c6 c7 : S2048x1024.Idx → EReal) (c8 c9 : S2048x2816.Idx → EReal)
  (C Z : Fin 2048 → Fin 1024 → ℝ) (G : Fin 1024 → ℝ)

/-- The differentiated normalisation is the one of the call that has it alone, of the sum and the collected cotangent. -/
theorem v48_same : val_main_v48 (F := Ideal) g w4 w5 c6 c7 c8 c9 = Cert.LnRefIdeal.Read.val_main_v33 (F := Ideal) g (val_main_v40 (F := Ideal) w4 w5 c6 c7 c8 c9) := by
  unfold Cert.LnRefIdeal.Read.val_main_v33 Cert.LnRefIdeal.Read.val_main_v25
  rw [shapeCast_id]
  rfl
theorem v44_same : val_main_v44 (F := Ideal) h y w4 w5 c6 c7 c8 c9 = Cert.LnRefIdeal.Read.val_main_v29 (F := Ideal) (val_main_v2 (F := Ideal) h y) (val_main_v40 (F := Ideal) w4 w5 c6 c7 c8 c9) := by
  unfold Cert.LnRefIdeal.Read.val_main_v29 Cert.LnRefIdeal.Read.val_main_v25
  rw [shapeCast_id]
  rfl
theorem v71_same : val_main_v71 (F := Ideal) h y g w4 w5 c6 c7 c8 c9 = Cert.LnRefIdeal.Read.val_main_v56 (F := Ideal) (val_main_v2 (F := Ideal) h y) g (val_main_v40 (F := Ideal) w4 w5 c6 c7 c8 c9) := by
  unfold val_main_v71 val_main_v70 val_main_v69 val_main_v68 val_main_v66 val_main_v65 val_main_v64 val_main_v63 val_main_v62 val_main_v61 val_main_v60
    val_main_v59 val_main_v58 val_main_v57 val_main_v55 val_main_v54 val_main_v52 val_main_v51 val_main_v50
  rw [v48_same]
  rfl
theorem v73_same : val_main_v73 (F := Ideal) h y w4 w5 c6 c7 c8 c9 = Cert.LnRefIdeal.Read.val_main_v57 (F := Ideal) (val_main_v2 (F := Ideal) h y) (val_main_v40 (F := Ideal) w4 w5 c6 c7 c8 c9) := by
  unfold val_main_v73 val_main_v49 val_main_v46 val_main_v45
  rw [v44_same]
  rfl
theorem v74_same : val_main_v74 (F := Ideal) w4 w5 c6 c7 c8 c9 = Cert.LnRefIdeal.Read.val_main_v58 (F := Ideal) (val_main_v40 (F := Ideal) w4 w5 c6 c7 c8 c9) := rfl

variable (hZ : ∀ i, val_main_v2 (F := Ideal) h y i = ((Z (i 0) (i 1) : ℝ) : EReal))
  (hC : ∀ i, val_main_v40 (F := Ideal) w4 w5 c6 c7 c8 c9 i = ((C (i 0) (i 1) : ℝ) : EReal)) (hG : ∀ i, g i = ((G (i 0) : ℝ) : EReal))

open Cert.Dh1Ideal.Value (gradZ gradG gradB)

include hZ hC hG in
theorem v71_at : val_main_v71 (F := Ideal) h y g w4 w5 c6 c7 c8 c9 = gradZ Z C G := by
  rw [v71_same]
  exact funext (Cert.LnRefIdeal.Value.v56_at _ _ g Z C G hZ hC hG)

include hZ hC in
theorem v73_at : val_main_v73 (F := Ideal) h y w4 w5 c6 c7 c8 c9 = gradG Z C := by
  rw [v73_same]
  exact funext (Cert.LnRefIdeal.Value.v57_at _ _ Z C hZ hC)

include hC in
theorem v74_at : val_main_v74 (F := Ideal) w4 w5 c6 c7 c8 c9 = gradB C := by
  rw [v74_same]
  exact funext (Cert.LnRefIdeal.Value.v58_at _ C hC)

end

variable (m : (ℓ : Loc nD τ sig) → Buf (Elt Ideal) ℓ) (ρ : Dev nD → PrngReg)

/-- The run's results by the stages above. -/
theorem ends : θ_run defs (onTc (τ := τ) main) ⟨m, fun _ => 0, ρ⟩ fun r => (∀ c : Dev nD,
      r.2.mem ((c.tc : Thread nD τ).loc main_v71) = val_main_v71 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v72) = val_main_v72 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v73) = val_main_v73 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v74) = val_main_v74 (F := Ideal) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run _ _ _).mono (fun _ h c => ⟨(h c).1.trans (val_main_v71_eq m c), (h c).2.1.trans (val_main_v72_eq m c), (h c).2.2.1.trans (val_main_v73_eq _ _ _ _ _ _ _ _),
    (h c).2.2.2.1.trans (val_main_v74_eq _ _ _ _ _ _), (h c).2.2.2.2⟩) (run m ρ)

end Cert.Dh1RefIdeal.Value

namespace Cert.Step.Dh1

open Cert.Dh1Ideal.Value (argH argY argG argP argU argC argD argA argB gradZ gradG gradB final8 final9 final10 final11)
open Cert.Dh1RefIdeal.Value (v2_real v40_real v71_at v73_at v74_at)

theorem claim [hP : Cert.Pre_dh1_finite.Facts] : algebraic_Dh1Ideal_Dh1RefIdeal_pre_dh1_finite := fun m ρ m' ρ' hfin hag => by
  choose XH hXH using fun c => exists_real (fun _ => rfl) (hfin c).1
  choose XY hXY using fun c => exists_real (fun _ => rfl) (hfin c).2.1
  choose XG hXG using fun c => exists_real (fun _ => rfl) (hfin c).2.2.1
  choose XP hXP using fun c => exists_real (fun _ => rfl) (hfin c).2.2.2.1
  choose XU hXU using fun c => exists_real (fun _ => rfl) (hfin c).2.2.2.2.1
  choose XC hXC using fun c => exists_real (fun _ => rfl) (hfin c).2.2.2.2.2.1
  choose XD hXD using fun c => exists_real (fun _ => rfl) (hfin c).2.2.2.2.2.2.1
  choose XA hXA using fun c => exists_real (fun _ => rfl) (hfin c).2.2.2.2.2.2.2.1
  choose XB hXB using fun c => exists_real (fun _ => rfl) (hfin c).2.2.2.2.2.2.2.2
  choose Z hZ using fun c => v2_real (argH m c) (argY m c) (fun i => ⟨_, hXH c i⟩) (fun i => ⟨_, hXY c i⟩)
  choose C hC using fun c => v40_real (argP m c) (argU m c) (argC m c) (argD m c) (argA m c) (argB m c) (fun i => ⟨_, hXP c i⟩) (fun i => ⟨_, hXU c i⟩)
    (fun i => ⟨_, hXC c i⟩) (fun i => ⟨_, hXD c i⟩) (fun i => ⟨_, hXA c i⟩) (fun i => ⟨_, hXB c i⟩)
  let Z2 : Dev Cert.Dh1Ideal.nD → Fin 2048 → Fin 1024 → ℝ := fun c r l => Z c (ix2 r l)
  let C2 : Dev Cert.Dh1Ideal.nD → Fin 2048 → Fin 1024 → ℝ := fun c r l => C c (ix2 r l)
  let G1 : Dev Cert.Dh1Ideal.nD → Fin 1024 → ℝ := fun c l => XG c (ix1 l)
  have e8 := fun c => final8 m c (Z2 c) (C2 c) (G1 c) (fun r l => hZ c (ix2 r l)) (fun r l => hC c (ix2 r l)) (fun l => hXG c (ix1 l))
  have e9 := fun c => final9 m c (Z2 c) (C2 c) (G1 c) (fun r l => hZ c (ix2 r l)) (fun r l => hC c (ix2 r l)) (fun l => hXG c (ix1 l))
  have e10 := fun c => final10 m c (Z2 c) (C2 c) (fun r l => hZ c (ix2 r l)) (fun r l => hC c (ix2 r l))
  have e11 := fun c => final11 m c (Z2 c) (C2 c) (fun r l => hZ c (ix2 r l)) (fun r l => hC c (ix2 r l))
  have r8 := fun c => v71_at (argH m c) (argY m c) (argG m c) (argP m c) (argU m c) (argC m c) (argD m c) (argA m c) (argB m c) (C2 c) (Z2 c) (G1 c) (at2 (hZ c)) (at2 (hC c)) (at1 (hXG c))
  have r10 := fun c => v73_at (argH m c) (argY m c) (argP m c) (argU m c) (argC m c) (argD m c) (argA m c) (argB m c) (C2 c) (Z2 c) (at2 (hZ c)) (at2 (hC c))
  have r11 := fun c => v74_at (argP m c) (argU m c) (argC m c) (argD m c) (argA m c) (argB m c) (C2 c) (at2 (hC c))
  refine ⟨fun c => gradZ (Z2 c) (C2 c) (G1 c), fun c => gradZ (Z2 c) (C2 c) (G1 c), fun c => gradG (Z2 c) (C2 c), fun c => gradB (C2 c),
    (θ_run _ _ _).mono (fun _ h c => ⟨(h c).1.trans (e8 c), (h c).2.1.trans (e9 c), (h c).2.2.1.trans (e10 c), (h c).2.2.2.1.trans (e11 c), (h c).2.2.2.2⟩)
      (Cert.Dh1Ideal.Value.run_blocks m ρ),
    (θ_run _ _ _).mono (fun _ h c => ⟨(h c).1.trans ?_, (h c).2.1.trans ?_, (h c).2.2.1.trans ?_, (h c).2.2.2.1.trans ?_, (h c).2.2.2.2⟩) (Cert.Dh1RefIdeal.Value.ends m' ρ')⟩
  · rw [(hag c).1, (hag c).2.1, (hag c).2.2.1, (hag c).2.2.2.2.1, (hag c).2.2.2.2.2.1, (hag c).2.2.2.2.2.2.1, (hag c).2.2.2.2.2.2.2.1, (hag c).2.2.2.2.2.2.2.2.1, (hag c).2.2.2.2.2.2.2.2.2]; exact r8 c
  · rw [(hag c).1, (hag c).2.1, (hag c).2.2.1, (hag c).2.2.2.2.1, (hag c).2.2.2.2.2.1, (hag c).2.2.2.2.2.2.1, (hag c).2.2.2.2.2.2.2.1, (hag c).2.2.2.2.2.2.2.2.1, (hag c).2.2.2.2.2.2.2.2.2]; exact r8 c
  · rw [(hag c).1, (hag c).2.1, (hag c).2.2.2.2.1, (hag c).2.2.2.2.2.1, (hag c).2.2.2.2.2.2.1, (hag c).2.2.2.2.2.2.2.1, (hag c).2.2.2.2.2.2.2.2.1, (hag c).2.2.2.2.2.2.2.2.2]; exact r10 c
  · rw [(hag c).2.2.2.2.1, (hag c).2.2.2.2.2.1, (hag c).2.2.2.2.2.2.1, (hag c).2.2.2.2.2.2.2.1, (hag c).2.2.2.2.2.2.2.2.1, (hag c).2.2.2.2.2.2.2.2.2]; exact r11 c

end Cert.Step.Dh1

end
-- ==== Proof.FfnReal.lean ====
/-
  The gradient of the feed-forward's activation over the reals: the gate's slope in the kernel's form and in the form that
  differentiates the product and the error function one after the other, and the gate's convolution over zero-extended columns.
-/
module

public import proofs.«01_k».proof.Proof.Norm

@[expose] public section

noncomputable section

namespace Cert.Step.Ffn

open Idealize.ShloMosaic

/-- The error function; one over the root of two; one over the root of two pi; two over the root of pi. -/
def erfR (x : ℝ) : ℝ := 2 / Real.sqrt Real.pi * ∫ t in (0 : ℝ)..x, Real.exp (-(t ^ 2))
def rootHalf : ℝ := (Real.sqrt 2)⁻¹
def rootTwoPi : ℝ := (Real.sqrt (2 * Real.pi))⁻¹
def twoRootPi : ℝ := 2 * (Real.sqrt Real.pi)⁻¹

theorem erf_coe (x : ℝ) : Ideal.erf (x : EReal) = ((erfR x : ℝ) : EReal) := Ideal.erf_coe x

theorem twoRootPi_eq : twoRootPi * rootHalf = 2 * rootTwoPi := by
  unfold twoRootPi rootHalf rootTwoPi
  rw [Real.sqrt_mul (by norm_num), mul_inv]; ring
theorem rootHalf_sq : rootHalf * rootHalf = 1 / 2 := by
  unfold rootHalf
  rw [← mul_inv, Real.mul_self_sqrt (by norm_num)]; norm_num

/-- The normal distribution at `c`; the slope of `c` times it. -/
def cdf (c : ℝ) : ℝ := 1 / 2 * (1 + erfR (c * rootHalf))
def slope (c : ℝ) : ℝ := cdf c + c * (Real.exp (-(1 / 2) * c * c) * rootTwoPi)

/-- The two over the extended reals, as the kernel prints them. -/
def cdfE (c : EReal) : EReal := Ideal.ofBits .f32 0x3F000000#32 * (Ideal.ofBits .f32 0x3F800000#32 + Ideal.erf (c * ((rootHalf : ℝ) : EReal)))
def gradE (z v c : EReal) : EReal :=
  z * v * (cdfE c + c * (Ideal.exp (Ideal.ofBits .f32 0xBF000000#32 * c * c) * ((rootTwoPi : ℝ) : EReal)))

theorem cdfE_coe (c : ℝ) : cdfE (c : EReal) = ((cdf c : ℝ) : EReal) := by
  unfold cdfE cdf
  rw [bits_half, bits_one, ← EReal.coe_mul, erf_coe, ← EReal.coe_add, ← EReal.coe_mul]
theorem gradE_coe (z v c : ℝ) : gradE (z : EReal) (v : EReal) (c : EReal) = ((z * v * slope c : ℝ) : EReal) := by
  unfold gradE slope
  rw [cdfE_coe, bits_neg_half]
  simp only [← EReal.coe_mul, ← EReal.coe_add, Ideal.exp_coe]

/-- The slope with the product differentiated first: the error function's derivative has its own constant. -/
theorem slope_parts (z v c : ℝ) :
    twoRootPi * (1 / 2 * c * (z * v)) * Real.exp (0 - c * rootHalf * (c * rootHalf)) * rootHalf + 1 / 2 * (z * v * (1 + erfR (c * rootHalf)))
      = z * v * slope c := by
  have he : 0 - c * rootHalf * (c * rootHalf) = -(1 / 2) * c * c := by linear_combination (-c * c) * rootHalf_sq
  rw [he, slope, cdf]
  linear_combination (1 / 2 * c * (z * v) * Real.exp (-(1 / 2) * c * c)) * twoRootPi_eq

/-- A column of 2048 entries with a zero before it and zeros after it. -/
def pad (f : ℕ → ℝ) (n : ℕ) : ℝ := if 1 ≤ n ∧ n ≤ 2048 then f (n - 1) else 0
theorem pad_succ (f : ℕ → ℝ) (n : ℕ) (h : n < 2048) : pad f (n + 1) = f n := if_pos ⟨by omega, by omega⟩
theorem pad_zero (f : ℕ → ℝ) : pad f 0 = 0 := if_neg (by omega)
theorem pad_end (f : ℕ → ℝ) : pad f 2049 = 0 := if_neg (by omega)

/-- The convolution of three taps along a column; the cotangent of its result; the gradient with respect to its column. -/
def conv (w : Fin 3 → ℝ) (b : ℝ) (h : ℕ → ℝ) (n : ℕ) : ℝ := pad h n * w 0 + pad h (n + 1) * w 1 + pad h (n + 2) * w 2 + b
def dconv (w : Fin 3 → ℝ) (b : ℝ) (h v z : ℕ → ℝ) (n : ℕ) : ℝ := z n * v n * slope (conv w b h n)
def dval (w : Fin 3 → ℝ) (b : ℝ) (h z : ℕ → ℝ) (n : ℕ) : ℝ := z n * (conv w b h n * cdf (conv w b h n))
def dgate (w : Fin 3 → ℝ) (b : ℝ) (h v z : ℕ → ℝ) (n : ℕ) : ℝ :=
  pad (dconv w b h v z) (n + 2) * w 0 + dconv w b h v z n * w 1 + pad (dconv w b h v z) n * w 2
def dtap (w : Fin 3 → ℝ) (b : ℝ) (h v z : ℕ → ℝ) (k n : ℕ) : ℝ := dconv w b h v z n * pad h (n + k)

/-- A column of the two halves, and of the product with the down weight's row; a column's taps and bias. -/
def col (X : (⟨2, ![2048, 5632]⟩ : Shape).Idx → ℝ) (j n : ℕ) : ℝ := if h : n < 2048 ∧ j < 5632 then X (ix2 ⟨n, h.1⟩ ⟨j, h.2⟩) else 0
def prod (C : (⟨2, ![2048, 1024]⟩ : Shape).Idx → ℝ) (D : (⟨2, ![2816, 1024]⟩ : Shape).Idx → ℝ) (j n : ℕ) : ℝ :=
  if h : n < 2048 ∧ j < 2816 then ∑ k : Fin 1024, C (ix2 ⟨n, h.1⟩ k) * D (ix2 ⟨j, h.2⟩ k) else 0
def taps (W : (⟨2, ![3, 2816]⟩ : Shape).Idx → ℝ) (j : ℕ) (k : Fin 3) : ℝ := if h : j < 2816 then W (ix2 k ⟨j, h⟩) else 0
def bias (B : (⟨1, ![2816]⟩ : Shape).Idx → ℝ) (j : ℕ) : ℝ := if h : j < 2816 then B (ix1 ⟨j, h⟩) else 0

section
variable (X : (⟨2, ![2048, 5632]⟩ : Shape).Idx → ℝ) (W : (⟨2, ![3, 2816]⟩ : Shape).Idx → ℝ) (B : (⟨1, ![2816]⟩ : Shape).Idx → ℝ)
  (D : (⟨2, ![2816, 1024]⟩ : Shape).Idx → ℝ) (C : (⟨2, ![2048, 1024]⟩ : Shape).Idx → ℝ)

/-- The four results: the two halves' gradients, and the sums for the taps and for the bias. -/
def gradVal (y : (⟨3, ![4, 2048, 704]⟩ : Shape).Idx) : EReal :=
  ((dval (taps W ((y 0).val * 704 + (y 2).val)) (bias B ((y 0).val * 704 + (y 2).val)) (col X (2816 + ((y 0).val * 704 + (y 2).val)))
    (prod C D ((y 0).val * 704 + (y 2).val)) (y 1).val : ℝ) : EReal)
def gradGate (y : (⟨3, ![4, 2048, 704]⟩ : Shape).Idx) : EReal :=
  ((dgate (taps W ((y 0).val * 704 + (y 2).val)) (bias B ((y 0).val * 704 + (y 2).val)) (col X (2816 + ((y 0).val * 704 + (y 2).val)))
    (col X ((y 0).val * 704 + (y 2).val)) (prod C D ((y 0).val * 704 + (y 2).val)) (y 1).val : ℝ) : EReal)
def gradTaps (y : (⟨3, ![4, 3, 704]⟩ : Shape).Idx) : EReal :=
  ((∑ n : Fin 2048, dtap (taps W ((y 0).val * 704 + (y 2).val)) (bias B ((y 0).val * 704 + (y 2).val)) (col X (2816 + ((y 0).val * 704 + (y 2).val)))
    (col X ((y 0).val * 704 + (y 2).val)) (prod C D ((y 0).val * 704 + (y 2).val)) (y 1).val n.val : ℝ) : EReal)
def gradBias (y : (⟨3, ![4, 1, 704]⟩ : Shape).Idx) : EReal :=
  ((∑ n : Fin 2048, dconv (taps W ((y 0).val * 704 + (y 2).val)) (bias B ((y 0).val * 704 + (y 2).val)) (col X (2816 + ((y 0).val * 704 + (y 2).val)))
    (col X ((y 0).val * 704 + (y 2).val)) (prod C D ((y 0).val * 704 + (y 2).val)) n.val : ℝ) : EReal)
end

end Cert.Step.Ffn

end
-- ==== Proof.FfnKernel.lean ====
/-
  The kernel's body on one block of the activation's gradient: what each of its stores holds, entry by entry, and the four buffers
  it leaves, at a slab's first block of rows and at a later one.
-/
module

public import proofs.«01_k».proof.Proof.FfnReal
public import proofs.«01_k».proof.Proof.Gen.FfnIdeal.Frame
public import Idealize.ShloMosaic.Lib.Pipeline.ReadBack

@[expose] public section

set_option maxRecDepth 16384
noncomputable section
open Idealize.ShloMosaic Idealize.ShloMosaic.TcCoe Idealize.SL.Sem
namespace Cert.FfnIdeal.Value
open Cert.FfnIdeal Cert.FfnIdeal.Gen Cert.Step Cert.Step.Ffn

/-- A select on the equality of two small numbers. -/
theorem select_eq {α : Type} (n k : ℕ) (hn : n < 2 ^ 32) (hk : k < 2 ^ 32) (a b : α) :
    Scalar.select (IntOp.cmpi .eq (BitVec.ofNat 32 n) (BitVec.ofNat 32 k)) a b = if n = k then a else b := by
  have h : (BitVec.ofNat 32 n == BitVec.ofNat 32 k) = decide (n = k) := by
    refine decide_eq_decide.mpr ?_
    rw [← BitVec.toNat_inj, BitVec.toNat_ofNat, BitVec.toNat_ofNat, Nat.mod_eq_of_lt hn, Nat.mod_eq_of_lt hk]
  show (if BitVec.ofBool (BitVec.ofNat 32 n == BitVec.ofNat 32 k) = 1#1 then a else b) = _
  rw [h]
  by_cases e : n = k <;> simp [e]

theorem named_half : (Named.named (F := Ideal) κ "sqrt_half" 0x3F3504F3#32 : Ideal .f32) = ((rootHalf : ℝ) : EReal) :=
  IdealRules.named_const.ideal_named_scalar _ _ _ _ rfl
theorem named_two_pi : (Named.named (F := Ideal) κ "inv_sqrt_2pi" 0x3ECC422A#32 : Ideal .f32) = ((rootTwoPi : ℝ) : EReal) :=
  IdealRules.named_const.ideal_named_scalar _ _ _ _ rfl

section
variable (i : grid0.Coords) (x0 : Vec Ideal S512x1024 .bf16) (x1 x2 : Vec Ideal S16x1024 .bf16) (x3 : Vec Ideal S2x352x1024 .bf16)
  (x4 : Vec Ideal S1x512x704 .bf16) (x5 x6 : Vec Ideal S1x16x704 .bf16) (x7 : Vec Ideal S1x512x704 .bf16) (x8 x9 : Vec Ideal S1x16x704 .bf16)
  (x10 : Vec Ideal S1x3x704 .f32) (x11 : Vec Ideal S1x1x704 .f32)

/-- A tap's row of the weight. -/
def tap0 : Vec Ideal S1x1x704 .f32 := View.ld x10 (Rect.unit (s := S1x3x704) ![0, 0, 0] S1x1x704.size inb_S1x3x704_S1x1x704_0_0_0)
def tap1 : Vec Ideal S1x1x704 .f32 := View.ld x10 (Rect.unit (s := S1x3x704) ![0, 1, 0] S1x1x704.size inb_S1x3x704_S1x1x704_0_1_0)
def tap2 : Vec Ideal S1x1x704 .f32 := View.ld x10 (Rect.unit (s := S1x3x704) ![0, 2, 0] S1x1x704.size inb_S1x3x704_S1x1x704_0_2_0)

/-- The column block before, and after, by one row. -/
def back : FVec Ideal S512x704 .f32 := k0_pay10 i x7 x8
def fwd : FVec Ideal S512x704 .f32 := k0_pay13 (k0_pay9 i x9) k0_pay11 (k0_pay12 x7)
/-- The block's convolution and its cotangent. -/
def con : FVec Ideal S512x704 .f32 :=
  k0_pay16 (k0_pay6 x7) (k0_pay9 i x9) (back i x7 x8) k0_pay11 (k0_pay12 x7) (tap0 x10) (tap1 x10) (tap2 x10) x11
def dist : FVec Ideal S512x704 .f32 :=
  k0_pay17 (k0_pay6 x7) (k0_pay9 i x9) (back i x7 x8) k0_pay11 (k0_pay12 x7) (tap0 x10) (tap1 x10) (tap2 x10) x11
def dcon : FVec Ideal S512x704 .f32 :=
  k0_pay19 (k0_pay14 x4) (k0_pay15 (k0_pay5 x3) x0) (con i x7 x8 x9 x10 x11) (dist i x7 x8 x9 x10 x11)
    (k0_pay18 (k0_pay6 x7) (k0_pay9 i x9) (back i x7 x8) k0_pay11 (k0_pay12 x7) (tap0 x10) (tap1 x10) (tap2 x10) x11)
/-- The cotangent in the rows before the block. -/
def dprev : FVec Ideal S16x704 .f32 :=
  k0_pay26 (k0_pay7 x8) (k0_pay21 (k0_pay7 x8)) (k0_pay22 (k0_pay6 x7) (k0_pay7 x8)) (k0_pay23 x5) (k0_pay24 (k0_pay5 x3) x1)
    (k0_pay25 (tap0 x10)) (tap1 x10) (tap2 x10) x11
/-- The convolution in the rows after the block. -/
def cnext : FVec Ideal S16x704 .f32 :=
  k0_pay31 (k0_pay8 x9) (k0_pay27 (k0_pay8 x9)) (iota .tc S16x1 32 [0] iota_S16x1_d0_w32) (k0_pay28 (k0_pay6 x7) (k0_pay8 x9)) 15#32
    (tap0 x10) (tap1 x10) (tap2 x10) x11
def enext : FVec Ideal S16x704 .f32 :=
  k0_pay32 (k0_pay8 x9) (k0_pay27 (k0_pay8 x9)) (iota .tc S16x1 32 [0] iota_S16x1_d0_w32) (k0_pay28 (k0_pay6 x7) (k0_pay8 x9)) 15#32
    (tap0 x10) (tap1 x10) (tap2 x10) x11

theorem tap0_at (l : Fin 704) : tap0 x10 (ix3 0 0 l) = x10 (ix3 0 0 l) := congrArg x10 (funext fun a => Fin.ext (match a with
  | ⟨0, _⟩ => by show 0 + 1 * 0 = 0; omega
  | ⟨1, _⟩ => by show 0 + 1 * 0 = 0; omega
  | ⟨2, _⟩ => by show 0 + 1 * l.val = l.val; omega))
theorem tap1_at (l : Fin 704) : tap1 x10 (ix3 0 0 l) = x10 (ix3 0 1 l) := congrArg x10 (funext fun a => Fin.ext (match a with
  | ⟨0, _⟩ => by show 0 + 1 * 0 = 0; omega
  | ⟨1, _⟩ => by show 1 + 1 * 0 = 1; omega
  | ⟨2, _⟩ => by show 0 + 1 * l.val = l.val; omega))
theorem tap2_at (l : Fin 704) : tap2 x10 (ix3 0 0 l) = x10 (ix3 0 2 l) := congrArg x10 (funext fun a => Fin.ext (match a with
  | ⟨0, _⟩ => by show 0 + 1 * 0 = 0; omega
  | ⟨1, _⟩ => by show 2 + 1 * 0 = 2; omega
  | ⟨2, _⟩ => by show 0 + 1 * l.val = l.val; omega))

/-- The weight's row for a column. -/
def wrow (l : Fin 704) (k : Fin 1024) : EReal := x3 (ix3 ⟨l.val / 352, by omega⟩ ⟨l.val % 352, by omega⟩ k)
theorem pay5_at (l : Fin 704) (k : Fin 1024) : k0_pay5 x3 (ix2 l k) = wrow x3 l k := by
  unfold wrow; pointwise [k0_pay5]

theorem back_at (r : Fin 512) (l : Fin 704) : back i x7 x8 (ix2 r l)
    = if r.val = 0 then (if (i 1).val = 0 then 0 else x8 (ix3 0 15 l)) else x7 (ix3 0 ⟨(r.val + 512 - 1) % 512, by omega⟩ l) := by
  have e : back i x7 x8 (ix2 r l) = Scalar.select (IntOp.cmpi .eq (BitVec.ofNat 32 r.val) 0#32)
      (Scalar.select (IntOp.cmpi .eq (BitVec.ofNat 32 (i 1).val) 0#32) 0 (x8 (ix3 0 15 l))) (x7 (ix3 0 ⟨(r.val + 512 - 1) % 512, by omega⟩ l)) := by
    pointwise [back, k0_pay10, k0_pay6, k0_pay7]
    rfl
  have hi : (i 1).val < 4 := (i 1).isLt
  rw [e, select_eq _ 0 (by omega) (by omega), select_eq _ 0 (by omega) (by omega)]
theorem fwd_at (r : Fin 512) (l : Fin 704) : fwd i x7 x9 (ix2 r l)
    = if r.val = 511 then (if (i 1).val = 3 then 0 else x9 (ix3 0 0 l)) else x7 (ix3 0 ⟨(r.val + 512 - 511) % 512, by omega⟩ l) := by
  have e : fwd i x7 x9 (ix2 r l) = Scalar.select (IntOp.cmpi .eq (BitVec.ofNat 32 r.val) 511#32)
      (Scalar.select (IntOp.cmpi .eq (BitVec.ofNat 32 (i 1).val) 3#32) 0 (x9 (ix3 0 0 l))) (x7 (ix3 0 ⟨(r.val + 512 - 511) % 512, by omega⟩ l)) := by
    pointwise [fwd, k0_pay13, k0_pay9, k0_pay8, k0_pay11, k0_pay12, k0_pay6]
    rfl
  have hi : (i 1).val < 4 := (i 1).isLt
  rw [e, select_eq _ 511 (by omega) (by omega), select_eq _ 3 (by omega) (by omega)]

theorem con_at (r : Fin 512) (l : Fin 704) : con i x7 x8 x9 x10 x11 (ix2 r l)
    = back i x7 x8 (ix2 r l) * x10 (ix3 0 0 l) + x7 (ix3 0 r l) * x10 (ix3 0 1 l) + fwd i x7 x9 (ix2 r l) * x10 (ix3 0 2 l) + x11 (ix3 0 0 l) := by
  rw [← tap0_at x10, ← tap1_at x10, ← tap2_at x10]
  unfold con fwd
  generalize k0_pay12 x7 = u, k0_pay9 i x9 = y, back i x7 x8 = z, (k0_pay11 : IVec S512x1 1) = q, tap0 x10 = t0, tap1 x10 = t1, tap2 x10 = t2
  pointwise [k0_pay16, k0_pay6]
theorem dist_at (r : Fin 512) (l : Fin 704) : dist i x7 x8 x9 x10 x11 (ix2 r l) = cdfE (con i x7 x8 x9 x10 x11 (ix2 r l)) := by
  unfold dist con k0_pay17 cdfE
  rw [bits_one]
  simp only [EReal.coe_one]
  generalize k0_pay16 (F := Ideal) _ _ _ _ _ _ _ _ _ = u
  rw [← named_half]
  pointwise
  rfl
theorem dcon_at (r : Fin 512) (l : Fin 704) : dcon i x0 x3 x4 x7 x8 x9 x10 x11 (ix2 r l)
    = gradE (∑ k : Fin 1024, x0 (ix2 r k) * wrow x3 l k) (x4 (ix3 0 r l)) (con i x7 x8 x9 x10 x11 (ix2 r l)) := by
  unfold gradE
  rw [← dist_at, ← named_two_pi]
  unfold dcon k0_pay18
  rw [show k0_pay16 (k0_pay6 x7) (k0_pay9 i x9) (back i x7 x8) k0_pay11 (k0_pay12 x7) (tap0 x10) (tap1 x10) (tap2 x10) x11 = con i x7 x8 x9 x10 x11 from rfl]
  simp only [← pay5_at]
  generalize con i x7 x8 x9 x10 x11 = u, dist i x7 x8 x9 x10 x11 = v, k0_pay5 x3 = w
  pointwise [k0_pay19, k0_pay14, k0_pay15]

theorem dprev_at (l : Fin 704) : dprev x1 x3 x5 x7 x8 x10 x11 (ix2 15 l)
    = gradE (∑ k : Fin 1024, x1 (ix2 15 k) * wrow x3 l k) (x5 (ix3 0 15 l))
        (x8 (ix3 0 14 l) * x10 (ix3 0 0 l) + x8 (ix3 0 15 l) * x10 (ix3 0 1 l) + x7 (ix3 0 0 l) * x10 (ix3 0 2 l) + x11 (ix3 0 0 l)) := by
  have hb : k0_pay21 (k0_pay7 x8) (ix2 15 l) = x8 (ix3 0 14 l) := by pointwise [k0_pay21, k0_pay7]; rfl
  have hf : k0_pay22 (k0_pay6 x7) (k0_pay7 x8) (ix2 15 l) = x7 (ix3 0 0 l) := by pointwise [k0_pay22, k0_pay6, k0_pay7]
  have ht : k0_pay25 (tap0 x10) (ix2 15 l) = x10 (ix3 0 0 l) := by rw [← tap0_at x10]; pointwise [k0_pay25]
  have hz : k0_pay24 (k0_pay5 x3) x1 (ix2 15 l) = ∑ k : Fin 1024, x1 (ix2 15 k) * wrow x3 l k := by
    simp only [← pay5_at]; generalize k0_pay5 x3 = w; pointwise [k0_pay24]
  have hv : k0_pay23 x5 (ix2 15 l) = x5 (ix3 0 15 l) := by pointwise [k0_pay23]
  have hh : k0_pay7 x8 (ix2 15 l) = x8 (ix3 0 15 l) := by pointwise [k0_pay7]
  rw [← hb, ← hf, ← ht, ← hz, ← hv, ← hh, ← tap1_at x10, ← tap2_at x10]
  unfold dprev gradE cdfE
  rw [← named_half, ← named_two_pi, bits_one]
  simp only [EReal.coe_one]
  generalize k0_pay21 (k0_pay7 x8) = a, k0_pay22 (k0_pay6 x7) (k0_pay7 x8) = b, k0_pay25 (tap0 x10) = d, k0_pay24 (k0_pay5 x3) x1 = e,
    k0_pay23 x5 = f, k0_pay7 x8 = g, tap1 x10 = t1, tap2 x10 = t2
  pointwise [k0_pay26]
  rfl
theorem cnext_at (l : Fin 704) : cnext x7 x9 x10 x11 (ix2 0 l)
    = x7 (ix3 0 511 l) * x10 (ix3 0 0 l) + x9 (ix3 0 0 l) * x10 (ix3 0 1 l) + x9 (ix3 0 1 l) * x10 (ix3 0 2 l) + x11 (ix3 0 0 l) := by
  rw [← tap0_at x10, ← tap1_at x10, ← tap2_at x10]
  unfold cnext
  generalize tap0 x10 = t0, tap1 x10 = t1, tap2 x10 = t2
  pointwise [k0_pay31, k0_pay27, k0_pay28, k0_pay6, k0_pay8]
  rfl
theorem enext_at (l : Fin 704) : k0_pay33 (ix2 0 l) * enext x7 x9 x10 x11 (ix2 0 l) = cdfE (cnext x7 x9 x10 x11 (ix2 0 l)) := by
  unfold enext cnext k0_pay32 cdfE
  rw [bits_one]
  simp only [EReal.coe_one]
  generalize k0_pay31 (F := Ideal) _ _ _ _ _ _ _ _ _ = u
  rw [← named_half]
  pointwise [k0_pay33]
  rfl

/-- The gradient with respect to the gate's block. -/
def dback : FVec Ideal S512x704 .f32 :=
  k0_pay34 (Scalar.cmpi .eq (BitVec.ofNat 32 (i 1).val) 0#32) (dcon i x0 x3 x4 x7 x8 x9 x10 x11) (dprev x1 x3 x5 x7 x8 x10 x11)
def dfwd : FVec Ideal S512x704 .f32 :=
  k0_pay35 (Scalar.cmpi .eq (BitVec.ofNat 32 (i 1).val) 3#32) (dcon i x0 x3 x4 x7 x8 x9 x10 x11) (k0_pay29 x6) (k0_pay30 (k0_pay5 x3) x2)
    (cnext x7 x9 x10 x11) (enext x7 x9 x10 x11) k0_pay33 (tap0 x10) (tap1 x10)
theorem dback_at (r : Fin 512) (l : Fin 704) : dback i x0 x1 x3 x4 x5 x7 x8 x9 x10 x11 (ix2 r l)
    = if r.val = 0 then (if (i 1).val = 0 then 0 else dprev x1 x3 x5 x7 x8 x10 x11 (ix2 15 l))
      else dcon i x0 x3 x4 x7 x8 x9 x10 x11 (ix2 ⟨(r.val + 512 - 1) % 512, by omega⟩ l) := by
  unfold dback
  generalize dcon i x0 x3 x4 x7 x8 x9 x10 x11 = u, dprev x1 x3 x5 x7 x8 x10 x11 = v
  have e : k0_pay34 (Scalar.cmpi .eq (BitVec.ofNat 32 (i 1).val) 0#32) u v (ix2 r l) = Scalar.select (IntOp.cmpi .eq (BitVec.ofNat 32 r.val) 0#32)
      (Scalar.select (IntOp.cmpi .eq (BitVec.ofNat 32 (i 1).val) 0#32) 0 (v (ix2 15 l))) (u (ix2 ⟨(r.val + 512 - 1) % 512, by omega⟩ l)) := by
    pointwise [k0_pay34]
    rfl
  have hi : (i 1).val < 4 := (i 1).isLt
  rw [e, select_eq _ 0 (by omega) (by omega), select_eq _ 0 (by omega) (by omega)]
theorem dfwd_at (r : Fin 512) (l : Fin 704) : dfwd i x0 x2 x3 x4 x6 x7 x8 x9 x10 x11 (ix2 r l)
    = (if r.val = 511 then (if (i 1).val = 3 then 0 else
          gradE (∑ k : Fin 1024, x2 (ix2 0 k) * wrow x3 l k) (x6 (ix3 0 0 l)) (cnext x7 x9 x10 x11 (ix2 0 l)))
        else dcon i x0 x3 x4 x7 x8 x9 x10 x11 (ix2 ⟨(r.val + 512 - 511) % 512, by omega⟩ l)) * x10 (ix3 0 0 l)
      + dcon i x0 x3 x4 x7 x8 x9 x10 x11 (ix2 r l) * x10 (ix3 0 1 l) := by
  have hv : k0_pay29 x6 (ix2 0 l) = x6 (ix3 0 0 l) := by pointwise [k0_pay29]
  have hz : k0_pay30 (k0_pay5 x3) x2 (ix2 0 l) = ∑ k : Fin 1024, x2 (ix2 0 k) * wrow x3 l k := by
    simp only [← pay5_at]; generalize k0_pay5 x3 = w; pointwise [k0_pay30]
  unfold gradE
  rw [← enext_at, ← hv, ← hz, ← named_two_pi, ← tap0_at x10, ← tap1_at x10]
  unfold dfwd
  generalize dcon i x0 x3 x4 x7 x8 x9 x10 x11 = u, cnext x7 x9 x10 x11 = a, enext x7 x9 x10 x11 = b, k0_pay29 x6 = d, k0_pay30 (k0_pay5 x3) x2 = f,
    (k0_pay33 : FVec Ideal S16x704 .f32) = g, tap0 x10 = t0, tap1 x10 = t1
  have hi : (i 1).val < 4 := (i 1).isLt
  rw [← select_eq (r.val) 511 (by omega) (by omega), ← select_eq ((i 1).val) 3 (by omega) (by omega)]
  pointwise [k0_pay35]
  rfl

/-- The two gradients' blocks, and a block's sums. -/
def gateOut : Vec Ideal S1x512x704 .bf16 :=
  k0_pay36 (dback i x0 x1 x3 x4 x5 x7 x8 x9 x10 x11) (dfwd i x0 x2 x3 x4 x6 x7 x8 x9 x10 x11) (tap2 x10)
def valOut : Vec Ideal S1x512x704 .bf16 :=
  k0_pay20 (k0_pay15 (k0_pay5 x3) x0) (con i x7 x8 x9 x10 x11) (dist i x7 x8 x9 x10 x11)
theorem gateOut_at (r : Fin 512) (l : Fin 704) : gateOut i x0 x1 x2 x3 x4 x5 x6 x7 x8 x9 x10 x11 (ix3 0 r l)
    = dfwd i x0 x2 x3 x4 x6 x7 x8 x9 x10 x11 (ix2 r l) + dback i x0 x1 x3 x4 x5 x7 x8 x9 x10 x11 (ix2 r l) * x10 (ix3 0 2 l) := by
  rw [← tap2_at x10]
  unfold gateOut
  generalize dback i x0 x1 x3 x4 x5 x7 x8 x9 x10 x11 = u, dfwd i x0 x2 x3 x4 x6 x7 x8 x9 x10 x11 = v, tap2 x10 = t2
  pointwise [k0_pay36]
theorem valOut_at (r : Fin 512) (l : Fin 704) : valOut i x0 x3 x7 x8 x9 x10 x11 (ix3 0 r l)
    = (∑ k : Fin 1024, x0 (ix2 r k) * wrow x3 l k) * (con i x7 x8 x9 x10 x11 (ix2 r l) * cdfE (con i x7 x8 x9 x10 x11 (ix2 r l))) := by
  rw [← dist_at]
  simp only [← pay5_at]
  unfold valOut
  generalize con i x7 x8 x9 x10 x11 = u, dist i x7 x8 x9 x10 x11 = v, k0_pay5 x3 = w
  pointwise [k0_pay20, k0_pay15]
theorem sum0_at (y x : FVec Ideal S512x704 .f32) (a : Vec Ideal S1x1x704 .f32) (l : Fin 704) :
    k0_pay37 y x a (ix3 0 0 l) = a (ix3 0 0 l) + ∑ r : Fin 512, x (ix2 r l) * y (ix2 r l) := by
  pointwise [k0_pay37]
theorem sum1_at (y x : FVec Ideal S512x704 .f32) (a : Vec Ideal S1x1x704 .f32) (l : Fin 704) :
    k0_pay38 y x a (ix3 0 0 l) = a (ix3 0 0 l) + ∑ r : Fin 512, x (ix2 r l) * y (ix2 r l) := by
  pointwise [k0_pay38]
theorem sum2_at (y x : FVec Ideal S512x704 .f32) (a : Vec Ideal S1x1x704 .f32) (l : Fin 704) :
    k0_pay1 (k0_pay39 y x a) (ix3 0 0 l) = a (ix3 0 0 l) + ∑ r : Fin 512, x (ix2 r l) * y (ix2 r l) := by
  pointwise [k0_pay1, k0_pay39]
theorem sumb_at (x : FVec Ideal S512x704 .f32) (a : Vec Ideal S1x1x704 .f32) (l : Fin 704) :
    k0_pay2 x a (ix3 0 0 l) = a (ix3 0 0 l) + ∑ r : Fin 512, x (ix2 r l) := by
  pointwise [k0_pay2]
end

variable (m : (ℓ : Loc nD τ sig) → Buf (Elt Ideal) ℓ)

/-- The three rows of sums, one above the other. -/
def rows (a b d : FVec Ideal S1x1x704 .f32) : Vec Ideal S1x3x704 .f32 := fun y =>
  if (y 1).val = 0 then a (ix3 0 0 (y 2)) else if (y 1).val = 1 then b (ix3 0 0 (y 2)) else d (ix3 0 0 (y 2))

abbrev row0 : Rect S1x3x704 := Rect.unit (s := S1x3x704) ![0, 0, 0] ![1, 1, 704] inb_S1x3x704_S1x1x704_0_0_0
abbrev row1 : Rect S1x3x704 := Rect.unit (s := S1x3x704) ![0, 1, 0] ![1, 1, 704] inb_S1x3x704_S1x1x704_0_1_0
abbrev row2 : Rect S1x3x704 := Rect.unit (s := S1x3x704) ![0, 2, 0] ![1, 1, 704] inb_S1x3x704_S1x1x704_0_2_0
theorem emb0 (l : Fin 704) : (ix3 0 0 l : S1x3x704.Idx) = row0.emb (ix3 0 0 l : S1x1x704.Idx) := funext fun a => Fin.ext (match a with
  | ⟨0, _⟩ => by show 0 = 0 + 1 * 0; omega
  | ⟨1, _⟩ => by show 0 = 0 + 1 * 0; omega
  | ⟨2, _⟩ => by show l.val = 0 + 1 * l.val; omega)
theorem emb1 (l : Fin 704) : (ix3 0 1 l : S1x3x704.Idx) = row1.emb (ix3 0 0 l : S1x1x704.Idx) := funext fun a => Fin.ext (match a with
  | ⟨0, _⟩ => by show 0 = 0 + 1 * 0; omega
  | ⟨1, _⟩ => by show 1 = 1 + 1 * 0; omega
  | ⟨2, _⟩ => by show l.val = 0 + 1 * l.val; omega)
theorem emb2 (l : Fin 704) : (ix3 0 2 l : S1x3x704.Idx) = row2.emb (ix3 0 0 l : S1x1x704.Idx) := funext fun a => Fin.ext (match a with
  | ⟨0, _⟩ => by show 0 = 0 + 1 * 0; omega
  | ⟨1, _⟩ => by show 2 = 2 + 1 * 0; omega
  | ⟨2, _⟩ => by show l.val = 0 + 1 * l.val; omega)

/-- A store's own entries. -/
theorem canon_hit {s : Shape} (r : Rect s) (w : r.shape.Idx → Elt Ideal .f32) (L : List (View.Piece (Elt Ideal) s .f32)) (y : s.Idx) (x : r.shape.Idx)
    (h : y = r.emb x) : View.canon (⟨r, w⟩ :: L) y = w x := by rw [h]; exact View.canon_cons_emb r w L x

/-- Three stores of one row each leave the three rows, whatever was there before. -/
theorem canon_rows (a b d : FVec Ideal S1x1x704 .f32) (L : List (View.Piece (Elt Ideal) S1x3x704 .f32)) :
    View.canon (Val := Elt Ideal) (⟨row2, d⟩ :: ⟨row1, b⟩ :: ⟨row0, a⟩ :: L) = rows a b d := by
  funext y
  obtain ⟨k, l, rfl⟩ : ∃ (k : Fin 3) (l : Fin 704), y = ix3 0 k l := ⟨y 1, y 2, by
    rw [eq_ix3 y]; exact congrArg (fun z => ix3 z (y 1) (y 2)) (Subsingleton.elim _ _)⟩
  have n2 : k.val ≠ 2 → ix3 0 k l ∉ row2.set := fun h hm => by
    obtain ⟨x, hx⟩ := row2.exists_idx_of_mem hm
    have e : 2 + 1 * (x 1).val = k.val := congrArg (fun z : S1x3x704.Idx => (z 1).val) hx
    omega
  have n1 : k.val ≠ 1 → ix3 0 k l ∉ row1.set := fun h hm => by
    obtain ⟨x, hx⟩ := row1.exists_idx_of_mem hm
    have e : 1 + 1 * (x 1).val = k.val := congrArg (fun z : S1x3x704.Idx => (z 1).val) hx
    have e' : (x 1).val < 1 := (x 1).isLt
    omega
  by_cases h2 : k.val = 2
  · obtain rfl : k = 2 := Fin.ext h2
    exact canon_hit row2 d _ (ix3 0 2 l) (ix3 0 0 l : S1x1x704.Idx) (emb2 l)
  refine (View.canon_cons_of_not_mem (⟨row2, d⟩ : View.Piece (Elt Ideal) S1x3x704 .f32) _ (n2 h2)).trans ?_
  by_cases h1 : k.val = 1
  · obtain rfl : k = 1 := Fin.ext h1
    exact canon_hit row1 b _ (ix3 0 1 l) (ix3 0 0 l : S1x1x704.Idx) (emb1 l)
  refine (View.canon_cons_of_not_mem (⟨row1, b⟩ : View.Piece (Elt Ideal) S1x3x704 .f32) _ (n1 h1)).trans ?_
  obtain rfl : k = 0 := Fin.ext (by have := k.isLt; show k.val = 0; omega)
  exact canon_hit row0 a L (ix3 0 0 l) (ix3 0 0 l : S1x1x704.Idx) (emb0 l)

theorem zero3 : ∀ a, (![0, 0, 0] : Fin 3 → Nat) a = 0 := by decide
theorem skip01 : LoadRect.disj row0 row1.toLoadRect = true := by decide
theorem skip12 : LoadRect.disj row1 row2.toLoadRect = true := by decide
theorem skip02 : LoadRect.disj row0 row2.toLoadRect = true := by decide

/-- What a point leaves in the four result blocks: the first over zeros, the later ones over what the point before left. -/
theorem outs_A (c : Dev nD) (t : Fin cfg0.N) (h0 : t.val % 4 = 0) :
    outsAt0 m c t.val t.isLt = (valOut (grid0.coords t) (iblk m c 0 t) (iblk m c 3 t) (iblk m c 7 t) (iblk m c 8 t) (iblk m c 9 t) (iblk m c 10 t) (iblk m c 11 t), gateOut (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t),
      rows (k0_pay37 (back (grid0.coords t) (iblk m c 7 t) (iblk m c 8 t)) (dcon (grid0.coords t) (iblk m c 0 t) (iblk m c 3 t) (iblk m c 4 t) (iblk m c 7 t) (iblk m c 8 t) (iblk m c 9 t) (iblk m c 10 t) (iblk m c 11 t)) (tap0 (k0_pay3 (F := Ideal)))) (k0_pay38 (k0_pay6 (iblk m c 7 t)) (dcon (grid0.coords t) (iblk m c 0 t) (iblk m c 3 t) (iblk m c 4 t) (iblk m c 7 t) (iblk m c 8 t) (iblk m c 9 t) (iblk m c 10 t) (iblk m c 11 t)) (tap1 (k0_pay3 (F := Ideal)))) (k0_pay1 (k0_pay39 (fwd (grid0.coords t) (iblk m c 7 t) (iblk m c 9 t)) (dcon (grid0.coords t) (iblk m c 0 t) (iblk m c 3 t) (iblk m c 4 t) (iblk m c 7 t) (iblk m c 8 t) (iblk m c 9 t) (iblk m c 10 t) (iblk m c 11 t)) (tap2 (k0_pay3 (F := Ideal))))), k0_pay2 (dcon (grid0.coords t) (iblk m c 0 t) (iblk m c 3 t) (iblk m c 4 t) (iblk m c 7 t) (iblk m c 8 t) (iblk m c 9 t) (iblk m c 10 t) (iblk m c 11 t)) (k0_pay4 (F := Ideal))) := by
  rw [outsAt0_A m c t h0]
  refine Prod.ext ?_ (Prod.ext ?_ (Prod.ext ?_ ?_)) <;> dsimp only [gateOut, valOut, dback, dfwd, dcon, dprev, cnext, enext, con, dist, back, fwd, tap0, tap1, tap2]
  · unfold out0_A_12
    rw [View.read_writes_eq_canon _ _ _ (cover0_A_12 _ _ _ _ _ _ _ _ _ _ _ _ _ _ _ _ _ _ _ _ _ _ _ _ _ _ _ _ _ _ _ _ _ _ _ _ _ _ _ _ _ _ _ _ _ _ _ )]
    unfold kernelRun0_A
    dsimp only
    sl_unfold_words
    rw [View.canon_unit_zero hz3]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_14 t).read_unread, (hs0_15 t).read_unread, View.ld_unit_zero (S := S512x1024) hz2, View.ld_unit_zero (S := S16x1024) hz2, View.ld_unit_zero (S := S2x352x1024) hz3, View.ld_unit_zero (S := S1x512x704) hz3, View.ld_unit_zero (S := S1x16x704) hz3, View.ld_unit_zero (S := S1x1x704) hz3]
  · unfold out0_A_13
    rw [View.read_writes_eq_canon _ _ _ (cover0_A_13 _ _ _ _ _ _ _ _ _ _ _ _ _ _ _ _ _ _ _ _ _ _ _ _ _ _ _ _ _ _ _ _ _ _ _ _ _ _ _ _ _ _ _ _ _ _ _ )]
    unfold kernelRun0_A
    dsimp only
    sl_unfold_words
    rw [View.canon_unit_zero hz3]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_14 t).read_unread, (hs0_15 t).read_unread, View.ld_unit_zero (S := S512x1024) hz2, View.ld_unit_zero (S := S16x1024) hz2, View.ld_unit_zero (S := S2x352x1024) hz3, View.ld_unit_zero (S := S1x512x704) hz3, View.ld_unit_zero (S := S1x16x704) hz3, View.ld_unit_zero (S := S1x1x704) hz3]
  · unfold out0_A_14
    rw [View.read_writes_eq_canon _ _ _ (cover0_A_14 _ _ _ _ _ _ _ _ _ _ _ _ _ _ _ _ _ _ _ _ _ _ _ _ _ _ _ _ _ _ _ _ _ _ _ _ _ _ _ _ _ _ _ _ _ _ _ )]
    unfold kernelRun0_A
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_14 t).read_unread, (hs0_15 t).read_unread, View.ld_unit_zero (S := S512x1024) hz2, View.ld_unit_zero (S := S16x1024) hz2, View.ld_unit_zero (S := S2x352x1024) hz3, View.ld_unit_zero (S := S1x512x704) hz3, View.ld_unit_zero (S := S1x16x704) hz3, View.ld_unit_zero (S := S1x1x704) hz3]
    simp only [View.readCov_fill (s := S1x3x704) _ _ _ _ _ zero3, View.readCov_skip _ _ _ _ _ skip01, View.readCov_skip _ _ _ _ _ skip12, View.readCov_skip _ _ _ _ _ skip02]
    exact canon_rows _ _ _ _
  · unfold out0_A_15
    rw [View.read_writes_eq_canon _ _ _ (cover0_A_15 _ _ _ _ _ _ _ _ _ _ _ _ _ _ _ _ _ _ _ _ _ _ _ _ _ _ _ _ _ _ _ _ _ _ _ _ _ _ _ _ _ _ _ _ _ _ _ )]
    unfold kernelRun0_A
    dsimp only
    sl_unfold_words
    rw [View.canon_cons_unit_zero (S := S1x1x704) hz3, View.readCov_unit_zero (S := S1x1x704) _ hz3]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_14 t).read_unread, (hs0_15 t).read_unread, View.ld_unit_zero (S := S512x1024) hz2, View.ld_unit_zero (S := S16x1024) hz2, View.ld_unit_zero (S := S2x352x1024) hz3, View.ld_unit_zero (S := S1x512x704) hz3, View.ld_unit_zero (S := S1x16x704) hz3, View.ld_unit_zero (S := S1x1x704) hz3]
theorem outs_B (c : Dev nD) (t : Fin cfg0.N) (h0 : ¬t.val % 4 = 0) :
    outsAt0 m c t.val t.isLt = (valOut (grid0.coords t) (iblk m c 0 t) (iblk m c 3 t) (iblk m c 7 t) (iblk m c 8 t) (iblk m c 9 t) (iblk m c 10 t) (iblk m c 11 t), gateOut (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t),
      rows (k0_pay37 (back (grid0.coords t) (iblk m c 7 t) (iblk m c 8 t)) (dcon (grid0.coords t) (iblk m c 0 t) (iblk m c 3 t) (iblk m c 4 t) (iblk m c 7 t) (iblk m c 8 t) (iblk m c 9 t) (iblk m c 10 t) (iblk m c 11 t)) (tap0 (outsAt0 m c (t.val - 1) (Nat.lt_of_le_of_lt (Nat.sub_le _ _) t.isLt)).2.2.1)) (k0_pay38 (k0_pay6 (iblk m c 7 t)) (dcon (grid0.coords t) (iblk m c 0 t) (iblk m c 3 t) (iblk m c 4 t) (iblk m c 7 t) (iblk m c 8 t) (iblk m c 9 t) (iblk m c 10 t) (iblk m c 11 t)) (tap1 (outsAt0 m c (t.val - 1) (Nat.lt_of_le_of_lt (Nat.sub_le _ _) t.isLt)).2.2.1)) (k0_pay1 (k0_pay39 (fwd (grid0.coords t) (iblk m c 7 t) (iblk m c 9 t)) (dcon (grid0.coords t) (iblk m c 0 t) (iblk m c 3 t) (iblk m c 4 t) (iblk m c 7 t) (iblk m c 8 t) (iblk m c 9 t) (iblk m c 10 t) (iblk m c 11 t)) (tap2 (outsAt0 m c (t.val - 1) (Nat.lt_of_le_of_lt (Nat.sub_le _ _) t.isLt)).2.2.1))), k0_pay2 (dcon (grid0.coords t) (iblk m c 0 t) (iblk m c 3 t) (iblk m c 4 t) (iblk m c 7 t) (iblk m c 8 t) (iblk m c 9 t) (iblk m c 10 t) (iblk m c 11 t)) (outsAt0 m c (t.val - 1) (Nat.lt_of_le_of_lt (Nat.sub_le _ _) t.isLt)).2.2.2) := by
  rw [outsAt0_B m c t h0]
  refine Prod.ext ?_ (Prod.ext ?_ (Prod.ext ?_ ?_)) <;> dsimp only [gateOut, valOut, dback, dfwd, dcon, dprev, cnext, enext, con, dist, back, fwd, tap0, tap1, tap2]
  · unfold out0_B_12
    rw [View.read_writes_eq_canon _ _ _ (cover0_B_12 _ _ _ _ _ _ _ _ _ _ _ _ _ _ _ _ _ _ _ _ _ _ _ _ _ _ _ _ _ _ _ _ _ _ _ _ _ _ _ _ _ _ _ _ _ _ _ _ _ )]
    unfold kernelRun0_B
    dsimp only
    sl_unfold_words
    rw [View.canon_unit_zero hz3]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_14 t).read_unread, (hs0_15 t).read_unread, View.ld_unit_zero (S := S512x1024) hz2, View.ld_unit_zero (S := S16x1024) hz2, View.ld_unit_zero (S := S2x352x1024) hz3, View.ld_unit_zero (S := S1x512x704) hz3, View.ld_unit_zero (S := S1x16x704) hz3, View.ld_unit_zero (S := S1x1x704) hz3]
  · unfold out0_B_13
    rw [View.read_writes_eq_canon _ _ _ (cover0_B_13 _ _ _ _ _ _ _ _ _ _ _ _ _ _ _ _ _ _ _ _ _ _ _ _ _ _ _ _ _ _ _ _ _ _ _ _ _ _ _ _ _ _ _ _ _ _ _ _ _ )]
    unfold kernelRun0_B
    dsimp only
    sl_unfold_words
    rw [View.canon_unit_zero hz3]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_14 t).read_unread, (hs0_15 t).read_unread, View.ld_unit_zero (S := S512x1024) hz2, View.ld_unit_zero (S := S16x1024) hz2, View.ld_unit_zero (S := S2x352x1024) hz3, View.ld_unit_zero (S := S1x512x704) hz3, View.ld_unit_zero (S := S1x16x704) hz3, View.ld_unit_zero (S := S1x1x704) hz3]
  · unfold out0_B_14
    rw [View.read_writes_eq_canon _ _ _ (cover0_B_14 _ _ _ _ _ _ _ _ _ _ _ _ _ _ _ _ _ _ _ _ _ _ _ _ _ _ _ _ _ _ _ _ _ _ _ _ _ _ _ _ _ _ _ _ _ _ _ _ _ )]
    unfold kernelRun0_B
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_14 t).read_unread, (hs0_15 t).read_unread, View.ld_unit_zero (S := S512x1024) hz2, View.ld_unit_zero (S := S16x1024) hz2, View.ld_unit_zero (S := S2x352x1024) hz3, View.ld_unit_zero (S := S1x512x704) hz3, View.ld_unit_zero (S := S1x16x704) hz3, View.ld_unit_zero (S := S1x1x704) hz3]
    exact canon_rows _ _ _ _
  · unfold out0_B_15
    rw [View.read_writes_eq_canon _ _ _ (cover0_B_15 _ _ _ _ _ _ _ _ _ _ _ _ _ _ _ _ _ _ _ _ _ _ _ _ _ _ _ _ _ _ _ _ _ _ _ _ _ _ _ _ _ _ _ _ _ _ _ _ _ )]
    unfold kernelRun0_B
    dsimp only
    sl_unfold_words
    rw [View.canon_unit_zero hz3]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_14 t).read_unread, (hs0_15 t).read_unread, View.ld_unit_zero (S := S512x1024) hz2, View.ld_unit_zero (S := S16x1024) hz2, View.ld_unit_zero (S := S2x352x1024) hz3, View.ld_unit_zero (S := S1x512x704) hz3, View.ld_unit_zero (S := S1x16x704) hz3, View.ld_unit_zero (S := S1x1x704) hz3]

end Cert.FfnIdeal.Value
end
-- ==== Proof.FfnBlock.lean ====
/-
  One point of the activation's gradient over the reals: from what its blocks hold of a column, the column's values it leaves.
-/
module

public import proofs.«01_k».proof.Proof.FfnKernel

@[expose] public section

set_option maxRecDepth 16384
noncomputable section
open Idealize.ShloMosaic Idealize.ShloMosaic.TcCoe Idealize.SL.Sem
namespace Cert.FfnIdeal.Value
open Cert.FfnIdeal Cert.FfnIdeal.Gen Cert.Step Cert.Step.Ffn

/-- What a point's twelve blocks hold of one lane's column: the gate `h`, the value `v`, the product `z`, the taps `w`, the bias `b`. -/
structure Lane (i : grid0.Coords) (x0 : Vec Ideal S512x1024 .bf16) (x1 x2 : Vec Ideal S16x1024 .bf16) (x3 : Vec Ideal S2x352x1024 .bf16)
    (x4 : Vec Ideal S1x512x704 .bf16) (x5 x6 : Vec Ideal S1x16x704 .bf16) (x7 : Vec Ideal S1x512x704 .bf16) (x8 x9 : Vec Ideal S1x16x704 .bf16)
    (x10 : Vec Ideal S1x3x704 .f32) (x11 : Vec Ideal S1x1x704 .f32) (l : Fin 704) (w : Fin 3 → ℝ) (b : ℝ) (h v z : ℕ → ℝ) : Prop where
  z0 : ∀ r : Fin 512, (∑ k : Fin 1024, x0 (ix2 r k) * wrow x3 l k) = ((z (512 * (i 1).val + r.val) : ℝ) : EReal)
  z1 : (i 1).val ≠ 0 → (∑ k : Fin 1024, x1 (ix2 15 k) * wrow x3 l k) = ((z (512 * (i 1).val - 1) : ℝ) : EReal)
  z2 : (i 1).val ≠ 3 → (∑ k : Fin 1024, x2 (ix2 0 k) * wrow x3 l k) = ((z (512 * (i 1).val + 512) : ℝ) : EReal)
  v0 : ∀ r : Fin 512, x4 (ix3 0 r l) = ((v (512 * (i 1).val + r.val) : ℝ) : EReal)
  v1 : (i 1).val ≠ 0 → x5 (ix3 0 15 l) = ((v (512 * (i 1).val - 1) : ℝ) : EReal)
  v2 : (i 1).val ≠ 3 → x6 (ix3 0 0 l) = ((v (512 * (i 1).val + 512) : ℝ) : EReal)
  h0 : ∀ r : Fin 512, x7 (ix3 0 r l) = ((h (512 * (i 1).val + r.val) : ℝ) : EReal)
  h1 : (i 1).val ≠ 0 → ∀ e : Fin 16, x8 (ix3 0 e l) = ((h (512 * (i 1).val - 16 + e.val) : ℝ) : EReal)
  h2 : (i 1).val ≠ 3 → ∀ e : Fin 16, x9 (ix3 0 e l) = ((h (512 * (i 1).val + 512 + e.val) : ℝ) : EReal)
  w : ∀ k : Fin 3, x10 (ix3 0 k l) = ((w k : ℝ) : EReal)
  b : x11 (ix3 0 0 l) = ((b : ℝ) : EReal)

namespace Lane
variable {i : grid0.Coords} {x0 : Vec Ideal S512x1024 .bf16} {x1 x2 : Vec Ideal S16x1024 .bf16} {x3 : Vec Ideal S2x352x1024 .bf16}
    {x4 : Vec Ideal S1x512x704 .bf16} {x5 x6 : Vec Ideal S1x16x704 .bf16} {x7 : Vec Ideal S1x512x704 .bf16} {x8 x9 : Vec Ideal S1x16x704 .bf16}
    {x10 : Vec Ideal S1x3x704 .f32} {x11 : Vec Ideal S1x1x704 .f32} {l : Fin 704} {w : Fin 3 → ℝ} {b : ℝ} {h v z : ℕ → ℝ}
    (H : Lane i x0 x1 x2 x3 x4 x5 x6 x7 x8 x9 x10 x11 l w b h v z)
include H

theorem mid_eq (r : Fin 512) : x7 (ix3 0 r l) = ((pad h (512 * (i 1).val + r.val + 1) : ℝ) : EReal) := by
  have hi : (i 1).val < 4 := (i 1).isLt
  rw [H.h0, pad_succ _ _ (by omega)]
theorem back_eq (r : Fin 512) : back i x7 x8 (ix2 r l) = ((pad h (512 * (i 1).val + r.val) : ℝ) : EReal) := by
  have hi : (i 1).val < 4 := (i 1).isLt
  rw [back_at]
  by_cases hr : r.val = 0
  · rw [if_pos hr, hr]
    by_cases h0 : (i 1).val = 0
    · rw [if_pos h0, h0]; exact (congrArg (fun x : ℝ => (x : EReal)) (pad_zero h)).symm
    · rw [if_neg h0, H.h1 h0, show 512 * (i 1).val + 0 = (512 * (i 1).val - 1) + 1 by omega, pad_succ _ _ (by omega)]
      exact congrArg (fun n => ((h n : ℝ) : EReal)) (by show 512 * (i 1).val - 16 + 15 = _; omega)
  · rw [if_neg hr, H.h0, show 512 * (i 1).val + r.val = (512 * (i 1).val + r.val - 1) + 1 by omega, pad_succ _ _ (by omega)]
    exact congrArg (fun n => ((h n : ℝ) : EReal)) (by show 512 * (i 1).val + (r.val + 512 - 1) % 512 = _; omega)
theorem fwd_eq (r : Fin 512) : fwd i x7 x9 (ix2 r l) = ((pad h (512 * (i 1).val + r.val + 2) : ℝ) : EReal) := by
  have hi : (i 1).val < 4 := (i 1).isLt
  rw [fwd_at]
  by_cases hr : r.val = 511
  · rw [if_pos hr, hr]
    by_cases h0 : (i 1).val = 3
    · rw [if_pos h0, h0]; exact (congrArg (fun x : ℝ => (x : EReal)) (pad_end h)).symm
    · rw [if_neg h0, H.h2 h0, show 512 * (i 1).val + 511 + 2 = (512 * (i 1).val + 512) + 1 by omega, pad_succ _ _ (by omega)]
      rfl
  · rw [if_neg hr, H.h0, show 512 * (i 1).val + r.val + 2 = (512 * (i 1).val + r.val + 1) + 1 by omega, pad_succ _ _ (by omega)]
    exact congrArg (fun n => ((h n : ℝ) : EReal)) (by show 512 * (i 1).val + (r.val + 512 - 511) % 512 = _; omega)
theorem con_eq (r : Fin 512) : con i x7 x8 x9 x10 x11 (ix2 r l) = ((conv w b h (512 * (i 1).val + r.val) : ℝ) : EReal) := by
  rw [con_at, H.back_eq, H.mid_eq, H.fwd_eq, H.w, H.w, H.w, H.b, conv]
  simp only [← EReal.coe_mul, ← EReal.coe_add]
theorem dcon_eq (r : Fin 512) : dcon i x0 x3 x4 x7 x8 x9 x10 x11 (ix2 r l) = ((dconv w b h v z (512 * (i 1).val + r.val) : ℝ) : EReal) := by
  rw [dcon_at, H.z0, H.v0, H.con_eq, gradE_coe, dconv]
theorem dprev_eq (h0 : (i 1).val ≠ 0) : dprev x1 x3 x5 x7 x8 x10 x11 (ix2 15 l) = ((dconv w b h v z (512 * (i 1).val - 1) : ℝ) : EReal) := by
  have hi : (i 1).val < 4 := (i 1).isLt
  have e : x8 (ix3 0 14 l) * x10 (ix3 0 0 l) + x8 (ix3 0 15 l) * x10 (ix3 0 1 l) + x7 (ix3 0 0 l) * x10 (ix3 0 2 l) + x11 (ix3 0 0 l)
      = ((conv w b h (512 * (i 1).val - 1) : ℝ) : EReal) := by
    rw [H.h1 h0, H.h1 h0, H.h0, H.w, H.w, H.w, H.b, conv, show pad h (512 * (i 1).val - 1) = h (512 * (i 1).val - 16 + 14) from
      (congrArg (pad h) (by omega)).trans (pad_succ h (512 * (i 1).val - 16 + 14) (by omega)), show pad h (512 * (i 1).val - 1 + 1) = h (512 * (i 1).val - 16 + 15) from
      (congrArg (pad h) (by omega)).trans (pad_succ h (512 * (i 1).val - 16 + 15) (by omega)), show pad h (512 * (i 1).val - 1 + 2) = h (512 * (i 1).val + 0) from
      (congrArg (pad h) (by omega)).trans (pad_succ h (512 * (i 1).val + 0) (by omega))]
    simp only [EReal.coe_mul, EReal.coe_add]
    rfl
  rw [dprev_at, e, H.z1 h0, H.v1 h0, gradE_coe, dconv]
theorem cnext_eq (h0 : (i 1).val ≠ 3) : cnext x7 x9 x10 x11 (ix2 0 l) = ((conv w b h (512 * (i 1).val + 512) : ℝ) : EReal) := by
  have hi : (i 1).val < 4 := (i 1).isLt
  rw [cnext_at, H.h2 h0, H.h2 h0, H.h0, H.w, H.w, H.w, H.b, conv, show pad h (512 * (i 1).val + 512) = h (512 * (i 1).val + 511) from
      pad_succ h _ (by omega), pad_succ h _ (by omega), show pad h (512 * (i 1).val + 512 + 2) = h (512 * (i 1).val + 512 + 1) from
      pad_succ h _ (by omega)]
  simp only [EReal.coe_mul, EReal.coe_add]
  rfl
theorem dback_eq (r : Fin 512) : dback i x0 x1 x3 x4 x5 x7 x8 x9 x10 x11 (ix2 r l)
    = ((pad (dconv w b h v z) (512 * (i 1).val + r.val) : ℝ) : EReal) := by
  have hi : (i 1).val < 4 := (i 1).isLt
  rw [dback_at]
  by_cases hr : r.val = 0
  · rw [if_pos hr, hr]
    by_cases h0 : (i 1).val = 0
    · rw [if_pos h0, h0]; exact (congrArg (fun x : ℝ => (x : EReal)) (pad_zero (dconv w b h v z))).symm
    · rw [if_neg h0, H.dprev_eq h0, show 512 * (i 1).val + 0 = (512 * (i 1).val - 1) + 1 by omega, pad_succ _ _ (by omega)]
  · rw [if_neg hr, H.dcon_eq, show 512 * (i 1).val + r.val = (512 * (i 1).val + r.val - 1) + 1 by omega, pad_succ _ _ (by omega)]
    exact congrArg (fun n => ((dconv w b h v z n : ℝ) : EReal)) (by show 512 * (i 1).val + (r.val + 512 - 1) % 512 = _; omega)
theorem dfwd_eq (r : Fin 512) : dfwd i x0 x2 x3 x4 x6 x7 x8 x9 x10 x11 (ix2 r l)
    = ((pad (dconv w b h v z) (512 * (i 1).val + r.val + 2) * w 0 + dconv w b h v z (512 * (i 1).val + r.val) * w 1 : ℝ) : EReal) := by
  have hi : (i 1).val < 4 := (i 1).isLt
  have e : (if r.val = 511 then (if (i 1).val = 3 then 0 else
          gradE (∑ k : Fin 1024, x2 (ix2 0 k) * wrow x3 l k) (x6 (ix3 0 0 l)) (cnext x7 x9 x10 x11 (ix2 0 l)))
        else dcon i x0 x3 x4 x7 x8 x9 x10 x11 (ix2 ⟨(r.val + 512 - 511) % 512, by omega⟩ l))
      = ((pad (dconv w b h v z) (512 * (i 1).val + r.val + 2) : ℝ) : EReal) := by
    by_cases hr : r.val = 511
    · rw [if_pos hr, hr]
      by_cases h0 : (i 1).val = 3
      · rw [if_pos h0, h0]; exact (congrArg (fun x : ℝ => (x : EReal)) (pad_end (dconv w b h v z))).symm
      · rw [if_neg h0, H.cnext_eq h0, H.z2 h0, H.v2 h0, gradE_coe, show 512 * (i 1).val + 511 + 2 = (512 * (i 1).val + 512) + 1 by omega,
          pad_succ _ _ (by omega), dconv]
    · rw [if_neg hr, H.dcon_eq, show 512 * (i 1).val + r.val + 2 = (512 * (i 1).val + r.val + 1) + 1 by omega, pad_succ _ _ (by omega)]
      exact congrArg (fun n => ((dconv w b h v z n : ℝ) : EReal)) (by show 512 * (i 1).val + (r.val + 512 - 511) % 512 = _; omega)
  rw [dfwd_at, e, H.dcon_eq, H.w, H.w]
  simp only [← EReal.coe_mul, ← EReal.coe_add]
theorem gate_eq (r : Fin 512) : gateOut i x0 x1 x2 x3 x4 x5 x6 x7 x8 x9 x10 x11 (ix3 0 r l)
    = ((dgate w b h v z (512 * (i 1).val + r.val) : ℝ) : EReal) := by
  rw [gateOut_at, H.dfwd_eq, H.dback_eq, H.w, dgate]
  simp only [← EReal.coe_mul, ← EReal.coe_add]
theorem val_eq (r : Fin 512) : valOut i x0 x3 x7 x8 x9 x10 x11 (ix3 0 r l) = ((dval w b h z (512 * (i 1).val + r.val) : ℝ) : EReal) := by
  rw [valOut_at, H.z0, H.con_eq, cdfE_coe, dval]
  simp only [← EReal.coe_mul]
/-- The block's sums, over what was there before. -/
theorem tap0_eq (a : Vec Ideal S1x1x704 .f32) : k0_pay37 (back i x7 x8) (dcon i x0 x3 x4 x7 x8 x9 x10 x11) a (ix3 0 0 l)
    = a (ix3 0 0 l) + ((∑ r : Fin 512, dtap w b h v z 0 (512 * (i 1).val + r.val) : ℝ) : EReal) := by
  rw [sum0_at, ← sum_coe]
  refine congrArg _ (Finset.sum_congr rfl fun r _ => ?_)
  rw [H.dcon_eq, H.back_eq, ← EReal.coe_mul]; rfl
theorem tap1_eq (a : Vec Ideal S1x1x704 .f32) : k0_pay38 (k0_pay6 x7) (dcon i x0 x3 x4 x7 x8 x9 x10 x11) a (ix3 0 0 l)
    = a (ix3 0 0 l) + ((∑ r : Fin 512, dtap w b h v z 1 (512 * (i 1).val + r.val) : ℝ) : EReal) := by
  rw [sum1_at, ← sum_coe]
  refine congrArg _ (Finset.sum_congr rfl fun r _ => ?_)
  rw [H.dcon_eq, show k0_pay6 x7 (ix2 r l) = x7 (ix3 0 r l) by pointwise [k0_pay6], H.mid_eq, ← EReal.coe_mul]; rfl
theorem tap2_eq (a : Vec Ideal S1x1x704 .f32) : k0_pay1 (k0_pay39 (fwd i x7 x9) (dcon i x0 x3 x4 x7 x8 x9 x10 x11) a) (ix3 0 0 l)
    = a (ix3 0 0 l) + ((∑ r : Fin 512, dtap w b h v z 2 (512 * (i 1).val + r.val) : ℝ) : EReal) := by
  rw [sum2_at, ← sum_coe]
  refine congrArg _ (Finset.sum_congr rfl fun r _ => ?_)
  rw [H.dcon_eq, H.fwd_eq, ← EReal.coe_mul]; rfl
theorem bias_eq (a : Vec Ideal S1x1x704 .f32) : k0_pay2 (dcon i x0 x3 x4 x7 x8 x9 x10 x11) a (ix3 0 0 l)
    = a (ix3 0 0 l) + ((∑ r : Fin 512, dconv w b h v z (512 * (i 1).val + r.val) : ℝ) : EReal) := by
  rw [sumb_at, ← sum_coe]
  exact congrArg _ (Finset.sum_congr rfl fun r _ => H.dcon_eq r)
end Lane

end Cert.FfnIdeal.Value
end
-- ==== Proof.FfnRun.lean ====
/-
  The kernel's run of the activation's gradient: the blocks of a point as rows and columns of the arguments, the sums over the
  four blocks of rows of a slab, and the four result arrays.
-/
module

public import proofs.«01_k».proof.Proof.FfnBlock
public import proofs.«01_k».proof.Proof.Gen.FfnIdeal.Value

@[expose] public section

set_option maxRecDepth 16384
noncomputable section
open Idealize.ShloMosaic Idealize.ShloMosaic.TcCoe Idealize.SL.Sem
namespace Cert.FfnIdeal.Value
open Cert.FfnIdeal Cert.FfnIdeal.Gen Cert.Step Cert.Step.Ffn

variable (m : (ℓ : Loc nD τ sig) → Buf (Elt Ideal) ℓ)

abbrev argX (c : Dev nD) : S2048x5632.Idx → EReal := m ((c : Thread nD τ).loc main_arg0)
abbrev argW (c : Dev nD) : S3x2816.Idx → EReal := m ((c : Thread nD τ).loc main_arg1)
abbrev argB (c : Dev nD) : S2816.Idx → EReal := m ((c : Thread nD τ).loc main_arg2)
abbrev argD (c : Dev nD) : S2816x1024.Idx → EReal := m ((c : Thread nD τ).loc main_arg3)
abbrev argC (c : Dev nD) : S2048x1024.Idx → EReal := m ((c : Thread nD τ).loc main_arg4)

/-- What the program prepares before the kernel: the two halves in column slabs, the down weight in blocks of rows, taps and bias in slabs. -/
theorem V_half (c : Dev nD) (p : Fin 8) (n : Fin 2048) (l : Fin 704) :
    (V m c main_v2 : S8x2048x704.Idx → EReal) (ix3 p n l) = argX m c (ix2 n ⟨p.val * 704 + l.val, by omega⟩) := by
  have h : V m c main_v2 = transpose S8x2048x704 [1, 0, 2] (shapeCast S2048x8x704 (argX m c) shapeCasts_S2048x5632_S2048x8x704) transposes_S2048x8x704_S8x2048x704_1_0_2 := by
    unfold V hostOps0
    after_results <;> rfl
  rw [h]
  pointwise []
theorem V_ct (c : Dev nD) : V m c main_v3 = argC m c := by
  unfold V hostOps0
  after_results <;> rfl
theorem V_down (c : Dev nD) (p : Fin 8) (q : Fin 352) (k : Fin 1024) :
    (V m c main_v5 : S8x352x1024.Idx → EReal) (ix3 p q k) = argD m c (ix2 ⟨p.val * 352 + q.val, by omega⟩ k) := by
  have h : V m c main_v5 = shapeCast S8x352x1024 (argD m c) shapeCasts_S2816x1024_S8x352x1024 := by
    unfold V hostOps0
    after_results <;> rfl
  rw [h]
  pointwise []
theorem V_taps (c : Dev nD) (p : Fin 4) (k : Fin 3) (l : Fin 704) :
    (V m c main_v7 : S4x3x704.Idx → EReal) (ix3 p k l) = argW m c (ix2 k ⟨p.val * 704 + l.val, by omega⟩) := by
  have h : V m c main_v7 = transpose S4x3x704 [1, 0, 2] (shapeCast S3x4x704 (argW m c) shapeCasts_S3x2816_S3x4x704) transposes_S3x4x704_S4x3x704_1_0_2 := by
    unfold V hostOps0
    after_results <;> rfl
  rw [h]
  pointwise []
theorem V_bias (c : Dev nD) (p : Fin 4) (l : Fin 704) :
    (V m c main_v8 : S4x1x704.Idx → EReal) (ix3 p 0 l) = argB m c (ix1 ⟨p.val * 704 + l.val, by omega⟩) := by
  have h : V m c main_v8 = shapeCast S4x1x704 (argB m c) shapeCasts_S2816_S4x1x704 := by
    unfold V hostOps0
    after_results <;> rfl
  rw [h]
  pointwise []

theorem pt (t : Fin cfg0.N) : t.val < 16 := lt_of_lt_of_eq t.isLt N_0
theorem coord : ∀ t : Fin grid0.N, (grid0.coords t 0).val = t.val / 4 ∧ (grid0.coords t 1).val = t.val % 4 := by decide +kernel

theorem index0 : ∀ t : Fin grid0.N, win0_0.index t 0 = t.val % 4 ∧ win0_0.index t 1 = 0 := by decide +kernel
theorem index1 : ∀ t : Fin grid0.N, win0_1.index t 0 = 32 * (t.val % 4) - 1 ∧ win0_1.index t 1 = 0 := by decide +kernel
theorem index2 : ∀ t : Fin grid0.N, win0_2.index t 0 = min (32 * (t.val % 4 + 1)) 127 ∧ win0_2.index t 1 = 0 := by decide +kernel
theorem index3 : ∀ t : Fin grid0.N, win0_3.index t 0 = t.val / 4 ∧ win0_3.index t 1 = 0 ∧ win0_3.index t 2 = 0 := by decide +kernel
theorem index4 : ∀ t : Fin grid0.N, win0_4.index t 0 = t.val / 4 ∧ win0_4.index t 1 = t.val % 4 ∧ win0_4.index t 2 = 0 := by decide +kernel
theorem index5 : ∀ t : Fin grid0.N, win0_5.index t 0 = t.val / 4 ∧ win0_5.index t 1 = 32 * (t.val % 4) - 1 ∧ win0_5.index t 2 = 0 := by decide +kernel
theorem index6 : ∀ t : Fin grid0.N, win0_6.index t 0 = t.val / 4 ∧ win0_6.index t 1 = min (32 * (t.val % 4 + 1)) 127 ∧ win0_6.index t 2 = 0 := by decide +kernel
theorem index7 : ∀ t : Fin grid0.N, win0_7.index t 0 = 4 + t.val / 4 ∧ win0_7.index t 1 = t.val % 4 ∧ win0_7.index t 2 = 0 := by decide +kernel
theorem index8 : ∀ t : Fin grid0.N, win0_8.index t 0 = 4 + t.val / 4 ∧ win0_8.index t 1 = 32 * (t.val % 4) - 1 ∧ win0_8.index t 2 = 0 := by decide +kernel
theorem index9 : ∀ t : Fin grid0.N, win0_9.index t 0 = 4 + t.val / 4 ∧ win0_9.index t 1 = min (32 * (t.val % 4 + 1)) 127 ∧ win0_9.index t 2 = 0 := by decide +kernel
theorem index10 : ∀ t : Fin grid0.N, win0_10.index t 0 = t.val / 4 ∧ win0_10.index t 1 = 0 ∧ win0_10.index t 2 = 0 := by decide +kernel
theorem index11 : ∀ t : Fin grid0.N, win0_11.index t 0 = t.val / 4 ∧ win0_11.index t 1 = 0 ∧ win0_11.index t 2 = 0 := by decide +kernel
theorem index12 : ∀ t : Fin grid0.N, win0_12.index t 0 = t.val / 4 ∧ win0_12.index t 1 = t.val % 4 ∧ win0_12.index t 2 = 0 := by decide +kernel
theorem index13 : ∀ t : Fin grid0.N, win0_13.index t 0 = t.val / 4 ∧ win0_13.index t 1 = t.val % 4 ∧ win0_13.index t 2 = 0 := by decide +kernel
theorem index14 : ∀ t : Fin grid0.N, win0_14.index t 0 = t.val / 4 ∧ win0_14.index t 1 = 0 ∧ win0_14.index t 2 = 0 := by decide +kernel
theorem index15 : ∀ t : Fin grid0.N, win0_15.index t 0 = t.val / 4 ∧ win0_15.index t 1 = 0 ∧ win0_15.index t 2 = 0 := by decide +kernel

/-- The blocks of a point. -/
theorem blk0 (c : Dev nD) (t : Fin cfg0.N) (r : Fin 512) (k : Fin 1024) :
    (iblk m c 0 t : Vec Ideal S512x1024 .bf16) (ix2 r k) = argC m c (ix2 ⟨t.val % 4 * 512 + r.val, by have := pt t; omega⟩ k) := by
  have ht := pt t
  unfold iblk
  rw [View.read_apply]
  show (V m c main_v3 : S2048x1024.Idx → EReal) _ = _
  refine Eq.trans (congrArg _ (funext fun a => Fin.ext ?_)) (congrFun (V_ct m c) (ix2 ⟨t.val % 4 * 512 + r.val, by have := pt t; omega⟩ k))
  match a with
  | ⟨0, _⟩ => show win0_0.index t 0 * 512 + 1 * r.val = t.val % 4 * 512 + r.val; rw [(index0 t).1]; omega
  | ⟨1, _⟩ => show win0_0.index t 1 * 1024 + 1 * k.val = k.val; rw [(index0 t).2]; omega
theorem blk1 (c : Dev nD) (t : Fin cfg0.N) (e : Fin 16) (k : Fin 1024) :
    (iblk m c 1 t : Vec Ideal S16x1024 .bf16) (ix2 e k) = argC m c (ix2 ⟨(32 * (t.val % 4) - 1) * 16 + e.val, by have := pt t; omega⟩ k) := by
  have ht := pt t
  unfold iblk
  rw [View.read_apply]
  show (V m c main_v3 : S2048x1024.Idx → EReal) _ = _
  refine Eq.trans (congrArg _ (funext fun a => Fin.ext ?_)) (congrFun (V_ct m c) (ix2 ⟨(32 * (t.val % 4) - 1) * 16 + e.val, by have := pt t; omega⟩ k))
  match a with
  | ⟨0, _⟩ => show win0_1.index t 0 * 16 + 1 * e.val = (32 * (t.val % 4) - 1) * 16 + e.val; rw [(index1 t).1]; omega
  | ⟨1, _⟩ => show win0_1.index t 1 * 1024 + 1 * k.val = k.val; rw [(index1 t).2]; omega
theorem blk2 (c : Dev nD) (t : Fin cfg0.N) (e : Fin 16) (k : Fin 1024) :
    (iblk m c 2 t : Vec Ideal S16x1024 .bf16) (ix2 e k) = argC m c (ix2 ⟨min (32 * (t.val % 4 + 1)) 127 * 16 + e.val, by have := pt t; omega⟩ k) := by
  have ht := pt t
  unfold iblk
  rw [View.read_apply]
  show (V m c main_v3 : S2048x1024.Idx → EReal) _ = _
  refine Eq.trans (congrArg _ (funext fun a => Fin.ext ?_)) (congrFun (V_ct m c) (ix2 ⟨min (32 * (t.val % 4 + 1)) 127 * 16 + e.val, by have := pt t; omega⟩ k))
  match a with
  | ⟨0, _⟩ => show win0_2.index t 0 * 16 + 1 * e.val = min (32 * (t.val % 4 + 1)) 127 * 16 + e.val; rw [(index2 t).1]; omega
  | ⟨1, _⟩ => show win0_2.index t 1 * 1024 + 1 * k.val = k.val; rw [(index2 t).2]; omega
theorem blk3 (c : Dev nD) (t : Fin cfg0.N) (p : Fin 2) (q : Fin 352) (k : Fin 1024) :
    (iblk m c 3 t : Vec Ideal S2x352x1024 .bf16) (ix3 p q k) = argD m c (ix2 ⟨(t.val / 4 * 2 + p.val) * 352 + q.val, by have := pt t; omega⟩ k) := by
  have ht := pt t
  unfold iblk
  rw [View.read_apply]
  show (V m c main_v5 : S8x352x1024.Idx → EReal) _ = _
  refine Eq.trans (congrArg _ (funext fun a => Fin.ext ?_)) (V_down m c ⟨t.val / 4 * 2 + p.val, by have := pt t; omega⟩ q k)
  match a with
  | ⟨0, _⟩ => show win0_3.index t 0 * 2 + 1 * p.val = t.val / 4 * 2 + p.val; rw [(index3 t).1]; omega
  | ⟨1, _⟩ => show win0_3.index t 1 * 352 + 1 * q.val = q.val; rw [(index3 t).2.1]; omega
  | ⟨2, _⟩ => show win0_3.index t 2 * 1024 + 1 * k.val = k.val; rw [(index3 t).2.2]; omega
theorem blk4 (c : Dev nD) (t : Fin cfg0.N) (r : Fin 512) (l : Fin 704) :
    (iblk m c 4 t : Vec Ideal S1x512x704 .bf16) (ix3 0 r l) = argX m c (ix2 ⟨t.val % 4 * 512 + r.val, by have := pt t; omega⟩ ⟨t.val / 4 * 704 + l.val, by have := pt t; omega⟩) := by
  have ht := pt t
  unfold iblk
  rw [View.read_apply]
  show (V m c main_v2 : S8x2048x704.Idx → EReal) _ = _
  refine Eq.trans (congrArg _ (funext fun a => Fin.ext ?_)) (V_half m c ⟨t.val / 4, by have := pt t; omega⟩ ⟨t.val % 4 * 512 + r.val, by have := pt t; omega⟩ l)
  match a with
  | ⟨0, _⟩ => show win0_4.index t 0 * 1 + 1 * 0 = t.val / 4; rw [(index4 t).1]; omega
  | ⟨1, _⟩ => show win0_4.index t 1 * 512 + 1 * r.val = t.val % 4 * 512 + r.val; rw [(index4 t).2.1]; omega
  | ⟨2, _⟩ => show win0_4.index t 2 * 704 + 1 * l.val = l.val; rw [(index4 t).2.2]; omega
theorem blk5 (c : Dev nD) (t : Fin cfg0.N) (e : Fin 16) (l : Fin 704) :
    (iblk m c 5 t : Vec Ideal S1x16x704 .bf16) (ix3 0 e l) = argX m c (ix2 ⟨(32 * (t.val % 4) - 1) * 16 + e.val, by have := pt t; omega⟩ ⟨t.val / 4 * 704 + l.val, by have := pt t; omega⟩) := by
  have ht := pt t
  unfold iblk
  rw [View.read_apply]
  show (V m c main_v2 : S8x2048x704.Idx → EReal) _ = _
  refine Eq.trans (congrArg _ (funext fun a => Fin.ext ?_)) (V_half m c ⟨t.val / 4, by have := pt t; omega⟩ ⟨(32 * (t.val % 4) - 1) * 16 + e.val, by have := pt t; omega⟩ l)
  match a with
  | ⟨0, _⟩ => show win0_5.index t 0 * 1 + 1 * 0 = t.val / 4; rw [(index5 t).1]; omega
  | ⟨1, _⟩ => show win0_5.index t 1 * 16 + 1 * e.val = (32 * (t.val % 4) - 1) * 16 + e.val; rw [(index5 t).2.1]; omega
  | ⟨2, _⟩ => show win0_5.index t 2 * 704 + 1 * l.val = l.val; rw [(index5 t).2.2]; omega
theorem blk6 (c : Dev nD) (t : Fin cfg0.N) (e : Fin 16) (l : Fin 704) :
    (iblk m c 6 t : Vec Ideal S1x16x704 .bf16) (ix3 0 e l) = argX m c (ix2 ⟨min (32 * (t.val % 4 + 1)) 127 * 16 + e.val, by have := pt t; omega⟩ ⟨t.val / 4 * 704 + l.val, by have := pt t; omega⟩) := by
  have ht := pt t
  unfold iblk
  rw [View.read_apply]
  show (V m c main_v2 : S8x2048x704.Idx → EReal) _ = _
  refine Eq.trans (congrArg _ (funext fun a => Fin.ext ?_)) (V_half m c ⟨t.val / 4, by have := pt t; omega⟩ ⟨min (32 * (t.val % 4 + 1)) 127 * 16 + e.val, by have := pt t; omega⟩ l)
  match a with
  | ⟨0, _⟩ => show win0_6.index t 0 * 1 + 1 * 0 = t.val / 4; rw [(index6 t).1]; omega
  | ⟨1, _⟩ => show win0_6.index t 1 * 16 + 1 * e.val = min (32 * (t.val % 4 + 1)) 127 * 16 + e.val; rw [(index6 t).2.1]; omega
  | ⟨2, _⟩ => show win0_6.index t 2 * 704 + 1 * l.val = l.val; rw [(index6 t).2.2]; omega
theorem blk7 (c : Dev nD) (t : Fin cfg0.N) (r : Fin 512) (l : Fin 704) :
    (iblk m c 7 t : Vec Ideal S1x512x704 .bf16) (ix3 0 r l) = argX m c (ix2 ⟨t.val % 4 * 512 + r.val, by have := pt t; omega⟩ ⟨(4 + t.val / 4) * 704 + l.val, by have := pt t; omega⟩) := by
  have ht := pt t
  unfold iblk
  rw [View.read_apply]
  show (V m c main_v2 : S8x2048x704.Idx → EReal) _ = _
  refine Eq.trans (congrArg _ (funext fun a => Fin.ext ?_)) (V_half m c ⟨4 + t.val / 4, by have := pt t; omega⟩ ⟨t.val % 4 * 512 + r.val, by have := pt t; omega⟩ l)
  match a with
  | ⟨0, _⟩ => show win0_7.index t 0 * 1 + 1 * 0 = 4 + t.val / 4; rw [(index7 t).1]; omega
  | ⟨1, _⟩ => show win0_7.index t 1 * 512 + 1 * r.val = t.val % 4 * 512 + r.val; rw [(index7 t).2.1]; omega
  | ⟨2, _⟩ => show win0_7.index t 2 * 704 + 1 * l.val = l.val; rw [(index7 t).2.2]; omega
theorem blk8 (c : Dev nD) (t : Fin cfg0.N) (e : Fin 16) (l : Fin 704) :
    (iblk m c 8 t : Vec Ideal S1x16x704 .bf16) (ix3 0 e l) = argX m c (ix2 ⟨(32 * (t.val % 4) - 1) * 16 + e.val, by have := pt t; omega⟩ ⟨(4 + t.val / 4) * 704 + l.val, by have := pt t; omega⟩) := by
  have ht := pt t
  unfold iblk
  rw [View.read_apply]
  show (V m c main_v2 : S8x2048x704.Idx → EReal) _ = _
  refine Eq.trans (congrArg _ (funext fun a => Fin.ext ?_)) (V_half m c ⟨4 + t.val / 4, by have := pt t; omega⟩ ⟨(32 * (t.val % 4) - 1) * 16 + e.val, by have := pt t; omega⟩ l)
  match a with
  | ⟨0, _⟩ => show win0_8.index t 0 * 1 + 1 * 0 = 4 + t.val / 4; rw [(index8 t).1]; omega
  | ⟨1, _⟩ => show win0_8.index t 1 * 16 + 1 * e.val = (32 * (t.val % 4) - 1) * 16 + e.val; rw [(index8 t).2.1]; omega
  | ⟨2, _⟩ => show win0_8.index t 2 * 704 + 1 * l.val = l.val; rw [(index8 t).2.2]; omega
theorem blk9 (c : Dev nD) (t : Fin cfg0.N) (e : Fin 16) (l : Fin 704) :
    (iblk m c 9 t : Vec Ideal S1x16x704 .bf16) (ix3 0 e l) = argX m c (ix2 ⟨min (32 * (t.val % 4 + 1)) 127 * 16 + e.val, by have := pt t; omega⟩ ⟨(4 + t.val / 4) * 704 + l.val, by have := pt t; omega⟩) := by
  have ht := pt t
  unfold iblk
  rw [View.read_apply]
  show (V m c main_v2 : S8x2048x704.Idx → EReal) _ = _
  refine Eq.trans (congrArg _ (funext fun a => Fin.ext ?_)) (V_half m c ⟨4 + t.val / 4, by have := pt t; omega⟩ ⟨min (32 * (t.val % 4 + 1)) 127 * 16 + e.val, by have := pt t; omega⟩ l)
  match a with
  | ⟨0, _⟩ => show win0_9.index t 0 * 1 + 1 * 0 = 4 + t.val / 4; rw [(index9 t).1]; omega
  | ⟨1, _⟩ => show win0_9.index t 1 * 16 + 1 * e.val = min (32 * (t.val % 4 + 1)) 127 * 16 + e.val; rw [(index9 t).2.1]; omega
  | ⟨2, _⟩ => show win0_9.index t 2 * 704 + 1 * l.val = l.val; rw [(index9 t).2.2]; omega
theorem blk10 (c : Dev nD) (t : Fin cfg0.N) (k : Fin 3) (l : Fin 704) :
    (iblk m c 10 t : Vec Ideal S1x3x704 .f32) (ix3 0 k l) = argW m c (ix2 k ⟨t.val / 4 * 704 + l.val, by have := pt t; omega⟩) := by
  have ht := pt t
  unfold iblk
  rw [View.read_apply]
  show (V m c main_v7 : S4x3x704.Idx → EReal) _ = _
  refine Eq.trans (congrArg _ (funext fun a => Fin.ext ?_)) (V_taps m c ⟨t.val / 4, by have := pt t; omega⟩ k l)
  match a with
  | ⟨0, _⟩ => show win0_10.index t 0 * 1 + 1 * 0 = t.val / 4; rw [(index10 t).1]; omega
  | ⟨1, _⟩ => show win0_10.index t 1 * 3 + 1 * k.val = k.val; rw [(index10 t).2.1]; omega
  | ⟨2, _⟩ => show win0_10.index t 2 * 704 + 1 * l.val = l.val; rw [(index10 t).2.2]; omega
theorem blk11 (c : Dev nD) (t : Fin cfg0.N) (l : Fin 704) :
    (iblk m c 11 t : Vec Ideal S1x1x704 .f32) (ix3 0 0 l) = argB m c (ix1 ⟨t.val / 4 * 704 + l.val, by have := pt t; omega⟩) := by
  have ht := pt t
  unfold iblk
  rw [View.read_apply]
  show (V m c main_v8 : S4x1x704.Idx → EReal) _ = _
  refine Eq.trans (congrArg _ (funext fun a => Fin.ext ?_)) (V_bias m c ⟨t.val / 4, by have := pt t; omega⟩ l)
  match a with
  | ⟨0, _⟩ => show win0_11.index t 0 * 1 + 1 * 0 = t.val / 4; rw [(index11 t).1]; omega
  | ⟨1, _⟩ => show win0_11.index t 1 * 1 + 1 * 0 = 0; rw [(index11 t).2.1]
  | ⟨2, _⟩ => show win0_11.index t 2 * 704 + 1 * l.val = l.val; rw [(index11 t).2.2]; omega

section
variable (c : Dev nD) (X : S2048x5632.Idx → ℝ) (W : S3x2816.Idx → ℝ) (B : S2816.Idx → ℝ) (D : S2816x1024.Idx → ℝ) (C : S2048x1024.Idx → ℝ)
  (hX : ∀ i, argX m c i = ((X i : ℝ) : EReal)) (hW : ∀ i, argW m c i = ((W i : ℝ) : EReal)) (hB : ∀ i, argB m c i = ((B i : ℝ) : EReal))
  (hD : ∀ i, argD m c i = ((D i : ℝ) : EReal)) (hC : ∀ i, argC m c i = ((C i : ℝ) : EReal))

include hX in
theorem col_arg (a : Fin 2048) (b : Fin 5632) (n j : ℕ) (hn : a.val = n) (hj : b.val = j) : argX m c (ix2 a b) = ((col X j n : ℝ) : EReal) := by
  subst hn hj
  rw [hX, col, dif_pos ⟨a.isLt, b.isLt⟩]
include hW in
theorem taps_arg (k : Fin 3) (b : Fin 2816) (j : ℕ) (hj : b.val = j) : argW m c (ix2 k b) = ((taps W j k : ℝ) : EReal) := by
  subst hj
  rw [hW, taps, dif_pos b.isLt]
include hB in
theorem bias_arg (b : Fin 2816) (j : ℕ) (hj : b.val = j) : argB m c (ix1 b) = ((bias B j : ℝ) : EReal) := by
  subst hj
  rw [hB, bias, dif_pos b.isLt]
theorem wrow_arg (t : Fin cfg0.N) (l : Fin 704) (k : Fin 1024) :
    wrow (iblk m c 3 t) l k = argD m c (ix2 ⟨t.val / 4 * 704 + l.val, by have := pt t; omega⟩ k) := by
  unfold wrow
  rw [blk3]
  exact congrArg (fun j => argD m c (ix2 j k)) (Fin.ext (by show (t.val / 4 * 2 + l.val / 352) * 352 + l.val % 352 = t.val / 4 * 704 + l.val; omega))
include hD hC in
theorem prod_arg (t : Fin cfg0.N) (l : Fin 704) (a : Fin 2048) (n : ℕ) (hn : a.val = n) (f : Fin 1024 → EReal) (hf : ∀ k, f k = argC m c (ix2 a k)) :
    (∑ k : Fin 1024, f k * wrow (iblk m c 3 t) l k) = ((prod C D (t.val / 4 * 704 + l.val) n : ℝ) : EReal) := by
  subst hn
  have hj : t.val / 4 * 704 + l.val < 2816 := by have := pt t; omega
  rw [prod, dif_pos ⟨a.isLt, hj⟩, ← sum_coe]
  refine Finset.sum_congr rfl fun k _ => ?_
  rw [hf, wrow_arg, hC, hD, ← EReal.coe_mul]

include hX hW hB hD hC in
theorem lane (t : Fin cfg0.N) (l : Fin 704) : Lane (grid0.coords t) (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) l (taps W (t.val / 4 * 704 + l.val)) (bias B (t.val / 4 * 704 + l.val))
    (col X (2816 + (t.val / 4 * 704 + l.val))) (col X (t.val / 4 * 704 + l.val)) (prod C D (t.val / 4 * 704 + l.val)) := by
  have ht := pt t
  have hq := (coord t).2
  constructor
  · intro r; exact prod_arg m c D C hD hC t l _ _ (by rw [hq]; show t.val % 4 * 512 + r.val = _; omega) _ fun k => blk0 m c t r k
  · intro h; rw [hq] at h; exact prod_arg m c D C hD hC t l _ _ (by rw [hq]; show (32 * (t.val % 4) - 1) * 16 + 15 = _; omega) _ fun k => blk1 m c t 15 k
  · intro h; rw [hq] at h; exact prod_arg m c D C hD hC t l _ _ (by rw [hq]; show min (32 * (t.val % 4 + 1)) 127 * 16 + 0 = _; omega) _ fun k => blk2 m c t 0 k
  · intro r; exact (blk4 m c t r l).trans (col_arg m c X hX _ _ _ _ (by rw [hq]; show t.val % 4 * 512 + r.val = _; omega) rfl)
  · intro h; rw [hq] at h; exact (blk5 m c t 15 l).trans (col_arg m c X hX _ _ _ _ (by rw [hq]; show (32 * (t.val % 4) - 1) * 16 + 15 = _; omega) rfl)
  · intro h; rw [hq] at h; exact (blk6 m c t 0 l).trans (col_arg m c X hX _ _ _ _ (by rw [hq]; show min (32 * (t.val % 4 + 1)) 127 * 16 + 0 = _; omega) rfl)
  · intro r; exact (blk7 m c t r l).trans (col_arg m c X hX _ _ _ _ (by rw [hq]; show t.val % 4 * 512 + r.val = _; omega)
      (by show (4 + t.val / 4) * 704 + l.val = _; omega))
  · intro h e; rw [hq] at h; exact (blk8 m c t e l).trans (col_arg m c X hX _ _ _ _ (by rw [hq]; show (32 * (t.val % 4) - 1) * 16 + e.val = _; omega)
      (by show (4 + t.val / 4) * 704 + l.val = _; omega))
  · intro h e; rw [hq] at h; exact (blk9 m c t e l).trans (col_arg m c X hX _ _ _ _ (by rw [hq]; show min (32 * (t.val % 4 + 1)) 127 * 16 + e.val = _; omega)
      (by show (4 + t.val / 4) * 704 + l.val = _; omega))
  · intro k; exact (blk10 m c t k l).trans (taps_arg m c W hW k _ _ rfl)
  · exact (blk11 m c t l).trans (bias_arg m c B hB _ _ rfl)
end

/-- The results' blocks, and the points that write them back. -/
theorem blkOut12 (t : Fin cfg0.N) (A : S4x2048x704.Idx → EReal) (r : Fin 512) (l : Fin 704) :
    (((cfg0.win 12).blk t).view.read (Elt Ideal) A : Vec Ideal S1x512x704 .bf16) (ix3 0 r l)
      = A (ix3 ⟨t.val / 4, by have := pt t; omega⟩ ⟨t.val % 4 * 512 + r.val, by have := pt t; omega⟩ l) := by
  rw [View.read_apply]
  refine congrArg A (funext fun a => Fin.ext ?_)
  match a with
  | ⟨0, _⟩ => show win0_12.index t 0 * 1 + 1 * 0 = t.val / 4; rw [(index12 t).1]; omega
  | ⟨1, _⟩ => show win0_12.index t 1 * 512 + 1 * r.val = t.val % 4 * 512 + r.val; rw [(index12 t).2.1]; omega
  | ⟨2, _⟩ => show win0_12.index t 2 * 704 + 1 * l.val = l.val; rw [(index12 t).2.2]; omega
theorem cover12 (i : S4x2048x704.Idx) : ∃ t : Fin cfg0.N, (cfg0.win 12).flush t = true ∧ i ∈ ((cfg0.win 12).blk t).view.set := by
  have hN : cfg0.N = 16 := N_0
  have h0 : (i 0 : Nat) < 4 := (i 0).isLt
  have h1 : (i 1 : Nat) < 2048 := (i 1).isLt
  have h2 : (i 2 : Nat) < 704 := (i 2).isLt
  refine ⟨⟨(i 0).val * 4 + (i 1).val / 512, by omega⟩, flush0_12 _, ?_⟩
  generalize ht : (⟨(i 0).val * 4 + (i 1).val / 512, _⟩ : Fin cfg0.N) = t
  have htv : t.val = (i 0).val * 4 + (i 1).val / 512 := by rw [← ht]
  show i ∈ ((View.whole main_v9_0).slice (win0_12.rect t)).set
  rw [View.set_slice_whole, Rect.mem_set_unit]
  intro a
  match a with
  | ⟨0, _⟩ =>
    show win0_12.index t 0 * 1 ≤ (i 0 : Nat) ∧ (i 0 : Nat) < win0_12.index t 0 * 1 + 1
    rw [(index12 t).1]; omega
  | ⟨1, _⟩ =>
    show win0_12.index t 1 * 512 ≤ (i 1 : Nat) ∧ (i 1 : Nat) < win0_12.index t 1 * 512 + 512
    rw [(index12 t).2.1]; omega
  | ⟨2, _⟩ =>
    show win0_12.index t 2 * 704 ≤ (i 2 : Nat) ∧ (i 2 : Nat) < win0_12.index t 2 * 704 + 704
    rw [(index12 t).2.2]; omega
theorem blkOut13 (t : Fin cfg0.N) (A : S4x2048x704.Idx → EReal) (r : Fin 512) (l : Fin 704) :
    (((cfg0.win 13).blk t).view.read (Elt Ideal) A : Vec Ideal S1x512x704 .bf16) (ix3 0 r l)
      = A (ix3 ⟨t.val / 4, by have := pt t; omega⟩ ⟨t.val % 4 * 512 + r.val, by have := pt t; omega⟩ l) := by
  rw [View.read_apply]
  refine congrArg A (funext fun a => Fin.ext ?_)
  match a with
  | ⟨0, _⟩ => show win0_13.index t 0 * 1 + 1 * 0 = t.val / 4; rw [(index13 t).1]; omega
  | ⟨1, _⟩ => show win0_13.index t 1 * 512 + 1 * r.val = t.val % 4 * 512 + r.val; rw [(index13 t).2.1]; omega
  | ⟨2, _⟩ => show win0_13.index t 2 * 704 + 1 * l.val = l.val; rw [(index13 t).2.2]; omega
theorem cover13 (i : S4x2048x704.Idx) : ∃ t : Fin cfg0.N, (cfg0.win 13).flush t = true ∧ i ∈ ((cfg0.win 13).blk t).view.set := by
  have hN : cfg0.N = 16 := N_0
  have h0 : (i 0 : Nat) < 4 := (i 0).isLt
  have h1 : (i 1 : Nat) < 2048 := (i 1).isLt
  have h2 : (i 2 : Nat) < 704 := (i 2).isLt
  refine ⟨⟨(i 0).val * 4 + (i 1).val / 512, by omega⟩, flush0_13 _, ?_⟩
  generalize ht : (⟨(i 0).val * 4 + (i 1).val / 512, _⟩ : Fin cfg0.N) = t
  have htv : t.val = (i 0).val * 4 + (i 1).val / 512 := by rw [← ht]
  show i ∈ ((View.whole main_v9_1).slice (win0_13.rect t)).set
  rw [View.set_slice_whole, Rect.mem_set_unit]
  intro a
  match a with
  | ⟨0, _⟩ =>
    show win0_13.index t 0 * 1 ≤ (i 0 : Nat) ∧ (i 0 : Nat) < win0_13.index t 0 * 1 + 1
    rw [(index13 t).1]; omega
  | ⟨1, _⟩ =>
    show win0_13.index t 1 * 512 ≤ (i 1 : Nat) ∧ (i 1 : Nat) < win0_13.index t 1 * 512 + 512
    rw [(index13 t).2.1]; omega
  | ⟨2, _⟩ =>
    show win0_13.index t 2 * 704 ≤ (i 2 : Nat) ∧ (i 2 : Nat) < win0_13.index t 2 * 704 + 704
    rw [(index13 t).2.2]; omega
theorem blkSum14 (t : Fin cfg0.N) (A : S4x3x704.Idx → EReal) (k : Fin 3) (l : Fin 704) :
    (((cfg0.win 14).blk t).view.read (Elt Ideal) A : Vec Ideal S1x3x704 .f32) (ix3 0 k l) = A (ix3 ⟨t.val / 4, by have := pt t; omega⟩ k l) := by
  rw [View.read_apply]
  refine congrArg A (funext fun a => Fin.ext ?_)
  match a with
  | ⟨0, _⟩ => show win0_14.index t 0 * 1 + 1 * 0 = t.val / 4; rw [(index14 t).1]; omega
  | ⟨1, _⟩ => show win0_14.index t 1 * 3 + 1 * k.val = k.val; rw [(index14 t).2.1]; omega
  | ⟨2, _⟩ => show win0_14.index t 2 * 704 + 1 * l.val = l.val; rw [(index14 t).2.2]; omega
theorem cover14 (i : S4x3x704.Idx) : ∃ t : Fin cfg0.N, (cfg0.win 14).flush t = true ∧ i ∈ ((cfg0.win 14).blk t).view.set := by
  have hN : cfg0.N = 16 := N_0
  have h0 : (i 0 : Nat) < 4 := (i 0).isLt
  have h1 : (i 1 : Nat) < 3 := (i 1).isLt
  have h2 : (i 2 : Nat) < 704 := (i 2).isLt
  refine ⟨⟨(i 0).val * 4 + 3, by omega⟩, (flush0_14 _).mpr (by show ((i 0).val * 4 + 3) % 4 = 3; omega), ?_⟩
  generalize ht : (⟨(i 0).val * 4 + 3, _⟩ : Fin cfg0.N) = t
  have htv : t.val = (i 0).val * 4 + 3 := by rw [← ht]
  show i ∈ ((View.whole main_v9_2).slice (win0_14.rect t)).set
  rw [View.set_slice_whole, Rect.mem_set_unit]
  intro a
  match a with
  | ⟨0, _⟩ =>
    show win0_14.index t 0 * 1 ≤ (i 0 : Nat) ∧ (i 0 : Nat) < win0_14.index t 0 * 1 + 1
    rw [(index14 t).1]; omega
  | ⟨1, _⟩ =>
    show win0_14.index t 1 * 3 ≤ (i 1 : Nat) ∧ (i 1 : Nat) < win0_14.index t 1 * 3 + 3
    rw [(index14 t).2.1]; omega
  | ⟨2, _⟩ =>
    show win0_14.index t 2 * 704 ≤ (i 2 : Nat) ∧ (i 2 : Nat) < win0_14.index t 2 * 704 + 704
    rw [(index14 t).2.2]; omega
theorem blkSum15 (t : Fin cfg0.N) (A : S4x1x704.Idx → EReal) (k : Fin 1) (l : Fin 704) :
    (((cfg0.win 15).blk t).view.read (Elt Ideal) A : Vec Ideal S1x1x704 .f32) (ix3 0 k l) = A (ix3 ⟨t.val / 4, by have := pt t; omega⟩ k l) := by
  rw [View.read_apply]
  refine congrArg A (funext fun a => Fin.ext ?_)
  match a with
  | ⟨0, _⟩ => show win0_15.index t 0 * 1 + 1 * 0 = t.val / 4; rw [(index15 t).1]; omega
  | ⟨1, _⟩ => show win0_15.index t 1 * 1 + 1 * k.val = k.val; rw [(index15 t).2.1]; omega
  | ⟨2, _⟩ => show win0_15.index t 2 * 704 + 1 * l.val = l.val; rw [(index15 t).2.2]; omega
theorem cover15 (i : S4x1x704.Idx) : ∃ t : Fin cfg0.N, (cfg0.win 15).flush t = true ∧ i ∈ ((cfg0.win 15).blk t).view.set := by
  have hN : cfg0.N = 16 := N_0
  have h0 : (i 0 : Nat) < 4 := (i 0).isLt
  have h1 : (i 1 : Nat) < 1 := (i 1).isLt
  have h2 : (i 2 : Nat) < 704 := (i 2).isLt
  refine ⟨⟨(i 0).val * 4 + 3, by omega⟩, (flush0_15 _).mpr (by show ((i 0).val * 4 + 3) % 4 = 3; omega), ?_⟩
  generalize ht : (⟨(i 0).val * 4 + 3, _⟩ : Fin cfg0.N) = t
  have htv : t.val = (i 0).val * 4 + 3 := by rw [← ht]
  show i ∈ ((View.whole main_v9_3).slice (win0_15.rect t)).set
  rw [View.set_slice_whole, Rect.mem_set_unit]
  intro a
  match a with
  | ⟨0, _⟩ =>
    show win0_15.index t 0 * 1 ≤ (i 0 : Nat) ∧ (i 0 : Nat) < win0_15.index t 0 * 1 + 1
    rw [(index15 t).1]; omega
  | ⟨1, _⟩ =>
    show win0_15.index t 1 * 1 ≤ (i 1 : Nat) ∧ (i 1 : Nat) < win0_15.index t 1 * 1 + 1
    rw [(index15 t).2.1]; omega
  | ⟨2, _⟩ =>
    show win0_15.index t 2 * 704 ≤ (i 2 : Nat) ∧ (i 2 : Nat) < win0_15.index t 2 * 704 + 704
    rw [(index15 t).2.2]; omega

section
variable (c : Dev nD) (X : S2048x5632.Idx → ℝ) (W : S3x2816.Idx → ℝ) (B : S2816.Idx → ℝ) (D : S2816x1024.Idx → ℝ) (C : S2048x1024.Idx → ℝ)
  (hX : ∀ i, argX m c i = ((X i : ℝ) : EReal)) (hW : ∀ i, argW m c i = ((W i : ℝ) : EReal)) (hB : ∀ i, argB m c i = ((B i : ℝ) : EReal))
  (hD : ∀ i, argD m c i = ((D i : ℝ) : EReal)) (hC : ∀ i, argC m c i = ((C i : ℝ) : EReal))

/-- The sums of the row blocks so far. -/
def upto (f : ℕ → ℝ) (n : ℕ) : ℝ := ∑ q ∈ Finset.range (n + 1), ∑ r : Fin 512, f (512 * q + r.val)
theorem upto_zero (f : ℕ → ℝ) (n : ℕ) (h : n = 0) : (0 : EReal) + ((∑ r : Fin 512, f (512 * n + r.val) : ℝ) : EReal) = ((upto f n : ℝ) : EReal) := by
  subst h; rw [zero_add, upto, Finset.sum_range_one]
theorem upto_succ (f : ℕ → ℝ) (k n : ℕ) (h : n = k + 1) :
    ((upto f k : ℝ) : EReal) + ((∑ r : Fin 512, f (512 * n + r.val) : ℝ) : EReal) = ((upto f n : ℝ) : EReal) := by
  subst h; rw [← EReal.coe_add, upto, upto, Finset.sum_range_succ _ (k + 1)]
theorem upto_three (f : ℕ → ℝ) : upto f 3 = ∑ n : Fin 2048, f n.val := by
  rw [upto, Finset.sum_range]
  refine Eq.trans ?_ (sum_blocks_real 4 512 f).symm
  exact Finset.sum_congr rfl fun q _ => Finset.sum_congr rfl fun r _ => by rw [Nat.mul_comm]

include hX hW hB hD hC in
theorem rowsOut (t : Fin cfg0.N) (r : Fin 512) (l : Fin 704) :
    (outsAt0 m c t.val t.isLt).1 (ix3 0 r l) = gradVal X W B D C (ix3 ⟨t.val / 4, by have := pt t; omega⟩ ⟨t.val % 4 * 512 + r.val, by have := pt t; omega⟩ l)
    ∧ (outsAt0 m c t.val t.isLt).2.1 (ix3 0 r l) = gradGate X W B D C (ix3 ⟨t.val / 4, by have := pt t; omega⟩ ⟨t.val % 4 * 512 + r.val, by have := pt t; omega⟩ l) := by
  have H := lane m c X W B D C hX hW hB hD hC t l
  have e := (H.val_eq r)
  have e' := (H.gate_eq r)
  rw [(coord t).2, Nat.mul_comm 512] at e e'
  by_cases h0 : t.val % 4 = 0
  · rw [outs_A m c t h0]; exact ⟨e, e'⟩
  · rw [outs_B m c t h0]; exact ⟨e, e'⟩

include hX hW hB hD hC in
theorem sums_A (t : Fin cfg0.N) (h0 : t.val % 4 = 0) (l : Fin 704) (n : ℕ) (hn : t.val = n) :
    (∀ k : Fin 3, (outsAt0 m c t.val t.isLt).2.2.1 (ix3 0 k l) = ((upto (fun q => dtap (taps W (n / 4 * 704 + l.val)) (bias B (n / 4 * 704 + l.val)) (col X (2816 + (n / 4 * 704 + l.val))) (col X (n / 4 * 704 + l.val)) (prod C D (n / 4 * 704 + l.val)) k.val (q)) (n % 4) : ℝ) : EReal))
    ∧ (outsAt0 m c t.val t.isLt).2.2.2 (ix3 0 0 l) = ((upto (fun q => dconv (taps W (n / 4 * 704 + l.val)) (bias B (n / 4 * 704 + l.val)) (col X (2816 + (n / 4 * 704 + l.val))) (col X (n / 4 * 704 + l.val)) (prod C D (n / 4 * 704 + l.val)) (q)) (n % 4) : ℝ) : EReal) := by
  have H := lane m c X W B D C hX hW hB hD hC t l
  have hq := (coord t).2
  have z3 : ∀ k : Fin 3, (k0_pay3 (F := Ideal) : Vec Ideal S1x3x704 .f32) (ix3 0 k l) = 0 := fun k => by pointwise [k0_pay3]
  have z4 : (k0_pay4 (F := Ideal) : Vec Ideal S1x1x704 .f32) (ix3 0 0 l) = 0 := by pointwise [k0_pay4]
  rw [outs_A m c t h0]
  subst hn
  rw [h0]
  refine ⟨fun k => ?_, ?_⟩
  · match k with
    | ⟨0, _⟩ => exact (H.tap0_eq _).trans (by rw [tap0_at, z3, hq, h0]; exact upto_zero _ _ rfl)
    | ⟨1, _⟩ => exact (H.tap1_eq _).trans (by rw [tap1_at, z3, hq, h0]; exact upto_zero _ _ rfl)
    | ⟨2, _⟩ => exact (H.tap2_eq _).trans (by rw [tap2_at, z3, hq, h0]; exact upto_zero _ _ rfl)
  · exact (H.bias_eq _).trans (by rw [z4, hq, h0]; exact upto_zero _ _ rfl)

include hX hW hB hD hC in
theorem acc_eq : ∀ (n : ℕ) (h : n < cfg0.N) (l : Fin 704),
    (∀ k : Fin 3, (outsAt0 m c n h).2.2.1 (ix3 0 k l) = ((upto (fun q => dtap (taps W (n / 4 * 704 + l.val)) (bias B (n / 4 * 704 + l.val)) (col X (2816 + (n / 4 * 704 + l.val))) (col X (n / 4 * 704 + l.val)) (prod C D (n / 4 * 704 + l.val)) k.val (q)) (n % 4) : ℝ) : EReal))
    ∧ (outsAt0 m c n h).2.2.2 (ix3 0 0 l) = ((upto (fun q => dconv (taps W (n / 4 * 704 + l.val)) (bias B (n / 4 * 704 + l.val)) (col X (2816 + (n / 4 * 704 + l.val))) (col X (n / 4 * 704 + l.val)) (prod C D (n / 4 * 704 + l.val)) (q)) (n % 4) : ℝ) : EReal)
  | 0, h, l => sums_A m c X W B D C hX hW hB hD hC ⟨0, h⟩ rfl l 0 rfl
  | n + 1, h, l => by
    by_cases h0 : (n + 1) % 4 = 0
    · exact sums_A m c X W B D C hX hW hB hD hC ⟨n + 1, h⟩ h0 l (n + 1) rfl
    have H := lane m c X W B D C hX hW hB hD hC ⟨n + 1, h⟩ l
    have hq : (grid0.coords ⟨n + 1, h⟩ 1).val = (n + 1) % 4 := (coord ⟨n + 1, h⟩).2
    have ih := acc_eq n (Nat.lt_of_succ_lt h) l
    have hs : (n + 1) % 4 = n % 4 + 1 := by omega
    rw [outs_B m c ⟨n + 1, h⟩ h0]
    rw [show n / 4 = (n + 1) / 4 by omega] at ih
    refine ⟨fun k => ?_, ?_⟩
    · match k with
      | ⟨0, _⟩ => exact (H.tap0_eq _).trans (by rw [tap0_at, hq]; exact (congrArg (· + _) (ih.1 0)).trans (upto_succ _ _ _ hs))
      | ⟨1, _⟩ => exact (H.tap1_eq _).trans (by rw [tap1_at, hq]; exact (congrArg (· + _) (ih.1 1)).trans (upto_succ _ _ _ hs))
      | ⟨2, _⟩ => exact (H.tap2_eq _).trans (by rw [tap2_at, hq]; exact (congrArg (· + _) (ih.1 2)).trans (upto_succ _ _ _ hs))
    · exact (H.bias_eq _).trans (by rw [hq]; exact (congrArg (· + _) ih.2).trans (upto_succ _ _ _ hs))

include hX hW hB hD hC in
theorem final12 : (dats m 0 c).arrAt 12 cfg0.N = gradVal X W B D C :=
  (dats m 0 c).arrAt_eq_of_cover 12 (gradVal X W B D C)
    (fun t _ => by
      rw [flushed12]
      refine funext fun (j : S1x512x704.Idx) => ?_
      obtain ⟨r, l, rfl⟩ : ∃ (r : Fin 512) (l : Fin 704), j = ix3 0 r l := ⟨j 1, j 2, (eq_ix3 j).trans (congrArg (fun z => ix3 z (j 1) (j 2)) (Subsingleton.elim _ _))⟩
      exact (rowsOut m c X W B D C hX hW hB hD hC t r l).1.trans (blkOut12 t (gradVal X W B D C) r l).symm)
    cover12

include hX hW hB hD hC in
theorem final13 : (dats m 0 c).arrAt 13 cfg0.N = gradGate X W B D C :=
  (dats m 0 c).arrAt_eq_of_cover 13 (gradGate X W B D C)
    (fun t _ => by
      rw [flushed13]
      refine funext fun (j : S1x512x704.Idx) => ?_
      obtain ⟨r, l, rfl⟩ : ∃ (r : Fin 512) (l : Fin 704), j = ix3 0 r l := ⟨j 1, j 2, (eq_ix3 j).trans (congrArg (fun z => ix3 z (j 1) (j 2)) (Subsingleton.elim _ _))⟩
      exact (rowsOut m c X W B D C hX hW hB hD hC t r l).2.trans (blkOut13 t (gradGate X W B D C) r l).symm)
    cover13

include hX hW hB hD hC in
theorem final14 : (dats m 0 c).arrAt 14 cfg0.N = gradTaps X W B D C :=
  (dats m 0 c).arrAt_eq_of_cover 14 (gradTaps X W B D C)
    (fun t hf => by
      have h3 : t.val % 4 = 3 := (flush0_14 t).mp hf
      rw [flushed14]
      refine funext fun (j : S1x3x704.Idx) => ?_
      obtain ⟨k, l, rfl⟩ : ∃ (k : Fin 3) (l : Fin 704), j = ix3 0 k l := ⟨j 1, j 2, (eq_ix3 j).trans (congrArg (fun z => ix3 z (j 1) (j 2)) (Subsingleton.elim _ _))⟩
      have e := (acc_eq m c X W B D C hX hW hB hD hC t.val t.isLt l).1 k
      rw [h3, upto_three] at e
      exact e.trans (blkSum14 t (gradTaps X W B D C) k l).symm)
    cover14

include hX hW hB hD hC in
theorem final15 : (dats m 0 c).arrAt 15 cfg0.N = gradBias X W B D C :=
  (dats m 0 c).arrAt_eq_of_cover 15 (gradBias X W B D C)
    (fun t hf => by
      have h3 : t.val % 4 = 3 := (flush0_15 t).mp hf
      rw [flushed15]
      refine funext fun (j : S1x1x704.Idx) => ?_
      obtain ⟨l, rfl⟩ : ∃ (l : Fin 704), j = ix3 0 0 l := ⟨j 2, (eq_ix3 j).trans (congrArg₂ (fun z y => ix3 z y (j 2)) (Subsingleton.elim _ _) (Subsingleton.elim _ _))⟩
      have e := (acc_eq m c X W B D C hX hW hB hD hC t.val t.isLt l).2
      rw [h3, upto_three] at e
      exact e.trans (blkSum15 t (gradBias X W B D C) 0 l).symm)
    cover15
end

end Cert.FfnIdeal.Value
end
-- ==== Proof.FfnRef.lean ====
/-
  The reference of the activation's gradient over the reals: a column's cotangent and its four results.
-/
module

public import proofs.«01_k».proof.Proof.FfnReal
public import proofs.«01_k».proof.Proof.Gen.FfnRefIdeal.Frame

@[expose] public section

set_option maxRecDepth 16384
noncomputable section
open Idealize.ShloMosaic Idealize.ShloMosaic.TcCoe Idealize.SL.Sem
namespace Cert.FfnRefIdeal.Value
open Cert.FfnRefIdeal Cert.FfnRefIdeal.Gen Cert.Step Cert.Step.Ffn

theorem named_half : (Named.named (F := Ideal) κ "sqrt_half" 0x3F3504F3#32 : Ideal .f32) = ((rootHalf : ℝ) : EReal) :=
  IdealRules.named_const.ideal_named_scalar _ _ _ _ rfl
theorem named_two_pi : (Named.named (F := Ideal) κ "two_inv_sqrt_pi" 0x3F906EBB#32 : Ideal .f32) = ((twoRootPi : ℝ) : EReal) :=
  IdealRules.named_const.ideal_named_scalar _ _ _ _ rfl

section
variable (x0 : Vec Ideal S2048x5632 .f32) (x1 : Vec Ideal S3x2816 .f32) (x2 : Vec Ideal S1x2816 .f32) (x3 : Vec Ideal S2816x1024 .f32) (x4 : Vec Ideal S2048x1024 .f32)
  (X : S2048x5632.Idx → ℝ) (W : S3x2816.Idx → ℝ) (B : (⟨1, ![2816]⟩ : Shape).Idx → ℝ) (D : S2816x1024.Idx → ℝ) (C : S2048x1024.Idx → ℝ)
  (hX : ∀ (n : Fin 2048) (j : Fin 5632), x0 (ix2 n j) = ((col X j.val n.val : ℝ) : EReal))
  (hW : ∀ (k : Fin 3) (j : Fin 2816), x1 (ix2 k j) = ((taps W j.val k : ℝ) : EReal))
  (hB : ∀ j : Fin 2816, x2 (ix2 0 j) = ((bias B j.val : ℝ) : EReal))
  (hZ : ∀ (n : Fin 2048) (j : Fin 2816), (∑ k : Fin 1024, x4 (ix2 n k) * x3 (ix2 j k)) = ((prod C D j.val n.val : ℝ) : EReal))
  (n : Fin 2048) (j : Fin 2816)

include hX in
theorem pay7_at (q : Fin 2050) : k0_pay7 x0 (ix2 q j) = ((pad (col X (2816 + j.val)) q.val : ℝ) : EReal) := by
  pointwise [k0_pay7]
  unfold Cert.Step.Ffn.pad
  have := q.isLt
  split_ifs <;> first | omega | rfl | exact (hX ⟨q.val - 1, by omega⟩ ⟨2816 + j.val, by omega⟩).trans (congrArg (fun x : ℝ => (x : EReal)) (if_pos ⟨by omega, by omega⟩).symm)
include hX in
theorem pay8_at : k0_pay8 x0 (ix2 n j) = ((pad (col X (2816 + j.val)) n.val : ℝ) : EReal) := by
  rw [← pay7_at x0 X hX j ⟨n.val, by omega⟩]
  unfold k0_pay8
  generalize k0_pay7 x0 = u
  pointwise []
include hX in
theorem pay10_at : k0_pay10 x0 (ix2 n j) = ((pad (col X (2816 + j.val)) (n.val + 1) : ℝ) : EReal) := by
  rw [← pay7_at x0 X hX j ⟨n.val + 1, by omega⟩]
  unfold k0_pay10
  generalize k0_pay7 x0 = u
  pointwise []
  exact congrArg (fun q => u (ix2 q j)) (Fin.ext (Nat.add_comm 1 n.val))
include hX in
theorem pay12_at : k0_pay12 x0 (ix2 n j) = ((pad (col X (2816 + j.val)) (n.val + 2) : ℝ) : EReal) := by
  rw [← pay7_at x0 X hX j ⟨n.val + 2, by omega⟩]
  unfold k0_pay12
  generalize k0_pay7 x0 = u
  pointwise []
  exact congrArg (fun q => u (ix2 q j)) (Fin.ext (Nat.add_comm 2 n.val))

include hX hW hB in
theorem pay14_at : k0_pay14 x0 x1 x2 (ix2 n j) = ((conv (taps W j.val) (bias B j.val) (col X (2816 + j.val)) n.val : ℝ) : EReal) := by
  have e : k0_pay14 x0 x1 x2 (ix2 n j) = k0_pay8 x0 (ix2 n j) * x1 (ix2 0 j) + k0_pay10 x0 (ix2 n j) * x1 (ix2 1 j) + k0_pay12 x0 (ix2 n j) * x1 (ix2 2 j) + x2 (ix2 0 j) := by
    unfold k0_pay14
    generalize k0_pay8 x0 = a, k0_pay10 x0 = b, k0_pay12 x0 = d
    pointwise [k0_pay9, k0_pay11, k0_pay13]
  rw [e, pay8_at x0 X hX, pay10_at x0 X hX, pay12_at x0 X hX, hW, hW, hW, hB, conv]
  simp only [← EReal.coe_mul, ← EReal.coe_add]
include hX hW hB in
theorem pay15_at : k0_pay15 x0 x1 x2 (ix2 n j) = ((1 / 2 * conv (taps W j.val) (bias B j.val) (col X (2816 + j.val)) n.val : ℝ) : EReal) := by
  have e : k0_pay15 x0 x1 x2 (ix2 n j) = Ideal.ofBits .f32 0x3F000000#32 * k0_pay14 x0 x1 x2 (ix2 n j) := by
    unfold k0_pay15
    generalize k0_pay14 x0 x1 x2 = u
    pointwise []
  rw [e, pay14_at x0 x1 x2 X W B hX hW hB, bits_half, ← EReal.coe_mul]
include hX hW hB in
theorem pay16_at : k0_pay16 x0 x1 x2 (ix2 n j) = ((conv (taps W j.val) (bias B j.val) (col X (2816 + j.val)) n.val * rootHalf : ℝ) : EReal) := by
  have e : k0_pay16 x0 x1 x2 (ix2 n j) = k0_pay14 x0 x1 x2 (ix2 n j) * Named.named (F := Ideal) κ "sqrt_half" 0x3F3504F3#32 := by
    unfold k0_pay16
    generalize k0_pay14 x0 x1 x2 = u
    pointwise []
  rw [e, pay14_at x0 x1 x2 X W B hX hW hB, named_half, ← EReal.coe_mul]
include hX hW hB in
theorem pay17_at : k0_pay17 x0 x1 x2 (ix2 n j) = ((Real.exp (0 - conv (taps W j.val) (bias B j.val) (col X (2816 + j.val)) n.val * rootHalf
    * (conv (taps W j.val) (bias B j.val) (col X (2816 + j.val)) n.val * rootHalf)) : ℝ) : EReal) := by
  have e : k0_pay17 x0 x1 x2 (ix2 n j) = Ideal.exp (0 - k0_pay16 x0 x1 x2 (ix2 n j) * k0_pay16 x0 x1 x2 (ix2 n j)) := by
    unfold k0_pay17
    generalize k0_pay16 x0 x1 x2 = u
    pointwise []
  rw [e, pay16_at x0 x1 x2 X W B hX hW hB, ← EReal.coe_mul, ← EReal.coe_zero, ← EReal.coe_sub, Ideal.exp_coe]
include hX hW hB in
theorem pay18_at : k0_pay18 x0 x1 x2 (ix2 n j) = ((1 + erfR (conv (taps W j.val) (bias B j.val) (col X (2816 + j.val)) n.val * rootHalf) : ℝ) : EReal) := by
  have e : k0_pay18 x0 x1 x2 (ix2 n j) = 1 + Ideal.erf (k0_pay16 x0 x1 x2 (ix2 n j)) := by
    unfold k0_pay18
    generalize k0_pay16 x0 x1 x2 = u
    pointwise []
    rfl
  rw [e, pay16_at x0 x1 x2 X W B hX hW hB, erf_coe, ← EReal.coe_one, ← EReal.coe_add]
include hZ in
theorem pay20_at : k0_pay20 x3 x4 (ix2 n j) = ((prod C D j.val n.val : ℝ) : EReal) := by
  rw [← hZ]
  pointwise [k0_pay20]
include hX hW hB hZ in
theorem pay21_at : k0_pay21 x3 (k0_pay19 x0 x1 x2) x4 (ix2 n j)
    = ((dval (taps W j.val) (bias B j.val) (col X (2816 + j.val)) (prod C D j.val) n.val : ℝ) : EReal) := by
  have e : k0_pay21 x3 (k0_pay19 x0 x1 x2) x4 (ix2 n j) = k0_pay15 x0 x1 x2 (ix2 n j) * k0_pay18 x0 x1 x2 (ix2 n j) * k0_pay20 x3 x4 (ix2 n j) := by
    unfold k0_pay21 k0_pay19
    generalize k0_pay15 x0 x1 x2 = a, k0_pay18 x0 x1 x2 = b, k0_pay20 x3 x4 = d
    pointwise []
  rw [e, pay15_at x0 x1 x2 X W B hX hW hB, pay18_at x0 x1 x2 X W B hX hW hB, pay20_at x3 x4 D C hZ, ← EReal.coe_mul, ← EReal.coe_mul, dval, cdf]
  exact congrArg (fun x : ℝ => (x : EReal)) (by ring)

/-- The cotangent of the convolution. -/
def cot : FVec Ideal S2048x2816 .f32 := k0_pay22 x3 (k0_pay6 x0) (k0_pay15 x0 x1 x2) (k0_pay17 x0 x1 x2) (k0_pay18 x0 x1 x2) x4
include hX hW hB hZ in
theorem cot_at : cot x0 x1 x2 x3 x4 (ix2 n j)
    = ((dconv (taps W j.val) (bias B j.val) (col X (2816 + j.val)) (col X j.val) (prod C D j.val) n.val : ℝ) : EReal) := by
  have e : cot x0 x1 x2 x3 x4 (ix2 n j) = Named.named (F := Ideal) κ "two_inv_sqrt_pi" 0x3F906EBB#32 * (k0_pay15 x0 x1 x2 (ix2 n j) * (k0_pay20 x3 x4 (ix2 n j) * k0_pay6 x0 (ix2 n j)))
      * k0_pay17 x0 x1 x2 (ix2 n j) * Named.named (F := Ideal) κ "sqrt_half" 0x3F3504F3#32
      + Ideal.ofBits .f32 0x3F000000#32 * (k0_pay20 x3 x4 (ix2 n j) * k0_pay6 x0 (ix2 n j) * k0_pay18 x0 x1 x2 (ix2 n j)) := by
    unfold cot k0_pay22
    generalize k0_pay15 x0 x1 x2 = a, k0_pay18 x0 x1 x2 = b, k0_pay20 x3 x4 = d, k0_pay6 x0 = f, k0_pay17 x0 x1 x2 = g
    pointwise []
  have e6 : k0_pay6 x0 (ix2 n j) = ((col X j.val n.val : ℝ) : EReal) := by
    rw [show col X j.val n.val = col X ((⟨j.val, by omega⟩ : Fin 5632) : ℕ) n.val from rfl, ← hX]
    pointwise [k0_pay6]
  rw [e, e6, pay15_at x0 x1 x2 X W B hX hW hB, pay18_at x0 x1 x2 X W B hX hW hB, pay20_at x3 x4 D C hZ, pay17_at x0 x1 x2 X W B hX hW hB, named_half, named_two_pi, bits_half]
  simp only [← EReal.coe_mul, ← EReal.coe_add]
  exact congrArg (fun x : ℝ => (x : EReal)) (slope_parts _ _ _)

theorem bias_at : k0_pay23 x3 (k0_pay6 x0) (k0_pay15 x0 x1 x2) (k0_pay17 x0 x1 x2) (k0_pay18 x0 x1 x2) x4 (ix2 0 j) = ∑ n : Fin 2048, cot x0 x1 x2 x3 x4 (ix2 n j) := by
  unfold k0_pay23
  rw [show k0_pay22 x3 (k0_pay6 x0) (k0_pay15 x0 x1 x2) (k0_pay17 x0 x1 x2) (k0_pay18 x0 x1 x2) x4 = cot x0 x1 x2 x3 x4 from rfl]
  generalize cot x0 x1 x2 x3 x4 = u
  pointwise []
/-- The taps' sums, and the gate's gradient. -/
def tapsum : FVec Ideal S3x2816 .f32 :=
  k0_pay27 (k0_pay24 x3 (k0_pay6 x0) (k0_pay10 x0) (k0_pay12 x0) (k0_pay15 x0 x1 x2) (k0_pay17 x0 x1 x2) (k0_pay18 x0 x1 x2) x4)
    (k0_pay26 x3 (k0_pay6 x0) (k0_pay8 x0) (k0_pay15 x0 x1 x2) (k0_pay17 x0 x1 x2) (k0_pay18 x0 x1 x2) x4)
def both : FVec Ideal S2048x5632 .f32 :=
  k0_pay28 (k0_pay9 x1) (k0_pay21 x3 (k0_pay19 x0 x1 x2) x4) (cot x0 x1 x2 x3 x4)
    (k0_pay25 x3 (k0_pay6 x0) (k0_pay11 x1) (k0_pay13 x1) (k0_pay15 x0 x1 x2) (k0_pay17 x0 x1 x2) (k0_pay18 x0 x1 x2) x4)
include hX hW hB hZ in
theorem tapsum_at (k : Fin 3) : tapsum x0 x1 x2 x3 x4 (ix2 k j)
    = ((∑ n : Fin 2048, dtap (taps W j.val) (bias B j.val) (col X (2816 + j.val)) (col X j.val) (prod C D j.val) k.val n.val : ℝ) : EReal) := by
  have e : tapsum x0 x1 x2 x3 x4 (ix2 k j) = ((if k.val < 2 then 0 else ∑ n : Fin 2048, k0_pay12 x0 (ix2 n j) * cot x0 x1 x2 x3 x4 (ix2 n j))
      + if k.val < 2 then if k.val < 1 then 0 else ∑ n : Fin 2048, k0_pay10 x0 (ix2 n j) * cot x0 x1 x2 x3 x4 (ix2 n j) else 0)
      + if k.val < 1 then ∑ n : Fin 2048, k0_pay8 x0 (ix2 n j) * cot x0 x1 x2 x3 x4 (ix2 n j) else 0 := by
    unfold tapsum k0_pay24 k0_pay26
    rw [show k0_pay22 x3 (k0_pay6 x0) (k0_pay15 x0 x1 x2) (k0_pay17 x0 x1 x2) (k0_pay18 x0 x1 x2) x4 = cot x0 x1 x2 x3 x4 from rfl]
    generalize cot x0 x1 x2 x3 x4 = u, k0_pay8 x0 = a, k0_pay10 x0 = b, k0_pay12 x0 = d
    pointwise [k0_pay27]
    simp only [Fin.sum_univ_one, dite_eq_ite]
  have s : ∀ (f : Fin 2048 → EReal) (q : ℕ), (∀ n : Fin 2048, f n = ((pad (col X (2816 + j.val)) (n.val + q) : ℝ) : EReal)) →
      (∑ n : Fin 2048, f n * cot x0 x1 x2 x3 x4 (ix2 n j))
        = ((∑ n : Fin 2048, dtap (taps W j.val) (bias B j.val) (col X (2816 + j.val)) (col X j.val) (prod C D j.val) q n.val : ℝ) : EReal) := fun f q hf => by
    rw [← sum_coe]
    refine Finset.sum_congr rfl fun n _ => ?_
    rw [hf, cot_at x0 x1 x2 x3 x4 X W B D C hX hW hB hZ, ← EReal.coe_mul, dtap, mul_comm]
  rw [e, s _ 2 fun n => pay12_at x0 X hX n j, s _ 1 fun n => pay10_at x0 X hX n j, s _ 0 fun n => pay8_at x0 X hX n j]
  match k with
  | ⟨0, _⟩ => simp
  | ⟨1, _⟩ => simp
  | ⟨2, _⟩ => simp
include hX hW hB hZ in
theorem left_at : both x0 x1 x2 x3 x4 (ix2 n ⟨j.val, by omega⟩)
    = ((dval (taps W j.val) (bias B j.val) (col X (2816 + j.val)) (prod C D j.val) n.val : ℝ) : EReal) := by
  rw [← pay21_at x0 x1 x2 x3 x4 X W B D C hX hW hB hZ]
  unfold both
  generalize k0_pay21 x3 (k0_pay19 x0 x1 x2) x4 = u, cot x0 x1 x2 x3 x4 = b,
    k0_pay25 x3 (k0_pay6 x0) (k0_pay11 x1) (k0_pay13 x1) (k0_pay15 x0 x1 x2) (k0_pay17 x0 x1 x2) (k0_pay18 x0 x1 x2) x4 = d
  pointwise [k0_pay28]
include hX hW hB hZ in
theorem right_at : both x0 x1 x2 x3 x4 (ix2 n ⟨2816 + j.val, by omega⟩)
    = ((dgate (taps W j.val) (bias B j.val) (col X (2816 + j.val)) (col X j.val) (prod C D j.val) n.val : ℝ) : EReal) := by
  have hn := n.isLt
  have e : both x0 x1 x2 x3 x4 (ix2 n ⟨2816 + j.val, by omega⟩)
      = ((if h : 1 + n.val < 2 then 0 else cot x0 x1 x2 x3 x4 (ix2 ⟨1 + n.val - 2, by omega⟩ j) * x1 (ix2 2 j))
        + if h : 1 + n.val < 2049 then if h : 1 + n.val < 1 then 0 else cot x0 x1 x2 x3 x4 (ix2 ⟨1 + n.val - 1, by omega⟩ j) * x1 (ix2 1 j) else 0)
        + if h : 1 + n.val < 2048 then cot x0 x1 x2 x3 x4 (ix2 ⟨1 + n.val, by omega⟩ j) * x1 (ix2 0 j) else 0 := by
    unfold both k0_pay25
    rw [show k0_pay22 x3 (k0_pay6 x0) (k0_pay15 x0 x1 x2) (k0_pay17 x0 x1 x2) (k0_pay18 x0 x1 x2) x4 = cot x0 x1 x2 x3 x4 from rfl]
    generalize cot x0 x1 x2 x3 x4 = u, k0_pay21 x3 (k0_pay19 x0 x1 x2) x4 = v
    pointwise [k0_pay28, k0_pay9, k0_pay11, k0_pay13]
  have p : ∀ (q k : ℕ) (hk : 1 ≤ q ∧ q ≤ 2048), k = q - 1 → dconv (taps W j.val) (bias B j.val) (col X (2816 + j.val)) (col X j.val) (prod C D j.val) k
      = pad (dconv (taps W j.val) (bias B j.val) (col X (2816 + j.val)) (col X j.val) (prod C D j.val)) q := fun q k hk e => by rw [Cert.Step.Ffn.pad, if_pos hk, e]
  have a : (if h : 1 + n.val < 2 then (0 : EReal) else cot x0 x1 x2 x3 x4 (ix2 ⟨1 + n.val - 2, by omega⟩ j) * x1 (ix2 2 j))
      = ((pad (dconv (taps W j.val) (bias B j.val) (col X (2816 + j.val)) (col X j.val) (prod C D j.val)) n.val * taps W j.val 2 : ℝ) : EReal) := by
    by_cases h : 1 + n.val < 2
    · rw [dif_pos h, Cert.Step.Ffn.pad, if_neg (by omega), zero_mul, EReal.coe_zero]
    · rw [dif_neg h, cot_at x0 x1 x2 x3 x4 X W B D C hX hW hB hZ, hW, ← EReal.coe_mul, p n.val _ (by omega) (by show 1 + n.val - 2 = _; omega)]
  have d : (if h : 1 + n.val < 2048 then cot x0 x1 x2 x3 x4 (ix2 ⟨1 + n.val, by omega⟩ j) * x1 (ix2 0 j) else (0 : EReal))
      = ((pad (dconv (taps W j.val) (bias B j.val) (col X (2816 + j.val)) (col X j.val) (prod C D j.val)) (n.val + 2) * taps W j.val 0 : ℝ) : EReal) := by
    by_cases h : 1 + n.val < 2048
    · rw [dif_pos h, cot_at x0 x1 x2 x3 x4 X W B D C hX hW hB hZ, hW, ← EReal.coe_mul, p (n.val + 2) _ (by omega) (by show 1 + n.val = _; omega)]
    · rw [dif_neg h, Cert.Step.Ffn.pad, if_neg (by omega), zero_mul, EReal.coe_zero]
  rw [e, a, d, dif_pos (by omega), dif_neg (by omega), cot_at x0 x1 x2 x3 x4 X W B D C hX hW hB hZ, hW, dgate]
  simp only [← EReal.coe_mul, ← EReal.coe_add, Nat.add_sub_cancel_left]
  exact congrArg (fun x : ℝ => (x : EReal)) (by ring)
end

end Cert.FfnRefIdeal.Value
end
-- ==== Proof.FfnRefRun.lean ====
/-
  The reference's run: the four slabs of each result array as the column results, and the arrays the program leaves.
-/
module

public import proofs.«01_k».proof.Proof.FfnRef
public import Idealize.ShloMosaic.Lib.Pipeline.Value

@[expose] public section

set_option maxRecDepth 16384
noncomputable section
open Idealize.ShloMosaic Idealize.ShloMosaic.TcCoe Idealize.SL.Sem
namespace Cert.FfnRefIdeal.Value
open Cert.FfnRefIdeal Cert.FfnRefIdeal.Gen Cert.Step Cert.Step.Ffn

/-- A slab's stores, read back to the columns they were cut from. -/
theorem lay29 (a : FVec Ideal S1x2816 .f32) (b d : FVec Ideal S2048x2816 .f32) (e : FVec Ideal S2050x2816 .f32) (n : Fin 2048) (l : Fin 704) :
    k0_pay29 a b d e (ix3 0 n l) = k0_pay28 a b d e (ix2 n ⟨l.val, by omega⟩) := by
  unfold k0_pay29
  generalize k0_pay28 a b d e = u
  pointwise []
theorem lay34 (a : FVec Ideal S1x2816 .f32) (b d : FVec Ideal S2048x2816 .f32) (e : FVec Ideal S2050x2816 .f32) (n : Fin 2048) (l : Fin 704) :
    k0_pay34 (k0_pay33 a b d e) (ix3 0 n l) = k0_pay28 a b d e (ix2 n ⟨704 + l.val, by omega⟩) := by
  unfold k0_pay33
  generalize k0_pay28 a b d e = u
  pointwise [k0_pay34]
theorem lay38 (u : FVec Ideal S2048x5632 .f32) (n : Fin 2048) (l : Fin 704) : k0_pay38 u (ix3 0 n l) = u (ix2 n ⟨1408 + l.val, by omega⟩) := by
  pointwise [k0_pay38]
theorem lay2 (u : FVec Ideal S2048x5632 .f32) (n : Fin 2048) (l : Fin 704) : k0_pay2 u (ix3 0 n l) = u (ix2 n ⟨2112 + l.val, by omega⟩) := by
  pointwise [k0_pay2]
theorem lay30 (a : FVec Ideal S1x2816 .f32) (b d : FVec Ideal S2048x2816 .f32) (e : FVec Ideal S2050x2816 .f32) (n : Fin 2048) (l : Fin 704) :
    k0_pay30 a b d e (ix3 0 n l) = k0_pay28 a b d e (ix2 n ⟨2816 + l.val, by omega⟩) := by
  unfold k0_pay30
  generalize k0_pay28 a b d e = u
  pointwise []
theorem lay35 (u : FVec Ideal S2048x5632 .f32) (n : Fin 2048) (l : Fin 704) : k0_pay35 u (ix3 0 n l) = u (ix2 n ⟨3520 + l.val, by omega⟩) := by
  pointwise [k0_pay35]
  exact congrArg (fun j => u (ix2 n j)) (Fin.ext (by show 2816 + (704 + l.val) = 3520 + l.val; omega))
theorem lay39 (u : FVec Ideal S2048x5632 .f32) (n : Fin 2048) (l : Fin 704) : k0_pay39 u (ix3 0 n l) = u (ix2 n ⟨4224 + l.val, by omega⟩) := by
  pointwise [k0_pay39]
  exact congrArg (fun j => u (ix2 n j)) (Fin.ext (by show 2816 + (1408 + l.val) = 4224 + l.val; omega))
theorem lay3 (u : FVec Ideal S2048x5632 .f32) (n : Fin 2048) (l : Fin 704) : k0_pay3 u (ix3 0 n l) = u (ix2 n ⟨4928 + l.val, by omega⟩) := by
  pointwise [k0_pay3]
  exact congrArg (fun j => u (ix2 n j)) (Fin.ext (by show 2816 + (2112 + l.val) = 4928 + l.val; omega))
theorem lay31 (u : FVec Ideal S3x2816 .f32) (v : FVec Ideal S2816 .f32) (k : Fin 3) (l : Fin 704) :
    k0_pay31 u v (ix3 0 k l) = k0_pay27 u v (ix2 k ⟨l.val, by omega⟩) := by
  unfold k0_pay31
  generalize k0_pay27 u v = w
  pointwise []
theorem lay36 (u : FVec Ideal S3x2816 .f32) (k : Fin 3) (l : Fin 704) : k0_pay36 u (ix3 0 k l) = u (ix2 k ⟨704 + l.val, by omega⟩) := by
  pointwise [k0_pay36]
theorem lay40 (u : FVec Ideal S3x2816 .f32) (k : Fin 3) (l : Fin 704) : k0_pay40 u (ix3 0 k l) = u (ix2 k ⟨1408 + l.val, by omega⟩) := by
  pointwise [k0_pay40]
theorem lay4 (u : FVec Ideal S3x2816 .f32) (k : Fin 3) (l : Fin 704) : k0_pay4 u (ix3 0 k l) = u (ix2 k ⟨2112 + l.val, by omega⟩) := by
  pointwise [k0_pay4]
theorem lay32 (u : FVec Ideal S1x2816 .f32) (l : Fin 704) : k0_pay32 u (ix3 0 0 l) = u (ix2 0 ⟨l.val, by omega⟩) := by
  pointwise [k0_pay1, k0_pay32]
theorem lay37 (u : FVec Ideal S1x2816 .f32) (l : Fin 704) : k0_pay37 u (ix3 0 0 l) = u (ix2 0 ⟨704 + l.val, by omega⟩) := by
  pointwise [k0_pay1, k0_pay37]
theorem lay41 (u : FVec Ideal S1x2816 .f32) (l : Fin 704) : k0_pay1 (k0_pay41 u) (ix3 0 0 l) = u (ix2 0 ⟨1408 + l.val, by omega⟩) := by
  pointwise [k0_pay1, k0_pay41]
theorem lay5 (u : FVec Ideal S1x2816 .f32) (l : Fin 704) : k0_pay5 u (ix3 0 0 l) = u (ix2 0 ⟨2112 + l.val, by omega⟩) := by
  pointwise [k0_pay1, k0_pay5]

/-- Where a slab's entries lie. -/
theorem emb5 (n : Fin 2048) (l : Fin 704) : r0_5.emb (ix3 0 n l : S1x2048x704.Idx) = (ix3 0 n l : S4x2048x704.Idx) := funext fun a => Fin.ext (match a with
  | ⟨0, _⟩ => by show 0 + 1 * 0 = 0; omega
  | ⟨1, _⟩ => by show 0 + 1 * n.val = n.val; omega
  | ⟨2, _⟩ => by show 0 + 1 * l.val = l.val; omega)
theorem emb8 (n : Fin 2048) (l : Fin 704) : r0_8.emb (ix3 0 n l : S1x2048x704.Idx) = (ix3 1 n l : S4x2048x704.Idx) := funext fun a => Fin.ext (match a with
  | ⟨0, _⟩ => by show 1 + 1 * 0 = 1; omega
  | ⟨1, _⟩ => by show 0 + 1 * n.val = n.val; omega
  | ⟨2, _⟩ => by show 0 + 1 * l.val = l.val; omega)
theorem emb11 (n : Fin 2048) (l : Fin 704) : r0_11.emb (ix3 0 n l : S1x2048x704.Idx) = (ix3 2 n l : S4x2048x704.Idx) := funext fun a => Fin.ext (match a with
  | ⟨0, _⟩ => by show 2 + 1 * 0 = 2; omega
  | ⟨1, _⟩ => by show 0 + 1 * n.val = n.val; omega
  | ⟨2, _⟩ => by show 0 + 1 * l.val = l.val; omega)
theorem emb14 (n : Fin 2048) (l : Fin 704) : r0_14.emb (ix3 0 n l : S1x2048x704.Idx) = (ix3 3 n l : S4x2048x704.Idx) := funext fun a => Fin.ext (match a with
  | ⟨0, _⟩ => by show 3 + 1 * 0 = 3; omega
  | ⟨1, _⟩ => by show 0 + 1 * n.val = n.val; omega
  | ⟨2, _⟩ => by show 0 + 1 * l.val = l.val; omega)
theorem emb6 (n : Fin 3) (l : Fin 704) : r0_6.emb (ix3 0 n l : S1x3x704.Idx) = (ix3 0 n l : S4x3x704.Idx) := funext fun a => Fin.ext (match a with
  | ⟨0, _⟩ => by show 0 + 1 * 0 = 0; omega
  | ⟨1, _⟩ => by show 0 + 1 * n.val = n.val; omega
  | ⟨2, _⟩ => by show 0 + 1 * l.val = l.val; omega)
theorem emb9 (n : Fin 3) (l : Fin 704) : r0_9.emb (ix3 0 n l : S1x3x704.Idx) = (ix3 1 n l : S4x3x704.Idx) := funext fun a => Fin.ext (match a with
  | ⟨0, _⟩ => by show 1 + 1 * 0 = 1; omega
  | ⟨1, _⟩ => by show 0 + 1 * n.val = n.val; omega
  | ⟨2, _⟩ => by show 0 + 1 * l.val = l.val; omega)
theorem emb12 (n : Fin 3) (l : Fin 704) : r0_12.emb (ix3 0 n l : S1x3x704.Idx) = (ix3 2 n l : S4x3x704.Idx) := funext fun a => Fin.ext (match a with
  | ⟨0, _⟩ => by show 2 + 1 * 0 = 2; omega
  | ⟨1, _⟩ => by show 0 + 1 * n.val = n.val; omega
  | ⟨2, _⟩ => by show 0 + 1 * l.val = l.val; omega)
theorem emb15 (n : Fin 3) (l : Fin 704) : r0_15.emb (ix3 0 n l : S1x3x704.Idx) = (ix3 3 n l : S4x3x704.Idx) := funext fun a => Fin.ext (match a with
  | ⟨0, _⟩ => by show 3 + 1 * 0 = 3; omega
  | ⟨1, _⟩ => by show 0 + 1 * n.val = n.val; omega
  | ⟨2, _⟩ => by show 0 + 1 * l.val = l.val; omega)
theorem emb7 (n : Fin 1) (l : Fin 704) : r0_7.emb (ix3 0 n l : S1x1x704.Idx) = (ix3 0 n l : S4x1x704.Idx) := funext fun a => Fin.ext (match a with
  | ⟨0, _⟩ => by show 0 + 1 * 0 = 0; omega
  | ⟨1, _⟩ => by show 0 + 1 * n.val = n.val; omega
  | ⟨2, _⟩ => by show 0 + 1 * l.val = l.val; omega)
theorem emb10 (n : Fin 1) (l : Fin 704) : r0_10.emb (ix3 0 n l : S1x1x704.Idx) = (ix3 1 n l : S4x1x704.Idx) := funext fun a => Fin.ext (match a with
  | ⟨0, _⟩ => by show 1 + 1 * 0 = 1; omega
  | ⟨1, _⟩ => by show 0 + 1 * n.val = n.val; omega
  | ⟨2, _⟩ => by show 0 + 1 * l.val = l.val; omega)
theorem emb13 (n : Fin 1) (l : Fin 704) : r0_13.emb (ix3 0 n l : S1x1x704.Idx) = (ix3 2 n l : S4x1x704.Idx) := funext fun a => Fin.ext (match a with
  | ⟨0, _⟩ => by show 2 + 1 * 0 = 2; omega
  | ⟨1, _⟩ => by show 0 + 1 * n.val = n.val; omega
  | ⟨2, _⟩ => by show 0 + 1 * l.val = l.val; omega)
theorem emb16 (n : Fin 1) (l : Fin 704) : r0_16.emb (ix3 0 n l : S1x1x704.Idx) = (ix3 3 n l : S4x1x704.Idx) := funext fun a => Fin.ext (match a with
  | ⟨0, _⟩ => by show 3 + 1 * 0 = 3; omega
  | ⟨1, _⟩ => by show 0 + 1 * n.val = n.val; omega
  | ⟨2, _⟩ => by show 0 + 1 * l.val = l.val; omega)

section
variable (x0 : Vec Ideal S2048x5632 .f32) (x1 : Vec Ideal S3x2816 .f32) (x2 : Vec Ideal S1x2816 .f32) (x3 : Vec Ideal S2816x1024 .f32) (x4 : Vec Ideal S2048x1024 .f32)
  (X : S2048x5632.Idx → ℝ) (W : S3x2816.Idx → ℝ) (B : (⟨1, ![2816]⟩ : Shape).Idx → ℝ) (D : S2816x1024.Idx → ℝ) (C : S2048x1024.Idx → ℝ)
  (hX : ∀ (n : Fin 2048) (j : Fin 5632), x0 (ix2 n j) = ((col X j.val n.val : ℝ) : EReal))
  (hW : ∀ (k : Fin 3) (j : Fin 2816), x1 (ix2 k j) = ((taps W j.val k : ℝ) : EReal))
  (hB : ∀ j : Fin 2816, x2 (ix2 0 j) = ((bias B j.val : ℝ) : EReal))
  (hZ : ∀ (n : Fin 2048) (j : Fin 2816), (∑ k : Fin 1024, x4 (ix2 n k) * x3 (ix2 j k)) = ((prod C D j.val n.val : ℝ) : EReal))

theorem open54 : k0_pay54 x0 x1 x2 x3 x4 = both x0 x1 x2 x3 x4 := by
  unfold k0_pay54 k0_pay51 k0_pay48 k0_pay47 k0_pay46 k0_pay45 k0_pay44 k0_pay43 k0_pay42
  simp only [View.ld_unit_zero (S := S2048x5632) hz2, View.ld_unit_zero (S := S3x2816) hz2, View.ld_unit_zero (S := S1x2816) hz2,
    View.ld_unit_zero (S := S2816x1024) hz2, View.ld_unit_zero (S := S2048x1024) hz2]
  rfl
theorem open53 : k0_pay53 x0 x1 x2 x3 x4 = tapsum x0 x1 x2 x3 x4 := by
  unfold k0_pay53 k0_pay52 k0_pay50 k0_pay46 k0_pay45 k0_pay44 k0_pay42
  simp only [View.ld_unit_zero (S := S2048x5632) hz2, View.ld_unit_zero (S := S3x2816) hz2, View.ld_unit_zero (S := S1x2816) hz2,
    View.ld_unit_zero (S := S2816x1024) hz2, View.ld_unit_zero (S := S2048x1024) hz2]
  rfl
theorem open49 : k0_pay49 x0 x1 x2 x3 x4
    = k0_pay23 x3 (k0_pay6 x0) (k0_pay15 x0 x1 x2) (k0_pay17 x0 x1 x2) (k0_pay18 x0 x1 x2) x4 := by
  unfold k0_pay49 k0_pay46 k0_pay45 k0_pay44 k0_pay42
  simp only [View.ld_unit_zero (S := S2048x5632) hz2, View.ld_unit_zero (S := S3x2816) hz2, View.ld_unit_zero (S := S1x2816) hz2,
    View.ld_unit_zero (S := S2816x1024) hz2, View.ld_unit_zero (S := S2048x1024) hz2]
include hX hW hB hZ in
theorem dbias_at (j : Fin 2816) : k0_pay49 x0 x1 x2 x3 x4 (ix2 0 j)
    = ((∑ n : Fin 2048, dconv (taps W j.val) (bias B j.val) (col X (2816 + j.val)) (col X j.val) (prod C D j.val) n.val : ℝ) : EReal) := by
  rw [open49, bias_at, ← sum_coe]
  exact Finset.sum_congr rfl fun n _ => cot_at x0 x1 x2 x3 x4 X W B D C hX hW hB hZ n j

include hX hW hB hZ in
theorem out5_eq : out0_5 x0 x1 x2 x3 x4 = gradVal X W B D C := by
  funext y
  refine View.canon_apply_of_pieces (Val := Elt Ideal) (S := S4x2048x704) (e := .bf16) (gradVal X W B D C) _ (fun p hp => ?_) y (cover0_5 _ _ _ _ y)
  simp only [List.mem_cons, List.not_mem_nil, or_false] at hp
  rcases hp with rfl | rfl | rfl | rfl
  · refine fun (x : S1x2048x704.Idx) => ?_
    obtain ⟨n, l, rfl⟩ : ∃ (n : Fin 2048) (l : Fin 704), x = ix3 0 n l := ⟨x 1, x 2, (eq_ix3 x).trans (congrArg (fun z => ix3 z (x 1) (x 2)) (Subsingleton.elim _ _))⟩
    refine Eq.trans ?_ (congrArg (gradVal X W B D C) (emb14 n l)).symm
    exact (lay2 _ n l).trans ((congrFun (open54 x0 x1 x2 x3 x4) _).trans (left_at x0 x1 x2 x3 x4 X W B D C hX hW hB hZ n ⟨3 * 704 + l.val, by omega⟩))
  · refine fun (x : S1x2048x704.Idx) => ?_
    obtain ⟨n, l, rfl⟩ : ∃ (n : Fin 2048) (l : Fin 704), x = ix3 0 n l := ⟨x 1, x 2, (eq_ix3 x).trans (congrArg (fun z => ix3 z (x 1) (x 2)) (Subsingleton.elim _ _))⟩
    refine Eq.trans ?_ (congrArg (gradVal X W B D C) (emb11 n l)).symm
    exact (lay38 _ n l).trans ((congrFun (open54 x0 x1 x2 x3 x4) _).trans (left_at x0 x1 x2 x3 x4 X W B D C hX hW hB hZ n ⟨2 * 704 + l.val, by omega⟩))
  · refine fun (x : S1x2048x704.Idx) => ?_
    obtain ⟨n, l, rfl⟩ : ∃ (n : Fin 2048) (l : Fin 704), x = ix3 0 n l := ⟨x 1, x 2, (eq_ix3 x).trans (congrArg (fun z => ix3 z (x 1) (x 2)) (Subsingleton.elim _ _))⟩
    refine Eq.trans ?_ (congrArg (gradVal X W B D C) (emb8 n l)).symm
    exact (lay34 _ _ _ _ n l).trans ((congrFun (open54 x0 x1 x2 x3 x4) _).trans (left_at x0 x1 x2 x3 x4 X W B D C hX hW hB hZ n ⟨1 * 704 + l.val, by omega⟩))
  · refine fun (x : S1x2048x704.Idx) => ?_
    obtain ⟨n, l, rfl⟩ : ∃ (n : Fin 2048) (l : Fin 704), x = ix3 0 n l := ⟨x 1, x 2, (eq_ix3 x).trans (congrArg (fun z => ix3 z (x 1) (x 2)) (Subsingleton.elim _ _))⟩
    refine Eq.trans ?_ (congrArg (gradVal X W B D C) (emb5 n l)).symm
    exact (lay29 _ _ _ _ n l).trans ((congrFun (open54 x0 x1 x2 x3 x4) _).trans ((congrArg (fun j => both x0 x1 x2 x3 x4 (ix2 n j)) (Fin.ext (by show l.val = 0 * 704 + l.val; omega))).trans (left_at x0 x1 x2 x3 x4 X W B D C hX hW hB hZ n ⟨0 * 704 + l.val, by omega⟩)))
include hX hW hB hZ in
theorem out6_eq : out0_6 x0 x1 x2 x3 x4 = gradGate X W B D C := by
  funext y
  refine View.canon_apply_of_pieces (Val := Elt Ideal) (S := S4x2048x704) (e := .bf16) (gradGate X W B D C) _ (fun p hp => ?_) y (cover0_6 _ _ _ _ y)
  simp only [List.mem_cons, List.not_mem_nil, or_false] at hp
  rcases hp with rfl | rfl | rfl | rfl
  · refine fun (x : S1x2048x704.Idx) => ?_
    obtain ⟨n, l, rfl⟩ : ∃ (n : Fin 2048) (l : Fin 704), x = ix3 0 n l := ⟨x 1, x 2, (eq_ix3 x).trans (congrArg (fun z => ix3 z (x 1) (x 2)) (Subsingleton.elim _ _))⟩
    refine Eq.trans ?_ (congrArg (gradGate X W B D C) (emb14 n l)).symm
    exact (lay3 _ n l).trans ((congrFun (open54 x0 x1 x2 x3 x4) _).trans ((congrArg (fun j => both x0 x1 x2 x3 x4 (ix2 n j)) (Fin.ext (by show 4928 + l.val = 2816 + (3 * 704 + l.val); omega))).trans (right_at x0 x1 x2 x3 x4 X W B D C hX hW hB hZ n ⟨3 * 704 + l.val, by omega⟩)))
  · refine fun (x : S1x2048x704.Idx) => ?_
    obtain ⟨n, l, rfl⟩ : ∃ (n : Fin 2048) (l : Fin 704), x = ix3 0 n l := ⟨x 1, x 2, (eq_ix3 x).trans (congrArg (fun z => ix3 z (x 1) (x 2)) (Subsingleton.elim _ _))⟩
    refine Eq.trans ?_ (congrArg (gradGate X W B D C) (emb11 n l)).symm
    exact (lay39 _ n l).trans ((congrFun (open54 x0 x1 x2 x3 x4) _).trans ((congrArg (fun j => both x0 x1 x2 x3 x4 (ix2 n j)) (Fin.ext (by show 4224 + l.val = 2816 + (2 * 704 + l.val); omega))).trans (right_at x0 x1 x2 x3 x4 X W B D C hX hW hB hZ n ⟨2 * 704 + l.val, by omega⟩)))
  · refine fun (x : S1x2048x704.Idx) => ?_
    obtain ⟨n, l, rfl⟩ : ∃ (n : Fin 2048) (l : Fin 704), x = ix3 0 n l := ⟨x 1, x 2, (eq_ix3 x).trans (congrArg (fun z => ix3 z (x 1) (x 2)) (Subsingleton.elim _ _))⟩
    refine Eq.trans ?_ (congrArg (gradGate X W B D C) (emb8 n l)).symm
    exact (lay35 _ n l).trans ((congrFun (open54 x0 x1 x2 x3 x4) _).trans ((congrArg (fun j => both x0 x1 x2 x3 x4 (ix2 n j)) (Fin.ext (by show 3520 + l.val = 2816 + (1 * 704 + l.val); omega))).trans (right_at x0 x1 x2 x3 x4 X W B D C hX hW hB hZ n ⟨1 * 704 + l.val, by omega⟩)))
  · refine fun (x : S1x2048x704.Idx) => ?_
    obtain ⟨n, l, rfl⟩ : ∃ (n : Fin 2048) (l : Fin 704), x = ix3 0 n l := ⟨x 1, x 2, (eq_ix3 x).trans (congrArg (fun z => ix3 z (x 1) (x 2)) (Subsingleton.elim _ _))⟩
    refine Eq.trans ?_ (congrArg (gradGate X W B D C) (emb5 n l)).symm
    exact (lay30 _ _ _ _ n l).trans ((congrFun (open54 x0 x1 x2 x3 x4) _).trans ((congrArg (fun j => both x0 x1 x2 x3 x4 (ix2 n j)) (Fin.ext (by show 2816 + l.val = 2816 + (0 * 704 + l.val); omega))).trans (right_at x0 x1 x2 x3 x4 X W B D C hX hW hB hZ n ⟨0 * 704 + l.val, by omega⟩)))
include hX hW hB hZ in
theorem out7_eq : out0_7 x0 x1 x2 x3 x4 = gradTaps X W B D C := by
  funext y
  refine View.canon_apply_of_pieces (Val := Elt Ideal) (S := S4x3x704) (e := .f32) (gradTaps X W B D C) _ (fun p hp => ?_) y (cover0_7 _ _ _ _ y)
  simp only [List.mem_cons, List.not_mem_nil, or_false] at hp
  rcases hp with rfl | rfl | rfl | rfl
  · refine fun (x : S1x3x704.Idx) => ?_
    obtain ⟨n, l, rfl⟩ : ∃ (n : Fin 3) (l : Fin 704), x = ix3 0 n l := ⟨x 1, x 2, (eq_ix3 x).trans (congrArg (fun z => ix3 z (x 1) (x 2)) (Subsingleton.elim _ _))⟩
    refine Eq.trans ?_ (congrArg (gradTaps X W B D C) (emb15 n l)).symm
    exact (lay4 _ n l).trans ((congrFun (open53 x0 x1 x2 x3 x4) _).trans (tapsum_at x0 x1 x2 x3 x4 X W B D C hX hW hB hZ ⟨3 * 704 + l.val, by omega⟩ n))
  · refine fun (x : S1x3x704.Idx) => ?_
    obtain ⟨n, l, rfl⟩ : ∃ (n : Fin 3) (l : Fin 704), x = ix3 0 n l := ⟨x 1, x 2, (eq_ix3 x).trans (congrArg (fun z => ix3 z (x 1) (x 2)) (Subsingleton.elim _ _))⟩
    refine Eq.trans ?_ (congrArg (gradTaps X W B D C) (emb12 n l)).symm
    exact (lay40 _ n l).trans ((congrFun (open53 x0 x1 x2 x3 x4) _).trans (tapsum_at x0 x1 x2 x3 x4 X W B D C hX hW hB hZ ⟨2 * 704 + l.val, by omega⟩ n))
  · refine fun (x : S1x3x704.Idx) => ?_
    obtain ⟨n, l, rfl⟩ : ∃ (n : Fin 3) (l : Fin 704), x = ix3 0 n l := ⟨x 1, x 2, (eq_ix3 x).trans (congrArg (fun z => ix3 z (x 1) (x 2)) (Subsingleton.elim _ _))⟩
    refine Eq.trans ?_ (congrArg (gradTaps X W B D C) (emb9 n l)).symm
    exact (lay36 _ n l).trans ((congrFun (open53 x0 x1 x2 x3 x4) _).trans (tapsum_at x0 x1 x2 x3 x4 X W B D C hX hW hB hZ ⟨1 * 704 + l.val, by omega⟩ n))
  · refine fun (x : S1x3x704.Idx) => ?_
    obtain ⟨n, l, rfl⟩ : ∃ (n : Fin 3) (l : Fin 704), x = ix3 0 n l := ⟨x 1, x 2, (eq_ix3 x).trans (congrArg (fun z => ix3 z (x 1) (x 2)) (Subsingleton.elim _ _))⟩
    refine Eq.trans ?_ (congrArg (gradTaps X W B D C) (emb6 n l)).symm
    exact (lay31 _ _ n l).trans ((congrFun (open53 x0 x1 x2 x3 x4) _).trans ((congrArg (fun j => tapsum x0 x1 x2 x3 x4 (ix2 n j)) (Fin.ext (by show l.val = 0 * 704 + l.val; omega))).trans (tapsum_at x0 x1 x2 x3 x4 X W B D C hX hW hB hZ ⟨0 * 704 + l.val, by omega⟩ n)))
include hX hW hB hZ in
theorem out8_eq : out0_8 x0 x1 x2 x3 x4 = gradBias X W B D C := by
  funext y
  refine View.canon_apply_of_pieces (Val := Elt Ideal) (S := S4x1x704) (e := .f32) (gradBias X W B D C) _ (fun p hp => ?_) y (cover0_8 _ _ _ _ y)
  simp only [List.mem_cons, List.not_mem_nil, or_false] at hp
  rcases hp with rfl | rfl | rfl | rfl
  · refine fun (x : S1x1x704.Idx) => ?_
    obtain ⟨n, l, rfl⟩ : ∃ (n : Fin 1) (l : Fin 704), x = ix3 0 n l := ⟨x 1, x 2, (eq_ix3 x).trans (congrArg (fun z => ix3 z (x 1) (x 2)) (Subsingleton.elim _ _))⟩
    refine Eq.trans ?_ (congrArg (gradBias X W B D C) (emb16 n l)).symm
    obtain rfl : n = 0 := Subsingleton.elim _ _
    exact (lay5 _ l).trans (dbias_at x0 x1 x2 x3 x4 X W B D C hX hW hB hZ ⟨3 * 704 + l.val, by omega⟩)
  · refine fun (x : S1x1x704.Idx) => ?_
    obtain ⟨n, l, rfl⟩ : ∃ (n : Fin 1) (l : Fin 704), x = ix3 0 n l := ⟨x 1, x 2, (eq_ix3 x).trans (congrArg (fun z => ix3 z (x 1) (x 2)) (Subsingleton.elim _ _))⟩
    refine Eq.trans ?_ (congrArg (gradBias X W B D C) (emb13 n l)).symm
    obtain rfl : n = 0 := Subsingleton.elim _ _
    exact (lay41 _ l).trans (dbias_at x0 x1 x2 x3 x4 X W B D C hX hW hB hZ ⟨2 * 704 + l.val, by omega⟩)
  · refine fun (x : S1x1x704.Idx) => ?_
    obtain ⟨n, l, rfl⟩ : ∃ (n : Fin 1) (l : Fin 704), x = ix3 0 n l := ⟨x 1, x 2, (eq_ix3 x).trans (congrArg (fun z => ix3 z (x 1) (x 2)) (Subsingleton.elim _ _))⟩
    refine Eq.trans ?_ (congrArg (gradBias X W B D C) (emb10 n l)).symm
    obtain rfl : n = 0 := Subsingleton.elim _ _
    exact (lay37 _ l).trans (dbias_at x0 x1 x2 x3 x4 X W B D C hX hW hB hZ ⟨1 * 704 + l.val, by omega⟩)
  · refine fun (x : S1x1x704.Idx) => ?_
    obtain ⟨n, l, rfl⟩ : ∃ (n : Fin 1) (l : Fin 704), x = ix3 0 n l := ⟨x 1, x 2, (eq_ix3 x).trans (congrArg (fun z => ix3 z (x 1) (x 2)) (Subsingleton.elim _ _))⟩
    refine Eq.trans ?_ (congrArg (gradBias X W B D C) (emb7 n l)).symm
    obtain rfl : n = 0 := Subsingleton.elim _ _
    exact (lay32 _ l).trans ((congrArg (fun j => k0_pay49 x0 x1 x2 x3 x4 (ix2 0 j)) (Fin.ext (by show l.val = 0 * 704 + l.val; omega))).trans (dbias_at x0 x1 x2 x3 x4 X W B D C hX hW hB hZ ⟨0 * 704 + l.val, by omega⟩))
end

variable (m : (ℓ : Loc nD τ sig) → Buf (Elt Ideal) ℓ) (ρ : Dev nD → PrngReg)

/-- The arguments as the body finds them. -/
theorem blk0 (c : Dev nD) (t : Fin cfg0.N) : (iblk m c 0 t : Vec Ideal S2048x5632 .f32) = (V m c main_arg0 : S2048x5632.Idx → EReal) := by
  refine funext fun (i : S2048x5632.Idx) => ?_
  unfold iblk
  rw [View.read_apply]
  show (V m c main_arg0 : S2048x5632.Idx → EReal) _ = _
  refine congrArg _ (funext fun a => Fin.ext ?_)
  match a with
  | ⟨0, _⟩ => show 0 * 2048 + 1 * (i 0).val = (i 0).val; omega
  | ⟨1, _⟩ => show 0 * 5632 + 1 * (i 1).val = (i 1).val; omega
theorem blk1 (c : Dev nD) (t : Fin cfg0.N) : (iblk m c 1 t : Vec Ideal S3x2816 .f32) = (V m c main_arg1 : S3x2816.Idx → EReal) := by
  refine funext fun (i : S3x2816.Idx) => ?_
  unfold iblk
  rw [View.read_apply]
  show (V m c main_arg1 : S3x2816.Idx → EReal) _ = _
  refine congrArg _ (funext fun a => Fin.ext ?_)
  match a with
  | ⟨0, _⟩ => show 0 * 3 + 1 * (i 0).val = (i 0).val; omega
  | ⟨1, _⟩ => show 0 * 2816 + 1 * (i 1).val = (i 1).val; omega
theorem blk2 (c : Dev nD) (t : Fin cfg0.N) : (iblk m c 2 t : Vec Ideal S1x2816 .f32) = (V m c main_v0 : S1x2816.Idx → EReal) := by
  refine funext fun (i : S1x2816.Idx) => ?_
  unfold iblk
  rw [View.read_apply]
  show (V m c main_v0 : S1x2816.Idx → EReal) _ = _
  refine congrArg _ (funext fun a => Fin.ext ?_)
  match a with
  | ⟨0, _⟩ => show 0 * 1 + 1 * (i 0).val = (i 0).val; omega
  | ⟨1, _⟩ => show 0 * 2816 + 1 * (i 1).val = (i 1).val; omega
theorem blk3 (c : Dev nD) (t : Fin cfg0.N) : (iblk m c 3 t : Vec Ideal S2816x1024 .f32) = (V m c main_arg3 : S2816x1024.Idx → EReal) := by
  refine funext fun (i : S2816x1024.Idx) => ?_
  unfold iblk
  rw [View.read_apply]
  show (V m c main_arg3 : S2816x1024.Idx → EReal) _ = _
  refine congrArg _ (funext fun a => Fin.ext ?_)
  match a with
  | ⟨0, _⟩ => show 0 * 2816 + 1 * (i 0).val = (i 0).val; omega
  | ⟨1, _⟩ => show 0 * 1024 + 1 * (i 1).val = (i 1).val; omega
theorem blk4 (c : Dev nD) (t : Fin cfg0.N) : (iblk m c 4 t : Vec Ideal S2048x1024 .f32) = (V m c main_arg4 : S2048x1024.Idx → EReal) := by
  refine funext fun (i : S2048x1024.Idx) => ?_
  unfold iblk
  rw [View.read_apply]
  show (V m c main_arg4 : S2048x1024.Idx → EReal) _ = _
  refine congrArg _ (funext fun a => Fin.ext ?_)
  match a with
  | ⟨0, _⟩ => show 0 * 2048 + 1 * (i 0).val = (i 0).val; omega
  | ⟨1, _⟩ => show 0 * 1024 + 1 * (i 1).val = (i 1).val; omega
theorem V_bias (c : Dev nD) (j : Fin 2816) : (V m c main_v0 : S1x2816.Idx → EReal) (ix2 0 j) = (m ((c : Thread nD τ).loc main_arg2) : S2816.Idx → EReal) (ix1 j) := by
  have h : V m c main_v0 = shapeCast S1x2816 (m ((c : Thread nD τ).loc main_arg2) : S2816.Idx → EReal) shapeCasts_S2816_S1x2816 := by
    unfold V hostOps0
    after_results <;> rfl
  rw [h]
  pointwise []

/-- A result array is what the body leaves in its buffer. -/
theorem back5 (t : Fin cfg0.N) (A : S4x2048x704.Idx → EReal) : (((cfg0.win 5).blk t).view.read (Elt Ideal) A : Vec Ideal S4x2048x704 .bf16) = A :=
  funext fun (j : S4x2048x704.Idx) => (View.read_apply ..).trans (congrArg A (funext fun a => Fin.ext (match a with
    | ⟨0, _⟩ => by show 0 * 4 + 1 * (j 0).val = (j 0).val; omega
    | ⟨1, _⟩ => by show 0 * 2048 + 1 * (j 1).val = (j 1).val; omega
    | ⟨2, _⟩ => by show 0 * 704 + 1 * (j 2).val = (j 2).val; omega)))
theorem full5 (i : S4x2048x704.Idx) : ∃ t : Fin cfg0.N, (cfg0.win 5).flush t = true ∧ i ∈ ((cfg0.win 5).blk t).view.set :=
  ⟨t0_0, flush0_5 t0_0, by
    have h0 : (i 0 : Nat) < 4 := (i 0).isLt
    have h1 : (i 1 : Nat) < 2048 := (i 1).isLt
    have h2 : (i 2 : Nat) < 704 := (i 2).isLt
    show i ∈ ((View.whole main_v1_0).slice (win0_5.rect t0_0)).set
    rw [View.set_slice_whole, Rect.mem_set_unit]
    intro a
    match a with
    | ⟨0, _⟩ => show 0 * 4 ≤ (i 0 : Nat) ∧ (i 0 : Nat) < 0 * 4 + 4; omega
    | ⟨1, _⟩ => show 0 * 2048 ≤ (i 1 : Nat) ∧ (i 1 : Nat) < 0 * 2048 + 2048; omega
    | ⟨2, _⟩ => show 0 * 704 ≤ (i 2 : Nat) ∧ (i 2 : Nat) < 0 * 704 + 704; omega⟩
theorem back6 (t : Fin cfg0.N) (A : S4x2048x704.Idx → EReal) : (((cfg0.win 6).blk t).view.read (Elt Ideal) A : Vec Ideal S4x2048x704 .bf16) = A :=
  funext fun (j : S4x2048x704.Idx) => (View.read_apply ..).trans (congrArg A (funext fun a => Fin.ext (match a with
    | ⟨0, _⟩ => by show 0 * 4 + 1 * (j 0).val = (j 0).val; omega
    | ⟨1, _⟩ => by show 0 * 2048 + 1 * (j 1).val = (j 1).val; omega
    | ⟨2, _⟩ => by show 0 * 704 + 1 * (j 2).val = (j 2).val; omega)))
theorem full6 (i : S4x2048x704.Idx) : ∃ t : Fin cfg0.N, (cfg0.win 6).flush t = true ∧ i ∈ ((cfg0.win 6).blk t).view.set :=
  ⟨t0_0, flush0_6 t0_0, by
    have h0 : (i 0 : Nat) < 4 := (i 0).isLt
    have h1 : (i 1 : Nat) < 2048 := (i 1).isLt
    have h2 : (i 2 : Nat) < 704 := (i 2).isLt
    show i ∈ ((View.whole main_v1_1).slice (win0_6.rect t0_0)).set
    rw [View.set_slice_whole, Rect.mem_set_unit]
    intro a
    match a with
    | ⟨0, _⟩ => show 0 * 4 ≤ (i 0 : Nat) ∧ (i 0 : Nat) < 0 * 4 + 4; omega
    | ⟨1, _⟩ => show 0 * 2048 ≤ (i 1 : Nat) ∧ (i 1 : Nat) < 0 * 2048 + 2048; omega
    | ⟨2, _⟩ => show 0 * 704 ≤ (i 2 : Nat) ∧ (i 2 : Nat) < 0 * 704 + 704; omega⟩
theorem back7 (t : Fin cfg0.N) (A : S4x3x704.Idx → EReal) : (((cfg0.win 7).blk t).view.read (Elt Ideal) A : Vec Ideal S4x3x704 .f32) = A :=
  funext fun (j : S4x3x704.Idx) => (View.read_apply ..).trans (congrArg A (funext fun a => Fin.ext (match a with
    | ⟨0, _⟩ => by show 0 * 4 + 1 * (j 0).val = (j 0).val; omega
    | ⟨1, _⟩ => by show 0 * 3 + 1 * (j 1).val = (j 1).val; omega
    | ⟨2, _⟩ => by show 0 * 704 + 1 * (j 2).val = (j 2).val; omega)))
theorem full7 (i : S4x3x704.Idx) : ∃ t : Fin cfg0.N, (cfg0.win 7).flush t = true ∧ i ∈ ((cfg0.win 7).blk t).view.set :=
  ⟨t0_0, flush0_7 t0_0, by
    have h0 : (i 0 : Nat) < 4 := (i 0).isLt
    have h1 : (i 1 : Nat) < 3 := (i 1).isLt
    have h2 : (i 2 : Nat) < 704 := (i 2).isLt
    show i ∈ ((View.whole main_v1_2).slice (win0_7.rect t0_0)).set
    rw [View.set_slice_whole, Rect.mem_set_unit]
    intro a
    match a with
    | ⟨0, _⟩ => show 0 * 4 ≤ (i 0 : Nat) ∧ (i 0 : Nat) < 0 * 4 + 4; omega
    | ⟨1, _⟩ => show 0 * 3 ≤ (i 1 : Nat) ∧ (i 1 : Nat) < 0 * 3 + 3; omega
    | ⟨2, _⟩ => show 0 * 704 ≤ (i 2 : Nat) ∧ (i 2 : Nat) < 0 * 704 + 704; omega⟩
theorem back8 (t : Fin cfg0.N) (A : S4x1x704.Idx → EReal) : (((cfg0.win 8).blk t).view.read (Elt Ideal) A : Vec Ideal S4x1x704 .f32) = A :=
  funext fun (j : S4x1x704.Idx) => (View.read_apply ..).trans (congrArg A (funext fun a => Fin.ext (match a with
    | ⟨0, _⟩ => by show 0 * 4 + 1 * (j 0).val = (j 0).val; omega
    | ⟨1, _⟩ => by show 0 * 1 + 1 * (j 1).val = (j 1).val; omega
    | ⟨2, _⟩ => by show 0 * 704 + 1 * (j 2).val = (j 2).val; omega)))
theorem full8 (i : S4x1x704.Idx) : ∃ t : Fin cfg0.N, (cfg0.win 8).flush t = true ∧ i ∈ ((cfg0.win 8).blk t).view.set :=
  ⟨t0_0, flush0_8 t0_0, by
    have h0 : (i 0 : Nat) < 4 := (i 0).isLt
    have h1 : (i 1 : Nat) < 1 := (i 1).isLt
    have h2 : (i 2 : Nat) < 704 := (i 2).isLt
    show i ∈ ((View.whole main_v1_3).slice (win0_8.rect t0_0)).set
    rw [View.set_slice_whole, Rect.mem_set_unit]
    intro a
    match a with
    | ⟨0, _⟩ => show 0 * 4 ≤ (i 0 : Nat) ∧ (i 0 : Nat) < 0 * 4 + 4; omega
    | ⟨1, _⟩ => show 0 * 1 ≤ (i 1 : Nat) ∧ (i 1 : Nat) < 0 * 1 + 1; omega
    | ⟨2, _⟩ => show 0 * 704 ≤ (i 2 : Nat) ∧ (i 2 : Nat) < 0 * 704 + 704; omega⟩

section
variable (c : Dev nD) (X : S2048x5632.Idx → ℝ) (W : S3x2816.Idx → ℝ) (B : S2816.Idx → ℝ) (D : S2816x1024.Idx → ℝ) (C : S2048x1024.Idx → ℝ)
  (hX : ∀ i, (m ((c : Thread nD τ).loc main_arg0) : S2048x5632.Idx → EReal) i = ((X i : ℝ) : EReal))
  (hW : ∀ i, (m ((c : Thread nD τ).loc main_arg1) : S3x2816.Idx → EReal) i = ((W i : ℝ) : EReal))
  (hB : ∀ i, (m ((c : Thread nD τ).loc main_arg2) : S2816.Idx → EReal) i = ((B i : ℝ) : EReal))
  (hD : ∀ i, (m ((c : Thread nD τ).loc main_arg3) : S2816x1024.Idx → EReal) i = ((D i : ℝ) : EReal))
  (hC : ∀ i, (m ((c : Thread nD τ).loc main_arg4) : S2048x1024.Idx → EReal) i = ((C i : ℝ) : EReal))

include hX in
theorem argX (t : Fin cfg0.N) (n : Fin 2048) (j : Fin 5632) : (iblk m c 0 t : Vec Ideal S2048x5632 .f32) (ix2 n j) = ((col X j.val n.val : ℝ) : EReal) := by
  rw [blk0, col, dif_pos ⟨n.isLt, j.isLt⟩]
  exact (congrFun (V_main_arg0 m c) _).trans (hX _)
include hW in
theorem argW (t : Fin cfg0.N) (k : Fin 3) (j : Fin 2816) : (iblk m c 1 t : Vec Ideal S3x2816 .f32) (ix2 k j) = ((taps W j.val k : ℝ) : EReal) := by
  rw [blk1, taps, dif_pos j.isLt]
  exact (congrFun (V_main_arg1 m c) _).trans (hW _)
include hB in
theorem argB (t : Fin cfg0.N) (j : Fin 2816) : (iblk m c 2 t : Vec Ideal S1x2816 .f32) (ix2 0 j) = ((bias B j.val : ℝ) : EReal) := by
  rw [blk2, bias, dif_pos j.isLt, V_bias]
  exact hB _
include hD hC in
theorem argZ (t : Fin cfg0.N) (x3 : Vec Ideal S2816x1024 .f32) (x4 : Vec Ideal S2048x1024 .f32)
    (h3 : x3 = (iblk m c 3 t : Vec Ideal S2816x1024 .f32)) (h4 : x4 = (iblk m c 4 t : Vec Ideal S2048x1024 .f32)) (n : Fin 2048) (j : Fin 2816) :
    (∑ k : Fin 1024, x4 (ix2 n k) * x3 (ix2 j k)) = ((prod C D j.val n.val : ℝ) : EReal) := by
  rw [Cert.Step.Ffn.prod, dif_pos ⟨n.isLt, j.isLt⟩, ← sum_coe]
  refine Finset.sum_congr rfl fun k _ => ?_
  rw [EReal.coe_mul]
  exact congrArg₂ (· * ·) ((congrFun (h4.trans (blk4 m c t)) _).trans ((congrFun (V_main_arg4 m c) _).trans (hC _)))
    ((congrFun (h3.trans (blk3 m c t)) _).trans ((congrFun (V_main_arg3 m c) _).trans (hD _)))

include hX hW hB hD hC in
theorem final5 : (dats m 0 c).arrAt 5 cfg0.N = gradVal X W B D C :=
  (dats m 0 c).arrAt_eq_of_cover 5 (gradVal X W B D C)
    (fun t _ => by
      show (cfg0.win 5).cut (grid0.coords t) ((dats m 0 c).after 5 t) = _
      rw [after0_5, out5_eq _ _ _ _ _ X W B D C (argX m c X hX t) (argW m c W hW t) (argB m c B hB t) (argZ m c D C hD hC t _ _ rfl rfl)]
      exact (back5 t (gradVal X W B D C)).symm)
    full5
include hX hW hB hD hC in
theorem final6 : (dats m 0 c).arrAt 6 cfg0.N = gradGate X W B D C :=
  (dats m 0 c).arrAt_eq_of_cover 6 (gradGate X W B D C)
    (fun t _ => by
      show (cfg0.win 6).cut (grid0.coords t) ((dats m 0 c).after 6 t) = _
      rw [after0_6, out6_eq _ _ _ _ _ X W B D C (argX m c X hX t) (argW m c W hW t) (argB m c B hB t) (argZ m c D C hD hC t _ _ rfl rfl)]
      exact (back6 t (gradGate X W B D C)).symm)
    full6
include hX hW hB hD hC in
theorem final7 : (dats m 0 c).arrAt 7 cfg0.N = gradTaps X W B D C :=
  (dats m 0 c).arrAt_eq_of_cover 7 (gradTaps X W B D C)
    (fun t _ => by
      show (cfg0.win 7).cut (grid0.coords t) ((dats m 0 c).after 7 t) = _
      rw [after0_7, out7_eq _ _ _ _ _ X W B D C (argX m c X hX t) (argW m c W hW t) (argB m c B hB t) (argZ m c D C hD hC t _ _ rfl rfl)]
      exact (back7 t (gradTaps X W B D C)).symm)
    full7
include hX hW hB hD hC in
theorem final8 : (dats m 0 c).arrAt 8 cfg0.N = gradBias X W B D C :=
  (dats m 0 c).arrAt_eq_of_cover 8 (gradBias X W B D C)
    (fun t _ => by
      show (cfg0.win 8).cut (grid0.coords t) ((dats m 0 c).after 8 t) = _
      rw [after0_8, out8_eq _ _ _ _ _ X W B D C (argX m c X hX t) (argW m c W hW t) (argB m c B hB t) (argZ m c D C hD hC t _ _ rfl rfl)]
      exact (back8 t (gradBias X W B D C)).symm)
    full8
end

/-- The run with each result array named and the arguments as they were. -/
theorem ends : θ_run defs (onTc (τ := τ) (main (F := Ideal))) ⟨m, fun _ => 0, ρ⟩ fun r => ∀ c : Dev nD,
      r.2.mem ((c : Thread nD τ).loc main_v1_0) = (dats m 0 c).arrAt 5 cfg0.N
      ∧ r.2.mem ((c : Thread nD τ).loc main_v1_1) = (dats m 0 c).arrAt 6 cfg0.N
      ∧ r.2.mem ((c : Thread nD τ).loc main_v1_2) = (dats m 0 c).arrAt 7 cfg0.N
      ∧ r.2.mem ((c : Thread nD τ).loc main_v1_3) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1 5,
      (h c).1 6,
      (h c).1 7,
      (h c).1 8,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.FfnRefIdeal.Value
end
-- ==== Proof.Ffn.lean ====
/-
  The convolution and gate, taken back: the kernel's four results are the reference's, for arguments without an infinity.
-/
module

public import proofs.«01_k».proof.Defs
public import proofs.«01_k».proof.Proof.FfnRun
public import proofs.«01_k».proof.Proof.FfnRefRun

@[expose] public section

noncomputable section
open Idealize.ShloMosaic Idealize.ShloMosaic.TcCoe Idealize.SL.Sem

namespace Cert.Step.Ffn

open Cert.FfnIdeal.Value (argX argW argB argD argC final12 final13 final14 final15)

/-- The two constants the kernel rounds are `1/√2` and `1/√(2π)`. -/
theorem names : Cert.preserves_Ffn_FfnIdeal :=
  ⟨IdealRules.named_const.statement Cert.FfnIdeal.κ "sqrt_half" .f32 0x3F3504F3#32 _ rfl,
   IdealRules.named_const.statement Cert.FfnIdeal.κ "inv_sqrt_2pi" .f32 0x3ECC422A#32 _ rfl⟩

theorem claim [hP : Cert.Pre_ffn_finite.Facts] : Cert.algebraic_FfnIdeal_FfnRefIdeal_pre_ffn_finite := fun m ρ m' ρ' hfin hag => by
  choose X hX using fun c => exists_real (fun _ => rfl) (hfin c).1
  choose W hW using fun c => exists_real (fun _ => rfl) (hfin c).2.1
  choose B hB using fun c => exists_real (fun _ => rfl) (hfin c).2.2.1
  choose D hD using fun c => exists_real (fun _ => rfl) (hfin c).2.2.2.1
  choose C hC using fun c => exists_real (fun _ => rfl) (hfin c).2.2.2.2
  have e12 := fun c => final12 m c (X c) (W c) (B c) (D c) (C c) (hX c) (hW c) (hB c) (hD c) (hC c)
  have e13 := fun c => final13 m c (X c) (W c) (B c) (D c) (C c) (hX c) (hW c) (hB c) (hD c) (hC c)
  have e14 := fun c => final14 m c (X c) (W c) (B c) (D c) (C c) (hX c) (hW c) (hB c) (hD c) (hC c)
  have e15 := fun c => final15 m c (X c) (W c) (B c) (D c) (C c) (hX c) (hW c) (hB c) (hD c) (hC c)
  have kX := fun c i => (congrFun (hag c).1 i).trans (hX c i)
  have kW := fun c i => (congrFun (hag c).2.1 i).trans (hW c i)
  have kB := fun c i => (congrFun (hag c).2.2.1 i).trans (hB c i)
  have kD := fun c i => (congrFun (hag c).2.2.2.1 i).trans (hD c i)
  have kC := fun c i => (congrFun (hag c).2.2.2.2 i).trans (hC c i)
  have r5 := fun c => Cert.FfnRefIdeal.Value.final5 m' c (X c) (W c) (B c) (D c) (C c) (kX c) (kW c) (kB c) (kD c) (kC c)
  have r6 := fun c => Cert.FfnRefIdeal.Value.final6 m' c (X c) (W c) (B c) (D c) (C c) (kX c) (kW c) (kB c) (kD c) (kC c)
  have r7 := fun c => Cert.FfnRefIdeal.Value.final7 m' c (X c) (W c) (B c) (D c) (C c) (kX c) (kW c) (kB c) (kD c) (kC c)
  have r8 := fun c => Cert.FfnRefIdeal.Value.final8 m' c (X c) (W c) (B c) (D c) (C c) (kX c) (kW c) (kB c) (kD c) (kC c)
  exact ⟨fun c => gradVal (X c) (W c) (B c) (D c) (C c), fun c => gradGate (X c) (W c) (B c) (D c) (C c),
    fun c => gradTaps (X c) (W c) (B c) (D c) (C c), fun c => gradBias (X c) (W c) (B c) (D c) (C c),
    (θ_run _ _ _).mono (fun _ h c => ⟨(h c).1.trans (e12 c), (h c).2.1.trans (e13 c), (h c).2.2.1.trans (e14 c), (h c).2.2.2.1.trans (e15 c), (h c).2.2.2.2⟩)
      (Cert.FfnIdeal.Value.run_blocks m ρ),
    (θ_run _ _ _).mono (fun _ h c => ⟨(h c).1.trans (r5 c), (h c).2.1.trans (r6 c), (h c).2.2.1.trans (r7 c), (h c).2.2.2.1.trans (r8 c), (h c).2.2.2.2⟩)
      (Cert.FfnRefIdeal.Value.ends m' ρ')⟩

end Cert.Step.Ffn

end
-- ==== Proof.PoolMath.lean ====
module

public import Mathlib.Data.EReal.Operations
public import Mathlib.Algebra.BigOperators.Fin
public import Mathlib.Algebra.BigOperators.Intervals

@[expose] public section
noncomputable section
namespace Cert.Step.Pool

/-! # Windowed sums of a column of 2048 entries

The kernel pads a column by 8 rows at each end and adds shifted copies; the reference scatters each entry to the two ends of its
window and sums the rows after. Both are the sum over a window. -/

/-- The column with 8 zero rows before it and after it. -/
def xe (d : Fin 2048 → EReal) (r : ℕ) : EReal := if h : 8 ≤ r ∧ r < 2056 then d ⟨r - 8, by omega⟩ else 0

/-- The sum over the rows `t` with `n - h < t ≤ n + h`. -/
def win (h : ℕ) (d : Fin 2048 → EReal) (n : Fin 2048) : EReal := ∑ t : Fin 2048, if n.val < t.val + h ∧ t.val ≤ n.val + h then d t else 0

/-- Consecutive rows of the bordered column sum to the entries among them. -/
theorem xe_sum (a K : ℕ) (hK : a + K ≤ 2064) (d : Fin 2048 → EReal) :
    ∑ o ∈ Finset.range K, xe d (a + o) = ∑ t : Fin 2048, if a ≤ 8 + t.val ∧ 8 + t.val < a + K then d t else 0 := by
  have e1 : (∑ t : Fin 2048, if a ≤ 8 + t.val ∧ 8 + t.val < a + K then d t else 0) = ∑ t ∈ Finset.range 2048, if a ≤ 8 + t ∧ 8 + t < a + K then xe d (8 + t) else 0 := by
    rw [← Fin.sum_univ_eq_sum_range (fun t => if a ≤ 8 + t ∧ 8 + t < a + K then xe d (8 + t) else 0) 2048]
    refine Finset.sum_congr rfl fun t _ => ?_
    have ht := t.isLt
    have ex : xe d (8 + t.val) = d t := by
      unfold xe
      rw [dif_pos ⟨by omega, by omega⟩]
      exact congrArg d (Fin.ext (by show 8 + t.val - 8 = t.val; omega))
    simp only [ex]
  have e2 : ∑ o ∈ Finset.range K, xe d (a + o) = ∑ r ∈ Finset.Ico a (a + K), xe d r := by
    rw [Finset.sum_Ico_eq_sum_range, Nat.add_sub_cancel_left]
  have e3 : ∑ r ∈ Finset.Ico a (a + K), xe d r
      = ∑ r ∈ Finset.range (8 + 2048 + 8), if a ≤ r ∧ r < a + K then xe d r else 0 := by
    rw [← Finset.sum_filter]
    refine Finset.sum_congr ?_ fun _ _ => rfl
    ext r
    simp only [Finset.mem_Ico, Finset.mem_filter, Finset.mem_range]
    omega
  rw [e1, e2, e3, Finset.sum_range_add, Finset.sum_range_add]
  have z1 : ∑ r ∈ Finset.range 8, (if a ≤ r ∧ r < a + K then xe d r else 0) = 0 :=
    Finset.sum_eq_zero fun r hr => by
      have := Finset.mem_range.1 hr
      have : xe d r = 0 := dif_neg (by omega)
      rw [this, ite_self]
  have z2 : ∑ r ∈ Finset.range 8, (if a ≤ 8 + 2048 + r ∧ 8 + 2048 + r < a + K then xe d (8 + 2048 + r) else 0) = 0 :=
    Finset.sum_eq_zero fun r hr => by
      have : xe d (8 + 2048 + r) = 0 := dif_neg (by omega)
      rw [this, ite_self]
  rw [z1, z2, zero_add, add_zero]

theorem win_eq (h : ℕ) (hh : h ≤ 8) (d : Fin 2048 → EReal) (n : Fin 2048) :
    win h d n = ∑ o ∈ Finset.range (2 * h), xe d (9 + n.val - h + o) := by
  have hn := n.isLt
  rw [xe_sum _ _ (by omega)]
  refine Finset.sum_congr rfl fun t _ => ?_
  have : (n.val < t.val + h ∧ t.val ≤ n.val + h) ↔ (9 + n.val - h ≤ 8 + t.val ∧ 8 + t.val < 9 + n.val - h + 2 * h) := by omega
  simp only [this]

theorem win1 (d : Fin 2048 → EReal) (n : Fin 2048) : xe d (8 + n.val) + xe d (8 + n.val + 1) = win 1 d n := by
  rw [win_eq 1 (by decide)]
  simp only [Finset.sum_range_succ, Finset.sum_range_zero, Nat.reduceMul, zero_add]
  have := n.isLt
  congr 2 <;> omega

/-- One step of the kernel's sums by doubling: rows `r - k` and `r + k` of sums over `2 k` rows. -/
theorem win2 (d : Fin 2048 → EReal) (n : Fin 2048) (A B : ℕ → EReal) (hA : ∀ r, A r = xe d r + xe d (r + 1)) (hB : ∀ r, 1 ≤ r → B r = A (r - 1) + A (r + 1)) :
    B (8 + n.val) = win 2 d n := by
  have := n.isLt
  rw [win_eq 2 (by decide), hB _ (by omega), hA, hA]
  simp only [Finset.sum_range_succ, Finset.sum_range_zero, Nat.reduceMul, zero_add]
  rw [show 9 + n.val - 2 = 7 + n.val by omega, show 8 + n.val - 1 = 7 + n.val by omega,
    show 7 + n.val + 1 = 8 + n.val by omega, show 7 + n.val + 2 = 8 + n.val + 1 by omega, show 7 + n.val + 3 = 8 + n.val + 1 + 1 by omega, show 7 + n.val + 0 = 7 + n.val by omega]
  simp only [add_assoc]

theorem win4 (d : Fin 2048 → EReal) (n : Fin 2048) (A B C : ℕ → EReal) (hA : ∀ r, A r = xe d r + xe d (r + 1)) (hB : ∀ r, 1 ≤ r → B r = A (r - 1) + A (r + 1))
    (hC : ∀ r, 3 ≤ r → C r = B (r - 2) + B (r + 2)) : C (8 + n.val) = win 4 d n := by
  have := n.isLt
  rw [win_eq 4 (by decide), hC _ (by omega), hB _ (by omega), hB _ (by omega), hA, hA, hA, hA]
  simp only [Finset.sum_range_succ, Finset.sum_range_zero, Nat.reduceMul, zero_add]
  generalize hm : 9 + n.val - 4 = q
  have e : 8 + n.val = q + 3 := by omega
  rw [e]
  simp only [add_assoc, Nat.reduceAdd, Nat.add_succ_sub_one, Nat.reduceSubDiff, Nat.add_sub_cancel, add_zero]

theorem win8 (d : Fin 2048 → EReal) (n : Fin 2048) (A B C D : ℕ → EReal) (hA : ∀ r, A r = xe d r + xe d (r + 1)) (hB : ∀ r, 1 ≤ r → B r = A (r - 1) + A (r + 1))
    (hC : ∀ r, 3 ≤ r → C r = B (r - 2) + B (r + 2)) (hD : ∀ r, 7 ≤ r → D r = C (r - 4) + C (r + 4)) : D (8 + n.val) = win 8 d n := by
  have := n.isLt
  rw [win_eq 8 (by decide), hD _ (by omega), hC _ (by omega), hC _ (by omega), hB _ (by omega), hB _ (by omega), hB _ (by omega), hB _ (by omega), hA, hA, hA, hA, hA, hA, hA, hA]
  simp only [Finset.sum_range_succ, Finset.sum_range_zero, Nat.reduceMul, zero_add]
  generalize hm : 9 + n.val - 8 = q
  have e : 8 + n.val = q + 7 := by omega
  rw [e]
  simp only [add_assoc, Nat.reduceAdd, Nat.add_succ_sub_one, Nat.reduceSubDiff, Nat.add_sub_cancel, add_zero]

theorem coe_sum' {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem single_real (n : Fin 2048) (k : ℕ) (hk : k ≤ 2048) (a : ℝ) :
    (∑ i : Fin 2048, if n.val ≤ i.val then (if k = i.val + 1 then a else 0) else 0) = if n.val < k then a else 0 := by
  by_cases h : n.val < k
  · rw [if_pos h, Finset.sum_eq_single (⟨k - 1, by omega⟩ : Fin 2048)]
    · rw [if_pos (show n.val ≤ k - 1 by omega), if_pos (show k = k - 1 + 1 by omega)]
    · intro i _ hi
      rw [if_neg (c := k = i.val + 1) fun e => hi (Fin.ext (by show i.val = k - 1; omega)), ite_self]
    · intro hh; exact absurd (Finset.mem_univ _) hh
  · rw [if_neg h]
    refine Finset.sum_eq_zero fun i _ => ?_
    by_cases h1 : n.val ≤ i.val
    · rw [if_pos h1, if_neg (by omega)]
    · rw [if_neg h1]

/-- Each entry scattered with its sign to the two ends of its window, then summed over the rows after `n`: the sum over the window. -/
theorem scatter_win (h : ℕ) (r : Fin 2048 → ℝ) (d : Fin 2048 → EReal) (hd : ∀ t, d t = (r t : EReal)) (n : Fin 2048) :
    (∑ i : Fin 2048, if n.val ≤ i.val then ((∑ t : Fin 2048, if t.val - h = i.val + 1 then -d t else 0)
        + ∑ t : Fin 2048, if min (t.val + h) 2048 = i.val + 1 then d t else 0) else 0) = win h d n := by
  have hl : (∑ i : Fin 2048, if n.val ≤ i.val then ((∑ t : Fin 2048, if t.val - h = i.val + 1 then -d t else 0)
        + ∑ t : Fin 2048, if min (t.val + h) 2048 = i.val + 1 then d t else 0) else 0)
      = ((∑ i : Fin 2048, if n.val ≤ i.val then ((∑ t : Fin 2048, if t.val - h = i.val + 1 then -r t else 0)
        + ∑ t : Fin 2048, if min (t.val + h) 2048 = i.val + 1 then r t else 0) else 0 : ℝ) : EReal) := by
    rw [coe_sum']
    refine Finset.sum_congr rfl fun i _ => ?_
    rw [apply_ite (fun x : ℝ => (x : EReal)), EReal.coe_add, coe_sum', coe_sum', EReal.coe_zero]
    simp only [hd, apply_ite (fun x : ℝ => (x : EReal)), EReal.coe_neg, EReal.coe_zero]
  have hr : win h d n = ((∑ t : Fin 2048, if n.val < t.val + h ∧ t.val ≤ n.val + h then r t else 0 : ℝ) : EReal) := by
    unfold win
    rw [coe_sum']
    simp only [hd, apply_ite (fun x : ℝ => (x : EReal)), EReal.coe_zero]
  rw [hl, hr]
  refine congrArg _ ?_
  have e : ∀ i : Fin 2048, (if n.val ≤ i.val then ((∑ t : Fin 2048, if t.val - h = i.val + 1 then -r t else 0)
        + ∑ t : Fin 2048, if min (t.val + h) 2048 = i.val + 1 then r t else 0) else 0)
      = ∑ t : Fin 2048, ((if n.val ≤ i.val then (if t.val - h = i.val + 1 then -r t else 0) else 0) + (if n.val ≤ i.val then (if min (t.val + h) 2048 = i.val + 1 then r t else 0) else 0)) := by
    intro i
    by_cases hi : n.val ≤ i.val
    · simp only [if_pos hi]; rw [Finset.sum_add_distrib]
    · simp only [if_neg hi, add_zero, Finset.sum_const_zero]
  simp only [e]
  rw [Finset.sum_comm]
  refine Finset.sum_congr rfl fun t _ => ?_
  have ht := t.isLt
  rw [Finset.sum_add_distrib, single_real n _ (by omega), single_real n _ (by omega)]
  by_cases h1 : n.val < t.val - h
  · rw [if_pos h1, if_pos (by omega), if_neg (by omega)]; ring
  · rw [if_neg h1]
    by_cases h2 : n.val < t.val + h
    · rw [if_pos (by omega), if_pos (by omega), zero_add]
    · rw [if_neg (by omega), if_neg (by omega), zero_add]

end Cert.Step.Pool
end
-- ==== Proof.PoolRefOps.lean ====
module

public import proofs.«01_k».proof.Proof.PoolMath
public import proofs.«01_k».proof.Proof.Norm
public import proofs.«01_k».proof.Proof.Gen.PoolRefIdeal.Read
public import Idealize.ShloMosaic.Lib.Routing.OpsPair

@[expose] public section
set_option maxRecDepth 16384
noncomputable section
open Idealize.ShloMosaic Idealize.ShloMosaic.TcCoe
namespace Cert.Step.Pool
open Cert.PoolRefIdeal Cert.PoolRefIdeal.Gen Cert.PoolRefIdeal.Read

/-! # The reference's scatters, its sum over the rows after one, and its tables of rows -/

abbrev sd : ScatterDims S1x2049x128 S2048x1 S1x2048x128 := scatter_S1x2049x128_S2048x1_S1x2048x128_02_1_1_1

theorem sd_start (j : S1x2048x128.Idx) (idx : IVec S2048x1 32) (a : Fin 3) :
    sd.start j idx a = if a = 1 then (idx (ix2 (j 1) 0)).toInt else 0 := by
  match a with
  | ⟨0, _⟩ => rfl
  | ⟨1, _⟩ =>
    refine (dif_pos (by decide : (1 : Fin 3) ∈ sd.scatterDimsToOperandDims)).trans ?_
    refine Eq.trans ?_ (if_pos rfl).symm
    refine congrArg (fun i => (idx i).toInt) (funext fun b => ?_)
    match b with
    | ⟨0, _⟩ => rfl
    | ⟨1, _⟩ => rfl
  | ⟨2, _⟩ => rfl

theorem sd_window (j : S1x2048x128.Idx) (a : Fin 3) : sd.window j a = if a = 1 then 0 else (j a).val := by
  match a with
  | ⟨0, _⟩ => rfl
  | ⟨1, _⟩ => rfl
  | ⟨2, _⟩ => rfl

theorem sd_lands (j : S1x2048x128.Idx) (idx : IVec S2048x1 32) (k : Fin 2049) (l : Fin 128) :
    sd.resultIdx? j idx = some (ix3 (0 : Fin 1) k l) ↔ (idx (ix2 (j 1) 0)).toInt = (k.val : Int) ∧ j 2 = l := by
  rw [Routing.resultIdx?_eq_some]
  constructor
  · intro h
    have h1 := h 1
    have h2 := h 2
    rw [sd_start, sd_window] at h1 h2
    simp at h1 h2
    exact ⟨h1, Fin.ext (by exact_mod_cast h2)⟩
  · rintro ⟨h1, h2⟩ a
    rw [sd_start, sd_window]
    match a with
    | ⟨0, _⟩ =>
      have : (j 0).val = 0 := by have := (j 0).isLt; change (j 0).val < 1 at this; omega
      simp [this, ix3]
    | ⟨1, _⟩ => simpa [ix3] using h1
    | ⟨2, _⟩ => simp [ix3, ← h2]

theorem scatter_apply (x : FVec Ideal S1x2049x128 .f32) (idx : IVec S2048x1 32) (upd : FVec Ideal S1x2048x128 .f32)
    (T : Fin 2048 → ℕ) (hT : ∀ t, (idx (ix2 t 0)).toInt = (T t : Int)) (k : Fin 2049) (l : Fin 128) :
    Host.scatterAdd scatter_S1x2049x128_S2048x1_S1x2048x128_02_1_1_1 x idx upd (ix3 (0 : Fin 1) k l)
      = x (ix3 (0 : Fin 1) k l) + ∑ t : Fin 2048, if T t = k.val then upd (ix3 (0 : Fin 1) t l) else 0 := by
  show (x (ix3 (0 : Fin 1) k l) : EReal) + ∑ j ∈ Finset.univ.filter (fun j => sd.resultIdx? j idx = some (ix3 (0 : Fin 1) k l)), (upd j : EReal) = _
  refine congrArg _ ?_
  rw [← Finset.sum_filter]
  refine Finset.sum_nbij' (fun j => j 1) (fun t => ix3 (0 : Fin 1) t l) ?_ ?_ ?_ ?_ ?_
  · intro j hj
    have := ((sd_lands j idx k l).1 (Finset.mem_filter.1 hj).2).1
    have e : (T (j 1) : Int) = (k.val : Int) := (hT (j 1)).symm.trans this
    exact Finset.mem_filter.2 ⟨Finset.mem_univ _, by exact_mod_cast e⟩
  · intro t ht
    refine Finset.mem_filter.2 ⟨Finset.mem_univ _, (sd_lands _ idx k l).2 ⟨?_, rfl⟩⟩
    show (idx (ix2 t 0)).toInt = _
    rw [hT, (Finset.mem_filter.1 ht).2]
  · intro j hj
    have := ((sd_lands j idx k l).1 (Finset.mem_filter.1 hj).2).2
    rw [eq_ix3 j, ← this]
    refine congrArg (fun a => ix3 a _ _) (Subsingleton.elim (α := Fin 1) _ _)
  · intro t _; rfl
  · intro j hj
    have := ((sd_lands j idx k l).1 (Finset.mem_filter.1 hj).2).2
    rw [← this]
    refine congrArg upd ((eq_ix3 j).trans ?_)
    refine congrArg (fun a => ix3 a _ _) (Subsingleton.elim (α := Fin 1) _ _)

theorem foldl_add_sum {N : ℕ} (g : Fin N → EReal) : (List.finRange N).foldl (fun r n => r + g n) 0 = ∑ n, g n := by
  have : ∀ (l : List (Fin N)) (v : EReal), l.foldl (fun r n => r + g n) v = v + (l.map g).sum := by
    intro l
    induction l with
    | nil => intro v; simp
    | cons a l ih => intro v; rw [List.foldl_cons, ih, List.map_cons, List.sum_cons, add_assoc]
  rw [this, zero_add, Fin.sum_univ_def]

theorem suffix_apply (x : FVec Ideal S1x2048x512 .f32) (init : FVec Ideal S_ .f32) (h0 : init (Shape.Idx.first Facts₀.h_S_) = (0 : EReal)) (n : Fin 2048) (j : Fin 512) :
    Host.reduceWindowAdd ![1, 2048, 1] ![1, 1, 1] ![0, 0, 0] ![0, 2047, 0] x init Facts₀.reduceWindows_S1x2048x512_S1x2048x512_w1s1p0_0_w2048s1p0_2047_w1s1p0_0 Facts₀.h_S_ (ix3 (0 : Fin 1) n j)
      = ∑ i : Fin 2048, if n.val ≤ i.val then x (ix3 (0 : Fin 1) i j) else 0 := by
  unfold Host.reduceWindowAdd
  rw [Ideal.hostReduceWindowAdd_def]
  unfold Ideal.hostReduceWindowAdd Host.reduceWindow
  rw [h0]
  refine (foldl_add_sum _).trans ?_
  refine Eq.trans (b := ∑ q, (fun w : (⟨3, ![1, 2048, 1]⟩ : Shape).Idx => if h : n.val + (w 1).val < 2048 then (x (ix3 (0 : Fin 1) (⟨n.val + (w 1).val, h⟩ : Fin 2048) j) : EReal) else 0)
      ((Shape.rowMajor (⟨3, ![1, 2048, 1]⟩ : Shape)).symm q)) (Finset.sum_congr rfl fun q _ => ?_) ((Equiv.sum_comp (Shape.rowMajor (⟨3, ![1, 2048, 1]⟩ : Shape)).symm (fun w : (⟨3, ![1, 2048, 1]⟩ : Shape).Idx => if h : n.val + (w 1).val < 2048 then (x (ix3 (0 : Fin 1) (⟨n.val + (w 1).val, h⟩ : Fin 2048) j) : EReal) else 0)).trans ?_)
  · have w0 : ((Shape.rowMajor (⟨3, ![1, 2048, 1]⟩ : Shape)).symm q 0).val = 0 := by have := ((Shape.rowMajor (⟨3, ![1, 2048, 1]⟩ : Shape)).symm q 0).isLt; change ((Shape.rowMajor (⟨3, ![1, 2048, 1]⟩ : Shape)).symm q 0).val < 1 at this; omega
    have w2 : ((Shape.rowMajor (⟨3, ![1, 2048, 1]⟩ : Shape)).symm q 2).val = 0 := by have := ((Shape.rowMajor (⟨3, ![1, 2048, 1]⟩ : Shape)).symm q 2).isLt; change ((Shape.rowMajor (⟨3, ![1, 2048, 1]⟩ : Shape)).symm q 2).val < 1 at this; omega
    have hj := j.isLt
    dsimp only
    by_cases h : n.val + ((Shape.rowMajor (⟨3, ![1, 2048, 1]⟩ : Shape)).symm q 1).val < 2048
    · rw [dif_pos h]
      refine (dif_pos ?_).trans ?_
      · intro a
        match a with
        | ⟨0, _⟩ =>
          show 0 ≤ 0 * 1 + ((Shape.rowMajor (⟨3, ![1, 2048, 1]⟩ : Shape)).symm q 0).val ∧ 0 * 1 + ((Shape.rowMajor (⟨3, ![1, 2048, 1]⟩ : Shape)).symm q 0).val - 0 < 1
          omega
        | ⟨1, _⟩ =>
          show 0 ≤ n.val * 1 + ((Shape.rowMajor (⟨3, ![1, 2048, 1]⟩ : Shape)).symm q 1).val ∧ n.val * 1 + ((Shape.rowMajor (⟨3, ![1, 2048, 1]⟩ : Shape)).symm q 1).val - 0 < 2048
          omega
        | ⟨2, _⟩ =>
          show 0 ≤ j.val * 1 + ((Shape.rowMajor (⟨3, ![1, 2048, 1]⟩ : Shape)).symm q 2).val ∧ j.val * 1 + ((Shape.rowMajor (⟨3, ![1, 2048, 1]⟩ : Shape)).symm q 2).val - 0 < 512
          omega
      · refine congrArg x (funext fun a => Fin.ext ?_)
        match a with
        | ⟨0, _⟩ => show 0 * 1 + ((Shape.rowMajor (⟨3, ![1, 2048, 1]⟩ : Shape)).symm q 0).val - 0 = 0; omega
        | ⟨1, _⟩ => show n.val * 1 + ((Shape.rowMajor (⟨3, ![1, 2048, 1]⟩ : Shape)).symm q 1).val - 0 = n.val + ((Shape.rowMajor (⟨3, ![1, 2048, 1]⟩ : Shape)).symm q 1).val; omega
        | ⟨2, _⟩ => show j.val * 1 + ((Shape.rowMajor (⟨3, ![1, 2048, 1]⟩ : Shape)).symm q 2).val - 0 = j.val; omega
    · rw [dif_neg h]
      refine dif_neg fun hin => ?_
      have h1 := (hin 1).2
      change n.val * 1 + ((Shape.rowMajor (⟨3, ![1, 2048, 1]⟩ : Shape)).symm q 1).val - 0 < 2048 at h1
      omega
  have fin : ∀ w : (⟨3, ![1, 2048, 1]⟩ : Shape).Idx, w = ix3 (0 : Fin 1) (w 1) (0 : Fin 1) := fun w =>
    (eq_ix3 w).trans (congrArg₂ (fun a b => ix3 a (w 1) b) (Subsingleton.elim (α := Fin 1) _ _) (Subsingleton.elim (α := Fin 1) _ _))
  rw [← Finset.sum_filter]
  refine Eq.trans (b := ∑ w ∈ Finset.univ.filter (fun w : (⟨3, ![1, 2048, 1]⟩ : Shape).Idx => n.val + (w 1).val < 2048), if h : n.val + (w 1).val < 2048 then (x (ix3 (0 : Fin 1) (⟨n.val + (w 1).val, h⟩ : Fin 2048) j) : EReal) else 0) ?_ ?_
  · refine (Finset.sum_filter_of_ne fun w _ hw => ?_).symm
    by_contra h
    exact hw (dif_neg h)
  refine Finset.sum_bij' (fun w hw => (⟨n.val + (w 1).val, (Finset.mem_filter.1 hw).2⟩ : Fin 2048)) (fun i _ => ix3 (0 : Fin 1) (⟨i.val - n.val, by omega⟩ : Fin 2048) (0 : Fin 1)) ?_ ?_ ?_ ?_ ?_
  · intro w hw
    exact Finset.mem_filter.2 ⟨Finset.mem_univ _, Nat.le_add_right _ _⟩
  · intro i hi
    have := (Finset.mem_filter.1 hi).2
    refine Finset.mem_filter.2 ⟨Finset.mem_univ _, ?_⟩
    show n.val + (i.val - n.val) < 2048
    omega
  · intro w hw
    refine Eq.trans ?_ (fin w).symm
    refine congrArg (fun b => ix3 (0 : Fin 1) b (0 : Fin 1)) (Fin.ext ?_)
    show n.val + (w 1).val - n.val = (w 1).val
    omega
  · intro i hi
    have := (Finset.mem_filter.1 hi).2
    refine Fin.ext ?_
    show n.val + (i.val - n.val) = i.val
    omega
  · intro w hw
    exact dif_pos (Finset.mem_filter.1 hw).2

end Cert.Step.Pool
end
-- ==== Proof.PoolWords.lean ====
module
/- The ends of a row's window and the number of rows in it, as the two programs compute them in words. -/

public import Idealize.ShloMosaic.Lib.KernelVsHost

@[expose] public section
set_option maxRecDepth 16384
noncomputable section
open Idealize.ShloMosaic Idealize.ShloMosaic.TcCoe
namespace Cert.Step.Pool

/-- The words of the upper and the lower end of a window of `2 h` rows, as the reference's tables hold them. -/
def hiW (h : BitVec 32) (t : Fin 2048) : BitVec 32 :=
  let X := IntOp.minsi 2048#32 (IntOp.maxsi 0#32 (BitVec.ofNat 32 t.val + h))
  Scalar.select (IntOp.cmpi .slt X 0#32) (X + 2049#32) X
def loW (h : BitVec 32) (t : Fin 2048) : BitVec 32 :=
  let X := IntOp.minsi 2048#32 (IntOp.maxsi 0#32 (BitVec.ofNat 32 t.val - h))
  Scalar.select (IntOp.cmpi .slt X 0#32) (X + 2049#32) X

theorem hiW1 : ∀ t, (hiW 1#32 t).toInt = ((min (t.val + 1) 2048 : ℕ) : Int) := by decide +kernel
theorem hiW2 : ∀ t, (hiW 2#32 t).toInt = ((min (t.val + 2) 2048 : ℕ) : Int) := by decide +kernel
theorem hiW4 : ∀ t, (hiW 4#32 t).toInt = ((min (t.val + 4) 2048 : ℕ) : Int) := by decide +kernel
theorem hiW8 : ∀ t, (hiW 8#32 t).toInt = ((min (t.val + 8) 2048 : ℕ) : Int) := by decide +kernel
theorem loW1 : ∀ t, (loW 1#32 t).toInt = ((t.val - 1 : ℕ) : Int) := by decide +kernel
theorem loW2 : ∀ t, (loW 2#32 t).toInt = ((t.val - 2 : ℕ) : Int) := by decide +kernel
theorem loW4 : ∀ t, (loW 4#32 t).toInt = ((t.val - 4 : ℕ) : Int) := by decide +kernel
theorem loW8 : ∀ t, (loW 8#32 t).toInt = ((t.val - 8 : ℕ) : Int) := by decide +kernel

/-- The number of rows in a window, as both programs count it. -/
def cnt (h : ℕ) (t : Fin 2048) : ℕ := min (t.val + h) 2048 - (t.val - h)
theorem cnt_pos (h : ℕ) (hh : 1 ≤ h) (t : Fin 2048) : 0 < cnt h t := by have := t.isLt; unfold cnt; omega

def cntW (h : BitVec 32) (t : Fin 2048) : BitVec 32 :=
  IntOp.minsi 2048#32 (IntOp.maxsi 0#32 (BitVec.ofNat 32 t.val + h)) - IntOp.minsi 2048#32 (IntOp.maxsi 0#32 (BitVec.ofNat 32 t.val - h))
theorem cntW1 : ∀ t, (cntW 1#32 t).toInt = (cnt 1 t : Int) := by decide +kernel
theorem cntW2 : ∀ t, (cntW 2#32 t).toInt = (cnt 2 t : Int) := by decide +kernel
theorem cntW4 : ∀ t, (cntW 4#32 t).toInt = (cnt 4 t : Int) := by decide +kernel
theorem cntW8 : ∀ t, (cntW 8#32 t).toInt = (cnt 8 t : Int) := by decide +kernel

def cntK (h : BitVec 32) (t : Fin 2048) : BitVec 32 :=
  IntOp.minsi (BitVec.ofNat 32 t.val + h) 2048#32 - IntOp.maxsi (BitVec.ofNat 32 t.val - h) 0#32

theorem cntK1 : ∀ t, (cntK 1#32 t).toInt = (cnt 1 t : Int) := by decide +kernel
theorem cntK2 : ∀ t, (cntK 2#32 t).toInt = (cnt 2 t : Int) := by decide +kernel
theorem cntK4 : ∀ t, (cntK 4#32 t).toInt = (cnt 4 t : Int) := by decide +kernel
theorem cntK8 : ∀ t, (cntK 8#32 t).toInt = (cnt 8 t : Int) := by decide +kernel

end Cert.Step.Pool
end
-- ==== Proof.PoolTab.lean ====
module

public import proofs.«01_k».proof.Proof.PoolMath
public import proofs.«01_k».proof.Proof.PoolWords
public import proofs.«01_k».proof.Proof.Norm
public import proofs.«01_k».proof.Proof.Gen.PoolRefIdeal.Read
public import Idealize.ShloMosaic.Lib.Routing.OpsPair

@[expose] public section
set_option maxRecDepth 16384
noncomputable section
open Idealize.ShloMosaic Idealize.ShloMosaic.TcCoe
namespace Cert.Step.Pool
open Cert.PoolRefIdeal Cert.PoolRefIdeal.Gen Cert.PoolRefIdeal.Read

theorem tab20 (t : Fin 2048) : val_main_v20 (F := Ideal) (ix2 t (0 : Fin 1) : S2048x1.Idx) = hiW 1#32 t := by
  simp only [val_main_v20_apply, val_main_v19_apply, val_main_v11_apply, val_main_call2_v2_apply, val_main_v10_apply, val_main_v9_apply, val_main_c_3_apply, val_main_v5_apply, val_main_call2_v1_apply, val_main_call2_v0_apply, val_main_c_4_apply, val_main_call2_v4_apply, val_main_call2_v3_apply, val_main_c_5_apply, val_main_v18_apply, val_main_v17_apply, val_main_c_7_apply, val_main_v16_apply, val_main_v15_apply, val_main_c_6_apply]
  rfl
theorem tab27 (t : Fin 2048) : val_main_v27 (F := Ideal) (ix2 t (0 : Fin 1) : S2048x1.Idx) = loW 1#32 t := by
  simp only [val_main_v27_apply, val_main_v26_apply, val_main_v8_apply, val_main_call1_v2_apply, val_main_v7_apply, val_main_v6_apply, val_main_c_apply, val_main_v5_apply, val_main_call1_v1_apply, val_main_call1_v0_apply, val_main_c_1_apply, val_main_call1_v4_apply, val_main_call1_v3_apply, val_main_c_2_apply, val_main_v25_apply, val_main_v24_apply, val_main_c_9_apply, val_main_v23_apply, val_main_v22_apply, val_main_c_8_apply]
  rfl
theorem tab49 (t : Fin 2048) : val_main_v49 (F := Ideal) (ix2 t (0 : Fin 1) : S2048x1.Idx) = hiW 2#32 t := by
  simp only [val_main_v49_apply, val_main_v48_apply, val_main_v40_apply, val_main_call4_v2_apply, val_main_v39_apply, val_main_v38_apply, val_main_c_13_apply, val_main_v5_apply, val_main_call4_v1_apply, val_main_call4_v0_apply, val_main_c_14_apply, val_main_call4_v4_apply, val_main_call4_v3_apply, val_main_c_15_apply, val_main_v47_apply, val_main_v46_apply, val_main_c_17_apply, val_main_v45_apply, val_main_v44_apply, val_main_c_16_apply]
  rfl
theorem tab56 (t : Fin 2048) : val_main_v56 (F := Ideal) (ix2 t (0 : Fin 1) : S2048x1.Idx) = loW 2#32 t := by
  simp only [val_main_v56_apply, val_main_v55_apply, val_main_v37_apply, val_main_call3_v2_apply, val_main_v36_apply, val_main_v35_apply, val_main_c_10_apply, val_main_v5_apply, val_main_call3_v1_apply, val_main_call3_v0_apply, val_main_c_11_apply, val_main_call3_v4_apply, val_main_call3_v3_apply, val_main_c_12_apply, val_main_v54_apply, val_main_v53_apply, val_main_c_19_apply, val_main_v52_apply, val_main_v51_apply, val_main_c_18_apply]
  rfl
theorem tab78 (t : Fin 2048) : val_main_v78 (F := Ideal) (ix2 t (0 : Fin 1) : S2048x1.Idx) = hiW 4#32 t := by
  simp only [val_main_v78_apply, val_main_v77_apply, val_main_v69_apply, val_main_call6_v2_apply, val_main_v68_apply, val_main_v67_apply, val_main_c_23_apply, val_main_v5_apply, val_main_call6_v1_apply, val_main_call6_v0_apply, val_main_c_24_apply, val_main_call6_v4_apply, val_main_call6_v3_apply, val_main_c_25_apply, val_main_v76_apply, val_main_v75_apply, val_main_c_27_apply, val_main_v74_apply, val_main_v73_apply, val_main_c_26_apply]
  rfl
theorem tab85 (t : Fin 2048) : val_main_v85 (F := Ideal) (ix2 t (0 : Fin 1) : S2048x1.Idx) = loW 4#32 t := by
  simp only [val_main_v85_apply, val_main_v84_apply, val_main_v66_apply, val_main_call5_v2_apply, val_main_v65_apply, val_main_v64_apply, val_main_c_20_apply, val_main_v5_apply, val_main_call5_v1_apply, val_main_call5_v0_apply, val_main_c_21_apply, val_main_call5_v4_apply, val_main_call5_v3_apply, val_main_c_22_apply, val_main_v83_apply, val_main_v82_apply, val_main_c_29_apply, val_main_v81_apply, val_main_v80_apply, val_main_c_28_apply]
  rfl
theorem tab107 (t : Fin 2048) : val_main_v107 (F := Ideal) (ix2 t (0 : Fin 1) : S2048x1.Idx) = hiW 8#32 t := by
  simp only [val_main_v107_apply, val_main_v106_apply, val_main_v98_apply, val_main_call8_v2_apply, val_main_v97_apply, val_main_v96_apply, val_main_c_33_apply, val_main_v5_apply, val_main_call8_v1_apply, val_main_call8_v0_apply, val_main_c_34_apply, val_main_call8_v4_apply, val_main_call8_v3_apply, val_main_c_35_apply, val_main_v105_apply, val_main_v104_apply, val_main_c_37_apply, val_main_v103_apply, val_main_v102_apply, val_main_c_36_apply]
  rfl
theorem tab114 (t : Fin 2048) : val_main_v114 (F := Ideal) (ix2 t (0 : Fin 1) : S2048x1.Idx) = loW 8#32 t := by
  simp only [val_main_v114_apply, val_main_v113_apply, val_main_v95_apply, val_main_call7_v2_apply, val_main_v94_apply, val_main_v93_apply, val_main_c_30_apply, val_main_v5_apply, val_main_call7_v1_apply, val_main_call7_v0_apply, val_main_c_31_apply, val_main_call7_v4_apply, val_main_call7_v3_apply, val_main_c_32_apply, val_main_v112_apply, val_main_v111_apply, val_main_c_39_apply, val_main_v110_apply, val_main_v109_apply, val_main_c_38_apply]
  rfl

theorem tab30 (t : Fin 2048) : val_main_v30 (F := Ideal) (ix3 (0 : Fin 1) t (0 : Fin 1) : S1x2048x1.Idx) = (((cntW 1#32 t).toInt : ℝ) : EReal) := by
  simp only [val_main_v30_apply, val_main_v13_apply, val_main_v12_apply, val_main_v8_apply, val_main_call1_v2_apply, val_main_v7_apply, val_main_v6_apply, val_main_c_apply, val_main_v5_apply, val_main_call1_v1_apply, val_main_call1_v0_apply, val_main_c_1_apply, val_main_call1_v4_apply, val_main_call1_v3_apply, val_main_c_2_apply, val_main_v11_apply, val_main_call2_v2_apply, val_main_v10_apply, val_main_v9_apply, val_main_c_3_apply, val_main_call2_v1_apply, val_main_call2_v0_apply, val_main_c_4_apply, val_main_call2_v4_apply, val_main_call2_v3_apply, val_main_c_5_apply]
  rfl
theorem tab59 (t : Fin 2048) : val_main_v59 (F := Ideal) (ix3 (0 : Fin 1) t (0 : Fin 1) : S1x2048x1.Idx) = (((cntW 2#32 t).toInt : ℝ) : EReal) := by
  simp only [val_main_v59_apply, val_main_v42_apply, val_main_v41_apply, val_main_v37_apply, val_main_call3_v2_apply, val_main_v36_apply, val_main_v35_apply, val_main_c_10_apply, val_main_v5_apply, val_main_call3_v1_apply, val_main_call3_v0_apply, val_main_c_11_apply, val_main_call3_v4_apply, val_main_call3_v3_apply, val_main_c_12_apply, val_main_v40_apply, val_main_call4_v2_apply, val_main_v39_apply, val_main_v38_apply, val_main_c_13_apply, val_main_call4_v1_apply, val_main_call4_v0_apply, val_main_c_14_apply, val_main_call4_v4_apply, val_main_call4_v3_apply, val_main_c_15_apply]
  rfl
theorem tab88 (t : Fin 2048) : val_main_v88 (F := Ideal) (ix3 (0 : Fin 1) t (0 : Fin 1) : S1x2048x1.Idx) = (((cntW 4#32 t).toInt : ℝ) : EReal) := by
  simp only [val_main_v88_apply, val_main_v71_apply, val_main_v70_apply, val_main_v66_apply, val_main_call5_v2_apply, val_main_v65_apply, val_main_v64_apply, val_main_c_20_apply, val_main_v5_apply, val_main_call5_v1_apply, val_main_call5_v0_apply, val_main_c_21_apply, val_main_call5_v4_apply, val_main_call5_v3_apply, val_main_c_22_apply, val_main_v69_apply, val_main_call6_v2_apply, val_main_v68_apply, val_main_v67_apply, val_main_c_23_apply, val_main_call6_v1_apply, val_main_call6_v0_apply, val_main_c_24_apply, val_main_call6_v4_apply, val_main_call6_v3_apply, val_main_c_25_apply]
  rfl
theorem tab117 (t : Fin 2048) : val_main_v117 (F := Ideal) (ix3 (0 : Fin 1) t (0 : Fin 1) : S1x2048x1.Idx) = (((cntW 8#32 t).toInt : ℝ) : EReal) := by
  simp only [val_main_v117_apply, val_main_v100_apply, val_main_v99_apply, val_main_v95_apply, val_main_call7_v2_apply, val_main_v94_apply, val_main_v93_apply, val_main_c_30_apply, val_main_v5_apply, val_main_call7_v1_apply, val_main_call7_v0_apply, val_main_c_31_apply, val_main_call7_v4_apply, val_main_call7_v3_apply, val_main_c_32_apply, val_main_v98_apply, val_main_call8_v2_apply, val_main_v97_apply, val_main_v96_apply, val_main_c_33_apply, val_main_call8_v1_apply, val_main_call8_v0_apply, val_main_c_34_apply, val_main_call8_v4_apply, val_main_call8_v3_apply, val_main_c_35_apply]
  rfl

end Cert.Step.Pool
end
-- ==== Proof.PoolHost.lean ====
module

public import proofs.«01_k».proof.Proof.Gen.PoolIdeal.Value
public import proofs.«01_k».proof.Proof.Gen.PoolRefIdeal.Read

@[expose] public section
set_option maxRecDepth 16384
set_option Elab.async false
noncomputable section
open Idealize.ShloMosaic Idealize.ShloMosaic.TcCoe Idealize.SL.Sem Idealize.ShloMosaic.StableHlo
namespace Cert.PoolIdeal.Value
open Cert.PoolIdeal Cert.PoolIdeal.Gen Cert.PoolRefIdeal.Read
variable (m : (ℓ : Loc nD τ sig) → Buf (Elt Ideal) ℓ)

/-! # The pooled values that the host lines save, through the operations before the call

The host lines are the forward's, so each list of them leaves the value that the reference's own forward has: the lemma `Wk_at` says
so of the buffers that a later list reads, after list `k`. -/

/-- The rows to pool. -/
abbrev rows (c : Dev nD) : (⟨S2048x512, .f32⟩ : BufTy).Contents (Elt Ideal) := m ((c : Thread nD τ).loc main_arg0)

/-- What every list leaves in place: the arguments, the rows as one batch, their running sums, and the rows' numbers. -/
structure Base (c : Dev nD) (X : Valuation τ sig (Elt Ideal)) : Prop where
  arg0 : X (no_index (Proc.devRef .tc main_arg0)) = m ((c : Thread nD τ).loc main_arg0)
  arg1 : X (no_index (Proc.devRef .tc main_arg1)) = m ((c : Thread nD τ).loc main_arg1)
  arg2 : X (no_index (Proc.devRef .tc main_arg2)) = m ((c : Thread nD τ).loc main_arg2)
  arg3 : X (no_index (Proc.devRef .tc main_arg3)) = m ((c : Thread nD τ).loc main_arg3)
  arg4 : X (no_index (Proc.devRef .tc main_arg4)) = m ((c : Thread nD τ).loc main_arg4)
  v0 : X (no_index (Proc.devRef .tc main_v0)) = val_main_v0 (F := Ideal) (rows m c)
  v3 : X (no_index (Proc.devRef .tc main_v3)) = val_main_v3 (F := Ideal) (rows m c)
  v4 : X (no_index (Proc.devRef .tc main_v4)) = val_main_v5 (F := Ideal)

/-- The buffers after the host operations up to list 2. -/
def W2 (c : Dev nD) : Valuation τ sig (Elt Ideal) := after (hostOps0 ++ hostOps0_1 ++ hostOps0_2) (fun b => m (c, b))
set_option maxHeartbeats 4000000 in
theorem W2_at (c : Dev nD) : Base m c (W2 m c)
    ∧ W2 m c (no_index (Proc.devRef .tc main_v6)) = val_main_v7 (F := Ideal)
    ∧ W2 m c (no_index (Proc.devRef .tc main_c_0)) = val_main_c_1 (F := Ideal)
    ∧ W2 m c (no_index (Proc.devRef .tc main_c_1)) = val_main_c_2 (F := Ideal) := by
  refine ⟨⟨?_, ?_, ?_, ?_, ?_, ?_, ?_, ?_⟩, ?_, ?_, ?_⟩ <;> unfold W2 <;> simp only [hostOps0, hostOps0_1, hostOps0_2, List.cons_append, List.nil_append, TRef.ternary, TRef.binary, TRef.unary, TRef.nullary, TRef.toBuf, TRef.ofBuf, cast_eq] <;> after_results_simp <;> rfl

/-- The buffers after the host operations up to list 3. -/
def W3 (c : Dev nD) : Valuation τ sig (Elt Ideal) := after (hostOps0_3) (W2 m c)
set_option maxHeartbeats 4000000 in
theorem W3_at (c : Dev nD) : Base m c (W3 m c)
    ∧ W3 m c (no_index (Proc.devRef .tc main_v7)) = val_main_v8 (F := Ideal) := by
  obtain ⟨h, v6, c_0, c_1⟩ := W2_at m c
  refine ⟨⟨?_, ?_, ?_, ?_, ?_, ?_, ?_, ?_⟩, ?_⟩ <;> unfold W3 <;> simp only [hostOps0_3, List.cons_append, List.nil_append, TRef.ternary, TRef.binary, TRef.unary, TRef.nullary, TRef.toBuf, TRef.ofBuf, cast_eq] <;> after_results_simp
    <;> (try simp only [h.arg0, h.arg1, h.arg2, h.arg3, h.arg4, h.v0, h.v3, h.v4, v6, c_0, c_1]) <;> rfl

/-- The buffers after the host operations up to list 4. -/
def W4 (c : Dev nD) : Valuation τ sig (Elt Ideal) := after (hostOps0_4) (W3 m c)
set_option maxHeartbeats 4000000 in
theorem W4_at (c : Dev nD) : Base m c (W4 m c)
    ∧ W4 m c (no_index (Proc.devRef .tc main_v7)) = val_main_v8 (F := Ideal)
    ∧ W4 m c (no_index (Proc.devRef .tc main_v9)) = val_main_v10 (F := Ideal)
    ∧ W4 m c (no_index (Proc.devRef .tc main_c_3)) = val_main_c_4 (F := Ideal)
    ∧ W4 m c (no_index (Proc.devRef .tc main_c_4)) = val_main_c_5 (F := Ideal) := by
  obtain ⟨h, v7⟩ := W3_at m c
  refine ⟨⟨?_, ?_, ?_, ?_, ?_, ?_, ?_, ?_⟩, ?_, ?_, ?_, ?_⟩ <;> unfold W4 <;> simp only [hostOps0_4, List.cons_append, List.nil_append, TRef.ternary, TRef.binary, TRef.unary, TRef.nullary, TRef.toBuf, TRef.ofBuf, cast_eq] <;> after_results_simp
    <;> (try simp only [h.arg0, h.arg1, h.arg2, h.arg3, h.arg4, h.v0, h.v3, h.v4, v7]) <;> rfl

/-- The buffers after the host operations up to list 5. -/
def W5 (c : Dev nD) : Valuation τ sig (Elt Ideal) := after (hostOps0_5) (W4 m c)
set_option maxHeartbeats 4000000 in
theorem W5_at (c : Dev nD) : Base m c (W5 m c)
    ∧ W5 m c (no_index (Proc.devRef .tc main_v7)) = val_main_v8 (F := Ideal)
    ∧ W5 m c (no_index (Proc.devRef .tc main_v10)) = val_main_v11 (F := Ideal) := by
  obtain ⟨h, v7, v9, c_3, c_4⟩ := W4_at m c
  refine ⟨⟨?_, ?_, ?_, ?_, ?_, ?_, ?_, ?_⟩, ?_, ?_⟩ <;> unfold W5 <;> simp only [hostOps0_5, List.cons_append, List.nil_append, TRef.ternary, TRef.binary, TRef.unary, TRef.nullary, TRef.toBuf, TRef.ofBuf, cast_eq] <;> after_results_simp
    <;> (try simp only [h.arg0, h.arg1, h.arg2, h.arg3, h.arg4, h.v0, h.v3, h.v4, v7, v9, c_3, c_4]) <;> rfl

/-- The buffers after the host operations up to list 6. -/
def W6 (c : Dev nD) : Valuation τ sig (Elt Ideal) := after (hostOps0_6) (W5 m c)
set_option maxHeartbeats 4000000 in
theorem W6_at (c : Dev nD) : Base m c (W6 m c)
    ∧ W6 m c (no_index (Proc.devRef .tc main_v33)) = val_main_v34 (F := Ideal) (rows m c)
    ∧ W6 m c (no_index (Proc.devRef .tc main_v35)) = val_main_v36 (F := Ideal)
    ∧ W6 m c (no_index (Proc.devRef .tc main_c_10)) = val_main_c_11 (F := Ideal)
    ∧ W6 m c (no_index (Proc.devRef .tc main_c_11)) = val_main_c_12 (F := Ideal) := by
  obtain ⟨h, v7, v10⟩ := W5_at m c
  refine ⟨⟨?_, ?_, ?_, ?_, ?_, ?_, ?_, ?_⟩, ?_, ?_, ?_, ?_⟩ <;> unfold W6 <;> simp only [hostOps0_6, List.cons_append, List.nil_append, TRef.ternary, TRef.binary, TRef.unary, TRef.nullary, TRef.toBuf, TRef.ofBuf, cast_eq] <;> after_results_simp
    <;> (try simp only [h.arg0, h.arg1, h.arg2, h.arg3, h.arg4, h.v0, h.v3, h.v4, v7, v10]) <;> rfl

/-- The buffers after the host operations up to list 7. -/
def W7 (c : Dev nD) : Valuation τ sig (Elt Ideal) := after (hostOps0_7) (W6 m c)
set_option maxHeartbeats 4000000 in
theorem W7_at (c : Dev nD) : Base m c (W7 m c)
    ∧ W7 m c (no_index (Proc.devRef .tc main_v33)) = val_main_v34 (F := Ideal) (rows m c)
    ∧ W7 m c (no_index (Proc.devRef .tc main_v36)) = val_main_v37 (F := Ideal) := by
  obtain ⟨h, v33, v35, c_10, c_11⟩ := W6_at m c
  refine ⟨⟨?_, ?_, ?_, ?_, ?_, ?_, ?_, ?_⟩, ?_, ?_⟩ <;> unfold W7 <;> simp only [hostOps0_7, List.cons_append, List.nil_append, TRef.ternary, TRef.binary, TRef.unary, TRef.nullary, TRef.toBuf, TRef.ofBuf, cast_eq] <;> after_results_simp
    <;> (try simp only [h.arg0, h.arg1, h.arg2, h.arg3, h.arg4, h.v0, h.v3, h.v4, v33, v35, c_10, c_11]) <;> rfl

/-- The buffers after the host operations up to list 8. -/
def W8 (c : Dev nD) : Valuation τ sig (Elt Ideal) := after (hostOps0_8) (W7 m c)
set_option maxHeartbeats 4000000 in
theorem W8_at (c : Dev nD) : Base m c (W8 m c)
    ∧ W8 m c (no_index (Proc.devRef .tc main_v33)) = val_main_v34 (F := Ideal) (rows m c)
    ∧ W8 m c (no_index (Proc.devRef .tc main_v36)) = val_main_v37 (F := Ideal)
    ∧ W8 m c (no_index (Proc.devRef .tc main_v38)) = val_main_v39 (F := Ideal)
    ∧ W8 m c (no_index (Proc.devRef .tc main_c_13)) = val_main_c_14 (F := Ideal)
    ∧ W8 m c (no_index (Proc.devRef .tc main_c_14)) = val_main_c_15 (F := Ideal) := by
  obtain ⟨h, v33, v36⟩ := W7_at m c
  refine ⟨⟨?_, ?_, ?_, ?_, ?_, ?_, ?_, ?_⟩, ?_, ?_, ?_, ?_, ?_⟩ <;> unfold W8 <;> simp only [hostOps0_8, List.cons_append, List.nil_append, TRef.ternary, TRef.binary, TRef.unary, TRef.nullary, TRef.toBuf, TRef.ofBuf, cast_eq] <;> after_results_simp
    <;> (try simp only [h.arg0, h.arg1, h.arg2, h.arg3, h.arg4, h.v0, h.v3, h.v4, v33, v36]) <;> rfl

/-- The buffers after the host operations up to list 9. -/
def W9 (c : Dev nD) : Valuation τ sig (Elt Ideal) := after (hostOps0_9) (W8 m c)
set_option maxHeartbeats 4000000 in
theorem W9_at (c : Dev nD) : Base m c (W9 m c)
    ∧ W9 m c (no_index (Proc.devRef .tc main_v33)) = val_main_v34 (F := Ideal) (rows m c)
    ∧ W9 m c (no_index (Proc.devRef .tc main_v36)) = val_main_v37 (F := Ideal)
    ∧ W9 m c (no_index (Proc.devRef .tc main_v39)) = val_main_v40 (F := Ideal) := by
  obtain ⟨h, v33, v36, v38, c_13, c_14⟩ := W8_at m c
  refine ⟨⟨?_, ?_, ?_, ?_, ?_, ?_, ?_, ?_⟩, ?_, ?_, ?_⟩ <;> unfold W9 <;> simp only [hostOps0_9, List.cons_append, List.nil_append, TRef.ternary, TRef.binary, TRef.unary, TRef.nullary, TRef.toBuf, TRef.ofBuf, cast_eq] <;> after_results_simp
    <;> (try simp only [h.arg0, h.arg1, h.arg2, h.arg3, h.arg4, h.v0, h.v3, h.v4, v33, v36, v38, c_13, c_14]) <;> rfl

/-- The buffers after the host operations up to list 10. -/
def W10 (c : Dev nD) : Valuation τ sig (Elt Ideal) := after (hostOps0_10) (W9 m c)
set_option maxHeartbeats 4000000 in
theorem W10_at (c : Dev nD) : Base m c (W10 m c)
    ∧ W10 m c (no_index (Proc.devRef .tc main_v33)) = val_main_v34 (F := Ideal) (rows m c)
    ∧ W10 m c (no_index (Proc.devRef .tc main_v62)) = val_main_v63 (F := Ideal) (rows m c)
    ∧ W10 m c (no_index (Proc.devRef .tc main_v64)) = val_main_v65 (F := Ideal)
    ∧ W10 m c (no_index (Proc.devRef .tc main_c_20)) = val_main_c_21 (F := Ideal)
    ∧ W10 m c (no_index (Proc.devRef .tc main_c_21)) = val_main_c_22 (F := Ideal) := by
  obtain ⟨h, v33, v36, v39⟩ := W9_at m c
  refine ⟨⟨?_, ?_, ?_, ?_, ?_, ?_, ?_, ?_⟩, ?_, ?_, ?_, ?_, ?_⟩ <;> unfold W10 <;> simp only [hostOps0_10, List.cons_append, List.nil_append, TRef.ternary, TRef.binary, TRef.unary, TRef.nullary, TRef.toBuf, TRef.ofBuf, cast_eq] <;> after_results_simp
    <;> (try simp only [h.arg0, h.arg1, h.arg2, h.arg3, h.arg4, h.v0, h.v3, h.v4, v33, v36, v39]) <;> rfl

/-- The buffers after the host operations up to list 11. -/
def W11 (c : Dev nD) : Valuation τ sig (Elt Ideal) := after (hostOps0_11) (W10 m c)
set_option maxHeartbeats 4000000 in
theorem W11_at (c : Dev nD) : Base m c (W11 m c)
    ∧ W11 m c (no_index (Proc.devRef .tc main_v33)) = val_main_v34 (F := Ideal) (rows m c)
    ∧ W11 m c (no_index (Proc.devRef .tc main_v62)) = val_main_v63 (F := Ideal) (rows m c)
    ∧ W11 m c (no_index (Proc.devRef .tc main_v65)) = val_main_v66 (F := Ideal) := by
  obtain ⟨h, v33, v62, v64, c_20, c_21⟩ := W10_at m c
  refine ⟨⟨?_, ?_, ?_, ?_, ?_, ?_, ?_, ?_⟩, ?_, ?_, ?_⟩ <;> unfold W11 <;> simp only [hostOps0_11, List.cons_append, List.nil_append, TRef.ternary, TRef.binary, TRef.unary, TRef.nullary, TRef.toBuf, TRef.ofBuf, cast_eq] <;> after_results_simp
    <;> (try simp only [h.arg0, h.arg1, h.arg2, h.arg3, h.arg4, h.v0, h.v3, h.v4, v33, v62, v64, c_20, c_21]) <;> rfl

/-- The buffers after the host operations up to list 12. -/
def W12 (c : Dev nD) : Valuation τ sig (Elt Ideal) := after (hostOps0_12) (W11 m c)
set_option maxHeartbeats 4000000 in
theorem W12_at (c : Dev nD) : Base m c (W12 m c)
    ∧ W12 m c (no_index (Proc.devRef .tc main_v33)) = val_main_v34 (F := Ideal) (rows m c)
    ∧ W12 m c (no_index (Proc.devRef .tc main_v62)) = val_main_v63 (F := Ideal) (rows m c)
    ∧ W12 m c (no_index (Proc.devRef .tc main_v65)) = val_main_v66 (F := Ideal)
    ∧ W12 m c (no_index (Proc.devRef .tc main_v67)) = val_main_v68 (F := Ideal)
    ∧ W12 m c (no_index (Proc.devRef .tc main_c_23)) = val_main_c_24 (F := Ideal)
    ∧ W12 m c (no_index (Proc.devRef .tc main_c_24)) = val_main_c_25 (F := Ideal) := by
  obtain ⟨h, v33, v62, v65⟩ := W11_at m c
  refine ⟨⟨?_, ?_, ?_, ?_, ?_, ?_, ?_, ?_⟩, ?_, ?_, ?_, ?_, ?_, ?_⟩ <;> unfold W12 <;> simp only [hostOps0_12, List.cons_append, List.nil_append, TRef.ternary, TRef.binary, TRef.unary, TRef.nullary, TRef.toBuf, TRef.ofBuf, cast_eq] <;> after_results_simp
    <;> (try simp only [h.arg0, h.arg1, h.arg2, h.arg3, h.arg4, h.v0, h.v3, h.v4, v33, v62, v65]) <;> rfl

/-- The buffers after the host operations up to list 13. -/
def W13 (c : Dev nD) : Valuation τ sig (Elt Ideal) := after (hostOps0_13) (W12 m c)
set_option maxHeartbeats 4000000 in
theorem W13_at (c : Dev nD) : Base m c (W13 m c)
    ∧ W13 m c (no_index (Proc.devRef .tc main_v33)) = val_main_v34 (F := Ideal) (rows m c)
    ∧ W13 m c (no_index (Proc.devRef .tc main_v62)) = val_main_v63 (F := Ideal) (rows m c)
    ∧ W13 m c (no_index (Proc.devRef .tc main_v65)) = val_main_v66 (F := Ideal)
    ∧ W13 m c (no_index (Proc.devRef .tc main_v68)) = val_main_v69 (F := Ideal) := by
  obtain ⟨h, v33, v62, v65, v67, c_23, c_24⟩ := W12_at m c
  refine ⟨⟨?_, ?_, ?_, ?_, ?_, ?_, ?_, ?_⟩, ?_, ?_, ?_, ?_⟩ <;> unfold W13 <;> simp only [hostOps0_13, List.cons_append, List.nil_append, TRef.ternary, TRef.binary, TRef.unary, TRef.nullary, TRef.toBuf, TRef.ofBuf, cast_eq] <;> after_results_simp
    <;> (try simp only [h.arg0, h.arg1, h.arg2, h.arg3, h.arg4, h.v0, h.v3, h.v4, v33, v62, v65, v67, c_23, c_24]) <;> rfl

/-- The buffers after the host operations up to list 14. -/
def W14 (c : Dev nD) : Valuation τ sig (Elt Ideal) := after (hostOps0_14) (W13 m c)
set_option maxHeartbeats 4000000 in
theorem W14_at (c : Dev nD) : Base m c (W14 m c)
    ∧ W14 m c (no_index (Proc.devRef .tc main_v33)) = val_main_v34 (F := Ideal) (rows m c)
    ∧ W14 m c (no_index (Proc.devRef .tc main_v62)) = val_main_v63 (F := Ideal) (rows m c)
    ∧ W14 m c (no_index (Proc.devRef .tc main_v91)) = val_main_v92 (F := Ideal) (rows m c)
    ∧ W14 m c (no_index (Proc.devRef .tc main_v93)) = val_main_v94 (F := Ideal)
    ∧ W14 m c (no_index (Proc.devRef .tc main_c_30)) = val_main_c_31 (F := Ideal)
    ∧ W14 m c (no_index (Proc.devRef .tc main_c_31)) = val_main_c_32 (F := Ideal) := by
  obtain ⟨h, v33, v62, v65, v68⟩ := W13_at m c
  refine ⟨⟨?_, ?_, ?_, ?_, ?_, ?_, ?_, ?_⟩, ?_, ?_, ?_, ?_, ?_, ?_⟩ <;> unfold W14 <;> simp only [hostOps0_14, List.cons_append, List.nil_append, TRef.ternary, TRef.binary, TRef.unary, TRef.nullary, TRef.toBuf, TRef.ofBuf, cast_eq] <;> after_results_simp
    <;> (try simp only [h.arg0, h.arg1, h.arg2, h.arg3, h.arg4, h.v0, h.v3, h.v4, v33, v62, v65, v68]) <;> rfl

/-- The buffers after the host operations up to list 15. -/
def W15 (c : Dev nD) : Valuation τ sig (Elt Ideal) := after (hostOps0_15) (W14 m c)
set_option maxHeartbeats 4000000 in
theorem W15_at (c : Dev nD) : Base m c (W15 m c)
    ∧ W15 m c (no_index (Proc.devRef .tc main_v33)) = val_main_v34 (F := Ideal) (rows m c)
    ∧ W15 m c (no_index (Proc.devRef .tc main_v62)) = val_main_v63 (F := Ideal) (rows m c)
    ∧ W15 m c (no_index (Proc.devRef .tc main_v91)) = val_main_v92 (F := Ideal) (rows m c)
    ∧ W15 m c (no_index (Proc.devRef .tc main_v94)) = val_main_v95 (F := Ideal) := by
  obtain ⟨h, v33, v62, v91, v93, c_30, c_31⟩ := W14_at m c
  refine ⟨⟨?_, ?_, ?_, ?_, ?_, ?_, ?_, ?_⟩, ?_, ?_, ?_, ?_⟩ <;> unfold W15 <;> simp only [hostOps0_15, List.cons_append, List.nil_append, TRef.ternary, TRef.binary, TRef.unary, TRef.nullary, TRef.toBuf, TRef.ofBuf, cast_eq] <;> after_results_simp
    <;> (try simp only [h.arg0, h.arg1, h.arg2, h.arg3, h.arg4, h.v0, h.v3, h.v4, v33, v62, v91, v93, c_30, c_31]) <;> rfl

/-- The buffers after the host operations up to list 16. -/
def W16 (c : Dev nD) : Valuation τ sig (Elt Ideal) := after (hostOps0_16) (W15 m c)
set_option maxHeartbeats 4000000 in
theorem W16_at (c : Dev nD) : Base m c (W16 m c)
    ∧ W16 m c (no_index (Proc.devRef .tc main_v33)) = val_main_v34 (F := Ideal) (rows m c)
    ∧ W16 m c (no_index (Proc.devRef .tc main_v62)) = val_main_v63 (F := Ideal) (rows m c)
    ∧ W16 m c (no_index (Proc.devRef .tc main_v91)) = val_main_v92 (F := Ideal) (rows m c)
    ∧ W16 m c (no_index (Proc.devRef .tc main_v94)) = val_main_v95 (F := Ideal)
    ∧ W16 m c (no_index (Proc.devRef .tc main_v96)) = val_main_v97 (F := Ideal)
    ∧ W16 m c (no_index (Proc.devRef .tc main_c_33)) = val_main_c_34 (F := Ideal)
    ∧ W16 m c (no_index (Proc.devRef .tc main_c_34)) = val_main_c_35 (F := Ideal) := by
  obtain ⟨h, v33, v62, v91, v94⟩ := W15_at m c
  refine ⟨⟨?_, ?_, ?_, ?_, ?_, ?_, ?_, ?_⟩, ?_, ?_, ?_, ?_, ?_, ?_, ?_⟩ <;> unfold W16 <;> simp only [hostOps0_16, List.cons_append, List.nil_append, TRef.ternary, TRef.binary, TRef.unary, TRef.nullary, TRef.toBuf, TRef.ofBuf, cast_eq] <;> after_results_simp
    <;> (try simp only [h.arg0, h.arg1, h.arg2, h.arg3, h.arg4, h.v0, h.v3, h.v4, v33, v62, v91, v94]) <;> rfl

/-- The buffers after the host operations up to list 17. -/
def W17 (c : Dev nD) : Valuation τ sig (Elt Ideal) := after (hostOps0_17) (W16 m c)
set_option maxHeartbeats 4000000 in
theorem W17_at (c : Dev nD) : Base m c (W17 m c)
    ∧ W17 m c (no_index (Proc.devRef .tc main_v33)) = val_main_v34 (F := Ideal) (rows m c)
    ∧ W17 m c (no_index (Proc.devRef .tc main_v62)) = val_main_v63 (F := Ideal) (rows m c)
    ∧ W17 m c (no_index (Proc.devRef .tc main_v91)) = val_main_v92 (F := Ideal) (rows m c)
    ∧ W17 m c (no_index (Proc.devRef .tc main_v94)) = val_main_v95 (F := Ideal)
    ∧ W17 m c (no_index (Proc.devRef .tc main_v97)) = val_main_v98 (F := Ideal) := by
  obtain ⟨h, v33, v62, v91, v94, v96, c_33, c_34⟩ := W16_at m c
  refine ⟨⟨?_, ?_, ?_, ?_, ?_, ?_, ?_, ?_⟩, ?_, ?_, ?_, ?_, ?_⟩ <;> unfold W17 <;> simp only [hostOps0_17, List.cons_append, List.nil_append, TRef.ternary, TRef.binary, TRef.unary, TRef.nullary, TRef.toBuf, TRef.ofBuf, cast_eq] <;> after_results_simp
    <;> (try simp only [h.arg0, h.arg1, h.arg2, h.arg3, h.arg4, h.v0, h.v3, h.v4, v33, v62, v91, v94, v96, c_33, c_34]) <;> rfl

end Cert.PoolIdeal.Value
end
-- ==== Proof.PoolHostEnd.lean ====
module

public import proofs.«01_k».proof.Proof.PoolHost

@[expose] public section
set_option maxRecDepth 16384
noncomputable section
open Idealize.ShloMosaic Idealize.ShloMosaic.TcCoe Idealize.SL.Sem Idealize.ShloMosaic.StableHlo
namespace Cert.PoolIdeal.Value
open Cert.PoolIdeal Cert.PoolIdeal.Gen Cert.PoolRefIdeal.Read
variable (m : (ℓ : Loc nD τ sig) → Buf (Elt Ideal) ℓ)

theorem V_last (c : Dev nD) (b : Ref sig .tc) : V m c b = after hostOps0_18 (W17 m c) (Proc.devRef .tc b) := by
  unfold V W17 W16 W15 W14 W13 W12 W11 W10 W9 W8 W7 W6 W5 W4 W3 W2
  simp only [List.flatten_cons, List.flatten_nil, after_append, List.append_nil, List.append_assoc]

/-- The last list's concatenation, cast and reshape, of the four groups' pooled values. -/
def pmOf (a b cc d : FVec Ideal S1x2048x128 .f32) : FVec Ideal S2048x512 .bf16 :=
  truncf .bf16 (shapeCast S2048x512 (concatenate S1x2048x512 2 [⟨S1x2048x128, a⟩, ⟨S1x2048x128, b⟩, ⟨S1x2048x128, cc⟩, ⟨S1x2048x128, d⟩] concatenates_S1x2048x128_S1x2048x128_S1x2048x128_S1x2048x128_S1x2048x512_d2 : FVec Ideal S1x2048x512 .f32) shapeCasts_S1x2048x512_S2048x512) bitsLt_bf16_f32

/-- The buffers when the four groups' pooled values stand. -/
def W18 (c : Dev nD) : Valuation τ sig (Elt Ideal) := after (hostOps0_18.take 27) (W17 m c)

theorem W18_at (c : Dev nD) : W18 m c (no_index (Proc.devRef .tc main_v33)) = val_main_v34 (F := Ideal) (rows m c)
    ∧ W18 m c (no_index (Proc.devRef .tc main_v62)) = val_main_v63 (F := Ideal) (rows m c)
    ∧ W18 m c (no_index (Proc.devRef .tc main_v91)) = val_main_v92 (F := Ideal) (rows m c)
    ∧ W18 m c (no_index (Proc.devRef .tc main_v120)) = val_main_v121 (F := Ideal) (rows m c) := by
  obtain ⟨h, v33, v62, v91, v94, v97⟩ := W17_at m c
  refine ⟨?_, ?_, ?_, ?_⟩ <;> unfold W18 <;> simp only [hostOps0_18, List.take_succ_cons, List.take_zero] <;> after_results_simp
    <;> simp only [h.v0, h.v3, v33, v62, v91, v94, v97] <;> rfl

theorem after_drop (X : Valuation τ sig (Elt Ideal)) : (after (hostOps0_18.drop 27) X (Proc.devRef .tc main_v123) : FVec Ideal S2048x512 .bf16)
    = pmOf (X (Proc.devRef .tc main_v33)) (X (Proc.devRef .tc main_v62)) (X (Proc.devRef .tc main_v91)) (X (Proc.devRef .tc main_v120)) := by
  simp only [hostOps0_18, List.drop_succ_cons, List.drop_zero]
  after_results_simp
  rfl

theorem after_drop_of (X : Valuation τ sig (Elt Ideal)) {a b cc d : FVec Ideal S1x2048x128 .f32}
    (ha : (X (Proc.devRef .tc main_v33) : FVec Ideal S1x2048x128 .f32) = a) (hb : (X (Proc.devRef .tc main_v62) : FVec Ideal S1x2048x128 .f32) = b)
    (hc : (X (Proc.devRef .tc main_v91) : FVec Ideal S1x2048x128 .f32) = cc) (hd : (X (Proc.devRef .tc main_v120) : FVec Ideal S1x2048x128 .f32) = d) :
    (after (hostOps0_18.drop 27) X (Proc.devRef .tc main_v123) : FVec Ideal S2048x512 .bf16) = pmOf a b cc d := by
  subst ha hb hc hd
  exact after_drop X

theorem V_split (c : Dev nD) (b : Ref sig .tc) : V m c b = after (hostOps0_18.drop 27) (W18 m c) (Proc.devRef .tc b) := by
  rw [V_last, W18, ← after_append, List.take_append_drop]

theorem V_pm (c : Dev nD) : (V m c main_v123 : FVec Ideal S2048x512 .bf16)
    = pmOf (Cert.PoolRefIdeal.Read.val_main_v34 (F := Ideal) (m ((c : Thread nD τ).loc main_arg0))) (Cert.PoolRefIdeal.Read.val_main_v63 (F := Ideal) (m ((c : Thread nD τ).loc main_arg0))) (Cert.PoolRefIdeal.Read.val_main_v92 (F := Ideal) (m ((c : Thread nD τ).loc main_arg0))) (Cert.PoolRefIdeal.Read.val_main_v121 (F := Ideal) (m ((c : Thread nD τ).loc main_arg0))) :=
  (V_split m c main_v123).trans (after_drop_of (W18 m c) (W18_at m c).1 (W18_at m c).2.1 (W18_at m c).2.2.1 (W18_at m c).2.2.2)

theorem V_ct (c : Dev nD) : (V m c main_v124 : FVec Ideal S2048x1024 .bf16) = truncf (F := Ideal) .bf16 (m ((c : Thread nD τ).loc main_arg4) : FVec Ideal S2048x1024 .f32) bitsLt_bf16_f32 := by
  rw [V_last]
  simp only [hostOps0_18]
  after_results_simp
  simp only [(W17_at m c).1.arg4]
theorem V_w (c : Dev nD) : (V m c main_v128 : FVec Ideal S4x128x128 .bf16) = truncf (F := Ideal) .bf16 (m ((c : Thread nD τ).loc main_arg1) : FVec Ideal S4x128x128 .f32) bitsLt_bf16_f32 := by
  rw [V_last]
  simp only [hostOps0_18]
  after_results_simp
  simp only [(W17_at m c).1.arg1]
theorem V_sc (c : Dev nD) : (V m c main_v129 : FVec Ideal S1x512 .f32) = shapeCast S1x512 (m ((c : Thread nD τ).loc main_arg2) : FVec Ideal S512 .f32) shapeCasts_S512_S1x512 := by
  rw [V_last]
  simp only [hostOps0_18]
  after_results_simp
  simp only [(W17_at m c).1.arg2]
  rfl
theorem V_wpo (c : Dev nD) : (V m c main_v127 : FVec Ideal S8x512x128 .bf16) = transpose S8x512x128 [1, 0, 2] (shapeCast S512x8x128 (truncf (F := Ideal) .bf16 (m ((c : Thread nD τ).loc main_arg3) : FVec Ideal S512x1024 .f32) bitsLt_bf16_f32 : FVec Ideal S512x1024 .bf16) shapeCasts_S512x1024_S512x8x128) transposes_S512x8x128_S8x512x128_1_0_2 := by
  rw [V_last]
  simp only [hostOps0_18]
  after_results_simp
  simp only [(W17_at m c).1.arg3]
  rfl
end Cert.PoolIdeal.Value
end
-- ==== Proof.PoolRefDu.lean ====
module
/- The reference's derivative with respect to the input: row `n` of group `g`'s columns is the sum of the divided rows inside
   the group's window, less the row itself. -/

public import proofs.«01_k».proof.Proof.PoolMath
public import proofs.«01_k».proof.Proof.Consts
public import proofs.«01_k».proof.Proof.PoolRefOps
public import proofs.«01_k».proof.Proof.PoolTab
public import proofs.«01_k».proof.Proof.Gen.PoolRefIdeal.Read
public import Idealize.ShloMosaic.Lib.KernelVsHost

@[expose] public section

set_option maxRecDepth 16384
set_option maxHeartbeats 4000000
noncomputable section
open Idealize.ShloMosaic Idealize.ShloMosaic.TcCoe
namespace Cert.Step.Pool
open Cert.PoolRefIdeal Cert.PoolRefIdeal.Gen Cert.PoolRefIdeal.Read

theorem zadd {a b : EReal} (h : a = 0) : a + b = b := by rw [h, zero_add]

/-- Column `l` of group `g`. -/
abbrev gcol (g : Fin 4) (l : Fin 128) : Fin 512 := ⟨128 * g.val + l.val, by have := g.isLt; have := l.isLt; omega⟩

variable (x1 : (⟨S4x128x128, .f32⟩ : BufTy).Contents (Elt Ideal)) (x2 : (⟨S512, .f32⟩ : BufTy).Contents (Elt Ideal)) (x3 : (⟨S512x1024, .f32⟩ : BufTy).Contents (Elt Ideal)) (x4 : (⟨S2048x1024, .f32⟩ : BufTy).Contents (Elt Ideal))

theorem part0 (t : Fin 2048) (l : Fin 128) : val_main_v147 (F := Ideal) x1 x2 x3 x4 (ix3 (0 : Fin 1) t l) = val_main_v146 (F := Ideal) x1 x2 x3 x4 (ix3 (0 : Fin 1) t (gcol 0 l)) := by
  rw [val_main_v147_apply]
  refine congrArg _ (funext fun a => ?_)
  match a with
  | ⟨0, _⟩ => rfl
  | ⟨1, _⟩ => rfl
  | ⟨2, _⟩ => exact Fin.ext (by simp [gcol, ix3])

theorem quot0 (t : Fin 2048) (l : Fin 128) : val_main_v192 (F := Ideal) x1 x2 x3 x4 (ix3 (0 : Fin 1) t l)
    = Ideal.div (val_main_v146 (F := Ideal) x1 x2 x3 x4 (ix3 (0 : Fin 1) t (gcol 0 l))) (((cnt 1 t : ℕ) : ℝ) : EReal) := by
  rw [val_main_v192_apply, part0, val_main_v191_apply]
  have e : idx_main_v191 (ix3 (0 : Fin 1) t l) = ix3 (0 : Fin 1) t (0 : Fin 1) := funext fun a => match a with
    | ⟨0, _⟩ => rfl
    | ⟨1, _⟩ => rfl
    | ⟨2, _⟩ => rfl
  rw [e, tab30, cntW1]
  rfl

theorem lands0 (k : Fin 2049) (l : Fin 128) : val_main_v198 (F := Ideal) x1 x2 x3 x4 (ix3 (0 : Fin 1) k l)
    = (∑ t : Fin 2048, if t.val - 1 = k.val then -(val_main_v192 (F := Ideal) x1 x2 x3 x4 (ix3 (0 : Fin 1) t l)) else 0)
      + ∑ t : Fin 2048, if min (t.val + 1) 2048 = k.val then val_main_v192 (F := Ideal) x1 x2 x3 x4 (ix3 (0 : Fin 1) t l) else 0 := by
  have e1 : val_main_v195 (F := Ideal) x1 x2 x3 x4 (ix3 (0 : Fin 1) k l) = ∑ t : Fin 2048, if t.val - 1 = k.val then -(val_main_v192 (F := Ideal) x1 x2 x3 x4 (ix3 (0 : Fin 1) t l)) else 0 := by
    unfold val_main_v195
    refine (scatter_apply _ _ _ (fun t => t.val - 1) (fun t => by rw [tab27, loW1]) k l).trans ?_
    rw [val_main_v194_apply, val_main_cst_55_apply]
    refine Eq.trans (congrArg (· + _) ?_) (zero_add _)
    exact Cert.Step.bits_zero
  have e2 : val_main_v197 (F := Ideal) x1 x2 x3 x4 (ix3 (0 : Fin 1) k l) = ∑ t : Fin 2048, if min (t.val + 1) 2048 = k.val then val_main_v192 (F := Ideal) x1 x2 x3 x4 (ix3 (0 : Fin 1) t l) else 0 := by
    unfold val_main_v197
    refine (scatter_apply _ _ _ (fun t => min (t.val + 1) 2048) (fun t => by rw [tab20, hiW1]) k l).trans ?_
    rw [val_main_v196_apply, val_main_cst_56_apply]
    refine Eq.trans (congrArg (· + _) ?_) (zero_add _)
    exact Cert.Step.bits_zero
  rw [val_main_v198_apply, e1, e2]
  rfl

theorem pad2048_0 (n : Fin 2048) (c : Fin 512) : val_main_v189 (F := Ideal) x1 x2 x3 x4 (ix3 (0 : Fin 1) n c)
    = if h : 0 ≤ c.val ∧ c.val < 128 then val_main_v188 (F := Ideal) x1 x2 x3 x4 (ix3 (0 : Fin 1) n ⟨c.val - 0, by omega⟩) else 0 := by
  unfold val_main_v189
  split
  · rename_i h
    exact Idealize.ShloMosaic.pad_apply_of_inside _ _ _ _ _ _ _ _ _ (fun a => match a with
      | ⟨0, _⟩ => rfl
      | ⟨1, _⟩ => by show n.val = 0 + n.val * 1; omega
      | ⟨2, _⟩ => by show c.val = 0 + (c.val - 0) * 1; omega)
  · rename_i h
    refine (Idealize.ShloMosaic.pad_apply_of_not_inside _ _ _ _ _ _ _ _ (2 : Fin 3) ?_).trans ?_
    · show ¬(0 ≤ c.val ∧ (c.val - 0) % 1 = 0 ∧ (c.val - 0) / 1 < 128)
      omega
    · rw [val_main_cst_54_apply]; exact Cert.Step.bits_zero

theorem pad2049_0 (n : Fin 2049) (c : Fin 512) : val_main_v199 (F := Ideal) x1 x2 x3 x4 (ix3 (0 : Fin 1) n c)
    = if h : 0 ≤ c.val ∧ c.val < 128 then val_main_v198 (F := Ideal) x1 x2 x3 x4 (ix3 (0 : Fin 1) n ⟨c.val - 0, by omega⟩) else 0 := by
  unfold val_main_v199
  split
  · rename_i h
    exact Idealize.ShloMosaic.pad_apply_of_inside _ _ _ _ _ _ _ _ _ (fun a => match a with
      | ⟨0, _⟩ => rfl
      | ⟨1, _⟩ => by show n.val = 0 + n.val * 1; omega
      | ⟨2, _⟩ => by show c.val = 0 + (c.val - 0) * 1; omega)
  · rename_i h
    refine (Idealize.ShloMosaic.pad_apply_of_not_inside _ _ _ _ _ _ _ _ (2 : Fin 3) ?_).trans ?_
    · show ¬(0 ≤ c.val ∧ (c.val - 0) % 1 = 0 ∧ (c.val - 0) / 1 < 128)
      omega
    · rw [val_main_cst_57_apply]; exact Cert.Step.bits_zero

theorem part1 (t : Fin 2048) (l : Fin 128) : val_main_v148 (F := Ideal) x1 x2 x3 x4 (ix3 (0 : Fin 1) t l) = val_main_v146 (F := Ideal) x1 x2 x3 x4 (ix3 (0 : Fin 1) t (gcol 1 l)) := by
  rw [val_main_v148_apply]
  refine congrArg _ (funext fun a => ?_)
  match a with
  | ⟨0, _⟩ => rfl
  | ⟨1, _⟩ => rfl
  | ⟨2, _⟩ => exact Fin.ext (by simp [gcol, ix3])

theorem quot1 (t : Fin 2048) (l : Fin 128) : val_main_v179 (F := Ideal) x1 x2 x3 x4 (ix3 (0 : Fin 1) t l)
    = Ideal.div (val_main_v146 (F := Ideal) x1 x2 x3 x4 (ix3 (0 : Fin 1) t (gcol 1 l))) (((cnt 2 t : ℕ) : ℝ) : EReal) := by
  rw [val_main_v179_apply, part1, val_main_v178_apply]
  have e : idx_main_v178 (ix3 (0 : Fin 1) t l) = ix3 (0 : Fin 1) t (0 : Fin 1) := funext fun a => match a with
    | ⟨0, _⟩ => rfl
    | ⟨1, _⟩ => rfl
    | ⟨2, _⟩ => rfl
  rw [e, tab59, cntW2]
  rfl

theorem lands1 (k : Fin 2049) (l : Fin 128) : val_main_v185 (F := Ideal) x1 x2 x3 x4 (ix3 (0 : Fin 1) k l)
    = (∑ t : Fin 2048, if t.val - 2 = k.val then -(val_main_v179 (F := Ideal) x1 x2 x3 x4 (ix3 (0 : Fin 1) t l)) else 0)
      + ∑ t : Fin 2048, if min (t.val + 2) 2048 = k.val then val_main_v179 (F := Ideal) x1 x2 x3 x4 (ix3 (0 : Fin 1) t l) else 0 := by
  have e1 : val_main_v182 (F := Ideal) x1 x2 x3 x4 (ix3 (0 : Fin 1) k l) = ∑ t : Fin 2048, if t.val - 2 = k.val then -(val_main_v179 (F := Ideal) x1 x2 x3 x4 (ix3 (0 : Fin 1) t l)) else 0 := by
    unfold val_main_v182
    refine (scatter_apply _ _ _ (fun t => t.val - 2) (fun t => by rw [tab56, loW2]) k l).trans ?_
    rw [val_main_v181_apply, val_main_cst_51_apply]
    refine Eq.trans (congrArg (· + _) ?_) (zero_add _)
    exact Cert.Step.bits_zero
  have e2 : val_main_v184 (F := Ideal) x1 x2 x3 x4 (ix3 (0 : Fin 1) k l) = ∑ t : Fin 2048, if min (t.val + 2) 2048 = k.val then val_main_v179 (F := Ideal) x1 x2 x3 x4 (ix3 (0 : Fin 1) t l) else 0 := by
    unfold val_main_v184
    refine (scatter_apply _ _ _ (fun t => min (t.val + 2) 2048) (fun t => by rw [tab49, hiW2]) k l).trans ?_
    rw [val_main_v183_apply, val_main_cst_52_apply]
    refine Eq.trans (congrArg (· + _) ?_) (zero_add _)
    exact Cert.Step.bits_zero
  rw [val_main_v185_apply, e1, e2]
  rfl

theorem pad2048_1 (n : Fin 2048) (c : Fin 512) : val_main_v176 (F := Ideal) x1 x2 x3 x4 (ix3 (0 : Fin 1) n c)
    = if h : 128 ≤ c.val ∧ c.val < 256 then val_main_v175 (F := Ideal) x1 x2 x3 x4 (ix3 (0 : Fin 1) n ⟨c.val - 128, by omega⟩) else 0 := by
  unfold val_main_v176
  split
  · rename_i h
    exact Idealize.ShloMosaic.pad_apply_of_inside _ _ _ _ _ _ _ _ _ (fun a => match a with
      | ⟨0, _⟩ => rfl
      | ⟨1, _⟩ => by show n.val = 0 + n.val * 1; omega
      | ⟨2, _⟩ => by show c.val = 128 + (c.val - 128) * 1; omega)
  · rename_i h
    refine (Idealize.ShloMosaic.pad_apply_of_not_inside _ _ _ _ _ _ _ _ (2 : Fin 3) ?_).trans ?_
    · show ¬(128 ≤ c.val ∧ (c.val - 128) % 1 = 0 ∧ (c.val - 128) / 1 < 128)
      omega
    · rw [val_main_cst_50_apply]; exact Cert.Step.bits_zero

theorem pad2049_1 (n : Fin 2049) (c : Fin 512) : val_main_v186 (F := Ideal) x1 x2 x3 x4 (ix3 (0 : Fin 1) n c)
    = if h : 128 ≤ c.val ∧ c.val < 256 then val_main_v185 (F := Ideal) x1 x2 x3 x4 (ix3 (0 : Fin 1) n ⟨c.val - 128, by omega⟩) else 0 := by
  unfold val_main_v186
  split
  · rename_i h
    exact Idealize.ShloMosaic.pad_apply_of_inside _ _ _ _ _ _ _ _ _ (fun a => match a with
      | ⟨0, _⟩ => rfl
      | ⟨1, _⟩ => by show n.val = 0 + n.val * 1; omega
      | ⟨2, _⟩ => by show c.val = 128 + (c.val - 128) * 1; omega)
  · rename_i h
    refine (Idealize.ShloMosaic.pad_apply_of_not_inside _ _ _ _ _ _ _ _ (2 : Fin 3) ?_).trans ?_
    · show ¬(128 ≤ c.val ∧ (c.val - 128) % 1 = 0 ∧ (c.val - 128) / 1 < 128)
      omega
    · rw [val_main_cst_53_apply]; exact Cert.Step.bits_zero

theorem part2 (t : Fin 2048) (l : Fin 128) : val_main_v149 (F := Ideal) x1 x2 x3 x4 (ix3 (0 : Fin 1) t l) = val_main_v146 (F := Ideal) x1 x2 x3 x4 (ix3 (0 : Fin 1) t (gcol 2 l)) := by
  rw [val_main_v149_apply]
  refine congrArg _ (funext fun a => ?_)
  match a with
  | ⟨0, _⟩ => rfl
  | ⟨1, _⟩ => rfl
  | ⟨2, _⟩ => exact Fin.ext (by simp [gcol, ix3])

theorem quot2 (t : Fin 2048) (l : Fin 128) : val_main_v166 (F := Ideal) x1 x2 x3 x4 (ix3 (0 : Fin 1) t l)
    = Ideal.div (val_main_v146 (F := Ideal) x1 x2 x3 x4 (ix3 (0 : Fin 1) t (gcol 2 l))) (((cnt 4 t : ℕ) : ℝ) : EReal) := by
  rw [val_main_v166_apply, part2, val_main_v165_apply]
  have e : idx_main_v165 (ix3 (0 : Fin 1) t l) = ix3 (0 : Fin 1) t (0 : Fin 1) := funext fun a => match a with
    | ⟨0, _⟩ => rfl
    | ⟨1, _⟩ => rfl
    | ⟨2, _⟩ => rfl
  rw [e, tab88, cntW4]
  rfl

theorem lands2 (k : Fin 2049) (l : Fin 128) : val_main_v172 (F := Ideal) x1 x2 x3 x4 (ix3 (0 : Fin 1) k l)
    = (∑ t : Fin 2048, if t.val - 4 = k.val then -(val_main_v166 (F := Ideal) x1 x2 x3 x4 (ix3 (0 : Fin 1) t l)) else 0)
      + ∑ t : Fin 2048, if min (t.val + 4) 2048 = k.val then val_main_v166 (F := Ideal) x1 x2 x3 x4 (ix3 (0 : Fin 1) t l) else 0 := by
  have e1 : val_main_v169 (F := Ideal) x1 x2 x3 x4 (ix3 (0 : Fin 1) k l) = ∑ t : Fin 2048, if t.val - 4 = k.val then -(val_main_v166 (F := Ideal) x1 x2 x3 x4 (ix3 (0 : Fin 1) t l)) else 0 := by
    unfold val_main_v169
    refine (scatter_apply _ _ _ (fun t => t.val - 4) (fun t => by rw [tab85, loW4]) k l).trans ?_
    rw [val_main_v168_apply, val_main_cst_47_apply]
    refine Eq.trans (congrArg (· + _) ?_) (zero_add _)
    exact Cert.Step.bits_zero
  have e2 : val_main_v171 (F := Ideal) x1 x2 x3 x4 (ix3 (0 : Fin 1) k l) = ∑ t : Fin 2048, if min (t.val + 4) 2048 = k.val then val_main_v166 (F := Ideal) x1 x2 x3 x4 (ix3 (0 : Fin 1) t l) else 0 := by
    unfold val_main_v171
    refine (scatter_apply _ _ _ (fun t => min (t.val + 4) 2048) (fun t => by rw [tab78, hiW4]) k l).trans ?_
    rw [val_main_v170_apply, val_main_cst_48_apply]
    refine Eq.trans (congrArg (· + _) ?_) (zero_add _)
    exact Cert.Step.bits_zero
  rw [val_main_v172_apply, e1, e2]
  rfl

theorem pad2048_2 (n : Fin 2048) (c : Fin 512) : val_main_v163 (F := Ideal) x1 x2 x3 x4 (ix3 (0 : Fin 1) n c)
    = if h : 256 ≤ c.val ∧ c.val < 384 then val_main_v162 (F := Ideal) x1 x2 x3 x4 (ix3 (0 : Fin 1) n ⟨c.val - 256, by omega⟩) else 0 := by
  unfold val_main_v163
  split
  · rename_i h
    exact Idealize.ShloMosaic.pad_apply_of_inside _ _ _ _ _ _ _ _ _ (fun a => match a with
      | ⟨0, _⟩ => rfl
      | ⟨1, _⟩ => by show n.val = 0 + n.val * 1; omega
      | ⟨2, _⟩ => by show c.val = 256 + (c.val - 256) * 1; omega)
  · rename_i h
    refine (Idealize.ShloMosaic.pad_apply_of_not_inside _ _ _ _ _ _ _ _ (2 : Fin 3) ?_).trans ?_
    · show ¬(256 ≤ c.val ∧ (c.val - 256) % 1 = 0 ∧ (c.val - 256) / 1 < 128)
      omega
    · rw [val_main_cst_46_apply]; exact Cert.Step.bits_zero

theorem pad2049_2 (n : Fin 2049) (c : Fin 512) : val_main_v173 (F := Ideal) x1 x2 x3 x4 (ix3 (0 : Fin 1) n c)
    = if h : 256 ≤ c.val ∧ c.val < 384 then val_main_v172 (F := Ideal) x1 x2 x3 x4 (ix3 (0 : Fin 1) n ⟨c.val - 256, by omega⟩) else 0 := by
  unfold val_main_v173
  split
  · rename_i h
    exact Idealize.ShloMosaic.pad_apply_of_inside _ _ _ _ _ _ _ _ _ (fun a => match a with
      | ⟨0, _⟩ => rfl
      | ⟨1, _⟩ => by show n.val = 0 + n.val * 1; omega
      | ⟨2, _⟩ => by show c.val = 256 + (c.val - 256) * 1; omega)
  · rename_i h
    refine (Idealize.ShloMosaic.pad_apply_of_not_inside _ _ _ _ _ _ _ _ (2 : Fin 3) ?_).trans ?_
    · show ¬(256 ≤ c.val ∧ (c.val - 256) % 1 = 0 ∧ (c.val - 256) / 1 < 128)
      omega
    · rw [val_main_cst_49_apply]; exact Cert.Step.bits_zero

theorem part3 (t : Fin 2048) (l : Fin 128) : val_main_v150 (F := Ideal) x1 x2 x3 x4 (ix3 (0 : Fin 1) t l) = val_main_v146 (F := Ideal) x1 x2 x3 x4 (ix3 (0 : Fin 1) t (gcol 3 l)) := by
  rw [val_main_v150_apply]
  refine congrArg _ (funext fun a => ?_)
  match a with
  | ⟨0, _⟩ => rfl
  | ⟨1, _⟩ => rfl
  | ⟨2, _⟩ => exact Fin.ext (by simp [gcol, ix3])

theorem quot3 (t : Fin 2048) (l : Fin 128) : val_main_v154 (F := Ideal) x1 x2 x3 x4 (ix3 (0 : Fin 1) t l)
    = Ideal.div (val_main_v146 (F := Ideal) x1 x2 x3 x4 (ix3 (0 : Fin 1) t (gcol 3 l))) (((cnt 8 t : ℕ) : ℝ) : EReal) := by
  rw [val_main_v154_apply, part3, val_main_v153_apply]
  have e : idx_main_v153 (ix3 (0 : Fin 1) t l) = ix3 (0 : Fin 1) t (0 : Fin 1) := funext fun a => match a with
    | ⟨0, _⟩ => rfl
    | ⟨1, _⟩ => rfl
    | ⟨2, _⟩ => rfl
  rw [e, tab117, cntW8]
  rfl

theorem lands3 (k : Fin 2049) (l : Fin 128) : val_main_v160 (F := Ideal) x1 x2 x3 x4 (ix3 (0 : Fin 1) k l)
    = (∑ t : Fin 2048, if t.val - 8 = k.val then -(val_main_v154 (F := Ideal) x1 x2 x3 x4 (ix3 (0 : Fin 1) t l)) else 0)
      + ∑ t : Fin 2048, if min (t.val + 8) 2048 = k.val then val_main_v154 (F := Ideal) x1 x2 x3 x4 (ix3 (0 : Fin 1) t l) else 0 := by
  have e1 : val_main_v157 (F := Ideal) x1 x2 x3 x4 (ix3 (0 : Fin 1) k l) = ∑ t : Fin 2048, if t.val - 8 = k.val then -(val_main_v154 (F := Ideal) x1 x2 x3 x4 (ix3 (0 : Fin 1) t l)) else 0 := by
    unfold val_main_v157
    refine (scatter_apply _ _ _ (fun t => t.val - 8) (fun t => by rw [tab114, loW8]) k l).trans ?_
    rw [val_main_v156_apply, val_main_cst_43_apply]
    refine Eq.trans (congrArg (· + _) ?_) (zero_add _)
    exact Cert.Step.bits_zero
  have e2 : val_main_v159 (F := Ideal) x1 x2 x3 x4 (ix3 (0 : Fin 1) k l) = ∑ t : Fin 2048, if min (t.val + 8) 2048 = k.val then val_main_v154 (F := Ideal) x1 x2 x3 x4 (ix3 (0 : Fin 1) t l) else 0 := by
    unfold val_main_v159
    refine (scatter_apply _ _ _ (fun t => min (t.val + 8) 2048) (fun t => by rw [tab107, hiW8]) k l).trans ?_
    rw [val_main_v158_apply, val_main_cst_44_apply]
    refine Eq.trans (congrArg (· + _) ?_) (zero_add _)
    exact Cert.Step.bits_zero
  rw [val_main_v160_apply, e1, e2]
  rfl

theorem pad2048_3 (n : Fin 2048) (c : Fin 512) : val_main_v152 (F := Ideal) x1 x2 x3 x4 (ix3 (0 : Fin 1) n c)
    = if h : 384 ≤ c.val ∧ c.val < 512 then val_main_v151 (F := Ideal) x1 x2 x3 x4 (ix3 (0 : Fin 1) n ⟨c.val - 384, by omega⟩) else 0 := by
  unfold val_main_v152
  split
  · rename_i h
    exact Idealize.ShloMosaic.pad_apply_of_inside _ _ _ _ _ _ _ _ _ (fun a => match a with
      | ⟨0, _⟩ => rfl
      | ⟨1, _⟩ => by show n.val = 0 + n.val * 1; omega
      | ⟨2, _⟩ => by show c.val = 384 + (c.val - 384) * 1; omega)
  · rename_i h
    refine (Idealize.ShloMosaic.pad_apply_of_not_inside _ _ _ _ _ _ _ _ (2 : Fin 3) ?_).trans ?_
    · show ¬(384 ≤ c.val ∧ (c.val - 384) % 1 = 0 ∧ (c.val - 384) / 1 < 128)
      omega
    · rw [val_main_cst_42_apply]; exact Cert.Step.bits_zero

theorem pad2049_3 (n : Fin 2049) (c : Fin 512) : val_main_v161 (F := Ideal) x1 x2 x3 x4 (ix3 (0 : Fin 1) n c)
    = if h : 384 ≤ c.val ∧ c.val < 512 then val_main_v160 (F := Ideal) x1 x2 x3 x4 (ix3 (0 : Fin 1) n ⟨c.val - 384, by omega⟩) else 0 := by
  unfold val_main_v161
  split
  · rename_i h
    exact Idealize.ShloMosaic.pad_apply_of_inside _ _ _ _ _ _ _ _ _ (fun a => match a with
      | ⟨0, _⟩ => rfl
      | ⟨1, _⟩ => by show n.val = 0 + n.val * 1; omega
      | ⟨2, _⟩ => by show c.val = 384 + (c.val - 384) * 1; omega)
  · rename_i h
    refine (Idealize.ShloMosaic.pad_apply_of_not_inside _ _ _ _ _ _ _ _ (2 : Fin 3) ?_).trans ?_
    · show ¬(384 ≤ c.val ∧ (c.val - 384) % 1 = 0 ∧ (c.val - 384) / 1 < 128)
      omega
    · rw [val_main_cst_45_apply]; exact Cert.Step.bits_zero

theorem tot2048_0 (n : Fin 2048) (l : Fin 128) : val_main_v190 (F := Ideal) x1 x2 x3 x4 (ix3 (0 : Fin 1) n (gcol 0 l)) = val_main_v188 (F := Ideal) x1 x2 x3 x4 (ix3 (0 : Fin 1) n l) := by
  have hl := l.isLt
  have hg : (gcol 0 l).val = 0 + l.val := rfl
  rw [val_main_v190_apply, val_main_v177_apply, val_main_v164_apply, pad2048_0, pad2048_1, pad2048_2, pad2048_3]
  rw [dif_pos (by rw [hg]; omega : (0 ≤ (gcol 0 l).val ∧ (gcol 0 l).val < 128)), dif_neg (by rw [hg]; omega : ¬(128 ≤ (gcol 0 l).val ∧ (gcol 0 l).val < 256)), dif_neg (by rw [hg]; omega : ¬(256 ≤ (gcol 0 l).val ∧ (gcol 0 l).val < 384)), dif_neg (by rw [hg]; omega : ¬(384 ≤ (gcol 0 l).val ∧ (gcol 0 l).val < 512))]
  have e : (⟨(gcol 0 l).val - 0, by omega⟩ : Fin 128) = l := Fin.ext (by show (gcol 0 l).val - 0 = l.val; omega)
  rw [e]
  show (((0 : EReal)+(0 : EReal)) + (0 : EReal)) + (val_main_v188 (F := Ideal) x1 x2 x3 x4 (ix3 (0 : Fin 1) n l) : EReal) = _
  simp only [zero_add, add_zero]

theorem tot2048_1 (n : Fin 2048) (l : Fin 128) : val_main_v190 (F := Ideal) x1 x2 x3 x4 (ix3 (0 : Fin 1) n (gcol 1 l)) = val_main_v175 (F := Ideal) x1 x2 x3 x4 (ix3 (0 : Fin 1) n l) := by
  have hl := l.isLt
  have hg : (gcol 1 l).val = 128 + l.val := rfl
  rw [val_main_v190_apply, val_main_v177_apply, val_main_v164_apply, pad2048_0, pad2048_1, pad2048_2, pad2048_3]
  rw [dif_neg (by rw [hg]; omega : ¬(0 ≤ (gcol 1 l).val ∧ (gcol 1 l).val < 128)), dif_pos (by rw [hg]; omega : (128 ≤ (gcol 1 l).val ∧ (gcol 1 l).val < 256)), dif_neg (by rw [hg]; omega : ¬(256 ≤ (gcol 1 l).val ∧ (gcol 1 l).val < 384)), dif_neg (by rw [hg]; omega : ¬(384 ≤ (gcol 1 l).val ∧ (gcol 1 l).val < 512))]
  have e : (⟨(gcol 1 l).val - 128, by omega⟩ : Fin 128) = l := Fin.ext (by show (gcol 1 l).val - 128 = l.val; omega)
  rw [e]
  show (((0 : EReal)+(0 : EReal)) + (val_main_v175 (F := Ideal) x1 x2 x3 x4 (ix3 (0 : Fin 1) n l) : EReal)) + (0 : EReal) = _
  simp only [zero_add, add_zero]

theorem tot2048_2 (n : Fin 2048) (l : Fin 128) : val_main_v190 (F := Ideal) x1 x2 x3 x4 (ix3 (0 : Fin 1) n (gcol 2 l)) = val_main_v162 (F := Ideal) x1 x2 x3 x4 (ix3 (0 : Fin 1) n l) := by
  have hl := l.isLt
  have hg : (gcol 2 l).val = 256 + l.val := rfl
  rw [val_main_v190_apply, val_main_v177_apply, val_main_v164_apply, pad2048_0, pad2048_1, pad2048_2, pad2048_3]
  rw [dif_neg (by rw [hg]; omega : ¬(0 ≤ (gcol 2 l).val ∧ (gcol 2 l).val < 128)), dif_neg (by rw [hg]; omega : ¬(128 ≤ (gcol 2 l).val ∧ (gcol 2 l).val < 256)), dif_pos (by rw [hg]; omega : (256 ≤ (gcol 2 l).val ∧ (gcol 2 l).val < 384)), dif_neg (by rw [hg]; omega : ¬(384 ≤ (gcol 2 l).val ∧ (gcol 2 l).val < 512))]
  have e : (⟨(gcol 2 l).val - 256, by omega⟩ : Fin 128) = l := Fin.ext (by show (gcol 2 l).val - 256 = l.val; omega)
  rw [e]
  show (((0 : EReal)+(val_main_v162 (F := Ideal) x1 x2 x3 x4 (ix3 (0 : Fin 1) n l) : EReal)) + (0 : EReal)) + (0 : EReal) = _
  simp only [zero_add, add_zero]

theorem tot2048_3 (n : Fin 2048) (l : Fin 128) : val_main_v190 (F := Ideal) x1 x2 x3 x4 (ix3 (0 : Fin 1) n (gcol 3 l)) = val_main_v151 (F := Ideal) x1 x2 x3 x4 (ix3 (0 : Fin 1) n l) := by
  have hl := l.isLt
  have hg : (gcol 3 l).val = 384 + l.val := rfl
  rw [val_main_v190_apply, val_main_v177_apply, val_main_v164_apply, pad2048_0, pad2048_1, pad2048_2, pad2048_3]
  rw [dif_neg (by rw [hg]; omega : ¬(0 ≤ (gcol 3 l).val ∧ (gcol 3 l).val < 128)), dif_neg (by rw [hg]; omega : ¬(128 ≤ (gcol 3 l).val ∧ (gcol 3 l).val < 256)), dif_neg (by rw [hg]; omega : ¬(256 ≤ (gcol 3 l).val ∧ (gcol 3 l).val < 384)), dif_pos (by rw [hg]; omega : (384 ≤ (gcol 3 l).val ∧ (gcol 3 l).val < 512))]
  have e : (⟨(gcol 3 l).val - 384, by omega⟩ : Fin 128) = l := Fin.ext (by show (gcol 3 l).val - 384 = l.val; omega)
  rw [e]
  show (((val_main_v151 (F := Ideal) x1 x2 x3 x4 (ix3 (0 : Fin 1) n l) : EReal)+(0 : EReal)) + (0 : EReal)) + (0 : EReal) = _
  simp only [zero_add, add_zero]

theorem tot2049_0 (n : Fin 2049) (l : Fin 128) : val_main_v200 (F := Ideal) x1 x2 x3 x4 (ix3 (0 : Fin 1) n (gcol 0 l)) = val_main_v198 (F := Ideal) x1 x2 x3 x4 (ix3 (0 : Fin 1) n l) := by
  have hl := l.isLt
  have hg : (gcol 0 l).val = 0 + l.val := rfl
  rw [val_main_v200_apply, val_main_v187_apply, val_main_v174_apply, pad2049_0, pad2049_1, pad2049_2, pad2049_3]
  rw [dif_pos (by rw [hg]; omega : (0 ≤ (gcol 0 l).val ∧ (gcol 0 l).val < 128)), dif_neg (by rw [hg]; omega : ¬(128 ≤ (gcol 0 l).val ∧ (gcol 0 l).val < 256)), dif_neg (by rw [hg]; omega : ¬(256 ≤ (gcol 0 l).val ∧ (gcol 0 l).val < 384)), dif_neg (by rw [hg]; omega : ¬(384 ≤ (gcol 0 l).val ∧ (gcol 0 l).val < 512))]
  have e : (⟨(gcol 0 l).val - 0, by omega⟩ : Fin 128) = l := Fin.ext (by show (gcol 0 l).val - 0 = l.val; omega)
  rw [e]
  show (((0 : EReal)+(0 : EReal)) + (0 : EReal)) + (val_main_v198 (F := Ideal) x1 x2 x3 x4 (ix3 (0 : Fin 1) n l) : EReal) = _
  simp only [zero_add, add_zero]

theorem tot2049_1 (n : Fin 2049) (l : Fin 128) : val_main_v200 (F := Ideal) x1 x2 x3 x4 (ix3 (0 : Fin 1) n (gcol 1 l)) = val_main_v185 (F := Ideal) x1 x2 x3 x4 (ix3 (0 : Fin 1) n l) := by
  have hl := l.isLt
  have hg : (gcol 1 l).val = 128 + l.val := rfl
  rw [val_main_v200_apply, val_main_v187_apply, val_main_v174_apply, pad2049_0, pad2049_1, pad2049_2, pad2049_3]
  rw [dif_neg (by rw [hg]; omega : ¬(0 ≤ (gcol 1 l).val ∧ (gcol 1 l).val < 128)), dif_pos (by rw [hg]; omega : (128 ≤ (gcol 1 l).val ∧ (gcol 1 l).val < 256)), dif_neg (by rw [hg]; omega : ¬(256 ≤ (gcol 1 l).val ∧ (gcol 1 l).val < 384)), dif_neg (by rw [hg]; omega : ¬(384 ≤ (gcol 1 l).val ∧ (gcol 1 l).val < 512))]
  have e : (⟨(gcol 1 l).val - 128, by omega⟩ : Fin 128) = l := Fin.ext (by show (gcol 1 l).val - 128 = l.val; omega)
  rw [e]
  show (((0 : EReal)+(0 : EReal)) + (val_main_v185 (F := Ideal) x1 x2 x3 x4 (ix3 (0 : Fin 1) n l) : EReal)) + (0 : EReal) = _
  simp only [zero_add, add_zero]

theorem tot2049_2 (n : Fin 2049) (l : Fin 128) : val_main_v200 (F := Ideal) x1 x2 x3 x4 (ix3 (0 : Fin 1) n (gcol 2 l)) = val_main_v172 (F := Ideal) x1 x2 x3 x4 (ix3 (0 : Fin 1) n l) := by
  have hl := l.isLt
  have hg : (gcol 2 l).val = 256 + l.val := rfl
  rw [val_main_v200_apply, val_main_v187_apply, val_main_v174_apply, pad2049_0, pad2049_1, pad2049_2, pad2049_3]
  rw [dif_neg (by rw [hg]; omega : ¬(0 ≤ (gcol 2 l).val ∧ (gcol 2 l).val < 128)), dif_neg (by rw [hg]; omega : ¬(128 ≤ (gcol 2 l).val ∧ (gcol 2 l).val < 256)), dif_pos (by rw [hg]; omega : (256 ≤ (gcol 2 l).val ∧ (gcol 2 l).val < 384)), dif_neg (by rw [hg]; omega : ¬(384 ≤ (gcol 2 l).val ∧ (gcol 2 l).val < 512))]
  have e : (⟨(gcol 2 l).val - 256, by omega⟩ : Fin 128) = l := Fin.ext (by show (gcol 2 l).val - 256 = l.val; omega)
  rw [e]
  show (((0 : EReal)+(val_main_v172 (F := Ideal) x1 x2 x3 x4 (ix3 (0 : Fin 1) n l) : EReal)) + (0 : EReal)) + (0 : EReal) = _
  simp only [zero_add, add_zero]

theorem tot2049_3 (n : Fin 2049) (l : Fin 128) : val_main_v200 (F := Ideal) x1 x2 x3 x4 (ix3 (0 : Fin 1) n (gcol 3 l)) = val_main_v160 (F := Ideal) x1 x2 x3 x4 (ix3 (0 : Fin 1) n l) := by
  have hl := l.isLt
  have hg : (gcol 3 l).val = 384 + l.val := rfl
  rw [val_main_v200_apply, val_main_v187_apply, val_main_v174_apply, pad2049_0, pad2049_1, pad2049_2, pad2049_3]
  rw [dif_neg (by rw [hg]; omega : ¬(0 ≤ (gcol 3 l).val ∧ (gcol 3 l).val < 128)), dif_neg (by rw [hg]; omega : ¬(128 ≤ (gcol 3 l).val ∧ (gcol 3 l).val < 256)), dif_neg (by rw [hg]; omega : ¬(256 ≤ (gcol 3 l).val ∧ (gcol 3 l).val < 384)), dif_pos (by rw [hg]; omega : (384 ≤ (gcol 3 l).val ∧ (gcol 3 l).val < 512))]
  have e : (⟨(gcol 3 l).val - 384, by omega⟩ : Fin 128) = l := Fin.ext (by show (gcol 3 l).val - 384 = l.val; omega)
  rw [e]
  show (((val_main_v160 (F := Ideal) x1 x2 x3 x4 (ix3 (0 : Fin 1) n l) : EReal)+(0 : EReal)) + (0 : EReal)) + (0 : EReal) = _
  simp only [zero_add, add_zero]

/-- The reference's derivative of group 0, its derivative of the product being finite. -/
theorem du0 (n : Fin 2048) (l : Fin 128) (r : Fin 2048 → ℝ) (hr : ∀ t, val_main_v146 (F := Ideal) x1 x2 x3 x4 (ix3 (0 : Fin 1) t (gcol 0 l)) = (r t : EReal)) :
    val_main_v206 (F := Ideal) x1 x2 x3 x4 (ix2 n (gcol 0 l)) = win 1 (fun t => Ideal.div (val_main_v146 (F := Ideal) x1 x2 x3 x4 (ix3 (0 : Fin 1) t (gcol 0 l))) (((cnt 1 t : ℕ) : ℝ) : EReal)) n
      - val_main_v146 (F := Ideal) x1 x2 x3 x4 (ix3 (0 : Fin 1) n (gcol 0 l)) := by
  rw [val_main_v206_apply]
  show val_main_v205 (F := Ideal) x1 x2 x3 x4 (ix2 n (gcol 0 l)) = _
  rw [val_main_v205_apply, Fin.sum_univ_one, val_main_cst_58_apply]
  refine (zadd bits_zero).trans ?_
  have e0 : idx_main_v205 (ix2 n (gcol 0 l)) 0 = ix3 (0 : Fin 1) n (gcol 0 l) := funext fun a => match a with
    | ⟨0, _⟩ => rfl
    | ⟨1, _⟩ => rfl
    | ⟨2, _⟩ => rfl
  rw [e0, val_main_v204_apply, tot2048_0, val_main_v188_apply, part0]
  have hs : val_main_v203 (F := Ideal) x1 x2 x3 x4 (ix3 (0 : Fin 1) n (gcol 0 l)) = win 1 (fun t => val_main_v192 (F := Ideal) x1 x2 x3 x4 (ix3 (0 : Fin 1) t l)) n := by
    unfold val_main_v203
    refine (suffix_apply _ _ ?_ n _).trans ?_
    · exact bits_zero
    · refine Eq.trans (Finset.sum_congr rfl fun i _ => ?_) (scatter_win 1 (fun t => r t / (cnt 1 t : ℝ)) (fun t => val_main_v192 (F := Ideal) x1 x2 x3 x4 (ix3 (0 : Fin 1) t l)) (fun t => ?_) n)
      · by_cases hi : n.val ≤ i.val
        · rw [if_pos hi, if_pos hi, val_main_v202_apply]
          have e : idx_main_v202 (ix3 (0 : Fin 1) i (gcol 0 l)) = ix3 (0 : Fin 1) (⟨i.val + 1, by omega⟩ : Fin 2049) (gcol 0 l) := funext fun a => match a with
            | ⟨0, _⟩ => rfl
            | ⟨1, _⟩ => Fin.ext (Nat.add_comm 1 i.val)
            | ⟨2, _⟩ => rfl
          rw [e, tot2049_0, lands0]
        · rw [if_neg hi, if_neg hi]
      · rw [quot0, hr, Ideal.div_coe (by have := cnt_pos 1 (by decide) t; exact_mod_cast this.ne'), ← EReal.coe_mul, mul_one_div]
  rw [hs]
  show -(val_main_v146 (F := Ideal) x1 x2 x3 x4 (ix3 (0 : Fin 1) n (gcol 0 l)) : EReal) + _ = _
  rw [add_comm, ← sub_eq_add_neg]
  refine congrArg (· - _) (congrArg (fun d => win 1 d n) (funext fun t => ?_))
  exact quot0 x1 x2 x3 x4 t l

/-- The reference's derivative of group 1, its derivative of the product being finite. -/
theorem du1 (n : Fin 2048) (l : Fin 128) (r : Fin 2048 → ℝ) (hr : ∀ t, val_main_v146 (F := Ideal) x1 x2 x3 x4 (ix3 (0 : Fin 1) t (gcol 1 l)) = (r t : EReal)) :
    val_main_v206 (F := Ideal) x1 x2 x3 x4 (ix2 n (gcol 1 l)) = win 2 (fun t => Ideal.div (val_main_v146 (F := Ideal) x1 x2 x3 x4 (ix3 (0 : Fin 1) t (gcol 1 l))) (((cnt 2 t : ℕ) : ℝ) : EReal)) n
      - val_main_v146 (F := Ideal) x1 x2 x3 x4 (ix3 (0 : Fin 1) n (gcol 1 l)) := by
  rw [val_main_v206_apply]
  show val_main_v205 (F := Ideal) x1 x2 x3 x4 (ix2 n (gcol 1 l)) = _
  rw [val_main_v205_apply, Fin.sum_univ_one, val_main_cst_58_apply]
  refine (zadd bits_zero).trans ?_
  have e0 : idx_main_v205 (ix2 n (gcol 1 l)) 0 = ix3 (0 : Fin 1) n (gcol 1 l) := funext fun a => match a with
    | ⟨0, _⟩ => rfl
    | ⟨1, _⟩ => rfl
    | ⟨2, _⟩ => rfl
  rw [e0, val_main_v204_apply, tot2048_1, val_main_v175_apply, part1]
  have hs : val_main_v203 (F := Ideal) x1 x2 x3 x4 (ix3 (0 : Fin 1) n (gcol 1 l)) = win 2 (fun t => val_main_v179 (F := Ideal) x1 x2 x3 x4 (ix3 (0 : Fin 1) t l)) n := by
    unfold val_main_v203
    refine (suffix_apply _ _ ?_ n _).trans ?_
    · exact bits_zero
    · refine Eq.trans (Finset.sum_congr rfl fun i _ => ?_) (scatter_win 2 (fun t => r t / (cnt 2 t : ℝ)) (fun t => val_main_v179 (F := Ideal) x1 x2 x3 x4 (ix3 (0 : Fin 1) t l)) (fun t => ?_) n)
      · by_cases hi : n.val ≤ i.val
        · rw [if_pos hi, if_pos hi, val_main_v202_apply]
          have e : idx_main_v202 (ix3 (0 : Fin 1) i (gcol 1 l)) = ix3 (0 : Fin 1) (⟨i.val + 1, by omega⟩ : Fin 2049) (gcol 1 l) := funext fun a => match a with
            | ⟨0, _⟩ => rfl
            | ⟨1, _⟩ => Fin.ext (Nat.add_comm 1 i.val)
            | ⟨2, _⟩ => rfl
          rw [e, tot2049_1, lands1]
        · rw [if_neg hi, if_neg hi]
      · rw [quot1, hr, Ideal.div_coe (by have := cnt_pos 2 (by decide) t; exact_mod_cast this.ne'), ← EReal.coe_mul, mul_one_div]
  rw [hs]
  show -(val_main_v146 (F := Ideal) x1 x2 x3 x4 (ix3 (0 : Fin 1) n (gcol 1 l)) : EReal) + _ = _
  rw [add_comm, ← sub_eq_add_neg]
  refine congrArg (· - _) (congrArg (fun d => win 2 d n) (funext fun t => ?_))
  exact quot1 x1 x2 x3 x4 t l

/-- The reference's derivative of group 2, its derivative of the product being finite. -/
theorem du2 (n : Fin 2048) (l : Fin 128) (r : Fin 2048 → ℝ) (hr : ∀ t, val_main_v146 (F := Ideal) x1 x2 x3 x4 (ix3 (0 : Fin 1) t (gcol 2 l)) = (r t : EReal)) :
    val_main_v206 (F := Ideal) x1 x2 x3 x4 (ix2 n (gcol 2 l)) = win 4 (fun t => Ideal.div (val_main_v146 (F := Ideal) x1 x2 x3 x4 (ix3 (0 : Fin 1) t (gcol 2 l))) (((cnt 4 t : ℕ) : ℝ) : EReal)) n
      - val_main_v146 (F := Ideal) x1 x2 x3 x4 (ix3 (0 : Fin 1) n (gcol 2 l)) := by
  rw [val_main_v206_apply]
  show val_main_v205 (F := Ideal) x1 x2 x3 x4 (ix2 n (gcol 2 l)) = _
  rw [val_main_v205_apply, Fin.sum_univ_one, val_main_cst_58_apply]
  refine (zadd bits_zero).trans ?_
  have e0 : idx_main_v205 (ix2 n (gcol 2 l)) 0 = ix3 (0 : Fin 1) n (gcol 2 l) := funext fun a => match a with
    | ⟨0, _⟩ => rfl
    | ⟨1, _⟩ => rfl
    | ⟨2, _⟩ => rfl
  rw [e0, val_main_v204_apply, tot2048_2, val_main_v162_apply, part2]
  have hs : val_main_v203 (F := Ideal) x1 x2 x3 x4 (ix3 (0 : Fin 1) n (gcol 2 l)) = win 4 (fun t => val_main_v166 (F := Ideal) x1 x2 x3 x4 (ix3 (0 : Fin 1) t l)) n := by
    unfold val_main_v203
    refine (suffix_apply _ _ ?_ n _).trans ?_
    · exact bits_zero
    · refine Eq.trans (Finset.sum_congr rfl fun i _ => ?_) (scatter_win 4 (fun t => r t / (cnt 4 t : ℝ)) (fun t => val_main_v166 (F := Ideal) x1 x2 x3 x4 (ix3 (0 : Fin 1) t l)) (fun t => ?_) n)
      · by_cases hi : n.val ≤ i.val
        · rw [if_pos hi, if_pos hi, val_main_v202_apply]
          have e : idx_main_v202 (ix3 (0 : Fin 1) i (gcol 2 l)) = ix3 (0 : Fin 1) (⟨i.val + 1, by omega⟩ : Fin 2049) (gcol 2 l) := funext fun a => match a with
            | ⟨0, _⟩ => rfl
            | ⟨1, _⟩ => Fin.ext (Nat.add_comm 1 i.val)
            | ⟨2, _⟩ => rfl
          rw [e, tot2049_2, lands2]
        · rw [if_neg hi, if_neg hi]
      · rw [quot2, hr, Ideal.div_coe (by have := cnt_pos 4 (by decide) t; exact_mod_cast this.ne'), ← EReal.coe_mul, mul_one_div]
  rw [hs]
  show -(val_main_v146 (F := Ideal) x1 x2 x3 x4 (ix3 (0 : Fin 1) n (gcol 2 l)) : EReal) + _ = _
  rw [add_comm, ← sub_eq_add_neg]
  refine congrArg (· - _) (congrArg (fun d => win 4 d n) (funext fun t => ?_))
  exact quot2 x1 x2 x3 x4 t l

/-- The reference's derivative of group 3, its derivative of the product being finite. -/
theorem du3 (n : Fin 2048) (l : Fin 128) (r : Fin 2048 → ℝ) (hr : ∀ t, val_main_v146 (F := Ideal) x1 x2 x3 x4 (ix3 (0 : Fin 1) t (gcol 3 l)) = (r t : EReal)) :
    val_main_v206 (F := Ideal) x1 x2 x3 x4 (ix2 n (gcol 3 l)) = win 8 (fun t => Ideal.div (val_main_v146 (F := Ideal) x1 x2 x3 x4 (ix3 (0 : Fin 1) t (gcol 3 l))) (((cnt 8 t : ℕ) : ℝ) : EReal)) n
      - val_main_v146 (F := Ideal) x1 x2 x3 x4 (ix3 (0 : Fin 1) n (gcol 3 l)) := by
  rw [val_main_v206_apply]
  show val_main_v205 (F := Ideal) x1 x2 x3 x4 (ix2 n (gcol 3 l)) = _
  rw [val_main_v205_apply, Fin.sum_univ_one, val_main_cst_58_apply]
  refine (zadd bits_zero).trans ?_
  have e0 : idx_main_v205 (ix2 n (gcol 3 l)) 0 = ix3 (0 : Fin 1) n (gcol 3 l) := funext fun a => match a with
    | ⟨0, _⟩ => rfl
    | ⟨1, _⟩ => rfl
    | ⟨2, _⟩ => rfl
  rw [e0, val_main_v204_apply, tot2048_3, val_main_v151_apply, part3]
  have hs : val_main_v203 (F := Ideal) x1 x2 x3 x4 (ix3 (0 : Fin 1) n (gcol 3 l)) = win 8 (fun t => val_main_v154 (F := Ideal) x1 x2 x3 x4 (ix3 (0 : Fin 1) t l)) n := by
    unfold val_main_v203
    refine (suffix_apply _ _ ?_ n _).trans ?_
    · exact bits_zero
    · refine Eq.trans (Finset.sum_congr rfl fun i _ => ?_) (scatter_win 8 (fun t => r t / (cnt 8 t : ℝ)) (fun t => val_main_v154 (F := Ideal) x1 x2 x3 x4 (ix3 (0 : Fin 1) t l)) (fun t => ?_) n)
      · by_cases hi : n.val ≤ i.val
        · rw [if_pos hi, if_pos hi, val_main_v202_apply]
          have e : idx_main_v202 (ix3 (0 : Fin 1) i (gcol 3 l)) = ix3 (0 : Fin 1) (⟨i.val + 1, by omega⟩ : Fin 2049) (gcol 3 l) := funext fun a => match a with
            | ⟨0, _⟩ => rfl
            | ⟨1, _⟩ => Fin.ext (Nat.add_comm 1 i.val)
            | ⟨2, _⟩ => rfl
          rw [e, tot2049_3, lands3]
        · rw [if_neg hi, if_neg hi]
      · rw [quot3, hr, Ideal.div_coe (by have := cnt_pos 8 (by decide) t; exact_mod_cast this.ne'), ← EReal.coe_mul, mul_one_div]
  rw [hs]
  show -(val_main_v146 (F := Ideal) x1 x2 x3 x4 (ix3 (0 : Fin 1) n (gcol 3 l)) : EReal) + _ = _
  rw [add_comm, ← sub_eq_add_neg]
  refine congrArg (· - _) (congrArg (fun d => win 8 d n) (funext fun t => ?_))
  exact quot3 x1 x2 x3 x4 t l

end Cert.Step.Pool
-- ==== Proof.PoolRefVal.lean ====
module
/- The reference's other two results and its derivative of the product, read at an index. -/

public import proofs.«01_k».proof.Proof.PoolRefDu
public import Idealize.ShloMosaic.Lib.TwoAxisContraction

@[expose] public section
set_option maxRecDepth 16384
set_option maxHeartbeats 4000000
noncomputable section
open Idealize.ShloMosaic Idealize.ShloMosaic.TcCoe
namespace Cert.Step.Pool
open Cert.PoolRefIdeal Cert.PoolRefIdeal.Gen Cert.PoolRefIdeal.Read

/-- The cotangent behind the output projection, at row `t` and column `j`. -/
def dyE (wp : S512x1024.Idx → EReal) (ct : S2048x1024.Idx → EReal) (t : Fin 2048) (j : Fin 512) : EReal :=
  ∑ k : Fin 1024, ct (ix2 t k) * wp (ix2 j k)
/-- The derivative of a group's product of the pooled rows, at row `t` and the group's column `c`. -/
def dpE (w : S4x128x128.Idx → EReal) (sc : S512.Idx → EReal) (wp : S512x1024.Idx → EReal) (ct : S2048x1024.Idx → EReal) (g : Fin 4) (t : Fin 2048) (c : Fin 128) : EReal :=
  ∑ d : Fin 128, dyE wp ct t (gcol g d) * sc (ix1 (gcol g d)) * w (ix3 g c d)

variable (x0 : (⟨S2048x512, .f32⟩ : BufTy).Contents (Elt Ideal)) (x1 : (⟨S4x128x128, .f32⟩ : BufTy).Contents (Elt Ideal)) (x2 : (⟨S512, .f32⟩ : BufTy).Contents (Elt Ideal)) (x3 : (⟨S512x1024, .f32⟩ : BufTy).Contents (Elt Ideal)) (x4 : (⟨S2048x1024, .f32⟩ : BufTy).Contents (Elt Ideal))

theorem v133_at (t : Fin 2048) (j : Fin 512) : val_main_v133 (F := Ideal) x3 x4 (ix3 (0 : Fin 1) t j) = dyE x3 x4 t j := by
  rw [val_main_v133_apply]
  refine Finset.sum_congr rfl fun k _ => ?_
  rw [val_main_v132_apply]
  refine congrArg₂ (· * ·) (congrArg x4 (funext fun a => ?_)) (congrArg x3 (funext fun a => ?_))
  · match a with
    | ⟨0, _⟩ => rfl
    | ⟨1, _⟩ => rfl
  · match a with
    | ⟨0, _⟩ => rfl
    | ⟨1, _⟩ => rfl

theorem v138_at (t : Fin 2048) (j : Fin 512) : val_main_v138 (F := Ideal) x2 x3 x4 (ix3 (0 : Fin 1) t j) = dyE x3 x4 t j * x2 (ix1 j) := by
  rw [val_main_v138_apply, v133_at, val_main_v137_apply, val_main_v127_apply]
  refine congrArg (_ * ·) (congrArg x2 (funext fun a => ?_))
  match a with
  | ⟨0, _⟩ => rfl

theorem v141_at (g : Fin 4) (d : Fin 128) (t : Fin 2048) : val_main_v141 (F := Ideal) x2 x3 x4 (ix4 g d (0 : Fin 1) t) = dyE x3 x4 t (gcol g d) * x2 (ix1 (gcol g d)) := by
  have := g.isLt; have := d.isLt; have := t.isLt
  rw [val_main_v141_apply, val_main_v140_apply, ← v138_at]
  refine congrArg _ (funext fun a => ?_)
  match a with
  | ⟨0, _⟩ => rfl
  | ⟨1, _⟩ => exact Fin.ext (by show (((0 * 2048 + t.val) * 4 + g.val) * 128 + d.val) / 512 % 2048 = t.val; omega)
  | ⟨2, _⟩ => exact Fin.ext (by show (((0 * 2048 + t.val) * 4 + g.val) * 128 + d.val) % 512 = 128 * g.val + d.val; omega)

theorem v146_at (g : Fin 4) (t : Fin 2048) (c : Fin 128) : val_main_v146 (F := Ideal) x1 x2 x3 x4 (ix3 (0 : Fin 1) t (gcol g c)) = dpE x1 x2 x3 x4 g t c := by
  have := g.isLt; have := c.isLt; have := t.isLt
  rw [val_main_v146_apply, val_main_v143_apply, val_main_v142_apply]
  refine Finset.sum_congr rfl fun d _ => ?_
  rw [← v141_at]
  have e : idx_main_v143 (idx_main_v146 (ix3 (0 : Fin 1) t (gcol g c))) = ix4 g (0 : Fin 1) t c := funext fun a => match a with
    | ⟨0, _⟩ => Fin.ext (by show ((0 * 2048 + t.val) * 512 + (128 * g.val + c.val)) / 128 % 4 = g.val; omega)
    | ⟨1, _⟩ => rfl
    | ⟨2, _⟩ => Fin.ext (by show ((0 * 2048 + t.val) * 512 + (128 * g.val + c.val)) / 512 % 2048 = t.val; omega)
    | ⟨3, _⟩ => Fin.ext (by show ((0 * 2048 + t.val) * 512 + (128 * g.val + c.val)) % 128 = c.val; omega)
  rw [e]
  refine congrArg₂ (· * ·) (congrArg _ (funext fun a => ?_)) (congrArg x1 (funext fun a => ?_))
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl

theorem v123_at (g : Fin 4) (d : Fin 128) (t : Fin 2048) : val_main_v123 (F := Ideal) x0 (ix4 (0 : Fin 1) t g d) = val_main_v122 (F := Ideal) x0 (ix3 (0 : Fin 1) t (gcol g d)) := by
  have := g.isLt; have := d.isLt; have := t.isLt
  rw [val_main_v123_apply]
  refine congrArg _ (funext fun a => ?_)
  match a with
  | ⟨0, _⟩ => rfl
  | ⟨1, _⟩ => exact Fin.ext (by show (((0 * 2048 + t.val) * 4 + g.val) * 128 + d.val) / 512 % 2048 = t.val; omega)
  | ⟨2, _⟩ => exact Fin.ext (by show (((0 * 2048 + t.val) * 4 + g.val) * 128 + d.val) % 512 = 128 * g.val + d.val; omega)

theorem v145_at (g : Fin 4) (c d : Fin 128) : val_main_v145 (F := Ideal) x0 x2 x3 x4 (ix3 g c d)
    = ∑ t : Fin 2048, val_main_v122 (F := Ideal) x0 (ix3 (0 : Fin 1) t (gcol g c)) * (dyE x3 x4 t (gcol g d) * x2 (ix1 (gcol g d))) := by
  rw [val_main_v145_apply]
  have e : idx_main_v145 (ix3 g c d) = ix3 g d c := funext fun a => match a with
    | ⟨0, _⟩ => rfl
    | ⟨1, _⟩ => rfl
    | ⟨2, _⟩ => rfl
  rw [e]
  refine Eq.trans ?_ (Finset.sum_congr rfl fun t _ => congrArg₂ (· * ·) (v123_at x0 g c t) (v141_at x2 x3 x4 g d t))
  unfold val_main_v144
  generalize val_main_v141 (F := Ideal) x2 x3 x4 = y
  generalize val_main_v123 (F := Ideal) x0 = z
  simp only [Host.dotGeneral]
  rw [Ideal.dotGeneral_apply, ValueIdx.sum_contr2 dot_S4x128x1x2048_S1x2048x4x128_S4x128x128_23_01_1_3_0_2 1 2048 rfl rfl rfl, Fin.sum_univ_one]
  refine Finset.sum_congr rfl fun t _ => ?_
  have k0 := ValueIdx.contrEquiv2_symm_val0 dot_S4x128x1x2048_S1x2048x4x128_S4x128x128_23_01_1_3_0_2 1 2048 rfl rfl rfl (0, t)
  have k1 := ValueIdx.contrEquiv2_symm_val1 dot_S4x128x1x2048_S1x2048x4x128_S4x128x128_23_01_1_3_0_2 1 2048 rfl rfl rfl (0, t)
  generalize (ValueIdx.contrEquiv2 dot_S4x128x1x2048_S1x2048x4x128_S4x128x128_23_01_1_3_0_2 1 2048 rfl rfl rfl).symm (0, t) = q at k0 k1
  rw [mul_comm]
  refine congrArg₂ (· * ·) (congrArg z (funext fun a => ?_)) (congrArg y (funext fun a => ?_))
  · match a with
    | ⟨0, _⟩ => exact Fin.ext k0
    | ⟨1, _⟩ => exact Fin.ext k1
    | ⟨2, _⟩ => rfl
    | ⟨3, _⟩ => rfl
  · match a with
    | ⟨0, _⟩ => rfl
    | ⟨1, _⟩ => rfl
    | ⟨2, _⟩ => exact Fin.ext k0
    | ⟨3, _⟩ => exact Fin.ext k1

theorem v126_at (g : Fin 4) (t : Fin 2048) (c : Fin 128) : val_main_v126 (F := Ideal) x0 x1 (ix3 (0 : Fin 1) t (gcol g c))
    = ∑ d : Fin 128, val_main_v122 (F := Ideal) x0 (ix3 (0 : Fin 1) t (gcol g d)) * x1 (ix3 g d c) := by
  have := g.isLt; have := c.isLt; have := t.isLt
  rw [val_main_v126_apply, val_main_v125_apply, val_main_v124_apply]
  refine Finset.sum_congr rfl fun d _ => ?_
  rw [← v123_at, mul_comm]
  have e : idx_main_v125 (idx_main_v126 (ix3 (0 : Fin 1) t (gcol g c))) = ix4 g c (0 : Fin 1) t := funext fun a => match a with
    | ⟨0, _⟩ => Fin.ext (by show ((0 * 2048 + t.val) * 512 + (128 * g.val + c.val)) / 128 % 4 = g.val; omega)
    | ⟨1, _⟩ => Fin.ext (by show ((0 * 2048 + t.val) * 512 + (128 * g.val + c.val)) % 128 = c.val; omega)
    | ⟨2, _⟩ => rfl
    | ⟨3, _⟩ => Fin.ext (by show ((0 * 2048 + t.val) * 512 + (128 * g.val + c.val)) / 512 % 2048 = t.val; omega)
  rw [e]
  refine congrArg₂ (· * ·) (congrArg _ (funext fun a => ?_)) (congrArg x1 (funext fun a => ?_))
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl

theorem v139_at (j : Fin 512) : val_main_v139 (F := Ideal) x0 x1 x3 x4 (ix1 j) = val_main_v136 (F := Ideal) x0 x1 x3 x4 (ix3 (0 : Fin 1) (0 : Fin 1) j) := by
  unfold val_main_v139
  generalize val_main_v136 (F := Ideal) x0 x1 x3 x4 = y
  simp only [Host.reduceAdd, Ideal.hostReduceAdd_def]
  unfold Ideal.hostReduceAdd
  refine (zadd bits_zero).trans ?_
  rw [Finset.sum_eq_single (ix3 (0 : Fin 1) (0 : Fin 1) j : S1x1x512.Idx)]
  · intro i hi hne
    refine absurd (funext fun a => ?_) hne
    have h := congrFun (Finset.mem_filter.mp hi).2 0
    match a with
    | ⟨0, _⟩ => exact Fin.ext (by have h0 : (i 0).val < 1 := (i 0).isLt; show (i 0).val = 0; omega)
    | ⟨1, _⟩ => exact Fin.ext (by have h0 : (i 1).val < 1 := (i 1).isLt; show (i 1).val = 0; omega)
    | ⟨2, _⟩ => exact Fin.ext (congrArg Fin.val h)
  · intro h
    refine (h (Finset.mem_filter.mpr ⟨Finset.mem_univ _, funext fun b => ?_⟩)).elim
    match b with
    | ⟨0, _⟩ => rfl

theorem v207_at (g : Fin 4) (c : Fin 128) : val_main_v207 (F := Ideal) x0 x1 x3 x4 (ix2 (0 : Fin 1) (gcol g c))
    = ∑ t : Fin 2048, dyE x3 x4 t (gcol g c) * ∑ d : Fin 128, val_main_v122 (F := Ideal) x0 (ix3 (0 : Fin 1) t (gcol g d)) * x1 (ix3 g d c) := by
  have := g.isLt; have := c.isLt
  rw [val_main_v207_apply]
  have e : idx_main_v207 (ix2 (0 : Fin 1) (gcol g c)) = ix1 (gcol g c) := funext fun a => match a with
    | ⟨0, _⟩ => Fin.ext (by show 0 * 512 + (128 * g.val + c.val) = 128 * g.val + c.val; omega)
  rw [e, v139_at, val_main_v136_apply]
  have e2 : idx_main_v136 (ix3 (0 : Fin 1) (0 : Fin 1) (gcol g c)) = ix2 (0 : Fin 1) (gcol g c) := funext fun a => match a with
    | ⟨0, _⟩ => rfl
    | ⟨1, _⟩ => Fin.ext (by show ((0 * 1 + 0) * 512 + (128 * g.val + c.val)) % 512 = 128 * g.val + c.val; omega)
  rw [e2, val_main_v135_apply, val_main_cst_40_apply]
  refine (zadd bits_zero).trans (Finset.sum_congr rfl fun t _ => ?_)
  have e3 : idx_main_v135 (ix2 (0 : Fin 1) (gcol g c)) t = ix3 (0 : Fin 1) t (gcol g c) := funext fun a => match a with
    | ⟨0, _⟩ => rfl
    | ⟨1, _⟩ => rfl
    | ⟨2, _⟩ => rfl
  rw [e3, val_main_v134_apply, v126_at, v133_at]
  exact mul_comm _ _

end Cert.Step.Pool
-- ==== Proof.PoolKerWin.lean ====
module
/- The kernel's sums over the windows of a column, read at an index: the column between two borders of zeros, added to itself
   rotated by one, one, two and four rows. -/

public import proofs.«01_k».proof.Proof.PoolMath
public import proofs.«01_k».proof.Proof.PoolWords
public import proofs.«01_k».proof.Proof.Consts
public import proofs.«01_k».proof.Proof.Gen.PoolIdeal.Value
public import Idealize.ShloMosaic.Lib.KernelVsHost

@[expose] public section
set_option maxRecDepth 16384
set_option maxHeartbeats 2000000
noncomputable section
open Idealize.ShloMosaic Idealize.ShloMosaic.TcCoe
namespace Cert.Step.Pool
open Cert.PoolIdeal Cert.PoolIdeal.Gen

/-- A column between two borders of eight rows of zeros. -/
def pc (q : FVec Ideal S2048x128 .f32) : FVec Ideal S2064x128 .f32 :=
  concatenate S2064x128 0 [⟨S8x128, broadcast S8x128 (Scalar.ofBits .f32 0x00000000#32 : Ideal .f32)⟩, ⟨S2048x128, q⟩, ⟨S8x128, broadcast S8x128 (Scalar.ofBits .f32 0x00000000#32 : Ideal .f32)⟩] concatenates_S8x128_S2048x128_S8x128_S2064x128_d0

def s1 (x : FVec Ideal S2064x128 .f32) : FVec Ideal S2064x128 .f32 := addf x (dynamicRotate 0 2063#32 none x rotates_S2064x128_d0)
def s2 (x : FVec Ideal S2064x128 .f32) : FVec Ideal S2064x128 .f32 := addf (dynamicRotate 0 1#32 none x rotates_S2064x128_d0) (dynamicRotate 0 2063#32 none x rotates_S2064x128_d0)
def s4 (x : FVec Ideal S2064x128 .f32) : FVec Ideal S2064x128 .f32 := addf (dynamicRotate 0 2#32 none x rotates_S2064x128_d0) (dynamicRotate 0 2062#32 none x rotates_S2064x128_d0)
def s8 (x : FVec Ideal S2064x128 .f32) : FVec Ideal S2064x128 .f32 := addf (dynamicRotate 0 4#32 none x rotates_S2064x128_d0) (dynamicRotate 0 2060#32 none x rotates_S2064x128_d0)

/-- The rows' counts, as words. -/
def cw (h : BitVec 32) : IVec S2048x1 32 :=
  subi (minsi (addi (iota .tc S2048x1 32 [0] iota_S2048x1_d0_w32) (broadcast S2048x1 h)) (broadcast S2048x1 2048#32))
    (maxsi (subi (iota .tc S2048x1 32 [0] iota_S2048x1_d0_w32) (broadcast S2048x1 h)) (broadcast S2048x1 0#32))
def quo (v : FVec Ideal S2048x128 .f32) (wd : IVec S2048x1 32) : FVec Ideal S2048x128 .f32 :=
  divf v (broadcastTo S2048x128 (sitofp (F := Ideal) .f32 wd) broadcasts_S2048x1_S2048x128)
def outw (z : FVec Ideal S2064x128 .f32) (v : FVec Ideal S2048x128 .f32) : FVec Ideal S2048x128 .bf16 :=
  truncf .bf16 (subf (extractStridedSlice S2048x128 ![8, 0] z slices_S2064x128_o8_0_S2048x128) v) bitsLt_bf16_f32

theorem rot_at (sb : BitVec 32) (x : FVec Ideal S2064x128 .f32) (r : Fin 2064) (l : Fin 128) (k : Fin 2064)
    (hk : k.val = (r.val + 2064 - sb.toNat % 2064) % 2064) : dynamicRotate 0 sb none x rotates_S2064x128_d0 (ix2 r l) = x (ix2 k l) :=
  dynamicRotate_apply 0 sb x rotates_S2064x128_d0 (ix2 r l) (ix2 k l) (fun b => match b with
    | ⟨0, _⟩ => hk
    | ⟨1, _⟩ => rfl)

theorem pc_at (q : FVec Ideal S2048x128 .f32) (r : Fin 2064) (l : Fin 128) : pc q (ix2 r l) = xe (fun t => q (ix2 t l)) r.val := by
  unfold xe
  by_cases h1 : r.val < 8
  · rw [dif_neg (by omega)]
    pointwise [pc]
    rw [dif_pos h1]
  · by_cases h2 : r.val < 2056
    · rw [dif_pos (by omega)]
      pointwise [pc]
      rw [dif_neg h1, dif_pos (by omega)]
    · rw [dif_neg (by omega)]
      pointwise [pc]
      rw [dif_neg h1, dif_neg (by omega)]

/-- The partial sums of a padded column. -/
def A1 (d : Fin 2048 → EReal) (r : ℕ) : EReal := xe d r + xe d (r + 1)
def A2 (d : Fin 2048 → EReal) (r : ℕ) : EReal := A1 d (r - 1) + A1 d (r + 1)
def A4 (d : Fin 2048 → EReal) (r : ℕ) : EReal := A2 d (r - 2) + A2 d (r + 2)
def A8 (d : Fin 2048 → EReal) (r : ℕ) : EReal := A4 d (r - 4) + A4 d (r + 4)

section
variable (q : FVec Ideal S2048x128 .f32) (l : Fin 128)

theorem s1_at (r : Fin 2064) : s1 (pc q) (ix2 r l) = A1 (fun t => q (ix2 t l)) r.val := by
  have hr := r.isLt
  show pc q (ix2 r l) + dynamicRotate 0 2063#32 none (pc q) rotates_S2064x128_d0 (ix2 r l) = _
  rw [rot_at 2063#32 _ r l ⟨(r.val + 1) % 2064, by omega⟩ (by show (r.val + 1) % 2064 = (r.val + 2064 - 2063) % 2064; omega), pc_at, pc_at]
  unfold A1
  refine congrArg (_ + ·) ?_
  by_cases h : r.val = 2063
  · show xe _ ((r.val + 1) % 2064) = _
    rw [h]; unfold xe; rw [dif_neg (by omega), dif_neg (by omega)]
  · exact congrArg _ (by show (r.val + 1) % 2064 = _; omega)

theorem s2_at (r : Fin 2064) (h1 : 1 ≤ r.val) (h2 : r.val < 2063) : s2 (s1 (pc q)) (ix2 r l) = A2 (fun t => q (ix2 t l)) r.val := by
  show dynamicRotate 0 1#32 none (s1 (pc q)) rotates_S2064x128_d0 (ix2 r l) + dynamicRotate 0 2063#32 none (s1 (pc q)) rotates_S2064x128_d0 (ix2 r l) = _
  rw [rot_at 1#32 _ r l ⟨r.val - 1, by omega⟩ (by show r.val - 1 = (r.val + 2064 - 1) % 2064; omega),
    rot_at 2063#32 _ r l ⟨r.val + 1, by omega⟩ (by show r.val + 1 = (r.val + 2064 - 2063) % 2064; omega), s1_at, s1_at]
  rfl

theorem s4_at (r : Fin 2064) (h1 : 3 ≤ r.val) (h2 : r.val < 2061) : s4 (s2 (s1 (pc q))) (ix2 r l) = A4 (fun t => q (ix2 t l)) r.val := by
  show dynamicRotate 0 2#32 none (s2 (s1 (pc q))) rotates_S2064x128_d0 (ix2 r l) + dynamicRotate 0 2062#32 none (s2 (s1 (pc q))) rotates_S2064x128_d0 (ix2 r l) = _
  rw [rot_at 2#32 _ r l ⟨r.val - 2, by omega⟩ (by show r.val - 2 = (r.val + 2064 - 2) % 2064; omega),
    rot_at 2062#32 _ r l ⟨r.val + 2, by omega⟩ (by show r.val + 2 = (r.val + 2064 - 2062) % 2064; omega), s2_at _ _ _ (by show 1 ≤ r.val - 2; omega) (by show r.val - 2 < 2063; omega), s2_at _ _ _ (by show 1 ≤ r.val + 2; omega) (by show r.val + 2 < 2063; omega)]
  rfl

theorem s8_at (r : Fin 2064) (h1 : 7 ≤ r.val) (h2 : r.val < 2057) : s8 (s4 (s2 (s1 (pc q)))) (ix2 r l) = A8 (fun t => q (ix2 t l)) r.val := by
  show dynamicRotate 0 4#32 none (s4 (s2 (s1 (pc q)))) rotates_S2064x128_d0 (ix2 r l) + dynamicRotate 0 2060#32 none (s4 (s2 (s1 (pc q)))) rotates_S2064x128_d0 (ix2 r l) = _
  rw [rot_at 4#32 _ r l ⟨r.val - 4, by omega⟩ (by show r.val - 4 = (r.val + 2064 - 4) % 2064; omega),
    rot_at 2060#32 _ r l ⟨r.val + 4, by omega⟩ (by show r.val + 4 = (r.val + 2064 - 2060) % 2064; omega), s4_at _ _ _ (by show 3 ≤ r.val - 4; omega) (by show r.val - 4 < 2061; omega), s4_at _ _ _ (by show 3 ≤ r.val + 4; omega) (by show r.val + 4 < 2061; omega)]
  rfl
end

theorem outw_at (z : FVec Ideal S2064x128 .f32) (v : FVec Ideal S2048x128 .f32) (n : Fin 2048) (l : Fin 128) :
    outw z v (ix2 n l) = z (ix2 (⟨8 + n.val, by omega⟩ : Fin 2064) l) - v (ix2 n l) := by
  pointwise [outw]

theorem cw_at (h : BitVec 32) (t : Fin 2048) : cw h (ix2 t (0 : Fin 1)) = cntK h t := by
  pointwise [cw]
  rfl

theorem quo_at (v : FVec Ideal S2048x128 .f32) (h : BitVec 32) (H : ℕ) (hc : ∀ t, (cntK h t).toInt = (cnt H t : Int)) (t : Fin 2048) (l : Fin 128) :
    quo v (cw h) (ix2 t l) = Ideal.div (v (ix2 t l)) (((cnt H t : ℕ) : ℝ) : EReal) := by
  have e : sitofp (F := Ideal) .f32 (cw h) (ix2 t (0 : Fin 1)) = (((cnt H t : ℕ) : ℝ) : EReal) := by
    show ((((cw h (ix2 t (0 : Fin 1))).toInt : ℝ)) : EReal) = _
    rw [cw_at, hc]
    rfl
  rw [← e]
  unfold quo
  generalize sitofp (F := Ideal) .f32 (cw h) = w
  pointwise []

section
variable (v : FVec Ideal S2048x128 .f32) (n : Fin 2048) (l : Fin 128)
theorem win1_at : outw (s1 (pc (quo v (cw 1#32)))) v (ix2 n l) = win 1 (fun t => Ideal.div (v (ix2 t l)) (((cnt 1 t : ℕ) : ℝ) : EReal)) n - v (ix2 n l) := by
  rw [outw_at, s1_at, ← win1]
  unfold A1
  simp only [quo_at v 1#32 1 cntK1]
theorem win2_at : outw (s2 (s1 (pc (quo v (cw 2#32))))) v (ix2 n l) = win 2 (fun t => Ideal.div (v (ix2 t l)) (((cnt 2 t : ℕ) : ℝ) : EReal)) n - v (ix2 n l) := by
  have := n.isLt
  rw [outw_at, s2_at _ _ _ (by show 1 ≤ 8 + n.val; omega) (by show 8 + n.val < 2063; omega)]
  simp only [quo_at v 2#32 2 cntK2]
  rw [win2 _ n (A1 _) (A2 _) (fun _ => rfl) (fun _ _ => rfl)]
theorem win4_at : outw (s4 (s2 (s1 (pc (quo v (cw 4#32)))))) v (ix2 n l) = win 4 (fun t => Ideal.div (v (ix2 t l)) (((cnt 4 t : ℕ) : ℝ) : EReal)) n - v (ix2 n l) := by
  have := n.isLt
  rw [outw_at, s4_at _ _ _ (by show 3 ≤ 8 + n.val; omega) (by show 8 + n.val < 2061; omega)]
  simp only [quo_at v 4#32 4 cntK4]
  rw [win4 _ n (A1 _) (A2 _) (A4 _) (fun _ => rfl) (fun _ _ => rfl) (fun _ _ => rfl)]
theorem win8_at : outw (s8 (s4 (s2 (s1 (pc (quo v (cw 8#32))))))) v (ix2 n l) = win 8 (fun t => Ideal.div (v (ix2 t l)) (((cnt 8 t : ℕ) : ℝ) : EReal)) n - v (ix2 n l) := by
  have := n.isLt
  rw [outw_at, s8_at _ _ _ (by show 7 ≤ 8 + n.val; omega) (by show 8 + n.val < 2057; omega)]
  simp only [quo_at v 8#32 8 cntK8]
  rw [win8 _ n (A1 _) (A2 _) (A4 _) (A8 _) (fun _ => rfl) (fun _ _ => rfl) (fun _ _ => rfl) (fun _ _ => rfl)]
end

end Cert.Step.Pool
-- ==== Proof.PoolKer.lean ====
module
/- The kernel's pieces, read at an index. -/

public import proofs.«01_k».proof.Proof.PoolKerWin

@[expose] public section
set_option maxRecDepth 16384
set_option maxHeartbeats 2000000
noncomputable section
open Idealize.ShloMosaic Idealize.ShloMosaic.TcCoe
namespace Cert.Step.Pool
open Cert.PoolIdeal Cert.PoolIdeal.Gen

section
variable (a : FVec Ideal S512x1024 .bf16) (b : FVec Ideal S2048x1024 .bf16) (t : Fin 2048) (l : Fin 128)
theorem pay11_at : k0_pay11 a b (ix2 t l) = ∑ k : Fin 1024, b (ix2 t k) * a (ix2 (⟨128 + l.val, by omega⟩ : Fin 512) k) := by
  pointwise [k0_pay11]
theorem pay19_at : k0_pay19 a b (ix2 t l) = ∑ k : Fin 1024, b (ix2 t k) * a (ix2 (⟨256 + l.val, by omega⟩ : Fin 512) k) := by
  pointwise [k0_pay19]
theorem pay25_at : k0_pay25 a b (ix2 t l) = ∑ k : Fin 1024, b (ix2 t k) * a (ix2 (⟨384 + l.val, by omega⟩ : Fin 512) k) := by
  pointwise [k0_pay25]
end

theorem pay4_at (v0 v2 v4 v6 v8 v10 v12 v14 : Vec Ideal S1x512x128 .bf16) (v17 : Vec Ideal S2048x1024 .bf16) (t : Fin 2048) (l : Fin 128) :
    k0_pay4 (F := Ideal) v0 v2 v4 v6 v8 v10 v12 v14 v17 (ix2 t l) = ∑ k : Fin 1024, k0_pay3 (F := Ideal) v17 (ix2 t k) * k0_pay2 (F := Ideal) v0 v2 v4 v6 v8 v10 v12 v14 (ix2 (⟨l.val, by omega⟩ : Fin 512) k) := by
  unfold k0_pay4
  generalize k0_pay3 (F := Ideal) v17 = b
  generalize k0_pay2 (F := Ideal) v0 v2 v4 v6 v8 v10 v12 v14 = a
  pointwise []

theorem pay3_at (v : FVec Ideal S2048x1024 .bf16) (t : Fin 2048) (k : Fin 1024) : k0_pay3 (F := Ideal) v (ix2 t k) = v (ix2 t k) := by
  pointwise [k0_pay3]

/-- A column of a group, times the scale. -/
theorem pay8_at (v : FVec Ideal S2048x128 .f32) (s : FVec Ideal S1x128 .f32) (t : Fin 2048) (l : Fin 128) : k0_pay8 v s (ix2 t l) = v (ix2 t l) * s (ix2 (0 : Fin 1) l) := by
  pointwise [k0_pay8]
theorem pay29_at (v : FVec Ideal S2048x128 .f32) (s : FVec Ideal S1x128 .f32) (t : Fin 2048) (l : Fin 128) : k0_pay29 v s (ix2 t l) = v (ix2 t l) * s (ix2 (0 : Fin 1) l) := by
  pointwise [k0_pay29]
theorem pay14_at (a : FVec Ideal S512x1024 .bf16) (b : FVec Ideal S2048x1024 .bf16) (s : FVec Ideal S1x128 .f32) (t : Fin 2048) (l : Fin 128) : k0_pay14 a b s (ix2 t l) = k0_pay11 a b (ix2 t l) * s (ix2 (0 : Fin 1) l) := by
  unfold k0_pay14
  generalize k0_pay11 a b = v
  pointwise []
theorem pay22_at (a : FVec Ideal S512x1024 .bf16) (b : FVec Ideal S2048x1024 .bf16) (s : FVec Ideal S1x128 .f32) (t : Fin 2048) (l : Fin 128) : k0_pay22 a b s (ix2 t l) = k0_pay19 a b (ix2 t l) * s (ix2 (0 : Fin 1) l) := by
  unfold k0_pay22
  generalize k0_pay19 a b = v
  pointwise []

/-- The derivative of a group's product. -/
def dmat (e : FVec Ideal S2048x128 .bf16) (w : FVec Ideal S1x128x128 .bf16) : FVec Ideal S2048x128 .f32 :=
  matmul dot_S2048x128_S128x128_S2048x128_1_1_0_0_n_n none e (shapeCast S128x128 w shapeCasts_S1x128x128_S128x128) (constant S2048x128 .f32 0x00000000#32)
theorem dmat_at (e : FVec Ideal S2048x128 .bf16) (w : FVec Ideal S1x128x128 .bf16) (t : Fin 2048) (c : Fin 128) : dmat e w (ix2 t c) = ∑ d : Fin 128, e (ix2 t d) * w (ix3 (0 : Fin 1) c d) := by
  pointwise [dmat]
/-- The derivative of a group's weight. -/
def wmat (p e : FVec Ideal S2048x128 .bf16) : FVec Ideal S1x128x128 .f32 :=
  shapeCast S1x128x128 (matmul dot_S2048x128_S2048x128_S128x128_0_0_1_1_n_n none p e (constant S128x128 .f32 0x00000000#32)) shapeCasts_S128x128_S1x128x128
theorem wmat_at (p e : FVec Ideal S2048x128 .bf16) (c d : Fin 128) : wmat p e (ix3 (0 : Fin 1) c d) = ∑ t : Fin 2048, p (ix2 t c) * e (ix2 t d) := by
  pointwise [wmat]
/-- A group's product. -/
def pmat (p : FVec Ideal S2048x128 .bf16) (w : FVec Ideal S1x128x128 .bf16) : FVec Ideal S2048x128 .f32 :=
  matmul dot_S2048x128_S128x128_S2048x128_1_0_0_1_n_n none p (shapeCast S128x128 w shapeCasts_S1x128x128_S128x128) (constant S2048x128 .f32 0x00000000#32)
theorem pmat_at (p : FVec Ideal S2048x128 .bf16) (w : FVec Ideal S1x128x128 .bf16) (t : Fin 2048) (d : Fin 128) : pmat p w (ix2 t d) = ∑ c : Fin 128, p (ix2 t c) * w (ix3 (0 : Fin 1) c d) := by
  pointwise [pmat]
theorem pay5_at (v : FVec Ideal S2048x128 .bf16) (t : Fin 2048) (l : Fin 128) : k0_pay5 (F := Ideal) v (ix2 t l) = v (ix2 t l) := by
  pointwise [k0_pay5]
theorem pay7_at (v q : FVec Ideal S2048x128 .f32) (l : Fin 128) : k0_pay7 v q (ix2 (0 : Fin 1) l) = ∑ t : Fin 2048, v (ix2 t l) * q (ix2 t l) := by
  pointwise [k0_pay7]

section
variable (a : FVec Ideal S512x1024 .bf16) (b : FVec Ideal S2048x1024 .bf16) (v : FVec Ideal S2048x128 .f32) (s : FVec Ideal S1x128 .f32) (w : FVec Ideal S1x128x128 .bf16) (p : FVec Ideal S2048x128 .bf16)
theorem pay10_eq : k0_pay10 (F := Ideal) v s w = outw (s1 (pc (quo (dmat (k0_pay8 (F := Ideal) v s) w) (cw 1#32)))) (dmat (k0_pay8 (F := Ideal) v s) w) := rfl
theorem pay18_eq : k0_pay18 (F := Ideal) (k0_pay16 (F := Ideal) a b s w) k0_pay17 = outw (s2 (s1 (pc (quo (dmat (k0_pay14 (F := Ideal) a b s) w) (cw 2#32))))) (dmat (k0_pay14 (F := Ideal) a b s) w) := rfl
theorem pay24_eq : k0_pay24 (F := Ideal) p w = outw (s4 (s2 (s1 (pc (quo (dmat p w) (cw 4#32)))))) (dmat p w) := rfl
theorem pay1_eq : k0_pay1 (F := Ideal) (k0_pay31 (F := Ideal) v s w) (k0_pay32 (F := Ideal) v s w) 2#32 = outw (s8 (s4 (s2 (s1 (pc (quo (dmat (k0_pay29 (F := Ideal) v s) w) (cw 8#32))))))) (dmat (k0_pay29 (F := Ideal) v s) w) := rfl
theorem pay9_eq (q : FVec Ideal S2048x128 .bf16) : k0_pay9 (F := Ideal) v q s = wmat q (k0_pay8 (F := Ideal) v s) := rfl
theorem pay30_eq (q : FVec Ideal S2048x128 .bf16) : k0_pay30 (F := Ideal) v q s = wmat q (k0_pay29 (F := Ideal) v s) := rfl
theorem pay15_eq : k0_pay15 (F := Ideal) a b p s = wmat (k0_pay5 (F := Ideal) p) (k0_pay14 (F := Ideal) a b s) := rfl
theorem pay23_eq : k0_pay23 (F := Ideal) a b p s = wmat (k0_pay5 (F := Ideal) p) (k0_pay22 (F := Ideal) a b s) := rfl
theorem pay6_eq : k0_pay6 (F := Ideal) p w = pmat (k0_pay5 (F := Ideal) p) w := rfl
theorem pay27_eq : k0_pay27 (F := Ideal) p w = pmat (k0_pay5 (F := Ideal) p) w := rfl
theorem pay26_eq : k0_pay26 (F := Ideal) p = k0_pay5 (F := Ideal) p := rfl
theorem pay28_eq (q : FVec Ideal S2048x128 .f32) : k0_pay28 (F := Ideal) v q = k0_pay7 (F := Ideal) v q := rfl
theorem pay13_eq : k0_pay13 (F := Ideal) a b p w = k0_pay7 (F := Ideal) (k0_pay11 (F := Ideal) a b) (pmat (k0_pay5 (F := Ideal) p) w) := rfl
theorem pay21_eq : k0_pay21 (F := Ideal) a b p w = k0_pay7 (F := Ideal) (k0_pay19 (F := Ideal) a b) (pmat (k0_pay5 (F := Ideal) p) w) := rfl
end

end Cert.Step.Pool
-- ==== Proof.PoolOut.lean ====
module
/- The kernel's three results, piece by piece, are the reference's. -/

public import proofs.«01_k».proof.Proof.PoolKer
public import proofs.«01_k».proof.Proof.PoolRefVal

@[expose] public section
set_option maxRecDepth 16384
set_option maxHeartbeats 2000000
noncomputable section
open Idealize.ShloMosaic Idealize.ShloMosaic.TcCoe
namespace Cert.Step.Pool
open Cert.PoolIdeal Cert.PoolIdeal.Gen
open Cert.PoolRefIdeal.Read (val_main_v122 val_main_v145 val_main_v146 val_main_v206 val_main_v207)

/-- The shard a column of the output matrix lies in, and its place there. -/
def kdiv (k : Fin 1024) : Fin 8 := ⟨k.val / 128, by omega⟩
def kmod (k : Fin 1024) : Fin 128 := ⟨k.val % 128, by omega⟩

/-! The rectangles of the kernel's loads and stores. -/
theorem emb0 (n : Fin 512) (l : Fin 128) : r0_0.emb (ix3 (0 : Fin 1) n l : S1x512x128.Idx) = (ix3 (0 : Fin 8) n l : S8x512x128.Idx) := funext fun a => Fin.ext (match a with
  | ⟨0, _⟩ => by show 0 + 1 * 0 = 0; omega
  | ⟨1, _⟩ => by show 0 + 1 * n.val = n.val; omega
  | ⟨2, _⟩ => by show 0 + 1 * l.val = l.val; omega)
theorem emb1 (n : Fin 512) (l : Fin 128) : r0_1.emb (ix3 (0 : Fin 1) n l : S1x512x128.Idx) = (ix3 (1 : Fin 8) n l : S8x512x128.Idx) := funext fun a => Fin.ext (match a with
  | ⟨0, _⟩ => by show 1 + 1 * 0 = 1; omega
  | ⟨1, _⟩ => by show 0 + 1 * n.val = n.val; omega
  | ⟨2, _⟩ => by show 0 + 1 * l.val = l.val; omega)
theorem emb2 (n : Fin 512) (l : Fin 128) : r0_2.emb (ix3 (0 : Fin 1) n l : S1x512x128.Idx) = (ix3 (2 : Fin 8) n l : S8x512x128.Idx) := funext fun a => Fin.ext (match a with
  | ⟨0, _⟩ => by show 2 + 1 * 0 = 2; omega
  | ⟨1, _⟩ => by show 0 + 1 * n.val = n.val; omega
  | ⟨2, _⟩ => by show 0 + 1 * l.val = l.val; omega)
theorem emb3 (n : Fin 512) (l : Fin 128) : r0_3.emb (ix3 (0 : Fin 1) n l : S1x512x128.Idx) = (ix3 (3 : Fin 8) n l : S8x512x128.Idx) := funext fun a => Fin.ext (match a with
  | ⟨0, _⟩ => by show 3 + 1 * 0 = 3; omega
  | ⟨1, _⟩ => by show 0 + 1 * n.val = n.val; omega
  | ⟨2, _⟩ => by show 0 + 1 * l.val = l.val; omega)
theorem emb4 (n : Fin 512) (l : Fin 128) : r0_4.emb (ix3 (0 : Fin 1) n l : S1x512x128.Idx) = (ix3 (4 : Fin 8) n l : S8x512x128.Idx) := funext fun a => Fin.ext (match a with
  | ⟨0, _⟩ => by show 4 + 1 * 0 = 4; omega
  | ⟨1, _⟩ => by show 0 + 1 * n.val = n.val; omega
  | ⟨2, _⟩ => by show 0 + 1 * l.val = l.val; omega)
theorem emb5 (n : Fin 512) (l : Fin 128) : r0_5.emb (ix3 (0 : Fin 1) n l : S1x512x128.Idx) = (ix3 (5 : Fin 8) n l : S8x512x128.Idx) := funext fun a => Fin.ext (match a with
  | ⟨0, _⟩ => by show 5 + 1 * 0 = 5; omega
  | ⟨1, _⟩ => by show 0 + 1 * n.val = n.val; omega
  | ⟨2, _⟩ => by show 0 + 1 * l.val = l.val; omega)
theorem emb6 (n : Fin 512) (l : Fin 128) : r0_6.emb (ix3 (0 : Fin 1) n l : S1x512x128.Idx) = (ix3 (6 : Fin 8) n l : S8x512x128.Idx) := funext fun a => Fin.ext (match a with
  | ⟨0, _⟩ => by show 6 + 1 * 0 = 6; omega
  | ⟨1, _⟩ => by show 0 + 1 * n.val = n.val; omega
  | ⟨2, _⟩ => by show 0 + 1 * l.val = l.val; omega)
theorem emb7 (n : Fin 512) (l : Fin 128) : r0_7.emb (ix3 (0 : Fin 1) n l : S1x512x128.Idx) = (ix3 (7 : Fin 8) n l : S8x512x128.Idx) := funext fun a => Fin.ext (match a with
  | ⟨0, _⟩ => by show 7 + 1 * 0 = 7; omega
  | ⟨1, _⟩ => by show 0 + 1 * n.val = n.val; omega
  | ⟨2, _⟩ => by show 0 + 1 * l.val = l.val; omega)
theorem emb9 (n : Fin 2048) (l : Fin 128) : r0_9.emb (ix2 n l : S2048x128.Idx) = (ix2 n (gcol 0 l) : S2048x512.Idx) := funext fun a => Fin.ext (match a with
  | ⟨0, _⟩ => by show 0 + 1 * n.val = n.val; omega
  | ⟨1, _⟩ => by show 0 + 1 * l.val = 128 * 0 + l.val; omega)
theorem emb12 (n : Fin 2048) (l : Fin 128) : r0_12.emb (ix2 n l : S2048x128.Idx) = (ix2 n (gcol 1 l) : S2048x512.Idx) := funext fun a => Fin.ext (match a with
  | ⟨0, _⟩ => by show 0 + 1 * n.val = n.val; omega
  | ⟨1, _⟩ => by show 128 + 1 * l.val = 128 * 1 + l.val; omega)
theorem emb15 (n : Fin 2048) (l : Fin 128) : r0_15.emb (ix2 n l : S2048x128.Idx) = (ix2 n (gcol 2 l) : S2048x512.Idx) := funext fun a => Fin.ext (match a with
  | ⟨0, _⟩ => by show 0 + 1 * n.val = n.val; omega
  | ⟨1, _⟩ => by show 256 + 1 * l.val = 128 * 2 + l.val; omega)
theorem emb18 (n : Fin 2048) (l : Fin 128) : r0_18.emb (ix2 n l : S2048x128.Idx) = (ix2 n (gcol 3 l) : S2048x512.Idx) := funext fun a => Fin.ext (match a with
  | ⟨0, _⟩ => by show 0 + 1 * n.val = n.val; omega
  | ⟨1, _⟩ => by show 384 + 1 * l.val = 128 * 3 + l.val; omega)
theorem emb10 (n : Fin 128) (l : Fin 128) : r0_10.emb (ix3 (0 : Fin 1) n l : S1x128x128.Idx) = (ix3 (0 : Fin 4) n l : S4x128x128.Idx) := funext fun a => Fin.ext (match a with
  | ⟨0, _⟩ => by show 0 + 1 * 0 = 0; omega
  | ⟨1, _⟩ => by show 0 + 1 * n.val = n.val; omega
  | ⟨2, _⟩ => by show 0 + 1 * l.val = l.val; omega)
theorem emb13 (n : Fin 128) (l : Fin 128) : r0_13.emb (ix3 (0 : Fin 1) n l : S1x128x128.Idx) = (ix3 (1 : Fin 4) n l : S4x128x128.Idx) := funext fun a => Fin.ext (match a with
  | ⟨0, _⟩ => by show 1 + 1 * 0 = 1; omega
  | ⟨1, _⟩ => by show 0 + 1 * n.val = n.val; omega
  | ⟨2, _⟩ => by show 0 + 1 * l.val = l.val; omega)
theorem emb16 (n : Fin 128) (l : Fin 128) : r0_16.emb (ix3 (0 : Fin 1) n l : S1x128x128.Idx) = (ix3 (2 : Fin 4) n l : S4x128x128.Idx) := funext fun a => Fin.ext (match a with
  | ⟨0, _⟩ => by show 2 + 1 * 0 = 2; omega
  | ⟨1, _⟩ => by show 0 + 1 * n.val = n.val; omega
  | ⟨2, _⟩ => by show 0 + 1 * l.val = l.val; omega)
theorem emb19 (n : Fin 128) (l : Fin 128) : r0_19.emb (ix3 (0 : Fin 1) n l : S1x128x128.Idx) = (ix3 (3 : Fin 4) n l : S4x128x128.Idx) := funext fun a => Fin.ext (match a with
  | ⟨0, _⟩ => by show 3 + 1 * 0 = 3; omega
  | ⟨1, _⟩ => by show 0 + 1 * n.val = n.val; omega
  | ⟨2, _⟩ => by show 0 + 1 * l.val = l.val; omega)
theorem emb11 (n : Fin 1) (l : Fin 128) : r0_11.emb (ix2 n l : S1x128.Idx) = (ix2 n (gcol 0 l) : S1x512.Idx) := funext fun a => Fin.ext (match a with
  | ⟨0, _⟩ => by show 0 + 1 * n.val = n.val; omega
  | ⟨1, _⟩ => by show 0 + 1 * l.val = 128 * 0 + l.val; omega)
theorem emb14 (n : Fin 1) (l : Fin 128) : r0_14.emb (ix2 n l : S1x128.Idx) = (ix2 n (gcol 1 l) : S1x512.Idx) := funext fun a => Fin.ext (match a with
  | ⟨0, _⟩ => by show 0 + 1 * n.val = n.val; omega
  | ⟨1, _⟩ => by show 128 + 1 * l.val = 128 * 1 + l.val; omega)
theorem emb17 (n : Fin 1) (l : Fin 128) : r0_17.emb (ix2 n l : S1x128.Idx) = (ix2 n (gcol 2 l) : S1x512.Idx) := funext fun a => Fin.ext (match a with
  | ⟨0, _⟩ => by show 0 + 1 * n.val = n.val; omega
  | ⟨1, _⟩ => by show 256 + 1 * l.val = 128 * 2 + l.val; omega)
theorem emb20 (n : Fin 1) (l : Fin 128) : r0_20.emb (ix2 n l : S1x128.Idx) = (ix2 n (gcol 3 l) : S1x512.Idx) := funext fun a => Fin.ext (match a with
  | ⟨0, _⟩ => by show 0 + 1 * n.val = n.val; omega
  | ⟨1, _⟩ => by show 384 + 1 * l.val = 128 * 3 + l.val; omega)
theorem emb8 (n : Fin 2048) (k : Fin 1024) : r0_8.emb (ix2 n k : S2048x1024.Idx) = (ix2 n k : S2048x1024.Idx) := funext fun a => Fin.ext (match a with
  | ⟨0, _⟩ => by show 0 + 1 * n.val = n.val; omega
  | ⟨1, _⟩ => by show 0 + 1 * k.val = k.val; omega)

/-! The kernel's blocks hold the arguments: `x0` the cotangent, `x1` the output matrix, `x2` the pooled rows, `x3` the groups'
   weights, `x4` the scale. -/
section
variable (u : S2048x512.Idx → EReal) (w : S4x128x128.Idx → EReal) (sc : S512.Idx → EReal) (wp : S512x1024.Idx → EReal) (ct : S2048x1024.Idx → EReal)
variable (x0 : Vec Ideal S2048x1024 .bf16) (x1 : Vec Ideal S8x512x128 .bf16) (x2 : Vec Ideal S2048x512 .bf16) (x3 : Vec Ideal S4x128x128 .bf16) (x4 : Vec Ideal S1x512 .f32)
variable (hC : ∀ t k, x0 (ix2 t k) = ct (ix2 t k))
variable (hW : ∀ (j : Fin 512) (k : Fin 1024), x1 (ix3 (kdiv k) j (kmod k)) = wp (ix2 j k))
variable (hP : ∀ (t : Fin 2048) (j : Fin 512), x2 (ix2 t j) = val_main_v122 (F := Ideal) u (ix3 (0 : Fin 1) t j))
variable (hV : ∀ (g : Fin 4) (c d : Fin 128), x3 (ix3 g c d) = w (ix3 g c d))
variable (hS : ∀ j : Fin 512, x4 (ix2 (0 : Fin 1) j) = sc (ix1 j))

include hC in
theorem pay34_at (t : Fin 2048) (k : Fin 1024) : k0_pay34 (F := Ideal) x0 x1 x2 x3 x4 (ix2 t k) = ct (ix2 t k) := by
  unfold k0_pay34
  rw [pay3_at, ← hC]
  exact congrArg x0 (emb8 t k)

include hW in
theorem pay33_at (j : Fin 512) (k : Fin 1024) : k0_pay33 (F := Ideal) x0 x1 x2 x3 x4 (ix2 j k) = wp (ix2 j k) := by
  rw [← hW]
  unfold k0_pay33
  have h0 : ∀ (n : Fin 512) (l : Fin 128), View.ld x1 r0_0 (ix3 (0 : Fin 1) n l) = x1 (ix3 (0 : Fin 8) n l) := fun n l => congrArg x1 (emb0 n l)
  have h1 : ∀ (n : Fin 512) (l : Fin 128), View.ld x1 r0_1 (ix3 (0 : Fin 1) n l) = x1 (ix3 (1 : Fin 8) n l) := fun n l => congrArg x1 (emb1 n l)
  have h2 : ∀ (n : Fin 512) (l : Fin 128), View.ld x1 r0_2 (ix3 (0 : Fin 1) n l) = x1 (ix3 (2 : Fin 8) n l) := fun n l => congrArg x1 (emb2 n l)
  have h3 : ∀ (n : Fin 512) (l : Fin 128), View.ld x1 r0_3 (ix3 (0 : Fin 1) n l) = x1 (ix3 (3 : Fin 8) n l) := fun n l => congrArg x1 (emb3 n l)
  have h4 : ∀ (n : Fin 512) (l : Fin 128), View.ld x1 r0_4 (ix3 (0 : Fin 1) n l) = x1 (ix3 (4 : Fin 8) n l) := fun n l => congrArg x1 (emb4 n l)
  have h5 : ∀ (n : Fin 512) (l : Fin 128), View.ld x1 r0_5 (ix3 (0 : Fin 1) n l) = x1 (ix3 (5 : Fin 8) n l) := fun n l => congrArg x1 (emb5 n l)
  have h6 : ∀ (n : Fin 512) (l : Fin 128), View.ld x1 r0_6 (ix3 (0 : Fin 1) n l) = x1 (ix3 (6 : Fin 8) n l) := fun n l => congrArg x1 (emb6 n l)
  have h7 : ∀ (n : Fin 512) (l : Fin 128), View.ld x1 r0_7 (ix3 (0 : Fin 1) n l) = x1 (ix3 (7 : Fin 8) n l) := fun n l => congrArg x1 (emb7 n l)
  generalize View.ld x1 r0_0 = y0 at h0 ⊢
  generalize View.ld x1 r0_1 = y1 at h1 ⊢
  generalize View.ld x1 r0_2 = y2 at h2 ⊢
  generalize View.ld x1 r0_3 = y3 at h3 ⊢
  generalize View.ld x1 r0_4 = y4 at h4 ⊢
  generalize View.ld x1 r0_5 = y5 at h5 ⊢
  generalize View.ld x1 r0_6 = y6 at h6 ⊢
  generalize View.ld x1 r0_7 = y7 at h7 ⊢
  obtain ⟨q, l, rfl⟩ : ∃ (q : Fin 8) (l : Fin 128), k = (⟨128 * q.val + l.val, by omega⟩ : Fin 1024) :=
    ⟨⟨k.val / 128, by omega⟩, ⟨k.val % 128, by omega⟩, Fin.ext (by show k.val = 128 * (k.val / 128) + k.val % 128; omega)⟩
  have e1 : kdiv ⟨128 * q.val + l.val, by omega⟩ = q := Fin.ext (by show (128 * q.val + l.val) / 128 = q.val; omega)
  have e2 : kmod ⟨128 * q.val + l.val, by omega⟩ = l := Fin.ext (by show (128 * q.val + l.val) % 128 = l.val; omega)
  refine Eq.trans ?_ (congrArg₂ (fun a b => x1 (ix3 a j b)) e1 e2).symm
  fin_cases q
  · refine Eq.trans ?_ (h0 j l)
    pointwise [k0_pay2]
  · refine Eq.trans ?_ (h1 j l)
    pointwise [k0_pay2]
  · refine Eq.trans ?_ (h2 j l)
    pointwise [k0_pay2]
    rw [dif_neg (by omega), dif_neg (by omega), dif_pos (by omega)]
    exact congrArg (fun b => y2 (ix3 (0 : Fin 1) j b)) (Fin.ext (by dsimp only; omega))
  · refine Eq.trans ?_ (h3 j l)
    pointwise [k0_pay2]
    rw [dif_neg (by omega), dif_neg (by omega), dif_neg (by omega), dif_pos (by omega)]
    exact congrArg (fun b => y3 (ix3 (0 : Fin 1) j b)) (Fin.ext (by dsimp only; omega))
  · refine Eq.trans ?_ (h4 j l)
    pointwise [k0_pay2]
    rw [dif_neg (by omega), dif_neg (by omega), dif_neg (by omega), dif_neg (by omega), dif_pos (by omega)]
    exact congrArg (fun b => y4 (ix3 (0 : Fin 1) j b)) (Fin.ext (by dsimp only; omega))
  · refine Eq.trans ?_ (h5 j l)
    pointwise [k0_pay2]
    rw [dif_neg (by omega), dif_neg (by omega), dif_neg (by omega), dif_neg (by omega), dif_neg (by omega), dif_pos (by omega)]
    exact congrArg (fun b => y5 (ix3 (0 : Fin 1) j b)) (Fin.ext (by dsimp only; omega))
  · refine Eq.trans ?_ (h6 j l)
    pointwise [k0_pay2]
    rw [dif_neg (by omega), dif_neg (by omega), dif_neg (by omega), dif_neg (by omega), dif_neg (by omega), dif_neg (by omega), dif_pos (by omega)]
    exact congrArg (fun b => y6 (ix3 (0 : Fin 1) j b)) (Fin.ext (by dsimp only; omega))
  · refine Eq.trans ?_ (h7 j l)
    pointwise [k0_pay2]
    rw [dif_neg (by omega), dif_neg (by omega), dif_neg (by omega), dif_neg (by omega), dif_neg (by omega), dif_neg (by omega), dif_neg (by omega)]
    exact congrArg (fun b => y7 (ix3 (0 : Fin 1) j b)) (Fin.ext (by dsimp only; omega))

include hC hW in
theorem dy0_at (t : Fin 2048) (l : Fin 128) : k0_pay35 (F := Ideal) x0 x1 x2 x3 x4 (ix2 t l) = dyE wp ct t (gcol 0 l) := by
  refine (pay4_at _ _ _ _ _ _ _ _ _ t l).trans (Finset.sum_congr rfl fun k _ => ?_)
  refine congrArg₂ (· * ·) (pay34_at ct x0 x1 x2 x3 x4 hC t k) ((pay33_at wp x0 x1 x2 x3 x4 hW _ k).trans (congrArg (fun j => wp (ix2 j k)) (Fin.ext ?_)))
  show l.val = 128 * 0 + l.val
  omega

include hC hW in
theorem dy1_at (t : Fin 2048) (l : Fin 128) : k0_pay11 (k0_pay33 (F := Ideal) x0 x1 x2 x3 x4) (k0_pay34 (F := Ideal) x0 x1 x2 x3 x4) (ix2 t l) = dyE wp ct t (gcol 1 l) := by
  refine (pay11_at _ _ t l).trans (Finset.sum_congr rfl fun k _ => ?_)
  exact congrArg₂ (· * ·) (pay34_at ct x0 x1 x2 x3 x4 hC t k) (pay33_at wp x0 x1 x2 x3 x4 hW _ k)

include hC hW in
theorem dy2_at (t : Fin 2048) (l : Fin 128) : k0_pay19 (k0_pay33 (F := Ideal) x0 x1 x2 x3 x4) (k0_pay34 (F := Ideal) x0 x1 x2 x3 x4) (ix2 t l) = dyE wp ct t (gcol 2 l) := by
  refine (pay19_at _ _ t l).trans (Finset.sum_congr rfl fun k _ => ?_)
  exact congrArg₂ (· * ·) (pay34_at ct x0 x1 x2 x3 x4 hC t k) (pay33_at wp x0 x1 x2 x3 x4 hW _ k)

include hC hW in
theorem dy3_at (t : Fin 2048) (l : Fin 128) : k0_pay25 (k0_pay33 (F := Ideal) x0 x1 x2 x3 x4) (k0_pay34 (F := Ideal) x0 x1 x2 x3 x4) (ix2 t l) = dyE wp ct t (gcol 3 l) := by
  refine (pay25_at _ _ t l).trans (Finset.sum_congr rfl fun k _ => ?_)
  exact congrArg₂ (· * ·) (pay34_at ct x0 x1 x2 x3 x4 hC t k) (pay33_at wp x0 x1 x2 x3 x4 hW _ k)

/-! Group 0. -/
include hC hW hS in
theorem de0_at (t : Fin 2048) (l : Fin 128) : k0_pay8 (F := Ideal) (k0_pay35 x0 x1 x2 x3 x4) (View.ld x4 r0_11) (ix2 t l) = dyE wp ct t (gcol 0 l) * sc (ix1 (gcol 0 l)) :=
  (pay8_at _ _ t l).trans (congrArg₂ (· * ·) (dy0_at wp ct x0 x1 x2 x3 x4 hC hW t l) ((congrArg x4 (emb11 0 l)).trans (hS _)))

include hC hW hV hS in
theorem dp0_at (t : Fin 2048) (c : Fin 128) : dmat (k0_pay8 (F := Ideal) (k0_pay35 x0 x1 x2 x3 x4) (View.ld x4 r0_11)) (View.ld x3 r0_10) (ix2 t c) = dpE w sc wp ct 0 t c :=
  (dmat_at _ _ t c).trans (Finset.sum_congr rfl fun d _ => congrArg₂ (· * ·) (de0_at sc wp ct x0 x1 x2 x3 x4 hC hW hS t d) ((congrArg x3 (emb10 c d)).trans (hV _ _ _)))

include hP in
theorem pm0_at (t : Fin 2048) (l : Fin 128) : k0_pay5 (F := Ideal) (View.ld x2 r0_9) (ix2 t l) = val_main_v122 (F := Ideal) u (ix3 (0 : Fin 1) t (gcol 0 l)) :=
  (pay5_at _ t l).trans ((congrArg x2 (emb9 t l)).trans (hP _ _))

include hC hW hV hS in
theorem du0_eq (r : Fin 2048 → Fin 128 → ℝ) (hr : ∀ t c, dpE w sc wp ct 0 t c = ((r t c : ℝ) : EReal)) (n : Fin 2048) (l : Fin 128)
    (z : FVec Ideal S2048x128 .bf16) (hz : z (ix2 n l) = win 1 (fun t => Ideal.div (dmat (k0_pay8 (F := Ideal) (k0_pay35 x0 x1 x2 x3 x4) (View.ld x4 r0_11)) (View.ld x3 r0_10) (ix2 t l)) (((cnt 1 t : ℕ) : ℝ) : EReal)) n - dmat (k0_pay8 (F := Ideal) (k0_pay35 x0 x1 x2 x3 x4) (View.ld x4 r0_11)) (View.ld x3 r0_10) (ix2 n l)) :
    z (ix2 n l) = val_main_v206 (F := Ideal) w sc wp ct (ix2 n (gcol 0 l)) := by
  rw [hz, du0 w sc wp ct n l (fun t => r t l) (fun t => (v146_at w sc wp ct 0 t l).trans (hr t l))]
  simp only [dp0_at w sc wp ct x0 x1 x2 x3 x4 hC hW hV hS, v146_at]

include hC hW hP hS in
theorem dw0_eq (c d : Fin 128) : wmat (k0_pay5 (F := Ideal) (View.ld x2 r0_9)) (k0_pay8 (F := Ideal) (k0_pay35 x0 x1 x2 x3 x4) (View.ld x4 r0_11)) (ix3 (0 : Fin 1) c d) = val_main_v145 (F := Ideal) u sc wp ct (ix3 0 c d) := by
  rw [v145_at]
  exact (wmat_at _ _ c d).trans (Finset.sum_congr rfl fun t _ => congrArg₂ (· * ·) (pm0_at u x2 hP t c) (de0_at sc wp ct x0 x1 x2 x3 x4 hC hW hS t d))

include hP hV in
theorem pv0_at (t : Fin 2048) (c : Fin 128) : pmat (k0_pay5 (F := Ideal) (View.ld x2 r0_9)) (View.ld x3 r0_10) (ix2 t c)
    = ∑ d : Fin 128, val_main_v122 (F := Ideal) u (ix3 (0 : Fin 1) t (gcol 0 d)) * w (ix3 0 d c) :=
  (pmat_at _ _ t c).trans (Finset.sum_congr rfl fun d _ => congrArg₂ (· * ·) (pm0_at u x2 hP t d) ((congrArg x3 (emb10 d c)).trans (hV _ _ _)))

/-! Group 1. -/
include hC hW hS in
theorem de1_at (t : Fin 2048) (l : Fin 128) : k0_pay14 (F := Ideal) (k0_pay33 x0 x1 x2 x3 x4) (k0_pay34 x0 x1 x2 x3 x4) (View.ld x4 r0_14) (ix2 t l) = dyE wp ct t (gcol 1 l) * sc (ix1 (gcol 1 l)) :=
  (pay14_at _ _ _ t l).trans (congrArg₂ (· * ·) (dy1_at wp ct x0 x1 x2 x3 x4 hC hW t l) ((congrArg x4 (emb14 0 l)).trans (hS _)))

include hC hW hV hS in
theorem dp1_at (t : Fin 2048) (c : Fin 128) : dmat (k0_pay14 (F := Ideal) (k0_pay33 x0 x1 x2 x3 x4) (k0_pay34 x0 x1 x2 x3 x4) (View.ld x4 r0_14)) (View.ld x3 r0_13) (ix2 t c) = dpE w sc wp ct 1 t c :=
  (dmat_at _ _ t c).trans (Finset.sum_congr rfl fun d _ => congrArg₂ (· * ·) (de1_at sc wp ct x0 x1 x2 x3 x4 hC hW hS t d) ((congrArg x3 (emb13 c d)).trans (hV _ _ _)))

include hP in
theorem pm1_at (t : Fin 2048) (l : Fin 128) : k0_pay5 (F := Ideal) (View.ld x2 r0_12) (ix2 t l) = val_main_v122 (F := Ideal) u (ix3 (0 : Fin 1) t (gcol 1 l)) :=
  (pay5_at _ t l).trans ((congrArg x2 (emb12 t l)).trans (hP _ _))

include hC hW hV hS in
theorem du1_eq (r : Fin 2048 → Fin 128 → ℝ) (hr : ∀ t c, dpE w sc wp ct 1 t c = ((r t c : ℝ) : EReal)) (n : Fin 2048) (l : Fin 128)
    (z : FVec Ideal S2048x128 .bf16) (hz : z (ix2 n l) = win 2 (fun t => Ideal.div (dmat (k0_pay14 (F := Ideal) (k0_pay33 x0 x1 x2 x3 x4) (k0_pay34 x0 x1 x2 x3 x4) (View.ld x4 r0_14)) (View.ld x3 r0_13) (ix2 t l)) (((cnt 2 t : ℕ) : ℝ) : EReal)) n - dmat (k0_pay14 (F := Ideal) (k0_pay33 x0 x1 x2 x3 x4) (k0_pay34 x0 x1 x2 x3 x4) (View.ld x4 r0_14)) (View.ld x3 r0_13) (ix2 n l)) :
    z (ix2 n l) = val_main_v206 (F := Ideal) w sc wp ct (ix2 n (gcol 1 l)) := by
  rw [hz, du1 w sc wp ct n l (fun t => r t l) (fun t => (v146_at w sc wp ct 1 t l).trans (hr t l))]
  simp only [dp1_at w sc wp ct x0 x1 x2 x3 x4 hC hW hV hS, v146_at]

include hC hW hP hS in
theorem dw1_eq (c d : Fin 128) : wmat (k0_pay5 (F := Ideal) (View.ld x2 r0_12)) (k0_pay14 (F := Ideal) (k0_pay33 x0 x1 x2 x3 x4) (k0_pay34 x0 x1 x2 x3 x4) (View.ld x4 r0_14)) (ix3 (0 : Fin 1) c d) = val_main_v145 (F := Ideal) u sc wp ct (ix3 1 c d) := by
  rw [v145_at]
  exact (wmat_at _ _ c d).trans (Finset.sum_congr rfl fun t _ => congrArg₂ (· * ·) (pm1_at u x2 hP t c) (de1_at sc wp ct x0 x1 x2 x3 x4 hC hW hS t d))

include hP hV in
theorem pv1_at (t : Fin 2048) (c : Fin 128) : pmat (k0_pay5 (F := Ideal) (View.ld x2 r0_12)) (View.ld x3 r0_13) (ix2 t c)
    = ∑ d : Fin 128, val_main_v122 (F := Ideal) u (ix3 (0 : Fin 1) t (gcol 1 d)) * w (ix3 1 d c) :=
  (pmat_at _ _ t c).trans (Finset.sum_congr rfl fun d _ => congrArg₂ (· * ·) (pm1_at u x2 hP t d) ((congrArg x3 (emb13 d c)).trans (hV _ _ _)))

/-! Group 2. -/
include hC hW hS in
theorem de2_at (t : Fin 2048) (l : Fin 128) : k0_pay22 (F := Ideal) (k0_pay33 x0 x1 x2 x3 x4) (k0_pay34 x0 x1 x2 x3 x4) (View.ld x4 r0_17) (ix2 t l) = dyE wp ct t (gcol 2 l) * sc (ix1 (gcol 2 l)) :=
  (pay22_at _ _ _ t l).trans (congrArg₂ (· * ·) (dy2_at wp ct x0 x1 x2 x3 x4 hC hW t l) ((congrArg x4 (emb17 0 l)).trans (hS _)))

include hC hW hV hS in
theorem dp2_at (t : Fin 2048) (c : Fin 128) : dmat (k0_pay22 (F := Ideal) (k0_pay33 x0 x1 x2 x3 x4) (k0_pay34 x0 x1 x2 x3 x4) (View.ld x4 r0_17)) (View.ld x3 r0_16) (ix2 t c) = dpE w sc wp ct 2 t c :=
  (dmat_at _ _ t c).trans (Finset.sum_congr rfl fun d _ => congrArg₂ (· * ·) (de2_at sc wp ct x0 x1 x2 x3 x4 hC hW hS t d) ((congrArg x3 (emb16 c d)).trans (hV _ _ _)))

include hP in
theorem pm2_at (t : Fin 2048) (l : Fin 128) : k0_pay5 (F := Ideal) (View.ld x2 r0_15) (ix2 t l) = val_main_v122 (F := Ideal) u (ix3 (0 : Fin 1) t (gcol 2 l)) :=
  (pay5_at _ t l).trans ((congrArg x2 (emb15 t l)).trans (hP _ _))

include hC hW hV hS in
theorem du2_eq (r : Fin 2048 → Fin 128 → ℝ) (hr : ∀ t c, dpE w sc wp ct 2 t c = ((r t c : ℝ) : EReal)) (n : Fin 2048) (l : Fin 128)
    (z : FVec Ideal S2048x128 .bf16) (hz : z (ix2 n l) = win 4 (fun t => Ideal.div (dmat (k0_pay22 (F := Ideal) (k0_pay33 x0 x1 x2 x3 x4) (k0_pay34 x0 x1 x2 x3 x4) (View.ld x4 r0_17)) (View.ld x3 r0_16) (ix2 t l)) (((cnt 4 t : ℕ) : ℝ) : EReal)) n - dmat (k0_pay22 (F := Ideal) (k0_pay33 x0 x1 x2 x3 x4) (k0_pay34 x0 x1 x2 x3 x4) (View.ld x4 r0_17)) (View.ld x3 r0_16) (ix2 n l)) :
    z (ix2 n l) = val_main_v206 (F := Ideal) w sc wp ct (ix2 n (gcol 2 l)) := by
  rw [hz, du2 w sc wp ct n l (fun t => r t l) (fun t => (v146_at w sc wp ct 2 t l).trans (hr t l))]
  simp only [dp2_at w sc wp ct x0 x1 x2 x3 x4 hC hW hV hS, v146_at]

include hC hW hP hS in
theorem dw2_eq (c d : Fin 128) : wmat (k0_pay5 (F := Ideal) (View.ld x2 r0_15)) (k0_pay22 (F := Ideal) (k0_pay33 x0 x1 x2 x3 x4) (k0_pay34 x0 x1 x2 x3 x4) (View.ld x4 r0_17)) (ix3 (0 : Fin 1) c d) = val_main_v145 (F := Ideal) u sc wp ct (ix3 2 c d) := by
  rw [v145_at]
  exact (wmat_at _ _ c d).trans (Finset.sum_congr rfl fun t _ => congrArg₂ (· * ·) (pm2_at u x2 hP t c) (de2_at sc wp ct x0 x1 x2 x3 x4 hC hW hS t d))

include hP hV in
theorem pv2_at (t : Fin 2048) (c : Fin 128) : pmat (k0_pay5 (F := Ideal) (View.ld x2 r0_15)) (View.ld x3 r0_16) (ix2 t c)
    = ∑ d : Fin 128, val_main_v122 (F := Ideal) u (ix3 (0 : Fin 1) t (gcol 2 d)) * w (ix3 2 d c) :=
  (pmat_at _ _ t c).trans (Finset.sum_congr rfl fun d _ => congrArg₂ (· * ·) (pm2_at u x2 hP t d) ((congrArg x3 (emb16 d c)).trans (hV _ _ _)))

/-! Group 3. -/
include hC hW hS in
theorem de3_at (t : Fin 2048) (l : Fin 128) : k0_pay29 (F := Ideal) (k0_pay36 x0 x1 x2 x3 x4) (View.ld x4 r0_20) (ix2 t l) = dyE wp ct t (gcol 3 l) * sc (ix1 (gcol 3 l)) :=
  (pay29_at _ _ t l).trans (congrArg₂ (· * ·) (dy3_at wp ct x0 x1 x2 x3 x4 hC hW t l) ((congrArg x4 (emb20 0 l)).trans (hS _)))

include hC hW hV hS in
theorem dp3_at (t : Fin 2048) (c : Fin 128) : dmat (k0_pay29 (F := Ideal) (k0_pay36 x0 x1 x2 x3 x4) (View.ld x4 r0_20)) (View.ld x3 r0_19) (ix2 t c) = dpE w sc wp ct 3 t c :=
  (dmat_at _ _ t c).trans (Finset.sum_congr rfl fun d _ => congrArg₂ (· * ·) (de3_at sc wp ct x0 x1 x2 x3 x4 hC hW hS t d) ((congrArg x3 (emb19 c d)).trans (hV _ _ _)))

include hP in
theorem pm3_at (t : Fin 2048) (l : Fin 128) : k0_pay5 (F := Ideal) (View.ld x2 r0_18) (ix2 t l) = val_main_v122 (F := Ideal) u (ix3 (0 : Fin 1) t (gcol 3 l)) :=
  (pay5_at _ t l).trans ((congrArg x2 (emb18 t l)).trans (hP _ _))

include hC hW hV hS in
theorem du3_eq (r : Fin 2048 → Fin 128 → ℝ) (hr : ∀ t c, dpE w sc wp ct 3 t c = ((r t c : ℝ) : EReal)) (n : Fin 2048) (l : Fin 128)
    (z : FVec Ideal S2048x128 .bf16) (hz : z (ix2 n l) = win 8 (fun t => Ideal.div (dmat (k0_pay29 (F := Ideal) (k0_pay36 x0 x1 x2 x3 x4) (View.ld x4 r0_20)) (View.ld x3 r0_19) (ix2 t l)) (((cnt 8 t : ℕ) : ℝ) : EReal)) n - dmat (k0_pay29 (F := Ideal) (k0_pay36 x0 x1 x2 x3 x4) (View.ld x4 r0_20)) (View.ld x3 r0_19) (ix2 n l)) :
    z (ix2 n l) = val_main_v206 (F := Ideal) w sc wp ct (ix2 n (gcol 3 l)) := by
  rw [hz, du3 w sc wp ct n l (fun t => r t l) (fun t => (v146_at w sc wp ct 3 t l).trans (hr t l))]
  simp only [dp3_at w sc wp ct x0 x1 x2 x3 x4 hC hW hV hS, v146_at]

include hC hW hP hS in
theorem dw3_eq (c d : Fin 128) : wmat (k0_pay5 (F := Ideal) (View.ld x2 r0_18)) (k0_pay29 (F := Ideal) (k0_pay36 x0 x1 x2 x3 x4) (View.ld x4 r0_20)) (ix3 (0 : Fin 1) c d) = val_main_v145 (F := Ideal) u sc wp ct (ix3 3 c d) := by
  rw [v145_at]
  exact (wmat_at _ _ c d).trans (Finset.sum_congr rfl fun t _ => congrArg₂ (· * ·) (pm3_at u x2 hP t c) (de3_at sc wp ct x0 x1 x2 x3 x4 hC hW hS t d))

include hP hV in
theorem pv3_at (t : Fin 2048) (c : Fin 128) : pmat (k0_pay5 (F := Ideal) (View.ld x2 r0_18)) (View.ld x3 r0_19) (ix2 t c)
    = ∑ d : Fin 128, val_main_v122 (F := Ideal) u (ix3 (0 : Fin 1) t (gcol 3 d)) * w (ix3 3 d c) :=
  (pmat_at _ _ t c).trans (Finset.sum_congr rfl fun d _ => congrArg₂ (· * ·) (pm3_at u x2 hP t d) ((congrArg x3 (emb19 d c)).trans (hV _ _ _)))

include hC hW hP hV in
theorem ds0_eq (c : Fin 128) : k0_pay7 (F := Ideal) (k0_pay35 x0 x1 x2 x3 x4) (pmat (k0_pay5 (F := Ideal) (View.ld x2 r0_9)) (View.ld x3 r0_10)) (ix2 (0 : Fin 1) c)
    = val_main_v207 (F := Ideal) u w wp ct (ix2 (0 : Fin 1) (gcol 0 c)) := by
  rw [v207_at]
  exact (pay7_at _ _ c).trans (Finset.sum_congr rfl fun t _ => congrArg₂ (· * ·) (dy0_at wp ct x0 x1 x2 x3 x4 hC hW t c) (pv0_at u w x2 x3 hP hV t c))

include hC hW hP hV in
theorem ds1_eq (c : Fin 128) : k0_pay7 (F := Ideal) (k0_pay11 (k0_pay33 x0 x1 x2 x3 x4) (k0_pay34 x0 x1 x2 x3 x4)) (pmat (k0_pay5 (F := Ideal) (View.ld x2 r0_12)) (View.ld x3 r0_13)) (ix2 (0 : Fin 1) c)
    = val_main_v207 (F := Ideal) u w wp ct (ix2 (0 : Fin 1) (gcol 1 c)) := by
  rw [v207_at]
  exact (pay7_at _ _ c).trans (Finset.sum_congr rfl fun t _ => congrArg₂ (· * ·) (dy1_at wp ct x0 x1 x2 x3 x4 hC hW t c) (pv1_at u w x2 x3 hP hV t c))

include hC hW hP hV in
theorem ds2_eq (c : Fin 128) : k0_pay7 (F := Ideal) (k0_pay19 (k0_pay33 x0 x1 x2 x3 x4) (k0_pay34 x0 x1 x2 x3 x4)) (pmat (k0_pay5 (F := Ideal) (View.ld x2 r0_15)) (View.ld x3 r0_16)) (ix2 (0 : Fin 1) c)
    = val_main_v207 (F := Ideal) u w wp ct (ix2 (0 : Fin 1) (gcol 2 c)) := by
  rw [v207_at]
  exact (pay7_at _ _ c).trans (Finset.sum_congr rfl fun t _ => congrArg₂ (· * ·) (dy2_at wp ct x0 x1 x2 x3 x4 hC hW t c) (pv2_at u w x2 x3 hP hV t c))

include hC hW hP hV in
theorem ds3_eq (c : Fin 128) : k0_pay7 (F := Ideal) (k0_pay25 (k0_pay33 x0 x1 x2 x3 x4) (k0_pay34 x0 x1 x2 x3 x4)) (pmat (k0_pay5 (F := Ideal) (View.ld x2 r0_18)) (View.ld x3 r0_19)) (ix2 (0 : Fin 1) c)
    = val_main_v207 (F := Ideal) u w wp ct (ix2 (0 : Fin 1) (gcol 3 c)) := by
  rw [v207_at]
  exact (pay7_at _ _ c).trans (Finset.sum_congr rfl fun t _ => congrArg₂ (· * ·) (dy3_at wp ct x0 x1 x2 x3 x4 hC hW t c) (pv3_at u w x2 x3 hP hV t c))

include hC hW hV hS in
/-- The derivative with respect to the input. -/
theorem out5_eq (r : Fin 4 → Fin 2048 → Fin 128 → ℝ) (hr : ∀ g t c, dpE w sc wp ct g t c = ((r g t c : ℝ) : EReal)) :
    out0_5 (F := Ideal) x0 x1 x2 x3 x4 = val_main_v206 (F := Ideal) w sc wp ct := by
  funext y
  refine View.canon_apply_of_pieces (Val := Elt Ideal) (S := S2048x512) (e := .bf16) (val_main_v206 (F := Ideal) w sc wp ct) _ (fun p hp => ?_) y (cover0_5 _ _ _ _ y)
  simp only [List.mem_cons, List.not_mem_nil, or_false] at hp
  rcases hp with rfl | rfl | rfl | rfl
  · refine fun (x : S2048x128.Idx) => ?_
    obtain ⟨n, l, rfl⟩ : ∃ (n : Fin 2048) (l : Fin 128), x = ix2 n l := ⟨x 0, x 1, eq_ix2 x⟩
    refine Eq.trans ?_ (congrArg (val_main_v206 (F := Ideal) w sc wp ct) (emb18 n l)).symm
    exact du3_eq w sc wp ct x0 x1 x2 x3 x4 hC hW hV hS (r 3) (hr 3) n l _ ((congrFun (pay1_eq _ _ _) _).trans (win8_at _ n l))
  · refine fun (x : S2048x128.Idx) => ?_
    obtain ⟨n, l, rfl⟩ : ∃ (n : Fin 2048) (l : Fin 128), x = ix2 n l := ⟨x 0, x 1, eq_ix2 x⟩
    refine Eq.trans ?_ (congrArg (val_main_v206 (F := Ideal) w sc wp ct) (emb15 n l)).symm
    exact du2_eq w sc wp ct x0 x1 x2 x3 x4 hC hW hV hS (r 2) (hr 2) n l _ ((congrFun (pay24_eq _ _) _).trans (win4_at _ n l))
  · refine fun (x : S2048x128.Idx) => ?_
    obtain ⟨n, l, rfl⟩ : ∃ (n : Fin 2048) (l : Fin 128), x = ix2 n l := ⟨x 0, x 1, eq_ix2 x⟩
    refine Eq.trans ?_ (congrArg (val_main_v206 (F := Ideal) w sc wp ct) (emb12 n l)).symm
    exact du1_eq w sc wp ct x0 x1 x2 x3 x4 hC hW hV hS (r 1) (hr 1) n l _ ((congrFun (pay18_eq _ _ _ _) _).trans (win2_at _ n l))
  · refine fun (x : S2048x128.Idx) => ?_
    obtain ⟨n, l, rfl⟩ : ∃ (n : Fin 2048) (l : Fin 128), x = ix2 n l := ⟨x 0, x 1, eq_ix2 x⟩
    refine Eq.trans ?_ (congrArg (val_main_v206 (F := Ideal) w sc wp ct) (emb9 n l)).symm
    exact du0_eq w sc wp ct x0 x1 x2 x3 x4 hC hW hV hS (r 0) (hr 0) n l _ ((congrFun (pay10_eq _ _ _) _).trans (win1_at _ n l))

include hC hW hP hS in
/-- The derivative with respect to the groups' weights. -/
theorem out6_eq : out0_6 (F := Ideal) x0 x1 x2 x3 x4 = val_main_v145 (F := Ideal) u sc wp ct := by
  funext y
  refine View.canon_apply_of_pieces (Val := Elt Ideal) (S := S4x128x128) (e := .f32) (val_main_v145 (F := Ideal) u sc wp ct) _ (fun p hp => ?_) y (cover0_6 _ _ _ _ y)
  simp only [List.mem_cons, List.not_mem_nil, or_false] at hp
  rcases hp with rfl | rfl | rfl | rfl
  · refine fun (x : S1x128x128.Idx) => ?_
    obtain ⟨n, l, rfl⟩ : ∃ (n l : Fin 128), x = ix3 (0 : Fin 1) n l := ⟨x 1, x 2, (eq_ix3 x).trans (congrArg (fun z => ix3 z (x 1) (x 2)) (Subsingleton.elim _ _))⟩
    refine Eq.trans ?_ (congrArg (val_main_v145 (F := Ideal) u sc wp ct) (emb19 n l)).symm
    exact dw3_eq u sc wp ct x0 x1 x2 x3 x4 hC hW hP hS n l
  · refine fun (x : S1x128x128.Idx) => ?_
    obtain ⟨n, l, rfl⟩ : ∃ (n l : Fin 128), x = ix3 (0 : Fin 1) n l := ⟨x 1, x 2, (eq_ix3 x).trans (congrArg (fun z => ix3 z (x 1) (x 2)) (Subsingleton.elim _ _))⟩
    refine Eq.trans ?_ (congrArg (val_main_v145 (F := Ideal) u sc wp ct) (emb16 n l)).symm
    exact dw2_eq u sc wp ct x0 x1 x2 x3 x4 hC hW hP hS n l
  · refine fun (x : S1x128x128.Idx) => ?_
    obtain ⟨n, l, rfl⟩ : ∃ (n l : Fin 128), x = ix3 (0 : Fin 1) n l := ⟨x 1, x 2, (eq_ix3 x).trans (congrArg (fun z => ix3 z (x 1) (x 2)) (Subsingleton.elim _ _))⟩
    refine Eq.trans ?_ (congrArg (val_main_v145 (F := Ideal) u sc wp ct) (emb13 n l)).symm
    exact dw1_eq u sc wp ct x0 x1 x2 x3 x4 hC hW hP hS n l
  · refine fun (x : S1x128x128.Idx) => ?_
    obtain ⟨n, l, rfl⟩ : ∃ (n l : Fin 128), x = ix3 (0 : Fin 1) n l := ⟨x 1, x 2, (eq_ix3 x).trans (congrArg (fun z => ix3 z (x 1) (x 2)) (Subsingleton.elim _ _))⟩
    refine Eq.trans ?_ (congrArg (val_main_v145 (F := Ideal) u sc wp ct) (emb10 n l)).symm
    exact dw0_eq u sc wp ct x0 x1 x2 x3 x4 hC hW hP hS n l

include hC hW hP hV in
/-- The derivative with respect to the scale. -/
theorem out7_eq : out0_7 (F := Ideal) x0 x1 x2 x3 x4 = val_main_v207 (F := Ideal) u w wp ct := by
  funext y
  refine View.canon_apply_of_pieces (Val := Elt Ideal) (S := S1x512) (e := .f32) (val_main_v207 (F := Ideal) u w wp ct) _ (fun p hp => ?_) y (cover0_7 _ _ _ _ y)
  simp only [List.mem_cons, List.not_mem_nil, or_false] at hp
  rcases hp with rfl | rfl | rfl | rfl
  · refine fun (x : S1x128.Idx) => ?_
    obtain ⟨l, rfl⟩ : ∃ (l : Fin 128), x = ix2 (0 : Fin 1) l := ⟨x 1, (eq_ix2 x).trans (congrArg (fun z => ix2 z (x 1)) (Subsingleton.elim _ _))⟩
    refine Eq.trans ?_ (congrArg (val_main_v207 (F := Ideal) u w wp ct) (emb20 0 l)).symm
    exact ds3_eq u w wp ct x0 x1 x2 x3 x4 hC hW hP hV l
  · refine fun (x : S1x128.Idx) => ?_
    obtain ⟨l, rfl⟩ : ∃ (l : Fin 128), x = ix2 (0 : Fin 1) l := ⟨x 1, (eq_ix2 x).trans (congrArg (fun z => ix2 z (x 1)) (Subsingleton.elim _ _))⟩
    refine Eq.trans ?_ (congrArg (val_main_v207 (F := Ideal) u w wp ct) (emb17 0 l)).symm
    exact ds2_eq u w wp ct x0 x1 x2 x3 x4 hC hW hP hV l
  · refine fun (x : S1x128.Idx) => ?_
    obtain ⟨l, rfl⟩ : ∃ (l : Fin 128), x = ix2 (0 : Fin 1) l := ⟨x 1, (eq_ix2 x).trans (congrArg (fun z => ix2 z (x 1)) (Subsingleton.elim _ _))⟩
    refine Eq.trans ?_ (congrArg (val_main_v207 (F := Ideal) u w wp ct) (emb14 0 l)).symm
    exact ds1_eq u w wp ct x0 x1 x2 x3 x4 hC hW hP hV l
  · refine fun (x : S1x128.Idx) => ?_
    obtain ⟨l, rfl⟩ : ∃ (l : Fin 128), x = ix2 (0 : Fin 1) l := ⟨x 1, (eq_ix2 x).trans (congrArg (fun z => ix2 z (x 1)) (Subsingleton.elim _ _))⟩
    refine Eq.trans ?_ (congrArg (val_main_v207 (F := Ideal) u w wp ct) (emb11 0 l)).symm
    exact ds0_eq u w wp ct x0 x1 x2 x3 x4 hC hW hP hV l

end
end Cert.Step.Pool
-- ==== Proof.Pool.lean ====
module
/- The pooling and grouped projection's backward call: the kernel's three results are the derivatives of the plain forward lines. -/

public import proofs.«01_k».proof.Proof.Norm
public import proofs.«01_k».proof.Defs
public import proofs.«01_k».proof.Proof.PoolHostEnd
public import proofs.«01_k».proof.Proof.PoolOut
public import proofs.«01_k».proof.Proof.Gen.PoolIdeal.Value
public import proofs.«01_k».proof.Proof.Gen.PoolRefIdeal.Read
public import proofs.«01_k».proof.Proof.Gen.PoolRefIdeal.Run

@[expose] public section
set_option maxRecDepth 16384
set_option maxHeartbeats 2000000
noncomputable section
open Idealize.ShloMosaic Idealize.ShloMosaic.TcCoe Idealize.SL.Sem
open Idealize.ShloMosaic.Pipeline (Dat)

namespace Cert.Step.Pool
/-- With finite arguments the cotangent of the groups' pooled rows is finite. -/
theorem dpE_real {w : (⟨3, ![4, 128, 128]⟩ : Shape).Idx → EReal} {sc : (⟨1, ![512]⟩ : Shape).Idx → EReal} {wp : (⟨2, ![512, 1024]⟩ : Shape).Idx → EReal} {ct : (⟨2, ![2048, 1024]⟩ : Shape).Idx → EReal}
    {W : (⟨3, ![4, 128, 128]⟩ : Shape).Idx → ℝ} {SC : (⟨1, ![512]⟩ : Shape).Idx → ℝ} {WP : (⟨2, ![512, 1024]⟩ : Shape).Idx → ℝ} {CT : (⟨2, ![2048, 1024]⟩ : Shape).Idx → ℝ}
    (hw : ∀ i, w i = ((W i : ℝ) : EReal)) (hs : ∀ i, sc i = ((SC i : ℝ) : EReal)) (hp : ∀ i, wp i = ((WP i : ℝ) : EReal)) (hc : ∀ i, ct i = ((CT i : ℝ) : EReal))
    (g : Fin 4) (t : Fin 2048) (c : Fin 128) :
    dpE w sc wp ct g t c = ((∑ d : Fin 128, (∑ k : Fin 1024, CT (ix2 t k) * WP (ix2 (gcol g d) k)) * SC (ix1 (gcol g d)) * W (ix3 g c d) : ℝ) : EReal) := by
  simp only [dpE, dyE, hw, hs, hp, hc, ← EReal.coe_mul, ← coe_sum']
end Cert.Step.Pool

namespace Cert.PoolIdeal.Value
open Cert.PoolIdeal Cert.PoolIdeal.Gen Cert.Step Cert.Step.Pool
open Cert.PoolRefIdeal.Read (val_main_v122 val_main_v145 val_main_v206 val_main_v207)
variable (m : (ℓ : Loc nD τ sig) → Buf (Elt Ideal) ℓ)

abbrev argU (c : Dev nD) : S2048x512.Idx → EReal := m ((c : Thread nD τ).loc main_arg0)
abbrev argW (c : Dev nD) : S4x128x128.Idx → EReal := m ((c : Thread nD τ).loc main_arg1)
abbrev argS (c : Dev nD) : S512.Idx → EReal := m ((c : Thread nD τ).loc main_arg2)
abbrev argP (c : Dev nD) : S512x1024.Idx → EReal := m ((c : Thread nD τ).loc main_arg3)
abbrev argC (c : Dev nD) : S2048x1024.Idx → EReal := m ((c : Thread nD τ).loc main_arg4)

theorem index_zero : ∀ t : Fin grid0.N, (win0_0.index t 0 = 0 ∧ win0_0.index t 1 = 0) ∧ (win0_1.index t 0 = 0 ∧ win0_1.index t 1 = 0 ∧ win0_1.index t 2 = 0)
    ∧ (win0_2.index t 0 = 0 ∧ win0_2.index t 1 = 0) ∧ (win0_3.index t 0 = 0 ∧ win0_3.index t 1 = 0 ∧ win0_3.index t 2 = 0) ∧ (win0_4.index t 0 = 0 ∧ win0_4.index t 1 = 0) := by decide +kernel
theorem index_out : ∀ t : Fin grid0.N, (win0_5.index t 0 = 0 ∧ win0_5.index t 1 = 0) ∧ (win0_6.index t 0 = 0 ∧ win0_6.index t 1 = 0 ∧ win0_6.index t 2 = 0)
    ∧ (win0_7.index t 0 = 0 ∧ win0_7.index t 1 = 0) := by decide +kernel

/-! The input blocks. -/
theorem blkC (c : Dev nD) (t : Fin cfg0.N) (r : Fin 2048) (k : Fin 1024) : (iblk m c 0 t : Vec Ideal S2048x1024 .bf16) (ix2 r k) = argC m c (ix2 r k) := by
  unfold iblk
  rw [View.read_apply]
  show (V m c main_v124 : S2048x1024.Idx → EReal) _ = _
  rw [V_ct]
  refine congrArg (argC m c) (funext fun a => Fin.ext ?_)
  match a with
  | ⟨0, _⟩ => show win0_0.index t 0 * 2048 + 1 * r.val = r.val; rw [(index_zero t).1.1]; omega
  | ⟨1, _⟩ => show win0_0.index t 1 * 1024 + 1 * k.val = k.val; rw [(index_zero t).1.2]; omega

theorem wpo_at (x : FVec Ideal S512x1024 .f32) (q : Fin 8) (j : Fin 512) (l : Fin 128) :
    transpose S8x512x128 [1, 0, 2] (shapeCast S512x8x128 (truncf (F := Ideal) .bf16 x bitsLt_bf16_f32 : FVec Ideal S512x1024 .bf16) shapeCasts_S512x1024_S512x8x128) transposes_S512x8x128_S8x512x128_1_0_2 (ix3 q j l)
      = x (ix2 j ⟨q.val * 128 + l.val, by omega⟩) := by
  pointwise []

theorem blkW (c : Dev nD) (t : Fin cfg0.N) (j : Fin 512) (k : Fin 1024) :
    (iblk m c 1 t : Vec Ideal S8x512x128 .bf16) (ix3 (kdiv k) j (kmod k)) = argP m c (ix2 j k) := by
  unfold iblk
  rw [View.read_apply]
  have hq := (congrFun (V_wpo m c) (ix3 (kdiv k) j (kmod k))).trans (wpo_at _ _ _ _)
  refine Eq.trans ?_ (hq.trans (congrArg (fun b => argP m c (ix2 j b)) (Fin.ext (by show k.val / 128 * 128 + k.val % 128 = k.val; omega))))
  show (V m c main_v127 : S8x512x128.Idx → EReal) _ = _
  refine congrArg (V m c main_v127 : S8x512x128.Idx → EReal) (funext fun a => Fin.ext ?_)
  match a with
  | ⟨0, _⟩ => show win0_1.index t 0 * 8 + 1 * (k.val / 128) = k.val / 128; rw [(index_zero t).2.1.1]; omega
  | ⟨1, _⟩ => show win0_1.index t 1 * 512 + 1 * j.val = j.val; rw [(index_zero t).2.1.2.1]; omega
  | ⟨2, _⟩ => show win0_1.index t 2 * 128 + 1 * (k.val % 128) = k.val % 128; rw [(index_zero t).2.1.2.2]; omega

theorem cast_rows (x : FVec Ideal S1x2048x512 .f32) (n : Fin 2048) (j : Fin 512) :
    truncf (F := Ideal) .bf16 (shapeCast S2048x512 x shapeCasts_S1x2048x512_S2048x512) bitsLt_bf16_f32 (ix2 n j) = x (ix3 (0 : Fin 1) n j) := by
  pointwise []

theorem blkP (c : Dev nD) (t : Fin cfg0.N) (n : Fin 2048) (j : Fin 512) :
    (iblk m c 2 t : Vec Ideal S2048x512 .bf16) (ix2 n j) = val_main_v122 (F := Ideal) (argU m c) (ix3 (0 : Fin 1) n j) := by
  unfold iblk
  rw [View.read_apply]
  refine Eq.trans ?_ ((congrFun (V_pm m c) (ix2 n j)).trans (cast_rows _ n j))
  show (V m c main_v123 : S2048x512.Idx → EReal) _ = _
  refine congrArg (V m c main_v123 : S2048x512.Idx → EReal) (funext fun a => Fin.ext ?_)
  match a with
  | ⟨0, _⟩ => show win0_2.index t 0 * 2048 + 1 * n.val = n.val; rw [(index_zero t).2.2.1.1]; omega
  | ⟨1, _⟩ => show win0_2.index t 1 * 512 + 1 * j.val = j.val; rw [(index_zero t).2.2.1.2]; omega

theorem blkV (c : Dev nD) (t : Fin cfg0.N) (g : Fin 4) (a b : Fin 128) : (iblk m c 3 t : Vec Ideal S4x128x128 .bf16) (ix3 g a b) = argW m c (ix3 g a b) := by
  unfold iblk
  rw [View.read_apply]
  show (V m c main_v128 : S4x128x128.Idx → EReal) _ = _
  rw [V_w]
  refine congrArg (argW m c) (funext fun e => Fin.ext ?_)
  match e with
  | ⟨0, _⟩ => show win0_3.index t 0 * 4 + 1 * g.val = g.val; rw [(index_zero t).2.2.2.1.1]; omega
  | ⟨1, _⟩ => show win0_3.index t 1 * 128 + 1 * a.val = a.val; rw [(index_zero t).2.2.2.1.2.1]; omega
  | ⟨2, _⟩ => show win0_3.index t 2 * 128 + 1 * b.val = b.val; rw [(index_zero t).2.2.2.1.2.2]; omega

theorem cast_scale (x : FVec Ideal S512 .f32) (j : Fin 512) : shapeCast S1x512 x shapeCasts_S512_S1x512 (ix2 (0 : Fin 1) j) = x (ix1 j) := by
  pointwise []

theorem blkS (c : Dev nD) (t : Fin cfg0.N) (j : Fin 512) : (iblk m c 4 t : Vec Ideal S1x512 .f32) (ix2 (0 : Fin 1) j) = argS m c (ix1 j) := by
  unfold iblk
  rw [View.read_apply]
  refine Eq.trans ?_ ((congrFun (V_sc m c) (ix2 (0 : Fin 1) j)).trans (cast_scale _ j))
  show (V m c main_v129 : S1x512.Idx → EReal) _ = _
  refine congrArg (V m c main_v129 : S1x512.Idx → EReal) (funext fun a => Fin.ext ?_)
  match a with
  | ⟨0, _⟩ => show win0_4.index t 0 * 1 + 1 * 0 = 0; rw [(index_zero t).2.2.2.2.1]
  | ⟨1, _⟩ => show win0_4.index t 1 * 512 + 1 * j.val = j.val; rw [(index_zero t).2.2.2.2.2]; omega

theorem blkOut5 (t : Fin cfg0.N) (A : S2048x512.Idx → EReal) (i : S2048x512.Idx) : (((cfg0.win 5).blk t).view.read (Elt Ideal) A : S2048x512.Idx → EReal) i = A i := by
  rw [View.read_apply]
  refine congrArg A (funext fun a => Fin.ext ?_)
  match a with
  | ⟨0, _⟩ => show win0_5.index t 0 * 2048 + 1 * (i 0).val = (i 0).val; rw [(index_out t).1.1]; omega
  | ⟨1, _⟩ => show win0_5.index t 1 * 512 + 1 * (i 1).val = (i 1).val; rw [(index_out t).1.2]; omega

theorem final5 (c : Dev nD) (r : Fin 4 → Fin 2048 → Fin 128 → ℝ) (hr : ∀ g t l, dpE (argW m c) (argS m c) (argP m c) (argC m c) g t l = ((r g t l : ℝ) : EReal)) : (dats m 0 c).arrAt 5 cfg0.N = val_main_v206 (F := Ideal) (argW m c) (argS m c) (argP m c) (argC m c) :=
  (dats m 0 c).arrAt_eq_of_cover 5 (val_main_v206 (F := Ideal) (argW m c) (argS m c) (argP m c) (argC m c))
    (fun t _ => by
      rw [flushed5]
      refine (congrArg ((cfg0.win 5).cut (grid0.coords t)) (out5_eq (argW m c) (argS m c) (argP m c) (argC m c) _ _ _ _ _ (blkC m c t) (blkW m c t) (blkV m c t) (blkS m c t) r hr)).trans ?_
      refine funext fun (j : S2048x512.Idx) => ?_
      exact (blkOut5 t (val_main_v206 (F := Ideal) (argW m c) (argS m c) (argP m c) (argC m c)) j).symm)
    fun (i : S2048x512.Idx) => by
      have t : Fin cfg0.N := ⟨0, by rw [show cfg0.N = 1 from N_0]; omega⟩
      refine ⟨t, flush0_5 _, ?_⟩
      show i ∈ ((View.whole main_v130_0).slice (win0_5.rect t)).set
      rw [View.set_slice_whole, Rect.mem_set_unit]
      intro a
      match a with
      | ⟨0, _⟩ =>
        have h : (i 0 : Nat) < 2048 := (i 0).isLt
        show win0_5.index t 0 * 2048 ≤ (i 0 : Nat) ∧ (i 0 : Nat) < win0_5.index t 0 * 2048 + 2048
        rw [(index_out t).1.1]; omega
      | ⟨1, _⟩ =>
        have h : (i 1 : Nat) < 512 := (i 1).isLt
        show win0_5.index t 1 * 512 ≤ (i 1 : Nat) ∧ (i 1 : Nat) < win0_5.index t 1 * 512 + 512
        rw [(index_out t).1.2]; omega

theorem blkOut6 (t : Fin cfg0.N) (A : S4x128x128.Idx → EReal) (i : S4x128x128.Idx) : (((cfg0.win 6).blk t).view.read (Elt Ideal) A : S4x128x128.Idx → EReal) i = A i := by
  rw [View.read_apply]
  refine congrArg A (funext fun a => Fin.ext ?_)
  match a with
  | ⟨0, _⟩ => show win0_6.index t 0 * 4 + 1 * (i 0).val = (i 0).val; rw [(index_out t).2.1.1]; omega
  | ⟨1, _⟩ => show win0_6.index t 1 * 128 + 1 * (i 1).val = (i 1).val; rw [(index_out t).2.1.2.1]; omega
  | ⟨2, _⟩ => show win0_6.index t 2 * 128 + 1 * (i 2).val = (i 2).val; rw [(index_out t).2.1.2.2]; omega

theorem final6 (c : Dev nD) : (dats m 0 c).arrAt 6 cfg0.N = val_main_v145 (F := Ideal) (argU m c) (argS m c) (argP m c) (argC m c) :=
  (dats m 0 c).arrAt_eq_of_cover 6 (val_main_v145 (F := Ideal) (argU m c) (argS m c) (argP m c) (argC m c))
    (fun t _ => by
      rw [flushed6]
      refine (congrArg ((cfg0.win 6).cut (grid0.coords t)) (out6_eq (argU m c) (argS m c) (argP m c) (argC m c) _ _ _ _ _ (blkC m c t) (blkW m c t) (blkP m c t) (blkS m c t))).trans ?_
      refine funext fun (j : S4x128x128.Idx) => ?_
      exact (blkOut6 t (val_main_v145 (F := Ideal) (argU m c) (argS m c) (argP m c) (argC m c)) j).symm)
    fun (i : S4x128x128.Idx) => by
      have t : Fin cfg0.N := ⟨0, by rw [show cfg0.N = 1 from N_0]; omega⟩
      refine ⟨t, flush0_6 _, ?_⟩
      show i ∈ ((View.whole main_v130_1).slice (win0_6.rect t)).set
      rw [View.set_slice_whole, Rect.mem_set_unit]
      intro a
      match a with
      | ⟨0, _⟩ =>
        have h : (i 0 : Nat) < 4 := (i 0).isLt
        show win0_6.index t 0 * 4 ≤ (i 0 : Nat) ∧ (i 0 : Nat) < win0_6.index t 0 * 4 + 4
        rw [(index_out t).2.1.1]; omega
      | ⟨1, _⟩ =>
        have h : (i 1 : Nat) < 128 := (i 1).isLt
        show win0_6.index t 1 * 128 ≤ (i 1 : Nat) ∧ (i 1 : Nat) < win0_6.index t 1 * 128 + 128
        rw [(index_out t).2.1.2.1]; omega
      | ⟨2, _⟩ =>
        have h : (i 2 : Nat) < 128 := (i 2).isLt
        show win0_6.index t 2 * 128 ≤ (i 2 : Nat) ∧ (i 2 : Nat) < win0_6.index t 2 * 128 + 128
        rw [(index_out t).2.1.2.2]; omega

theorem blkOut7 (t : Fin cfg0.N) (A : S1x512.Idx → EReal) (i : S1x512.Idx) : (((cfg0.win 7).blk t).view.read (Elt Ideal) A : S1x512.Idx → EReal) i = A i := by
  rw [View.read_apply]
  refine congrArg A (funext fun a => Fin.ext ?_)
  match a with
  | ⟨0, _⟩ => show win0_7.index t 0 * 1 + 1 * (i 0).val = (i 0).val; rw [(index_out t).2.2.1]; omega
  | ⟨1, _⟩ => show win0_7.index t 1 * 512 + 1 * (i 1).val = (i 1).val; rw [(index_out t).2.2.2]; omega

theorem final7 (c : Dev nD) : (dats m 0 c).arrAt 7 cfg0.N = val_main_v207 (F := Ideal) (argU m c) (argW m c) (argP m c) (argC m c) :=
  (dats m 0 c).arrAt_eq_of_cover 7 (val_main_v207 (F := Ideal) (argU m c) (argW m c) (argP m c) (argC m c))
    (fun t _ => by
      rw [flushed7]
      refine (congrArg ((cfg0.win 7).cut (grid0.coords t)) (out7_eq (argU m c) (argW m c) (argP m c) (argC m c) _ _ _ _ _ (blkC m c t) (blkW m c t) (blkP m c t) (blkV m c t))).trans ?_
      refine funext fun (j : S1x512.Idx) => ?_
      exact (blkOut7 t (val_main_v207 (F := Ideal) (argU m c) (argW m c) (argP m c) (argC m c)) j).symm)
    fun (i : S1x512.Idx) => by
      have t : Fin cfg0.N := ⟨0, by rw [show cfg0.N = 1 from N_0]; omega⟩
      refine ⟨t, flush0_7 _, ?_⟩
      show i ∈ ((View.whole main_v130_2).slice (win0_7.rect t)).set
      rw [View.set_slice_whole, Rect.mem_set_unit]
      intro a
      match a with
      | ⟨0, _⟩ =>
        have h : (i 0 : Nat) < 1 := (i 0).isLt
        show win0_7.index t 0 * 1 ≤ (i 0 : Nat) ∧ (i 0 : Nat) < win0_7.index t 0 * 1 + 1
        rw [(index_out t).2.2.1]; omega
      | ⟨1, _⟩ =>
        have h : (i 1 : Nat) < 512 := (i 1).isLt
        show win0_7.index t 1 * 512 ≤ (i 1 : Nat) ∧ (i 1 : Nat) < win0_7.index t 1 * 512 + 512
        rw [(index_out t).2.2.2]; omega

end Cert.PoolIdeal.Value

namespace Cert.Step.Pool
open Cert.PoolIdeal.Value Cert.PoolRefIdeal.Read

theorem four {α β γ δ ε : Type _} (f : α → β → γ → δ → ε) {a a' : α} {b b' : β} {c c' : γ} {d d' : δ} (ha : a = a') (hb : b = b') (hc : c = c') (hd : d = d') :
    f a b c d = f a' b' c' d' := by rw [ha, hb, hc, hd]

set_option maxHeartbeats 400000 in
/-- Both programs return the three derivatives. -/
theorem claim [hP : Cert.Pre_pool_finite.Facts] : algebraic_PoolIdeal_PoolRefIdeal_pre_pool_finite := fun m ρ m' ρ' hfin hag => by
  choose W hW using fun c => exists_real (fun _ => rfl) (hfin c).1
  choose S hS using fun c => exists_real (fun _ => rfl) (hfin c).2.1
  choose P hp using fun c => exists_real (fun _ => rfl) (hfin c).2.2.1
  choose C hC using fun c => exists_real (fun _ => rfl) (hfin c).2.2.2
  have e5 := fun c => final5 m c _ (dpE_real (hW c) (hS c) (hp c) (hC c))
  refine ⟨fun c => val_main_v206 (F := Ideal) (argW m c) (argS m c) (argP m c) (argC m c), fun c => val_main_v145 (F := Ideal) (argU m c) (argS m c) (argP m c) (argC m c),
    fun c => val_main_v207 (F := Ideal) (argU m c) (argW m c) (argP m c) (argC m c),
    (θ_run _ _ _).mono (fun _ h c => ⟨(h c).1.trans (e5 c), (h c).2.1.trans (final6 m c), (h c).2.2.1.trans (final7 m c), (h c).2.2.2⟩)
      (Cert.PoolIdeal.Value.run_blocks m ρ),
    (θ_run _ _ _).mono (fun _ h c => ⟨(h c).1.trans ((val_main_v206_eq _).trans ?_), (h c).2.1.trans ((val_main_v145_eq _).trans ?_),
      (h c).2.2.1.trans ((val_main_v207_eq _).trans ?_), (h c).2.2.2⟩) (Cert.PoolRefIdeal.Value.run m' ρ')⟩
  · refine four (val_main_v206 (F := Ideal)) ?_ ?_ ?_ ?_
    · exact (hag c).2.1
    · exact (hag c).2.2.1
    · exact (hag c).2.2.2.1
    · exact (hag c).2.2.2.2
  · refine four (val_main_v145 (F := Ideal)) ?_ ?_ ?_ ?_
    · exact (hag c).1
    · exact (hag c).2.2.1
    · exact (hag c).2.2.2.1
    · exact (hag c).2.2.2.2
  · refine four (val_main_v207 (F := Ideal)) ?_ ?_ ?_ ?_
    · exact (hag c).1
    · exact (hag c).2.1
    · exact (hag c).2.2.2.1
    · exact (hag c).2.2.2.2

end Cert.Step.Pool

end
-- ==== Proof.FwdNorm.lean ====
/- A layer norm of one row, over the extended reals: no finiteness is asked for. -/
module

public import proofs.«01_k».proof.Proof.Norm

@[expose] public section
noncomputable section
open Idealize.ShloMosaic
namespace Cert.Step

/-- The row's mean: its sum divided by 1024. -/
def rowMean (z : Fin 1024 → EReal) : EReal := Ideal.div (∑ k, z k) (Ideal.ofBits .f32 0x44800000#32)
/-- One element of the normalised row, with its gain and its bias. -/
def rowNorm (z : Fin 1024 → EReal) (g b : EReal) (l : Fin 1024) : EReal :=
  (z l - rowMean z) * Ideal.rsqrt (rowMean (fun k => (z k - rowMean z) * (z k - rowMean z)) + Ideal.ofBits .f32 0x3727C5AC#32) * g + b

end Cert.Step
end
-- ==== Proof.LnFwd.lean ====
/-
  The first row normalisation of the forward pass: the row-blocked kernel and the plain formula give the same rows, whatever the
  rows, gains and biases hold.
-/
module

public import proofs.«01_k».proof.Proof.FwdNorm
public import Idealize.ShloMosaic.Lib.Pipeline.ValueKit
public import proofs.«01_k».proof.Defs
public import proofs.«01_k».proof.Proof.Gen.LnFwdIdeal.Value
public import proofs.«01_k».proof.Proof.Gen.LnFwdRefIdeal.Read
public import proofs.«01_k».proof.Proof.Gen.LnFwdRefIdeal.Run

@[expose] public section

set_option maxRecDepth 16384

noncomputable section

open Idealize.ShloMosaic Idealize.ShloMosaic.TcCoe Idealize.SL.Sem
open Idealize.ShloMosaic.Pipeline (Dat)

namespace Cert.LnFwdIdeal.Value

open Cert.LnFwdIdeal Cert.LnFwdIdeal.Gen Cert.Step

variable (m : (ℓ : Loc nD τ sig) → Buf (Elt Ideal) ℓ) (ρ : Dev nD → PrngReg)
/-- The arguments as arrays. -/
abbrev argX (c : Dev nD) : S2048x1024.Idx → EReal := m ((c : Thread nD τ).loc main_arg0)
abbrev argG (c : Dev nD) : S1024.Idx → EReal := m ((c : Thread nD τ).loc main_arg1)
abbrev argB (c : Dev nD) : S1024.Idx → EReal := m ((c : Thread nD τ).loc main_arg2)

theorem V_v0 (c : Dev nD) (l : Fin 1024) : (V m c main_v0 : S1x1024.Idx → EReal) (ix2 0 l) = argG m c (ix1 l) := by
  have h : V m c main_v0 = shapeCast S1x1024 (argG m c) shapeCasts_S1024_S1x1024 := by
    unfold V hostOps0
    after_results <;> rfl
  rw [h]
  pointwise []
theorem V_v1 (c : Dev nD) (l : Fin 1024) : (V m c main_v1 : S1x1024.Idx → EReal) (ix2 0 l) = argB m c (ix1 l) := by
  have h : V m c main_v1 = shapeCast S1x1024 (argB m c) shapeCasts_S1024_S1x1024 := by
    unfold V hostOps0
    after_results <;> rfl
  rw [h]
  pointwise []

theorem row_lt (t : Fin cfg0.N) (r : Fin 512) : t.val * 512 + r.val < 2048 := by
  have := lt_of_lt_of_eq t.isLt (show cfg0.N = 4 from N_0); omega

theorem index_all : ∀ t : Fin cfg0.N, win0_0.index t = ![t.val, 0] ∧ win0_1.index t = ![0, 0] ∧ win0_2.index t = ![0, 0] ∧ win0_3.index t = ![t.val, 0] ∧ win0_4.index t = ![t.val, 0] :=
  (by decide +kernel : ∀ t : Fin grid0.N, _)

theorem blkX (c : Dev nD) (t : Fin cfg0.N) (r : Fin 512) (l : Fin 1024) :
    (iblk m c 0 t : Vec Ideal S512x1024 .f32) (ix2 r l) = argX m c (ix2 ⟨t.val * 512 + r.val, row_lt t r⟩ l) := by
  blk_simp [iblk]
  rw [V_main_arg0]
  refine congrArg _ ?_
  blk_ext [index_all]
theorem blkG (c : Dev nD) (t : Fin cfg0.N) (l : Fin 1024) :
    (iblk m c 1 t : Vec Ideal S1x1024 .f32) (ix2 0 l) = argG m c (ix1 l) := by
  rw [← V_v0 m c l]
  blk_simp [iblk]
  refine congrArg _ ?_
  blk_ext [index_all]
theorem blkB (c : Dev nD) (t : Fin cfg0.N) (l : Fin 1024) :
    (iblk m c 2 t : Vec Ideal S1x1024 .f32) (ix2 0 l) = argB m c (ix1 l) := by
  rw [← V_v1 m c l]
  blk_simp [iblk]
  refine congrArg _ ?_
  blk_ext [index_all]
theorem final3 (c : Dev nD) (A : S2048x1024.Idx → EReal)
    (h : ∀ (t : Fin cfg0.N) (r : Fin 512) (l : Fin 1024), (out0_3 (F := Ideal) (iblk m c 0 t) (iblk m c 1 t) (iblk m c 2 t) : Vec Ideal S512x1024 .f32) (ix2 r l) = A (ix2 ⟨t.val * 512 + r.val, row_lt t r⟩ l)) :
    (dats m 0 c).arrAt 3 cfg0.N = A := by
  refine (dats m 0 c).arrAt_eq_of_covers 3 A (by decide +kernel) fun t _ (y : S512x1024.Idx) => ?_
  blk_simp
  rw [after0_3, eq_ix2 y]
  refine (h t _ _).trans (congrArg A ?_)
  blk_ext [index_all]
theorem final4 (c : Dev nD) (A : S2048x1024.Idx → EReal)
    (h : ∀ (t : Fin cfg0.N) (r : Fin 512) (l : Fin 1024), (out0_4 (F := Ideal) (iblk m c 0 t) (iblk m c 1 t) (iblk m c 2 t) : Vec Ideal S512x1024 .bf16) (ix2 r l) = A (ix2 ⟨t.val * 512 + r.val, row_lt t r⟩ l)) :
    (dats m 0 c).arrAt 4 cfg0.N = A := by
  refine (dats m 0 c).arrAt_eq_of_covers 4 A (by decide +kernel) fun t _ (y : S512x1024.Idx) => ?_
  blk_simp
  rw [after0_4, eq_ix2 y]
  refine (h t _ _).trans (congrArg A ?_)
  blk_ext [index_all]
/-- The normalised rows. -/
def normed (x : S2048x1024.Idx → EReal) (g b : S1024.Idx → EReal) : S2048x1024.Idx → EReal :=
  fun i => rowNorm (fun k => x (ix2 (i 0) k)) (g (ix1 (i 1))) (b (ix1 (i 1))) (i 1)

theorem pay1_at (x : Vec Ideal S512x1024 .f32) (g b : Vec Ideal S1x1024 .f32) (r : Fin 512) (l : Fin 1024) :
    k0_pay1 (F := Ideal) x g b (ix2 r l) = rowNorm (fun k => x (ix2 r k)) (g (ix2 0 l)) (b (ix2 0 l)) l := by
  pointwise [k0_pay1]
  rfl

theorem tile3 (c : Dev nD) (t : Fin cfg0.N) (r : Fin 512) (l : Fin 1024) :
    (out0_3 (F := Ideal) (iblk m c 0 t) (iblk m c 1 t) (iblk m c 2 t) : Vec Ideal S512x1024 .f32) (ix2 r l)
      = normed (argX m c) (argG m c) (argB m c) (ix2 ⟨t.val * 512 + r.val, row_lt t r⟩ l) := by
  unfold out0_3
  rw [View.canon_unit_zero hz2]
  simp only [View.ld_unit_zero (S := S512x1024) hz2, View.ld_unit_zero (S := S1x1024) hz2]
  rw [pay1_at, blkG, blkB]
  simp only [blkX]
  rfl

theorem tile4 (c : Dev nD) (t : Fin cfg0.N) (r : Fin 512) (l : Fin 1024) :
    (out0_4 (F := Ideal) (iblk m c 0 t) (iblk m c 1 t) (iblk m c 2 t) : Vec Ideal S512x1024 .bf16) (ix2 r l)
      = normed (argX m c) (argG m c) (argB m c) (ix2 ⟨t.val * 512 + r.val, row_lt t r⟩ l) := by
  rw [← tile3]
  unfold out0_4 out0_3
  rw [View.canon_unit_zero hz2, View.canon_unit_zero hz2]
  rfl

end Cert.LnFwdIdeal.Value

namespace Cert.Step.LnFwd

open Cert.LnFwdIdeal.Value (argX argG argB normed final3 final4 tile3 tile4)
open Cert.LnFwdRefIdeal Cert.LnFwdRefIdeal.Gen Cert.LnFwdRefIdeal.Read

theorem ref_at (x : S2048x1024.Idx → EReal) (g b : S1024.Idx → EReal) : val_main_v21 (F := Ideal) x g b = normed x g b := funext fun i => by
  obtain ⟨r, l, rfl⟩ : ∃ (r : Fin 2048) (l : Fin 1024), i = ix2 r l := ⟨i 0, i 1, eq_ix2 i⟩
  pointwise [val_main_v21,val_main_v20,val_main_v19,val_main_v18,val_main_v17,val_main_v16,val_main_v15,val_main_v14,val_main_v13,val_main_v12,val_main_v11,val_main_v10,val_main_v9,val_main_v8,val_main_v7,val_main_v6,val_main_v5,val_main_v4,val_main_v3,val_main_v2,val_main_v1,val_main_v0,val_main_cst,val_main_cst_0,val_main_cst_1,val_main_cst_2,val_main_cst_3]
  rfl

theorem ref_at' (x : S2048x1024.Idx → EReal) (g b : S1024.Idx → EReal) : val_main_v22 (F := Ideal) x g b = normed x g b := ref_at x g b

theorem claim : algebraic_LnFwdIdeal_LnFwdRefIdeal := fun m ρ m' ρ' _ hag => by
  have r0 := fun c => ref_at (argX m c) (argG m c) (argB m c)
  have r1 := fun c => ref_at' (argX m c) (argG m c) (argB m c)
  refine ⟨fun c => normed (argX m c) (argG m c) (argB m c), fun c => normed (argX m c) (argG m c) (argB m c),
    (θ_run _ _ _).mono (fun _ h c => ⟨(h c).1.trans (final3 m c _ (tile3 m c)), (h c).2.1.trans (final4 m c _ (tile4 m c)), (h c).2.2⟩) (Cert.LnFwdIdeal.Value.run_blocks m ρ),
    (θ_run _ _ _).mono (fun _ h c => ⟨(h c).1.trans ((val_main_v21_eq _ _ _).trans ?_), (h c).2.1.trans ((val_main_v22_eq _ _ _).trans ?_), (h c).2.2⟩)
      (Cert.LnFwdRefIdeal.Value.run m' ρ')⟩
  · rw [(hag c).1, (hag c).2.1, (hag c).2.2]; exact r0 c
  · rw [(hag c).1, (hag c).2.1, (hag c).2.2]; exact r1 c

end Cert.Step.LnFwd

end
-- ==== Proof.MixFwd.lean ====
/-
  The forward call that mixes the merged rows, adds the scaled residual and normalises: the row-blocked kernel over the sharded
  matrix and the plain formula give the same sums and the same normalised rows, whatever the arguments hold.
-/
module

public import proofs.«01_k».proof.Proof.FwdNorm
public import Idealize.ShloMosaic.Lib.Pipeline.ValueKit
public import proofs.«01_k».proof.Defs
public import proofs.«01_k».proof.Proof.Gen.MixFwdIdeal.Value
public import proofs.«01_k».proof.Proof.Gen.MixFwdRefIdeal.Read
public import proofs.«01_k».proof.Proof.Gen.MixFwdRefIdeal.Run

@[expose] public section

set_option maxRecDepth 16384

noncomputable section

open Idealize.ShloMosaic Idealize.ShloMosaic.TcCoe Idealize.SL.Sem
open Idealize.ShloMosaic.Pipeline (Dat)

namespace Cert.MixFwdIdeal.Value

open Cert.MixFwdIdeal Cert.MixFwdIdeal.Gen Cert.Step

variable (m : (ℓ : Loc nD τ sig) → Buf (Elt Ideal) ℓ) (ρ : Dev nD → PrngReg)
/-- The arguments as arrays. -/
abbrev argX (c : Dev nD) : S2048x1024.Idx → EReal := m ((c : Thread nD τ).loc main_arg0)
abbrev argW (c : Dev nD) : S1024x1024.Idx → EReal := m ((c : Thread nD τ).loc main_arg1)
abbrev argH (c : Dev nD) : S2048x1024.Idx → EReal := m ((c : Thread nD τ).loc main_arg2)
abbrev argG (c : Dev nD) : S1024.Idx → EReal := m ((c : Thread nD τ).loc main_arg3)
abbrev argB (c : Dev nD) : S1024.Idx → EReal := m ((c : Thread nD τ).loc main_arg4)

theorem V_v0 (c : Dev nD) : V m c main_v0 = argX m c := by
  unfold V hostOps0
  after_results <;> rfl
theorem V_v3 (c : Dev nD) (l : Fin 1024) : (V m c main_v3 : S1x1024.Idx → EReal) (ix2 0 l) = argG m c (ix1 l) := by
  have h : V m c main_v3 = shapeCast S1x1024 (argG m c) shapeCasts_S1024_S1x1024 := by
    unfold V hostOps0
    after_results <;> rfl
  rw [h]
  pointwise []
theorem V_v4 (c : Dev nD) (l : Fin 1024) : (V m c main_v4 : S1x1024.Idx → EReal) (ix2 0 l) = argB m c (ix1 l) := by
  have h : V m c main_v4 = shapeCast S1x1024 (argB m c) shapeCasts_S1024_S1x1024 := by
    unfold V hostOps0
    after_results <;> rfl
  rw [h]
  pointwise []
theorem V_v2 (c : Dev nD) (p : Fin 8) (q : Fin 128) (l : Fin 1024) :
    (V m c main_v2 : S8x128x1024.Idx → EReal) (ix3 p q l) = argW m c (ix2 ⟨p.val * 128 + q.val, by omega⟩ l) := by
  have h : V m c main_v2 = shapeCast S8x128x1024 (argW m c) shapeCasts_S1024x1024_S8x128x1024 := by
    unfold V hostOps0
    after_results <;> rfl
  rw [h]
  pointwise []

theorem row_lt (t : Fin cfg0.N) (r : Fin 512) : t.val * 512 + r.val < 2048 := by
  have := lt_of_lt_of_eq t.isLt (show cfg0.N = 4 from N_0); omega

theorem index_all : ∀ t : Fin cfg0.N, win0_0.index t = ![t.val, 0] ∧ win0_1.index t = ![0, 0, 0] ∧ win0_2.index t = ![t.val, 0] ∧ win0_3.index t = ![0, 0] ∧ win0_4.index t = ![0, 0] ∧ win0_5.index t = ![t.val, 0] ∧ win0_6.index t = ![t.val, 0] ∧ win0_7.index t = ![t.val, 0] :=
  (by decide +kernel : ∀ t : Fin grid0.N, _)

theorem blkX (c : Dev nD) (t : Fin cfg0.N) (r : Fin 512) (l : Fin 1024) :
    (iblk m c 0 t : Vec Ideal S512x1024 .bf16) (ix2 r l) = argX m c (ix2 ⟨t.val * 512 + r.val, row_lt t r⟩ l) := by
  blk_simp [iblk]
  rw [V_v0]
  refine congrArg _ ?_
  blk_ext [index_all]
theorem blkH (c : Dev nD) (t : Fin cfg0.N) (r : Fin 512) (l : Fin 1024) :
    (iblk m c 2 t : Vec Ideal S512x1024 .f32) (ix2 r l) = argH m c (ix2 ⟨t.val * 512 + r.val, row_lt t r⟩ l) := by
  blk_simp [iblk]
  rw [V_main_arg2]
  refine congrArg _ ?_
  blk_ext [index_all]
theorem blkG (c : Dev nD) (t : Fin cfg0.N) (l : Fin 1024) :
    (iblk m c 3 t : Vec Ideal S1x1024 .f32) (ix2 0 l) = argG m c (ix1 l) := by
  rw [← V_v3 m c l]
  blk_simp [iblk]
  refine congrArg _ ?_
  blk_ext [index_all]
theorem blkB (c : Dev nD) (t : Fin cfg0.N) (l : Fin 1024) :
    (iblk m c 4 t : Vec Ideal S1x1024 .f32) (ix2 0 l) = argB m c (ix1 l) := by
  rw [← V_v4 m c l]
  blk_simp [iblk]
  refine congrArg _ ?_
  blk_ext [index_all]
theorem blkW (c : Dev nD) (t : Fin cfg0.N) (p : Fin 8) (q : Fin 128) (l : Fin 1024) :
    (iblk m c 1 t : Vec Ideal S8x128x1024 .bf16) (ix3 p q l) = argW m c (ix2 ⟨p.val * 128 + q.val, by omega⟩ l) := by
  rw [← V_v2 m c p q l]
  blk_simp [iblk]
  refine congrArg _ ?_
  blk_ext [index_all]
theorem final5 (c : Dev nD) (A : S2048x1024.Idx → EReal)
    (h : ∀ (t : Fin cfg0.N) (r : Fin 512) (l : Fin 1024), (out0_5 (F := Ideal) (iblk m c 0 t) (iblk m c 1 t) (iblk m c 2 t) (iblk m c 3 t) (iblk m c 4 t) : Vec Ideal S512x1024 .f32) (ix2 r l) = A (ix2 ⟨t.val * 512 + r.val, row_lt t r⟩ l)) :
    (dats m 0 c).arrAt 5 cfg0.N = A := by
  refine (dats m 0 c).arrAt_eq_of_covers 5 A (by decide +kernel) fun t _ (y : S512x1024.Idx) => ?_
  blk_simp
  rw [after0_5, eq_ix2 y]
  refine (h t _ _).trans (congrArg A ?_)
  blk_ext [index_all]
theorem final6 (c : Dev nD) (A : S2048x1024.Idx → EReal)
    (h : ∀ (t : Fin cfg0.N) (r : Fin 512) (l : Fin 1024), (out0_6 (F := Ideal) (iblk m c 0 t) (iblk m c 1 t) (iblk m c 2 t) (iblk m c 3 t) (iblk m c 4 t) : Vec Ideal S512x1024 .f32) (ix2 r l) = A (ix2 ⟨t.val * 512 + r.val, row_lt t r⟩ l)) :
    (dats m 0 c).arrAt 6 cfg0.N = A := by
  refine (dats m 0 c).arrAt_eq_of_covers 6 A (by decide +kernel) fun t _ (y : S512x1024.Idx) => ?_
  blk_simp
  rw [after0_6, eq_ix2 y]
  refine (h t _ _).trans (congrArg A ?_)
  blk_ext [index_all]
theorem final7 (c : Dev nD) (A : S2048x1024.Idx → EReal)
    (h : ∀ (t : Fin cfg0.N) (r : Fin 512) (l : Fin 1024), (out0_7 (F := Ideal) (iblk m c 0 t) (iblk m c 1 t) (iblk m c 2 t) (iblk m c 3 t) (iblk m c 4 t) : Vec Ideal S512x1024 .bf16) (ix2 r l) = A (ix2 ⟨t.val * 512 + r.val, row_lt t r⟩ l)) :
    (dats m 0 c).arrAt 7 cfg0.N = A := by
  refine (dats m 0 c).arrAt_eq_of_covers 7 A (by decide +kernel) fun t _ (y : S512x1024.Idx) => ?_
  blk_simp
  rw [after0_7, eq_ix2 y]
  refine (h t _ _).trans (congrArg A ?_)
  blk_ext [index_all]
/-- The sums, and the normalised rows. -/
def sumsR (x h : S2048x1024.Idx → EReal) (w : S1024x1024.Idx → EReal) : S2048x1024.Idx → EReal :=
  fun i => Ideal.ofBits .f32 0x3FD744FD#32 * h i + ∑ k : Fin 1024, x (ix2 (i 0) k) * w (ix2 k (i 1))
def normed (x h : S2048x1024.Idx → EReal) (w : S1024x1024.Idx → EReal) (g b : S1024.Idx → EReal) : S2048x1024.Idx → EReal :=
  fun i => rowNorm (fun k => sumsR x h w (ix2 (i 0) k)) (g (ix1 (i 1))) (b (ix1 (i 1))) (i 1)

theorem pay2_at (h : Vec Ideal S512x1024 .f32) (x : Vec Ideal S512x1024 .bf16) (w : Vec Ideal S8x128x1024 .bf16) (r : Fin 512) (l : Fin 1024) :
    k0_pay2 (F := Ideal) h x w (ix2 r l)
      = Ideal.ofBits .f32 0x3FD744FD#32 * h (ix2 r l) + ∑ k : Fin 1024, x (ix2 r k) * w (ix3 ⟨k.val / 128, by omega⟩ ⟨k.val % 128, by omega⟩ l) := by
  pointwise [k0_pay2]

theorem pay3_at (h : Vec Ideal S512x1024 .f32) (x : Vec Ideal S512x1024 .bf16) (w : Vec Ideal S8x128x1024 .bf16) (g b : Vec Ideal S1x1024 .f32) (r : Fin 512) (l : Fin 1024) :
    k0_pay3 (F := Ideal) h x w g b (ix2 r l) = rowNorm (fun k => k0_pay2 (F := Ideal) h x w (ix2 r k)) (g (ix2 0 l)) (b (ix2 0 l)) l := by
  unfold k0_pay3
  generalize k0_pay2 (F := Ideal) h x w = z
  pointwise []
  rfl

theorem sum_at (c : Dev nD) (t : Fin cfg0.N) (r : Fin 512) (l : Fin 1024) :
    k0_pay2 (F := Ideal) (iblk m c 2 t) (iblk m c 0 t) (iblk m c 1 t) (ix2 r l) = sumsR (argX m c) (argH m c) (argW m c) (ix2 ⟨t.val * 512 + r.val, row_lt t r⟩ l) := by
  rw [pay2_at, blkH]
  refine congrArg (_ + ·) (Finset.sum_congr rfl fun k _ => ?_)
  rw [blkX, blkW]
  exact congrArg (_ * argW m c ·) (congrArg (ix2 · l) (Fin.ext (by show k.val / 128 * 128 + k.val % 128 = k.val; omega)))

theorem tile5 (c : Dev nD) (t : Fin cfg0.N) (r : Fin 512) (l : Fin 1024) :
    (out0_5 (F := Ideal) (iblk m c 0 t) (iblk m c 1 t) (iblk m c 2 t) (iblk m c 3 t) (iblk m c 4 t) : Vec Ideal S512x1024 .f32) (ix2 r l)
      = sumsR (argX m c) (argH m c) (argW m c) (ix2 ⟨t.val * 512 + r.val, row_lt t r⟩ l) := by
  unfold out0_5
  rw [View.canon_unit_zero hz2]
  simp only [View.ld_unit_zero (S := S512x1024) hz2, View.ld_unit_zero (S := S8x128x1024) hz3]
  exact sum_at m c t r l

theorem tile6 (c : Dev nD) (t : Fin cfg0.N) (r : Fin 512) (l : Fin 1024) :
    (out0_6 (F := Ideal) (iblk m c 0 t) (iblk m c 1 t) (iblk m c 2 t) (iblk m c 3 t) (iblk m c 4 t) : Vec Ideal S512x1024 .f32) (ix2 r l)
      = normed (argX m c) (argH m c) (argW m c) (argG m c) (argB m c) (ix2 ⟨t.val * 512 + r.val, row_lt t r⟩ l) := by
  unfold out0_6
  rw [View.canon_unit_zero hz2]
  unfold k0_pay4
  simp only [View.ld_unit_zero (S := S512x1024) hz2, View.ld_unit_zero (S := S1x1024) hz2, View.ld_unit_zero (S := S8x128x1024) hz3]
  rw [pay3_at, blkG, blkB]
  simp only [sum_at]
  rfl

theorem tile7 (c : Dev nD) (t : Fin cfg0.N) (r : Fin 512) (l : Fin 1024) :
    (out0_7 (F := Ideal) (iblk m c 0 t) (iblk m c 1 t) (iblk m c 2 t) (iblk m c 3 t) (iblk m c 4 t) : Vec Ideal S512x1024 .bf16) (ix2 r l)
      = normed (argX m c) (argH m c) (argW m c) (argG m c) (argB m c) (ix2 ⟨t.val * 512 + r.val, row_lt t r⟩ l) := by
  rw [← tile6]
  unfold out0_7 out0_6
  rw [View.canon_unit_zero hz2, View.canon_unit_zero hz2]
  rfl

end Cert.MixFwdIdeal.Value

namespace Cert.Step.MixFwd

open Cert.MixFwdIdeal.Value (argX argW argH argG argB sumsR normed final5 final6 final7 tile5 tile6 tile7)
open Cert.MixFwdRefIdeal Cert.MixFwdRefIdeal.Gen Cert.MixFwdRefIdeal.Read

theorem ref_sums (x h : S2048x1024.Idx → EReal) (w : S1024x1024.Idx → EReal) : val_main_v3 (F := Ideal) x w h = sumsR x h w := funext fun i => by
  obtain ⟨r, l, rfl⟩ : ∃ (r : Fin 2048) (l : Fin 1024), i = ix2 r l := ⟨i 0, i 1, eq_ix2 i⟩
  pointwise [val_main_v3,val_main_v2,val_main_v1,val_main_v0,val_main_cst]
  rfl

theorem ref_at (x h : S2048x1024.Idx → EReal) (w : S1024x1024.Idx → EReal) (g b : S1024.Idx → EReal) :
    val_main_v25 (F := Ideal) x w h g b = normed x h w g b := funext fun i => by
  obtain ⟨r, l, rfl⟩ : ∃ (r : Fin 2048) (l : Fin 1024), i = ix2 r l := ⟨i 0, i 1, eq_ix2 i⟩
  have hs := ref_sums x h w
  unfold normed
  rw [← hs]
  unfold val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6 val_main_v5 val_main_v4
  generalize val_main_v3 (F := Ideal) x w h = z
  pointwise [val_main_cst_0,val_main_cst_1,val_main_cst_2,val_main_cst_3,val_main_cst_4]
  rfl

theorem ref_at' (x h : S2048x1024.Idx → EReal) (w : S1024x1024.Idx → EReal) (g b : S1024.Idx → EReal) :
    val_main_v26 (F := Ideal) x w h g b = normed x h w g b := ref_at x h w g b

theorem claim : algebraic_MixFwdIdeal_MixFwdRefIdeal := fun m ρ m' ρ' _ hag => by
  have r0 := fun c => ref_sums (argX m c) (argH m c) (argW m c)
  have r1 := fun c => ref_at (argX m c) (argH m c) (argW m c) (argG m c) (argB m c)
  have r2 := fun c => ref_at' (argX m c) (argH m c) (argW m c) (argG m c) (argB m c)
  refine ⟨fun c => sumsR (argX m c) (argH m c) (argW m c), fun c => normed (argX m c) (argH m c) (argW m c) (argG m c) (argB m c),
    fun c => normed (argX m c) (argH m c) (argW m c) (argG m c) (argB m c),
    (θ_run _ _ _).mono (fun _ h c => ⟨(h c).1.trans (final5 m c _ (tile5 m c)), (h c).2.1.trans (final6 m c _ (tile6 m c)),
      (h c).2.2.1.trans (final7 m c _ (tile7 m c)), (h c).2.2.2⟩) (Cert.MixFwdIdeal.Value.run_blocks m ρ),
    (θ_run _ _ _).mono (fun _ h c => ⟨(h c).1.trans ((val_main_v3_eq _ _ _).trans ?_), (h c).2.1.trans ((val_main_v25_eq _ _ _ _ _).trans ?_),
      (h c).2.2.1.trans ((val_main_v26_eq _ _ _ _ _).trans ?_), (h c).2.2.2⟩) (Cert.MixFwdRefIdeal.Value.run m' ρ')⟩
  · rw [(hag c).1, (hag c).2.1, (hag c).2.2.1]; exact r0 c
  · rw [(hag c).1, (hag c).2.1, (hag c).2.2.1, (hag c).2.2.2.1, (hag c).2.2.2.2]; exact r1 c
  · rw [(hag c).1, (hag c).2.1, (hag c).2.2.1, (hag c).2.2.2.1, (hag c).2.2.2.2]; exact r2 c

end Cert.Step.MixFwd

end
-- ==== Proof.MergeFwd.lean ====
/-
  The forward call that projects the two branches and adds them under their gates: the tiled kernel over the sharded matrices
  and the plain formula give the same rows, whatever the arguments hold.
-/
module

public import proofs.«01_k».proof.Proof.FwdNorm
public import Idealize.ShloMosaic.Lib.Pipeline.ValueKit
public import proofs.«01_k».proof.Defs
public import proofs.«01_k».proof.Proof.Gen.MergeFwdIdeal.Value
public import proofs.«01_k».proof.Proof.Gen.MergeFwdRefIdeal.Read
public import proofs.«01_k».proof.Proof.Gen.MergeFwdRefIdeal.Run

@[expose] public section

set_option maxRecDepth 16384

noncomputable section

open Idealize.ShloMosaic Idealize.ShloMosaic.TcCoe Idealize.SL.Sem
open Idealize.ShloMosaic.Pipeline (Dat)

namespace Cert.MergeFwdIdeal.Value

open Cert.MergeFwdIdeal Cert.MergeFwdIdeal.Gen Cert.Step

variable (m : (ℓ : Loc nD τ sig) → Buf (Elt Ideal) ℓ) (ρ : Dev nD → PrngReg)
/-- The arguments as arrays. -/
abbrev argA (c : Dev nD) : S2048x512.Idx → EReal := m ((c : Thread nD τ).loc main_arg0)
abbrev argP (c : Dev nD) : S2048x512.Idx → EReal := m ((c : Thread nD τ).loc main_arg1)
abbrev argU (c : Dev nD) : S512x1024.Idx → EReal := m ((c : Thread nD τ).loc main_arg2)
abbrev argW (c : Dev nD) : S512x1024.Idx → EReal := m ((c : Thread nD τ).loc main_arg3)
abbrev argJ (c : Dev nD) : S2048x4096.Idx → EReal := m ((c : Thread nD τ).loc main_arg4)

theorem V_v0 (c : Dev nD) : V m c main_v0 = argA m c := by
  unfold V hostOps0
  after_results <;> rfl
theorem V_v1 (c : Dev nD) : V m c main_v1 = argP m c := by
  unfold V hostOps0
  after_results <;> rfl
theorem V_v8 (c : Dev nD) : V m c main_v8 = argJ m c := by
  unfold V hostOps0
  after_results <;> rfl
theorem V_v4 (c : Dev nD) (p : Fin 8) (k : Fin 512) (q : Fin 128) :
    (V m c main_v4 : S8x512x128.Idx → EReal) (ix3 p k q) = argU m c (ix2 k ⟨p.val * 128 + q.val, by omega⟩) := by
  have h : V m c main_v4 = transpose S8x512x128 [1, 0, 2] (shapeCast S512x8x128 (argU m c) shapeCasts_S512x1024_S512x8x128) transposes_S512x8x128_S8x512x128_1_0_2 := by
    unfold V hostOps0
    after_results <;> rfl
  rw [h]
  pointwise []

theorem V_v7 (c : Dev nD) (p : Fin 8) (k : Fin 512) (q : Fin 128) :
    (V m c main_v7 : S8x512x128.Idx → EReal) (ix3 p k q) = argW m c (ix2 k ⟨p.val * 128 + q.val, by omega⟩) := by
  have h : V m c main_v7 = transpose S8x512x128 [1, 0, 2] (shapeCast S512x8x128 (argW m c) shapeCasts_S512x1024_S512x8x128) transposes_S512x8x128_S8x512x128_1_0_2 := by
    unfold V hostOps0
    after_results <;> rfl
  rw [h]
  pointwise []

theorem row_lt (t : Fin cfg0.N) (r : Fin 1024) : t.val / 2 * 1024 + r.val < 2048 := by
  have := lt_of_lt_of_eq t.isLt (show cfg0.N = 4 from N_0); omega
theorem col_lt (t : Fin cfg0.N) (l : Fin 512) : t.val % 2 * 512 + l.val < 1024 := by omega

theorem index_all : ∀ t : Fin cfg0.N, win0_0.index t = ![t.val / 2, 0] ∧ win0_1.index t = ![t.val / 2, 0] ∧ win0_2.index t = ![t.val % 2, 0, 0] ∧ win0_3.index t = ![t.val % 2, 0, 0] ∧ win0_4.index t = ![t.val / 2, 4 + t.val % 2] ∧ win0_5.index t = ![t.val / 2, 6 + t.val % 2] ∧ win0_6.index t = ![t.val / 2, t.val % 2] ∧ win0_7.index t = ![t.val / 2, t.val % 2] ∧ win0_8.index t = ![t.val / 2, t.val % 2] :=
  (by decide +kernel : ∀ t : Fin grid0.N, _)

theorem blkA (c : Dev nD) (t : Fin cfg0.N) (r : Fin 1024) (k : Fin 512) :
    (iblk m c 0 t : Vec Ideal S1024x512 .bf16) (ix2 r k) = argA m c (ix2 ⟨t.val / 2 * 1024 + r.val, row_lt t r⟩ k) := by
  blk_simp [iblk]
  rw [V_v0]
  refine congrArg _ ?_
  blk_ext [index_all]
theorem blkP (c : Dev nD) (t : Fin cfg0.N) (r : Fin 1024) (k : Fin 512) :
    (iblk m c 1 t : Vec Ideal S1024x512 .bf16) (ix2 r k) = argP m c (ix2 ⟨t.val / 2 * 1024 + r.val, row_lt t r⟩ k) := by
  blk_simp [iblk]
  rw [V_v1]
  refine congrArg _ ?_
  blk_ext [index_all]
theorem blkU (c : Dev nD) (t : Fin cfg0.N) (p : Fin 4) (k : Fin 512) (q : Fin 128) :
    (iblk m c 2 t : Vec Ideal S4x512x128 .bf16) (ix3 p k q) = argU m c (ix2 k ⟨t.val % 2 * 512 + p.val * 128 + q.val, by omega⟩) := by
  rw [← (V_v4 m c ⟨t.val % 2 * 4 + p.val, by omega⟩ k q).trans (congrArg (argU m c) (congrArg (ix2 k ·) (Fin.ext (by show (t.val % 2 * 4 + p.val) * 128 + q.val = t.val % 2 * 512 + p.val * 128 + q.val; omega))))]
  blk_simp [iblk]
  refine congrArg _ ?_
  blk_ext [index_all]
theorem blkW (c : Dev nD) (t : Fin cfg0.N) (p : Fin 4) (k : Fin 512) (q : Fin 128) :
    (iblk m c 3 t : Vec Ideal S4x512x128 .bf16) (ix3 p k q) = argW m c (ix2 k ⟨t.val % 2 * 512 + p.val * 128 + q.val, by omega⟩) := by
  rw [← (V_v7 m c ⟨t.val % 2 * 4 + p.val, by omega⟩ k q).trans (congrArg (argW m c) (congrArg (ix2 k ·) (Fin.ext (by show (t.val % 2 * 4 + p.val) * 128 + q.val = t.val % 2 * 512 + p.val * 128 + q.val; omega))))]
  blk_simp [iblk]
  refine congrArg _ ?_
  blk_ext [index_all]
theorem blkGa (c : Dev nD) (t : Fin cfg0.N) (r : Fin 1024) (l : Fin 512) :
    (iblk m c 4 t : Vec Ideal S1024x512 .bf16) (ix2 r l) = argJ m c (ix2 ⟨t.val / 2 * 1024 + r.val, row_lt t r⟩ ⟨2048 + (t.val % 2 * 512 + l.val), by omega⟩) := by
  blk_simp [iblk]
  rw [V_v8]
  refine congrArg _ ?_
  blk_ext [index_all]
theorem blkGb (c : Dev nD) (t : Fin cfg0.N) (r : Fin 1024) (l : Fin 512) :
    (iblk m c 5 t : Vec Ideal S1024x512 .bf16) (ix2 r l) = argJ m c (ix2 ⟨t.val / 2 * 1024 + r.val, row_lt t r⟩ ⟨3072 + (t.val % 2 * 512 + l.val), by omega⟩) := by
  blk_simp [iblk]
  rw [V_v8]
  refine congrArg _ ?_
  blk_ext [index_all]
theorem final6 (c : Dev nD) (A : S2048x1024.Idx → EReal)
    (h : ∀ (t : Fin cfg0.N) (r : Fin 1024) (l : Fin 512), (out0_6 (F := Ideal) (iblk m c 0 t) (iblk m c 1 t) (iblk m c 2 t) (iblk m c 3 t) (iblk m c 4 t) (iblk m c 5 t) : Vec Ideal S1024x512 .bf16) (ix2 r l) = A (ix2 ⟨t.val / 2 * 1024 + r.val, row_lt t r⟩ ⟨t.val % 2 * 512 + l.val, col_lt t l⟩)) :
    (dats m 0 c).arrAt 6 cfg0.N = A := by
  refine (dats m 0 c).arrAt_eq_of_covers 6 A (by decide +kernel) fun t _ (y : S1024x512.Idx) => ?_
  blk_simp
  rw [after0_6, eq_ix2 y]
  refine (h t _ _).trans (congrArg A ?_)
  blk_ext [index_all]
theorem final7 (c : Dev nD) (A : S2048x1024.Idx → EReal)
    (h : ∀ (t : Fin cfg0.N) (r : Fin 1024) (l : Fin 512), (out0_7 (F := Ideal) (iblk m c 0 t) (iblk m c 1 t) (iblk m c 2 t) (iblk m c 3 t) (iblk m c 4 t) (iblk m c 5 t) : Vec Ideal S1024x512 .bf16) (ix2 r l) = A (ix2 ⟨t.val / 2 * 1024 + r.val, row_lt t r⟩ ⟨t.val % 2 * 512 + l.val, col_lt t l⟩)) :
    (dats m 0 c).arrAt 7 cfg0.N = A := by
  refine (dats m 0 c).arrAt_eq_of_covers 7 A (by decide +kernel) fun t _ (y : S1024x512.Idx) => ?_
  blk_simp
  rw [after0_7, eq_ix2 y]
  refine (h t _ _).trans (congrArg A ?_)
  blk_ext [index_all]
theorem final8 (c : Dev nD) (A : S2048x1024.Idx → EReal)
    (h : ∀ (t : Fin cfg0.N) (r : Fin 1024) (l : Fin 512), (out0_8 (F := Ideal) (iblk m c 0 t) (iblk m c 1 t) (iblk m c 2 t) (iblk m c 3 t) (iblk m c 4 t) (iblk m c 5 t) : Vec Ideal S1024x512 .bf16) (ix2 r l) = A (ix2 ⟨t.val / 2 * 1024 + r.val, row_lt t r⟩ ⟨t.val % 2 * 512 + l.val, col_lt t l⟩)) :
    (dats m 0 c).arrAt 8 cfg0.N = A := by
  refine (dats m 0 c).arrAt_eq_of_covers 8 A (by decide +kernel) fun t _ (y : S1024x512.Idx) => ?_
  blk_simp
  rw [after0_8, eq_ix2 y]
  refine (h t _ _).trans (congrArg A ?_)
  blk_ext [index_all]
/-- The logistic function. -/
def sg (x : EReal) : EReal := Ideal.div 1 (1 + Ideal.exp (-x))
/-- A branch's projection, and the gated sum. -/
def branch (a : S2048x512.Idx → EReal) (u : S512x1024.Idx → EReal) : S2048x1024.Idx → EReal := fun i => ∑ k : Fin 512, a (ix2 (i 0) k) * u (ix2 k (i 1))
def merged (a p : S2048x512.Idx → EReal) (u w : S512x1024.Idx → EReal) (j : S2048x4096.Idx → EReal) : S2048x1024.Idx → EReal := fun i =>
  sg (j (ix2 (i 0) ⟨2048 + (i 1).val, by have : (i 1).val < 1024 := (i 1).isLt; omega⟩)) * branch a u i
    + sg (j (ix2 (i 0) ⟨3072 + (i 1).val, by have : (i 1).val < 1024 := (i 1).isLt; omega⟩)) * branch p w i

theorem pay1_at (y z : FVec Ideal S1024x512 .f32) (s q : Vec Ideal S1024x512 .bf16) (r : Fin 1024) (l : Fin 512) :
    k0_pay1 (F := Ideal) y z (k0_pay6 s) q (ix2 r l) = sg (s (ix2 r l)) * y (ix2 r l) + sg (q (ix2 r l)) * z (ix2 r l) := by
  pointwise [k0_pay1, k0_pay6]
  rw [zero_sub, zero_sub]
  rfl

/-- The product with four shards side by side. -/
theorem prod_at (x : Vec Ideal S1024x512 .bf16) (w : Vec Ideal S4x512x128 .bf16) (r : Fin 1024) (l : Fin 512) :
    k0_pay4 (F := Ideal) (View.ld x r0_0) (View.ld w r0_1) (View.ld w r0_2) (View.ld w r0_3) (View.ld w r0_4) (ix2 r l)
      = ∑ k : Fin 512, x (ix2 r k) * w (ix3 ⟨l.val / 128, by omega⟩ k ⟨l.val % 128, by omega⟩) := by
  unfold k0_pay4
  pointwise []
  refine Finset.sum_congr rfl fun k _ => congrArg (x (ix2 r k) * ·) ?_
  split
  · exact congrArg w (congrArg₂ (ix3 · k ·) (Fin.ext (by show 0 = l.val / 128; omega)) (Fin.ext (by dsimp only; omega)))
  split
  · exact congrArg w (congrArg₂ (ix3 · k ·) (Fin.ext (by show 1 = l.val / 128; omega)) (Fin.ext (by dsimp only; omega)))
  split
  · exact congrArg w (congrArg₂ (ix3 · k ·) (Fin.ext (by show 2 = l.val / 128; omega)) (Fin.ext (by dsimp only; omega)))
  · exact congrArg w (congrArg₂ (ix3 · k ·) (Fin.ext (by show 3 = l.val / 128; omega)) (Fin.ext (by dsimp only; omega)))

theorem at7 (c : Dev nD) (t : Fin cfg0.N) (r : Fin 1024) (l : Fin 512) :
    k0_pay7 (F := Ideal) (iblk m c 0 t) (iblk m c 1 t) (iblk m c 2 t) (iblk m c 3 t) (iblk m c 4 t) (iblk m c 5 t) (ix2 r l)
      = branch (argA m c) (argU m c) (ix2 ⟨t.val / 2 * 1024 + r.val, row_lt t r⟩ ⟨t.val % 2 * 512 + l.val, col_lt t l⟩) := by
  refine (prod_at (iblk m c 0 t) (iblk m c 2 t) r l).trans (Finset.sum_congr rfl fun k _ => ?_)
  rw [blkA, blkU]
  exact congrArg (_ * argU m c ·) (congrArg (ix2 k ·) (Fin.ext (by show t.val % 2 * 512 + l.val / 128 * 128 + l.val % 128 = t.val % 2 * 512 + l.val; omega)))

theorem at8 (c : Dev nD) (t : Fin cfg0.N) (r : Fin 1024) (l : Fin 512) :
    k0_pay8 (F := Ideal) (iblk m c 0 t) (iblk m c 1 t) (iblk m c 2 t) (iblk m c 3 t) (iblk m c 4 t) (iblk m c 5 t) (ix2 r l)
      = branch (argP m c) (argW m c) (ix2 ⟨t.val / 2 * 1024 + r.val, row_lt t r⟩ ⟨t.val % 2 * 512 + l.val, col_lt t l⟩) := by
  refine (prod_at (iblk m c 1 t) (iblk m c 3 t) r l).trans (Finset.sum_congr rfl fun k _ => ?_)
  rw [blkP, blkW]
  exact congrArg (_ * argW m c ·) (congrArg (ix2 k ·) (Fin.ext (by show t.val % 2 * 512 + l.val / 128 * 128 + l.val % 128 = t.val % 2 * 512 + l.val; omega)))

theorem tile6 (c : Dev nD) (t : Fin cfg0.N) (r : Fin 1024) (l : Fin 512) :
    (out0_6 (F := Ideal) (iblk m c 0 t) (iblk m c 1 t) (iblk m c 2 t) (iblk m c 3 t) (iblk m c 4 t) (iblk m c 5 t) : Vec Ideal S1024x512 .bf16) (ix2 r l)
      = merged (argA m c) (argP m c) (argU m c) (argW m c) (argJ m c) (ix2 ⟨t.val / 2 * 1024 + r.val, row_lt t r⟩ ⟨t.val % 2 * 512 + l.val, col_lt t l⟩) := by
  unfold out0_6
  rw [View.canon_unit_zero hz2]
  simp only [View.ld_unit_zero (S := S1024x512) hz2]
  rw [pay1_at, at7, at8, blkGa, blkGb]
  rfl

theorem tile7 (c : Dev nD) (t : Fin cfg0.N) (r : Fin 1024) (l : Fin 512) :
    (out0_7 (F := Ideal) (iblk m c 0 t) (iblk m c 1 t) (iblk m c 2 t) (iblk m c 3 t) (iblk m c 4 t) (iblk m c 5 t) : Vec Ideal S1024x512 .bf16) (ix2 r l) = branch (argA m c) (argU m c) (ix2 ⟨t.val / 2 * 1024 + r.val, row_lt t r⟩ ⟨t.val % 2 * 512 + l.val, col_lt t l⟩) := by
  unfold out0_7
  rw [View.canon_unit_zero hz2]
  exact at7 m c t r l

theorem tile8 (c : Dev nD) (t : Fin cfg0.N) (r : Fin 1024) (l : Fin 512) :
    (out0_8 (F := Ideal) (iblk m c 0 t) (iblk m c 1 t) (iblk m c 2 t) (iblk m c 3 t) (iblk m c 4 t) (iblk m c 5 t) : Vec Ideal S1024x512 .bf16) (ix2 r l) = branch (argP m c) (argW m c) (ix2 ⟨t.val / 2 * 1024 + r.val, row_lt t r⟩ ⟨t.val % 2 * 512 + l.val, col_lt t l⟩) := by
  unfold out0_8
  rw [View.canon_unit_zero hz2]
  exact at8 m c t r l

end Cert.MergeFwdIdeal.Value

namespace Cert.Step.MergeFwd

open Cert.MergeFwdIdeal.Value (argA argP argU argW argJ sg branch merged final6 final7 final8 tile6 tile7 tile8)
open Cert.MergeFwdRefIdeal Cert.MergeFwdRefIdeal.Gen Cert.MergeFwdRefIdeal.Read

variable (a p : S2048x512.Idx → EReal) (u w : S512x1024.Idx → EReal) (j : S2048x4096.Idx → EReal)

theorem ref7 : val_main_v20 (F := Ideal) a u = branch a u := funext fun i => by
  obtain ⟨r, l, rfl⟩ : ∃ (r : Fin 2048) (l : Fin 1024), i = ix2 r l := ⟨i 0, i 1, eq_ix2 i⟩
  pointwise [val_main_v20, val_main_v2]
  rfl
theorem ref8 : val_main_v21 (F := Ideal) p w = branch p w := funext fun i => by
  obtain ⟨r, l, rfl⟩ : ∃ (r : Fin 2048) (l : Fin 1024), i = ix2 r l := ⟨i 0, i 1, eq_ix2 i⟩
  pointwise [val_main_v21, val_main_v3]
  rfl
theorem ref6 : val_main_v19 (F := Ideal) a p u w j = merged a p u w j := funext fun i => by
  obtain ⟨r, l, rfl⟩ : ∃ (r : Fin 2048) (l : Fin 1024), i = ix2 r l := ⟨i 0, i 1, eq_ix2 i⟩
  pointwise [val_main_v19,val_main_v18,val_main_v17,val_main_v16,val_main_v15,val_main_v14,val_main_v13,val_main_v12,val_main_v11,val_main_v10,val_main_v9,val_main_v8,val_main_v7,val_main_v6,val_main_v5,val_main_v4,val_main_v3,val_main_v2,val_main_v1,val_main_v0,val_main_cst,val_main_cst_0,val_main_cst_1,val_main_cst_2]

  rfl

theorem claim : algebraic_MergeFwdIdeal_MergeFwdRefIdeal := fun m ρ m' ρ' _ hag => by
  have r0 := fun c => ref6 (argA m c) (argP m c) (argU m c) (argW m c) (argJ m c)
  have r1 := fun c => ref7 (argA m c) (argU m c)
  have r2 := fun c => ref8 (argP m c) (argW m c)
  refine ⟨fun c => merged (argA m c) (argP m c) (argU m c) (argW m c) (argJ m c), fun c => branch (argA m c) (argU m c), fun c => branch (argP m c) (argW m c),
    (θ_run _ _ _).mono (fun _ h c => ⟨(h c).1.trans (final6 m c _ (tile6 m c)), (h c).2.1.trans (final7 m c _ (tile7 m c)),
      (h c).2.2.1.trans (final8 m c _ (tile8 m c)), (h c).2.2.2⟩) (Cert.MergeFwdIdeal.Value.run_blocks m ρ),
    (θ_run _ _ _).mono (fun _ h c => ⟨(h c).1.trans ((val_main_v19_eq _ _ _ _ _).trans ?_), (h c).2.1.trans ((val_main_v20_eq _ _).trans ?_),
      (h c).2.2.1.trans ((val_main_v21_eq _ _).trans ?_), (h c).2.2.2⟩) (Cert.MergeFwdRefIdeal.Value.run m' ρ')⟩
  · rw [(hag c).1, (hag c).2.1, (hag c).2.2.1, (hag c).2.2.2.1, (hag c).2.2.2.2]; exact r0 c
  · rw [(hag c).1, (hag c).2.2.1]; exact r1 c
  · rw [(hag c).2.1, (hag c).2.2.2.1]; exact r2 c

end Cert.Step.MergeFwd

end
-- ==== Proof.DownFwd.lean ====
/-
  The forward call that ends the layer: the down projection over four slabs, the gated embedding, the scaled residual and the
  normalisation. The row-blocked kernel over the sharded matrices and the plain formula give the same five results, whatever the arguments hold.
-/
module

public import proofs.«01_k».proof.Proof.FwdNorm
public import Idealize.ShloMosaic.Lib.Pipeline.ValueKit
public import proofs.«01_k».proof.Defs
public import proofs.«01_k».proof.Proof.Gen.DownFwdIdeal.Value
public import proofs.«01_k».proof.Proof.Gen.DownFwdRefIdeal.Read
public import proofs.«01_k».proof.Proof.Gen.DownFwdRefIdeal.Run

@[expose] public section

set_option maxRecDepth 16384

noncomputable section

open Idealize.ShloMosaic Idealize.ShloMosaic.TcCoe Idealize.SL.Sem
open Idealize.ShloMosaic.Pipeline (Dat)

namespace Cert.DownFwdIdeal.Value

open Cert.DownFwdIdeal Cert.DownFwdIdeal.Gen Cert.Step

variable (m : (ℓ : Loc nD τ sig) → Buf (Elt Ideal) ℓ) (ρ : Dev nD → PrngReg)
/-- The arguments as arrays. -/
abbrev argT (c : Dev nD) : S2048x2816.Idx → EReal := m ((c : Thread nD τ).loc main_arg0)
abbrev argD (c : Dev nD) : S2816x1024.Idx → EReal := m ((c : Thread nD τ).loc main_arg1)
abbrev argH (c : Dev nD) : S2048x1024.Idx → EReal := m ((c : Thread nD τ).loc main_arg2)
abbrev argU (c : Dev nD) : S1024x1024.Idx → EReal := m ((c : Thread nD τ).loc main_arg3)
abbrev argP (c : Dev nD) : S2048x256.Idx → EReal := m ((c : Thread nD τ).loc main_arg4)
abbrev argQ (c : Dev nD) : S256x1024.Idx → EReal := m ((c : Thread nD τ).loc main_arg5)
abbrev argG (c : Dev nD) : S1024.Idx → EReal := m ((c : Thread nD τ).loc main_arg6)
abbrev argB (c : Dev nD) : S1024.Idx → EReal := m ((c : Thread nD τ).loc main_arg7)

theorem V_v5 (c : Dev nD) : V m c main_v5 = argH m c := by
  unfold V hostOps0
  after_results <;> rfl
theorem V_v8 (c : Dev nD) : V m c main_v8 = argP m c := by
  unfold V hostOps0
  after_results <;> rfl
theorem V_v12 (c : Dev nD) (l : Fin 1024) : (V m c main_v12 : S1x1024.Idx → EReal) (ix2 0 l) = argG m c (ix1 l) := by
  have h : V m c main_v12 = shapeCast S1x1024 (argG m c) shapeCasts_S1024_S1x1024 := by
    unfold V hostOps0
    after_results <;> rfl
  rw [h]
  pointwise []
theorem V_v13 (c : Dev nD) (l : Fin 1024) : (V m c main_v13 : S1x1024.Idx → EReal) (ix2 0 l) = argB m c (ix1 l) := by
  have h : V m c main_v13 = shapeCast S1x1024 (argB m c) shapeCasts_S1024_S1x1024 := by
    unfold V hostOps0
    after_results <;> rfl
  rw [h]
  pointwise []
theorem V_v2 (c : Dev nD) (p : Fin 4) (s : Fin 2048) (q : Fin 704) : (V m c main_v2 : S4x2048x704.Idx → EReal) (ix3 p s q) = argT m c (ix2 s ⟨p.val * 704 + q.val, by omega⟩) := by
  have h : V m c main_v2 = transpose S4x2048x704 [1, 0, 2] (shapeCast S2048x4x704 (argT m c) shapeCasts_S2048x2816_S2048x4x704) transposes_S2048x4x704_S4x2048x704_1_0_2 := by
    unfold V hostOps0
    after_results <;> rfl
  rw [h]
  pointwise []
theorem V_v4 (c : Dev nD) (p : Fin 8) (q : Fin 352) (l : Fin 1024) : (V m c main_v4 : S8x352x1024.Idx → EReal) (ix3 p q l) = argD m c (ix2 ⟨p.val * 352 + q.val, by omega⟩ l) := by
  have h : V m c main_v4 = shapeCast S8x352x1024 (argD m c) shapeCasts_S2816x1024_S8x352x1024 := by
    unfold V hostOps0
    after_results <;> rfl
  rw [h]
  pointwise []
theorem V_v7 (c : Dev nD) (p : Fin 8) (q : Fin 128) (l : Fin 1024) : (V m c main_v7 : S8x128x1024.Idx → EReal) (ix3 p q l) = argU m c (ix2 ⟨p.val * 128 + q.val, by omega⟩ l) := by
  have h : V m c main_v7 = shapeCast S8x128x1024 (argU m c) shapeCasts_S1024x1024_S8x128x1024 := by
    unfold V hostOps0
    after_results <;> rfl
  rw [h]
  pointwise []
theorem V_v11 (c : Dev nD) (p : Fin 8) (k : Fin 256) (q : Fin 128) : (V m c main_v11 : S8x256x128.Idx → EReal) (ix3 p k q) = argQ m c (ix2 k ⟨p.val * 128 + q.val, by omega⟩) := by
  have h : V m c main_v11 = transpose S8x256x128 [1, 0, 2] (shapeCast S256x8x128 (argQ m c) shapeCasts_S256x1024_S256x8x128) transposes_S256x8x128_S8x256x128_1_0_2 := by
    unfold V hostOps0
    after_results <;> rfl
  rw [h]
  pointwise []

theorem row_lt (t : Fin cfg0.N) (r : Fin 256) : t.val * 256 + r.val < 2048 := by
  have := lt_of_lt_of_eq t.isLt (show cfg0.N = 8 from N_0); omega

set_option maxHeartbeats 800000 in
theorem index_all : ∀ t : Fin cfg0.N, win0_0.index t = ![0, t.val, 0] ∧ win0_1.index t = ![0, 0, 0] ∧ win0_2.index t = ![t.val, 0] ∧ win0_3.index t = ![0, 0, 0] ∧ win0_4.index t = ![t.val, 0] ∧ win0_5.index t = ![0, 0, 0] ∧ win0_6.index t = ![t.val, 0] ∧ win0_7.index t = ![0, 0] ∧ win0_8.index t = ![0, 0] ∧ win0_9.index t = ![t.val, 0] ∧ win0_10.index t = ![t.val, 0] ∧ win0_11.index t = ![t.val, 0] ∧ win0_12.index t = ![t.val, 0] ∧ win0_13.index t = ![t.val, 0] :=
  (by decide +kernel : ∀ t : Fin grid0.N, _)

theorem blkT (c : Dev nD) (t : Fin cfg0.N) (p : Fin 4) (r : Fin 256) (q : Fin 704) :
    (iblk m c 0 t : Vec Ideal S4x256x704 .bf16) (ix3 p r q) = argT m c (ix2 ⟨t.val * 256 + r.val, row_lt t r⟩ ⟨p.val * 704 + q.val, by omega⟩) := by
  rw [← V_v2 m c p ⟨t.val * 256 + r.val, row_lt t r⟩ q]
  blk_simp [iblk]
  refine congrArg _ ?_
  blk_ext [index_all]
theorem blkD (c : Dev nD) (t : Fin cfg0.N) (p : Fin 8) (q : Fin 352) (l : Fin 1024) :
    (iblk m c 1 t : Vec Ideal S8x352x1024 .bf16) (ix3 p q l) = argD m c (ix2 ⟨p.val * 352 + q.val, by omega⟩ l) := by
  rw [← V_v4 m c p q l]
  blk_simp [iblk]
  refine congrArg _ ?_
  blk_ext [index_all]
theorem blkHb (c : Dev nD) (t : Fin cfg0.N) (r : Fin 256) (l : Fin 1024) :
    (iblk m c 2 t : Vec Ideal S256x1024 .bf16) (ix2 r l) = argH m c (ix2 ⟨t.val * 256 + r.val, row_lt t r⟩ l) := by
  blk_simp [iblk]
  rw [V_v5]
  refine congrArg _ ?_
  blk_ext [index_all]
theorem blkU (c : Dev nD) (t : Fin cfg0.N) (p : Fin 8) (q : Fin 128) (l : Fin 1024) :
    (iblk m c 3 t : Vec Ideal S8x128x1024 .bf16) (ix3 p q l) = argU m c (ix2 ⟨p.val * 128 + q.val, by omega⟩ l) := by
  rw [← V_v7 m c p q l]
  blk_simp [iblk]
  refine congrArg _ ?_
  blk_ext [index_all]
theorem blkP (c : Dev nD) (t : Fin cfg0.N) (r : Fin 256) (l : Fin 256) :
    (iblk m c 4 t : Vec Ideal S256x256 .bf16) (ix2 r l) = argP m c (ix2 ⟨t.val * 256 + r.val, row_lt t r⟩ l) := by
  blk_simp [iblk]
  rw [V_v8]
  refine congrArg _ ?_
  blk_ext [index_all]
theorem blkQ (c : Dev nD) (t : Fin cfg0.N) (p : Fin 8) (k : Fin 256) (q : Fin 128) :
    (iblk m c 5 t : Vec Ideal S8x256x128 .bf16) (ix3 p k q) = argQ m c (ix2 k ⟨p.val * 128 + q.val, by omega⟩) := by
  rw [← V_v11 m c p k q]
  blk_simp [iblk]
  refine congrArg _ ?_
  blk_ext [index_all]
theorem blkH (c : Dev nD) (t : Fin cfg0.N) (r : Fin 256) (l : Fin 1024) :
    (iblk m c 6 t : Vec Ideal S256x1024 .f32) (ix2 r l) = argH m c (ix2 ⟨t.val * 256 + r.val, row_lt t r⟩ l) := by
  blk_simp [iblk]
  rw [V_main_arg2]
  refine congrArg _ ?_
  blk_ext [index_all]
theorem blkG (c : Dev nD) (t : Fin cfg0.N) (l : Fin 1024) :
    (iblk m c 7 t : Vec Ideal S1x1024 .f32) (ix2 0 l) = argG m c (ix1 l) := by
  rw [← V_v12 m c l]
  blk_simp [iblk]
  refine congrArg _ ?_
  blk_ext [index_all]
theorem blkB (c : Dev nD) (t : Fin cfg0.N) (l : Fin 1024) :
    (iblk m c 8 t : Vec Ideal S1x1024 .f32) (ix2 0 l) = argB m c (ix1 l) := by
  rw [← V_v13 m c l]
  blk_simp [iblk]
  refine congrArg _ ?_
  blk_ext [index_all]
theorem final9 (c : Dev nD) (A : S2048x1024.Idx → EReal)
    (h : ∀ (t : Fin cfg0.N) (r : Fin 256) (l : Fin 1024), (out0_9 (F := Ideal) (iblk m c 0 t) (iblk m c 1 t) (iblk m c 2 t) (iblk m c 3 t) (iblk m c 4 t) (iblk m c 5 t) (iblk m c 6 t) (iblk m c 7 t) (iblk m c 8 t) : Vec Ideal S256x1024 .f32) (ix2 r l) = A (ix2 ⟨t.val * 256 + r.val, row_lt t r⟩ l)) :
    (dats m 0 c).arrAt 9 cfg0.N = A := by
  refine (dats m 0 c).arrAt_eq_of_covers 9 A (by decide +kernel) fun t _ (y : S256x1024.Idx) => ?_
  blk_simp
  rw [after0_9, eq_ix2 y]
  refine (h t _ _).trans (congrArg A ?_)
  blk_ext [index_all]
theorem final10 (c : Dev nD) (A : S2048x1024.Idx → EReal)
    (h : ∀ (t : Fin cfg0.N) (r : Fin 256) (l : Fin 1024), (out0_10 (F := Ideal) (iblk m c 0 t) (iblk m c 1 t) (iblk m c 2 t) (iblk m c 3 t) (iblk m c 4 t) (iblk m c 5 t) (iblk m c 6 t) (iblk m c 7 t) (iblk m c 8 t) : Vec Ideal S256x1024 .f32) (ix2 r l) = A (ix2 ⟨t.val * 256 + r.val, row_lt t r⟩ l)) :
    (dats m 0 c).arrAt 10 cfg0.N = A := by
  refine (dats m 0 c).arrAt_eq_of_covers 10 A (by decide +kernel) fun t _ (y : S256x1024.Idx) => ?_
  blk_simp
  rw [after0_10, eq_ix2 y]
  refine (h t _ _).trans (congrArg A ?_)
  blk_ext [index_all]
theorem final11 (c : Dev nD) (A : S2048x1024.Idx → EReal)
    (h : ∀ (t : Fin cfg0.N) (r : Fin 256) (l : Fin 1024), (out0_11 (F := Ideal) (iblk m c 0 t) (iblk m c 1 t) (iblk m c 2 t) (iblk m c 3 t) (iblk m c 4 t) (iblk m c 5 t) (iblk m c 6 t) (iblk m c 7 t) (iblk m c 8 t) : Vec Ideal S256x1024 .bf16) (ix2 r l) = A (ix2 ⟨t.val * 256 + r.val, row_lt t r⟩ l)) :
    (dats m 0 c).arrAt 11 cfg0.N = A := by
  refine (dats m 0 c).arrAt_eq_of_covers 11 A (by decide +kernel) fun t _ (y : S256x1024.Idx) => ?_
  blk_simp
  rw [after0_11, eq_ix2 y]
  refine (h t _ _).trans (congrArg A ?_)
  blk_ext [index_all]
theorem final12 (c : Dev nD) (A : S2048x1024.Idx → EReal)
    (h : ∀ (t : Fin cfg0.N) (r : Fin 256) (l : Fin 1024), (out0_12 (F := Ideal) (iblk m c 0 t) (iblk m c 1 t) (iblk m c 2 t) (iblk m c 3 t) (iblk m c 4 t) (iblk m c 5 t) (iblk m c 6 t) (iblk m c 7 t) (iblk m c 8 t) : Vec Ideal S256x1024 .bf16) (ix2 r l) = A (ix2 ⟨t.val * 256 + r.val, row_lt t r⟩ l)) :
    (dats m 0 c).arrAt 12 cfg0.N = A := by
  refine (dats m 0 c).arrAt_eq_of_covers 12 A (by decide +kernel) fun t _ (y : S256x1024.Idx) => ?_
  blk_simp
  rw [after0_12, eq_ix2 y]
  refine (h t _ _).trans (congrArg A ?_)
  blk_ext [index_all]
theorem final13 (c : Dev nD) (A : S2048x1024.Idx → EReal)
    (h : ∀ (t : Fin cfg0.N) (r : Fin 256) (l : Fin 1024), (out0_13 (F := Ideal) (iblk m c 0 t) (iblk m c 1 t) (iblk m c 2 t) (iblk m c 3 t) (iblk m c 4 t) (iblk m c 5 t) (iblk m c 6 t) (iblk m c 7 t) (iblk m c 8 t) : Vec Ideal S256x1024 .bf16) (ix2 r l) = A (ix2 ⟨t.val * 256 + r.val, row_lt t r⟩ l)) :
    (dats m 0 c).arrAt 13 cfg0.N = A := by
  refine (dats m 0 c).arrAt_eq_of_covers 13 A (by decide +kernel) fun t _ (y : S256x1024.Idx) => ?_
  blk_simp
  rw [after0_13, eq_ix2 y]
  refine (h t _ _).trans (congrArg A ?_)
  blk_ext [index_all]
/-- The logistic function. -/
def sg (x : EReal) : EReal := Ideal.div 1 (1 + Ideal.exp (-x))
/-- The three products, the sums, and the normalised rows. -/
def ffn (t : S2048x2816.Idx → EReal) (d : S2816x1024.Idx → EReal) : S2048x1024.Idx → EReal := fun i => ∑ k : Fin 2816, t (ix2 (i 0) k) * d (ix2 k (i 1))
def gate (h : S2048x1024.Idx → EReal) (u : S1024x1024.Idx → EReal) : S2048x1024.Idx → EReal := fun i => ∑ k : Fin 1024, h (ix2 (i 0) k) * u (ix2 k (i 1))
def emb (p : S2048x256.Idx → EReal) (q : S256x1024.Idx → EReal) : S2048x1024.Idx → EReal := fun i => ∑ k : Fin 256, p (ix2 (i 0) k) * q (ix2 k (i 1))
def sumsR (t : S2048x2816.Idx → EReal) (d : S2816x1024.Idx → EReal) (h : S2048x1024.Idx → EReal) (u : S1024x1024.Idx → EReal)
    (p : S2048x256.Idx → EReal) (q : S256x1024.Idx → EReal) : S2048x1024.Idx → EReal :=
  fun i => Ideal.ofBits .f32 0x3FD744FD#32 * h i + ffn t d i + sg (gate h u i) * emb p q i
def normed (t : S2048x2816.Idx → EReal) (d : S2816x1024.Idx → EReal) (h : S2048x1024.Idx → EReal) (u : S1024x1024.Idx → EReal)
    (p : S2048x256.Idx → EReal) (q : S256x1024.Idx → EReal) (g b : S1024.Idx → EReal) : S2048x1024.Idx → EReal :=
  fun i => rowNorm (fun k => sumsR t d h u p q (ix2 (i 0) k)) (g (ix1 (i 1))) (b (ix1 (i 1))) (i 1)

/-- A sum over the hidden units, slab after slab. -/
theorem sum_slabs (f : Fin 2816 → EReal) : (∑ x : Fin 704, f ⟨x.val, by omega⟩) + (∑ x : Fin 704, f ⟨704 + x.val, by omega⟩)
    + (∑ x : Fin 704, f ⟨1408 + x.val, by omega⟩) + (∑ x : Fin 704, f ⟨2112 + x.val, by omega⟩) = ∑ k, f k := by
  have h := Equiv.sum_comp (finProdFinEquiv (m := 4) (n := 704)) f
  rw [← h, Fintype.sum_prod_type, Fin.sum_univ_four]
  refine congrArg₂ (· + ·) (congrArg₂ (· + ·) (congrArg₂ (· + ·) ?_ ?_) ?_) ?_ <;>
    exact Finset.sum_congr rfl fun x _ => congrArg f (Fin.ext (by simp [finProdFinEquiv]; try omega))

theorem pay5_at (x : Vec Ideal S4x256x704 .bf16) (w : Vec Ideal S8x352x1024 .bf16) (r : Fin 256) (l : Fin 1024) :
    k0_pay5 (F := Ideal) (View.ld w r0_0) (View.ld x r0_1) (View.ld x r0_2) (View.ld x r0_3) (View.ld x r0_4) (ix2 r l)
      = ∑ k : Fin 2816, x (ix3 ⟨k.val / 704, by omega⟩ r ⟨k.val % 704, by omega⟩) * w (ix3 ⟨k.val / 352, by omega⟩ ⟨k.val % 352, by omega⟩ l) := by
  rw [← sum_slabs]
  unfold k0_pay5
  pointwise []
  refine congrArg₂ (· + ·) (congrArg₂ (· + ·) (congrArg₂ (· + ·) ?_ ?_) ?_) ?_ <;>
    refine Finset.sum_congr rfl fun k _ => congrArg (· * _) (congrArg x (congrArg₂ (ix3 · r ·) (Fin.ext ?_) (Fin.ext ?_)))
  · show 0 = k.val / 704; omega
  · show k.val = k.val % 704; omega
  · show 1 = (704 + k.val) / 704; omega
  · show k.val = (704 + k.val) % 704; omega
  · show 2 = (1408 + k.val) / 704; omega
  · show k.val = (1408 + k.val) % 704; omega
  · show 3 = (2112 + k.val) / 704; omega
  · show k.val = (2112 + k.val) % 704; omega

theorem pay6_at (x : Vec Ideal S256x1024 .bf16) (w : Vec Ideal S8x128x1024 .bf16) (r : Fin 256) (l : Fin 1024) :
    k0_pay6 (F := Ideal) x w (ix2 r l) = ∑ k : Fin 1024, x (ix2 r k) * w (ix3 ⟨k.val / 128, by omega⟩ ⟨k.val % 128, by omega⟩ l) := by
  pointwise [k0_pay6]

theorem pay8_at (x : FVec Ideal S256x256 .bf16) (w : Vec Ideal S8x256x128 .bf16) (r : Fin 256) (l : Fin 1024) :
    k0_pay8 (F := Ideal) x (View.ld w r0_8) (View.ld w r0_9) (View.ld w r0_10) (View.ld w r0_11) (View.ld w r0_12) (View.ld w r0_13) (View.ld w r0_14) (View.ld w r0_15) (ix2 r l) = ∑ k : Fin 256, x (ix2 r k) * w (ix3 ⟨l.val / 128, by omega⟩ k ⟨l.val % 128, by omega⟩) := by
  unfold k0_pay8
  pointwise []
  refine Finset.sum_congr rfl fun k _ => congrArg (x (ix2 r k) * ·) ?_
  split
  · exact congrArg w (congrArg₂ (ix3 · k ·) (Fin.ext (by show 0 = l.val / 128; omega)) (Fin.ext (by dsimp only; omega)))
  split
  · exact congrArg w (congrArg₂ (ix3 · k ·) (Fin.ext (by show 1 = l.val / 128; omega)) (Fin.ext (by dsimp only; omega)))
  split
  · exact congrArg w (congrArg₂ (ix3 · k ·) (Fin.ext (by show 2 = l.val / 128; omega)) (Fin.ext (by dsimp only; omega)))
  split
  · exact congrArg w (congrArg₂ (ix3 · k ·) (Fin.ext (by show 3 = l.val / 128; omega)) (Fin.ext (by dsimp only; omega)))
  split
  · exact congrArg w (congrArg₂ (ix3 · k ·) (Fin.ext (by show 4 = l.val / 128; omega)) (Fin.ext (by dsimp only; omega)))
  split
  · exact congrArg w (congrArg₂ (ix3 · k ·) (Fin.ext (by show 5 = l.val / 128; omega)) (Fin.ext (by dsimp only; omega)))
  split
  · exact congrArg w (congrArg₂ (ix3 · k ·) (Fin.ext (by show 6 = l.val / 128; omega)) (Fin.ext (by dsimp only; omega)))
  · exact congrArg w (congrArg₂ (ix3 · k ·) (Fin.ext (by show 7 = l.val / 128; omega)) (Fin.ext (by dsimp only; omega)))

theorem pay9_at (f p : FVec Ideal S256x1024 .f32) (x : FVec Ideal S256x256 .bf16) (w : Vec Ideal S8x256x128 .bf16) (h : Vec Ideal S256x1024 .f32) (r : Fin 256) (l : Fin 1024) :
    k0_pay9 (F := Ideal) f p x (View.ld w r0_8) (View.ld w r0_9) (View.ld w r0_10) (View.ld w r0_11) (View.ld w r0_12) (View.ld w r0_13) (View.ld w r0_14) (View.ld w r0_15) h (ix2 r l)
      = Ideal.ofBits .f32 0x3FD744FD#32 * h (ix2 r l) + f (ix2 r l) + sg (p (ix2 r l)) * k0_pay8 (F := Ideal) x (View.ld w r0_8) (View.ld w r0_9) (View.ld w r0_10) (View.ld w r0_11) (View.ld w r0_12) (View.ld w r0_13) (View.ld w r0_14) (View.ld w r0_15) (ix2 r l) := by
  unfold k0_pay9
  generalize k0_pay8 (F := Ideal) _ _ _ _ _ _ _ _ _ = q
  pointwise []
  rw [zero_sub]
  rfl

theorem pay1_at (z : FVec Ideal S256x1024 .f32) (g b : Vec Ideal S1x1024 .f32) (r : Fin 256) (l : Fin 1024) :
    k0_pay1 (F := Ideal) z g b (ix2 r l) = rowNorm (fun k => z (ix2 r k)) (g (ix2 0 l)) (b (ix2 0 l)) l := by
  pointwise [k0_pay1]
  rfl

/-! The products, the sums and the rows of a block. -/
theorem ffn_at (c : Dev nD) (t : Fin cfg0.N) (r : Fin 256) (l : Fin 1024) :
    k0_pay5 (F := Ideal) (View.ld (iblk m c 1 t) r0_0) (View.ld (iblk m c 0 t) r0_1) (View.ld (iblk m c 0 t) r0_2) (View.ld (iblk m c 0 t) r0_3) (View.ld (iblk m c 0 t) r0_4) (ix2 r l)
      = ffn (argT m c) (argD m c) (ix2 ⟨t.val * 256 + r.val, row_lt t r⟩ l) := by
  refine (pay5_at (iblk m c 0 t) (iblk m c 1 t) r l).trans (Finset.sum_congr rfl fun k _ => ?_)
  rw [blkT, blkD]
  refine congrArg₂ (argT m c · * argD m c ·) (congrArg (ix2 _ ·) (Fin.ext ?_)) (congrArg (ix2 · l) (Fin.ext ?_))
  · show k.val / 704 * 704 + k.val % 704 = k.val; omega
  · show k.val / 352 * 352 + k.val % 352 = k.val; omega

theorem gate_at (c : Dev nD) (t : Fin cfg0.N) (r : Fin 256) (l : Fin 1024) :
    k0_pay10 (F := Ideal) (iblk m c 0 t) (iblk m c 1 t) (iblk m c 2 t) (iblk m c 3 t) (iblk m c 4 t) (iblk m c 5 t) (iblk m c 6 t) (iblk m c 7 t) (iblk m c 8 t) (ix2 r l) = gate (argH m c) (argU m c) (ix2 ⟨t.val * 256 + r.val, row_lt t r⟩ l) := by
  unfold k0_pay10
  simp only [View.ld_unit_zero (S := S256x1024) hz2, View.ld_unit_zero (S := S8x128x1024) hz3]
  refine (pay6_at (iblk m c 2 t) (iblk m c 3 t) r l).trans (Finset.sum_congr rfl fun k _ => ?_)
  rw [blkHb, blkU]
  exact congrArg (_ * argU m c ·) (congrArg (ix2 · l) (Fin.ext (by show k.val / 128 * 128 + k.val % 128 = k.val; omega)))

theorem emb_at (c : Dev nD) (t : Fin cfg0.N) (r : Fin 256) (l : Fin 1024) :
    k0_pay8 (F := Ideal) (k0_pay11 (F := Ideal) (iblk m c 0 t) (iblk m c 1 t) (iblk m c 2 t) (iblk m c 3 t) (iblk m c 4 t) (iblk m c 5 t) (iblk m c 6 t) (iblk m c 7 t) (iblk m c 8 t)) (View.ld (iblk m c 5 t) r0_8) (View.ld (iblk m c 5 t) r0_9) (View.ld (iblk m c 5 t) r0_10) (View.ld (iblk m c 5 t) r0_11) (View.ld (iblk m c 5 t) r0_12) (View.ld (iblk m c 5 t) r0_13) (View.ld (iblk m c 5 t) r0_14) (View.ld (iblk m c 5 t) r0_15) (ix2 r l) = emb (argP m c) (argQ m c) (ix2 ⟨t.val * 256 + r.val, row_lt t r⟩ l) := by
  have h7 : ∀ k, k0_pay11 (F := Ideal) (iblk m c 0 t) (iblk m c 1 t) (iblk m c 2 t) (iblk m c 3 t) (iblk m c 4 t) (iblk m c 5 t) (iblk m c 6 t) (iblk m c 7 t) (iblk m c 8 t) (ix2 r k) = argP m c (ix2 ⟨t.val * 256 + r.val, row_lt t r⟩ k) := fun k => by
    rw [← blkP]
    unfold k0_pay11
    simp only [View.ld_unit_zero (S := S256x256) hz2]
    pointwise [k0_pay7]
  refine (pay8_at _ (iblk m c 5 t) r l).trans (Finset.sum_congr rfl fun k _ => ?_)
  rw [h7, blkQ]
  exact congrArg (_ * argQ m c ·) (congrArg (ix2 k ·) (Fin.ext (by show l.val / 128 * 128 + l.val % 128 = l.val; omega)))

theorem sum_at (c : Dev nD) (t : Fin cfg0.N) (r : Fin 256) (l : Fin 1024) :
    k0_pay12 (F := Ideal) (iblk m c 0 t) (iblk m c 1 t) (iblk m c 2 t) (iblk m c 3 t) (iblk m c 4 t) (iblk m c 5 t) (iblk m c 6 t) (iblk m c 7 t) (iblk m c 8 t) (ix2 r l) = sumsR (argT m c) (argD m c) (argH m c) (argU m c) (argP m c) (argQ m c) (ix2 ⟨t.val * 256 + r.val, row_lt t r⟩ l) := by
  unfold k0_pay12
  refine (pay9_at _ _ _ (iblk m c 5 t) _ r l).trans ?_
  refine congrArg₂ (· + ·) (congrArg₂ (· + ·) (congrArg (_ * ·) ?_) (ffn_at m c t r l)) (congrArg₂ (· * ·) (congrArg sg (gate_at m c t r l)) (emb_at m c t r l))
  rw [View.ld_unit_zero (S := S256x1024) hz2]
  exact blkH m c t r l

theorem norm_at (c : Dev nD) (t : Fin cfg0.N) (r : Fin 256) (l : Fin 1024) :
    k0_pay1 (F := Ideal) (k0_pay12 (F := Ideal) (iblk m c 0 t) (iblk m c 1 t) (iblk m c 2 t) (iblk m c 3 t) (iblk m c 4 t) (iblk m c 5 t) (iblk m c 6 t) (iblk m c 7 t) (iblk m c 8 t)) (iblk m c 7 t) (iblk m c 8 t) (ix2 r l) = normed (argT m c) (argD m c) (argH m c) (argU m c) (argP m c) (argQ m c) (argG m c) (argB m c) (ix2 ⟨t.val * 256 + r.val, row_lt t r⟩ l) := by
  rw [pay1_at, blkG, blkB]
  simp only [sum_at]
  rfl

theorem tile9 (c : Dev nD) (t : Fin cfg0.N) (r : Fin 256) (l : Fin 1024) :
    (out0_9 (F := Ideal) (iblk m c 0 t) (iblk m c 1 t) (iblk m c 2 t) (iblk m c 3 t) (iblk m c 4 t) (iblk m c 5 t) (iblk m c 6 t) (iblk m c 7 t) (iblk m c 8 t) : Vec Ideal S256x1024 .f32) (ix2 r l) = sumsR (argT m c) (argD m c) (argH m c) (argU m c) (argP m c) (argQ m c) (ix2 ⟨t.val * 256 + r.val, row_lt t r⟩ l) := by
  unfold out0_9
  rw [View.canon_unit_zero hz2]
  exact sum_at m c t r l

theorem tile10 (c : Dev nD) (t : Fin cfg0.N) (r : Fin 256) (l : Fin 1024) :
    (out0_10 (F := Ideal) (iblk m c 0 t) (iblk m c 1 t) (iblk m c 2 t) (iblk m c 3 t) (iblk m c 4 t) (iblk m c 5 t) (iblk m c 6 t) (iblk m c 7 t) (iblk m c 8 t) : Vec Ideal S256x1024 .f32) (ix2 r l) = normed (argT m c) (argD m c) (argH m c) (argU m c) (argP m c) (argQ m c) (argG m c) (argB m c) (ix2 ⟨t.val * 256 + r.val, row_lt t r⟩ l) := by
  unfold out0_10
  rw [View.canon_unit_zero hz2]
  simp only [View.ld_unit_zero (S := S1x1024) hz2]
  exact norm_at m c t r l

theorem tile11 (c : Dev nD) (t : Fin cfg0.N) (r : Fin 256) (l : Fin 1024) :
    (out0_11 (F := Ideal) (iblk m c 0 t) (iblk m c 1 t) (iblk m c 2 t) (iblk m c 3 t) (iblk m c 4 t) (iblk m c 5 t) (iblk m c 6 t) (iblk m c 7 t) (iblk m c 8 t) : Vec Ideal S256x1024 .bf16) (ix2 r l) = normed (argT m c) (argD m c) (argH m c) (argU m c) (argP m c) (argQ m c) (argG m c) (argB m c) (ix2 ⟨t.val * 256 + r.val, row_lt t r⟩ l) := by
  unfold out0_11
  rw [View.canon_unit_zero hz2]
  simp only [View.ld_unit_zero (S := S1x1024) hz2]
  exact norm_at m c t r l

theorem tile12 (c : Dev nD) (t : Fin cfg0.N) (r : Fin 256) (l : Fin 1024) :
    (out0_12 (F := Ideal) (iblk m c 0 t) (iblk m c 1 t) (iblk m c 2 t) (iblk m c 3 t) (iblk m c 4 t) (iblk m c 5 t) (iblk m c 6 t) (iblk m c 7 t) (iblk m c 8 t) : Vec Ideal S256x1024 .bf16) (ix2 r l) = gate (argH m c) (argU m c) (ix2 ⟨t.val * 256 + r.val, row_lt t r⟩ l) := by
  unfold out0_12
  rw [View.canon_unit_zero hz2]
  exact gate_at m c t r l

theorem tile13 (c : Dev nD) (t : Fin cfg0.N) (r : Fin 256) (l : Fin 1024) :
    (out0_13 (F := Ideal) (iblk m c 0 t) (iblk m c 1 t) (iblk m c 2 t) (iblk m c 3 t) (iblk m c 4 t) (iblk m c 5 t) (iblk m c 6 t) (iblk m c 7 t) (iblk m c 8 t) : Vec Ideal S256x1024 .bf16) (ix2 r l) = emb (argP m c) (argQ m c) (ix2 ⟨t.val * 256 + r.val, row_lt t r⟩ l) := by
  unfold out0_13
  rw [View.canon_unit_zero hz2]
  exact emb_at m c t r l

end Cert.DownFwdIdeal.Value

namespace Cert.Step.DownFwd

open Cert.DownFwdIdeal.Value (argT argD argH argU argP argQ argG argB sg ffn gate emb sumsR normed final9 final10 final11 final12 final13 tile9 tile10 tile11 tile12 tile13)
open Cert.DownFwdRefIdeal Cert.DownFwdRefIdeal.Gen Cert.DownFwdRefIdeal.Read

variable (t : S2048x2816.Idx → EReal) (d : S2816x1024.Idx → EReal) (h : S2048x1024.Idx → EReal) (u : S1024x1024.Idx → EReal)
  (p : S2048x256.Idx → EReal) (q : S256x1024.Idx → EReal) (g b : S1024.Idx → EReal)

theorem ref_gate : val_main_v37 (F := Ideal) h u = gate h u := funext fun i => by
  obtain ⟨r, l, rfl⟩ : ∃ (r : Fin 2048) (l : Fin 1024), i = ix2 r l := ⟨i 0, i 1, eq_ix2 i⟩
  pointwise [val_main_v37, val_main_v1]
  rfl
theorem ref_emb : val_main_v38 (F := Ideal) p q = emb p q := funext fun i => by
  obtain ⟨r, l, rfl⟩ : ∃ (r : Fin 2048) (l : Fin 1024), i = ix2 r l := ⟨i 0, i 1, eq_ix2 i⟩
  pointwise [val_main_v38, val_main_v2]
  rfl
theorem ref_sums : val_main_v13 (F := Ideal) t d h u p q = sumsR t d h u p q := funext fun i => by
  obtain ⟨r, l, rfl⟩ : ∃ (r : Fin 2048) (l : Fin 1024), i = ix2 r l := ⟨i 0, i 1, eq_ix2 i⟩
  pointwise [val_main_v13,val_main_v12,val_main_v11,val_main_v10,val_main_v9,val_main_v8,val_main_v7,val_main_v6,val_main_v5,val_main_v4,val_main_v3,val_main_v2,val_main_v1,val_main_v0,val_main_cst,val_main_cst_0,val_main_cst_1]
  rfl
theorem ref_norm : val_main_v35 (F := Ideal) t d h u p q g b = normed t d h u p q g b := funext fun i => by
  obtain ⟨r, l, rfl⟩ : ∃ (r : Fin 2048) (l : Fin 1024), i = ix2 r l := ⟨i 0, i 1, eq_ix2 i⟩
  have hs := ref_sums t d h u p q
  unfold normed
  rw [← hs]
  unfold val_main_v35 val_main_v34 val_main_v33 val_main_v32 val_main_v31 val_main_v30 val_main_v29 val_main_v28 val_main_v27 val_main_v26 val_main_v25 val_main_v24 val_main_v23 val_main_v22 val_main_v21 val_main_v20 val_main_v19 val_main_v18 val_main_v17 val_main_v16 val_main_v15 val_main_v14
  generalize val_main_v13 (F := Ideal) t d h u p q = z
  pointwise [val_main_cst_2,val_main_cst_3,val_main_cst_4,val_main_cst_5,val_main_cst_6]
  rfl
theorem ref_norm' : val_main_v36 (F := Ideal) t d h u p q g b = normed t d h u p q g b := ref_norm t d h u p q g b

theorem claim : algebraic_DownFwdIdeal_DownFwdRefIdeal := fun m ρ m' ρ' _ hag => by
  have r0 := fun c => ref_sums (argT m c) (argD m c) (argH m c) (argU m c) (argP m c) (argQ m c)
  have r1 := fun c => ref_norm (argT m c) (argD m c) (argH m c) (argU m c) (argP m c) (argQ m c) (argG m c) (argB m c)
  have r2 := fun c => ref_norm' (argT m c) (argD m c) (argH m c) (argU m c) (argP m c) (argQ m c) (argG m c) (argB m c)
  have r3 := fun c => ref_gate (argH m c) (argU m c)
  have r4 := fun c => ref_emb (argP m c) (argQ m c)
  refine ⟨fun c => sumsR (argT m c) (argD m c) (argH m c) (argU m c) (argP m c) (argQ m c), fun c => normed (argT m c) (argD m c) (argH m c) (argU m c) (argP m c) (argQ m c) (argG m c) (argB m c), fun c => normed (argT m c) (argD m c) (argH m c) (argU m c) (argP m c) (argQ m c) (argG m c) (argB m c),
    fun c => gate (argH m c) (argU m c), fun c => emb (argP m c) (argQ m c),
    (θ_run _ _ _).mono (fun _ h c => ⟨(h c).1.trans (final9 m c _ (tile9 m c)), (h c).2.1.trans (final10 m c _ (tile10 m c)),
      (h c).2.2.1.trans (final11 m c _ (tile11 m c)), (h c).2.2.2.1.trans (final12 m c _ (tile12 m c)), (h c).2.2.2.2.1.trans (final13 m c _ (tile13 m c)),
      (h c).2.2.2.2.2⟩) (Cert.DownFwdIdeal.Value.run_blocks m ρ),
    (θ_run _ _ _).mono (fun _ h c => ⟨(h c).1.trans ((val_main_v13_eq _ _ _ _ _ _).trans ?_), (h c).2.1.trans ((val_main_v35_eq m' c).trans ?_),
      (h c).2.2.1.trans ((val_main_v36_eq m' c).trans ?_), (h c).2.2.2.1.trans ((val_main_v37_eq _ _).trans ?_), (h c).2.2.2.2.1.trans ((val_main_v38_eq _ _).trans ?_),
      (h c).2.2.2.2.2⟩) (Cert.DownFwdRefIdeal.Value.run m' ρ')⟩
  · rw [(hag c).1, (hag c).2.1, (hag c).2.2.1, (hag c).2.2.2.1, (hag c).2.2.2.2.1, (hag c).2.2.2.2.2.1]; exact r0 c
  · rw [(hag c).1, (hag c).2.1, (hag c).2.2.1, (hag c).2.2.2.1, (hag c).2.2.2.2.1, (hag c).2.2.2.2.2.1, (hag c).2.2.2.2.2.2.1, (hag c).2.2.2.2.2.2.2]; exact r1 c
  · rw [(hag c).1, (hag c).2.1, (hag c).2.2.1, (hag c).2.2.2.1, (hag c).2.2.2.2.1, (hag c).2.2.2.2.2.1, (hag c).2.2.2.2.2.2.1, (hag c).2.2.2.2.2.2.2]; exact r2 c
  · rw [(hag c).2.2.1, (hag c).2.2.2.1]; exact r3 c
  · rw [(hag c).2.2.2.2.1, (hag c).2.2.2.2.2.1]; exact r4 c

end Cert.Step.DownFwd

end
-- ==== Proof.FfnFwd.lean ====
/-
  The forward call of the gated activation: a three-row convolution of the gate columns, the exact activation, and the product
  with the value columns. The kernel, in blocks of rows with a halo on each side, and the plain formula over the padded array
  give the same rows, whatever the arguments hold.
-/
module

public import proofs.«01_k».proof.Proof.FwdNorm
public import Idealize.ShloMosaic.Lib.Pipeline.ValueKit
public import Idealize.ShloMosaic.Lib.KernelVsHost
public import proofs.«01_k».proof.Defs
public import proofs.«01_k».proof.Proof.Gen.FfnFwdIdeal.Value
public import proofs.«01_k».proof.Proof.Gen.FfnFwdRefIdeal.Read
public import proofs.«01_k».proof.Proof.Gen.FfnFwdRefIdeal.Run

@[expose] public section

set_option maxRecDepth 16384

noncomputable section

open Idealize.ShloMosaic Idealize.ShloMosaic.TcCoe Idealize.SL.Sem
open Idealize.ShloMosaic.Pipeline (Dat)

namespace Cert.FfnFwdIdeal.Value

open Cert.FfnFwdIdeal Cert.FfnFwdIdeal.Gen Cert.Step

variable (m : (ℓ : Loc nD τ sig) → Buf (Elt Ideal) ℓ) (ρ : Dev nD → PrngReg)
/-- The arguments as arrays. -/
abbrev argX (c : Dev nD) : S2048x5632.Idx → EReal := m ((c : Thread nD τ).loc main_arg0)
abbrev argW (c : Dev nD) : S3x2816.Idx → EReal := m ((c : Thread nD τ).loc main_arg1)
abbrev argB (c : Dev nD) : S2816.Idx → EReal := m ((c : Thread nD τ).loc main_arg2)

theorem V_v2 (c : Dev nD) (p : Fin 8) (s : Fin 2048) (q : Fin 704) : (V m c main_v2 : S8x2048x704.Idx → EReal) (ix3 p s q) = argX m c (ix2 s ⟨p.val * 704 + q.val, by omega⟩) := by
  have h : V m c main_v2 = transpose S8x2048x704 [1, 0, 2] (shapeCast S2048x8x704 (argX m c) shapeCasts_S2048x5632_S2048x8x704) transposes_S2048x8x704_S8x2048x704_1_0_2 := by
    unfold V hostOps0
    after_results <;> rfl
  rw [h]
  pointwise []
theorem V_v4 (c : Dev nD) (p : Fin 4) (k : Fin 3) (q : Fin 704) : (V m c main_v4 : S4x3x704.Idx → EReal) (ix3 p k q) = argW m c (ix2 k ⟨p.val * 704 + q.val, by omega⟩) := by
  have h : V m c main_v4 = transpose S4x3x704 [1, 0, 2] (shapeCast S3x4x704 (argW m c) shapeCasts_S3x2816_S3x4x704) transposes_S3x4x704_S4x3x704_1_0_2 := by
    unfold V hostOps0
    after_results <;> rfl
  rw [h]
  pointwise []
theorem V_v5 (c : Dev nD) (p : Fin 4) (q : Fin 704) : (V m c main_v5 : S4x1x704.Idx → EReal) (ix3 p 0 q) = argB m c (ix1 ⟨p.val * 704 + q.val, by omega⟩) := by
  have h : V m c main_v5 = shapeCast S4x1x704 (argB m c) shapeCasts_S2816_S4x1x704 := by
    unfold V hostOps0
    after_results <;> rfl
  rw [h]
  pointwise []

theorem pt (t : Fin cfg0.N) : t.val < 8 := lt_of_lt_of_eq t.isLt (show cfg0.N = 8 from N_0)
theorem coord : ∀ t : Fin grid0.N, (grid0.coords t 1).val = t.val % 2 := by decide +kernel
theorem index_all : ∀ t : Fin cfg0.N, win0_0.index t = ![t.val / 2, t.val % 2, 0] ∧ win0_1.index t = ![4 + t.val / 2, t.val % 2, 0] ∧ win0_2.index t = ![4 + t.val / 2, 64 * (t.val % 2) - 1, 0] ∧ win0_3.index t = ![4 + t.val / 2, min (64 * (t.val % 2 + 1)) 127, 0] ∧ win0_4.index t = ![t.val / 2, 0, 0] ∧ win0_5.index t = ![t.val / 2, 0, 0] ∧ win0_6.index t = ![t.val / 2, t.val % 2, 0] :=
  (by decide +kernel : ∀ t : Fin grid0.N, _)

theorem blkV (c : Dev nD) (t : Fin cfg0.N) (r : Fin 1024) (q : Fin 704) :
    (iblk m c 0 t : Vec Ideal S1x1024x704 .bf16) (ix3 0 r q) = argX m c (ix2 ⟨t.val % 2 * 1024 + r.val, by have := pt t; omega⟩ ⟨(t.val / 2) * 704 + q.val, by have := pt t; omega⟩) := by
  rw [← V_v2 m c ⟨t.val / 2, by have := pt t; omega⟩ ⟨t.val % 2 * 1024 + r.val, by have := pt t; omega⟩ q]
  blk_simp [iblk]
  refine congrArg _ ?_
  blk_ext [index_all]
theorem blkG (c : Dev nD) (t : Fin cfg0.N) (r : Fin 1024) (q : Fin 704) :
    (iblk m c 1 t : Vec Ideal S1x1024x704 .bf16) (ix3 0 r q) = argX m c (ix2 ⟨t.val % 2 * 1024 + r.val, by have := pt t; omega⟩ ⟨(4 + t.val / 2) * 704 + q.val, by have := pt t; omega⟩) := by
  rw [← V_v2 m c ⟨4 + t.val / 2, by have := pt t; omega⟩ ⟨t.val % 2 * 1024 + r.val, by have := pt t; omega⟩ q]
  blk_simp [iblk]
  refine congrArg _ ?_
  blk_ext [index_all]
theorem blkP (c : Dev nD) (t : Fin cfg0.N) (r : Fin 16) (q : Fin 704) :
    (iblk m c 2 t : Vec Ideal S1x16x704 .bf16) (ix3 0 r q) = argX m c (ix2 ⟨(64 * (t.val % 2) - 1) * 16 + r.val, by have := pt t; omega⟩ ⟨(4 + t.val / 2) * 704 + q.val, by have := pt t; omega⟩) := by
  rw [← V_v2 m c ⟨4 + t.val / 2, by have := pt t; omega⟩ ⟨(64 * (t.val % 2) - 1) * 16 + r.val, by have := pt t; omega⟩ q]
  blk_simp [iblk]
  refine congrArg _ ?_
  blk_ext [index_all]
theorem blkN (c : Dev nD) (t : Fin cfg0.N) (r : Fin 16) (q : Fin 704) :
    (iblk m c 3 t : Vec Ideal S1x16x704 .bf16) (ix3 0 r q) = argX m c (ix2 ⟨min (64 * (t.val % 2 + 1)) 127 * 16 + r.val, by have := pt t; omega⟩ ⟨(4 + t.val / 2) * 704 + q.val, by have := pt t; omega⟩) := by
  rw [← V_v2 m c ⟨4 + t.val / 2, by have := pt t; omega⟩ ⟨min (64 * (t.val % 2 + 1)) 127 * 16 + r.val, by have := pt t; omega⟩ q]
  blk_simp [iblk]
  refine congrArg _ ?_
  blk_ext [index_all]
theorem blkW (c : Dev nD) (t : Fin cfg0.N) (k : Fin 3) (q : Fin 704) :
    (iblk m c 4 t : Vec Ideal S1x3x704 .f32) (ix3 0 k q) = argW m c (ix2 k ⟨t.val / 2 * 704 + q.val, by have := pt t; omega⟩) := by
  rw [← V_v4 m c ⟨t.val / 2, by have := pt t; omega⟩ k q]
  blk_simp [iblk]
  refine congrArg _ ?_
  blk_ext [index_all]
theorem blkB (c : Dev nD) (t : Fin cfg0.N) (q : Fin 704) :
    (iblk m c 5 t : Vec Ideal S1x1x704 .f32) (ix3 0 0 q) = argB m c (ix1 ⟨t.val / 2 * 704 + q.val, by have := pt t; omega⟩) := by
  rw [← V_v5 m c ⟨t.val / 2, by have := pt t; omega⟩ q]
  blk_simp [iblk]
  refine congrArg _ ?_
  blk_ext [index_all]
theorem final6 (c : Dev nD) (A : S4x2048x704.Idx → EReal)
    (h : ∀ (t : Fin cfg0.N) (r : Fin 1024) (l : Fin 704), (out0_6 (F := Ideal) (grid0.coords t) (iblk m c 0 t) (iblk m c 1 t) (iblk m c 2 t) (iblk m c 3 t) (iblk m c 4 t) (iblk m c 5 t) : Vec Ideal S1x1024x704 .bf16) (ix3 0 r l) = A (ix3 ⟨t.val / 2, by have := pt t; omega⟩ ⟨t.val % 2 * 1024 + r.val, by have := pt t; omega⟩ l)) :
    (dats m 0 c).arrAt 6 cfg0.N = A := by
  refine (dats m 0 c).arrAt_eq_of_covers 6 A (by decide +kernel) fun t _ (y : S1x1024x704.Idx) => ?_
  have hy : y = ix3 0 (y 1) (y 2) := (eq_ix3 y).trans (congrArg (ix3 · _ _) (Subsingleton.elim (α := Fin 1) _ _))
  blk_simp
  rw [after0_6, hy]
  refine (h t _ _).trans (congrArg A ?_)
  blk_ext [index_all]

/-- Row `q` of a gate column of the padded array: a zero row before the first and after the last. -/
def halo (x : S2048x5632.Idx → EReal) (j : Fin 2816) (q : ℕ) : EReal :=
  if h : 1 ≤ q ∧ q < 2049 then x (ix2 ⟨q - 1, by omega⟩ ⟨2816 + j.val, by omega⟩) else 0
/-- The convolution, the activation, and the rows. -/
def conv (x : S2048x5632.Idx → EReal) (w : S3x2816.Idx → EReal) (b : S2816.Idx → EReal) (j : Fin 2816) (n : ℕ) : EReal :=
  halo x j n * w (ix2 0 j) + halo x j (n + 1) * w (ix2 1 j) + halo x j (n + 2) * w (ix2 2 j) + b (ix1 j)
def act (c v : EReal) : EReal := Ideal.ofBits .f32 0x3F000000#32 * c * (1 + Ideal.erf (c * Ideal.ofBits .f32 0x3F3504F3#32)) * v
def unit (p : Fin 4) (l : Fin 704) : Fin 2816 := ⟨p.val * 704 + l.val, by omega⟩
def value (j : Fin 2816) : Fin 5632 := ⟨j.val, by omega⟩
def acts (x : S2048x5632.Idx → EReal) (w : S3x2816.Idx → EReal) (b : S2816.Idx → EReal) : S4x2048x704.Idx → EReal := fun i =>
  act (conv x w b (unit (i 0) (i 2)) (i 1).val) (x (ix2 (i 1) (value (unit (i 0) (i 2)))))

theorem halo_row (x : S2048x5632.Idx → EReal) (j : Fin 2816) (q : ℕ) (n : Fin 2048) (k : Fin 5632) (hn : n.val + 1 = q) (hk : k.val = 2816 + j.val) :
    x (ix2 n k) = halo x j q := by
  unfold halo
  rw [dif_pos ⟨by omega, by omega⟩]
  exact congrArg x (congrArg₂ ix2 (Fin.ext (by show n.val = q - 1; omega)) (Fin.ext hk))

/-- A select on the equality of two small numbers. -/
theorem select_eq {α : Type} (n k : ℕ) (hn : n < 2 ^ 32) (hk : k < 2 ^ 32) (a b : α) :
    Scalar.select (IntOp.cmpi .eq (BitVec.ofNat 32 n) (BitVec.ofNat 32 k)) a b = if n = k then a else b := by
  have h : (BitVec.ofNat 32 n == BitVec.ofNat 32 k) = decide (n = k) := by
    refine decide_eq_decide.mpr ?_
    rw [← BitVec.toNat_inj, BitVec.toNat_ofNat, BitVec.toNat_ofNat, Nat.mod_eq_of_lt hn, Nat.mod_eq_of_lt hk]
  show (if BitVec.ofBool (BitVec.ofNat 32 n == BitVec.ofNat 32 k) = 1#1 then a else b) = _
  rw [h]
  by_cases e : n = k <;> simp [e]

section
variable (i : grid0.Coords) (x0 x1 : Vec Ideal S1x1024x704 .bf16) (x2 x3 : Vec Ideal S1x16x704 .bf16) (x4 : Vec Ideal S1x3x704 .f32) (x5 : Vec Ideal S1x1x704 .f32)

/-- The columns one row before, and one row after. -/
theorem back_at (r : Fin 1024) (l : Fin 704) : k0_pay4 (F := Ideal) i x1 x2 (View.ld x4 r0_2) (ix2 r l)
    = (if r.val = 0 then (if (i 1).val = 0 then 0 else x2 (ix3 0 15 l)) else x1 (ix3 0 ⟨(r.val + 1024 - 1) % 1024, by omega⟩ l)) * x4 (ix3 0 0 l) := by
  have e : k0_pay4 (F := Ideal) i x1 x2 (View.ld x4 r0_2) (ix2 r l) = Scalar.select (IntOp.cmpi .eq (BitVec.ofNat 32 r.val) 0#32)
      (Scalar.select (IntOp.cmpi .eq (BitVec.ofNat 32 (i 1).val) 0#32) 0 (x2 (ix3 0 15 l))) (x1 (ix3 0 ⟨(r.val + 1024 - 1) % 1024, by omega⟩ l)) * x4 (ix3 0 0 l) := by
    pointwise [k0_pay4, k0_pay2]
    rfl
  have hi : (i 1).val < 2 := (i 1).isLt
  rw [e, select_eq _ 0 (by omega) (by omega), select_eq _ 0 (by omega) (by omega)]
theorem fwd_at (r : Fin 1024) (l : Fin 704) : k0_pay3 (F := Ideal) i x1 x3 (ix2 r l)
    = if r.val = 1023 then (if (i 1).val = 1 then 0 else x3 (ix3 0 0 l)) else x1 (ix3 0 ⟨(r.val + 1024 - 1023) % 1024, by omega⟩ l) := by
  have e : k0_pay3 (F := Ideal) i x1 x3 (ix2 r l) = Scalar.select (IntOp.cmpi .eq (BitVec.ofNat 32 r.val) 1023#32)
      (Scalar.select (IntOp.cmpi .eq (BitVec.ofNat 32 (i 1).val) 1#32) 0 (x3 (ix3 0 0 l))) (x1 (ix3 0 ⟨(r.val + 1024 - 1023) % 1024, by omega⟩ l)) := by
    pointwise [k0_pay3, k0_pay2]
    rfl
  have hi : (i 1).val < 2 := (i 1).isLt
  rw [e, select_eq _ 1023 (by omega) (by omega), select_eq _ 1 (by omega) (by omega)]
theorem mid_at (r : Fin 1024) (l : Fin 704) : k0_pay2 (F := Ideal) x1 (ix2 r l) = x1 (ix3 0 r l) := by
  pointwise [k0_pay2]
theorem pay1_at (h f k : FVec Ideal S1024x704 .f32) (r : Fin 1024) (l : Fin 704) :
    k0_pay1 (F := Ideal) h f k (View.ld x4 r0_3) (View.ld x4 r0_4) (View.ld x5 r0_5) x0 (ix3 0 r l)
      = act (k (ix2 r l) + h (ix2 r l) * x4 (ix3 0 1 l) + f (ix2 r l) * x4 (ix3 0 2 l) + x5 (ix3 0 0 l)) (x0 (ix3 0 r l)) := by
  pointwise [k0_pay1]
  rfl
end

/-! The halo rows of a block. -/
theorem back_eq (c : Dev nD) (t : Fin cfg0.N) (r : Fin 1024) (l : Fin 704) :
    (if r.val = 0 then (if (grid0.coords t 1).val = 0 then (0 : EReal) else (iblk m c 2 t : Vec Ideal S1x16x704 .bf16) (ix3 0 15 l))
      else (iblk m c 1 t : Vec Ideal S1x1024x704 .bf16) (ix3 0 ⟨(r.val + 1024 - 1) % 1024, by omega⟩ l))
      = halo (argX m c) (unit ⟨t.val / 2, by have := pt t; omega⟩ l) (t.val % 2 * 1024 + r.val) := by
  have ht := pt t
  rw [coord]
  by_cases hr : r.val = 0
  · rw [if_pos hr]
    by_cases h0 : t.val % 2 = 0
    · rw [if_pos h0, halo, dif_neg (by omega)]
    · rw [if_neg h0, blkP]
      exact halo_row _ _ _ _ _ (by show (64 * (t.val % 2) - 1) * 16 + 15 + 1 = _; omega) (by show (4 + t.val / 2) * 704 + l.val = 2816 + (t.val / 2 * 704 + l.val); omega)
  · rw [if_neg hr, blkG]
    exact halo_row _ _ _ _ _ (by show t.val % 2 * 1024 + (r.val + 1024 - 1) % 1024 + 1 = _; omega) (by show (4 + t.val / 2) * 704 + l.val = 2816 + (t.val / 2 * 704 + l.val); omega)
theorem fwd_eq (c : Dev nD) (t : Fin cfg0.N) (r : Fin 1024) (l : Fin 704) :
    (if r.val = 1023 then (if (grid0.coords t 1).val = 1 then (0 : EReal) else (iblk m c 3 t : Vec Ideal S1x16x704 .bf16) (ix3 0 0 l))
      else (iblk m c 1 t : Vec Ideal S1x1024x704 .bf16) (ix3 0 ⟨(r.val + 1024 - 1023) % 1024, by omega⟩ l))
      = halo (argX m c) (unit ⟨t.val / 2, by have := pt t; omega⟩ l) (t.val % 2 * 1024 + r.val + 2) := by
  have ht := pt t
  rw [coord]
  by_cases hr : r.val = 1023
  · rw [if_pos hr]
    by_cases h0 : t.val % 2 = 1
    · rw [if_pos h0, halo, dif_neg (by omega)]
    · rw [if_neg h0, blkN]
      exact halo_row _ _ _ _ _ (by show min (64 * (t.val % 2 + 1)) 127 * 16 + 0 + 1 = _; omega) (by show (4 + t.val / 2) * 704 + l.val = 2816 + (t.val / 2 * 704 + l.val); omega)
  · rw [if_neg hr, blkG]
    exact halo_row _ _ _ _ _ (by show t.val % 2 * 1024 + (r.val + 1024 - 1023) % 1024 + 1 = _; omega) (by show (4 + t.val / 2) * 704 + l.val = 2816 + (t.val / 2 * 704 + l.val); omega)

theorem tile6 (c : Dev nD) (t : Fin cfg0.N) (r : Fin 1024) (l : Fin 704) :
    (out0_6 (F := Ideal) (grid0.coords t) (iblk m c 0 t) (iblk m c 1 t) (iblk m c 2 t) (iblk m c 3 t) (iblk m c 4 t) (iblk m c 5 t) : Vec Ideal S1x1024x704 .bf16) (ix3 0 r l) = acts (argX m c) (argW m c) (argB m c) (ix3 ⟨t.val / 2, by have := pt t; omega⟩ ⟨t.val % 2 * 1024 + r.val, by have := pt t; omega⟩ l) := by
  have hb := back_at (grid0.coords t) (iblk m c 1 t) (iblk m c 2 t) (iblk m c 4 t) r l
  have hf := fwd_at (grid0.coords t) (iblk m c 1 t) (iblk m c 3 t) r l
  rw [back_eq, blkW] at hb
  rw [fwd_eq] at hf
  unfold out0_6
  rw [View.canon_unit_zero hz3]
  simp only [View.ld_unit_zero (S := S1x16x704) hz3, View.ld_unit_zero (S := S1x1024x704) hz3]
  refine (pay1_at (iblk m c 0 t) (iblk m c 4 t) (iblk m c 5 t) _ _ _ r l).trans ?_
  rw [hb, hf, mid_at, blkW, blkW, blkB, blkV, blkG]
  rw [halo_row (argX m c) (unit ⟨t.val / 2, by have := pt t; omega⟩ l) (t.val % 2 * 1024 + r.val + 1) _ _ rfl (by show (4 + t.val / 2) * 704 + l.val = 2816 + (t.val / 2 * 704 + l.val); omega)]
  rfl

end Cert.FfnFwdIdeal.Value

namespace Cert.Step.FfnFwd

open Cert.FfnFwdIdeal.Value (argX argW argB halo halo_row conv act unit value acts final6 tile6)
open Cert.FfnFwdRefIdeal Cert.FfnFwdRefIdeal.Gen Cert.FfnFwdRefIdeal.Read

variable (x : S2048x5632.Idx → EReal) (w : S3x2816.Idx → EReal) (b : S2816.Idx → EReal)

theorem ref_pad (q : Fin 2050) (j : Fin 2816) : val_main_v2 (F := Ideal) x (ix2 q j) = halo x j q.val := by
  pointwise [val_main_v2, val_main_v1, val_main_call0_v0, val_main_c]
  unfold halo
  have h0 : (FloatOps.sitofp (F := Ideal) FTy.f32 0#32 : EReal) = 0 := by
    show (((0#32 : BitVec 32).toInt : ℝ) : EReal) = 0
    norm_num
  rw [h0]
  by_cases h : 1 ≤ q.val ∧ q.val < 2049
  · rw [dif_pos h, dif_pos ⟨h.1, by omega⟩]
  · rw [dif_neg h, dif_neg (by omega)]

theorem ref_conv (n : Fin 2048) (j : Fin 2816) : val_main_v25 (F := Ideal) x w b (ix2 n j) = conv x w b j n.val := by
  have hp := ref_pad x
  unfold val_main_v25 val_main_v22 val_main_v21 val_main_v16 val_main_v15 val_main_v14 val_main_v9 val_main_v8 val_main_v3
  generalize val_main_v2 (F := Ideal) x = z at hp
  pointwise [val_main_v24, val_main_v23, val_main_v20, val_main_v19, val_main_v18, val_main_v17, val_main_v13, val_main_v12, val_main_v11, val_main_v10, val_main_v7, val_main_v6, val_main_v5, val_main_v4]
  rw [hp, hp, hp]
  unfold conv
  rw [Nat.add_comm n.val 1, Nat.add_comm n.val 2]

theorem ref_at : val_main_v37 (F := Ideal) x w b = acts x w b := funext fun i => by
  obtain ⟨p, n, l, rfl⟩ : ∃ (p : Fin 4) (n : Fin 2048) (l : Fin 704), i = ix3 p n l := ⟨i 0, i 1, i 2, eq_ix3 i⟩
  have hc := ref_conv x w b
  unfold val_main_v37 val_main_v36 val_main_v35 val_main_v34 val_main_v33 val_main_v32 val_main_v31 val_main_v30 val_main_v29 val_main_v28 val_main_v27 val_main_v26
  generalize val_main_v25 (F := Ideal) x w b = z at hc
  pointwise [val_main_cst, val_main_cst_0, val_main_cst_1, val_main_v0]
  rw [hc]
  rfl

theorem claim : algebraic_FfnFwdIdeal_FfnFwdRefIdeal := fun m ρ m' ρ' _ hag => by
  have r0 := fun c => ref_at (argX m c) (argW m c) (argB m c)
  refine ⟨fun c => acts (argX m c) (argW m c) (argB m c),
    (θ_run _ _ _).mono (fun _ h c => ⟨(h c).1.trans (final6 m c _ (tile6 m c)), (h c).2⟩) (Cert.FfnFwdIdeal.Value.run_blocks m ρ),
    (θ_run _ _ _).mono (fun _ h c => ⟨(h c).1.trans ((val_main_v37_eq m' c).trans ?_), (h c).2⟩) (Cert.FfnFwdRefIdeal.Value.run m' ρ')⟩
  rw [(hag c).1, (hag c).2.1, (hag c).2.2]; exact r0 c

end Cert.Step.FfnFwd

end
-- ==== Proof.PoolFwdKer.lean ====
/-
  The forward pooling call's kernel: each group of 128 columns averaged over windows of 2, 4, 8 and 16 rows, less the column itself,
  and then multiplied by the group's matrix and the scale. Both results entry by entry, as sums.
-/
module

public import proofs.«01_k».proof.Proof.PoolMath
public import proofs.«01_k».proof.Proof.PoolWords
public import Idealize.ShloMosaic.Lib.Pipeline.ValueKit
public import proofs.«01_k».proof.Proof.Gen.PoolFwdIdeal.Value

@[expose] public section
set_option maxRecDepth 16384
noncomputable section
open Idealize.ShloMosaic Idealize.ShloMosaic.TcCoe Idealize.SL.Sem
open Idealize.ShloMosaic.Pipeline (Dat)

namespace Cert.Step.PoolFwd
open Cert.Step.Pool Cert.PoolFwdIdeal Cert.PoolFwdIdeal.Gen

/-! ## The results as sums -/

/-- The sum over the rows `t` with `n - h ≤ t < n + h`. -/
def seg (h : ℕ) (d : Fin 2048 → EReal) (n : Fin 2048) : EReal := ∑ t : Fin 2048, if n.val ≤ t.val + h ∧ t.val < n.val + h then d t else 0

theorem seg_eq (h : ℕ) (hh : h ≤ 8) (d : Fin 2048 → EReal) (n : Fin 2048) :
    seg h d n = ∑ o ∈ Finset.range (2 * h), xe d (8 + n.val - h + o) := by
  have hn := n.isLt
  rw [xe_sum _ _ (by omega)]
  refine Finset.sum_congr rfl fun t _ => ?_
  have : (n.val ≤ t.val + h ∧ t.val < n.val + h) ↔ (8 + n.val - h ≤ 8 + t.val ∧ 8 + t.val < 8 + n.val - h + 2 * h) := by omega
  simp only [this]

/-- The place of column `l` of group `g`. -/
def gc (g : Fin 4) (l : Fin 128) : Fin 512 := ⟨128 * g.val + l.val, by omega⟩

/-- The average of a column over a row's window, less the column. -/
def pmE (u : S2048x512.Idx → EReal) (g : Fin 4) (l : Fin 128) (n : Fin 2048) : EReal :=
  Ideal.div (seg (2 ^ g.val) (fun t => u (ix2 t (gc g l))) n) (((cnt (2 ^ g.val) n : ℕ) : ℝ) : EReal) - u (ix2 n (gc g l))
/-- The averages times the group's matrix and the scale. -/
def pwE (u : S2048x512.Idx → EReal) (w : S4x128x128.Idx → EReal) (s : Fin 512 → EReal) (g : Fin 4) (l : Fin 128) (n : Fin 2048) : EReal :=
  (∑ k : Fin 128, pmE u g k n * w (ix3 g k l)) * s (gc g l)

/-- Four groups of columns side by side. -/
def glue (f : Fin 4 → Fin 128 → Fin 2048 → EReal) : S2048x512.Idx → EReal := fun y =>
  f ⟨(y 1).val / 128, Nat.div_lt_of_lt_mul (y 1).isLt⟩ ⟨(y 1).val % 128, Nat.mod_lt _ (by decide)⟩ (y 0)
theorem glue_at (f : Fin 4 → Fin 128 → Fin 2048 → EReal) (n : Fin 2048) (g : Fin 4) (l : Fin 128) : glue f (ix2 n (gc g l)) = f g l n := by
  have e1 : (128 * g.val + l.val) / 128 = g.val := by omega
  have e2 : (128 * g.val + l.val) % 128 = l.val := by omega
  show f ⟨(128 * g.val + l.val) / 128, _⟩ ⟨(128 * g.val + l.val) % 128, _⟩ n = _
  exact congrFun (congrArg₂ f (Fin.ext e1) (Fin.ext e2)) n

/-! ## The kernel's shifts -/

/-- A column between two borders of eight rows of zeros. -/
def pad (q : FVec Ideal S2048x128 .f32) : FVec Ideal S2064x128 .f32 :=
  concatenate S2064x128 0 [⟨S8x128, broadcast S8x128 (Scalar.ofBits .f32 0x00000000#32 : Ideal .f32)⟩, ⟨S2048x128, q⟩, ⟨S8x128, broadcast S8x128 (Scalar.ofBits .f32 0x00000000#32 : Ideal .f32)⟩] concatenates_S8x128_S2048x128_S8x128_S2064x128_d0
/-- A matrix plus itself one row down; the rows before plus the rows after. -/
def bk (x : FVec Ideal S2064x128 .f32) : FVec Ideal S2064x128 .f32 := addf x (dynamicRotate 0 1#32 none x rotates_S2064x128_d0)
def sh (k k' : BitVec 32) (x : FVec Ideal S2064x128 .f32) : FVec Ideal S2064x128 .f32 :=
  addf (dynamicRotate 0 k none x rotates_S2064x128_d0) (dynamicRotate 0 k' none x rotates_S2064x128_d0)
/-- The rows' counts, as words. -/
def cw (h : BitVec 32) : IVec S2048x1 32 :=
  subi (minsi (addi (iota .tc S2048x1 32 [0] iota_S2048x1_d0_w32) (broadcast S2048x1 h)) (broadcast S2048x1 2048#32))
    (maxsi (subi (iota .tc S2048x1 32 [0] iota_S2048x1_d0_w32) (broadcast S2048x1 h)) (broadcast S2048x1 0#32))
def avg (z : FVec Ideal S2064x128 .f32) (v : FVec Ideal S2048x128 .f32) (h : BitVec 32) : FVec Ideal S2048x128 .bf16 :=
  truncf .bf16 (subf (divf (extractStridedSlice S2048x128 ![8, 0] z slices_S2064x128_o8_0_S2048x128)
    (broadcastTo S2048x128 (sitofp (F := Ideal) .f32 (cw h)) broadcasts_S2048x1_S2048x128)) v) bitsLt_bf16_f32
def pw (p : FVec Ideal S2048x128 .bf16) (w : FVec Ideal S1x128x128 .bf16) (s : FVec Ideal S1x128 .f32) : FVec Ideal S2048x128 .bf16 :=
  truncf .bf16 (mulf (matmul dot_S2048x128_S128x128_S2048x128_1_0_0_1_n_n none p (shapeCast S128x128 w shapeCasts_S1x128x128_S128x128) (constant S2048x128 .f32 0x00000000#32))
    (broadcastTo S2048x128 (shapeCast S1x128 s shapeCasts_S1x128_S1x128) broadcasts_S1x128_S2048x128)) bitsLt_bf16_f32

theorem rot_at (sb : BitVec 32) (x : FVec Ideal S2064x128 .f32) (r : Fin 2064) (l : Fin 128) (k : Fin 2064)
    (hk : k.val = (r.val + 2064 - sb.toNat % 2064) % 2064) : dynamicRotate 0 sb none x rotates_S2064x128_d0 (ix2 r l) = x (ix2 k l) :=
  dynamicRotate_apply 0 sb x rotates_S2064x128_d0 (ix2 r l) (ix2 k l) (fun b => match b with
    | ⟨0, _⟩ => hk
    | ⟨1, _⟩ => rfl)

theorem pad_at (q : FVec Ideal S2048x128 .f32) (r : Fin 2064) (l : Fin 128) : pad q (ix2 r l) = xe (fun t => q (ix2 t l)) r.val := by
  unfold xe
  by_cases h1 : r.val < 8
  · rw [dif_neg (by omega)]
    pointwise [pad]
    rw [dif_pos h1]
  · by_cases h2 : r.val < 2056
    · rw [dif_pos (by omega)]
      pointwise [pad]
      rw [dif_neg h1, dif_pos (by omega)]
    · rw [dif_neg (by omega)]
      pointwise [pad]
      rw [dif_neg h1, dif_neg (by omega)]

/-- Rows `a ≤ r < b` of a column of `x` are `f`. -/
def Reads (x : FVec Ideal S2064x128 .f32) (l : Fin 128) (f : ℕ → EReal) (a b : ℕ) : Prop := ∀ r : Fin 2064, a ≤ r.val → r.val < b → x (ix2 r l) = f r.val

theorem bk_reads (q : FVec Ideal S2048x128 .f32) (l : Fin 128) :
    Reads (bk (pad q)) l (fun r => xe (fun t => q (ix2 t l)) (r - 1) + xe (fun t => q (ix2 t l)) r) 1 2064 := fun r h1 h2 => by
  show pad q (ix2 r l) + dynamicRotate 0 1#32 none (pad q) rotates_S2064x128_d0 (ix2 r l) = _
  rw [rot_at 1#32 _ r l ⟨r.val - 1, by omega⟩ (by show r.val - 1 = (r.val + 2064 - 1) % 2064; omega), pad_at, pad_at, add_comm]

theorem sh_reads (k k' : BitVec 32) (m : ℕ) (hk : k.toNat = m) (hk' : k'.toNat = 2064 - m) (h0 : 0 < m) (x : FVec Ideal S2064x128 .f32) (l : Fin 128) (f : ℕ → EReal) (a b : ℕ)
    (hb : b ≤ 2064) (hx : Reads x l f a b) : Reads (sh k k' x) l (fun r => f (r - m) + f (r + m)) (a + m) (b - m) := fun r h1 h2 => by
  show dynamicRotate 0 k none x rotates_S2064x128_d0 (ix2 r l) + dynamicRotate 0 k' none x rotates_S2064x128_d0 (ix2 r l) = _
  rw [rot_at k _ r l ⟨r.val - m, by omega⟩ (by show r.val - m = _; rw [hk]; omega),
    rot_at k' _ r l ⟨r.val + m, by omega⟩ (by show r.val + m = _; rw [hk']; omega), hx _ (by show a ≤ r.val - m; omega) (by show r.val - m < b; omega), hx _ (by show a ≤ r.val + m; omega) (by show r.val + m < b; omega)]

theorem cw_at (h : BitVec 32) (t : Fin 2048) : cw h (ix2 t (0 : Fin 1)) = cntK h t := by
  pointwise [cw]
  rfl

theorem avg_at (z : FVec Ideal S2064x128 .f32) (v : FVec Ideal S2048x128 .f32) (h : BitVec 32) (H : ℕ) (hc : ∀ t, (cntK h t).toInt = (cnt H t : Int)) (n : Fin 2048) (l : Fin 128)
    (f : ℕ → EReal) (a b : ℕ) (hz : Reads z l f a b) (ha : a ≤ 8) (hb : 2056 ≤ b) (hf : f (8 + n.val) = seg H (fun t => v (ix2 t l)) n) :
    avg z v h (ix2 n l) = Ideal.div (seg H (fun t => v (ix2 t l)) n) (((cnt H n : ℕ) : ℝ) : EReal) - v (ix2 n l) := by
  have hn := n.isLt
  have e : sitofp (F := Ideal) .f32 (cw h) (ix2 n (0 : Fin 1)) = (((cnt H n : ℕ) : ℝ) : EReal) := by
    show ((((cw h (ix2 n (0 : Fin 1))).toInt : ℝ)) : EReal) = _
    rw [cw_at, hc]
    rfl
  rw [← hf, ← hz ⟨8 + n.val, by omega⟩ (by show a ≤ 8 + n.val; omega) (by show 8 + n.val < b; omega), ← e]
  unfold avg
  generalize sitofp (F := Ideal) .f32 (cw h) = w
  pointwise []

theorem pw_at (p : FVec Ideal S2048x128 .bf16) (w : FVec Ideal S1x128x128 .bf16) (s : FVec Ideal S1x128 .f32) (n : Fin 2048) (l : Fin 128) :
    pw p w s (ix2 n l) = (∑ k : Fin 128, p (ix2 n k) * w (ix3 (0 : Fin 1) k l)) * s (ix2 (0 : Fin 1) l) := by
  pointwise [pw]

section
variable (v : FVec Ideal S2048x128 .f32) (n : Fin 2048) (l : Fin 128)
theorem pay3_at : k0_pay3 (F := Ideal) v (ix2 n l) = Ideal.div (seg (2 ^ 0) (fun t => v (ix2 t l)) n) (((cnt (2 ^ 0) n : ℕ) : ℝ) : EReal) - v (ix2 n l) := by
  refine avg_at (bk (pad v)) v 1#32 1 cntK1 n l _ _ _ (bk_reads v l) (by omega) (by omega) ?_
  rw [seg_eq 1 (by decide)]
  simp only [Finset.sum_range_succ, Finset.sum_range_zero, Nat.reduceMul, zero_add]
  have e : 8 + n.val - 1 + 1 = 8 + n.val := by omega
  rw [e]
  rfl
theorem pay7_at : k0_pay7 (F := Ideal) v (k0_pay5 (F := Ideal) v) (k0_pay6 (F := Ideal) v) (ix2 n l) = Ideal.div (seg (2 ^ 1) (fun t => v (ix2 t l)) n) (((cnt (2 ^ 1) n : ℕ) : ℝ) : EReal) - v (ix2 n l) := by
  refine avg_at (sh 1#32 2063#32 (bk (pad v))) v 2#32 2 cntK2 n l _ _ _ (sh_reads _ _ 1 rfl rfl (by decide) _ l _ _ _ (by omega) (bk_reads v l)) (by omega) (by omega) ?_
  rw [seg_eq 2 (by decide)]
  simp only [Finset.sum_range_succ, Finset.sum_range_zero, Nat.reduceMul, zero_add]
  generalize xe (fun t => v (ix2 t l)) = X
  generalize hm : 8 + n.val - 2 = q
  have e : 8 + n.val = q + 2 := by omega
  rw [e]
  simp only [add_assoc, Nat.reduceAdd, Nat.add_succ_sub_one, Nat.reduceSubDiff, Nat.add_sub_cancel, add_zero]
theorem pay11_at : k0_pay11 (F := Ideal) v (k0_pay9 (F := Ideal) v) (k0_pay10 (F := Ideal) v) 2063#32 (ix2 n l) = Ideal.div (seg (2 ^ 2) (fun t => v (ix2 t l)) n) (((cnt (2 ^ 2) n : ℕ) : ℝ) : EReal) - v (ix2 n l) := by
  refine avg_at (sh 2#32 2062#32 (sh 1#32 2063#32 (bk (pad v)))) v 4#32 4 cntK4 n l _ _ _ (sh_reads _ _ 2 rfl rfl (by decide) _ l _ _ _ (by omega)
    (sh_reads _ _ 1 rfl rfl (by decide) _ l _ _ _ (by omega) (bk_reads v l))) (by omega) (by omega) ?_
  rw [seg_eq 4 (by decide)]
  simp only [Finset.sum_range_succ, Finset.sum_range_zero, Nat.reduceMul, zero_add]
  generalize xe (fun t => v (ix2 t l)) = X
  generalize hm : 8 + n.val - 4 = q
  have e : 8 + n.val = q + 4 := by omega
  rw [e]
  simp only [add_assoc, Nat.reduceAdd, Nat.add_succ_sub_one, Nat.reduceSubDiff, Nat.add_sub_cancel, add_zero]
theorem pay1_at : k0_pay1 (F := Ideal) v (k0_pay13 (F := Ideal) v) (k0_pay14 (F := Ideal) v) (ix2 n l) = Ideal.div (seg (2 ^ 3) (fun t => v (ix2 t l)) n) (((cnt (2 ^ 3) n : ℕ) : ℝ) : EReal) - v (ix2 n l) := by
  refine avg_at (sh 4#32 2060#32 (sh 2#32 2062#32 (sh 1#32 2063#32 (bk (pad v))))) v 8#32 8 cntK8 n l _ _ _ (sh_reads _ _ 4 rfl rfl (by decide) _ l _ _ _ (by omega)
    (sh_reads _ _ 2 rfl rfl (by decide) _ l _ _ _ (by omega) (sh_reads _ _ 1 rfl rfl (by decide) _ l _ _ _ (by omega) (bk_reads v l)))) (by omega) (by omega) ?_
  rw [seg_eq 8 (by decide)]
  simp only [Finset.sum_range_succ, Finset.sum_range_zero, Nat.reduceMul, zero_add]
  generalize xe (fun t => v (ix2 t l)) = X
  generalize hm : 8 + n.val - 8 = q
  have e : 8 + n.val = q + 8 := by omega
  rw [e]
  simp only [add_assoc, Nat.reduceAdd, Nat.add_succ_sub_one, Nat.reduceSubDiff, Nat.add_sub_cancel, add_zero]
end

/-! ## The two output blocks -/

theorem emb_col (o : ℕ) (inb : ∀ a, (![0, o] : Fin 2 → ℕ) a + S2048x128.size a ≤ S2048x512.size a) (n : Fin 2048) (g : Fin 4) (l : Fin 128) (ho : o = 128 * g.val) :
    (Rect.unit (s := S2048x512) ![0, o] S2048x128.size inb).emb (ix2 n l : S2048x128.Idx) = (ix2 n (gc g l) : S2048x512.Idx) := funext fun a => Fin.ext (match a with
  | ⟨0, _⟩ => by show 0 + 1 * n.val = n.val; omega
  | ⟨1, _⟩ => by show o + 1 * l.val = 128 * g.val + l.val; omega)
theorem emb_row (o : ℕ) (inb : ∀ a, (![0, o] : Fin 2 → ℕ) a + S1x128.size a ≤ S1x512.size a) (g : Fin 4) (l : Fin 128) (ho : o = 128 * g.val) :
    (Rect.unit (s := S1x512) ![0, o] S1x128.size inb).emb (ix2 0 l : S1x128.Idx) = (ix2 0 (gc g l) : S1x512.Idx) := funext fun a => Fin.ext (match a with
  | ⟨0, _⟩ => rfl
  | ⟨1, _⟩ => by show o + 1 * l.val = 128 * g.val + l.val; omega)
theorem emb_mat (o : ℕ) (inb : ∀ a, (![o, 0, 0] : Fin 3 → ℕ) a + S1x128x128.size a ≤ S4x128x128.size a) (g : Fin 4) (k l : Fin 128) (ho : o = g.val) :
    (Rect.unit (s := S4x128x128) ![o, 0, 0] S1x128x128.size inb).emb (ix3 0 k l : S1x128x128.Idx) = (ix3 g k l : S4x128x128.Idx) := funext fun a => Fin.ext (match a with
  | ⟨0, _⟩ => by show o + 1 * 0 = g.val; omega
  | ⟨1, _⟩ => by show 0 + 1 * k.val = k.val; omega
  | ⟨2, _⟩ => by show 0 + 1 * l.val = l.val; omega)

section
variable (x0 : S2048x512.Idx → EReal) (x1 : S4x128x128.Idx → EReal) (x2 : S1x512.Idx → EReal)

/-- A group's averages, read off the group's columns of the block. -/
theorem pm_of (o : ℕ) (inb : ∀ a, (![0, o] : Fin 2 → ℕ) a + S2048x128.size a ≤ S2048x512.size a) (g : Fin 4) (ho : o = 128 * g.val) (P : FVec Ideal S2048x128 .f32 → FVec Ideal S2048x128 .bf16)
    (hP : ∀ (v : FVec Ideal S2048x128 .f32) n l, P v (ix2 n l) = Ideal.div (seg (2 ^ g.val) (fun t => v (ix2 t l)) n) (((cnt (2 ^ g.val) n : ℕ) : ℝ) : EReal) - v (ix2 n l)) (n : Fin 2048) (l : Fin 128) :
    P (View.ld (Val := Elt Ideal) (e' := .f32) x0 (Rect.unit (s := S2048x512) ![0, o] S2048x128.size inb)) (ix2 n l) = pmE x0 g l n := by
  have e : ∀ t : Fin 2048, View.ld (Val := Elt Ideal) (e' := .f32) x0 (Rect.unit (s := S2048x512) ![0, o] S2048x128.size inb) (ix2 t l : S2048x128.Idx) = x0 (ix2 t (gc g l)) := fun t => congrArg x0 (emb_col o inb t g l ho)
  refine (hP _ n l).trans ?_
  unfold pmE
  simp only [e]

/-- A group's products, the same way. -/
theorem pw_of (o : ℕ) (inb : ∀ a, (![0, o] : Fin 2 → ℕ) a + S1x128.size a ≤ S1x512.size a) (i : ℕ) (inm : ∀ a, (![i, 0, 0] : Fin 3 → ℕ) a + S1x128x128.size a ≤ S4x128x128.size a)
    (g : Fin 4) (ho : o = 128 * g.val) (hi : i = g.val) (p : FVec Ideal S2048x128 .bf16) (hp : ∀ n l, p (ix2 n l) = pmE x0 g l n) (n : Fin 2048) (l : Fin 128) :
    pw p (View.ld (Val := Elt Ideal) (e' := .bf16) x1 (Rect.unit (s := S4x128x128) ![i, 0, 0] S1x128x128.size inm)) (View.ld (Val := Elt Ideal) (e' := .f32) x2 (Rect.unit (s := S1x512) ![0, o] S1x128.size inb)) (ix2 n l)
      = pwE x0 x1 (fun j => x2 (ix2 0 j)) g l n := by
  rw [pw_at]
  unfold pwE
  refine congrArg₂ (· * ·) (Finset.sum_congr rfl fun k _ => congrArg₂ (· * ·) (hp n k) (congrArg x1 (emb_mat i inm g k l hi))) (congrArg x2 (emb_row o inb g l ho))

theorem out3_eq : out0_3 (F := Ideal) x0 x1 x2 = glue (pmE x0) := by
  funext y
  refine View.canon_apply_of_pieces (Val := Elt Ideal) (S := S2048x512) (e := .bf16) (glue (pmE x0)) _ (fun p hp => ?_) y (cover0_3 _ _ _ _ y)
  simp only [List.mem_cons, List.not_mem_nil, or_false] at hp
  rcases hp with rfl | rfl | rfl | rfl <;> refine fun (x : S2048x128.Idx) => ?_ <;> rw [eq_ix2 x]
  · exact (pm_of x0 384 _ 3 rfl (fun v => k0_pay1 (F := Ideal) v (k0_pay13 (F := Ideal) v) (k0_pay14 (F := Ideal) v)) pay1_at _ _).trans ((congrArg _ (emb_col 384 inb_S2048x512_S2048x128_0_384 _ 3 _ rfl)).trans (glue_at _ _ _ _)).symm
  · exact (pm_of x0 256 _ 2 rfl (fun v => k0_pay11 (F := Ideal) v (k0_pay9 (F := Ideal) v) (k0_pay10 (F := Ideal) v) 2063#32) pay11_at _ _).trans ((congrArg _ (emb_col 256 inb_S2048x512_S2048x128_0_256 _ 2 _ rfl)).trans (glue_at _ _ _ _)).symm
  · exact (pm_of x0 128 _ 1 rfl (fun v => k0_pay7 (F := Ideal) v (k0_pay5 (F := Ideal) v) (k0_pay6 (F := Ideal) v)) pay7_at _ _).trans ((congrArg _ (emb_col 128 inb_S2048x512_S2048x128_0_128 _ 1 _ rfl)).trans (glue_at _ _ _ _)).symm
  · exact (pm_of x0 0 _ 0 rfl (fun v => k0_pay3 (F := Ideal) v) pay3_at _ _).trans ((congrArg _ (emb_col 0 inb_S2048x512_S2048x128_0_0 _ 0 _ rfl)).trans (glue_at _ _ _ _)).symm

theorem out4_eq : out0_4 (F := Ideal) x0 x1 x2 = glue (pwE x0 x1 fun j => x2 (ix2 0 j)) := by
  funext y
  refine View.canon_apply_of_pieces (Val := Elt Ideal) (S := S2048x512) (e := .bf16) (glue (pwE x0 x1 fun j => x2 (ix2 0 j))) _ (fun p hp => ?_) y (cover0_4 _ _ _ _ y)
  simp only [List.mem_cons, List.not_mem_nil, or_false] at hp
  rcases hp with rfl | rfl | rfl | rfl <;> refine fun (x : S2048x128.Idx) => ?_ <;> rw [eq_ix2 x]
  · exact (pw_of x0 x1 x2 384 _ 3 _ 3 rfl rfl _ (pm_of x0 384 _ 3 rfl (fun v => k0_pay1 (F := Ideal) v (k0_pay13 (F := Ideal) v) (k0_pay14 (F := Ideal) v)) pay1_at) _ _).trans ((congrArg _ (emb_col 384 inb_S2048x512_S2048x128_0_384 _ 3 _ rfl)).trans (glue_at _ _ _ _)).symm
  · exact (pw_of x0 x1 x2 256 _ 2 _ 2 rfl rfl _ (pm_of x0 256 _ 2 rfl (fun v => k0_pay11 (F := Ideal) v (k0_pay9 (F := Ideal) v) (k0_pay10 (F := Ideal) v) 2063#32) pay11_at) _ _).trans ((congrArg _ (emb_col 256 inb_S2048x512_S2048x128_0_256 _ 2 _ rfl)).trans (glue_at _ _ _ _)).symm
  · exact (pw_of x0 x1 x2 128 _ 1 _ 1 rfl rfl _ (pm_of x0 128 _ 1 rfl (fun v => k0_pay7 (F := Ideal) v (k0_pay5 (F := Ideal) v) (k0_pay6 (F := Ideal) v)) pay7_at) _ _).trans ((congrArg _ (emb_col 128 inb_S2048x512_S2048x128_0_128 _ 1 _ rfl)).trans (glue_at _ _ _ _)).symm
  · exact (pw_of x0 x1 x2 0 _ 0 _ 0 rfl rfl _ (pm_of x0 0 _ 0 rfl (fun v => k0_pay3 (F := Ideal) v) pay3_at) _ _).trans ((congrArg _ (emb_col 0 inb_S2048x512_S2048x128_0_0 _ 0 _ rfl)).trans (glue_at _ _ _ _)).symm
end

end Cert.Step.PoolFwd

namespace Cert.PoolFwdIdeal.Value
open Cert.PoolFwdIdeal Cert.PoolFwdIdeal.Gen Cert.Step.PoolFwd

variable (m : (ℓ : Loc nD τ sig) → Buf (Elt Ideal) ℓ)
/-- The arguments as arrays. -/
abbrev argU (c : Dev nD) : S2048x512.Idx → EReal := m ((c : Thread nD τ).loc main_arg0)
abbrev argW (c : Dev nD) : S4x128x128.Idx → EReal := m ((c : Thread nD τ).loc main_arg1)
abbrev argS (c : Dev nD) : S512.Idx → EReal := m ((c : Thread nD τ).loc main_arg2)

theorem V_v0 (c : Dev nD) : V m c main_v0 = argW m c := by
  unfold V hostOps0
  after_results <;> rfl
theorem V_v1 (c : Dev nD) (l : Fin 512) : (V m c main_v1 : S1x512.Idx → EReal) (ix2 0 l) = argS m c (ix1 l) := by
  have h : V m c main_v1 = shapeCast S1x512 (argS m c) shapeCasts_S512_S1x512 := by
    unfold V hostOps0
    after_results <;> rfl
  rw [h]
  pointwise []

theorem index_all : ∀ t : Fin cfg0.N, win0_0.index t = ![0, 0] ∧ win0_1.index t = ![0, 0, 0] ∧ win0_2.index t = ![0, 0] ∧ win0_3.index t = ![0, 0] ∧ win0_4.index t = ![0, 0] :=
  (by decide +kernel : ∀ t : Fin grid0.N, _)

theorem blkU (c : Dev nD) (t : Fin cfg0.N) : (iblk m c 0 t : Vec Ideal S2048x512 .f32) = argU m c := by
  refine funext fun (y : S2048x512.Idx) => ?_
  rw [eq_ix2 y]
  blk_simp [iblk]
  rw [V_main_arg0]
  refine congrArg _ ?_
  blk_ext [index_all]
theorem blkW (c : Dev nD) (t : Fin cfg0.N) : (iblk m c 1 t : Vec Ideal S4x128x128 .bf16) = argW m c := by
  refine funext fun (y : S4x128x128.Idx) => ?_
  rw [eq_ix3 y]
  blk_simp [iblk]
  rw [V_v0]
  refine congrArg _ ?_
  blk_ext [index_all]
theorem blkS (c : Dev nD) (t : Fin cfg0.N) (l : Fin 512) : (iblk m c 2 t : Vec Ideal S1x512 .f32) (ix2 0 l) = argS m c (ix1 l) := by
  rw [← V_v1 m c l]
  blk_simp [iblk]
  refine congrArg _ ?_
  blk_ext [index_all]

/-- What the kernel leaves in its two results. -/
theorem final3 (c : Dev nD) : (dats m 0 c).arrAt 3 cfg0.N = glue (pmE (argU m c)) := by
  refine (dats m 0 c).arrAt_eq_of_covers 3 (glue (pmE (argU m c))) (by decide +kernel) fun t _ (y : S2048x512.Idx) => ?_
  blk_simp
  rw [after0_3, out3_eq, blkU, eq_ix2 y]
  refine congrArg (glue (pmE (argU m c))) ?_
  blk_ext [index_all]
theorem final4 (c : Dev nD) : (dats m 0 c).arrAt 4 cfg0.N = glue (pwE (argU m c) (argW m c) fun j => argS m c (ix1 j)) := by
  refine (dats m 0 c).arrAt_eq_of_covers 4 (glue (pwE (argU m c) (argW m c) fun j => argS m c (ix1 j))) (by decide +kernel) fun t _ (y : S2048x512.Idx) => ?_
  blk_simp
  rw [after0_4, out4_eq, blkU, blkW, eq_ix2 y]
  simp only [blkS]
  refine congrArg (glue (pwE (argU m c) (argW m c) fun j => argS m c (ix1 j))) ?_
  blk_ext [index_all]

end Cert.PoolFwdIdeal.Value

end
-- ==== Proof.PoolFwd.lean ====
/-
  The forward pooling call: the reference's running sums, read at the two ends of every row's window, give the window's sum where the
  input is finite, and so both programs give the same averages and the same products with the groups' matrices.
-/
module

public import proofs.«01_k».proof.Proof.PoolFwdKer
public import proofs.«01_k».proof.Proof.Norm
public import Idealize.ShloMosaic.Lib.KernelVsHost
public import proofs.«01_k».proof.Defs
public import proofs.«01_k».proof.Proof.Gen.PoolFwdRefIdeal.Read
public import proofs.«01_k».proof.Proof.Gen.PoolFwdRefIdeal.Run

@[expose] public section
set_option maxRecDepth 16384
noncomputable section
open Idealize.ShloMosaic Idealize.ShloMosaic.TcCoe Idealize.SL.Sem

namespace Cert.Step.PoolFwd
open Cert.Step.Pool Cert.PoolFwdRefIdeal Cert.PoolFwdRefIdeal.Gen Cert.PoolFwdRefIdeal.Read

/-! ## Running sums -/

/-- Two running sums differ by the sum over the rows between them. -/
theorem pre_sub (h : ℕ) (r : Fin 2048 → ℝ) (d : Fin 2048 → EReal) (hd : ∀ t, d t = (r t : EReal)) (n : Fin 2048) :
    (∑ i : Fin 2048, if i.val < min (n.val + h) 2048 then d i else 0) - (∑ i : Fin 2048, if i.val < n.val - h then d i else 0) = seg h d n := by
  have e : ∀ (p : Fin 2048 → Prop) [DecidablePred p], (∑ i : Fin 2048, if p i then d i else 0) = ((∑ i : Fin 2048, if p i then r i else 0 : ℝ) : EReal) := fun p _ => by
    rw [coe_sum']
    refine Finset.sum_congr rfl fun i _ => ?_
    rw [hd]
    split <;> rfl
  unfold seg
  rw [e, e, e, ← EReal.coe_sub, ← Finset.sum_sub_distrib]
  refine congrArg _ (Finset.sum_congr rfl fun i _ => ?_)
  have hi := i.isLt
  by_cases h1 : i.val < n.val - h
  · rw [if_pos (by omega), if_pos h1, if_neg (by omega), sub_self]
  · by_cases h2 : i.val < n.val + h
    · rw [if_pos (by omega), if_neg h1, if_pos (by omega), sub_zero]
    · rw [if_neg (by omega), if_neg h1, if_neg (by omega), sub_zero]

theorem foldl_sum {N : ℕ} (g : Fin N → EReal) : (List.finRange N).foldl (fun r n => r + g n) 0 = ∑ n, g n := by
  have : ∀ (l : List (Fin N)) (v : EReal), l.foldl (fun r n => r + g n) v = v + (l.map g).sum := by
    intro l
    induction l with
    | nil => intro v; simp
    | cons a l ih => intro v; rw [List.foldl_cons, ih, List.map_cons, List.sum_cons, add_assoc]
  rw [this, zero_add, Fin.sum_univ_def]

/-- The window of row `n` reaches from `2047` rows before it to it. -/
def wv (x : FVec Ideal S1x2048x512 .f32) (n : Fin 2048) (j : Fin 512) (k : Fin 2048) : EReal :=
  if h : 2047 ≤ n.val + k.val then x (ix3 (0 : Fin 1) (⟨n.val + k.val - 2047, by omega⟩ : Fin 2048) j) else 0

theorem prefix_apply (x : FVec Ideal S1x2048x512 .f32) (init : FVec Ideal S_ .f32) (h0 : init (Shape.Idx.first Facts₀.h_S_) = (0 : EReal)) (n : Fin 2048) (j : Fin 512) :
    Host.reduceWindowAdd ![1, 2048, 1] ![1, 1, 1] ![0, 2047, 0] ![0, 0, 0] x init Facts₀.reduceWindows_S1x2048x512_S1x2048x512_w1s1p0_0_w2048s1p2047_0_w1s1p0_0 Facts₀.h_S_ (ix3 (0 : Fin 1) n j)
      = ∑ i : Fin 2048, if i.val ≤ n.val then x (ix3 (0 : Fin 1) i j) else 0 := by
  have hn := n.isLt
  unfold Host.reduceWindowAdd
  rw [Ideal.hostReduceWindowAdd_def]
  unfold Ideal.hostReduceWindowAdd Host.reduceWindow
  rw [h0]
  refine (foldl_sum _).trans ?_
  refine Eq.trans (b := ∑ q, (fun w : (⟨3, ![1, 2048, 1]⟩ : Shape).Idx => wv x n j (w 1)) ((Shape.rowMajor (⟨3, ![1, 2048, 1]⟩ : Shape)).symm q)) (Finset.sum_congr rfl fun q _ => ?_)
    ((Equiv.sum_comp (Shape.rowMajor (⟨3, ![1, 2048, 1]⟩ : Shape)).symm (fun w : (⟨3, ![1, 2048, 1]⟩ : Shape).Idx => wv x n j (w 1))).trans ?_)
  · let w : (⟨3, ![1, 2048, 1]⟩ : Shape).Idx := (Shape.rowMajor (⟨3, ![1, 2048, 1]⟩ : Shape)).symm q
    have w0 : (w 0).val = 0 := by have := (w 0).isLt; change (w 0).val < 1 at this; omega
    have w1 : (w 1).val < 2048 := (w 1).isLt
    have w2 : (w 2).val = 0 := by have := (w 2).isLt; change (w 2).val < 1 at this; omega
    have hj := j.isLt
    show _ = wv x n j (w 1)
    unfold wv
    by_cases h : 2047 ≤ n.val + (w 1).val
    · rw [dif_pos h]
      refine (dif_pos ?_).trans ?_
      · intro a
        match a with
        | ⟨0, _⟩ =>
          show 0 ≤ 0 * 1 + (w 0).val ∧ 0 * 1 + (w 0).val - 0 < 1
          omega
        | ⟨1, _⟩ =>
          show 2047 ≤ n.val * 1 + (w 1).val ∧ n.val * 1 + (w 1).val - 2047 < 2048
          omega
        | ⟨2, _⟩ =>
          show 0 ≤ j.val * 1 + (w 2).val ∧ j.val * 1 + (w 2).val - 0 < 512
          omega
      · refine congrArg x (funext fun a => Fin.ext ?_)
        match a with
        | ⟨0, _⟩ => show 0 * 1 + (w 0).val - 0 = 0; omega
        | ⟨1, _⟩ => show n.val * 1 + (w 1).val - 2047 = n.val + (w 1).val - 2047; omega
        | ⟨2, _⟩ => show j.val * 1 + (w 2).val - 0 = j.val; omega
    · rw [dif_neg h]
      refine dif_neg fun hin => ?_
      have h1 := (hin 1).1
      change 2047 ≤ n.val * 1 + (w 1).val at h1
      omega
  have fin : ∀ w : (⟨3, ![1, 2048, 1]⟩ : Shape).Idx, ix3 (0 : Fin 1) (w 1) (0 : Fin 1) = w := fun w =>
    ((eq_ix3 w).trans (congrArg₂ (fun a b => ix3 a (w 1) b) (Subsingleton.elim (α := Fin 1) _ _) (Subsingleton.elim (α := Fin 1) _ _))).symm
  refine Eq.trans (b := ∑ k : Fin 2048, wv x n j k) (Finset.sum_bij' (fun w _ => w 1) (fun k _ => ix3 (0 : Fin 1) k (0 : Fin 1)) (fun _ _ => Finset.mem_univ _) (fun _ _ => Finset.mem_univ _)
    (fun w _ => fin w) (fun _ _ => rfl) fun _ _ => rfl) ?_
  rw [← Finset.sum_filter]
  refine Eq.trans (b := ∑ k ∈ Finset.univ.filter (fun k : Fin 2048 => 2047 ≤ n.val + k.val), wv x n j k) ((Finset.sum_filter_of_ne fun k _ hk => ?_).symm) ?_
  · by_contra h
    exact hk (dif_neg h)
  refine Finset.sum_bij' (fun k _ => (⟨n.val + k.val - 2047, by omega⟩ : Fin 2048)) (fun i _ => (⟨(i.val + 2047 - n.val) % 2048, by omega⟩ : Fin 2048)) ?_ ?_ ?_ ?_ ?_
  · intro k hk
    have := (Finset.mem_filter.1 hk).2
    exact Finset.mem_filter.2 ⟨Finset.mem_univ _, by show n.val + k.val - 2047 ≤ n.val; omega⟩
  · intro i hi
    have := (Finset.mem_filter.1 hi).2
    exact Finset.mem_filter.2 ⟨Finset.mem_univ _, by show 2047 ≤ n.val + (i.val + 2047 - n.val) % 2048; omega⟩
  · intro k hk
    have := (Finset.mem_filter.1 hk).2
    exact Fin.ext (by show (n.val + k.val - 2047 + 2047 - n.val) % 2048 = k.val; omega)
  · intro i hi
    have := (Finset.mem_filter.1 hi).2
    exact Fin.ext (by show n.val + (i.val + 2047 - n.val) % 2048 - 2047 = i.val; omega)
  · intro k hk
    exact dif_pos (Finset.mem_filter.1 hk).2

/-- A row picked by a word. -/
theorem pick (x : FVec Ideal S1x2049x128 .f32) (idx : IVec S2048x1 32) (n : Fin 2048) (l : Fin 128) (k : ℕ) (hk : k ≤ 2048) (hi : (idx (ix2 n (0 : Fin 1))).toInt = (k : Int)) :
    Host.gather gather_S1x2049x128_S2048x1_S1x2048x128_02_1_n_n_1_1_11128 x idx (ix3 (0 : Fin 1) n l) = x (ix3 (0 : Fin 1) (⟨k, by omega⟩ : Fin 2049) l) := by
  unfold Host.gather
  refine congrArg x (funext fun a => Fin.ext ?_)
  match a with
  | ⟨0, _⟩ => exact congrArg Fin.val (Subsingleton.elim (α := Fin 1) _ _)
  | ⟨1, _⟩ =>
    show GatherDims.start _ (ix3 (0 : Fin 1) n l) idx 1 + GatherDims.batchCoord _ (ix3 (0 : Fin 1) n l) 1 + GatherDims.offCoord _ (ix3 (0 : Fin 1) n l) 1 = k
    rw [GatherDims.batchCoord_eq_zero _ _ _ List.not_mem_nil, GatherDims.offCoord_eq_zero _ _ _ (fun h => ((GatherDims.mem_sKept _ _).mp h).1 (List.mem_singleton.mpr rfl))]
    unfold GatherDims.start
    rw [dif_pos (show (1 : Fin 3) ∈ gather_S1x2049x128_S2048x1_S1x2048x128_02_1_n_n_1_1_11128.startIndexMap from List.mem_singleton.mpr rfl)]
    have hsi : GatherDims.siIdx gather_S1x2049x128_S2048x1_S1x2048x128_02_1_n_n_1_1_11128 (ix3 (0 : Fin 1) n l) ⟨List.idxOf (1 : Fin 3) [1], List.idxOf_lt_length_iff.2 (List.mem_singleton.mpr rfl)⟩ = ix2 n (0 : Fin 1) := by
      funext b
      refine Fin.ext ?_
      match b with
      | ⟨0, _⟩ => rfl
      | ⟨1, _⟩ => rfl
    refine (congrArg (fun z => min (idx z).toInt.toNat 2048 + 0 + 0) hsi).trans ?_
    show min (idx (ix2 n (0 : Fin 1))).toInt.toNat 2048 + 0 + 0 = k
    rw [hi]
    omega
  | ⟨2, _⟩ =>
    show GatherDims.start _ (ix3 (0 : Fin 1) n l) idx 2 + GatherDims.batchCoord _ (ix3 (0 : Fin 1) n l) 2 + GatherDims.offCoord _ (ix3 (0 : Fin 1) n l) 2 = l.val
    rw [GatherDims.batchCoord_eq_zero _ _ _ List.not_mem_nil]
    unfold GatherDims.start GatherDims.offCoord
    rw [dif_neg (show (2 : Fin 3) ∉ gather_S1x2049x128_S2048x1_S1x2048x128_02_1_n_n_1_1_11128.startIndexMap from fun h => absurd (List.mem_singleton.1 h) (by decide)),
      dif_pos ((GatherDims.mem_sKept _ _).2 ⟨fun h => absurd (List.mem_singleton.1 h) (by decide), List.not_mem_nil⟩), zero_add, zero_add]
    rfl

theorem pref_at (u : S2048x512.Idx → EReal) (k : Fin 2049) (j : Fin 512) :
    val_main_v3 (F := Ideal) u (ix3 (0 : Fin 1) k j) = ∑ i : Fin 2048, if i.val < k.val then u (ix2 i j) else 0 := by
  have hk := k.isLt
  have e1 : ∀ y, val_main_v1 (F := Ideal) y = (0 : EReal) := fun y => by
    rw [val_main_v1_apply, val_main_cst_apply]
    exact Ideal.ofBits_zero_f32
  have e2 : ∀ n : Fin 2048, val_main_v2 (F := Ideal) u (ix3 (0 : Fin 1) n j) = ∑ i : Fin 2048, if i.val ≤ n.val then u (ix2 i j) else 0 := fun n => by
    refine (prefix_apply _ _ ?_ n j).trans (Finset.sum_congr rfl fun i _ => ?_)
    · rw [val_main_call0_call0_v0_apply, val_main_call0_call0_cst_apply]
      exact Ideal.ofBits_zero_f32
    · rw [val_main_v0_apply, show idx_main_v0 (ix3 (0 : Fin 1) i j) = (ix2 i j : S2048x512.Idx) from funext fun a => match a with
        | ⟨0, _⟩ => rfl
        | ⟨1, _⟩ => rfl]
  unfold val_main_v3
  generalize val_main_v1 (F := Ideal) = z at e1
  generalize val_main_v2 (F := Ideal) u = q at e2
  by_cases h : k.val < 1
  · rw [Finset.sum_eq_zero fun i _ => if_neg (by omega)]
    pointwise []
    rw [dif_pos h, e1]
  · refine Eq.trans (b := q (ix3 (0 : Fin 1) (⟨k.val - 1, by omega⟩ : Fin 2048) j)) ?_ ((e2 _).trans (Finset.sum_congr rfl fun i _ => ?_))
    · pointwise []
      rw [dif_neg h]
    · have : (i.val ≤ k.val - 1) ↔ (i.val < k.val) := by omega
      simp only [this]

/-! ## The rows that open and close a window -/

theorem hi1 (n : Fin 2048) : (val_main_v19 (F := Ideal) (ix2 n (0 : Fin 1))).toInt = ((min (n.val + 1) 2048 : ℕ) : Int) := by
  have e : val_main_v19 (F := Ideal) (ix2 n (0 : Fin 1)) = hiW 1#32 n := rfl
  rw [e, hiW1]

theorem lo1 (n : Fin 2048) : (val_main_v26 (F := Ideal) (ix2 n (0 : Fin 1))).toInt = ((n.val - 1 : ℕ) : Int) := by
  have e : val_main_v26 (F := Ideal) (ix2 n (0 : Fin 1)) = loW 1#32 n := rfl
  rw [e, loW1]

theorem hi2 (n : Fin 2048) : (val_main_v48 (F := Ideal) (ix2 n (0 : Fin 1))).toInt = ((min (n.val + 2) 2048 : ℕ) : Int) := by
  have e : val_main_v48 (F := Ideal) (ix2 n (0 : Fin 1)) = hiW 2#32 n := rfl
  rw [e, hiW2]

theorem lo2 (n : Fin 2048) : (val_main_v55 (F := Ideal) (ix2 n (0 : Fin 1))).toInt = ((n.val - 2 : ℕ) : Int) := by
  have e : val_main_v55 (F := Ideal) (ix2 n (0 : Fin 1)) = loW 2#32 n := rfl
  rw [e, loW2]

theorem hi4 (n : Fin 2048) : (val_main_v77 (F := Ideal) (ix2 n (0 : Fin 1))).toInt = ((min (n.val + 4) 2048 : ℕ) : Int) := by
  have e : val_main_v77 (F := Ideal) (ix2 n (0 : Fin 1)) = hiW 4#32 n := rfl
  rw [e, hiW4]

theorem lo4 (n : Fin 2048) : (val_main_v84 (F := Ideal) (ix2 n (0 : Fin 1))).toInt = ((n.val - 4 : ℕ) : Int) := by
  have e : val_main_v84 (F := Ideal) (ix2 n (0 : Fin 1)) = loW 4#32 n := rfl
  rw [e, loW4]

theorem hi8 (n : Fin 2048) : (val_main_v106 (F := Ideal) (ix2 n (0 : Fin 1))).toInt = ((min (n.val + 8) 2048 : ℕ) : Int) := by
  have e : val_main_v106 (F := Ideal) (ix2 n (0 : Fin 1)) = hiW 8#32 n := rfl
  rw [e, hiW8]

theorem lo8 (n : Fin 2048) : (val_main_v113 (F := Ideal) (ix2 n (0 : Fin 1))).toInt = ((n.val - 8 : ℕ) : Int) := by
  have e : val_main_v113 (F := Ideal) (ix2 n (0 : Fin 1)) = loW 8#32 n := rfl
  rw [e, loW8]

/-! ## The reference's groups -/

section
variable (u : S2048x512.Idx → EReal) (w : S4x128x128.Idx → EReal) (s : S512.Idx → EReal) (r : S2048x512.Idx → ℝ) (hu : ∀ y, u y = (r y : EReal)) (n : Fin 2048) (l : Fin 128)

include hu in
/-- The two picked rows of a group's running sums differ by the window's sum. -/
theorem ends (g : Fin 4) (H : ℕ) (hi lo : IVec S2048x1 32) (hhi : (hi (ix2 n (0 : Fin 1))).toInt = ((min (n.val + H) 2048 : ℕ) : Int)) (hlo : (lo (ix2 n (0 : Fin 1))).toInt = ((n.val - H : ℕ) : Int))
    (x : FVec Ideal S1x2049x128 .f32) (hx : ∀ k : Fin 2049, x (ix3 (0 : Fin 1) k l) = val_main_v3 (F := Ideal) u (ix3 (0 : Fin 1) k (gc g l))) :
    Host.gather gather_S1x2049x128_S2048x1_S1x2048x128_02_1_n_n_1_1_11128 x hi (ix3 (0 : Fin 1) n l)
      - Host.gather gather_S1x2049x128_S2048x1_S1x2048x128_02_1_n_n_1_1_11128 x lo (ix3 (0 : Fin 1) n l) = seg H (fun t => u (ix2 t (gc g l))) n := by
  have hn := n.isLt
  rw [pick x hi n l _ (by omega) hhi, pick x lo n l _ (by omega) hlo, hx, hx, pref_at, pref_at]
  exact pre_sub H _ _ (fun t => hu _) n

include hu in
theorem v33_at : val_main_v33 (F := Ideal) u (ix3 (0 : Fin 1) n l) = pmE u 0 l n := by
  have e := ends u r hu n l 0 1 (val_main_v19 (F := Ideal)) (val_main_v26 (F := Ideal)) (hi1 n) (lo1 n) (val_main_v13 (F := Ideal) u) fun k => by
      rw [val_main_v13_apply]
      exact congrArg (val_main_v3 (F := Ideal) u) (funext fun a => match a with
        | ⟨0, _⟩ => rfl
        | ⟨1, _⟩ => rfl
        | ⟨2, _⟩ => Fin.ext (by show l.val = 128 * 0 + l.val; omega))
  have c : val_main_v30 (F := Ideal) (ix3 (0 : Fin 1) n l) = (((cnt 1 n : ℕ) : ℝ) : EReal) := by
    show (((cntW 1#32 n).toInt : ℝ) : EReal) = _
    rw [cntW1]
    rfl
  have q : val_main_v32 (F := Ideal) u (ix3 (0 : Fin 1) n l) = u (ix2 n (gc 0 l)) := by
    rw [val_main_v32_apply, val_main_v0_apply]
    refine congrArg u (funext fun a => match a with
      | ⟨0, _⟩ => rfl
      | ⟨1, _⟩ => Fin.ext (by show l.val = 128 * 0 + l.val; omega))
  show Ideal.div (val_main_v20 (F := Ideal) u (ix3 (0 : Fin 1) n l) - val_main_v27 (F := Ideal) u (ix3 (0 : Fin 1) n l)) (val_main_v30 (F := Ideal) (ix3 (0 : Fin 1) n l)) - val_main_v32 (F := Ideal) u (ix3 (0 : Fin 1) n l) = _
  have f : val_main_v20 (F := Ideal) u (ix3 (0 : Fin 1) n l) - val_main_v27 (F := Ideal) u (ix3 (0 : Fin 1) n l) = seg 1 (fun t => u (ix2 t (gc 0 l))) n := e
  rw [c, q, f]
  unfold pmE
  rw [show (2 : ℕ) ^ (0 : Fin 4).val = 1 from rfl]

include hu in
theorem v62_at : val_main_v62 (F := Ideal) u (ix3 (0 : Fin 1) n l) = pmE u 1 l n := by
  have e := ends u r hu n l 1 2 (val_main_v48 (F := Ideal)) (val_main_v55 (F := Ideal)) (hi2 n) (lo2 n) (val_main_v42 (F := Ideal) u) fun k => by
      rw [val_main_v42_apply]
      exact congrArg (val_main_v3 (F := Ideal) u) (funext fun a => match a with
        | ⟨0, _⟩ => rfl
        | ⟨1, _⟩ => rfl
        | ⟨2, _⟩ => Fin.ext (by show 128 + l.val = 128 * 1 + l.val; omega))
  have c : val_main_v59 (F := Ideal) (ix3 (0 : Fin 1) n l) = (((cnt 2 n : ℕ) : ℝ) : EReal) := by
    show (((cntW 2#32 n).toInt : ℝ) : EReal) = _
    rw [cntW2]
    rfl
  have q : val_main_v61 (F := Ideal) u (ix3 (0 : Fin 1) n l) = u (ix2 n (gc 1 l)) := by
    rw [val_main_v61_apply, val_main_v0_apply]
    refine congrArg u (funext fun a => match a with
      | ⟨0, _⟩ => rfl
      | ⟨1, _⟩ => Fin.ext (by show 128 + l.val = 128 * 1 + l.val; omega))
  show Ideal.div (val_main_v49 (F := Ideal) u (ix3 (0 : Fin 1) n l) - val_main_v56 (F := Ideal) u (ix3 (0 : Fin 1) n l)) (val_main_v59 (F := Ideal) (ix3 (0 : Fin 1) n l)) - val_main_v61 (F := Ideal) u (ix3 (0 : Fin 1) n l) = _
  have f : val_main_v49 (F := Ideal) u (ix3 (0 : Fin 1) n l) - val_main_v56 (F := Ideal) u (ix3 (0 : Fin 1) n l) = seg 2 (fun t => u (ix2 t (gc 1 l))) n := e
  rw [c, q, f]
  unfold pmE
  rw [show (2 : ℕ) ^ (1 : Fin 4).val = 2 from rfl]

include hu in
theorem v91_at : val_main_v91 (F := Ideal) u (ix3 (0 : Fin 1) n l) = pmE u 2 l n := by
  have e := ends u r hu n l 2 4 (val_main_v77 (F := Ideal)) (val_main_v84 (F := Ideal)) (hi4 n) (lo4 n) (val_main_v71 (F := Ideal) u) fun k => by
      rw [val_main_v71_apply]
      exact congrArg (val_main_v3 (F := Ideal) u) (funext fun a => match a with
        | ⟨0, _⟩ => rfl
        | ⟨1, _⟩ => rfl
        | ⟨2, _⟩ => Fin.ext (by show 256 + l.val = 128 * 2 + l.val; omega))
  have c : val_main_v88 (F := Ideal) (ix3 (0 : Fin 1) n l) = (((cnt 4 n : ℕ) : ℝ) : EReal) := by
    show (((cntW 4#32 n).toInt : ℝ) : EReal) = _
    rw [cntW4]
    rfl
  have q : val_main_v90 (F := Ideal) u (ix3 (0 : Fin 1) n l) = u (ix2 n (gc 2 l)) := by
    rw [val_main_v90_apply, val_main_v0_apply]
    refine congrArg u (funext fun a => match a with
      | ⟨0, _⟩ => rfl
      | ⟨1, _⟩ => Fin.ext (by show 256 + l.val = 128 * 2 + l.val; omega))
  show Ideal.div (val_main_v78 (F := Ideal) u (ix3 (0 : Fin 1) n l) - val_main_v85 (F := Ideal) u (ix3 (0 : Fin 1) n l)) (val_main_v88 (F := Ideal) (ix3 (0 : Fin 1) n l)) - val_main_v90 (F := Ideal) u (ix3 (0 : Fin 1) n l) = _
  have f : val_main_v78 (F := Ideal) u (ix3 (0 : Fin 1) n l) - val_main_v85 (F := Ideal) u (ix3 (0 : Fin 1) n l) = seg 4 (fun t => u (ix2 t (gc 2 l))) n := e
  rw [c, q, f]
  unfold pmE
  rw [show (2 : ℕ) ^ (2 : Fin 4).val = 4 from rfl]

include hu in
theorem v120_at : val_main_v120 (F := Ideal) u (ix3 (0 : Fin 1) n l) = pmE u 3 l n := by
  have e := ends u r hu n l 3 8 (val_main_v106 (F := Ideal)) (val_main_v113 (F := Ideal)) (hi8 n) (lo8 n) (val_main_v100 (F := Ideal) u) fun k => by
      rw [val_main_v100_apply]
      exact congrArg (val_main_v3 (F := Ideal) u) (funext fun a => match a with
        | ⟨0, _⟩ => rfl
        | ⟨1, _⟩ => rfl
        | ⟨2, _⟩ => Fin.ext (by show 384 + l.val = 128 * 3 + l.val; omega))
  have c : val_main_v117 (F := Ideal) (ix3 (0 : Fin 1) n l) = (((cnt 8 n : ℕ) : ℝ) : EReal) := by
    show (((cntW 8#32 n).toInt : ℝ) : EReal) = _
    rw [cntW8]
    rfl
  have q : val_main_v119 (F := Ideal) u (ix3 (0 : Fin 1) n l) = u (ix2 n (gc 3 l)) := by
    rw [val_main_v119_apply, val_main_v0_apply]
    refine congrArg u (funext fun a => match a with
      | ⟨0, _⟩ => rfl
      | ⟨1, _⟩ => Fin.ext (by show 384 + l.val = 128 * 3 + l.val; omega))
  show Ideal.div (val_main_v107 (F := Ideal) u (ix3 (0 : Fin 1) n l) - val_main_v114 (F := Ideal) u (ix3 (0 : Fin 1) n l)) (val_main_v117 (F := Ideal) (ix3 (0 : Fin 1) n l)) - val_main_v119 (F := Ideal) u (ix3 (0 : Fin 1) n l) = _
  have f : val_main_v107 (F := Ideal) u (ix3 (0 : Fin 1) n l) - val_main_v114 (F := Ideal) u (ix3 (0 : Fin 1) n l) = seg 8 (fun t => u (ix2 t (gc 3 l))) n := e
  rw [c, q, f]
  unfold pmE
  rw [show (2 : ℕ) ^ (3 : Fin 4).val = 8 from rfl]

include hu in
theorem v121_at (g : Fin 4) : val_main_v121 (F := Ideal) u (ix3 (0 : Fin 1) n (gc g l)) = pmE u g l n := by
  have e0 := v33_at u r hu n l
  have e1 := v62_at u r hu n l
  have e2 := v91_at u r hu n l
  have e3 := v120_at u r hu n l
  unfold val_main_v121
  generalize val_main_v33 (F := Ideal) u = a0 at e0
  generalize val_main_v62 (F := Ideal) u = a1 at e1
  generalize val_main_v91 (F := Ideal) u = a2 at e2
  generalize val_main_v120 (F := Ideal) u = a3 at e3
  have hl := l.isLt
  fin_cases g
  · refine Eq.trans ?_ e0
    pointwise [gc]
  · refine Eq.trans ?_ e1
    pointwise [gc]
  · refine Eq.trans ?_ e2
    pointwise [gc]
    rw [dif_neg (by omega), dif_neg (by omega), dif_pos (by omega)]
    exact congrArg (fun k => a2 (ix3 (0 : Fin 1) n k)) (Fin.ext (by show 256 + l.val - 128 - 128 = l.val; omega))
  · refine Eq.trans ?_ e3
    pointwise [gc]
    rw [dif_neg (by omega), dif_neg (by omega), dif_neg (by omega)]
    exact congrArg (fun k => a3 (ix3 (0 : Fin 1) n k)) (Fin.ext (by show 384 + l.val - 128 - 128 - 128 = l.val; omega))

omit l in
theorem i129 (j : Fin 512) : idx_main_v129 (ix2 n j) = (ix3 (0 : Fin 1) n j : S1x2048x512.Idx) := funext fun a => match a with
  | ⟨0, _⟩ => rfl
  | ⟨1, _⟩ => Fin.ext (by show (n.val * 512 + j.val) / 512 % 2048 = n.val; omega)
  | ⟨2, _⟩ => Fin.ext (by show (n.val * 512 + j.val) % 512 = j.val; omega)

theorem i125 (g : Fin 4) : idx_main_v125 (ix3 (0 : Fin 1) n (gc g l)) = (ix4 (0 : Fin 1) n g l : S1x2048x4x128.Idx) := funext fun a => match a with
  | ⟨0, _⟩ => rfl
  | ⟨1, _⟩ => Fin.ext (by show ((0 * 2048 + n.val) * 512 + (128 * g.val + l.val)) / 512 % 2048 = n.val; omega)
  | ⟨2, _⟩ => Fin.ext (by show ((0 * 2048 + n.val) * 512 + (128 * g.val + l.val)) / 128 % 4 = g.val; omega)
  | ⟨3, _⟩ => Fin.ext (by show ((0 * 2048 + n.val) * 512 + (128 * g.val + l.val)) % 128 = l.val; omega)

theorem i122 (g : Fin 4) : idx_main_v122 (ix4 (0 : Fin 1) n g l) = (ix3 (0 : Fin 1) n (gc g l) : S1x2048x512.Idx) := funext fun a => match a with
  | ⟨0, _⟩ => rfl
  | ⟨1, _⟩ => Fin.ext (by show (((0 * 2048 + n.val) * 4 + g.val) * 128 + l.val) / 512 % 2048 = n.val; omega)
  | ⟨2, _⟩ => Fin.ext (by show (((0 * 2048 + n.val) * 4 + g.val) * 128 + l.val) % 512 = 128 * g.val + l.val; omega)

include hu in
theorem v130_at (g : Fin 4) : val_main_v130 (F := Ideal) u (ix2 n (gc g l)) = pmE u g l n := by
  rw [val_main_v130_apply, val_main_v129_apply, i129]
  exact v121_at u r hu n l g

include hu in
theorem v132_at (g : Fin 4) : val_main_v132 (F := Ideal) u w s (ix2 n (gc g l)) = pwE u w (fun j => s (ix1 j)) g l n := by
  rw [val_main_v132_apply, val_main_v131_apply, show idx_main_v131 (ix2 n (gc g l)) = _ from i129 n (gc g l), val_main_v128_apply, val_main_v125_apply, i125, val_main_v124_apply, val_main_v123_apply]
  refine congrArg₂ (fun a b : EReal => a * b) (Finset.sum_congr rfl fun k _ => ?_) ?_
  · refine (mul_comm _ _).trans (congrArg₂ (fun a b : EReal => a * b) ?_ (congrArg w (funext fun a => match a with
      | ⟨0, _⟩ => rfl
      | ⟨1, _⟩ => rfl
      | ⟨2, _⟩ => rfl)))
    refine Eq.trans (congrArg (val_main_v122 (F := Ideal) u) (show _ = (ix4 (0 : Fin 1) n g k : S1x2048x4x128.Idx) from funext fun a => match a with
      | ⟨0, _⟩ => rfl
      | ⟨1, _⟩ => rfl
      | ⟨2, _⟩ => rfl
      | ⟨3, _⟩ => rfl)) ?_
    rw [val_main_v122_apply, i122]
    exact v121_at u r hu n k g
  · rw [val_main_v127_apply, val_main_v126_apply]
    exact congrArg s (funext fun a => match a with
      | ⟨0, _⟩ => rfl)

omit n l in
/-- A table cut into columns is glued from them. -/
theorem eq_glue (a : S2048x512.Idx → EReal) (f : Fin 4 → Fin 128 → Fin 2048 → EReal) (h : ∀ n l g, a (ix2 n (gc g l)) = f g l n) : a = glue f := by
  funext y
  have hy : (y 1).val < 512 := (y 1).isLt
  let g : Fin 4 := ⟨(y 1).val / 128, by omega⟩
  let l : Fin 128 := ⟨(y 1).val % 128, by omega⟩
  have e : y = ix2 (y 0 : Fin 2048) (gc g l) := funext fun a => match a with
    | ⟨0, _⟩ => rfl
    | ⟨1, _⟩ => Fin.ext (by show (y 1).val = 128 * ((y 1).val / 128) + (y 1).val % 128; omega)
  rw [e]
  exact (h _ _ _).trans (glue_at f _ _ _).symm
end

open Cert.PoolFwdIdeal.Value (argU argW argS final3 final4)

/-- On a finite input both programs give the same averages and the same products. -/
theorem claim [hP : Cert.Pre_poolf_finite.Facts] : algebraic_PoolFwdIdeal_PoolFwdRefIdeal_pre_poolf_finite := fun m ρ m' ρ' hfin hag => by
  choose r hr using fun c => exists_real (fun _ => rfl) (hfin c)
  have r0 := fun c => eq_glue _ _ (v130_at (argU m c) (r c) (hr c))
  have r1 := fun c => eq_glue _ _ (v132_at (argU m c) (argW m c) (argS m c) (r c) (hr c))
  refine ⟨fun c => glue (pmE (argU m c)), fun c => glue (pwE (argU m c) (argW m c) fun j => argS m c (ix1 j)),
    (θ_run _ _ _).mono (fun _ h c => ⟨(h c).1.trans (final3 m c), (h c).2.1.trans (final4 m c), (h c).2.2⟩) (Cert.PoolFwdIdeal.Value.run_blocks m ρ),
    (θ_run _ _ _).mono (fun _ h c => ⟨(h c).1.trans ((val_main_v130_eq _).trans ?_), (h c).2.1.trans ((val_main_v132_eq _).trans ?_), (h c).2.2⟩)
      (Cert.PoolFwdRefIdeal.Value.run m' ρ')⟩
  · show val_main_v130 (F := Ideal) (m' (c.tc.loc main_arg0)) = _
    rw [(hag c).1]; exact r0 c
  · show val_main_v132 (F := Ideal) (m' (c.tc.loc main_arg0)) (m' (c.tc.loc main_arg1)) (m' (c.tc.loc main_arg2)) = _
    rw [(hag c).1, (hag c).2.1, (hag c).2.2]; exact r1 c

end Cert.Step.PoolFwd
end
-- ==== Proof.Wdown.lean ====
/-
  The down matrix's gradient: the kernel multiplies each slab of 704 columns of the activations with the cotangent, and puts the slabs
  one after the other; the derivative of the plain product gives the same matrix, whatever the arguments hold.
-/
module

public import proofs.«01_k».proof.Proof.Norm
public import Idealize.ShloMosaic.Lib.Pipeline.ValueKit
public import proofs.«01_k».proof.Defs
public import proofs.«01_k».proof.Proof.Gen.WdownIdeal.Value
public import proofs.«01_k».proof.Proof.Gen.WdownRefIdeal.Read
public import proofs.«01_k».proof.Proof.Gen.WdownRefIdeal.Run

@[expose] public section

set_option maxRecDepth 16384

noncomputable section

open Idealize.ShloMosaic Idealize.ShloMosaic.TcCoe Idealize.SL.Sem
open Idealize.ShloMosaic.Pipeline (Dat)

namespace Cert.WdownIdeal.Value

open Cert.WdownIdeal Cert.WdownIdeal.Gen Cert.Step

variable (m : (ℓ : Loc nD τ sig) → Buf (Elt Ideal) ℓ) (ρ : Dev nD → PrngReg)
/-- The activations and the cotangent as arrays. -/
abbrev argT (c : Dev nD) : S2048x2816.Idx → EReal := m ((c : Thread nD τ).loc main_arg0)
abbrev argC (c : Dev nD) : S2048x1024.Idx → EReal := m ((c : Thread nD τ).loc main_arg2)

theorem V_v3 (c : Dev nD) : V m c main_v3 = argC m c := by
  unfold V hostOps0
  after_results <;> rfl
theorem V_v2 (c : Dev nD) (p : Fin 4) (s : Fin 2048) (q : Fin 704) :
    (V m c main_v2 : S4x2048x704.Idx → EReal) (ix3 p s q) = argT m c (ix2 s ⟨p.val * 704 + q.val, by omega⟩) := by
  have h : V m c main_v2 = transpose S4x2048x704 [1, 0, 2] (shapeCast S2048x4x704 (argT m c) shapeCasts_S2048x2816_S2048x4x704) transposes_S2048x4x704_S4x2048x704_1_0_2 := by
    unfold V hostOps0
    after_results <;> rfl
  rw [h]
  pointwise []

theorem slab_lt (t : Fin cfg0.N) : t.val < 4 := lt_of_lt_of_eq t.isLt (show cfg0.N = 4 from N_0)

theorem index_all : ∀ t : Fin cfg0.N, win0_0.index t = ![t.val, 0, 0] ∧ win0_1.index t = ![0, 0] ∧ win0_2.index t = ![t.val, 0, 0] :=
  (by decide +kernel : ∀ t : Fin grid0.N, _)

theorem blkT (c : Dev nD) (t : Fin cfg0.N) (s : Fin 2048) (q : Fin 704) :
    (iblk m c 0 t : Vec Ideal S1x2048x704 .bf16) (ix3 0 s q) = argT m c (ix2 s ⟨t.val * 704 + q.val, by have := slab_lt t; omega⟩) := by
  rw [← V_v2 m c ⟨t.val, slab_lt t⟩ s q]
  blk_simp [iblk]
  refine congrArg _ ?_
  blk_ext [index_all]
theorem blkC (c : Dev nD) (t : Fin cfg0.N) (s : Fin 2048) (l : Fin 1024) :
    (iblk m c 1 t : Vec Ideal S2048x1024 .bf16) (ix2 s l) = argC m c (ix2 s l) := by
  blk_simp [iblk]
  rw [V_v3]
  refine congrArg _ ?_
  blk_ext [index_all]
theorem final2 (c : Dev nD) (A : S4x704x1024.Idx → EReal)
    (h : ∀ (t : Fin cfg0.N) (q : Fin 704) (l : Fin 1024), (out0_2 (F := Ideal) (iblk m c 0 t) (iblk m c 1 t) : Vec Ideal S1x704x1024 .bf16) (ix3 0 q l) = A (ix3 ⟨t.val, slab_lt t⟩ q l)) :
    (dats m 0 c).arrAt 2 cfg0.N = A := by
  refine (dats m 0 c).arrAt_eq_of_covers 2 A (by decide +kernel) fun t _ (y : S1x704x1024.Idx) => ?_
  have hy : y = ix3 0 (y 1) (y 2) := (eq_ix3 y).trans (congrArg (ix3 · _ _) (Subsingleton.elim (α := Fin 1) _ _))
  blk_simp
  rw [after0_2, hy]
  refine (h t _ _).trans (congrArg A ?_)
  blk_ext [index_all]

/-- The gradient, slab by slab. -/
def slabs (x : S2048x2816.Idx → EReal) (d : S2048x1024.Idx → EReal) : S4x704x1024.Idx → EReal :=
  fun i => ∑ s : Fin 2048, x (ix2 s ⟨(i 0).val * 704 + (i 1).val, by have h0 : (i 0).val < 4 := (i 0).isLt; have h1 : (i 1).val < 704 := (i 1).isLt; omega⟩) * d (ix2 s (i 2))

theorem pay_at (x : Vec Ideal S1x2048x704 .bf16) (d : Vec Ideal S2048x1024 .bf16) (q : Fin 704) (l : Fin 1024) :
    k0_pay1 (F := Ideal) x d (ix3 0 q l) = ∑ s : Fin 2048, x (ix3 0 s q) * d (ix2 s l) := by
  pointwise [k0_pay1]

theorem tile2 (c : Dev nD) (t : Fin cfg0.N) (q : Fin 704) (l : Fin 1024) :
    (out0_2 (F := Ideal) (iblk m c 0 t) (iblk m c 1 t) : Vec Ideal S1x704x1024 .bf16) (ix3 0 q l) = slabs (argT m c) (argC m c) (ix3 ⟨t.val, slab_lt t⟩ q l) := by
  unfold out0_2
  rw [View.canon_unit_zero hz3]
  simp only [View.ld_unit_zero (S := S2048x1024) hz2, View.ld_unit_zero (S := S1x2048x704) hz3]
  rw [pay_at]
  refine Finset.sum_congr rfl fun s _ => ?_
  rw [blkT, blkC]
  rfl

end Cert.WdownIdeal.Value

namespace Cert.Step.Wdown

open Cert.WdownIdeal.Value (argT argC slabs final2 tile2)
open Cert.WdownRefIdeal Cert.WdownRefIdeal.Gen Cert.WdownRefIdeal.Read

theorem ref_at (x : S2048x2816.Idx → EReal) (d : S2048x1024.Idx → EReal) : val_main_v4 (F := Ideal) x d = slabs x d := funext fun i => by
  obtain ⟨p, q, l, rfl⟩ : ∃ (p : Fin 4) (q : Fin 704) (l : Fin 1024), i = ix3 p q l := ⟨i 0, i 1, i 2, eq_ix3 i⟩
  pointwise [val_main_v4,val_main_v3,val_main_v2,val_main_v1]
  exact Finset.sum_congr rfl fun s _ => mul_comm _ _

theorem claim : algebraic_WdownIdeal_WdownRefIdeal := fun m ρ m' ρ' _ hag =>
  ⟨fun c => slabs (argT m c) (argC m c),
    (θ_run _ _ _).mono (fun _ h c => ⟨(h c).1.trans (final2 m c _ (tile2 m c)), (h c).2⟩) (Cert.WdownIdeal.Value.run_blocks m ρ),
    (θ_run _ _ _).mono (fun _ h c => ⟨(h c).1.trans ((val_main_v4_eq _ _).trans (by rw [(hag c).1, (hag c).2.2]; exact ref_at (argT m c) (argC m c))), (h c).2⟩)
      (Cert.WdownRefIdeal.Value.run m' ρ')⟩

end Cert.Step.Wdown

end
-- ==== Proof.Wup.lean ====
/-
  The up matrix's gradient: four points of the kernel multiply a slab of the value half's cotangent with the rows, the other four a slab of
  the gate half's; the derivative of the split product gives the same shards, whatever the arguments hold.
-/
module

public import proofs.«01_k».proof.Proof.Norm
public import Idealize.ShloMosaic.Lib.Pipeline.ValueKit
public import proofs.«01_k».proof.Defs
public import proofs.«01_k».proof.Proof.Gen.WupIdeal.Value
public import proofs.«01_k».proof.Proof.Gen.WupRefIdeal.Read
public import proofs.«01_k».proof.Proof.Gen.WupRefIdeal.Run

@[expose] public section

set_option maxRecDepth 16384

noncomputable section

open Idealize.ShloMosaic Idealize.ShloMosaic.TcCoe Idealize.SL.Sem
open Idealize.ShloMosaic.Pipeline (Dat)

namespace Cert.WupIdeal.Value

open Cert.WupIdeal Cert.WupIdeal.Gen Cert.Step

variable (m : (ℓ : Loc nD τ sig) → Buf (Elt Ideal) ℓ) (ρ : Dev nD → PrngReg)
/-- The rows and the two cotangents as arrays. -/
abbrev argH (c : Dev nD) : S2048x1024.Idx → EReal := m ((c : Thread nD τ).loc main_arg0)
abbrev argV (c : Dev nD) : S2048x2816.Idx → EReal := m ((c : Thread nD τ).loc main_arg2)
abbrev argG (c : Dev nD) : S2048x2816.Idx → EReal := m ((c : Thread nD τ).loc main_arg3)

theorem V_v0 (c : Dev nD) : V m c main_v0 = argH m c := by
  unfold V hostOps0
  after_results <;> rfl
theorem V_v3 (c : Dev nD) (p : Fin 4) (s : Fin 2048) (q : Fin 704) :
    (V m c main_v3 : S4x2048x704.Idx → EReal) (ix3 p s q) = argV m c (ix2 s ⟨p.val * 704 + q.val, by omega⟩) := by
  have h : V m c main_v3 = transpose S4x2048x704 [1, 0, 2] (shapeCast S2048x4x704 (argV m c) shapeCasts_S2048x2816_S2048x4x704) transposes_S2048x4x704_S4x2048x704_1_0_2 := by
    unfold V hostOps0
    after_results <;> rfl
  rw [h]
  pointwise []
theorem V_v6 (c : Dev nD) (p : Fin 4) (s : Fin 2048) (q : Fin 704) :
    (V m c main_v6 : S4x2048x704.Idx → EReal) (ix3 p s q) = argG m c (ix2 s ⟨p.val * 704 + q.val, by omega⟩) := by
  have h : V m c main_v6 = transpose S4x2048x704 [1, 0, 2] (shapeCast S2048x4x704 (argG m c) shapeCasts_S2048x2816_S2048x4x704) transposes_S2048x4x704_S4x2048x704_1_0_2 := by
    unfold V hostOps0
    after_results <;> rfl
  rw [h]
  pointwise []

theorem shard_lt (t : Fin cfg0.N) : t.val < 8 := lt_of_lt_of_eq t.isLt (show cfg0.N = 8 from N_0)

theorem index_all : ∀ t : Fin cfg0.N, win0_0.index t = ![0, 0] ∧ win0_1.index t = ![min t.val 3, 0, 0] ∧ win0_2.index t = ![t.val - 4, 0, 0] ∧ win0_3.index t = ![t.val, 0, 0] :=
  (by decide +kernel : ∀ t : Fin grid0.N, _)

theorem blkH (c : Dev nD) (t : Fin cfg0.N) (s : Fin 2048) (l : Fin 1024) :
    (iblk m c 0 t : Vec Ideal S2048x1024 .bf16) (ix2 s l) = argH m c (ix2 s l) := by
  blk_simp [iblk]
  rw [V_v0]
  refine congrArg _ ?_
  blk_ext [index_all]
theorem blkV (c : Dev nD) (t : Fin cfg0.N) (s : Fin 2048) (q : Fin 704) :
    (iblk m c 1 t : Vec Ideal S1x2048x704 .bf16) (ix3 0 s q) = argV m c (ix2 s ⟨min t.val 3 * 704 + q.val, by omega⟩) := by
  rw [← V_v3 m c ⟨min t.val 3, by omega⟩ s q]
  blk_simp [iblk]
  refine congrArg _ ?_
  blk_ext [index_all]
theorem blkG (c : Dev nD) (t : Fin cfg0.N) (s : Fin 2048) (q : Fin 704) :
    (iblk m c 2 t : Vec Ideal S1x2048x704 .bf16) (ix3 0 s q) = argG m c (ix2 s ⟨(t.val - 4) * 704 + q.val, by have := shard_lt t; omega⟩) := by
  rw [← V_v6 m c ⟨t.val - 4, by have := shard_lt t; omega⟩ s q]
  blk_simp [iblk]
  refine congrArg _ ?_
  blk_ext [index_all]
theorem final3 (c : Dev nD) (A : S8x704x1024.Idx → EReal)
    (h : ∀ (t : Fin cfg0.N) (q : Fin 704) (l : Fin 1024), (outsAt0 (F := Ideal) m c t.val t.isLt : Vec Ideal S1x704x1024 .bf16) (ix3 0 q l) = A (ix3 ⟨t.val, shard_lt t⟩ q l)) :
    (dats m 0 c).arrAt 3 cfg0.N = A := by
  refine (dats m 0 c).arrAt_eq_of_covers 3 A (by decide +kernel) fun t _ (y : S1x704x1024.Idx) => ?_
  have hy : y = ix3 0 (y 1) (y 2) := (eq_ix3 y).trans (congrArg (ix3 · _ _) (Subsingleton.elim (α := Fin 1) _ _))
  blk_simp
  rw [after0_3, hy]
  refine (h t _ _).trans (congrArg A ?_)
  blk_ext [index_all]

/-- Column `q` of shard `p`: one of the value half's, or one of the gate half's. -/
def column (v g : S2048x2816.Idx → EReal) (p : Fin 8) (s : Fin 2048) (q : Fin 704) : EReal :=
  if h : p.val < 4 then v (ix2 s ⟨p.val * 704 + q.val, by omega⟩) else g (ix2 s ⟨(p.val - 4) * 704 + q.val, by omega⟩)
/-- The gradient, shard by shard. -/
def shards (x : S2048x1024.Idx → EReal) (v g : S2048x2816.Idx → EReal) : S8x704x1024.Idx → EReal :=
  fun i => ∑ s : Fin 2048, column v g (i 0) s (i 1) * x (ix2 s (i 2))

theorem outs_A (c : Dev nD) (t : Fin cfg0.N) (h0 : t.val < 4) :
    outsAt0 m c t.val t.isLt = k0_pay1 (F := Ideal) (iblk m c 1 t) (iblk m c 0 t) := by
  rw [outsAt0_A m c t h0 (by omega)]
  unfold out0_A_3
  rw [View.read_writes_eq_canon _ _ _ (cover0_A_3 _ _ _ _ _ _ _ _ _ _ _ _ _ _ _)]
  unfold kernelRun0_A
  dsimp only
  sl_unfold_words
  rw [View.canon_unit_zero hz3]
  simp only [View.readAt_eq_ld, (hs0_0 t).read_unread, (hs0_1 t).read_unread, (hs0_2 t).read_unread, View.ld_unit_zero (S := S2048x1024) hz2, View.ld_unit_zero (S := S1x2048x704) hz3]
theorem outs_B (c : Dev nD) (t : Fin cfg0.N) (h0 : ¬t.val < 4) :
    outsAt0 m c t.val t.isLt = k0_pay1 (F := Ideal) (iblk m c 2 t) (iblk m c 0 t) := by
  rw [outsAt0_B m c t h0 (by omega)]
  unfold out0_B_3
  rw [View.read_writes_eq_canon _ _ _ (cover0_B_3 _ _ _ _ _ _ _ _ _ _ _ _ _ _ _)]
  unfold kernelRun0_B
  dsimp only
  sl_unfold_words
  rw [View.canon_unit_zero hz3]
  simp only [View.readAt_eq_ld, (hs0_0 t).read_unread, (hs0_1 t).read_unread, (hs0_2 t).read_unread, View.ld_unit_zero (S := S2048x1024) hz2, View.ld_unit_zero (S := S1x2048x704) hz3]
  rfl

theorem pay_at (d : Vec Ideal S1x2048x704 .bf16) (x : Vec Ideal S2048x1024 .bf16) (q : Fin 704) (l : Fin 1024) :
    k0_pay1 (F := Ideal) d x (ix3 0 q l) = ∑ s : Fin 2048, d (ix3 0 s q) * x (ix2 s l) := by
  pointwise [k0_pay1]

theorem tile3 (c : Dev nD) (t : Fin cfg0.N) (q : Fin 704) (l : Fin 1024) :
    (outsAt0 (F := Ideal) m c t.val t.isLt : Vec Ideal S1x704x1024 .bf16) (ix3 0 q l) = shards (argH m c) (argV m c) (argG m c) (ix3 ⟨t.val, shard_lt t⟩ q l) := by
  by_cases h : t.val < 4
  · rw [outs_A m c t h, pay_at]
    refine Finset.sum_congr rfl fun s _ => ?_
    rw [blkV, blkH]
    refine congrArg (· * argH m c (ix2 s l)) (Eq.trans ?_ (dif_pos h).symm)
    exact congrArg (argV m c) (congrArg (ix2 s ·) (Fin.ext (by show min t.val 3 * 704 + q.val = t.val * 704 + q.val; rw [Nat.min_eq_left (by omega)])))
  · rw [outs_B m c t h, pay_at]
    refine Finset.sum_congr rfl fun s _ => ?_
    rw [blkG, blkH]
    refine congrArg (· * argH m c (ix2 s l)) ?_
    change _ = column (argV m c) (argG m c) ⟨t.val, shard_lt t⟩ s q
    unfold column
    rw [dif_neg h]

end Cert.WupIdeal.Value

namespace Cert.Step.Wup

open Cert.WupIdeal.Value (argH argV argG column shards final3 tile3)
open Cert.WupRefIdeal Cert.WupRefIdeal.Gen Cert.WupRefIdeal.Read

theorem cat_at (v g : S2048x2816.Idx → EReal) (p : Fin 8) (s : Fin 2048) (q : Fin 704) :
    val_main_v3 (F := Ideal) v g (ix2 s ⟨p.val * 704 + q.val, by omega⟩) = column v g p s q := by
  pointwise [val_main_v3]
  unfold column
  by_cases h : p.val < 4
  · rw [dif_pos h]
    exact dif_pos (by omega)
  · rw [dif_neg h]
    refine (dif_neg (by omega)).trans (congrArg g (congrArg (ix2 s ·) (Fin.ext ?_)))
    dsimp only
    omega

theorem ref_at (x : S2048x1024.Idx → EReal) (v g : S2048x2816.Idx → EReal) : val_main_v8 (F := Ideal) x v g = shards x v g := funext fun i => by
  obtain ⟨p, q, l, rfl⟩ : ∃ (p : Fin 8) (q : Fin 704) (l : Fin 1024), i = ix3 p q l := ⟨i 0, i 1, i 2, eq_ix3 i⟩
  have e : val_main_v8 (F := Ideal) x v g (ix3 p q l) = ∑ s : Fin 2048, val_main_v3 (F := Ideal) v g (ix2 s ⟨p.val * 704 + q.val, by omega⟩) * x (ix2 s l) := by
    unfold val_main_v8 val_main_v7 val_main_v6 val_main_v5 val_main_v4
    generalize val_main_v3 (F := Ideal) v g = z
    pointwise []
  rw [e]
  exact Finset.sum_congr rfl fun s _ => congrArg (· * x (ix2 s l)) (cat_at v g p s q)

theorem claim : algebraic_WupIdeal_WupRefIdeal := fun m ρ m' ρ' _ hag =>
  ⟨fun c => shards (argH m c) (argV m c) (argG m c),
    (θ_run _ _ _).mono (fun _ h c => ⟨(h c).1.trans (final3 m c _ (tile3 m c)), (h c).2⟩) (Cert.WupIdeal.Value.run_blocks m ρ),
    (θ_run _ _ _).mono (fun _ h c => ⟨(h c).1.trans ((val_main_v8_eq _ _ _).trans (by rw [(hag c).1, (hag c).2.2.1, (hag c).2.2.2]; exact ref_at (argH m c) (argV m c) (argG m c))), (h c).2⟩)
      (Cert.WupRefIdeal.Value.run m' ρ')⟩

end Cert.Step.Wup

end
-- ==== Proof.Win.lean ====
/-
  The input projection's gradient: the kernel's eight points multiply the rows with one slab of the pieces' cotangents each and add the slab's
  columns up; the derivative of the projection cut into pieces gives the same shards and sums, whatever the arguments hold.
-/
module

public import proofs.«01_k».proof.Proof.Norm
public import Idealize.ShloMosaic.Lib.Pipeline.ValueKit
public import proofs.«01_k».proof.Defs
public import proofs.«01_k».proof.Proof.Gen.WinIdeal.Value
public import proofs.«01_k».proof.Proof.Gen.WinRefIdeal.Read
public import proofs.«01_k».proof.Proof.Gen.WinRefIdeal.Run

@[expose] public section

set_option maxRecDepth 16384

noncomputable section

open Idealize.ShloMosaic Idealize.ShloMosaic.TcCoe Idealize.SL.Sem
open Idealize.ShloMosaic.Pipeline (Dat)

namespace Cert.WinIdeal.Value

open Cert.WinIdeal Cert.WinIdeal.Gen Cert.Step

variable (m : (ℓ : Loc nD τ sig) → Buf (Elt Ideal) ℓ) (ρ : Dev nD → PrngReg)
/-- The rows and the six cotangents as arrays. -/
abbrev argH (c : Dev nD) : S2048x1024.Idx → EReal := m ((c : Thread nD τ).loc main_arg0)
abbrev argQ (c : Dev nD) : S2048x512.Idx → EReal := m ((c : Thread nD τ).loc main_arg3)
abbrev argK (c : Dev nD) : S2048x512.Idx → EReal := m ((c : Thread nD τ).loc main_arg4)
abbrev argV (c : Dev nD) : S2048x512.Idx → EReal := m ((c : Thread nD τ).loc main_arg5)
abbrev argU (c : Dev nD) : S2048x512.Idx → EReal := m ((c : Thread nD τ).loc main_arg6)
abbrev argA (c : Dev nD) : S2048x1024.Idx → EReal := m ((c : Thread nD τ).loc main_arg7)
abbrev argB (c : Dev nD) : S2048x1024.Idx → EReal := m ((c : Thread nD τ).loc main_arg8)

theorem V_v0 (c : Dev nD) : V m c main_v0 = argH m c := by
  unfold V hostOps0
  after_results <;> rfl
theorem V_v1 (c : Dev nD) : V m c main_v1 = argQ m c := by
  unfold V hostOps0
  after_results <;> rfl
theorem V_v2 (c : Dev nD) : V m c main_v2 = argK m c := by
  unfold V hostOps0
  after_results <;> rfl
theorem V_v3 (c : Dev nD) : V m c main_v3 = argV m c := by
  unfold V hostOps0
  after_results <;> rfl
theorem V_v4 (c : Dev nD) : V m c main_v4 = argU m c := by
  unfold V hostOps0
  after_results <;> rfl
theorem V_v5 (c : Dev nD) : V m c main_v5 = argA m c := by
  unfold V hostOps0
  after_results <;> rfl
theorem V_v6 (c : Dev nD) : V m c main_v6 = argB m c := by
  unfold V hostOps0
  after_results <;> rfl

theorem shard_lt (t : Fin cfg0.N) : t.val < 8 := lt_of_lt_of_eq t.isLt (show cfg0.N = 8 from N_0)

theorem index_all : ∀ t : Fin cfg0.N, win0_0.index t = ![0, 0] ∧ win0_1.index t = ![0, 0] ∧ win0_2.index t = ![0, 0] ∧ win0_3.index t = ![0, 0] ∧ win0_4.index t = ![0, 0]
    ∧ win0_5.index t = ![0, min (t.val - 4) 1] ∧ win0_6.index t = ![0, min (t.val - 6) 1] ∧ win0_7.index t = ![t.val, 0, 0] ∧ win0_8.index t = ![0, t.val] :=
  (by decide +kernel : ∀ t : Fin grid0.N, _)

theorem blkH (c : Dev nD) (t : Fin cfg0.N) (s : Fin 2048) (l : Fin 1024) : (iblk m c 0 t : Vec Ideal S2048x1024 .bf16) (ix2 s l) = argH m c (ix2 s l) := by
  blk_simp [iblk]
  rw [V_v0]
  refine congrArg _ ?_
  blk_ext [index_all]
theorem blkQ (c : Dev nD) (t : Fin cfg0.N) (s : Fin 2048) (q : Fin 512) : (iblk m c 1 t : Vec Ideal S2048x512 .bf16) (ix2 s q) = argQ m c (ix2 s q) := by
  blk_simp [iblk]
  rw [V_v1]
  refine congrArg _ ?_
  blk_ext [index_all]
theorem blkK (c : Dev nD) (t : Fin cfg0.N) (s : Fin 2048) (q : Fin 512) : (iblk m c 2 t : Vec Ideal S2048x512 .bf16) (ix2 s q) = argK m c (ix2 s q) := by
  blk_simp [iblk]
  rw [V_v2]
  refine congrArg _ ?_
  blk_ext [index_all]
theorem blkV (c : Dev nD) (t : Fin cfg0.N) (s : Fin 2048) (q : Fin 512) : (iblk m c 3 t : Vec Ideal S2048x512 .bf16) (ix2 s q) = argV m c (ix2 s q) := by
  blk_simp [iblk]
  rw [V_v3]
  refine congrArg _ ?_
  blk_ext [index_all]
theorem blkU (c : Dev nD) (t : Fin cfg0.N) (s : Fin 2048) (q : Fin 512) : (iblk m c 4 t : Vec Ideal S2048x512 .bf16) (ix2 s q) = argU m c (ix2 s q) := by
  blk_simp [iblk]
  rw [V_v4]
  refine congrArg _ ?_
  blk_ext [index_all]
theorem blkA (c : Dev nD) (t : Fin cfg0.N) (s : Fin 2048) (q : Fin 512) : (iblk m c 5 t : Vec Ideal S2048x512 .bf16) (ix2 s q) = argA m c (ix2 s ⟨min (t.val - 4) 1 * 512 + q.val, by omega⟩) := by
  blk_simp [iblk]
  rw [V_v5]
  refine congrArg _ ?_
  blk_ext [index_all]
theorem blkB (c : Dev nD) (t : Fin cfg0.N) (s : Fin 2048) (q : Fin 512) : (iblk m c 6 t : Vec Ideal S2048x512 .bf16) (ix2 s q) = argB m c (ix2 s ⟨min (t.val - 6) 1 * 512 + q.val, by omega⟩) := by
  blk_simp [iblk]
  rw [V_v6]
  refine congrArg _ ?_
  blk_ext [index_all]

theorem final7 (c : Dev nD) (A : S8x1024x512.Idx → EReal)
    (h : ∀ (t : Fin cfg0.N) (k : Fin 1024) (q : Fin 512), ((outsAt0 (F := Ideal) m c t.val t.isLt).1 : Vec Ideal S1x1024x512 .bf16) (ix3 0 k q) = A (ix3 ⟨t.val, shard_lt t⟩ k q)) :
    (dats m 0 c).arrAt 7 cfg0.N = A := by
  refine (dats m 0 c).arrAt_eq_of_covers 7 A (by decide +kernel) fun t _ (y : S1x1024x512.Idx) => ?_
  have hy : y = ix3 0 (y 1) (y 2) := (eq_ix3 y).trans (congrArg (ix3 · _ _) (Subsingleton.elim (α := Fin 1) _ _))
  blk_simp
  rw [after0_7, hy]
  refine (h t _ _).trans (congrArg A ?_)
  blk_ext [index_all]
theorem final8 (c : Dev nD) (A : S1x4096.Idx → EReal)
    (h : ∀ (t : Fin cfg0.N) (q : Fin 512), ((outsAt0 (F := Ideal) m c t.val t.isLt).2 : Vec Ideal S1x512 .f32) (ix2 0 q) = A (ix2 0 ⟨t.val * 512 + q.val, by have := shard_lt t; omega⟩)) :
    (dats m 0 c).arrAt 8 cfg0.N = A := by
  refine (dats m 0 c).arrAt_eq_of_covers 8 A (by decide +kernel) fun t _ (y : S1x512.Idx) => ?_
  have hy : y = ix2 0 (y 1) := (eq_ix2 y).trans (congrArg (ix2 · _) (Subsingleton.elim (α := Fin 1) _ _))
  blk_simp
  rw [after0_8, hy]
  refine (h t _).trans (congrArg A ?_)
  blk_ext [index_all]

/-- Column `q` of slab `p` of the six cotangents side by side. -/
def column (d k v u : S2048x512.Idx → EReal) (a b : S2048x1024.Idx → EReal) (p : Fin 8) (s : Fin 2048) (q : Fin 512) : EReal :=
  if p.val = 0 then d (ix2 s q) else if p.val = 1 then k (ix2 s q) else if p.val = 2 then v (ix2 s q) else if p.val = 3 then u (ix2 s q)
  else if h : p.val < 6 then a (ix2 s ⟨(p.val - 4) * 512 + q.val, by omega⟩) else b (ix2 s ⟨(p.val - 6) * 512 + q.val, by omega⟩)
/-- The cotangents of a memory's arguments, slab by slab. -/
abbrev columns (c : Dev nD) : Fin 8 → Fin 2048 → Fin 512 → EReal := column (argQ m c) (argK m c) (argV m c) (argU m c) (argA m c) (argB m c)
/-- The gradient, shard by shard, and the sums of the columns. -/
def shards (x : S2048x1024.Idx → EReal) (d : Fin 8 → Fin 2048 → Fin 512 → EReal) : S8x1024x512.Idx → EReal :=
  fun i => ∑ s : Fin 2048, x (ix2 s (i 1)) * d (i 0) s (i 2)
def sums (d : Fin 8 → Fin 2048 → Fin 512 → EReal) : S1x4096.Idx → EReal :=
  fun i => ∑ s : Fin 2048, d ⟨(i 1).val / 512, Nat.div_lt_of_lt_mul (i 1).isLt⟩ s ⟨(i 1).val % 512, Nat.mod_lt _ (by omega)⟩

theorem outs_A (c : Dev nD) (t : Fin cfg0.N) (h0 : t.val % 8 = 0) (h1 : ¬t.val % 8 = 1) (h2 : ¬t.val % 8 = 2) (h3 : ¬t.val % 8 = 3) (h4 : ¬(4 ≤ t.val % 8 ∧ t.val % 8 ≤ 5)) (h5 : ¬6 ≤ t.val) :
    outsAt0 m c t.val t.isLt = (k0_pay2 (F := Ideal) (iblk m c 1 t) (iblk m c 0 t), k0_pay3 (F := Ideal) (iblk m c 1 t)) := by
  rw [outsAt0_A m c t h0 h1 h2 h3 h4 h5]
  unfold out0_A_7 out0_A_8
  rw [View.read_writes_eq_canon _ _ _ (cover0_A_7 _ _ _ _ _ _ _ _ _ _ _ _ _ _ _ _ _ _ _ _ _ _ _ _ _ _ _ _ _ _ _ _ _), View.read_writes_eq_canon _ _ _ (cover0_A_8 _ _ _ _ _ _ _ _ _ _ _ _ _ _ _ _ _ _ _ _ _ _ _ _ _ _ _ _ _ _ _ _ _)]
  unfold kernelRun0_A
  dsimp only
  sl_unfold_words
  rw [View.canon_unit_zero hz3, View.canon_unit_zero hz2]
  simp only [View.readAt_eq_ld, (hs0_0 t).read_unread, (hs0_1 t).read_unread, View.ld_unit_zero (S := S2048x1024) hz2, View.ld_unit_zero (S := S2048x512) hz2]
theorem outs_B (c : Dev nD) (t : Fin cfg0.N) (h0 : ¬t.val % 8 = 0) (h1 : t.val % 8 = 1) (h2 : ¬t.val % 8 = 2) (h3 : ¬t.val % 8 = 3) (h4 : ¬(4 ≤ t.val % 8 ∧ t.val % 8 ≤ 5)) (h5 : ¬6 ≤ t.val) :
    outsAt0 m c t.val t.isLt = (k0_pay2 (F := Ideal) (iblk m c 2 t) (iblk m c 0 t), k0_pay3 (F := Ideal) (iblk m c 2 t)) := by
  rw [outsAt0_B m c t h0 h1 h2 h3 h4 h5]
  unfold out0_B_7 out0_B_8
  rw [View.read_writes_eq_canon _ _ _ (cover0_B_7 _ _ _ _ _ _ _ _ _ _ _ _ _ _ _ _ _ _ _ _ _ _ _ _ _ _ _ _ _ _ _ _ _), View.read_writes_eq_canon _ _ _ (cover0_B_8 _ _ _ _ _ _ _ _ _ _ _ _ _ _ _ _ _ _ _ _ _ _ _ _ _ _ _ _ _ _ _ _ _)]
  unfold kernelRun0_B
  dsimp only
  sl_unfold_words
  rw [View.canon_unit_zero hz3, View.canon_unit_zero hz2]
  simp only [View.readAt_eq_ld, (hs0_0 t).read_unread, (hs0_2 t).read_unread, View.ld_unit_zero (S := S2048x1024) hz2, View.ld_unit_zero (S := S2048x512) hz2]
  rfl
theorem outs_C (c : Dev nD) (t : Fin cfg0.N) (h0 : ¬t.val % 8 = 0) (h1 : ¬t.val % 8 = 1) (h2 : t.val % 8 = 2) (h3 : ¬t.val % 8 = 3) (h4 : ¬(4 ≤ t.val % 8 ∧ t.val % 8 ≤ 5)) (h5 : ¬6 ≤ t.val) :
    outsAt0 m c t.val t.isLt = (k0_pay2 (F := Ideal) (iblk m c 3 t) (iblk m c 0 t), k0_pay3 (F := Ideal) (iblk m c 3 t)) := by
  rw [outsAt0_C m c t h0 h1 h2 h3 h4 h5]
  unfold out0_C_7 out0_C_8
  rw [View.read_writes_eq_canon _ _ _ (cover0_C_7 _ _ _ _ _ _ _ _ _ _ _ _ _ _ _ _ _ _ _ _ _ _ _ _ _ _ _ _ _ _ _ _ _), View.read_writes_eq_canon _ _ _ (cover0_C_8 _ _ _ _ _ _ _ _ _ _ _ _ _ _ _ _ _ _ _ _ _ _ _ _ _ _ _ _ _ _ _ _ _)]
  unfold kernelRun0_C
  dsimp only
  sl_unfold_words
  rw [View.canon_unit_zero hz3, View.canon_unit_zero hz2]
  simp only [View.readAt_eq_ld, (hs0_0 t).read_unread, (hs0_3 t).read_unread, View.ld_unit_zero (S := S2048x1024) hz2, View.ld_unit_zero (S := S2048x512) hz2]
  rfl
theorem outs_D (c : Dev nD) (t : Fin cfg0.N) (h0 : ¬t.val % 8 = 0) (h1 : ¬t.val % 8 = 1) (h2 : ¬t.val % 8 = 2) (h3 : t.val % 8 = 3) (h4 : ¬(4 ≤ t.val % 8 ∧ t.val % 8 ≤ 5)) (h5 : ¬6 ≤ t.val) :
    outsAt0 m c t.val t.isLt = (k0_pay2 (F := Ideal) (iblk m c 4 t) (iblk m c 0 t), k0_pay3 (F := Ideal) (iblk m c 4 t)) := by
  rw [outsAt0_D m c t h0 h1 h2 h3 h4 h5]
  unfold out0_D_7 out0_D_8
  rw [View.read_writes_eq_canon _ _ _ (cover0_D_7 _ _ _ _ _ _ _ _ _ _ _ _ _ _ _ _ _ _ _ _ _ _ _ _ _ _ _ _ _ _ _ _ _), View.read_writes_eq_canon _ _ _ (cover0_D_8 _ _ _ _ _ _ _ _ _ _ _ _ _ _ _ _ _ _ _ _ _ _ _ _ _ _ _ _ _ _ _ _ _)]
  unfold kernelRun0_D
  dsimp only
  sl_unfold_words
  rw [View.canon_unit_zero hz3, View.canon_unit_zero hz2]
  simp only [View.readAt_eq_ld, (hs0_0 t).read_unread, (hs0_4 t).read_unread, View.ld_unit_zero (S := S2048x1024) hz2, View.ld_unit_zero (S := S2048x512) hz2]
  rfl
theorem outs_E (c : Dev nD) (t : Fin cfg0.N) (h0 : ¬t.val % 8 = 0) (h1 : ¬t.val % 8 = 1) (h2 : ¬t.val % 8 = 2) (h3 : ¬t.val % 8 = 3) (h4 : (4 ≤ t.val % 8 ∧ t.val % 8 ≤ 5)) (h5 : ¬6 ≤ t.val) :
    outsAt0 m c t.val t.isLt = (k0_pay2 (F := Ideal) (iblk m c 5 t) (iblk m c 0 t), k0_pay3 (F := Ideal) (iblk m c 5 t)) := by
  rw [outsAt0_E m c t h0 h1 h2 h3 h4 h5]
  unfold out0_E_7 out0_E_8
  rw [View.read_writes_eq_canon _ _ _ (cover0_E_7 _ _ _ _ _ _ _ _ _ _ _ _ _ _ _ _ _ _ _ _ _ _ _ _ _ _ _ _ _ _ _ _ _), View.read_writes_eq_canon _ _ _ (cover0_E_8 _ _ _ _ _ _ _ _ _ _ _ _ _ _ _ _ _ _ _ _ _ _ _ _ _ _ _ _ _ _ _ _ _)]
  unfold kernelRun0_E
  dsimp only
  sl_unfold_words
  rw [View.canon_unit_zero hz3, View.canon_unit_zero hz2]
  simp only [View.readAt_eq_ld, (hs0_0 t).read_unread, (hs0_5 t).read_unread, View.ld_unit_zero (S := S2048x1024) hz2, View.ld_unit_zero (S := S2048x512) hz2]
  rfl
theorem outs_F (c : Dev nD) (t : Fin cfg0.N) (h0 : ¬t.val % 8 = 0) (h1 : ¬t.val % 8 = 1) (h2 : ¬t.val % 8 = 2) (h3 : ¬t.val % 8 = 3) (h4 : ¬(4 ≤ t.val % 8 ∧ t.val % 8 ≤ 5)) (h5 : 6 ≤ t.val) :
    outsAt0 m c t.val t.isLt = (k0_pay2 (F := Ideal) (iblk m c 6 t) (iblk m c 0 t), k0_pay3 (F := Ideal) (iblk m c 6 t)) := by
  rw [outsAt0_F m c t h0 h1 h2 h3 h4 h5]
  unfold out0_F_7 out0_F_8
  rw [View.read_writes_eq_canon _ _ _ (cover0_F_7 _ _ _ _ _ _ _ _ _ _ _ _ _ _ _ _ _ _ _ _ _ _ _ _ _ _ _ _ _ _ _ _ _), View.read_writes_eq_canon _ _ _ (cover0_F_8 _ _ _ _ _ _ _ _ _ _ _ _ _ _ _ _ _ _ _ _ _ _ _ _ _ _ _ _ _ _ _ _ _)]
  unfold kernelRun0_F
  dsimp only
  sl_unfold_words
  rw [View.canon_unit_zero hz3, View.canon_unit_zero hz2]
  simp only [View.readAt_eq_ld, (hs0_0 t).read_unread, (hs0_6 t).read_unread, View.ld_unit_zero (S := S2048x1024) hz2, View.ld_unit_zero (S := S2048x512) hz2]
  rfl

/-- Each point's slab, and what the point leaves of it. -/
theorem outs (c : Dev nD) (t : Fin cfg0.N) : ∃ d : Vec Ideal S2048x512 .bf16, outsAt0 m c t.val t.isLt = (k0_pay2 (F := Ideal) d (iblk m c 0 t), k0_pay3 (F := Ideal) d)
    ∧ ∀ s q, d (ix2 s q) = columns m c ⟨t.val, shard_lt t⟩ s q := by
  have ht := shard_lt t
  by_cases g0 : t.val = 0
  · refine ⟨iblk m c 1 t, outs_A m c t (by omega) (by omega) (by omega) (by omega) (by omega) (by omega), fun s q => (blkQ m c t s q).trans ?_⟩
    unfold columns column
    rw [if_pos g0]
  by_cases g1 : t.val = 1
  · refine ⟨iblk m c 2 t, outs_B m c t (by omega) (by omega) (by omega) (by omega) (by omega) (by omega), fun s q => (blkK m c t s q).trans ?_⟩
    unfold columns column
    rw [if_neg g0, if_pos g1]
  by_cases g2 : t.val = 2
  · refine ⟨iblk m c 3 t, outs_C m c t (by omega) (by omega) (by omega) (by omega) (by omega) (by omega), fun s q => (blkV m c t s q).trans ?_⟩
    unfold columns column
    rw [if_neg g0, if_neg g1, if_pos g2]
  by_cases g3 : t.val = 3
  · refine ⟨iblk m c 4 t, outs_D m c t (by omega) (by omega) (by omega) (by omega) (by omega) (by omega), fun s q => (blkU m c t s q).trans ?_⟩
    unfold columns column
    rw [if_neg g0, if_neg g1, if_neg g2, if_pos g3]
  by_cases g4 : t.val < 6
  · refine ⟨iblk m c 5 t, outs_E m c t (by omega) (by omega) (by omega) (by omega) (by omega) (by omega), fun s q => (blkA m c t s q).trans ?_⟩
    unfold columns column
    rw [if_neg g0, if_neg g1, if_neg g2, if_neg g3, dif_pos g4]
    exact congrArg (argA m c) (congrArg (ix2 s ·) (Fin.ext (by show min (t.val - 4) 1 * 512 + q.val = (t.val - 4) * 512 + q.val; rw [Nat.min_eq_left (by omega)])))
  · refine ⟨iblk m c 6 t, outs_F m c t (by omega) (by omega) (by omega) (by omega) (by omega) (by omega), fun s q => (blkB m c t s q).trans ?_⟩
    unfold columns column
    rw [if_neg g0, if_neg g1, if_neg g2, if_neg g3, dif_neg g4]
    exact congrArg (argB m c) (congrArg (ix2 s ·) (Fin.ext (by show min (t.val - 6) 1 * 512 + q.val = (t.val - 6) * 512 + q.val; rw [Nat.min_eq_left (by omega)])))

theorem pay_at (d : Vec Ideal S2048x512 .bf16) (x : Vec Ideal S2048x1024 .bf16) (k : Fin 1024) (q : Fin 512) :
    k0_pay2 (F := Ideal) d x (ix3 0 k q) = ∑ s : Fin 2048, x (ix2 s k) * d (ix2 s q) := by
  pointwise [k0_pay2, k0_pay1]
theorem sum_at (d : Vec Ideal S2048x512 .bf16) (q : Fin 512) : k0_pay3 (F := Ideal) d (ix2 0 q) = ∑ s : Fin 2048, d (ix2 s q) := by
  pointwise [k0_pay3, k0_pay1]

theorem tile7 (c : Dev nD) (t : Fin cfg0.N) (k : Fin 1024) (q : Fin 512) :
    ((outsAt0 (F := Ideal) m c t.val t.isLt).1 : Vec Ideal S1x1024x512 .bf16) (ix3 0 k q) = shards (argH m c) (columns m c) (ix3 ⟨t.val, shard_lt t⟩ k q) := by
  obtain ⟨d, e, h⟩ := outs m c t
  rw [e]
  refine (pay_at d _ k q).trans (Finset.sum_congr rfl fun s _ => ?_)
  rw [blkH, h]
  rfl
theorem tile8 (c : Dev nD) (t : Fin cfg0.N) (q : Fin 512) :
    ((outsAt0 (F := Ideal) m c t.val t.isLt).2 : Vec Ideal S1x512 .f32) (ix2 0 q) = sums (columns m c) (ix2 0 ⟨t.val * 512 + q.val, by have := shard_lt t; omega⟩) := by
  obtain ⟨d, e, h⟩ := outs m c t
  rw [e]
  refine (sum_at d q).trans (Finset.sum_congr rfl fun s _ => ?_)
  rw [h]
  exact congrArg₂ (columns m c · s ·) (Fin.ext (by show t.val = (t.val * 512 + q.val) / 512; omega)) (Fin.ext (by show q.val = (t.val * 512 + q.val) % 512; omega))

end Cert.WinIdeal.Value

namespace Cert.Step.Win

open Cert.WinIdeal.Value (argH argQ argK argV argU argA argB column columns shards sums final7 final8 tile7 tile8)
open Cert.WinRefIdeal Cert.WinRefIdeal.Gen Cert.WinRefIdeal.Read

variable (d k v u : S2048x512.Idx → EReal) (a b : S2048x1024.Idx → EReal)

theorem cat_at (p : Fin 8) (s : Fin 2048) (q : Fin 512) (h : p.val * 512 + q.val < 4096) :
    val_main_v10 (F := Ideal) d k v u a b (ix2 s ⟨p.val * 512 + q.val, h⟩) = column d k v u a b p s q := by
  pointwise [val_main_v10]
  unfold column
  by_cases g0 : p.val = 0
  · rw [if_pos g0]
    refine (dif_pos (by omega)).trans <| congrArg d (congrArg (ix2 s ·) (Fin.ext ?_))
    dsimp only
    omega
  by_cases g1 : p.val = 1
  · rw [if_neg g0, if_pos g1]
    refine (dif_neg (by omega)).trans <| (dif_pos (by omega)).trans <| congrArg k (congrArg (ix2 s ·) (Fin.ext ?_))
    dsimp only
    omega
  by_cases g2 : p.val = 2
  · rw [if_neg g0, if_neg g1, if_pos g2]
    refine (dif_neg (by omega)).trans <| (dif_neg (by omega)).trans <| (dif_pos (by omega)).trans <| congrArg v (congrArg (ix2 s ·) (Fin.ext ?_))
    dsimp only
    omega
  by_cases g3 : p.val = 3
  · rw [if_neg g0, if_neg g1, if_neg g2, if_pos g3]
    refine (dif_neg (by omega)).trans <| (dif_neg (by omega)).trans <| (dif_neg (by omega)).trans <| (dif_pos (by omega)).trans <| congrArg u (congrArg (ix2 s ·) (Fin.ext ?_))
    dsimp only
    omega
  by_cases g4 : p.val < 6
  · rw [if_neg g0, if_neg g1, if_neg g2, if_neg g3, dif_pos g4]
    refine (dif_neg (by omega)).trans <| (dif_neg (by omega)).trans <| (dif_neg (by omega)).trans <| (dif_neg (by omega)).trans <| (dif_pos (by omega)).trans <| congrArg a (congrArg (ix2 s ·) (Fin.ext ?_))
    dsimp only
    omega
  · rw [if_neg g0, if_neg g1, if_neg g2, if_neg g3, dif_neg g4]
    refine (dif_neg (by omega)).trans <| (dif_neg (by omega)).trans <| (dif_neg (by omega)).trans <| (dif_neg (by omega)).trans <| (dif_neg (by omega)).trans <| congrArg b (congrArg (ix2 s ·) (Fin.ext ?_))
    dsimp only
    omega

theorem ref_at (x : S2048x1024.Idx → EReal) : val_main_v18 (F := Ideal) x d k v u a b = shards x (column d k v u a b) := funext fun i => by
  obtain ⟨p, l, q, rfl⟩ : ∃ (p : Fin 8) (l : Fin 1024) (q : Fin 512), i = ix3 p l q := ⟨i 0, i 1, i 2, eq_ix3 i⟩
  have e : val_main_v18 (F := Ideal) x d k v u a b (ix3 p l q) = ∑ s : Fin 2048, val_main_v10 (F := Ideal) d k v u a b (ix2 s ⟨p.val * 512 + q.val, by omega⟩) * x (ix2 s l) := by
    unfold val_main_v18 val_main_v17 val_main_v16 val_main_v15 val_main_v14
    generalize val_main_v10 (F := Ideal) d k v u a b = z
    pointwise []
  rw [e]
  exact Finset.sum_congr rfl fun s _ => (mul_comm _ _).trans (congrArg (x (ix2 s l) * ·) (cat_at d k v u a b p s q _))
theorem ref_sums : val_main_v19 (F := Ideal) d k v u a b = sums (column d k v u a b) := funext fun i => by
  obtain ⟨j, rfl⟩ : ∃ j : Fin 4096, i = ix2 0 j := ⟨i 1, (eq_ix2 i).trans (congrArg (ix2 · _) (Subsingleton.elim (α := Fin 1) _ _))⟩
  have e : val_main_v19 (F := Ideal) d k v u a b (ix2 0 j) = ∑ s : Fin 2048, val_main_v10 (F := Ideal) d k v u a b (ix2 s j) := by
    unfold val_main_v19 val_main_v13 val_main_v12 val_main_v11
    generalize val_main_v10 (F := Ideal) d k v u a b = z
    pointwise []
    have e0 (i) : val_main_cst (F := Ideal) i = 0 := Ideal.ofBits_zero_f32
    have e1 (i) : val_main_cst_0 (F := Ideal) i = 0 := Ideal.ofBits_zero_f32
    rw [e1, zero_add, Fin.sum_univ_one, e0, zero_add]
  rw [e]
  refine Finset.sum_congr rfl fun s _ => ?_
  have hj : (j.val / 512) * 512 + j.val % 512 = j.val := Nat.div_add_mod' _ _
  refine Eq.trans ?_ (cat_at d k v u a b ⟨j.val / 512, by omega⟩ s ⟨j.val % 512, by omega⟩ (hj.trans_lt j.isLt))
  exact congrArg (val_main_v10 (F := Ideal) d k v u a b) (congrArg (ix2 s ·) (Fin.ext hj.symm))

theorem claim : algebraic_WinIdeal_WinRefIdeal := fun m ρ m' ρ' _ hag =>
  ⟨fun c => shards (argH m c) (columns m c), fun c => sums (columns m c),
    (θ_run _ _ _).mono (fun _ h c => ⟨(h c).1.trans (final7 m c _ (tile7 m c)), (h c).2.1.trans (final8 m c _ (tile8 m c)), (h c).2.2⟩) (Cert.WinIdeal.Value.run_blocks m ρ),
    (θ_run _ _ _).mono (fun _ h c => ⟨(h c).1.trans ((val_main_v18_eq _ _ _ _ _ _ _).trans (by
          obtain ⟨e0, -, -, e3, e4, e5, e6, e7, e8⟩ := hag c
          rw [e0, e3, e4, e5, e6, e7, e8]
          exact ref_at _ _ _ _ _ _ (argH m c))),
        (h c).2.1.trans ((val_main_v19_eq _ _ _ _ _ _).trans (by
          obtain ⟨e0, -, -, e3, e4, e5, e6, e7, e8⟩ := hag c
          rw [e3, e4, e5, e6, e7, e8]
          exact ref_sums _ _ _ _ _ _)), (h c).2.2⟩)
      (Cert.WinRefIdeal.Value.run m' ρ')⟩

end Cert.Step.Win

end
-- ==== Proof.Wout.lean ====
/-
  The gradients of the three output matrices: the kernel multiplies eight shards of columns with the cotangents, the mix matrix's by
  rows and the branches' by columns; the derivative of the three plain products gives the same, whatever the arguments hold.
-/
module

public import proofs.«01_k».proof.Proof.Norm
public import Idealize.ShloMosaic.Lib.Pipeline.ValueKit
public import proofs.«01_k».proof.Defs
public import proofs.«01_k».proof.Proof.Gen.WoutIdeal.Value
public import proofs.«01_k».proof.Proof.Gen.WoutRefIdeal.Read
public import proofs.«01_k».proof.Proof.Gen.WoutRefIdeal.Run

@[expose] public section

set_option maxRecDepth 16384

noncomputable section

open Idealize.ShloMosaic Idealize.ShloMosaic.TcCoe Idealize.SL.Sem
open Idealize.ShloMosaic.Pipeline (Dat)

namespace Cert.WoutIdeal.Value

open Cert.WoutIdeal Cert.WoutIdeal.Gen Cert.Step

variable (m : (ℓ : Loc nD τ sig) → Buf (Elt Ideal) ℓ) (ρ : Dev nD → PrngReg)
/-- The merged rows, the branches' rows and the three cotangents as arrays. -/
abbrev argM (c : Dev nD) : S2048x1024.Idx → EReal := m ((c : Thread nD τ).loc main_arg0)
abbrev argA (c : Dev nD) : S2048x512.Idx → EReal := m ((c : Thread nD τ).loc main_arg1)
abbrev argP (c : Dev nD) : S2048x512.Idx → EReal := m ((c : Thread nD τ).loc main_arg2)
abbrev argC (c : Dev nD) : S2048x1024.Idx → EReal := m ((c : Thread nD τ).loc main_arg6)
abbrev argCa (c : Dev nD) : S2048x1024.Idx → EReal := m ((c : Thread nD τ).loc main_arg7)
abbrev argCp (c : Dev nD) : S2048x1024.Idx → EReal := m ((c : Thread nD τ).loc main_arg8)

theorem V_v0 (c : Dev nD) : V m c main_v0 = argM m c := by
  unfold V hostOps0
  after_results <;> rfl
theorem V_v1 (c : Dev nD) : V m c main_v1 = argC m c := by
  unfold V hostOps0
  after_results <;> rfl
theorem V_v2 (c : Dev nD) : V m c main_v2 = argA m c := by
  unfold V hostOps0
  after_results <;> rfl
theorem V_v3 (c : Dev nD) : V m c main_v3 = argCa m c := by
  unfold V hostOps0
  after_results <;> rfl
theorem V_v4 (c : Dev nD) : V m c main_v4 = argP m c := by
  unfold V hostOps0
  after_results <;> rfl
theorem V_v5 (c : Dev nD) : V m c main_v5 = argCp m c := by
  unfold V hostOps0
  after_results <;> rfl

theorem shard_lt (t : Fin cfg0.N) : t.val < 8 := lt_of_lt_of_eq t.isLt (show cfg0.N = 8 from N_0)
/-- Column `q` of shard `t`. -/
def col (t : Fin cfg0.N) (q : Fin 128) : Fin 1024 := ⟨t.val * 128 + q.val, by have := shard_lt t; omega⟩

theorem index_all : ∀ t : Fin cfg0.N, win0_0.index t = ![0, t.val] ∧ win0_1.index t = ![0, 0] ∧ win0_2.index t = ![0, 0] ∧ win0_3.index t = ![0, t.val] ∧ win0_4.index t = ![0, 0] ∧ win0_5.index t = ![0, t.val] ∧ win0_6.index t = ![t.val, 0, 0] ∧ win0_7.index t = ![t.val, 0, 0] ∧ win0_8.index t = ![t.val, 0, 0] :=
  (by decide +kernel : ∀ t : Fin grid0.N, _)

theorem blkM (c : Dev nD) (t : Fin cfg0.N) (s : Fin 2048) (q : Fin 128) :
    (iblk m c 0 t : Vec Ideal S2048x128 .bf16) (ix2 s q) = argM m c (ix2 s (col t q)) := by
  blk_simp [iblk]
  rw [V_v0]
  refine congrArg _ ?_
  blk_ext [index_all, col]
theorem blkC (c : Dev nD) (t : Fin cfg0.N) (s : Fin 2048) (q : Fin 1024) :
    (iblk m c 1 t : Vec Ideal S2048x1024 .bf16) (ix2 s q) = argC m c (ix2 s q) := by
  blk_simp [iblk]
  rw [V_v1]
  refine congrArg _ ?_
  blk_ext [index_all]
theorem blkA (c : Dev nD) (t : Fin cfg0.N) (s : Fin 2048) (q : Fin 512) :
    (iblk m c 2 t : Vec Ideal S2048x512 .bf16) (ix2 s q) = argA m c (ix2 s q) := by
  blk_simp [iblk]
  rw [V_v2]
  refine congrArg _ ?_
  blk_ext [index_all]
theorem blkCa (c : Dev nD) (t : Fin cfg0.N) (s : Fin 2048) (q : Fin 128) :
    (iblk m c 3 t : Vec Ideal S2048x128 .bf16) (ix2 s q) = argCa m c (ix2 s (col t q)) := by
  blk_simp [iblk]
  rw [V_v3]
  refine congrArg _ ?_
  blk_ext [index_all, col]
theorem blkP (c : Dev nD) (t : Fin cfg0.N) (s : Fin 2048) (q : Fin 512) :
    (iblk m c 4 t : Vec Ideal S2048x512 .bf16) (ix2 s q) = argP m c (ix2 s q) := by
  blk_simp [iblk]
  rw [V_v4]
  refine congrArg _ ?_
  blk_ext [index_all]
theorem blkCp (c : Dev nD) (t : Fin cfg0.N) (s : Fin 2048) (q : Fin 128) :
    (iblk m c 5 t : Vec Ideal S2048x128 .bf16) (ix2 s q) = argCp m c (ix2 s (col t q)) := by
  blk_simp [iblk]
  rw [V_v5]
  refine congrArg _ ?_
  blk_ext [index_all, col]
theorem final6 (c : Dev nD) (A : S8x128x1024.Idx → EReal)
    (h : ∀ (t : Fin cfg0.N) (k : Fin 128) (l : Fin 1024), (out0_6 (F := Ideal) (iblk m c 0 t) (iblk m c 1 t) (iblk m c 2 t) (iblk m c 3 t) (iblk m c 4 t) (iblk m c 5 t) : Vec Ideal S1x128x1024 .bf16) (ix3 0 k l) = A (ix3 ⟨t.val, shard_lt t⟩ k l)) :
    (dats m 0 c).arrAt 6 cfg0.N = A := by
  refine (dats m 0 c).arrAt_eq_of_covers 6 A (by decide +kernel) fun t _ (y : S1x128x1024.Idx) => ?_
  have hy : y = ix3 0 (y 1) (y 2) := (eq_ix3 y).trans (congrArg (ix3 · _ _) (Subsingleton.elim (α := Fin 1) _ _))
  blk_simp
  rw [after0_6, hy]
  refine (h t _ _).trans (congrArg A ?_)
  blk_ext [index_all]
theorem final7 (c : Dev nD) (A : S8x512x128.Idx → EReal)
    (h : ∀ (t : Fin cfg0.N) (k : Fin 512) (l : Fin 128), (out0_7 (F := Ideal) (iblk m c 0 t) (iblk m c 1 t) (iblk m c 2 t) (iblk m c 3 t) (iblk m c 4 t) (iblk m c 5 t) : Vec Ideal S1x512x128 .bf16) (ix3 0 k l) = A (ix3 ⟨t.val, shard_lt t⟩ k l)) :
    (dats m 0 c).arrAt 7 cfg0.N = A := by
  refine (dats m 0 c).arrAt_eq_of_covers 7 A (by decide +kernel) fun t _ (y : S1x512x128.Idx) => ?_
  have hy : y = ix3 0 (y 1) (y 2) := (eq_ix3 y).trans (congrArg (ix3 · _ _) (Subsingleton.elim (α := Fin 1) _ _))
  blk_simp
  rw [after0_7, hy]
  refine (h t _ _).trans (congrArg A ?_)
  blk_ext [index_all]
theorem final8 (c : Dev nD) (A : S8x512x128.Idx → EReal)
    (h : ∀ (t : Fin cfg0.N) (k : Fin 512) (l : Fin 128), (out0_8 (F := Ideal) (iblk m c 0 t) (iblk m c 1 t) (iblk m c 2 t) (iblk m c 3 t) (iblk m c 4 t) (iblk m c 5 t) : Vec Ideal S1x512x128 .bf16) (ix3 0 k l) = A (ix3 ⟨t.val, shard_lt t⟩ k l)) :
    (dats m 0 c).arrAt 8 cfg0.N = A := by
  refine (dats m 0 c).arrAt_eq_of_covers 8 A (by decide +kernel) fun t _ (y : S1x512x128.Idx) => ?_
  have hy : y = ix3 0 (y 1) (y 2) := (eq_ix3 y).trans (congrArg (ix3 · _ _) (Subsingleton.elim (α := Fin 1) _ _))
  blk_simp
  rw [after0_8, hy]
  refine (h t _ _).trans (congrArg A ?_)
  blk_ext [index_all]

/-- A gradient by shards of rows, and one by shards of columns. -/
def byRows (x d : S2048x1024.Idx → EReal) : S8x128x1024.Idx → EReal :=
  fun i => ∑ s : Fin 2048, x (ix2 s ⟨(i 0).val * 128 + (i 1).val, by have h0 : (i 0).val < 8 := (i 0).isLt; have h1 : (i 1).val < 128 := (i 1).isLt; omega⟩) * d (ix2 s (i 2))
def byCols (x : S2048x512.Idx → EReal) (d : S2048x1024.Idx → EReal) : S8x512x128.Idx → EReal :=
  fun i => ∑ s : Fin 2048, x (ix2 s (i 1)) * d (ix2 s ⟨(i 0).val * 128 + (i 2).val, by have h0 : (i 0).val < 8 := (i 0).isLt; have h2 : (i 2).val < 128 := (i 2).isLt; omega⟩)

theorem pay1_at (x : Vec Ideal S2048x128 .bf16) (d : Vec Ideal S2048x1024 .bf16) (k : Fin 128) (l : Fin 1024) :
    k0_pay1 (F := Ideal) x d (ix3 0 k l) = ∑ s : Fin 2048, x (ix2 s k) * d (ix2 s l) := by
  pointwise [k0_pay1]
theorem pay2_at (x : Vec Ideal S2048x512 .bf16) (d : Vec Ideal S2048x128 .bf16) (k : Fin 512) (l : Fin 128) :
    k0_pay2 (F := Ideal) x d (ix3 0 k l) = ∑ s : Fin 2048, x (ix2 s k) * d (ix2 s l) := by
  pointwise [k0_pay2]
theorem pay3_at (x : Vec Ideal S2048x512 .bf16) (d : Vec Ideal S2048x128 .bf16) (k : Fin 512) (l : Fin 128) :
    k0_pay3 (F := Ideal) x d (ix3 0 k l) = ∑ s : Fin 2048, x (ix2 s k) * d (ix2 s l) := by
  pointwise [k0_pay3]

theorem tile6 (c : Dev nD) (t : Fin cfg0.N) (k : Fin 128) (l : Fin 1024) :
    (out0_6 (F := Ideal) (iblk m c 0 t) (iblk m c 1 t) (iblk m c 2 t) (iblk m c 3 t) (iblk m c 4 t) (iblk m c 5 t) : Vec Ideal S1x128x1024 .bf16) (ix3 0 k l) = byRows (argM m c) (argC m c) (ix3 ⟨t.val, shard_lt t⟩ k l) := by
  unfold out0_6
  rw [View.canon_unit_zero hz3]
  simp only [View.ld_unit_zero (S := S2048x128) hz2, View.ld_unit_zero (S := S2048x1024) hz2]
  rw [pay1_at]
  refine Finset.sum_congr rfl fun s _ => ?_
  rw [blkM, blkC]
  rfl
theorem tile7 (c : Dev nD) (t : Fin cfg0.N) (k : Fin 512) (l : Fin 128) :
    (out0_7 (F := Ideal) (iblk m c 0 t) (iblk m c 1 t) (iblk m c 2 t) (iblk m c 3 t) (iblk m c 4 t) (iblk m c 5 t) : Vec Ideal S1x512x128 .bf16) (ix3 0 k l) = byCols (argA m c) (argCa m c) (ix3 ⟨t.val, shard_lt t⟩ k l) := by
  unfold out0_7
  rw [View.canon_unit_zero hz3]
  simp only [View.ld_unit_zero (S := S2048x512) hz2, View.ld_unit_zero (S := S2048x128) hz2]
  rw [pay2_at]
  refine Finset.sum_congr rfl fun s _ => ?_
  rw [blkA, blkCa]
  rfl
theorem tile8 (c : Dev nD) (t : Fin cfg0.N) (k : Fin 512) (l : Fin 128) :
    (out0_8 (F := Ideal) (iblk m c 0 t) (iblk m c 1 t) (iblk m c 2 t) (iblk m c 3 t) (iblk m c 4 t) (iblk m c 5 t) : Vec Ideal S1x512x128 .bf16) (ix3 0 k l) = byCols (argP m c) (argCp m c) (ix3 ⟨t.val, shard_lt t⟩ k l) := by
  unfold out0_8
  rw [View.canon_unit_zero hz3]
  simp only [View.ld_unit_zero (S := S2048x512) hz2, View.ld_unit_zero (S := S2048x128) hz2]
  rw [pay3_at]
  refine Finset.sum_congr rfl fun s _ => ?_
  rw [blkP, blkCp]
  rfl

end Cert.WoutIdeal.Value

namespace Cert.Step.Wout

open Cert.WoutIdeal.Value (argM argA argP argC argCa argCp byRows byCols final6 final7 final8 tile6 tile7 tile8)
open Cert.WoutRefIdeal Cert.WoutRefIdeal.Gen Cert.WoutRefIdeal.Read

theorem ref_mix (x d : S2048x1024.Idx → EReal) : val_main_v10 (F := Ideal) x d = byRows x d := funext fun i => by
  obtain ⟨p, k, l, rfl⟩ : ∃ (p : Fin 8) (k : Fin 128) (l : Fin 1024), i = ix3 p k l := ⟨i 0, i 1, i 2, eq_ix3 i⟩
  pointwise [val_main_v10,val_main_v9,val_main_v8,val_main_v7]
  exact Finset.sum_congr rfl fun s _ => mul_comm _ _
theorem ref_att (x : S2048x512.Idx → EReal) (d : S2048x1024.Idx → EReal) : val_main_v13 (F := Ideal) x d = byCols x d := funext fun i => by
  obtain ⟨p, k, l, rfl⟩ : ∃ (p : Fin 8) (k : Fin 512) (l : Fin 128), i = ix3 p k l := ⟨i 0, i 1, i 2, eq_ix3 i⟩
  pointwise [val_main_v13,val_main_v12,val_main_v11,val_main_v6,val_main_v5]
  exact Finset.sum_congr rfl fun s _ => mul_comm _ _
theorem ref_pool (x : S2048x512.Idx → EReal) (d : S2048x1024.Idx → EReal) : val_main_v16 (F := Ideal) x d = byCols x d := ref_att x d

theorem claim : algebraic_WoutIdeal_WoutRefIdeal := fun m ρ m' ρ' _ hag => by
  have r0 := fun c => ref_mix (argM m c) (argC m c)
  have r1 := fun c => ref_att (argA m c) (argCa m c)
  have r2 := fun c => ref_pool (argP m c) (argCp m c)
  refine ⟨fun c => byRows (argM m c) (argC m c), fun c => byCols (argA m c) (argCa m c), fun c => byCols (argP m c) (argCp m c),
    (θ_run _ _ _).mono (fun _ h c => ⟨(h c).1.trans (final6 m c _ (tile6 m c)), (h c).2.1.trans (final7 m c _ (tile7 m c)),
      (h c).2.2.1.trans (final8 m c _ (tile8 m c)), (h c).2.2.2⟩) (Cert.WoutIdeal.Value.run_blocks m ρ),
    (θ_run _ _ _).mono (fun _ h c => ⟨(h c).1.trans ((val_main_v10_eq _ _).trans ?_), (h c).2.1.trans ((val_main_v13_eq _ _).trans ?_),
      (h c).2.2.1.trans ((val_main_v16_eq _ _).trans ?_), (h c).2.2.2⟩) (Cert.WoutRefIdeal.Value.run m' ρ')⟩
  · rw [(hag c).1, (hag c).2.2.2.2.2.2.1]; exact r0 c
  · rw [(hag c).2.1, (hag c).2.2.2.2.2.2.2.1]; exact r1 c
  · rw [(hag c).2.2.1, (hag c).2.2.2.2.2.2.2.2]; exact r2 c

end Cert.Step.Wout

end
-- ==== Proof.Da.lean ====
/-
  The gradient of the attention's output product: the kernel puts the matrix's eight shards of columns side by side and multiplies the
  cotangent with the transpose; the derivative of the plain product gives the same rows, whatever the arguments hold.
-/
module

public import proofs.«01_k».proof.Proof.Norm
public import Idealize.ShloMosaic.Lib.Pipeline.ValueKit
public import proofs.«01_k».proof.Defs
public import proofs.«01_k».proof.Proof.Gen.DaIdeal.Value
public import proofs.«01_k».proof.Proof.Gen.DaRefIdeal.Read
public import proofs.«01_k».proof.Proof.Gen.DaRefIdeal.Run

@[expose] public section

set_option maxRecDepth 16384

noncomputable section

open Idealize.ShloMosaic Idealize.ShloMosaic.TcCoe Idealize.SL.Sem
open Idealize.ShloMosaic.Pipeline (Dat)

namespace Cert.DaIdeal.Value

open Cert.DaIdeal Cert.DaIdeal.Gen Cert.Step

variable (m : (ℓ : Loc nD τ sig) → Buf (Elt Ideal) ℓ) (ρ : Dev nD → PrngReg)
/-- The matrix and the cotangent as arrays. -/
abbrev argW (c : Dev nD) : S512x1024.Idx → EReal := m ((c : Thread nD τ).loc main_arg1)
abbrev argC (c : Dev nD) : S2048x1024.Idx → EReal := m ((c : Thread nD τ).loc main_arg2)

theorem V_v0 (c : Dev nD) : V m c main_v0 = argC m c := by
  unfold V hostOps0
  after_results <;> rfl
theorem V_v3 (c : Dev nD) (p : Fin 8) (l : Fin 512) (q : Fin 128) :
    (V m c main_v3 : S8x512x128.Idx → EReal) (ix3 p l q) = argW m c (ix2 l ⟨p.val * 128 + q.val, by omega⟩) := by
  have h : V m c main_v3 = transpose S8x512x128 [1, 0, 2] (shapeCast S512x8x128 (argW m c) shapeCasts_S512x1024_S512x8x128) transposes_S512x8x128_S8x512x128_1_0_2 := by
    unfold V hostOps0
    after_results <;> rfl
  rw [h]
  pointwise []

theorem row_lt (t : Fin cfg0.N) (r : Fin 1024) : t.val * 1024 + r.val < 2048 := by
  have := lt_of_lt_of_eq t.isLt (show cfg0.N = 2 from N_0); omega

theorem index_all : ∀ t : Fin cfg0.N, win0_0.index t = ![t.val, 0] ∧ win0_1.index t = ![0, 0, 0] ∧ win0_2.index t = ![t.val, 0] :=
  (by decide +kernel : ∀ t : Fin grid0.N, _)

theorem blkC (c : Dev nD) (t : Fin cfg0.N) (r k : Fin 1024) :
    (iblk m c 0 t : Vec Ideal S1024x1024 .bf16) (ix2 r k) = argC m c (ix2 ⟨t.val * 1024 + r.val, row_lt t r⟩ k) := by
  blk_simp [iblk]
  rw [V_v0]
  refine congrArg _ ?_
  blk_ext [index_all]
theorem blkW (c : Dev nD) (t : Fin cfg0.N) (p : Fin 8) (l : Fin 512) (q : Fin 128) :
    (iblk m c 1 t : Vec Ideal S8x512x128 .bf16) (ix3 p l q) = argW m c (ix2 l ⟨p.val * 128 + q.val, by omega⟩) := by
  rw [← V_v3 m c p l q]
  blk_simp [iblk]
  refine congrArg _ ?_
  blk_ext [index_all]
theorem final2 (c : Dev nD) (A : S2048x512.Idx → EReal)
    (h : ∀ (t : Fin cfg0.N) (r : Fin 1024) (l : Fin 512), (out0_2 (F := Ideal) (iblk m c 0 t) (iblk m c 1 t) : Vec Ideal S1024x512 .bf16) (ix2 r l) = A (ix2 ⟨t.val * 1024 + r.val, row_lt t r⟩ l)) :
    (dats m 0 c).arrAt 2 cfg0.N = A := by
  refine (dats m 0 c).arrAt_eq_of_covers 2 A (by decide +kernel) fun t _ (y : S1024x512.Idx) => ?_
  blk_simp
  rw [after0_2, eq_ix2 y]
  refine (h t _ _).trans (congrArg A ?_)
  blk_ext [index_all]

/-- The cotangent times the transposed matrix. -/
def rows (d : S2048x1024.Idx → EReal) (w : S512x1024.Idx → EReal) : S2048x512.Idx → EReal :=
  fun i => ∑ k : Fin 1024, d (ix2 (i 0) k) * w (ix2 (i 1) k)

theorem pay_at (d : Vec Ideal S1024x1024 .bf16) (w : Vec Ideal S8x512x128 .bf16) (r : Fin 1024) (l : Fin 512) :
    k0_pay1 (F := Ideal) d (View.ld w r0_1) (View.ld w r0_2) (View.ld w r0_3) (View.ld w r0_4) (View.ld w r0_5) (View.ld w r0_6) (View.ld w r0_7) (View.ld w r0_8) (ix2 r l)
      = ∑ k : Fin 1024, d (ix2 r k) * w (ix3 ⟨k.val / 128, by omega⟩ l ⟨k.val % 128, by omega⟩) := by
  unfold k0_pay1
  pointwise []
  refine Finset.sum_congr rfl fun k _ => congrArg (d (ix2 r k) * ·) ?_
  split
  · exact congrArg w (congrArg₂ (ix3 · l ·) (Fin.ext (by show 0 = k.val / 128; omega)) (Fin.ext (by dsimp only; omega)))
  split
  · exact congrArg w (congrArg₂ (ix3 · l ·) (Fin.ext (by show 1 = k.val / 128; omega)) (Fin.ext (by dsimp only; omega)))
  split
  · exact congrArg w (congrArg₂ (ix3 · l ·) (Fin.ext (by show 2 = k.val / 128; omega)) (Fin.ext (by dsimp only; omega)))
  split
  · exact congrArg w (congrArg₂ (ix3 · l ·) (Fin.ext (by show 3 = k.val / 128; omega)) (Fin.ext (by dsimp only; omega)))
  split
  · exact congrArg w (congrArg₂ (ix3 · l ·) (Fin.ext (by show 4 = k.val / 128; omega)) (Fin.ext (by dsimp only; omega)))
  split
  · exact congrArg w (congrArg₂ (ix3 · l ·) (Fin.ext (by show 5 = k.val / 128; omega)) (Fin.ext (by dsimp only; omega)))
  split
  · exact congrArg w (congrArg₂ (ix3 · l ·) (Fin.ext (by show 6 = k.val / 128; omega)) (Fin.ext (by dsimp only; omega)))
  · exact congrArg w (congrArg₂ (ix3 · l ·) (Fin.ext (by show 7 = k.val / 128; omega)) (Fin.ext (by dsimp only; omega)))

theorem tile2 (c : Dev nD) (t : Fin cfg0.N) (r : Fin 1024) (l : Fin 512) :
    (out0_2 (F := Ideal) (iblk m c 0 t) (iblk m c 1 t) : Vec Ideal S1024x512 .bf16) (ix2 r l) = rows (argC m c) (argW m c) (ix2 ⟨t.val * 1024 + r.val, row_lt t r⟩ l) := by
  unfold out0_2
  rw [View.canon_unit_zero hz2]
  simp only [View.ld_unit_zero (S := S1024x1024) hz2]
  refine (pay_at _ (iblk m c 1 t) r l).trans (Finset.sum_congr rfl fun k _ => ?_)
  rw [blkC, blkW]
  exact congrArg (_ * argW m c ·) (congrArg (ix2 l ·) (Fin.ext (by show k.val / 128 * 128 + k.val % 128 = k.val; omega)))

end Cert.DaIdeal.Value

namespace Cert.Step.Da

open Cert.DaIdeal.Value (argW argC rows final2 tile2)
open Cert.DaRefIdeal Cert.DaRefIdeal.Gen Cert.DaRefIdeal.Read

theorem ref_at (w : S512x1024.Idx → EReal) (d : S2048x1024.Idx → EReal) : val_main_v2 (F := Ideal) w d = rows d w := funext fun i => by
  obtain ⟨r, l, rfl⟩ : ∃ (r : Fin 2048) (l : Fin 512), i = ix2 r l := ⟨i 0, i 1, eq_ix2 i⟩
  pointwise [val_main_v2,val_main_v1]
  rfl

theorem claim : algebraic_DaIdeal_DaRefIdeal := fun m ρ m' ρ' _ hag =>
  ⟨fun c => rows (argC m c) (argW m c),
    (θ_run _ _ _).mono (fun _ h c => ⟨(h c).1.trans (final2 m c _ (tile2 m c)), (h c).2⟩) (Cert.DaIdeal.Value.run_blocks m ρ),
    (θ_run _ _ _).mono (fun _ h c => ⟨(h c).1.trans ((val_main_v2_eq _ _).trans (by rw [(hag c).2.1, (hag c).2.2]; exact ref_at (argW m c) (argC m c))), (h c).2⟩)
      (Cert.DaRefIdeal.Value.run m' ρ')⟩

end Cert.Step.Da

end
-- ==== Proof.Dh0.lean ====
/-
  The gradient of the layer's input: the scaled residual's cotangent and the six pieces' cotangents times the input matrix's eight shards
  of columns; the derivative of the projection cut into pieces gives the same rows, whatever the arguments hold.
-/
module

public import proofs.«01_k».proof.Proof.Norm
public import Idealize.ShloMosaic.Lib.Pipeline.ValueKit
public import proofs.«01_k».proof.Defs
public import proofs.«01_k».proof.Proof.Gen.Dh0Ideal.Value
public import proofs.«01_k».proof.Proof.Gen.Dh0RefIdeal.Read
public import proofs.«01_k».proof.Proof.Gen.Dh0RefIdeal.Run

@[expose] public section

set_option maxRecDepth 16384

noncomputable section

open Idealize.ShloMosaic Idealize.ShloMosaic.TcCoe Idealize.SL.Sem
open Idealize.ShloMosaic.Pipeline (Dat)

namespace Cert.Dh0Ideal.Value

open Cert.Dh0Ideal Cert.Dh0Ideal.Gen Cert.Step

variable (m : (ℓ : Loc nD τ sig) → Buf (Elt Ideal) ℓ) (ρ : Dev nD → PrngReg)
/-- The matrix, the residual's cotangent and the pieces' cotangents as arrays. -/
abbrev argW (c : Dev nD) : S1024x4096.Idx → EReal := m ((c : Thread nD τ).loc main_arg1)
abbrev argC (c : Dev nD) : S2048x1024.Idx → EReal := m ((c : Thread nD τ).loc main_arg3)
abbrev argQ (c : Dev nD) : S2048x512.Idx → EReal := m ((c : Thread nD τ).loc main_arg4)
abbrev argK (c : Dev nD) : S2048x512.Idx → EReal := m ((c : Thread nD τ).loc main_arg5)
abbrev argV (c : Dev nD) : S2048x512.Idx → EReal := m ((c : Thread nD τ).loc main_arg6)
abbrev argU (c : Dev nD) : S2048x512.Idx → EReal := m ((c : Thread nD τ).loc main_arg7)
abbrev argA (c : Dev nD) : S2048x1024.Idx → EReal := m ((c : Thread nD τ).loc main_arg8)
abbrev argB (c : Dev nD) : S2048x1024.Idx → EReal := m ((c : Thread nD τ).loc main_arg9)

theorem V_v0 (c : Dev nD) : V m c main_v0 = argQ m c := by
  unfold V hostOps0
  after_results <;> rfl
theorem V_v1 (c : Dev nD) : V m c main_v1 = argK m c := by
  unfold V hostOps0
  after_results <;> rfl
theorem V_v2 (c : Dev nD) : V m c main_v2 = argV m c := by
  unfold V hostOps0
  after_results <;> rfl
theorem V_v3 (c : Dev nD) : V m c main_v3 = argU m c := by
  unfold V hostOps0
  after_results <;> rfl
theorem V_v4 (c : Dev nD) : V m c main_v4 = argA m c := by
  unfold V hostOps0
  after_results <;> rfl
theorem V_v5 (c : Dev nD) : V m c main_v5 = argB m c := by
  unfold V hostOps0
  after_results <;> rfl
theorem V_v8 (c : Dev nD) (p : Fin 8) (l : Fin 1024) (k : Fin 512) :
    (V m c main_v8 : S8x1024x512.Idx → EReal) (ix3 p l k) = argW m c (ix2 l ⟨512 * p.val + k.val, by omega⟩) := by
  have h : V m c main_v8 = transpose S8x1024x512 [1, 0, 2] (shapeCast S1024x8x512 (argW m c) shapeCasts_S1024x4096_S1024x8x512) transposes_S1024x8x512_S8x1024x512_1_0_2 := by
    unfold V hostOps0
    after_results <;> rfl
  rw [h]
  pointwise []
  exact congrArg (argW m c) (congrArg (ix2 l ·) (Fin.ext (by show p.val * 512 + k.val = 512 * p.val + k.val; omega)))

theorem row_lt (t : Fin cfg0.N) (r : Fin 512) : t.val * 512 + r.val < 2048 := by
  have := lt_of_lt_of_eq t.isLt (show cfg0.N = 4 from N_0); omega
/-- Row `r` of block `t`. -/
def row (t : Fin cfg0.N) (r : Fin 512) : Fin 2048 := ⟨t.val * 512 + r.val, row_lt t r⟩

theorem index_all : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![0, 0, 0] ∧ win0_8.index t = ![t.val, 0] :=
  (by decide +kernel : ∀ t : Fin grid0.N, _)

theorem blkC (c : Dev nD) (t : Fin cfg0.N) (r : Fin 512) (k : Fin 1024) :
    (iblk m c 0 t : Vec Ideal S512x1024 .f32) (ix2 r k) = argC m c (ix2 (row t r) k) := by
  blk_simp [iblk]
  rw [V_main_arg3]
  refine congrArg _ ?_
  blk_ext [index_all, row]
theorem blkQ (c : Dev nD) (t : Fin cfg0.N) (r : Fin 512) (k : Fin 512) :
    (iblk m c 1 t : Vec Ideal S512x512 .bf16) (ix2 r k) = argQ m c (ix2 (row t r) k) := by
  blk_simp [iblk]
  rw [V_v0]
  refine congrArg _ ?_
  blk_ext [index_all, row]
theorem blkK (c : Dev nD) (t : Fin cfg0.N) (r : Fin 512) (k : Fin 512) :
    (iblk m c 2 t : Vec Ideal S512x512 .bf16) (ix2 r k) = argK m c (ix2 (row t r) k) := by
  blk_simp [iblk]
  rw [V_v1]
  refine congrArg _ ?_
  blk_ext [index_all, row]
theorem blkV (c : Dev nD) (t : Fin cfg0.N) (r : Fin 512) (k : Fin 512) :
    (iblk m c 3 t : Vec Ideal S512x512 .bf16) (ix2 r k) = argV m c (ix2 (row t r) k) := by
  blk_simp [iblk]
  rw [V_v2]
  refine congrArg _ ?_
  blk_ext [index_all, row]
theorem blkU (c : Dev nD) (t : Fin cfg0.N) (r : Fin 512) (k : Fin 512) :
    (iblk m c 4 t : Vec Ideal S512x512 .bf16) (ix2 r k) = argU m c (ix2 (row t r) k) := by
  blk_simp [iblk]
  rw [V_v3]
  refine congrArg _ ?_
  blk_ext [index_all, row]
theorem blkA (c : Dev nD) (t : Fin cfg0.N) (r : Fin 512) (k : Fin 1024) :
    (iblk m c 5 t : Vec Ideal S512x1024 .bf16) (ix2 r k) = argA m c (ix2 (row t r) k) := by
  blk_simp [iblk]
  rw [V_v4]
  refine congrArg _ ?_
  blk_ext [index_all, row]
theorem blkB (c : Dev nD) (t : Fin cfg0.N) (r : Fin 512) (k : Fin 1024) :
    (iblk m c 6 t : Vec Ideal S512x1024 .bf16) (ix2 r k) = argB m c (ix2 (row t r) k) := by
  blk_simp [iblk]
  rw [V_v5]
  refine congrArg _ ?_
  blk_ext [index_all, row]
theorem blkW (c : Dev nD) (t : Fin cfg0.N) (p : Fin 8) (l : Fin 1024) (k : Fin 512) :
    (iblk m c 7 t : Vec Ideal S8x1024x512 .bf16) (ix3 p l k) = argW m c (ix2 l ⟨512 * p.val + k.val, by omega⟩) := by
  rw [← V_v8 m c p l k]
  blk_simp [iblk]
  refine congrArg _ ?_
  blk_ext [index_all]
theorem final8 (c : Dev nD) (A : S2048x1024.Idx → EReal)
    (h : ∀ (t : Fin cfg0.N) (r : Fin 512) (l : Fin 1024), (out0_8 (F := Ideal) (iblk m c 0 t) (iblk m c 1 t) (iblk m c 2 t) (iblk m c 3 t) (iblk m c 4 t) (iblk m c 5 t) (iblk m c 6 t) (iblk m c 7 t) : Vec Ideal S512x1024 .f32) (ix2 r l) = A (ix2 (row t r) l)) :
    (dats m 0 c).arrAt 8 cfg0.N = A := by
  refine (dats m 0 c).arrAt_eq_of_covers 8 A (by decide +kernel) fun t _ (y : S512x1024.Idx) => ?_
  blk_simp
  rw [after0_8, eq_ix2 y]
  refine (h t _ _).trans (congrArg A ?_)
  blk_ext [index_all, row]

/-- Column `512 * j + k` of a matrix of `n` columns. -/
def at512 {n : ℕ} (j : ℕ) (h : 512 * j + 512 ≤ n) (k : Fin 512) : Fin n := ⟨512 * j + k.val, by omega⟩
/-- The scaled cotangent of the residual, and the pieces' products one after the other. -/
def total (d : S2048x1024.Idx → EReal) (q k v u : S2048x512.Idx → EReal) (a b : S2048x1024.Idx → EReal) (w : S1024x4096.Idx → EReal) : S2048x1024.Idx → EReal :=
  fun i => Ideal.ofBits .f32 0x3FD744FD#32 * d i
    + ∑ j : Fin 512, q (ix2 (i 0) j) * w (ix2 (i 1) (at512 0 (by omega) j))
    + ∑ j : Fin 512, k (ix2 (i 0) j) * w (ix2 (i 1) (at512 1 (by omega) j))
    + ∑ j : Fin 512, v (ix2 (i 0) j) * w (ix2 (i 1) (at512 2 (by omega) j))
    + ∑ j : Fin 512, u (ix2 (i 0) j) * w (ix2 (i 1) (at512 3 (by omega) j))
    + ∑ j : Fin 512, a (ix2 (i 0) (at512 0 (by omega) j)) * w (ix2 (i 1) (at512 4 (by omega) j))
    + ∑ j : Fin 512, a (ix2 (i 0) (at512 1 (by omega) j)) * w (ix2 (i 1) (at512 5 (by omega) j))
    + ∑ j : Fin 512, b (ix2 (i 0) (at512 0 (by omega) j)) * w (ix2 (i 1) (at512 6 (by omega) j))
    + ∑ j : Fin 512, b (ix2 (i 0) (at512 1 (by omega) j)) * w (ix2 (i 1) (at512 7 (by omega) j))

theorem pay2_at (d : Vec Ideal S512x1024 .f32) (q k v u : Vec Ideal S512x512 .bf16) (w : Vec Ideal S8x1024x512 .bf16) (r : Fin 512) (l : Fin 1024) :
    k0_pay2 (F := Ideal) d q (View.ld w r0_2) k (View.ld w r0_3) v (View.ld w r0_4) u (View.ld w r0_5) (ix2 r l) = Ideal.ofBits .f32 0x3FD744FD#32 * d (ix2 r l)
    + ∑ j : Fin 512, q (ix2 r j) * w (ix3 0 l j)
    + ∑ j : Fin 512, k (ix2 r j) * w (ix3 1 l j)
    + ∑ j : Fin 512, v (ix2 r j) * w (ix3 2 l j)
    + ∑ j : Fin 512, u (ix2 r j) * w (ix3 3 l j) := by
  unfold k0_pay2
  pointwise []

theorem pay1_at (z : FVec Ideal S512x1024 .f32) (a b : Vec Ideal S512x1024 .bf16) (w : Vec Ideal S8x1024x512 .bf16) (r : Fin 512) (l : Fin 1024) :
    k0_pay1 (F := Ideal) z (k0_pay3 (View.ld a r0_6)) (View.ld w r0_7) (View.ld a r0_8) (View.ld w r0_9) (View.ld b r0_6) (View.ld w r0_10) (View.ld b r0_8) (View.ld w r0_11) (ix2 r l)
      = z (ix2 r l)
    + ∑ j : Fin 512, a (ix2 r (at512 0 (by omega) j)) * w (ix3 4 l j)
    + ∑ j : Fin 512, a (ix2 r (at512 1 (by omega) j)) * w (ix3 5 l j)
    + ∑ j : Fin 512, b (ix2 r (at512 0 (by omega) j)) * w (ix3 6 l j)
    + ∑ j : Fin 512, b (ix2 r (at512 1 (by omega) j)) * w (ix3 7 l j) := by
  unfold k0_pay1 k0_pay3
  pointwise []
  rfl

theorem tile8 (c : Dev nD) (t : Fin cfg0.N) (r : Fin 512) (l : Fin 1024) :
    (out0_8 (F := Ideal) (iblk m c 0 t) (iblk m c 1 t) (iblk m c 2 t) (iblk m c 3 t) (iblk m c 4 t) (iblk m c 5 t) (iblk m c 6 t) (iblk m c 7 t) : Vec Ideal S512x1024 .f32) (ix2 r l)
      = total (argC m c) (argQ m c) (argK m c) (argV m c) (argU m c) (argA m c) (argB m c) (argW m c) (ix2 (row t r) l) := by
  unfold out0_8
  rw [View.canon_unit_zero hz2]
  simp only [View.ld_unit_zero (S := S512x1024) hz2, View.ld_unit_zero (S := S512x512) hz2]
  refine (pay1_at _ (iblk m c 5 t) (iblk m c 6 t) (iblk m c 7 t) r l).trans ?_
  rw [pay2_at _ _ _ _ _ (iblk m c 7 t)]
  simp only [blkC, blkQ, blkK, blkV, blkU, blkA, blkB, blkW]
  rfl

end Cert.Dh0Ideal.Value

namespace Cert.Step.Dh0

open Cert.Dh0Ideal.Value (argW argC argQ argK argV argU argA argB at512 total final8 tile8)
open Cert.Dh0RefIdeal Cert.Dh0RefIdeal.Gen Cert.Dh0RefIdeal.Read

theorem sum_shards (f : Fin 4096 → EReal) : ∑ x, f x = (∑ j, f (at512 0 (by omega) j)) + (∑ j, f (at512 1 (by omega) j)) + (∑ j, f (at512 2 (by omega) j)) + (∑ j, f (at512 3 (by omega) j)) + (∑ j, f (at512 4 (by omega) j)) + (∑ j, f (at512 5 (by omega) j)) + (∑ j, f (at512 6 (by omega) j)) + (∑ j, f (at512 7 (by omega) j)) := by
  rw [← (finProdFinEquiv (m := 8) (n := 512)).sum_comp f, Fintype.sum_prod_type, Fin.sum_univ_eight]
  refine congrArg₂ (· + ·) (congrArg₂ (· + ·) (congrArg₂ (· + ·) (congrArg₂ (· + ·) (congrArg₂ (· + ·) (congrArg₂ (· + ·) (congrArg₂ (· + ·) (?_) ?_) ?_) ?_) ?_) ?_) ?_) ?_ <;>
    exact Finset.sum_congr rfl fun j _ => congrArg f (Fin.ext (by simp [at512, finProdFinEquiv]; try omega))

variable (q k v u : S2048x512.Idx → EReal) (a b : S2048x1024.Idx → EReal) (r : Fin 2048) (j : Fin 512)
theorem cat0 : val_main_v12 (F := Ideal) q k v u a b (ix2 r (at512 0 (by omega) j)) = q (ix2 r j) := by
  pointwise [val_main_v12]
  have h : (at512 (n := 4096) 0 (by omega) j).val = 512 * 0 + j.val := rfl
  refine (dif_pos (by omega)).trans <| congrArg q (congrArg (ix2 r ·) (Fin.ext ?_))
  dsimp only
  omega
theorem cat1 : val_main_v12 (F := Ideal) q k v u a b (ix2 r (at512 1 (by omega) j)) = k (ix2 r j) := by
  pointwise [val_main_v12]
  have h : (at512 (n := 4096) 1 (by omega) j).val = 512 * 1 + j.val := rfl
  refine (dif_neg (by omega)).trans <| (dif_pos (by omega)).trans <| congrArg k (congrArg (ix2 r ·) (Fin.ext ?_))
  dsimp only
  omega
theorem cat2 : val_main_v12 (F := Ideal) q k v u a b (ix2 r (at512 2 (by omega) j)) = v (ix2 r j) := by
  pointwise [val_main_v12]
  have h : (at512 (n := 4096) 2 (by omega) j).val = 512 * 2 + j.val := rfl
  refine (dif_neg (by omega)).trans <| (dif_neg (by omega)).trans <| (dif_pos (by omega)).trans <| congrArg v (congrArg (ix2 r ·) (Fin.ext ?_))
  dsimp only
  omega
theorem cat3 : val_main_v12 (F := Ideal) q k v u a b (ix2 r (at512 3 (by omega) j)) = u (ix2 r j) := by
  pointwise [val_main_v12]
  have h : (at512 (n := 4096) 3 (by omega) j).val = 512 * 3 + j.val := rfl
  refine (dif_neg (by omega)).trans <| (dif_neg (by omega)).trans <| (dif_neg (by omega)).trans <| (dif_pos (by omega)).trans <| congrArg u (congrArg (ix2 r ·) (Fin.ext ?_))
  dsimp only
  omega
theorem cat4 : val_main_v12 (F := Ideal) q k v u a b (ix2 r (at512 4 (by omega) j)) = a (ix2 r (at512 0 (by omega) j)) := by
  pointwise [val_main_v12]
  have h : (at512 (n := 4096) 4 (by omega) j).val = 512 * 4 + j.val := rfl
  have h' : (at512 (n := 1024) 0 (by omega) j).val = 512 * 0 + j.val := rfl
  refine (dif_neg (by omega)).trans <| (dif_neg (by omega)).trans <| (dif_neg (by omega)).trans <| (dif_neg (by omega)).trans <| (dif_pos (by omega)).trans <| congrArg a (congrArg (ix2 r ·) (Fin.ext ?_))
  dsimp only
  omega
theorem cat5 : val_main_v12 (F := Ideal) q k v u a b (ix2 r (at512 5 (by omega) j)) = a (ix2 r (at512 1 (by omega) j)) := by
  pointwise [val_main_v12]
  have h : (at512 (n := 4096) 5 (by omega) j).val = 512 * 5 + j.val := rfl
  have h' : (at512 (n := 1024) 1 (by omega) j).val = 512 * 1 + j.val := rfl
  refine (dif_neg (by omega)).trans <| (dif_neg (by omega)).trans <| (dif_neg (by omega)).trans <| (dif_neg (by omega)).trans <| (dif_pos (by omega)).trans <| congrArg a (congrArg (ix2 r ·) (Fin.ext ?_))
  dsimp only
  omega
theorem cat6 : val_main_v12 (F := Ideal) q k v u a b (ix2 r (at512 6 (by omega) j)) = b (ix2 r (at512 0 (by omega) j)) := by
  pointwise [val_main_v12]
  have h : (at512 (n := 4096) 6 (by omega) j).val = 512 * 6 + j.val := rfl
  have h' : (at512 (n := 1024) 0 (by omega) j).val = 512 * 0 + j.val := rfl
  refine (dif_neg (by omega)).trans <| (dif_neg (by omega)).trans <| (dif_neg (by omega)).trans <| (dif_neg (by omega)).trans <| (dif_neg (by omega)).trans <| congrArg b (congrArg (ix2 r ·) (Fin.ext ?_))
  dsimp only
  omega
theorem cat7 : val_main_v12 (F := Ideal) q k v u a b (ix2 r (at512 7 (by omega) j)) = b (ix2 r (at512 1 (by omega) j)) := by
  pointwise [val_main_v12]
  have h : (at512 (n := 4096) 7 (by omega) j).val = 512 * 7 + j.val := rfl
  have h' : (at512 (n := 1024) 1 (by omega) j).val = 512 * 1 + j.val := rfl
  refine (dif_neg (by omega)).trans <| (dif_neg (by omega)).trans <| (dif_neg (by omega)).trans <| (dif_neg (by omega)).trans <| (dif_neg (by omega)).trans <| congrArg b (congrArg (ix2 r ·) (Fin.ext ?_))
  dsimp only
  omega

theorem ref_at (w : S1024x4096.Idx → EReal) (d : S2048x1024.Idx → EReal) : val_main_v16 (F := Ideal) w d q k v u a b = total d q k v u a b w := funext fun i => by
  obtain ⟨r, l, rfl⟩ : ∃ (r : Fin 2048) (l : Fin 1024), i = ix2 r l := ⟨i 0, i 1, eq_ix2 i⟩
  have e : val_main_v15 (F := Ideal) w q k v u a b (ix2 r l) = ∑ x : Fin 4096, val_main_v12 (F := Ideal) q k v u a b (ix2 r x) * w (ix2 l x) := by
    unfold val_main_v15
    generalize val_main_v12 (F := Ideal) q k v u a b = z
    pointwise []
  have e' : val_main_v16 (F := Ideal) w d q k v u a b (ix2 r l) = Ideal.ofBits .f32 0x3FD744FD#32 * d (ix2 r l) + val_main_v15 (F := Ideal) w q k v u a b (ix2 r l) := by
    unfold val_main_v16 val_main_v14
    generalize val_main_v15 (F := Ideal) w q k v u a b = z
    pointwise [val_main_v13,val_main_cst_0]
  rw [e', e, sum_shards]
  simp only [cat0, cat1, cat2, cat3, cat4, cat5, cat6, cat7]
  simp only [← add_assoc]
  rfl

theorem claim : algebraic_Dh0Ideal_Dh0RefIdeal := fun m ρ m' ρ' _ hag => by
  have e := fun c => ref_at (argQ m c) (argK m c) (argV m c) (argU m c) (argA m c) (argB m c) (argW m c) (argC m c)
  refine ⟨fun c => total (argC m c) (argQ m c) (argK m c) (argV m c) (argU m c) (argA m c) (argB m c) (argW m c),
    (θ_run _ _ _).mono (fun _ h c => ⟨(h c).1.trans (final8 m c _ (tile8 m c)), (h c).2⟩) (Cert.Dh0Ideal.Value.run_blocks m ρ),
    (θ_run _ _ _).mono (fun _ h c => ⟨(h c).1.trans ((val_main_v16_eq _ _ _ _ _ _ _ _).trans ?_), (h c).2⟩) (Cert.Dh0RefIdeal.Value.run m' ρ')⟩
  obtain ⟨-, h1, -, h3, h4, h5, h6, h7, h8, h9⟩ := hag c
  rw [h1, h3, h4, h5, h6, h7, h8, h9]
  exact e c

end Cert.Step.Dh0

end
-- ==== Proof.UpFwd.lean ====
/-
  The up product: the kernel multiplies the rows with each shard of 704 rows of the transposed matrix and stores the products shard by
  shard; the plain product cut into the same columns gives the same, whatever the arguments hold.
-/
module

public import proofs.«01_k».proof.Proof.Norm
public import Idealize.ShloMosaic.Lib.Pipeline.ValueKit
public import proofs.«01_k».proof.Defs
public import proofs.«01_k».proof.Proof.Gen.UpFwdIdeal.Value
public import proofs.«01_k».proof.Proof.Gen.UpFwdRefIdeal.Read
public import proofs.«01_k».proof.Proof.Gen.UpFwdRefIdeal.Run

@[expose] public section

set_option maxRecDepth 16384

noncomputable section

open Idealize.ShloMosaic Idealize.ShloMosaic.TcCoe Idealize.SL.Sem
open Idealize.ShloMosaic.Pipeline (Dat)

namespace Cert.UpFwdIdeal.Value

open Cert.UpFwdIdeal Cert.UpFwdIdeal.Gen Cert.Step

variable (m : (ℓ : Loc nD τ sig) → Buf (Elt Ideal) ℓ) (ρ : Dev nD → PrngReg)
/-- The rows and the matrix as arrays. -/
abbrev argH (c : Dev nD) : S2048x1024.Idx → EReal := m ((c : Thread nD τ).loc main_arg0)
abbrev argW (c : Dev nD) : S1024x5632.Idx → EReal := m ((c : Thread nD τ).loc main_arg1)

theorem V_v0 (c : Dev nD) : V m c main_v0 = argH m c := by
  unfold V hostOps0
  after_results <;> rfl
theorem V_v3 (c : Dev nD) (p : Fin 8) (q : Fin 704) (k : Fin 1024) :
    (V m c main_v3 : S8x704x1024.Idx → EReal) (ix3 p q k) = argW m c (ix2 k ⟨p.val * 704 + q.val, by omega⟩) := by
  have h : V m c main_v3 = shapeCast S8x704x1024 (transpose S5632x1024 [1, 0] (argW m c) transposes_S1024x5632_S5632x1024_1_0) shapeCasts_S5632x1024_S8x704x1024 := by
    unfold V hostOps0
    after_results <;> rfl
  rw [h]
  pointwise []

theorem shard_lt (t : Fin cfg0.N) : t.val < 8 := lt_of_lt_of_eq t.isLt (show cfg0.N = 8 from N_0)

theorem index_all : ∀ t : Fin cfg0.N, win0_0.index t = ![0, 0] ∧ win0_1.index t = ![t.val, 0, 0] ∧ win0_2.index t = ![t.val, 0, 0] :=
  (by decide +kernel : ∀ t : Fin grid0.N, _)

theorem blkH (c : Dev nD) (t : Fin cfg0.N) (s : Fin 2048) (k : Fin 1024) :
    (iblk m c 0 t : Vec Ideal S2048x1024 .bf16) (ix2 s k) = argH m c (ix2 s k) := by
  blk_simp [iblk]
  rw [V_v0]
  refine congrArg _ ?_
  blk_ext [index_all]
theorem blkW (c : Dev nD) (t : Fin cfg0.N) (q : Fin 704) (k : Fin 1024) :
    (iblk m c 1 t : Vec Ideal S1x704x1024 .bf16) (ix3 0 q k) = argW m c (ix2 k ⟨t.val * 704 + q.val, by have := shard_lt t; omega⟩) := by
  rw [← V_v3 m c ⟨t.val, shard_lt t⟩ q k]
  blk_simp [iblk]
  refine congrArg _ ?_
  blk_ext [index_all]
theorem final2 (c : Dev nD) (A : S8x2048x704.Idx → EReal)
    (h : ∀ (t : Fin cfg0.N) (s : Fin 2048) (q : Fin 704), (out0_2 (F := Ideal) (iblk m c 0 t) (iblk m c 1 t) : Vec Ideal S1x2048x704 .bf16) (ix3 0 s q) = A (ix3 ⟨t.val, shard_lt t⟩ s q)) :
    (dats m 0 c).arrAt 2 cfg0.N = A := by
  refine (dats m 0 c).arrAt_eq_of_covers 2 A (by decide +kernel) fun t _ (y : S1x2048x704.Idx) => ?_
  have hy : y = ix3 0 (y 1) (y 2) := (eq_ix3 y).trans (congrArg (ix3 · _ _) (Subsingleton.elim (α := Fin 1) _ _))
  blk_simp
  rw [after0_2, hy]
  refine (h t _ _).trans (congrArg A ?_)
  blk_ext [index_all]

/-- The product, shard by shard. -/
def shards (x : S2048x1024.Idx → EReal) (w : S1024x5632.Idx → EReal) : S8x2048x704.Idx → EReal :=
  fun i => ∑ k : Fin 1024, x (ix2 (i 1) k) * w (ix2 k ⟨(i 0).val * 704 + (i 2).val, by have h0 : (i 0).val < 8 := (i 0).isLt; have h2 : (i 2).val < 704 := (i 2).isLt; omega⟩)

theorem pay_at (x : Vec Ideal S2048x1024 .bf16) (w : Vec Ideal S1x704x1024 .bf16) (s : Fin 2048) (q : Fin 704) :
    k0_pay1 (F := Ideal) x w (ix3 0 s q) = ∑ k : Fin 1024, x (ix2 s k) * w (ix3 0 q k) := by
  pointwise [k0_pay1]

theorem tile2 (c : Dev nD) (t : Fin cfg0.N) (s : Fin 2048) (q : Fin 704) :
    (out0_2 (F := Ideal) (iblk m c 0 t) (iblk m c 1 t) : Vec Ideal S1x2048x704 .bf16) (ix3 0 s q) = shards (argH m c) (argW m c) (ix3 ⟨t.val, shard_lt t⟩ s q) := by
  unfold out0_2
  rw [View.canon_unit_zero hz3]
  simp only [View.ld_unit_zero (S := S2048x1024) hz2, View.ld_unit_zero (S := S1x704x1024) hz3]
  rw [pay_at]
  refine Finset.sum_congr rfl fun k _ => ?_
  rw [blkH, blkW]
  rfl

end Cert.UpFwdIdeal.Value

namespace Cert.Step.UpFwd

open Cert.UpFwdIdeal.Value (argH argW shards final2 tile2)
open Cert.UpFwdRefIdeal Cert.UpFwdRefIdeal.Gen Cert.UpFwdRefIdeal.Read

theorem ref_at (x : S2048x1024.Idx → EReal) (w : S1024x5632.Idx → EReal) : val_main_v3 (F := Ideal) x w = shards x w := funext fun i => by
  obtain ⟨p, s, q, rfl⟩ : ∃ (p : Fin 8) (s : Fin 2048) (q : Fin 704), i = ix3 p s q := ⟨i 0, i 1, i 2, eq_ix3 i⟩
  pointwise [val_main_v3,val_main_v2,val_main_v1,val_main_v0]
  rfl

theorem claim : algebraic_UpFwdIdeal_UpFwdRefIdeal := fun m ρ m' ρ' _ hag =>
  ⟨fun c => shards (argH m c) (argW m c),
    (θ_run _ _ _).mono (fun _ h c => ⟨(h c).1.trans (final2 m c _ (tile2 m c)), (h c).2⟩) (Cert.UpFwdIdeal.Value.run_blocks m ρ),
    (θ_run _ _ _).mono (fun _ h c => ⟨(h c).1.trans ((val_main_v3_eq _ _).trans (by rw [(hag c).1, (hag c).2]; exact ref_at (argH m c) (argW m c))), (h c).2⟩)
      (Cert.UpFwdRefIdeal.Value.run m' ρ')⟩

end Cert.Step.UpFwd

end
-- ==== Proof.Adam.lean ====
/-
  The optimiser's step: the kernel and the reference's lines compute the same terms element by element, whatever the arguments hold.
-/
module

public import Idealize.ShloMosaic.Lib.Pipeline.ValueKit
public import proofs.«01_k».proof.Defs
public import proofs.«01_k».proof.Proof.Gen.AdamIdeal.Value
public import proofs.«01_k».proof.Proof.Gen.AdamRefIdeal.Read
public import proofs.«01_k».proof.Proof.Gen.AdamRefIdeal.Run

@[expose] public section

noncomputable section

open Idealize.ShloMosaic Idealize.SL.Sem

namespace Cert.Step.Adam

open Idealize.ShloMosaic.TcCoe
open Cert.AdamIdeal
open Cert.AdamIdeal.Value (G4 G5 G6)
open Cert.AdamRefIdeal.Read (val_main_v4 val_main_v10 val_main_v23 val_main_v4_eq val_main_v10_eq val_main_v23_eq)

variable (g w μ ν : S4x1024.Idx → EReal)

theorem moment_eq : val_main_v4 (F := Ideal) g μ = G5 (F := Ideal) g μ := funext fun _ => rfl
theorem square_eq : val_main_v10 (F := Ideal) g ν = G6 (F := Ideal) g ν := funext fun _ => rfl
theorem delta_eq : val_main_v23 (F := Ideal) g w μ ν = G4 (F := Ideal) w g μ ν := funext fun _ => rfl

/-- The arguments as arrays. -/
abbrev args (m : (ℓ : Loc nD τ sig) → Buf (Elt Ideal) ℓ) (c : Dev nD) : (S4x1024.Idx → EReal) × (S4x1024.Idx → EReal) × (S4x1024.Idx → EReal) × (S4x1024.Idx → EReal) :=
  (m ((c : Thread nD τ).loc main_arg0), m ((c : Thread nD τ).loc main_arg1), m ((c : Thread nD τ).loc main_arg2), m ((c : Thread nD τ).loc main_arg3))

theorem claim : algebraic_AdamIdeal_AdamRefIdeal := fun m ρ m' ρ' _ hag =>
  ⟨fun c => G4 (F := Ideal) (args m c).2.1 (args m c).1 (args m c).2.2.1 (args m c).2.2.2,
    fun c => G5 (F := Ideal) (args m c).1 (args m c).2.2.1,
    fun c => G6 (F := Ideal) (args m c).1 (args m c).2.2.2,
    Cert.AdamIdeal.Value.run m ρ,
    (θ_run _ _ _).mono (fun _ h c => ⟨(h c).1.trans ((val_main_v23_eq _ _ _ _).trans (by rw [(hag c).1, (hag c).2.1, (hag c).2.2.1, (hag c).2.2.2]; exact delta_eq _ _ _ _)),
        (h c).2.1.trans ((val_main_v4_eq _ _).trans (by rw [(hag c).1, (hag c).2.2.1]; exact moment_eq _ _)),
        (h c).2.2.1.trans ((val_main_v10_eq _ _).trans (by rw [(hag c).1, (hag c).2.2.2]; exact square_eq _ _)), (h c).2.2.2⟩)
      (Cert.AdamRefIdeal.Value.run m' ρ')⟩

end Cert.Step.Adam

end
-- ==== Proof.Partials.lean ====
/-
  The sum over the devices: the kernel adds the eight parts one after the other, the reference adds them all; the sums are the same whatever
  the parts hold.
-/
module

public import proofs.«01_k».proof.Proof.Norm
public import Idealize.ShloMosaic.Lib.Pipeline.ValueKit
public import proofs.«01_k».proof.Defs
public import proofs.«01_k».proof.Proof.Gen.PartialsIdeal.Value
public import proofs.«01_k».proof.Proof.Gen.PartialsRefIdeal.Read
public import proofs.«01_k».proof.Proof.Gen.PartialsRefIdeal.Run

@[expose] public section

set_option maxRecDepth 16384

noncomputable section

open Idealize.ShloMosaic Idealize.ShloMosaic.TcCoe Idealize.SL.Sem
open Idealize.ShloMosaic.Pipeline (Dat)

namespace Cert.PartialsIdeal.Value

open Cert.PartialsIdeal Cert.PartialsIdeal.Gen Cert.Step

variable (m : (ℓ : Loc nD τ sig) → Buf (Elt Ideal) ℓ) (ρ : Dev nD → PrngReg)
/-- The gathered parts as an array. -/
abbrev argX (c : Dev nD) : S8x264x1024.Idx → EReal := m ((c : Thread nD τ).loc main_arg0)

theorem index_all : ∀ t : Fin cfg0.N, win0_0.index t = ![0, t.val, 0] ∧ win0_1.index t = ![t.val, 0] :=
  (by decide +kernel : ∀ t : Fin grid0.N, _)

/-- The row at place `r` of point `t`'s block. -/
def row (t : Fin cfg0.N) (r : Fin 88) : Fin 264 := ⟨t.val * 88 + r.val, by have := lt_of_lt_of_eq t.isLt (show cfg0.N = 3 from N_0); omega⟩

theorem blkX (c : Dev nD) (t : Fin cfg0.N) (d : Fin 8) (r : Fin 88) (l : Fin 1024) :
    (iblk m c 0 t : Vec Ideal S8x88x1024 .f32) (ix3 d r l) = argX m c (ix3 d (row t r) l) := by
  blk_simp [iblk]
  rw [V_main_arg0]
  refine congrArg (argX m c) ?_
  unfold row
  blk_ext [index_all]

/-- The sum. -/
def total (x : S8x264x1024.Idx → EReal) : S264x1024.Idx → EReal := fun i => ∑ d : Fin 8, x (ix3 d (i 0) (i 1))

theorem out_at (x : Vec Ideal S8x88x1024 .f32) (r : Fin 88) (l : Fin 1024) : out0_1 (F := Ideal) x (ix2 r l) = ∑ d : Fin 8, x (ix3 d r l) := by
  unfold out0_1
  rw [canon1_eq, Fin.sum_univ_eight]
  have e (d : Nat) (hd : d < 8) (h) (y : S1x88x1024.Idx) (hy : y = ix3 0 r l) :
      View.ld x (Rect.unit (s := S8x88x1024) ![d, 0, 0] S1x88x1024.size h) y = x (ix3 ⟨d, hd⟩ r l) := by
    subst hy
    refine congrArg x (funext fun a => Fin.ext ?_)
    match a with
    | ⟨0, _⟩ => rfl
    | ⟨1, _⟩ => exact (Nat.zero_add _).trans (Nat.one_mul _)
    | ⟨2, _⟩ => exact (Nat.zero_add _).trans (Nat.one_mul _)
  have hy : ix1_0 (ix2 r l) = ix3 0 r l := funext fun a => by match a with
    | ⟨0, _⟩ => rfl
    | ⟨1, _⟩ => rfl
    | ⟨2, _⟩ => rfl
  unfold E1
  rw [e 0 (by omega) _ _ hy, e 1 (by omega) _ _ hy, e 2 (by omega) _ _ hy, e 3 (by omega) _ _ hy, e 4 (by omega) _ _ hy, e 5 (by omega) _ _ hy, e 6 (by omega) _ _ hy, e 7 (by omega) _ _ hy]
  rfl

theorem final1 (c : Dev nD) : (dats m 0 c).arrAt 1 cfg0.N = total (argX m c) := by
  refine (dats m 0 c).arrAt_eq_of_covers 1 (total (argX m c)) (by decide +kernel) fun t _ (y : S88x1024.Idx) => ?_
  blk_simp
  rw [after0_1, eq_ix2 y]
  refine (out_at (iblk m c 0 t) _ _).trans (Eq.trans (b := ∑ d : Fin 8, argX m c (ix3 d (row t (y 0)) (y 1))) (Finset.sum_congr rfl fun d _ => blkX m c t d _ _) ?_)
  refine (congrArg (total (argX m c)) (?_ : (ix2 (row t (y 0)) (y 1) : S264x1024.Idx) = _))
  unfold row
  blk_ext [index_all]

end Cert.PartialsIdeal.Value

namespace Cert.Step.Partials

open Cert.PartialsIdeal.Value (argX total final1)
open Cert.PartialsRefIdeal Cert.PartialsRefIdeal.Gen Cert.PartialsRefIdeal.Read

theorem ref_at (x : S8x264x1024.Idx → EReal) : val_main_v0 (F := Ideal) x = total x := funext fun i => by
  obtain ⟨r, l, rfl⟩ : ∃ (r : Fin 264) (l : Fin 1024), i = ix2 r l := ⟨i 0, i 1, eq_ix2 i⟩
  rw [val_main_v0_apply]
  refine (congrArg (· + _) Ideal.ofBits_zero_f32).trans ((zero_add _).trans (Finset.sum_congr rfl fun d _ => congrArg x ?_))
  funext a
  match a with
    | ⟨0, _⟩ => rfl
    | ⟨1, _⟩ => rfl
    | ⟨2, _⟩ => rfl

theorem claim : algebraic_PartialsIdeal_PartialsRefIdeal := fun m ρ m' ρ' _ hag =>
  ⟨fun c => total (argX m c),
    (θ_run _ _ _).mono (fun _ h c => ⟨(h c).1.trans (final1 m c), (h c).2⟩) (Cert.PartialsIdeal.Value.run_blocks m ρ),
    (θ_run _ _ _).mono (fun _ h c => ⟨(h c).1.trans ((val_main_v0_eq _).trans (by rw [hag c]; exact ref_at (argX m c))), (h c).2⟩)
      (Cert.PartialsRefIdeal.Value.run m' ρ')⟩

end Cert.Step.Partials

end
-- ==== Proof.AdamShard.lean ====
/-
  The optimiser's step on a shard of one layer: the kernel adds the received parts to the device's own, steps that layer and leaves the stacks'
  other layers as they were; the reference's lines give the same stacks, whatever the arguments hold.
-/
module

public import proofs.«01_k».proof.Proof.Norm
public import Idealize.ShloMosaic.Lib.Pipeline.ValueKit
public import Idealize.ShloMosaic.Lib.Pipeline.ValueKit.Partial
public import proofs.«01_k».proof.Defs
public import proofs.«01_k».proof.Proof.Gen.AdamShardIdeal.Value
public import proofs.«01_k».proof.Proof.Gen.AdamShardRefIdeal.Read
public import proofs.«01_k».proof.Proof.Gen.AdamShardRefIdeal.Run

@[expose] public section

set_option maxRecDepth 16384

noncomputable section

open Idealize.ShloMosaic Idealize.ShloMosaic.TcCoe Idealize.SL.Sem
open Idealize.ShloMosaic.Pipeline (Dat)

namespace Cert.AdamShardIdeal.Value

open Cert.AdamShardIdeal Cert.AdamShardIdeal.Gen Cert.Step

/-- One element's first moment, second moment and step. -/
def mom (q g : EReal) : EReal := Ideal.ofBits .f32 0x3F666666#32 * q + Ideal.ofBits .f32 0x3DCCCCCD#32 * g
def sqm (q g : EReal) : EReal := Ideal.ofBits .f32 0x3F7FBE77#32 * q + Ideal.ofBits .f32 0x3A83126F#32 * (g * g)
def step (w μ ν : EReal) : EReal :=
  Ideal.ofBits .f32 0xBA83126F#32 * (Ideal.div (Ideal.div μ (Ideal.ofBits .f32 0x3F26BD02#32))
    (Ideal.sqrt (Ideal.div ν (Ideal.ofBits .f32 0x3C231ACC#32)) + Ideal.ofBits .f32 0x322BCC77#32) + Ideal.ofBits .f32 0x3C23D70A#32 * w)

/-- The shard's gradient, moments and step, and a stack whose last layer they fill. -/
def grad (o : S704x1024.Idx → EReal) (x : S3x704x1024.Idx → EReal) (i : S704x1024.Idx) : EReal :=
  o i + x (ix3 0 (i 0) (i 1)) + x (ix3 1 (i 0) (i 1)) + x (ix3 2 (i 0) (i 1))
def last (p : S4x704x1024.Idx → EReal) (i : S704x1024.Idx) : EReal := p (ix3 3 (i 0) (i 1))
def moment (g : S704x1024.Idx → EReal) (μ : S4x704x1024.Idx → EReal) (i : S704x1024.Idx) : EReal := mom (last μ i) (g i)
def square (g : S704x1024.Idx → EReal) (ν : S4x704x1024.Idx → EReal) (i : S704x1024.Idx) : EReal := sqm (last ν i) (g i)
def delta (g : S704x1024.Idx → EReal) (w μ ν : S4x704x1024.Idx → EReal) (i : S704x1024.Idx) : EReal := step (last w i) (moment g μ i) (square g ν i)
def stack (p : S4x704x1024.Idx → EReal) (f : S704x1024.Idx → EReal) : S4x704x1024.Idx → EReal :=
  fun i => if (i 0 : ℕ) / 1 = 3 then f (ix2 (i 1) (i 2)) else p i

section Payload

variable (r : Fin 352) (l : Fin 1024) (o : Vec Ideal S352x1024 .f32) (a b d : Vec Ideal S1x352x1024 .bf16) (q : Vec Ideal S1x352x1024 .f32)

theorem pay5_at : k0_pay5 (F := Ideal) o a b d (ix2 r l) = o (ix2 r l) + a (ix3 0 r l) + b (ix3 0 r l) + d (ix3 0 r l) := by
  pointwise [k0_pay5]
theorem pay6_at : k0_pay6 (F := Ideal) q (ix2 r l) = q (ix3 0 r l) := by
  pointwise [k0_pay6]
theorem pay7_at : k0_pay7 (F := Ideal) o a b d q (ix2 r l) = mom (q (ix3 0 r l)) (k0_pay5 (F := Ideal) o a b d (ix2 r l)) :=
  congrArg (mom · _) (pay6_at r l q)
theorem pay8_at : k0_pay8 (F := Ideal) o a b d q (ix2 r l) = sqm (q (ix3 0 r l)) (k0_pay5 (F := Ideal) o a b d (ix2 r l)) :=
  congrArg (sqm · _) (pay6_at r l q)
theorem pay1_at (x : FVec Ideal S352x1024 .f32) : k0_pay1 (F := Ideal) x (ix3 0 r l) = x (ix2 r l) := by
  pointwise [k0_pay1]
theorem pay2_at (μ ν : Vec Ideal S1x352x1024 .f32) : k0_pay2 (F := Ideal) (k0_pay6 (F := Ideal) q) (k0_pay8 (F := Ideal) o a b d ν) (k0_pay9 (F := Ideal) o a b d μ) (k0_pay10 (F := Ideal)) (ix3 0 r l)
    = step (q (ix3 0 r l)) (k0_pay7 (F := Ideal) o a b d μ (ix2 r l)) (k0_pay8 (F := Ideal) o a b d ν (ix2 r l)) :=
  (pay1_at r l _).trans (congrArg (step · _ _) (pay6_at r l q))

end Payload

variable (m : (ℓ : Loc nD τ sig) → Buf (Elt Ideal) ℓ) (ρ : Dev nD → PrngReg)
/-- The device's own part, the received ones, the weights, the moments and the four stacks as arrays. -/
abbrev argO (c : Dev nD) : S704x1024.Idx → EReal := m ((c : Thread nD τ).loc main_arg0)
abbrev argR (c : Dev nD) : S3x704x1024.Idx → EReal := m ((c : Thread nD τ).loc main_arg1)
abbrev argW (c : Dev nD) : S4x704x1024.Idx → EReal := m ((c : Thread nD τ).loc main_arg2)
abbrev argM (c : Dev nD) : S4x704x1024.Idx → EReal := m ((c : Thread nD τ).loc main_arg3)
abbrev argN (c : Dev nD) : S4x704x1024.Idx → EReal := m ((c : Thread nD τ).loc main_arg4)
abbrev argPG (c : Dev nD) : S4x704x1024.Idx → EReal := m ((c : Thread nD τ).loc main_arg5)
abbrev argPD (c : Dev nD) : S4x704x1024.Idx → EReal := m ((c : Thread nD τ).loc main_arg6)
abbrev argPM (c : Dev nD) : S4x704x1024.Idx → EReal := m ((c : Thread nD τ).loc main_arg7)
abbrev argPV (c : Dev nD) : S4x704x1024.Idx → EReal := m ((c : Thread nD τ).loc main_arg8)

theorem V_v0 (c : Dev nD) : V m c main_v0 = argR m c := by
  unfold V hostOps0
  after_results <;> rfl
theorem V_v1_0 (c : Dev nD) : V m c main_v1_0 = argPG m c := by
  unfold V hostOps0
  after_results <;> rfl
theorem V_v1_1 (c : Dev nD) : V m c main_v1_1 = argPD m c := by
  unfold V hostOps0
  after_results <;> rfl
theorem V_v1_2 (c : Dev nD) : V m c main_v1_2 = argPM m c := by
  unfold V hostOps0
  after_results <;> rfl
theorem V_v1_3 (c : Dev nD) : V m c main_v1_3 = argPV m c := by
  unfold V hostOps0
  after_results <;> rfl

theorem index_all : ∀ t : Fin cfg0.N, win0_0.index t = ![t.val, 0] ∧ win0_1.index t = ![0, t.val, 0] ∧ win0_2.index t = ![3, t.val, 0] ∧ win0_3.index t = ![3, t.val, 0] ∧ win0_4.index t = ![3, t.val, 0]
    ∧ win0_5.index t = ![3, t.val, 0] ∧ win0_6.index t = ![3, t.val, 0] ∧ win0_7.index t = ![3, t.val, 0] ∧ win0_8.index t = ![3, t.val, 0] :=
  (by decide +kernel : ∀ t : Fin grid0.N, _)

/-- The row at place `r` of point `t`'s block. -/
def row (t : Fin cfg0.N) (r : Fin 352) : Fin 704 := ⟨t.val * 352 + r.val, by have := lt_of_lt_of_eq t.isLt (show cfg0.N = 2 from N_0); omega⟩

section Block

variable (c : Dev nD) (t : Fin cfg0.N) (r : Fin 352) (l : Fin 1024)

theorem blkO : (iblk m c 0 t : Vec Ideal S352x1024 .f32) (ix2 r l) = argO m c (ix2 (row t r) l) := by
  blk_simp [iblk]
  rw [V_main_arg0]
  refine congrArg (argO m c) ?_
  unfold row
  blk_ext [index_all]
theorem blkR (d : Fin 3) : (iblk m c 1 t : Vec Ideal S3x352x1024 .bf16) (ix3 d r l) = argR m c (ix3 d (row t r) l) := by
  blk_simp [iblk]
  rw [V_v0]
  refine congrArg (argR m c) ?_
  unfold row
  blk_ext [index_all]
theorem blkW : (iblk m c 2 t : Vec Ideal S1x352x1024 .f32) (ix3 0 r l) = last (argW m c) (ix2 (row t r) l) := by
  blk_simp [iblk]
  rw [V_main_arg2]
  refine congrArg (argW m c) ?_
  unfold row
  blk_ext [index_all]
theorem blkM : (iblk m c 3 t : Vec Ideal S1x352x1024 .f32) (ix3 0 r l) = last (argM m c) (ix2 (row t r) l) := by
  blk_simp [iblk]
  rw [V_main_arg3]
  refine congrArg (argM m c) ?_
  unfold row
  blk_ext [index_all]
theorem blkN : (iblk m c 4 t : Vec Ideal S1x352x1024 .f32) (ix3 0 r l) = last (argN m c) (ix2 (row t r) l) := by
  blk_simp [iblk]
  rw [V_main_arg4]
  refine congrArg (argN m c) ?_
  unfold row
  blk_ext [index_all]

/-- The received parts' pages at a place of the block. -/
theorem page (x : Vec Ideal S3x352x1024 .bf16) (d : Nat) (hd : d < 3) (h) : View.ld x (Rect.unit (s := S3x352x1024) ![d, 0, 0] S1x352x1024.size h) (ix3 0 r l) = x (ix3 ⟨d, hd⟩ r l) := by
  refine congrArg x (funext fun a => Fin.ext ?_)
  match a with
  | ⟨0, _⟩ => rfl
  | ⟨1, _⟩ => exact (Nat.zero_add _).trans (Nat.one_mul _)
  | ⟨2, _⟩ => exact (Nat.zero_add _).trans (Nat.one_mul _)

/-- The gradient of an argument's arrays. -/
abbrev gradient (c : Dev nD) : S704x1024.Idx → EReal := grad (argO m c) (argR m c)

theorem grad_at (h0) (h1) (h2) : k0_pay5 (F := Ideal) (iblk m c 0 t) (View.ld (iblk m c 1 t) (Rect.unit (s := S3x352x1024) ![0, 0, 0] S1x352x1024.size h0)) (View.ld (iblk m c 1 t) (Rect.unit (s := S3x352x1024) ![1, 0, 0] S1x352x1024.size h1))
    (View.ld (iblk m c 1 t) (Rect.unit (s := S3x352x1024) ![2, 0, 0] S1x352x1024.size h2)) (ix2 r l) = gradient m c (ix2 (row t r) l) := by
  rw [pay5_at, page r l _ 0 (by omega), page r l _ 1 (by omega), page r l _ 2 (by omega), blkO, blkR, blkR, blkR]
  rfl

theorem mom_at (h0) (h1) (h2) : k0_pay7 (F := Ideal) (iblk m c 0 t) (View.ld (iblk m c 1 t) (Rect.unit (s := S3x352x1024) ![0, 0, 0] S1x352x1024.size h0)) (View.ld (iblk m c 1 t) (Rect.unit (s := S3x352x1024) ![1, 0, 0] S1x352x1024.size h1)) (View.ld (iblk m c 1 t) (Rect.unit (s := S3x352x1024) ![2, 0, 0] S1x352x1024.size h2)) (iblk m c 3 t) (ix2 r l) = moment (gradient m c) (argM m c) (ix2 (row t r) l) :=
  (pay7_at r l _ _ _ _ _).trans (congrArg₂ mom (blkM m c t r l) (grad_at m c t r l h0 h1 h2))
theorem sq_at (h0) (h1) (h2) : k0_pay8 (F := Ideal) (iblk m c 0 t) (View.ld (iblk m c 1 t) (Rect.unit (s := S3x352x1024) ![0, 0, 0] S1x352x1024.size h0)) (View.ld (iblk m c 1 t) (Rect.unit (s := S3x352x1024) ![1, 0, 0] S1x352x1024.size h1)) (View.ld (iblk m c 1 t) (Rect.unit (s := S3x352x1024) ![2, 0, 0] S1x352x1024.size h2)) (iblk m c 4 t) (ix2 r l) = square (gradient m c) (argN m c) (ix2 (row t r) l) :=
  (pay8_at r l _ _ _ _ _).trans (congrArg₂ sqm (blkN m c t r l) (grad_at m c t r l h0 h1 h2))

theorem tile5 : ((outsAt0 (F := Ideal) m c t).1 : Vec Ideal S1x352x1024 .f32) (ix3 0 r l) = (gradient m c) (ix2 (row t r) l) := by
  unfold outsAt0
  frame_out
  exact (pay1_at r l _).trans (grad_at m c t r l _ _ _)

theorem tile6 : ((outsAt0 (F := Ideal) m c t).2.1 : Vec Ideal S1x352x1024 .f32) (ix3 0 r l) = (delta (gradient m c) (argW m c) (argM m c) (argN m c)) (ix2 (row t r) l) := by
  unfold outsAt0
  frame_out
  exact (pay2_at r l _ _ _ _ _ _ _).trans (congr (congrArg₂ step (blkW m c t r l) (mom_at m c t r l _ _ _)) (sq_at m c t r l _ _ _))

theorem tile7 : ((outsAt0 (F := Ideal) m c t).2.2.1 : Vec Ideal S1x352x1024 .f32) (ix3 0 r l) = (moment (gradient m c) (argM m c)) (ix2 (row t r) l) := by
  unfold outsAt0
  frame_out
  exact (pay1_at r l _).trans (mom_at m c t r l _ _ _)

theorem tile8 : ((outsAt0 (F := Ideal) m c t).2.2.2 : Vec Ideal S1x352x1024 .f32) (ix3 0 r l) = (square (gradient m c) (argN m c)) (ix2 (row t r) l) := by
  unfold outsAt0
  frame_out
  exact (pay1_at r l _).trans (sq_at m c t r l _ _ _)

end Block

theorem final5 (c : Dev nD) : (dats m 0 c).arrAt 5 cfg0.N = stack (argPG m c) (gradient m c) := by
  have h := (dats m 0 c).arrAt_eq_of_coversWhere 5 (fun i : S4x704x1024.Idx => (gradient m c) (ix2 (i 1) (i 2))) (P := fun i : S4x704x1024.Idx => (i 0 : ℕ) / 1 = 3) (fun β => β (0 : Fin 3) = 3) (by decide +kernel)
    (fun t _ (y : S1x352x1024.Idx) => by
      have hy : y = ix3 0 (y 1) (y 2) := (eq_ix3 y).trans (congrArg (ix3 · _ _) (Subsingleton.elim (α := Fin 1) _ _))
      blk_simp
      rw [after0_5, hy]
      refine (tile5 m c t _ _).trans (congrArg _ ?_)
      unfold row
      blk_ext [index_all]) (fun j => Iff.rfl)
  refine h.trans ?_
  rw [show (dats m 0 c).A 5 = argPG m c from V_v1_0 m c]
  rfl

theorem final6 (c : Dev nD) : (dats m 0 c).arrAt 6 cfg0.N = stack (argPD m c) (delta (gradient m c) (argW m c) (argM m c) (argN m c)) := by
  have h := (dats m 0 c).arrAt_eq_of_coversWhere 6 (fun i : S4x704x1024.Idx => (delta (gradient m c) (argW m c) (argM m c) (argN m c)) (ix2 (i 1) (i 2))) (P := fun i : S4x704x1024.Idx => (i 0 : ℕ) / 1 = 3) (fun β => β (0 : Fin 3) = 3) (by decide +kernel)
    (fun t _ (y : S1x352x1024.Idx) => by
      have hy : y = ix3 0 (y 1) (y 2) := (eq_ix3 y).trans (congrArg (ix3 · _ _) (Subsingleton.elim (α := Fin 1) _ _))
      blk_simp
      rw [after0_6, hy]
      refine (tile6 m c t _ _).trans (congrArg _ ?_)
      unfold row
      blk_ext [index_all]) (fun j => Iff.rfl)
  refine h.trans ?_
  rw [show (dats m 0 c).A 6 = argPD m c from V_v1_1 m c]
  rfl

theorem final7 (c : Dev nD) : (dats m 0 c).arrAt 7 cfg0.N = stack (argPM m c) (moment (gradient m c) (argM m c)) := by
  have h := (dats m 0 c).arrAt_eq_of_coversWhere 7 (fun i : S4x704x1024.Idx => (moment (gradient m c) (argM m c)) (ix2 (i 1) (i 2))) (P := fun i : S4x704x1024.Idx => (i 0 : ℕ) / 1 = 3) (fun β => β (0 : Fin 3) = 3) (by decide +kernel)
    (fun t _ (y : S1x352x1024.Idx) => by
      have hy : y = ix3 0 (y 1) (y 2) := (eq_ix3 y).trans (congrArg (ix3 · _ _) (Subsingleton.elim (α := Fin 1) _ _))
      blk_simp
      rw [after0_7, hy]
      refine (tile7 m c t _ _).trans (congrArg _ ?_)
      unfold row
      blk_ext [index_all]) (fun j => Iff.rfl)
  refine h.trans ?_
  rw [show (dats m 0 c).A 7 = argPM m c from V_v1_2 m c]
  rfl

theorem final8 (c : Dev nD) : (dats m 0 c).arrAt 8 cfg0.N = stack (argPV m c) (square (gradient m c) (argN m c)) := by
  have h := (dats m 0 c).arrAt_eq_of_coversWhere 8 (fun i : S4x704x1024.Idx => (square (gradient m c) (argN m c)) (ix2 (i 1) (i 2))) (P := fun i : S4x704x1024.Idx => (i 0 : ℕ) / 1 = 3) (fun β => β (0 : Fin 3) = 3) (by decide +kernel)
    (fun t _ (y : S1x352x1024.Idx) => by
      have hy : y = ix3 0 (y 1) (y 2) := (eq_ix3 y).trans (congrArg (ix3 · _ _) (Subsingleton.elim (α := Fin 1) _ _))
      blk_simp
      rw [after0_8, hy]
      refine (tile8 m c t _ _).trans (congrArg _ ?_)
      unfold row
      blk_ext [index_all]) (fun j => Iff.rfl)
  refine h.trans ?_
  rw [show (dats m 0 c).A 8 = argPV m c from V_v1_3 m c]
  rfl

end Cert.AdamShardIdeal.Value

namespace Cert.Step.AdamShard

open Cert.AdamShardIdeal.Value (grad last moment square delta stack mom sqm step argO argR argW argM argN argPG argPD argPM argPV final5 final6 final7 final8)
open Cert.AdamShardRefIdeal Cert.AdamShardRefIdeal.Gen Cert.AdamShardRefIdeal.Read

variable (o : S704x1024.Idx → EReal) (x : S3x704x1024.Idx → EReal) (w μ ν p : S4x704x1024.Idx → EReal)

theorem grad_eq : val_main_v1 (F := Ideal) o x = grad o x := funext fun i => by
  obtain ⟨r, l, rfl⟩ : ∃ (r : Fin 704) (l : Fin 1024), i = ix2 r l := ⟨i 0, i 1, eq_ix2 i⟩
  have h : val_main_v0 (F := Ideal) x (ix2 r l) = ∑ d : Fin 3, x (ix3 d r l) := by
    rw [val_main_v0_apply]
    refine (congrArg (· + _) Ideal.ofBits_zero_f32).trans ((zero_add _).trans (Finset.sum_congr rfl fun d _ => congrArg x ?_))
    funext a
    match a with
    | ⟨0, _⟩ => rfl
    | ⟨1, _⟩ => rfl
    | ⟨2, _⟩ => rfl
  refine (congrArg (o (ix2 r l) + ·) (h.trans (Fin.sum_univ_three _))).trans ?_
  rw [← add_assoc, ← add_assoc]
  rfl

theorem last_eq : val_main_v3 (F := Ideal) p = last p := funext fun i => by
  obtain ⟨r, l, rfl⟩ : ∃ (r : Fin 704) (l : Fin 1024), i = ix2 r l := ⟨i 0, i 1, eq_ix2 i⟩
  rw [val_main_v3_apply, val_main_v2_apply]
  refine congrArg p (funext fun a => Fin.ext ?_)
  match a with
  | ⟨0, _⟩ => rfl
  | ⟨1, _⟩ => show (r.val * 1024 + l.val) / 1024 % 704 = r.val; omega
  | ⟨2, _⟩ => show (r.val * 1024 + l.val) % 1024 = l.val; omega

theorem moment_eq : val_main_v8 (F := Ideal) o x μ = moment (grad o x) μ := funext fun i =>
  congrArg₂ mom (congrFun (last_eq μ) i) (congrFun (grad_eq o x) i)
theorem square_eq : val_main_v16 (F := Ideal) o x ν = square (grad o x) ν := funext fun i =>
  congrArg₂ sqm (congrFun (last_eq ν) i) (congrFun (grad_eq o x) i)
theorem delta_eq : val_main_v31 (F := Ideal) o x w μ ν = delta (grad o x) w μ ν := funext fun i => by
  have h : val_main_v31 (F := Ideal) o x w μ ν i = step (val_main_v3 (F := Ideal) w i) (val_main_v8 (F := Ideal) o x μ i) (val_main_v16 (F := Ideal) o x ν i) := rfl
  rw [h, last_eq, moment_eq, square_eq]
  rfl

theorem stack_eq (f : S704x1024.Idx → EReal) (h) : concatenate S4x704x1024 0 [⟨S3x704x1024, val_main_v32 (F := Ideal) p⟩, ⟨S1x704x1024, broadcastInDim S1x704x1024 ![1, 2] bcast_S704x1024_S1x704x1024_1_2 f⟩] h = stack p f := funext fun i => by
  have h0 : (i 0).val < 4 := (i 0).isLt
  rw [concatenate_pair_apply]
  unfold stack
  by_cases hi : (i 0).val < 3
  · refine ((dif_pos hi).trans ?_).trans (if_neg (by omega)).symm
    rw [val_main_v32_apply]
    refine congrArg p (funext fun a => ?_)
    match a with
    | ⟨0, _⟩ => rfl
    | ⟨1, _⟩ => rfl
    | ⟨2, _⟩ => rfl
  · refine ((dif_neg hi).trans ?_).trans (if_pos (by omega)).symm
    refine congrArg f (funext fun a => ?_)
    match a with
    | ⟨0, _⟩ => rfl
    | ⟨1, _⟩ => rfl

theorem claim : algebraic_AdamShardIdeal_AdamShardRefIdeal := fun m ρ m' ρ' _ hag =>
  ⟨fun c => stack (argPG m c) (grad (argO m c) (argR m c)),
    fun c => stack (argPD m c) (delta (grad (argO m c) (argR m c)) (argW m c) (argM m c) (argN m c)),
    fun c => stack (argPM m c) (moment (grad (argO m c) (argR m c)) (argM m c)),
    fun c => stack (argPV m c) (square (grad (argO m c) (argR m c)) (argN m c)),
    (θ_run _ _ _).mono (fun _ h c => ⟨(h c).1.trans (final5 m c), (h c).2.1.trans (final6 m c), (h c).2.2.1.trans (final7 m c), (h c).2.2.2.1.trans (final8 m c), (h c).2.2.2.2⟩)
      (Cert.AdamShardIdeal.Value.run_blocks m ρ),
    (θ_run _ _ _).mono (fun _ h c => by
      obtain ⟨e0, e1, e2, e3, e4, e5, e6, e7, e8⟩ := hag c
      refine ⟨(h c).1.trans ((val_main_v34_eq _ _ _).trans ?_), (h c).2.1.trans ((val_main_v37_eq _ _ _ _ _ _).trans ?_), (h c).2.2.1.trans ((val_main_v40_eq _ _ _ _).trans ?_),
        (h c).2.2.2.1.trans ((val_main_v43_eq _ _ _ _).trans ?_), (h c).2.2.2.2⟩
      · rw [e0, e1, e5]
        exact (stack_eq (argPG m c) (val_main_v1 (F := Ideal) (argO m c) (argR m c)) _).trans (congrArg _ (grad_eq _ _))
      · rw [e0, e1, e2, e3, e4, e6]
        exact (stack_eq (argPD m c) (val_main_v31 (F := Ideal) (argO m c) (argR m c) (argW m c) (argM m c) (argN m c)) _).trans (congrArg _ (delta_eq _ _ _ _ _))
      · rw [e0, e1, e3, e7]
        exact (stack_eq (argPM m c) (val_main_v8 (F := Ideal) (argO m c) (argR m c) (argM m c)) _).trans (congrArg _ (moment_eq _ _ _))
      · rw [e0, e1, e4, e8]
        exact (stack_eq (argPV m c) (val_main_v16 (F := Ideal) (argO m c) (argR m c) (argN m c)) _).trans (congrArg _ (square_eq _ _ _)))
      (Cert.AdamShardRefIdeal.Value.run m' ρ')⟩

end Cert.Step.AdamShard

end
-- ==== Proof.lean ====
/- The claims about the step's calls: each program's frame, and each kernel's results equal to its reference's. -/
module

public import proofs.«01_k».proof.Proof.Gen.LossIdeal.Value
public import proofs.«01_k».proof.Proof.Gen.LossRefIdeal.Run
public import proofs.«01_k».proof.Proof.Gen.LossRefIdeal.Read
public import proofs.«01_k».proof.Proof.Gen.LnIdeal.Value
public import proofs.«01_k».proof.Proof.Gen.LnRefIdeal.Run
public import proofs.«01_k».proof.Proof.Gen.LnRefIdeal.Read
public import proofs.«01_k».proof.Proof.Gen.Ln2Ideal.Value
public import proofs.«01_k».proof.Proof.Gen.Ln2RefIdeal.Run
public import proofs.«01_k».proof.Proof.Gen.Ln2RefIdeal.Read
public import proofs.«01_k».proof.Proof.Gen.MergeIdeal.Value
public import proofs.«01_k».proof.Proof.Gen.MergeRefIdeal.Run
public import proofs.«01_k».proof.Proof.Gen.MergeRefIdeal.Read
public import proofs.«01_k».proof.Proof.Gen.Dh1Ideal.Value
public import proofs.«01_k».proof.Proof.Gen.Dh1RefIdeal.Run
public import proofs.«01_k».proof.Proof.Gen.Dh1RefIdeal.Read
public import proofs.«01_k».proof.Proof.Gen.FfnIdeal.Value
public import proofs.«01_k».proof.Proof.Gen.FfnRefIdeal.Skeleton
public import proofs.«01_k».proof.Proof.Gen.FfnRefIdeal.Launch
public import proofs.«01_k».proof.Proof.Gen.FfnRefIdeal.Points
public import proofs.«01_k».proof.Proof.Gen.FfnRefIdeal.Frame
public import proofs.«01_k».proof.Proof.Gen.PoolIdeal.Value
public import proofs.«01_k».proof.Proof.Gen.PoolRefIdeal.Run
public import proofs.«01_k».proof.Proof.Gen.PoolRefIdeal.Read
public import proofs.«01_k».proof.Proof.Gen.LnFwdIdeal.Value
public import proofs.«01_k».proof.Proof.Gen.LnFwdRefIdeal.Run
public import proofs.«01_k».proof.Proof.Gen.LnFwdRefIdeal.Read
public import proofs.«01_k».proof.Proof.Gen.MixFwdIdeal.Value
public import proofs.«01_k».proof.Proof.Gen.MixFwdRefIdeal.Run
public import proofs.«01_k».proof.Proof.Gen.MixFwdRefIdeal.Read
public import proofs.«01_k».proof.Proof.Gen.MergeFwdIdeal.Value
public import proofs.«01_k».proof.Proof.Gen.MergeFwdRefIdeal.Run
public import proofs.«01_k».proof.Proof.Gen.MergeFwdRefIdeal.Read
public import proofs.«01_k».proof.Proof.Gen.DownFwdIdeal.Value
public import proofs.«01_k».proof.Proof.Gen.DownFwdRefIdeal.Run
public import proofs.«01_k».proof.Proof.Gen.DownFwdRefIdeal.Read
public import proofs.«01_k».proof.Proof.Gen.FfnFwdIdeal.Value
public import proofs.«01_k».proof.Proof.Gen.FfnFwdRefIdeal.Run
public import proofs.«01_k».proof.Proof.Gen.FfnFwdRefIdeal.Read
public import proofs.«01_k».proof.Proof.Gen.PoolFwdIdeal.Value
public import proofs.«01_k».proof.Proof.Gen.PoolFwdRefIdeal.Run
public import proofs.«01_k».proof.Proof.Gen.PoolFwdRefIdeal.Read
public import proofs.«01_k».proof.Proof.Gen.WdownIdeal.Value
public import proofs.«01_k».proof.Proof.Gen.WdownRefIdeal.Run
public import proofs.«01_k».proof.Proof.Gen.WdownRefIdeal.Read
public import proofs.«01_k».proof.Proof.Gen.WupIdeal.Value
public import proofs.«01_k».proof.Proof.Gen.WupRefIdeal.Run
public import proofs.«01_k».proof.Proof.Gen.WupRefIdeal.Read
public import proofs.«01_k».proof.Proof.Gen.WinIdeal.Value
public import proofs.«01_k».proof.Proof.Gen.WinRefIdeal.Run
public import proofs.«01_k».proof.Proof.Gen.WinRefIdeal.Read
public import proofs.«01_k».proof.Proof.Gen.WoutIdeal.Value
public import proofs.«01_k».proof.Proof.Gen.WoutRefIdeal.Run
public import proofs.«01_k».proof.Proof.Gen.WoutRefIdeal.Read
public import proofs.«01_k».proof.Proof.Gen.DaIdeal.Value
public import proofs.«01_k».proof.Proof.Gen.DaRefIdeal.Run
public import proofs.«01_k».proof.Proof.Gen.DaRefIdeal.Read
public import proofs.«01_k».proof.Proof.Gen.Dh0Ideal.Value
public import proofs.«01_k».proof.Proof.Gen.Dh0RefIdeal.Run
public import proofs.«01_k».proof.Proof.Gen.Dh0RefIdeal.Read
public import proofs.«01_k».proof.Proof.Gen.UpFwdIdeal.Value
public import proofs.«01_k».proof.Proof.Gen.UpFwdRefIdeal.Run
public import proofs.«01_k».proof.Proof.Gen.UpFwdRefIdeal.Read
public import proofs.«01_k».proof.Proof.Gen.AdamIdeal.Value
public import proofs.«01_k».proof.Proof.Gen.AdamRefIdeal.Run
public import proofs.«01_k».proof.Proof.Gen.AdamRefIdeal.Read
public import proofs.«01_k».proof.Proof.Gen.PartialsIdeal.Value
public import proofs.«01_k».proof.Proof.Gen.PartialsRefIdeal.Run
public import proofs.«01_k».proof.Proof.Gen.PartialsRefIdeal.Read
public import proofs.«01_k».proof.Proof.Gen.AdamShardIdeal.Value
public import proofs.«01_k».proof.Proof.Gen.AdamShardRefIdeal.Run
public import proofs.«01_k».proof.Proof.Gen.AdamShardRefIdeal.Read
public import proofs.«01_k».proof.Proof.Consts
public import proofs.«01_k».proof.Proof.Loss
public import proofs.«01_k».proof.Proof.Norm
public import proofs.«01_k».proof.Proof.Ln
public import proofs.«01_k».proof.Proof.Ln2
public import proofs.«01_k».proof.Proof.Merge
public import proofs.«01_k».proof.Proof.Dh1
public import proofs.«01_k».proof.Proof.FfnReal
public import proofs.«01_k».proof.Proof.FfnKernel
public import proofs.«01_k».proof.Proof.FfnBlock
public import proofs.«01_k».proof.Proof.FfnRun
public import proofs.«01_k».proof.Proof.FfnRef
public import proofs.«01_k».proof.Proof.FfnRefRun
public import proofs.«01_k».proof.Proof.Ffn
public import proofs.«01_k».proof.Proof.PoolMath
public import proofs.«01_k».proof.Proof.PoolRefOps
public import proofs.«01_k».proof.Proof.PoolWords
public import proofs.«01_k».proof.Proof.PoolTab
public import proofs.«01_k».proof.Proof.PoolHost
public import proofs.«01_k».proof.Proof.PoolHostEnd
public import proofs.«01_k».proof.Proof.PoolRefDu
public import proofs.«01_k».proof.Proof.PoolRefVal
public import proofs.«01_k».proof.Proof.PoolKerWin
public import proofs.«01_k».proof.Proof.PoolKer
public import proofs.«01_k».proof.Proof.PoolOut
public import proofs.«01_k».proof.Proof.Pool
public import proofs.«01_k».proof.Proof.FwdNorm
public import proofs.«01_k».proof.Proof.LnFwd
public import proofs.«01_k».proof.Proof.MixFwd
public import proofs.«01_k».proof.Proof.MergeFwd
public import proofs.«01_k».proof.Proof.DownFwd
public import proofs.«01_k».proof.Proof.FfnFwd
public import proofs.«01_k».proof.Proof.PoolFwdKer
public import proofs.«01_k».proof.Proof.PoolFwd
public import proofs.«01_k».proof.Proof.Wdown
public import proofs.«01_k».proof.Proof.Wup
public import proofs.«01_k».proof.Proof.Win
public import proofs.«01_k».proof.Proof.Wout
public import proofs.«01_k».proof.Proof.Da
public import proofs.«01_k».proof.Proof.Dh0
public import proofs.«01_k».proof.Proof.UpFwd
public import proofs.«01_k».proof.Proof.Adam
public import proofs.«01_k».proof.Proof.Partials
public import proofs.«01_k».proof.Proof.AdamShard
public import proofs.«01_k».proof.Defs
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossRefIdeal
public import proofs.«01_k».proof.Proof.Gen.Ln
public import proofs.«01_k».proof.Proof.Gen.Ln.Skeleton
public import proofs.«01_k».proof.Proof.Gen.Ln.Launch
public import proofs.«01_k».proof.Proof.Gen.Ln.Points
public import proofs.«01_k».proof.Proof.Gen.Ln.Frame
public import proofs.«01_k».proof.Proof.Gen.LnIdeal
public import proofs.«01_k».proof.Proof.Gen.LnIdeal.Skeleton
public import proofs.«01_k».proof.Proof.Gen.LnIdeal.Launch
public import proofs.«01_k».proof.Proof.Gen.LnIdeal.Points
public import proofs.«01_k».proof.Proof.Gen.LnIdeal.Frame
public import proofs.«01_k».proof.Proof.Gen.LnRefIdeal
public import proofs.«01_k».proof.Proof.Gen.Ln2
public import proofs.«01_k».proof.Proof.Gen.Ln2.Skeleton
public import proofs.«01_k».proof.Proof.Gen.Ln2.Launch
public import proofs.«01_k».proof.Proof.Gen.Ln2.Points
public import proofs.«01_k».proof.Proof.Gen.Ln2.Frame
public import proofs.«01_k».proof.Proof.Gen.Ln2Ideal
public import proofs.«01_k».proof.Proof.Gen.Ln2Ideal.Skeleton
public import proofs.«01_k».proof.Proof.Gen.Ln2Ideal.Launch
public import proofs.«01_k».proof.Proof.Gen.Ln2Ideal.Points
public import proofs.«01_k».proof.Proof.Gen.Ln2Ideal.Frame
public import proofs.«01_k».proof.Proof.Gen.Ln2RefIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.Dh1
public import proofs.«01_k».proof.Proof.Gen.Dh1.Skeleton
public import proofs.«01_k».proof.Proof.Gen.Dh1.Launch
public import proofs.«01_k».proof.Proof.Gen.Dh1.Points
public import proofs.«01_k».proof.Proof.Gen.Dh1.Frame
public import proofs.«01_k».proof.Proof.Gen.Dh1Ideal
public import proofs.«01_k».proof.Proof.Gen.Dh1Ideal.Skeleton
public import proofs.«01_k».proof.Proof.Gen.Dh1Ideal.Launch
public import proofs.«01_k».proof.Proof.Gen.Dh1Ideal.Points
public import proofs.«01_k».proof.Proof.Gen.Dh1Ideal.Frame
public import proofs.«01_k».proof.Proof.Gen.Dh1RefIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.Pool
public import proofs.«01_k».proof.Proof.Gen.Pool.Skeleton
public import proofs.«01_k».proof.Proof.Gen.Pool.Launch
public import proofs.«01_k».proof.Proof.Gen.Pool.Points
public import proofs.«01_k».proof.Proof.Gen.Pool.Frame
public import proofs.«01_k».proof.Proof.Gen.PoolIdeal
public import proofs.«01_k».proof.Proof.Gen.PoolIdeal.Skeleton
public import proofs.«01_k».proof.Proof.Gen.PoolIdeal.Launch
public import proofs.«01_k».proof.Proof.Gen.PoolIdeal.Points
public import proofs.«01_k».proof.Proof.Gen.PoolIdeal.Frame
public import proofs.«01_k».proof.Proof.Gen.PoolRefIdeal
public import proofs.«01_k».proof.Proof.Gen.LnFwd
public import proofs.«01_k».proof.Proof.Gen.LnFwd.Skeleton
public import proofs.«01_k».proof.Proof.Gen.LnFwd.Launch
public import proofs.«01_k».proof.Proof.Gen.LnFwd.Points
public import proofs.«01_k».proof.Proof.Gen.LnFwd.Frame
public import proofs.«01_k».proof.Proof.Gen.LnFwdIdeal
public import proofs.«01_k».proof.Proof.Gen.LnFwdIdeal.Skeleton
public import proofs.«01_k».proof.Proof.Gen.LnFwdIdeal.Launch
public import proofs.«01_k».proof.Proof.Gen.LnFwdIdeal.Points
public import proofs.«01_k».proof.Proof.Gen.LnFwdIdeal.Frame
public import proofs.«01_k».proof.Proof.Gen.LnFwdRefIdeal
public import proofs.«01_k».proof.Proof.Gen.MixFwd
public import proofs.«01_k».proof.Proof.Gen.MixFwd.Skeleton
public import proofs.«01_k».proof.Proof.Gen.MixFwd.Launch
public import proofs.«01_k».proof.Proof.Gen.MixFwd.Points
public import proofs.«01_k».proof.Proof.Gen.MixFwd.Frame
public import proofs.«01_k».proof.Proof.Gen.MixFwdIdeal
public import proofs.«01_k».proof.Proof.Gen.MixFwdIdeal.Skeleton
public import proofs.«01_k».proof.Proof.Gen.MixFwdIdeal.Launch
public import proofs.«01_k».proof.Proof.Gen.MixFwdIdeal.Points
public import proofs.«01_k».proof.Proof.Gen.MixFwdIdeal.Frame
public import proofs.«01_k».proof.Proof.Gen.MixFwdRefIdeal
public import proofs.«01_k».proof.Proof.Gen.MergeFwd
public import proofs.«01_k».proof.Proof.Gen.MergeFwd.Skeleton
public import proofs.«01_k».proof.Proof.Gen.MergeFwd.Launch
public import proofs.«01_k».proof.Proof.Gen.MergeFwd.Points
public import proofs.«01_k».proof.Proof.Gen.MergeFwd.Frame
public import proofs.«01_k».proof.Proof.Gen.MergeFwdIdeal
public import proofs.«01_k».proof.Proof.Gen.MergeFwdIdeal.Skeleton
public import proofs.«01_k».proof.Proof.Gen.MergeFwdIdeal.Launch
public import proofs.«01_k».proof.Proof.Gen.MergeFwdIdeal.Points
public import proofs.«01_k».proof.Proof.Gen.MergeFwdIdeal.Frame
public import proofs.«01_k».proof.Proof.Gen.MergeFwdRefIdeal
public import proofs.«01_k».proof.Proof.Gen.DownFwd
public import proofs.«01_k».proof.Proof.Gen.DownFwd.Skeleton
public import proofs.«01_k».proof.Proof.Gen.DownFwd.Launch
public import proofs.«01_k».proof.Proof.Gen.DownFwd.Points
public import proofs.«01_k».proof.Proof.Gen.DownFwd.Frame
public import proofs.«01_k».proof.Proof.Gen.DownFwdIdeal
public import proofs.«01_k».proof.Proof.Gen.DownFwdIdeal.Skeleton
public import proofs.«01_k».proof.Proof.Gen.DownFwdIdeal.Launch
public import proofs.«01_k».proof.Proof.Gen.DownFwdIdeal.Points
public import proofs.«01_k».proof.Proof.Gen.DownFwdIdeal.Frame
public import proofs.«01_k».proof.Proof.Gen.DownFwdRefIdeal
public import proofs.«01_k».proof.Proof.Gen.FfnFwd
public import proofs.«01_k».proof.Proof.Gen.FfnFwd.Skeleton
public import proofs.«01_k».proof.Proof.Gen.FfnFwd.Launch
public import proofs.«01_k».proof.Proof.Gen.FfnFwd.Points
public import proofs.«01_k».proof.Proof.Gen.FfnFwd.Frame
public import proofs.«01_k».proof.Proof.Gen.FfnFwdIdeal
public import proofs.«01_k».proof.Proof.Gen.FfnFwdIdeal.Skeleton
public import proofs.«01_k».proof.Proof.Gen.FfnFwdIdeal.Launch
public import proofs.«01_k».proof.Proof.Gen.FfnFwdIdeal.Points
public import proofs.«01_k».proof.Proof.Gen.FfnFwdIdeal.Frame
public import proofs.«01_k».proof.Proof.Gen.FfnFwdRefIdeal
public import proofs.«01_k».proof.Proof.Gen.PoolFwd
public import proofs.«01_k».proof.Proof.Gen.PoolFwd.Skeleton
public import proofs.«01_k».proof.Proof.Gen.PoolFwd.Launch
public import proofs.«01_k».proof.Proof.Gen.PoolFwd.Points
public import proofs.«01_k».proof.Proof.Gen.PoolFwd.Frame
public import proofs.«01_k».proof.Proof.Gen.PoolFwdIdeal
public import proofs.«01_k».proof.Proof.Gen.PoolFwdIdeal.Skeleton
public import proofs.«01_k».proof.Proof.Gen.PoolFwdIdeal.Launch
public import proofs.«01_k».proof.Proof.Gen.PoolFwdIdeal.Points
public import proofs.«01_k».proof.Proof.Gen.PoolFwdIdeal.Frame
public import proofs.«01_k».proof.Proof.Gen.PoolFwdRefIdeal
public import proofs.«01_k».proof.Proof.Gen.Wdown
public import proofs.«01_k».proof.Proof.Gen.Wdown.Skeleton
public import proofs.«01_k».proof.Proof.Gen.Wdown.Launch
public import proofs.«01_k».proof.Proof.Gen.Wdown.Points
public import proofs.«01_k».proof.Proof.Gen.Wdown.Frame
public import proofs.«01_k».proof.Proof.Gen.WdownIdeal
public import proofs.«01_k».proof.Proof.Gen.WdownIdeal.Skeleton
public import proofs.«01_k».proof.Proof.Gen.WdownIdeal.Launch
public import proofs.«01_k».proof.Proof.Gen.WdownIdeal.Points
public import proofs.«01_k».proof.Proof.Gen.WdownIdeal.Frame
public import proofs.«01_k».proof.Proof.Gen.WdownRefIdeal
public import proofs.«01_k».proof.Proof.Gen.Wup
public import proofs.«01_k».proof.Proof.Gen.Wup.Skeleton
public import proofs.«01_k».proof.Proof.Gen.Wup.Launch
public import proofs.«01_k».proof.Proof.Gen.Wup.Points
public import proofs.«01_k».proof.Proof.Gen.Wup.Frame
public import proofs.«01_k».proof.Proof.Gen.WupIdeal
public import proofs.«01_k».proof.Proof.Gen.WupIdeal.Skeleton
public import proofs.«01_k».proof.Proof.Gen.WupIdeal.Launch
public import proofs.«01_k».proof.Proof.Gen.WupIdeal.Points
public import proofs.«01_k».proof.Proof.Gen.WupIdeal.Frame
public import proofs.«01_k».proof.Proof.Gen.WupRefIdeal
public import proofs.«01_k».proof.Proof.Gen.Win
public import proofs.«01_k».proof.Proof.Gen.Win.Skeleton
public import proofs.«01_k».proof.Proof.Gen.Win.Launch
public import proofs.«01_k».proof.Proof.Gen.Win.Points
public import proofs.«01_k».proof.Proof.Gen.Win.Frame
public import proofs.«01_k».proof.Proof.Gen.WinIdeal
public import proofs.«01_k».proof.Proof.Gen.WinIdeal.Skeleton
public import proofs.«01_k».proof.Proof.Gen.WinIdeal.Launch
public import proofs.«01_k».proof.Proof.Gen.WinIdeal.Points
public import proofs.«01_k».proof.Proof.Gen.WinIdeal.Frame
public import proofs.«01_k».proof.Proof.Gen.WinRefIdeal
public import proofs.«01_k».proof.Proof.Gen.Wout
public import proofs.«01_k».proof.Proof.Gen.Wout.Skeleton
public import proofs.«01_k».proof.Proof.Gen.Wout.Launch
public import proofs.«01_k».proof.Proof.Gen.Wout.Points
public import proofs.«01_k».proof.Proof.Gen.Wout.Frame
public import proofs.«01_k».proof.Proof.Gen.WoutIdeal
public import proofs.«01_k».proof.Proof.Gen.WoutIdeal.Skeleton
public import proofs.«01_k».proof.Proof.Gen.WoutIdeal.Launch
public import proofs.«01_k».proof.Proof.Gen.WoutIdeal.Points
public import proofs.«01_k».proof.Proof.Gen.WoutIdeal.Frame
public import proofs.«01_k».proof.Proof.Gen.WoutRefIdeal
public import proofs.«01_k».proof.Proof.Gen.Da
public import proofs.«01_k».proof.Proof.Gen.Da.Skeleton
public import proofs.«01_k».proof.Proof.Gen.Da.Launch
public import proofs.«01_k».proof.Proof.Gen.Da.Points
public import proofs.«01_k».proof.Proof.Gen.Da.Frame
public import proofs.«01_k».proof.Proof.Gen.DaIdeal
public import proofs.«01_k».proof.Proof.Gen.DaIdeal.Skeleton
public import proofs.«01_k».proof.Proof.Gen.DaIdeal.Launch
public import proofs.«01_k».proof.Proof.Gen.DaIdeal.Points
public import proofs.«01_k».proof.Proof.Gen.DaIdeal.Frame
public import proofs.«01_k».proof.Proof.Gen.DaRefIdeal
public import proofs.«01_k».proof.Proof.Gen.Dh0
public import proofs.«01_k».proof.Proof.Gen.Dh0.Skeleton
public import proofs.«01_k».proof.Proof.Gen.Dh0.Launch
public import proofs.«01_k».proof.Proof.Gen.Dh0.Points
public import proofs.«01_k».proof.Proof.Gen.Dh0.Frame
public import proofs.«01_k».proof.Proof.Gen.Dh0Ideal
public import proofs.«01_k».proof.Proof.Gen.Dh0Ideal.Skeleton
public import proofs.«01_k».proof.Proof.Gen.Dh0Ideal.Launch
public import proofs.«01_k».proof.Proof.Gen.Dh0Ideal.Points
public import proofs.«01_k».proof.Proof.Gen.Dh0Ideal.Frame
public import proofs.«01_k».proof.Proof.Gen.Dh0RefIdeal
public import proofs.«01_k».proof.Proof.Gen.UpFwd
public import proofs.«01_k».proof.Proof.Gen.UpFwd.Skeleton
public import proofs.«01_k».proof.Proof.Gen.UpFwd.Launch
public import proofs.«01_k».proof.Proof.Gen.UpFwd.Points
public import proofs.«01_k».proof.Proof.Gen.UpFwd.Frame
public import proofs.«01_k».proof.Proof.Gen.UpFwdIdeal
public import proofs.«01_k».proof.Proof.Gen.UpFwdIdeal.Skeleton
public import proofs.«01_k».proof.Proof.Gen.UpFwdIdeal.Launch
public import proofs.«01_k».proof.Proof.Gen.UpFwdIdeal.Points
public import proofs.«01_k».proof.Proof.Gen.UpFwdIdeal.Frame
public import proofs.«01_k».proof.Proof.Gen.UpFwdRefIdeal
public import proofs.«01_k».proof.Proof.Gen.Adam
public import proofs.«01_k».proof.Proof.Gen.Adam.Skeleton
public import proofs.«01_k».proof.Proof.Gen.Adam.Launch
public import proofs.«01_k».proof.Proof.Gen.Adam.Points
public import proofs.«01_k».proof.Proof.Gen.Adam.Frame
public import proofs.«01_k».proof.Proof.Gen.AdamIdeal
public import proofs.«01_k».proof.Proof.Gen.AdamIdeal.Skeleton
public import proofs.«01_k».proof.Proof.Gen.AdamIdeal.Launch
public import proofs.«01_k».proof.Proof.Gen.AdamIdeal.Points
public import proofs.«01_k».proof.Proof.Gen.AdamIdeal.Frame
public import proofs.«01_k».proof.Proof.Gen.AdamRefIdeal
public import proofs.«01_k».proof.Proof.Gen.Partials
public import proofs.«01_k».proof.Proof.Gen.Partials.Skeleton
public import proofs.«01_k».proof.Proof.Gen.Partials.Launch
public import proofs.«01_k».proof.Proof.Gen.Partials.Points
public import proofs.«01_k».proof.Proof.Gen.Partials.Frame
public import proofs.«01_k».proof.Proof.Gen.PartialsIdeal
public import proofs.«01_k».proof.Proof.Gen.PartialsIdeal.Skeleton
public import proofs.«01_k».proof.Proof.Gen.PartialsIdeal.Launch
public import proofs.«01_k».proof.Proof.Gen.PartialsIdeal.Points
public import proofs.«01_k».proof.Proof.Gen.PartialsIdeal.Frame
public import proofs.«01_k».proof.Proof.Gen.PartialsRefIdeal
public import proofs.«01_k».proof.Proof.Gen.AdamShard
public import proofs.«01_k».proof.Proof.Gen.AdamShard.Skeleton
public import proofs.«01_k».proof.Proof.Gen.AdamShard.Launch
public import proofs.«01_k».proof.Proof.Gen.AdamShard.Points
public import proofs.«01_k».proof.Proof.Gen.AdamShard.Frame
public import proofs.«01_k».proof.Proof.Gen.AdamShardIdeal
public import proofs.«01_k».proof.Proof.Gen.AdamShardIdeal.Skeleton
public import proofs.«01_k».proof.Proof.Gen.AdamShardIdeal.Launch
public import proofs.«01_k».proof.Proof.Gen.AdamShardIdeal.Points
public import proofs.«01_k».proof.Proof.Gen.AdamShardIdeal.Frame
public import proofs.«01_k».proof.Proof.Gen.AdamShardRefIdeal
public import Idealize.ShloMosaic.Adequacy
public import Idealize.ShloMosaic.Init

@[expose] public section

noncomputable section

namespace Cert.Proof

open Idealize.ShloMosaic Idealize.SL.Sem

theorem claim : Cert.Claim := ⟨Cert.Loss.Gen.facts, Cert.LossIdeal.Gen.facts, Cert.LossRefIdeal.Gen.facts, Cert.Ln.Gen.facts, Cert.LnIdeal.Gen.facts, Cert.LnRefIdeal.Gen.facts, Cert.Ln2.Gen.facts, Cert.Ln2Ideal.Gen.facts, Cert.Ln2RefIdeal.Gen.facts, Cert.Merge.Gen.facts, Cert.MergeIdeal.Gen.facts, Cert.MergeRefIdeal.Gen.facts, Cert.Dh1.Gen.facts, Cert.Dh1Ideal.Gen.facts, Cert.Dh1RefIdeal.Gen.facts, Cert.Ffn.Gen.facts, Cert.FfnIdeal.Gen.facts, Cert.FfnRefIdeal.Gen.facts, Cert.Pool.Gen.facts, Cert.PoolIdeal.Gen.facts, Cert.PoolRefIdeal.Gen.facts, Cert.LnFwd.Gen.facts, Cert.LnFwdIdeal.Gen.facts, Cert.LnFwdRefIdeal.Gen.facts, Cert.MixFwd.Gen.facts, Cert.MixFwdIdeal.Gen.facts, Cert.MixFwdRefIdeal.Gen.facts, Cert.MergeFwd.Gen.facts, Cert.MergeFwdIdeal.Gen.facts, Cert.MergeFwdRefIdeal.Gen.facts, Cert.DownFwd.Gen.facts, Cert.DownFwdIdeal.Gen.facts, Cert.DownFwdRefIdeal.Gen.facts, Cert.FfnFwd.Gen.facts, Cert.FfnFwdIdeal.Gen.facts, Cert.FfnFwdRefIdeal.Gen.facts, Cert.PoolFwd.Gen.facts, Cert.PoolFwdIdeal.Gen.facts, Cert.PoolFwdRefIdeal.Gen.facts, Cert.Wdown.Gen.facts, Cert.WdownIdeal.Gen.facts, Cert.WdownRefIdeal.Gen.facts, Cert.Wup.Gen.facts, Cert.WupIdeal.Gen.facts, Cert.WupRefIdeal.Gen.facts, Cert.Win.Gen.facts, Cert.WinIdeal.Gen.facts, Cert.WinRefIdeal.Gen.facts, Cert.Wout.Gen.facts, Cert.WoutIdeal.Gen.facts, Cert.WoutRefIdeal.Gen.facts, Cert.Da.Gen.facts, Cert.DaIdeal.Gen.facts, Cert.DaRefIdeal.Gen.facts, Cert.Dh0.Gen.facts, Cert.Dh0Ideal.Gen.facts, Cert.Dh0RefIdeal.Gen.facts, Cert.UpFwd.Gen.facts, Cert.UpFwdIdeal.Gen.facts, Cert.UpFwdRefIdeal.Gen.facts, Cert.Adam.Gen.facts, Cert.AdamIdeal.Gen.facts, Cert.AdamRefIdeal.Gen.facts, Cert.Partials.Gen.facts, Cert.PartialsIdeal.Gen.facts, Cert.PartialsRefIdeal.Gen.facts, Cert.AdamShard.Gen.facts, Cert.AdamShardIdeal.Gen.facts, Cert.AdamShardRefIdeal.Gen.facts, by constructor <;> decide, by constructor <;> decide, by constructor <;> decide, by constructor <;> decide, by constructor <;> decide, by constructor <;> decide,
  fun m ρ _ => Cert.Loss.Gen.frame m ρ,
  fun m ρ _ => Cert.LossIdeal.Gen.frame m ρ,
  fun m ρ _ => (θ_run _ _ _).mono (fun r h => ⟨fun c => (h c).2.2, sem_eq_zero_of_no_sems (by decide) r.2⟩) (Cert.LossRefIdeal.Value.run m ρ),
  fun m ρ _ => Cert.Ln.Gen.frame m ρ,
  fun m ρ _ => Cert.LnIdeal.Gen.frame m ρ,
  fun m ρ _ => Cert.LnIdeal.Gen.frame m ρ,
  fun m ρ _ => (θ_run _ _ _).mono (fun r h => ⟨fun c => (h c).2.2.2, sem_eq_zero_of_no_sems (by decide) r.2⟩) (Cert.LnRefIdeal.Value.run m ρ),
  fun m ρ _ => (θ_run _ _ _).mono (fun r h => ⟨fun c => (h c).2.2.2, sem_eq_zero_of_no_sems (by decide) r.2⟩) (Cert.LnRefIdeal.Value.run m ρ),
  fun m ρ _ => Cert.Ln2.Gen.frame m ρ,
  fun m ρ _ => Cert.Ln2Ideal.Gen.frame m ρ,
  fun m ρ _ => Cert.Ln2Ideal.Gen.frame m ρ,
  fun m ρ _ => (θ_run _ _ _).mono (fun r h => ⟨fun c => (h c).2.2.2.2.2.2, sem_eq_zero_of_no_sems (by decide) r.2⟩) (Cert.Ln2RefIdeal.Value.run m ρ),
  fun m ρ _ => (θ_run _ _ _).mono (fun r h => ⟨fun c => (h c).2.2.2.2.2.2, sem_eq_zero_of_no_sems (by decide) r.2⟩) (Cert.Ln2RefIdeal.Value.run m ρ),
  fun m ρ _ => Cert.Merge.Gen.frame m ρ,
  fun m ρ _ => Cert.MergeIdeal.Gen.frame m ρ,
  fun m ρ _ => (θ_run _ _ _).mono (fun r h => ⟨fun c => (h c).2.2.2.2, sem_eq_zero_of_no_sems (by decide) r.2⟩) (Cert.MergeRefIdeal.Value.run m ρ),
  fun m ρ _ => Cert.Dh1.Gen.frame m ρ,
  fun m ρ _ => Cert.Dh1Ideal.Gen.frame m ρ,
  fun m ρ _ => Cert.Dh1Ideal.Gen.frame m ρ,
  fun m ρ _ => (θ_run _ _ _).mono (fun r h => ⟨fun c => (h c).2.2.2.2, sem_eq_zero_of_no_sems (by decide) r.2⟩) (Cert.Dh1RefIdeal.Value.run m ρ),
  fun m ρ _ => (θ_run _ _ _).mono (fun r h => ⟨fun c => (h c).2.2.2.2, sem_eq_zero_of_no_sems (by decide) r.2⟩) (Cert.Dh1RefIdeal.Value.run m ρ),
  fun m ρ _ => Cert.Ffn.Gen.frame m ρ,
  fun m ρ _ => Cert.FfnIdeal.Gen.frame m ρ,
  fun m ρ _ => Cert.FfnIdeal.Gen.frame m ρ,
  fun m ρ _ => Cert.FfnRefIdeal.Gen.frame m ρ,
  fun m ρ _ => Cert.FfnRefIdeal.Gen.frame m ρ,
  fun m ρ _ => Cert.Pool.Gen.frame m ρ,
  fun m ρ _ => Cert.PoolIdeal.Gen.frame m ρ,
  fun m ρ _ => Cert.PoolIdeal.Gen.frame m ρ,
  fun m ρ _ => (θ_run _ _ _).mono (fun r h => ⟨fun c => (h c).2.2.2, sem_eq_zero_of_no_sems (by decide) r.2⟩) (Cert.PoolRefIdeal.Value.run m ρ),
  fun m ρ _ => (θ_run _ _ _).mono (fun r h => ⟨fun c => (h c).2.2.2, sem_eq_zero_of_no_sems (by decide) r.2⟩) (Cert.PoolRefIdeal.Value.run m ρ),
  fun m ρ _ => Cert.LnFwd.Gen.frame m ρ,
  fun m ρ _ => Cert.LnFwdIdeal.Gen.frame m ρ,
  fun m ρ _ => (θ_run _ _ _).mono (fun r h => ⟨fun c => (h c).2.2, sem_eq_zero_of_no_sems (by decide) r.2⟩) (Cert.LnFwdRefIdeal.Value.run m ρ),
  fun m ρ _ => Cert.MixFwd.Gen.frame m ρ,
  fun m ρ _ => Cert.MixFwdIdeal.Gen.frame m ρ,
  fun m ρ _ => (θ_run _ _ _).mono (fun r h => ⟨fun c => (h c).2.2.2, sem_eq_zero_of_no_sems (by decide) r.2⟩) (Cert.MixFwdRefIdeal.Value.run m ρ),
  fun m ρ _ => Cert.MergeFwd.Gen.frame m ρ,
  fun m ρ _ => Cert.MergeFwdIdeal.Gen.frame m ρ,
  fun m ρ _ => (θ_run _ _ _).mono (fun r h => ⟨fun c => (h c).2.2.2, sem_eq_zero_of_no_sems (by decide) r.2⟩) (Cert.MergeFwdRefIdeal.Value.run m ρ),
  fun m ρ _ => Cert.DownFwd.Gen.frame m ρ,
  fun m ρ _ => Cert.DownFwdIdeal.Gen.frame m ρ,
  fun m ρ _ => (θ_run _ _ _).mono (fun r h => ⟨fun c => (h c).2.2.2.2.2, sem_eq_zero_of_no_sems (by decide) r.2⟩) (Cert.DownFwdRefIdeal.Value.run m ρ),
  fun m ρ _ => Cert.FfnFwd.Gen.frame m ρ,
  fun m ρ _ => Cert.FfnFwdIdeal.Gen.frame m ρ,
  fun m ρ _ => (θ_run _ _ _).mono (fun r h => ⟨fun c => (h c).2, sem_eq_zero_of_no_sems (by decide) r.2⟩) (Cert.FfnFwdRefIdeal.Value.run m ρ),
  fun m ρ _ => Cert.PoolFwd.Gen.frame m ρ,
  fun m ρ _ => Cert.PoolFwdIdeal.Gen.frame m ρ,
  fun m ρ _ => Cert.PoolFwdIdeal.Gen.frame m ρ,
  fun m ρ _ => (θ_run _ _ _).mono (fun r h => ⟨fun c => (h c).2.2, sem_eq_zero_of_no_sems (by decide) r.2⟩) (Cert.PoolFwdRefIdeal.Value.run m ρ),
  fun m ρ _ => (θ_run _ _ _).mono (fun r h => ⟨fun c => (h c).2.2, sem_eq_zero_of_no_sems (by decide) r.2⟩) (Cert.PoolFwdRefIdeal.Value.run m ρ),
  fun m ρ _ => Cert.Wdown.Gen.frame m ρ,
  fun m ρ _ => Cert.WdownIdeal.Gen.frame m ρ,
  fun m ρ _ => (θ_run _ _ _).mono (fun r h => ⟨fun c => (h c).2, sem_eq_zero_of_no_sems (by decide) r.2⟩) (Cert.WdownRefIdeal.Value.run m ρ),
  fun m ρ _ => Cert.Wup.Gen.frame m ρ,
  fun m ρ _ => Cert.WupIdeal.Gen.frame m ρ,
  fun m ρ _ => (θ_run _ _ _).mono (fun r h => ⟨fun c => (h c).2, sem_eq_zero_of_no_sems (by decide) r.2⟩) (Cert.WupRefIdeal.Value.run m ρ),
  fun m ρ _ => Cert.Win.Gen.frame m ρ,
  fun m ρ _ => Cert.WinIdeal.Gen.frame m ρ,
  fun m ρ _ => (θ_run _ _ _).mono (fun r h => ⟨fun c => (h c).2.2, sem_eq_zero_of_no_sems (by decide) r.2⟩) (Cert.WinRefIdeal.Value.run m ρ),
  fun m ρ _ => Cert.Wout.Gen.frame m ρ,
  fun m ρ _ => Cert.WoutIdeal.Gen.frame m ρ,
  fun m ρ _ => (θ_run _ _ _).mono (fun r h => ⟨fun c => (h c).2.2.2, sem_eq_zero_of_no_sems (by decide) r.2⟩) (Cert.WoutRefIdeal.Value.run m ρ),
  fun m ρ _ => Cert.Da.Gen.frame m ρ,
  fun m ρ _ => Cert.DaIdeal.Gen.frame m ρ,
  fun m ρ _ => (θ_run _ _ _).mono (fun r h => ⟨fun c => (h c).2, sem_eq_zero_of_no_sems (by decide) r.2⟩) (Cert.DaRefIdeal.Value.run m ρ),
  fun m ρ _ => Cert.Dh0.Gen.frame m ρ,
  fun m ρ _ => Cert.Dh0Ideal.Gen.frame m ρ,
  fun m ρ _ => (θ_run _ _ _).mono (fun r h => ⟨fun c => (h c).2, sem_eq_zero_of_no_sems (by decide) r.2⟩) (Cert.Dh0RefIdeal.Value.run m ρ),
  fun m ρ _ => Cert.UpFwd.Gen.frame m ρ,
  fun m ρ _ => Cert.UpFwdIdeal.Gen.frame m ρ,
  fun m ρ _ => (θ_run _ _ _).mono (fun r h => ⟨fun c => (h c).2, sem_eq_zero_of_no_sems (by decide) r.2⟩) (Cert.UpFwdRefIdeal.Value.run m ρ),
  fun m ρ _ => Cert.Adam.Gen.frame m ρ,
  fun m ρ _ => Cert.AdamIdeal.Gen.frame m ρ,
  fun m ρ _ => (θ_run _ _ _).mono (fun r h => ⟨fun c => (h c).2.2.2, sem_eq_zero_of_no_sems (by decide) r.2⟩) (Cert.AdamRefIdeal.Value.run m ρ),
  fun m ρ _ => Cert.Partials.Gen.frame m ρ,
  fun m ρ _ => Cert.PartialsIdeal.Gen.frame m ρ,
  fun m ρ _ => (θ_run _ _ _).mono (fun r h => ⟨fun c => (h c).2, sem_eq_zero_of_no_sems (by decide) r.2⟩) (Cert.PartialsRefIdeal.Value.run m ρ),
  fun m ρ _ => Cert.AdamShard.Gen.frame m ρ,
  fun m ρ _ => Cert.AdamShardIdeal.Gen.frame m ρ,
  fun m ρ _ => (θ_run _ _ _).mono (fun r h => ⟨fun c => (h c).2.2.2.2, sem_eq_zero_of_no_sems (by decide) r.2⟩) (Cert.AdamShardRefIdeal.Value.run m ρ),
  trivial,
  Cert.Step.Loss.claim,
  trivial,
  Cert.Step.Ln.claim (hP := _),
  trivial,
  Cert.Step.Ln2.claim (hP := _),
  trivial,
  Cert.Step.Merge.claim,
  trivial,
  Cert.Step.Dh1.claim (hP := _),
  Cert.Step.Ffn.names,
  Cert.Step.Ffn.claim (hP := _),
  trivial,
  Cert.Step.Pool.claim (hP := _),
  trivial,
  Cert.Step.LnFwd.claim,
  trivial,
  Cert.Step.MixFwd.claim,
  trivial,
  Cert.Step.MergeFwd.claim,
  trivial,
  Cert.Step.DownFwd.claim,
  trivial,
  Cert.Step.FfnFwd.claim,
  trivial,
  Cert.Step.PoolFwd.claim (hP := _),
  trivial,
  Cert.Step.Wdown.claim,
  trivial,
  Cert.Step.Wup.claim,
  trivial,
  Cert.Step.Win.claim,
  trivial,
  Cert.Step.Wout.claim,
  trivial,
  Cert.Step.Da.claim,
  trivial,
  Cert.Step.Dh0.claim,
  trivial,
  Cert.Step.UpFwd.claim,
  trivial,
  Cert.Step.Adam.claim,
  trivial,
  Cert.Step.Partials.claim,
  trivial,
  Cert.Step.AdamShard.claim⟩

end Cert.Proof

end
